-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_SsmActBwd (m : (ℓ : Loc Cert.SsmActBwd.nD Cert.SsmActBwd.τ Cert.SsmActBwd.sig) → Buf (Elt Bits) ℓ) : Prop :=
  True

def Pre_SsmActBwdIdeal (m : (ℓ : Loc Cert.SsmActBwdIdeal.nD Cert.SsmActBwdIdeal.τ Cert.SsmActBwdIdeal.sig) → Buf (Elt Ideal) ℓ) : Prop :=
  True

def Pre_SsmActBwdIdeal_finite_ssm_act_bwd [hPre_finite_ssm_act_bwd : Cert.Pre_finite_ssm_act_bwd.Facts] (m : (ℓ : Loc Cert.SsmActBwdIdeal.nD Cert.SsmActBwdIdeal.τ Cert.SsmActBwdIdeal.sig) → Buf (Elt Ideal) ℓ) : Prop :=
  ∀ c : Dev Cert.SsmActBwdIdeal.nD,
    (Cert.Pre_finite_ssm_act_bwd.fn (F := Ideal) (m ((c.tc : Thread Cert.SsmActBwdIdeal.nD Cert.SsmActBwdIdeal.τ).loc Cert.SsmActBwdIdeal.main_arg0)) (m ((c.tc : Thread Cert.SsmActBwdIdeal.nD Cert.SsmActBwdIdeal.τ).loc Cert.SsmActBwdIdeal.main_arg1)) (m ((c.tc : Thread Cert.SsmActBwdIdeal.nD Cert.SsmActBwdIdeal.τ).loc Cert.SsmActBwdIdeal.main_arg2)) (m ((c.tc : Thread Cert.SsmActBwdIdeal.nD Cert.SsmActBwdIdeal.τ).loc Cert.SsmActBwdIdeal.main_arg3))) = (fun _ => 1#1)

def Pre_SsmActBwdRefIdeal (m : (ℓ : Loc Cert.SsmActBwdRefIdeal.nD Cert.SsmActBwdRefIdeal.τ Cert.SsmActBwdRefIdeal.sig) → Buf (Elt Ideal) ℓ) : Prop :=
  True

def Pre_SsmActBwdRefIdeal_finite_ssm_act_bwd [hPre_finite_ssm_act_bwd : Cert.Pre_finite_ssm_act_bwd.Facts] (m : (ℓ : Loc Cert.SsmActBwdRefIdeal.nD Cert.SsmActBwdRefIdeal.τ Cert.SsmActBwdRefIdeal.sig) → Buf (Elt Ideal) ℓ) : Prop :=
  ∀ c : Dev Cert.SsmActBwdRefIdeal.nD,
    (Cert.Pre_finite_ssm_act_bwd.fn (F := Ideal) (m ((c.tc : Thread Cert.SsmActBwdRefIdeal.nD Cert.SsmActBwdRefIdeal.τ).loc Cert.SsmActBwdRefIdeal.main_arg0)) (m ((c.tc : Thread Cert.SsmActBwdRefIdeal.nD Cert.SsmActBwdRefIdeal.τ).loc Cert.SsmActBwdRefIdeal.main_arg1)) (m ((c.tc : Thread Cert.SsmActBwdRefIdeal.nD Cert.SsmActBwdRefIdeal.τ).loc Cert.SsmActBwdRefIdeal.main_arg2)) (m ((c.tc : Thread Cert.SsmActBwdRefIdeal.nD Cert.SsmActBwdRefIdeal.τ).loc Cert.SsmActBwdRefIdeal.main_arg3))) = (fun _ => 1#1)

def Pre_PrenormBwd (m : (ℓ : Loc Cert.PrenormBwd.nD Cert.PrenormBwd.τ Cert.PrenormBwd.sig) → Buf (Elt Bits) ℓ) : Prop :=
  True

def Pre_PrenormBwdIdeal (m : (ℓ : Loc Cert.PrenormBwdIdeal.nD Cert.PrenormBwdIdeal.τ Cert.PrenormBwdIdeal.sig) → Buf (Elt Ideal) ℓ) : Prop :=
  True

def Pre_PrenormBwdIdeal_finite_prenorm_bwd [hPre_finite_prenorm_bwd : Cert.Pre_finite_prenorm_bwd.Facts] (m : (ℓ : Loc Cert.PrenormBwdIdeal.nD Cert.PrenormBwdIdeal.τ Cert.PrenormBwdIdeal.sig) → Buf (Elt Ideal) ℓ) : Prop :=
  ∀ c : Dev Cert.PrenormBwdIdeal.nD,
    (Cert.Pre_finite_prenorm_bwd.fn (F := Ideal) (m ((c.tc : Thread Cert.PrenormBwdIdeal.nD Cert.PrenormBwdIdeal.τ).loc Cert.PrenormBwdIdeal.main_arg0)) (m ((c.tc : Thread Cert.PrenormBwdIdeal.nD Cert.PrenormBwdIdeal.τ).loc Cert.PrenormBwdIdeal.main_arg1)) (m ((c.tc : Thread Cert.PrenormBwdIdeal.nD Cert.PrenormBwdIdeal.τ).loc Cert.PrenormBwdIdeal.main_arg2)) (m ((c.tc : Thread Cert.PrenormBwdIdeal.nD Cert.PrenormBwdIdeal.τ).loc Cert.PrenormBwdIdeal.main_arg3)) (m ((c.tc : Thread Cert.PrenormBwdIdeal.nD Cert.PrenormBwdIdeal.τ).loc Cert.PrenormBwdIdeal.main_arg4)) (m ((c.tc : Thread Cert.PrenormBwdIdeal.nD Cert.PrenormBwdIdeal.τ).loc Cert.PrenormBwdIdeal.main_arg5))) = (fun _ => 1#1)

def Pre_PrenormBwdRefIdeal (m : (ℓ : Loc Cert.PrenormBwdRefIdeal.nD Cert.PrenormBwdRefIdeal.τ Cert.PrenormBwdRefIdeal.sig) → Buf (Elt Ideal) ℓ) : Prop :=
  True

def Pre_PrenormBwdRefIdeal_finite_prenorm_bwd [hPre_finite_prenorm_bwd : Cert.Pre_finite_prenorm_bwd.Facts] (m : (ℓ : Loc Cert.PrenormBwdRefIdeal.nD Cert.PrenormBwdRefIdeal.τ Cert.PrenormBwdRefIdeal.sig) → Buf (Elt Ideal) ℓ) : Prop :=
  ∀ c : Dev Cert.PrenormBwdRefIdeal.nD,
    (Cert.Pre_finite_prenorm_bwd.fn (F := Ideal) (m ((c.tc : Thread Cert.PrenormBwdRefIdeal.nD Cert.PrenormBwdRefIdeal.τ).loc Cert.PrenormBwdRefIdeal.main_arg0)) (m ((c.tc : Thread Cert.PrenormBwdRefIdeal.nD Cert.PrenormBwdRefIdeal.τ).loc Cert.PrenormBwdRefIdeal.main_arg1)) (m ((c.tc : Thread Cert.PrenormBwdRefIdeal.nD Cert.PrenormBwdRefIdeal.τ).loc Cert.PrenormBwdRefIdeal.main_arg2)) (m ((c.tc : Thread Cert.PrenormBwdRefIdeal.nD Cert.PrenormBwdRefIdeal.τ).loc Cert.PrenormBwdRefIdeal.main_arg3)) (m ((c.tc : Thread Cert.PrenormBwdRefIdeal.nD Cert.PrenormBwdRefIdeal.τ).loc Cert.PrenormBwdRefIdeal.main_arg4)) (m ((c.tc : Thread Cert.PrenormBwdRefIdeal.nD Cert.PrenormBwdRefIdeal.τ).loc Cert.PrenormBwdRefIdeal.main_arg5))) = (fun _ => 1#1)

def Pre_LastShell (m : (ℓ : Loc Cert.LastShell.nD Cert.LastShell.τ Cert.LastShell.sig) → Buf (Elt Bits) ℓ) : Prop :=
  True

def Pre_LastShellIdeal (m : (ℓ : Loc Cert.LastShellIdeal.nD Cert.LastShellIdeal.τ Cert.LastShellIdeal.sig) → Buf (Elt Ideal) ℓ) : Prop :=
  True

def Pre_LastShellIdeal_finite_last_shell [hPre_finite_last_shell : Cert.Pre_finite_last_shell.Facts] (m : (ℓ : Loc Cert.LastShellIdeal.nD Cert.LastShellIdeal.τ Cert.LastShellIdeal.sig) → Buf (Elt Ideal) ℓ) : Prop :=
  ∀ c : Dev Cert.LastShellIdeal.nD,
    (Cert.Pre_finite_last_shell.fn (F := Ideal) (m ((c.tc : Thread Cert.LastShellIdeal.nD Cert.LastShellIdeal.τ).loc Cert.LastShellIdeal.main_arg0)) (m ((c.tc : Thread Cert.LastShellIdeal.nD Cert.LastShellIdeal.τ).loc Cert.LastShellIdeal.main_arg1)) (m ((c.tc : Thread Cert.LastShellIdeal.nD Cert.LastShellIdeal.τ).loc Cert.LastShellIdeal.main_arg2)) (m ((c.tc : Thread Cert.LastShellIdeal.nD Cert.LastShellIdeal.τ).loc Cert.LastShellIdeal.main_arg3)) (m ((c.tc : Thread Cert.LastShellIdeal.nD Cert.LastShellIdeal.τ).loc Cert.LastShellIdeal.main_arg4)) (m ((c.tc : Thread Cert.LastShellIdeal.nD Cert.LastShellIdeal.τ).loc Cert.LastShellIdeal.main_arg5))) = (fun _ => 1#1)

def Pre_LastShellRefIdeal (m : (ℓ : Loc Cert.LastShellRefIdeal.nD Cert.LastShellRefIdeal.τ Cert.LastShellRefIdeal.sig) → Buf (Elt Ideal) ℓ) : Prop :=
  True

def Pre_LastShellRefIdeal_finite_last_shell [hPre_finite_last_shell : Cert.Pre_finite_last_shell.Facts] (m : (ℓ : Loc Cert.LastShellRefIdeal.nD Cert.LastShellRefIdeal.τ Cert.LastShellRefIdeal.sig) → Buf (Elt Ideal) ℓ) : Prop :=
  ∀ c : Dev Cert.LastShellRefIdeal.nD,
    (Cert.Pre_finite_last_shell.fn (F := Ideal) (m ((c.tc : Thread Cert.LastShellRefIdeal.nD Cert.LastShellRefIdeal.τ).loc Cert.LastShellRefIdeal.main_arg0)) (m ((c.tc : Thread Cert.LastShellRefIdeal.nD Cert.LastShellRefIdeal.τ).loc Cert.LastShellRefIdeal.main_arg1)) (m ((c.tc : Thread Cert.LastShellRefIdeal.nD Cert.LastShellRefIdeal.τ).loc Cert.LastShellRefIdeal.main_arg2)) (m ((c.tc : Thread Cert.LastShellRefIdeal.nD Cert.LastShellRefIdeal.τ).loc Cert.LastShellRefIdeal.main_arg3)) (m ((c.tc : Thread Cert.LastShellRefIdeal.nD Cert.LastShellRefIdeal.τ).loc Cert.LastShellRefIdeal.main_arg4)) (m ((c.tc : Thread Cert.LastShellRefIdeal.nD Cert.LastShellRefIdeal.τ).loc Cert.LastShellRefIdeal.main_arg5))) = (fun _ => 1#1)

def Pre_SsmDu (m : (ℓ : Loc Cert.SsmDu.nD Cert.SsmDu.τ Cert.SsmDu.sig) → Buf (Elt Bits) ℓ) : Prop :=
  True

def Pre_SsmDuIdeal (m : (ℓ : Loc Cert.SsmDuIdeal.nD Cert.SsmDuIdeal.τ Cert.SsmDuIdeal.sig) → Buf (Elt Ideal) ℓ) : Prop :=
  True

def Pre_SsmDuRefIdeal (m : (ℓ : Loc Cert.SsmDuRefIdeal.nD Cert.SsmDuRefIdeal.τ Cert.SsmDuRefIdeal.sig) → Buf (Elt Ideal) ℓ) : Prop :=
  True

def Pre_AdaWGrad (m : (ℓ : Loc Cert.AdaWGrad.nD Cert.AdaWGrad.τ Cert.AdaWGrad.sig) → Buf (Elt Bits) ℓ) : Prop :=
  True

def Pre_AdaWGradIdeal (m : (ℓ : Loc Cert.AdaWGradIdeal.nD Cert.AdaWGradIdeal.τ Cert.AdaWGradIdeal.sig) → Buf (Elt Ideal) ℓ) : Prop :=
  True

def Pre_AdaWGradRefIdeal (m : (ℓ : Loc Cert.AdaWGradRefIdeal.nD Cert.AdaWGradRefIdeal.τ Cert.AdaWGradRefIdeal.sig) → Buf (Elt Ideal) ℓ) : Prop :=
  True

def Pre_FfnSwiglu (m : (ℓ : Loc Cert.FfnSwiglu.nD Cert.FfnSwiglu.τ Cert.FfnSwiglu.sig) → Buf (Elt Bits) ℓ) : Prop :=
  True

def Pre_FfnSwigluIdeal (m : (ℓ : Loc Cert.FfnSwigluIdeal.nD Cert.FfnSwigluIdeal.τ Cert.FfnSwigluIdeal.sig) → Buf (Elt Ideal) ℓ) : Prop :=
  True

def Pre_FfnSwigluIdeal_finite_ffn_swiglu [hPre_finite_ffn_swiglu : Cert.Pre_finite_ffn_swiglu.Facts] (m : (ℓ : Loc Cert.FfnSwigluIdeal.nD Cert.FfnSwigluIdeal.τ Cert.FfnSwigluIdeal.sig) → Buf (Elt Ideal) ℓ) : Prop :=
  ∀ c : Dev Cert.FfnSwigluIdeal.nD,
    (Cert.Pre_finite_ffn_swiglu.fn (F := Ideal) (m ((c.tc : Thread Cert.FfnSwigluIdeal.nD Cert.FfnSwigluIdeal.τ).loc Cert.FfnSwigluIdeal.main_arg0)) (m ((c.tc : Thread Cert.FfnSwigluIdeal.nD Cert.FfnSwigluIdeal.τ).loc Cert.FfnSwigluIdeal.main_arg1)) (m ((c.tc : Thread Cert.FfnSwigluIdeal.nD Cert.FfnSwigluIdeal.τ).loc Cert.FfnSwigluIdeal.main_arg2)) (m ((c.tc : Thread Cert.FfnSwigluIdeal.nD Cert.FfnSwigluIdeal.τ).loc Cert.FfnSwigluIdeal.main_arg3))) = (fun _ => 1#1)

def Pre_FfnSwigluRefIdeal (m : (ℓ : Loc Cert.FfnSwigluRefIdeal.nD Cert.FfnSwigluRefIdeal.τ Cert.FfnSwigluRefIdeal.sig) → Buf (Elt Ideal) ℓ) : Prop :=
  True

def Pre_FfnSwigluRefIdeal_finite_ffn_swiglu [hPre_finite_ffn_swiglu : Cert.Pre_finite_ffn_swiglu.Facts] (m : (ℓ : Loc Cert.FfnSwigluRefIdeal.nD Cert.FfnSwigluRefIdeal.τ Cert.FfnSwigluRefIdeal.sig) → Buf (Elt Ideal) ℓ) : Prop :=
  ∀ c : Dev Cert.FfnSwigluRefIdeal.nD,
    (Cert.Pre_finite_ffn_swiglu.fn (F := Ideal) (m ((c.tc : Thread Cert.FfnSwigluRefIdeal.nD Cert.FfnSwigluRefIdeal.τ).loc Cert.FfnSwigluRefIdeal.main_arg0)) (m ((c.tc : Thread Cert.FfnSwigluRefIdeal.nD Cert.FfnSwigluRefIdeal.τ).loc Cert.FfnSwigluRefIdeal.main_arg1)) (m ((c.tc : Thread Cert.FfnSwigluRefIdeal.nD Cert.FfnSwigluRefIdeal.τ).loc Cert.FfnSwigluRefIdeal.main_arg2)) (m ((c.tc : Thread Cert.FfnSwigluRefIdeal.nD Cert.FfnSwigluRefIdeal.τ).loc Cert.FfnSwigluRefIdeal.main_arg3))) = (fun _ => 1#1)

def Pre_PrePost (m : (ℓ : Loc Cert.PrePost.nD Cert.PrePost.τ Cert.PrePost.sig) → Buf (Elt Bits) ℓ) : Prop :=
  True

def Pre_PrePostIdeal (m : (ℓ : Loc Cert.PrePostIdeal.nD Cert.PrePostIdeal.τ Cert.PrePostIdeal.sig) → Buf (Elt Ideal) ℓ) : Prop :=
  True

def Pre_PrePostIdeal_finite_pre_post [hPre_finite_pre_post : Cert.Pre_finite_pre_post.Facts] (m : (ℓ : Loc Cert.PrePostIdeal.nD Cert.PrePostIdeal.τ Cert.PrePostIdeal.sig) → Buf (Elt Ideal) ℓ) : Prop :=
  ∀ c : Dev Cert.PrePostIdeal.nD,
    (Cert.Pre_finite_pre_post.fn (F := Ideal) (m ((c.tc : Thread Cert.PrePostIdeal.nD Cert.PrePostIdeal.τ).loc Cert.PrePostIdeal.main_arg0)) (m ((c.tc : Thread Cert.PrePostIdeal.nD Cert.PrePostIdeal.τ).loc Cert.PrePostIdeal.main_arg1)) (m ((c.tc : Thread Cert.PrePostIdeal.nD Cert.PrePostIdeal.τ).loc Cert.PrePostIdeal.main_arg2)) (m ((c.tc : Thread Cert.PrePostIdeal.nD Cert.PrePostIdeal.τ).loc Cert.PrePostIdeal.main_arg3)) (m ((c.tc : Thread Cert.PrePostIdeal.nD Cert.PrePostIdeal.τ).loc Cert.PrePostIdeal.main_arg4)) (m ((c.tc : Thread Cert.PrePostIdeal.nD Cert.PrePostIdeal.τ).loc Cert.PrePostIdeal.main_arg5)) (m ((c.tc : Thread Cert.PrePostIdeal.nD Cert.PrePostIdeal.τ).loc Cert.PrePostIdeal.main_arg6))) = (fun _ => 1#1)

def Pre_PrePostRefIdeal (m : (ℓ : Loc Cert.PrePostRefIdeal.nD Cert.PrePostRefIdeal.τ Cert.PrePostRefIdeal.sig) → Buf (Elt Ideal) ℓ) : Prop :=
  True

def Pre_PrePostRefIdeal_finite_pre_post [hPre_finite_pre_post : Cert.Pre_finite_pre_post.Facts] (m : (ℓ : Loc Cert.PrePostRefIdeal.nD Cert.PrePostRefIdeal.τ Cert.PrePostRefIdeal.sig) → Buf (Elt Ideal) ℓ) : Prop :=
  ∀ c : Dev Cert.PrePostRefIdeal.nD,
    (Cert.Pre_finite_pre_post.fn (F := Ideal) (m ((c.tc : Thread Cert.PrePostRefIdeal.nD Cert.PrePostRefIdeal.τ).loc Cert.PrePostRefIdeal.main_arg0)) (m ((c.tc : Thread Cert.PrePostRefIdeal.nD Cert.PrePostRefIdeal.τ).loc Cert.PrePostRefIdeal.main_arg1)) (m ((c.tc : Thread Cert.PrePostRefIdeal.nD Cert.PrePostRefIdeal.τ).loc Cert.PrePostRefIdeal.main_arg2)) (m ((c.tc : Thread Cert.PrePostRefIdeal.nD Cert.PrePostRefIdeal.τ).loc Cert.PrePostRefIdeal.main_arg3)) (m ((c.tc : Thread Cert.PrePostRefIdeal.nD Cert.PrePostRefIdeal.τ).loc Cert.PrePostRefIdeal.main_arg4)) (m ((c.tc : Thread Cert.PrePostRefIdeal.nD Cert.PrePostRefIdeal.τ).loc Cert.PrePostRefIdeal.main_arg5)) (m ((c.tc : Thread Cert.PrePostRefIdeal.nD Cert.PrePostRefIdeal.τ).loc Cert.PrePostRefIdeal.main_arg6))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_finite_sgu_bwd [hPre_finite_sgu_bwd : Cert.Pre_finite_sgu_bwd.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_finite_sgu_bwd.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))) = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_finite_sgu_bwd [hPre_finite_sgu_bwd : Cert.Pre_finite_sgu_bwd.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_finite_sgu_bwd.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5))) = (fun _ => 1#1)

def Pre_SsmParam (m : (ℓ : Loc Cert.SsmParam.nD Cert.SsmParam.τ Cert.SsmParam.sig) → Buf (Elt Bits) ℓ) : Prop :=
  True

def Pre_SsmParamIdeal (m : (ℓ : Loc Cert.SsmParamIdeal.nD Cert.SsmParamIdeal.τ Cert.SsmParamIdeal.sig) → Buf (Elt Ideal) ℓ) : Prop :=
  True

def Pre_SsmParamIdeal_finite_ssm_param [hPre_finite_ssm_param : Cert.Pre_finite_ssm_param.Facts] (m : (ℓ : Loc Cert.SsmParamIdeal.nD Cert.SsmParamIdeal.τ Cert.SsmParamIdeal.sig) → Buf (Elt Ideal) ℓ) : Prop :=
  ∀ c : Dev Cert.SsmParamIdeal.nD,
    (Cert.Pre_finite_ssm_param.fn (F := Ideal) (m ((c.tc : Thread Cert.SsmParamIdeal.nD Cert.SsmParamIdeal.τ).loc Cert.SsmParamIdeal.main_arg0)) (m ((c.tc : Thread Cert.SsmParamIdeal.nD Cert.SsmParamIdeal.τ).loc Cert.SsmParamIdeal.main_arg1)) (m ((c.tc : Thread Cert.SsmParamIdeal.nD Cert.SsmParamIdeal.τ).loc Cert.SsmParamIdeal.main_arg2)) (m ((c.tc : Thread Cert.SsmParamIdeal.nD Cert.SsmParamIdeal.τ).loc Cert.SsmParamIdeal.main_arg3)) (m ((c.tc : Thread Cert.SsmParamIdeal.nD Cert.SsmParamIdeal.τ).loc Cert.SsmParamIdeal.main_arg4)) (m ((c.tc : Thread Cert.SsmParamIdeal.nD Cert.SsmParamIdeal.τ).loc Cert.SsmParamIdeal.main_arg5)) (m ((c.tc : Thread Cert.SsmParamIdeal.nD Cert.SsmParamIdeal.τ).loc Cert.SsmParamIdeal.main_arg6)) (m ((c.tc : Thread Cert.SsmParamIdeal.nD Cert.SsmParamIdeal.τ).loc Cert.SsmParamIdeal.main_arg7)) (m ((c.tc : Thread Cert.SsmParamIdeal.nD Cert.SsmParamIdeal.τ).loc Cert.SsmParamIdeal.main_arg8))) = (fun _ => 1#1)

def Pre_SsmParamRefIdeal (m : (ℓ : Loc Cert.SsmParamRefIdeal.nD Cert.SsmParamRefIdeal.τ Cert.SsmParamRefIdeal.sig) → Buf (Elt Ideal) ℓ) : Prop :=
  True

def Pre_SsmParamRefIdeal_finite_ssm_param [hPre_finite_ssm_param : Cert.Pre_finite_ssm_param.Facts] (m : (ℓ : Loc Cert.SsmParamRefIdeal.nD Cert.SsmParamRefIdeal.τ Cert.SsmParamRefIdeal.sig) → Buf (Elt Ideal) ℓ) : Prop :=
  ∀ c : Dev Cert.SsmParamRefIdeal.nD,
    (Cert.Pre_finite_ssm_param.fn (F := Ideal) (m ((c.tc : Thread Cert.SsmParamRefIdeal.nD Cert.SsmParamRefIdeal.τ).loc Cert.SsmParamRefIdeal.main_arg0)) (m ((c.tc : Thread Cert.SsmParamRefIdeal.nD Cert.SsmParamRefIdeal.τ).loc Cert.SsmParamRefIdeal.main_arg1)) (m ((c.tc : Thread Cert.SsmParamRefIdeal.nD Cert.SsmParamRefIdeal.τ).loc Cert.SsmParamRefIdeal.main_arg2)) (m ((c.tc : Thread Cert.SsmParamRefIdeal.nD Cert.SsmParamRefIdeal.τ).loc Cert.SsmParamRefIdeal.main_arg3)) (m ((c.tc : Thread Cert.SsmParamRefIdeal.nD Cert.SsmParamRefIdeal.τ).loc Cert.SsmParamRefIdeal.main_arg4)) (m ((c.tc : Thread Cert.SsmParamRefIdeal.nD Cert.SsmParamRefIdeal.τ).loc Cert.SsmParamRefIdeal.main_arg5)) (m ((c.tc : Thread Cert.SsmParamRefIdeal.nD Cert.SsmParamRefIdeal.τ).loc Cert.SsmParamRefIdeal.main_arg6)) (m ((c.tc : Thread Cert.SsmParamRefIdeal.nD Cert.SsmParamRefIdeal.τ).loc Cert.SsmParamRefIdeal.main_arg7)) (m ((c.tc : Thread Cert.SsmParamRefIdeal.nD Cert.SsmParamRefIdeal.τ).loc Cert.SsmParamRefIdeal.main_arg8))) = (fun _ => 1#1)

def Pre_SsmPrep (m : (ℓ : Loc Cert.SsmPrep.nD Cert.SsmPrep.τ Cert.SsmPrep.sig) → Buf (Elt Bits) ℓ) : Prop :=
  True

def Pre_SsmPrepIdeal (m : (ℓ : Loc Cert.SsmPrepIdeal.nD Cert.SsmPrepIdeal.τ Cert.SsmPrepIdeal.sig) → Buf (Elt Ideal) ℓ) : Prop :=
  True

def Pre_SsmPrepRefIdeal (m : (ℓ : Loc Cert.SsmPrepRefIdeal.nD Cert.SsmPrepRefIdeal.τ Cert.SsmPrepRefIdeal.sig) → Buf (Elt Ideal) ℓ) : Prop :=
  True

def Pre_SsmScan (m : (ℓ : Loc Cert.SsmScan.nD Cert.SsmScan.τ Cert.SsmScan.sig) → Buf (Elt Bits) ℓ) : Prop :=
  True

def Pre_SsmScanIdeal (m : (ℓ : Loc Cert.SsmScanIdeal.nD Cert.SsmScanIdeal.τ Cert.SsmScanIdeal.sig) → Buf (Elt Ideal) ℓ) : Prop :=
  True

def Pre_SsmScanIdeal_finite_ssm_scan [hPre_finite_ssm_scan : Cert.Pre_finite_ssm_scan.Facts] (m : (ℓ : Loc Cert.SsmScanIdeal.nD Cert.SsmScanIdeal.τ Cert.SsmScanIdeal.sig) → Buf (Elt Ideal) ℓ) : Prop :=
  ∀ c : Dev Cert.SsmScanIdeal.nD,
    (Cert.Pre_finite_ssm_scan.fn (F := Ideal) (m ((c.tc : Thread Cert.SsmScanIdeal.nD Cert.SsmScanIdeal.τ).loc Cert.SsmScanIdeal.main_arg0)) (m ((c.tc : Thread Cert.SsmScanIdeal.nD Cert.SsmScanIdeal.τ).loc Cert.SsmScanIdeal.main_arg1)) (m ((c.tc : Thread Cert.SsmScanIdeal.nD Cert.SsmScanIdeal.τ).loc Cert.SsmScanIdeal.main_arg2)) (m ((c.tc : Thread Cert.SsmScanIdeal.nD Cert.SsmScanIdeal.τ).loc Cert.SsmScanIdeal.main_arg3)) (m ((c.tc : Thread Cert.SsmScanIdeal.nD Cert.SsmScanIdeal.τ).loc Cert.SsmScanIdeal.main_arg4)) (m ((c.tc : Thread Cert.SsmScanIdeal.nD Cert.SsmScanIdeal.τ).loc Cert.SsmScanIdeal.main_arg5)) (m ((c.tc : Thread Cert.SsmScanIdeal.nD Cert.SsmScanIdeal.τ).loc Cert.SsmScanIdeal.main_arg6))) = (fun _ => 1#1)

def Pre_SsmScanRefIdeal (m : (ℓ : Loc Cert.SsmScanRefIdeal.nD Cert.SsmScanRefIdeal.τ Cert.SsmScanRefIdeal.sig) → Buf (Elt Ideal) ℓ) : Prop :=
  True

def Pre_SsmScanRefIdeal_finite_ssm_scan [hPre_finite_ssm_scan : Cert.Pre_finite_ssm_scan.Facts] (m : (ℓ : Loc Cert.SsmScanRefIdeal.nD Cert.SsmScanRefIdeal.τ Cert.SsmScanRefIdeal.sig) → Buf (Elt Ideal) ℓ) : Prop :=
  ∀ c : Dev Cert.SsmScanRefIdeal.nD,
    (Cert.Pre_finite_ssm_scan.fn (F := Ideal) (m ((c.tc : Thread Cert.SsmScanRefIdeal.nD Cert.SsmScanRefIdeal.τ).loc Cert.SsmScanRefIdeal.main_arg0)) (m ((c.tc : Thread Cert.SsmScanRefIdeal.nD Cert.SsmScanRefIdeal.τ).loc Cert.SsmScanRefIdeal.main_arg1)) (m ((c.tc : Thread Cert.SsmScanRefIdeal.nD Cert.SsmScanRefIdeal.τ).loc Cert.SsmScanRefIdeal.main_arg2)) (m ((c.tc : Thread Cert.SsmScanRefIdeal.nD Cert.SsmScanRefIdeal.τ).loc Cert.SsmScanRefIdeal.main_arg3)) (m ((c.tc : Thread Cert.SsmScanRefIdeal.nD Cert.SsmScanRefIdeal.τ).loc Cert.SsmScanRefIdeal.main_arg4)) (m ((c.tc : Thread Cert.SsmScanRefIdeal.nD Cert.SsmScanRefIdeal.τ).loc Cert.SsmScanRefIdeal.main_arg5)) (m ((c.tc : Thread Cert.SsmScanRefIdeal.nD Cert.SsmScanRefIdeal.τ).loc Cert.SsmScanRefIdeal.main_arg6))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_SsmActFwd (m : (ℓ : Loc Cert.SsmActFwd.nD Cert.SsmActFwd.τ Cert.SsmActFwd.sig) → Buf (Elt Bits) ℓ) : Prop :=
  True

def Pre_SsmActFwdIdeal (m : (ℓ : Loc Cert.SsmActFwdIdeal.nD Cert.SsmActFwdIdeal.τ Cert.SsmActFwdIdeal.sig) → Buf (Elt Ideal) ℓ) : Prop :=
  True

def Pre_SsmActFwdRefIdeal (m : (ℓ : Loc Cert.SsmActFwdRefIdeal.nD Cert.SsmActFwdRefIdeal.τ Cert.SsmActFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_PrenormFwd (m : (ℓ : Loc Cert.PrenormFwd.nD Cert.PrenormFwd.τ Cert.PrenormFwd.sig) → Buf (Elt Bits) ℓ) : Prop :=
  True

def Pre_PrenormFwdIdeal (m : (ℓ : Loc Cert.PrenormFwdIdeal.nD Cert.PrenormFwdIdeal.τ Cert.PrenormFwdIdeal.sig) → Buf (Elt Ideal) ℓ) : Prop :=
  True

def Pre_PrenormFwdRefIdeal (m : (ℓ : Loc Cert.PrenormFwdRefIdeal.nD Cert.PrenormFwdRefIdeal.τ Cert.PrenormFwdRefIdeal.sig) → Buf (Elt Ideal) ℓ) : Prop :=
  True

def Pre_ModPart (m : (ℓ : Loc Cert.ModPart.nD Cert.ModPart.τ Cert.ModPart.sig) → Buf (Elt Bits) ℓ) : Prop :=
  True

def Pre_ModPartIdeal (m : (ℓ : Loc Cert.ModPartIdeal.nD Cert.ModPartIdeal.τ Cert.ModPartIdeal.sig) → Buf (Elt Ideal) ℓ) : Prop :=
  True

def Pre_ModPartRefIdeal (m : (ℓ : Loc Cert.ModPartRefIdeal.nD Cert.ModPartRefIdeal.τ Cert.ModPartRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_MmSum (m : (ℓ : Loc Cert.MmSum.nD Cert.MmSum.τ Cert.MmSum.sig) → Buf (Elt Bits) ℓ) : Prop :=
  True

def Pre_MmSumIdeal (m : (ℓ : Loc Cert.MmSumIdeal.nD Cert.MmSumIdeal.τ Cert.MmSumIdeal.sig) → Buf (Elt Ideal) ℓ) : Prop :=
  True

def Pre_MmSumRefIdeal (m : (ℓ : Loc Cert.MmSumRefIdeal.nD Cert.MmSumRefIdeal.τ Cert.MmSumRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_MmDw (m : (ℓ : Loc Cert.MmDw.nD Cert.MmDw.τ Cert.MmDw.sig) → Buf (Elt Bits) ℓ) : Prop :=
  True

def Pre_MmDwIdeal (m : (ℓ : Loc Cert.MmDwIdeal.nD Cert.MmDwIdeal.τ Cert.MmDwIdeal.sig) → Buf (Elt Ideal) ℓ) : Prop :=
  True

def Pre_MmDwRefIdeal (m : (ℓ : Loc Cert.MmDwRefIdeal.nD Cert.MmDwRefIdeal.τ Cert.MmDwRefIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_SumPartsRefIdeal (m : (ℓ : Loc Cert.SumPartsRefIdeal.nD Cert.SumPartsRefIdeal.τ Cert.SumPartsRefIdeal.sig) → Buf (Elt Ideal) ℓ) : Prop :=
  True

def Pre_BlockDiag (m : (ℓ : Loc Cert.BlockDiag.nD Cert.BlockDiag.τ Cert.BlockDiag.sig) → Buf (Elt Bits) ℓ) : Prop :=
  True

def Pre_BlockDiagIdeal (m : (ℓ : Loc Cert.BlockDiagIdeal.nD Cert.BlockDiagIdeal.τ Cert.BlockDiagIdeal.sig) → Buf (Elt Ideal) ℓ) : Prop :=
  True

def Pre_BlockDiagRefIdeal (m : (ℓ : Loc Cert.BlockDiagRefIdeal.nD Cert.BlockDiagRefIdeal.τ Cert.BlockDiagRefIdeal.sig) → Buf (Elt Ideal) ℓ) : Prop :=
  True

def Pre_AdamwRows (m : (ℓ : Loc Cert.AdamwRows.nD Cert.AdamwRows.τ Cert.AdamwRows.sig) → Buf (Elt Bits) ℓ) : Prop :=
  True

def Pre_AdamwRowsIdeal (m : (ℓ : Loc Cert.AdamwRowsIdeal.nD Cert.AdamwRowsIdeal.τ Cert.AdamwRowsIdeal.sig) → Buf (Elt Ideal) ℓ) : Prop :=
  True

def Pre_AdamwRowsRefIdeal (m : (ℓ : Loc Cert.AdamwRowsRefIdeal.nD Cert.AdamwRowsRefIdeal.τ Cert.AdamwRowsRefIdeal.sig) → Buf (Elt Ideal) ℓ) : Prop :=
  True

def Pre_AdamwCols (m : (ℓ : Loc Cert.AdamwCols.nD Cert.AdamwCols.τ Cert.AdamwCols.sig) → Buf (Elt Bits) ℓ) : Prop :=
  True

def Pre_AdamwColsIdeal (m : (ℓ : Loc Cert.AdamwColsIdeal.nD Cert.AdamwColsIdeal.τ Cert.AdamwColsIdeal.sig) → Buf (Elt Ideal) ℓ) : Prop :=
  True

def Pre_AdamwColsRefIdeal (m : (ℓ : Loc Cert.AdamwColsRefIdeal.nD Cert.AdamwColsRefIdeal.τ Cert.AdamwColsRefIdeal.sig) → Buf (Elt Ideal) ℓ) : Prop :=
  True

def Pre_AdamwHeads (m : (ℓ : Loc Cert.AdamwHeads.nD Cert.AdamwHeads.τ Cert.AdamwHeads.sig) → Buf (Elt Bits) ℓ) : Prop :=
  True

def Pre_AdamwHeadsIdeal (m : (ℓ : Loc Cert.AdamwHeadsIdeal.nD Cert.AdamwHeadsIdeal.τ Cert.AdamwHeadsIdeal.sig) → Buf (Elt Ideal) ℓ) : Prop :=
  True

def Pre_AdamwHeadsRefIdeal (m : (ℓ : Loc Cert.AdamwHeadsRefIdeal.nD Cert.AdamwHeadsRefIdeal.τ Cert.AdamwHeadsRefIdeal.sig) → Buf (Elt Ideal) ℓ) : Prop :=
  True

def Pre_AdamwSsm (m : (ℓ : Loc Cert.AdamwSsm.nD Cert.AdamwSsm.τ Cert.AdamwSsm.sig) → Buf (Elt Bits) ℓ) : Prop :=
  True

def Pre_AdamwSsmIdeal (m : (ℓ : Loc Cert.AdamwSsmIdeal.nD Cert.AdamwSsmIdeal.τ Cert.AdamwSsmIdeal.sig) → Buf (Elt Ideal) ℓ) : Prop :=
  True

def Pre_AdamwSsmRefIdeal (m : (ℓ : Loc Cert.AdamwSsmRefIdeal.nD Cert.AdamwSsmRefIdeal.τ Cert.AdamwSsmRefIdeal.sig) → Buf (Elt Ideal) ℓ) : Prop :=
  True

def Pre_AdamwShell (m : (ℓ : Loc Cert.AdamwShell.nD Cert.AdamwShell.τ Cert.AdamwShell.sig) → Buf (Elt Bits) ℓ) : Prop :=
  True

def Pre_AdamwShellIdeal (m : (ℓ : Loc Cert.AdamwShellIdeal.nD Cert.AdamwShellIdeal.τ Cert.AdamwShellIdeal.sig) → Buf (Elt Ideal) ℓ) : Prop :=
  True

def Pre_AdamwShellRefIdeal (m : (ℓ : Loc Cert.AdamwShellRefIdeal.nD Cert.AdamwShellRefIdeal.τ Cert.AdamwShellRefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_SsmActBwd [hSsmActBwd : Cert.SsmActBwd.Facts] : Prop :=
  ∀ (m : (ℓ : Loc Cert.SsmActBwd.nD Cert.SsmActBwd.τ Cert.SsmActBwd.sig) → Buf (Elt Bits) ℓ) (g : Dev Cert.SsmActBwd.nD → PrngReg), Pre_SsmActBwd m →
    θ_run (Cert.SsmActBwd.defs (F := Bits)) (onTc (τ := Cert.SsmActBwd.τ) (Cert.SsmActBwd.main (F := Bits))) ⟨m, fun _ => 0, g⟩ (fun r => (∀ c : Dev Cert.SsmActBwd.nD,
      r.2.mem ((c.tc : Thread Cert.SsmActBwd.nD Cert.SsmActBwd.τ).loc Cert.SsmActBwd.main_arg0) = m ((c.tc : Thread Cert.SsmActBwd.nD Cert.SsmActBwd.τ).loc Cert.SsmActBwd.main_arg0)
      ∧ r.2.mem ((c.tc : Thread Cert.SsmActBwd.nD Cert.SsmActBwd.τ).loc Cert.SsmActBwd.main_arg1) = m ((c.tc : Thread Cert.SsmActBwd.nD Cert.SsmActBwd.τ).loc Cert.SsmActBwd.main_arg1)
      ∧ r.2.mem ((c.tc : Thread Cert.SsmActBwd.nD Cert.SsmActBwd.τ).loc Cert.SsmActBwd.main_arg2) = m ((c.tc : Thread Cert.SsmActBwd.nD Cert.SsmActBwd.τ).loc Cert.SsmActBwd.main_arg2)
      ∧ r.2.mem ((c.tc : Thread Cert.SsmActBwd.nD Cert.SsmActBwd.τ).loc Cert.SsmActBwd.main_arg3) = m ((c.tc : Thread Cert.SsmActBwd.nD Cert.SsmActBwd.τ).loc Cert.SsmActBwd.main_arg3))
      ∧ r.2.sem = fun _ => 0)

def quiescent_SsmActBwdIdeal [hSsmActBwdIdeal : Cert.SsmActBwdIdeal.Facts] : Prop :=
  ∀ (m : (ℓ : Loc Cert.SsmActBwdIdeal.nD Cert.SsmActBwdIdeal.τ Cert.SsmActBwdIdeal.sig) → Buf (Elt Ideal) ℓ) (g : Dev Cert.SsmActBwdIdeal.nD → PrngReg), Pre_SsmActBwdIdeal m →
    θ_run (Cert.SsmActBwdIdeal.defs (F := Ideal)) (onTc (τ := Cert.SsmActBwdIdeal.τ) (Cert.SsmActBwdIdeal.main (F := Ideal))) ⟨m, fun _ => 0, g⟩ (fun r => (∀ c : Dev Cert.SsmActBwdIdeal.nD,
      r.2.mem ((c.tc : Thread Cert.SsmActBwdIdeal.nD Cert.SsmActBwdIdeal.τ).loc Cert.SsmActBwdIdeal.main_arg0) = m ((c.tc : Thread Cert.SsmActBwdIdeal.nD Cert.SsmActBwdIdeal.τ).loc Cert.SsmActBwdIdeal.main_arg0)
      ∧ r.2.mem ((c.tc : Thread Cert.SsmActBwdIdeal.nD Cert.SsmActBwdIdeal.τ).loc Cert.SsmActBwdIdeal.main_arg1) = m ((c.tc : Thread Cert.SsmActBwdIdeal.nD Cert.SsmActBwdIdeal.τ).loc Cert.SsmActBwdIdeal.main_arg1)
      ∧ r.2.mem ((c.tc : Thread Cert.SsmActBwdIdeal.nD Cert.SsmActBwdIdeal.τ).loc Cert.SsmActBwdIdeal.main_arg2) = m ((c.tc : Thread Cert.SsmActBwdIdeal.nD Cert.SsmActBwdIdeal.τ).loc Cert.SsmActBwdIdeal.main_arg2)
      ∧ r.2.mem ((c.tc : Thread Cert.SsmActBwdIdeal.nD Cert.SsmActBwdIdeal.τ).loc Cert.SsmActBwdIdeal.main_arg3) = m ((c.tc : Thread Cert.SsmActBwdIdeal.nD Cert.SsmActBwdIdeal.τ).loc Cert.SsmActBwdIdeal.main_arg3))
      ∧ r.2.sem = fun _ => 0)

def quiescent_SsmActBwdIdeal_pre_finite_ssm_act_bwd [hSsmActBwdIdeal : Cert.SsmActBwdIdeal.Facts] [hPre_finite_ssm_act_bwd : Cert.Pre_finite_ssm_act_bwd.Facts] : Prop :=
  ∀ (m : (ℓ : Loc Cert.SsmActBwdIdeal.nD Cert.SsmActBwdIdeal.τ Cert.SsmActBwdIdeal.sig) → Buf (Elt Ideal) ℓ) (g : Dev Cert.SsmActBwdIdeal.nD → PrngReg), Pre_SsmActBwdIdeal_finite_ssm_act_bwd m →
    θ_run (Cert.SsmActBwdIdeal.defs (F := Ideal)) (onTc (τ := Cert.SsmActBwdIdeal.τ) (Cert.SsmActBwdIdeal.main (F := Ideal))) ⟨m, fun _ => 0, g⟩ (fun r => (∀ c : Dev Cert.SsmActBwdIdeal.nD,
      r.2.mem ((c.tc : Thread Cert.SsmActBwdIdeal.nD Cert.SsmActBwdIdeal.τ).loc Cert.SsmActBwdIdeal.main_arg0) = m ((c.tc : Thread Cert.SsmActBwdIdeal.nD Cert.SsmActBwdIdeal.τ).loc Cert.SsmActBwdIdeal.main_arg0)
      ∧ r.2.mem ((c.tc : Thread Cert.SsmActBwdIdeal.nD Cert.SsmActBwdIdeal.τ).loc Cert.SsmActBwdIdeal.main_arg1) = m ((c.tc : Thread Cert.SsmActBwdIdeal.nD Cert.SsmActBwdIdeal.τ).loc Cert.SsmActBwdIdeal.main_arg1)
      ∧ r.2.mem ((c.tc : Thread Cert.SsmActBwdIdeal.nD Cert.SsmActBwdIdeal.τ).loc Cert.SsmActBwdIdeal.main_arg2) = m ((c.tc : Thread Cert.SsmActBwdIdeal.nD Cert.SsmActBwdIdeal.τ).loc Cert.SsmActBwdIdeal.main_arg2)
      ∧ r.2.mem ((c.tc : Thread Cert.SsmActBwdIdeal.nD Cert.SsmActBwdIdeal.τ).loc Cert.SsmActBwdIdeal.main_arg3) = m ((c.tc : Thread Cert.SsmActBwdIdeal.nD Cert.SsmActBwdIdeal.τ).loc Cert.SsmActBwdIdeal.main_arg3))
      ∧ r.2.sem = fun _ => 0)

def quiescent_SsmActBwdRefIdeal [hSsmActBwdRefIdeal : Cert.SsmActBwdRefIdeal.Facts] : Prop :=
  ∀ (m : (ℓ : Loc Cert.SsmActBwdRefIdeal.nD Cert.SsmActBwdRefIdeal.τ Cert.SsmActBwdRefIdeal.sig) → Buf (Elt Ideal) ℓ) (g : Dev Cert.SsmActBwdRefIdeal.nD → PrngReg), Pre_SsmActBwdRefIdeal m →
    θ_run (Cert.SsmActBwdRefIdeal.defs (F := Ideal)) (onTc (τ := Cert.SsmActBwdRefIdeal.τ) (Cert.SsmActBwdRefIdeal.main (F := Ideal))) ⟨m, fun _ => 0, g⟩ (fun r => (∀ c : Dev Cert.SsmActBwdRefIdeal.nD,
      r.2.mem ((c.tc : Thread Cert.SsmActBwdRefIdeal.nD Cert.SsmActBwdRefIdeal.τ).loc Cert.SsmActBwdRefIdeal.main_arg0) = m ((c.tc : Thread Cert.SsmActBwdRefIdeal.nD Cert.SsmActBwdRefIdeal.τ).loc Cert.SsmActBwdRefIdeal.main_arg0)
      ∧ r.2.mem ((c.tc : Thread Cert.SsmActBwdRefIdeal.nD Cert.SsmActBwdRefIdeal.τ).loc Cert.SsmActBwdRefIdeal.main_arg1) = m ((c.tc : Thread Cert.SsmActBwdRefIdeal.nD Cert.SsmActBwdRefIdeal.τ).loc Cert.SsmActBwdRefIdeal.main_arg1)
      ∧ r.2.mem ((c.tc : Thread Cert.SsmActBwdRefIdeal.nD Cert.SsmActBwdRefIdeal.τ).loc Cert.SsmActBwdRefIdeal.main_arg2) = m ((c.tc : Thread Cert.SsmActBwdRefIdeal.nD Cert.SsmActBwdRefIdeal.τ).loc Cert.SsmActBwdRefIdeal.main_arg2)
      ∧ r.2.mem ((c.tc : Thread Cert.SsmActBwdRefIdeal.nD Cert.SsmActBwdRefIdeal.τ).loc Cert.SsmActBwdRefIdeal.main_arg3) = m ((c.tc : Thread Cert.SsmActBwdRefIdeal.nD Cert.SsmActBwdRefIdeal.τ).loc Cert.SsmActBwdRefIdeal.main_arg3))
      ∧ r.2.sem = fun _ => 0)

def quiescent_SsmActBwdRefIdeal_pre_finite_ssm_act_bwd [hSsmActBwdRefIdeal : Cert.SsmActBwdRefIdeal.Facts] [hPre_finite_ssm_act_bwd : Cert.Pre_finite_ssm_act_bwd.Facts] : Prop :=
  ∀ (m : (ℓ : Loc Cert.SsmActBwdRefIdeal.nD Cert.SsmActBwdRefIdeal.τ Cert.SsmActBwdRefIdeal.sig) → Buf (Elt Ideal) ℓ) (g : Dev Cert.SsmActBwdRefIdeal.nD → PrngReg), Pre_SsmActBwdRefIdeal_finite_ssm_act_bwd m →
    θ_run (Cert.SsmActBwdRefIdeal.defs (F := Ideal)) (onTc (τ := Cert.SsmActBwdRefIdeal.τ) (Cert.SsmActBwdRefIdeal.main (F := Ideal))) ⟨m, fun _ => 0, g⟩ (fun r => (∀ c : Dev Cert.SsmActBwdRefIdeal.nD,
      r.2.mem ((c.tc : Thread Cert.SsmActBwdRefIdeal.nD Cert.SsmActBwdRefIdeal.τ).loc Cert.SsmActBwdRefIdeal.main_arg0) = m ((c.tc : Thread Cert.SsmActBwdRefIdeal.nD Cert.SsmActBwdRefIdeal.τ).loc Cert.SsmActBwdRefIdeal.main_arg0)
      ∧ r.2.mem ((c.tc : Thread Cert.SsmActBwdRefIdeal.nD Cert.SsmActBwdRefIdeal.τ).loc Cert.SsmActBwdRefIdeal.main_arg1) = m ((c.tc : Thread Cert.SsmActBwdRefIdeal.nD Cert.SsmActBwdRefIdeal.τ).loc Cert.SsmActBwdRefIdeal.main_arg1)
      ∧ r.2.mem ((c.tc : Thread Cert.SsmActBwdRefIdeal.nD Cert.SsmActBwdRefIdeal.τ).loc Cert.SsmActBwdRefIdeal.main_arg2) = m ((c.tc : Thread Cert.SsmActBwdRefIdeal.nD Cert.SsmActBwdRefIdeal.τ).loc Cert.SsmActBwdRefIdeal.main_arg2)
      ∧ r.2.mem ((c.tc : Thread Cert.SsmActBwdRefIdeal.nD Cert.SsmActBwdRefIdeal.τ).loc Cert.SsmActBwdRefIdeal.main_arg3) = m ((c.tc : Thread Cert.SsmActBwdRefIdeal.nD Cert.SsmActBwdRefIdeal.τ).loc Cert.SsmActBwdRefIdeal.main_arg3))
      ∧ r.2.sem = fun _ => 0)

def quiescent_PrenormBwd [hPrenormBwd : Cert.PrenormBwd.Facts] : Prop :=
  ∀ (m : (ℓ : Loc Cert.PrenormBwd.nD Cert.PrenormBwd.τ Cert.PrenormBwd.sig) → Buf (Elt Bits) ℓ) (g : Dev Cert.PrenormBwd.nD → PrngReg), Pre_PrenormBwd m →
    θ_run (Cert.PrenormBwd.defs (F := Bits)) (onTc (τ := Cert.PrenormBwd.τ) (Cert.PrenormBwd.main (F := Bits))) ⟨m, fun _ => 0, g⟩ (fun r => (∀ c : Dev Cert.PrenormBwd.nD,
      r.2.mem ((c.tc : Thread Cert.PrenormBwd.nD Cert.PrenormBwd.τ).loc Cert.PrenormBwd.main_arg0) = m ((c.tc : Thread Cert.PrenormBwd.nD Cert.PrenormBwd.τ).loc Cert.PrenormBwd.main_arg0)
      ∧ r.2.mem ((c.tc : Thread Cert.PrenormBwd.nD Cert.PrenormBwd.τ).loc Cert.PrenormBwd.main_arg1) = m ((c.tc : Thread Cert.PrenormBwd.nD Cert.PrenormBwd.τ).loc Cert.PrenormBwd.main_arg1)
      ∧ r.2.mem ((c.tc : Thread Cert.PrenormBwd.nD Cert.PrenormBwd.τ).loc Cert.PrenormBwd.main_arg2) = m ((c.tc : Thread Cert.PrenormBwd.nD Cert.PrenormBwd.τ).loc Cert.PrenormBwd.main_arg2)
      ∧ r.2.mem ((c.tc : Thread Cert.PrenormBwd.nD Cert.PrenormBwd.τ).loc Cert.PrenormBwd.main_arg3) = m ((c.tc : Thread Cert.PrenormBwd.nD Cert.PrenormBwd.τ).loc Cert.PrenormBwd.main_arg3)
      ∧ r.2.mem ((c.tc : Thread Cert.PrenormBwd.nD Cert.PrenormBwd.τ).loc Cert.PrenormBwd.main_arg4) = m ((c.tc : Thread Cert.PrenormBwd.nD Cert.PrenormBwd.τ).loc Cert.PrenormBwd.main_arg4)
      ∧ r.2.mem ((c.tc : Thread Cert.PrenormBwd.nD Cert.PrenormBwd.τ).loc Cert.PrenormBwd.main_arg5) = m ((c.tc : Thread Cert.PrenormBwd.nD Cert.PrenormBwd.τ).loc Cert.PrenormBwd.main_arg5))
      ∧ r.2.sem = fun _ => 0)

def quiescent_PrenormBwdIdeal [hPrenormBwdIdeal : Cert.PrenormBwdIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4)
      ∧ r.2.mem ((c.tc : Thread Cert.PrenormBwdIdeal.nD Cert.PrenormBwdIdeal.τ).loc Cert.PrenormBwdIdeal.main_arg5) = m ((c.tc : Thread Cert.PrenormBwdIdeal.nD Cert.PrenormBwdIdeal.τ).loc Cert.PrenormBwdIdeal.main_arg5))
      ∧ r.2.sem = fun _ => 0)

def quiescent_PrenormBwdIdeal_pre_finite_prenorm_bwd [hPrenormBwdIdeal : Cert.PrenormBwdIdeal.Facts] [hPre_finite_prenorm_bwd : Cert.Pre_finite_prenorm_bwd.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal_finite_prenorm_bwd m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4)
      ∧ r.2.mem ((c.tc : Thread Cert.PrenormBwdIdeal.nD Cert.PrenormBwdIdeal.τ).loc Cert.PrenormBwdIdeal.main_arg5) = m ((c.tc : Thread Cert.PrenormBwdIdeal.nD Cert.PrenormBwdIdeal.τ).loc Cert.PrenormBwdIdeal.main_arg5))
      ∧ r.2.sem = fun _ => 0)

def quiescent_PrenormBwdRefIdeal [hPrenormBwdRefIdeal : Cert.PrenormBwdRefIdeal.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4)
      ∧ r.2.mem ((c.tc : Thread Cert.PrenormBwdRefIdeal.nD Cert.PrenormBwdRefIdeal.τ).loc Cert.PrenormBwdRefIdeal.main_arg5) = m ((c.tc : Thread Cert.PrenormBwdRefIdeal.nD Cert.PrenormBwdRefIdeal.τ).loc Cert.PrenormBwdRefIdeal.main_arg5))
      ∧ r.2.sem = fun _ => 0)

def quiescent_PrenormBwdRefIdeal_pre_finite_prenorm_bwd [hPrenormBwdRefIdeal : Cert.PrenormBwdRefIdeal.Facts] [hPre_finite_prenorm_bwd : Cert.Pre_finite_prenorm_bwd.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal_finite_prenorm_bwd m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4)
      ∧ r.2.mem ((c.tc : Thread Cert.PrenormBwdRefIdeal.nD Cert.PrenormBwdRefIdeal.τ).loc Cert.PrenormBwdRefIdeal.main_arg5) = m ((c.tc : Thread Cert.PrenormBwdRefIdeal.nD Cert.PrenormBwdRefIdeal.τ).loc Cert.PrenormBwdRefIdeal.main_arg5))
      ∧ r.2.sem = fun _ => 0)

def quiescent_LastShell [hLastShell : Cert.LastShell.Facts] : Prop :=
  ∀ (m : (ℓ : Loc Cert.LastShell.nD Cert.LastShell.τ Cert.LastShell.sig) → Buf (Elt Bits) ℓ) (g : Dev Cert.LastShell.nD → PrngReg), Pre_LastShell m →
    θ_run (Cert.LastShell.defs (F := Bits)) (onTc (τ := Cert.LastShell.τ) (Cert.LastShell.main (F := Bits))) ⟨m, fun _ => 0, g⟩ (fun r => (∀ c : Dev Cert.LastShell.nD,
      r.2.mem ((c.tc : Thread Cert.LastShell.nD Cert.LastShell.τ).loc Cert.LastShell.main_arg0) = m ((c.tc : Thread Cert.LastShell.nD Cert.LastShell.τ).loc Cert.LastShell.main_arg0)
      ∧ r.2.mem ((c.tc : Thread Cert.LastShell.nD Cert.LastShell.τ).loc Cert.LastShell.main_arg1) = m ((c.tc : Thread Cert.LastShell.nD Cert.LastShell.τ).loc Cert.LastShell.main_arg1)
      ∧ r.2.mem ((c.tc : Thread Cert.LastShell.nD Cert.LastShell.τ).loc Cert.LastShell.main_arg2) = m ((c.tc : Thread Cert.LastShell.nD Cert.LastShell.τ).loc Cert.LastShell.main_arg2)
      ∧ r.2.mem ((c.tc : Thread Cert.LastShell.nD Cert.LastShell.τ).loc Cert.LastShell.main_arg3) = m ((c.tc : Thread Cert.LastShell.nD Cert.LastShell.τ).loc Cert.LastShell.main_arg3)
      ∧ r.2.mem ((c.tc : Thread Cert.LastShell.nD Cert.LastShell.τ).loc Cert.LastShell.main_arg4) = m ((c.tc : Thread Cert.LastShell.nD Cert.LastShell.τ).loc Cert.LastShell.main_arg4)
      ∧ r.2.mem ((c.tc : Thread Cert.LastShell.nD Cert.LastShell.τ).loc Cert.LastShell.main_arg5) = m ((c.tc : Thread Cert.LastShell.nD Cert.LastShell.τ).loc Cert.LastShell.main_arg5))
      ∧ r.2.sem = fun _ => 0)

def quiescent_LastShellIdeal [hLastShellIdeal : Cert.LastShellIdeal.Facts] : Prop :=
  ∀ (m : (ℓ : Loc Cert.LastShellIdeal.nD Cert.LastShellIdeal.τ Cert.LastShellIdeal.sig) → Buf (Elt Ideal) ℓ) (g : Dev Cert.LastShellIdeal.nD → PrngReg), Pre_LastShellIdeal m →
    θ_run (Cert.LastShellIdeal.defs (F := Ideal)) (onTc (τ := Cert.LastShellIdeal.τ) (Cert.LastShellIdeal.main (F := Ideal))) ⟨m, fun _ => 0, g⟩ (fun r => (∀ c : Dev Cert.LastShellIdeal.nD,
      r.2.mem ((c.tc : Thread Cert.LastShellIdeal.nD Cert.LastShellIdeal.τ).loc Cert.LastShellIdeal.main_arg0) = m ((c.tc : Thread Cert.LastShellIdeal.nD Cert.LastShellIdeal.τ).loc Cert.LastShellIdeal.main_arg0)
      ∧ r.2.mem ((c.tc : Thread Cert.LastShellIdeal.nD Cert.LastShellIdeal.τ).loc Cert.LastShellIdeal.main_arg1) = m ((c.tc : Thread Cert.LastShellIdeal.nD Cert.LastShellIdeal.τ).loc Cert.LastShellIdeal.main_arg1)
      ∧ r.2.mem ((c.tc : Thread Cert.LastShellIdeal.nD Cert.LastShellIdeal.τ).loc Cert.LastShellIdeal.main_arg2) = m ((c.tc : Thread Cert.LastShellIdeal.nD Cert.LastShellIdeal.τ).loc Cert.LastShellIdeal.main_arg2)
      ∧ r.2.mem ((c.tc : Thread Cert.LastShellIdeal.nD Cert.LastShellIdeal.τ).loc Cert.LastShellIdeal.main_arg3) = m ((c.tc : Thread Cert.LastShellIdeal.nD Cert.LastShellIdeal.τ).loc Cert.LastShellIdeal.main_arg3)
      ∧ r.2.mem ((c.tc : Thread Cert.LastShellIdeal.nD Cert.LastShellIdeal.τ).loc Cert.LastShellIdeal.main_arg4) = m ((c.tc : Thread Cert.LastShellIdeal.nD Cert.LastShellIdeal.τ).loc Cert.LastShellIdeal.main_arg4)
      ∧ r.2.mem ((c.tc : Thread Cert.LastShellIdeal.nD Cert.LastShellIdeal.τ).loc Cert.LastShellIdeal.main_arg5) = m ((c.tc : Thread Cert.LastShellIdeal.nD Cert.LastShellIdeal.τ).loc Cert.LastShellIdeal.main_arg5))
      ∧ r.2.sem = fun _ => 0)

def quiescent_LastShellIdeal_pre_finite_last_shell [hLastShellIdeal : Cert.LastShellIdeal.Facts] [hPre_finite_last_shell : Cert.Pre_finite_last_shell.Facts] : Prop :=
  ∀ (m : (ℓ : Loc Cert.LastShellIdeal.nD Cert.LastShellIdeal.τ Cert.LastShellIdeal.sig) → Buf (Elt Ideal) ℓ) (g : Dev Cert.LastShellIdeal.nD → PrngReg), Pre_LastShellIdeal_finite_last_shell m →
    θ_run (Cert.LastShellIdeal.defs (F := Ideal)) (onTc (τ := Cert.LastShellIdeal.τ) (Cert.LastShellIdeal.main (F := Ideal))) ⟨m, fun _ => 0, g⟩ (fun r => (∀ c : Dev Cert.LastShellIdeal.nD,
      r.2.mem ((c.tc : Thread Cert.LastShellIdeal.nD Cert.LastShellIdeal.τ).loc Cert.LastShellIdeal.main_arg0) = m ((c.tc : Thread Cert.LastShellIdeal.nD Cert.LastShellIdeal.τ).loc Cert.LastShellIdeal.main_arg0)
      ∧ r.2.mem ((c.tc : Thread Cert.LastShellIdeal.nD Cert.LastShellIdeal.τ).loc Cert.LastShellIdeal.main_arg1) = m ((c.tc : Thread Cert.LastShellIdeal.nD Cert.LastShellIdeal.τ).loc Cert.LastShellIdeal.main_arg1)
      ∧ r.2.mem ((c.tc : Thread Cert.LastShellIdeal.nD Cert.LastShellIdeal.τ).loc Cert.LastShellIdeal.main_arg2) = m ((c.tc : Thread Cert.LastShellIdeal.nD Cert.LastShellIdeal.τ).loc Cert.LastShellIdeal.main_arg2)
      ∧ r.2.mem ((c.tc : Thread Cert.LastShellIdeal.nD Cert.LastShellIdeal.τ).loc Cert.LastShellIdeal.main_arg3) = m ((c.tc : Thread Cert.LastShellIdeal.nD Cert.LastShellIdeal.τ).loc Cert.LastShellIdeal.main_arg3)
      ∧ r.2.mem ((c.tc : Thread Cert.LastShellIdeal.nD Cert.LastShellIdeal.τ).loc Cert.LastShellIdeal.main_arg4) = m ((c.tc : Thread Cert.LastShellIdeal.nD Cert.LastShellIdeal.τ).loc Cert.LastShellIdeal.main_arg4)
      ∧ r.2.mem ((c.tc : Thread Cert.LastShellIdeal.nD Cert.LastShellIdeal.τ).loc Cert.LastShellIdeal.main_arg5) = m ((c.tc : Thread Cert.LastShellIdeal.nD Cert.LastShellIdeal.τ).loc Cert.LastShellIdeal.main_arg5))
      ∧ r.2.sem = fun _ => 0)

def quiescent_LastShellRefIdeal [hLastShellRefIdeal : Cert.LastShellRefIdeal.Facts] : Prop :=
  ∀ (m : (ℓ : Loc Cert.LastShellRefIdeal.nD Cert.LastShellRefIdeal.τ Cert.LastShellRefIdeal.sig) → Buf (Elt Ideal) ℓ) (g : Dev Cert.LastShellRefIdeal.nD → PrngReg), Pre_LastShellRefIdeal m →
    θ_run (Cert.LastShellRefIdeal.defs (F := Ideal)) (onTc (τ := Cert.LastShellRefIdeal.τ) (Cert.LastShellRefIdeal.main (F := Ideal))) ⟨m, fun _ => 0, g⟩ (fun r => (∀ c : Dev Cert.LastShellRefIdeal.nD,
      r.2.mem ((c.tc : Thread Cert.LastShellRefIdeal.nD Cert.LastShellRefIdeal.τ).loc Cert.LastShellRefIdeal.main_arg0) = m ((c.tc : Thread Cert.LastShellRefIdeal.nD Cert.LastShellRefIdeal.τ).loc Cert.LastShellRefIdeal.main_arg0)
      ∧ r.2.mem ((c.tc : Thread Cert.LastShellRefIdeal.nD Cert.LastShellRefIdeal.τ).loc Cert.LastShellRefIdeal.main_arg1) = m ((c.tc : Thread Cert.LastShellRefIdeal.nD Cert.LastShellRefIdeal.τ).loc Cert.LastShellRefIdeal.main_arg1)
      ∧ r.2.mem ((c.tc : Thread Cert.LastShellRefIdeal.nD Cert.LastShellRefIdeal.τ).loc Cert.LastShellRefIdeal.main_arg2) = m ((c.tc : Thread Cert.LastShellRefIdeal.nD Cert.LastShellRefIdeal.τ).loc Cert.LastShellRefIdeal.main_arg2)
      ∧ r.2.mem ((c.tc : Thread Cert.LastShellRefIdeal.nD Cert.LastShellRefIdeal.τ).loc Cert.LastShellRefIdeal.main_arg3) = m ((c.tc : Thread Cert.LastShellRefIdeal.nD Cert.LastShellRefIdeal.τ).loc Cert.LastShellRefIdeal.main_arg3)
      ∧ r.2.mem ((c.tc : Thread Cert.LastShellRefIdeal.nD Cert.LastShellRefIdeal.τ).loc Cert.LastShellRefIdeal.main_arg4) = m ((c.tc : Thread Cert.LastShellRefIdeal.nD Cert.LastShellRefIdeal.τ).loc Cert.LastShellRefIdeal.main_arg4)
      ∧ r.2.mem ((c.tc : Thread Cert.LastShellRefIdeal.nD Cert.LastShellRefIdeal.τ).loc Cert.LastShellRefIdeal.main_arg5) = m ((c.tc : Thread Cert.LastShellRefIdeal.nD Cert.LastShellRefIdeal.τ).loc Cert.LastShellRefIdeal.main_arg5))
      ∧ r.2.sem = fun _ => 0)

def quiescent_LastShellRefIdeal_pre_finite_last_shell [hLastShellRefIdeal : Cert.LastShellRefIdeal.Facts] [hPre_finite_last_shell : Cert.Pre_finite_last_shell.Facts] : Prop :=
  ∀ (m : (ℓ : Loc Cert.LastShellRefIdeal.nD Cert.LastShellRefIdeal.τ Cert.LastShellRefIdeal.sig) → Buf (Elt Ideal) ℓ) (g : Dev Cert.LastShellRefIdeal.nD → PrngReg), Pre_LastShellRefIdeal_finite_last_shell m →
    θ_run (Cert.LastShellRefIdeal.defs (F := Ideal)) (onTc (τ := Cert.LastShellRefIdeal.τ) (Cert.LastShellRefIdeal.main (F := Ideal))) ⟨m, fun _ => 0, g⟩ (fun r => (∀ c : Dev Cert.LastShellRefIdeal.nD,
      r.2.mem ((c.tc : Thread Cert.LastShellRefIdeal.nD Cert.LastShellRefIdeal.τ).loc Cert.LastShellRefIdeal.main_arg0) = m ((c.tc : Thread Cert.LastShellRefIdeal.nD Cert.LastShellRefIdeal.τ).loc Cert.LastShellRefIdeal.main_arg0)
      ∧ r.2.mem ((c.tc : Thread Cert.LastShellRefIdeal.nD Cert.LastShellRefIdeal.τ).loc Cert.LastShellRefIdeal.main_arg1) = m ((c.tc : Thread Cert.LastShellRefIdeal.nD Cert.LastShellRefIdeal.τ).loc Cert.LastShellRefIdeal.main_arg1)
      ∧ r.2.mem ((c.tc : Thread Cert.LastShellRefIdeal.nD Cert.LastShellRefIdeal.τ).loc Cert.LastShellRefIdeal.main_arg2) = m ((c.tc : Thread Cert.LastShellRefIdeal.nD Cert.LastShellRefIdeal.τ).loc Cert.LastShellRefIdeal.main_arg2)
      ∧ r.2.mem ((c.tc : Thread Cert.LastShellRefIdeal.nD Cert.LastShellRefIdeal.τ).loc Cert.LastShellRefIdeal.main_arg3) = m ((c.tc : Thread Cert.LastShellRefIdeal.nD Cert.LastShellRefIdeal.τ).loc Cert.LastShellRefIdeal.main_arg3)
      ∧ r.2.mem ((c.tc : Thread Cert.LastShellRefIdeal.nD Cert.LastShellRefIdeal.τ).loc Cert.LastShellRefIdeal.main_arg4) = m ((c.tc : Thread Cert.LastShellRefIdeal.nD Cert.LastShellRefIdeal.τ).loc Cert.LastShellRefIdeal.main_arg4)
      ∧ r.2.mem ((c.tc : Thread Cert.LastShellRefIdeal.nD Cert.LastShellRefIdeal.τ).loc Cert.LastShellRefIdeal.main_arg5) = m ((c.tc : Thread Cert.LastShellRefIdeal.nD Cert.LastShellRefIdeal.τ).loc Cert.LastShellRefIdeal.main_arg5))
      ∧ r.2.sem = fun _ => 0)

def quiescent_SsmDu [hSsmDu : Cert.SsmDu.Facts] : Prop :=
  ∀ (m : (ℓ : Loc Cert.SsmDu.nD Cert.SsmDu.τ Cert.SsmDu.sig) → Buf (Elt Bits) ℓ) (g : Dev Cert.SsmDu.nD → PrngReg), Pre_SsmDu m →
    θ_run (Cert.SsmDu.defs (F := Bits)) (onTc (τ := Cert.SsmDu.τ) (Cert.SsmDu.main (F := Bits))) ⟨m, fun _ => 0, g⟩ (fun r => (∀ c : Dev Cert.SsmDu.nD,
      r.2.mem ((c.tc : Thread Cert.SsmDu.nD Cert.SsmDu.τ).loc Cert.SsmDu.main_arg0) = m ((c.tc : Thread Cert.SsmDu.nD Cert.SsmDu.τ).loc Cert.SsmDu.main_arg0)
      ∧ r.2.mem ((c.tc : Thread Cert.SsmDu.nD Cert.SsmDu.τ).loc Cert.SsmDu.main_arg1) = m ((c.tc : Thread Cert.SsmDu.nD Cert.SsmDu.τ).loc Cert.SsmDu.main_arg1)
      ∧ r.2.mem ((c.tc : Thread Cert.SsmDu.nD Cert.SsmDu.τ).loc Cert.SsmDu.main_arg2) = m ((c.tc : Thread Cert.SsmDu.nD Cert.SsmDu.τ).loc Cert.SsmDu.main_arg2))
      ∧ r.2.sem = fun _ => 0)

def quiescent_SsmDuIdeal [hSsmDuIdeal : Cert.SsmDuIdeal.Facts] : Prop :=
  ∀ (m : (ℓ : Loc Cert.SsmDuIdeal.nD Cert.SsmDuIdeal.τ Cert.SsmDuIdeal.sig) → Buf (Elt Ideal) ℓ) (g : Dev Cert.SsmDuIdeal.nD → PrngReg), Pre_SsmDuIdeal m →
    θ_run (Cert.SsmDuIdeal.defs (F := Ideal)) (onTc (τ := Cert.SsmDuIdeal.τ) (Cert.SsmDuIdeal.main (F := Ideal))) ⟨m, fun _ => 0, g⟩ (fun r => (∀ c : Dev Cert.SsmDuIdeal.nD,
      r.2.mem ((c.tc : Thread Cert.SsmDuIdeal.nD Cert.SsmDuIdeal.τ).loc Cert.SsmDuIdeal.main_arg0) = m ((c.tc : Thread Cert.SsmDuIdeal.nD Cert.SsmDuIdeal.τ).loc Cert.SsmDuIdeal.main_arg0)
      ∧ r.2.mem ((c.tc : Thread Cert.SsmDuIdeal.nD Cert.SsmDuIdeal.τ).loc Cert.SsmDuIdeal.main_arg1) = m ((c.tc : Thread Cert.SsmDuIdeal.nD Cert.SsmDuIdeal.τ).loc Cert.SsmDuIdeal.main_arg1)
      ∧ r.2.mem ((c.tc : Thread Cert.SsmDuIdeal.nD Cert.SsmDuIdeal.τ).loc Cert.SsmDuIdeal.main_arg2) = m ((c.tc : Thread Cert.SsmDuIdeal.nD Cert.SsmDuIdeal.τ).loc Cert.SsmDuIdeal.main_arg2))
      ∧ r.2.sem = fun _ => 0)

def quiescent_SsmDuRefIdeal [hSsmDuRefIdeal : Cert.SsmDuRefIdeal.Facts] : Prop :=
  ∀ (m : (ℓ : Loc Cert.SsmDuRefIdeal.nD Cert.SsmDuRefIdeal.τ Cert.SsmDuRefIdeal.sig) → Buf (Elt Ideal) ℓ) (g : Dev Cert.SsmDuRefIdeal.nD → PrngReg), Pre_SsmDuRefIdeal m →
    θ_run (Cert.SsmDuRefIdeal.defs (F := Ideal)) (onTc (τ := Cert.SsmDuRefIdeal.τ) (Cert.SsmDuRefIdeal.main (F := Ideal))) ⟨m, fun _ => 0, g⟩ (fun r => (∀ c : Dev Cert.SsmDuRefIdeal.nD,
      r.2.mem ((c.tc : Thread Cert.SsmDuRefIdeal.nD Cert.SsmDuRefIdeal.τ).loc Cert.SsmDuRefIdeal.main_arg0) = m ((c.tc : Thread Cert.SsmDuRefIdeal.nD Cert.SsmDuRefIdeal.τ).loc Cert.SsmDuRefIdeal.main_arg0)
      ∧ r.2.mem ((c.tc : Thread Cert.SsmDuRefIdeal.nD Cert.SsmDuRefIdeal.τ).loc Cert.SsmDuRefIdeal.main_arg1) = m ((c.tc : Thread Cert.SsmDuRefIdeal.nD Cert.SsmDuRefIdeal.τ).loc Cert.SsmDuRefIdeal.main_arg1)
      ∧ r.2.mem ((c.tc : Thread Cert.SsmDuRefIdeal.nD Cert.SsmDuRefIdeal.τ).loc Cert.SsmDuRefIdeal.main_arg2) = m ((c.tc : Thread Cert.SsmDuRefIdeal.nD Cert.SsmDuRefIdeal.τ).loc Cert.SsmDuRefIdeal.main_arg2))
      ∧ r.2.sem = fun _ => 0)

def quiescent_AdaWGrad [hAdaWGrad : Cert.AdaWGrad.Facts] : Prop :=
  ∀ (m : (ℓ : Loc Cert.AdaWGrad.nD Cert.AdaWGrad.τ Cert.AdaWGrad.sig) → Buf (Elt Bits) ℓ) (g : Dev Cert.AdaWGrad.nD → PrngReg), Pre_AdaWGrad m →
    θ_run (Cert.AdaWGrad.defs (F := Bits)) (onTc (τ := Cert.AdaWGrad.τ) (Cert.AdaWGrad.main (F := Bits))) ⟨m, fun _ => 0, g⟩ (fun r => (∀ c : Dev Cert.AdaWGrad.nD,
      r.2.mem ((c.tc : Thread Cert.AdaWGrad.nD Cert.AdaWGrad.τ).loc Cert.AdaWGrad.main_arg0) = m ((c.tc : Thread Cert.AdaWGrad.nD Cert.AdaWGrad.τ).loc Cert.AdaWGrad.main_arg0)
      ∧ r.2.mem ((c.tc : Thread Cert.AdaWGrad.nD Cert.AdaWGrad.τ).loc Cert.AdaWGrad.main_arg1) = m ((c.tc : Thread Cert.AdaWGrad.nD Cert.AdaWGrad.τ).loc Cert.AdaWGrad.main_arg1))
      ∧ r.2.sem = fun _ => 0)

def quiescent_AdaWGradIdeal [hAdaWGradIdeal : Cert.AdaWGradIdeal.Facts] : Prop :=
  ∀ (m : (ℓ : Loc Cert.AdaWGradIdeal.nD Cert.AdaWGradIdeal.τ Cert.AdaWGradIdeal.sig) → Buf (Elt Ideal) ℓ) (g : Dev Cert.AdaWGradIdeal.nD → PrngReg), Pre_AdaWGradIdeal m →
    θ_run (Cert.AdaWGradIdeal.defs (F := Ideal)) (onTc (τ := Cert.AdaWGradIdeal.τ) (Cert.AdaWGradIdeal.main (F := Ideal))) ⟨m, fun _ => 0, g⟩ (fun r => (∀ c : Dev Cert.AdaWGradIdeal.nD,
      r.2.mem ((c.tc : Thread Cert.AdaWGradIdeal.nD Cert.AdaWGradIdeal.τ).loc Cert.AdaWGradIdeal.main_arg0) = m ((c.tc : Thread Cert.AdaWGradIdeal.nD Cert.AdaWGradIdeal.τ).loc Cert.AdaWGradIdeal.main_arg0)
      ∧ r.2.mem ((c.tc : Thread Cert.AdaWGradIdeal.nD Cert.AdaWGradIdeal.τ).loc Cert.AdaWGradIdeal.main_arg1) = m ((c.tc : Thread Cert.AdaWGradIdeal.nD Cert.AdaWGradIdeal.τ).loc Cert.AdaWGradIdeal.main_arg1))
      ∧ r.2.sem = fun _ => 0)

def quiescent_AdaWGradRefIdeal [hAdaWGradRefIdeal : Cert.AdaWGradRefIdeal.Facts] : Prop :=
  ∀ (m : (ℓ : Loc Cert.AdaWGradRefIdeal.nD Cert.AdaWGradRefIdeal.τ Cert.AdaWGradRefIdeal.sig) → Buf (Elt Ideal) ℓ) (g : Dev Cert.AdaWGradRefIdeal.nD → PrngReg), Pre_AdaWGradRefIdeal m →
    θ_run (Cert.AdaWGradRefIdeal.defs (F := Ideal)) (onTc (τ := Cert.AdaWGradRefIdeal.τ) (Cert.AdaWGradRefIdeal.main (F := Ideal))) ⟨m, fun _ => 0, g⟩ (fun r => (∀ c : Dev Cert.AdaWGradRefIdeal.nD,
      r.2.mem ((c.tc : Thread Cert.AdaWGradRefIdeal.nD Cert.AdaWGradRefIdeal.τ).loc Cert.AdaWGradRefIdeal.main_arg0) = m ((c.tc : Thread Cert.AdaWGradRefIdeal.nD Cert.AdaWGradRefIdeal.τ).loc Cert.AdaWGradRefIdeal.main_arg0)
      ∧ r.2.mem ((c.tc : Thread Cert.AdaWGradRefIdeal.nD Cert.AdaWGradRefIdeal.τ).loc Cert.AdaWGradRefIdeal.main_arg1) = m ((c.tc : Thread Cert.AdaWGradRefIdeal.nD Cert.AdaWGradRefIdeal.τ).loc Cert.AdaWGradRefIdeal.main_arg1))
      ∧ r.2.sem = fun _ => 0)

def quiescent_FfnSwiglu [hFfnSwiglu : Cert.FfnSwiglu.Facts] : Prop :=
  ∀ (m : (ℓ : Loc Cert.FfnSwiglu.nD Cert.FfnSwiglu.τ Cert.FfnSwiglu.sig) → Buf (Elt Bits) ℓ) (g : Dev Cert.FfnSwiglu.nD → PrngReg), Pre_FfnSwiglu m →
    θ_run (Cert.FfnSwiglu.defs (F := Bits)) (onTc (τ := Cert.FfnSwiglu.τ) (Cert.FfnSwiglu.main (F := Bits))) ⟨m, fun _ => 0, g⟩ (fun r => (∀ c : Dev Cert.FfnSwiglu.nD,
      r.2.mem ((c.tc : Thread Cert.FfnSwiglu.nD Cert.FfnSwiglu.τ).loc Cert.FfnSwiglu.main_arg0) = m ((c.tc : Thread Cert.FfnSwiglu.nD Cert.FfnSwiglu.τ).loc Cert.FfnSwiglu.main_arg0)
      ∧ r.2.mem ((c.tc : Thread Cert.FfnSwiglu.nD Cert.FfnSwiglu.τ).loc Cert.FfnSwiglu.main_arg1) = m ((c.tc : Thread Cert.FfnSwiglu.nD Cert.FfnSwiglu.τ).loc Cert.FfnSwiglu.main_arg1)
      ∧ r.2.mem ((c.tc : Thread Cert.FfnSwiglu.nD Cert.FfnSwiglu.τ).loc Cert.FfnSwiglu.main_arg2) = m ((c.tc : Thread Cert.FfnSwiglu.nD Cert.FfnSwiglu.τ).loc Cert.FfnSwiglu.main_arg2)
      ∧ r.2.mem ((c.tc : Thread Cert.FfnSwiglu.nD Cert.FfnSwiglu.τ).loc Cert.FfnSwiglu.main_arg3) = m ((c.tc : Thread Cert.FfnSwiglu.nD Cert.FfnSwiglu.τ).loc Cert.FfnSwiglu.main_arg3))
      ∧ r.2.sem = fun _ => 0)

def quiescent_FfnSwigluIdeal [hFfnSwigluIdeal : Cert.FfnSwigluIdeal.Facts] : Prop :=
  ∀ (m : (ℓ : Loc Cert.FfnSwigluIdeal.nD Cert.FfnSwigluIdeal.τ Cert.FfnSwigluIdeal.sig) → Buf (Elt Ideal) ℓ) (g : Dev Cert.FfnSwigluIdeal.nD → PrngReg), Pre_FfnSwigluIdeal m →
    θ_run (Cert.FfnSwigluIdeal.defs (F := Ideal)) (onTc (τ := Cert.FfnSwigluIdeal.τ) (Cert.FfnSwigluIdeal.main (F := Ideal))) ⟨m, fun _ => 0, g⟩ (fun r => (∀ c : Dev Cert.FfnSwigluIdeal.nD,
      r.2.mem ((c.tc : Thread Cert.FfnSwigluIdeal.nD Cert.FfnSwigluIdeal.τ).loc Cert.FfnSwigluIdeal.main_arg0) = m ((c.tc : Thread Cert.FfnSwigluIdeal.nD Cert.FfnSwigluIdeal.τ).loc Cert.FfnSwigluIdeal.main_arg0)
      ∧ r.2.mem ((c.tc : Thread Cert.FfnSwigluIdeal.nD Cert.FfnSwigluIdeal.τ).loc Cert.FfnSwigluIdeal.main_arg1) = m ((c.tc : Thread Cert.FfnSwigluIdeal.nD Cert.FfnSwigluIdeal.τ).loc Cert.FfnSwigluIdeal.main_arg1)
      ∧ r.2.mem ((c.tc : Thread Cert.FfnSwigluIdeal.nD Cert.FfnSwigluIdeal.τ).loc Cert.FfnSwigluIdeal.main_arg2) = m ((c.tc : Thread Cert.FfnSwigluIdeal.nD Cert.FfnSwigluIdeal.τ).loc Cert.FfnSwigluIdeal.main_arg2)
      ∧ r.2.mem ((c.tc : Thread Cert.FfnSwigluIdeal.nD Cert.FfnSwigluIdeal.τ).loc Cert.FfnSwigluIdeal.main_arg3) = m ((c.tc : Thread Cert.FfnSwigluIdeal.nD Cert.FfnSwigluIdeal.τ).loc Cert.FfnSwigluIdeal.main_arg3))
      ∧ r.2.sem = fun _ => 0)

def quiescent_FfnSwigluIdeal_pre_finite_ffn_swiglu [hFfnSwigluIdeal : Cert.FfnSwigluIdeal.Facts] [hPre_finite_ffn_swiglu : Cert.Pre_finite_ffn_swiglu.Facts] : Prop :=
  ∀ (m : (ℓ : Loc Cert.FfnSwigluIdeal.nD Cert.FfnSwigluIdeal.τ Cert.FfnSwigluIdeal.sig) → Buf (Elt Ideal) ℓ) (g : Dev Cert.FfnSwigluIdeal.nD → PrngReg), Pre_FfnSwigluIdeal_finite_ffn_swiglu m →
    θ_run (Cert.FfnSwigluIdeal.defs (F := Ideal)) (onTc (τ := Cert.FfnSwigluIdeal.τ) (Cert.FfnSwigluIdeal.main (F := Ideal))) ⟨m, fun _ => 0, g⟩ (fun r => (∀ c : Dev Cert.FfnSwigluIdeal.nD,
      r.2.mem ((c.tc : Thread Cert.FfnSwigluIdeal.nD Cert.FfnSwigluIdeal.τ).loc Cert.FfnSwigluIdeal.main_arg0) = m ((c.tc : Thread Cert.FfnSwigluIdeal.nD Cert.FfnSwigluIdeal.τ).loc Cert.FfnSwigluIdeal.main_arg0)
      ∧ r.2.mem ((c.tc : Thread Cert.FfnSwigluIdeal.nD Cert.FfnSwigluIdeal.τ).loc Cert.FfnSwigluIdeal.main_arg1) = m ((c.tc : Thread Cert.FfnSwigluIdeal.nD Cert.FfnSwigluIdeal.τ).loc Cert.FfnSwigluIdeal.main_arg1)
      ∧ r.2.mem ((c.tc : Thread Cert.FfnSwigluIdeal.nD Cert.FfnSwigluIdeal.τ).loc Cert.FfnSwigluIdeal.main_arg2) = m ((c.tc : Thread Cert.FfnSwigluIdeal.nD Cert.FfnSwigluIdeal.τ).loc Cert.FfnSwigluIdeal.main_arg2)
      ∧ r.2.mem ((c.tc : Thread Cert.FfnSwigluIdeal.nD Cert.FfnSwigluIdeal.τ).loc Cert.FfnSwigluIdeal.main_arg3) = m ((c.tc : Thread Cert.FfnSwigluIdeal.nD Cert.FfnSwigluIdeal.τ).loc Cert.FfnSwigluIdeal.main_arg3))
      ∧ r.2.sem = fun _ => 0)

def quiescent_FfnSwigluRefIdeal [hFfnSwigluRefIdeal : Cert.FfnSwigluRefIdeal.Facts] : Prop :=
  ∀ (m : (ℓ : Loc Cert.FfnSwigluRefIdeal.nD Cert.FfnSwigluRefIdeal.τ Cert.FfnSwigluRefIdeal.sig) → Buf (Elt Ideal) ℓ) (g : Dev Cert.FfnSwigluRefIdeal.nD → PrngReg), Pre_FfnSwigluRefIdeal m →
    θ_run (Cert.FfnSwigluRefIdeal.defs (F := Ideal)) (onTc (τ := Cert.FfnSwigluRefIdeal.τ) (Cert.FfnSwigluRefIdeal.main (F := Ideal))) ⟨m, fun _ => 0, g⟩ (fun r => (∀ c : Dev Cert.FfnSwigluRefIdeal.nD,
      r.2.mem ((c.tc : Thread Cert.FfnSwigluRefIdeal.nD Cert.FfnSwigluRefIdeal.τ).loc Cert.FfnSwigluRefIdeal.main_arg0) = m ((c.tc : Thread Cert.FfnSwigluRefIdeal.nD Cert.FfnSwigluRefIdeal.τ).loc Cert.FfnSwigluRefIdeal.main_arg0)
      ∧ r.2.mem ((c.tc : Thread Cert.FfnSwigluRefIdeal.nD Cert.FfnSwigluRefIdeal.τ).loc Cert.FfnSwigluRefIdeal.main_arg1) = m ((c.tc : Thread Cert.FfnSwigluRefIdeal.nD Cert.FfnSwigluRefIdeal.τ).loc Cert.FfnSwigluRefIdeal.main_arg1)
      ∧ r.2.mem ((c.tc : Thread Cert.FfnSwigluRefIdeal.nD Cert.FfnSwigluRefIdeal.τ).loc Cert.FfnSwigluRefIdeal.main_arg2) = m ((c.tc : Thread Cert.FfnSwigluRefIdeal.nD Cert.FfnSwigluRefIdeal.τ).loc Cert.FfnSwigluRefIdeal.main_arg2)
      ∧ r.2.mem ((c.tc : Thread Cert.FfnSwigluRefIdeal.nD Cert.FfnSwigluRefIdeal.τ).loc Cert.FfnSwigluRefIdeal.main_arg3) = m ((c.tc : Thread Cert.FfnSwigluRefIdeal.nD Cert.FfnSwigluRefIdeal.τ).loc Cert.FfnSwigluRefIdeal.main_arg3))
      ∧ r.2.sem = fun _ => 0)

def quiescent_FfnSwigluRefIdeal_pre_finite_ffn_swiglu [hFfnSwigluRefIdeal : Cert.FfnSwigluRefIdeal.Facts] [hPre_finite_ffn_swiglu : Cert.Pre_finite_ffn_swiglu.Facts] : Prop :=
  ∀ (m : (ℓ : Loc Cert.FfnSwigluRefIdeal.nD Cert.FfnSwigluRefIdeal.τ Cert.FfnSwigluRefIdeal.sig) → Buf (Elt Ideal) ℓ) (g : Dev Cert.FfnSwigluRefIdeal.nD → PrngReg), Pre_FfnSwigluRefIdeal_finite_ffn_swiglu m →
    θ_run (Cert.FfnSwigluRefIdeal.defs (F := Ideal)) (onTc (τ := Cert.FfnSwigluRefIdeal.τ) (Cert.FfnSwigluRefIdeal.main (F := Ideal))) ⟨m, fun _ => 0, g⟩ (fun r => (∀ c : Dev Cert.FfnSwigluRefIdeal.nD,
      r.2.mem ((c.tc : Thread Cert.FfnSwigluRefIdeal.nD Cert.FfnSwigluRefIdeal.τ).loc Cert.FfnSwigluRefIdeal.main_arg0) = m ((c.tc : Thread Cert.FfnSwigluRefIdeal.nD Cert.FfnSwigluRefIdeal.τ).loc Cert.FfnSwigluRefIdeal.main_arg0)
      ∧ r.2.mem ((c.tc : Thread Cert.FfnSwigluRefIdeal.nD Cert.FfnSwigluRefIdeal.τ).loc Cert.FfnSwigluRefIdeal.main_arg1) = m ((c.tc : Thread Cert.FfnSwigluRefIdeal.nD Cert.FfnSwigluRefIdeal.τ).loc Cert.FfnSwigluRefIdeal.main_arg1)
      ∧ r.2.mem ((c.tc : Thread Cert.FfnSwigluRefIdeal.nD Cert.FfnSwigluRefIdeal.τ).loc Cert.FfnSwigluRefIdeal.main_arg2) = m ((c.tc : Thread Cert.FfnSwigluRefIdeal.nD Cert.FfnSwigluRefIdeal.τ).loc Cert.FfnSwigluRefIdeal.main_arg2)
      ∧ r.2.mem ((c.tc : Thread Cert.FfnSwigluRefIdeal.nD Cert.FfnSwigluRefIdeal.τ).loc Cert.FfnSwigluRefIdeal.main_arg3) = m ((c.tc : Thread Cert.FfnSwigluRefIdeal.nD Cert.FfnSwigluRefIdeal.τ).loc Cert.FfnSwigluRefIdeal.main_arg3))
      ∧ r.2.sem = fun _ => 0)

def quiescent_PrePost [hPrePost : Cert.PrePost.Facts] : Prop :=
  ∀ (m : (ℓ : Loc Cert.PrePost.nD Cert.PrePost.τ Cert.PrePost.sig) → Buf (Elt Bits) ℓ) (g : Dev Cert.PrePost.nD → PrngReg), Pre_PrePost m →
    θ_run (Cert.PrePost.defs (F := Bits)) (onTc (τ := Cert.PrePost.τ) (Cert.PrePost.main (F := Bits))) ⟨m, fun _ => 0, g⟩ (fun r => (∀ c : Dev Cert.PrePost.nD,
      r.2.mem ((c.tc : Thread Cert.PrePost.nD Cert.PrePost.τ).loc Cert.PrePost.main_arg0) = m ((c.tc : Thread Cert.PrePost.nD Cert.PrePost.τ).loc Cert.PrePost.main_arg0)
      ∧ r.2.mem ((c.tc : Thread Cert.PrePost.nD Cert.PrePost.τ).loc Cert.PrePost.main_arg1) = m ((c.tc : Thread Cert.PrePost.nD Cert.PrePost.τ).loc Cert.PrePost.main_arg1)
      ∧ r.2.mem ((c.tc : Thread Cert.PrePost.nD Cert.PrePost.τ).loc Cert.PrePost.main_arg2) = m ((c.tc : Thread Cert.PrePost.nD Cert.PrePost.τ).loc Cert.PrePost.main_arg2)
      ∧ r.2.mem ((c.tc : Thread Cert.PrePost.nD Cert.PrePost.τ).loc Cert.PrePost.main_arg3) = m ((c.tc : Thread Cert.PrePost.nD Cert.PrePost.τ).loc Cert.PrePost.main_arg3)
      ∧ r.2.mem ((c.tc : Thread Cert.PrePost.nD Cert.PrePost.τ).loc Cert.PrePost.main_arg4) = m ((c.tc : Thread Cert.PrePost.nD Cert.PrePost.τ).loc Cert.PrePost.main_arg4)
      ∧ r.2.mem ((c.tc : Thread Cert.PrePost.nD Cert.PrePost.τ).loc Cert.PrePost.main_arg5) = m ((c.tc : Thread Cert.PrePost.nD Cert.PrePost.τ).loc Cert.PrePost.main_arg5)
      ∧ r.2.mem ((c.tc : Thread Cert.PrePost.nD Cert.PrePost.τ).loc Cert.PrePost.main_arg6) = m ((c.tc : Thread Cert.PrePost.nD Cert.PrePost.τ).loc Cert.PrePost.main_arg6))
      ∧ r.2.sem = fun _ => 0)

def quiescent_PrePostIdeal [hPrePostIdeal : Cert.PrePostIdeal.Facts] : Prop :=
  ∀ (m : (ℓ : Loc Cert.PrePostIdeal.nD Cert.PrePostIdeal.τ Cert.PrePostIdeal.sig) → Buf (Elt Ideal) ℓ) (g : Dev Cert.PrePostIdeal.nD → PrngReg), Pre_PrePostIdeal m →
    θ_run (Cert.PrePostIdeal.defs (F := Ideal)) (onTc (τ := Cert.PrePostIdeal.τ) (Cert.PrePostIdeal.main (F := Ideal))) ⟨m, fun _ => 0, g⟩ (fun r => (∀ c : Dev Cert.PrePostIdeal.nD,
      r.2.mem ((c.tc : Thread Cert.PrePostIdeal.nD Cert.PrePostIdeal.τ).loc Cert.PrePostIdeal.main_arg0) = m ((c.tc : Thread Cert.PrePostIdeal.nD Cert.PrePostIdeal.τ).loc Cert.PrePostIdeal.main_arg0)
      ∧ r.2.mem ((c.tc : Thread Cert.PrePostIdeal.nD Cert.PrePostIdeal.τ).loc Cert.PrePostIdeal.main_arg1) = m ((c.tc : Thread Cert.PrePostIdeal.nD Cert.PrePostIdeal.τ).loc Cert.PrePostIdeal.main_arg1)
      ∧ r.2.mem ((c.tc : Thread Cert.PrePostIdeal.nD Cert.PrePostIdeal.τ).loc Cert.PrePostIdeal.main_arg2) = m ((c.tc : Thread Cert.PrePostIdeal.nD Cert.PrePostIdeal.τ).loc Cert.PrePostIdeal.main_arg2)
      ∧ r.2.mem ((c.tc : Thread Cert.PrePostIdeal.nD Cert.PrePostIdeal.τ).loc Cert.PrePostIdeal.main_arg3) = m ((c.tc : Thread Cert.PrePostIdeal.nD Cert.PrePostIdeal.τ).loc Cert.PrePostIdeal.main_arg3)
      ∧ r.2.mem ((c.tc : Thread Cert.PrePostIdeal.nD Cert.PrePostIdeal.τ).loc Cert.PrePostIdeal.main_arg4) = m ((c.tc : Thread Cert.PrePostIdeal.nD Cert.PrePostIdeal.τ).loc Cert.PrePostIdeal.main_arg4)
      ∧ r.2.mem ((c.tc : Thread Cert.PrePostIdeal.nD Cert.PrePostIdeal.τ).loc Cert.PrePostIdeal.main_arg5) = m ((c.tc : Thread Cert.PrePostIdeal.nD Cert.PrePostIdeal.τ).loc Cert.PrePostIdeal.main_arg5)
      ∧ r.2.mem ((c.tc : Thread Cert.PrePostIdeal.nD Cert.PrePostIdeal.τ).loc Cert.PrePostIdeal.main_arg6) = m ((c.tc : Thread Cert.PrePostIdeal.nD Cert.PrePostIdeal.τ).loc Cert.PrePostIdeal.main_arg6))
      ∧ r.2.sem = fun _ => 0)

def quiescent_PrePostIdeal_pre_finite_pre_post [hPrePostIdeal : Cert.PrePostIdeal.Facts] [hPre_finite_pre_post : Cert.Pre_finite_pre_post.Facts] : Prop :=
  ∀ (m : (ℓ : Loc Cert.PrePostIdeal.nD Cert.PrePostIdeal.τ Cert.PrePostIdeal.sig) → Buf (Elt Ideal) ℓ) (g : Dev Cert.PrePostIdeal.nD → PrngReg), Pre_PrePostIdeal_finite_pre_post m →
    θ_run (Cert.PrePostIdeal.defs (F := Ideal)) (onTc (τ := Cert.PrePostIdeal.τ) (Cert.PrePostIdeal.main (F := Ideal))) ⟨m, fun _ => 0, g⟩ (fun r => (∀ c : Dev Cert.PrePostIdeal.nD,
      r.2.mem ((c.tc : Thread Cert.PrePostIdeal.nD Cert.PrePostIdeal.τ).loc Cert.PrePostIdeal.main_arg0) = m ((c.tc : Thread Cert.PrePostIdeal.nD Cert.PrePostIdeal.τ).loc Cert.PrePostIdeal.main_arg0)
      ∧ r.2.mem ((c.tc : Thread Cert.PrePostIdeal.nD Cert.PrePostIdeal.τ).loc Cert.PrePostIdeal.main_arg1) = m ((c.tc : Thread Cert.PrePostIdeal.nD Cert.PrePostIdeal.τ).loc Cert.PrePostIdeal.main_arg1)
      ∧ r.2.mem ((c.tc : Thread Cert.PrePostIdeal.nD Cert.PrePostIdeal.τ).loc Cert.PrePostIdeal.main_arg2) = m ((c.tc : Thread Cert.PrePostIdeal.nD Cert.PrePostIdeal.τ).loc Cert.PrePostIdeal.main_arg2)
      ∧ r.2.mem ((c.tc : Thread Cert.PrePostIdeal.nD Cert.PrePostIdeal.τ).loc Cert.PrePostIdeal.main_arg3) = m ((c.tc : Thread Cert.PrePostIdeal.nD Cert.PrePostIdeal.τ).loc Cert.PrePostIdeal.main_arg3)
      ∧ r.2.mem ((c.tc : Thread Cert.PrePostIdeal.nD Cert.PrePostIdeal.τ).loc Cert.PrePostIdeal.main_arg4) = m ((c.tc : Thread Cert.PrePostIdeal.nD Cert.PrePostIdeal.τ).loc Cert.PrePostIdeal.main_arg4)
      ∧ r.2.mem ((c.tc : Thread Cert.PrePostIdeal.nD Cert.PrePostIdeal.τ).loc Cert.PrePostIdeal.main_arg5) = m ((c.tc : Thread Cert.PrePostIdeal.nD Cert.PrePostIdeal.τ).loc Cert.PrePostIdeal.main_arg5)
      ∧ r.2.mem ((c.tc : Thread Cert.PrePostIdeal.nD Cert.PrePostIdeal.τ).loc Cert.PrePostIdeal.main_arg6) = m ((c.tc : Thread Cert.PrePostIdeal.nD Cert.PrePostIdeal.τ).loc Cert.PrePostIdeal.main_arg6))
      ∧ r.2.sem = fun _ => 0)

def quiescent_PrePostRefIdeal [hPrePostRefIdeal : Cert.PrePostRefIdeal.Facts] : Prop :=
  ∀ (m : (ℓ : Loc Cert.PrePostRefIdeal.nD Cert.PrePostRefIdeal.τ Cert.PrePostRefIdeal.sig) → Buf (Elt Ideal) ℓ) (g : Dev Cert.PrePostRefIdeal.nD → PrngReg), Pre_PrePostRefIdeal m →
    θ_run (Cert.PrePostRefIdeal.defs (F := Ideal)) (onTc (τ := Cert.PrePostRefIdeal.τ) (Cert.PrePostRefIdeal.main (F := Ideal))) ⟨m, fun _ => 0, g⟩ (fun r => (∀ c : Dev Cert.PrePostRefIdeal.nD,
      r.2.mem ((c.tc : Thread Cert.PrePostRefIdeal.nD Cert.PrePostRefIdeal.τ).loc Cert.PrePostRefIdeal.main_arg0) = m ((c.tc : Thread Cert.PrePostRefIdeal.nD Cert.PrePostRefIdeal.τ).loc Cert.PrePostRefIdeal.main_arg0)
      ∧ r.2.mem ((c.tc : Thread Cert.PrePostRefIdeal.nD Cert.PrePostRefIdeal.τ).loc Cert.PrePostRefIdeal.main_arg1) = m ((c.tc : Thread Cert.PrePostRefIdeal.nD Cert.PrePostRefIdeal.τ).loc Cert.PrePostRefIdeal.main_arg1)
      ∧ r.2.mem ((c.tc : Thread Cert.PrePostRefIdeal.nD Cert.PrePostRefIdeal.τ).loc Cert.PrePostRefIdeal.main_arg2) = m ((c.tc : Thread Cert.PrePostRefIdeal.nD Cert.PrePostRefIdeal.τ).loc Cert.PrePostRefIdeal.main_arg2)
      ∧ r.2.mem ((c.tc : Thread Cert.PrePostRefIdeal.nD Cert.PrePostRefIdeal.τ).loc Cert.PrePostRefIdeal.main_arg3) = m ((c.tc : Thread Cert.PrePostRefIdeal.nD Cert.PrePostRefIdeal.τ).loc Cert.PrePostRefIdeal.main_arg3)
      ∧ r.2.mem ((c.tc : Thread Cert.PrePostRefIdeal.nD Cert.PrePostRefIdeal.τ).loc Cert.PrePostRefIdeal.main_arg4) = m ((c.tc : Thread Cert.PrePostRefIdeal.nD Cert.PrePostRefIdeal.τ).loc Cert.PrePostRefIdeal.main_arg4)
      ∧ r.2.mem ((c.tc : Thread Cert.PrePostRefIdeal.nD Cert.PrePostRefIdeal.τ).loc Cert.PrePostRefIdeal.main_arg5) = m ((c.tc : Thread Cert.PrePostRefIdeal.nD Cert.PrePostRefIdeal.τ).loc Cert.PrePostRefIdeal.main_arg5)
      ∧ r.2.mem ((c.tc : Thread Cert.PrePostRefIdeal.nD Cert.PrePostRefIdeal.τ).loc Cert.PrePostRefIdeal.main_arg6) = m ((c.tc : Thread Cert.PrePostRefIdeal.nD Cert.PrePostRefIdeal.τ).loc Cert.PrePostRefIdeal.main_arg6))
      ∧ r.2.sem = fun _ => 0)

def quiescent_PrePostRefIdeal_pre_finite_pre_post [hPrePostRefIdeal : Cert.PrePostRefIdeal.Facts] [hPre_finite_pre_post : Cert.Pre_finite_pre_post.Facts] : Prop :=
  ∀ (m : (ℓ : Loc Cert.PrePostRefIdeal.nD Cert.PrePostRefIdeal.τ Cert.PrePostRefIdeal.sig) → Buf (Elt Ideal) ℓ) (g : Dev Cert.PrePostRefIdeal.nD → PrngReg), Pre_PrePostRefIdeal_finite_pre_post m →
    θ_run (Cert.PrePostRefIdeal.defs (F := Ideal)) (onTc (τ := Cert.PrePostRefIdeal.τ) (Cert.PrePostRefIdeal.main (F := Ideal))) ⟨m, fun _ => 0, g⟩ (fun r => (∀ c : Dev Cert.PrePostRefIdeal.nD,
      r.2.mem ((c.tc : Thread Cert.PrePostRefIdeal.nD Cert.PrePostRefIdeal.τ).loc Cert.PrePostRefIdeal.main_arg0) = m ((c.tc : Thread Cert.PrePostRefIdeal.nD Cert.PrePostRefIdeal.τ).loc Cert.PrePostRefIdeal.main_arg0)
      ∧ r.2.mem ((c.tc : Thread Cert.PrePostRefIdeal.nD Cert.PrePostRefIdeal.τ).loc Cert.PrePostRefIdeal.main_arg1) = m ((c.tc : Thread Cert.PrePostRefIdeal.nD Cert.PrePostRefIdeal.τ).loc Cert.PrePostRefIdeal.main_arg1)
      ∧ r.2.mem ((c.tc : Thread Cert.PrePostRefIdeal.nD Cert.PrePostRefIdeal.τ).loc Cert.PrePostRefIdeal.main_arg2) = m ((c.tc : Thread Cert.PrePostRefIdeal.nD Cert.PrePostRefIdeal.τ).loc Cert.PrePostRefIdeal.main_arg2)
      ∧ r.2.mem ((c.tc : Thread Cert.PrePostRefIdeal.nD Cert.PrePostRefIdeal.τ).loc Cert.PrePostRefIdeal.main_arg3) = m ((c.tc : Thread Cert.PrePostRefIdeal.nD Cert.PrePostRefIdeal.τ).loc Cert.PrePostRefIdeal.main_arg3)
      ∧ r.2.mem ((c.tc : Thread Cert.PrePostRefIdeal.nD Cert.PrePostRefIdeal.τ).loc Cert.PrePostRefIdeal.main_arg4) = m ((c.tc : Thread Cert.PrePostRefIdeal.nD Cert.PrePostRefIdeal.τ).loc Cert.PrePostRefIdeal.main_arg4)
      ∧ r.2.mem ((c.tc : Thread Cert.PrePostRefIdeal.nD Cert.PrePostRefIdeal.τ).loc Cert.PrePostRefIdeal.main_arg5) = m ((c.tc : Thread Cert.PrePostRefIdeal.nD Cert.PrePostRefIdeal.τ).loc Cert.PrePostRefIdeal.main_arg5)
      ∧ r.2.mem ((c.tc : Thread Cert.PrePostRefIdeal.nD Cert.PrePostRefIdeal.τ).loc Cert.PrePostRefIdeal.main_arg6) = m ((c.tc : Thread Cert.PrePostRefIdeal.nD Cert.PrePostRefIdeal.τ).loc Cert.PrePostRefIdeal.main_arg6))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_finite_sgu_bwd [hSguBwdIdeal : Cert.SguBwdIdeal.Facts] [hPre_finite_sgu_bwd : Cert.Pre_finite_sgu_bwd.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_finite_sgu_bwd m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_SguBwdRefIdeal_pre_finite_sgu_bwd [hSguBwdRefIdeal : Cert.SguBwdRefIdeal.Facts] [hPre_finite_sgu_bwd : Cert.Pre_finite_sgu_bwd.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_finite_sgu_bwd m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5))
      ∧ r.2.sem = fun _ => 0)

def quiescent_SsmParam [hSsmParam : Cert.SsmParam.Facts] : Prop :=
  ∀ (m : (ℓ : Loc Cert.SsmParam.nD Cert.SsmParam.τ Cert.SsmParam.sig) → Buf (Elt Bits) ℓ) (g : Dev Cert.SsmParam.nD → PrngReg), Pre_SsmParam m →
    θ_run (Cert.SsmParam.defs (F := Bits)) (onTc (τ := Cert.SsmParam.τ) (Cert.SsmParam.main (F := Bits))) ⟨m, fun _ => 0, g⟩ (fun r => (∀ c : Dev Cert.SsmParam.nD,
      r.2.mem ((c.tc : Thread Cert.SsmParam.nD Cert.SsmParam.τ).loc Cert.SsmParam.main_arg0) = m ((c.tc : Thread Cert.SsmParam.nD Cert.SsmParam.τ).loc Cert.SsmParam.main_arg0)
      ∧ r.2.mem ((c.tc : Thread Cert.SsmParam.nD Cert.SsmParam.τ).loc Cert.SsmParam.main_arg1) = m ((c.tc : Thread Cert.SsmParam.nD Cert.SsmParam.τ).loc Cert.SsmParam.main_arg1)
      ∧ r.2.mem ((c.tc : Thread Cert.SsmParam.nD Cert.SsmParam.τ).loc Cert.SsmParam.main_arg2) = m ((c.tc : Thread Cert.SsmParam.nD Cert.SsmParam.τ).loc Cert.SsmParam.main_arg2)
      ∧ r.2.mem ((c.tc : Thread Cert.SsmParam.nD Cert.SsmParam.τ).loc Cert.SsmParam.main_arg3) = m ((c.tc : Thread Cert.SsmParam.nD Cert.SsmParam.τ).loc Cert.SsmParam.main_arg3)
      ∧ r.2.mem ((c.tc : Thread Cert.SsmParam.nD Cert.SsmParam.τ).loc Cert.SsmParam.main_arg4) = m ((c.tc : Thread Cert.SsmParam.nD Cert.SsmParam.τ).loc Cert.SsmParam.main_arg4)
      ∧ r.2.mem ((c.tc : Thread Cert.SsmParam.nD Cert.SsmParam.τ).loc Cert.SsmParam.main_arg5) = m ((c.tc : Thread Cert.SsmParam.nD Cert.SsmParam.τ).loc Cert.SsmParam.main_arg5)
      ∧ r.2.mem ((c.tc : Thread Cert.SsmParam.nD Cert.SsmParam.τ).loc Cert.SsmParam.main_arg6) = m ((c.tc : Thread Cert.SsmParam.nD Cert.SsmParam.τ).loc Cert.SsmParam.main_arg6)
      ∧ r.2.mem ((c.tc : Thread Cert.SsmParam.nD Cert.SsmParam.τ).loc Cert.SsmParam.main_arg7) = m ((c.tc : Thread Cert.SsmParam.nD Cert.SsmParam.τ).loc Cert.SsmParam.main_arg7)
      ∧ r.2.mem ((c.tc : Thread Cert.SsmParam.nD Cert.SsmParam.τ).loc Cert.SsmParam.main_arg8) = m ((c.tc : Thread Cert.SsmParam.nD Cert.SsmParam.τ).loc Cert.SsmParam.main_arg8))
      ∧ r.2.sem = fun _ => 0)

def quiescent_SsmParamIdeal [hSsmParamIdeal : Cert.SsmParamIdeal.Facts] : Prop :=
  ∀ (m : (ℓ : Loc Cert.SsmParamIdeal.nD Cert.SsmParamIdeal.τ Cert.SsmParamIdeal.sig) → Buf (Elt Ideal) ℓ) (g : Dev Cert.SsmParamIdeal.nD → PrngReg), Pre_SsmParamIdeal m →
    θ_run (Cert.SsmParamIdeal.defs (F := Ideal)) (onTc (τ := Cert.SsmParamIdeal.τ) (Cert.SsmParamIdeal.main (F := Ideal))) ⟨m, fun _ => 0, g⟩ (fun r => (∀ c : Dev Cert.SsmParamIdeal.nD,
      r.2.mem ((c.tc : Thread Cert.SsmParamIdeal.nD Cert.SsmParamIdeal.τ).loc Cert.SsmParamIdeal.main_arg0) = m ((c.tc : Thread Cert.SsmParamIdeal.nD Cert.SsmParamIdeal.τ).loc Cert.SsmParamIdeal.main_arg0)
      ∧ r.2.mem ((c.tc : Thread Cert.SsmParamIdeal.nD Cert.SsmParamIdeal.τ).loc Cert.SsmParamIdeal.main_arg1) = m ((c.tc : Thread Cert.SsmParamIdeal.nD Cert.SsmParamIdeal.τ).loc Cert.SsmParamIdeal.main_arg1)
      ∧ r.2.mem ((c.tc : Thread Cert.SsmParamIdeal.nD Cert.SsmParamIdeal.τ).loc Cert.SsmParamIdeal.main_arg2) = m ((c.tc : Thread Cert.SsmParamIdeal.nD Cert.SsmParamIdeal.τ).loc Cert.SsmParamIdeal.main_arg2)
      ∧ r.2.mem ((c.tc : Thread Cert.SsmParamIdeal.nD Cert.SsmParamIdeal.τ).loc Cert.SsmParamIdeal.main_arg3) = m ((c.tc : Thread Cert.SsmParamIdeal.nD Cert.SsmParamIdeal.τ).loc Cert.SsmParamIdeal.main_arg3)
      ∧ r.2.mem ((c.tc : Thread Cert.SsmParamIdeal.nD Cert.SsmParamIdeal.τ).loc Cert.SsmParamIdeal.main_arg4) = m ((c.tc : Thread Cert.SsmParamIdeal.nD Cert.SsmParamIdeal.τ).loc Cert.SsmParamIdeal.main_arg4)
      ∧ r.2.mem ((c.tc : Thread Cert.SsmParamIdeal.nD Cert.SsmParamIdeal.τ).loc Cert.SsmParamIdeal.main_arg5) = m ((c.tc : Thread Cert.SsmParamIdeal.nD Cert.SsmParamIdeal.τ).loc Cert.SsmParamIdeal.main_arg5)
      ∧ r.2.mem ((c.tc : Thread Cert.SsmParamIdeal.nD Cert.SsmParamIdeal.τ).loc Cert.SsmParamIdeal.main_arg6) = m ((c.tc : Thread Cert.SsmParamIdeal.nD Cert.SsmParamIdeal.τ).loc Cert.SsmParamIdeal.main_arg6)
      ∧ r.2.mem ((c.tc : Thread Cert.SsmParamIdeal.nD Cert.SsmParamIdeal.τ).loc Cert.SsmParamIdeal.main_arg7) = m ((c.tc : Thread Cert.SsmParamIdeal.nD Cert.SsmParamIdeal.τ).loc Cert.SsmParamIdeal.main_arg7)
      ∧ r.2.mem ((c.tc : Thread Cert.SsmParamIdeal.nD Cert.SsmParamIdeal.τ).loc Cert.SsmParamIdeal.main_arg8) = m ((c.tc : Thread Cert.SsmParamIdeal.nD Cert.SsmParamIdeal.τ).loc Cert.SsmParamIdeal.main_arg8))
      ∧ r.2.sem = fun _ => 0)

def quiescent_SsmParamIdeal_pre_finite_ssm_param [hSsmParamIdeal : Cert.SsmParamIdeal.Facts] [hPre_finite_ssm_param : Cert.Pre_finite_ssm_param.Facts] : Prop :=
  ∀ (m : (ℓ : Loc Cert.SsmParamIdeal.nD Cert.SsmParamIdeal.τ Cert.SsmParamIdeal.sig) → Buf (Elt Ideal) ℓ) (g : Dev Cert.SsmParamIdeal.nD → PrngReg), Pre_SsmParamIdeal_finite_ssm_param m →
    θ_run (Cert.SsmParamIdeal.defs (F := Ideal)) (onTc (τ := Cert.SsmParamIdeal.τ) (Cert.SsmParamIdeal.main (F := Ideal))) ⟨m, fun _ => 0, g⟩ (fun r => (∀ c : Dev Cert.SsmParamIdeal.nD,
      r.2.mem ((c.tc : Thread Cert.SsmParamIdeal.nD Cert.SsmParamIdeal.τ).loc Cert.SsmParamIdeal.main_arg0) = m ((c.tc : Thread Cert.SsmParamIdeal.nD Cert.SsmParamIdeal.τ).loc Cert.SsmParamIdeal.main_arg0)
      ∧ r.2.mem ((c.tc : Thread Cert.SsmParamIdeal.nD Cert.SsmParamIdeal.τ).loc Cert.SsmParamIdeal.main_arg1) = m ((c.tc : Thread Cert.SsmParamIdeal.nD Cert.SsmParamIdeal.τ).loc Cert.SsmParamIdeal.main_arg1)
      ∧ r.2.mem ((c.tc : Thread Cert.SsmParamIdeal.nD Cert.SsmParamIdeal.τ).loc Cert.SsmParamIdeal.main_arg2) = m ((c.tc : Thread Cert.SsmParamIdeal.nD Cert.SsmParamIdeal.τ).loc Cert.SsmParamIdeal.main_arg2)
      ∧ r.2.mem ((c.tc : Thread Cert.SsmParamIdeal.nD Cert.SsmParamIdeal.τ).loc Cert.SsmParamIdeal.main_arg3) = m ((c.tc : Thread Cert.SsmParamIdeal.nD Cert.SsmParamIdeal.τ).loc Cert.SsmParamIdeal.main_arg3)
      ∧ r.2.mem ((c.tc : Thread Cert.SsmParamIdeal.nD Cert.SsmParamIdeal.τ).loc Cert.SsmParamIdeal.main_arg4) = m ((c.tc : Thread Cert.SsmParamIdeal.nD Cert.SsmParamIdeal.τ).loc Cert.SsmParamIdeal.main_arg4)
      ∧ r.2.mem ((c.tc : Thread Cert.SsmParamIdeal.nD Cert.SsmParamIdeal.τ).loc Cert.SsmParamIdeal.main_arg5) = m ((c.tc : Thread Cert.SsmParamIdeal.nD Cert.SsmParamIdeal.τ).loc Cert.SsmParamIdeal.main_arg5)
      ∧ r.2.mem ((c.tc : Thread Cert.SsmParamIdeal.nD Cert.SsmParamIdeal.τ).loc Cert.SsmParamIdeal.main_arg6) = m ((c.tc : Thread Cert.SsmParamIdeal.nD Cert.SsmParamIdeal.τ).loc Cert.SsmParamIdeal.main_arg6)
      ∧ r.2.mem ((c.tc : Thread Cert.SsmParamIdeal.nD Cert.SsmParamIdeal.τ).loc Cert.SsmParamIdeal.main_arg7) = m ((c.tc : Thread Cert.SsmParamIdeal.nD Cert.SsmParamIdeal.τ).loc Cert.SsmParamIdeal.main_arg7)
      ∧ r.2.mem ((c.tc : Thread Cert.SsmParamIdeal.nD Cert.SsmParamIdeal.τ).loc Cert.SsmParamIdeal.main_arg8) = m ((c.tc : Thread Cert.SsmParamIdeal.nD Cert.SsmParamIdeal.τ).loc Cert.SsmParamIdeal.main_arg8))
      ∧ r.2.sem = fun _ => 0)

def quiescent_SsmParamRefIdeal [hSsmParamRefIdeal : Cert.SsmParamRefIdeal.Facts] : Prop :=
  ∀ (m : (ℓ : Loc Cert.SsmParamRefIdeal.nD Cert.SsmParamRefIdeal.τ Cert.SsmParamRefIdeal.sig) → Buf (Elt Ideal) ℓ) (g : Dev Cert.SsmParamRefIdeal.nD → PrngReg), Pre_SsmParamRefIdeal m →
    θ_run (Cert.SsmParamRefIdeal.defs (F := Ideal)) (onTc (τ := Cert.SsmParamRefIdeal.τ) (Cert.SsmParamRefIdeal.main (F := Ideal))) ⟨m, fun _ => 0, g⟩ (fun r => (∀ c : Dev Cert.SsmParamRefIdeal.nD,
      r.2.mem ((c.tc : Thread Cert.SsmParamRefIdeal.nD Cert.SsmParamRefIdeal.τ).loc Cert.SsmParamRefIdeal.main_arg0) = m ((c.tc : Thread Cert.SsmParamRefIdeal.nD Cert.SsmParamRefIdeal.τ).loc Cert.SsmParamRefIdeal.main_arg0)
      ∧ r.2.mem ((c.tc : Thread Cert.SsmParamRefIdeal.nD Cert.SsmParamRefIdeal.τ).loc Cert.SsmParamRefIdeal.main_arg1) = m ((c.tc : Thread Cert.SsmParamRefIdeal.nD Cert.SsmParamRefIdeal.τ).loc Cert.SsmParamRefIdeal.main_arg1)
      ∧ r.2.mem ((c.tc : Thread Cert.SsmParamRefIdeal.nD Cert.SsmParamRefIdeal.τ).loc Cert.SsmParamRefIdeal.main_arg2) = m ((c.tc : Thread Cert.SsmParamRefIdeal.nD Cert.SsmParamRefIdeal.τ).loc Cert.SsmParamRefIdeal.main_arg2)
      ∧ r.2.mem ((c.tc : Thread Cert.SsmParamRefIdeal.nD Cert.SsmParamRefIdeal.τ).loc Cert.SsmParamRefIdeal.main_arg3) = m ((c.tc : Thread Cert.SsmParamRefIdeal.nD Cert.SsmParamRefIdeal.τ).loc Cert.SsmParamRefIdeal.main_arg3)
      ∧ r.2.mem ((c.tc : Thread Cert.SsmParamRefIdeal.nD Cert.SsmParamRefIdeal.τ).loc Cert.SsmParamRefIdeal.main_arg4) = m ((c.tc : Thread Cert.SsmParamRefIdeal.nD Cert.SsmParamRefIdeal.τ).loc Cert.SsmParamRefIdeal.main_arg4)
      ∧ r.2.mem ((c.tc : Thread Cert.SsmParamRefIdeal.nD Cert.SsmParamRefIdeal.τ).loc Cert.SsmParamRefIdeal.main_arg5) = m ((c.tc : Thread Cert.SsmParamRefIdeal.nD Cert.SsmParamRefIdeal.τ).loc Cert.SsmParamRefIdeal.main_arg5)
      ∧ r.2.mem ((c.tc : Thread Cert.SsmParamRefIdeal.nD Cert.SsmParamRefIdeal.τ).loc Cert.SsmParamRefIdeal.main_arg6) = m ((c.tc : Thread Cert.SsmParamRefIdeal.nD Cert.SsmParamRefIdeal.τ).loc Cert.SsmParamRefIdeal.main_arg6)
      ∧ r.2.mem ((c.tc : Thread Cert.SsmParamRefIdeal.nD Cert.SsmParamRefIdeal.τ).loc Cert.SsmParamRefIdeal.main_arg7) = m ((c.tc : Thread Cert.SsmParamRefIdeal.nD Cert.SsmParamRefIdeal.τ).loc Cert.SsmParamRefIdeal.main_arg7)
      ∧ r.2.mem ((c.tc : Thread Cert.SsmParamRefIdeal.nD Cert.SsmParamRefIdeal.τ).loc Cert.SsmParamRefIdeal.main_arg8) = m ((c.tc : Thread Cert.SsmParamRefIdeal.nD Cert.SsmParamRefIdeal.τ).loc Cert.SsmParamRefIdeal.main_arg8))
      ∧ r.2.sem = fun _ => 0)

def quiescent_SsmParamRefIdeal_pre_finite_ssm_param [hSsmParamRefIdeal : Cert.SsmParamRefIdeal.Facts] [hPre_finite_ssm_param : Cert.Pre_finite_ssm_param.Facts] : Prop :=
  ∀ (m : (ℓ : Loc Cert.SsmParamRefIdeal.nD Cert.SsmParamRefIdeal.τ Cert.SsmParamRefIdeal.sig) → Buf (Elt Ideal) ℓ) (g : Dev Cert.SsmParamRefIdeal.nD → PrngReg), Pre_SsmParamRefIdeal_finite_ssm_param m →
    θ_run (Cert.SsmParamRefIdeal.defs (F := Ideal)) (onTc (τ := Cert.SsmParamRefIdeal.τ) (Cert.SsmParamRefIdeal.main (F := Ideal))) ⟨m, fun _ => 0, g⟩ (fun r => (∀ c : Dev Cert.SsmParamRefIdeal.nD,
      r.2.mem ((c.tc : Thread Cert.SsmParamRefIdeal.nD Cert.SsmParamRefIdeal.τ).loc Cert.SsmParamRefIdeal.main_arg0) = m ((c.tc : Thread Cert.SsmParamRefIdeal.nD Cert.SsmParamRefIdeal.τ).loc Cert.SsmParamRefIdeal.main_arg0)
      ∧ r.2.mem ((c.tc : Thread Cert.SsmParamRefIdeal.nD Cert.SsmParamRefIdeal.τ).loc Cert.SsmParamRefIdeal.main_arg1) = m ((c.tc : Thread Cert.SsmParamRefIdeal.nD Cert.SsmParamRefIdeal.τ).loc Cert.SsmParamRefIdeal.main_arg1)
      ∧ r.2.mem ((c.tc : Thread Cert.SsmParamRefIdeal.nD Cert.SsmParamRefIdeal.τ).loc Cert.SsmParamRefIdeal.main_arg2) = m ((c.tc : Thread Cert.SsmParamRefIdeal.nD Cert.SsmParamRefIdeal.τ).loc Cert.SsmParamRefIdeal.main_arg2)
      ∧ r.2.mem ((c.tc : Thread Cert.SsmParamRefIdeal.nD Cert.SsmParamRefIdeal.τ).loc Cert.SsmParamRefIdeal.main_arg3) = m ((c.tc : Thread Cert.SsmParamRefIdeal.nD Cert.SsmParamRefIdeal.τ).loc Cert.SsmParamRefIdeal.main_arg3)
      ∧ r.2.mem ((c.tc : Thread Cert.SsmParamRefIdeal.nD Cert.SsmParamRefIdeal.τ).loc Cert.SsmParamRefIdeal.main_arg4) = m ((c.tc : Thread Cert.SsmParamRefIdeal.nD Cert.SsmParamRefIdeal.τ).loc Cert.SsmParamRefIdeal.main_arg4)
      ∧ r.2.mem ((c.tc : Thread Cert.SsmParamRefIdeal.nD Cert.SsmParamRefIdeal.τ).loc Cert.SsmParamRefIdeal.main_arg5) = m ((c.tc : Thread Cert.SsmParamRefIdeal.nD Cert.SsmParamRefIdeal.τ).loc Cert.SsmParamRefIdeal.main_arg5)
      ∧ r.2.mem ((c.tc : Thread Cert.SsmParamRefIdeal.nD Cert.SsmParamRefIdeal.τ).loc Cert.SsmParamRefIdeal.main_arg6) = m ((c.tc : Thread Cert.SsmParamRefIdeal.nD Cert.SsmParamRefIdeal.τ).loc Cert.SsmParamRefIdeal.main_arg6)
      ∧ r.2.mem ((c.tc : Thread Cert.SsmParamRefIdeal.nD Cert.SsmParamRefIdeal.τ).loc Cert.SsmParamRefIdeal.main_arg7) = m ((c.tc : Thread Cert.SsmParamRefIdeal.nD Cert.SsmParamRefIdeal.τ).loc Cert.SsmParamRefIdeal.main_arg7)
      ∧ r.2.mem ((c.tc : Thread Cert.SsmParamRefIdeal.nD Cert.SsmParamRefIdeal.τ).loc Cert.SsmParamRefIdeal.main_arg8) = m ((c.tc : Thread Cert.SsmParamRefIdeal.nD Cert.SsmParamRefIdeal.τ).loc Cert.SsmParamRefIdeal.main_arg8))
      ∧ r.2.sem = fun _ => 0)

def quiescent_SsmPrep [hSsmPrep : Cert.SsmPrep.Facts] : Prop :=
  ∀ (m : (ℓ : Loc Cert.SsmPrep.nD Cert.SsmPrep.τ Cert.SsmPrep.sig) → Buf (Elt Bits) ℓ) (g : Dev Cert.SsmPrep.nD → PrngReg), Pre_SsmPrep m →
    θ_run (Cert.SsmPrep.defs (F := Bits)) (onTc (τ := Cert.SsmPrep.τ) (Cert.SsmPrep.main (F := Bits))) ⟨m, fun _ => 0, g⟩ (fun r => (∀ c : Dev Cert.SsmPrep.nD,
      r.2.mem ((c.tc : Thread Cert.SsmPrep.nD Cert.SsmPrep.τ).loc Cert.SsmPrep.main_arg0) = m ((c.tc : Thread Cert.SsmPrep.nD Cert.SsmPrep.τ).loc Cert.SsmPrep.main_arg0)
      ∧ r.2.mem ((c.tc : Thread Cert.SsmPrep.nD Cert.SsmPrep.τ).loc Cert.SsmPrep.main_arg1) = m ((c.tc : Thread Cert.SsmPrep.nD Cert.SsmPrep.τ).loc Cert.SsmPrep.main_arg1)
      ∧ r.2.mem ((c.tc : Thread Cert.SsmPrep.nD Cert.SsmPrep.τ).loc Cert.SsmPrep.main_arg2) = m ((c.tc : Thread Cert.SsmPrep.nD Cert.SsmPrep.τ).loc Cert.SsmPrep.main_arg2)
      ∧ r.2.mem ((c.tc : Thread Cert.SsmPrep.nD Cert.SsmPrep.τ).loc Cert.SsmPrep.main_arg3) = m ((c.tc : Thread Cert.SsmPrep.nD Cert.SsmPrep.τ).loc Cert.SsmPrep.main_arg3)
      ∧ r.2.mem ((c.tc : Thread Cert.SsmPrep.nD Cert.SsmPrep.τ).loc Cert.SsmPrep.main_arg4) = m ((c.tc : Thread Cert.SsmPrep.nD Cert.SsmPrep.τ).loc Cert.SsmPrep.main_arg4))
      ∧ r.2.sem = fun _ => 0)

def quiescent_SsmPrepIdeal [hSsmPrepIdeal : Cert.SsmPrepIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg), Pre_SsmPrepIdeal m →
    θ_run (Cert.SsmPrepIdeal.defs (F := Ideal)) (onTc (τ := Cert.SsmPrepIdeal.τ) (Cert.SsmPrepIdeal.main (F := Ideal))) ⟨m, fun _ => 0, g⟩ (fun r => (∀ c : Dev Cert.SsmPrepIdeal.nD,
      r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
      ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
      ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
      ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
      ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4))
      ∧ r.2.sem = fun _ => 0)

def quiescent_SsmPrepRefIdeal [hSsmPrepRefIdeal : Cert.SsmPrepRefIdeal.Facts] : Prop :=
  ∀ (m : (ℓ : Loc Cert.SsmPrepRefIdeal.nD Cert.SsmPrepRefIdeal.τ Cert.SsmPrepRefIdeal.sig) → Buf (Elt Ideal) ℓ) (g : Dev Cert.SsmPrepRefIdeal.nD → PrngReg), Pre_SsmPrepRefIdeal m →
    θ_run (Cert.SsmPrepRefIdeal.defs (F := Ideal)) (onTc (τ := Cert.SsmPrepRefIdeal.τ) (Cert.SsmPrepRefIdeal.main (F := Ideal))) ⟨m, fun _ => 0, g⟩ (fun r => (∀ c : Dev Cert.SsmPrepRefIdeal.nD,
      r.2.mem ((c.tc : Thread Cert.SsmPrepRefIdeal.nD Cert.SsmPrepRefIdeal.τ).loc Cert.SsmPrepRefIdeal.main_arg0) = m ((c.tc : Thread Cert.SsmPrepRefIdeal.nD Cert.SsmPrepRefIdeal.τ).loc Cert.SsmPrepRefIdeal.main_arg0)
      ∧ r.2.mem ((c.tc : Thread Cert.SsmPrepRefIdeal.nD Cert.SsmPrepRefIdeal.τ).loc Cert.SsmPrepRefIdeal.main_arg1) = m ((c.tc : Thread Cert.SsmPrepRefIdeal.nD Cert.SsmPrepRefIdeal.τ).loc Cert.SsmPrepRefIdeal.main_arg1)
      ∧ r.2.mem ((c.tc : Thread Cert.SsmPrepRefIdeal.nD Cert.SsmPrepRefIdeal.τ).loc Cert.SsmPrepRefIdeal.main_arg2) = m ((c.tc : Thread Cert.SsmPrepRefIdeal.nD Cert.SsmPrepRefIdeal.τ).loc Cert.SsmPrepRefIdeal.main_arg2)
      ∧ r.2.mem ((c.tc : Thread Cert.SsmPrepRefIdeal.nD Cert.SsmPrepRefIdeal.τ).loc Cert.SsmPrepRefIdeal.main_arg3) = m ((c.tc : Thread Cert.SsmPrepRefIdeal.nD Cert.SsmPrepRefIdeal.τ).loc Cert.SsmPrepRefIdeal.main_arg3)
      ∧ r.2.mem ((c.tc : Thread Cert.SsmPrepRefIdeal.nD Cert.SsmPrepRefIdeal.τ).loc Cert.SsmPrepRefIdeal.main_arg4) = m ((c.tc : Thread Cert.SsmPrepRefIdeal.nD Cert.SsmPrepRefIdeal.τ).loc Cert.SsmPrepRefIdeal.main_arg4))
      ∧ r.2.sem = fun _ => 0)

def quiescent_SsmScan [hSsmScan : Cert.SsmScan.Facts] : Prop :=
  ∀ (m : (ℓ : Loc Cert.SsmScan.nD Cert.SsmScan.τ Cert.SsmScan.sig) → Buf (Elt Bits) ℓ) (g : Dev Cert.SsmScan.nD → PrngReg), Pre_SsmScan m →
    θ_run (Cert.SsmScan.defs (F := Bits)) (onTc (τ := Cert.SsmScan.τ) (Cert.SsmScan.main (F := Bits))) ⟨m, fun _ => 0, g⟩ (fun r => (∀ c : Dev Cert.SsmScan.nD,
      r.2.mem ((c.tc : Thread Cert.SsmScan.nD Cert.SsmScan.τ).loc Cert.SsmScan.main_arg0) = m ((c.tc : Thread Cert.SsmScan.nD Cert.SsmScan.τ).loc Cert.SsmScan.main_arg0)
      ∧ r.2.mem ((c.tc : Thread Cert.SsmScan.nD Cert.SsmScan.τ).loc Cert.SsmScan.main_arg1) = m ((c.tc : Thread Cert.SsmScan.nD Cert.SsmScan.τ).loc Cert.SsmScan.main_arg1)
      ∧ r.2.mem ((c.tc : Thread Cert.SsmScan.nD Cert.SsmScan.τ).loc Cert.SsmScan.main_arg2) = m ((c.tc : Thread Cert.SsmScan.nD Cert.SsmScan.τ).loc Cert.SsmScan.main_arg2)
      ∧ r.2.mem ((c.tc : Thread Cert.SsmScan.nD Cert.SsmScan.τ).loc Cert.SsmScan.main_arg3) = m ((c.tc : Thread Cert.SsmScan.nD Cert.SsmScan.τ).loc Cert.SsmScan.main_arg3)
      ∧ r.2.mem ((c.tc : Thread Cert.SsmScan.nD Cert.SsmScan.τ).loc Cert.SsmScan.main_arg4) = m ((c.tc : Thread Cert.SsmScan.nD Cert.SsmScan.τ).loc Cert.SsmScan.main_arg4)
      ∧ r.2.mem ((c.tc : Thread Cert.SsmScan.nD Cert.SsmScan.τ).loc Cert.SsmScan.main_arg5) = m ((c.tc : Thread Cert.SsmScan.nD Cert.SsmScan.τ).loc Cert.SsmScan.main_arg5)
      ∧ r.2.mem ((c.tc : Thread Cert.SsmScan.nD Cert.SsmScan.τ).loc Cert.SsmScan.main_arg6) = m ((c.tc : Thread Cert.SsmScan.nD Cert.SsmScan.τ).loc Cert.SsmScan.main_arg6))
      ∧ r.2.sem = fun _ => 0)

def quiescent_SsmScanIdeal [hSsmScanIdeal : Cert.SsmScanIdeal.Facts] : Prop :=
  ∀ (m : (ℓ : Loc Cert.SsmScanIdeal.nD Cert.SsmScanIdeal.τ Cert.SsmScanIdeal.sig) → Buf (Elt Ideal) ℓ) (g : Dev Cert.SsmScanIdeal.nD → PrngReg), Pre_SsmScanIdeal m →
    θ_run (Cert.SsmScanIdeal.defs (F := Ideal)) (onTc (τ := Cert.SsmScanIdeal.τ) (Cert.SsmScanIdeal.main (F := Ideal))) ⟨m, fun _ => 0, g⟩ (fun r => (∀ c : Dev Cert.SsmScanIdeal.nD,
      r.2.mem ((c.tc : Thread Cert.SsmScanIdeal.nD Cert.SsmScanIdeal.τ).loc Cert.SsmScanIdeal.main_arg0) = m ((c.tc : Thread Cert.SsmScanIdeal.nD Cert.SsmScanIdeal.τ).loc Cert.SsmScanIdeal.main_arg0)
      ∧ r.2.mem ((c.tc : Thread Cert.SsmScanIdeal.nD Cert.SsmScanIdeal.τ).loc Cert.SsmScanIdeal.main_arg1) = m ((c.tc : Thread Cert.SsmScanIdeal.nD Cert.SsmScanIdeal.τ).loc Cert.SsmScanIdeal.main_arg1)
      ∧ r.2.mem ((c.tc : Thread Cert.SsmScanIdeal.nD Cert.SsmScanIdeal.τ).loc Cert.SsmScanIdeal.main_arg2) = m ((c.tc : Thread Cert.SsmScanIdeal.nD Cert.SsmScanIdeal.τ).loc Cert.SsmScanIdeal.main_arg2)
      ∧ r.2.mem ((c.tc : Thread Cert.SsmScanIdeal.nD Cert.SsmScanIdeal.τ).loc Cert.SsmScanIdeal.main_arg3) = m ((c.tc : Thread Cert.SsmScanIdeal.nD Cert.SsmScanIdeal.τ).loc Cert.SsmScanIdeal.main_arg3)
      ∧ r.2.mem ((c.tc : Thread Cert.SsmScanIdeal.nD Cert.SsmScanIdeal.τ).loc Cert.SsmScanIdeal.main_arg4) = m ((c.tc : Thread Cert.SsmScanIdeal.nD Cert.SsmScanIdeal.τ).loc Cert.SsmScanIdeal.main_arg4)
      ∧ r.2.mem ((c.tc : Thread Cert.SsmScanIdeal.nD Cert.SsmScanIdeal.τ).loc Cert.SsmScanIdeal.main_arg5) = m ((c.tc : Thread Cert.SsmScanIdeal.nD Cert.SsmScanIdeal.τ).loc Cert.SsmScanIdeal.main_arg5)
      ∧ r.2.mem ((c.tc : Thread Cert.SsmScanIdeal.nD Cert.SsmScanIdeal.τ).loc Cert.SsmScanIdeal.main_arg6) = m ((c.tc : Thread Cert.SsmScanIdeal.nD Cert.SsmScanIdeal.τ).loc Cert.SsmScanIdeal.main_arg6))
      ∧ r.2.sem = fun _ => 0)

def quiescent_SsmScanIdeal_pre_finite_ssm_scan [hSsmScanIdeal : Cert.SsmScanIdeal.Facts] [hPre_finite_ssm_scan : Cert.Pre_finite_ssm_scan.Facts] : Prop :=
  ∀ (m : (ℓ : Loc Cert.SsmScanIdeal.nD Cert.SsmScanIdeal.τ Cert.SsmScanIdeal.sig) → Buf (Elt Ideal) ℓ) (g : Dev Cert.SsmScanIdeal.nD → PrngReg), Pre_SsmScanIdeal_finite_ssm_scan m →
    θ_run (Cert.SsmScanIdeal.defs (F := Ideal)) (onTc (τ := Cert.SsmScanIdeal.τ) (Cert.SsmScanIdeal.main (F := Ideal))) ⟨m, fun _ => 0, g⟩ (fun r => (∀ c : Dev Cert.SsmScanIdeal.nD,
      r.2.mem ((c.tc : Thread Cert.SsmScanIdeal.nD Cert.SsmScanIdeal.τ).loc Cert.SsmScanIdeal.main_arg0) = m ((c.tc : Thread Cert.SsmScanIdeal.nD Cert.SsmScanIdeal.τ).loc Cert.SsmScanIdeal.main_arg0)
      ∧ r.2.mem ((c.tc : Thread Cert.SsmScanIdeal.nD Cert.SsmScanIdeal.τ).loc Cert.SsmScanIdeal.main_arg1) = m ((c.tc : Thread Cert.SsmScanIdeal.nD Cert.SsmScanIdeal.τ).loc Cert.SsmScanIdeal.main_arg1)
      ∧ r.2.mem ((c.tc : Thread Cert.SsmScanIdeal.nD Cert.SsmScanIdeal.τ).loc Cert.SsmScanIdeal.main_arg2) = m ((c.tc : Thread Cert.SsmScanIdeal.nD Cert.SsmScanIdeal.τ).loc Cert.SsmScanIdeal.main_arg2)
      ∧ r.2.mem ((c.tc : Thread Cert.SsmScanIdeal.nD Cert.SsmScanIdeal.τ).loc Cert.SsmScanIdeal.main_arg3) = m ((c.tc : Thread Cert.SsmScanIdeal.nD Cert.SsmScanIdeal.τ).loc Cert.SsmScanIdeal.main_arg3)
      ∧ r.2.mem ((c.tc : Thread Cert.SsmScanIdeal.nD Cert.SsmScanIdeal.τ).loc Cert.SsmScanIdeal.main_arg4) = m ((c.tc : Thread Cert.SsmScanIdeal.nD Cert.SsmScanIdeal.τ).loc Cert.SsmScanIdeal.main_arg4)
      ∧ r.2.mem ((c.tc : Thread Cert.SsmScanIdeal.nD Cert.SsmScanIdeal.τ).loc Cert.SsmScanIdeal.main_arg5) = m ((c.tc : Thread Cert.SsmScanIdeal.nD Cert.SsmScanIdeal.τ).loc Cert.SsmScanIdeal.main_arg5)
      ∧ r.2.mem ((c.tc : Thread Cert.SsmScanIdeal.nD Cert.SsmScanIdeal.τ).loc Cert.SsmScanIdeal.main_arg6) = m ((c.tc : Thread Cert.SsmScanIdeal.nD Cert.SsmScanIdeal.τ).loc Cert.SsmScanIdeal.main_arg6))
      ∧ r.2.sem = fun _ => 0)

def quiescent_SsmScanRefIdeal [hSsmScanRefIdeal : Cert.SsmScanRefIdeal.Facts] : Prop :=
  ∀ (m : (ℓ : Loc Cert.SsmScanRefIdeal.nD Cert.SsmScanRefIdeal.τ Cert.SsmScanRefIdeal.sig) → Buf (Elt Ideal) ℓ) (g : Dev Cert.SsmScanRefIdeal.nD → PrngReg), Pre_SsmScanRefIdeal m →
    θ_run (Cert.SsmScanRefIdeal.defs (F := Ideal)) (onTc (τ := Cert.SsmScanRefIdeal.τ) (Cert.SsmScanRefIdeal.main (F := Ideal))) ⟨m, fun _ => 0, g⟩ (fun r => (∀ c : Dev Cert.SsmScanRefIdeal.nD,
      r.2.mem ((c.tc : Thread Cert.SsmScanRefIdeal.nD Cert.SsmScanRefIdeal.τ).loc Cert.SsmScanRefIdeal.main_arg0) = m ((c.tc : Thread Cert.SsmScanRefIdeal.nD Cert.SsmScanRefIdeal.τ).loc Cert.SsmScanRefIdeal.main_arg0)
      ∧ r.2.mem ((c.tc : Thread Cert.SsmScanRefIdeal.nD Cert.SsmScanRefIdeal.τ).loc Cert.SsmScanRefIdeal.main_arg1) = m ((c.tc : Thread Cert.SsmScanRefIdeal.nD Cert.SsmScanRefIdeal.τ).loc Cert.SsmScanRefIdeal.main_arg1)
      ∧ r.2.mem ((c.tc : Thread Cert.SsmScanRefIdeal.nD Cert.SsmScanRefIdeal.τ).loc Cert.SsmScanRefIdeal.main_arg2) = m ((c.tc : Thread Cert.SsmScanRefIdeal.nD Cert.SsmScanRefIdeal.τ).loc Cert.SsmScanRefIdeal.main_arg2)
      ∧ r.2.mem ((c.tc : Thread Cert.SsmScanRefIdeal.nD Cert.SsmScanRefIdeal.τ).loc Cert.SsmScanRefIdeal.main_arg3) = m ((c.tc : Thread Cert.SsmScanRefIdeal.nD Cert.SsmScanRefIdeal.τ).loc Cert.SsmScanRefIdeal.main_arg3)
      ∧ r.2.mem ((c.tc : Thread Cert.SsmScanRefIdeal.nD Cert.SsmScanRefIdeal.τ).loc Cert.SsmScanRefIdeal.main_arg4) = m ((c.tc : Thread Cert.SsmScanRefIdeal.nD Cert.SsmScanRefIdeal.τ).loc Cert.SsmScanRefIdeal.main_arg4)
      ∧ r.2.mem ((c.tc : Thread Cert.SsmScanRefIdeal.nD Cert.SsmScanRefIdeal.τ).loc Cert.SsmScanRefIdeal.main_arg5) = m ((c.tc : Thread Cert.SsmScanRefIdeal.nD Cert.SsmScanRefIdeal.τ).loc Cert.SsmScanRefIdeal.main_arg5)
      ∧ r.2.mem ((c.tc : Thread Cert.SsmScanRefIdeal.nD Cert.SsmScanRefIdeal.τ).loc Cert.SsmScanRefIdeal.main_arg6) = m ((c.tc : Thread Cert.SsmScanRefIdeal.nD Cert.SsmScanRefIdeal.τ).loc Cert.SsmScanRefIdeal.main_arg6))
      ∧ r.2.sem = fun _ => 0)

def quiescent_SsmScanRefIdeal_pre_finite_ssm_scan [hSsmScanRefIdeal : Cert.SsmScanRefIdeal.Facts] [hPre_finite_ssm_scan : Cert.Pre_finite_ssm_scan.Facts] : Prop :=
  ∀ (m : (ℓ : Loc Cert.SsmScanRefIdeal.nD Cert.SsmScanRefIdeal.τ Cert.SsmScanRefIdeal.sig) → Buf (Elt Ideal) ℓ) (g : Dev Cert.SsmScanRefIdeal.nD → PrngReg), Pre_SsmScanRefIdeal_finite_ssm_scan m →
    θ_run (Cert.SsmScanRefIdeal.defs (F := Ideal)) (onTc (τ := Cert.SsmScanRefIdeal.τ) (Cert.SsmScanRefIdeal.main (F := Ideal))) ⟨m, fun _ => 0, g⟩ (fun r => (∀ c : Dev Cert.SsmScanRefIdeal.nD,
      r.2.mem ((c.tc : Thread Cert.SsmScanRefIdeal.nD Cert.SsmScanRefIdeal.τ).loc Cert.SsmScanRefIdeal.main_arg0) = m ((c.tc : Thread Cert.SsmScanRefIdeal.nD Cert.SsmScanRefIdeal.τ).loc Cert.SsmScanRefIdeal.main_arg0)
      ∧ r.2.mem ((c.tc : Thread Cert.SsmScanRefIdeal.nD Cert.SsmScanRefIdeal.τ).loc Cert.SsmScanRefIdeal.main_arg1) = m ((c.tc : Thread Cert.SsmScanRefIdeal.nD Cert.SsmScanRefIdeal.τ).loc Cert.SsmScanRefIdeal.main_arg1)
      ∧ r.2.mem ((c.tc : Thread Cert.SsmScanRefIdeal.nD Cert.SsmScanRefIdeal.τ).loc Cert.SsmScanRefIdeal.main_arg2) = m ((c.tc : Thread Cert.SsmScanRefIdeal.nD Cert.SsmScanRefIdeal.τ).loc Cert.SsmScanRefIdeal.main_arg2)
      ∧ r.2.mem ((c.tc : Thread Cert.SsmScanRefIdeal.nD Cert.SsmScanRefIdeal.τ).loc Cert.SsmScanRefIdeal.main_arg3) = m ((c.tc : Thread Cert.SsmScanRefIdeal.nD Cert.SsmScanRefIdeal.τ).loc Cert.SsmScanRefIdeal.main_arg3)
      ∧ r.2.mem ((c.tc : Thread Cert.SsmScanRefIdeal.nD Cert.SsmScanRefIdeal.τ).loc Cert.SsmScanRefIdeal.main_arg4) = m ((c.tc : Thread Cert.SsmScanRefIdeal.nD Cert.SsmScanRefIdeal.τ).loc Cert.SsmScanRefIdeal.main_arg4)
      ∧ r.2.mem ((c.tc : Thread Cert.SsmScanRefIdeal.nD Cert.SsmScanRefIdeal.τ).loc Cert.SsmScanRefIdeal.main_arg5) = m ((c.tc : Thread Cert.SsmScanRefIdeal.nD Cert.SsmScanRefIdeal.τ).loc Cert.SsmScanRefIdeal.main_arg5)
      ∧ r.2.mem ((c.tc : Thread Cert.SsmScanRefIdeal.nD Cert.SsmScanRefIdeal.τ).loc Cert.SsmScanRefIdeal.main_arg6) = m ((c.tc : Thread Cert.SsmScanRefIdeal.nD Cert.SsmScanRefIdeal.τ).loc Cert.SsmScanRefIdeal.main_arg6))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_SsmActFwd [hSsmActFwd : Cert.SsmActFwd.Facts] : Prop :=
  ∀ (m : (ℓ : Loc Cert.SsmActFwd.nD Cert.SsmActFwd.τ Cert.SsmActFwd.sig) → Buf (Elt Bits) ℓ) (g : Dev Cert.SsmActFwd.nD → PrngReg), Pre_SsmActFwd m →
    θ_run (Cert.SsmActFwd.defs (F := Bits)) (onTc (τ := Cert.SsmActFwd.τ) (Cert.SsmActFwd.main (F := Bits))) ⟨m, fun _ => 0, g⟩ (fun r => (∀ c : Dev Cert.SsmActFwd.nD,
      r.2.mem ((c.tc : Thread Cert.SsmActFwd.nD Cert.SsmActFwd.τ).loc Cert.SsmActFwd.main_arg0) = m ((c.tc : Thread Cert.SsmActFwd.nD Cert.SsmActFwd.τ).loc Cert.SsmActFwd.main_arg0)
      ∧ r.2.mem ((c.tc : Thread Cert.SsmActFwd.nD Cert.SsmActFwd.τ).loc Cert.SsmActFwd.main_arg1) = m ((c.tc : Thread Cert.SsmActFwd.nD Cert.SsmActFwd.τ).loc Cert.SsmActFwd.main_arg1)
      ∧ r.2.mem ((c.tc : Thread Cert.SsmActFwd.nD Cert.SsmActFwd.τ).loc Cert.SsmActFwd.main_arg2) = m ((c.tc : Thread Cert.SsmActFwd.nD Cert.SsmActFwd.τ).loc Cert.SsmActFwd.main_arg2))
      ∧ r.2.sem = fun _ => 0)

def quiescent_SsmActFwdIdeal [hSsmActFwdIdeal : Cert.SsmActFwdIdeal.Facts] : Prop :=
  ∀ (m : (ℓ : Loc Cert.SsmActFwdIdeal.nD Cert.SsmActFwdIdeal.τ Cert.SsmActFwdIdeal.sig) → Buf (Elt Ideal) ℓ) (g : Dev Cert.SsmActFwdIdeal.nD → PrngReg), Pre_SsmActFwdIdeal m →
    θ_run (Cert.SsmActFwdIdeal.defs (F := Ideal)) (onTc (τ := Cert.SsmActFwdIdeal.τ) (Cert.SsmActFwdIdeal.main (F := Ideal))) ⟨m, fun _ => 0, g⟩ (fun r => (∀ c : Dev Cert.SsmActFwdIdeal.nD,
      r.2.mem ((c.tc : Thread Cert.SsmActFwdIdeal.nD Cert.SsmActFwdIdeal.τ).loc Cert.SsmActFwdIdeal.main_arg0) = m ((c.tc : Thread Cert.SsmActFwdIdeal.nD Cert.SsmActFwdIdeal.τ).loc Cert.SsmActFwdIdeal.main_arg0)
      ∧ r.2.mem ((c.tc : Thread Cert.SsmActFwdIdeal.nD Cert.SsmActFwdIdeal.τ).loc Cert.SsmActFwdIdeal.main_arg1) = m ((c.tc : Thread Cert.SsmActFwdIdeal.nD Cert.SsmActFwdIdeal.τ).loc Cert.SsmActFwdIdeal.main_arg1)
      ∧ r.2.mem ((c.tc : Thread Cert.SsmActFwdIdeal.nD Cert.SsmActFwdIdeal.τ).loc Cert.SsmActFwdIdeal.main_arg2) = m ((c.tc : Thread Cert.SsmActFwdIdeal.nD Cert.SsmActFwdIdeal.τ).loc Cert.SsmActFwdIdeal.main_arg2))
      ∧ r.2.sem = fun _ => 0)

def quiescent_SsmActFwdRefIdeal [hSsmActFwdRefIdeal : Cert.SsmActFwdRefIdeal.Facts] : Prop :=
  ∀ (m : (ℓ : Loc Cert.SsmActFwdRefIdeal.nD Cert.SsmActFwdRefIdeal.τ Cert.SsmActFwdRefIdeal.sig) → Buf (Elt Ideal) ℓ) (g : Dev Cert.SsmActFwdRefIdeal.nD → PrngReg), Pre_SsmActFwdRefIdeal m →
    θ_run (Cert.SsmActFwdRefIdeal.defs (F := Ideal)) (onTc (τ := Cert.SsmActFwdRefIdeal.τ) (Cert.SsmActFwdRefIdeal.main (F := Ideal))) ⟨m, fun _ => 0, g⟩ (fun r => (∀ c : Dev Cert.SsmActFwdRefIdeal.nD,
      r.2.mem ((c.tc : Thread Cert.SsmActFwdRefIdeal.nD Cert.SsmActFwdRefIdeal.τ).loc Cert.SsmActFwdRefIdeal.main_arg0) = m ((c.tc : Thread Cert.SsmActFwdRefIdeal.nD Cert.SsmActFwdRefIdeal.τ).loc Cert.SsmActFwdRefIdeal.main_arg0)
      ∧ r.2.mem ((c.tc : Thread Cert.SsmActFwdRefIdeal.nD Cert.SsmActFwdRefIdeal.τ).loc Cert.SsmActFwdRefIdeal.main_arg1) = m ((c.tc : Thread Cert.SsmActFwdRefIdeal.nD Cert.SsmActFwdRefIdeal.τ).loc Cert.SsmActFwdRefIdeal.main_arg1)
      ∧ r.2.mem ((c.tc : Thread Cert.SsmActFwdRefIdeal.nD Cert.SsmActFwdRefIdeal.τ).loc Cert.SsmActFwdRefIdeal.main_arg2) = m ((c.tc : Thread Cert.SsmActFwdRefIdeal.nD Cert.SsmActFwdRefIdeal.τ).loc Cert.SsmActFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0))
      ∧ r.2.sem = fun _ => 0)

def quiescent_PrenormFwd [hPrenormFwd : Cert.PrenormFwd.Facts] : Prop :=
  ∀ (m : (ℓ : Loc Cert.PrenormFwd.nD Cert.PrenormFwd.τ Cert.PrenormFwd.sig) → Buf (Elt Bits) ℓ) (g : Dev Cert.PrenormFwd.nD → PrngReg), Pre_PrenormFwd m →
    θ_run (Cert.PrenormFwd.defs (F := Bits)) (onTc (τ := Cert.PrenormFwd.τ) (Cert.PrenormFwd.main (F := Bits))) ⟨m, fun _ => 0, g⟩ (fun r => (∀ c : Dev Cert.PrenormFwd.nD,
      r.2.mem ((c.tc : Thread Cert.PrenormFwd.nD Cert.PrenormFwd.τ).loc Cert.PrenormFwd.main_arg0) = m ((c.tc : Thread Cert.PrenormFwd.nD Cert.PrenormFwd.τ).loc Cert.PrenormFwd.main_arg0)
      ∧ r.2.mem ((c.tc : Thread Cert.PrenormFwd.nD Cert.PrenormFwd.τ).loc Cert.PrenormFwd.main_arg1) = m ((c.tc : Thread Cert.PrenormFwd.nD Cert.PrenormFwd.τ).loc Cert.PrenormFwd.main_arg1)
      ∧ r.2.mem ((c.tc : Thread Cert.PrenormFwd.nD Cert.PrenormFwd.τ).loc Cert.PrenormFwd.main_arg2) = m ((c.tc : Thread Cert.PrenormFwd.nD Cert.PrenormFwd.τ).loc Cert.PrenormFwd.main_arg2)
      ∧ r.2.mem ((c.tc : Thread Cert.PrenormFwd.nD Cert.PrenormFwd.τ).loc Cert.PrenormFwd.main_arg3) = m ((c.tc : Thread Cert.PrenormFwd.nD Cert.PrenormFwd.τ).loc Cert.PrenormFwd.main_arg3))
      ∧ r.2.sem = fun _ => 0)

def quiescent_PrenormFwdIdeal [hPrenormFwdIdeal : Cert.PrenormFwdIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg), Pre_PrenormFwdIdeal m →
    θ_run (Cert.PrenormFwdIdeal.defs (F := Ideal)) (onTc (τ := Cert.PrenormFwdIdeal.τ) (Cert.PrenormFwdIdeal.main (F := Ideal))) ⟨m, fun _ => 0, g⟩ (fun r => (∀ c : Dev Cert.PrenormFwdIdeal.nD,
      r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
      ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
      ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2)
      ∧ r.2.mem ((c.tc : Thread Cert.PrenormFwdIdeal.nD Cert.PrenormFwdIdeal.τ).loc Cert.PrenormFwdIdeal.main_arg3) = m ((c.tc : Thread Cert.PrenormFwdIdeal.nD Cert.PrenormFwdIdeal.τ).loc Cert.PrenormFwdIdeal.main_arg3))
      ∧ r.2.sem = fun _ => 0)

def quiescent_PrenormFwdRefIdeal [hPrenormFwdRefIdeal : Cert.PrenormFwdRefIdeal.Facts] : Prop :=
  ∀ (m : (ℓ : Loc Cert.PrenormFwdRefIdeal.nD Cert.PrenormFwdRefIdeal.τ Cert.PrenormFwdRefIdeal.sig) → Buf (Elt Ideal) ℓ) (g : Dev Cert.PrenormFwdRefIdeal.nD → PrngReg), Pre_PrenormFwdRefIdeal m →
    θ_run (Cert.PrenormFwdRefIdeal.defs (F := Ideal)) (onTc (τ := Cert.PrenormFwdRefIdeal.τ) (Cert.PrenormFwdRefIdeal.main (F := Ideal))) ⟨m, fun _ => 0, g⟩ (fun r => (∀ c : Dev Cert.PrenormFwdRefIdeal.nD,
      r.2.mem ((c.tc : Thread Cert.PrenormFwdRefIdeal.nD Cert.PrenormFwdRefIdeal.τ).loc Cert.PrenormFwdRefIdeal.main_arg0) = m ((c.tc : Thread Cert.PrenormFwdRefIdeal.nD Cert.PrenormFwdRefIdeal.τ).loc Cert.PrenormFwdRefIdeal.main_arg0)
      ∧ r.2.mem ((c.tc : Thread Cert.PrenormFwdRefIdeal.nD Cert.PrenormFwdRefIdeal.τ).loc Cert.PrenormFwdRefIdeal.main_arg1) = m ((c.tc : Thread Cert.PrenormFwdRefIdeal.nD Cert.PrenormFwdRefIdeal.τ).loc Cert.PrenormFwdRefIdeal.main_arg1)
      ∧ r.2.mem ((c.tc : Thread Cert.PrenormFwdRefIdeal.nD Cert.PrenormFwdRefIdeal.τ).loc Cert.PrenormFwdRefIdeal.main_arg2) = m ((c.tc : Thread Cert.PrenormFwdRefIdeal.nD Cert.PrenormFwdRefIdeal.τ).loc Cert.PrenormFwdRefIdeal.main_arg2)
      ∧ r.2.mem ((c.tc : Thread Cert.PrenormFwdRefIdeal.nD Cert.PrenormFwdRefIdeal.τ).loc Cert.PrenormFwdRefIdeal.main_arg3) = m ((c.tc : Thread Cert.PrenormFwdRefIdeal.nD Cert.PrenormFwdRefIdeal.τ).loc Cert.PrenormFwdRefIdeal.main_arg3))
      ∧ r.2.sem = fun _ => 0)

def quiescent_ModPart [hModPart : Cert.ModPart.Facts] : Prop :=
  ∀ (m : (ℓ : Loc Cert.ModPart.nD Cert.ModPart.τ Cert.ModPart.sig) → Buf (Elt Bits) ℓ) (g : Dev Cert.ModPart.nD → PrngReg), Pre_ModPart m →
    θ_run (Cert.ModPart.defs (F := Bits)) (onTc (τ := Cert.ModPart.τ) (Cert.ModPart.main (F := Bits))) ⟨m, fun _ => 0, g⟩ (fun r => (∀ c : Dev Cert.ModPart.nD,
      r.2.mem ((c.tc : Thread Cert.ModPart.nD Cert.ModPart.τ).loc Cert.ModPart.main_arg0) = m ((c.tc : Thread Cert.ModPart.nD Cert.ModPart.τ).loc Cert.ModPart.main_arg0)
      ∧ r.2.mem ((c.tc : Thread Cert.ModPart.nD Cert.ModPart.τ).loc Cert.ModPart.main_arg1) = m ((c.tc : Thread Cert.ModPart.nD Cert.ModPart.τ).loc Cert.ModPart.main_arg1))
      ∧ r.2.sem = fun _ => 0)

def quiescent_ModPartIdeal [hModPartIdeal : Cert.ModPartIdeal.Facts] : Prop :=
  ∀ (m : (ℓ : Loc Cert.ModPartIdeal.nD Cert.ModPartIdeal.τ Cert.ModPartIdeal.sig) → Buf (Elt Ideal) ℓ) (g : Dev Cert.ModPartIdeal.nD → PrngReg), Pre_ModPartIdeal m →
    θ_run (Cert.ModPartIdeal.defs (F := Ideal)) (onTc (τ := Cert.ModPartIdeal.τ) (Cert.ModPartIdeal.main (F := Ideal))) ⟨m, fun _ => 0, g⟩ (fun r => (∀ c : Dev Cert.ModPartIdeal.nD,
      r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
      ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1))
      ∧ r.2.sem = fun _ => 0)

def quiescent_ModPartRefIdeal [hModPartRefIdeal : Cert.ModPartRefIdeal.Facts] : Prop :=
  ∀ (m : (ℓ : Loc Cert.ModPartRefIdeal.nD Cert.ModPartRefIdeal.τ Cert.ModPartRefIdeal.sig) → Buf (Elt Ideal) ℓ) (g : Dev Cert.ModPartRefIdeal.nD → PrngReg), Pre_ModPartRefIdeal m →
    θ_run (Cert.ModPartRefIdeal.defs (F := Ideal)) (onTc (τ := Cert.ModPartRefIdeal.τ) (Cert.ModPartRefIdeal.main (F := Ideal))) ⟨m, fun _ => 0, g⟩ (fun r => (∀ c : Dev Cert.ModPartRefIdeal.nD,
      r.2.mem ((c.tc : Thread Cert.ModPartRefIdeal.nD Cert.ModPartRefIdeal.τ).loc Cert.ModPartRefIdeal.main_arg0) = m ((c.tc : Thread Cert.ModPartRefIdeal.nD Cert.ModPartRefIdeal.τ).loc Cert.ModPartRefIdeal.main_arg0)
      ∧ r.2.mem ((c.tc : Thread Cert.ModPartRefIdeal.nD Cert.ModPartRefIdeal.τ).loc Cert.ModPartRefIdeal.main_arg1) = m ((c.tc : Thread Cert.ModPartRefIdeal.nD Cert.ModPartRefIdeal.τ).loc Cert.ModPartRefIdeal.main_arg1))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_MmSum [hMmSum : Cert.MmSum.Facts] : Prop :=
  ∀ (m : (ℓ : Loc Cert.MmSum.nD Cert.MmSum.τ Cert.MmSum.sig) → Buf (Elt Bits) ℓ) (g : Dev Cert.MmSum.nD → PrngReg), Pre_MmSum m →
    θ_run (Cert.MmSum.defs (F := Bits)) (onTc (τ := Cert.MmSum.τ) (Cert.MmSum.main (F := Bits))) ⟨m, fun _ => 0, g⟩ (fun r => (∀ c : Dev Cert.MmSum.nD,
      r.2.mem ((c.tc : Thread Cert.MmSum.nD Cert.MmSum.τ).loc Cert.MmSum.main_arg0) = m ((c.tc : Thread Cert.MmSum.nD Cert.MmSum.τ).loc Cert.MmSum.main_arg0)
      ∧ r.2.mem ((c.tc : Thread Cert.MmSum.nD Cert.MmSum.τ).loc Cert.MmSum.main_arg1) = m ((c.tc : Thread Cert.MmSum.nD Cert.MmSum.τ).loc Cert.MmSum.main_arg1))
      ∧ r.2.sem = fun _ => 0)

def quiescent_MmSumIdeal [hMmSumIdeal : Cert.MmSumIdeal.Facts] : Prop :=
  ∀ (m : (ℓ : Loc Cert.MmSumIdeal.nD Cert.MmSumIdeal.τ Cert.MmSumIdeal.sig) → Buf (Elt Ideal) ℓ) (g : Dev Cert.MmSumIdeal.nD → PrngReg), Pre_MmSumIdeal m →
    θ_run (Cert.MmSumIdeal.defs (F := Ideal)) (onTc (τ := Cert.MmSumIdeal.τ) (Cert.MmSumIdeal.main (F := Ideal))) ⟨m, fun _ => 0, g⟩ (fun r => (∀ c : Dev Cert.MmSumIdeal.nD,
      r.2.mem ((c.tc : Thread Cert.MmSumIdeal.nD Cert.MmSumIdeal.τ).loc Cert.MmSumIdeal.main_arg0) = m ((c.tc : Thread Cert.MmSumIdeal.nD Cert.MmSumIdeal.τ).loc Cert.MmSumIdeal.main_arg0)
      ∧ r.2.mem ((c.tc : Thread Cert.MmSumIdeal.nD Cert.MmSumIdeal.τ).loc Cert.MmSumIdeal.main_arg1) = m ((c.tc : Thread Cert.MmSumIdeal.nD Cert.MmSumIdeal.τ).loc Cert.MmSumIdeal.main_arg1))
      ∧ r.2.sem = fun _ => 0)

def quiescent_MmSumRefIdeal [hMmSumRefIdeal : Cert.MmSumRefIdeal.Facts] : Prop :=
  ∀ (m : (ℓ : Loc Cert.MmSumRefIdeal.nD Cert.MmSumRefIdeal.τ Cert.MmSumRefIdeal.sig) → Buf (Elt Ideal) ℓ) (g : Dev Cert.MmSumRefIdeal.nD → PrngReg), Pre_MmSumRefIdeal m →
    θ_run (Cert.MmSumRefIdeal.defs (F := Ideal)) (onTc (τ := Cert.MmSumRefIdeal.τ) (Cert.MmSumRefIdeal.main (F := Ideal))) ⟨m, fun _ => 0, g⟩ (fun r => (∀ c : Dev Cert.MmSumRefIdeal.nD,
      r.2.mem ((c.tc : Thread Cert.MmSumRefIdeal.nD Cert.MmSumRefIdeal.τ).loc Cert.MmSumRefIdeal.main_arg0) = m ((c.tc : Thread Cert.MmSumRefIdeal.nD Cert.MmSumRefIdeal.τ).loc Cert.MmSumRefIdeal.main_arg0)
      ∧ r.2.mem ((c.tc : Thread Cert.MmSumRefIdeal.nD Cert.MmSumRefIdeal.τ).loc Cert.MmSumRefIdeal.main_arg1) = m ((c.tc : Thread Cert.MmSumRefIdeal.nD Cert.MmSumRefIdeal.τ).loc Cert.MmSumRefIdeal.main_arg1))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_MmDw [hMmDw : Cert.MmDw.Facts] : Prop :=
  ∀ (m : (ℓ : Loc Cert.MmDw.nD Cert.MmDw.τ Cert.MmDw.sig) → Buf (Elt Bits) ℓ) (g : Dev Cert.MmDw.nD → PrngReg), Pre_MmDw m →
    θ_run (Cert.MmDw.defs (F := Bits)) (onTc (τ := Cert.MmDw.τ) (Cert.MmDw.main (F := Bits))) ⟨m, fun _ => 0, g⟩ (fun r => (∀ c : Dev Cert.MmDw.nD,
      r.2.mem ((c.tc : Thread Cert.MmDw.nD Cert.MmDw.τ).loc Cert.MmDw.main_arg0) = m ((c.tc : Thread Cert.MmDw.nD Cert.MmDw.τ).loc Cert.MmDw.main_arg0)
      ∧ r.2.mem ((c.tc : Thread Cert.MmDw.nD Cert.MmDw.τ).loc Cert.MmDw.main_arg1) = m ((c.tc : Thread Cert.MmDw.nD Cert.MmDw.τ).loc Cert.MmDw.main_arg1))
      ∧ r.2.sem = fun _ => 0)

def quiescent_MmDwIdeal [hMmDwIdeal : Cert.MmDwIdeal.Facts] : Prop :=
  ∀ (m : (ℓ : Loc Cert.MmDwIdeal.nD Cert.MmDwIdeal.τ Cert.MmDwIdeal.sig) → Buf (Elt Ideal) ℓ) (g : Dev Cert.MmDwIdeal.nD → PrngReg), Pre_MmDwIdeal m →
    θ_run (Cert.MmDwIdeal.defs (F := Ideal)) (onTc (τ := Cert.MmDwIdeal.τ) (Cert.MmDwIdeal.main (F := Ideal))) ⟨m, fun _ => 0, g⟩ (fun r => (∀ c : Dev Cert.MmDwIdeal.nD,
      r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
      ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1))
      ∧ r.2.sem = fun _ => 0)

def quiescent_MmDwRefIdeal [hMmDwRefIdeal : Cert.MmDwRefIdeal.Facts] : Prop :=
  ∀ (m : (ℓ : Loc Cert.MmDwRefIdeal.nD Cert.MmDwRefIdeal.τ Cert.MmDwRefIdeal.sig) → Buf (Elt Ideal) ℓ) (g : Dev Cert.MmDwRefIdeal.nD → PrngReg), Pre_MmDwRefIdeal m →
    θ_run (Cert.MmDwRefIdeal.defs (F := Ideal)) (onTc (τ := Cert.MmDwRefIdeal.τ) (Cert.MmDwRefIdeal.main (F := Ideal))) ⟨m, fun _ => 0, g⟩ (fun r => (∀ c : Dev Cert.MmDwRefIdeal.nD,
      r.2.mem ((c.tc : Thread Cert.MmDwRefIdeal.nD Cert.MmDwRefIdeal.τ).loc Cert.MmDwRefIdeal.main_arg0) = m ((c.tc : Thread Cert.MmDwRefIdeal.nD Cert.MmDwRefIdeal.τ).loc Cert.MmDwRefIdeal.main_arg0)
      ∧ r.2.mem ((c.tc : Thread Cert.MmDwRefIdeal.nD Cert.MmDwRefIdeal.τ).loc Cert.MmDwRefIdeal.main_arg1) = m ((c.tc : Thread Cert.MmDwRefIdeal.nD Cert.MmDwRefIdeal.τ).loc Cert.MmDwRefIdeal.main_arg1))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ r.2.sem = fun _ => 0)

def quiescent_SumPartsRefIdeal [hSumPartsRefIdeal : Cert.SumPartsRefIdeal.Facts] : Prop :=
  ∀ (m : (ℓ : Loc Cert.SumPartsRefIdeal.nD Cert.SumPartsRefIdeal.τ Cert.SumPartsRefIdeal.sig) → Buf (Elt Ideal) ℓ) (g : Dev Cert.SumPartsRefIdeal.nD → PrngReg), Pre_SumPartsRefIdeal m →
    θ_run (Cert.SumPartsRefIdeal.defs (F := Ideal)) (onTc (τ := Cert.SumPartsRefIdeal.τ) (Cert.SumPartsRefIdeal.main (F := Ideal))) ⟨m, fun _ => 0, g⟩ (fun r => (∀ c : Dev Cert.SumPartsRefIdeal.nD,
      r.2.mem ((c.tc : Thread Cert.SumPartsRefIdeal.nD Cert.SumPartsRefIdeal.τ).loc Cert.SumPartsRefIdeal.main_arg0) = m ((c.tc : Thread Cert.SumPartsRefIdeal.nD Cert.SumPartsRefIdeal.τ).loc Cert.SumPartsRefIdeal.main_arg0))
      ∧ r.2.sem = fun _ => 0)

def quiescent_BlockDiag [hBlockDiag : Cert.BlockDiag.Facts] : Prop :=
  ∀ (m : (ℓ : Loc Cert.BlockDiag.nD Cert.BlockDiag.τ Cert.BlockDiag.sig) → Buf (Elt Bits) ℓ) (g : Dev Cert.BlockDiag.nD → PrngReg), Pre_BlockDiag m →
    θ_run (Cert.BlockDiag.defs (F := Bits)) (onTc (τ := Cert.BlockDiag.τ) (Cert.BlockDiag.main (F := Bits))) ⟨m, fun _ => 0, g⟩ (fun r => (∀ c : Dev Cert.BlockDiag.nD,
      r.2.mem ((c.tc : Thread Cert.BlockDiag.nD Cert.BlockDiag.τ).loc Cert.BlockDiag.main_arg0) = m ((c.tc : Thread Cert.BlockDiag.nD Cert.BlockDiag.τ).loc Cert.BlockDiag.main_arg0)
      ∧ r.2.mem ((c.tc : Thread Cert.BlockDiag.nD Cert.BlockDiag.τ).loc Cert.BlockDiag.main_arg1) = m ((c.tc : Thread Cert.BlockDiag.nD Cert.BlockDiag.τ).loc Cert.BlockDiag.main_arg1))
      ∧ r.2.sem = fun _ => 0)

def quiescent_BlockDiagIdeal [hBlockDiagIdeal : Cert.BlockDiagIdeal.Facts] : Prop :=
  ∀ (m : (ℓ : Loc Cert.BlockDiagIdeal.nD Cert.BlockDiagIdeal.τ Cert.BlockDiagIdeal.sig) → Buf (Elt Ideal) ℓ) (g : Dev Cert.BlockDiagIdeal.nD → PrngReg), Pre_BlockDiagIdeal m →
    θ_run (Cert.BlockDiagIdeal.defs (F := Ideal)) (onTc (τ := Cert.BlockDiagIdeal.τ) (Cert.BlockDiagIdeal.main (F := Ideal))) ⟨m, fun _ => 0, g⟩ (fun r => (∀ c : Dev Cert.BlockDiagIdeal.nD,
      r.2.mem ((c.tc : Thread Cert.BlockDiagIdeal.nD Cert.BlockDiagIdeal.τ).loc Cert.BlockDiagIdeal.main_arg0) = m ((c.tc : Thread Cert.BlockDiagIdeal.nD Cert.BlockDiagIdeal.τ).loc Cert.BlockDiagIdeal.main_arg0)
      ∧ r.2.mem ((c.tc : Thread Cert.BlockDiagIdeal.nD Cert.BlockDiagIdeal.τ).loc Cert.BlockDiagIdeal.main_arg1) = m ((c.tc : Thread Cert.BlockDiagIdeal.nD Cert.BlockDiagIdeal.τ).loc Cert.BlockDiagIdeal.main_arg1))
      ∧ r.2.sem = fun _ => 0)

def quiescent_BlockDiagRefIdeal [hBlockDiagRefIdeal : Cert.BlockDiagRefIdeal.Facts] : Prop :=
  ∀ (m : (ℓ : Loc Cert.BlockDiagRefIdeal.nD Cert.BlockDiagRefIdeal.τ Cert.BlockDiagRefIdeal.sig) → Buf (Elt Ideal) ℓ) (g : Dev Cert.BlockDiagRefIdeal.nD → PrngReg), Pre_BlockDiagRefIdeal m →
    θ_run (Cert.BlockDiagRefIdeal.defs (F := Ideal)) (onTc (τ := Cert.BlockDiagRefIdeal.τ) (Cert.BlockDiagRefIdeal.main (F := Ideal))) ⟨m, fun _ => 0, g⟩ (fun r => (∀ c : Dev Cert.BlockDiagRefIdeal.nD,
      r.2.mem ((c.tc : Thread Cert.BlockDiagRefIdeal.nD Cert.BlockDiagRefIdeal.τ).loc Cert.BlockDiagRefIdeal.main_arg0) = m ((c.tc : Thread Cert.BlockDiagRefIdeal.nD Cert.BlockDiagRefIdeal.τ).loc Cert.BlockDiagRefIdeal.main_arg0)
      ∧ r.2.mem ((c.tc : Thread Cert.BlockDiagRefIdeal.nD Cert.BlockDiagRefIdeal.τ).loc Cert.BlockDiagRefIdeal.main_arg1) = m ((c.tc : Thread Cert.BlockDiagRefIdeal.nD Cert.BlockDiagRefIdeal.τ).loc Cert.BlockDiagRefIdeal.main_arg1))
      ∧ r.2.sem = fun _ => 0)

def quiescent_AdamwRows [hAdamwRows : Cert.AdamwRows.Facts] : Prop :=
  ∀ (m : (ℓ : Loc Cert.AdamwRows.nD Cert.AdamwRows.τ Cert.AdamwRows.sig) → Buf (Elt Bits) ℓ) (g : Dev Cert.AdamwRows.nD → PrngReg), Pre_AdamwRows m →
    θ_run (Cert.AdamwRows.defs (F := Bits)) (onTc (τ := Cert.AdamwRows.τ) (Cert.AdamwRows.main (F := Bits))) ⟨m, fun _ => 0, g⟩ (fun r => (∀ c : Dev Cert.AdamwRows.nD,
      r.2.mem ((c.tc : Thread Cert.AdamwRows.nD Cert.AdamwRows.τ).loc Cert.AdamwRows.main_arg0) = m ((c.tc : Thread Cert.AdamwRows.nD Cert.AdamwRows.τ).loc Cert.AdamwRows.main_arg0)
      ∧ r.2.mem ((c.tc : Thread Cert.AdamwRows.nD Cert.AdamwRows.τ).loc Cert.AdamwRows.main_arg1) = m ((c.tc : Thread Cert.AdamwRows.nD Cert.AdamwRows.τ).loc Cert.AdamwRows.main_arg1)
      ∧ r.2.mem ((c.tc : Thread Cert.AdamwRows.nD Cert.AdamwRows.τ).loc Cert.AdamwRows.main_arg2) = m ((c.tc : Thread Cert.AdamwRows.nD Cert.AdamwRows.τ).loc Cert.AdamwRows.main_arg2)
      ∧ r.2.mem ((c.tc : Thread Cert.AdamwRows.nD Cert.AdamwRows.τ).loc Cert.AdamwRows.main_arg3) = m ((c.tc : Thread Cert.AdamwRows.nD Cert.AdamwRows.τ).loc Cert.AdamwRows.main_arg3))
      ∧ r.2.sem = fun _ => 0)

def quiescent_AdamwRowsIdeal [hAdamwRowsIdeal : Cert.AdamwRowsIdeal.Facts] : Prop :=
  ∀ (m : (ℓ : Loc Cert.AdamwRowsIdeal.nD Cert.AdamwRowsIdeal.τ Cert.AdamwRowsIdeal.sig) → Buf (Elt Ideal) ℓ) (g : Dev Cert.AdamwRowsIdeal.nD → PrngReg), Pre_AdamwRowsIdeal m →
    θ_run (Cert.AdamwRowsIdeal.defs (F := Ideal)) (onTc (τ := Cert.AdamwRowsIdeal.τ) (Cert.AdamwRowsIdeal.main (F := Ideal))) ⟨m, fun _ => 0, g⟩ (fun r => (∀ c : Dev Cert.AdamwRowsIdeal.nD,
      r.2.mem ((c.tc : Thread Cert.AdamwRowsIdeal.nD Cert.AdamwRowsIdeal.τ).loc Cert.AdamwRowsIdeal.main_arg0) = m ((c.tc : Thread Cert.AdamwRowsIdeal.nD Cert.AdamwRowsIdeal.τ).loc Cert.AdamwRowsIdeal.main_arg0)
      ∧ r.2.mem ((c.tc : Thread Cert.AdamwRowsIdeal.nD Cert.AdamwRowsIdeal.τ).loc Cert.AdamwRowsIdeal.main_arg1) = m ((c.tc : Thread Cert.AdamwRowsIdeal.nD Cert.AdamwRowsIdeal.τ).loc Cert.AdamwRowsIdeal.main_arg1)
      ∧ r.2.mem ((c.tc : Thread Cert.AdamwRowsIdeal.nD Cert.AdamwRowsIdeal.τ).loc Cert.AdamwRowsIdeal.main_arg2) = m ((c.tc : Thread Cert.AdamwRowsIdeal.nD Cert.AdamwRowsIdeal.τ).loc Cert.AdamwRowsIdeal.main_arg2)
      ∧ r.2.mem ((c.tc : Thread Cert.AdamwRowsIdeal.nD Cert.AdamwRowsIdeal.τ).loc Cert.AdamwRowsIdeal.main_arg3) = m ((c.tc : Thread Cert.AdamwRowsIdeal.nD Cert.AdamwRowsIdeal.τ).loc Cert.AdamwRowsIdeal.main_arg3))
      ∧ r.2.sem = fun _ => 0)

def quiescent_AdamwRowsRefIdeal [hAdamwRowsRefIdeal : Cert.AdamwRowsRefIdeal.Facts] : Prop :=
  ∀ (m : (ℓ : Loc Cert.AdamwRowsRefIdeal.nD Cert.AdamwRowsRefIdeal.τ Cert.AdamwRowsRefIdeal.sig) → Buf (Elt Ideal) ℓ) (g : Dev Cert.AdamwRowsRefIdeal.nD → PrngReg), Pre_AdamwRowsRefIdeal m →
    θ_run (Cert.AdamwRowsRefIdeal.defs (F := Ideal)) (onTc (τ := Cert.AdamwRowsRefIdeal.τ) (Cert.AdamwRowsRefIdeal.main (F := Ideal))) ⟨m, fun _ => 0, g⟩ (fun r => (∀ c : Dev Cert.AdamwRowsRefIdeal.nD,
      r.2.mem ((c.tc : Thread Cert.AdamwRowsRefIdeal.nD Cert.AdamwRowsRefIdeal.τ).loc Cert.AdamwRowsRefIdeal.main_arg0) = m ((c.tc : Thread Cert.AdamwRowsRefIdeal.nD Cert.AdamwRowsRefIdeal.τ).loc Cert.AdamwRowsRefIdeal.main_arg0)
      ∧ r.2.mem ((c.tc : Thread Cert.AdamwRowsRefIdeal.nD Cert.AdamwRowsRefIdeal.τ).loc Cert.AdamwRowsRefIdeal.main_arg1) = m ((c.tc : Thread Cert.AdamwRowsRefIdeal.nD Cert.AdamwRowsRefIdeal.τ).loc Cert.AdamwRowsRefIdeal.main_arg1)
      ∧ r.2.mem ((c.tc : Thread Cert.AdamwRowsRefIdeal.nD Cert.AdamwRowsRefIdeal.τ).loc Cert.AdamwRowsRefIdeal.main_arg2) = m ((c.tc : Thread Cert.AdamwRowsRefIdeal.nD Cert.AdamwRowsRefIdeal.τ).loc Cert.AdamwRowsRefIdeal.main_arg2)
      ∧ r.2.mem ((c.tc : Thread Cert.AdamwRowsRefIdeal.nD Cert.AdamwRowsRefIdeal.τ).loc Cert.AdamwRowsRefIdeal.main_arg3) = m ((c.tc : Thread Cert.AdamwRowsRefIdeal.nD Cert.AdamwRowsRefIdeal.τ).loc Cert.AdamwRowsRefIdeal.main_arg3))
      ∧ r.2.sem = fun _ => 0)

def quiescent_AdamwCols [hAdamwCols : Cert.AdamwCols.Facts] : Prop :=
  ∀ (m : (ℓ : Loc Cert.AdamwCols.nD Cert.AdamwCols.τ Cert.AdamwCols.sig) → Buf (Elt Bits) ℓ) (g : Dev Cert.AdamwCols.nD → PrngReg), Pre_AdamwCols m →
    θ_run (Cert.AdamwCols.defs (F := Bits)) (onTc (τ := Cert.AdamwCols.τ) (Cert.AdamwCols.main (F := Bits))) ⟨m, fun _ => 0, g⟩ (fun r => (∀ c : Dev Cert.AdamwCols.nD,
      r.2.mem ((c.tc : Thread Cert.AdamwCols.nD Cert.AdamwCols.τ).loc Cert.AdamwCols.main_arg0) = m ((c.tc : Thread Cert.AdamwCols.nD Cert.AdamwCols.τ).loc Cert.AdamwCols.main_arg0)
      ∧ r.2.mem ((c.tc : Thread Cert.AdamwCols.nD Cert.AdamwCols.τ).loc Cert.AdamwCols.main_arg1) = m ((c.tc : Thread Cert.AdamwCols.nD Cert.AdamwCols.τ).loc Cert.AdamwCols.main_arg1)
      ∧ r.2.mem ((c.tc : Thread Cert.AdamwCols.nD Cert.AdamwCols.τ).loc Cert.AdamwCols.main_arg2) = m ((c.tc : Thread Cert.AdamwCols.nD Cert.AdamwCols.τ).loc Cert.AdamwCols.main_arg2)
      ∧ r.2.mem ((c.tc : Thread Cert.AdamwCols.nD Cert.AdamwCols.τ).loc Cert.AdamwCols.main_arg3) = m ((c.tc : Thread Cert.AdamwCols.nD Cert.AdamwCols.τ).loc Cert.AdamwCols.main_arg3))
      ∧ r.2.sem = fun _ => 0)

def quiescent_AdamwColsIdeal [hAdamwColsIdeal : Cert.AdamwColsIdeal.Facts] : Prop :=
  ∀ (m : (ℓ : Loc Cert.AdamwColsIdeal.nD Cert.AdamwColsIdeal.τ Cert.AdamwColsIdeal.sig) → Buf (Elt Ideal) ℓ) (g : Dev Cert.AdamwColsIdeal.nD → PrngReg), Pre_AdamwColsIdeal m →
    θ_run (Cert.AdamwColsIdeal.defs (F := Ideal)) (onTc (τ := Cert.AdamwColsIdeal.τ) (Cert.AdamwColsIdeal.main (F := Ideal))) ⟨m, fun _ => 0, g⟩ (fun r => (∀ c : Dev Cert.AdamwColsIdeal.nD,
      r.2.mem ((c.tc : Thread Cert.AdamwColsIdeal.nD Cert.AdamwColsIdeal.τ).loc Cert.AdamwColsIdeal.main_arg0) = m ((c.tc : Thread Cert.AdamwColsIdeal.nD Cert.AdamwColsIdeal.τ).loc Cert.AdamwColsIdeal.main_arg0)
      ∧ r.2.mem ((c.tc : Thread Cert.AdamwColsIdeal.nD Cert.AdamwColsIdeal.τ).loc Cert.AdamwColsIdeal.main_arg1) = m ((c.tc : Thread Cert.AdamwColsIdeal.nD Cert.AdamwColsIdeal.τ).loc Cert.AdamwColsIdeal.main_arg1)
      ∧ r.2.mem ((c.tc : Thread Cert.AdamwColsIdeal.nD Cert.AdamwColsIdeal.τ).loc Cert.AdamwColsIdeal.main_arg2) = m ((c.tc : Thread Cert.AdamwColsIdeal.nD Cert.AdamwColsIdeal.τ).loc Cert.AdamwColsIdeal.main_arg2)
      ∧ r.2.mem ((c.tc : Thread Cert.AdamwColsIdeal.nD Cert.AdamwColsIdeal.τ).loc Cert.AdamwColsIdeal.main_arg3) = m ((c.tc : Thread Cert.AdamwColsIdeal.nD Cert.AdamwColsIdeal.τ).loc Cert.AdamwColsIdeal.main_arg3))
      ∧ r.2.sem = fun _ => 0)

def quiescent_AdamwColsRefIdeal [hAdamwColsRefIdeal : Cert.AdamwColsRefIdeal.Facts] : Prop :=
  ∀ (m : (ℓ : Loc Cert.AdamwColsRefIdeal.nD Cert.AdamwColsRefIdeal.τ Cert.AdamwColsRefIdeal.sig) → Buf (Elt Ideal) ℓ) (g : Dev Cert.AdamwColsRefIdeal.nD → PrngReg), Pre_AdamwColsRefIdeal m →
    θ_run (Cert.AdamwColsRefIdeal.defs (F := Ideal)) (onTc (τ := Cert.AdamwColsRefIdeal.τ) (Cert.AdamwColsRefIdeal.main (F := Ideal))) ⟨m, fun _ => 0, g⟩ (fun r => (∀ c : Dev Cert.AdamwColsRefIdeal.nD,
      r.2.mem ((c.tc : Thread Cert.AdamwColsRefIdeal.nD Cert.AdamwColsRefIdeal.τ).loc Cert.AdamwColsRefIdeal.main_arg0) = m ((c.tc : Thread Cert.AdamwColsRefIdeal.nD Cert.AdamwColsRefIdeal.τ).loc Cert.AdamwColsRefIdeal.main_arg0)
      ∧ r.2.mem ((c.tc : Thread Cert.AdamwColsRefIdeal.nD Cert.AdamwColsRefIdeal.τ).loc Cert.AdamwColsRefIdeal.main_arg1) = m ((c.tc : Thread Cert.AdamwColsRefIdeal.nD Cert.AdamwColsRefIdeal.τ).loc Cert.AdamwColsRefIdeal.main_arg1)
      ∧ r.2.mem ((c.tc : Thread Cert.AdamwColsRefIdeal.nD Cert.AdamwColsRefIdeal.τ).loc Cert.AdamwColsRefIdeal.main_arg2) = m ((c.tc : Thread Cert.AdamwColsRefIdeal.nD Cert.AdamwColsRefIdeal.τ).loc Cert.AdamwColsRefIdeal.main_arg2)
      ∧ r.2.mem ((c.tc : Thread Cert.AdamwColsRefIdeal.nD Cert.AdamwColsRefIdeal.τ).loc Cert.AdamwColsRefIdeal.main_arg3) = m ((c.tc : Thread Cert.AdamwColsRefIdeal.nD Cert.AdamwColsRefIdeal.τ).loc Cert.AdamwColsRefIdeal.main_arg3))
      ∧ r.2.sem = fun _ => 0)

def quiescent_AdamwHeads [hAdamwHeads : Cert.AdamwHeads.Facts] : Prop :=
  ∀ (m : (ℓ : Loc Cert.AdamwHeads.nD Cert.AdamwHeads.τ Cert.AdamwHeads.sig) → Buf (Elt Bits) ℓ) (g : Dev Cert.AdamwHeads.nD → PrngReg), Pre_AdamwHeads m →
    θ_run (Cert.AdamwHeads.defs (F := Bits)) (onTc (τ := Cert.AdamwHeads.τ) (Cert.AdamwHeads.main (F := Bits))) ⟨m, fun _ => 0, g⟩ (fun r => (∀ c : Dev Cert.AdamwHeads.nD,
      r.2.mem ((c.tc : Thread Cert.AdamwHeads.nD Cert.AdamwHeads.τ).loc Cert.AdamwHeads.main_arg0) = m ((c.tc : Thread Cert.AdamwHeads.nD Cert.AdamwHeads.τ).loc Cert.AdamwHeads.main_arg0)
      ∧ r.2.mem ((c.tc : Thread Cert.AdamwHeads.nD Cert.AdamwHeads.τ).loc Cert.AdamwHeads.main_arg1) = m ((c.tc : Thread Cert.AdamwHeads.nD Cert.AdamwHeads.τ).loc Cert.AdamwHeads.main_arg1)
      ∧ r.2.mem ((c.tc : Thread Cert.AdamwHeads.nD Cert.AdamwHeads.τ).loc Cert.AdamwHeads.main_arg2) = m ((c.tc : Thread Cert.AdamwHeads.nD Cert.AdamwHeads.τ).loc Cert.AdamwHeads.main_arg2)
      ∧ r.2.mem ((c.tc : Thread Cert.AdamwHeads.nD Cert.AdamwHeads.τ).loc Cert.AdamwHeads.main_arg3) = m ((c.tc : Thread Cert.AdamwHeads.nD Cert.AdamwHeads.τ).loc Cert.AdamwHeads.main_arg3))
      ∧ r.2.sem = fun _ => 0)

def quiescent_AdamwHeadsIdeal [hAdamwHeadsIdeal : Cert.AdamwHeadsIdeal.Facts] : Prop :=
  ∀ (m : (ℓ : Loc Cert.AdamwHeadsIdeal.nD Cert.AdamwHeadsIdeal.τ Cert.AdamwHeadsIdeal.sig) → Buf (Elt Ideal) ℓ) (g : Dev Cert.AdamwHeadsIdeal.nD → PrngReg), Pre_AdamwHeadsIdeal m →
    θ_run (Cert.AdamwHeadsIdeal.defs (F := Ideal)) (onTc (τ := Cert.AdamwHeadsIdeal.τ) (Cert.AdamwHeadsIdeal.main (F := Ideal))) ⟨m, fun _ => 0, g⟩ (fun r => (∀ c : Dev Cert.AdamwHeadsIdeal.nD,
      r.2.mem ((c.tc : Thread Cert.AdamwHeadsIdeal.nD Cert.AdamwHeadsIdeal.τ).loc Cert.AdamwHeadsIdeal.main_arg0) = m ((c.tc : Thread Cert.AdamwHeadsIdeal.nD Cert.AdamwHeadsIdeal.τ).loc Cert.AdamwHeadsIdeal.main_arg0)
      ∧ r.2.mem ((c.tc : Thread Cert.AdamwHeadsIdeal.nD Cert.AdamwHeadsIdeal.τ).loc Cert.AdamwHeadsIdeal.main_arg1) = m ((c.tc : Thread Cert.AdamwHeadsIdeal.nD Cert.AdamwHeadsIdeal.τ).loc Cert.AdamwHeadsIdeal.main_arg1)
      ∧ r.2.mem ((c.tc : Thread Cert.AdamwHeadsIdeal.nD Cert.AdamwHeadsIdeal.τ).loc Cert.AdamwHeadsIdeal.main_arg2) = m ((c.tc : Thread Cert.AdamwHeadsIdeal.nD Cert.AdamwHeadsIdeal.τ).loc Cert.AdamwHeadsIdeal.main_arg2)
      ∧ r.2.mem ((c.tc : Thread Cert.AdamwHeadsIdeal.nD Cert.AdamwHeadsIdeal.τ).loc Cert.AdamwHeadsIdeal.main_arg3) = m ((c.tc : Thread Cert.AdamwHeadsIdeal.nD Cert.AdamwHeadsIdeal.τ).loc Cert.AdamwHeadsIdeal.main_arg3))
      ∧ r.2.sem = fun _ => 0)

def quiescent_AdamwHeadsRefIdeal [hAdamwHeadsRefIdeal : Cert.AdamwHeadsRefIdeal.Facts] : Prop :=
  ∀ (m : (ℓ : Loc Cert.AdamwHeadsRefIdeal.nD Cert.AdamwHeadsRefIdeal.τ Cert.AdamwHeadsRefIdeal.sig) → Buf (Elt Ideal) ℓ) (g : Dev Cert.AdamwHeadsRefIdeal.nD → PrngReg), Pre_AdamwHeadsRefIdeal m →
    θ_run (Cert.AdamwHeadsRefIdeal.defs (F := Ideal)) (onTc (τ := Cert.AdamwHeadsRefIdeal.τ) (Cert.AdamwHeadsRefIdeal.main (F := Ideal))) ⟨m, fun _ => 0, g⟩ (fun r => (∀ c : Dev Cert.AdamwHeadsRefIdeal.nD,
      r.2.mem ((c.tc : Thread Cert.AdamwHeadsRefIdeal.nD Cert.AdamwHeadsRefIdeal.τ).loc Cert.AdamwHeadsRefIdeal.main_arg0) = m ((c.tc : Thread Cert.AdamwHeadsRefIdeal.nD Cert.AdamwHeadsRefIdeal.τ).loc Cert.AdamwHeadsRefIdeal.main_arg0)
      ∧ r.2.mem ((c.tc : Thread Cert.AdamwHeadsRefIdeal.nD Cert.AdamwHeadsRefIdeal.τ).loc Cert.AdamwHeadsRefIdeal.main_arg1) = m ((c.tc : Thread Cert.AdamwHeadsRefIdeal.nD Cert.AdamwHeadsRefIdeal.τ).loc Cert.AdamwHeadsRefIdeal.main_arg1)
      ∧ r.2.mem ((c.tc : Thread Cert.AdamwHeadsRefIdeal.nD Cert.AdamwHeadsRefIdeal.τ).loc Cert.AdamwHeadsRefIdeal.main_arg2) = m ((c.tc : Thread Cert.AdamwHeadsRefIdeal.nD Cert.AdamwHeadsRefIdeal.τ).loc Cert.AdamwHeadsRefIdeal.main_arg2)
      ∧ r.2.mem ((c.tc : Thread Cert.AdamwHeadsRefIdeal.nD Cert.AdamwHeadsRefIdeal.τ).loc Cert.AdamwHeadsRefIdeal.main_arg3) = m ((c.tc : Thread Cert.AdamwHeadsRefIdeal.nD Cert.AdamwHeadsRefIdeal.τ).loc Cert.AdamwHeadsRefIdeal.main_arg3))
      ∧ r.2.sem = fun _ => 0)

def quiescent_AdamwSsm [hAdamwSsm : Cert.AdamwSsm.Facts] : Prop :=
  ∀ (m : (ℓ : Loc Cert.AdamwSsm.nD Cert.AdamwSsm.τ Cert.AdamwSsm.sig) → Buf (Elt Bits) ℓ) (g : Dev Cert.AdamwSsm.nD → PrngReg), Pre_AdamwSsm m →
    θ_run (Cert.AdamwSsm.defs (F := Bits)) (onTc (τ := Cert.AdamwSsm.τ) (Cert.AdamwSsm.main (F := Bits))) ⟨m, fun _ => 0, g⟩ (fun r => (∀ c : Dev Cert.AdamwSsm.nD,
      r.2.mem ((c.tc : Thread Cert.AdamwSsm.nD Cert.AdamwSsm.τ).loc Cert.AdamwSsm.main_arg0) = m ((c.tc : Thread Cert.AdamwSsm.nD Cert.AdamwSsm.τ).loc Cert.AdamwSsm.main_arg0)
      ∧ r.2.mem ((c.tc : Thread Cert.AdamwSsm.nD Cert.AdamwSsm.τ).loc Cert.AdamwSsm.main_arg1) = m ((c.tc : Thread Cert.AdamwSsm.nD Cert.AdamwSsm.τ).loc Cert.AdamwSsm.main_arg1)
      ∧ r.2.mem ((c.tc : Thread Cert.AdamwSsm.nD Cert.AdamwSsm.τ).loc Cert.AdamwSsm.main_arg2) = m ((c.tc : Thread Cert.AdamwSsm.nD Cert.AdamwSsm.τ).loc Cert.AdamwSsm.main_arg2)
      ∧ r.2.mem ((c.tc : Thread Cert.AdamwSsm.nD Cert.AdamwSsm.τ).loc Cert.AdamwSsm.main_arg3) = m ((c.tc : Thread Cert.AdamwSsm.nD Cert.AdamwSsm.τ).loc Cert.AdamwSsm.main_arg3))
      ∧ r.2.sem = fun _ => 0)

def quiescent_AdamwSsmIdeal [hAdamwSsmIdeal : Cert.AdamwSsmIdeal.Facts] : Prop :=
  ∀ (m : (ℓ : Loc Cert.AdamwSsmIdeal.nD Cert.AdamwSsmIdeal.τ Cert.AdamwSsmIdeal.sig) → Buf (Elt Ideal) ℓ) (g : Dev Cert.AdamwSsmIdeal.nD → PrngReg), Pre_AdamwSsmIdeal m →
    θ_run (Cert.AdamwSsmIdeal.defs (F := Ideal)) (onTc (τ := Cert.AdamwSsmIdeal.τ) (Cert.AdamwSsmIdeal.main (F := Ideal))) ⟨m, fun _ => 0, g⟩ (fun r => (∀ c : Dev Cert.AdamwSsmIdeal.nD,
      r.2.mem ((c.tc : Thread Cert.AdamwSsmIdeal.nD Cert.AdamwSsmIdeal.τ).loc Cert.AdamwSsmIdeal.main_arg0) = m ((c.tc : Thread Cert.AdamwSsmIdeal.nD Cert.AdamwSsmIdeal.τ).loc Cert.AdamwSsmIdeal.main_arg0)
      ∧ r.2.mem ((c.tc : Thread Cert.AdamwSsmIdeal.nD Cert.AdamwSsmIdeal.τ).loc Cert.AdamwSsmIdeal.main_arg1) = m ((c.tc : Thread Cert.AdamwSsmIdeal.nD Cert.AdamwSsmIdeal.τ).loc Cert.AdamwSsmIdeal.main_arg1)
      ∧ r.2.mem ((c.tc : Thread Cert.AdamwSsmIdeal.nD Cert.AdamwSsmIdeal.τ).loc Cert.AdamwSsmIdeal.main_arg2) = m ((c.tc : Thread Cert.AdamwSsmIdeal.nD Cert.AdamwSsmIdeal.τ).loc Cert.AdamwSsmIdeal.main_arg2)
      ∧ r.2.mem ((c.tc : Thread Cert.AdamwSsmIdeal.nD Cert.AdamwSsmIdeal.τ).loc Cert.AdamwSsmIdeal.main_arg3) = m ((c.tc : Thread Cert.AdamwSsmIdeal.nD Cert.AdamwSsmIdeal.τ).loc Cert.AdamwSsmIdeal.main_arg3))
      ∧ r.2.sem = fun _ => 0)

def quiescent_AdamwSsmRefIdeal [hAdamwSsmRefIdeal : Cert.AdamwSsmRefIdeal.Facts] : Prop :=
  ∀ (m : (ℓ : Loc Cert.AdamwSsmRefIdeal.nD Cert.AdamwSsmRefIdeal.τ Cert.AdamwSsmRefIdeal.sig) → Buf (Elt Ideal) ℓ) (g : Dev Cert.AdamwSsmRefIdeal.nD → PrngReg), Pre_AdamwSsmRefIdeal m →
    θ_run (Cert.AdamwSsmRefIdeal.defs (F := Ideal)) (onTc (τ := Cert.AdamwSsmRefIdeal.τ) (Cert.AdamwSsmRefIdeal.main (F := Ideal))) ⟨m, fun _ => 0, g⟩ (fun r => (∀ c : Dev Cert.AdamwSsmRefIdeal.nD,
      r.2.mem ((c.tc : Thread Cert.AdamwSsmRefIdeal.nD Cert.AdamwSsmRefIdeal.τ).loc Cert.AdamwSsmRefIdeal.main_arg0) = m ((c.tc : Thread Cert.AdamwSsmRefIdeal.nD Cert.AdamwSsmRefIdeal.τ).loc Cert.AdamwSsmRefIdeal.main_arg0)
      ∧ r.2.mem ((c.tc : Thread Cert.AdamwSsmRefIdeal.nD Cert.AdamwSsmRefIdeal.τ).loc Cert.AdamwSsmRefIdeal.main_arg1) = m ((c.tc : Thread Cert.AdamwSsmRefIdeal.nD Cert.AdamwSsmRefIdeal.τ).loc Cert.AdamwSsmRefIdeal.main_arg1)
      ∧ r.2.mem ((c.tc : Thread Cert.AdamwSsmRefIdeal.nD Cert.AdamwSsmRefIdeal.τ).loc Cert.AdamwSsmRefIdeal.main_arg2) = m ((c.tc : Thread Cert.AdamwSsmRefIdeal.nD Cert.AdamwSsmRefIdeal.τ).loc Cert.AdamwSsmRefIdeal.main_arg2)
      ∧ r.2.mem ((c.tc : Thread Cert.AdamwSsmRefIdeal.nD Cert.AdamwSsmRefIdeal.τ).loc Cert.AdamwSsmRefIdeal.main_arg3) = m ((c.tc : Thread Cert.AdamwSsmRefIdeal.nD Cert.AdamwSsmRefIdeal.τ).loc Cert.AdamwSsmRefIdeal.main_arg3))
      ∧ r.2.sem = fun _ => 0)

def quiescent_AdamwShell [hAdamwShell : Cert.AdamwShell.Facts] : Prop :=
  ∀ (m : (ℓ : Loc Cert.AdamwShell.nD Cert.AdamwShell.τ Cert.AdamwShell.sig) → Buf (Elt Bits) ℓ) (g : Dev Cert.AdamwShell.nD → PrngReg), Pre_AdamwShell m →
    θ_run (Cert.AdamwShell.defs (F := Bits)) (onTc (τ := Cert.AdamwShell.τ) (Cert.AdamwShell.main (F := Bits))) ⟨m, fun _ => 0, g⟩ (fun r => (∀ c : Dev Cert.AdamwShell.nD,
      r.2.mem ((c.tc : Thread Cert.AdamwShell.nD Cert.AdamwShell.τ).loc Cert.AdamwShell.main_arg0) = m ((c.tc : Thread Cert.AdamwShell.nD Cert.AdamwShell.τ).loc Cert.AdamwShell.main_arg0)
      ∧ r.2.mem ((c.tc : Thread Cert.AdamwShell.nD Cert.AdamwShell.τ).loc Cert.AdamwShell.main_arg1) = m ((c.tc : Thread Cert.AdamwShell.nD Cert.AdamwShell.τ).loc Cert.AdamwShell.main_arg1)
      ∧ r.2.mem ((c.tc : Thread Cert.AdamwShell.nD Cert.AdamwShell.τ).loc Cert.AdamwShell.main_arg2) = m ((c.tc : Thread Cert.AdamwShell.nD Cert.AdamwShell.τ).loc Cert.AdamwShell.main_arg2)
      ∧ r.2.mem ((c.tc : Thread Cert.AdamwShell.nD Cert.AdamwShell.τ).loc Cert.AdamwShell.main_arg3) = m ((c.tc : Thread Cert.AdamwShell.nD Cert.AdamwShell.τ).loc Cert.AdamwShell.main_arg3)
      ∧ r.2.mem ((c.tc : Thread Cert.AdamwShell.nD Cert.AdamwShell.τ).loc Cert.AdamwShell.main_arg4) = m ((c.tc : Thread Cert.AdamwShell.nD Cert.AdamwShell.τ).loc Cert.AdamwShell.main_arg4)
      ∧ r.2.mem ((c.tc : Thread Cert.AdamwShell.nD Cert.AdamwShell.τ).loc Cert.AdamwShell.main_arg5) = m ((c.tc : Thread Cert.AdamwShell.nD Cert.AdamwShell.τ).loc Cert.AdamwShell.main_arg5)
      ∧ r.2.mem ((c.tc : Thread Cert.AdamwShell.nD Cert.AdamwShell.τ).loc Cert.AdamwShell.main_arg6) = m ((c.tc : Thread Cert.AdamwShell.nD Cert.AdamwShell.τ).loc Cert.AdamwShell.main_arg6)
      ∧ r.2.mem ((c.tc : Thread Cert.AdamwShell.nD Cert.AdamwShell.τ).loc Cert.AdamwShell.main_arg7) = m ((c.tc : Thread Cert.AdamwShell.nD Cert.AdamwShell.τ).loc Cert.AdamwShell.main_arg7)
      ∧ r.2.mem ((c.tc : Thread Cert.AdamwShell.nD Cert.AdamwShell.τ).loc Cert.AdamwShell.main_arg8) = m ((c.tc : Thread Cert.AdamwShell.nD Cert.AdamwShell.τ).loc Cert.AdamwShell.main_arg8)
      ∧ r.2.mem ((c.tc : Thread Cert.AdamwShell.nD Cert.AdamwShell.τ).loc Cert.AdamwShell.main_arg9) = m ((c.tc : Thread Cert.AdamwShell.nD Cert.AdamwShell.τ).loc Cert.AdamwShell.main_arg9)
      ∧ r.2.mem ((c.tc : Thread Cert.AdamwShell.nD Cert.AdamwShell.τ).loc Cert.AdamwShell.main_arg10) = m ((c.tc : Thread Cert.AdamwShell.nD Cert.AdamwShell.τ).loc Cert.AdamwShell.main_arg10)
      ∧ r.2.mem ((c.tc : Thread Cert.AdamwShell.nD Cert.AdamwShell.τ).loc Cert.AdamwShell.main_arg11) = m ((c.tc : Thread Cert.AdamwShell.nD Cert.AdamwShell.τ).loc Cert.AdamwShell.main_arg11))
      ∧ r.2.sem = fun _ => 0)

def quiescent_AdamwShellIdeal [hAdamwShellIdeal : Cert.AdamwShellIdeal.Facts] : Prop :=
  ∀ (m : (ℓ : Loc Cert.AdamwShellIdeal.nD Cert.AdamwShellIdeal.τ Cert.AdamwShellIdeal.sig) → Buf (Elt Ideal) ℓ) (g : Dev Cert.AdamwShellIdeal.nD → PrngReg), Pre_AdamwShellIdeal m →
    θ_run (Cert.AdamwShellIdeal.defs (F := Ideal)) (onTc (τ := Cert.AdamwShellIdeal.τ) (Cert.AdamwShellIdeal.main (F := Ideal))) ⟨m, fun _ => 0, g⟩ (fun r => (∀ c : Dev Cert.AdamwShellIdeal.nD,
      r.2.mem ((c.tc : Thread Cert.AdamwShellIdeal.nD Cert.AdamwShellIdeal.τ).loc Cert.AdamwShellIdeal.main_arg0) = m ((c.tc : Thread Cert.AdamwShellIdeal.nD Cert.AdamwShellIdeal.τ).loc Cert.AdamwShellIdeal.main_arg0)
      ∧ r.2.mem ((c.tc : Thread Cert.AdamwShellIdeal.nD Cert.AdamwShellIdeal.τ).loc Cert.AdamwShellIdeal.main_arg1) = m ((c.tc : Thread Cert.AdamwShellIdeal.nD Cert.AdamwShellIdeal.τ).loc Cert.AdamwShellIdeal.main_arg1)
      ∧ r.2.mem ((c.tc : Thread Cert.AdamwShellIdeal.nD Cert.AdamwShellIdeal.τ).loc Cert.AdamwShellIdeal.main_arg2) = m ((c.tc : Thread Cert.AdamwShellIdeal.nD Cert.AdamwShellIdeal.τ).loc Cert.AdamwShellIdeal.main_arg2)
      ∧ r.2.mem ((c.tc : Thread Cert.AdamwShellIdeal.nD Cert.AdamwShellIdeal.τ).loc Cert.AdamwShellIdeal.main_arg3) = m ((c.tc : Thread Cert.AdamwShellIdeal.nD Cert.AdamwShellIdeal.τ).loc Cert.AdamwShellIdeal.main_arg3)
      ∧ r.2.mem ((c.tc : Thread Cert.AdamwShellIdeal.nD Cert.AdamwShellIdeal.τ).loc Cert.AdamwShellIdeal.main_arg4) = m ((c.tc : Thread Cert.AdamwShellIdeal.nD Cert.AdamwShellIdeal.τ).loc Cert.AdamwShellIdeal.main_arg4)
      ∧ r.2.mem ((c.tc : Thread Cert.AdamwShellIdeal.nD Cert.AdamwShellIdeal.τ).loc Cert.AdamwShellIdeal.main_arg5) = m ((c.tc : Thread Cert.AdamwShellIdeal.nD Cert.AdamwShellIdeal.τ).loc Cert.AdamwShellIdeal.main_arg5)
      ∧ r.2.mem ((c.tc : Thread Cert.AdamwShellIdeal.nD Cert.AdamwShellIdeal.τ).loc Cert.AdamwShellIdeal.main_arg6) = m ((c.tc : Thread Cert.AdamwShellIdeal.nD Cert.AdamwShellIdeal.τ).loc Cert.AdamwShellIdeal.main_arg6)
      ∧ r.2.mem ((c.tc : Thread Cert.AdamwShellIdeal.nD Cert.AdamwShellIdeal.τ).loc Cert.AdamwShellIdeal.main_arg7) = m ((c.tc : Thread Cert.AdamwShellIdeal.nD Cert.AdamwShellIdeal.τ).loc Cert.AdamwShellIdeal.main_arg7)
      ∧ r.2.mem ((c.tc : Thread Cert.AdamwShellIdeal.nD Cert.AdamwShellIdeal.τ).loc Cert.AdamwShellIdeal.main_arg8) = m ((c.tc : Thread Cert.AdamwShellIdeal.nD Cert.AdamwShellIdeal.τ).loc Cert.AdamwShellIdeal.main_arg8)
      ∧ r.2.mem ((c.tc : Thread Cert.AdamwShellIdeal.nD Cert.AdamwShellIdeal.τ).loc Cert.AdamwShellIdeal.main_arg9) = m ((c.tc : Thread Cert.AdamwShellIdeal.nD Cert.AdamwShellIdeal.τ).loc Cert.AdamwShellIdeal.main_arg9)
      ∧ r.2.mem ((c.tc : Thread Cert.AdamwShellIdeal.nD Cert.AdamwShellIdeal.τ).loc Cert.AdamwShellIdeal.main_arg10) = m ((c.tc : Thread Cert.AdamwShellIdeal.nD Cert.AdamwShellIdeal.τ).loc Cert.AdamwShellIdeal.main_arg10)
      ∧ r.2.mem ((c.tc : Thread Cert.AdamwShellIdeal.nD Cert.AdamwShellIdeal.τ).loc Cert.AdamwShellIdeal.main_arg11) = m ((c.tc : Thread Cert.AdamwShellIdeal.nD Cert.AdamwShellIdeal.τ).loc Cert.AdamwShellIdeal.main_arg11))
      ∧ r.2.sem = fun _ => 0)

def quiescent_AdamwShellRefIdeal [hAdamwShellRefIdeal : Cert.AdamwShellRefIdeal.Facts] : Prop :=
  ∀ (m : (ℓ : Loc Cert.AdamwShellRefIdeal.nD Cert.AdamwShellRefIdeal.τ Cert.AdamwShellRefIdeal.sig) → Buf (Elt Ideal) ℓ) (g : Dev Cert.AdamwShellRefIdeal.nD → PrngReg), Pre_AdamwShellRefIdeal m →
    θ_run (Cert.AdamwShellRefIdeal.defs (F := Ideal)) (onTc (τ := Cert.AdamwShellRefIdeal.τ) (Cert.AdamwShellRefIdeal.main (F := Ideal))) ⟨m, fun _ => 0, g⟩ (fun r => (∀ c : Dev Cert.AdamwShellRefIdeal.nD,
      r.2.mem ((c.tc : Thread Cert.AdamwShellRefIdeal.nD Cert.AdamwShellRefIdeal.τ).loc Cert.AdamwShellRefIdeal.main_arg0) = m ((c.tc : Thread Cert.AdamwShellRefIdeal.nD Cert.AdamwShellRefIdeal.τ).loc Cert.AdamwShellRefIdeal.main_arg0)
      ∧ r.2.mem ((c.tc : Thread Cert.AdamwShellRefIdeal.nD Cert.AdamwShellRefIdeal.τ).loc Cert.AdamwShellRefIdeal.main_arg1) = m ((c.tc : Thread Cert.AdamwShellRefIdeal.nD Cert.AdamwShellRefIdeal.τ).loc Cert.AdamwShellRefIdeal.main_arg1)
      ∧ r.2.mem ((c.tc : Thread Cert.AdamwShellRefIdeal.nD Cert.AdamwShellRefIdeal.τ).loc Cert.AdamwShellRefIdeal.main_arg2) = m ((c.tc : Thread Cert.AdamwShellRefIdeal.nD Cert.AdamwShellRefIdeal.τ).loc Cert.AdamwShellRefIdeal.main_arg2)
      ∧ r.2.mem ((c.tc : Thread Cert.AdamwShellRefIdeal.nD Cert.AdamwShellRefIdeal.τ).loc Cert.AdamwShellRefIdeal.main_arg3) = m ((c.tc : Thread Cert.AdamwShellRefIdeal.nD Cert.AdamwShellRefIdeal.τ).loc Cert.AdamwShellRefIdeal.main_arg3)
      ∧ r.2.mem ((c.tc : Thread Cert.AdamwShellRefIdeal.nD Cert.AdamwShellRefIdeal.τ).loc Cert.AdamwShellRefIdeal.main_arg4) = m ((c.tc : Thread Cert.AdamwShellRefIdeal.nD Cert.AdamwShellRefIdeal.τ).loc Cert.AdamwShellRefIdeal.main_arg4)
      ∧ r.2.mem ((c.tc : Thread Cert.AdamwShellRefIdeal.nD Cert.AdamwShellRefIdeal.τ).loc Cert.AdamwShellRefIdeal.main_arg5) = m ((c.tc : Thread Cert.AdamwShellRefIdeal.nD Cert.AdamwShellRefIdeal.τ).loc Cert.AdamwShellRefIdeal.main_arg5)
      ∧ r.2.mem ((c.tc : Thread Cert.AdamwShellRefIdeal.nD Cert.AdamwShellRefIdeal.τ).loc Cert.AdamwShellRefIdeal.main_arg6) = m ((c.tc : Thread Cert.AdamwShellRefIdeal.nD Cert.AdamwShellRefIdeal.τ).loc Cert.AdamwShellRefIdeal.main_arg6)
      ∧ r.2.mem ((c.tc : Thread Cert.AdamwShellRefIdeal.nD Cert.AdamwShellRefIdeal.τ).loc Cert.AdamwShellRefIdeal.main_arg7) = m ((c.tc : Thread Cert.AdamwShellRefIdeal.nD Cert.AdamwShellRefIdeal.τ).loc Cert.AdamwShellRefIdeal.main_arg7)
      ∧ r.2.mem ((c.tc : Thread Cert.AdamwShellRefIdeal.nD Cert.AdamwShellRefIdeal.τ).loc Cert.AdamwShellRefIdeal.main_arg8) = m ((c.tc : Thread Cert.AdamwShellRefIdeal.nD Cert.AdamwShellRefIdeal.τ).loc Cert.AdamwShellRefIdeal.main_arg8)
      ∧ r.2.mem ((c.tc : Thread Cert.AdamwShellRefIdeal.nD Cert.AdamwShellRefIdeal.τ).loc Cert.AdamwShellRefIdeal.main_arg9) = m ((c.tc : Thread Cert.AdamwShellRefIdeal.nD Cert.AdamwShellRefIdeal.τ).loc Cert.AdamwShellRefIdeal.main_arg9)
      ∧ r.2.mem ((c.tc : Thread Cert.AdamwShellRefIdeal.nD Cert.AdamwShellRefIdeal.τ).loc Cert.AdamwShellRefIdeal.main_arg10) = m ((c.tc : Thread Cert.AdamwShellRefIdeal.nD Cert.AdamwShellRefIdeal.τ).loc Cert.AdamwShellRefIdeal.main_arg10)
      ∧ r.2.mem ((c.tc : Thread Cert.AdamwShellRefIdeal.nD Cert.AdamwShellRefIdeal.τ).loc Cert.AdamwShellRefIdeal.main_arg11) = m ((c.tc : Thread Cert.AdamwShellRefIdeal.nD Cert.AdamwShellRefIdeal.τ).loc Cert.AdamwShellRefIdeal.main_arg11))
      ∧ r.2.sem = fun _ => 0)

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v0)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v17) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_SsmActBwd_SsmActBwdIdeal : Prop :=
  IdealRules.named_const.Statement Cert.SsmActBwdIdeal.κ "gelu_cubic" .f32 0x3D372713#32 ((8943 / 200000 : ℝ) : EReal)
  ∧ IdealRules.named_const.Statement Cert.SsmActBwdIdeal.κ "gelu_cubic_3" .f32 0x3E095D4F#32 ((26829 / 200000 : ℝ) : EReal)

def algebraic_SsmActBwdIdeal_SsmActBwdRefIdeal_pre_finite_ssm_act_bwd [hSsmActBwdIdeal : Cert.SsmActBwdIdeal.Facts] [hSsmActBwdRefIdeal : Cert.SsmActBwdRefIdeal.Facts] [hPre_finite_ssm_act_bwd : Cert.Pre_finite_ssm_act_bwd.Facts] : Prop :=
  ∀ (m : (ℓ : Loc Cert.SsmActBwdIdeal.nD Cert.SsmActBwdIdeal.τ Cert.SsmActBwdIdeal.sig) → Buf (Elt Ideal) ℓ) (g : Dev Cert.SsmActBwdIdeal.nD → PrngReg)
    (m' : (ℓ : Loc Cert.SsmActBwdRefIdeal.nD Cert.SsmActBwdRefIdeal.τ Cert.SsmActBwdRefIdeal.sig) → Buf (Elt Ideal) ℓ) (g' : Dev Cert.SsmActBwdRefIdeal.nD → PrngReg), Pre_SsmActBwdIdeal_finite_ssm_act_bwd m →
    (∀ c : Dev Cert.SsmActBwdIdeal.nD,
      m' ((c.tc : Thread Cert.SsmActBwdRefIdeal.nD Cert.SsmActBwdRefIdeal.τ).loc Cert.SsmActBwdRefIdeal.main_arg0) = m ((c.tc : Thread Cert.SsmActBwdIdeal.nD Cert.SsmActBwdIdeal.τ).loc Cert.SsmActBwdIdeal.main_arg0)
      ∧ m' ((c.tc : Thread Cert.SsmActBwdRefIdeal.nD Cert.SsmActBwdRefIdeal.τ).loc Cert.SsmActBwdRefIdeal.main_arg1) = m ((c.tc : Thread Cert.SsmActBwdIdeal.nD Cert.SsmActBwdIdeal.τ).loc Cert.SsmActBwdIdeal.main_arg1)
      ∧ m' ((c.tc : Thread Cert.SsmActBwdRefIdeal.nD Cert.SsmActBwdRefIdeal.τ).loc Cert.SsmActBwdRefIdeal.main_arg2) = m ((c.tc : Thread Cert.SsmActBwdIdeal.nD Cert.SsmActBwdIdeal.τ).loc Cert.SsmActBwdIdeal.main_arg2)
      ∧ m' ((c.tc : Thread Cert.SsmActBwdRefIdeal.nD Cert.SsmActBwdRefIdeal.τ).loc Cert.SsmActBwdRefIdeal.main_arg3) = m ((c.tc : Thread Cert.SsmActBwdIdeal.nD Cert.SsmActBwdIdeal.τ).loc Cert.SsmActBwdIdeal.main_arg3)) →
    ∃ (v0 : (c : Dev Cert.SsmActBwdIdeal.nD) → Buf (Elt Ideal) ((c.tc : Thread Cert.SsmActBwdIdeal.nD Cert.SsmActBwdIdeal.τ).loc Cert.SsmActBwdIdeal.main_v0_0)) (v1 : (c : Dev Cert.SsmActBwdIdeal.nD) → Buf (Elt Ideal) ((c.tc : Thread Cert.SsmActBwdIdeal.nD Cert.SsmActBwdIdeal.τ).loc Cert.SsmActBwdIdeal.main_v0_1)),
      θ_run (Cert.SsmActBwdIdeal.defs (F := Ideal)) (onTc (τ := Cert.SsmActBwdIdeal.τ) (Cert.SsmActBwdIdeal.main (F := Ideal))) ⟨m, fun _ => 0, g⟩ (fun r => ∀ c : Dev Cert.SsmActBwdIdeal.nD,
          r.2.mem ((c.tc : Thread Cert.SsmActBwdIdeal.nD Cert.SsmActBwdIdeal.τ).loc Cert.SsmActBwdIdeal.main_v0_0) = v0 c
          ∧ r.2.mem ((c.tc : Thread Cert.SsmActBwdIdeal.nD Cert.SsmActBwdIdeal.τ).loc Cert.SsmActBwdIdeal.main_v0_1) = v1 c
          ∧ r.2.mem ((c.tc : Thread Cert.SsmActBwdIdeal.nD Cert.SsmActBwdIdeal.τ).loc Cert.SsmActBwdIdeal.main_arg0) = m ((c.tc : Thread Cert.SsmActBwdIdeal.nD Cert.SsmActBwdIdeal.τ).loc Cert.SsmActBwdIdeal.main_arg0)
          ∧ r.2.mem ((c.tc : Thread Cert.SsmActBwdIdeal.nD Cert.SsmActBwdIdeal.τ).loc Cert.SsmActBwdIdeal.main_arg1) = m ((c.tc : Thread Cert.SsmActBwdIdeal.nD Cert.SsmActBwdIdeal.τ).loc Cert.SsmActBwdIdeal.main_arg1)
          ∧ r.2.mem ((c.tc : Thread Cert.SsmActBwdIdeal.nD Cert.SsmActBwdIdeal.τ).loc Cert.SsmActBwdIdeal.main_arg2) = m ((c.tc : Thread Cert.SsmActBwdIdeal.nD Cert.SsmActBwdIdeal.τ).loc Cert.SsmActBwdIdeal.main_arg2)
          ∧ r.2.mem ((c.tc : Thread Cert.SsmActBwdIdeal.nD Cert.SsmActBwdIdeal.τ).loc Cert.SsmActBwdIdeal.main_arg3) = m ((c.tc : Thread Cert.SsmActBwdIdeal.nD Cert.SsmActBwdIdeal.τ).loc Cert.SsmActBwdIdeal.main_arg3))
      ∧ θ_run (Cert.SsmActBwdRefIdeal.defs (F := Ideal)) (onTc (τ := Cert.SsmActBwdRefIdeal.τ) (Cert.SsmActBwdRefIdeal.main (F := Ideal))) ⟨m', fun _ => 0, g'⟩ (fun r => ∀ c : Dev Cert.SsmActBwdRefIdeal.nD,
          r.2.mem ((c.tc : Thread Cert.SsmActBwdRefIdeal.nD Cert.SsmActBwdRefIdeal.τ).loc Cert.SsmActBwdRefIdeal.main_v44) = v0 c
          ∧ r.2.mem ((c.tc : Thread Cert.SsmActBwdRefIdeal.nD Cert.SsmActBwdRefIdeal.τ).loc Cert.SsmActBwdRefIdeal.main_v43) = v1 c
          ∧ r.2.mem ((c.tc : Thread Cert.SsmActBwdRefIdeal.nD Cert.SsmActBwdRefIdeal.τ).loc Cert.SsmActBwdRefIdeal.main_arg0) = m' ((c.tc : Thread Cert.SsmActBwdRefIdeal.nD Cert.SsmActBwdRefIdeal.τ).loc Cert.SsmActBwdRefIdeal.main_arg0)
          ∧ r.2.mem ((c.tc : Thread Cert.SsmActBwdRefIdeal.nD Cert.SsmActBwdRefIdeal.τ).loc Cert.SsmActBwdRefIdeal.main_arg1) = m' ((c.tc : Thread Cert.SsmActBwdRefIdeal.nD Cert.SsmActBwdRefIdeal.τ).loc Cert.SsmActBwdRefIdeal.main_arg1)
          ∧ r.2.mem ((c.tc : Thread Cert.SsmActBwdRefIdeal.nD Cert.SsmActBwdRefIdeal.τ).loc Cert.SsmActBwdRefIdeal.main_arg2) = m' ((c.tc : Thread Cert.SsmActBwdRefIdeal.nD Cert.SsmActBwdRefIdeal.τ).loc Cert.SsmActBwdRefIdeal.main_arg2)
          ∧ r.2.mem ((c.tc : Thread Cert.SsmActBwdRefIdeal.nD Cert.SsmActBwdRefIdeal.τ).loc Cert.SsmActBwdRefIdeal.main_arg3) = m' ((c.tc : Thread Cert.SsmActBwdRefIdeal.nD Cert.SsmActBwdRefIdeal.τ).loc Cert.SsmActBwdRefIdeal.main_arg3))

def preserves_PrenormBwd_PrenormBwdIdeal : Prop :=
  True

def algebraic_PrenormBwdIdeal_PrenormBwdRefIdeal_pre_finite_prenorm_bwd [hPrenormBwdIdeal : Cert.PrenormBwdIdeal.Facts] [hPrenormBwdRefIdeal : Cert.PrenormBwdRefIdeal.Facts] [hPre_finite_prenorm_bwd : Cert.Pre_finite_prenorm_bwd.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg)
    (m' : (ℓ : Loc Cert.PrenormBwdRefIdeal.nD Cert.PrenormBwdRefIdeal.τ Cert.PrenormBwdRefIdeal.sig) → Buf (Elt Ideal) ℓ) (g' : Dev Cert.PrenormBwdRefIdeal.nD → PrngReg), Pre_PrenormBwdIdeal_finite_prenorm_bwd m →
    (∀ c : Dev Cert.PrenormBwdIdeal.nD,
      m' ((c.tc : Thread Cert.PrenormBwdRefIdeal.nD Cert.PrenormBwdRefIdeal.τ).loc Cert.PrenormBwdRefIdeal.main_arg0) = m ((c.tc : Thread Cert.PrenormBwdIdeal.nD Cert.PrenormBwdIdeal.τ).loc Cert.PrenormBwdIdeal.main_arg0)
      ∧ m' ((c.tc : Thread Cert.PrenormBwdRefIdeal.nD Cert.PrenormBwdRefIdeal.τ).loc Cert.PrenormBwdRefIdeal.main_arg1) = m ((c.tc : Thread Cert.PrenormBwdIdeal.nD Cert.PrenormBwdIdeal.τ).loc Cert.PrenormBwdIdeal.main_arg1)
      ∧ m' ((c.tc : Thread Cert.PrenormBwdRefIdeal.nD Cert.PrenormBwdRefIdeal.τ).loc Cert.PrenormBwdRefIdeal.main_arg2) = m ((c.tc : Thread Cert.PrenormBwdIdeal.nD Cert.PrenormBwdIdeal.τ).loc Cert.PrenormBwdIdeal.main_arg2)
      ∧ m' ((c.tc : Thread Cert.PrenormBwdRefIdeal.nD Cert.PrenormBwdRefIdeal.τ).loc Cert.PrenormBwdRefIdeal.main_arg3) = m ((c.tc : Thread Cert.PrenormBwdIdeal.nD Cert.PrenormBwdIdeal.τ).loc Cert.PrenormBwdIdeal.main_arg3)
      ∧ m' ((c.tc : Thread Cert.PrenormBwdRefIdeal.nD Cert.PrenormBwdRefIdeal.τ).loc Cert.PrenormBwdRefIdeal.main_arg4) = m ((c.tc : Thread Cert.PrenormBwdIdeal.nD Cert.PrenormBwdIdeal.τ).loc Cert.PrenormBwdIdeal.main_arg4)
      ∧ m' ((c.tc : Thread Cert.PrenormBwdRefIdeal.nD Cert.PrenormBwdRefIdeal.τ).loc Cert.PrenormBwdRefIdeal.main_arg5) = m ((c.tc : Thread Cert.PrenormBwdIdeal.nD Cert.PrenormBwdIdeal.τ).loc Cert.PrenormBwdIdeal.main_arg5)) →
    ∃ (v0 : (c : Dev Cert.PrenormBwdIdeal.nD) → Buf (Elt Ideal) ((c.tc : Thread Cert.PrenormBwdIdeal.nD Cert.PrenormBwdIdeal.τ).loc Cert.PrenormBwdIdeal.main_v18_0)) (v1 : (c : Dev Cert.PrenormBwdIdeal.nD) → Buf (Elt Ideal) ((c.tc : Thread Cert.PrenormBwdIdeal.nD Cert.PrenormBwdIdeal.τ).loc Cert.PrenormBwdIdeal.main_v18_1)),
      θ_run (Cert.PrenormBwdIdeal.defs (F := Ideal)) (onTc (τ := Cert.PrenormBwdIdeal.τ) (Cert.PrenormBwdIdeal.main (F := Ideal))) ⟨m, fun _ => 0, g⟩ (fun r => ∀ c : Dev Cert.PrenormBwdIdeal.nD,
          r.2.mem ((c.tc : Thread Cert.PrenormBwdIdeal.nD Cert.PrenormBwdIdeal.τ).loc Cert.PrenormBwdIdeal.main_v18_0) = v0 c
          ∧ r.2.mem ((c.tc : Thread Cert.PrenormBwdIdeal.nD Cert.PrenormBwdIdeal.τ).loc Cert.PrenormBwdIdeal.main_v18_1) = v1 c
          ∧ r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
          ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
          ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
          ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
          ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4)
          ∧ r.2.mem ((c.tc : Thread Cert.PrenormBwdIdeal.nD Cert.PrenormBwdIdeal.τ).loc Cert.PrenormBwdIdeal.main_arg5) = m ((c.tc : Thread Cert.PrenormBwdIdeal.nD Cert.PrenormBwdIdeal.τ).loc Cert.PrenormBwdIdeal.main_arg5))
      ∧ θ_run (Cert.PrenormBwdRefIdeal.defs (F := Ideal)) (onTc (τ := Cert.PrenormBwdRefIdeal.τ) (Cert.PrenormBwdRefIdeal.main (F := Ideal))) ⟨m', fun _ => 0, g'⟩ (fun r => ∀ c : Dev Cert.PrenormBwdRefIdeal.nD,
          r.2.mem ((c.tc : Thread Cert.PrenormBwdRefIdeal.nD Cert.PrenormBwdRefIdeal.τ).loc Cert.PrenormBwdRefIdeal.main_v60) = v0 c
          ∧ r.2.mem ((c.tc : Thread Cert.PrenormBwdRefIdeal.nD Cert.PrenormBwdRefIdeal.τ).loc Cert.PrenormBwdRefIdeal.main_v70) = v1 c
          ∧ r.2.mem ((c.tc : Thread Cert.PrenormBwdRefIdeal.nD Cert.PrenormBwdRefIdeal.τ).loc Cert.PrenormBwdRefIdeal.main_arg0) = m' ((c.tc : Thread Cert.PrenormBwdRefIdeal.nD Cert.PrenormBwdRefIdeal.τ).loc Cert.PrenormBwdRefIdeal.main_arg0)
          ∧ r.2.mem ((c.tc : Thread Cert.PrenormBwdRefIdeal.nD Cert.PrenormBwdRefIdeal.τ).loc Cert.PrenormBwdRefIdeal.main_arg1) = m' ((c.tc : Thread Cert.PrenormBwdRefIdeal.nD Cert.PrenormBwdRefIdeal.τ).loc Cert.PrenormBwdRefIdeal.main_arg1)
          ∧ r.2.mem ((c.tc : Thread Cert.PrenormBwdRefIdeal.nD Cert.PrenormBwdRefIdeal.τ).loc Cert.PrenormBwdRefIdeal.main_arg2) = m' ((c.tc : Thread Cert.PrenormBwdRefIdeal.nD Cert.PrenormBwdRefIdeal.τ).loc Cert.PrenormBwdRefIdeal.main_arg2)
          ∧ r.2.mem ((c.tc : Thread Cert.PrenormBwdRefIdeal.nD Cert.PrenormBwdRefIdeal.τ).loc Cert.PrenormBwdRefIdeal.main_arg3) = m' ((c.tc : Thread Cert.PrenormBwdRefIdeal.nD Cert.PrenormBwdRefIdeal.τ).loc Cert.PrenormBwdRefIdeal.main_arg3)
          ∧ r.2.mem ((c.tc : Thread Cert.PrenormBwdRefIdeal.nD Cert.PrenormBwdRefIdeal.τ).loc Cert.PrenormBwdRefIdeal.main_arg4) = m' ((c.tc : Thread Cert.PrenormBwdRefIdeal.nD Cert.PrenormBwdRefIdeal.τ).loc Cert.PrenormBwdRefIdeal.main_arg4)
          ∧ r.2.mem ((c.tc : Thread Cert.PrenormBwdRefIdeal.nD Cert.PrenormBwdRefIdeal.τ).loc Cert.PrenormBwdRefIdeal.main_arg5) = m' ((c.tc : Thread Cert.PrenormBwdRefIdeal.nD Cert.PrenormBwdRefIdeal.τ).loc Cert.PrenormBwdRefIdeal.main_arg5))

def preserves_LastShell_LastShellIdeal : Prop :=
  True

def algebraic_LastShellIdeal_LastShellRefIdeal_pre_finite_last_shell [hLastShellIdeal : Cert.LastShellIdeal.Facts] [hLastShellRefIdeal : Cert.LastShellRefIdeal.Facts] [hPre_finite_last_shell : Cert.Pre_finite_last_shell.Facts] : Prop :=
  ∀ (m : (ℓ : Loc Cert.LastShellIdeal.nD Cert.LastShellIdeal.τ Cert.LastShellIdeal.sig) → Buf (Elt Ideal) ℓ) (g : Dev Cert.LastShellIdeal.nD → PrngReg)
    (m' : (ℓ : Loc Cert.LastShellRefIdeal.nD Cert.LastShellRefIdeal.τ Cert.LastShellRefIdeal.sig) → Buf (Elt Ideal) ℓ) (g' : Dev Cert.LastShellRefIdeal.nD → PrngReg), Pre_LastShellIdeal_finite_last_shell m →
    (∀ c : Dev Cert.LastShellIdeal.nD,
      m' ((c.tc : Thread Cert.LastShellRefIdeal.nD Cert.LastShellRefIdeal.τ).loc Cert.LastShellRefIdeal.main_arg0) = m ((c.tc : Thread Cert.LastShellIdeal.nD Cert.LastShellIdeal.τ).loc Cert.LastShellIdeal.main_arg0)
      ∧ m' ((c.tc : Thread Cert.LastShellRefIdeal.nD Cert.LastShellRefIdeal.τ).loc Cert.LastShellRefIdeal.main_arg1) = m ((c.tc : Thread Cert.LastShellIdeal.nD Cert.LastShellIdeal.τ).loc Cert.LastShellIdeal.main_arg1)
      ∧ m' ((c.tc : Thread Cert.LastShellRefIdeal.nD Cert.LastShellRefIdeal.τ).loc Cert.LastShellRefIdeal.main_arg2) = m ((c.tc : Thread Cert.LastShellIdeal.nD Cert.LastShellIdeal.τ).loc Cert.LastShellIdeal.main_arg2)
      ∧ m' ((c.tc : Thread Cert.LastShellRefIdeal.nD Cert.LastShellRefIdeal.τ).loc Cert.LastShellRefIdeal.main_arg3) = m ((c.tc : Thread Cert.LastShellIdeal.nD Cert.LastShellIdeal.τ).loc Cert.LastShellIdeal.main_arg3)
      ∧ m' ((c.tc : Thread Cert.LastShellRefIdeal.nD Cert.LastShellRefIdeal.τ).loc Cert.LastShellRefIdeal.main_arg4) = m ((c.tc : Thread Cert.LastShellIdeal.nD Cert.LastShellIdeal.τ).loc Cert.LastShellIdeal.main_arg4)
      ∧ m' ((c.tc : Thread Cert.LastShellRefIdeal.nD Cert.LastShellRefIdeal.τ).loc Cert.LastShellRefIdeal.main_arg5) = m ((c.tc : Thread Cert.LastShellIdeal.nD Cert.LastShellIdeal.τ).loc Cert.LastShellIdeal.main_arg5)) →
    ∃ (v0 : (c : Dev Cert.LastShellIdeal.nD) → Buf (Elt Ideal) ((c.tc : Thread Cert.LastShellIdeal.nD Cert.LastShellIdeal.τ).loc Cert.LastShellIdeal.main_v18_0)) (v1 : (c : Dev Cert.LastShellIdeal.nD) → Buf (Elt Ideal) ((c.tc : Thread Cert.LastShellIdeal.nD Cert.LastShellIdeal.τ).loc Cert.LastShellIdeal.main_v18_1)) (v2 : (c : Dev Cert.LastShellIdeal.nD) → Buf (Elt Ideal) ((c.tc : Thread Cert.LastShellIdeal.nD Cert.LastShellIdeal.τ).loc Cert.LastShellIdeal.main_v18_2)) (v3 : (c : Dev Cert.LastShellIdeal.nD) → Buf (Elt Ideal) ((c.tc : Thread Cert.LastShellIdeal.nD Cert.LastShellIdeal.τ).loc Cert.LastShellIdeal.main_v18_3)),
      θ_run (Cert.LastShellIdeal.defs (F := Ideal)) (onTc (τ := Cert.LastShellIdeal.τ) (Cert.LastShellIdeal.main (F := Ideal))) ⟨m, fun _ => 0, g⟩ (fun r => ∀ c : Dev Cert.LastShellIdeal.nD,
          r.2.mem ((c.tc : Thread Cert.LastShellIdeal.nD Cert.LastShellIdeal.τ).loc Cert.LastShellIdeal.main_v18_0) = v0 c
          ∧ r.2.mem ((c.tc : Thread Cert.LastShellIdeal.nD Cert.LastShellIdeal.τ).loc Cert.LastShellIdeal.main_v18_1) = v1 c
          ∧ r.2.mem ((c.tc : Thread Cert.LastShellIdeal.nD Cert.LastShellIdeal.τ).loc Cert.LastShellIdeal.main_v18_2) = v2 c
          ∧ r.2.mem ((c.tc : Thread Cert.LastShellIdeal.nD Cert.LastShellIdeal.τ).loc Cert.LastShellIdeal.main_v18_3) = v3 c
          ∧ r.2.mem ((c.tc : Thread Cert.LastShellIdeal.nD Cert.LastShellIdeal.τ).loc Cert.LastShellIdeal.main_arg0) = m ((c.tc : Thread Cert.LastShellIdeal.nD Cert.LastShellIdeal.τ).loc Cert.LastShellIdeal.main_arg0)
          ∧ r.2.mem ((c.tc : Thread Cert.LastShellIdeal.nD Cert.LastShellIdeal.τ).loc Cert.LastShellIdeal.main_arg1) = m ((c.tc : Thread Cert.LastShellIdeal.nD Cert.LastShellIdeal.τ).loc Cert.LastShellIdeal.main_arg1)
          ∧ r.2.mem ((c.tc : Thread Cert.LastShellIdeal.nD Cert.LastShellIdeal.τ).loc Cert.LastShellIdeal.main_arg2) = m ((c.tc : Thread Cert.LastShellIdeal.nD Cert.LastShellIdeal.τ).loc Cert.LastShellIdeal.main_arg2)
          ∧ r.2.mem ((c.tc : Thread Cert.LastShellIdeal.nD Cert.LastShellIdeal.τ).loc Cert.LastShellIdeal.main_arg3) = m ((c.tc : Thread Cert.LastShellIdeal.nD Cert.LastShellIdeal.τ).loc Cert.LastShellIdeal.main_arg3)
          ∧ r.2.mem ((c.tc : Thread Cert.LastShellIdeal.nD Cert.LastShellIdeal.τ).loc Cert.LastShellIdeal.main_arg4) = m ((c.tc : Thread Cert.LastShellIdeal.nD Cert.LastShellIdeal.τ).loc Cert.LastShellIdeal.main_arg4)
          ∧ r.2.mem ((c.tc : Thread Cert.LastShellIdeal.nD Cert.LastShellIdeal.τ).loc Cert.LastShellIdeal.main_arg5) = m ((c.tc : Thread Cert.LastShellIdeal.nD Cert.LastShellIdeal.τ).loc Cert.LastShellIdeal.main_arg5))
      ∧ θ_run (Cert.LastShellRefIdeal.defs (F := Ideal)) (onTc (τ := Cert.LastShellRefIdeal.τ) (Cert.LastShellRefIdeal.main (F := Ideal))) ⟨m', fun _ => 0, g'⟩ (fun r => ∀ c : Dev Cert.LastShellRefIdeal.nD,
          r.2.mem ((c.tc : Thread Cert.LastShellRefIdeal.nD Cert.LastShellRefIdeal.τ).loc Cert.LastShellRefIdeal.main_v70) = v0 c
          ∧ r.2.mem ((c.tc : Thread Cert.LastShellRefIdeal.nD Cert.LastShellRefIdeal.τ).loc Cert.LastShellRefIdeal.main_v40) = v1 c
          ∧ r.2.mem ((c.tc : Thread Cert.LastShellRefIdeal.nD Cert.LastShellRefIdeal.τ).loc Cert.LastShellRefIdeal.main_v71) = v2 c
          ∧ r.2.mem ((c.tc : Thread Cert.LastShellRefIdeal.nD Cert.LastShellRefIdeal.τ).loc Cert.LastShellRefIdeal.main_v80) = v3 c
          ∧ r.2.mem ((c.tc : Thread Cert.LastShellRefIdeal.nD Cert.LastShellRefIdeal.τ).loc Cert.LastShellRefIdeal.main_arg0) = m' ((c.tc : Thread Cert.LastShellRefIdeal.nD Cert.LastShellRefIdeal.τ).loc Cert.LastShellRefIdeal.main_arg0)
          ∧ r.2.mem ((c.tc : Thread Cert.LastShellRefIdeal.nD Cert.LastShellRefIdeal.τ).loc Cert.LastShellRefIdeal.main_arg1) = m' ((c.tc : Thread Cert.LastShellRefIdeal.nD Cert.LastShellRefIdeal.τ).loc Cert.LastShellRefIdeal.main_arg1)
          ∧ r.2.mem ((c.tc : Thread Cert.LastShellRefIdeal.nD Cert.LastShellRefIdeal.τ).loc Cert.LastShellRefIdeal.main_arg2) = m' ((c.tc : Thread Cert.LastShellRefIdeal.nD Cert.LastShellRefIdeal.τ).loc Cert.LastShellRefIdeal.main_arg2)
          ∧ r.2.mem ((c.tc : Thread Cert.LastShellRefIdeal.nD Cert.LastShellRefIdeal.τ).loc Cert.LastShellRefIdeal.main_arg3) = m' ((c.tc : Thread Cert.LastShellRefIdeal.nD Cert.LastShellRefIdeal.τ).loc Cert.LastShellRefIdeal.main_arg3)
          ∧ r.2.mem ((c.tc : Thread Cert.LastShellRefIdeal.nD Cert.LastShellRefIdeal.τ).loc Cert.LastShellRefIdeal.main_arg4) = m' ((c.tc : Thread Cert.LastShellRefIdeal.nD Cert.LastShellRefIdeal.τ).loc Cert.LastShellRefIdeal.main_arg4)
          ∧ r.2.mem ((c.tc : Thread Cert.LastShellRefIdeal.nD Cert.LastShellRefIdeal.τ).loc Cert.LastShellRefIdeal.main_arg5) = m' ((c.tc : Thread Cert.LastShellRefIdeal.nD Cert.LastShellRefIdeal.τ).loc Cert.LastShellRefIdeal.main_arg5))

def preserves_SsmDu_SsmDuIdeal : Prop :=
  True

def algebraic_SsmDuIdeal_SsmDuRefIdeal [hSsmDuIdeal : Cert.SsmDuIdeal.Facts] [hSsmDuRefIdeal : Cert.SsmDuRefIdeal.Facts] : Prop :=
  ∀ (m : (ℓ : Loc Cert.SsmDuIdeal.nD Cert.SsmDuIdeal.τ Cert.SsmDuIdeal.sig) → Buf (Elt Ideal) ℓ) (g : Dev Cert.SsmDuIdeal.nD → PrngReg)
    (m' : (ℓ : Loc Cert.SsmDuRefIdeal.nD Cert.SsmDuRefIdeal.τ Cert.SsmDuRefIdeal.sig) → Buf (Elt Ideal) ℓ) (g' : Dev Cert.SsmDuRefIdeal.nD → PrngReg), Pre_SsmDuIdeal m →
    (∀ c : Dev Cert.SsmDuIdeal.nD,
      m' ((c.tc : Thread Cert.SsmDuRefIdeal.nD Cert.SsmDuRefIdeal.τ).loc Cert.SsmDuRefIdeal.main_arg0) = m ((c.tc : Thread Cert.SsmDuIdeal.nD Cert.SsmDuIdeal.τ).loc Cert.SsmDuIdeal.main_arg0)
      ∧ m' ((c.tc : Thread Cert.SsmDuRefIdeal.nD Cert.SsmDuRefIdeal.τ).loc Cert.SsmDuRefIdeal.main_arg1) = m ((c.tc : Thread Cert.SsmDuIdeal.nD Cert.SsmDuIdeal.τ).loc Cert.SsmDuIdeal.main_arg1)
      ∧ m' ((c.tc : Thread Cert.SsmDuRefIdeal.nD Cert.SsmDuRefIdeal.τ).loc Cert.SsmDuRefIdeal.main_arg2) = m ((c.tc : Thread Cert.SsmDuIdeal.nD Cert.SsmDuIdeal.τ).loc Cert.SsmDuIdeal.main_arg2)) →
    ∃ (v0 : (c : Dev Cert.SsmDuIdeal.nD) → Buf (Elt Ideal) ((c.tc : Thread Cert.SsmDuIdeal.nD Cert.SsmDuIdeal.τ).loc Cert.SsmDuIdeal.main_v0)),
      θ_run (Cert.SsmDuIdeal.defs (F := Ideal)) (onTc (τ := Cert.SsmDuIdeal.τ) (Cert.SsmDuIdeal.main (F := Ideal))) ⟨m, fun _ => 0, g⟩ (fun r => ∀ c : Dev Cert.SsmDuIdeal.nD,
          r.2.mem ((c.tc : Thread Cert.SsmDuIdeal.nD Cert.SsmDuIdeal.τ).loc Cert.SsmDuIdeal.main_v0) = v0 c
          ∧ r.2.mem ((c.tc : Thread Cert.SsmDuIdeal.nD Cert.SsmDuIdeal.τ).loc Cert.SsmDuIdeal.main_arg0) = m ((c.tc : Thread Cert.SsmDuIdeal.nD Cert.SsmDuIdeal.τ).loc Cert.SsmDuIdeal.main_arg0)
          ∧ r.2.mem ((c.tc : Thread Cert.SsmDuIdeal.nD Cert.SsmDuIdeal.τ).loc Cert.SsmDuIdeal.main_arg1) = m ((c.tc : Thread Cert.SsmDuIdeal.nD Cert.SsmDuIdeal.τ).loc Cert.SsmDuIdeal.main_arg1)
          ∧ r.2.mem ((c.tc : Thread Cert.SsmDuIdeal.nD Cert.SsmDuIdeal.τ).loc Cert.SsmDuIdeal.main_arg2) = m ((c.tc : Thread Cert.SsmDuIdeal.nD Cert.SsmDuIdeal.τ).loc Cert.SsmDuIdeal.main_arg2))
      ∧ θ_run (Cert.SsmDuRefIdeal.defs (F := Ideal)) (onTc (τ := Cert.SsmDuRefIdeal.τ) (Cert.SsmDuRefIdeal.main (F := Ideal))) ⟨m', fun _ => 0, g'⟩ (fun r => ∀ c : Dev Cert.SsmDuRefIdeal.nD,
          r.2.mem ((c.tc : Thread Cert.SsmDuRefIdeal.nD Cert.SsmDuRefIdeal.τ).loc Cert.SsmDuRefIdeal.main_v9) = v0 c
          ∧ r.2.mem ((c.tc : Thread Cert.SsmDuRefIdeal.nD Cert.SsmDuRefIdeal.τ).loc Cert.SsmDuRefIdeal.main_arg0) = m' ((c.tc : Thread Cert.SsmDuRefIdeal.nD Cert.SsmDuRefIdeal.τ).loc Cert.SsmDuRefIdeal.main_arg0)
          ∧ r.2.mem ((c.tc : Thread Cert.SsmDuRefIdeal.nD Cert.SsmDuRefIdeal.τ).loc Cert.SsmDuRefIdeal.main_arg1) = m' ((c.tc : Thread Cert.SsmDuRefIdeal.nD Cert.SsmDuRefIdeal.τ).loc Cert.SsmDuRefIdeal.main_arg1)
          ∧ r.2.mem ((c.tc : Thread Cert.SsmDuRefIdeal.nD Cert.SsmDuRefIdeal.τ).loc Cert.SsmDuRefIdeal.main_arg2) = m' ((c.tc : Thread Cert.SsmDuRefIdeal.nD Cert.SsmDuRefIdeal.τ).loc Cert.SsmDuRefIdeal.main_arg2))

def preserves_AdaWGrad_AdaWGradIdeal : Prop :=
  True

def algebraic_AdaWGradIdeal_AdaWGradRefIdeal [hAdaWGradIdeal : Cert.AdaWGradIdeal.Facts] [hAdaWGradRefIdeal : Cert.AdaWGradRefIdeal.Facts] : Prop :=
  ∀ (m : (ℓ : Loc Cert.AdaWGradIdeal.nD Cert.AdaWGradIdeal.τ Cert.AdaWGradIdeal.sig) → Buf (Elt Ideal) ℓ) (g : Dev Cert.AdaWGradIdeal.nD → PrngReg)
    (m' : (ℓ : Loc Cert.AdaWGradRefIdeal.nD Cert.AdaWGradRefIdeal.τ Cert.AdaWGradRefIdeal.sig) → Buf (Elt Ideal) ℓ) (g' : Dev Cert.AdaWGradRefIdeal.nD → PrngReg), Pre_AdaWGradIdeal m →
    (∀ c : Dev Cert.AdaWGradIdeal.nD,
      m' ((c.tc : Thread Cert.AdaWGradRefIdeal.nD Cert.AdaWGradRefIdeal.τ).loc Cert.AdaWGradRefIdeal.main_arg0) = m ((c.tc : Thread Cert.AdaWGradIdeal.nD Cert.AdaWGradIdeal.τ).loc Cert.AdaWGradIdeal.main_arg0)
      ∧ m' ((c.tc : Thread Cert.AdaWGradRefIdeal.nD Cert.AdaWGradRefIdeal.τ).loc Cert.AdaWGradRefIdeal.main_arg1) = m ((c.tc : Thread Cert.AdaWGradIdeal.nD Cert.AdaWGradIdeal.τ).loc Cert.AdaWGradIdeal.main_arg1)) →
    ∃ (v0 : (c : Dev Cert.AdaWGradIdeal.nD) → Buf (Elt Ideal) ((c.tc : Thread Cert.AdaWGradIdeal.nD Cert.AdaWGradIdeal.τ).loc Cert.AdaWGradIdeal.main_v2)),
      θ_run (Cert.AdaWGradIdeal.defs (F := Ideal)) (onTc (τ := Cert.AdaWGradIdeal.τ) (Cert.AdaWGradIdeal.main (F := Ideal))) ⟨m, fun _ => 0, g⟩ (fun r => ∀ c : Dev Cert.AdaWGradIdeal.nD,
          r.2.mem ((c.tc : Thread Cert.AdaWGradIdeal.nD Cert.AdaWGradIdeal.τ).loc Cert.AdaWGradIdeal.main_v2) = v0 c
          ∧ r.2.mem ((c.tc : Thread Cert.AdaWGradIdeal.nD Cert.AdaWGradIdeal.τ).loc Cert.AdaWGradIdeal.main_arg0) = m ((c.tc : Thread Cert.AdaWGradIdeal.nD Cert.AdaWGradIdeal.τ).loc Cert.AdaWGradIdeal.main_arg0)
          ∧ r.2.mem ((c.tc : Thread Cert.AdaWGradIdeal.nD Cert.AdaWGradIdeal.τ).loc Cert.AdaWGradIdeal.main_arg1) = m ((c.tc : Thread Cert.AdaWGradIdeal.nD Cert.AdaWGradIdeal.τ).loc Cert.AdaWGradIdeal.main_arg1))
      ∧ θ_run (Cert.AdaWGradRefIdeal.defs (F := Ideal)) (onTc (τ := Cert.AdaWGradRefIdeal.τ) (Cert.AdaWGradRefIdeal.main (F := Ideal))) ⟨m', fun _ => 0, g'⟩ (fun r => ∀ c : Dev Cert.AdaWGradRefIdeal.nD,
          r.2.mem ((c.tc : Thread Cert.AdaWGradRefIdeal.nD Cert.AdaWGradRefIdeal.τ).loc Cert.AdaWGradRefIdeal.main_v5) = v0 c
          ∧ r.2.mem ((c.tc : Thread Cert.AdaWGradRefIdeal.nD Cert.AdaWGradRefIdeal.τ).loc Cert.AdaWGradRefIdeal.main_arg0) = m' ((c.tc : Thread Cert.AdaWGradRefIdeal.nD Cert.AdaWGradRefIdeal.τ).loc Cert.AdaWGradRefIdeal.main_arg0)
          ∧ r.2.mem ((c.tc : Thread Cert.AdaWGradRefIdeal.nD Cert.AdaWGradRefIdeal.τ).loc Cert.AdaWGradRefIdeal.main_arg1) = m' ((c.tc : Thread Cert.AdaWGradRefIdeal.nD Cert.AdaWGradRefIdeal.τ).loc Cert.AdaWGradRefIdeal.main_arg1))

def preserves_FfnSwiglu_FfnSwigluIdeal : Prop :=
  True

def algebraic_FfnSwigluIdeal_FfnSwigluRefIdeal_pre_finite_ffn_swiglu [hFfnSwigluIdeal : Cert.FfnSwigluIdeal.Facts] [hFfnSwigluRefIdeal : Cert.FfnSwigluRefIdeal.Facts] [hPre_finite_ffn_swiglu : Cert.Pre_finite_ffn_swiglu.Facts] : Prop :=
  ∀ (m : (ℓ : Loc Cert.FfnSwigluIdeal.nD Cert.FfnSwigluIdeal.τ Cert.FfnSwigluIdeal.sig) → Buf (Elt Ideal) ℓ) (g : Dev Cert.FfnSwigluIdeal.nD → PrngReg)
    (m' : (ℓ : Loc Cert.FfnSwigluRefIdeal.nD Cert.FfnSwigluRefIdeal.τ Cert.FfnSwigluRefIdeal.sig) → Buf (Elt Ideal) ℓ) (g' : Dev Cert.FfnSwigluRefIdeal.nD → PrngReg), Pre_FfnSwigluIdeal_finite_ffn_swiglu m →
    (∀ c : Dev Cert.FfnSwigluIdeal.nD,
      m' ((c.tc : Thread Cert.FfnSwigluRefIdeal.nD Cert.FfnSwigluRefIdeal.τ).loc Cert.FfnSwigluRefIdeal.main_arg0) = m ((c.tc : Thread Cert.FfnSwigluIdeal.nD Cert.FfnSwigluIdeal.τ).loc Cert.FfnSwigluIdeal.main_arg0)
      ∧ m' ((c.tc : Thread Cert.FfnSwigluRefIdeal.nD Cert.FfnSwigluRefIdeal.τ).loc Cert.FfnSwigluRefIdeal.main_arg1) = m ((c.tc : Thread Cert.FfnSwigluIdeal.nD Cert.FfnSwigluIdeal.τ).loc Cert.FfnSwigluIdeal.main_arg1)
      ∧ m' ((c.tc : Thread Cert.FfnSwigluRefIdeal.nD Cert.FfnSwigluRefIdeal.τ).loc Cert.FfnSwigluRefIdeal.main_arg2) = m ((c.tc : Thread Cert.FfnSwigluIdeal.nD Cert.FfnSwigluIdeal.τ).loc Cert.FfnSwigluIdeal.main_arg2)
      ∧ m' ((c.tc : Thread Cert.FfnSwigluRefIdeal.nD Cert.FfnSwigluRefIdeal.τ).loc Cert.FfnSwigluRefIdeal.main_arg3) = m ((c.tc : Thread Cert.FfnSwigluIdeal.nD Cert.FfnSwigluIdeal.τ).loc Cert.FfnSwigluIdeal.main_arg3)) →
    ∃ (v0 : (c : Dev Cert.FfnSwigluIdeal.nD) → Buf (Elt Ideal) ((c.tc : Thread Cert.FfnSwigluIdeal.nD Cert.FfnSwigluIdeal.τ).loc Cert.FfnSwigluIdeal.main_v3_1)) (v1 : (c : Dev Cert.FfnSwigluIdeal.nD) → Buf (Elt Ideal) ((c.tc : Thread Cert.FfnSwigluIdeal.nD Cert.FfnSwigluIdeal.τ).loc Cert.FfnSwigluIdeal.main_v8)),
      θ_run (Cert.FfnSwigluIdeal.defs (F := Ideal)) (onTc (τ := Cert.FfnSwigluIdeal.τ) (Cert.FfnSwigluIdeal.main (F := Ideal))) ⟨m, fun _ => 0, g⟩ (fun r => ∀ c : Dev Cert.FfnSwigluIdeal.nD,
          r.2.mem ((c.tc : Thread Cert.FfnSwigluIdeal.nD Cert.FfnSwigluIdeal.τ).loc Cert.FfnSwigluIdeal.main_v3_1) = v0 c
          ∧ r.2.mem ((c.tc : Thread Cert.FfnSwigluIdeal.nD Cert.FfnSwigluIdeal.τ).loc Cert.FfnSwigluIdeal.main_v8) = v1 c
          ∧ r.2.mem ((c.tc : Thread Cert.FfnSwigluIdeal.nD Cert.FfnSwigluIdeal.τ).loc Cert.FfnSwigluIdeal.main_arg0) = m ((c.tc : Thread Cert.FfnSwigluIdeal.nD Cert.FfnSwigluIdeal.τ).loc Cert.FfnSwigluIdeal.main_arg0)
          ∧ r.2.mem ((c.tc : Thread Cert.FfnSwigluIdeal.nD Cert.FfnSwigluIdeal.τ).loc Cert.FfnSwigluIdeal.main_arg1) = m ((c.tc : Thread Cert.FfnSwigluIdeal.nD Cert.FfnSwigluIdeal.τ).loc Cert.FfnSwigluIdeal.main_arg1)
          ∧ r.2.mem ((c.tc : Thread Cert.FfnSwigluIdeal.nD Cert.FfnSwigluIdeal.τ).loc Cert.FfnSwigluIdeal.main_arg2) = m ((c.tc : Thread Cert.FfnSwigluIdeal.nD Cert.FfnSwigluIdeal.τ).loc Cert.FfnSwigluIdeal.main_arg2)
          ∧ r.2.mem ((c.tc : Thread Cert.FfnSwigluIdeal.nD Cert.FfnSwigluIdeal.τ).loc Cert.FfnSwigluIdeal.main_arg3) = m ((c.tc : Thread Cert.FfnSwigluIdeal.nD Cert.FfnSwigluIdeal.τ).loc Cert.FfnSwigluIdeal.main_arg3))
      ∧ θ_run (Cert.FfnSwigluRefIdeal.defs (F := Ideal)) (onTc (τ := Cert.FfnSwigluRefIdeal.τ) (Cert.FfnSwigluRefIdeal.main (F := Ideal))) ⟨m', fun _ => 0, g'⟩ (fun r => ∀ c : Dev Cert.FfnSwigluRefIdeal.nD,
          r.2.mem ((c.tc : Thread Cert.FfnSwigluRefIdeal.nD Cert.FfnSwigluRefIdeal.τ).loc Cert.FfnSwigluRefIdeal.main_v19) = v0 c
          ∧ r.2.mem ((c.tc : Thread Cert.FfnSwigluRefIdeal.nD Cert.FfnSwigluRefIdeal.τ).loc Cert.FfnSwigluRefIdeal.main_v22) = v1 c
          ∧ r.2.mem ((c.tc : Thread Cert.FfnSwigluRefIdeal.nD Cert.FfnSwigluRefIdeal.τ).loc Cert.FfnSwigluRefIdeal.main_arg0) = m' ((c.tc : Thread Cert.FfnSwigluRefIdeal.nD Cert.FfnSwigluRefIdeal.τ).loc Cert.FfnSwigluRefIdeal.main_arg0)
          ∧ r.2.mem ((c.tc : Thread Cert.FfnSwigluRefIdeal.nD Cert.FfnSwigluRefIdeal.τ).loc Cert.FfnSwigluRefIdeal.main_arg1) = m' ((c.tc : Thread Cert.FfnSwigluRefIdeal.nD Cert.FfnSwigluRefIdeal.τ).loc Cert.FfnSwigluRefIdeal.main_arg1)
          ∧ r.2.mem ((c.tc : Thread Cert.FfnSwigluRefIdeal.nD Cert.FfnSwigluRefIdeal.τ).loc Cert.FfnSwigluRefIdeal.main_arg2) = m' ((c.tc : Thread Cert.FfnSwigluRefIdeal.nD Cert.FfnSwigluRefIdeal.τ).loc Cert.FfnSwigluRefIdeal.main_arg2)
          ∧ r.2.mem ((c.tc : Thread Cert.FfnSwigluRefIdeal.nD Cert.FfnSwigluRefIdeal.τ).loc Cert.FfnSwigluRefIdeal.main_arg3) = m' ((c.tc : Thread Cert.FfnSwigluRefIdeal.nD Cert.FfnSwigluRefIdeal.τ).loc Cert.FfnSwigluRefIdeal.main_arg3))

def preserves_PrePost_PrePostIdeal : Prop :=
  True

def algebraic_PrePostIdeal_PrePostRefIdeal_pre_finite_pre_post [hPrePostIdeal : Cert.PrePostIdeal.Facts] [hPrePostRefIdeal : Cert.PrePostRefIdeal.Facts] [hPre_finite_pre_post : Cert.Pre_finite_pre_post.Facts] : Prop :=
  ∀ (m : (ℓ : Loc Cert.PrePostIdeal.nD Cert.PrePostIdeal.τ Cert.PrePostIdeal.sig) → Buf (Elt Ideal) ℓ) (g : Dev Cert.PrePostIdeal.nD → PrngReg)
    (m' : (ℓ : Loc Cert.PrePostRefIdeal.nD Cert.PrePostRefIdeal.τ Cert.PrePostRefIdeal.sig) → Buf (Elt Ideal) ℓ) (g' : Dev Cert.PrePostRefIdeal.nD → PrngReg), Pre_PrePostIdeal_finite_pre_post m →
    (∀ c : Dev Cert.PrePostIdeal.nD,
      m' ((c.tc : Thread Cert.PrePostRefIdeal.nD Cert.PrePostRefIdeal.τ).loc Cert.PrePostRefIdeal.main_arg0) = m ((c.tc : Thread Cert.PrePostIdeal.nD Cert.PrePostIdeal.τ).loc Cert.PrePostIdeal.main_arg0)
      ∧ m' ((c.tc : Thread Cert.PrePostRefIdeal.nD Cert.PrePostRefIdeal.τ).loc Cert.PrePostRefIdeal.main_arg1) = m ((c.tc : Thread Cert.PrePostIdeal.nD Cert.PrePostIdeal.τ).loc Cert.PrePostIdeal.main_arg1)
      ∧ m' ((c.tc : Thread Cert.PrePostRefIdeal.nD Cert.PrePostRefIdeal.τ).loc Cert.PrePostRefIdeal.main_arg2) = m ((c.tc : Thread Cert.PrePostIdeal.nD Cert.PrePostIdeal.τ).loc Cert.PrePostIdeal.main_arg2)
      ∧ m' ((c.tc : Thread Cert.PrePostRefIdeal.nD Cert.PrePostRefIdeal.τ).loc Cert.PrePostRefIdeal.main_arg3) = m ((c.tc : Thread Cert.PrePostIdeal.nD Cert.PrePostIdeal.τ).loc Cert.PrePostIdeal.main_arg3)
      ∧ m' ((c.tc : Thread Cert.PrePostRefIdeal.nD Cert.PrePostRefIdeal.τ).loc Cert.PrePostRefIdeal.main_arg4) = m ((c.tc : Thread Cert.PrePostIdeal.nD Cert.PrePostIdeal.τ).loc Cert.PrePostIdeal.main_arg4)
      ∧ m' ((c.tc : Thread Cert.PrePostRefIdeal.nD Cert.PrePostRefIdeal.τ).loc Cert.PrePostRefIdeal.main_arg5) = m ((c.tc : Thread Cert.PrePostIdeal.nD Cert.PrePostIdeal.τ).loc Cert.PrePostIdeal.main_arg5)
      ∧ m' ((c.tc : Thread Cert.PrePostRefIdeal.nD Cert.PrePostRefIdeal.τ).loc Cert.PrePostRefIdeal.main_arg6) = m ((c.tc : Thread Cert.PrePostIdeal.nD Cert.PrePostIdeal.τ).loc Cert.PrePostIdeal.main_arg6)) →
    ∃ (v0 : (c : Dev Cert.PrePostIdeal.nD) → Buf (Elt Ideal) ((c.tc : Thread Cert.PrePostIdeal.nD Cert.PrePostIdeal.τ).loc Cert.PrePostIdeal.main_v19_0)) (v1 : (c : Dev Cert.PrePostIdeal.nD) → Buf (Elt Ideal) ((c.tc : Thread Cert.PrePostIdeal.nD Cert.PrePostIdeal.τ).loc Cert.PrePostIdeal.main_v19_1)) (v2 : (c : Dev Cert.PrePostIdeal.nD) → Buf (Elt Ideal) ((c.tc : Thread Cert.PrePostIdeal.nD Cert.PrePostIdeal.τ).loc Cert.PrePostIdeal.main_v20_0)) (v3 : (c : Dev Cert.PrePostIdeal.nD) → Buf (Elt Ideal) ((c.tc : Thread Cert.PrePostIdeal.nD Cert.PrePostIdeal.τ).loc Cert.PrePostIdeal.main_v20_1)) (v4 : (c : Dev Cert.PrePostIdeal.nD) → Buf (Elt Ideal) ((c.tc : Thread Cert.PrePostIdeal.nD Cert.PrePostIdeal.τ).loc Cert.PrePostIdeal.main_v20_2)),
      θ_run (Cert.PrePostIdeal.defs (F := Ideal)) (onTc (τ := Cert.PrePostIdeal.τ) (Cert.PrePostIdeal.main (F := Ideal))) ⟨m, fun _ => 0, g⟩ (fun r => ∀ c : Dev Cert.PrePostIdeal.nD,
          r.2.mem ((c.tc : Thread Cert.PrePostIdeal.nD Cert.PrePostIdeal.τ).loc Cert.PrePostIdeal.main_v19_0) = v0 c
          ∧ r.2.mem ((c.tc : Thread Cert.PrePostIdeal.nD Cert.PrePostIdeal.τ).loc Cert.PrePostIdeal.main_v19_1) = v1 c
          ∧ r.2.mem ((c.tc : Thread Cert.PrePostIdeal.nD Cert.PrePostIdeal.τ).loc Cert.PrePostIdeal.main_v20_0) = v2 c
          ∧ r.2.mem ((c.tc : Thread Cert.PrePostIdeal.nD Cert.PrePostIdeal.τ).loc Cert.PrePostIdeal.main_v20_1) = v3 c
          ∧ r.2.mem ((c.tc : Thread Cert.PrePostIdeal.nD Cert.PrePostIdeal.τ).loc Cert.PrePostIdeal.main_v20_2) = v4 c
          ∧ r.2.mem ((c.tc : Thread Cert.PrePostIdeal.nD Cert.PrePostIdeal.τ).loc Cert.PrePostIdeal.main_arg0) = m ((c.tc : Thread Cert.PrePostIdeal.nD Cert.PrePostIdeal.τ).loc Cert.PrePostIdeal.main_arg0)
          ∧ r.2.mem ((c.tc : Thread Cert.PrePostIdeal.nD Cert.PrePostIdeal.τ).loc Cert.PrePostIdeal.main_arg1) = m ((c.tc : Thread Cert.PrePostIdeal.nD Cert.PrePostIdeal.τ).loc Cert.PrePostIdeal.main_arg1)
          ∧ r.2.mem ((c.tc : Thread Cert.PrePostIdeal.nD Cert.PrePostIdeal.τ).loc Cert.PrePostIdeal.main_arg2) = m ((c.tc : Thread Cert.PrePostIdeal.nD Cert.PrePostIdeal.τ).loc Cert.PrePostIdeal.main_arg2)
          ∧ r.2.mem ((c.tc : Thread Cert.PrePostIdeal.nD Cert.PrePostIdeal.τ).loc Cert.PrePostIdeal.main_arg3) = m ((c.tc : Thread Cert.PrePostIdeal.nD Cert.PrePostIdeal.τ).loc Cert.PrePostIdeal.main_arg3)
          ∧ r.2.mem ((c.tc : Thread Cert.PrePostIdeal.nD Cert.PrePostIdeal.τ).loc Cert.PrePostIdeal.main_arg4) = m ((c.tc : Thread Cert.PrePostIdeal.nD Cert.PrePostIdeal.τ).loc Cert.PrePostIdeal.main_arg4)
          ∧ r.2.mem ((c.tc : Thread Cert.PrePostIdeal.nD Cert.PrePostIdeal.τ).loc Cert.PrePostIdeal.main_arg5) = m ((c.tc : Thread Cert.PrePostIdeal.nD Cert.PrePostIdeal.τ).loc Cert.PrePostIdeal.main_arg5)
          ∧ r.2.mem ((c.tc : Thread Cert.PrePostIdeal.nD Cert.PrePostIdeal.τ).loc Cert.PrePostIdeal.main_arg6) = m ((c.tc : Thread Cert.PrePostIdeal.nD Cert.PrePostIdeal.τ).loc Cert.PrePostIdeal.main_arg6))
      ∧ θ_run (Cert.PrePostRefIdeal.defs (F := Ideal)) (onTc (τ := Cert.PrePostRefIdeal.τ) (Cert.PrePostRefIdeal.main (F := Ideal))) ⟨m', fun _ => 0, g'⟩ (fun r => ∀ c : Dev Cert.PrePostRefIdeal.nD,
          r.2.mem ((c.tc : Thread Cert.PrePostRefIdeal.nD Cert.PrePostRefIdeal.τ).loc Cert.PrePostRefIdeal.main_v31) = v0 c
          ∧ r.2.mem ((c.tc : Thread Cert.PrePostRefIdeal.nD Cert.PrePostRefIdeal.τ).loc Cert.PrePostRefIdeal.main_v117) = v1 c
          ∧ r.2.mem ((c.tc : Thread Cert.PrePostRefIdeal.nD Cert.PrePostRefIdeal.τ).loc Cert.PrePostRefIdeal.main_v86) = v2 c
          ∧ r.2.mem ((c.tc : Thread Cert.PrePostRefIdeal.nD Cert.PrePostRefIdeal.τ).loc Cert.PrePostRefIdeal.main_v118) = v3 c
          ∧ r.2.mem ((c.tc : Thread Cert.PrePostRefIdeal.nD Cert.PrePostRefIdeal.τ).loc Cert.PrePostRefIdeal.main_v127) = v4 c
          ∧ r.2.mem ((c.tc : Thread Cert.PrePostRefIdeal.nD Cert.PrePostRefIdeal.τ).loc Cert.PrePostRefIdeal.main_arg0) = m' ((c.tc : Thread Cert.PrePostRefIdeal.nD Cert.PrePostRefIdeal.τ).loc Cert.PrePostRefIdeal.main_arg0)
          ∧ r.2.mem ((c.tc : Thread Cert.PrePostRefIdeal.nD Cert.PrePostRefIdeal.τ).loc Cert.PrePostRefIdeal.main_arg1) = m' ((c.tc : Thread Cert.PrePostRefIdeal.nD Cert.PrePostRefIdeal.τ).loc Cert.PrePostRefIdeal.main_arg1)
          ∧ r.2.mem ((c.tc : Thread Cert.PrePostRefIdeal.nD Cert.PrePostRefIdeal.τ).loc Cert.PrePostRefIdeal.main_arg2) = m' ((c.tc : Thread Cert.PrePostRefIdeal.nD Cert.PrePostRefIdeal.τ).loc Cert.PrePostRefIdeal.main_arg2)
          ∧ r.2.mem ((c.tc : Thread Cert.PrePostRefIdeal.nD Cert.PrePostRefIdeal.τ).loc Cert.PrePostRefIdeal.main_arg3) = m' ((c.tc : Thread Cert.PrePostRefIdeal.nD Cert.PrePostRefIdeal.τ).loc Cert.PrePostRefIdeal.main_arg3)
          ∧ r.2.mem ((c.tc : Thread Cert.PrePostRefIdeal.nD Cert.PrePostRefIdeal.τ).loc Cert.PrePostRefIdeal.main_arg4) = m' ((c.tc : Thread Cert.PrePostRefIdeal.nD Cert.PrePostRefIdeal.τ).loc Cert.PrePostRefIdeal.main_arg4)
          ∧ r.2.mem ((c.tc : Thread Cert.PrePostRefIdeal.nD Cert.PrePostRefIdeal.τ).loc Cert.PrePostRefIdeal.main_arg5) = m' ((c.tc : Thread Cert.PrePostRefIdeal.nD Cert.PrePostRefIdeal.τ).loc Cert.PrePostRefIdeal.main_arg5)
          ∧ r.2.mem ((c.tc : Thread Cert.PrePostRefIdeal.nD Cert.PrePostRefIdeal.τ).loc Cert.PrePostRefIdeal.main_arg6) = m' ((c.tc : Thread Cert.PrePostRefIdeal.nD Cert.PrePostRefIdeal.τ).loc Cert.PrePostRefIdeal.main_arg6))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v1_0)) (v2 : (c : Dev Cert.PoolIdeal.nD) → Buf (Elt Ideal) ((c.tc : Thread Cert.PoolIdeal.nD Cert.PoolIdeal.τ).loc Cert.PoolIdeal.main_v1_1)) (v3 : (c : Dev Cert.PoolIdeal.nD) → Buf (Elt Ideal) ((c.tc : Thread Cert.PoolIdeal.nD Cert.PoolIdeal.τ).loc Cert.PoolIdeal.main_v1_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v1_0) = v1 c
          ∧ r.2.mem ((c.tc : Thread Cert.PoolIdeal.nD Cert.PoolIdeal.τ).loc Cert.PoolIdeal.main_v1_1) = v2 c
          ∧ r.2.mem ((c.tc : Thread Cert.PoolIdeal.nD Cert.PoolIdeal.τ).loc Cert.PoolIdeal.main_v1_2) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v139) = v0 c
          ∧ r.2.mem ((c.tc : Thread Cert.PoolRefIdeal.nD Cert.PoolRefIdeal.τ).loc Cert.PoolRefIdeal.main_v141) = v1 c
          ∧ r.2.mem ((c.tc : Thread Cert.PoolRefIdeal.nD Cert.PoolRefIdeal.τ).loc Cert.PoolRefIdeal.main_v80) = v2 c
          ∧ r.2.mem ((c.tc : Thread Cert.PoolRefIdeal.nD Cert.PoolRefIdeal.τ).loc Cert.PoolRefIdeal.main_v137) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_SguBwd_SguBwdIdeal : Prop :=
  IdealRules.named_const.Statement Cert.SguBwdIdeal.κ "gelu_cubic" .f32 0x3D372713#32 ((8943 / 200000 : ℝ) : EReal)
  ∧ IdealRules.named_const.Statement Cert.SguBwdIdeal.κ "gelu_cubic_3" .f32 0x3E095D4F#32 ((26829 / 200000 : ℝ) : EReal)

def algebraic_SguBwdIdeal_SguBwdRefIdeal_pre_finite_sgu_bwd [hSguBwdIdeal : Cert.SguBwdIdeal.Facts] [hSguBwdRefIdeal : Cert.SguBwdRefIdeal.Facts] [hPre_finite_sgu_bwd : Cert.Pre_finite_sgu_bwd.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_finite_sgu_bwd m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v10_0)) (v1 : (c : Dev Cert.SguBwdIdeal.nD) → Buf (Elt Ideal) ((c.tc : Thread Cert.SguBwdIdeal.nD Cert.SguBwdIdeal.τ).loc Cert.SguBwdIdeal.main_v10_1)) (v2 : (c : Dev Cert.SguBwdIdeal.nD) → Buf (Elt Ideal) ((c.tc : Thread Cert.SguBwdIdeal.nD Cert.SguBwdIdeal.τ).loc Cert.SguBwdIdeal.main_v10_2)) (v3 : (c : Dev Cert.SguBwdIdeal.nD) → Buf (Elt Ideal) ((c.tc : Thread Cert.SguBwdIdeal.nD Cert.SguBwdIdeal.τ).loc Cert.SguBwdIdeal.main_v10_3)) (v4 : (c : Dev Cert.SguBwdIdeal.nD) → Buf (Elt Ideal) ((c.tc : Thread Cert.SguBwdIdeal.nD Cert.SguBwdIdeal.τ).loc Cert.SguBwdIdeal.main_v10_4)) (v5 : (c : Dev Cert.SguBwdIdeal.nD) → Buf (Elt Ideal) ((c.tc : Thread Cert.SguBwdIdeal.nD Cert.SguBwdIdeal.τ).loc Cert.SguBwdIdeal.main_v10_5)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v10_0) = v0 c
          ∧ r.2.mem ((c.tc : Thread Cert.SguBwdIdeal.nD Cert.SguBwdIdeal.τ).loc Cert.SguBwdIdeal.main_v10_1) = v1 c
          ∧ r.2.mem ((c.tc : Thread Cert.SguBwdIdeal.nD Cert.SguBwdIdeal.τ).loc Cert.SguBwdIdeal.main_v10_2) = v2 c
          ∧ r.2.mem ((c.tc : Thread Cert.SguBwdIdeal.nD Cert.SguBwdIdeal.τ).loc Cert.SguBwdIdeal.main_v10_3) = v3 c
          ∧ r.2.mem ((c.tc : Thread Cert.SguBwdIdeal.nD Cert.SguBwdIdeal.τ).loc Cert.SguBwdIdeal.main_v10_4) = v4 c
          ∧ r.2.mem ((c.tc : Thread Cert.SguBwdIdeal.nD Cert.SguBwdIdeal.τ).loc Cert.SguBwdIdeal.main_v10_5) = v5 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v136) = v0 c
          ∧ r.2.mem ((c.tc : Thread Cert.SguBwdRefIdeal.nD Cert.SguBwdRefIdeal.τ).loc Cert.SguBwdRefIdeal.main_v138) = v1 c
          ∧ r.2.mem ((c.tc : Thread Cert.SguBwdRefIdeal.nD Cert.SguBwdRefIdeal.τ).loc Cert.SguBwdRefIdeal.main_v122) = v2 c
          ∧ r.2.mem ((c.tc : Thread Cert.SguBwdRefIdeal.nD Cert.SguBwdRefIdeal.τ).loc Cert.SguBwdRefIdeal.main_v121) = v3 c
          ∧ r.2.mem ((c.tc : Thread Cert.SguBwdRefIdeal.nD Cert.SguBwdRefIdeal.τ).loc Cert.SguBwdRefIdeal.main_v83) = v4 c
          ∧ r.2.mem ((c.tc : Thread Cert.SguBwdRefIdeal.nD Cert.SguBwdRefIdeal.τ).loc Cert.SguBwdRefIdeal.main_v140) = v5 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5))

def preserves_SsmParam_SsmParamIdeal : Prop :=
  True

def algebraic_SsmParamIdeal_SsmParamRefIdeal_pre_finite_ssm_param [hSsmParamIdeal : Cert.SsmParamIdeal.Facts] [hSsmParamRefIdeal : Cert.SsmParamRefIdeal.Facts] [hPre_finite_ssm_param : Cert.Pre_finite_ssm_param.Facts] : Prop :=
  ∀ (m : (ℓ : Loc Cert.SsmParamIdeal.nD Cert.SsmParamIdeal.τ Cert.SsmParamIdeal.sig) → Buf (Elt Ideal) ℓ) (g : Dev Cert.SsmParamIdeal.nD → PrngReg)
    (m' : (ℓ : Loc Cert.SsmParamRefIdeal.nD Cert.SsmParamRefIdeal.τ Cert.SsmParamRefIdeal.sig) → Buf (Elt Ideal) ℓ) (g' : Dev Cert.SsmParamRefIdeal.nD → PrngReg), Pre_SsmParamIdeal_finite_ssm_param m →
    (∀ c : Dev Cert.SsmParamIdeal.nD,
      m' ((c.tc : Thread Cert.SsmParamRefIdeal.nD Cert.SsmParamRefIdeal.τ).loc Cert.SsmParamRefIdeal.main_arg0) = m ((c.tc : Thread Cert.SsmParamIdeal.nD Cert.SsmParamIdeal.τ).loc Cert.SsmParamIdeal.main_arg0)
      ∧ m' ((c.tc : Thread Cert.SsmParamRefIdeal.nD Cert.SsmParamRefIdeal.τ).loc Cert.SsmParamRefIdeal.main_arg1) = m ((c.tc : Thread Cert.SsmParamIdeal.nD Cert.SsmParamIdeal.τ).loc Cert.SsmParamIdeal.main_arg1)
      ∧ m' ((c.tc : Thread Cert.SsmParamRefIdeal.nD Cert.SsmParamRefIdeal.τ).loc Cert.SsmParamRefIdeal.main_arg2) = m ((c.tc : Thread Cert.SsmParamIdeal.nD Cert.SsmParamIdeal.τ).loc Cert.SsmParamIdeal.main_arg2)
      ∧ m' ((c.tc : Thread Cert.SsmParamRefIdeal.nD Cert.SsmParamRefIdeal.τ).loc Cert.SsmParamRefIdeal.main_arg3) = m ((c.tc : Thread Cert.SsmParamIdeal.nD Cert.SsmParamIdeal.τ).loc Cert.SsmParamIdeal.main_arg3)
      ∧ m' ((c.tc : Thread Cert.SsmParamRefIdeal.nD Cert.SsmParamRefIdeal.τ).loc Cert.SsmParamRefIdeal.main_arg4) = m ((c.tc : Thread Cert.SsmParamIdeal.nD Cert.SsmParamIdeal.τ).loc Cert.SsmParamIdeal.main_arg4)
      ∧ m' ((c.tc : Thread Cert.SsmParamRefIdeal.nD Cert.SsmParamRefIdeal.τ).loc Cert.SsmParamRefIdeal.main_arg5) = m ((c.tc : Thread Cert.SsmParamIdeal.nD Cert.SsmParamIdeal.τ).loc Cert.SsmParamIdeal.main_arg5)
      ∧ m' ((c.tc : Thread Cert.SsmParamRefIdeal.nD Cert.SsmParamRefIdeal.τ).loc Cert.SsmParamRefIdeal.main_arg6) = m ((c.tc : Thread Cert.SsmParamIdeal.nD Cert.SsmParamIdeal.τ).loc Cert.SsmParamIdeal.main_arg6)
      ∧ m' ((c.tc : Thread Cert.SsmParamRefIdeal.nD Cert.SsmParamRefIdeal.τ).loc Cert.SsmParamRefIdeal.main_arg7) = m ((c.tc : Thread Cert.SsmParamIdeal.nD Cert.SsmParamIdeal.τ).loc Cert.SsmParamIdeal.main_arg7)
      ∧ m' ((c.tc : Thread Cert.SsmParamRefIdeal.nD Cert.SsmParamRefIdeal.τ).loc Cert.SsmParamRefIdeal.main_arg8) = m ((c.tc : Thread Cert.SsmParamIdeal.nD Cert.SsmParamIdeal.τ).loc Cert.SsmParamIdeal.main_arg8)) →
    ∃ (v0 : (c : Dev Cert.SsmParamIdeal.nD) → Buf (Elt Ideal) ((c.tc : Thread Cert.SsmParamIdeal.nD Cert.SsmParamIdeal.τ).loc Cert.SsmParamIdeal.main_v24_0)) (v1 : (c : Dev Cert.SsmParamIdeal.nD) → Buf (Elt Ideal) ((c.tc : Thread Cert.SsmParamIdeal.nD Cert.SsmParamIdeal.τ).loc Cert.SsmParamIdeal.main_v24_1)) (v2 : (c : Dev Cert.SsmParamIdeal.nD) → Buf (Elt Ideal) ((c.tc : Thread Cert.SsmParamIdeal.nD Cert.SsmParamIdeal.τ).loc Cert.SsmParamIdeal.main_v24_2)) (v3 : (c : Dev Cert.SsmParamIdeal.nD) → Buf (Elt Ideal) ((c.tc : Thread Cert.SsmParamIdeal.nD Cert.SsmParamIdeal.τ).loc Cert.SsmParamIdeal.main_v24_3)) (v4 : (c : Dev Cert.SsmParamIdeal.nD) → Buf (Elt Ideal) ((c.tc : Thread Cert.SsmParamIdeal.nD Cert.SsmParamIdeal.τ).loc Cert.SsmParamIdeal.main_v24_4)),
      θ_run (Cert.SsmParamIdeal.defs (F := Ideal)) (onTc (τ := Cert.SsmParamIdeal.τ) (Cert.SsmParamIdeal.main (F := Ideal))) ⟨m, fun _ => 0, g⟩ (fun r => ∀ c : Dev Cert.SsmParamIdeal.nD,
          r.2.mem ((c.tc : Thread Cert.SsmParamIdeal.nD Cert.SsmParamIdeal.τ).loc Cert.SsmParamIdeal.main_v24_0) = v0 c
          ∧ r.2.mem ((c.tc : Thread Cert.SsmParamIdeal.nD Cert.SsmParamIdeal.τ).loc Cert.SsmParamIdeal.main_v24_1) = v1 c
          ∧ r.2.mem ((c.tc : Thread Cert.SsmParamIdeal.nD Cert.SsmParamIdeal.τ).loc Cert.SsmParamIdeal.main_v24_2) = v2 c
          ∧ r.2.mem ((c.tc : Thread Cert.SsmParamIdeal.nD Cert.SsmParamIdeal.τ).loc Cert.SsmParamIdeal.main_v24_3) = v3 c
          ∧ r.2.mem ((c.tc : Thread Cert.SsmParamIdeal.nD Cert.SsmParamIdeal.τ).loc Cert.SsmParamIdeal.main_v24_4) = v4 c
          ∧ r.2.mem ((c.tc : Thread Cert.SsmParamIdeal.nD Cert.SsmParamIdeal.τ).loc Cert.SsmParamIdeal.main_arg0) = m ((c.tc : Thread Cert.SsmParamIdeal.nD Cert.SsmParamIdeal.τ).loc Cert.SsmParamIdeal.main_arg0)
          ∧ r.2.mem ((c.tc : Thread Cert.SsmParamIdeal.nD Cert.SsmParamIdeal.τ).loc Cert.SsmParamIdeal.main_arg1) = m ((c.tc : Thread Cert.SsmParamIdeal.nD Cert.SsmParamIdeal.τ).loc Cert.SsmParamIdeal.main_arg1)
          ∧ r.2.mem ((c.tc : Thread Cert.SsmParamIdeal.nD Cert.SsmParamIdeal.τ).loc Cert.SsmParamIdeal.main_arg2) = m ((c.tc : Thread Cert.SsmParamIdeal.nD Cert.SsmParamIdeal.τ).loc Cert.SsmParamIdeal.main_arg2)
          ∧ r.2.mem ((c.tc : Thread Cert.SsmParamIdeal.nD Cert.SsmParamIdeal.τ).loc Cert.SsmParamIdeal.main_arg3) = m ((c.tc : Thread Cert.SsmParamIdeal.nD Cert.SsmParamIdeal.τ).loc Cert.SsmParamIdeal.main_arg3)
          ∧ r.2.mem ((c.tc : Thread Cert.SsmParamIdeal.nD Cert.SsmParamIdeal.τ).loc Cert.SsmParamIdeal.main_arg4) = m ((c.tc : Thread Cert.SsmParamIdeal.nD Cert.SsmParamIdeal.τ).loc Cert.SsmParamIdeal.main_arg4)
          ∧ r.2.mem ((c.tc : Thread Cert.SsmParamIdeal.nD Cert.SsmParamIdeal.τ).loc Cert.SsmParamIdeal.main_arg5) = m ((c.tc : Thread Cert.SsmParamIdeal.nD Cert.SsmParamIdeal.τ).loc Cert.SsmParamIdeal.main_arg5)
          ∧ r.2.mem ((c.tc : Thread Cert.SsmParamIdeal.nD Cert.SsmParamIdeal.τ).loc Cert.SsmParamIdeal.main_arg6) = m ((c.tc : Thread Cert.SsmParamIdeal.nD Cert.SsmParamIdeal.τ).loc Cert.SsmParamIdeal.main_arg6)
          ∧ r.2.mem ((c.tc : Thread Cert.SsmParamIdeal.nD Cert.SsmParamIdeal.τ).loc Cert.SsmParamIdeal.main_arg7) = m ((c.tc : Thread Cert.SsmParamIdeal.nD Cert.SsmParamIdeal.τ).loc Cert.SsmParamIdeal.main_arg7)
          ∧ r.2.mem ((c.tc : Thread Cert.SsmParamIdeal.nD Cert.SsmParamIdeal.τ).loc Cert.SsmParamIdeal.main_arg8) = m ((c.tc : Thread Cert.SsmParamIdeal.nD Cert.SsmParamIdeal.τ).loc Cert.SsmParamIdeal.main_arg8))
      ∧ θ_run (Cert.SsmParamRefIdeal.defs (F := Ideal)) (onTc (τ := Cert.SsmParamRefIdeal.τ) (Cert.SsmParamRefIdeal.main (F := Ideal))) ⟨m', fun _ => 0, g'⟩ (fun r => ∀ c : Dev Cert.SsmParamRefIdeal.nD,
          r.2.mem ((c.tc : Thread Cert.SsmParamRefIdeal.nD Cert.SsmParamRefIdeal.τ).loc Cert.SsmParamRefIdeal.main_v138) = v0 c
          ∧ r.2.mem ((c.tc : Thread Cert.SsmParamRefIdeal.nD Cert.SsmParamRefIdeal.τ).loc Cert.SsmParamRefIdeal.main_v130) = v1 c
          ∧ r.2.mem ((c.tc : Thread Cert.SsmParamRefIdeal.nD Cert.SsmParamRefIdeal.τ).loc Cert.SsmParamRefIdeal.main_v142) = v2 c
          ∧ r.2.mem ((c.tc : Thread Cert.SsmParamRefIdeal.nD Cert.SsmParamRefIdeal.τ).loc Cert.SsmParamRefIdeal.main_v144) = v3 c
          ∧ r.2.mem ((c.tc : Thread Cert.SsmParamRefIdeal.nD Cert.SsmParamRefIdeal.τ).loc Cert.SsmParamRefIdeal.main_v146) = v4 c
          ∧ r.2.mem ((c.tc : Thread Cert.SsmParamRefIdeal.nD Cert.SsmParamRefIdeal.τ).loc Cert.SsmParamRefIdeal.main_arg0) = m' ((c.tc : Thread Cert.SsmParamRefIdeal.nD Cert.SsmParamRefIdeal.τ).loc Cert.SsmParamRefIdeal.main_arg0)
          ∧ r.2.mem ((c.tc : Thread Cert.SsmParamRefIdeal.nD Cert.SsmParamRefIdeal.τ).loc Cert.SsmParamRefIdeal.main_arg1) = m' ((c.tc : Thread Cert.SsmParamRefIdeal.nD Cert.SsmParamRefIdeal.τ).loc Cert.SsmParamRefIdeal.main_arg1)
          ∧ r.2.mem ((c.tc : Thread Cert.SsmParamRefIdeal.nD Cert.SsmParamRefIdeal.τ).loc Cert.SsmParamRefIdeal.main_arg2) = m' ((c.tc : Thread Cert.SsmParamRefIdeal.nD Cert.SsmParamRefIdeal.τ).loc Cert.SsmParamRefIdeal.main_arg2)
          ∧ r.2.mem ((c.tc : Thread Cert.SsmParamRefIdeal.nD Cert.SsmParamRefIdeal.τ).loc Cert.SsmParamRefIdeal.main_arg3) = m' ((c.tc : Thread Cert.SsmParamRefIdeal.nD Cert.SsmParamRefIdeal.τ).loc Cert.SsmParamRefIdeal.main_arg3)
          ∧ r.2.mem ((c.tc : Thread Cert.SsmParamRefIdeal.nD Cert.SsmParamRefIdeal.τ).loc Cert.SsmParamRefIdeal.main_arg4) = m' ((c.tc : Thread Cert.SsmParamRefIdeal.nD Cert.SsmParamRefIdeal.τ).loc Cert.SsmParamRefIdeal.main_arg4)
          ∧ r.2.mem ((c.tc : Thread Cert.SsmParamRefIdeal.nD Cert.SsmParamRefIdeal.τ).loc Cert.SsmParamRefIdeal.main_arg5) = m' ((c.tc : Thread Cert.SsmParamRefIdeal.nD Cert.SsmParamRefIdeal.τ).loc Cert.SsmParamRefIdeal.main_arg5)
          ∧ r.2.mem ((c.tc : Thread Cert.SsmParamRefIdeal.nD Cert.SsmParamRefIdeal.τ).loc Cert.SsmParamRefIdeal.main_arg6) = m' ((c.tc : Thread Cert.SsmParamRefIdeal.nD Cert.SsmParamRefIdeal.τ).loc Cert.SsmParamRefIdeal.main_arg6)
          ∧ r.2.mem ((c.tc : Thread Cert.SsmParamRefIdeal.nD Cert.SsmParamRefIdeal.τ).loc Cert.SsmParamRefIdeal.main_arg7) = m' ((c.tc : Thread Cert.SsmParamRefIdeal.nD Cert.SsmParamRefIdeal.τ).loc Cert.SsmParamRefIdeal.main_arg7)
          ∧ r.2.mem ((c.tc : Thread Cert.SsmParamRefIdeal.nD Cert.SsmParamRefIdeal.τ).loc Cert.SsmParamRefIdeal.main_arg8) = m' ((c.tc : Thread Cert.SsmParamRefIdeal.nD Cert.SsmParamRefIdeal.τ).loc Cert.SsmParamRefIdeal.main_arg8))

def preserves_SsmPrep_SsmPrepIdeal : Prop :=
  True

def algebraic_SsmPrepIdeal_SsmPrepRefIdeal [hSsmPrepIdeal : Cert.SsmPrepIdeal.Facts] [hSsmPrepRefIdeal : Cert.SsmPrepRefIdeal.Facts] : Prop :=
  ∀ (m : (ℓ : Loc Cert.SsmPrepIdeal.nD Cert.SsmPrepIdeal.τ Cert.SsmPrepIdeal.sig) → Buf (Elt Ideal) ℓ) (g : Dev Cert.SsmPrepIdeal.nD → PrngReg)
    (m' : (ℓ : Loc Cert.SsmPrepRefIdeal.nD Cert.SsmPrepRefIdeal.τ Cert.SsmPrepRefIdeal.sig) → Buf (Elt Ideal) ℓ) (g' : Dev Cert.SsmPrepRefIdeal.nD → PrngReg), Pre_SsmPrepIdeal m →
    (∀ c : Dev Cert.SsmPrepIdeal.nD,
      m' ((c.tc : Thread Cert.SsmPrepRefIdeal.nD Cert.SsmPrepRefIdeal.τ).loc Cert.SsmPrepRefIdeal.main_arg0) = m ((c.tc : Thread Cert.SsmPrepIdeal.nD Cert.SsmPrepIdeal.τ).loc Cert.SsmPrepIdeal.main_arg0)
      ∧ m' ((c.tc : Thread Cert.SsmPrepRefIdeal.nD Cert.SsmPrepRefIdeal.τ).loc Cert.SsmPrepRefIdeal.main_arg1) = m ((c.tc : Thread Cert.SsmPrepIdeal.nD Cert.SsmPrepIdeal.τ).loc Cert.SsmPrepIdeal.main_arg1)
      ∧ m' ((c.tc : Thread Cert.SsmPrepRefIdeal.nD Cert.SsmPrepRefIdeal.τ).loc Cert.SsmPrepRefIdeal.main_arg2) = m ((c.tc : Thread Cert.SsmPrepIdeal.nD Cert.SsmPrepIdeal.τ).loc Cert.SsmPrepIdeal.main_arg2)
      ∧ m' ((c.tc : Thread Cert.SsmPrepRefIdeal.nD Cert.SsmPrepRefIdeal.τ).loc Cert.SsmPrepRefIdeal.main_arg3) = m ((c.tc : Thread Cert.SsmPrepIdeal.nD Cert.SsmPrepIdeal.τ).loc Cert.SsmPrepIdeal.main_arg3)
      ∧ m' ((c.tc : Thread Cert.SsmPrepRefIdeal.nD Cert.SsmPrepRefIdeal.τ).loc Cert.SsmPrepRefIdeal.main_arg4) = m ((c.tc : Thread Cert.SsmPrepIdeal.nD Cert.SsmPrepIdeal.τ).loc Cert.SsmPrepIdeal.main_arg4)) →
    ∃ (v0 : (c : Dev Cert.SsmPrepIdeal.nD) → Buf (Elt Ideal) ((c.tc : Thread Cert.SsmPrepIdeal.nD Cert.SsmPrepIdeal.τ).loc Cert.SsmPrepIdeal.main_v11_0)) (v1 : (c : Dev Cert.SsmPrepIdeal.nD) → Buf (Elt Ideal) ((c.tc : Thread Cert.SsmPrepIdeal.nD Cert.SsmPrepIdeal.τ).loc Cert.SsmPrepIdeal.main_v11_1)) (v2 : (c : Dev Cert.SsmPrepIdeal.nD) → Buf (Elt Ideal) ((c.tc : Thread Cert.SsmPrepIdeal.nD Cert.SsmPrepIdeal.τ).loc Cert.SsmPrepIdeal.main_v11_2)) (v3 : (c : Dev Cert.SsmPrepIdeal.nD) → Buf (Elt Ideal) ((c.tc : Thread Cert.SsmPrepIdeal.nD Cert.SsmPrepIdeal.τ).loc Cert.SsmPrepIdeal.main_v11_3)),
      θ_run (Cert.SsmPrepIdeal.defs (F := Ideal)) (onTc (τ := Cert.SsmPrepIdeal.τ) (Cert.SsmPrepIdeal.main (F := Ideal))) ⟨m, fun _ => 0, g⟩ (fun r => ∀ c : Dev Cert.SsmPrepIdeal.nD,
          r.2.mem ((c.tc : Thread Cert.SsmPrepIdeal.nD Cert.SsmPrepIdeal.τ).loc Cert.SsmPrepIdeal.main_v11_0) = v0 c
          ∧ r.2.mem ((c.tc : Thread Cert.SsmPrepIdeal.nD Cert.SsmPrepIdeal.τ).loc Cert.SsmPrepIdeal.main_v11_1) = v1 c
          ∧ r.2.mem ((c.tc : Thread Cert.SsmPrepIdeal.nD Cert.SsmPrepIdeal.τ).loc Cert.SsmPrepIdeal.main_v11_2) = v2 c
          ∧ r.2.mem ((c.tc : Thread Cert.SsmPrepIdeal.nD Cert.SsmPrepIdeal.τ).loc Cert.SsmPrepIdeal.main_v11_3) = v3 c
          ∧ r.2.mem ((c.tc : Thread Cert.SsmPrepIdeal.nD Cert.SsmPrepIdeal.τ).loc Cert.SsmPrepIdeal.main_arg0) = m ((c.tc : Thread Cert.SsmPrepIdeal.nD Cert.SsmPrepIdeal.τ).loc Cert.SsmPrepIdeal.main_arg0)
          ∧ r.2.mem ((c.tc : Thread Cert.SsmPrepIdeal.nD Cert.SsmPrepIdeal.τ).loc Cert.SsmPrepIdeal.main_arg1) = m ((c.tc : Thread Cert.SsmPrepIdeal.nD Cert.SsmPrepIdeal.τ).loc Cert.SsmPrepIdeal.main_arg1)
          ∧ r.2.mem ((c.tc : Thread Cert.SsmPrepIdeal.nD Cert.SsmPrepIdeal.τ).loc Cert.SsmPrepIdeal.main_arg2) = m ((c.tc : Thread Cert.SsmPrepIdeal.nD Cert.SsmPrepIdeal.τ).loc Cert.SsmPrepIdeal.main_arg2)
          ∧ r.2.mem ((c.tc : Thread Cert.SsmPrepIdeal.nD Cert.SsmPrepIdeal.τ).loc Cert.SsmPrepIdeal.main_arg3) = m ((c.tc : Thread Cert.SsmPrepIdeal.nD Cert.SsmPrepIdeal.τ).loc Cert.SsmPrepIdeal.main_arg3)
          ∧ r.2.mem ((c.tc : Thread Cert.SsmPrepIdeal.nD Cert.SsmPrepIdeal.τ).loc Cert.SsmPrepIdeal.main_arg4) = m ((c.tc : Thread Cert.SsmPrepIdeal.nD Cert.SsmPrepIdeal.τ).loc Cert.SsmPrepIdeal.main_arg4))
      ∧ θ_run (Cert.SsmPrepRefIdeal.defs (F := Ideal)) (onTc (τ := Cert.SsmPrepRefIdeal.τ) (Cert.SsmPrepRefIdeal.main (F := Ideal))) ⟨m', fun _ => 0, g'⟩ (fun r => ∀ c : Dev Cert.SsmPrepRefIdeal.nD,
          r.2.mem ((c.tc : Thread Cert.SsmPrepRefIdeal.nD Cert.SsmPrepRefIdeal.τ).loc Cert.SsmPrepRefIdeal.main_v8) = v0 c
          ∧ r.2.mem ((c.tc : Thread Cert.SsmPrepRefIdeal.nD Cert.SsmPrepRefIdeal.τ).loc Cert.SsmPrepRefIdeal.main_v12) = v1 c
          ∧ r.2.mem ((c.tc : Thread Cert.SsmPrepRefIdeal.nD Cert.SsmPrepRefIdeal.τ).loc Cert.SsmPrepRefIdeal.main_v41) = v2 c
          ∧ r.2.mem ((c.tc : Thread Cert.SsmPrepRefIdeal.nD Cert.SsmPrepRefIdeal.τ).loc Cert.SsmPrepRefIdeal.main_v43) = v3 c
          ∧ r.2.mem ((c.tc : Thread Cert.SsmPrepRefIdeal.nD Cert.SsmPrepRefIdeal.τ).loc Cert.SsmPrepRefIdeal.main_arg0) = m' ((c.tc : Thread Cert.SsmPrepRefIdeal.nD Cert.SsmPrepRefIdeal.τ).loc Cert.SsmPrepRefIdeal.main_arg0)
          ∧ r.2.mem ((c.tc : Thread Cert.SsmPrepRefIdeal.nD Cert.SsmPrepRefIdeal.τ).loc Cert.SsmPrepRefIdeal.main_arg1) = m' ((c.tc : Thread Cert.SsmPrepRefIdeal.nD Cert.SsmPrepRefIdeal.τ).loc Cert.SsmPrepRefIdeal.main_arg1)
          ∧ r.2.mem ((c.tc : Thread Cert.SsmPrepRefIdeal.nD Cert.SsmPrepRefIdeal.τ).loc Cert.SsmPrepRefIdeal.main_arg2) = m' ((c.tc : Thread Cert.SsmPrepRefIdeal.nD Cert.SsmPrepRefIdeal.τ).loc Cert.SsmPrepRefIdeal.main_arg2)
          ∧ r.2.mem ((c.tc : Thread Cert.SsmPrepRefIdeal.nD Cert.SsmPrepRefIdeal.τ).loc Cert.SsmPrepRefIdeal.main_arg3) = m' ((c.tc : Thread Cert.SsmPrepRefIdeal.nD Cert.SsmPrepRefIdeal.τ).loc Cert.SsmPrepRefIdeal.main_arg3)
          ∧ r.2.mem ((c.tc : Thread Cert.SsmPrepRefIdeal.nD Cert.SsmPrepRefIdeal.τ).loc Cert.SsmPrepRefIdeal.main_arg4) = m' ((c.tc : Thread Cert.SsmPrepRefIdeal.nD Cert.SsmPrepRefIdeal.τ).loc Cert.SsmPrepRefIdeal.main_arg4))

def preserves_SsmScan_SsmScanIdeal : Prop :=
  True

def algebraic_SsmScanIdeal_SsmScanRefIdeal_pre_finite_ssm_scan [hSsmScanIdeal : Cert.SsmScanIdeal.Facts] [hSsmScanRefIdeal : Cert.SsmScanRefIdeal.Facts] [hPre_finite_ssm_scan : Cert.Pre_finite_ssm_scan.Facts] : Prop :=
  ∀ (m : (ℓ : Loc Cert.SsmScanIdeal.nD Cert.SsmScanIdeal.τ Cert.SsmScanIdeal.sig) → Buf (Elt Ideal) ℓ) (g : Dev Cert.SsmScanIdeal.nD → PrngReg)
    (m' : (ℓ : Loc Cert.SsmScanRefIdeal.nD Cert.SsmScanRefIdeal.τ Cert.SsmScanRefIdeal.sig) → Buf (Elt Ideal) ℓ) (g' : Dev Cert.SsmScanRefIdeal.nD → PrngReg), Pre_SsmScanIdeal_finite_ssm_scan m →
    (∀ c : Dev Cert.SsmScanIdeal.nD,
      m' ((c.tc : Thread Cert.SsmScanRefIdeal.nD Cert.SsmScanRefIdeal.τ).loc Cert.SsmScanRefIdeal.main_arg0) = m ((c.tc : Thread Cert.SsmScanIdeal.nD Cert.SsmScanIdeal.τ).loc Cert.SsmScanIdeal.main_arg0)
      ∧ m' ((c.tc : Thread Cert.SsmScanRefIdeal.nD Cert.SsmScanRefIdeal.τ).loc Cert.SsmScanRefIdeal.main_arg1) = m ((c.tc : Thread Cert.SsmScanIdeal.nD Cert.SsmScanIdeal.τ).loc Cert.SsmScanIdeal.main_arg1)
      ∧ m' ((c.tc : Thread Cert.SsmScanRefIdeal.nD Cert.SsmScanRefIdeal.τ).loc Cert.SsmScanRefIdeal.main_arg2) = m ((c.tc : Thread Cert.SsmScanIdeal.nD Cert.SsmScanIdeal.τ).loc Cert.SsmScanIdeal.main_arg2)
      ∧ m' ((c.tc : Thread Cert.SsmScanRefIdeal.nD Cert.SsmScanRefIdeal.τ).loc Cert.SsmScanRefIdeal.main_arg3) = m ((c.tc : Thread Cert.SsmScanIdeal.nD Cert.SsmScanIdeal.τ).loc Cert.SsmScanIdeal.main_arg3)
      ∧ m' ((c.tc : Thread Cert.SsmScanRefIdeal.nD Cert.SsmScanRefIdeal.τ).loc Cert.SsmScanRefIdeal.main_arg4) = m ((c.tc : Thread Cert.SsmScanIdeal.nD Cert.SsmScanIdeal.τ).loc Cert.SsmScanIdeal.main_arg4)
      ∧ m' ((c.tc : Thread Cert.SsmScanRefIdeal.nD Cert.SsmScanRefIdeal.τ).loc Cert.SsmScanRefIdeal.main_arg5) = m ((c.tc : Thread Cert.SsmScanIdeal.nD Cert.SsmScanIdeal.τ).loc Cert.SsmScanIdeal.main_arg5)
      ∧ m' ((c.tc : Thread Cert.SsmScanRefIdeal.nD Cert.SsmScanRefIdeal.τ).loc Cert.SsmScanRefIdeal.main_arg6) = m ((c.tc : Thread Cert.SsmScanIdeal.nD Cert.SsmScanIdeal.τ).loc Cert.SsmScanIdeal.main_arg6)) →
    ∃ (v0 : (c : Dev Cert.SsmScanIdeal.nD) → Buf (Elt Ideal) ((c.tc : Thread Cert.SsmScanIdeal.nD Cert.SsmScanIdeal.τ).loc Cert.SsmScanIdeal.main_v47_0)) (v1 : (c : Dev Cert.SsmScanIdeal.nD) → Buf (Elt Ideal) ((c.tc : Thread Cert.SsmScanIdeal.nD Cert.SsmScanIdeal.τ).loc Cert.SsmScanIdeal.main_v47_1)) (v2 : (c : Dev Cert.SsmScanIdeal.nD) → Buf (Elt Ideal) ((c.tc : Thread Cert.SsmScanIdeal.nD Cert.SsmScanIdeal.τ).loc Cert.SsmScanIdeal.main_v47_2)),
      θ_run (Cert.SsmScanIdeal.defs (F := Ideal)) (onTc (τ := Cert.SsmScanIdeal.τ) (Cert.SsmScanIdeal.main (F := Ideal))) ⟨m, fun _ => 0, g⟩ (fun r => ∀ c : Dev Cert.SsmScanIdeal.nD,
          r.2.mem ((c.tc : Thread Cert.SsmScanIdeal.nD Cert.SsmScanIdeal.τ).loc Cert.SsmScanIdeal.main_v47_0) = v0 c
          ∧ r.2.mem ((c.tc : Thread Cert.SsmScanIdeal.nD Cert.SsmScanIdeal.τ).loc Cert.SsmScanIdeal.main_v47_1) = v1 c
          ∧ r.2.mem ((c.tc : Thread Cert.SsmScanIdeal.nD Cert.SsmScanIdeal.τ).loc Cert.SsmScanIdeal.main_v47_2) = v2 c
          ∧ r.2.mem ((c.tc : Thread Cert.SsmScanIdeal.nD Cert.SsmScanIdeal.τ).loc Cert.SsmScanIdeal.main_arg0) = m ((c.tc : Thread Cert.SsmScanIdeal.nD Cert.SsmScanIdeal.τ).loc Cert.SsmScanIdeal.main_arg0)
          ∧ r.2.mem ((c.tc : Thread Cert.SsmScanIdeal.nD Cert.SsmScanIdeal.τ).loc Cert.SsmScanIdeal.main_arg1) = m ((c.tc : Thread Cert.SsmScanIdeal.nD Cert.SsmScanIdeal.τ).loc Cert.SsmScanIdeal.main_arg1)
          ∧ r.2.mem ((c.tc : Thread Cert.SsmScanIdeal.nD Cert.SsmScanIdeal.τ).loc Cert.SsmScanIdeal.main_arg2) = m ((c.tc : Thread Cert.SsmScanIdeal.nD Cert.SsmScanIdeal.τ).loc Cert.SsmScanIdeal.main_arg2)
          ∧ r.2.mem ((c.tc : Thread Cert.SsmScanIdeal.nD Cert.SsmScanIdeal.τ).loc Cert.SsmScanIdeal.main_arg3) = m ((c.tc : Thread Cert.SsmScanIdeal.nD Cert.SsmScanIdeal.τ).loc Cert.SsmScanIdeal.main_arg3)
          ∧ r.2.mem ((c.tc : Thread Cert.SsmScanIdeal.nD Cert.SsmScanIdeal.τ).loc Cert.SsmScanIdeal.main_arg4) = m ((c.tc : Thread Cert.SsmScanIdeal.nD Cert.SsmScanIdeal.τ).loc Cert.SsmScanIdeal.main_arg4)
          ∧ r.2.mem ((c.tc : Thread Cert.SsmScanIdeal.nD Cert.SsmScanIdeal.τ).loc Cert.SsmScanIdeal.main_arg5) = m ((c.tc : Thread Cert.SsmScanIdeal.nD Cert.SsmScanIdeal.τ).loc Cert.SsmScanIdeal.main_arg5)
          ∧ r.2.mem ((c.tc : Thread Cert.SsmScanIdeal.nD Cert.SsmScanIdeal.τ).loc Cert.SsmScanIdeal.main_arg6) = m ((c.tc : Thread Cert.SsmScanIdeal.nD Cert.SsmScanIdeal.τ).loc Cert.SsmScanIdeal.main_arg6))
      ∧ θ_run (Cert.SsmScanRefIdeal.defs (F := Ideal)) (onTc (τ := Cert.SsmScanRefIdeal.τ) (Cert.SsmScanRefIdeal.main (F := Ideal))) ⟨m', fun _ => 0, g'⟩ (fun r => ∀ c : Dev Cert.SsmScanRefIdeal.nD,
          r.2.mem ((c.tc : Thread Cert.SsmScanRefIdeal.nD Cert.SsmScanRefIdeal.τ).loc Cert.SsmScanRefIdeal.main_v15) = v0 c
          ∧ r.2.mem ((c.tc : Thread Cert.SsmScanRefIdeal.nD Cert.SsmScanRefIdeal.τ).loc Cert.SsmScanRefIdeal.main_v16) = v1 c
          ∧ r.2.mem ((c.tc : Thread Cert.SsmScanRefIdeal.nD Cert.SsmScanRefIdeal.τ).loc Cert.SsmScanRefIdeal.main_v14) = v2 c
          ∧ r.2.mem ((c.tc : Thread Cert.SsmScanRefIdeal.nD Cert.SsmScanRefIdeal.τ).loc Cert.SsmScanRefIdeal.main_arg0) = m' ((c.tc : Thread Cert.SsmScanRefIdeal.nD Cert.SsmScanRefIdeal.τ).loc Cert.SsmScanRefIdeal.main_arg0)
          ∧ r.2.mem ((c.tc : Thread Cert.SsmScanRefIdeal.nD Cert.SsmScanRefIdeal.τ).loc Cert.SsmScanRefIdeal.main_arg1) = m' ((c.tc : Thread Cert.SsmScanRefIdeal.nD Cert.SsmScanRefIdeal.τ).loc Cert.SsmScanRefIdeal.main_arg1)
          ∧ r.2.mem ((c.tc : Thread Cert.SsmScanRefIdeal.nD Cert.SsmScanRefIdeal.τ).loc Cert.SsmScanRefIdeal.main_arg2) = m' ((c.tc : Thread Cert.SsmScanRefIdeal.nD Cert.SsmScanRefIdeal.τ).loc Cert.SsmScanRefIdeal.main_arg2)
          ∧ r.2.mem ((c.tc : Thread Cert.SsmScanRefIdeal.nD Cert.SsmScanRefIdeal.τ).loc Cert.SsmScanRefIdeal.main_arg3) = m' ((c.tc : Thread Cert.SsmScanRefIdeal.nD Cert.SsmScanRefIdeal.τ).loc Cert.SsmScanRefIdeal.main_arg3)
          ∧ r.2.mem ((c.tc : Thread Cert.SsmScanRefIdeal.nD Cert.SsmScanRefIdeal.τ).loc Cert.SsmScanRefIdeal.main_arg4) = m' ((c.tc : Thread Cert.SsmScanRefIdeal.nD Cert.SsmScanRefIdeal.τ).loc Cert.SsmScanRefIdeal.main_arg4)
          ∧ r.2.mem ((c.tc : Thread Cert.SsmScanRefIdeal.nD Cert.SsmScanRefIdeal.τ).loc Cert.SsmScanRefIdeal.main_arg5) = m' ((c.tc : Thread Cert.SsmScanRefIdeal.nD Cert.SsmScanRefIdeal.τ).loc Cert.SsmScanRefIdeal.main_arg5)
          ∧ r.2.mem ((c.tc : Thread Cert.SsmScanRefIdeal.nD Cert.SsmScanRefIdeal.τ).loc Cert.SsmScanRefIdeal.main_arg6) = m' ((c.tc : Thread Cert.SsmScanRefIdeal.nD Cert.SsmScanRefIdeal.τ).loc Cert.SsmScanRefIdeal.main_arg6))

def preserves_SguFwd_SguFwdIdeal : Prop :=
  IdealRules.named_const.Statement Cert.SguFwdIdeal.κ "gelu_cubic" .f32 0x3D372713#32 ((8943 / 200000 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v2)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v2) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v58) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_SsmActFwd_SsmActFwdIdeal : Prop :=
  IdealRules.named_const.Statement Cert.SsmActFwdIdeal.κ "gelu_cubic" .f32 0x3D372713#32 ((8943 / 200000 : ℝ) : EReal)

def algebraic_SsmActFwdIdeal_SsmActFwdRefIdeal [hSsmActFwdIdeal : Cert.SsmActFwdIdeal.Facts] [hSsmActFwdRefIdeal : Cert.SsmActFwdRefIdeal.Facts] : Prop :=
  ∀ (m : (ℓ : Loc Cert.SsmActFwdIdeal.nD Cert.SsmActFwdIdeal.τ Cert.SsmActFwdIdeal.sig) → Buf (Elt Ideal) ℓ) (g : Dev Cert.SsmActFwdIdeal.nD → PrngReg)
    (m' : (ℓ : Loc Cert.SsmActFwdRefIdeal.nD Cert.SsmActFwdRefIdeal.τ Cert.SsmActFwdRefIdeal.sig) → Buf (Elt Ideal) ℓ) (g' : Dev Cert.SsmActFwdRefIdeal.nD → PrngReg), Pre_SsmActFwdIdeal m →
    (∀ c : Dev Cert.SsmActFwdIdeal.nD,
      m' ((c.tc : Thread Cert.SsmActFwdRefIdeal.nD Cert.SsmActFwdRefIdeal.τ).loc Cert.SsmActFwdRefIdeal.main_arg0) = m ((c.tc : Thread Cert.SsmActFwdIdeal.nD Cert.SsmActFwdIdeal.τ).loc Cert.SsmActFwdIdeal.main_arg0)
      ∧ m' ((c.tc : Thread Cert.SsmActFwdRefIdeal.nD Cert.SsmActFwdRefIdeal.τ).loc Cert.SsmActFwdRefIdeal.main_arg1) = m ((c.tc : Thread Cert.SsmActFwdIdeal.nD Cert.SsmActFwdIdeal.τ).loc Cert.SsmActFwdIdeal.main_arg1)
      ∧ m' ((c.tc : Thread Cert.SsmActFwdRefIdeal.nD Cert.SsmActFwdRefIdeal.τ).loc Cert.SsmActFwdRefIdeal.main_arg2) = m ((c.tc : Thread Cert.SsmActFwdIdeal.nD Cert.SsmActFwdIdeal.τ).loc Cert.SsmActFwdIdeal.main_arg2)) →
    ∃ (v0 : (c : Dev Cert.SsmActFwdIdeal.nD) → Buf (Elt Ideal) ((c.tc : Thread Cert.SsmActFwdIdeal.nD Cert.SsmActFwdIdeal.τ).loc Cert.SsmActFwdIdeal.main_v0)),
      θ_run (Cert.SsmActFwdIdeal.defs (F := Ideal)) (onTc (τ := Cert.SsmActFwdIdeal.τ) (Cert.SsmActFwdIdeal.main (F := Ideal))) ⟨m, fun _ => 0, g⟩ (fun r => ∀ c : Dev Cert.SsmActFwdIdeal.nD,
          r.2.mem ((c.tc : Thread Cert.SsmActFwdIdeal.nD Cert.SsmActFwdIdeal.τ).loc Cert.SsmActFwdIdeal.main_v0) = v0 c
          ∧ r.2.mem ((c.tc : Thread Cert.SsmActFwdIdeal.nD Cert.SsmActFwdIdeal.τ).loc Cert.SsmActFwdIdeal.main_arg0) = m ((c.tc : Thread Cert.SsmActFwdIdeal.nD Cert.SsmActFwdIdeal.τ).loc Cert.SsmActFwdIdeal.main_arg0)
          ∧ r.2.mem ((c.tc : Thread Cert.SsmActFwdIdeal.nD Cert.SsmActFwdIdeal.τ).loc Cert.SsmActFwdIdeal.main_arg1) = m ((c.tc : Thread Cert.SsmActFwdIdeal.nD Cert.SsmActFwdIdeal.τ).loc Cert.SsmActFwdIdeal.main_arg1)
          ∧ r.2.mem ((c.tc : Thread Cert.SsmActFwdIdeal.nD Cert.SsmActFwdIdeal.τ).loc Cert.SsmActFwdIdeal.main_arg2) = m ((c.tc : Thread Cert.SsmActFwdIdeal.nD Cert.SsmActFwdIdeal.τ).loc Cert.SsmActFwdIdeal.main_arg2))
      ∧ θ_run (Cert.SsmActFwdRefIdeal.defs (F := Ideal)) (onTc (τ := Cert.SsmActFwdRefIdeal.τ) (Cert.SsmActFwdRefIdeal.main (F := Ideal))) ⟨m', fun _ => 0, g'⟩ (fun r => ∀ c : Dev Cert.SsmActFwdRefIdeal.nD,
          r.2.mem ((c.tc : Thread Cert.SsmActFwdRefIdeal.nD Cert.SsmActFwdRefIdeal.τ).loc Cert.SsmActFwdRefIdeal.main_v19) = v0 c
          ∧ r.2.mem ((c.tc : Thread Cert.SsmActFwdRefIdeal.nD Cert.SsmActFwdRefIdeal.τ).loc Cert.SsmActFwdRefIdeal.main_arg0) = m' ((c.tc : Thread Cert.SsmActFwdRefIdeal.nD Cert.SsmActFwdRefIdeal.τ).loc Cert.SsmActFwdRefIdeal.main_arg0)
          ∧ r.2.mem ((c.tc : Thread Cert.SsmActFwdRefIdeal.nD Cert.SsmActFwdRefIdeal.τ).loc Cert.SsmActFwdRefIdeal.main_arg1) = m' ((c.tc : Thread Cert.SsmActFwdRefIdeal.nD Cert.SsmActFwdRefIdeal.τ).loc Cert.SsmActFwdRefIdeal.main_arg1)
          ∧ r.2.mem ((c.tc : Thread Cert.SsmActFwdRefIdeal.nD Cert.SsmActFwdRefIdeal.τ).loc Cert.SsmActFwdRefIdeal.main_arg2) = m' ((c.tc : Thread Cert.SsmActFwdRefIdeal.nD Cert.SsmActFwdRefIdeal.τ).loc Cert.SsmActFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v8) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0))

def preserves_PrenormFwd_PrenormFwdIdeal : Prop :=
  True

def algebraic_PrenormFwdIdeal_PrenormFwdRefIdeal [hPrenormFwdIdeal : Cert.PrenormFwdIdeal.Facts] [hPrenormFwdRefIdeal : Cert.PrenormFwdRefIdeal.Facts] : Prop :=
  ∀ (m : (ℓ : Loc Cert.PrenormFwdIdeal.nD Cert.PrenormFwdIdeal.τ Cert.PrenormFwdIdeal.sig) → Buf (Elt Ideal) ℓ) (g : Dev Cert.PrenormFwdIdeal.nD → PrngReg)
    (m' : (ℓ : Loc Cert.PrenormFwdRefIdeal.nD Cert.PrenormFwdRefIdeal.τ Cert.PrenormFwdRefIdeal.sig) → Buf (Elt Ideal) ℓ) (g' : Dev Cert.PrenormFwdRefIdeal.nD → PrngReg), Pre_PrenormFwdIdeal m →
    (∀ c : Dev Cert.PrenormFwdIdeal.nD,
      m' ((c.tc : Thread Cert.PrenormFwdRefIdeal.nD Cert.PrenormFwdRefIdeal.τ).loc Cert.PrenormFwdRefIdeal.main_arg0) = m ((c.tc : Thread Cert.PrenormFwdIdeal.nD Cert.PrenormFwdIdeal.τ).loc Cert.PrenormFwdIdeal.main_arg0)
      ∧ m' ((c.tc : Thread Cert.PrenormFwdRefIdeal.nD Cert.PrenormFwdRefIdeal.τ).loc Cert.PrenormFwdRefIdeal.main_arg1) = m ((c.tc : Thread Cert.PrenormFwdIdeal.nD Cert.PrenormFwdIdeal.τ).loc Cert.PrenormFwdIdeal.main_arg1)
      ∧ m' ((c.tc : Thread Cert.PrenormFwdRefIdeal.nD Cert.PrenormFwdRefIdeal.τ).loc Cert.PrenormFwdRefIdeal.main_arg2) = m ((c.tc : Thread Cert.PrenormFwdIdeal.nD Cert.PrenormFwdIdeal.τ).loc Cert.PrenormFwdIdeal.main_arg2)
      ∧ m' ((c.tc : Thread Cert.PrenormFwdRefIdeal.nD Cert.PrenormFwdRefIdeal.τ).loc Cert.PrenormFwdRefIdeal.main_arg3) = m ((c.tc : Thread Cert.PrenormFwdIdeal.nD Cert.PrenormFwdIdeal.τ).loc Cert.PrenormFwdIdeal.main_arg3)) →
    ∃ (v0 : (c : Dev Cert.PrenormFwdIdeal.nD) → Buf (Elt Ideal) ((c.tc : Thread Cert.PrenormFwdIdeal.nD Cert.PrenormFwdIdeal.τ).loc Cert.PrenormFwdIdeal.main_v19)),
      θ_run (Cert.PrenormFwdIdeal.defs (F := Ideal)) (onTc (τ := Cert.PrenormFwdIdeal.τ) (Cert.PrenormFwdIdeal.main (F := Ideal))) ⟨m, fun _ => 0, g⟩ (fun r => ∀ c : Dev Cert.PrenormFwdIdeal.nD,
          r.2.mem ((c.tc : Thread Cert.PrenormFwdIdeal.nD Cert.PrenormFwdIdeal.τ).loc Cert.PrenormFwdIdeal.main_v19) = v0 c
          ∧ r.2.mem ((c.tc : Thread Cert.PrenormFwdIdeal.nD Cert.PrenormFwdIdeal.τ).loc Cert.PrenormFwdIdeal.main_arg0) = m ((c.tc : Thread Cert.PrenormFwdIdeal.nD Cert.PrenormFwdIdeal.τ).loc Cert.PrenormFwdIdeal.main_arg0)
          ∧ r.2.mem ((c.tc : Thread Cert.PrenormFwdIdeal.nD Cert.PrenormFwdIdeal.τ).loc Cert.PrenormFwdIdeal.main_arg1) = m ((c.tc : Thread Cert.PrenormFwdIdeal.nD Cert.PrenormFwdIdeal.τ).loc Cert.PrenormFwdIdeal.main_arg1)
          ∧ r.2.mem ((c.tc : Thread Cert.PrenormFwdIdeal.nD Cert.PrenormFwdIdeal.τ).loc Cert.PrenormFwdIdeal.main_arg2) = m ((c.tc : Thread Cert.PrenormFwdIdeal.nD Cert.PrenormFwdIdeal.τ).loc Cert.PrenormFwdIdeal.main_arg2)
          ∧ r.2.mem ((c.tc : Thread Cert.PrenormFwdIdeal.nD Cert.PrenormFwdIdeal.τ).loc Cert.PrenormFwdIdeal.main_arg3) = m ((c.tc : Thread Cert.PrenormFwdIdeal.nD Cert.PrenormFwdIdeal.τ).loc Cert.PrenormFwdIdeal.main_arg3))
      ∧ θ_run (Cert.PrenormFwdRefIdeal.defs (F := Ideal)) (onTc (τ := Cert.PrenormFwdRefIdeal.τ) (Cert.PrenormFwdRefIdeal.main (F := Ideal))) ⟨m', fun _ => 0, g'⟩ (fun r => ∀ c : Dev Cert.PrenormFwdRefIdeal.nD,
          r.2.mem ((c.tc : Thread Cert.PrenormFwdRefIdeal.nD Cert.PrenormFwdRefIdeal.τ).loc Cert.PrenormFwdRefIdeal.main_v27) = v0 c
          ∧ r.2.mem ((c.tc : Thread Cert.PrenormFwdRefIdeal.nD Cert.PrenormFwdRefIdeal.τ).loc Cert.PrenormFwdRefIdeal.main_arg0) = m' ((c.tc : Thread Cert.PrenormFwdRefIdeal.nD Cert.PrenormFwdRefIdeal.τ).loc Cert.PrenormFwdRefIdeal.main_arg0)
          ∧ r.2.mem ((c.tc : Thread Cert.PrenormFwdRefIdeal.nD Cert.PrenormFwdRefIdeal.τ).loc Cert.PrenormFwdRefIdeal.main_arg1) = m' ((c.tc : Thread Cert.PrenormFwdRefIdeal.nD Cert.PrenormFwdRefIdeal.τ).loc Cert.PrenormFwdRefIdeal.main_arg1)
          ∧ r.2.mem ((c.tc : Thread Cert.PrenormFwdRefIdeal.nD Cert.PrenormFwdRefIdeal.τ).loc Cert.PrenormFwdRefIdeal.main_arg2) = m' ((c.tc : Thread Cert.PrenormFwdRefIdeal.nD Cert.PrenormFwdRefIdeal.τ).loc Cert.PrenormFwdRefIdeal.main_arg2)
          ∧ r.2.mem ((c.tc : Thread Cert.PrenormFwdRefIdeal.nD Cert.PrenormFwdRefIdeal.τ).loc Cert.PrenormFwdRefIdeal.main_arg3) = m' ((c.tc : Thread Cert.PrenormFwdRefIdeal.nD Cert.PrenormFwdRefIdeal.τ).loc Cert.PrenormFwdRefIdeal.main_arg3))

def preserves_ModPart_ModPartIdeal : Prop :=
  True

def algebraic_ModPartIdeal_ModPartRefIdeal [hModPartIdeal : Cert.ModPartIdeal.Facts] [hModPartRefIdeal : Cert.ModPartRefIdeal.Facts] : Prop :=
  ∀ (m : (ℓ : Loc Cert.ModPartIdeal.nD Cert.ModPartIdeal.τ Cert.ModPartIdeal.sig) → Buf (Elt Ideal) ℓ) (g : Dev Cert.ModPartIdeal.nD → PrngReg)
    (m' : (ℓ : Loc Cert.ModPartRefIdeal.nD Cert.ModPartRefIdeal.τ Cert.ModPartRefIdeal.sig) → Buf (Elt Ideal) ℓ) (g' : Dev Cert.ModPartRefIdeal.nD → PrngReg), Pre_ModPartIdeal m →
    (∀ c : Dev Cert.ModPartIdeal.nD,
      m' ((c.tc : Thread Cert.ModPartRefIdeal.nD Cert.ModPartRefIdeal.τ).loc Cert.ModPartRefIdeal.main_arg0) = m ((c.tc : Thread Cert.ModPartIdeal.nD Cert.ModPartIdeal.τ).loc Cert.ModPartIdeal.main_arg0)
      ∧ m' ((c.tc : Thread Cert.ModPartRefIdeal.nD Cert.ModPartRefIdeal.τ).loc Cert.ModPartRefIdeal.main_arg1) = m ((c.tc : Thread Cert.ModPartIdeal.nD Cert.ModPartIdeal.τ).loc Cert.ModPartIdeal.main_arg1)) →
    ∃ (v0 : (c : Dev Cert.ModPartIdeal.nD) → Buf (Elt Ideal) ((c.tc : Thread Cert.ModPartIdeal.nD Cert.ModPartIdeal.τ).loc Cert.ModPartIdeal.main_v0)),
      θ_run (Cert.ModPartIdeal.defs (F := Ideal)) (onTc (τ := Cert.ModPartIdeal.τ) (Cert.ModPartIdeal.main (F := Ideal))) ⟨m, fun _ => 0, g⟩ (fun r => ∀ c : Dev Cert.ModPartIdeal.nD,
          r.2.mem ((c.tc : Thread Cert.ModPartIdeal.nD Cert.ModPartIdeal.τ).loc Cert.ModPartIdeal.main_v0) = v0 c
          ∧ r.2.mem ((c.tc : Thread Cert.ModPartIdeal.nD Cert.ModPartIdeal.τ).loc Cert.ModPartIdeal.main_arg0) = m ((c.tc : Thread Cert.ModPartIdeal.nD Cert.ModPartIdeal.τ).loc Cert.ModPartIdeal.main_arg0)
          ∧ r.2.mem ((c.tc : Thread Cert.ModPartIdeal.nD Cert.ModPartIdeal.τ).loc Cert.ModPartIdeal.main_arg1) = m ((c.tc : Thread Cert.ModPartIdeal.nD Cert.ModPartIdeal.τ).loc Cert.ModPartIdeal.main_arg1))
      ∧ θ_run (Cert.ModPartRefIdeal.defs (F := Ideal)) (onTc (τ := Cert.ModPartRefIdeal.τ) (Cert.ModPartRefIdeal.main (F := Ideal))) ⟨m', fun _ => 0, g'⟩ (fun r => ∀ c : Dev Cert.ModPartRefIdeal.nD,
          r.2.mem ((c.tc : Thread Cert.ModPartRefIdeal.nD Cert.ModPartRefIdeal.τ).loc Cert.ModPartRefIdeal.main_v9) = v0 c
          ∧ r.2.mem ((c.tc : Thread Cert.ModPartRefIdeal.nD Cert.ModPartRefIdeal.τ).loc Cert.ModPartRefIdeal.main_arg0) = m' ((c.tc : Thread Cert.ModPartRefIdeal.nD Cert.ModPartRefIdeal.τ).loc Cert.ModPartRefIdeal.main_arg0)
          ∧ r.2.mem ((c.tc : Thread Cert.ModPartRefIdeal.nD Cert.ModPartRefIdeal.τ).loc Cert.ModPartRefIdeal.main_arg1) = m' ((c.tc : Thread Cert.ModPartRefIdeal.nD Cert.ModPartRefIdeal.τ).loc Cert.ModPartRefIdeal.main_arg1))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)) →
    ∃ (v0 : (c : Dev Cert.MmNnIdeal.nD) → Buf (Elt Ideal) ((c.tc : Thread Cert.MmNnIdeal.nD Cert.MmNnIdeal.τ).loc Cert.MmNnIdeal.main_v1)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v1) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v1) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v1)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v1) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v2) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v0)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v0) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v4) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_MmSum_MmSumIdeal : Prop :=
  True

def algebraic_MmSumIdeal_MmSumRefIdeal [hMmSumIdeal : Cert.MmSumIdeal.Facts] [hMmSumRefIdeal : Cert.MmSumRefIdeal.Facts] : Prop :=
  ∀ (m : (ℓ : Loc Cert.MmSumIdeal.nD Cert.MmSumIdeal.τ Cert.MmSumIdeal.sig) → Buf (Elt Ideal) ℓ) (g : Dev Cert.MmSumIdeal.nD → PrngReg)
    (m' : (ℓ : Loc Cert.MmSumRefIdeal.nD Cert.MmSumRefIdeal.τ Cert.MmSumRefIdeal.sig) → Buf (Elt Ideal) ℓ) (g' : Dev Cert.MmSumRefIdeal.nD → PrngReg), Pre_MmSumIdeal m →
    (∀ c : Dev Cert.MmSumIdeal.nD,
      m' ((c.tc : Thread Cert.MmSumRefIdeal.nD Cert.MmSumRefIdeal.τ).loc Cert.MmSumRefIdeal.main_arg0) = m ((c.tc : Thread Cert.MmSumIdeal.nD Cert.MmSumIdeal.τ).loc Cert.MmSumIdeal.main_arg0)
      ∧ m' ((c.tc : Thread Cert.MmSumRefIdeal.nD Cert.MmSumRefIdeal.τ).loc Cert.MmSumRefIdeal.main_arg1) = m ((c.tc : Thread Cert.MmSumIdeal.nD Cert.MmSumIdeal.τ).loc Cert.MmSumIdeal.main_arg1)) →
    ∃ (v0 : (c : Dev Cert.MmSumIdeal.nD) → Buf (Elt Ideal) ((c.tc : Thread Cert.MmSumIdeal.nD Cert.MmSumIdeal.τ).loc Cert.MmSumIdeal.main_v3)),
      θ_run (Cert.MmSumIdeal.defs (F := Ideal)) (onTc (τ := Cert.MmSumIdeal.τ) (Cert.MmSumIdeal.main (F := Ideal))) ⟨m, fun _ => 0, g⟩ (fun r => ∀ c : Dev Cert.MmSumIdeal.nD,
          r.2.mem ((c.tc : Thread Cert.MmSumIdeal.nD Cert.MmSumIdeal.τ).loc Cert.MmSumIdeal.main_v3) = v0 c
          ∧ r.2.mem ((c.tc : Thread Cert.MmSumIdeal.nD Cert.MmSumIdeal.τ).loc Cert.MmSumIdeal.main_arg0) = m ((c.tc : Thread Cert.MmSumIdeal.nD Cert.MmSumIdeal.τ).loc Cert.MmSumIdeal.main_arg0)
          ∧ r.2.mem ((c.tc : Thread Cert.MmSumIdeal.nD Cert.MmSumIdeal.τ).loc Cert.MmSumIdeal.main_arg1) = m ((c.tc : Thread Cert.MmSumIdeal.nD Cert.MmSumIdeal.τ).loc Cert.MmSumIdeal.main_arg1))
      ∧ θ_run (Cert.MmSumRefIdeal.defs (F := Ideal)) (onTc (τ := Cert.MmSumRefIdeal.τ) (Cert.MmSumRefIdeal.main (F := Ideal))) ⟨m', fun _ => 0, g'⟩ (fun r => ∀ c : Dev Cert.MmSumRefIdeal.nD,
          r.2.mem ((c.tc : Thread Cert.MmSumRefIdeal.nD Cert.MmSumRefIdeal.τ).loc Cert.MmSumRefIdeal.main_v4) = v0 c
          ∧ r.2.mem ((c.tc : Thread Cert.MmSumRefIdeal.nD Cert.MmSumRefIdeal.τ).loc Cert.MmSumRefIdeal.main_arg0) = m' ((c.tc : Thread Cert.MmSumRefIdeal.nD Cert.MmSumRefIdeal.τ).loc Cert.MmSumRefIdeal.main_arg0)
          ∧ r.2.mem ((c.tc : Thread Cert.MmSumRefIdeal.nD Cert.MmSumRefIdeal.τ).loc Cert.MmSumRefIdeal.main_arg1) = m' ((c.tc : Thread Cert.MmSumRefIdeal.nD Cert.MmSumRefIdeal.τ).loc Cert.MmSumRefIdeal.main_arg1))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v1) = v0 c
          ∧ r.2.mem ((c.tc : Thread Cert.AdamwRefIdeal.nD Cert.AdamwRefIdeal.τ).loc Cert.AdamwRefIdeal.main_v25) = v1 c
          ∧ r.2.mem ((c.tc : Thread Cert.AdamwRefIdeal.nD Cert.AdamwRefIdeal.τ).loc Cert.AdamwRefIdeal.main_v6) = v2 c
          ∧ r.2.mem ((c.tc : Thread Cert.AdamwRefIdeal.nD Cert.AdamwRefIdeal.τ).loc Cert.AdamwRefIdeal.main_v12) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_MmDw_MmDwIdeal : Prop :=
  True

def algebraic_MmDwIdeal_MmDwRefIdeal [hMmDwIdeal : Cert.MmDwIdeal.Facts] [hMmDwRefIdeal : Cert.MmDwRefIdeal.Facts] : Prop :=
  ∀ (m : (ℓ : Loc Cert.MmDwIdeal.nD Cert.MmDwIdeal.τ Cert.MmDwIdeal.sig) → Buf (Elt Ideal) ℓ) (g : Dev Cert.MmDwIdeal.nD → PrngReg)
    (m' : (ℓ : Loc Cert.MmDwRefIdeal.nD Cert.MmDwRefIdeal.τ Cert.MmDwRefIdeal.sig) → Buf (Elt Ideal) ℓ) (g' : Dev Cert.MmDwRefIdeal.nD → PrngReg), Pre_MmDwIdeal m →
    (∀ c : Dev Cert.MmDwIdeal.nD,
      m' ((c.tc : Thread Cert.MmDwRefIdeal.nD Cert.MmDwRefIdeal.τ).loc Cert.MmDwRefIdeal.main_arg0) = m ((c.tc : Thread Cert.MmDwIdeal.nD Cert.MmDwIdeal.τ).loc Cert.MmDwIdeal.main_arg0)
      ∧ m' ((c.tc : Thread Cert.MmDwRefIdeal.nD Cert.MmDwRefIdeal.τ).loc Cert.MmDwRefIdeal.main_arg1) = m ((c.tc : Thread Cert.MmDwIdeal.nD Cert.MmDwIdeal.τ).loc Cert.MmDwIdeal.main_arg1)) →
    ∃ (v0 : (c : Dev Cert.MmDwIdeal.nD) → Buf (Elt Ideal) ((c.tc : Thread Cert.MmDwIdeal.nD Cert.MmDwIdeal.τ).loc Cert.MmDwIdeal.main_v0)),
      θ_run (Cert.MmDwIdeal.defs (F := Ideal)) (onTc (τ := Cert.MmDwIdeal.τ) (Cert.MmDwIdeal.main (F := Ideal))) ⟨m, fun _ => 0, g⟩ (fun r => ∀ c : Dev Cert.MmDwIdeal.nD,
          r.2.mem ((c.tc : Thread Cert.MmDwIdeal.nD Cert.MmDwIdeal.τ).loc Cert.MmDwIdeal.main_v0) = v0 c
          ∧ r.2.mem ((c.tc : Thread Cert.MmDwIdeal.nD Cert.MmDwIdeal.τ).loc Cert.MmDwIdeal.main_arg0) = m ((c.tc : Thread Cert.MmDwIdeal.nD Cert.MmDwIdeal.τ).loc Cert.MmDwIdeal.main_arg0)
          ∧ r.2.mem ((c.tc : Thread Cert.MmDwIdeal.nD Cert.MmDwIdeal.τ).loc Cert.MmDwIdeal.main_arg1) = m ((c.tc : Thread Cert.MmDwIdeal.nD Cert.MmDwIdeal.τ).loc Cert.MmDwIdeal.main_arg1))
      ∧ θ_run (Cert.MmDwRefIdeal.defs (F := Ideal)) (onTc (τ := Cert.MmDwRefIdeal.τ) (Cert.MmDwRefIdeal.main (F := Ideal))) ⟨m', fun _ => 0, g'⟩ (fun r => ∀ c : Dev Cert.MmDwRefIdeal.nD,
          r.2.mem ((c.tc : Thread Cert.MmDwRefIdeal.nD Cert.MmDwRefIdeal.τ).loc Cert.MmDwRefIdeal.main_v8) = v0 c
          ∧ r.2.mem ((c.tc : Thread Cert.MmDwRefIdeal.nD Cert.MmDwRefIdeal.τ).loc Cert.MmDwRefIdeal.main_arg0) = m' ((c.tc : Thread Cert.MmDwRefIdeal.nD Cert.MmDwRefIdeal.τ).loc Cert.MmDwRefIdeal.main_arg0)
          ∧ r.2.mem ((c.tc : Thread Cert.MmDwRefIdeal.nD Cert.MmDwRefIdeal.τ).loc Cert.MmDwRefIdeal.main_arg1) = m' ((c.tc : Thread Cert.MmDwRefIdeal.nD Cert.MmDwRefIdeal.τ).loc Cert.MmDwRefIdeal.main_arg1))

def preserves_SumParts_SumPartsIdeal : Prop :=
  True

def algebraic_SumPartsIdeal_SumPartsRefIdeal [hSumPartsIdeal : Cert.SumPartsIdeal.Facts] [hSumPartsRefIdeal : Cert.SumPartsRefIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.SumPartsRefIdeal.nD Cert.SumPartsRefIdeal.τ Cert.SumPartsRefIdeal.sig) → Buf (Elt Ideal) ℓ) (g' : Dev Cert.SumPartsRefIdeal.nD → PrngReg), Pre_SumPartsIdeal m →
    (∀ c : Dev Cert.SumPartsIdeal.nD,
      m' ((c.tc : Thread Cert.SumPartsRefIdeal.nD Cert.SumPartsRefIdeal.τ).loc Cert.SumPartsRefIdeal.main_arg0) = m ((c.tc : Thread Cert.SumPartsIdeal.nD Cert.SumPartsIdeal.τ).loc Cert.SumPartsIdeal.main_arg0)) →
    ∃ (v0 : (c : Dev Cert.SumPartsIdeal.nD) → Buf (Elt Ideal) ((c.tc : Thread Cert.SumPartsIdeal.nD Cert.SumPartsIdeal.τ).loc Cert.SumPartsIdeal.main_v0)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v0) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ θ_run (Cert.SumPartsRefIdeal.defs (F := Ideal)) (onTc (τ := Cert.SumPartsRefIdeal.τ) (Cert.SumPartsRefIdeal.main (F := Ideal))) ⟨m', fun _ => 0, g'⟩ (fun r => ∀ c : Dev Cert.SumPartsRefIdeal.nD,
          r.2.mem ((c.tc : Thread Cert.SumPartsRefIdeal.nD Cert.SumPartsRefIdeal.τ).loc Cert.SumPartsRefIdeal.main_v0) = v0 c
          ∧ r.2.mem ((c.tc : Thread Cert.SumPartsRefIdeal.nD Cert.SumPartsRefIdeal.τ).loc Cert.SumPartsRefIdeal.main_arg0) = m' ((c.tc : Thread Cert.SumPartsRefIdeal.nD Cert.SumPartsRefIdeal.τ).loc Cert.SumPartsRefIdeal.main_arg0))

def preserves_BlockDiag_BlockDiagIdeal : Prop :=
  True

def algebraic_BlockDiagIdeal_BlockDiagRefIdeal [hBlockDiagIdeal : Cert.BlockDiagIdeal.Facts] [hBlockDiagRefIdeal : Cert.BlockDiagRefIdeal.Facts] : Prop :=
  ∀ (m : (ℓ : Loc Cert.BlockDiagIdeal.nD Cert.BlockDiagIdeal.τ Cert.BlockDiagIdeal.sig) → Buf (Elt Ideal) ℓ) (g : Dev Cert.BlockDiagIdeal.nD → PrngReg)
    (m' : (ℓ : Loc Cert.BlockDiagRefIdeal.nD Cert.BlockDiagRefIdeal.τ Cert.BlockDiagRefIdeal.sig) → Buf (Elt Ideal) ℓ) (g' : Dev Cert.BlockDiagRefIdeal.nD → PrngReg), Pre_BlockDiagIdeal m →
    (∀ c : Dev Cert.BlockDiagIdeal.nD,
      m' ((c.tc : Thread Cert.BlockDiagRefIdeal.nD Cert.BlockDiagRefIdeal.τ).loc Cert.BlockDiagRefIdeal.main_arg0) = m ((c.tc : Thread Cert.BlockDiagIdeal.nD Cert.BlockDiagIdeal.τ).loc Cert.BlockDiagIdeal.main_arg0)
      ∧ m' ((c.tc : Thread Cert.BlockDiagRefIdeal.nD Cert.BlockDiagRefIdeal.τ).loc Cert.BlockDiagRefIdeal.main_arg1) = m ((c.tc : Thread Cert.BlockDiagIdeal.nD Cert.BlockDiagIdeal.τ).loc Cert.BlockDiagIdeal.main_arg1)) →
    ∃ (v0 : (c : Dev Cert.BlockDiagIdeal.nD) → Buf (Elt Ideal) ((c.tc : Thread Cert.BlockDiagIdeal.nD Cert.BlockDiagIdeal.τ).loc Cert.BlockDiagIdeal.main_v11)),
      θ_run (Cert.BlockDiagIdeal.defs (F := Ideal)) (onTc (τ := Cert.BlockDiagIdeal.τ) (Cert.BlockDiagIdeal.main (F := Ideal))) ⟨m, fun _ => 0, g⟩ (fun r => ∀ c : Dev Cert.BlockDiagIdeal.nD,
          r.2.mem ((c.tc : Thread Cert.BlockDiagIdeal.nD Cert.BlockDiagIdeal.τ).loc Cert.BlockDiagIdeal.main_v11) = v0 c
          ∧ r.2.mem ((c.tc : Thread Cert.BlockDiagIdeal.nD Cert.BlockDiagIdeal.τ).loc Cert.BlockDiagIdeal.main_arg0) = m ((c.tc : Thread Cert.BlockDiagIdeal.nD Cert.BlockDiagIdeal.τ).loc Cert.BlockDiagIdeal.main_arg0)
          ∧ r.2.mem ((c.tc : Thread Cert.BlockDiagIdeal.nD Cert.BlockDiagIdeal.τ).loc Cert.BlockDiagIdeal.main_arg1) = m ((c.tc : Thread Cert.BlockDiagIdeal.nD Cert.BlockDiagIdeal.τ).loc Cert.BlockDiagIdeal.main_arg1))
      ∧ θ_run (Cert.BlockDiagRefIdeal.defs (F := Ideal)) (onTc (τ := Cert.BlockDiagRefIdeal.τ) (Cert.BlockDiagRefIdeal.main (F := Ideal))) ⟨m', fun _ => 0, g'⟩ (fun r => ∀ c : Dev Cert.BlockDiagRefIdeal.nD,
          r.2.mem ((c.tc : Thread Cert.BlockDiagRefIdeal.nD Cert.BlockDiagRefIdeal.τ).loc Cert.BlockDiagRefIdeal.main_v17) = v0 c
          ∧ r.2.mem ((c.tc : Thread Cert.BlockDiagRefIdeal.nD Cert.BlockDiagRefIdeal.τ).loc Cert.BlockDiagRefIdeal.main_arg0) = m' ((c.tc : Thread Cert.BlockDiagRefIdeal.nD Cert.BlockDiagRefIdeal.τ).loc Cert.BlockDiagRefIdeal.main_arg0)
          ∧ r.2.mem ((c.tc : Thread Cert.BlockDiagRefIdeal.nD Cert.BlockDiagRefIdeal.τ).loc Cert.BlockDiagRefIdeal.main_arg1) = m' ((c.tc : Thread Cert.BlockDiagRefIdeal.nD Cert.BlockDiagRefIdeal.τ).loc Cert.BlockDiagRefIdeal.main_arg1))

def preserves_AdamwRows_AdamwRowsIdeal : Prop :=
  True

def algebraic_AdamwRowsIdeal_AdamwRowsRefIdeal [hAdamwRowsIdeal : Cert.AdamwRowsIdeal.Facts] [hAdamwRowsRefIdeal : Cert.AdamwRowsRefIdeal.Facts] : Prop :=
  ∀ (m : (ℓ : Loc Cert.AdamwRowsIdeal.nD Cert.AdamwRowsIdeal.τ Cert.AdamwRowsIdeal.sig) → Buf (Elt Ideal) ℓ) (g : Dev Cert.AdamwRowsIdeal.nD → PrngReg)
    (m' : (ℓ : Loc Cert.AdamwRowsRefIdeal.nD Cert.AdamwRowsRefIdeal.τ Cert.AdamwRowsRefIdeal.sig) → Buf (Elt Ideal) ℓ) (g' : Dev Cert.AdamwRowsRefIdeal.nD → PrngReg), Pre_AdamwRowsIdeal m →
    (∀ c : Dev Cert.AdamwRowsIdeal.nD,
      m' ((c.tc : Thread Cert.AdamwRowsRefIdeal.nD Cert.AdamwRowsRefIdeal.τ).loc Cert.AdamwRowsRefIdeal.main_arg0) = m ((c.tc : Thread Cert.AdamwRowsIdeal.nD Cert.AdamwRowsIdeal.τ).loc Cert.AdamwRowsIdeal.main_arg0)
      ∧ m' ((c.tc : Thread Cert.AdamwRowsRefIdeal.nD Cert.AdamwRowsRefIdeal.τ).loc Cert.AdamwRowsRefIdeal.main_arg1) = m ((c.tc : Thread Cert.AdamwRowsIdeal.nD Cert.AdamwRowsIdeal.τ).loc Cert.AdamwRowsIdeal.main_arg1)
      ∧ m' ((c.tc : Thread Cert.AdamwRowsRefIdeal.nD Cert.AdamwRowsRefIdeal.τ).loc Cert.AdamwRowsRefIdeal.main_arg2) = m ((c.tc : Thread Cert.AdamwRowsIdeal.nD Cert.AdamwRowsIdeal.τ).loc Cert.AdamwRowsIdeal.main_arg2)
      ∧ m' ((c.tc : Thread Cert.AdamwRowsRefIdeal.nD Cert.AdamwRowsRefIdeal.τ).loc Cert.AdamwRowsRefIdeal.main_arg3) = m ((c.tc : Thread Cert.AdamwRowsIdeal.nD Cert.AdamwRowsIdeal.τ).loc Cert.AdamwRowsIdeal.main_arg3)) →
    ∃ (v0 : (c : Dev Cert.AdamwRowsIdeal.nD) → Buf (Elt Ideal) ((c.tc : Thread Cert.AdamwRowsIdeal.nD Cert.AdamwRowsIdeal.τ).loc Cert.AdamwRowsIdeal.main_v0_0)) (v1 : (c : Dev Cert.AdamwRowsIdeal.nD) → Buf (Elt Ideal) ((c.tc : Thread Cert.AdamwRowsIdeal.nD Cert.AdamwRowsIdeal.τ).loc Cert.AdamwRowsIdeal.main_v0_1)) (v2 : (c : Dev Cert.AdamwRowsIdeal.nD) → Buf (Elt Ideal) ((c.tc : Thread Cert.AdamwRowsIdeal.nD Cert.AdamwRowsIdeal.τ).loc Cert.AdamwRowsIdeal.main_v0_2)) (v3 : (c : Dev Cert.AdamwRowsIdeal.nD) → Buf (Elt Ideal) ((c.tc : Thread Cert.AdamwRowsIdeal.nD Cert.AdamwRowsIdeal.τ).loc Cert.AdamwRowsIdeal.main_v0_3)),
      θ_run (Cert.AdamwRowsIdeal.defs (F := Ideal)) (onTc (τ := Cert.AdamwRowsIdeal.τ) (Cert.AdamwRowsIdeal.main (F := Ideal))) ⟨m, fun _ => 0, g⟩ (fun r => ∀ c : Dev Cert.AdamwRowsIdeal.nD,
          r.2.mem ((c.tc : Thread Cert.AdamwRowsIdeal.nD Cert.AdamwRowsIdeal.τ).loc Cert.AdamwRowsIdeal.main_v0_0) = v0 c
          ∧ r.2.mem ((c.tc : Thread Cert.AdamwRowsIdeal.nD Cert.AdamwRowsIdeal.τ).loc Cert.AdamwRowsIdeal.main_v0_1) = v1 c
          ∧ r.2.mem ((c.tc : Thread Cert.AdamwRowsIdeal.nD Cert.AdamwRowsIdeal.τ).loc Cert.AdamwRowsIdeal.main_v0_2) = v2 c
          ∧ r.2.mem ((c.tc : Thread Cert.AdamwRowsIdeal.nD Cert.AdamwRowsIdeal.τ).loc Cert.AdamwRowsIdeal.main_v0_3) = v3 c
          ∧ r.2.mem ((c.tc : Thread Cert.AdamwRowsIdeal.nD Cert.AdamwRowsIdeal.τ).loc Cert.AdamwRowsIdeal.main_arg0) = m ((c.tc : Thread Cert.AdamwRowsIdeal.nD Cert.AdamwRowsIdeal.τ).loc Cert.AdamwRowsIdeal.main_arg0)
          ∧ r.2.mem ((c.tc : Thread Cert.AdamwRowsIdeal.nD Cert.AdamwRowsIdeal.τ).loc Cert.AdamwRowsIdeal.main_arg1) = m ((c.tc : Thread Cert.AdamwRowsIdeal.nD Cert.AdamwRowsIdeal.τ).loc Cert.AdamwRowsIdeal.main_arg1)
          ∧ r.2.mem ((c.tc : Thread Cert.AdamwRowsIdeal.nD Cert.AdamwRowsIdeal.τ).loc Cert.AdamwRowsIdeal.main_arg2) = m ((c.tc : Thread Cert.AdamwRowsIdeal.nD Cert.AdamwRowsIdeal.τ).loc Cert.AdamwRowsIdeal.main_arg2)
          ∧ r.2.mem ((c.tc : Thread Cert.AdamwRowsIdeal.nD Cert.AdamwRowsIdeal.τ).loc Cert.AdamwRowsIdeal.main_arg3) = m ((c.tc : Thread Cert.AdamwRowsIdeal.nD Cert.AdamwRowsIdeal.τ).loc Cert.AdamwRowsIdeal.main_arg3))
      ∧ θ_run (Cert.AdamwRowsRefIdeal.defs (F := Ideal)) (onTc (τ := Cert.AdamwRowsRefIdeal.τ) (Cert.AdamwRowsRefIdeal.main (F := Ideal))) ⟨m', fun _ => 0, g'⟩ (fun r => ∀ c : Dev Cert.AdamwRowsRefIdeal.nD,
          r.2.mem ((c.tc : Thread Cert.AdamwRowsRefIdeal.nD Cert.AdamwRowsRefIdeal.τ).loc Cert.AdamwRowsRefIdeal.main_v1) = v0 c
          ∧ r.2.mem ((c.tc : Thread Cert.AdamwRowsRefIdeal.nD Cert.AdamwRowsRefIdeal.τ).loc Cert.AdamwRowsRefIdeal.main_v25) = v1 c
          ∧ r.2.mem ((c.tc : Thread Cert.AdamwRowsRefIdeal.nD Cert.AdamwRowsRefIdeal.τ).loc Cert.AdamwRowsRefIdeal.main_v6) = v2 c
          ∧ r.2.mem ((c.tc : Thread Cert.AdamwRowsRefIdeal.nD Cert.AdamwRowsRefIdeal.τ).loc Cert.AdamwRowsRefIdeal.main_v12) = v3 c
          ∧ r.2.mem ((c.tc : Thread Cert.AdamwRowsRefIdeal.nD Cert.AdamwRowsRefIdeal.τ).loc Cert.AdamwRowsRefIdeal.main_arg0) = m' ((c.tc : Thread Cert.AdamwRowsRefIdeal.nD Cert.AdamwRowsRefIdeal.τ).loc Cert.AdamwRowsRefIdeal.main_arg0)
          ∧ r.2.mem ((c.tc : Thread Cert.AdamwRowsRefIdeal.nD Cert.AdamwRowsRefIdeal.τ).loc Cert.AdamwRowsRefIdeal.main_arg1) = m' ((c.tc : Thread Cert.AdamwRowsRefIdeal.nD Cert.AdamwRowsRefIdeal.τ).loc Cert.AdamwRowsRefIdeal.main_arg1)
          ∧ r.2.mem ((c.tc : Thread Cert.AdamwRowsRefIdeal.nD Cert.AdamwRowsRefIdeal.τ).loc Cert.AdamwRowsRefIdeal.main_arg2) = m' ((c.tc : Thread Cert.AdamwRowsRefIdeal.nD Cert.AdamwRowsRefIdeal.τ).loc Cert.AdamwRowsRefIdeal.main_arg2)
          ∧ r.2.mem ((c.tc : Thread Cert.AdamwRowsRefIdeal.nD Cert.AdamwRowsRefIdeal.τ).loc Cert.AdamwRowsRefIdeal.main_arg3) = m' ((c.tc : Thread Cert.AdamwRowsRefIdeal.nD Cert.AdamwRowsRefIdeal.τ).loc Cert.AdamwRowsRefIdeal.main_arg3))

def preserves_AdamwCols_AdamwColsIdeal : Prop :=
  True

def algebraic_AdamwColsIdeal_AdamwColsRefIdeal [hAdamwColsIdeal : Cert.AdamwColsIdeal.Facts] [hAdamwColsRefIdeal : Cert.AdamwColsRefIdeal.Facts] : Prop :=
  ∀ (m : (ℓ : Loc Cert.AdamwColsIdeal.nD Cert.AdamwColsIdeal.τ Cert.AdamwColsIdeal.sig) → Buf (Elt Ideal) ℓ) (g : Dev Cert.AdamwColsIdeal.nD → PrngReg)
    (m' : (ℓ : Loc Cert.AdamwColsRefIdeal.nD Cert.AdamwColsRefIdeal.τ Cert.AdamwColsRefIdeal.sig) → Buf (Elt Ideal) ℓ) (g' : Dev Cert.AdamwColsRefIdeal.nD → PrngReg), Pre_AdamwColsIdeal m →
    (∀ c : Dev Cert.AdamwColsIdeal.nD,
      m' ((c.tc : Thread Cert.AdamwColsRefIdeal.nD Cert.AdamwColsRefIdeal.τ).loc Cert.AdamwColsRefIdeal.main_arg0) = m ((c.tc : Thread Cert.AdamwColsIdeal.nD Cert.AdamwColsIdeal.τ).loc Cert.AdamwColsIdeal.main_arg0)
      ∧ m' ((c.tc : Thread Cert.AdamwColsRefIdeal.nD Cert.AdamwColsRefIdeal.τ).loc Cert.AdamwColsRefIdeal.main_arg1) = m ((c.tc : Thread Cert.AdamwColsIdeal.nD Cert.AdamwColsIdeal.τ).loc Cert.AdamwColsIdeal.main_arg1)
      ∧ m' ((c.tc : Thread Cert.AdamwColsRefIdeal.nD Cert.AdamwColsRefIdeal.τ).loc Cert.AdamwColsRefIdeal.main_arg2) = m ((c.tc : Thread Cert.AdamwColsIdeal.nD Cert.AdamwColsIdeal.τ).loc Cert.AdamwColsIdeal.main_arg2)
      ∧ m' ((c.tc : Thread Cert.AdamwColsRefIdeal.nD Cert.AdamwColsRefIdeal.τ).loc Cert.AdamwColsRefIdeal.main_arg3) = m ((c.tc : Thread Cert.AdamwColsIdeal.nD Cert.AdamwColsIdeal.τ).loc Cert.AdamwColsIdeal.main_arg3)) →
    ∃ (v0 : (c : Dev Cert.AdamwColsIdeal.nD) → Buf (Elt Ideal) ((c.tc : Thread Cert.AdamwColsIdeal.nD Cert.AdamwColsIdeal.τ).loc Cert.AdamwColsIdeal.main_v0_0)) (v1 : (c : Dev Cert.AdamwColsIdeal.nD) → Buf (Elt Ideal) ((c.tc : Thread Cert.AdamwColsIdeal.nD Cert.AdamwColsIdeal.τ).loc Cert.AdamwColsIdeal.main_v0_1)) (v2 : (c : Dev Cert.AdamwColsIdeal.nD) → Buf (Elt Ideal) ((c.tc : Thread Cert.AdamwColsIdeal.nD Cert.AdamwColsIdeal.τ).loc Cert.AdamwColsIdeal.main_v0_2)) (v3 : (c : Dev Cert.AdamwColsIdeal.nD) → Buf (Elt Ideal) ((c.tc : Thread Cert.AdamwColsIdeal.nD Cert.AdamwColsIdeal.τ).loc Cert.AdamwColsIdeal.main_v0_3)),
      θ_run (Cert.AdamwColsIdeal.defs (F := Ideal)) (onTc (τ := Cert.AdamwColsIdeal.τ) (Cert.AdamwColsIdeal.main (F := Ideal))) ⟨m, fun _ => 0, g⟩ (fun r => ∀ c : Dev Cert.AdamwColsIdeal.nD,
          r.2.mem ((c.tc : Thread Cert.AdamwColsIdeal.nD Cert.AdamwColsIdeal.τ).loc Cert.AdamwColsIdeal.main_v0_0) = v0 c
          ∧ r.2.mem ((c.tc : Thread Cert.AdamwColsIdeal.nD Cert.AdamwColsIdeal.τ).loc Cert.AdamwColsIdeal.main_v0_1) = v1 c
          ∧ r.2.mem ((c.tc : Thread Cert.AdamwColsIdeal.nD Cert.AdamwColsIdeal.τ).loc Cert.AdamwColsIdeal.main_v0_2) = v2 c
          ∧ r.2.mem ((c.tc : Thread Cert.AdamwColsIdeal.nD Cert.AdamwColsIdeal.τ).loc Cert.AdamwColsIdeal.main_v0_3) = v3 c
          ∧ r.2.mem ((c.tc : Thread Cert.AdamwColsIdeal.nD Cert.AdamwColsIdeal.τ).loc Cert.AdamwColsIdeal.main_arg0) = m ((c.tc : Thread Cert.AdamwColsIdeal.nD Cert.AdamwColsIdeal.τ).loc Cert.AdamwColsIdeal.main_arg0)
          ∧ r.2.mem ((c.tc : Thread Cert.AdamwColsIdeal.nD Cert.AdamwColsIdeal.τ).loc Cert.AdamwColsIdeal.main_arg1) = m ((c.tc : Thread Cert.AdamwColsIdeal.nD Cert.AdamwColsIdeal.τ).loc Cert.AdamwColsIdeal.main_arg1)
          ∧ r.2.mem ((c.tc : Thread Cert.AdamwColsIdeal.nD Cert.AdamwColsIdeal.τ).loc Cert.AdamwColsIdeal.main_arg2) = m ((c.tc : Thread Cert.AdamwColsIdeal.nD Cert.AdamwColsIdeal.τ).loc Cert.AdamwColsIdeal.main_arg2)
          ∧ r.2.mem ((c.tc : Thread Cert.AdamwColsIdeal.nD Cert.AdamwColsIdeal.τ).loc Cert.AdamwColsIdeal.main_arg3) = m ((c.tc : Thread Cert.AdamwColsIdeal.nD Cert.AdamwColsIdeal.τ).loc Cert.AdamwColsIdeal.main_arg3))
      ∧ θ_run (Cert.AdamwColsRefIdeal.defs (F := Ideal)) (onTc (τ := Cert.AdamwColsRefIdeal.τ) (Cert.AdamwColsRefIdeal.main (F := Ideal))) ⟨m', fun _ => 0, g'⟩ (fun r => ∀ c : Dev Cert.AdamwColsRefIdeal.nD,
          r.2.mem ((c.tc : Thread Cert.AdamwColsRefIdeal.nD Cert.AdamwColsRefIdeal.τ).loc Cert.AdamwColsRefIdeal.main_v1) = v0 c
          ∧ r.2.mem ((c.tc : Thread Cert.AdamwColsRefIdeal.nD Cert.AdamwColsRefIdeal.τ).loc Cert.AdamwColsRefIdeal.main_v25) = v1 c
          ∧ r.2.mem ((c.tc : Thread Cert.AdamwColsRefIdeal.nD Cert.AdamwColsRefIdeal.τ).loc Cert.AdamwColsRefIdeal.main_v6) = v2 c
          ∧ r.2.mem ((c.tc : Thread Cert.AdamwColsRefIdeal.nD Cert.AdamwColsRefIdeal.τ).loc Cert.AdamwColsRefIdeal.main_v12) = v3 c
          ∧ r.2.mem ((c.tc : Thread Cert.AdamwColsRefIdeal.nD Cert.AdamwColsRefIdeal.τ).loc Cert.AdamwColsRefIdeal.main_arg0) = m' ((c.tc : Thread Cert.AdamwColsRefIdeal.nD Cert.AdamwColsRefIdeal.τ).loc Cert.AdamwColsRefIdeal.main_arg0)
          ∧ r.2.mem ((c.tc : Thread Cert.AdamwColsRefIdeal.nD Cert.AdamwColsRefIdeal.τ).loc Cert.AdamwColsRefIdeal.main_arg1) = m' ((c.tc : Thread Cert.AdamwColsRefIdeal.nD Cert.AdamwColsRefIdeal.τ).loc Cert.AdamwColsRefIdeal.main_arg1)
          ∧ r.2.mem ((c.tc : Thread Cert.AdamwColsRefIdeal.nD Cert.AdamwColsRefIdeal.τ).loc Cert.AdamwColsRefIdeal.main_arg2) = m' ((c.tc : Thread Cert.AdamwColsRefIdeal.nD Cert.AdamwColsRefIdeal.τ).loc Cert.AdamwColsRefIdeal.main_arg2)
          ∧ r.2.mem ((c.tc : Thread Cert.AdamwColsRefIdeal.nD Cert.AdamwColsRefIdeal.τ).loc Cert.AdamwColsRefIdeal.main_arg3) = m' ((c.tc : Thread Cert.AdamwColsRefIdeal.nD Cert.AdamwColsRefIdeal.τ).loc Cert.AdamwColsRefIdeal.main_arg3))

def preserves_AdamwHeads_AdamwHeadsIdeal : Prop :=
  True

def algebraic_AdamwHeadsIdeal_AdamwHeadsRefIdeal [hAdamwHeadsIdeal : Cert.AdamwHeadsIdeal.Facts] [hAdamwHeadsRefIdeal : Cert.AdamwHeadsRefIdeal.Facts] : Prop :=
  ∀ (m : (ℓ : Loc Cert.AdamwHeadsIdeal.nD Cert.AdamwHeadsIdeal.τ Cert.AdamwHeadsIdeal.sig) → Buf (Elt Ideal) ℓ) (g : Dev Cert.AdamwHeadsIdeal.nD → PrngReg)
    (m' : (ℓ : Loc Cert.AdamwHeadsRefIdeal.nD Cert.AdamwHeadsRefIdeal.τ Cert.AdamwHeadsRefIdeal.sig) → Buf (Elt Ideal) ℓ) (g' : Dev Cert.AdamwHeadsRefIdeal.nD → PrngReg), Pre_AdamwHeadsIdeal m →
    (∀ c : Dev Cert.AdamwHeadsIdeal.nD,
      m' ((c.tc : Thread Cert.AdamwHeadsRefIdeal.nD Cert.AdamwHeadsRefIdeal.τ).loc Cert.AdamwHeadsRefIdeal.main_arg0) = m ((c.tc : Thread Cert.AdamwHeadsIdeal.nD Cert.AdamwHeadsIdeal.τ).loc Cert.AdamwHeadsIdeal.main_arg0)
      ∧ m' ((c.tc : Thread Cert.AdamwHeadsRefIdeal.nD Cert.AdamwHeadsRefIdeal.τ).loc Cert.AdamwHeadsRefIdeal.main_arg1) = m ((c.tc : Thread Cert.AdamwHeadsIdeal.nD Cert.AdamwHeadsIdeal.τ).loc Cert.AdamwHeadsIdeal.main_arg1)
      ∧ m' ((c.tc : Thread Cert.AdamwHeadsRefIdeal.nD Cert.AdamwHeadsRefIdeal.τ).loc Cert.AdamwHeadsRefIdeal.main_arg2) = m ((c.tc : Thread Cert.AdamwHeadsIdeal.nD Cert.AdamwHeadsIdeal.τ).loc Cert.AdamwHeadsIdeal.main_arg2)
      ∧ m' ((c.tc : Thread Cert.AdamwHeadsRefIdeal.nD Cert.AdamwHeadsRefIdeal.τ).loc Cert.AdamwHeadsRefIdeal.main_arg3) = m ((c.tc : Thread Cert.AdamwHeadsIdeal.nD Cert.AdamwHeadsIdeal.τ).loc Cert.AdamwHeadsIdeal.main_arg3)) →
    ∃ (v0 : (c : Dev Cert.AdamwHeadsIdeal.nD) → Buf (Elt Ideal) ((c.tc : Thread Cert.AdamwHeadsIdeal.nD Cert.AdamwHeadsIdeal.τ).loc Cert.AdamwHeadsIdeal.main_v0_0)) (v1 : (c : Dev Cert.AdamwHeadsIdeal.nD) → Buf (Elt Ideal) ((c.tc : Thread Cert.AdamwHeadsIdeal.nD Cert.AdamwHeadsIdeal.τ).loc Cert.AdamwHeadsIdeal.main_v0_1)) (v2 : (c : Dev Cert.AdamwHeadsIdeal.nD) → Buf (Elt Ideal) ((c.tc : Thread Cert.AdamwHeadsIdeal.nD Cert.AdamwHeadsIdeal.τ).loc Cert.AdamwHeadsIdeal.main_v0_2)) (v3 : (c : Dev Cert.AdamwHeadsIdeal.nD) → Buf (Elt Ideal) ((c.tc : Thread Cert.AdamwHeadsIdeal.nD Cert.AdamwHeadsIdeal.τ).loc Cert.AdamwHeadsIdeal.main_v0_3)),
      θ_run (Cert.AdamwHeadsIdeal.defs (F := Ideal)) (onTc (τ := Cert.AdamwHeadsIdeal.τ) (Cert.AdamwHeadsIdeal.main (F := Ideal))) ⟨m, fun _ => 0, g⟩ (fun r => ∀ c : Dev Cert.AdamwHeadsIdeal.nD,
          r.2.mem ((c.tc : Thread Cert.AdamwHeadsIdeal.nD Cert.AdamwHeadsIdeal.τ).loc Cert.AdamwHeadsIdeal.main_v0_0) = v0 c
          ∧ r.2.mem ((c.tc : Thread Cert.AdamwHeadsIdeal.nD Cert.AdamwHeadsIdeal.τ).loc Cert.AdamwHeadsIdeal.main_v0_1) = v1 c
          ∧ r.2.mem ((c.tc : Thread Cert.AdamwHeadsIdeal.nD Cert.AdamwHeadsIdeal.τ).loc Cert.AdamwHeadsIdeal.main_v0_2) = v2 c
          ∧ r.2.mem ((c.tc : Thread Cert.AdamwHeadsIdeal.nD Cert.AdamwHeadsIdeal.τ).loc Cert.AdamwHeadsIdeal.main_v0_3) = v3 c
          ∧ r.2.mem ((c.tc : Thread Cert.AdamwHeadsIdeal.nD Cert.AdamwHeadsIdeal.τ).loc Cert.AdamwHeadsIdeal.main_arg0) = m ((c.tc : Thread Cert.AdamwHeadsIdeal.nD Cert.AdamwHeadsIdeal.τ).loc Cert.AdamwHeadsIdeal.main_arg0)
          ∧ r.2.mem ((c.tc : Thread Cert.AdamwHeadsIdeal.nD Cert.AdamwHeadsIdeal.τ).loc Cert.AdamwHeadsIdeal.main_arg1) = m ((c.tc : Thread Cert.AdamwHeadsIdeal.nD Cert.AdamwHeadsIdeal.τ).loc Cert.AdamwHeadsIdeal.main_arg1)
          ∧ r.2.mem ((c.tc : Thread Cert.AdamwHeadsIdeal.nD Cert.AdamwHeadsIdeal.τ).loc Cert.AdamwHeadsIdeal.main_arg2) = m ((c.tc : Thread Cert.AdamwHeadsIdeal.nD Cert.AdamwHeadsIdeal.τ).loc Cert.AdamwHeadsIdeal.main_arg2)
          ∧ r.2.mem ((c.tc : Thread Cert.AdamwHeadsIdeal.nD Cert.AdamwHeadsIdeal.τ).loc Cert.AdamwHeadsIdeal.main_arg3) = m ((c.tc : Thread Cert.AdamwHeadsIdeal.nD Cert.AdamwHeadsIdeal.τ).loc Cert.AdamwHeadsIdeal.main_arg3))
      ∧ θ_run (Cert.AdamwHeadsRefIdeal.defs (F := Ideal)) (onTc (τ := Cert.AdamwHeadsRefIdeal.τ) (Cert.AdamwHeadsRefIdeal.main (F := Ideal))) ⟨m', fun _ => 0, g'⟩ (fun r => ∀ c : Dev Cert.AdamwHeadsRefIdeal.nD,
          r.2.mem ((c.tc : Thread Cert.AdamwHeadsRefIdeal.nD Cert.AdamwHeadsRefIdeal.τ).loc Cert.AdamwHeadsRefIdeal.main_v0) = v0 c
          ∧ r.2.mem ((c.tc : Thread Cert.AdamwHeadsRefIdeal.nD Cert.AdamwHeadsRefIdeal.τ).loc Cert.AdamwHeadsRefIdeal.main_v24) = v1 c
          ∧ r.2.mem ((c.tc : Thread Cert.AdamwHeadsRefIdeal.nD Cert.AdamwHeadsRefIdeal.τ).loc Cert.AdamwHeadsRefIdeal.main_v5) = v2 c
          ∧ r.2.mem ((c.tc : Thread Cert.AdamwHeadsRefIdeal.nD Cert.AdamwHeadsRefIdeal.τ).loc Cert.AdamwHeadsRefIdeal.main_v11) = v3 c
          ∧ r.2.mem ((c.tc : Thread Cert.AdamwHeadsRefIdeal.nD Cert.AdamwHeadsRefIdeal.τ).loc Cert.AdamwHeadsRefIdeal.main_arg0) = m' ((c.tc : Thread Cert.AdamwHeadsRefIdeal.nD Cert.AdamwHeadsRefIdeal.τ).loc Cert.AdamwHeadsRefIdeal.main_arg0)
          ∧ r.2.mem ((c.tc : Thread Cert.AdamwHeadsRefIdeal.nD Cert.AdamwHeadsRefIdeal.τ).loc Cert.AdamwHeadsRefIdeal.main_arg1) = m' ((c.tc : Thread Cert.AdamwHeadsRefIdeal.nD Cert.AdamwHeadsRefIdeal.τ).loc Cert.AdamwHeadsRefIdeal.main_arg1)
          ∧ r.2.mem ((c.tc : Thread Cert.AdamwHeadsRefIdeal.nD Cert.AdamwHeadsRefIdeal.τ).loc Cert.AdamwHeadsRefIdeal.main_arg2) = m' ((c.tc : Thread Cert.AdamwHeadsRefIdeal.nD Cert.AdamwHeadsRefIdeal.τ).loc Cert.AdamwHeadsRefIdeal.main_arg2)
          ∧ r.2.mem ((c.tc : Thread Cert.AdamwHeadsRefIdeal.nD Cert.AdamwHeadsRefIdeal.τ).loc Cert.AdamwHeadsRefIdeal.main_arg3) = m' ((c.tc : Thread Cert.AdamwHeadsRefIdeal.nD Cert.AdamwHeadsRefIdeal.τ).loc Cert.AdamwHeadsRefIdeal.main_arg3))

def preserves_AdamwSsm_AdamwSsmIdeal : Prop :=
  True

def algebraic_AdamwSsmIdeal_AdamwSsmRefIdeal [hAdamwSsmIdeal : Cert.AdamwSsmIdeal.Facts] [hAdamwSsmRefIdeal : Cert.AdamwSsmRefIdeal.Facts] : Prop :=
  ∀ (m : (ℓ : Loc Cert.AdamwSsmIdeal.nD Cert.AdamwSsmIdeal.τ Cert.AdamwSsmIdeal.sig) → Buf (Elt Ideal) ℓ) (g : Dev Cert.AdamwSsmIdeal.nD → PrngReg)
    (m' : (ℓ : Loc Cert.AdamwSsmRefIdeal.nD Cert.AdamwSsmRefIdeal.τ Cert.AdamwSsmRefIdeal.sig) → Buf (Elt Ideal) ℓ) (g' : Dev Cert.AdamwSsmRefIdeal.nD → PrngReg), Pre_AdamwSsmIdeal m →
    (∀ c : Dev Cert.AdamwSsmIdeal.nD,
      m' ((c.tc : Thread Cert.AdamwSsmRefIdeal.nD Cert.AdamwSsmRefIdeal.τ).loc Cert.AdamwSsmRefIdeal.main_arg0) = m ((c.tc : Thread Cert.AdamwSsmIdeal.nD Cert.AdamwSsmIdeal.τ).loc Cert.AdamwSsmIdeal.main_arg0)
      ∧ m' ((c.tc : Thread Cert.AdamwSsmRefIdeal.nD Cert.AdamwSsmRefIdeal.τ).loc Cert.AdamwSsmRefIdeal.main_arg1) = m ((c.tc : Thread Cert.AdamwSsmIdeal.nD Cert.AdamwSsmIdeal.τ).loc Cert.AdamwSsmIdeal.main_arg1)
      ∧ m' ((c.tc : Thread Cert.AdamwSsmRefIdeal.nD Cert.AdamwSsmRefIdeal.τ).loc Cert.AdamwSsmRefIdeal.main_arg2) = m ((c.tc : Thread Cert.AdamwSsmIdeal.nD Cert.AdamwSsmIdeal.τ).loc Cert.AdamwSsmIdeal.main_arg2)
      ∧ m' ((c.tc : Thread Cert.AdamwSsmRefIdeal.nD Cert.AdamwSsmRefIdeal.τ).loc Cert.AdamwSsmRefIdeal.main_arg3) = m ((c.tc : Thread Cert.AdamwSsmIdeal.nD Cert.AdamwSsmIdeal.τ).loc Cert.AdamwSsmIdeal.main_arg3)) →
    ∃ (v0 : (c : Dev Cert.AdamwSsmIdeal.nD) → Buf (Elt Ideal) ((c.tc : Thread Cert.AdamwSsmIdeal.nD Cert.AdamwSsmIdeal.τ).loc Cert.AdamwSsmIdeal.main_v0_0)) (v1 : (c : Dev Cert.AdamwSsmIdeal.nD) → Buf (Elt Ideal) ((c.tc : Thread Cert.AdamwSsmIdeal.nD Cert.AdamwSsmIdeal.τ).loc Cert.AdamwSsmIdeal.main_v0_1)) (v2 : (c : Dev Cert.AdamwSsmIdeal.nD) → Buf (Elt Ideal) ((c.tc : Thread Cert.AdamwSsmIdeal.nD Cert.AdamwSsmIdeal.τ).loc Cert.AdamwSsmIdeal.main_v0_2)) (v3 : (c : Dev Cert.AdamwSsmIdeal.nD) → Buf (Elt Ideal) ((c.tc : Thread Cert.AdamwSsmIdeal.nD Cert.AdamwSsmIdeal.τ).loc Cert.AdamwSsmIdeal.main_v0_3)),
      θ_run (Cert.AdamwSsmIdeal.defs (F := Ideal)) (onTc (τ := Cert.AdamwSsmIdeal.τ) (Cert.AdamwSsmIdeal.main (F := Ideal))) ⟨m, fun _ => 0, g⟩ (fun r => ∀ c : Dev Cert.AdamwSsmIdeal.nD,
          r.2.mem ((c.tc : Thread Cert.AdamwSsmIdeal.nD Cert.AdamwSsmIdeal.τ).loc Cert.AdamwSsmIdeal.main_v0_0) = v0 c
          ∧ r.2.mem ((c.tc : Thread Cert.AdamwSsmIdeal.nD Cert.AdamwSsmIdeal.τ).loc Cert.AdamwSsmIdeal.main_v0_1) = v1 c
          ∧ r.2.mem ((c.tc : Thread Cert.AdamwSsmIdeal.nD Cert.AdamwSsmIdeal.τ).loc Cert.AdamwSsmIdeal.main_v0_2) = v2 c
          ∧ r.2.mem ((c.tc : Thread Cert.AdamwSsmIdeal.nD Cert.AdamwSsmIdeal.τ).loc Cert.AdamwSsmIdeal.main_v0_3) = v3 c
          ∧ r.2.mem ((c.tc : Thread Cert.AdamwSsmIdeal.nD Cert.AdamwSsmIdeal.τ).loc Cert.AdamwSsmIdeal.main_arg0) = m ((c.tc : Thread Cert.AdamwSsmIdeal.nD Cert.AdamwSsmIdeal.τ).loc Cert.AdamwSsmIdeal.main_arg0)
          ∧ r.2.mem ((c.tc : Thread Cert.AdamwSsmIdeal.nD Cert.AdamwSsmIdeal.τ).loc Cert.AdamwSsmIdeal.main_arg1) = m ((c.tc : Thread Cert.AdamwSsmIdeal.nD Cert.AdamwSsmIdeal.τ).loc Cert.AdamwSsmIdeal.main_arg1)
          ∧ r.2.mem ((c.tc : Thread Cert.AdamwSsmIdeal.nD Cert.AdamwSsmIdeal.τ).loc Cert.AdamwSsmIdeal.main_arg2) = m ((c.tc : Thread Cert.AdamwSsmIdeal.nD Cert.AdamwSsmIdeal.τ).loc Cert.AdamwSsmIdeal.main_arg2)
          ∧ r.2.mem ((c.tc : Thread Cert.AdamwSsmIdeal.nD Cert.AdamwSsmIdeal.τ).loc Cert.AdamwSsmIdeal.main_arg3) = m ((c.tc : Thread Cert.AdamwSsmIdeal.nD Cert.AdamwSsmIdeal.τ).loc Cert.AdamwSsmIdeal.main_arg3))
      ∧ θ_run (Cert.AdamwSsmRefIdeal.defs (F := Ideal)) (onTc (τ := Cert.AdamwSsmRefIdeal.τ) (Cert.AdamwSsmRefIdeal.main (F := Ideal))) ⟨m', fun _ => 0, g'⟩ (fun r => ∀ c : Dev Cert.AdamwSsmRefIdeal.nD,
          r.2.mem ((c.tc : Thread Cert.AdamwSsmRefIdeal.nD Cert.AdamwSsmRefIdeal.τ).loc Cert.AdamwSsmRefIdeal.main_v0) = v0 c
          ∧ r.2.mem ((c.tc : Thread Cert.AdamwSsmRefIdeal.nD Cert.AdamwSsmRefIdeal.τ).loc Cert.AdamwSsmRefIdeal.main_v24) = v1 c
          ∧ r.2.mem ((c.tc : Thread Cert.AdamwSsmRefIdeal.nD Cert.AdamwSsmRefIdeal.τ).loc Cert.AdamwSsmRefIdeal.main_v5) = v2 c
          ∧ r.2.mem ((c.tc : Thread Cert.AdamwSsmRefIdeal.nD Cert.AdamwSsmRefIdeal.τ).loc Cert.AdamwSsmRefIdeal.main_v11) = v3 c
          ∧ r.2.mem ((c.tc : Thread Cert.AdamwSsmRefIdeal.nD Cert.AdamwSsmRefIdeal.τ).loc Cert.AdamwSsmRefIdeal.main_arg0) = m' ((c.tc : Thread Cert.AdamwSsmRefIdeal.nD Cert.AdamwSsmRefIdeal.τ).loc Cert.AdamwSsmRefIdeal.main_arg0)
          ∧ r.2.mem ((c.tc : Thread Cert.AdamwSsmRefIdeal.nD Cert.AdamwSsmRefIdeal.τ).loc Cert.AdamwSsmRefIdeal.main_arg1) = m' ((c.tc : Thread Cert.AdamwSsmRefIdeal.nD Cert.AdamwSsmRefIdeal.τ).loc Cert.AdamwSsmRefIdeal.main_arg1)
          ∧ r.2.mem ((c.tc : Thread Cert.AdamwSsmRefIdeal.nD Cert.AdamwSsmRefIdeal.τ).loc Cert.AdamwSsmRefIdeal.main_arg2) = m' ((c.tc : Thread Cert.AdamwSsmRefIdeal.nD Cert.AdamwSsmRefIdeal.τ).loc Cert.AdamwSsmRefIdeal.main_arg2)
          ∧ r.2.mem ((c.tc : Thread Cert.AdamwSsmRefIdeal.nD Cert.AdamwSsmRefIdeal.τ).loc Cert.AdamwSsmRefIdeal.main_arg3) = m' ((c.tc : Thread Cert.AdamwSsmRefIdeal.nD Cert.AdamwSsmRefIdeal.τ).loc Cert.AdamwSsmRefIdeal.main_arg3))

def preserves_AdamwShell_AdamwShellIdeal : Prop :=
  True

def algebraic_AdamwShellIdeal_AdamwShellRefIdeal [hAdamwShellIdeal : Cert.AdamwShellIdeal.Facts] [hAdamwShellRefIdeal : Cert.AdamwShellRefIdeal.Facts] : Prop :=
  ∀ (m : (ℓ : Loc Cert.AdamwShellIdeal.nD Cert.AdamwShellIdeal.τ Cert.AdamwShellIdeal.sig) → Buf (Elt Ideal) ℓ) (g : Dev Cert.AdamwShellIdeal.nD → PrngReg)
    (m' : (ℓ : Loc Cert.AdamwShellRefIdeal.nD Cert.AdamwShellRefIdeal.τ Cert.AdamwShellRefIdeal.sig) → Buf (Elt Ideal) ℓ) (g' : Dev Cert.AdamwShellRefIdeal.nD → PrngReg), Pre_AdamwShellIdeal m →
    (∀ c : Dev Cert.AdamwShellIdeal.nD,
      m' ((c.tc : Thread Cert.AdamwShellRefIdeal.nD Cert.AdamwShellRefIdeal.τ).loc Cert.AdamwShellRefIdeal.main_arg0) = m ((c.tc : Thread Cert.AdamwShellIdeal.nD Cert.AdamwShellIdeal.τ).loc Cert.AdamwShellIdeal.main_arg0)
      ∧ m' ((c.tc : Thread Cert.AdamwShellRefIdeal.nD Cert.AdamwShellRefIdeal.τ).loc Cert.AdamwShellRefIdeal.main_arg1) = m ((c.tc : Thread Cert.AdamwShellIdeal.nD Cert.AdamwShellIdeal.τ).loc Cert.AdamwShellIdeal.main_arg1)
      ∧ m' ((c.tc : Thread Cert.AdamwShellRefIdeal.nD Cert.AdamwShellRefIdeal.τ).loc Cert.AdamwShellRefIdeal.main_arg2) = m ((c.tc : Thread Cert.AdamwShellIdeal.nD Cert.AdamwShellIdeal.τ).loc Cert.AdamwShellIdeal.main_arg2)
      ∧ m' ((c.tc : Thread Cert.AdamwShellRefIdeal.nD Cert.AdamwShellRefIdeal.τ).loc Cert.AdamwShellRefIdeal.main_arg3) = m ((c.tc : Thread Cert.AdamwShellIdeal.nD Cert.AdamwShellIdeal.τ).loc Cert.AdamwShellIdeal.main_arg3)
      ∧ m' ((c.tc : Thread Cert.AdamwShellRefIdeal.nD Cert.AdamwShellRefIdeal.τ).loc Cert.AdamwShellRefIdeal.main_arg4) = m ((c.tc : Thread Cert.AdamwShellIdeal.nD Cert.AdamwShellIdeal.τ).loc Cert.AdamwShellIdeal.main_arg4)
      ∧ m' ((c.tc : Thread Cert.AdamwShellRefIdeal.nD Cert.AdamwShellRefIdeal.τ).loc Cert.AdamwShellRefIdeal.main_arg5) = m ((c.tc : Thread Cert.AdamwShellIdeal.nD Cert.AdamwShellIdeal.τ).loc Cert.AdamwShellIdeal.main_arg5)
      ∧ m' ((c.tc : Thread Cert.AdamwShellRefIdeal.nD Cert.AdamwShellRefIdeal.τ).loc Cert.AdamwShellRefIdeal.main_arg6) = m ((c.tc : Thread Cert.AdamwShellIdeal.nD Cert.AdamwShellIdeal.τ).loc Cert.AdamwShellIdeal.main_arg6)
      ∧ m' ((c.tc : Thread Cert.AdamwShellRefIdeal.nD Cert.AdamwShellRefIdeal.τ).loc Cert.AdamwShellRefIdeal.main_arg7) = m ((c.tc : Thread Cert.AdamwShellIdeal.nD Cert.AdamwShellIdeal.τ).loc Cert.AdamwShellIdeal.main_arg7)
      ∧ m' ((c.tc : Thread Cert.AdamwShellRefIdeal.nD Cert.AdamwShellRefIdeal.τ).loc Cert.AdamwShellRefIdeal.main_arg8) = m ((c.tc : Thread Cert.AdamwShellIdeal.nD Cert.AdamwShellIdeal.τ).loc Cert.AdamwShellIdeal.main_arg8)
      ∧ m' ((c.tc : Thread Cert.AdamwShellRefIdeal.nD Cert.AdamwShellRefIdeal.τ).loc Cert.AdamwShellRefIdeal.main_arg9) = m ((c.tc : Thread Cert.AdamwShellIdeal.nD Cert.AdamwShellIdeal.τ).loc Cert.AdamwShellIdeal.main_arg9)
      ∧ m' ((c.tc : Thread Cert.AdamwShellRefIdeal.nD Cert.AdamwShellRefIdeal.τ).loc Cert.AdamwShellRefIdeal.main_arg10) = m ((c.tc : Thread Cert.AdamwShellIdeal.nD Cert.AdamwShellIdeal.τ).loc Cert.AdamwShellIdeal.main_arg10)
      ∧ m' ((c.tc : Thread Cert.AdamwShellRefIdeal.nD Cert.AdamwShellRefIdeal.τ).loc Cert.AdamwShellRefIdeal.main_arg11) = m ((c.tc : Thread Cert.AdamwShellIdeal.nD Cert.AdamwShellIdeal.τ).loc Cert.AdamwShellIdeal.main_arg11)) →
    ∃ (v0 : (c : Dev Cert.AdamwShellIdeal.nD) → Buf (Elt Ideal) ((c.tc : Thread Cert.AdamwShellIdeal.nD Cert.AdamwShellIdeal.τ).loc Cert.AdamwShellIdeal.main_v1_0)) (v1 : (c : Dev Cert.AdamwShellIdeal.nD) → Buf (Elt Ideal) ((c.tc : Thread Cert.AdamwShellIdeal.nD Cert.AdamwShellIdeal.τ).loc Cert.AdamwShellIdeal.main_v1_1)) (v2 : (c : Dev Cert.AdamwShellIdeal.nD) → Buf (Elt Ideal) ((c.tc : Thread Cert.AdamwShellIdeal.nD Cert.AdamwShellIdeal.τ).loc Cert.AdamwShellIdeal.main_v1_2)) (v3 : (c : Dev Cert.AdamwShellIdeal.nD) → Buf (Elt Ideal) ((c.tc : Thread Cert.AdamwShellIdeal.nD Cert.AdamwShellIdeal.τ).loc Cert.AdamwShellIdeal.main_v1_3)) (v4 : (c : Dev Cert.AdamwShellIdeal.nD) → Buf (Elt Ideal) ((c.tc : Thread Cert.AdamwShellIdeal.nD Cert.AdamwShellIdeal.τ).loc Cert.AdamwShellIdeal.main_v1_4)) (v5 : (c : Dev Cert.AdamwShellIdeal.nD) → Buf (Elt Ideal) ((c.tc : Thread Cert.AdamwShellIdeal.nD Cert.AdamwShellIdeal.τ).loc Cert.AdamwShellIdeal.main_v1_5)) (v6 : (c : Dev Cert.AdamwShellIdeal.nD) → Buf (Elt Ideal) ((c.tc : Thread Cert.AdamwShellIdeal.nD Cert.AdamwShellIdeal.τ).loc Cert.AdamwShellIdeal.main_v1_6)) (v7 : (c : Dev Cert.AdamwShellIdeal.nD) → Buf (Elt Ideal) ((c.tc : Thread Cert.AdamwShellIdeal.nD Cert.AdamwShellIdeal.τ).loc Cert.AdamwShellIdeal.main_v1_7)) (v8 : (c : Dev Cert.AdamwShellIdeal.nD) → Buf (Elt Ideal) ((c.tc : Thread Cert.AdamwShellIdeal.nD Cert.AdamwShellIdeal.τ).loc Cert.AdamwShellIdeal.main_v1_8)),
      θ_run (Cert.AdamwShellIdeal.defs (F := Ideal)) (onTc (τ := Cert.AdamwShellIdeal.τ) (Cert.AdamwShellIdeal.main (F := Ideal))) ⟨m, fun _ => 0, g⟩ (fun r => ∀ c : Dev Cert.AdamwShellIdeal.nD,
          r.2.mem ((c.tc : Thread Cert.AdamwShellIdeal.nD Cert.AdamwShellIdeal.τ).loc Cert.AdamwShellIdeal.main_v1_0) = v0 c
          ∧ r.2.mem ((c.tc : Thread Cert.AdamwShellIdeal.nD Cert.AdamwShellIdeal.τ).loc Cert.AdamwShellIdeal.main_v1_1) = v1 c
          ∧ r.2.mem ((c.tc : Thread Cert.AdamwShellIdeal.nD Cert.AdamwShellIdeal.τ).loc Cert.AdamwShellIdeal.main_v1_2) = v2 c
          ∧ r.2.mem ((c.tc : Thread Cert.AdamwShellIdeal.nD Cert.AdamwShellIdeal.τ).loc Cert.AdamwShellIdeal.main_v1_3) = v3 c
          ∧ r.2.mem ((c.tc : Thread Cert.AdamwShellIdeal.nD Cert.AdamwShellIdeal.τ).loc Cert.AdamwShellIdeal.main_v1_4) = v4 c
          ∧ r.2.mem ((c.tc : Thread Cert.AdamwShellIdeal.nD Cert.AdamwShellIdeal.τ).loc Cert.AdamwShellIdeal.main_v1_5) = v5 c
          ∧ r.2.mem ((c.tc : Thread Cert.AdamwShellIdeal.nD Cert.AdamwShellIdeal.τ).loc Cert.AdamwShellIdeal.main_v1_6) = v6 c
          ∧ r.2.mem ((c.tc : Thread Cert.AdamwShellIdeal.nD Cert.AdamwShellIdeal.τ).loc Cert.AdamwShellIdeal.main_v1_7) = v7 c
          ∧ r.2.mem ((c.tc : Thread Cert.AdamwShellIdeal.nD Cert.AdamwShellIdeal.τ).loc Cert.AdamwShellIdeal.main_v1_8) = v8 c
          ∧ r.2.mem ((c.tc : Thread Cert.AdamwShellIdeal.nD Cert.AdamwShellIdeal.τ).loc Cert.AdamwShellIdeal.main_arg0) = m ((c.tc : Thread Cert.AdamwShellIdeal.nD Cert.AdamwShellIdeal.τ).loc Cert.AdamwShellIdeal.main_arg0)
          ∧ r.2.mem ((c.tc : Thread Cert.AdamwShellIdeal.nD Cert.AdamwShellIdeal.τ).loc Cert.AdamwShellIdeal.main_arg1) = m ((c.tc : Thread Cert.AdamwShellIdeal.nD Cert.AdamwShellIdeal.τ).loc Cert.AdamwShellIdeal.main_arg1)
          ∧ r.2.mem ((c.tc : Thread Cert.AdamwShellIdeal.nD Cert.AdamwShellIdeal.τ).loc Cert.AdamwShellIdeal.main_arg2) = m ((c.tc : Thread Cert.AdamwShellIdeal.nD Cert.AdamwShellIdeal.τ).loc Cert.AdamwShellIdeal.main_arg2)
          ∧ r.2.mem ((c.tc : Thread Cert.AdamwShellIdeal.nD Cert.AdamwShellIdeal.τ).loc Cert.AdamwShellIdeal.main_arg3) = m ((c.tc : Thread Cert.AdamwShellIdeal.nD Cert.AdamwShellIdeal.τ).loc Cert.AdamwShellIdeal.main_arg3)
          ∧ r.2.mem ((c.tc : Thread Cert.AdamwShellIdeal.nD Cert.AdamwShellIdeal.τ).loc Cert.AdamwShellIdeal.main_arg4) = m ((c.tc : Thread Cert.AdamwShellIdeal.nD Cert.AdamwShellIdeal.τ).loc Cert.AdamwShellIdeal.main_arg4)
          ∧ r.2.mem ((c.tc : Thread Cert.AdamwShellIdeal.nD Cert.AdamwShellIdeal.τ).loc Cert.AdamwShellIdeal.main_arg5) = m ((c.tc : Thread Cert.AdamwShellIdeal.nD Cert.AdamwShellIdeal.τ).loc Cert.AdamwShellIdeal.main_arg5)
          ∧ r.2.mem ((c.tc : Thread Cert.AdamwShellIdeal.nD Cert.AdamwShellIdeal.τ).loc Cert.AdamwShellIdeal.main_arg6) = m ((c.tc : Thread Cert.AdamwShellIdeal.nD Cert.AdamwShellIdeal.τ).loc Cert.AdamwShellIdeal.main_arg6)
          ∧ r.2.mem ((c.tc : Thread Cert.AdamwShellIdeal.nD Cert.AdamwShellIdeal.τ).loc Cert.AdamwShellIdeal.main_arg7) = m ((c.tc : Thread Cert.AdamwShellIdeal.nD Cert.AdamwShellIdeal.τ).loc Cert.AdamwShellIdeal.main_arg7)
          ∧ r.2.mem ((c.tc : Thread Cert.AdamwShellIdeal.nD Cert.AdamwShellIdeal.τ).loc Cert.AdamwShellIdeal.main_arg8) = m ((c.tc : Thread Cert.AdamwShellIdeal.nD Cert.AdamwShellIdeal.τ).loc Cert.AdamwShellIdeal.main_arg8)
          ∧ r.2.mem ((c.tc : Thread Cert.AdamwShellIdeal.nD Cert.AdamwShellIdeal.τ).loc Cert.AdamwShellIdeal.main_arg9) = m ((c.tc : Thread Cert.AdamwShellIdeal.nD Cert.AdamwShellIdeal.τ).loc Cert.AdamwShellIdeal.main_arg9)
          ∧ r.2.mem ((c.tc : Thread Cert.AdamwShellIdeal.nD Cert.AdamwShellIdeal.τ).loc Cert.AdamwShellIdeal.main_arg10) = m ((c.tc : Thread Cert.AdamwShellIdeal.nD Cert.AdamwShellIdeal.τ).loc Cert.AdamwShellIdeal.main_arg10)
          ∧ r.2.mem ((c.tc : Thread Cert.AdamwShellIdeal.nD Cert.AdamwShellIdeal.τ).loc Cert.AdamwShellIdeal.main_arg11) = m ((c.tc : Thread Cert.AdamwShellIdeal.nD Cert.AdamwShellIdeal.τ).loc Cert.AdamwShellIdeal.main_arg11))
      ∧ θ_run (Cert.AdamwShellRefIdeal.defs (F := Ideal)) (onTc (τ := Cert.AdamwShellRefIdeal.τ) (Cert.AdamwShellRefIdeal.main (F := Ideal))) ⟨m', fun _ => 0, g'⟩ (fun r => ∀ c : Dev Cert.AdamwShellRefIdeal.nD,
          r.2.mem ((c.tc : Thread Cert.AdamwShellRefIdeal.nD Cert.AdamwShellRefIdeal.τ).loc Cert.AdamwShellRefIdeal.main_v23) = v0 c
          ∧ r.2.mem ((c.tc : Thread Cert.AdamwShellRefIdeal.nD Cert.AdamwShellRefIdeal.τ).loc Cert.AdamwShellRefIdeal.main_v4) = v1 c
          ∧ r.2.mem ((c.tc : Thread Cert.AdamwShellRefIdeal.nD Cert.AdamwShellRefIdeal.τ).loc Cert.AdamwShellRefIdeal.main_v10) = v2 c
          ∧ r.2.mem ((c.tc : Thread Cert.AdamwShellRefIdeal.nD Cert.AdamwShellRefIdeal.τ).loc Cert.AdamwShellRefIdeal.main_v47) = v3 c
          ∧ r.2.mem ((c.tc : Thread Cert.AdamwShellRefIdeal.nD Cert.AdamwShellRefIdeal.τ).loc Cert.AdamwShellRefIdeal.main_v28) = v4 c
          ∧ r.2.mem ((c.tc : Thread Cert.AdamwShellRefIdeal.nD Cert.AdamwShellRefIdeal.τ).loc Cert.AdamwShellRefIdeal.main_v34) = v5 c
          ∧ r.2.mem ((c.tc : Thread Cert.AdamwShellRefIdeal.nD Cert.AdamwShellRefIdeal.τ).loc Cert.AdamwShellRefIdeal.main_v71) = v6 c
          ∧ r.2.mem ((c.tc : Thread Cert.AdamwShellRefIdeal.nD Cert.AdamwShellRefIdeal.τ).loc Cert.AdamwShellRefIdeal.main_v52) = v7 c
          ∧ r.2.mem ((c.tc : Thread Cert.AdamwShellRefIdeal.nD Cert.AdamwShellRefIdeal.τ).loc Cert.AdamwShellRefIdeal.main_v58) = v8 c
          ∧ r.2.mem ((c.tc : Thread Cert.AdamwShellRefIdeal.nD Cert.AdamwShellRefIdeal.τ).loc Cert.AdamwShellRefIdeal.main_arg0) = m' ((c.tc : Thread Cert.AdamwShellRefIdeal.nD Cert.AdamwShellRefIdeal.τ).loc Cert.AdamwShellRefIdeal.main_arg0)
          ∧ r.2.mem ((c.tc : Thread Cert.AdamwShellRefIdeal.nD Cert.AdamwShellRefIdeal.τ).loc Cert.AdamwShellRefIdeal.main_arg1) = m' ((c.tc : Thread Cert.AdamwShellRefIdeal.nD Cert.AdamwShellRefIdeal.τ).loc Cert.AdamwShellRefIdeal.main_arg1)
          ∧ r.2.mem ((c.tc : Thread Cert.AdamwShellRefIdeal.nD Cert.AdamwShellRefIdeal.τ).loc Cert.AdamwShellRefIdeal.main_arg2) = m' ((c.tc : Thread Cert.AdamwShellRefIdeal.nD Cert.AdamwShellRefIdeal.τ).loc Cert.AdamwShellRefIdeal.main_arg2)
          ∧ r.2.mem ((c.tc : Thread Cert.AdamwShellRefIdeal.nD Cert.AdamwShellRefIdeal.τ).loc Cert.AdamwShellRefIdeal.main_arg3) = m' ((c.tc : Thread Cert.AdamwShellRefIdeal.nD Cert.AdamwShellRefIdeal.τ).loc Cert.AdamwShellRefIdeal.main_arg3)
          ∧ r.2.mem ((c.tc : Thread Cert.AdamwShellRefIdeal.nD Cert.AdamwShellRefIdeal.τ).loc Cert.AdamwShellRefIdeal.main_arg4) = m' ((c.tc : Thread Cert.AdamwShellRefIdeal.nD Cert.AdamwShellRefIdeal.τ).loc Cert.AdamwShellRefIdeal.main_arg4)
          ∧ r.2.mem ((c.tc : Thread Cert.AdamwShellRefIdeal.nD Cert.AdamwShellRefIdeal.τ).loc Cert.AdamwShellRefIdeal.main_arg5) = m' ((c.tc : Thread Cert.AdamwShellRefIdeal.nD Cert.AdamwShellRefIdeal.τ).loc Cert.AdamwShellRefIdeal.main_arg5)
          ∧ r.2.mem ((c.tc : Thread Cert.AdamwShellRefIdeal.nD Cert.AdamwShellRefIdeal.τ).loc Cert.AdamwShellRefIdeal.main_arg6) = m' ((c.tc : Thread Cert.AdamwShellRefIdeal.nD Cert.AdamwShellRefIdeal.τ).loc Cert.AdamwShellRefIdeal.main_arg6)
          ∧ r.2.mem ((c.tc : Thread Cert.AdamwShellRefIdeal.nD Cert.AdamwShellRefIdeal.τ).loc Cert.AdamwShellRefIdeal.main_arg7) = m' ((c.tc : Thread Cert.AdamwShellRefIdeal.nD Cert.AdamwShellRefIdeal.τ).loc Cert.AdamwShellRefIdeal.main_arg7)
          ∧ r.2.mem ((c.tc : Thread Cert.AdamwShellRefIdeal.nD Cert.AdamwShellRefIdeal.τ).loc Cert.AdamwShellRefIdeal.main_arg8) = m' ((c.tc : Thread Cert.AdamwShellRefIdeal.nD Cert.AdamwShellRefIdeal.τ).loc Cert.AdamwShellRefIdeal.main_arg8)
          ∧ r.2.mem ((c.tc : Thread Cert.AdamwShellRefIdeal.nD Cert.AdamwShellRefIdeal.τ).loc Cert.AdamwShellRefIdeal.main_arg9) = m' ((c.tc : Thread Cert.AdamwShellRefIdeal.nD Cert.AdamwShellRefIdeal.τ).loc Cert.AdamwShellRefIdeal.main_arg9)
          ∧ r.2.mem ((c.tc : Thread Cert.AdamwShellRefIdeal.nD Cert.AdamwShellRefIdeal.τ).loc Cert.AdamwShellRefIdeal.main_arg10) = m' ((c.tc : Thread Cert.AdamwShellRefIdeal.nD Cert.AdamwShellRefIdeal.τ).loc Cert.AdamwShellRefIdeal.main_arg10)
          ∧ r.2.mem ((c.tc : Thread Cert.AdamwShellRefIdeal.nD Cert.AdamwShellRefIdeal.τ).loc Cert.AdamwShellRefIdeal.main_arg11) = m' ((c.tc : Thread Cert.AdamwShellRefIdeal.nD Cert.AdamwShellRefIdeal.τ).loc Cert.AdamwShellRefIdeal.main_arg11))

def Claim : Prop :=
  ∃ (hGluBwd : Cert.GluBwd.Facts) (hGluBwdIdeal : Cert.GluBwdIdeal.Facts) (hGluBwdRefIdeal : Cert.GluBwdRefIdeal.Facts) (hSsmActBwd : Cert.SsmActBwd.Facts) (hSsmActBwdIdeal : Cert.SsmActBwdIdeal.Facts) (hSsmActBwdRefIdeal : Cert.SsmActBwdRefIdeal.Facts) (hPrenormBwd : Cert.PrenormBwd.Facts) (hPrenormBwdIdeal : Cert.PrenormBwdIdeal.Facts) (hPrenormBwdRefIdeal : Cert.PrenormBwdRefIdeal.Facts) (hLastShell : Cert.LastShell.Facts) (hLastShellIdeal : Cert.LastShellIdeal.Facts) (hLastShellRefIdeal : Cert.LastShellRefIdeal.Facts) (hSsmDu : Cert.SsmDu.Facts) (hSsmDuIdeal : Cert.SsmDuIdeal.Facts) (hSsmDuRefIdeal : Cert.SsmDuRefIdeal.Facts) (hAdaWGrad : Cert.AdaWGrad.Facts) (hAdaWGradIdeal : Cert.AdaWGradIdeal.Facts) (hAdaWGradRefIdeal : Cert.AdaWGradRefIdeal.Facts) (hFfnSwiglu : Cert.FfnSwiglu.Facts) (hFfnSwigluIdeal : Cert.FfnSwigluIdeal.Facts) (hFfnSwigluRefIdeal : Cert.FfnSwigluRefIdeal.Facts) (hPrePost : Cert.PrePost.Facts) (hPrePostIdeal : Cert.PrePostIdeal.Facts) (hPrePostRefIdeal : Cert.PrePostRefIdeal.Facts) (hPool : Cert.Pool.Facts) (hPoolIdeal : Cert.PoolIdeal.Facts) (hPoolRefIdeal : Cert.PoolRefIdeal.Facts) (hSguBwd : Cert.SguBwd.Facts) (hSguBwdIdeal : Cert.SguBwdIdeal.Facts) (hSguBwdRefIdeal : Cert.SguBwdRefIdeal.Facts) (hSsmParam : Cert.SsmParam.Facts) (hSsmParamIdeal : Cert.SsmParamIdeal.Facts) (hSsmParamRefIdeal : Cert.SsmParamRefIdeal.Facts) (hSsmPrep : Cert.SsmPrep.Facts) (hSsmPrepIdeal : Cert.SsmPrepIdeal.Facts) (hSsmPrepRefIdeal : Cert.SsmPrepRefIdeal.Facts) (hSsmScan : Cert.SsmScan.Facts) (hSsmScanIdeal : Cert.SsmScanIdeal.Facts) (hSsmScanRefIdeal : Cert.SsmScanRefIdeal.Facts) (hSguFwd : Cert.SguFwd.Facts) (hSguFwdIdeal : Cert.SguFwdIdeal.Facts) (hSguFwdRefIdeal : Cert.SguFwdRefIdeal.Facts) (hSsmActFwd : Cert.SsmActFwd.Facts) (hSsmActFwdIdeal : Cert.SsmActFwdIdeal.Facts) (hSsmActFwdRefIdeal : Cert.SsmActFwdRefIdeal.Facts) (hGluFwd : Cert.GluFwd.Facts) (hGluFwdIdeal : Cert.GluFwdIdeal.Facts) (hGluFwdRefIdeal : Cert.GluFwdRefIdeal.Facts) (hPrenormFwd : Cert.PrenormFwd.Facts) (hPrenormFwdIdeal : Cert.PrenormFwdIdeal.Facts) (hPrenormFwdRefIdeal : Cert.PrenormFwdRefIdeal.Facts) (hModPart : Cert.ModPart.Facts) (hModPartIdeal : Cert.ModPartIdeal.Facts) (hModPartRefIdeal : Cert.ModPartRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hMmSum : Cert.MmSum.Facts) (hMmSumIdeal : Cert.MmSumIdeal.Facts) (hMmSumRefIdeal : Cert.MmSumRefIdeal.Facts) (hAdamw : Cert.Adamw.Facts) (hAdamwIdeal : Cert.AdamwIdeal.Facts) (hAdamwRefIdeal : Cert.AdamwRefIdeal.Facts) (hMmDw : Cert.MmDw.Facts) (hMmDwIdeal : Cert.MmDwIdeal.Facts) (hMmDwRefIdeal : Cert.MmDwRefIdeal.Facts) (hSumParts : Cert.SumParts.Facts) (hSumPartsIdeal : Cert.SumPartsIdeal.Facts) (hSumPartsRefIdeal : Cert.SumPartsRefIdeal.Facts) (hBlockDiag : Cert.BlockDiag.Facts) (hBlockDiagIdeal : Cert.BlockDiagIdeal.Facts) (hBlockDiagRefIdeal : Cert.BlockDiagRefIdeal.Facts) (hAdamwRows : Cert.AdamwRows.Facts) (hAdamwRowsIdeal : Cert.AdamwRowsIdeal.Facts) (hAdamwRowsRefIdeal : Cert.AdamwRowsRefIdeal.Facts) (hAdamwCols : Cert.AdamwCols.Facts) (hAdamwColsIdeal : Cert.AdamwColsIdeal.Facts) (hAdamwColsRefIdeal : Cert.AdamwColsRefIdeal.Facts) (hAdamwHeads : Cert.AdamwHeads.Facts) (hAdamwHeadsIdeal : Cert.AdamwHeadsIdeal.Facts) (hAdamwHeadsRefIdeal : Cert.AdamwHeadsRefIdeal.Facts) (hAdamwSsm : Cert.AdamwSsm.Facts) (hAdamwSsmIdeal : Cert.AdamwSsmIdeal.Facts) (hAdamwSsmRefIdeal : Cert.AdamwSsmRefIdeal.Facts) (hAdamwShell : Cert.AdamwShell.Facts) (hAdamwShellIdeal : Cert.AdamwShellIdeal.Facts) (hAdamwShellRefIdeal : Cert.AdamwShellRefIdeal.Facts) (hPre_finite_ssm_act_bwd : Cert.Pre_finite_ssm_act_bwd.Facts) (hPre_finite_prenorm_bwd : Cert.Pre_finite_prenorm_bwd.Facts) (hPre_finite_last_shell : Cert.Pre_finite_last_shell.Facts) (hPre_finite_ffn_swiglu : Cert.Pre_finite_ffn_swiglu.Facts) (hPre_finite_pre_post : Cert.Pre_finite_pre_post.Facts) (hPre_finite_pool : Cert.Pre_finite_pool.Facts) (hPre_finite_sgu_bwd : Cert.Pre_finite_sgu_bwd.Facts) (hPre_finite_ssm_param : Cert.Pre_finite_ssm_param.Facts) (hPre_finite_ssm_scan : Cert.Pre_finite_ssm_scan.Facts),
    quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_SsmActBwd (hSsmActBwd := hSsmActBwd)
    ∧ quiescent_SsmActBwdIdeal (hSsmActBwdIdeal := hSsmActBwdIdeal)
    ∧ quiescent_SsmActBwdIdeal_pre_finite_ssm_act_bwd (hSsmActBwdIdeal := hSsmActBwdIdeal) (hPre_finite_ssm_act_bwd := hPre_finite_ssm_act_bwd)
    ∧ quiescent_SsmActBwdRefIdeal (hSsmActBwdRefIdeal := hSsmActBwdRefIdeal)
    ∧ quiescent_SsmActBwdRefIdeal_pre_finite_ssm_act_bwd (hSsmActBwdRefIdeal := hSsmActBwdRefIdeal) (hPre_finite_ssm_act_bwd := hPre_finite_ssm_act_bwd)
    ∧ quiescent_PrenormBwd (hPrenormBwd := hPrenormBwd)
    ∧ quiescent_PrenormBwdIdeal (hPrenormBwdIdeal := hPrenormBwdIdeal)
    ∧ quiescent_PrenormBwdIdeal_pre_finite_prenorm_bwd (hPrenormBwdIdeal := hPrenormBwdIdeal) (hPre_finite_prenorm_bwd := hPre_finite_prenorm_bwd)
    ∧ quiescent_PrenormBwdRefIdeal (hPrenormBwdRefIdeal := hPrenormBwdRefIdeal)
    ∧ quiescent_PrenormBwdRefIdeal_pre_finite_prenorm_bwd (hPrenormBwdRefIdeal := hPrenormBwdRefIdeal) (hPre_finite_prenorm_bwd := hPre_finite_prenorm_bwd)
    ∧ quiescent_LastShell (hLastShell := hLastShell)
    ∧ quiescent_LastShellIdeal (hLastShellIdeal := hLastShellIdeal)
    ∧ quiescent_LastShellIdeal_pre_finite_last_shell (hLastShellIdeal := hLastShellIdeal) (hPre_finite_last_shell := hPre_finite_last_shell)
    ∧ quiescent_LastShellRefIdeal (hLastShellRefIdeal := hLastShellRefIdeal)
    ∧ quiescent_LastShellRefIdeal_pre_finite_last_shell (hLastShellRefIdeal := hLastShellRefIdeal) (hPre_finite_last_shell := hPre_finite_last_shell)
    ∧ quiescent_SsmDu (hSsmDu := hSsmDu)
    ∧ quiescent_SsmDuIdeal (hSsmDuIdeal := hSsmDuIdeal)
    ∧ quiescent_SsmDuRefIdeal (hSsmDuRefIdeal := hSsmDuRefIdeal)
    ∧ quiescent_AdaWGrad (hAdaWGrad := hAdaWGrad)
    ∧ quiescent_AdaWGradIdeal (hAdaWGradIdeal := hAdaWGradIdeal)
    ∧ quiescent_AdaWGradRefIdeal (hAdaWGradRefIdeal := hAdaWGradRefIdeal)
    ∧ quiescent_FfnSwiglu (hFfnSwiglu := hFfnSwiglu)
    ∧ quiescent_FfnSwigluIdeal (hFfnSwigluIdeal := hFfnSwigluIdeal)
    ∧ quiescent_FfnSwigluIdeal_pre_finite_ffn_swiglu (hFfnSwigluIdeal := hFfnSwigluIdeal) (hPre_finite_ffn_swiglu := hPre_finite_ffn_swiglu)
    ∧ quiescent_FfnSwigluRefIdeal (hFfnSwigluRefIdeal := hFfnSwigluRefIdeal)
    ∧ quiescent_FfnSwigluRefIdeal_pre_finite_ffn_swiglu (hFfnSwigluRefIdeal := hFfnSwigluRefIdeal) (hPre_finite_ffn_swiglu := hPre_finite_ffn_swiglu)
    ∧ quiescent_PrePost (hPrePost := hPrePost)
    ∧ quiescent_PrePostIdeal (hPrePostIdeal := hPrePostIdeal)
    ∧ quiescent_PrePostIdeal_pre_finite_pre_post (hPrePostIdeal := hPrePostIdeal) (hPre_finite_pre_post := hPre_finite_pre_post)
    ∧ quiescent_PrePostRefIdeal (hPrePostRefIdeal := hPrePostRefIdeal)
    ∧ quiescent_PrePostRefIdeal_pre_finite_pre_post (hPrePostRefIdeal := hPrePostRefIdeal) (hPre_finite_pre_post := hPre_finite_pre_post)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ quiescent_SguBwd (hSguBwd := hSguBwd)
    ∧ quiescent_SguBwdIdeal (hSguBwdIdeal := hSguBwdIdeal)
    ∧ quiescent_SguBwdIdeal_pre_finite_sgu_bwd (hSguBwdIdeal := hSguBwdIdeal) (hPre_finite_sgu_bwd := hPre_finite_sgu_bwd)
    ∧ quiescent_SguBwdRefIdeal (hSguBwdRefIdeal := hSguBwdRefIdeal)
    ∧ quiescent_SguBwdRefIdeal_pre_finite_sgu_bwd (hSguBwdRefIdeal := hSguBwdRefIdeal) (hPre_finite_sgu_bwd := hPre_finite_sgu_bwd)
    ∧ quiescent_SsmParam (hSsmParam := hSsmParam)
    ∧ quiescent_SsmParamIdeal (hSsmParamIdeal := hSsmParamIdeal)
    ∧ quiescent_SsmParamIdeal_pre_finite_ssm_param (hSsmParamIdeal := hSsmParamIdeal) (hPre_finite_ssm_param := hPre_finite_ssm_param)
    ∧ quiescent_SsmParamRefIdeal (hSsmParamRefIdeal := hSsmParamRefIdeal)
    ∧ quiescent_SsmParamRefIdeal_pre_finite_ssm_param (hSsmParamRefIdeal := hSsmParamRefIdeal) (hPre_finite_ssm_param := hPre_finite_ssm_param)
    ∧ quiescent_SsmPrep (hSsmPrep := hSsmPrep)
    ∧ quiescent_SsmPrepIdeal (hSsmPrepIdeal := hSsmPrepIdeal)
    ∧ quiescent_SsmPrepRefIdeal (hSsmPrepRefIdeal := hSsmPrepRefIdeal)
    ∧ quiescent_SsmScan (hSsmScan := hSsmScan)
    ∧ quiescent_SsmScanIdeal (hSsmScanIdeal := hSsmScanIdeal)
    ∧ quiescent_SsmScanIdeal_pre_finite_ssm_scan (hSsmScanIdeal := hSsmScanIdeal) (hPre_finite_ssm_scan := hPre_finite_ssm_scan)
    ∧ quiescent_SsmScanRefIdeal (hSsmScanRefIdeal := hSsmScanRefIdeal)
    ∧ quiescent_SsmScanRefIdeal_pre_finite_ssm_scan (hSsmScanRefIdeal := hSsmScanRefIdeal) (hPre_finite_ssm_scan := hPre_finite_ssm_scan)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_SsmActFwd (hSsmActFwd := hSsmActFwd)
    ∧ quiescent_SsmActFwdIdeal (hSsmActFwdIdeal := hSsmActFwdIdeal)
    ∧ quiescent_SsmActFwdRefIdeal (hSsmActFwdRefIdeal := hSsmActFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_PrenormFwd (hPrenormFwd := hPrenormFwd)
    ∧ quiescent_PrenormFwdIdeal (hPrenormFwdIdeal := hPrenormFwdIdeal)
    ∧ quiescent_PrenormFwdRefIdeal (hPrenormFwdRefIdeal := hPrenormFwdRefIdeal)
    ∧ quiescent_ModPart (hModPart := hModPart)
    ∧ quiescent_ModPartIdeal (hModPartIdeal := hModPartIdeal)
    ∧ quiescent_ModPartRefIdeal (hModPartRefIdeal := hModPartRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_MmSum (hMmSum := hMmSum)
    ∧ quiescent_MmSumIdeal (hMmSumIdeal := hMmSumIdeal)
    ∧ quiescent_MmSumRefIdeal (hMmSumRefIdeal := hMmSumRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_MmDw (hMmDw := hMmDw)
    ∧ quiescent_MmDwIdeal (hMmDwIdeal := hMmDwIdeal)
    ∧ quiescent_MmDwRefIdeal (hMmDwRefIdeal := hMmDwRefIdeal)
    ∧ quiescent_SumParts (hSumParts := hSumParts)
    ∧ quiescent_SumPartsIdeal (hSumPartsIdeal := hSumPartsIdeal)
    ∧ quiescent_SumPartsRefIdeal (hSumPartsRefIdeal := hSumPartsRefIdeal)
    ∧ quiescent_BlockDiag (hBlockDiag := hBlockDiag)
    ∧ quiescent_BlockDiagIdeal (hBlockDiagIdeal := hBlockDiagIdeal)
    ∧ quiescent_BlockDiagRefIdeal (hBlockDiagRefIdeal := hBlockDiagRefIdeal)
    ∧ quiescent_AdamwRows (hAdamwRows := hAdamwRows)
    ∧ quiescent_AdamwRowsIdeal (hAdamwRowsIdeal := hAdamwRowsIdeal)
    ∧ quiescent_AdamwRowsRefIdeal (hAdamwRowsRefIdeal := hAdamwRowsRefIdeal)
    ∧ quiescent_AdamwCols (hAdamwCols := hAdamwCols)
    ∧ quiescent_AdamwColsIdeal (hAdamwColsIdeal := hAdamwColsIdeal)
    ∧ quiescent_AdamwColsRefIdeal (hAdamwColsRefIdeal := hAdamwColsRefIdeal)
    ∧ quiescent_AdamwHeads (hAdamwHeads := hAdamwHeads)
    ∧ quiescent_AdamwHeadsIdeal (hAdamwHeadsIdeal := hAdamwHeadsIdeal)
    ∧ quiescent_AdamwHeadsRefIdeal (hAdamwHeadsRefIdeal := hAdamwHeadsRefIdeal)
    ∧ quiescent_AdamwSsm (hAdamwSsm := hAdamwSsm)
    ∧ quiescent_AdamwSsmIdeal (hAdamwSsmIdeal := hAdamwSsmIdeal)
    ∧ quiescent_AdamwSsmRefIdeal (hAdamwSsmRefIdeal := hAdamwSsmRefIdeal)
    ∧ quiescent_AdamwShell (hAdamwShell := hAdamwShell)
    ∧ quiescent_AdamwShellIdeal (hAdamwShellIdeal := hAdamwShellIdeal)
    ∧ quiescent_AdamwShellRefIdeal (hAdamwShellRefIdeal := hAdamwShellRefIdeal)
    ∧ preserves_GluBwd_GluBwdIdeal
    ∧ algebraic_GluBwdIdeal_GluBwdRefIdeal (hGluBwdIdeal := hGluBwdIdeal) (hGluBwdRefIdeal := hGluBwdRefIdeal)
    ∧ preserves_SsmActBwd_SsmActBwdIdeal
    ∧ algebraic_SsmActBwdIdeal_SsmActBwdRefIdeal_pre_finite_ssm_act_bwd (hSsmActBwdIdeal := hSsmActBwdIdeal) (hSsmActBwdRefIdeal := hSsmActBwdRefIdeal) (hPre_finite_ssm_act_bwd := hPre_finite_ssm_act_bwd)
    ∧ preserves_PrenormBwd_PrenormBwdIdeal
    ∧ algebraic_PrenormBwdIdeal_PrenormBwdRefIdeal_pre_finite_prenorm_bwd (hPrenormBwdIdeal := hPrenormBwdIdeal) (hPrenormBwdRefIdeal := hPrenormBwdRefIdeal) (hPre_finite_prenorm_bwd := hPre_finite_prenorm_bwd)
    ∧ preserves_LastShell_LastShellIdeal
    ∧ algebraic_LastShellIdeal_LastShellRefIdeal_pre_finite_last_shell (hLastShellIdeal := hLastShellIdeal) (hLastShellRefIdeal := hLastShellRefIdeal) (hPre_finite_last_shell := hPre_finite_last_shell)
    ∧ preserves_SsmDu_SsmDuIdeal
    ∧ algebraic_SsmDuIdeal_SsmDuRefIdeal (hSsmDuIdeal := hSsmDuIdeal) (hSsmDuRefIdeal := hSsmDuRefIdeal)
    ∧ preserves_AdaWGrad_AdaWGradIdeal
    ∧ algebraic_AdaWGradIdeal_AdaWGradRefIdeal (hAdaWGradIdeal := hAdaWGradIdeal) (hAdaWGradRefIdeal := hAdaWGradRefIdeal)
    ∧ preserves_FfnSwiglu_FfnSwigluIdeal
    ∧ algebraic_FfnSwigluIdeal_FfnSwigluRefIdeal_pre_finite_ffn_swiglu (hFfnSwigluIdeal := hFfnSwigluIdeal) (hFfnSwigluRefIdeal := hFfnSwigluRefIdeal) (hPre_finite_ffn_swiglu := hPre_finite_ffn_swiglu)
    ∧ preserves_PrePost_PrePostIdeal
    ∧ algebraic_PrePostIdeal_PrePostRefIdeal_pre_finite_pre_post (hPrePostIdeal := hPrePostIdeal) (hPrePostRefIdeal := hPrePostRefIdeal) (hPre_finite_pre_post := hPre_finite_pre_post)
    ∧ preserves_Pool_PoolIdeal
    ∧ algebraic_PoolIdeal_PoolRefIdeal_pre_finite_pool (hPoolIdeal := hPoolIdeal) (hPoolRefIdeal := hPoolRefIdeal) (hPre_finite_pool := hPre_finite_pool)
    ∧ preserves_SguBwd_SguBwdIdeal
    ∧ algebraic_SguBwdIdeal_SguBwdRefIdeal_pre_finite_sgu_bwd (hSguBwdIdeal := hSguBwdIdeal) (hSguBwdRefIdeal := hSguBwdRefIdeal) (hPre_finite_sgu_bwd := hPre_finite_sgu_bwd)
    ∧ preserves_SsmParam_SsmParamIdeal
    ∧ algebraic_SsmParamIdeal_SsmParamRefIdeal_pre_finite_ssm_param (hSsmParamIdeal := hSsmParamIdeal) (hSsmParamRefIdeal := hSsmParamRefIdeal) (hPre_finite_ssm_param := hPre_finite_ssm_param)
    ∧ preserves_SsmPrep_SsmPrepIdeal
    ∧ algebraic_SsmPrepIdeal_SsmPrepRefIdeal (hSsmPrepIdeal := hSsmPrepIdeal) (hSsmPrepRefIdeal := hSsmPrepRefIdeal)
    ∧ preserves_SsmScan_SsmScanIdeal
    ∧ algebraic_SsmScanIdeal_SsmScanRefIdeal_pre_finite_ssm_scan (hSsmScanIdeal := hSsmScanIdeal) (hSsmScanRefIdeal := hSsmScanRefIdeal) (hPre_finite_ssm_scan := hPre_finite_ssm_scan)
    ∧ preserves_SguFwd_SguFwdIdeal
    ∧ algebraic_SguFwdIdeal_SguFwdRefIdeal (hSguFwdIdeal := hSguFwdIdeal) (hSguFwdRefIdeal := hSguFwdRefIdeal)
    ∧ preserves_SsmActFwd_SsmActFwdIdeal
    ∧ algebraic_SsmActFwdIdeal_SsmActFwdRefIdeal (hSsmActFwdIdeal := hSsmActFwdIdeal) (hSsmActFwdRefIdeal := hSsmActFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_PrenormFwd_PrenormFwdIdeal
    ∧ algebraic_PrenormFwdIdeal_PrenormFwdRefIdeal (hPrenormFwdIdeal := hPrenormFwdIdeal) (hPrenormFwdRefIdeal := hPrenormFwdRefIdeal)
    ∧ preserves_ModPart_ModPartIdeal
    ∧ algebraic_ModPartIdeal_ModPartRefIdeal (hModPartIdeal := hModPartIdeal) (hModPartRefIdeal := hModPartRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_MmSum_MmSumIdeal
    ∧ algebraic_MmSumIdeal_MmSumRefIdeal (hMmSumIdeal := hMmSumIdeal) (hMmSumRefIdeal := hMmSumRefIdeal)
    ∧ preserves_Adamw_AdamwIdeal
    ∧ algebraic_AdamwIdeal_AdamwRefIdeal (hAdamwIdeal := hAdamwIdeal) (hAdamwRefIdeal := hAdamwRefIdeal)
    ∧ preserves_MmDw_MmDwIdeal
    ∧ algebraic_MmDwIdeal_MmDwRefIdeal (hMmDwIdeal := hMmDwIdeal) (hMmDwRefIdeal := hMmDwRefIdeal)
    ∧ preserves_SumParts_SumPartsIdeal
    ∧ algebraic_SumPartsIdeal_SumPartsRefIdeal (hSumPartsIdeal := hSumPartsIdeal) (hSumPartsRefIdeal := hSumPartsRefIdeal)
    ∧ preserves_BlockDiag_BlockDiagIdeal
    ∧ algebraic_BlockDiagIdeal_BlockDiagRefIdeal (hBlockDiagIdeal := hBlockDiagIdeal) (hBlockDiagRefIdeal := hBlockDiagRefIdeal)
    ∧ preserves_AdamwRows_AdamwRowsIdeal
    ∧ algebraic_AdamwRowsIdeal_AdamwRowsRefIdeal (hAdamwRowsIdeal := hAdamwRowsIdeal) (hAdamwRowsRefIdeal := hAdamwRowsRefIdeal)
    ∧ preserves_AdamwCols_AdamwColsIdeal
    ∧ algebraic_AdamwColsIdeal_AdamwColsRefIdeal (hAdamwColsIdeal := hAdamwColsIdeal) (hAdamwColsRefIdeal := hAdamwColsRefIdeal)
    ∧ preserves_AdamwHeads_AdamwHeadsIdeal
    ∧ algebraic_AdamwHeadsIdeal_AdamwHeadsRefIdeal (hAdamwHeadsIdeal := hAdamwHeadsIdeal) (hAdamwHeadsRefIdeal := hAdamwHeadsRefIdeal)
    ∧ preserves_AdamwSsm_AdamwSsmIdeal
    ∧ algebraic_AdamwSsmIdeal_AdamwSsmRefIdeal (hAdamwSsmIdeal := hAdamwSsmIdeal) (hAdamwSsmRefIdeal := hAdamwSsmRefIdeal)
    ∧ preserves_AdamwShell_AdamwShellIdeal
    ∧ algebraic_AdamwShellIdeal_AdamwShellRefIdeal (hAdamwShellIdeal := hAdamwShellIdeal) (hAdamwShellRefIdeal := hAdamwShellRefIdeal)
-- ==== Pre_finite_ffn_swiglu.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v16 : FVec F S2048x1024 .f32) (main_cst_4 : FVec F S_ .f32) : IVec S_ 1 :=
  let main_v17 : FVec F S2048x1024 .f32 := broadcastInDim S2048x1024 ![] bcast_S_S2048x1024 main_cst_4
  let main_v18 : IVec S2048x1024 1 := cmpf .olt main_v16 main_v17
  let main_c_5 : IVec S_ 1 := constantI S_ 1 1#1
  let main_v19 : IVec S_ 1 := (fun x v => Host.reduce IntOp.andi x v reducesTo_S2048x1024_S_d0_1 h_S_) main_v18 main_c_5
  let main_v20 : IVec S_ 1 := andi main_v14 main_v19
  main_v20

def fn {F : FTy → Type} [FloatOps F] (main_arg0 : FVec F S2048x1024 .bf16) (main_arg1 : FVec F S1024x5632 .f32) (main_arg2 : FVec F S2816x1024 .f32) (main_arg3 : FVec F S2048x1024 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S2816x1024 .f32 := Host.absf main_arg2
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  let main_v15 : FVec F S2048x1024 .f32 := (extf .f32 · bitsLt_bf16_f32) main_arg3
  let main_v16 : FVec F S2048x1024 .f32 := Host.absf main_v15
  let main_cst_4 : FVec F S_ .f32 := constant S_ .f32 0x7F800000#32
  fn_part1 (F := F) main_v14 main_v16 main_cst_4
-- ==== Pre_finite_last_shell.lean ====
abbrev S2048x1024 : Shape := ⟨2, ![2048, 1024]⟩
abbrev S2x3x1024 : Shape := ⟨3, ![2, 3, 1024]⟩
abbrev S6x3x1024 : Shape := ⟨3, ![6, 3, 1024]⟩
abbrev S_ : Shape := ⟨0, ![]⟩
abbrev S1x1x1024 : Shape := ⟨3, ![1, 1, 1024]⟩
abbrev S1024 : Shape := ⟨1, ![1024]⟩
abbrev S1x1024 : Shape := ⟨2, ![1, 1024]⟩

class Facts : Prop where
  bcast_S_S2048x1024 : S_.BroadcastsInDim S2048x1024 (![] : Fin 0 → Fin S2048x1024.rank)
  slices_S2x3x1024_S1x1x1024_1_2_0 : S2x3x1024.Slices ![1, 2, 0] S1x1x1024
  shapeCasts_S1x1x1024_S1024 : S1x1x1024.ShapeCasts S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S6x3x1024_S1x1x1024_5_2_0 : S6x3x1024.Slices ![5, 2, 0] S1x1x1024

variable [Facts]

def fn_part1 {F : FTy → Type} [FloatOps F] (main_v18 : IVec S2048x1024 1) (main_v19 : FVec F S1x1x1024 .f32) : IVec S2048x1024 1 :=
  let main_v20 : FVec F S1024 .f32 := shapeCast S1024 main_v19 shapeCasts_S1x1x1024_S1024
  let main_v21 : FVec F S1024 .f32 := Host.absf main_v20
  let main_cst_3 : FVec F S_ .f32 := constant S_ .f32 0x7F800000#32
  let main_v22 : FVec F S1024 .f32 := broadcastInDim S1024 ![] bcast_S_S1024 main_cst_3
  let main_v23 : IVec S1024 1 := cmpf .olt main_v21 main_v22
  let main_v24 : IVec S1x1024 1 := broadcastInDim S1x1024 ![1] bcast_S1024_S1x1024_1 main_v23
  let main_v25 : IVec S2048x1024 1 := broadcastInDim S2048x1024 ![0, 1] bcast_S1x1024_S2048x1024_0_1 main_v24
  let main_v26 : IVec S2048x1024 1 := andi main_v18 main_v25
  main_v26

def fn {F : FTy → Type} [FloatOps F] (main_arg0 : FVec F S2048x1024 .f32) (main_arg1 : FVec F S2048x1024 .f32) (main_arg2 : FVec F S2048x1024 .f32) (main_arg3 : FVec F S2x3x1024 .f32) (main_arg4 : FVec F S2x3x1024 .f32) (main_arg5 : FVec F S6x3x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x1024 1 := andi main_v2 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : IVec S2048x1024 1 := andi main_v6 main_v9
  let main_v11 : FVec F S1x1x1024 .f32 := (extractStridedSlice S1x1x1024 ![1, 2, 0] · slices_S2x3x1024_S1x1x1024_1_2_0) main_arg4
  let main_v12 : FVec F S1024 .f32 := shapeCast S1024 main_v11 shapeCasts_S1x1x1024_S1024
  let main_v13 : FVec F S1024 .f32 := Host.absf main_v12
  let main_cst_2 : FVec F S_ .f32 := constant S_ .f32 0x7F800000#32
  let main_v14 : FVec F S1024 .f32 := broadcastInDim S1024 ![] bcast_S_S1024 main_cst_2
  let main_v15 : IVec S1024 1 := cmpf .olt main_v13 main_v14
  let main_v16 : IVec S1x1024 1 := broadcastInDim S1x1024 ![1] bcast_S1024_S1x1024_1 main_v15
  let main_v17 : IVec S2048x1024 1 := broadcastInDim S2048x1024 ![0, 1] bcast_S1x1024_S2048x1024_0_1 main_v16
  let main_v18 : IVec S2048x1024 1 := andi main_v10 main_v17
  let main_v19 : FVec F S1x1x1024 .f32 := (extractStridedSlice S1x1x1024 ![5, 2, 0] · slices_S6x3x1024_S1x1x1024_5_2_0) main_arg5
  fn_part1 (F := F) main_v18 main_v19
-- ==== Pre_finite_pool.lean ====
abbrev S2048x1536 : Shape := ⟨2, ![2048, 1536]⟩
abbrev S4x128x128 : Shape := ⟨3, ![4, 128, 128]⟩
abbrev S1x512 : Shape := ⟨2, ![1, 512]⟩
abbrev S2048x1024 : Shape := ⟨2, ![2048, 1024]⟩
abbrev S2048x512 : Shape := ⟨2, ![2048, 512]⟩
abbrev S_ : Shape := ⟨0, ![]⟩

class Facts : Prop where
  slices_S2048x1536_S2048x512_0_0 : S2048x1536.Slices ![0, 0] S2048x512
  bcast_S_S2048x512 : S_.BroadcastsInDim S2048x512 (![] : Fin 0 → Fin S2048x512.rank)
  reducesTo_S2048x512_S_d0_1 : S2048x512.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S1x512 : S_.BroadcastsInDim S1x512 (![] : Fin 0 → Fin S1x512.rank)
  reducesTo_S1x512_S_d0_1 : S1x512.ReducesTo [0, 1] S_
  slices_S2048x1024_S2048x512_0_0 : S2048x1024.Slices ![0, 0] S2048x512

variable [Facts]

def fn_part1 {F : FTy → Type} [FloatOps F] (main_v14 : IVec S_ 1) (main_v16 : FVec F S2048x512 .f32) (main_cst_4 : FVec F S_ .f32) : IVec S_ 1 :=
  let main_v17 : FVec F S2048x512 .f32 := broadcastInDim S2048x512 ![] bcast_S_S2048x512 main_cst_4
  let main_v18 : IVec S2048x512 1 := cmpf .olt main_v16 main_v17
  let main_c_5 : IVec S_ 1 := constantI S_ 1 1#1
  let main_v19 : IVec S_ 1 := (fun x v => Host.reduce IntOp.andi x v reducesTo_S2048x512_S_d0_1 h_S_) main_v18 main_c_5
  let main_v20 : IVec S_ 1 := andi main_v14 main_v19
  main_v20

def fn {F : FTy → Type} [FloatOps F] (main_arg0 : FVec F S2048x1536 .f32) (main_arg1 : FVec F S4x128x128 .f32) (main_arg2 : FVec F S1x512 .f32) (main_arg3 : FVec F S2048x1024 .f32) : IVec S_ 1 :=
  let main_v0 : FVec F S2048x512 .f32 := (extractStridedSlice S2048x512 ![0, 0] · slices_S2048x1536_S2048x512_0_0) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_c : IVec S_ 1 := constantI S_ 1 1#1
  let main_v4 : IVec S_ 1 := (fun x v => Host.reduce IntOp.andi x v reducesTo_S2048x512_S_d0_1 h_S_) main_v3 main_c
  let main_v5 : FVec F S4x128x128 .f32 := Host.absf main_arg1
  let main_cst_0 : FVec F S_ .f32 := constant S_ .f32 0x7F800000#32
  let main_v6 : FVec F S4x128x128 .f32 := broadcastInDim S4x128x128 ![] bcast_S_S4x128x128 main_cst_0
  let main_v7 : IVec S4x128x128 1 := cmpf .olt main_v5 main_v6
  let main_c_1 : IVec S_ 1 := constantI S_ 1 1#1
  let main_v8 : IVec S_ 1 := (fun x v => Host.reduce IntOp.andi x v reducesTo_S4x128x128_S_d0_1_2 h_S_) main_v7 main_c_1
  let main_v9 : IVec S_ 1 := andi main_v4 main_v8
  let main_v10 : FVec F S1x512 .f32 := Host.absf main_arg2
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_c_3 : IVec S_ 1 := constantI S_ 1 1#1
  let main_v13 : IVec S_ 1 := (fun x v => Host.reduce IntOp.andi x v reducesTo_S1x512_S_d0_1 h_S_) main_v12 main_c_3
  let main_v14 : IVec S_ 1 := andi main_v9 main_v13
  let main_v15 : FVec F S2048x512 .f32 := (extractStridedSlice S2048x512 ![0, 0] · slices_S2048x1024_S2048x512_0_0) main_arg3
  let main_v16 : FVec F S2048x512 .f32 := Host.absf main_v15
  let main_cst_4 : FVec F S_ .f32 := constant S_ .f32 0x7F800000#32
  fn_part1 (F := F) main_v14 main_v16 main_cst_4
-- ==== Pre_finite_pre_post.lean ====
abbrev S2048x1024 : Shape := ⟨2, ![2048, 1024]⟩
abbrev S2x3x1024 : Shape := ⟨3, ![2, 3, 1024]⟩
abbrev S6x3x1024 : Shape := ⟨3, ![6, 3, 1024]⟩
abbrev S_ : Shape := ⟨0, ![]⟩
abbrev S1x1x1024 : Shape := ⟨3, ![1, 1, 1024]⟩
abbrev S1024 : Shape := ⟨1, ![1024]⟩
abbrev S1x1024 : Shape := ⟨2, ![1, 1024]⟩

class Facts : Prop where
  bcast_S_S2048x1024 : S_.BroadcastsInDim S2048x1024 (![] : Fin 0 → Fin S2048x1024.rank)
  slices_S2x3x1024_S1x1x1024_0_0_0 : S2x3x1024.Slices ![0, 0, 0] S1x1x1024
  shapeCasts_S1x1x1024_S1024 : S1x1x1024.ShapeCasts S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S6x3x1024_S1x1x1024_0_2_0 : S6x3x1024.Slices ![0, 2, 0] S1x1x1024
  slices_S2x3x1024_S1x1x1024_0_1_0 : S2x3x1024.Slices ![0, 1, 0] S1x1x1024
  slices_S6x3x1024_S1x1x1024_1_1_0 : S6x3x1024.Slices ![1, 1, 0] S1x1x1024

variable [Facts]

def fn_part2 {F : FTy → Type} [FloatOps F] (main_v38 : IVec S2048x1024 1) (main_v40 : FVec F S1024 .f32) : IVec S2048x1024 1 :=
  let main_v41 : FVec F S1024 .f32 := Host.absf main_v40
  let main_cst_6 : FVec F S_ .f32 := constant S_ .f32 0x7F800000#32
  let main_v42 : FVec F S1024 .f32 := broadcastInDim S1024 ![] bcast_S_S1024 main_cst_6
  let main_v43 : IVec S1024 1 := cmpf .olt main_v41 main_v42
  let main_v44 : IVec S1x1024 1 := broadcastInDim S1x1024 ![1] bcast_S1024_S1x1024_1 main_v43
  let main_v45 : IVec S2048x1024 1 := broadcastInDim S2048x1024 ![0, 1] bcast_S1x1024_S2048x1024_0_1 main_v44
  let main_v46 : IVec S2048x1024 1 := andi main_v38 main_v45
  main_v46

def fn_part1 {F : FTy → Type} [FloatOps F] (main_arg4 : FVec F S2x3x1024 .f32) (main_arg6 : FVec F S6x3x1024 .f32) (main_v14 : IVec S2048x1024 1) (main_v17 : FVec F S1024 .f32) (main_v18 : FVec F S1024 .f32) : IVec S2048x1024 1 :=
  let main_v19 : IVec S1024 1 := cmpf .olt main_v17 main_v18
  let main_v20 : IVec S1x1024 1 := broadcastInDim S1x1024 ![1] bcast_S1024_S1x1024_1 main_v19
  let main_v21 : IVec S2048x1024 1 := broadcastInDim S2048x1024 ![0, 1] bcast_S1x1024_S2048x1024_0_1 main_v20
  let main_v22 : IVec S2048x1024 1 := andi main_v14 main_v21
  let main_v23 : FVec F S1x1x1024 .f32 := (extractStridedSlice S1x1x1024 ![0, 2, 0] · slices_S6x3x1024_S1x1x1024_0_2_0) main_arg6
  let main_v24 : FVec F S1024 .f32 := shapeCast S1024 main_v23 shapeCasts_S1x1x1024_S1024
  let main_v25 : FVec F S1024 .f32 := Host.absf main_v24
  let main_cst_4 : FVec F S_ .f32 := constant S_ .f32 0x7F800000#32
  let main_v26 : FVec F S1024 .f32 := broadcastInDim S1024 ![] bcast_S_S1024 main_cst_4
  let main_v27 : IVec S1024 1 := cmpf .olt main_v25 main_v26
  let main_v28 : IVec S1x1024 1 := broadcastInDim S1x1024 ![1] bcast_S1024_S1x1024_1 main_v27
  let main_v29 : IVec S2048x1024 1 := broadcastInDim S2048x1024 ![0, 1] bcast_S1x1024_S2048x1024_0_1 main_v28
  let main_v30 : IVec S2048x1024 1 := andi main_v22 main_v29
  let main_v31 : FVec F S1x1x1024 .f32 := (extractStridedSlice S1x1x1024 ![0, 1, 0] · slices_S2x3x1024_S1x1x1024_0_1_0) main_arg4
  let main_v32 : FVec F S1024 .f32 := shapeCast S1024 main_v31 shapeCasts_S1x1x1024_S1024
  let main_v33 : FVec F S1024 .f32 := Host.absf main_v32
  let main_cst_5 : FVec F S_ .f32 := constant S_ .f32 0x7F800000#32
  let main_v34 : FVec F S1024 .f32 := broadcastInDim S1024 ![] bcast_S_S1024 main_cst_5
  let main_v35 : IVec S1024 1 := cmpf .olt main_v33 main_v34
  let main_v36 : IVec S1x1024 1 := broadcastInDim S1x1024 ![1] bcast_S1024_S1x1024_1 main_v35
  let main_v37 : IVec S2048x1024 1 := broadcastInDim S2048x1024 ![0, 1] bcast_S1x1024_S2048x1024_0_1 main_v36
  let main_v38 : IVec S2048x1024 1 := andi main_v30 main_v37
  let main_v39 : FVec F S1x1x1024 .f32 := (extractStridedSlice S1x1x1024 ![1, 1, 0] · slices_S6x3x1024_S1x1x1024_1_1_0) main_arg6
  let main_v40 : FVec F S1024 .f32 := shapeCast S1024 main_v39 shapeCasts_S1x1x1024_S1024
  fn_part2 (F := F) main_v38 main_v40

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S2x3x1024 .f32) (main_arg5 : FVec F S2x3x1024 .f32) (main_arg6 : FVec F S6x3x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x1024 1 := andi main_v2 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : IVec S2048x1024 1 := andi main_v6 main_v9
  let main_v11 : FVec F S2048x1024 .f32 := Host.absf main_arg3
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : IVec S2048x1024 1 := andi main_v10 main_v13
  let main_v15 : FVec F S1x1x1024 .f32 := (extractStridedSlice S1x1x1024 ![0, 0, 0] · slices_S2x3x1024_S1x1x1024_0_0_0) main_arg5
  let main_v16 : FVec F S1024 .f32 := shapeCast S1024 main_v15 shapeCasts_S1x1x1024_S1024
  let main_v17 : FVec F S1024 .f32 := Host.absf main_v16
  let main_cst_3 : FVec F S_ .f32 := constant S_ .f32 0x7F800000#32
  let main_v18 : FVec F S1024 .f32 := broadcastInDim S1024 ![] bcast_S_S1024 main_cst_3
  fn_part1 (F := F) main_arg4 main_arg6 main_v14 main_v17 main_v18
-- ==== Pre_finite_prenorm_bwd.lean ====
abbrev S2048x1024 : Shape := ⟨2, ![2048, 1024]⟩
abbrev S2x3x1024 : Shape := ⟨3, ![2, 3, 1024]⟩
abbrev S6x3x1024 : Shape := ⟨3, ![6, 3, 1024]⟩
abbrev S_ : Shape := ⟨0, ![]⟩
abbrev S1x1x1024 : Shape := ⟨3, ![1, 1, 1024]⟩
abbrev S1024 : Shape := ⟨1, ![1024]⟩
abbrev S1x1024 : Shape := ⟨2, ![1, 1024]⟩

class Facts : Prop where
  bcast_S_S2048x1024 : S_.BroadcastsInDim S2048x1024 (![] : Fin 0 → Fin S2048x1024.rank)
  slices_S2x3x1024_S1x1x1024_0_0_0 : S2x3x1024.Slices ![0, 0, 0] S1x1x1024
  shapeCasts_S1x1x1024_S1024 : S1x1x1024.ShapeCasts S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  slices_S6x3x1024_S1x1x1024_0_1_0 : S6x3x1024.Slices ![0, 1, 0] S1x1x1024

variable [Facts]

def fn_part1 {F : FTy → Type} [FloatOps F] (main_v14 : IVec S2048x1024 1) (main_v19 : IVec S1024 1) : IVec S2048x1024 1 :=
  let main_v20 : IVec S1x1024 1 := broadcastInDim S1x1024 ![1] bcast_S1024_S1x1024_1 main_v19
  let main_v21 : IVec S2048x1024 1 := broadcastInDim S2048x1024 ![0, 1] bcast_S1x1024_S2048x1024_0_1 main_v20
  let main_v22 : IVec S2048x1024 1 := andi main_v14 main_v21
  main_v22

def fn {F : FTy → Type} [FloatOps F] (main_arg0 : FVec F S2048x1024 .f32) (main_arg1 : FVec F S2048x1024 .f32) (main_arg2 : FVec F S2048x1024 .f32) (main_arg3 : FVec F S2x3x1024 .f32) (main_arg4 : FVec F S2x3x1024 .f32) (main_arg5 : FVec F S6x3x1024 .f32) : IVec S2048x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg2
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x1024 1 := andi main_v2 main_v5
  let main_v7 : FVec F S1x1x1024 .f32 := (extractStridedSlice S1x1x1024 ![0, 0, 0] · slices_S2x3x1024_S1x1x1024_0_0_0) main_arg3
  let main_v8 : FVec F S1024 .f32 := shapeCast S1024 main_v7 shapeCasts_S1x1x1024_S1024
  let main_v9 : FVec F S1024 .f32 := Host.absf main_v8
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : IVec S1x1024 1 := broadcastInDim S1x1024 ![1] bcast_S1024_S1x1024_1 main_v11
  let main_v13 : IVec S2048x1024 1 := broadcastInDim S2048x1024 ![0, 1] bcast_S1x1024_S2048x1024_0_1 main_v12
  let main_v14 : IVec S2048x1024 1 := andi main_v6 main_v13
  let main_v15 : FVec F S1x1x1024 .f32 := (extractStridedSlice S1x1x1024 ![0, 1, 0] · slices_S6x3x1024_S1x1x1024_0_1_0) main_arg5
  let main_v16 : FVec F S1024 .f32 := shapeCast S1024 main_v15 shapeCasts_S1x1x1024_S1024
  let main_v17 : FVec F S1024 .f32 := Host.absf main_v16
  let main_cst_2 : FVec F S_ .f32 := constant S_ .f32 0x7F800000#32
  let main_v18 : FVec F S1024 .f32 := broadcastInDim S1024 ![] bcast_S_S1024 main_cst_2
  let main_v19 : IVec S1024 1 := cmpf .olt main_v17 main_v18
  fn_part1 (F := F) main_v14 main_v19
-- ==== Pre_finite_sgu_bwd.lean ====
abbrev S2048x1536 : Shape := ⟨2, ![2048, 1536]⟩
abbrev S2048x1024 : Shape := ⟨2, ![2048, 1024]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S2048x512 : Shape := ⟨2, ![2048, 512]⟩

class Facts : Prop where
  slices_S2048x1536_S2048x1024_0_512 : S2048x1536.Slices ![0, 512] S2048x1024
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x1024_S2048x512_0_512 : S2048x1024.Slices ![0, 512] S2048x512
  bcast_S_S2048x512 : S_.BroadcastsInDim S2048x512 (![] : Fin 0 → Fin S2048x512.rank)
  reducesTo_S2048x512_S_d0_1 : S2048x512.ReducesTo [0, 1] S_
  bcast_S_S1x512 : S_.BroadcastsInDim S1x512 (![] : Fin 0 → Fin S1x512.rank)
  reducesTo_S1x512_S_d0_1 : S1x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128x128 .f32) (main_arg5 : FVec F S4x128 .f32) (main_v15 : IVec S_ 1) (main_v16 : FVec F S1x512 .f32) (main_cst_4 : FVec F S_ .f32) : IVec S_ 1 :=
  let main_v17 : FVec F S1x512 .f32 := broadcastInDim S1x512 ![] bcast_S_S1x512 main_cst_4
  let main_v18 : IVec S1x512 1 := cmpf .olt main_v16 main_v17
  let main_c_5 : IVec S_ 1 := constantI S_ 1 1#1
  let main_v19 : IVec S_ 1 := (fun x v => Host.reduce IntOp.andi x v reducesTo_S1x512_S_d0_1 h_S_) main_v18 main_c_5
  let main_v20 : IVec S_ 1 := andi main_v15 main_v19
  let main_v21 : FVec F S4x128x128 .f32 := Host.absf main_arg4
  let main_cst_6 : FVec F S_ .f32 := constant S_ .f32 0x7F800000#32
  let main_v22 : FVec F S4x128x128 .f32 := broadcastInDim S4x128x128 ![] bcast_S_S4x128x128 main_cst_6
  let main_v23 : IVec S4x128x128 1 := cmpf .olt main_v21 main_v22
  let main_c_7 : IVec S_ 1 := constantI S_ 1 1#1
  let main_v24 : IVec S_ 1 := (fun x v => Host.reduce IntOp.andi x v reducesTo_S4x128x128_S_d0_1_2 h_S_) main_v23 main_c_7
  let main_v25 : IVec S_ 1 := andi main_v20 main_v24
  let main_v26 : FVec F S4x128 .f32 := Host.absf main_arg5
  let main_cst_8 : FVec F S_ .f32 := constant S_ .f32 0x7F800000#32
  let main_v27 : FVec F S4x128 .f32 := broadcastInDim S4x128 ![] bcast_S_S4x128 main_cst_8
  let main_v28 : IVec S4x128 1 := cmpf .olt main_v26 main_v27
  let main_c_9 : IVec S_ 1 := constantI S_ 1 1#1
  let main_v29 : IVec S_ 1 := (fun x v => Host.reduce IntOp.andi x v reducesTo_S4x128_S_d0_1 h_S_) main_v28 main_c_9
  let main_v30 : IVec S_ 1 := andi main_v25 main_v29
  main_v30

def fn {F : FTy → Type} [FloatOps F] (main_arg0 : FVec F S2048x1536 .f32) (main_arg1 : FVec F S2048x1024 .f32) (main_arg2 : FVec F S1x512 .f32) (main_arg3 : FVec F S1x512 .f32) (main_arg4 : FVec F S4x128x128 .f32) (main_arg5 : FVec F S4x128 .f32) : IVec S_ 1 :=
  let main_v0 : FVec F S2048x1024 .f32 := (extractStridedSlice S2048x1024 ![0, 512] · slices_S2048x1536_S2048x1024_0_512) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x512 .f32 := (extractStridedSlice S2048x512 ![0, 512] · slices_S2048x1024_S2048x512_0_512) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S1x512 .f32 := Host.absf main_arg2
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_c_3 : IVec S_ 1 := constantI S_ 1 1#1
  let main_v14 : IVec S_ 1 := (fun x v => Host.reduce IntOp.andi x v reducesTo_S1x512_S_d0_1 h_S_) main_v13 main_c_3
  let main_v15 : IVec S_ 1 := andi main_v10 main_v14
  let main_v16 : FVec F S1x512 .f32 := Host.absf main_arg3
  let main_cst_4 : FVec F S_ .f32 := constant S_ .f32 0x7F800000#32
  fn_part1 (F := F) main_arg4 main_arg5 main_v15 main_v16 main_cst_4
-- ==== Pre_finite_ssm_act_bwd.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S2048x1024 .f32) (main_arg2 : FVec F S2048x1024 .f32) (main_arg3 : FVec F S1x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_finite_ssm_param.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_

variable [Facts]

def fn_part2 {F : FTy → Type} [FloatOps F] (main_arg0 : FVec F S64x64 .f32) (main_arg1 : FVec F S64x64 .f32) (main_arg7 : FVec F S64x64x16 .f32) (main_arg8 : FVec F S64x64x16 .f32) (main_v33 : IVec S_ 1) : IVec S_ 1 :=
  let main_v34 : FVec F S64x64x16 .f32 := Host.absf main_arg7
  let main_cst_12 : FVec F S_ .f32 := constant S_ .f32 0x7F800000#32
  let main_v35 : FVec F S64x64x16 .f32 := broadcastInDim S64x64x16 ![] bcast_S_S64x64x16 main_cst_12
  let main_v36 : IVec S64x64x16 1 := cmpf .olt main_v34 main_v35
  let main_c_13 : IVec S_ 1 := constantI S_ 1 1#1
  let main_v37 : IVec S_ 1 := (fun x v => Host.reduce IntOp.andi x v reducesTo_S64x64x16_S_d0_1_2 h_S_) main_v36 main_c_13
  let main_v38 : IVec S_ 1 := andi main_v33 main_v37
  let main_v39 : FVec F S64x64x16 .f32 := Host.absf main_arg8
  let main_cst_14 : FVec F S_ .f32 := constant S_ .f32 0x7F800000#32
  let main_v40 : FVec F S64x64x16 .f32 := broadcastInDim S64x64x16 ![] bcast_S_S64x64x16 main_cst_14
  let main_v41 : IVec S64x64x16 1 := cmpf .olt main_v39 main_v40
  let main_c_15 : IVec S_ 1 := constantI S_ 1 1#1
  let main_v42 : IVec S_ 1 := (fun x v => Host.reduce IntOp.andi x v reducesTo_S64x64x16_S_d0_1_2 h_S_) main_v41 main_c_15
  let main_v43 : IVec S_ 1 := andi main_v38 main_v42
  let main_v44 : FVec F S64x64 .f32 := mulf main_arg0 main_arg0
  let main_v45 : FVec F S64x64 .f32 := mulf main_arg1 main_arg1
  let main_v46 : FVec F S64x64 .f32 := addf main_v44 main_v45
  let main_cst_16 : FVec F S_ .f32 := constant S_ .f32 0x00000000#32
  let main_v47 : FVec F S64x64 .f32 := broadcastInDim S64x64 ![] bcast_S_S64x64 main_cst_16
  let main_v48 : IVec S64x64 1 := cmpf .ogt main_v46 main_v47
  let main_c_17 : IVec S_ 1 := constantI S_ 1 1#1
  let main_v49 : IVec S_ 1 := (fun x v => Host.reduce IntOp.andi x v reducesTo_S64x64_S_d0_1 h_S_) main_v48 main_c_17
  let main_v50 : IVec S_ 1 := andi main_v43 main_v49
  main_v50

def fn_part1 {F : FTy → Type} [FloatOps F] (main_arg0 : FVec F S64x64 .f32) (main_arg1 : FVec F S64x64 .f32) (main_arg4 : FVec F S64x64x16 .f32) (main_arg5 : FVec F S64x64 .f32) (main_arg6 : FVec F S64x64 .f32) (main_arg7 : FVec F S64x64x16 .f32) (main_arg8 : FVec F S64x64x16 .f32) (main_v13 : IVec S_ 1) (main_v16 : IVec S64x64x16 1) : IVec S_ 1 :=
  let main_c_5 : IVec S_ 1 := constantI S_ 1 1#1
  let main_v17 : IVec S_ 1 := (fun x v => Host.reduce IntOp.andi x v reducesTo_S64x64x16_S_d0_1_2 h_S_) main_v16 main_c_5
  let main_v18 : IVec S_ 1 := andi main_v13 main_v17
  let main_v19 : FVec F S64x64x16 .f32 := Host.absf main_arg4
  let main_cst_6 : FVec F S_ .f32 := constant S_ .f32 0x7F800000#32
  let main_v20 : FVec F S64x64x16 .f32 := broadcastInDim S64x64x16 ![] bcast_S_S64x64x16 main_cst_6
  let main_v21 : IVec S64x64x16 1 := cmpf .olt main_v19 main_v20
  let main_c_7 : IVec S_ 1 := constantI S_ 1 1#1
  let main_v22 : IVec S_ 1 := (fun x v => Host.reduce IntOp.andi x v reducesTo_S64x64x16_S_d0_1_2 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg1 main_arg7 main_arg8 main_v33

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x64 .f32) (main_arg6 : FVec F S64x64 .f32) (main_arg7 : FVec F S64x64x16 .f32) (main_arg8 : FVec F S64x64x16 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x16 .f32 := Host.absf main_arg3
  let main_cst_4 : FVec F S_ .f32 := constant S_ .f32 0x7F800000#32
  let main_v15 : FVec F S64x64x16 .f32 := broadcastInDim S64x64x16 ![] bcast_S_S64x64x16 main_cst_4
  let main_v16 : IVec S64x64x16 1 := cmpf .olt main_v14 main_v15
  fn_part1 (F := F) main_arg0 main_arg1 main_arg4 main_arg5 main_arg6 main_arg7 main_arg8 main_v13 main_v16
-- ==== Pre_finite_ssm_scan.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_

variable [Facts]

def fn_part1 {F : FTy → Type} [FloatOps F] (main_arg4 : FVec F S64x64x16 .f32) (main_arg5 : FVec F S64x16x64 .f32) (main_arg6 : FVec F S64x16x64 .f32) (main_v13 : IVec S_ 1) (main_v16 : IVec S64x64x16 1) : IVec S_ 1 :=
  let main_c_5 : IVec S_ 1 := constantI S_ 1 1#1
  let main_v17 : IVec S_ 1 := (fun x v => Host.reduce IntOp.andi x v reducesTo_S64x64x16_S_d0_1_2 h_S_) main_v16 main_c_5
  let main_v18 : IVec S_ 1 := andi main_v13 main_v17
  let main_v19 : FVec F S64x64x16 .f32 := Host.absf main_arg4
  let main_cst_6 : FVec F S_ .f32 := constant S_ .f32 0x7F800000#32
  let main_v20 : FVec F S64x64x16 .f32 := broadcastInDim S64x64x16 ![] bcast_S_S64x64x16 main_cst_6
  let main_v21 : IVec S64x64x16 1 := cmpf .olt main_v19 main_v20
  let main_c_7 : IVec S_ 1 := constantI S_ 1 1#1
  let main_v22 : IVec S_ 1 := (fun x v => Host.reduce IntOp.andi x v reducesTo_S64x64x16_S_d0_1_2 h_S_) main_v21 main_c_7
  let main_v23 : IVec S_ 1 := andi main_v18 main_v22
  let main_v24 : FVec F S64x16x64 .f32 := Host.absf main_arg5
  let main_cst_8 : FVec F S_ .f32 := constant S_ .f32 0x7F800000#32
  let main_v25 : FVec F S64x16x64 .f32 := broadcastInDim S64x16x64 ![] bcast_S_S64x16x64 main_cst_8
  let main_v26 : IVec S64x16x64 1 := cmpf .olt main_v24 main_v25
  let main_c_9 : IVec S_ 1 := constantI S_ 1 1#1
  let main_v27 : IVec S_ 1 := (fun x v => Host.reduce IntOp.andi x v reducesTo_S64x16x64_S_d0_1_2 h_S_) main_v26 main_c_9
  let main_v28 : IVec S_ 1 := andi main_v23 main_v27
  let main_v29 : FVec F S64x16x64 .f32 := Host.absf main_arg6
  let main_cst_10 : FVec F S_ .f32 := constant S_ .f32 0x7F800000#32
  let main_v30 : FVec F S64x16x64 .f32 := broadcastInDim S64x16x64 ![] bcast_S_S64x16x64 main_cst_10
  let main_v31 : IVec S64x16x64 1 := cmpf .olt main_v29 main_v30
  let main_c_11 : IVec S_ 1 := constantI S_ 1 1#1
  let main_v32 : IVec S_ 1 := (fun x v => Host.reduce IntOp.andi x v reducesTo_S64x16x64_S_d0_1_2 h_S_) main_v31 main_c_11
  let main_v33 : IVec S_ 1 := andi main_v28 main_v32
  main_v33

def fn {F : FTy → Type} [FloatOps F] (main_arg0 : FVec F S2048x1024 .f32) (main_arg1 : FVec F S64x64 .f32) (main_arg2 : FVec F S64x64 .f32) (main_arg3 : FVec F S64x64x16 .f32) (main_arg4 : FVec F S64x64x16 .f32) (main_arg5 : FVec F S64x16x64 .f32) (main_arg6 : FVec F S64x16x64 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64x16 .f32 := Host.absf main_arg3
  let main_cst_4 : FVec F S_ .f32 := constant S_ .f32 0x7F800000#32
  let main_v15 : FVec F S64x64x16 .f32 := broadcastInDim S64x64x16 ![] bcast_S_S64x64x16 main_cst_4
  let main_v16 : IVec S64x64x16 1 := cmpf .olt main_v14 main_v15
  fn_part1 (F := F) main_arg4 main_arg5 main_arg6 main_v13 main_v16
-- ==== GluBwd.lean ====
abbrev S2048x2048 : Shape := ⟨2, ![2048, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .hbm, ⟨2, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdRefIdeal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x2048, .f32⟩
  | .hbm, ⟨22, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== SsmActBwd.lean ====
abbrev S2048x1024 : Shape := ⟨2, ![2048, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v41 : BitVec 32 := Scalar.extui v37
  let c0_i32_18 : BitVec 32 := 0#32
  let v42 : BitVec 1 := Scalar.cmpi .ne v41 c0_i32_18
  v42

def k0_cond2 (i : grid0.Coords) : BitVec 1 :=
  let arg0 : BitVec 32 := BitVec.ofNat 32 (i 0).val
  let c0_i32 : BitVec 32 := 0#32
  let v37 : BitVec 1 := Scalar.cmpi .eq arg0 c0_i32
  let v_true : BitVec 1 := 1#1
  let v43 : BitVec 1 := Scalar.xori v37 v_true
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== SsmActBwdIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== SsmActBwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== PrenormBwd.lean ====
abbrev S2048x1024 : Shape := ⟨2, ![2048, 1024]⟩
abbrev S2x3x1024 : Shape := ⟨3, ![2, 3, 1024]⟩
abbrev S6x3x1024 : Shape := ⟨3, ![6, 3, 1024]⟩
abbrev S6x1024 : Shape := ⟨2, ![6, 1024]⟩
abbrev S6x1x1024 : Shape := ⟨3, ![6, 1, 1024]⟩
abbrev S_ : Shape := ⟨0, ![]⟩
abbrev S6x8x1024 : Shape := ⟨3, ![6, 8, 1024]⟩
abbrev S8x1024 : Shape := ⟨2, ![8, 1024]⟩
abbrev S512x1024 : Shape := ⟨2, ![512, 1024]⟩
abbrev S1x8x1024 : Shape := ⟨3, ![1, 8, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2x3x1024, .f32⟩
  | .hbm, ⟨4, _⟩ => ⟨S2x3x1024, .f32⟩
  | .hbm, ⟨5, _⟩ => ⟨S6x3x1024, .f32⟩
  | .hbm, ⟨6, _⟩ => ⟨S6x1024, .f32⟩
  | .hbm, ⟨7, _⟩ => ⟨S6x1x1024, .f32⟩
  | .hbm, ⟨8, _⟩ => ⟨S6x1024, .f32⟩
  | .hbm, ⟨9, _⟩ => ⟨S6x1x1024, .f32⟩
  | .hbm, ⟨10, _⟩ => ⟨S6x1024, .f32⟩
  | .hbm, ⟨11, _⟩ => ⟨S6x1024, .f32⟩
  | .hbm, ⟨12, _⟩ => ⟨S6x1x1024, .f32⟩
  | .hbm, ⟨13, _⟩ => ⟨S6x1024, .f32⟩
  | .hbm, ⟨14, _⟩ => ⟨S_, .f32⟩
  | .hbm, ⟨15, _⟩ => ⟨S6x1024, .f32⟩
  | .hbm, ⟨16, _⟩ => ⟨S6x1x1024, .f32⟩
  | .hbm, ⟨17, _⟩ => ⟨S6x1x1024, .f32⟩
  | .hbm, ⟨18, _⟩ => ⟨S6x1x1024, .f32⟩
  | .hbm, ⟨19, _⟩ => ⟨S6x1x1024, .f32⟩
  | .hbm, ⟨20, _⟩ => ⟨S6x1x1024, .f32⟩
  | .hbm, ⟨21, _⟩ => ⟨S6x1x1024, .f32⟩
  | .hbm, ⟨22, _⟩ => ⟨S6x1x1024, .f32⟩
  | .hbm, ⟨23, _⟩ => ⟨S6x1x1024, .f32⟩
  | .hbm, ⟨24, _⟩ => ⟨S6x8x1024, .f32⟩
  | .hbm, ⟨25, _⟩ => ⟨S2048x1024, .f32⟩
  | .hbm, ⟨26, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x8x1024, .f32⟩
  | .local _ .vmem, ⟨7, _⟩ => ⟨S512x1024, .f32⟩
  | .local _ .vmem, ⟨8, _⟩ => ⟨S512x1024, .f32⟩
  | .local _ .vmem, ⟨9, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PrenormBwdRefIdeal.lean ====
abbrev S2048x1024 : Shape := ⟨2, ![2048, 1024]⟩
abbrev S2x3x1024 : Shape := ⟨3, ![2, 3, 1024]⟩
abbrev S6x3x1024 : Shape := ⟨3, ![6, 3, 1024]⟩
abbrev S1x1x1024 : Shape := ⟨3, ![1, 1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2x3x1024, .f32⟩
  | .hbm, ⟨4, _⟩ => ⟨S2x3x1024, .f32⟩
  | .hbm, ⟨5, _⟩ => ⟨S6x3x1024, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S2048x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S2048x1024, .f32⟩
  | .hbm, ⟨64, _⟩ => ⟨S_, .f32⟩
  | .hbm, ⟨65, _⟩ => ⟨S2048, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== LastShell.lean ====
abbrev S2048x1024 : Shape := ⟨2, ![2048, 1024]⟩
abbrev S2x3x1024 : Shape := ⟨3, ![2, 3, 1024]⟩
abbrev S6x3x1024 : Shape := ⟨3, ![6, 3, 1024]⟩
abbrev S6x1024 : Shape := ⟨2, ![6, 1024]⟩
abbrev S6x1x1024 : Shape := ⟨3, ![6, 1, 1024]⟩
abbrev S_ : Shape := ⟨0, ![]⟩
abbrev S6x8x1024 : Shape := ⟨3, ![6, 8, 1024]⟩
abbrev S1x128 : Shape := ⟨2, ![1, 128]⟩
abbrev S8x1024 : Shape := ⟨2, ![8, 1024]⟩
abbrev S512x1024 : Shape := ⟨2, ![512, 1024]⟩
abbrev S1x8x1024 : Shape := ⟨3, ![1, 8, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 29
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2x3x1024, .f32⟩
  | .hbm, ⟨4, _⟩ => ⟨S2x3x1024, .f32⟩
  | .hbm, ⟨5, _⟩ => ⟨S6x3x1024, .f32⟩
  | .hbm, ⟨6, _⟩ => ⟨S6x1024, .f32⟩
  | .hbm, ⟨7, _⟩ => ⟨S6x1x1024, .f32⟩
  | .hbm, ⟨8, _⟩ => ⟨S6x1024, .f32⟩
  | .hbm, ⟨9, _⟩ => ⟨S6x1x1024, .f32⟩
  | .hbm, ⟨10, _⟩ => ⟨S6x1024, .f32⟩
  | .hbm, ⟨11, _⟩ => ⟨S6x1024, .f32⟩
  | .hbm, ⟨12, _⟩ => ⟨S6x1x1024, .f32⟩
  | .hbm, ⟨13, _⟩ => ⟨S6x1024, .f32⟩
  | .hbm, ⟨14, _⟩ => ⟨S_, .f32⟩
  | .hbm, ⟨15, _⟩ => ⟨S6x1024, .f32⟩
  | .hbm, ⟨16, _⟩ => ⟨S6x1x1024, .f32⟩
  | .hbm, ⟨17, _⟩ => ⟨S6x1x1024, .f32⟩
  | .hbm, ⟨18, _⟩ => ⟨S6x1x1024, .f32⟩
  | .hbm, ⟨19, _⟩ => ⟨S6x1x1024, .f32⟩
  | .hbm, ⟨20, _⟩ => ⟨S6x1x1024, .f32⟩
  | .hbm, ⟨21, _⟩ => ⟨S6x1x1024, .f32⟩
  | .hbm, ⟨22, _⟩ => ⟨S6x1x1024, .f32⟩
  | .hbm, ⟨23, _⟩ => ⟨S6x1x1024, .f32⟩
  | .hbm, ⟨24, _⟩ => ⟨S6x8x1024, .f32⟩
  | .hbm, ⟨25, _⟩ => ⟨S1x128, .f32⟩
  | .hbm, ⟨26, _⟩ => ⟨S2048x1024, .f32⟩
  | .hbm, ⟨27, _⟩ => ⟨S2048x1024, .bf16⟩
  | .hbm, ⟨28, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x8x1024, .f32⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v87 : BitVec 1 := Scalar.cmpi .eq arg0 c3_i32
  let v88 : BitVec 32 := Scalar.extui v87
  let c0_i32_37 : BitVec 32 := 0#32
  let v89 : BitVec 1 := Scalar.cmpi .ne v88 c0_i32_37
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LastShellRefIdeal.lean ====
abbrev S2048x1024 : Shape := ⟨2, ![2048, 1024]⟩
abbrev S2x3x1024 : Shape := ⟨3, ![2, 3, 1024]⟩
abbrev S6x3x1024 : Shape := ⟨3, ![6, 3, 1024]⟩
abbrev S1x1x1024 : Shape := ⟨3, ![1, 1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x128 : Shape := ⟨2, ![1, 128]⟩
abbrev S8x1024 : Shape := ⟨2, ![8, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2x3x1024, .f32⟩
  | .hbm, ⟨4, _⟩ => ⟨S2x3x1024, .f32⟩
  | .hbm, ⟨5, _⟩ => ⟨S6x3x1024, .f32⟩
  | .hbm, ⟨6, _⟩ => ⟨S1x1x1024, .f32⟩
  | .hbm, ⟨7, _⟩ => ⟨S1024, .f32⟩
  | .hbm, ⟨8, _⟩ => ⟨S1x1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S2048x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S2048x1024, .f32⟩
  | .hbm, ⟨81, _⟩ => ⟨S2048x1024, .f32⟩
  | .hbm, ⟨82, _⟩ => ⟨S2048x1, .f32⟩
  | .hbm, ⟨83, _⟩ => ⟨S_, .f32⟩
  | .hbm, ⟨84, _⟩ => ⟨S2048x1, .f32⟩
  | .hbm, ⟨85, _⟩ => ⟨S2048x1, .f32⟩
  | .hbm, ⟨86, _⟩ => ⟨S_, .f32⟩
  | .hbm, ⟨87, _⟩ => ⟨S2048, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1x128, .f32⟩
  | .hbm, ⟨99, _⟩ => ⟨S2048x1024, .bf16⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_cst_9 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== SsmDu.lean ====
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsmDuRefIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024, .f32⟩
  | .hbm, ⟨3, _⟩ => ⟨S_, .f32⟩
  | .hbm, ⟨4, _⟩ => ⟨S2048x1024, .f32⟩
  | .hbm, ⟨5, _⟩ => ⟨S1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== AdaWGrad.lean ====
abbrev S8x1024 : Shape := ⟨2, ![8, 1024]⟩
abbrev S8x1152 : Shape := ⟨2, ![8, 1152]⟩
abbrev S1024x8 : Shape := ⟨2, ![1024, 8]⟩
abbrev S1x8x1152 : Shape := ⟨3, ![1, 8, 1152]⟩
abbrev S1x1024x1152 : Shape := ⟨3, ![1, 1024, 1152]⟩
abbrev S128x8 : Shape := ⟨2, ![128, 8]⟩
abbrev S1x128x1152 : Shape := ⟨3, ![1, 128, 1152]⟩
abbrev S128x1 : Shape := ⟨2, ![128, 1]⟩
abbrev S1x1152 : Shape := ⟨2, ![1, 1152]⟩
abbrev S128x1152 : Shape := ⟨2, ![128, 1152]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x8, .f32⟩
  | .hbm, ⟨3, _⟩ => ⟨S1x8x1152, .f32⟩
  | .hbm, ⟨4, _⟩ => ⟨S1x1024x1152, .f32⟩
  | .local _ .vmem, ⟨0, _⟩ => ⟨S128x8, .f32⟩
  | .local _ .vmem, ⟨1, _⟩ => ⟨S128x8, .f32⟩
  | .local _ .vmem, ⟨2, _⟩ => ⟨S1x8x1152, .f32⟩
  | .local _ .vmem, ⟨3, _⟩ => ⟨S1x128x1152, .f32⟩
  | .local _ .vmem, ⟨4, _⟩ => ⟨S1x128x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaWGradRefIdeal.lean ====
abbrev S8x1024 : Shape := ⟨2, ![8, 1024]⟩
abbrev S8x1152 : Shape := ⟨2, ![8, 1152]⟩
abbrev S_ : Shape := ⟨0, ![]⟩
abbrev S1024x1152 : Shape := ⟨2, ![1024, 1152]⟩
abbrev S1152x1024 : Shape := ⟨2, ![1152, 1024]⟩
abbrev S1x1024x1152 : Shape := ⟨3, ![1, 1024, 1152]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S_, .f32⟩
  | .hbm, ⟨3, _⟩ => ⟨S1024x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1152, .f32⟩
  | .hbm, ⟨14, _⟩ => ⟨S1152x1024, .f32⟩
  | .hbm, ⟨15, _⟩ => ⟨S1024x1152, .f32⟩
  | .hbm, ⟨16, _⟩ => ⟨S1x1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== FfnSwiglu.lean ====
abbrev S2048x1024 : Shape := ⟨2, ![2048, 1024]⟩
abbrev S1024x5632 : Shape := ⟨2, ![1024, 5632]⟩
abbrev S2816x1024 : Shape := ⟨2, ![2816, 1024]⟩
abbrev S5632x1024 : Shape := ⟨2, ![5632, 1024]⟩
abbrev S8x704x1024 : Shape := ⟨3, ![8, 704, 1024]⟩
abbrev S2x4x2048x704 : Shape := ⟨4, ![2, 4, 2048, 704]⟩
abbrev S4x2048x704 : Shape := ⟨3, ![4, 2048, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S1x1024x704 : Shape := ⟨3, ![1, 1024, 704]⟩
abbrev S704x1024 : Shape := ⟨2, ![704, 1024]⟩
abbrev S1024x704 : Shape := ⟨2, ![1024, 704]⟩
abbrev S1x1x1024x704 : Shape := ⟨4, ![1, 1, 1024, 704]⟩
abbrev S4x704x1024 : Shape := ⟨3, ![4, 704, 1024]⟩
abbrev S_ : Shape := ⟨0, ![]⟩
abbrev S8x128 : Shape := ⟨2, ![8, 128]⟩
abbrev S8x2048x704 : Shape := ⟨3, ![8, 2048, 704]⟩

abbrev nBuf : Space → Nat
  | .hbm => 15
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2816x1024, .f32⟩
  | .hbm, ⟨3, _⟩ => ⟨S2048x1024, .bf16⟩
  | .hbm, ⟨4, _⟩ => ⟨S5632x1024, .f32⟩
  | .hbm, ⟨5, _⟩ => ⟨S5632x1024, .bf16⟩
  | .hbm, ⟨6, _⟩ => ⟨S8x704x1024, .bf16⟩
  | .hbm, ⟨7, _⟩ => ⟨S2x4x2048x704, .bf16⟩
  | .hbm, ⟨8, _⟩ => ⟨S4x2048x704, .bf16⟩
  | .hbm, ⟨9, _⟩ => ⟨S2816x1024, .bf16⟩
  | .hbm, ⟨10, _⟩ => ⟨S4x704x1024, .bf16⟩
  | .hbm, ⟨11, _⟩ => ⟨S_, .f32⟩
  | .hbm, ⟨12, _⟩ => ⟨S8x128, .f32⟩
  | .hbm, ⟨13, _⟩ => ⟨S2x4x2048x704, .bf16⟩
  | .hbm, ⟨14, _⟩ => ⟨S8x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1024x1024, .bf16⟩
  | .local _ .vmem, ⟨11, _⟩ => ⟨S1024x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S2x1x1024x704, .bf16⟩
  | .local _ .vmem, ⟨15, _⟩ => ⟨S2x1x1024x704, .bf16⟩
  | .local _ .vmem, ⟨16, _⟩ => ⟨S2x1x1024x704, .bf16⟩
  | .local _ .vmem, ⟨17, _⟩ => ⟨S2x1x1024x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1x1024x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x1x1024x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnSwigluRefIdeal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S2048x4x704 : Shape := ⟨3, ![2048, 4, 704]⟩
abbrev S4x2048x704 : Shape := ⟨3, ![4, 2048, 704]⟩
abbrev S2048x8x704 : Shape := ⟨3, ![2048, 8, 704]⟩
abbrev S8x2048x704 : Shape := ⟨3, ![8, 2048, 704]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2816x1024, .f32⟩
  | .hbm, ⟨3, _⟩ => ⟨S2048x1024, .bf16⟩
  | .hbm, ⟨4, _⟩ => ⟨S2048x1024, .f32⟩
  | .hbm, ⟨5, _⟩ => ⟨S2048x5632, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x1024, .f32⟩
  | .hbm, ⟨35, _⟩ => ⟨S2048x1024, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x5632, .f32⟩
  | .hbm, ⟨44, _⟩ => ⟨S2048x4x704, .f32⟩
  | .hbm, ⟨45, _⟩ => ⟨S4x2048x704, .f32⟩
  | .hbm, ⟨46, _⟩ => ⟨S4x2048x704, .bf16⟩
  | .hbm, ⟨47, _⟩ => ⟨S2048x8x704, .f32⟩
  | .hbm, ⟨48, _⟩ => ⟨S8x2048x704, .f32⟩
  | .hbm, ⟨49, _⟩ => ⟨S8x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_v8_2 : Ref sig .tc := ⟨.hbm, 27, rfl⟩
abbrev main_call1_cst_1 : Ref sig .tc := ⟨.hbm, 28, rfl⟩
abbrev main_call1_v6 : Ref sig .tc := ⟨.hbm, 29, rfl⟩
abbrev main_call1_v7 : Ref sig .tc := ⟨.hbm, 30, rfl⟩
abbrev main_v8_1 : Ref sig .tc := ⟨.hbm, 31, rfl⟩
abbrev main_v8_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩

abbrev nD : Nat := 1
abbrev τ : Topo := Topo.v7x

variable {F : FTy → Type} [FloatOps F]
-- ==== PrePost.lean ====
abbrev S2048x1024 : Shape := ⟨2, ![2048, 1024]⟩
abbrev S2x3x1024 : Shape := ⟨3, ![2, 3, 1024]⟩
abbrev S6x3x1024 : Shape := ⟨3, ![6, 3, 1024]⟩
abbrev S6x1024 : Shape := ⟨2, ![6, 1024]⟩
abbrev S6x1x1024 : Shape := ⟨3, ![6, 1, 1024]⟩
abbrev S_ : Shape := ⟨0, ![]⟩
abbrev S6x8x1024 : Shape := ⟨3, ![6, 8, 1024]⟩
abbrev S8x128 : Shape := ⟨2, ![8, 128]⟩
abbrev S512x1024 : Shape := ⟨2, ![512, 1024]⟩
abbrev S1x8x1024 : Shape := ⟨3, ![1, 8, 1024]⟩
abbrev S8x1024 : Shape := ⟨2, ![8, 1024]⟩
abbrev S1x1024 : Shape := ⟨2, ![1, 1024]⟩
abbrev S512 : Shape := ⟨1, ![512]⟩
abbrev S512x1 : Shape := ⟨2, ![512, 1]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 33
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2x3x1024, .f32⟩
  | .hbm, ⟨5, _⟩ => ⟨S2x3x1024, .f32⟩
  | .hbm, ⟨6, _⟩ => ⟨S6x3x1024, .f32⟩
  | .hbm, ⟨7, _⟩ => ⟨S6x1024, .f32⟩
  | .hbm, ⟨8, _⟩ => ⟨S6x1x1024, .f32⟩
  | .hbm, ⟨9, _⟩ => ⟨S6x1024, .f32⟩
  | .hbm, ⟨10, _⟩ => ⟨S6x1x1024, .f32⟩
  | .hbm, ⟨11, _⟩ => ⟨S6x1024, .f32⟩
  | .hbm, ⟨12, _⟩ => ⟨S6x1024, .f32⟩
  | .hbm, ⟨13, _⟩ => ⟨S6x1x1024, .f32⟩
  | .hbm, ⟨14, _⟩ => ⟨S6x1024, .f32⟩
  | .hbm, ⟨15, _⟩ => ⟨S_, .f32⟩
  | .hbm, ⟨16, _⟩ => ⟨S6x1024, .f32⟩
  | .hbm, ⟨17, _⟩ => ⟨S6x1x1024, .f32⟩
  | .hbm, ⟨18, _⟩ => ⟨S6x1x1024, .f32⟩
  | .hbm, ⟨19, _⟩ => ⟨S6x1x1024, .f32⟩
  | .hbm, ⟨20, _⟩ => ⟨S6x1x1024, .f32⟩
  | .hbm, ⟨21, _⟩ => ⟨S6x1x1024, .f32⟩
  | .hbm, ⟨22, _⟩ => ⟨S6x1x1024, .f32⟩
  | .hbm, ⟨23, _⟩ => ⟨S6x1x1024, .f32⟩
  | .hbm, ⟨24, _⟩ => ⟨S6x1x1024, .f32⟩
  | .hbm, ⟨25, _⟩ => ⟨S6x8x1024, .f32⟩
  | .hbm, ⟨26, _⟩ => ⟨S_, .f32⟩
  | .hbm, ⟨27, _⟩ => ⟨S8x128, .f32⟩
  | .hbm, ⟨28, _⟩ => ⟨S2048x1024, .f32⟩
  | .hbm, ⟨29, _⟩ => ⟨S2048x1024, .bf16⟩
  | .hbm, ⟨30, _⟩ => ⟨S2048x1024, .f32⟩
  | .hbm, ⟨31, _⟩ => ⟨S2048x1024, .bf16⟩
  | .hbm, ⟨32, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x8x1024, .f32⟩
  | .local _ .vmem, ⟨19, _⟩ => ⟨S1x8x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x8x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== PrePostRefIdeal.lean ====
abbrev S2048x1024 : Shape := ⟨2, ![2048, 1024]⟩
abbrev S2x3x1024 : Shape := ⟨3, ![2, 3, 1024]⟩
abbrev S6x3x1024 : Shape := ⟨3, ![6, 3, 1024]⟩
abbrev S1x1x1024 : Shape := ⟨3, ![1, 1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x1024 : Shape := ⟨2, ![8, 1024]⟩

abbrev nBuf : Space → Nat
  | .hbm => 163
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2x3x1024, .f32⟩
  | 5 => ⟨S2x3x1024, .f32⟩
  | 6 => ⟨S6x3x1024, .f32⟩
  | 7 => ⟨S1x1x1024, .f32⟩
  | 8 => ⟨S1024, .f32⟩
  | 9 => ⟨S1x1x1024, .f32⟩
  | 10 => ⟨S1024, .f32⟩
  | 11 => ⟨S1x1x1024, .f32⟩
  | 12 => ⟨S1024, .f32⟩
  | 13 => ⟨S1x1x1024, .f32⟩
  | 14 => ⟨S1024, .f32⟩
  | 15 => ⟨S1x1x1024, .f32⟩
  | 16 => ⟨S1024, .f32⟩
  | 17 => ⟨S_, .f32⟩
  | 18 => ⟨S1024, .f32⟩
  | 19 => ⟨S1024, .f32⟩
  | 20 => ⟨S2048x1024, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S_, .f32⟩
  | 28 => ⟨S2048x1, .f32⟩
  | 29 => ⟨S2048x1, .f32⟩
  | 30 => ⟨S2048x1, .f32⟩
  | 31 => ⟨S2048x1, .f32⟩
  | 32 => ⟨S_, .f32⟩
  | 33 => ⟨S2048x1, .f32⟩
  | 34 => ⟨S2048x1, .f32⟩
  | 35 => ⟨S2048x1024, .f32⟩
  | 36 => ⟨S2048x1024, .f32⟩
  | 37 => ⟨S1x1024, .f32⟩
  | 38 => ⟨S2048x1024, .f32⟩
  | 39 => ⟨S2048x1024, .f32⟩
  | 40 => ⟨S1x1024, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x1024, .f32⟩
  | 60 => ⟨S2048x1024, .f32⟩
  | 61 => ⟨S1x1024, .f32⟩
  | 62 => ⟨S2048x1024, .f32⟩
  | 63 => ⟨S2048x1024, .f32⟩
  | 64 => ⟨S_, .f32⟩
  | 65 => ⟨S1024, .f32⟩
  | 66 => ⟨S1024, .f32⟩
  | 67 => ⟨S1x1024, .f32⟩
  | 68 => ⟨S2048x1024, .f32⟩
  | 69 => ⟨S2048x1024, .f32⟩
  | 70 => ⟨S1x1024, .f32⟩
  | 71 => ⟨S2048x1024, .f32⟩
  | 72 => ⟨S2048x1024, .f32⟩
  | 73 => ⟨S2048x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S2048x1024, .f32⟩
  | 80 => ⟨S_, .f32⟩
  | 81 => ⟨S1024, .f32⟩
  | 82 => ⟨S1x1024, .f32⟩
  | 83 => ⟨S2048x1024, .f32⟩
  | 84 => ⟨S2048x1024, .f32⟩
  | 85 => ⟨S_, .f32⟩
  | 86 => ⟨S1024, .f32⟩
  | 87 => ⟨S2048x1024, .f32⟩
  | 88 => ⟨S_, .f32⟩
  | 89 => ⟨S1024, .f32⟩
  | 90 => ⟨S1x1024, .f32⟩
  | 91 => ⟨S2048x1024, .f32⟩
  | 92 => ⟨S2048x1024, .f32⟩
  | 93 => ⟨S_, .f32⟩
  | 94 => ⟨S1024, .f32⟩
  | 95 => ⟨S2048x1024, .f32⟩
  | 96 => ⟨S_, .f32⟩
  | 97 => ⟨S2048, .f32⟩
  | 98 => ⟨S2048x1, .f32⟩
  | 99 => ⟨S2048x1024, .f32⟩
  | 100 => ⟨S2048x1024, .f32⟩
  | 101 => ⟨S2048x1024, .f32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S2048, .f32⟩
  | 108 => ⟨S2048x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S2048x1024, .f32⟩
  | 123 => ⟨S_, .f32⟩
  | 124 => ⟨S1024, .f32⟩
  | 125 => ⟨S1x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S_, .f32⟩
  | 1 => ⟨S1024, .f32⟩
  | 2 => ⟨S2048x1024, .f32⟩
  | 3 => ⟨S_, .f32⟩
  | 4 => ⟨S2048, .f32⟩
  | 5 => ⟨S2048x1, .f32⟩
  | 6 => ⟨S2048x1024, .f32⟩
  | 7 => ⟨S2048x1024, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S_, .f32⟩
  | 20 => ⟨S1024, .f32⟩
  | 21 => ⟨S1024, .f32⟩
  | 22 => ⟨S_, .f32⟩
  | 23 => ⟨S1024, .f32⟩
  | 24 => ⟨S2048x1024, .bf16⟩
  | 25 => ⟨S2048x1024, .bf16⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S8x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_18 : Ref sig .tc := ⟨.hbm, 117, rfl⟩
abbrev main_v91 : Ref sig .tc := ⟨.hbm, 118, rfl⟩
abbrev main_v92 : Ref sig .tc := ⟨.hbm, 119, rfl⟩
abbrev main_cst_19 : Ref sig .tc := ⟨.hbm, 120, rfl⟩
abbrev main_v93 : Ref sig .tc := ⟨.hbm, 121, rfl⟩
abbrev main_v94 : Ref sig .tc := ⟨.hbm, 122, rfl⟩
abbrev main_cst_20 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_21 : Ref sig .tc := ⟨.hbm, 128, rfl⟩
abbrev main_v99 : Ref sig .tc := ⟨.hbm, 129, rfl⟩
abbrev main_v100 : Ref sig .tc := ⟨.hbm, 130, rfl⟩
abbrev main_cst_22 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_23 : Ref sig .tc := ⟨.hbm, 137, rfl⟩
abbrev main_v106 : Ref sig .tc := ⟨.hbm, 138, rfl⟩
abbrev main_v107 : Ref sig .tc := ⟨.hbm, 139, rfl⟩
abbrev main_cst_24 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_25 : Ref sig .tc := ⟨.hbm, 147, rfl⟩
abbrev main_v114 : Ref sig .tc := ⟨.hbm, 148, rfl⟩
abbrev main_v115 : Ref sig .tc := ⟨.hbm, 149, rfl⟩
abbrev main_cst_26 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩

abbrev nD : Nat := 1
abbrev τ : Topo := Topo.v7x

variable {F : FTy → Type} [FloatOps F]
-- ==== Pool.lean ====
abbrev S2048x1536 : Shape := ⟨2, ![2048, 1536]⟩
abbrev S4x128x128 : Shape := ⟨3, ![4, 128, 128]⟩
abbrev S1x512 : Shape := ⟨2, ![1, 512]⟩
abbrev S2048x1024 : Shape := ⟨2, ![2048, 1024]⟩
abbrev S2048x512 : Shape := ⟨2, ![2048, 512]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 9
  | .vmem => 12
  | .smem => 0
  | _ => 0

abbrev bufTy : (tb : Table) → Fin (tcTables nBuf tb) → BufTy
  | .hbm, ⟨0, _⟩ => ⟨S2048x1536, .f32⟩
  | .hbm, ⟨1, _⟩ => ⟨S4x128x128, .f32⟩
  | .hbm, ⟨2, _⟩ => ⟨S1x512, .f32⟩
  | .hbm, ⟨3, _⟩ => ⟨S2048x1024, .f32⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S4x128x128, .f32⟩
  | .hbm, ⟨8, _⟩ => ⟨S1x512, .f32⟩
  | .local _ .vmem, ⟨0, _⟩ => ⟨S2048x512, .f32⟩
  | .local _ .vmem, ⟨1, _⟩ => ⟨S4x128x128, .f32⟩
  | .local _ .vmem, ⟨2, _⟩ => ⟨S1x512, .f32⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | .local _ .vmem, ⟨6, _⟩ => ⟨S2048x512, .bf16⟩
  | .local _ .vmem, ⟨7, _⟩ => ⟨S4x128x128, .f32⟩
  | .local _ .vmem, ⟨8, _⟩ => ⟨S1x512, .f32⟩
  | .local _ .vmem, ⟨9, _⟩ => ⟨S2048x512, .bf16⟩
  | .local _ .vmem, ⟨10, _⟩ => ⟨S4x128x128, .f32⟩
  | .local _ .vmem, ⟨11, _⟩ => ⟨S1x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== PoolRefIdeal.lean ====
abbrev S2048x1536 : Shape := ⟨2, ![2048, 1536]⟩
abbrev S4x128x128 : Shape := ⟨3, ![4, 128, 128]⟩
abbrev S1x512 : Shape := ⟨2, ![1, 512]⟩
abbrev S2048x1024 : Shape := ⟨2, ![2048, 1024]⟩
abbrev S2048x512 : Shape := ⟨2, ![2048, 512]⟩
abbrev S1x2048x512 : Shape := ⟨3, ![1, 2048, 512]⟩
abbrev S512 : Shape := ⟨1, ![512]⟩
abbrev S_ : Shape := ⟨0, ![]⟩
abbrev S2048 : Shape := ⟨1, ![2048]⟩
abbrev S1x2048x1 : Shape := ⟨3, ![1, 2048, 1]⟩
abbrev S1x2048x128 : Shape := ⟨3, ![1, 2048, 128]⟩
abbrev S1x2x128 : Shape := ⟨3, ![1, 2, 128]⟩
abbrev S1x2046x128 : Shape := ⟨3, ![1, 2046, 128]⟩
abbrev S1x4x128 : Shape := ⟨3, ![1, 4, 128]⟩
abbrev S1x2044x128 : Shape := ⟨3, ![1, 2044, 128]⟩
abbrev S1x8x128 : Shape := ⟨3, ![1, 8, 128]⟩
abbrev S1x2040x128 : Shape := ⟨3, ![1, 2040, 128]⟩
abbrev S1x16x128 : Shape := ⟨3, ![1, 16, 128]⟩
abbrev S1x2032x128 : Shape := ⟨3, ![1, 2032, 128]⟩
abbrev S1x2048x1x128 : Shape := ⟨4, ![1, 2048, 1, 128]⟩
abbrev S1x2048x4x128 : Shape := ⟨4, ![1, 2048, 4, 128]⟩
abbrev S4x128x1x2048 : Shape := ⟨4, ![4, 128, 1, 2048]⟩
abbrev S1x1x512 : Shape := ⟨3, ![1, 1, 512]⟩
abbrev S4x1x2048x128 : Shape := ⟨4, ![4, 1, 2048, 128]⟩

abbrev nBuf : Space → Nat
  | .hbm => 177
  | .vmem => 0
  | .smem => 0
  | _ => 0

abbrev hbmTy0_0 (i : Nat) : BufTy := match i % 128 with
  | 0 => ⟨S2048x1536, .f32⟩
  | 1 => ⟨S4x128x128, .f32⟩
  | 2 => ⟨S1x512, .f32⟩
  | 3 => ⟨S2048x1024, .f32⟩
  | 4 => ⟨S2048x512, .f32⟩
  | 5 => ⟨S1x2048x512, .f32⟩
  | 6 => ⟨S2048x512, .f32⟩
  | 7 => ⟨S1x2048x512, .f32⟩
  | 8 => ⟨S512, .f32⟩
  | 9 => ⟨S_, .f32⟩
  | 10 => ⟨S_, .f32⟩
  | 11 => ⟨S1x2048x512, .f32⟩
  | 12 => ⟨S2048, .f32⟩
  | 13 => ⟨S_, .f32⟩
  | 14 => ⟨S2048, .f32⟩
  | 15 => ⟨S2048, .f32⟩
  | 16 => ⟨S1x2048x1, .f32⟩
  | 17 => ⟨S1x2048x128, .f32⟩
  | 18 => ⟨S_, .f32⟩
  | 19 => ⟨S1x2x128, .f32⟩
  | 20 => ⟨S1x2046x128, .f32⟩
  | 21 => ⟨S1x2048x128, .f32⟩
  | 22 => ⟨S_, .f32⟩
  | 23 => ⟨S1x2x128, .f32⟩
  | 24 => ⟨S1x2048x128, .f32⟩
  | 25 => ⟨S_, .f32⟩
  | 26 => ⟨S1x2048x1, .f32⟩
  | 27 => ⟨S1x2048x1, .f32⟩
  | 28 => ⟨S1x2048x128, .f32⟩
  | 29 => ⟨S1x2048x128, .f32⟩
  | 30 => ⟨S1x2048x128, .f32⟩
  | 31 => ⟨S1x2048x128, .f32⟩
  | 32 => ⟨S1x2048x128, .f32⟩
  | 33 => ⟨S_, .f32⟩
  | 34 => ⟨S1x4x128, .f32⟩
  | 35 => ⟨S1x2044x128, .f32⟩
  | 36 => ⟨S1x2048x128, .f32⟩
  | 37 => ⟨S_, .f32⟩
  | 38 => ⟨S1x4x128, .f32⟩
  | 39 => ⟨S1x2048x128, .f32⟩
  | 40 => ⟨S_, .f32⟩
  | 41 => ⟨S1x2048x1, .f32⟩
  | 42 => ⟨S1x2048x1, .f32⟩
  | 43 => ⟨S1x2048x128, .f32⟩
  | 44 => ⟨S1x2048x128, .f32⟩
  | 45 => ⟨S1x2048x128, .f32⟩
  | 46 => ⟨S1x2048x128, .f32⟩
  | 47 => ⟨S1x2048x128, .f32⟩
  | 48 => ⟨S_, .f32⟩
  | 49 => ⟨S1x8x128, .f32⟩
  | 50 => ⟨S1x2040x128, .f32⟩
  | 51 => ⟨S1x2048x128, .f32⟩
  | 52 => ⟨S_, .f32⟩
  | 53 => ⟨S1x8x128, .f32⟩
  | 54 => ⟨S1x2048x128, .f32⟩
  | 55 => ⟨S_, .f32⟩
  | 56 => ⟨S1x2048x1, .f32⟩
  | 57 => ⟨S1x2048x1, .f32⟩
  | 58 => ⟨S1x2048x128, .f32⟩
  | 59 => ⟨S1x2048x128, .f32⟩
  | 60 => ⟨S1x2048x128, .f32⟩
  | 61 => ⟨S1x2048x128, .f32⟩
  | 62 => ⟨S1x2048x128, .f32⟩
  | 63 => ⟨S_, .f32⟩
  | 64 => ⟨S1x16x128, .f32⟩
  | 65 => ⟨S1x2032x128, .f32⟩
  | 66 => ⟨S1x2048x128, .f32⟩
  | 67 => ⟨S_, .f32⟩
  | 68 => ⟨S1x16x128, .f32⟩
  | 69 => ⟨S1x2048x128, .f32⟩
  | 70 => ⟨S_, .f32⟩
  | 71 => ⟨S1x2048x1, .f32⟩
  | 72 => ⟨S1x2048x1, .f32⟩
  | 73 => ⟨S1x2048x128, .f32⟩
  | 74 => ⟨S1x2048x128, .f32⟩
  | 75 => ⟨S1x2048x128, .f32⟩
  | 76 => ⟨S1x2048x128, .f32⟩
  | 77 => ⟨S1x2048x1x128, .f32⟩
  | 78 => ⟨S1x2048x1x128, .f32⟩
  | 79 => ⟨S1x2048x1x128, .f32⟩
  | 80 => ⟨S1x2048x1x128, .f32⟩
  | 81 => ⟨S1x2048x4x128, .f32⟩
  | 82 => ⟨S4x128x1x2048, .f32⟩
  | 83 => ⟨S1x2048x4x128, .f32⟩
  | 84 => ⟨S1x2048x512, .f32⟩
  | 85 => ⟨S1x1x512, .f32⟩
  | 86 => ⟨S1x2048x512, .f32⟩
  | 87 => ⟨S1x2048x512, .f32⟩
  | 88 => ⟨S1x2048x512, .f32⟩
  | 89 => ⟨S_, .f32⟩
  | 90 => ⟨S1x512, .f32⟩
  | 91 => ⟨S1x1x512, .f32⟩
  | 92 => ⟨S1x2048x512, .f32⟩
  | 93 => ⟨S1x2048x512, .f32⟩
  | 94 => ⟨S_, .f32⟩
  | 95 => ⟨S512, .f32⟩
  | 96 => ⟨S1x2048x4x128, .f32⟩
  | 97 => ⟨S4x128x1x2048, .f32⟩
  | 98 => ⟨S4x1x2048x128, .f32⟩
  | 99 => ⟨S1x2048x4x128, .f32⟩
  | 100 => ⟨S4x128x128, .f32⟩
  | 101 => ⟨S4x128x128, .f32⟩
  | 102 => ⟨S1x2048x1x128, .f32⟩
  | 103 => ⟨S1x2048x128, .f32⟩
  | 104 => ⟨S1x2048x1x128, .f32⟩
  | 105 => ⟨S1x2048x128, .f32⟩
  | 106 => ⟨S1x2048x1x128, .f32⟩
  | 107 => ⟨S1x2048x128, .f32⟩
  | 108 => ⟨S1x2048x1x128, .f32⟩
  | 109 => ⟨S1x2048x128, .f32⟩
  | 110 => ⟨S1x2048x128, .f32⟩
  | 111 => ⟨S_, .f32⟩
  | 112 => ⟨S1x2048x512, .f32⟩
  | 113 => ⟨S1x2048x128, .f32⟩
  | 114 => ⟨S1x2048x128, .f32⟩
  | 115 => ⟨S1x2048x128, .f32⟩
  | 116 => ⟨S1x16x128, .f32⟩
  | 117 => ⟨S1x2032x128, .f32⟩
  | 118 => ⟨S_, .f32⟩
  | 119 => ⟨S1x2048x128, .f32⟩
  | 120 => ⟨S1x2048x128, .f32⟩
  | 121 => ⟨S_, .f32⟩
  | 122 => ⟨S1x2048x512, .f32⟩
  | 123 => ⟨S1x2048x128, .f32⟩
  | 124 => ⟨S_, .f32⟩
  | 125 => ⟨S1x2048x512, .f32⟩
  | 126 => ⟨S1x2048x512, .f32⟩
  | 127 => ⟨S1x2048x128, .f32⟩
  | _ => ⟨S2048x1536, .f32⟩

abbrev hbmTy0_1 (i : Nat) : BufTy := match i % 128 with
  | 0 => ⟨S1x2048x128, .f32⟩
  | 1 => ⟨S1x2048x128, .f32⟩
  | 2 => ⟨S1x8x128, .f32⟩
  | 3 => ⟨S1x2040x128, .f32⟩
  | 4 => ⟨S_, .f32⟩
  | 5 => ⟨S1x2048x128, .f32⟩
  | 6 => ⟨S1x2048x128, .f32⟩
  | 7 => ⟨S_, .f32⟩
  | 8 => ⟨S1x2048x512, .f32⟩
  | 9 => ⟨S1x2048x512, .f32⟩
  | 10 => ⟨S1x2048x128, .f32⟩
  | 11 => ⟨S_, .f32⟩
  | 12 => ⟨S1x2048x512, .f32⟩
  | 13 => ⟨S1x2048x512, .f32⟩
  | 14 => ⟨S1x2048x128, .f32⟩
  | 15 => ⟨S1x2048x128, .f32⟩
  | 16 => ⟨S1x2048x128, .f32⟩
  | 17 => ⟨S1x4x128, .f32⟩
  | 18 => ⟨S1x2044x128, .f32⟩
  | 19 => ⟨S_, .f32⟩
  | 20 => ⟨S1x2048x128, .f32⟩
  | 21 => ⟨S1x2048x128, .f32⟩
  | 22 => ⟨S_, .f32⟩
  | 23 => ⟨S1x2048x512, .f32⟩
  | 24 => ⟨S1x2048x512, .f32⟩
  | 25 => ⟨S1x2048x128, .f32⟩
  | 26 => ⟨S_, .f32⟩
  | 27 => ⟨S1x2048x512, .f32⟩
  | 28 => ⟨S1x2048x512, .f32⟩
  | 29 => ⟨S1x2048x128, .f32⟩
  | 30 => ⟨S1x2048x128, .f32⟩
  | 31 => ⟨S1x2048x128, .f32⟩
  | 32 => ⟨S1x2x128, .f32⟩
  | 33 => ⟨S1x2046x128, .f32⟩
  | 34 => ⟨S_, .f32⟩
  | 35 => ⟨S1x2048x128, .f32⟩
  | 36 => ⟨S1x2048x128, .f32⟩
  | 37 => ⟨S_, .f32⟩
  | 38 => ⟨S1x2048x512, .f32⟩
  | 39 => ⟨S1x2048x512, .f32⟩
  | 40 => ⟨S_, .f32⟩
  | 41 => ⟨S_, .f32⟩
  | 42 => ⟨S1x2048x512, .f32⟩
  | 43 => ⟨S1x2048x512, .f32⟩
  | 44 => ⟨S1x512, .f32⟩
  | 45 => ⟨S2048x512, .f32⟩
  | 46 => ⟨S2048x512, .bf16⟩
  | 47 => ⟨S2048x512, .f32⟩
  | 48 => ⟨S2048x512, .bf16⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_15 : Ref sig .tc := ⟨.hbm, 118, rfl⟩
abbrev main_v96 : Ref sig .tc := ⟨.hbm, 119, rfl⟩
abbrev main_v97 : Ref sig .tc := ⟨.hbm, 120, rfl⟩
abbrev main_cst_16 : Ref sig .tc := ⟨.hbm, 121, rfl⟩
abbrev main_v98 : Ref sig .tc := ⟨.hbm, 122, rfl⟩
abbrev main_v99 : Ref sig .tc := ⟨.hbm, 123, rfl⟩
abbrev main_cst_17 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_18 : Ref sig .tc := ⟨.hbm, 132, rfl⟩
abbrev main_v107 : Ref sig .tc := ⟨.hbm, 133, rfl⟩
abbrev main_v108 : Ref sig .tc := ⟨.hbm, 134, rfl⟩
abbrev main_cst_19 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_20 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_21 : Ref sig .tc := ⟨.hbm, 147, rfl⟩
abbrev main_v119 : Ref sig .tc := ⟨.hbm, 148, rfl⟩
abbrev main_v120 : Ref sig .tc := ⟨.hbm, 149, rfl⟩
abbrev main_cst_22 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_23 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_24 : Ref sig .tc := ⟨.hbm, 162, rfl⟩
abbrev main_v131 : Ref sig .tc := ⟨.hbm, 163, rfl⟩
abbrev main_v132 : Ref sig .tc := ⟨.hbm, 164, rfl⟩
abbrev main_cst_25 : Ref sig .tc := ⟨.hbm, 165, rfl⟩
abbrev main_v133 : Ref sig .tc := ⟨.hbm, 166, rfl⟩
abbrev main_v134 : Ref sig .tc := ⟨.hbm, 167, rfl⟩
abbrev main_call1_call0_cst : Ref sig .tc := ⟨.hbm, 168, rfl⟩
abbrev main_call1_call0_v0 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩

abbrev nD : Nat := 1
abbrev τ : Topo := Topo.v7x

variable {F : FTy → Type} [FloatOps F]
-- ==== SguBwd.lean ====
abbrev S2048x1536 : Shape := ⟨2, ![2048, 1536]⟩
abbrev S2048x1024 : Shape := ⟨2, ![2048, 1024]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S512x128 : Shape := ⟨2, ![512, 128]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 25
  | .vmem => 20
  | .smem => 0
  | _ => 0

abbrev bufTy : (tb : Table) → Fin (tcTables nBuf tb) → BufTy
  | .hbm, ⟨0, _⟩ => ⟨S2048x1536, .f32⟩
  | .hbm, ⟨1, _⟩ => ⟨S2048x1024, .f32⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S4x128, .i32⟩
  | .hbm, ⟨11, _⟩ => ⟨S4x128, .i32⟩
  | .hbm, ⟨12, _⟩ => ⟨S_, .i32⟩
  | .hbm, ⟨13, _⟩ => ⟨S4x128, .i32⟩
  | .hbm, ⟨14, _⟩ => ⟨S4x128, .i32⟩
  | .hbm, ⟨15, _⟩ => ⟨S4x128, .i1⟩
  | .hbm, ⟨16, _⟩ => ⟨S4x128, .f32⟩
  | .hbm, ⟨17, _⟩ => ⟨S4x128x128, .f32⟩
  | .hbm, ⟨18, _⟩ => ⟨S512x128, .f32⟩
  | .hbm, ⟨19, _⟩ => ⟨S2048x512, .bf16⟩
  | .hbm, ⟨20, _⟩ => ⟨S2048x512, .bf16⟩
  | .hbm, ⟨21, _⟩ => ⟨S1x512, .f32⟩
  | .hbm, ⟨22, _⟩ => ⟨S1x512, .f32⟩
  | .hbm, ⟨23, _⟩ => ⟨S4x128x128, .f32⟩
  | .hbm, ⟨24, _⟩ => ⟨S128x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x128, .f32⟩
  | .local _ .vmem, ⟨8, _⟩ => ⟨S128x512, .f32⟩
  | .local _ .vmem, ⟨9, _⟩ => ⟨S128x512, .f32⟩
  | .local _ .vmem, ⟨10, _⟩ => ⟨S512x128, .f32⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S128x128, .f32⟩
  | .local _ .vmem, ⟨19, _⟩ => ⟨S128x512, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v452 : BitVec 1 := Scalar.cmpi .eq arg0 c15_i32
  let v453 : BitVec 32 := Scalar.extui v452
  let c0_i32_205 : BitVec 32 := 0#32
  let v454 : BitVec 1 := Scalar.cmpi .ne v453 c0_i32_205
  v454

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SguBwdIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== SguBwdRefIdeal.lean ====
abbrev S2048x1536 : Shape := ⟨2, ![2048, 1536]⟩
abbrev S2048x1024 : Shape := ⟨2, ![2048, 1024]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩
abbrev S512 : Shape := ⟨1, ![512]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S16x128x4x128 : Shape := ⟨4, ![16, 128, 4, 128]⟩
abbrev S128x128 : Shape := ⟨2, ![128, 128]⟩
abbrev S1x128x128 : Shape := ⟨3, ![1, 128, 128]⟩
abbrev S4x16x128x128 : Shape := ⟨4, ![4, 16, 128, 128]⟩
abbrev S128x4 : Shape := ⟨2, ![128, 4]⟩
abbrev S1x128x4x1 : Shape := ⟨4, ![1, 128, 4, 1]⟩

abbrev nBuf : Space → Nat
  | .hbm => 196
  | .vmem => 0
  | .smem => 0
  | _ => 0

abbrev hbmTy0_0 (i : Nat) : BufTy := match i % 128 with
  | 0 => ⟨S2048x1536, .f32⟩
  | 1 => ⟨S2048x1024, .f32⟩
  | 2 => ⟨S1x512, .f32⟩
  | 3 => ⟨S1x512, .f32⟩
  | 4 => ⟨S4x128x128, .f32⟩
  | 5 => ⟨S4x128, .f32⟩
  | 6 => ⟨S2048x1024, .f32⟩
  | 7 => ⟨S_, .f32⟩
  | 8 => ⟨S_, .f32⟩
  | 9 => ⟨S_, .f32⟩
  | 10 => ⟨S2048x1024, .f32⟩
  | 11 => ⟨S2048x1024, .f32⟩
  | 12 => ⟨S2048x1024, .f32⟩
  | 13 => ⟨S_, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S_, .f32⟩
  | 20 => ⟨S2048x1024, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S_, .f32⟩
  | 27 => ⟨S2048x1024, .f32⟩
  | 28 => ⟨S2048x1024, .f32⟩
  | 29 => ⟨S2048x1024, .f32⟩
  | 30 => ⟨S_, .f32⟩
  | 31 => ⟨S2048x1024, .f32⟩
  | 32 => ⟨S2048x1024, .f32⟩
  | 33 => ⟨S_, .f32⟩
  | 34 => ⟨S2048x1024, .f32⟩
  | 35 => ⟨S2048x1024, .f32⟩
  | 36 => ⟨S2048x1024, .f32⟩
  | 37 => ⟨S512, .f32⟩
  | 38 => ⟨S512, .f32⟩
  | 39 => ⟨S2048x512, .f32⟩
  | 40 => ⟨S2048x512, .f32⟩
  | 41 => ⟨S2048x4x128, .f32⟩
  | 42 => ⟨S_, .f32⟩
  | 43 => ⟨S2048x4, .f32⟩
  | 44 => ⟨S2048x4x1, .f32⟩
  | 45 => ⟨S_, .f32⟩
  | 46 => ⟨S2048x4x1, .f32⟩
  | 47 => ⟨S2048x4x1, .f32⟩
  | 48 => ⟨S2048x4x128, .f32⟩
  | 49 => ⟨S2048x4x128, .f32⟩
  | 50 => ⟨S2048x4x128, .f32⟩
  | 51 => ⟨S_, .f32⟩
  | 52 => ⟨S2048x4x128, .f32⟩
  | 53 => ⟨S2048x4x128, .f32⟩
  | 54 => ⟨S_, .f32⟩
  | 55 => ⟨S2048x4, .f32⟩
  | 56 => ⟨S2048x4x1, .f32⟩
  | 57 => ⟨S_, .f32⟩
  | 58 => ⟨S2048x4x1, .f32⟩
  | 59 => ⟨S2048x4x1, .f32⟩
  | 60 => ⟨S2048x4x128, .f32⟩
  | 61 => ⟨S2048x4x128, .f32⟩
  | 62 => ⟨S_, .f32⟩
  | 63 => ⟨S2048x4x1, .f32⟩
  | 64 => ⟨S2048x4x1, .f32⟩
  | 65 => ⟨S2048x4x1, .f32⟩
  | 66 => ⟨S2048x4x1, .f32⟩
  | 67 => ⟨S_, .f32⟩
  | 68 => ⟨S2048x4x1, .f32⟩
  | 69 => ⟨S2048x4x1, .f32⟩
  | 70 => ⟨S2048x4x128, .f32⟩
  | 71 => ⟨S2048x4x128, .f32⟩
  | 72 => ⟨S2048x512, .f32⟩
  | 73 => ⟨S1x512, .f32⟩
  | 74 => ⟨S2048x512, .f32⟩
  | 75 => ⟨S2048x512, .f32⟩
  | 76 => ⟨S1x512, .f32⟩
  | 77 => ⟨S2048x512, .f32⟩
  | 78 => ⟨S2048x512, .f32⟩
  | 79 => ⟨S16x128x4x128, .f32⟩
  | 80 => ⟨S_, .i1⟩
  | 81 => ⟨S128x128, .i1⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .i1⟩
  | 89 => ⟨S128x128, .i1⟩
  | 90 => ⟨S128x128, .i1⟩
  | 91 => ⟨S1x128x128, .i1⟩
  | 92 => ⟨S_, .f32⟩
  | 93 => ⟨S_, .f32⟩
  | 94 => ⟨S4x128x128, .i1⟩
  | 95 => ⟨S4x128x128, .f32⟩
  | 96 => ⟨S4x128x128, .f32⟩
  | 97 => ⟨S_, .f32⟩
  | 98 => ⟨S4x128x128, .f32⟩
  | 99 => ⟨S4x16x128x128, .f32⟩
  | 100 => ⟨S16x128x4x128, .f32⟩
  | 101 => ⟨S128x4, .f32⟩
  | 102 => ⟨S1x128x4x1, .f32⟩
  | 103 => ⟨S16x128x4x128, .f32⟩
  | 104 => ⟨S16x128x4x128, .f32⟩
  | 105 => ⟨S2048x512, .f32⟩
  | 106 => ⟨S2048x512, .f32⟩
  | 107 => ⟨S2048x512, .f32⟩
  | 108 => ⟨S2048x512, .f32⟩
  | 109 => ⟨S2048x512, .f32⟩
  | 110 => ⟨S16x128x4x128, .f32⟩
  | 111 => ⟨S_, .f32⟩
  | 112 => ⟨S128x4, .f32⟩
  | 113 => ⟨S1x128x4x1, .f32⟩
  | 114 => ⟨S_, .f32⟩
  | 115 => ⟨S128x4, .f32⟩
  | 116 => ⟨S4x128, .f32⟩
  | 117 => ⟨S4x16x128x128, .f32⟩
  | 118 => ⟨S4x128x128, .f32⟩
  | 119 => ⟨S4x16x128x128, .f32⟩
  | 120 => ⟨S16x128x4x128, .f32⟩
  | 121 => ⟨S_, .f32⟩
  | 122 => ⟨S4x128x128, .f32⟩
  | 123 => ⟨S4x128x128, .f32⟩
  | 124 => ⟨S2048x512, .f32⟩
  | 125 => ⟨S_, .f32⟩
  | 126 => ⟨S512, .f32⟩
  | 127 => ⟨S1x512, .f32⟩
  | _ => ⟨S2048x1536, .f32⟩

abbrev hbmTy0_1 (i : Nat) : BufTy := match i % 128 with
  | 0 => ⟨S_, .f32⟩
  | 1 => ⟨S512, .f32⟩
  | 2 => ⟨S2048x512, .f32⟩
  | 3 => ⟨S_, .f32⟩
  | 4 => ⟨S512, .f32⟩
  | 5 => ⟨S1x512, .f32⟩
  | 6 => ⟨S2048x512, .f32⟩
  | 7 => ⟨S2048x512, .f32⟩
  | 8 => ⟨S_, .f32⟩
  | 9 => ⟨S512, .f32⟩
  | 10 => ⟨S2048x4x128, .f32⟩
  | 11 => ⟨S2048x4x128, .f32⟩
  | 12 => ⟨S_, .f32⟩
  | 13 => ⟨S2048x4, .f32⟩
  | 14 => ⟨S2048x4x1, .f32⟩
  | 15 => ⟨S2048x4x128, .f32⟩
  | 16 => ⟨S2048x4x128, .f32⟩
  | 17 => ⟨S2048x4x1, .f32⟩
  | 18 => ⟨S2048x4x128, .f32⟩
  | 19 => ⟨S_, .f32⟩
  | 20 => ⟨S2048x4, .f32⟩
  | 21 => ⟨S2048x4x1, .f32⟩
  | 22 => ⟨S_, .f32⟩
  | 23 => ⟨S2048x4x1, .f32⟩
  | 24 => ⟨S2048x4x1, .f32⟩
  | 25 => ⟨S_, .f32⟩
  | 26 => ⟨S2048x4, .f32⟩
  | 27 => ⟨S2048x4x128, .f32⟩
  | 28 => ⟨S2048x4x128, .f32⟩
  | 29 => ⟨S2048x4x128, .f32⟩
  | 30 => ⟨S_, .f32⟩
  | 31 => ⟨S2048x4, .f32⟩
  | 32 => ⟨S2048x4x1, .f32⟩
  | 33 => ⟨S2048x4x128, .f32⟩
  | 34 => ⟨S2048x4x1, .f32⟩
  | 35 => ⟨S_, .f32⟩
  | 36 => ⟨S2048x4x1, .f32⟩
  | 37 => ⟨S2048x4x1, .f32⟩
  | 38 => ⟨S_, .f32⟩
  | 39 => ⟨S2048x4, .f32⟩
  | 40 => ⟨S2048x4x128, .f32⟩
  | 41 => ⟨S2048x4x128, .f32⟩
  | 42 => ⟨S2048x512, .f32⟩
  | 43 => ⟨S2048x1024, .f32⟩
  | 44 => ⟨S1x512, .f32⟩
  | 45 => ⟨S1x512, .f32⟩
  | 46 => ⟨S2048x1024, .f32⟩
  | 47 => ⟨S2048x1024, .f32⟩
  | 48 => ⟨S_, .f32⟩
  | 49 => ⟨S2048x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S2048x512, .f32⟩
  | 61 => ⟨S2048x512, .bf16⟩
  | 62 => ⟨S2048x512, .f32⟩
  | 63 => ⟨S2048x512, .bf16⟩
  | 64 => ⟨S128x4, .f32⟩
  | 65 => ⟨S_, .i32⟩
  | 66 => ⟨S_, .f32⟩
  | 67 => ⟨S128x128, .f32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c : Ref sig .tc := ⟨.hbm, 80, rfl⟩
abbrev main_v59 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_call1_v0 : Ref sig .tc := ⟨.hbm, 93, rfl⟩
abbrev main_v62_1 : Ref sig .tc := ⟨.hbm, 94, rfl⟩
abbrev main_call1_v2 : Ref sig .tc := ⟨.hbm, 95, rfl⟩
abbrev main_v62_0 : Ref sig .tc := ⟨.hbm, 96, rfl⟩
abbrev main_call1_cst : Ref sig .tc := ⟨.hbm, 97, rfl⟩
abbrev main_v62_2 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_cst_16 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call2_cst : Ref sig .tc := ⟨.hbm, 121, rfl⟩
abbrev main_call2_v0 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_22 : Ref sig .tc := ⟨.hbm, 147, rfl⟩
abbrev main_v102 : Ref sig .tc := ⟨.hbm, 148, rfl⟩
abbrev main_v103 : Ref sig .tc := ⟨.hbm, 149, rfl⟩
abbrev main_cst_23 : Ref sig .tc := ⟨.hbm, 150, rfl⟩
abbrev main_v104 : Ref sig .tc := ⟨.hbm, 151, rfl⟩
abbrev main_v105 : Ref sig .tc := ⟨.hbm, 152, rfl⟩
abbrev main_cst_24 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_25 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_26 : Ref sig .tc := ⟨.hbm, 163, rfl⟩
abbrev main_v114 : Ref sig .tc := ⟨.hbm, 164, rfl⟩
abbrev main_v115 : Ref sig .tc := ⟨.hbm, 165, rfl⟩
abbrev main_cst_27 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_28 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_29 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_c_30 : Ref sig .tc := ⟨.hbm, 193, rfl⟩
abbrev main_call3_v0 : Ref sig .tc := ⟨.hbm, 194, rfl⟩
abbrev main_v140 : Ref sig .tc := ⟨.hbm, 195, rfl⟩

abbrev nD : Nat := 1
abbrev τ : Topo := Topo.v7x

variable {F : FTy → Type} [FloatOps F]
-- ==== SsmParam.lean ====
abbrev S64x64 : Shape := ⟨2, ![64, 64]⟩
abbrev S64 : Shape := ⟨1, ![64]⟩
abbrev S64x64x16 : Shape := ⟨3, ![64, 64, 16]⟩
abbrev S1x64x1x64 : Shape := ⟨4, ![1, 64, 1, 64]⟩
abbrev S1x64x16x64 : Shape := ⟨4, ![1, 64, 16, 64]⟩
abbrev S64x1024 : Shape := ⟨2, ![64, 1024]⟩
abbrev S64x1 : Shape := ⟨2, ![64, 1]⟩
abbrev S64x16x64 : Shape := ⟨3, ![64, 16, 64]⟩
abbrev S_ : Shape := ⟨0, ![]⟩
abbrev S16x64x1x64 : Shape := ⟨4, ![16, 64, 1, 64]⟩
abbrev S1024x64 : Shape := ⟨2, ![1024, 64]⟩
abbrev S64x128 : Shape := ⟨2, ![64, 128]⟩

abbrev nBuf : Space → Nat
  | .hbm => 39
  | .vmem => 17
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S1x64x1x64, .f32⟩
  | .hbm, ⟨10, _⟩ => ⟨S1x64x16x64, .f32⟩
  | .hbm, ⟨11, _⟩ => ⟨S64x1024, .f32⟩
  | .hbm, ⟨12, _⟩ => ⟨S1x64x1x64, .f32⟩
  | .hbm, ⟨13, _⟩ => ⟨S1x64x16x64, .f32⟩
  | .hbm, ⟨14, _⟩ => ⟨S64x1024, .f32⟩
  | .hbm, ⟨15, _⟩ => ⟨S64x1, .f32⟩
  | .hbm, ⟨16, _⟩ => ⟨S64x16x64, .f32⟩
  | .hbm, ⟨17, _⟩ => ⟨S64x1024, .f32⟩
  | .hbm, ⟨18, _⟩ => ⟨S64x16x64, .f32⟩
  | .hbm, ⟨19, _⟩ => ⟨S64x1024, .f32⟩
  | .hbm, ⟨20, _⟩ => ⟨S64x64, .i32⟩
  | .hbm, ⟨21, _⟩ => ⟨S64x64, .i32⟩
  | .hbm, ⟨22, _⟩ => ⟨S_, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S64x64, .f32⟩
  | .hbm, ⟨27, _⟩ => ⟨S1x64x1x64, .f32⟩
  | .hbm, ⟨28, _⟩ => ⟨S16x64x1x64, .f32⟩
  | .hbm, ⟨29, _⟩ => ⟨S1024x64, .f32⟩
  | .hbm, ⟨30, _⟩ => ⟨S64x16x64, .f32⟩
  | .hbm, ⟨31, _⟩ => ⟨S64x1024, .f32⟩
  | .hbm, ⟨32, _⟩ => ⟨S64x16x64, .f32⟩
  | .hbm, ⟨33, _⟩ => ⟨S64x1024, .f32⟩
  | .hbm, ⟨34, _⟩ => ⟨S64x64, .f32⟩
  | .hbm, ⟨35, _⟩ => ⟨S64x64, .f32⟩
  | .hbm, ⟨36, _⟩ => ⟨S64x128, .f32⟩
  | .hbm, ⟨37, _⟩ => ⟨S64x1024, .f32⟩
  | .hbm, ⟨38, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1024, .f32⟩
  | .local _ .vmem, ⟨3, _⟩ => ⟨S64x1024, .f32⟩
  | .local _ .vmem, ⟨4, _⟩ => ⟨S64x64, .f32⟩
  | .local _ .vmem, ⟨5, _⟩ => ⟨S64x64, .f32⟩
  | .local _ .vmem, ⟨6, _⟩ => ⟨S64x1024, .f32⟩
  | .local _ .vmem, ⟨7, _⟩ => ⟨S64x1024, .f32⟩
  | .local _ .vmem, ⟨8, _⟩ => ⟨S64x1, .f32⟩
  | .local _ .vmem, ⟨9, _⟩ => ⟨S64x1024, .f32⟩
  | .local _ .vmem, ⟨10, _⟩ => ⟨S64x1024, .f32⟩
  | .local _ .vmem, ⟨11, _⟩ => ⟨S1024x64, .f32⟩
  | .local _ .vmem, ⟨12, _⟩ => ⟨S64x64, .f32⟩
  | .local _ .vmem, ⟨13, _⟩ => ⟨S64x64, .f32⟩
  | .local _ .vmem, ⟨14, _⟩ => ⟨S64x128, .f32⟩
  | .local _ .vmem, ⟨15, _⟩ => ⟨S64x1024, .f32⟩
  | .local _ .vmem, ⟨16, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SsmParamRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x128 : Shape := ⟨2, ![64, 128]⟩
abbrev S64x16x64 : Shape := ⟨3, ![64, 16, 64]⟩
abbrev S64x1024 : Shape := ⟨2, ![64, 1024]⟩

abbrev nBuf : Space → Nat
  | .hbm => 172
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S_, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S_, .f32⟩
  | 42 => ⟨S64x64, .f32⟩
  | 43 => ⟨S64x64, .f32⟩
  | 44 => ⟨S64x64x1, .f32⟩
  | 45 => ⟨S64x64, .f32⟩
  | 46 => ⟨S_, .f32⟩
  | 47 => ⟨S64x64, .f32⟩
  | 48 => ⟨S64x64, .f32⟩
  | 49 => ⟨S64x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .f32⟩
  | 56 => ⟨S64x64x1, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S64x64x16, .f32⟩
  | 66 => ⟨S64x64x16, .f32⟩
  | 67 => ⟨S64x64x16, .f32⟩
  | 68 => ⟨S64x64x16, .f32⟩
  | 69 => ⟨S64x64x16, .f32⟩
  | 70 => ⟨S64x64x16, .f32⟩
  | 71 => ⟨S64x64x16, .f32⟩
  | 72 => ⟨S_, .f32⟩
  | 73 => ⟨S64x64, .f32⟩
  | 74 => ⟨S64x64x1, .f32⟩
  | 75 => ⟨S64x64x16, .f32⟩
  | 76 => ⟨S64x64x16, .f32⟩
  | 77 => ⟨S64x64x16, .f32⟩
  | 78 => ⟨S_, .f32⟩
  | 79 => ⟨S64x64, .f32⟩
  | 80 => ⟨S64x64x1, .f32⟩
  | 81 => ⟨S64x64x16, .f32⟩
  | 82 => ⟨S64x64x16, .f32⟩
  | 83 => ⟨S64x64x16, .f32⟩
  | 84 => ⟨S64x64x16, .f32⟩
  | 85 => ⟨S64x64x16, .f32⟩
  | 86 => ⟨S64x64x16, .f32⟩
  | 87 => ⟨S_, .f32⟩
  | 88 => ⟨S64x64, .f32⟩
  | 89 => ⟨S64x64x1, .f32⟩
  | 90 => ⟨S64x64x1, .f32⟩
  | 91 => ⟨S64x64x16, .f32⟩
  | 92 => ⟨S64x64x16, .f32⟩
  | 93 => ⟨S64x64x16, .f32⟩
  | 94 => ⟨S64x64x16, .f32⟩
  | 95 => ⟨S_, .f32⟩
  | 96 => ⟨S64x64, .f32⟩
  | 97 => ⟨S64x64x1, .f32⟩
  | 98 => ⟨S64x64x1, .f32⟩
  | 99 => ⟨S_, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S_, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S_, .f32⟩
  | 8 => ⟨S64, .f32⟩
  | 9 => ⟨S64x1, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S_, .f32⟩
  | 20 => ⟨S64, .f32⟩
  | 21 => ⟨S64x1, .f32⟩
  | 22 => ⟨S64x1, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64, .f32⟩
  | 30 => ⟨S64x1, .f32⟩
  | 31 => ⟨S64x1, .f32⟩
  | 32 => ⟨S64x64, .f32⟩
  | 33 => ⟨S64x64, .f32⟩
  | 34 => ⟨S64x64, .f32⟩
  | 35 => ⟨S_, .f32⟩
  | 36 => ⟨S64, .f32⟩
  | 37 => ⟨S64, .f32⟩
  | 38 => ⟨S64x1, .f32⟩
  | 39 => ⟨S64x128, .f32⟩
  | 40 => ⟨S64x16x64, .f32⟩
  | 41 => ⟨S64x1024, .f32⟩
  | 42 => ⟨S64x16x64, .f32⟩
  | 43 => ⟨S64x1024, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_8 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_9 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_10 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_11 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_12 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_cst_13 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_cst_14 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩

abbrev nD : Nat := 1
abbrev τ : Topo := Topo.v7x

variable {F : FTy → Type} [FloatOps F]
-- ==== SsmPrep.lean ====
abbrev S64x64 : Shape := ⟨2, ![64, 64]⟩
abbrev S64 : Shape := ⟨1, ![64]⟩
abbrev S64x64x16 : Shape := ⟨3, ![64, 64, 16]⟩
abbrev S1x64x1x64 : Shape := ⟨4, ![1, 64, 1, 64]⟩
abbrev S1x64x16x64 : Shape := ⟨4, ![1, 64, 16, 64]⟩
abbrev S64x1024 : Shape := ⟨2, ![64, 1024]⟩
abbrev S64x1 : Shape := ⟨2, ![64, 1]⟩
abbrev S64x16x64 : Shape := ⟨3, ![64, 16, 64]⟩

abbrev nBuf : Space → Nat
  | .hbm => 20
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S1x64x1x64, .f32⟩
  | .hbm, ⟨6, _⟩ => ⟨S1x64x16x64, .f32⟩
  | .hbm, ⟨7, _⟩ => ⟨S64x1024, .f32⟩
  | .hbm, ⟨8, _⟩ => ⟨S1x64x1x64, .f32⟩
  | .hbm, ⟨9, _⟩ => ⟨S1x64x16x64, .f32⟩
  | .hbm, ⟨10, _⟩ => ⟨S64x1024, .f32⟩
  | .hbm, ⟨11, _⟩ => ⟨S64x1, .f32⟩
  | .hbm, ⟨12, _⟩ => ⟨S64x16x64, .f32⟩
  | .hbm, ⟨13, _⟩ => ⟨S64x1024, .f32⟩
  | .hbm, ⟨14, _⟩ => ⟨S64x16x64, .f32⟩
  | .hbm, ⟨15, _⟩ => ⟨S64x1024, .f32⟩
  | .hbm, ⟨16, _⟩ => ⟨S64x64, .f32⟩
  | .hbm, ⟨17, _⟩ => ⟨S64x64, .f32⟩
  | .hbm, ⟨18, _⟩ => ⟨S64x1024, .f32⟩
  | .hbm, ⟨19, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1024, .f32⟩
  | .local _ .vmem, ⟨3, _⟩ => ⟨S64x1024, .f32⟩
  | .local _ .vmem, ⟨4, _⟩ => ⟨S64x1, .f32⟩
  | .local _ .vmem, ⟨5, _⟩ => ⟨S64x1024, .f32⟩
  | .local _ .vmem, ⟨6, _⟩ => ⟨S64x1024, .f32⟩
  | .local _ .vmem, ⟨7, _⟩ => ⟨S64x64, .f32⟩
  | .local _ .vmem, ⟨8, _⟩ => ⟨S64x64, .f32⟩
  | .local _ .vmem, ⟨9, _⟩ => ⟨S64x1024, .f32⟩
  | .local _ .vmem, ⟨10, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SsmPrepRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x16x64 : Shape := ⟨3, ![64, 16, 64]⟩
abbrev S64x1024 : Shape := ⟨2, ![64, 1024]⟩

abbrev nBuf : Space → Nat
  | .hbm => 51
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64x1, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64x64x16, .f32⟩
  | .hbm, ⟨47, _⟩ => ⟨S64x16x64, .f32⟩
  | .hbm, ⟨48, _⟩ => ⟨S64x1024, .f32⟩
  | .hbm, ⟨49, _⟩ => ⟨S64x16x64, .f32⟩
  | .hbm, ⟨50, _⟩ => ⟨S64x1024, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== SsmScan.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S8x8 : Shape := ⟨2, ![8, 8]⟩
abbrev S_ : Shape := ⟨0, ![]⟩
abbrev S1x8x1x8x1 : Shape := ⟨5, ![1, 8, 1, 8, 1]⟩
abbrev S8x8x16x64 : Shape := ⟨4, ![8, 8, 16, 64]⟩
abbrev S8x8x16x1x64 : Shape := ⟨5, ![8, 8, 16, 1, 64]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S1x4096 : Shape := ⟨2, ![1, 4096]⟩
abbrev S2048x4096 : Shape := ⟨2, ![2048, 4096]⟩
abbrev S2048x128 : Shape := ⟨2, ![2048, 128]⟩
abbrev S1x128x1024 : Shape := ⟨3, ![1, 128, 1024]⟩
abbrev S1x512 : Shape := ⟨2, ![1, 512]⟩
abbrev S2048x512 : Shape := ⟨2, ![2048, 512]⟩
abbrev S1024x512 : Shape := ⟨2, ![1024, 512]⟩
abbrev S8x512 : Shape := ⟨2, ![8, 512]⟩
abbrev S1024x128 : Shape := ⟨2, ![1024, 128]⟩
abbrev S128x1024 : Shape := ⟨2, ![128, 1024]⟩
abbrev S1024x1024 : Shape := ⟨2, ![1024, 1024]⟩
abbrev S128x512 : Shape := ⟨2, ![128, 512]⟩

abbrev nBuf : Space → Nat
  | .hbm => 59
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x16x64, .f32⟩
  | .hbm, ⟨8, _⟩ => ⟨S64x16x64, .f32⟩
  | .hbm, ⟨9, _⟩ => ⟨S8x8, .i32⟩
  | .hbm, ⟨10, _⟩ => ⟨S8x8, .i32⟩
  | .hbm, ⟨11, _⟩ => ⟨S_, .i32⟩
  | .hbm, ⟨12, _⟩ => ⟨S8x8, .i32⟩
  | .hbm, ⟨13, _⟩ => ⟨S8x8, .i32⟩
  | .hbm, ⟨14, _⟩ => ⟨S8x8, .i1⟩
  | .hbm, ⟨15, _⟩ => ⟨S8x8, .f32⟩
  | .hbm, ⟨16, _⟩ => ⟨S1x8x1x8x1, .f32⟩
  | .hbm, ⟨17, _⟩ => ⟨S8x8x16x64, .f32⟩
  | .hbm, ⟨18, _⟩ => ⟨S8x8x16x1x64, .f32⟩
  | .hbm, ⟨19, _⟩ => ⟨S8x8x16x8x64, .f32⟩
  | .hbm, ⟨20, _⟩ => ⟨S8x8x16x8x64, .f32⟩
  | .hbm, ⟨21, _⟩ => ⟨S8x8x16x8x64, .f32⟩
  | .hbm, ⟨22, _⟩ => ⟨S8x128x512, .f32⟩
  | .hbm, ⟨23, _⟩ => ⟨S8x8x16x64, .f32⟩
  | .hbm, ⟨24, _⟩ => ⟨S8x8x16x1x64, .f32⟩
  | .hbm, ⟨25, _⟩ => ⟨S8x8x16x8x64, .f32⟩
  | .hbm, ⟨26, _⟩ => ⟨S8x8x16x8x64, .f32⟩
  | .hbm, ⟨27, _⟩ => ⟨S8x8x16x8x64, .f32⟩
  | .hbm, ⟨28, _⟩ => ⟨S8x128x512, .f32⟩
  | .hbm, ⟨29, _⟩ => ⟨S8x128x1024, .f32⟩
  | .hbm, ⟨30, _⟩ => ⟨S8x128x1024, .bf16⟩
  | .hbm, ⟨31, _⟩ => ⟨S64x16x64, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S1x8x1x8x1, .f32⟩
  | .hbm, ⟨40, _⟩ => ⟨S8x8x16x64, .f32⟩
  | .hbm, ⟨41, _⟩ => ⟨S8x8x16x1x64, .f32⟩
  | .hbm, ⟨42, _⟩ => ⟨S8x8x16x8x64, .f32⟩
  | .hbm, ⟨43, _⟩ => ⟨S8x8x16x8x64, .f32⟩
  | .hbm, ⟨44, _⟩ => ⟨S8x8x16x8x64, .f32⟩
  | .hbm, ⟨45, _⟩ => ⟨S8x128x512, .f32⟩
  | .hbm, ⟨46, _⟩ => ⟨S8x8x16x64, .f32⟩
  | .hbm, ⟨47, _⟩ => ⟨S8x8x16x1x64, .f32⟩
  | .hbm, ⟨48, _⟩ => ⟨S8x8x16x8x64, .f32⟩
  | .hbm, ⟨49, _⟩ => ⟨S8x8x16x8x64, .f32⟩
  | .hbm, ⟨50, _⟩ => ⟨S8x8x16x8x64, .f32⟩
  | .hbm, ⟨51, _⟩ => ⟨S8x128x512, .f32⟩
  | .hbm, ⟨52, _⟩ => ⟨S8x128x1024, .f32⟩
  | .hbm, ⟨53, _⟩ => ⟨S8x128x1024, .bf16⟩
  | .hbm, ⟨54, _⟩ => ⟨S1x4096, .f32⟩
  | .hbm, ⟨55, _⟩ => ⟨S1x4096, .f32⟩
  | .hbm, ⟨56, _⟩ => ⟨S2048x4096, .f32⟩
  | .hbm, ⟨57, _⟩ => ⟨S2048x4096, .f32⟩
  | .hbm, ⟨58, _⟩ => ⟨S2048x1024, .f32⟩
  | .local _ .vmem, ⟨0, _⟩ => ⟨S2048x128, .f32⟩
  | .local _ .vmem, ⟨1, _⟩ => ⟨S2048x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x128x1024, .bf16⟩
  | .local _ .vmem, ⟨9, _⟩ => ⟨S1x128x1024, .bf16⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x128, .f32⟩
  | .local _ .vmem, ⟨15, _⟩ => ⟨S2048x128, .f32⟩
  | .local _ .vmem, ⟨16, _⟩ => ⟨S1024x512, .f32⟩
  | .local _ .vmem, ⟨17, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47_0 : Ref sig .tc := ⟨.hbm, 56, rfl⟩
abbrev main_v47_1 : Ref sig .tc := ⟨.hbm, 57, rfl⟩
abbrev main_v47_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c2_i32_23 : BitVec 32 := 2#32
  let v162 : BitVec 32 := Scalar.addi c0_i32 c2_i32_23
  let c1_i32_24 : BitVec 32 := 1#32
  ⟨c0_i32, v162, c1_i32_24⟩
def k0_mult1 (k0_t1 : Fin k0_t1_loop.trips) : BitVec 32 :=
  let c0_i32 : BitVec 32 := 0#32
  let c1_i32_24 : BitVec 32 := 1#32
  let arg11 : BitVec 32 := Scf.iv c0_i32 c1_i32_24 k0_t1
  let c1024_i32 : BitVec 32 := 1024#32
  let v164 : BitVec 32 := Scalar.muli arg11 c1024_i32
  v164
def k0_off1 (k0_t1 : Fin k0_t1_loop.trips) : Fin 2 → Nat :=
  let c0_i32 : BitVec 32 := 0#32
  let c1_i32_24 : BitVec 32 := 1#32
  let arg11 : BitVec 32 := Scf.iv c0_i32 c1_i32_24 k0_t1
  let c1024_i32 : BitVec 32 := 1024#32
  let v164 : BitVec 32 := Scalar.muli arg11 c1024_i32
  let v165 : BitVec 32 := v164
  let v166 : Index := Scalar.indexCast v165
  let c0_26 : Index := 0#32
  ![v166.toNat, 0]
@[reducible] def k0_t2_loop : Scf.Loop 32 :=
  let c0_i32_35 : BitVec 32 := 0#32
  let c128_i32 : BitVec 32 := 128#32
  let v180 : BitVec 32 := Scalar.addi c0_i32_35 c128_i32
  let c1_i32_36 : BitVec 32 := 1#32
  ⟨c0_i32_35, v180, c1_i32_36⟩
def k0_mult2 (k0_t2 : Fin k0_t2_loop.trips) : BitVec 32 :=
  let c0_i32_35 : BitVec 32 := 0#32
  let c1_i32_36 : BitVec 32 := 1#32
  let arg14 : BitVec 32 := Scf.iv c0_i32_35 c1_i32_36 k0_t2
  let c8_i32_46 : BitVec 32 := 8#32
  let v199 : BitVec 32 := Scalar.muli arg14 c8_i32_46
  v199
def k0_off2 (k0_t2 : Fin k0_t2_loop.trips) : Fin 2 → Nat :=
  let c0_i32_35 : BitVec 32 := 0#32
  let c1_i32_36 : BitVec 32 := 1#32
  let arg14 : BitVec 32 := Scf.iv c0_i32_35 c1_i32_36 k0_t2
  let c8_i32_46 : BitVec 32 := 8#32
  let v199 : BitVec 32 := Scalar.muli arg14 c8_i32_46
  let v200 : BitVec 32 := v199
  let v201 : Index := Scalar.indexCast v200
  let c0_47 : Index := 0#32
  ![v201.toNat, 0]
def k0_mult3 (k0_t1 : Fin k0_t1_loop.trips) (k0_t2 : Fin k0_t2_loop.trips) : BitVec 32 :=
  let c0_i32 : BitVec 32 := 0#32
  let c1_i32_24 : BitVec 32 := 1#32
  let arg11 : BitVec 32 := Scf.iv c0_i32 c1_i32_24 k0_t1
  let c1024_i32 : BitVec 32 := 1024#32
  let v164 : BitVec 32 := Scalar.muli arg11 c1024_i32
  let v165 : BitVec 32 := v164
  let c0_i32_35 : BitVec 32 := 0#32
  let c1_i32_36 : BitVec 32 := 1#32
  let arg14 : BitVec 32 := Scf.iv c0_i32_35 c1_i32_36 k0_t2
  let c8_i32_46 : BitVec 32 := 8#32
  let v199 : BitVec 32 := Scalar.muli arg14 c8_i32_46
  let v200 : BitVec 32 := v199
  let v247 : BitVec 32 := Scalar.addi v165 v200
  v247
def k0_off3 (k0_t1 : Fin k0_t1_loop.trips) (k0_t2 : Fin k0_t2_loop.trips) : Fin 2 → Nat :=
  let c0_i32 : BitVec 32 := 0#32
  let c1_i32_24 : BitVec 32 := 1#32
  let arg11 : BitVec 32 := Scf.iv c0_i32 c1_i32_24 k0_t1
  let c1024_i32 : BitVec 32 := 1024#32
  let v164 : BitVec 32 := Scalar.muli arg11 c1024_i32
  let v165 : BitVec 32 := v164
  let c0_i32_35 : BitVec 32 := 0#32
  let c1_i32_36 : BitVec 32 := 1#32
  let arg14 : BitVec 32 := Scf.iv c0_i32_35 c1_i32_36 k0_t2
  let c8_i32_46 : BitVec 32 := 8#32
  let v199 : BitVec 32 := Scalar.muli arg14 c8_i32_46
  let v200 : BitVec 32 := v199
  let v247 : BitVec 32 := Scalar.addi v165 v200
  let v248 : BitVec 32 := v247
  let v249 : Index := Scalar.indexCast v248
  let c0_55 : Index := 0#32
  ![v249.toNat, 0]
def k0_off4 (k0_t1 : Fin k0_t1_loop.trips) : Fin 2 → Nat :=
  let c0_i32 : BitVec 32 := 0#32
  let c1_i32_24 : BitVec 32 := 1#32
  let arg11 : BitVec 32 := Scf.iv c0_i32 c1_i32_24 k0_t1
  let c1024_i32 : BitVec 32 := 1024#32
  let v164 : BitVec 32 := Scalar.muli arg11 c1024_i32
  let v165 : BitVec 32 := v164
  let v184 : Index := Scalar.indexCast v165
  let c0_41 : Index := 0#32
  ![v184.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SsmScanRefIdeal.lean ====
abbrev S2048x1024 : Shape := ⟨2, ![2048, 1024]⟩
abbrev S64x64 : Shape := ⟨2, ![64, 64]⟩
abbrev S64x64x16 : Shape := ⟨3, ![64, 64, 16]⟩
abbrev S64x16x64 : Shape := ⟨3, ![64, 16, 64]⟩
abbrev S2048x64x16 : Shape := ⟨3, ![2048, 64, 16]⟩
abbrev S64x2048x64 : Shape := ⟨3, ![64, 2048, 64]⟩
abbrev S2048x64x64 : Shape := ⟨3, ![2048, 64, 64]⟩
abbrev S_ : Shape := ⟨0, ![]⟩
abbrev S1x64x64 : Shape := ⟨3, ![1, 64, 64]⟩
abbrev S64x2048x16 : Shape := ⟨3, ![64, 2048, 16]⟩
abbrev S2048x4096 : Shape := ⟨2, ![2048, 4096]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x64, .f32⟩
  | .hbm, ⟨2, _⟩ => ⟨S64x64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S2048x64x16, .f32⟩
  | .hbm, ⟨8, _⟩ => ⟨S64x2048x64, .f32⟩
  | .hbm, ⟨9, _⟩ => ⟨S2048x64x64, .f32⟩
  | .hbm, ⟨10, _⟩ => ⟨S64x2048x64, .f32⟩
  | .hbm, ⟨11, _⟩ => ⟨S2048x64x64, .f32⟩
  | .hbm, ⟨12, _⟩ => ⟨S_, .f32⟩
  | .hbm, ⟨13, _⟩ => ⟨S64x64, .f32⟩
  | .hbm, ⟨14, _⟩ => ⟨S_, .f32⟩
  | .hbm, ⟨15, _⟩ => ⟨S2048x64x64, .f32⟩
  | .hbm, ⟨16, _⟩ => ⟨S_, .f32⟩
  | .hbm, ⟨17, _⟩ => ⟨S2048x64x64, .f32⟩
  | .hbm, ⟨18, _⟩ => ⟨S_, .i32⟩
  | .hbm, ⟨19, _⟩ => ⟨S2048x64x64, .f32⟩
  | .hbm, ⟨20, _⟩ => ⟨S2048x64x64, .f32⟩
  | .hbm, ⟨21, _⟩ => ⟨S64x64, .f32⟩
  | .hbm, ⟨22, _⟩ => ⟨S64x64, .f32⟩
  | .hbm, ⟨23, _⟩ => ⟨S_, .i32⟩
  | .hbm, ⟨24, _⟩ => ⟨S64x64, .f32⟩
  | .hbm, ⟨25, _⟩ => ⟨S64x64, .f32⟩
  | .hbm, ⟨26, _⟩ => ⟨S2048x64x64, .f32⟩
  | .hbm, ⟨27, _⟩ => ⟨S2048x64x64, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1x64x64, .f32⟩
  | .hbm, ⟨33, _⟩ => ⟨S64x64, .f32⟩
  | .hbm, ⟨34, _⟩ => ⟨S_, .i32⟩
  | .hbm, ⟨35, _⟩ => ⟨S_, .i32⟩
  | .hbm, ⟨36, _⟩ => ⟨S1x64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S1x64x64, .f32⟩
  | .hbm, ⟨47, _⟩ => ⟨S_, .i32⟩
  | .hbm, ⟨48, _⟩ => ⟨S_, .i32⟩
  | .hbm, ⟨49, _⟩ => ⟨S2048x64x64, .f32⟩
  | .hbm, ⟨50, _⟩ => ⟨S1x64x64, .f32⟩
  | .hbm, ⟨51, _⟩ => ⟨S_, .i32⟩
  | .hbm, ⟨52, _⟩ => ⟨S_, .i32⟩
  | .hbm, ⟨53, _⟩ => ⟨S2048x64x64, .f32⟩
  | .hbm, ⟨54, _⟩ => ⟨S_, .i32⟩
  | .hbm, ⟨55, _⟩ => ⟨S_, .i32⟩
  | .hbm, ⟨56, _⟩ => ⟨S64x2048x16, .f32⟩
  | .hbm, ⟨57, _⟩ => ⟨S2048x64x16, .f32⟩
  | .hbm, ⟨58, _⟩ => ⟨S64x2048x16, .f32⟩
  | .hbm, ⟨59, _⟩ => ⟨S2048x64x16, .f32⟩
  | .hbm, ⟨60, _⟩ => ⟨S2048x64x16, .f32⟩
  | .hbm, ⟨61, _⟩ => ⟨S2048x1024, .f32⟩
  | .hbm, ⟨62, _⟩ => ⟨S2048x4096, .f32⟩
  | .hbm, ⟨63, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_c : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev main_while0c_c_10 : Ref sig .tc := ⟨.hbm, 28, rfl⟩
abbrev main_while0c_v17 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v17 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v18 : Ref sig .tc := ⟨.hbm, 37, rfl⟩
abbrev main_while0b_v19 : Ref sig .tc := ⟨.hbm, 38, rfl⟩
abbrev main_while0b_v20 : Ref sig .tc := ⟨.hbm, 39, rfl⟩
abbrev main_while0b_v21 : Ref sig .tc := ⟨.hbm, 40, rfl⟩
abbrev main_while0b_v22 : Ref sig .tc := ⟨.hbm, 41, rfl⟩
abbrev main_while0b_v23 : Ref sig .tc := ⟨.hbm, 42, rfl⟩
abbrev main_while0b_v24 : Ref sig .tc := ⟨.hbm, 43, rfl⟩
abbrev main_while0b_v25 : Ref sig .tc := ⟨.hbm, 44, rfl⟩
abbrev main_while0b_v26 : Ref sig .tc := ⟨.hbm, 45, rfl⟩
abbrev main_while0b_call2_v0 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_v27 : Ref sig .tc := ⟨.hbm, 49, rfl⟩
abbrev main_while0b_call3_v0 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_v28 : Ref sig .tc := ⟨.hbm, 53, rfl⟩
abbrev main_while0b_c_10 : Ref sig .tc := ⟨.hbm, 54, rfl⟩
abbrev main_while0b_v29 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩

abbrev nD : Nat := 1
abbrev τ : Topo := Topo.v7x

variable {F : FTy → Type} [FloatOps F]

abbrev main_while0_count : Scf.Loop 32 := ⟨0#32, 2048#32, 1#32⟩
-- ==== SguFwd.lean ====
abbrev S2048x1536 : Shape := ⟨2, ![2048, 1536]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S_ : Shape := ⟨0, ![]⟩
abbrev S128x128 : Shape := ⟨2, ![128, 128]⟩
abbrev S2048x512 : Shape := ⟨2, ![2048, 512]⟩
abbrev S128x512 : Shape := ⟨2, ![128, 512]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S2048x1536, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S2048x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x128, .f32⟩
  | .local _ .vmem, ⟨8, _⟩ => ⟨S128x512, .bf16⟩
  | .local _ .vmem, ⟨9, _⟩ => ⟨S128x512, .bf16⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdIdeal.lean ====
variable {F : FTy → Type} [FloatOps F] [Named F]
def κ : String → Option EReal := fun
  | "gelu_cubic" => some ((8943 / 200000 : ℝ) : EReal)
  | _ => none
-- ==== SguFwdRefIdeal.lean ====
abbrev S2048x1536 : Shape := ⟨2, ![2048, 1536]⟩
abbrev S1x512 : Shape := ⟨2, ![1, 512]⟩
abbrev S4x128x128 : Shape := ⟨3, ![4, 128, 128]⟩
abbrev S4x128 : Shape := ⟨2, ![4, 128]⟩
abbrev S2048x1024 : Shape := ⟨2, ![2048, 1024]⟩
abbrev S_ : Shape := ⟨0, ![]⟩
abbrev S512 : Shape := ⟨1, ![512]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩
abbrev S16x128x4x128 : Shape := ⟨4, ![16, 128, 4, 128]⟩
abbrev S128x128 : Shape := ⟨2, ![128, 128]⟩
abbrev S1x128x128 : Shape := ⟨3, ![1, 128, 128]⟩
abbrev S4x16x128x128 : Shape := ⟨4, ![4, 16, 128, 128]⟩
abbrev S128x4 : Shape := ⟨2, ![128, 4]⟩
abbrev S1x128x4x1 : Shape := ⟨4, ![1, 128, 4, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S4x128, .f32⟩
  | .hbm, ⟨5, _⟩ => ⟨S2048x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S512, .f32⟩
  | .hbm, ⟨26, _⟩ => ⟨S512, .f32⟩
  | .hbm, ⟨27, _⟩ => ⟨S2048x512, .f32⟩
  | .hbm, ⟨28, _⟩ => ⟨S2048x512, .f32⟩
  | .hbm, ⟨29, _⟩ => ⟨S2048x4x128, .f32⟩
  | .hbm, ⟨30, _⟩ => ⟨S_, .f32⟩
  | .hbm, ⟨31, _⟩ => ⟨S2048x4, .f32⟩
  | .hbm, ⟨32, _⟩ => ⟨S2048x4x1, .f32⟩
  | .hbm, ⟨33, _⟩ => ⟨S_, .f32⟩
  | .hbm, ⟨34, _⟩ => ⟨S2048x4x1, .f32⟩
  | .hbm, ⟨35, _⟩ => ⟨S2048x4x1, .f32⟩
  | .hbm, ⟨36, _⟩ => ⟨S2048x4x128, .f32⟩
  | .hbm, ⟨37, _⟩ => ⟨S2048x4x128, .f32⟩
  | .hbm, ⟨38, _⟩ => ⟨S2048x4x128, .f32⟩
  | .hbm, ⟨39, _⟩ => ⟨S_, .f32⟩
  | .hbm, ⟨40, _⟩ => ⟨S2048x4, .f32⟩
  | .hbm, ⟨41, _⟩ => ⟨S2048x4x1, .f32⟩
  | .hbm, ⟨42, _⟩ => ⟨S_, .f32⟩
  | .hbm, ⟨43, _⟩ => ⟨S2048x4x1, .f32⟩
  | .hbm, ⟨44, _⟩ => ⟨S2048x4x1, .f32⟩
  | .hbm, ⟨45, _⟩ => ⟨S2048x4x128, .f32⟩
  | .hbm, ⟨46, _⟩ => ⟨S2048x4x128, .f32⟩
  | .hbm, ⟨47, _⟩ => ⟨S_, .f32⟩
  | .hbm, ⟨48, _⟩ => ⟨S2048x4x1, .f32⟩
  | .hbm, ⟨49, _⟩ => ⟨S2048x4x1, .f32⟩
  | .hbm, ⟨50, _⟩ => ⟨S2048x4x1, .f32⟩
  | .hbm, ⟨51, _⟩ => ⟨S2048x4x128, .f32⟩
  | .hbm, ⟨52, _⟩ => ⟨S2048x4x128, .f32⟩
  | .hbm, ⟨53, _⟩ => ⟨S2048x512, .f32⟩
  | .hbm, ⟨54, _⟩ => ⟨S1x512, .f32⟩
  | .hbm, ⟨55, _⟩ => ⟨S2048x512, .f32⟩
  | .hbm, ⟨56, _⟩ => ⟨S2048x512, .f32⟩
  | .hbm, ⟨57, _⟩ => ⟨S1x512, .f32⟩
  | .hbm, ⟨58, _⟩ => ⟨S2048x512, .f32⟩
  | .hbm, ⟨59, _⟩ => ⟨S2048x512, .f32⟩
  | .hbm, ⟨60, _⟩ => ⟨S16x128x4x128, .f32⟩
  | .hbm, ⟨61, _⟩ => ⟨S_, .i1⟩
  | .hbm, ⟨62, _⟩ => ⟨S128x128, .i1⟩
  | .hbm, ⟨63, _⟩ => ⟨S128x128, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S_, .i1⟩
  | .hbm, ⟨70, _⟩ => ⟨S128x128, .i1⟩
  | .hbm, ⟨71, _⟩ => ⟨S128x128, .i1⟩
  | .hbm, ⟨72, _⟩ => ⟨S1x128x128, .i1⟩
  | .hbm, ⟨73, _⟩ => ⟨S_, .f32⟩
  | .hbm, ⟨74, _⟩ => ⟨S_, .f32⟩
  | .hbm, ⟨75, _⟩ => ⟨S4x128x128, .i1⟩
  | .hbm, ⟨76, _⟩ => ⟨S4x128x128, .f32⟩
  | .hbm, ⟨77, _⟩ => ⟨S4x128x128, .f32⟩
  | .hbm, ⟨78, _⟩ => ⟨S4x16x128x128, .f32⟩
  | .hbm, ⟨79, _⟩ => ⟨S16x128x4x128, .f32⟩
  | .hbm, ⟨80, _⟩ => ⟨S128x4, .f32⟩
  | .hbm, ⟨81, _⟩ => ⟨S1x128x4x1, .f32⟩
  | .hbm, ⟨82, _⟩ => ⟨S16x128x4x128, .f32⟩
  | .hbm, ⟨83, _⟩ => ⟨S16x128x4x128, .f32⟩
  | .hbm, ⟨84, _⟩ => ⟨S2048x512, .f32⟩
  | .hbm, ⟨85, _⟩ => ⟨S2048x512, .f32⟩
  | .hbm, ⟨86, _⟩ => ⟨S2048x512, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c : Ref sig .tc := ⟨.hbm, 61, rfl⟩
abbrev main_v46 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_0 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== SsmActFwd.lean ====
abbrev S2048x1024 : Shape := ⟨2, ![2048, 1024]⟩
abbrev S1x1024 : Shape := ⟨2, ![1, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SsmActFwdIdeal.lean ====
variable {F : FTy → Type} [FloatOps F] [Named F]
def κ : String → Option EReal := fun
  | "gelu_cubic" => some ((8943 / 200000 : ℝ) : EReal)
  | _ => none
-- ==== SsmActFwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== GluFwd.lean ====
abbrev S2048x2048 : Shape := ⟨2, ![2048, 2048]⟩
abbrev S2048x1024 : Shape := ⟨2, ![2048, 1024]⟩
abbrev S512x1024 : Shape := ⟨2, ![512, 1024]⟩

abbrev nBuf : Space → Nat
  | .hbm => 2
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluFwdRefIdeal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PrenormFwd.lean ====
abbrev S2048x1024 : Shape := ⟨2, ![2048, 1024]⟩
abbrev S2x3x1024 : Shape := ⟨3, ![2, 3, 1024]⟩
abbrev S6x3x1024 : Shape := ⟨3, ![6, 3, 1024]⟩
abbrev S6x1024 : Shape := ⟨2, ![6, 1024]⟩
abbrev S6x1x1024 : Shape := ⟨3, ![6, 1, 1024]⟩
abbrev S_ : Shape := ⟨0, ![]⟩
abbrev S6x8x1024 : Shape := ⟨3, ![6, 8, 1024]⟩
abbrev S8x128 : Shape := ⟨2, ![8, 128]⟩
abbrev S512x1024 : Shape := ⟨2, ![512, 1024]⟩
abbrev S1x8x1024 : Shape := ⟨3, ![1, 8, 1024]⟩
abbrev S8x1024 : Shape := ⟨2, ![8, 1024]⟩
abbrev S512 : Shape := ⟨1, ![512]⟩
abbrev S512x1 : Shape := ⟨2, ![512, 1]⟩
abbrev S1x1024 : Shape := ⟨2, ![1, 1024]⟩

abbrev nBuf : Space → Nat
  | .hbm => 26
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2x3x1024, .f32⟩
  | .hbm, ⟨2, _⟩ => ⟨S2x3x1024, .f32⟩
  | .hbm, ⟨3, _⟩ => ⟨S6x3x1024, .f32⟩
  | .hbm, ⟨4, _⟩ => ⟨S6x1024, .f32⟩
  | .hbm, ⟨5, _⟩ => ⟨S6x1x1024, .f32⟩
  | .hbm, ⟨6, _⟩ => ⟨S6x1024, .f32⟩
  | .hbm, ⟨7, _⟩ => ⟨S6x1x1024, .f32⟩
  | .hbm, ⟨8, _⟩ => ⟨S6x1024, .f32⟩
  | .hbm, ⟨9, _⟩ => ⟨S6x1024, .f32⟩
  | .hbm, ⟨10, _⟩ => ⟨S6x1x1024, .f32⟩
  | .hbm, ⟨11, _⟩ => ⟨S6x1024, .f32⟩
  | .hbm, ⟨12, _⟩ => ⟨S_, .f32⟩
  | .hbm, ⟨13, _⟩ => ⟨S6x1024, .f32⟩
  | .hbm, ⟨14, _⟩ => ⟨S6x1x1024, .f32⟩
  | .hbm, ⟨15, _⟩ => ⟨S6x1x1024, .f32⟩
  | .hbm, ⟨16, _⟩ => ⟨S6x1x1024, .f32⟩
  | .hbm, ⟨17, _⟩ => ⟨S6x1x1024, .f32⟩
  | .hbm, ⟨18, _⟩ => ⟨S6x1x1024, .f32⟩
  | .hbm, ⟨19, _⟩ => ⟨S6x1x1024, .f32⟩
  | .hbm, ⟨20, _⟩ => ⟨S6x1x1024, .f32⟩
  | .hbm, ⟨21, _⟩ => ⟨S6x1x1024, .f32⟩
  | .hbm, ⟨22, _⟩ => ⟨S6x8x1024, .f32⟩
  | .hbm, ⟨23, _⟩ => ⟨S_, .f32⟩
  | .hbm, ⟨24, _⟩ => ⟨S8x128, .f32⟩
  | .hbm, ⟨25, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormFwdRefIdeal.lean ====
abbrev S2048x1024 : Shape := ⟨2, ![2048, 1024]⟩
abbrev S2x3x1024 : Shape := ⟨3, ![2, 3, 1024]⟩
abbrev S6x3x1024 : Shape := ⟨3, ![6, 3, 1024]⟩
abbrev S1x1x1024 : Shape := ⟨3, ![1, 1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x3x1024, .f32⟩
  | .hbm, ⟨2, _⟩ => ⟨S2x3x1024, .f32⟩
  | .hbm, ⟨3, _⟩ => ⟨S6x3x1024, .f32⟩
  | .hbm, ⟨4, _⟩ => ⟨S1x1x1024, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S1x1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1x1x1024, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== ModPart.lean ====
abbrev S8x1024 : Shape := ⟨2, ![8, 1024]⟩
abbrev S2x1024x1152 : Shape := ⟨3, ![2, 1024, 1152]⟩
abbrev S2x8x1152 : Shape := ⟨3, ![2, 8, 1152]⟩
abbrev S1x1024x1152 : Shape := ⟨3, ![1, 1024, 1152]⟩
abbrev S1x8x1152 : Shape := ⟨3, ![1, 8, 1152]⟩
abbrev S1024x1152 : Shape := ⟨2, ![1024, 1152]⟩
abbrev S8x1152 : Shape := ⟨2, ![8, 1152]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x1152, .f32⟩
  | .hbm, ⟨2, _⟩ => ⟨S2x8x1152, .f32⟩
  | .local _ .vmem, ⟨0, _⟩ => ⟨S8x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x8x1152, .f32⟩
  | .local _ .vmem, ⟨4, _⟩ => ⟨S1x8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModPartRefIdeal.lean ====
abbrev S8x1024 : Shape := ⟨2, ![8, 1024]⟩
abbrev S2x1024x1152 : Shape := ⟨3, ![2, 1024, 1152]⟩
abbrev S_ : Shape := ⟨0, ![]⟩
abbrev S1x1024x1152 : Shape := ⟨3, ![1, 1024, 1152]⟩
abbrev S1024x1152 : Shape := ⟨2, ![1024, 1152]⟩
abbrev S8x1152 : Shape := ⟨2, ![8, 1152]⟩
abbrev S1x8x1152 : Shape := ⟨3, ![1, 8, 1152]⟩
abbrev S2x8x1152 : Shape := ⟨3, ![2, 8, 1152]⟩

abbrev nBuf : Space → Nat
  | .hbm => 20
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1152, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1x1024x1152, .f32⟩
  | .hbm, ⟨12, _⟩ => ⟨S1024x1152, .f32⟩
  | .hbm, ⟨13, _⟩ => ⟨S8x1152, .f32⟩
  | .hbm, ⟨14, _⟩ => ⟨S1x1024x1152, .f32⟩
  | .hbm, ⟨15, _⟩ => ⟨S1024x1152, .f32⟩
  | .hbm, ⟨16, _⟩ => ⟨S8x1152, .f32⟩
  | .hbm, ⟨17, _⟩ => ⟨S1x8x1152, .f32⟩
  | .hbm, ⟨18, _⟩ => ⟨S1x8x1152, .f32⟩
  | .hbm, ⟨19, _⟩ => ⟨S2x8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== MmNn.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .f32⟩
  | .hbm, ⟨2, _⟩ => ⟨S1024x2048, .bf16⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNnRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .f32⟩
  | .hbm, ⟨2, _⟩ => ⟨S2048x1024, .f32⟩
  | .hbm, ⟨3, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MmNt.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .f32⟩
  | .hbm, ⟨2, _⟩ => ⟨S1024x2048, .bf16⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmNtRefIdeal.lean ====
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .f32⟩
  | .hbm, ⟨2, _⟩ => ⟨S2048x2048, .f32⟩
  | .hbm, ⟨3, _⟩ => ⟨S2048x1024, .f32⟩
  | .hbm, ⟨4, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MmTn.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmTnRefIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | .hbm, ⟨5, _⟩ => ⟨S1024x2048, .f32⟩
  | .hbm, ⟨6, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MmSum.lean ====
abbrev S8x2048x704 : Shape := ⟨3, ![8, 2048, 704]⟩
abbrev S1024x5632 : Shape := ⟨2, ![1024, 5632]⟩
abbrev S5632x1024 : Shape := ⟨2, ![5632, 1024]⟩
abbrev S8x704x1024 : Shape := ⟨3, ![8, 704, 1024]⟩
abbrev S2048x1024 : Shape := ⟨2, ![2048, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x704, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S8x704x1024, .bf16⟩
  | .hbm, ⟨5, _⟩ => ⟨S2048x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x704x1024, .bf16⟩
  | .local _ .vmem, ⟨3, _⟩ => ⟨S512x1024, .f32⟩
  | .local _ .vmem, ⟨4, _⟩ => ⟨S512x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmSumRefIdeal.lean ====
abbrev S8x2048x704 : Shape := ⟨3, ![8, 2048, 704]⟩
abbrev S1024x5632 : Shape := ⟨2, ![1024, 5632]⟩
abbrev S2048x8x704 : Shape := ⟨3, ![2048, 8, 704]⟩
abbrev S2048x5632 : Shape := ⟨2, ![2048, 5632]⟩
abbrev S5632x1024 : Shape := ⟨2, ![5632, 1024]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S1024x5632, .f32⟩
  | .hbm, ⟨2, _⟩ => ⟨S8x2048x704, .f32⟩
  | .hbm, ⟨3, _⟩ => ⟨S2048x8x704, .f32⟩
  | .hbm, ⟨4, _⟩ => ⟨S2048x5632, .f32⟩
  | .hbm, ⟨5, _⟩ => ⟨S5632x1024, .f32⟩
  | .hbm, ⟨6, _⟩ => ⟨S2048x1024, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Adamw.lean ====
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S8x192x1024, .bf16⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwRefIdeal.lean ====
abbrev S8x192x1024 : Shape := ⟨3, ![8, 192, 1024]⟩
abbrev S192x1024 : Shape := ⟨2, ![192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x192x1024, .bf16⟩
  | .hbm, ⟨1, _⟩ => ⟨S192x1024, .f32⟩
  | .hbm, ⟨2, _⟩ => ⟨S192x1024, .f32⟩
  | .hbm, ⟨3, _⟩ => ⟨S192x1024, .f32⟩
  | .hbm, ⟨4, _⟩ => ⟨S8x192x1024, .f32⟩
  | .hbm, ⟨5, _⟩ => ⟨S_, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S_, .f32⟩
  | .hbm, ⟨11, _⟩ => ⟨S192x1024, .f32⟩
  | .hbm, ⟨12, _⟩ => ⟨S192x1024, .f32⟩
  | .hbm, ⟨13, _⟩ => ⟨S192x1024, .f32⟩
  | .hbm, ⟨14, _⟩ => ⟨S_, .f32⟩
  | .hbm, ⟨15, _⟩ => ⟨S192x1024, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S_, .f32⟩
  | .hbm, ⟨26, _⟩ => ⟨S192x1024, .f32⟩
  | .hbm, ⟨27, _⟩ => ⟨S192x1024, .f32⟩
  | .hbm, ⟨28, _⟩ => ⟨S192x1024, .f32⟩
  | .hbm, ⟨29, _⟩ => ⟨S_, .f32⟩
  | .hbm, ⟨30, _⟩ => ⟨S192x1024, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | _, _ => ⟨S8x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== MmDw.lean ====
abbrev S8x2048x704 : Shape := ⟨3, ![8, 2048, 704]⟩
abbrev S2048x1024 : Shape := ⟨2, ![2048, 1024]⟩
abbrev S8x704x1024 : Shape := ⟨3, ![8, 704, 1024]⟩
abbrev S1x2048x704 : Shape := ⟨3, ![1, 2048, 704]⟩
abbrev S2048x512 : Shape := ⟨2, ![2048, 512]⟩
abbrev S1x704x512 : Shape := ⟨3, ![1, 704, 512]⟩
abbrev S2048x704 : Shape := ⟨2, ![2048, 704]⟩
abbrev S704x512 : Shape := ⟨2, ![704, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x704, .bf16⟩
  | .hbm, ⟨1, _⟩ => ⟨S2048x1024, .bf16⟩
  | .hbm, ⟨2, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .bf16⟩
  | .local _ .vmem, ⟨3, _⟩ => ⟨S2048x512, .bf16⟩
  | .local _ .vmem, ⟨4, _⟩ => ⟨S1x704x512, .bf16⟩
  | .local _ .vmem, ⟨5, _⟩ => ⟨S1x704x512, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDwRefIdeal.lean ====
abbrev S8x2048x704 : Shape := ⟨3, ![8, 2048, 704]⟩
abbrev S2048x1024 : Shape := ⟨2, ![2048, 1024]⟩
abbrev S1024x2048 : Shape := ⟨2, ![1024, 2048]⟩
abbrev S2048x8x704 : Shape := ⟨3, ![2048, 8, 704]⟩
abbrev S2048x5632 : Shape := ⟨2, ![2048, 5632]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x1024, .bf16⟩
  | .hbm, ⟨2, _⟩ => ⟨S2048x1024, .f32⟩
  | .hbm, ⟨3, _⟩ => ⟨S1024x2048, .f32⟩
  | .hbm, ⟨4, _⟩ => ⟨S8x2048x704, .f32⟩
  | .hbm, ⟨5, _⟩ => ⟨S2048x8x704, .f32⟩
  | .hbm, ⟨6, _⟩ => ⟨S2048x5632, .f32⟩
  | .hbm, ⟨7, _⟩ => ⟨S1024x5632, .f32⟩
  | .hbm, ⟨8, _⟩ => ⟨S5632x1024, .f32⟩
  | .hbm, ⟨9, _⟩ => ⟨S8x704x1024, .f32⟩
  | .hbm, ⟨10, _⟩ => ⟨S8x704x1024, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== SumParts.lean ====
abbrev S8x3552x128 : Shape := ⟨3, ![8, 3552, 128]⟩
abbrev S3552x128 : Shape := ⟨2, ![3552, 128]⟩
abbrev S8x888x128 : Shape := ⟨3, ![8, 888, 128]⟩
abbrev S888x128 : Shape := ⟨2, ![888, 128]⟩
abbrev S1x888x128 : Shape := ⟨3, ![1, 888, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x3552x128, .f32⟩
  | .hbm, ⟨1, _⟩ => ⟨S3552x128, .f32⟩
  | .local _ .vmem, ⟨0, _⟩ => ⟨S8x888x128, .f32⟩
  | .local _ .vmem, ⟨1, _⟩ => ⟨S8x888x128, .f32⟩
  | .local _ .vmem, ⟨2, _⟩ => ⟨S888x128, .f32⟩
  | .local _ .vmem, ⟨3, _⟩ => ⟨S888x128, .f32⟩
  | _, _ => ⟨S8x3552x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x888x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S888x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumPartsRefIdeal.lean ====
abbrev S8x3552x128 : Shape := ⟨3, ![8, 3552, 128]⟩
abbrev S_ : Shape := ⟨0, ![]⟩
abbrev S3552x128 : Shape := ⟨2, ![3552, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x3552x128, .f32⟩
  | .hbm, ⟨1, _⟩ => ⟨S_, .f32⟩
  | .hbm, ⟨2, _⟩ => ⟨S3552x128, .f32⟩
  | _, _ => ⟨S8x3552x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BlockDiag.lean ====
abbrev S64x16x64 : Shape := ⟨3, ![64, 16, 64]⟩
abbrev S1024x64 : Shape := ⟨2, ![1024, 64]⟩
abbrev S64x64 : Shape := ⟨2, ![64, 64]⟩
abbrev S_ : Shape := ⟨0, ![]⟩
abbrev S1x64x1x64 : Shape := ⟨4, ![1, 64, 1, 64]⟩
abbrev S1x64x8x64 : Shape := ⟨4, ![1, 64, 8, 64]⟩
abbrev S64x512 : Shape := ⟨2, ![64, 512]⟩
abbrev S8x128x1024 : Shape := ⟨3, ![8, 128, 1024]⟩
abbrev S128x64 : Shape := ⟨2, ![128, 64]⟩
abbrev S1x128x1024 : Shape := ⟨3, ![1, 128, 1024]⟩
abbrev S128x512 : Shape := ⟨2, ![128, 512]⟩
abbrev S1x128x512 : Shape := ⟨3, ![1, 128, 512]⟩

abbrev nBuf : Space → Nat
  | .hbm => 15
  | .vmem => 7
  | .smem => 0
  | _ => 0

abbrev bufTy : (tb : Table) → Fin (tcTables nBuf tb) → BufTy
  | .hbm, ⟨0, _⟩ => ⟨S64x16x64, .f32⟩
  | .hbm, ⟨1, _⟩ => ⟨S64x16x64, .f32⟩
  | .hbm, ⟨2, _⟩ => ⟨S1024x64, .f32⟩
  | .hbm, ⟨3, _⟩ => ⟨S1024x64, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S64x64, .bf16⟩
  | .hbm, ⟨11, _⟩ => ⟨S1x64x1x64, .bf16⟩
  | .hbm, ⟨12, _⟩ => ⟨S1x64x8x64, .bf16⟩
  | .hbm, ⟨13, _⟩ => ⟨S64x512, .bf16⟩
  | .hbm, ⟨14, _⟩ => ⟨S8x128x1024, .bf16⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S64x512, .bf16⟩
  | .local _ .vmem, ⟨5, _⟩ => ⟨S1x128x1024, .bf16⟩
  | .local _ .vmem, ⟨6, _⟩ => ⟨S1x128x1024, .bf16⟩
  | _, _ => ⟨S64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BlockDiagRefIdeal.lean ====
abbrev S64x16x64 : Shape := ⟨3, ![64, 16, 64]⟩
abbrev S8x8 : Shape := ⟨2, ![8, 8]⟩
abbrev S_ : Shape := ⟨0, ![]⟩
abbrev S1x8x1x8x1 : Shape := ⟨5, ![1, 8, 1, 8, 1]⟩
abbrev S8x8x16x1x64 : Shape := ⟨5, ![8, 8, 16, 1, 64]⟩
abbrev S8x8x16x8x64 : Shape := ⟨5, ![8, 8, 16, 8, 64]⟩
abbrev S8x128x512 : Shape := ⟨3, ![8, 128, 512]⟩
abbrev S8x128x1024 : Shape := ⟨3, ![8, 128, 1024]⟩

abbrev nBuf : Space → Nat
  | .hbm => 32
  | .vmem => 0
  | .smem => 0
  | _ => 0

abbrev bufTy : (tb : Table) → Fin (tcTables nBuf tb) → BufTy
  | .hbm, ⟨0, _⟩ => ⟨S64x16x64, .f32⟩
  | .hbm, ⟨1, _⟩ => ⟨S64x16x64, .f32⟩
  | .hbm, ⟨2, _⟩ => ⟨S8x8, .i32⟩
  | .hbm, ⟨3, _⟩ => ⟨S8x8, .i32⟩
  | .hbm, ⟨4, _⟩ => ⟨S_, .i32⟩
  | .hbm, ⟨5, _⟩ => ⟨S8x8, .i32⟩
  | .hbm, ⟨6, _⟩ => ⟨S8x8, .i32⟩
  | .hbm, ⟨7, _⟩ => ⟨S8x8, .i1⟩
  | .hbm, ⟨8, _⟩ => ⟨S8x8, .f32⟩
  | .hbm, ⟨9, _⟩ => ⟨S_, .f32⟩
  | .hbm, ⟨10, _⟩ => ⟨S8x8, .f32⟩
  | .hbm, ⟨11, _⟩ => ⟨S8x8, .i1⟩
  | .hbm, ⟨12, _⟩ => ⟨S1x8x1x8x1, .i1⟩
  | .hbm, ⟨13, _⟩ => ⟨S8x8x16x1x64, .f32⟩
  | .hbm, ⟨14, _⟩ => ⟨S_, .f32⟩
  | .hbm, ⟨15, _⟩ => ⟨S_, .f32⟩
  | .hbm, ⟨16, _⟩ => ⟨S8x8x16x8x64, .i1⟩
  | .hbm, ⟨17, _⟩ => ⟨S8x8x16x8x64, .f32⟩
  | .hbm, ⟨18, _⟩ => ⟨S8x8x16x8x64, .f32⟩
  | .hbm, ⟨19, _⟩ => ⟨S8x8x16x8x64, .f32⟩
  | .hbm, ⟨20, _⟩ => ⟨S8x128x512, .f32⟩
  | .hbm, ⟨21, _⟩ => ⟨S1x8x1x8x1, .i1⟩
  | .hbm, ⟨22, _⟩ => ⟨S8x8x16x1x64, .f32⟩
  | .hbm, ⟨23, _⟩ => ⟨S_, .f32⟩
  | .hbm, ⟨24, _⟩ => ⟨S_, .f32⟩
  | .hbm, ⟨25, _⟩ => ⟨S8x8x16x8x64, .i1⟩
  | .hbm, ⟨26, _⟩ => ⟨S8x8x16x8x64, .f32⟩
  | .hbm, ⟨27, _⟩ => ⟨S8x8x16x8x64, .f32⟩
  | .hbm, ⟨28, _⟩ => ⟨S8x8x16x8x64, .f32⟩
  | .hbm, ⟨29, _⟩ => ⟨S8x128x512, .f32⟩
  | .hbm, ⟨30, _⟩ => ⟨S8x128x1024, .f32⟩
  | .hbm, ⟨31, _⟩ => ⟨S8x128x1024, .bf16⟩
  | _, _ => ⟨S64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== AdamwRows.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwRowsRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwCols.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwColsRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwHeads.lean ====
abbrev S1x512x128 : Shape := ⟨3, ![1, 512, 128]⟩
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S1x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwHeadsRefIdeal.lean ====
abbrev S1x512x128 : Shape := ⟨3, ![1, 512, 128]⟩
abbrev S512x128 : Shape := ⟨2, ![512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwSsm.lean ====
abbrev S1x1024x64 : Shape := ⟨3, ![1, 1024, 64]⟩
abbrev S1024x64 : Shape := ⟨2, ![1024, 64]⟩

abbrev nBuf : Space → Nat
  | .hbm => 8
  | .vmem => 8
  | .smem => 0
  | _ => 0

abbrev bufTy : (tb : Table) → Fin (tcTables nBuf tb) → BufTy
  | .hbm, ⟨0, _⟩ => ⟨S1x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .local _ .vmem, ⟨0, _⟩ => ⟨S1x1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | _, _ => ⟨S1x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwSsmRefIdeal.lean ====
abbrev S1x1024x64 : Shape := ⟨3, ![1, 1024, 64]⟩
abbrev S1024x64 : Shape := ⟨2, ![1024, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x64, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S_, .f32⟩
  | .hbm, ⟨5, _⟩ => ⟨S1024x64, .f32⟩
  | .hbm, ⟨6, _⟩ => ⟨S_, .f32⟩
  | .hbm, ⟨7, _⟩ => ⟨S1024x64, .f32⟩
  | .hbm, ⟨8, _⟩ => ⟨S1024x64, .f32⟩
  | .hbm, ⟨9, _⟩ => ⟨S_, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S1024x64, .f32⟩
  | .hbm, ⟨15, _⟩ => ⟨S1024x64, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S_, .f32⟩
  | .hbm, ⟨22, _⟩ => ⟨S1024x64, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S1024x64, .f32⟩
  | .hbm, ⟨28, _⟩ => ⟨S_, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S_, .f32⟩
  | .hbm, ⟨33, _⟩ => ⟨S1024x64, .f32⟩
  | .hbm, ⟨34, _⟩ => ⟨S1024x64, .f32⟩
  | .hbm, ⟨35, _⟩ => ⟨S1024x64, .f32⟩
  | .hbm, ⟨36, _⟩ => ⟨S_, .f32⟩
  | .hbm, ⟨37, _⟩ => ⟨S1024x64, .f32⟩
  | .hbm, ⟨38, _⟩ => ⟨S1024x64, .f32⟩
  | _, _ => ⟨S1x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwShell.lean ====
abbrev S2x9216 : Shape := ⟨2, ![2, 9216]⟩
abbrev S6x128 : Shape := ⟨2, ![6, 128]⟩
abbrev S_ : Shape := ⟨0, ![]⟩
abbrev S8x128 : Shape := ⟨2, ![8, 128]⟩

abbrev nBuf : Space → Nat
  | .hbm => 23
  | .vmem => 21
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S6x128, .f32⟩
  | .hbm, ⟨5, _⟩ => ⟨S6x128, .f32⟩
  | .hbm, ⟨6, _⟩ => ⟨S6x128, .f32⟩
  | .hbm, ⟨7, _⟩ => ⟨S6x128, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S6x128, .f32⟩
  | .hbm, ⟨12, _⟩ => ⟨S_, .f32⟩
  | .hbm, ⟨13, _⟩ => ⟨S8x128, .f32⟩
  | .hbm, ⟨14, _⟩ => ⟨S2x9216, .f32⟩
  | .hbm, ⟨15, _⟩ => ⟨S2x9216, .f32⟩
  | .hbm, ⟨16, _⟩ => ⟨S2x9216, .f32⟩
  | .hbm, ⟨17, _⟩ => ⟨S6x128, .f32⟩
  | .hbm, ⟨18, _⟩ => ⟨S6x128, .f32⟩
  | .hbm, ⟨19, _⟩ => ⟨S6x128, .f32⟩
  | .hbm, ⟨20, _⟩ => ⟨S6x128, .f32⟩
  | .hbm, ⟨21, _⟩ => ⟨S6x128, .f32⟩
  | .hbm, ⟨22, _⟩ => ⟨S6x128, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S6x128, .f32⟩
  | .local _ .vmem, ⟨5, _⟩ => ⟨S6x128, .f32⟩
  | .local _ .vmem, ⟨6, _⟩ => ⟨S6x128, .f32⟩
  | .local _ .vmem, ⟨7, _⟩ => ⟨S6x128, .f32⟩
  | .local _ .vmem, ⟨8, _⟩ => ⟨S6x128, .f32⟩
  | .local _ .vmem, ⟨9, _⟩ => ⟨S6x128, .f32⟩
  | .local _ .vmem, ⟨10, _⟩ => ⟨S6x128, .f32⟩
  | .local _ .vmem, ⟨11, _⟩ => ⟨S6x128, .f32⟩
  | .local _ .vmem, ⟨12, _⟩ => ⟨S2x9216, .f32⟩
  | .local _ .vmem, ⟨13, _⟩ => ⟨S2x9216, .f32⟩
  | .local _ .vmem, ⟨14, _⟩ => ⟨S2x9216, .f32⟩
  | .local _ .vmem, ⟨15, _⟩ => ⟨S6x128, .f32⟩
  | .local _ .vmem, ⟨16, _⟩ => ⟨S6x128, .f32⟩
  | .local _ .vmem, ⟨17, _⟩ => ⟨S6x128, .f32⟩
  | .local _ .vmem, ⟨18, _⟩ => ⟨S6x128, .f32⟩
  | .local _ .vmem, ⟨19, _⟩ => ⟨S6x128, .f32⟩
  | .local _ .vmem, ⟨20, _⟩ => ⟨S6x128, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v1_2 : Ref sig .tc := ⟨.hbm, 16, rfl⟩
abbrev main_v1_3 : Ref sig .tc := ⟨.hbm, 17, rfl⟩
abbrev main_v1_4 : Ref sig .tc := ⟨.hbm, 18, rfl⟩
abbrev main_v1_5 : Ref sig .tc := ⟨.hbm, 19, rfl⟩
abbrev main_v1_6 : Ref sig .tc := ⟨.hbm, 20, rfl⟩
abbrev main_v1_7 : Ref sig .tc := ⟨.hbm, 21, rfl⟩
abbrev main_v1_8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x9216 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x9216 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x9216 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S6x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S6x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S6x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S6x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S6x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== AdamwShellRefIdeal.lean ====
abbrev S2x9216 : Shape := ⟨2, ![2, 9216]⟩
abbrev S6x128 : Shape := ⟨2, ![6, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S6x128, .f32⟩
  | .hbm, ⟨5, _⟩ => ⟨S6x128, .f32⟩
  | .hbm, ⟨6, _⟩ => ⟨S6x128, .f32⟩
  | .hbm, ⟨7, _⟩ => ⟨S6x128, .f32⟩
  | .hbm, ⟨8, _⟩ => ⟨S6x128, .f32⟩
  | .hbm, ⟨9, _⟩ => ⟨S6x128, .f32⟩
  | .hbm, ⟨10, _⟩ => ⟨S6x128, .f32⟩
  | .hbm, ⟨11, _⟩ => ⟨S6x128, .f32⟩
  | .hbm, ⟨12, _⟩ => ⟨S_, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S2x9216, .f32⟩
  | .hbm, ⟨23, _⟩ => ⟨S_, .f32⟩
  | .hbm, ⟨24, _⟩ => ⟨S2x9216, .f32⟩
  | .hbm, ⟨25, _⟩ => ⟨S2x9216, .f32⟩
  | .hbm, ⟨26, _⟩ => ⟨S2x9216, .f32⟩
  | .hbm, ⟨27, _⟩ => ⟨S_, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | .hbm, ⟨37, _⟩ => ⟨S2x9216, .f32⟩
  | .hbm, ⟨38, _⟩ => ⟨S_, .f32⟩
  | .hbm, ⟨39, _⟩ => ⟨S2x9216, .f32⟩
  | .hbm, ⟨40, _⟩ => ⟨S2x9216, .f32⟩
  | .hbm, ⟨41, _⟩ => ⟨S2x9216, .f32⟩
  | .hbm, ⟨42, _⟩ => ⟨S_, .f32⟩
  | .hbm, ⟨43, _⟩ => ⟨S2x9216, .f32⟩
  | .hbm, ⟨44, _⟩ => ⟨S2x9216, .f32⟩
  | .hbm, ⟨45, _⟩ => ⟨S_, .f32⟩
  | .hbm, ⟨46, _⟩ => ⟨S6x128, .f32⟩
  | .hbm, ⟨47, _⟩ => ⟨S6x128, .f32⟩
  | .hbm, ⟨48, _⟩ => ⟨S_, .f32⟩
  | .hbm, ⟨49, _⟩ => ⟨S6x128, .f32⟩
  | .hbm, ⟨50, _⟩ => ⟨S6x128, .f32⟩
  | .hbm, ⟨51, _⟩ => ⟨S6x128, .f32⟩
  | .hbm, ⟨52, _⟩ => ⟨S_, .f32⟩
  | .hbm, ⟨53, _⟩ => ⟨S6x128, .f32⟩
  | .hbm, ⟨54, _⟩ => ⟨S6x128, .f32⟩
  | .hbm, ⟨55, _⟩ => ⟨S6x128, .f32⟩
  | .hbm, ⟨56, _⟩ => ⟨S_, .f32⟩
  | .hbm, ⟨57, _⟩ => ⟨S6x128, .f32⟩
  | .hbm, ⟨58, _⟩ => ⟨S6x128, .f32⟩
  | .hbm, ⟨59, _⟩ => ⟨S6x128, .f32⟩
  | .hbm, ⟨60, _⟩ => ⟨S_, .f32⟩
  | .hbm, ⟨61, _⟩ => ⟨S6x128, .f32⟩
  | .hbm, ⟨62, _⟩ => ⟨S6x128, .f32⟩
  | .hbm, ⟨63, _⟩ => ⟨S_, .f32⟩
  | .hbm, ⟨64, _⟩ => ⟨S6x128, .f32⟩
  | .hbm, ⟨65, _⟩ => ⟨S6x128, .f32⟩
  | .hbm, ⟨66, _⟩ => ⟨S6x128, .f32⟩
  | .hbm, ⟨67, _⟩ => ⟨S_, .f32⟩
  | .hbm, ⟨68, _⟩ => ⟨S6x128, .f32⟩
  | .hbm, ⟨69, _⟩ => ⟨S6x128, .f32⟩
  | .hbm, ⟨70, _⟩ => ⟨S6x128, .f32⟩
  | .hbm, ⟨71, _⟩ => ⟨S_, .f32⟩
  | .hbm, ⟨72, _⟩ => ⟨S6x128, .f32⟩
  | .hbm, ⟨73, _⟩ => ⟨S6x128, .f32⟩
  | .hbm, ⟨74, _⟩ => ⟨S6x128, .f32⟩
  | .hbm, ⟨75, _⟩ => ⟨S_, .f32⟩
  | .hbm, ⟨76, _⟩ => ⟨S6x128, .f32⟩
  | .hbm, ⟨77, _⟩ => ⟨S6x128, .f32⟩
  | .hbm, ⟨78, _⟩ => ⟨S_, .f32⟩
  | .hbm, ⟨79, _⟩ => ⟨S6x128, .f32⟩
  | .hbm, ⟨80, _⟩ => ⟨S6x128, .f32⟩
  | .hbm, ⟨81, _⟩ => ⟨S_, .f32⟩
  | .hbm, ⟨82, _⟩ => ⟨S6x128, .f32⟩
  | .hbm, ⟨83, _⟩ => ⟨S6x128, .f32⟩
  | .hbm, ⟨84, _⟩ => ⟨S6x128, .f32⟩
  | .hbm, ⟨85, _⟩ => ⟨S_, .f32⟩
  | .hbm, ⟨86, _⟩ => ⟨S6x128, .f32⟩
  | .hbm, ⟨87, _⟩ => ⟨S6x128, .f32⟩
  | .hbm, ⟨88, _⟩ => ⟨S6x128, .f32⟩
  | .hbm, ⟨89, _⟩ => ⟨S_, .f32⟩
  | .hbm, ⟨90, _⟩ => ⟨S6x128, .f32⟩
  | .hbm, ⟨91, _⟩ => ⟨S6x128, .f32⟩
  | .hbm, ⟨92, _⟩ => ⟨S6x128, .f32⟩
  | .hbm, ⟨93, _⟩ => ⟨S_, .f32⟩
  | .hbm, ⟨94, _⟩ => ⟨S6x128, .f32⟩
  | .hbm, ⟨95, _⟩ => ⟨S6x128, .f32⟩
  | .hbm, ⟨96, _⟩ => ⟨S_, .f32⟩
  | .hbm, ⟨97, _⟩ => ⟨S6x128, .f32⟩
  | .hbm, ⟨98, _⟩ => ⟨S6x128, .f32⟩
  | .hbm, ⟨99, _⟩ => ⟨S6x128, .f32⟩
  | .hbm, ⟨100, _⟩ => ⟨S_, .f32⟩
  | .hbm, ⟨101, _⟩ => ⟨S6x128, .f32⟩
  | .hbm, ⟨102, _⟩ => ⟨S6x128, .f32⟩
  | .hbm, ⟨103, _⟩ => ⟨S6x128, .f32⟩
  | .hbm, ⟨104, _⟩ => ⟨S_, .f32⟩
  | .hbm, ⟨105, _⟩ => ⟨S6x128, .f32⟩
  | .hbm, ⟨106, _⟩ => ⟨S6x128, .f32⟩
  | .hbm, ⟨107, _⟩ => ⟨S6x128, .f32⟩
  | .hbm, ⟨108, _⟩ => ⟨S_, .f32⟩
  | .hbm, ⟨109, _⟩ => ⟨S6x128, .f32⟩
  | .hbm, ⟨110, _⟩ => ⟨S6x128, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Proof.Util.lean ====
/- Small facts shared by the calls: rows cut in blocks, and the words of a few float constants as extended reals. -/
module

public import Idealize.ShloMosaic.Lib.Pointwise
public import Idealize.ShloMosaic.Lib.Pipeline.Value

@[expose] public section

noncomputable section

namespace Cert.Util

open Idealize.ShloMosaic

/-- The row of the whole array that row `a` of block `t` is, for blocks of `n` rows. -/
def rowOf {T N : ℕ} (n : ℕ) (h : T * n = N) (t : Fin T) (a : Fin n) : Fin N :=
  ⟨t.val * n + a.val, by
    have h1 : (t.val + 1) * n ≤ T * n := Nat.mul_le_mul_right n t.isLt
    have h2 : (t.val + 1) * n = t.val * n + n := Nat.succ_mul _ _
    have := a.isLt
    omega⟩

theorem rowOf_val {T N : ℕ} (n : ℕ) (h : T * n = N) (t : Fin T) (a : Fin n) :
    (rowOf n h t a).val = t.val * n + a.val := rfl

/-- Two indices of a rank-2 array with equal coordinates are equal. -/
theorem idx2_ext {n0 n1 : ℕ} {x y : (⟨2, ![n0, n1]⟩ : Shape).Idx} (h0 : (x 0).val = (y 0).val) (h1 : (x 1).val = (y 1).val) :
    x = y := by
  funext a
  match a with
  | ⟨0, _⟩ => exact Fin.ext h0
  | ⟨1, _⟩ => exact Fin.ext h1

/-- The zero offset of a rank-2 rectangle. -/
theorem zero2 : (![0, 0] : Fin 2 → ℕ) = fun _ => 0 := by
  funext a
  match a with
  | ⟨0, _⟩ => rfl
  | ⟨1, _⟩ => rfl

theorem ofBits_one : Ideal.ofBits .f32 0x3F800000#32 = 1 := by
  simp [Ideal.ofBits, Ideal.ieee, -EReal.coe_mul]; norm_num

/-- What an accumulator holds after point `n`, where each point adds its term, is the sum of the terms so far. -/
theorem acc_sum {M : Type*} [AddCommMonoid M] {N : ℕ} (acc f : (k : ℕ) → k < N → M) (h0 : ∀ h, acc 0 h = f 0 h)
    (hs : ∀ k (h : k + 1 < N), acc (k + 1) h = acc k (Nat.lt_of_succ_lt h) + f (k + 1) h) :
    ∀ (n : ℕ) (h : n < N), acc n h = ∑ t : Fin (n + 1), f t.val (lt_of_le_of_lt (Nat.le_of_lt_succ t.isLt) h)
  | 0, h => by rw [Fin.sum_univ_one]; exact h0 h
  | n + 1, h => by
    rw [Fin.sum_univ_castSucc, hs n h, acc_sum acc f h0 hs n]
    rfl

/-- An extended real whose absolute value compares below +∞ is a real. -/
theorem real_of_lt {x : EReal} (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

/-- The comparison of an absolute value with +∞, as the preconditions print it. -/
def below (x : EReal) : BitVec 1 := Ideal.cmp .olt (max x (-x)) (Ideal.ofBits .f32 0x7F800000#32)

theorem and_one_iff (a b : BitVec 1) : a &&& b = 1#1 ↔ a = 1#1 ∧ b = 1#1 := by
  revert a b; decide

end Cert.Util

end
-- ==== Proof.GluBwdValue.lean ====
/- The gradient of the gate: what the array of the result holds. Block `t` holds rows `512·t` to `512·t + 511`; the body
   stores its two column halves, `df · σ(b)` and `df · a · σ(b) · (1 − σ(b))`. -/
module

public import proofs.«01_k».proof.Defs
public import proofs.«01_k».proof.Proof.Gen.GluBwdIdeal.Value
public import proofs.«01_k».proof.Proof.Gen.GluBwdRefIdeal.Read
public import proofs.«01_k».proof.Proof.Util

@[expose] public section

set_option maxRecDepth 16384

noncomputable section

namespace Cert.GluBwdIdeal.Value

open Cert.GluBwdIdeal Cert.GluBwdIdeal.Gen Idealize.ShloMosaic Idealize.ShloMosaic.TcCoe Idealize.SL.Sem Cert.Util Pipeline

variable (m : (ℓ : Loc nD τ sig) → Buf (Elt Ideal) ℓ)

/-- Each window's block index at a grid point: its row block is the point, its column block fixed. -/
theorem idx_facts : ∀ t : Fin cfg0.N, win0_0.index t 0 = t.val ∧ win0_0.index t 1 = 0 ∧ win0_1.index t 0 = t.val ∧ win0_1.index t 1 = 1
    ∧ win0_2.index t 0 = t.val ∧ win0_2.index t 1 = 0 ∧ win0_3.index t 0 = t.val ∧ win0_3.index t 1 = 0 := by
  decide +kernel

/-- Row `a` of block `t`. -/
abbrev row (t : Fin cfg0.N) (a : Fin 512) : Fin 2048 := rowOf (T := 4) 512 rfl t a
/-- Column `b` of the right half. -/
abbrev hi (b : Fin 1024) : Fin 2048 := ⟨1024 + b.val, by omega⟩
/-- Column `b` of the left half. -/
abbrev lo (b : Fin 1024) : Fin 2048 := ⟨b.val, by omega⟩

theorem blk0 (c : Dev nD) (t : Fin cfg0.N) (a : Fin 512) (b : Fin 1024) :
    iblk m c 0 t (ix2 a b) = m ((c : Thread nD τ).loc main_arg0) (ix2 (row t a) (lo b)) := by
  show m ((c : Thread nD τ).loc main_arg0) ((win0_0.rect t).emb (ix2 a b)) = _
  congr 1
  apply idx2_ext
  · rw [win0_0.rect_emb_val, (idx_facts t).1]; rfl
  · rw [win0_0.rect_emb_val, (idx_facts t).2.1]; exact Nat.zero_add _

theorem blk1 (c : Dev nD) (t : Fin cfg0.N) (a : Fin 512) (b : Fin 1024) :
    iblk m c 1 t (ix2 a b) = m ((c : Thread nD τ).loc main_arg0) (ix2 (row t a) (hi b)) := by
  show m ((c : Thread nD τ).loc main_arg0) ((win0_1.rect t).emb (ix2 a b)) = _
  congr 1
  apply idx2_ext
  · rw [win0_1.rect_emb_val, (idx_facts t).2.2.1]; rfl
  · rw [win0_1.rect_emb_val, (idx_facts t).2.2.2.1]; rfl

theorem blk2 (c : Dev nD) (t : Fin cfg0.N) (a : Fin 512) (b : Fin 1024) :
    iblk m c 2 t (ix2 a b) = m ((c : Thread nD τ).loc main_arg1) (ix2 (row t a) b) := by
  show m ((c : Thread nD τ).loc main_arg1) ((win0_2.rect t).emb (ix2 a b)) = _
  congr 1
  apply idx2_ext
  · rw [win0_2.rect_emb_val, (idx_facts t).2.2.2.2.1]; rfl
  · rw [win0_2.rect_emb_val, (idx_facts t).2.2.2.2.2.1]; exact Nat.zero_add _

/-- The reference's result as a function of the two arguments. -/
abbrev ref (x : FVec Ideal S2048x2048 .f32) (d : FVec Ideal S2048x1024 .bf16) : FVec Ideal S2048x2048 .bf16 :=
  Cert.GluBwdRefIdeal.Read.val_main_v17 (F := Ideal) x d

open Cert.GluBwdRefIdeal.Read in
theorem ref_lo (x : FVec Ideal S2048x2048 .f32) (d : FVec Ideal S2048x1024 .bf16) (r : Fin 2048) (b : Fin 1024) :
    ref x d (ix2 r (lo b)) = d (ix2 r b) * Ideal.div 1 (1 + Ideal.exp (-(x (ix2 r (hi b))))) := by
  have h : b.val < 1024 := b.isLt
  pointwise [ref, val_main_v17, val_main_v16, val_main_v14, val_main_v12, val_main_v7, val_main_v6, val_main_v5, val_main_v4, val_main_v3,
    val_main_v2, val_main_v1, val_main_cst, val_main_cst_0, h]

open Cert.GluBwdRefIdeal.Read in
theorem ref_hi (x : FVec Ideal S2048x2048 .f32) (d : FVec Ideal S2048x1024 .bf16) (r : Fin 2048) (b : Fin 1024) :
    ref x d (ix2 r (hi b)) = d (ix2 r b) * x (ix2 r (lo b)) * Ideal.div 1 (1 + Ideal.exp (-(x (ix2 r (hi b)))))
      * (1 - Ideal.div 1 (1 + Ideal.exp (-(x (ix2 r (hi b)))))) := by
  have h : ¬ (1024 + b.val < 1024) := by omega
  pointwise [ref, val_main_v17, val_main_v16, val_main_v15, val_main_v13, val_main_v10, val_main_v9, val_main_v8, val_main_cst_1, val_main_v0, val_main_v12, val_main_v7, val_main_v6, val_main_v5, val_main_v4, val_main_v3,
    val_main_v2, val_main_v1, val_main_cst, val_main_cst_0, h]
  rw [mul_comm (x _) (d _), ← mul_assoc]

theorem out_lo (x1 : Vec Ideal S512x1024 .f32) (x2 : Vec Ideal S512x1024 .bf16) (a : Fin 512) (b : Fin 1024) :
    k0_pay3 x1 x2 (ix2 a b) = x2 (ix2 a b) * Ideal.div 1 (1 + Ideal.exp (-(x1 (ix2 a b)))) := by
  pointwise [k0_pay3, k0_pay2, k0_pay1]
  rw [zero_sub]

theorem out_hi (x0 x1 : Vec Ideal S512x1024 .f32) (x2 : Vec Ideal S512x1024 .bf16) (a : Fin 512) (b : Fin 1024) :
    k0_pay4 x1 x2 x0 (ix2 a b) = x2 (ix2 a b) * x0 (ix2 a b) * Ideal.div 1 (1 + Ideal.exp (-(x1 (ix2 a b))))
      * (1 - Ideal.div 1 (1 + Ideal.exp (-(x1 (ix2 a b))))) := by
  pointwise [k0_pay4, k0_pay2, k0_pay1]
  rw [zero_sub]

/-- Block `t` of the result, from the blocks of the inputs. -/
theorem block_eq (x : FVec Ideal S2048x2048 .f32) (d : FVec Ideal S2048x1024 .bf16) (t : Fin cfg0.N)
    (x0 x1 : Vec Ideal S512x1024 .f32) (x2 : Vec Ideal S512x1024 .bf16)
    (h0 : ∀ a b, x0 (ix2 a b) = x (ix2 (row t a) (lo b))) (h1 : ∀ a b, x1 (ix2 a b) = x (ix2 (row t a) (hi b)))
    (h2 : ∀ a b, x2 (ix2 a b) = d (ix2 (row t a) b)) (y : S512x2048.Idx) :
    out0_3 x0 x1 x2 y = ref x d (ix2 (row t (y 0)) (y 1)) := by
  refine View.canon_apply_of_pieces (Val := Elt Ideal) (S := S512x2048) (e := .bf16) (fun y => ref x d (ix2 (row t (y 0)) (y 1))) _ ?_ y (cover0_3 _ _ y)
  intro p hp z
  rw [View.ld_unit_zero zero2, View.ld_unit_zero zero2, View.ld_unit_zero zero2] at hp
  simp only [List.mem_cons, List.mem_singleton, List.not_mem_nil, or_false] at hp
  rcases hp with rfl | rfl
  · show k0_pay4 x1 x2 x0 z = _
    obtain ⟨a, b, rfl⟩ : ∃ a b, z = ix2 a b := ⟨z 0, z 1, eq_ix2 z⟩
    rw [out_hi, h0, h1, h2, ← ref_hi]
    congr 1
    apply idx2_ext
    · show t.val * 512 + a.val = t.val * 512 + (0 + 1 * a.val); omega
    · show 1024 + b.val = 1024 + 1 * b.val; omega
  · show k0_pay3 x1 x2 z = _
    obtain ⟨a, b, rfl⟩ : ∃ a b, z = ix2 a b := ⟨z 0, z 1, eq_ix2 z⟩
    rw [out_lo, h1, h2, ← ref_lo]
    congr 1
    apply idx2_ext
    · show t.val * 512 + a.val = t.val * 512 + (0 + 1 * a.val); omega
    · show b.val = 0 + 1 * b.val; omega

theorem flush3 : ∀ t : Fin cfg0.N, (cfg0.win 3).flush t = true := by decide +kernel

theorem mem_blk (t : Fin cfg0.N) (i : S2048x2048.Idx) : i ∈ ((cfg0.win 3).blk t).view.set ↔
    ∀ a : Fin 2, win0_3.index t a * win0_3.size a ≤ (i a).val ∧ (i a).val < win0_3.index t a * win0_3.size a + win0_3.size a := by
  show i ∈ ((View.whole main_v0).slice (win0_3.rect t)).set ↔ _
  rw [View.set_slice_whole, Rect.mem_set_unit]
  rfl

/-- Every index of the result lies in the block of some point. -/
theorem cover (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  refine ⟨⟨(i 0).val / 512, by show _ < 4; omega⟩, flush3 _, (mem_blk _ i).2 fun a => ?_⟩
  match a with
  | ⟨0, _⟩ =>
    show win0_3.index _ 0 * 512 ≤ (i 0).val ∧ (i 0).val < win0_3.index _ 0 * 512 + 512
    rw [(idx_facts _).2.2.2.2.2.2.1]
    show (i 0).val / 512 * 512 ≤ (i 0).val ∧ (i 0).val < (i 0).val / 512 * 512 + 512
    omega
  | ⟨1, _⟩ =>
    show win0_3.index _ 1 * 2048 ≤ (i 1).val ∧ (i 1).val < win0_3.index _ 1 * 2048 + 2048
    rw [(idx_facts _).2.2.2.2.2.2.2]
    omega

theorem final (c : Dev nD) : (dats m 0 c).arrAt 3 cfg0.N =
    ref (m ((c : Thread nD τ).loc main_arg0)) (m ((c : Thread nD τ).loc main_arg1)) := by
  refine Dat.arrAt_eq_of_cover (dats m 0 c) 3 _ ?_ cover
  intro t _
  rw [flushed3]
  funext y
  show out0_3 (iblk m c 0 t) (iblk m c 1 t) (iblk m c 2 t) y = ref _ _ ((win0_3.rect t).emb y)
  rw [block_eq (m ((c : Thread nD τ).loc main_arg0)) (m ((c : Thread nD τ).loc main_arg1)) t _ _ _ (blk0 m c t) (blk1 m c t) (blk2 m c t) y]
  congr 1
  apply idx2_ext
  · rw [win0_3.rect_emb_val, (idx_facts t).2.2.2.2.2.2.1]; rfl
  · rw [win0_3.rect_emb_val, (idx_facts t).2.2.2.2.2.2.2]; exact (Nat.zero_add _).symm

end Cert.GluBwdIdeal.Value

end
-- ==== Proof.GluBwdClaims.lean ====
/- The gradient of the gate: its claims. -/
module

public import proofs.«01_k».proof.Proof.GluBwdValue
public import proofs.«01_k».proof.Proof.Gen.GluBwd
public import proofs.«01_k».proof.Proof.Gen.GluBwdRefIdeal
public import proofs.«01_k».proof.Proof.Gen.GluBwdRefIdeal.Run
public import Idealize.ShloMosaic.Lib.Tactic

@[expose] public section

set_option maxRecDepth 16384

noncomputable section

namespace Cert.Proof.GluBwd

open Idealize.ShloMosaic Idealize.SL.Sem

/-- The program and its idealization have one text: the same entry … -/
theorem main_same : (Cert.GluBwd.main (F := Bits)) = (Cert.GluBwdIdeal.main (F := Bits)) := by sl_kernel_rfl

/-- … and the same bodies. -/
theorem defs_same : (Cert.GluBwd.defs (F := Bits)) = (Cert.GluBwdIdeal.defs (F := Bits)) := by sl_kernel_rfl

/-- So one run gives both frames. -/
theorem frame_p : Cert.quiescent_GluBwd := fun m ρ _ => by
  have h := Cert.GluBwdIdeal.Gen.frame (F := Bits) m ρ
  rw [← main_same, ← defs_same] at h
  exact h

theorem frame_i : Cert.quiescent_GluBwdIdeal := fun m ρ _ => Cert.GluBwdIdeal.Gen.frame m ρ

theorem frame_r : Cert.quiescent_GluBwdRefIdeal := fun m ρ _ =>
  (θ_run Cert.GluBwdRefIdeal.defs _ _).mono (fun r h => ⟨fun c => (h c).2, sem_eq_zero_of_no_sems (by decide) r.2⟩)
    (Cert.GluBwdRefIdeal.Value.run (F := Ideal) m ρ)

theorem algebraic : Cert.algebraic_GluBwdIdeal_GluBwdRefIdeal := by
  intro m ρ m' ρ' _ hag
  refine ⟨_, (θ_run Cert.GluBwdIdeal.defs _ _).mono (fun r h c => ⟨(h c).1.trans (Cert.GluBwdIdeal.Value.final m c), (h c).2⟩)
    (Cert.GluBwdIdeal.Value.run_blocks m ρ), ?_⟩
  refine (θ_run Cert.GluBwdRefIdeal.defs _ _).mono (fun r h c => ⟨(h c).1.trans ?_, (h c).2⟩)
    (Cert.GluBwdRefIdeal.Value.run (F := Ideal) m' ρ')
  · rw [(hag c).1, (hag c).2]
    rfl

end Cert.Proof.GluBwd

end
-- ==== Proof.Gelu.lean ====
/- The derivative of GELU on the extended reals: the hand-written form `½(1+t) + ½ v (1−t²) c(1+3g v²)`, times a real
   cotangent, is what the chain rule gives through `v · (½ (1 + tanh (c (v + g v³))))`, at every `v`: at ±∞ the tanh is ±1
   and each term that holds `1 − t²` is zero. -/
module

public import proofs.«01_k».proof.Proof.Util

@[expose] public section

noncomputable section

namespace Cert.Util

open Idealize.ShloMosaic

/-- tanh of GELU's inner polynomial. -/
def geluT (c g : ℝ) (v : EReal) : EReal := Ideal.tanh (c * (v + g * (v * v * v)))

/-- The hand-written gradient. -/
def geluHand (h c g g3 : ℝ) (dg v : EReal) : EReal :=
  dg * (h * (1 + geluT c g v) + h * v * (1 - geluT c g v * geluT c g v) * (c * (1 + g3 * (v * v))))

/-- The chain rule's gradient. -/
def geluChain (h c g k : ℝ) (dg v : EReal) : EReal :=
  dg * (h * (1 + geluT c g v)) + c * (h * (v * dg) * ((1 + geluT c g v) * (1 - geluT c g v)))
    + g * (c * (h * (v * dg) * ((1 + geluT c g v) * (1 - geluT c g v)))) * (k * (v * v))

theorem geluT_top {c g : ℝ} (hc : 0 < c) (hg : 0 < g) : geluT c g ⊤ = 1 := by
  have h : (c : EReal) * (⊤ + g * (⊤ * ⊤ * ⊤)) = ⊤ := by
    rw [EReal.top_mul_top, EReal.top_mul_top, EReal.coe_mul_top_of_pos hg, EReal.top_add_top, EReal.coe_mul_top_of_pos hc]
  rw [geluT, h, Ideal.tanh_top]

theorem geluT_bot {c g : ℝ} (hc : 0 < c) (hg : 0 < g) : geluT c g ⊥ = -1 := by
  have h : (c : EReal) * (⊥ + g * (⊥ * ⊥ * ⊥)) = ⊥ := by
    rw [EReal.bot_mul_bot, EReal.top_mul_bot, EReal.coe_mul_bot_of_pos hg, EReal.bot_add, EReal.coe_mul_bot_of_pos hc]
  rw [geluT, h, Ideal.tanh_bot]

theorem one_sub_one : (1 : EReal) - 1 = 0 := by
  rw [show (1 : EReal) = ((1 : ℝ) : EReal) from rfl, ← EReal.coe_sub, sub_self, EReal.coe_zero]

theorem one_add_neg_one : (1 : EReal) + -1 = 0 := one_sub_one

theorem geluT_coe (c g x : ℝ) : geluT c g x = ((Real.tanh (c * (x + g * (x * x * x))) : ℝ) : EReal) := by
  rw [geluT, ← EReal.coe_mul, ← EReal.coe_mul, ← EReal.coe_mul, ← EReal.coe_add, ← EReal.coe_mul, Ideal.tanh_coe]

theorem gelu_grad {h c g g3 k : ℝ} (hc : 0 < c) (hg : 0 < g) (h3 : g3 = g * k) (dg : ℝ) (v : EReal) :
    geluHand h c g g3 dg v = geluChain h c g k dg v := by
  induction v using EReal.rec with
  | bot =>
    rw [geluHand, geluChain, geluT_bot hc hg]
    have e : (1 : EReal) - -1 * -1 = 0 := by rw [neg_mul_neg, mul_one, one_sub_one]
    rw [e, one_add_neg_one]
    simp only [mul_zero, zero_mul, add_zero]
  | top =>
    rw [geluHand, geluChain, geluT_top hc hg, mul_one, one_sub_one]
    simp only [mul_zero, zero_mul, add_zero]
  | coe x =>
    rw [geluHand, geluChain, geluT_coe]
    generalize Real.tanh (c * (x + g * (x * x * x))) = t
    subst h3
    rw [show (1 : EReal) = ((1 : ℝ) : EReal) from rfl]
    simp only [← EReal.coe_mul, ← EReal.coe_add, ← EReal.coe_sub]
    congr 1
    ring

end Cert.Util

end
-- ==== Proof.SsmActBwdValue.lean ====
/- The gradient of the S5 mixer's GELU and skip: what the arrays of the two results hold. Block `t` of the first holds rows
   `512·t` to `512·t + 511` of `dg · gelu'(y + d·u)`; the second accumulates over the four blocks the column sums of that
   gradient times `u`. -/
module

public import proofs.«01_k».proof.Defs
public import proofs.«01_k».proof.Proof.Gen.SsmActBwdIdeal.Value
public import proofs.«01_k».proof.Proof.Gen.SsmActBwdRefIdeal.Read
public import proofs.«01_k».proof.Proof.Gelu
public import Idealize.ShloMosaic.Lib.Pointwise.Sums

@[expose] public section

set_option maxRecDepth 16384

noncomputable section

namespace Cert.SsmActBwdIdeal.Value

open Cert.SsmActBwdIdeal Cert.SsmActBwdIdeal.Gen Idealize.ShloMosaic Idealize.ShloMosaic.TcCoe Idealize.SL.Sem Cert.Util Pipeline

variable (m : (ℓ : Loc nD τ sig) → Buf (Elt Ideal) ℓ)

/-- Each window's block index at a grid point: its row block is the point, but for the row of `d` and the sums. -/
theorem idx_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 ∧ win0_5.index t 0 = 0 ∧ win0_5.index t 1 = 0 := by
  decide +kernel

/-- Row `a` of block `t`. -/
abbrev row (t : Fin cfg0.N) (a : Fin 512) : Fin 2048 := rowOf (T := 4) 512 rfl t a

/-- The four arguments' arrays. -/
abbrev dgA (c : Dev nD) : FVec Ideal S2048x1024 .f32 := m ((c : Thread nD τ).loc main_arg0)
abbrev yA (c : Dev nD) : FVec Ideal S2048x1024 .f32 := m ((c : Thread nD τ).loc main_arg1)
abbrev uA (c : Dev nD) : FVec Ideal S2048x1024 .f32 := m ((c : Thread nD τ).loc main_arg2)
abbrev dA (c : Dev nD) : FVec Ideal S1x1024 .f32 := m ((c : Thread nD τ).loc main_arg3)

theorem blk0 (c : Dev nD) (t : Fin cfg0.N) (a : Fin 512) (b : Fin 1024) : iblk m c 0 t (ix2 a b) = dgA m c (ix2 (row t a) b) := by
  show m ((c : Thread nD τ).loc main_arg0) ((win0_0.rect t).emb (ix2 a b)) = _
  congr 1
  apply idx2_ext
  · rw [win0_0.rect_emb_val, (idx_facts t).1]; rfl
  · rw [win0_0.rect_emb_val, (idx_facts t).2.1]; exact Nat.zero_add _

theorem blk1 (c : Dev nD) (t : Fin cfg0.N) (a : Fin 512) (b : Fin 1024) : iblk m c 1 t (ix2 a b) = yA m c (ix2 (row t a) b) := by
  show m ((c : Thread nD τ).loc main_arg1) ((win0_1.rect t).emb (ix2 a b)) = _
  congr 1
  apply idx2_ext
  · rw [win0_1.rect_emb_val, (idx_facts t).2.2.1]; rfl
  · rw [win0_1.rect_emb_val, (idx_facts t).2.2.2.1]; exact Nat.zero_add _

theorem blk2 (c : Dev nD) (t : Fin cfg0.N) (a : Fin 512) (b : Fin 1024) : iblk m c 2 t (ix2 a b) = uA m c (ix2 (row t a) b) := by
  show m ((c : Thread nD τ).loc main_arg2) ((win0_2.rect t).emb (ix2 a b)) = _
  congr 1
  apply idx2_ext
  · rw [win0_2.rect_emb_val, (idx_facts t).2.2.2.2.1]; rfl
  · rw [win0_2.rect_emb_val, (idx_facts t).2.2.2.2.2.1]; exact Nat.zero_add _

theorem blk3 (c : Dev nD) (t : Fin cfg0.N) (a : Fin 1) (b : Fin 1024) : iblk m c 3 t (ix2 a b) = dA m c (ix2 a b) := by
  show m ((c : Thread nD τ).loc main_arg3) ((win0_3.rect t).emb (ix2 a b)) = _
  congr 1
  apply idx2_ext
  · rw [win0_3.rect_emb_val, (idx_facts t).2.2.2.2.2.2.1]; exact Nat.zero_add _
  · rw [win0_3.rect_emb_val, (idx_facts t).2.2.2.2.2.2.2.1]; exact Nat.zero_add _

/-- Half, GELU's scale, the cubic's factor and its triple, as reals. -/
def hR : ℝ := 1 / 2
def cR : ℝ := 13386282 / 16777216
def gR : ℝ := 44715 / 1000000

theorem half_eq : Ideal.ofBits .f32 0x3F000000#32 = (hR : EReal) := by
  simp [Ideal.ofBits, Ideal.ieee, hR, -EReal.coe_mul]; norm_num
theorem scale_eq : Ideal.ofBits .f32 0x3F4C422A#32 = (cR : EReal) := by
  simp [Ideal.ofBits, Ideal.ieee, cR, -EReal.coe_mul]; norm_num
theorem three_eq : Ideal.ofBits .f32 0x40400000#32 = ((3 : ℝ) : EReal) := by
  simp [Ideal.ofBits, Ideal.ieee, -EReal.coe_mul]; norm_num
theorem cubic_eq : Ideal.div (Ideal.ofBits .f32 0x472EAB00#32) (Ideal.ofBits .f32 0x49742400#32) = (gR : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Ideal.div_coe (by norm_num), ← EReal.coe_mul, gR]
  norm_num
theorem named_eq : (Named.named κ "gelu_cubic" 0x3D372713#32 : Ideal .f32) = (gR : EReal) := by
  show ((8943 / 200000 : ℝ) : EReal) = _
  rw [gR]; norm_num
theorem named3_eq : (Named.named κ "gelu_cubic_3" 0x3E095D4F#32 : Ideal .f32) = ((gR * 3 : ℝ) : EReal) := by
  show ((26829 / 200000 : ℝ) : EReal) = _
  rw [gR]; norm_num

open Cert.SsmActBwdRefIdeal.Read in
/-- The reference's first result before its cast, at an index. -/
theorem ref_dy (dg y u : FVec Ideal S2048x1024 .f32) (d : FVec Ideal S1x1024 .f32) (r : Fin 2048) (b : Fin 1024) :
    val_main_v38 (F := Ideal) dg y u d (ix2 r b)
      = geluChain hR cR gR 3 (dg (ix2 r b)) (y (ix2 r b) + d (ix2 0 b) * u (ix2 r b)) := by
  have hv : val_main_v4 (F := Ideal) y u d (ix2 r b) = y (ix2 r b) + d (ix2 0 b) * u (ix2 r b) := by
    pointwise [val_main_v4, val_main_v3, val_main_v2, val_main_v1, val_main_v0]
  pointwise [val_main_v38, val_main_v37, val_main_v36, val_main_v35, val_main_v34, val_main_v33, val_main_v32, val_main_cst_8, val_main_v31, val_main_v30, val_main_v29, val_main_cst_7, val_main_v28, val_main_v27, val_main_v26, val_main_v25, val_main_v24, val_main_cst_6, val_main_v23, val_main_v22, val_main_cst_5, val_main_v21, val_main_v20, val_main_v19, val_main_cst_4, val_main_v18, val_main_v17, val_main_cst_3, val_main_v16, val_main_v15, val_main_v14, val_main_cst_2, val_main_v13, val_main_v12, val_main_v11, val_main_v10, val_main_v9, val_main_cst_1, val_main_v8, val_main_v7, val_main_v6, val_main_v5, val_main_cst_0, val_main_cst, val_main_v4, val_main_v3, val_main_v2, val_main_v1, val_main_v0, geluChain, geluT, half_eq, scale_eq, three_eq, cubic_eq]

open Cert.SsmActBwdRefIdeal.Read in
theorem ref_dy16 (dg y u : FVec Ideal S2048x1024 .f32) (d : FVec Ideal S1x1024 .f32) (r : Fin 2048) (b : Fin 1024) :
    val_main_v44 (F := Ideal) dg y u d (ix2 r b) = val_main_v38 (F := Ideal) dg y u d (ix2 r b) := by
  pointwise [val_main_v44]

open Cert.SsmActBwdRefIdeal.Read in
theorem ref_dd (dg y u : FVec Ideal S2048x1024 .f32) (d : FVec Ideal S1x1024 .f32) (b : Fin 1024) :
    val_main_v43 (F := Ideal) dg y u d (ix2 0 b) = ∑ r : Fin 2048, val_main_v38 (F := Ideal) dg y u d (ix2 r b) * u (ix2 r b) := by
  pointwise [val_main_v43, val_main_v42, val_main_cst_10, val_main_v41, val_main_v40, val_main_cst_9, val_main_v39]
  exact Fin.sum_univ_one _

theorem pay3_eq (u dg y : Vec Ideal S512x1024 .f32) (d : Vec Ideal S1x1024 .f32) (a : Fin 512) (b : Fin 1024) :
    k0_pay3 u dg y d (ix2 a b) = geluHand hR cR gR (gR * 3) (dg (ix2 a b)) (y (ix2 a b) + d (ix2 0 b) * u (ix2 a b)) := by
  pointwise [k0_pay3, geluHand, geluT, half_eq, scale_eq, named_eq, named3_eq]

theorem pay4_eq (u dg y : Vec Ideal S512x1024 .f32) (d : Vec Ideal S1x1024 .f32) : k0_pay4 u dg y d = k0_pay3 u dg y d := rfl

theorem pay1_eq (u g : Vec Ideal S512x1024 .f32) (b : Fin 1024) :
    k0_pay1 u g (ix2 0 b) = ∑ a : Fin 512, g (ix2 a b) * u (ix2 a b) := by
  pointwise [k0_pay1]

theorem pay2_eq (u g : Vec Ideal S512x1024 .f32) (o : Vec Ideal S1x1024 .f32) (b : Fin 1024) :
    k0_pay2 u g o (ix2 0 b) = o (ix2 0 b) + k0_pay1 u g (ix2 0 b) := by
  pointwise [k0_pay2]

theorem outA4 (c : Dev nD) (i : grid0.Coords) (a1 a2 a3 : Memref sig .tc .vmem S512x1024 .f32) (h1 : a1.IsWhole) (h2 : a2.IsWhole) (h3 : a3.IsWhole)
    (a4 : Memref sig .tc .vmem S1x1024 .f32) (h4 : a4.IsWhole) (a5 : Memref sig .tc .vmem S512x1024 .bf16) (h5 : a5.IsWhole)
    (a6 : Memref sig .tc .vmem S1x1024 .f32) (h6 : a6.IsWhole) (hc0 : cond0_0 i) (hc1 : ¬ cond0_1 i)
    (x0 x1 x2 : Vec Ideal S512x1024 .f32) (x3 : Vec Ideal S1x1024 .f32) :
    out0_A_4 c i a1 h1 a2 h2 a3 h3 a4 h4 a5 h5 a6 h6 hc0 hc1 x0 x1 x2 x3 = k0_pay4 x2 x0 x1 x3 := by
  unfold out0_A_4
  rw [View.read_writes_eq_canon _ _ _ (cover0_A_4 c i a1 h1 a2 h2 a3 h3 a4 h4 a5 h5 a6 h6 hc0 hc1 x0 x1 x2 x3)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x1024) zero2, shapeCast_self]

theorem outA5 (c : Dev nD) (i : grid0.Coords) (a1 a2 a3 : Memref sig .tc .vmem S512x1024 .f32) (h1 : a1.IsWhole) (h2 : a2.IsWhole) (h3 : a3.IsWhole)
    (a4 : Memref sig .tc .vmem S1x1024 .f32) (h4 : a4.IsWhole) (a5 : Memref sig .tc .vmem S512x1024 .bf16) (h5 : a5.IsWhole)
    (a6 : Memref sig .tc .vmem S1x1024 .f32) (h6 : a6.IsWhole) (hc0 : cond0_0 i) (hc1 : ¬ cond0_1 i)
    (x0 x1 x2 : Vec Ideal S512x1024 .f32) (x3 : Vec Ideal S1x1024 .f32) :
    out0_A_5 c i a1 h1 a2 h2 a3 h3 a4 h4 a5 h5 a6 h6 hc0 hc1 x0 x1 x2 x3 = k0_pay1 x2 (k0_pay3 x2 x0 x1 x3) := by
  unfold out0_A_5
  rw [View.read_writes_eq_canon _ _ _ (cover0_A_5 c i a1 h1 a2 h2 a3 h3 a4 h4 a5 h5 a6 h6 hc0 hc1 x0 x1 x2 x3)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x1024) zero2, shapeCast_self]

theorem outB4 (c : Dev nD) (i : grid0.Coords) (a1 a2 a3 : Memref sig .tc .vmem S512x1024 .f32) (h1 : a1.IsWhole) (h2 : a2.IsWhole) (h3 : a3.IsWhole)
    (a4 : Memref sig .tc .vmem S1x1024 .f32) (h4 : a4.IsWhole) (a5 : Memref sig .tc .vmem S512x1024 .bf16) (h5 : a5.IsWhole)
    (a6 : Memref sig .tc .vmem S1x1024 .f32) (h6 : a6.IsWhole) (hc0 : ¬ cond0_0 i) (hc1 : cond0_1 i)
    (x0 x1 x2 : Vec Ideal S512x1024 .f32) (x3 xo : Vec Ideal S1x1024 .f32) :
    out0_B_4 c i a1 h1 a2 h2 a3 h3 a4 h4 a5 h5 a6 h6 hc0 hc1 x0 x1 x2 x3 xo = k0_pay4 x2 x0 x1 x3 := by
  unfold out0_B_4
  rw [View.read_writes_eq_canon _ _ _ (cover0_B_4 c i a1 h1 a2 h2 a3 h3 a4 h4 a5 h5 a6 h6 hc0 hc1 x0 x1 x2 x3 xo)]
  unfold kernelRun0_B
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x1024) zero2, shapeCast_self]

theorem outB5 (c : Dev nD) (i : grid0.Coords) (a1 a2 a3 : Memref sig .tc .vmem S512x1024 .f32) (h1 : a1.IsWhole) (h2 : a2.IsWhole) (h3 : a3.IsWhole)
    (a4 : Memref sig .tc .vmem S1x1024 .f32) (h4 : a4.IsWhole) (a5 : Memref sig .tc .vmem S512x1024 .bf16) (h5 : a5.IsWhole)
    (a6 : Memref sig .tc .vmem S1x1024 .f32) (h6 : a6.IsWhole) (hc0 : ¬ cond0_0 i) (hc1 : cond0_1 i)
    (x0 x1 x2 : Vec Ideal S512x1024 .f32) (x3 xo : Vec Ideal S1x1024 .f32) :
    out0_B_5 c i a1 h1 a2 h2 a3 h3 a4 h4 a5 h5 a6 h6 hc0 hc1 x0 x1 x2 x3 xo = k0_pay2 x2 (k0_pay3 x2 x0 x1 x3) xo := by
  unfold out0_B_5
  rw [View.read_writes_eq_canon _ _ _ (cover0_B_5 c i a1 h1 a2 h2 a3 h3 a4 h4 a5 h5 a6 h6 hc0 hc1 x0 x1 x2 x3 xo)]
  unfold kernelRun0_B
  dsimp only
  sl_unfold_words
  rw [View.canon_unit_zero zero2]
  simp only [View.readAt_eq_ld, h1.read_unread, h2.read_unread, h3.read_unread, h4.read_unread, h6.read_unread, View.ld_unit_zero (S := S512x1024) zero2, View.ld_unit_zero (S := S1x1024) zero2, shapeCast_self]

theorem outs_fst (c : Dev nD) (t : Fin cfg0.N) :
    (outsAt0 m c t.val t.isLt).1 = k0_pay4 (iblk m c 2 t) (iblk m c 0 t) (iblk m c 1 t) (iblk m c 3 t) := by
  have hN : cfg0.N = 4 := N_0
  have hlt := t.isLt
  by_cases h : 1 ≤ t.val
  · rw [outsAt0_B m c t (by omega) h]
    dsimp only
    rw [outB4]
  · rw [outsAt0_A m c t (by omega) h]
    dsimp only
    rw [outA4]

/-- Block `t`'s contribution to the column sums. -/
abbrev part (c : Dev nD) (t : Fin cfg0.N) : FVec Ideal S1x1024 .f32 :=
  k0_pay1 (iblk m c 2 t) (k0_pay3 (iblk m c 2 t) (iblk m c 0 t) (iblk m c 1 t) (iblk m c 3 t))

theorem outs_zero (c : Dev nD) (h : 0 < cfg0.N) : (outsAt0 m c 0 h).2 = part m c ⟨0, h⟩ := by
  rw [outsAt0_A m c ⟨0, h⟩ rfl (by show ¬ 1 ≤ 0; omega)]
  dsimp only
  rw [outA5]

theorem outs_succ (c : Dev nD) (n : ℕ) (h : n + 1 < cfg0.N) (b : Fin 1024) :
    (outsAt0 m c (n + 1) h).2 (ix2 0 b) = (outsAt0 m c n (Nat.lt_of_succ_lt h)).2 (ix2 0 b) + part m c ⟨n + 1, h⟩ (ix2 0 b) := by
  have hN : cfg0.N = 4 := N_0
  rw [outsAt0_B m c ⟨n + 1, h⟩ (by show ¬ (n + 1) % 4 = 0; omega) (Nat.succ_pos n)]
  dsimp only
  rw [outB5]
  exact pay2_eq ..

theorem outs_sum (c : Dev nD) (b : Fin 1024) (n : ℕ) (h : n < cfg0.N) :
    (outsAt0 m c n h).2 (ix2 0 b)
      = ∑ t : Fin (n + 1), (part m c ⟨t.val, lt_of_le_of_lt (Nat.le_of_lt_succ t.isLt) h⟩ (ix2 0 b) : EReal) :=
  acc_sum (M := EReal) (fun k hk => (outsAt0 m c k hk).2 (ix2 0 b)) (fun k hk => part m c ⟨k, hk⟩ (ix2 0 b))
    (fun h => congrFun (outs_zero m c h) (ix2 0 b)) (fun k hk => outs_succ m c k hk b) n h

/-- The two results, as the reference computes them. -/
abbrev dyR (c : Dev nD) : FVec Ideal S2048x1024 .bf16 :=
  Cert.SsmActBwdRefIdeal.Read.val_main_v44 (F := Ideal) (dgA m c) (yA m c) (uA m c) (dA m c)
abbrev ddR (c : Dev nD) : FVec Ideal S1x1024 .f32 :=
  Cert.SsmActBwdRefIdeal.Read.val_main_v43 (F := Ideal) (dgA m c) (yA m c) (uA m c) (dA m c)

/-- Block `t` of the gradient is the reference's rows, when the cotangent is finite. -/
theorem pay_ref (c : Dev nD) (hfin : ∀ i, ∃ r : ℝ, dgA m c i = r) (t : Fin cfg0.N) (a : Fin 512) (b : Fin 1024) :
    k0_pay3 (iblk m c 2 t) (iblk m c 0 t) (iblk m c 1 t) (iblk m c 3 t) (ix2 a b)
      = Cert.SsmActBwdRefIdeal.Read.val_main_v38 (F := Ideal) (dgA m c) (yA m c) (uA m c) (dA m c) (ix2 (row t a) b) := by
  rw [pay3_eq, ref_dy, blk0, blk1, blk2, blk3]
  obtain ⟨r, hr⟩ := hfin (ix2 (row t a) b)
  rw [hr]
  exact gelu_grad (by norm_num [cR]) (by norm_num [gR]) rfl r _

theorem flush4 : ∀ t : Fin cfg0.N, (cfg0.win 4).flush t = true := by decide +kernel

theorem mem_blk4 (t : Fin cfg0.N) (i : S2048x1024.Idx) : i ∈ ((cfg0.win 4).blk t).view.set ↔
    ∀ a : Fin 2, win0_4.index t a * win0_4.size a ≤ (i a).val ∧ (i a).val < win0_4.index t a * win0_4.size a + win0_4.size a := by
  show i ∈ ((View.whole main_v0_0).slice (win0_4.rect t)).set ↔ _
  rw [View.set_slice_whole, Rect.mem_set_unit]
  rfl

theorem mem_blk5 (t : Fin cfg0.N) (i : S1x1024.Idx) : i ∈ ((cfg0.win 5).blk t).view.set ↔
    ∀ a : Fin 2, win0_5.index t a * win0_5.size a ≤ (i a).val ∧ (i a).val < win0_5.index t a * win0_5.size a + win0_5.size a := by
  show i ∈ ((View.whole main_v0_1).slice (win0_5.rect t)).set ↔ _
  rw [View.set_slice_whole, Rect.mem_set_unit]
  rfl

/-- Every index of the first result lies in the block of some point. -/
theorem cover4 (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  refine ⟨⟨(i 0).val / 512, by show _ < 4; omega⟩, flush4 _, (mem_blk4 _ i).2 fun a => ?_⟩
  match a with
  | ⟨0, _⟩ =>
    show win0_4.index _ 0 * 512 ≤ (i 0).val ∧ (i 0).val < win0_4.index _ 0 * 512 + 512
    rw [(idx_facts _).2.2.2.2.2.2.2.2.1]
    show (i 0).val / 512 * 512 ≤ (i 0).val ∧ (i 0).val < (i 0).val / 512 * 512 + 512
    omega
  | ⟨1, _⟩ =>
    show win0_4.index _ 1 * 1024 ≤ (i 1).val ∧ (i 1).val < win0_4.index _ 1 * 1024 + 1024
    rw [(idx_facts _).2.2.2.2.2.2.2.2.2.1]
    omega

theorem final4 (c : Dev nD) (hfin : ∀ i, ∃ r : ℝ, dgA m c i = r) : (dats m 0 c).arrAt 4 cfg0.N = dyR m c := by
  refine Dat.arrAt_eq_of_cover (dats m 0 c) 4 _ ?_ cover4
  intro t _
  rw [flushed4]
  funext y
  show (outsAt0 m c t.val t.isLt).1 y = dyR m c ((win0_4.rect t).emb y)
  rw [outs_fst, pay4_eq]
  obtain ⟨a, b, rfl⟩ : ∃ a b, y = ix2 a b := ⟨y 0, y 1, eq_ix2 y⟩
  rw [show (win0_4.rect t).emb (ix2 a b) = ix2 (row t a) b from ?_]
  · exact (pay_ref m c hfin t a b).trans (ref_dy16 ..).symm
  · apply idx2_ext
    · rw [win0_4.rect_emb_val, (idx_facts t).2.2.2.2.2.2.2.2.1]; rfl
    · rw [win0_4.rect_emb_val, (idx_facts t).2.2.2.2.2.2.2.2.2.1]; exact Nat.zero_add _

theorem last_dd (c : Dev nD) (hfin : ∀ i, ∃ r : ℝ, dgA m c i = r) (h : 3 < cfg0.N) (b : Fin 1024) :
    (outsAt0 m c 3 h).2 (ix2 0 b) = ddR m c (ix2 0 b) := by
  rw [outs_sum]
  refine Eq.trans ?_ (ref_dd (dgA m c) (yA m c) (uA m c) (dA m c) b).symm
  rw [Fin.sum_univ_tiles 4 512 rfl]
  refine Finset.sum_congr rfl fun t _ => ?_
  rw [part, pay1_eq]
  refine Finset.sum_congr rfl fun a _ => ?_
  rw [pay_ref m c hfin, blk2]
  rfl

theorem final5 (c : Dev nD) (hfin : ∀ i, ∃ r : ℝ, dgA m c i = r) : (dats m 0 c).arrAt 5 cfg0.N = ddR m c := by
  have hN : cfg0.N = 4 := N_0
  refine Dat.arrAt_eq_of_cover (dats m 0 c) 5 _ ?_ ?_
  · intro t hf
    have h3 : t.val = 3 := by have := (flush0_5 t).mp hf; have := t.isLt; omega
    obtain rfl : t = t0_3 := Fin.ext h3
    rw [flushed5]
    funext y
    show (outsAt0 m c 3 (lt_of_lt_of_eq (by decide) N_0.symm)).2 y = ddR m c ((win0_5.rect t0_3).emb y)
    obtain ⟨a, b, rfl⟩ : ∃ a b, y = ix2 a b := ⟨y 0, y 1, eq_ix2 y⟩
    obtain rfl : a = 0 := Subsingleton.elim _ _
    rw [last_dd m c hfin]
    congr 1
    apply idx2_ext
    · rw [win0_5.rect_emb_val, (idx_facts _).2.2.2.2.2.2.2.2.2.2.1]; rfl
    · rw [win0_5.rect_emb_val, (idx_facts _).2.2.2.2.2.2.2.2.2.2.2]; exact (Nat.zero_add _).symm
  · intro i
    have hi0 : (i 0).val < 1 := (i 0).isLt
    have hi1 : (i 1).val < 1024 := (i 1).isLt
    refine ⟨t0_3, (flush0_5 t0_3).mpr rfl, (mem_blk5 _ i).2 fun a => ?_⟩
    match a with
    | ⟨0, _⟩ =>
      show win0_5.index _ 0 * 1 ≤ (i 0).val ∧ (i 0).val < win0_5.index _ 0 * 1 + 1
      rw [(idx_facts _).2.2.2.2.2.2.2.2.2.2.1]
      omega
    | ⟨1, _⟩ =>
      show win0_5.index _ 1 * 1024 ≤ (i 1).val ∧ (i 1).val < win0_5.index _ 1 * 1024 + 1024
      rw [(idx_facts _).2.2.2.2.2.2.2.2.2.2.2]
      omega

end Cert.SsmActBwdIdeal.Value

end
-- ==== Proof.SsmActBwdClaims.lean ====
/- The gradient of the S5 mixer's GELU and skip: its claims. -/
module

public import proofs.«01_k».proof.Proof.SsmActBwdValue
public import proofs.«01_k».proof.Proof.Gen.SsmActBwd.Frame
public import proofs.«01_k».proof.Proof.Gen.SsmActBwdRefIdeal
public import proofs.«01_k».proof.Proof.Gen.SsmActBwdRefIdeal.Run
public import proofs.«01_k».proof.Proof.Gen.Pre_finite_ssm_act_bwd
public import Idealize.ShloMosaic.Lib.Tactic

@[expose] public section

set_option maxRecDepth 16384

noncomputable section

namespace Cert.Proof.SsmActBwd

open Idealize.ShloMosaic Idealize.SL.Sem Cert.Util

theorem frame_p : Cert.quiescent_SsmActBwd := fun m ρ _ => Cert.SsmActBwd.Gen.frame m ρ

theorem frame_i : Cert.quiescent_SsmActBwdIdeal := fun m ρ _ => Cert.SsmActBwdIdeal.Gen.frame m ρ

theorem frame_r : Cert.quiescent_SsmActBwdRefIdeal := fun m ρ _ =>
  (θ_run Cert.SsmActBwdRefIdeal.defs _ _).mono (fun r h => ⟨fun c => (h c).2.2, sem_eq_zero_of_no_sems (by decide) r.2⟩)
    (Cert.SsmActBwdRefIdeal.Value.run (F := Ideal) m ρ)

/-- The named constants are the numbers that the certificate's table gives. -/
theorem preserves : Cert.preserves_SsmActBwd_SsmActBwdIdeal :=
  ⟨IdealRules.named_const.statement Cert.SsmActBwdIdeal.κ "gelu_cubic" .f32 0x3D372713#32 ((8943 / 200000 : ℝ) : EReal) rfl,
    IdealRules.named_const.statement Cert.SsmActBwdIdeal.κ "gelu_cubic_3" .f32 0x3E095D4F#32 ((26829 / 200000 : ℝ) : EReal) rfl⟩

theorem frame_i_pre : Cert.quiescent_SsmActBwdIdeal_pre_finite_ssm_act_bwd := fun m ρ _ => Cert.SsmActBwdIdeal.Gen.frame m ρ

theorem frame_r_pre : Cert.quiescent_SsmActBwdRefIdeal_pre_finite_ssm_act_bwd := fun m ρ _ => frame_r m ρ trivial

theorem algebraic : Cert.algebraic_SsmActBwdIdeal_SsmActBwdRefIdeal_pre_finite_ssm_act_bwd := by
  intro m ρ m' ρ' hpre hag
  refine ⟨_, _, (θ_run Cert.SsmActBwdIdeal.defs _ _).mono (fun r h c => ⟨(h c).1.trans (Cert.SsmActBwdIdeal.Value.final4 m c (fun i => real_of_lt (congrFun (hpre c) i))), (h c).2.1.trans (Cert.SsmActBwdIdeal.Value.final5 m c (fun i => real_of_lt (congrFun (hpre c) i))), (h c).2.2⟩)
    (Cert.SsmActBwdIdeal.Value.run_blocks m ρ), ?_⟩
  refine (θ_run Cert.SsmActBwdRefIdeal.defs _ _).mono (fun r h c => ⟨(h c).1.trans ?_, (h c).2.1.trans ?_, (h c).2.2⟩)
    (Cert.SsmActBwdRefIdeal.Value.run (F := Ideal) m' ρ')
  · show Cert.SsmActBwdRefIdeal.Read.val_main_v44 (F := Ideal) (m' (c.tc.loc Cert.SsmActBwdRefIdeal.main_arg0)) (m' (c.tc.loc Cert.SsmActBwdRefIdeal.main_arg1)) (m' (c.tc.loc Cert.SsmActBwdRefIdeal.main_arg2)) (m' (c.tc.loc Cert.SsmActBwdRefIdeal.main_arg3)) = _
    rw [(hag c).1, (hag c).2.1, (hag c).2.2.1, (hag c).2.2.2]
  · show Cert.SsmActBwdRefIdeal.Read.val_main_v43 (F := Ideal) (m' (c.tc.loc Cert.SsmActBwdRefIdeal.main_arg0)) (m' (c.tc.loc Cert.SsmActBwdRefIdeal.main_arg1)) (m' (c.tc.loc Cert.SsmActBwdRefIdeal.main_arg2)) (m' (c.tc.loc Cert.SsmActBwdRefIdeal.main_arg3)) = _
    rw [(hag c).1, (hag c).2.1, (hag c).2.2.1, (hag c).2.2.2]

end Cert.Proof.SsmActBwd

end
-- ==== Proof.Rows.lean ====
/- Rows of an 8-row accumulator: what a list of one-row stores leaves at an index, and what a one-row load reads. -/
module

public import Idealize.ShloMosaic.Lib.VecWindow
public import Idealize.ShloMosaic.Lib.Pipeline.Value
public import proofs.«01_k».proof.Proof.Util

@[expose] public section

noncomputable section

namespace Cert.Util

open Idealize.ShloMosaic

variable {sig : RefSig} {κ : Kind} {sp : Space} {e : EltTy}

/-- A one-row store over earlier ones: at its own row the payload, elsewhere what was there. -/
theorem read_row_cons {F : FTy → Type} (v : View sig κ sp ⟨2, ![8, 1024]⟩ e) (f : v.ty.Contents (Elt F)) (k : ℕ)
    (inb : ∀ a : Fin 2, ![k, 0] a + ![1, 1024] a ≤ (⟨2, ![8, 1024]⟩ : Shape).size a)
    (w : (Rect.unit (s := ⟨2, ![8, 1024]⟩) ![k, 0] ![1, 1024] inb).shape.Idx → Elt F e) (L : List (View.Piece (Elt F) ⟨2, ![8, 1024]⟩ e))
    (a : Fin 8) (b : Fin 1024) :
    v.read (Elt F) (v.writes (Elt F) f (⟨Rect.unit (s := ⟨2, ![8, 1024]⟩) ![k, 0] ![1, 1024] inb, w⟩ :: L)) (ix2 a b)
      = if a.val = k then w (ix2 (n0 := 1) 0 b) else v.read (Elt F) (v.writes (Elt F) f L) (ix2 a b) := by
  by_cases h : a.val = k
  · rw [if_pos h]
    exact View.read_writes_cons_rows_of_mem v f inb w L (ix2 a b) (ix2 (n0 := 1) 0 b) rfl (by subst h; rfl) rfl
  · rw [if_neg h]
    refine View.read_writes_cons_rows_of_not_mem (o := k) (W := 1) v f inb w L (ix2 a b) rfl rfl ?_
    show a.val < k ∨ k + 1 ≤ a.val
    omega

/-- A one-row load reads that row. -/
theorem readAt_row {F : FTy → Type} (v : View sig κ sp ⟨2, ![8, 1024]⟩ e) (f : v.ty.Contents (Elt F)) (k : Fin 8)
    (inb : ∀ a : Fin 2, ![k.val, 0] a + ![1, 1024] a ≤ (⟨2, ![8, 1024]⟩ : Shape).size a) (b : Fin 1024) :
    v.readAt (Elt F) (Rect.unit (s := ⟨2, ![8, 1024]⟩) ![k.val, 0] ![1, 1024] inb).toLoadRect f (ix2 (n0 := 1) 0 b)
      = v.read (Elt F) f (ix2 k b) := by
  rw [View.readAt_apply]
  congr 1
  apply idx2_ext
  · show k.val + 1 * 0 = k.val; omega
  · show 0 + 1 * b.val = b.val; omega

/-- The same of a plain array. -/
theorem ld_row {Val : EltTy → Type} (x : (⟨2, ![8, 1024]⟩ : Shape).Idx → Val e) (k : Fin 8)
    (inb : ∀ a : Fin 2, ![k.val, 0] a + ![1, 1024] a ≤ (⟨2, ![8, 1024]⟩ : Shape).size a) (b : Fin 1024) :
    View.ld x (Rect.unit (s := ⟨2, ![8, 1024]⟩) ![k.val, 0] ![1, 1024] inb) (ix2 (n0 := 1) 0 b) = x (ix2 k b) := by
  show x _ = _
  congr 1
  apply idx2_ext
  · show k.val + 1 * 0 = k.val; omega
  · show 0 + 1 * b.val = b.val; omega

theorem zero3 : (![0, 0, 0] : Fin 3 → ℕ) = fun _ => 0 := by
  funext a
  match a with
  | ⟨0, _⟩ => rfl
  | ⟨1, _⟩ => rfl
  | ⟨2, _⟩ => rfl

/-- Two indices of a rank-3 array with equal coordinates are equal. -/
theorem idx3_ext {n0 n1 n2 : ℕ} {x y : (⟨3, ![n0, n1, n2]⟩ : Shape).Idx} (h0 : (x 0).val = (y 0).val) (h1 : (x 1).val = (y 1).val)
    (h2 : (x 2).val = (y 2).val) : x = y := by
  funext a
  match a with
  | ⟨0, _⟩ => exact Fin.ext h0
  | ⟨1, _⟩ => exact Fin.ext h1
  | ⟨2, _⟩ => exact Fin.ext h2

end Cert.Util

end
-- ==== Proof.NormGrad.lean ====
/- The gradient of a row's RMS normalisation. With `r = 1/√(mean x² + ε)`, the hand-written form
   `r·(a − (x·r)·mean(a·(x·r)))` is what differentiating `x·r` line by line gives, when the row `x` and the cotangent row `a`
   are real numbers. -/
module

public import Idealize.ShloMosaic.Lib.Pointwise
public import proofs.«01_k».proof.Proof.Util

@[expose] public section

noncomputable section

namespace Cert.Util

open Idealize.ShloMosaic

/-- The mean square of a row, plus ε. -/
def msq (x : Fin 1024 → EReal) : EReal :=
  Ideal.div (∑ b : Fin 1024, x b * x b) (Ideal.ofBits .f32 0x44800000#32) + Ideal.ofBits .f32 0x358637BD#32

/-- The row's normalising factor. -/
def rstd (x : Fin 1024 → EReal) : EReal := Ideal.rsqrt (msq x)

/-- A row's cotangent, by hand. -/
def normHand (x a : Fin 1024 → EReal) (b : Fin 1024) : EReal :=
  rstd x * (a b - x b * rstd x * Ideal.div (∑ i : Fin 1024, a i * (x i * rstd x)) (Ideal.ofBits .f32 0x44800000#32))

/-- What reaches each element of the row through the mean square: half of the factor of `x b`, differentiated line by line. -/
def normVar (x a : Fin 1024 → EReal) : EReal :=
  Ideal.div ((∑ i : Fin 1024, x i * a i) * (Ideal.ofBits .f32 0xBF000000#32 * Ideal.div (rstd x) (msq x)))
    (Ideal.ofBits .f32 0x44800000#32)

def epsR : ℝ := 8796093 / 8796093022208

theorem eps_eq : Ideal.ofBits .f32 0x358637BD#32 = (epsR : EReal) := by
  simp [Ideal.ofBits, Ideal.ieee, epsR, -EReal.coe_mul]; norm_num
theorem n1024_eq : Ideal.ofBits .f32 0x44800000#32 = ((1024 : ℝ) : EReal) := by
  simp [Ideal.ofBits, Ideal.ieee, -EReal.coe_mul]; norm_num
theorem mhalf_eq : Ideal.ofBits .f32 0xBF000000#32 = ((-(1 / 2) : ℝ) : EReal) := by
  simp [Ideal.ofBits, Ideal.ieee, -EReal.coe_mul]; norm_num

theorem coe_sum {ι : Type*} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- The same over the reals. -/
def msR (X : Fin 1024 → ℝ) : ℝ := (∑ b, X b * X b) * (1 / 1024) + epsR

theorem msR_pos (X : Fin 1024 → ℝ) : 0 < msR X := by
  have h : 0 ≤ ∑ b, X b * X b := Finset.sum_nonneg fun b _ => mul_self_nonneg _
  have : 0 < epsR := by norm_num [epsR]
  unfold msR
  positivity

theorem msq_coe (X : Fin 1024 → ℝ) : msq (fun b => (X b : EReal)) = (msR X : EReal) := by
  unfold msq msR
  rw [n1024_eq, eps_eq, Ideal.div_coe (by norm_num)]
  simp only [← EReal.coe_mul, ← coe_sum, ← EReal.coe_add]

theorem rstd_coe (X : Fin 1024 → ℝ) : rstd (fun b => (X b : EReal)) = (((√(msR X))⁻¹ : ℝ) : EReal) := by
  have h := msR_pos X
  rw [rstd, msq_coe, Ideal.rsqrt_coe, if_neg h.not_gt, if_neg h.ne']

theorem norm_grad {x a : Fin 1024 → EReal} (hx : ∀ b, ∃ r : ℝ, x b = r) (ha : ∀ b, ∃ r : ℝ, a b = r) (b : Fin 1024) :
    normHand x a b = a b * rstd x + (x b * normVar x a + normVar x a * x b) := by
  choose X hX using hx
  choose A hA using ha
  obtain rfl : x = fun b => (X b : EReal) := funext hX
  obtain rfl : a = fun b => (A b : EReal) := funext hA
  have h := msR_pos X
  have hs : √(msR X) * √(msR X) = msR X := Real.mul_self_sqrt h.le
  have hs0 : √(msR X) ≠ 0 := (Real.sqrt_pos.mpr h).ne'
  simp only [normHand, normVar, rstd_coe, msq_coe, n1024_eq, mhalf_eq]
  rw [Ideal.div_coe h.ne', Ideal.div_coe (by norm_num), Ideal.div_coe (by norm_num)]
  simp only [← EReal.coe_mul, ← coe_sum, ← EReal.coe_add, ← EReal.coe_sub]
  congr 1
  have e1 : ∑ i, A i * (X i * (√(msR X))⁻¹) = (∑ i, X i * A i) * (√(msR X))⁻¹ := by
    rw [Finset.sum_mul]
    exact Finset.sum_congr rfl fun i _ => by ring
  have e2 : 1 / msR X = (√(msR X))⁻¹ * (√(msR X))⁻¹ := by
    rw [← mul_inv, hs, one_div]
  rw [e1, e2]
  ring

abbrev half : EReal := Ideal.ofBits .f32 0x3F000000#32

/-- A real factor of at least zero goes into a sum of extended reals. -/
theorem mul_sum_real {ι : Type*} (s : Finset ι) (q : ℝ) (hq : 0 ≤ q) (g : ι → EReal) : (q : EReal) * ∑ i ∈ s, g i = ∑ i ∈ s, (q : EReal) * g i := by
  classical
  induction s using Finset.induction_on with
  | empty => exact mul_zero _
  | insert i s h ih =>
    rw [Finset.sum_insert h, Finset.sum_insert h, EReal.left_distrib_of_nonneg_of_ne_top (by exact_mod_cast hq) (EReal.coe_ne_top q), ih]

theorem half_eq : half = ((1 / 2 : ℝ) : EReal) := by
  simp [half, Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem inv1024_eq : Ideal.ofBits .f32 0x3A800000#32 = ((1 / 1024 : ℝ) : EReal) := by
  simp [Ideal.ofBits, Ideal.ieee, -EReal.coe_mul]; norm_num
theorem inv2048_eq : Ideal.ofBits .f32 0x3A000000#32 = ((1 / 2048 : ℝ) : EReal) := by
  simp [Ideal.ofBits, Ideal.ieee, -EReal.coe_mul]; norm_num

end Cert.Util

end
-- ==== Proof.PrenormBwdValue.lean ====
/- The gradient of the pre-normalisation of a sublayer and of its residual: what the arrays of the two results hold. Block `t`
   of the first holds rows `512·t` to `512·t + 511` of the gradient of the sublayer's input; rows 0, 1, 2 of the second
   accumulate over the four blocks the gradients of the norm's gain, of the scale and of the shift, and its other rows stay zero. -/
module

public import proofs.«01_k».proof.Defs
public import proofs.«01_k».proof.Proof.Gen.PrenormBwdIdeal.Value
public import proofs.«01_k».proof.Proof.Gen.PrenormBwdRefIdeal.Read
public import proofs.«01_k».proof.Proof.Gen.Pre_finite_prenorm_bwd
public import proofs.«01_k».proof.Proof.Rows
public import proofs.«01_k».proof.Proof.NormGrad
public import Idealize.ShloMosaic.Lib.Pointwise.Sums

@[expose] public section

set_option maxRecDepth 16384

noncomputable section

namespace Cert.PrenormBwdIdeal.Value

open Cert.PrenormBwdIdeal Cert.PrenormBwdIdeal.Gen Idealize.ShloMosaic Idealize.ShloMosaic.TcCoe Idealize.SL.Sem Cert.Util Pipeline

variable (m : (ℓ : Loc nD τ sig) → Buf (Elt Ideal) ℓ)

/-- Each window's block index at a grid point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0 ∧ win0_3.index t 2 = 0)
    ∧ (win0_4.index t 0 = t.val ∧ win0_4.index t 1 = 0) ∧ (win0_5.index t 0 = 0 ∧ win0_5.index t 1 = 0) := by
  decide +kernel

/-- Row `a` of block `t`. -/
abbrev row (t : Fin cfg0.N) (a : Fin 512) : Fin 2048 := rowOf (T := 4) 512 rfl t a

/-- The arguments' arrays. -/
abbrev doA (c : Dev nD) : FVec Ideal S2048x1024 .f32 := m ((c : Thread nD τ).loc main_arg0)
abbrev dhA (c : Dev nD) : FVec Ideal S2048x1024 .f32 := m ((c : Thread nD τ).loc main_arg1)
abbrev xA (c : Dev nD) : FVec Ideal S2048x1024 .f32 := m ((c : Thread nD τ).loc main_arg2)
abbrev preA (c : Dev nD) : FVec Ideal S2x3x1024 .f32 := m ((c : Thread nD τ).loc main_arg3)
abbrev postA (c : Dev nD) : FVec Ideal S2x3x1024 .f32 := m ((c : Thread nD τ).loc main_arg4)
abbrev modA (c : Dev nD) : FVec Ideal S6x3x1024 .f32 := m ((c : Thread nD τ).loc main_arg5)

/-- The packed rows that the kernel reads: the gain and the scale of the first sublayer. -/
theorem vecs_pre (c : Dev nD) (b : Fin 1024) : (V m c main_v17 : FVec Ideal S6x8x1024 .f32) (ix3 0 0 b) = preA m c (ix3 0 0 b) := by
  show StableHlo.after hostOps0 (fun b => m (c, b)) main_v17 _ = _
  after_results_simp
  dsimp only [Matrix.cons_val]
  pointwise []
  after_results_simp
  pointwise []
theorem vecs_scale (c : Dev nD) (b : Fin 1024) : (V m c main_v17 : FVec Ideal S6x8x1024 .f32) (ix3 0 1 b) = modA m c (ix3 0 1 b) := by
  show StableHlo.after hostOps0 (fun b => m (c, b)) main_v17 _ = _
  after_results_simp
  dsimp only [Matrix.cons_val]
  pointwise []
  after_results_simp
  pointwise []

theorem blk0 (c : Dev nD) (t : Fin cfg0.N) (a : Fin 512) (b : Fin 1024) : iblk m c 0 t (ix2 a b) = doA m c (ix2 (row t a) b) := by
  show m ((c : Thread nD τ).loc main_arg0) ((win0_0.rect t).emb (ix2 a b)) = _
  congr 1
  apply idx2_ext
  · rw [win0_0.rect_emb_val, (idx_facts t).1.1]; rfl
  · rw [win0_0.rect_emb_val, (idx_facts t).1.2]; exact Nat.zero_add _

theorem blk1 (c : Dev nD) (t : Fin cfg0.N) (a : Fin 512) (b : Fin 1024) : iblk m c 1 t (ix2 a b) = dhA m c (ix2 (row t a) b) := by
  show m ((c : Thread nD τ).loc main_arg1) ((win0_1.rect t).emb (ix2 a b)) = _
  congr 1
  apply idx2_ext
  · rw [win0_1.rect_emb_val, (idx_facts t).2.1.1]; rfl
  · rw [win0_1.rect_emb_val, (idx_facts t).2.1.2]; exact Nat.zero_add _

theorem blk2 (c : Dev nD) (t : Fin cfg0.N) (a : Fin 512) (b : Fin 1024) : iblk m c 2 t (ix2 a b) = xA m c (ix2 (row t a) b) := by
  show m ((c : Thread nD τ).loc main_arg2) ((win0_2.rect t).emb (ix2 a b)) = _
  congr 1
  apply idx2_ext
  · rw [win0_2.rect_emb_val, (idx_facts t).2.2.1.1]; rfl
  · rw [win0_2.rect_emb_val, (idx_facts t).2.2.1.2]; exact Nat.zero_add _

theorem emb3 (t : Fin cfg0.N) (k : Fin 8) (b : Fin 1024) : (win0_3.rect t).emb (ix3 0 k b) = ix3 0 k b := by
  apply idx3_ext
  · rw [win0_3.rect_emb_val, (idx_facts t).2.2.2.1.1]; rfl
  · rw [win0_3.rect_emb_val, (idx_facts t).2.2.2.1.2.1]; exact Nat.zero_add _
  · rw [win0_3.rect_emb_val, (idx_facts t).2.2.2.1.2.2]; exact Nat.zero_add _

theorem blk3_pre (c : Dev nD) (t : Fin cfg0.N) (b : Fin 1024) : iblk m c 3 t (ix3 0 0 b) = preA m c (ix3 0 0 b) :=
  (congrArg (V m c main_v17) (emb3 t 0 b)).trans (vecs_pre m c b)

theorem blk3_scale (c : Dev nD) (t : Fin cfg0.N) (b : Fin 1024) : iblk m c 3 t (ix3 0 1 b) = modA m c (ix3 0 1 b) :=
  (congrArg (V m c main_v17) (emb3 t 1 b)).trans (vecs_scale m c b)

/-- The cotangent of the normalised row `r`, in the reference's arrays. -/
abbrev cot (dh : FVec Ideal S2048x1024 .f32) (pre : FVec Ideal S2x3x1024 .f32) (md : FVec Ideal S6x3x1024 .f32) (r : Fin 2048) (b : Fin 1024) : EReal :=
  dh (ix2 r b) * (1 + md (ix3 0 1 b)) * pre (ix3 0 0 b)

open Cert.PrenormBwdRefIdeal.Read in
attribute [local pointwise] val_main_v60 val_main_v68 val_main_v67 val_main_v66 val_main_v65 val_main_v64 val_main_v63 val_main_v62 val_main_v61 val_main_cst_13 val_main_v59 val_main_v58 val_main_v57 val_main_v56 val_main_v55 val_main_cst_12 val_main_v54 val_main_v53 val_main_cst_11 val_main_v52 val_main_v51 val_main_v50 val_main_v49 val_main_v48 val_main_v47 val_main_cst_10 val_main_v46 val_main_v45 val_main_cst_9 val_main_v44 val_main_v43 val_main_v42 val_main_v41 val_main_cst_8 val_main_v40 val_main_v39 val_main_cst_7 val_main_v38 val_main_v37 val_main_v36 val_main_v35 val_main_cst_6 val_main_v34 val_main_v33 val_main_cst_5 val_main_v32 val_main_v31 val_main_cst_4 val_main_v30 val_main_v29 val_main_v28 val_main_v27 val_main_v26 val_main_v25 val_main_v24 val_main_v23 val_main_v22 val_main_cst_3 val_main_v21 val_main_v20 val_main_v19 val_main_v18 val_main_v17 val_main_v16 val_main_v15 val_main_cst_2 val_main_v14 val_main_v13 val_main_v12 val_main_v11 val_main_cst_1 val_main_v10 val_main_v9 val_main_cst_0 val_main_v8 val_main_v7 val_main_cst val_main_v6 val_main_v5 val_main_v4 val_main_v3 val_main_v2 val_main_v1 val_main_v0 val_main_v70 val_main_v69
open Cert.PrenormBwdRefIdeal.Read in
theorem ref_dx (d dh x : FVec Ideal S2048x1024 .f32) (pre : FVec Ideal S2x3x1024 .f32) (md : FVec Ideal S6x3x1024 .f32) (r : Fin 2048) (b : Fin 1024) :
    val_main_v60 (F := Ideal) d dh x pre md (ix2 r b)
      = d (ix2 r b) + cot dh pre md r b * rstd (fun b => x (ix2 r b)) + x (ix2 r b) * normVar (fun b => x (ix2 r b)) (cot dh pre md r)
        + normVar (fun b => x (ix2 r b)) (cot dh pre md r) * x (ix2 r b) := by
  pointwise [normVar, rstd, msq, Fin.sum_univ_one]

open Cert.PrenormBwdRefIdeal.Read in
/-- Row 0 of the reference's second result: the gradient of the gain. -/
theorem ref_row0 (dh x : FVec Ideal S2048x1024 .f32) (pre : FVec Ideal S2x3x1024 .f32) (md : FVec Ideal S6x3x1024 .f32) (b : Fin 1024) :
    val_main_v70 (F := Ideal) dh x pre md (ix2 0 b)
      = ∑ r : Fin 2048, (x (ix2 r b) * rstd (fun b => x (ix2 r b)) * (dh (ix2 r b) * (1 + md (ix3 0 1 b))) : EReal) := by
  pointwise [rstd, msq, Fin.sum_univ_one]

open Cert.PrenormBwdRefIdeal.Read in
/-- Row 1: the gradient of the scale. -/
theorem ref_row1 (dh x : FVec Ideal S2048x1024 .f32) (pre : FVec Ideal S2x3x1024 .f32) (md : FVec Ideal S6x3x1024 .f32) (b : Fin 1024) :
    val_main_v70 (F := Ideal) dh x pre md (ix2 1 b)
      = ∑ r : Fin 2048, (x (ix2 r b) * rstd (fun b => x (ix2 r b)) * pre (ix3 0 0 b) * dh (ix2 r b) : EReal) := by
  pointwise [rstd, msq, Fin.sum_univ_one]

open Cert.PrenormBwdRefIdeal.Read in
/-- Row 2: the gradient of the shift. -/
theorem ref_row2 (dh x : FVec Ideal S2048x1024 .f32) (pre : FVec Ideal S2x3x1024 .f32) (md : FVec Ideal S6x3x1024 .f32) (b : Fin 1024) :
    val_main_v70 (F := Ideal) dh x pre md (ix2 2 b) = ∑ r : Fin 2048, (dh (ix2 r b) : EReal) := by
  pointwise [Fin.sum_univ_one]

open Cert.PrenormBwdRefIdeal.Read in
/-- The other rows are zero. -/
theorem ref_rows (dh x : FVec Ideal S2048x1024 .f32) (pre : FVec Ideal S2x3x1024 .f32) (md : FVec Ideal S6x3x1024 .f32) (k : Fin 8) (hk : 3 ≤ k.val)
    (b : Fin 1024) : val_main_v70 (F := Ideal) dh x pre md (ix2 k b) = (0 : EReal) := by
  fin_cases k
  · exact absurd hk (by decide)
  · exact absurd hk (by decide)
  · exact absurd hk (by decide)
  all_goals pointwise []

/-- A block's contributions to the three rows, in the block's own arrays. -/
def contPre (dh x : Vec Ideal S512x1024 .f32) (v : Vec Ideal S1x8x1024 .f32) (b : Fin 1024) : EReal :=
  ∑ a : Fin 512, dh (ix2 a b) * (1 + v (ix3 0 1 b)) * (x (ix2 a b) * rstd (fun b => x (ix2 a b)))
def contScale (dh x : Vec Ideal S512x1024 .f32) (v : Vec Ideal S1x8x1024 .f32) (b : Fin 1024) : EReal :=
  ∑ a : Fin 512, dh (ix2 a b) * (x (ix2 a b) * rstd (fun b => x (ix2 a b)) * v (ix3 0 0 b))
def contShift (dh : Vec Ideal S512x1024 .f32) (b : Fin 1024) : EReal := ∑ a : Fin 512, dh (ix2 a b)
def cont (dh x : Vec Ideal S512x1024 .f32) (v : Vec Ideal S1x8x1024 .f32) (k : Fin 8) (b : Fin 1024) : EReal :=
  if k.val = 0 then contPre dh x v b else if k.val = 1 then contScale dh x v b else if k.val = 2 then contShift dh b else 0

theorem pay_dx (d dh x : Vec Ideal S512x1024 .f32) (v : Vec Ideal S1x8x1024 .f32) (a : Fin 512) (b : Fin 1024) :
    k0_pay3 d dh (k0_pay5 v) (k0_pay6 v) (k0_pay7 x) (k0_pay8 x) (ix2 a b)
      = d (ix2 a b) + normHand (fun b => x (ix2 a b)) (fun b => dh (ix2 a b) * (1 + v (ix3 0 1 b)) * v (ix3 0 0 b)) b := by
  pointwise [k0_pay3, k0_pay1, k0_pay5, k0_pay6, k0_pay7, k0_pay8, normHand, rstd, msq]

theorem pay_row0 (dh x : Vec Ideal S512x1024 .f32) (v : Vec Ideal S1x8x1024 .f32) (w : Vec Ideal S1x1024 .f32) (b : Fin 1024) :
    k0_pay2 dh (k0_pay5 v) (k0_pay8 x) w (ix2 0 b) = (w (ix2 0 b) + contPre dh x v b : EReal) := by
  pointwise [k0_pay2, k0_pay1, k0_pay5, k0_pay8, k0_pay7, contPre, rstd, msq]

theorem pay_row1 (dh x : Vec Ideal S512x1024 .f32) (v : Vec Ideal S1x8x1024 .f32) (w : Vec Ideal S1x1024 .f32) (b : Fin 1024) :
    k0_pay10 dh x v w (ix2 0 b) = (w (ix2 0 b) + contScale dh x v b : EReal) := by
  pointwise [k0_pay10, k0_pay6, k0_pay8, k0_pay7, k0_pay5, contScale, rstd, msq]

theorem pay_row2 (dh : Vec Ideal S512x1024 .f32) (w : Vec Ideal S1x1024 .f32) (b : Fin 1024) :
    k0_pay9 dh w (ix2 0 b) = (w (ix2 0 b) + contShift dh b : EReal) := by
  pointwise [k0_pay9, contShift]

theorem pay_zero (k : Fin 8) (b : Fin 1024) : k0_pay4 (F := Ideal) (ix2 k b) = (0 : EReal) := by
  pointwise [k0_pay4]

theorem outA4 (c : Dev nD) (i : grid0.Coords) (a1 a2 a3 : Memref sig .tc .vmem S512x1024 .f32) (h1 : a1.IsWhole) (h2 : a2.IsWhole) (h3 : a3.IsWhole)
    (a4 : Memref sig .tc .vmem S1x8x1024 .f32) (h4 : a4.IsWhole) (a5 : Memref sig .tc .vmem S512x1024 .f32) (h5 : a5.IsWhole)
    (a6 : Memref sig .tc .vmem S8x1024 .f32) (h6 : a6.IsWhole) (hc0 : cond0_0 i)
    (x0 x1 x2 : Vec Ideal S512x1024 .f32) (x3 : Vec Ideal S1x8x1024 .f32) :
    out0_A_4 c i a1 h1 a2 h2 a3 h3 a4 h4 a5 h5 a6 h6 hc0 x0 x1 x2 x3 = k0_pay3 x0 x1 (k0_pay5 x3) (k0_pay6 x3) (k0_pay7 x2) (k0_pay8 x2) := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outA5 (c : Dev nD) (i : grid0.Coords) (a1 a2 a3 : Memref sig .tc .vmem S512x1024 .f32) (h1 : a1.IsWhole) (h2 : a2.IsWhole) (h3 : a3.IsWhole)
    (a4 : Memref sig .tc .vmem S1x8x1024 .f32) (h4 : a4.IsWhole) (a5 : Memref sig .tc .vmem S512x1024 .f32) (h5 : a5.IsWhole)
    (a6 : Memref sig .tc .vmem S8x1024 .f32) (h6 : a6.IsWhole) (hc0 : cond0_0 i)
    (x0 x1 x2 : Vec Ideal S512x1024 .f32) (x3 : Vec Ideal S1x8x1024 .f32) (k : Fin 8) (b : Fin 1024) :
    out0_A_5 c i a1 h1 a2 h2 a3 h3 a4 h4 a5 h5 a6 h6 hc0 x0 x1 x2 x3 (ix2 k b) = cont x1 x2 x3 k b := by
  have hz : ∀ (v : View sig .tc .vmem S8x1024 .f32) (f : v.ty.Contents (Elt Ideal)) (k : Fin 8) (inb : ∀ a : Fin 2, ![0, 0] a + S8x1024.size a ≤ S8x1024.size a),
      v.read (Elt Ideal) (v.writes (Elt Ideal) f [⟨Rect.unit ![0, 0] S8x1024.size inb, k0_pay4 (F := Ideal)⟩]) (ix2 k b) = (0 : EReal) := fun v f k inb => by
    rw [View.read_writes_full]
    exact pay_zero k b
  unfold out0_A_5
  unfold kernelRun0_A
  dsimp only
  sl_unfold_words
  simp only [View.readAt_eq_ld, h1.read_unread, h2.read_unread, h3.read_unread, h4.read_unread, View.ld_unit_zero (S := S512x1024) zero2, View.ld_unit_zero (S := S1x8x1024) zero3, shapeCast_self]
  refine (read_row_cons _ _ 0 _ _ _ k b).trans ?_
  by_cases e0 : k.val = 0
  · rw [if_pos e0, cont, if_pos e0]
    refine (pay_row0 ..).trans ((congrArg (· + _) ?_).trans (zero_add _))
    refine (readAt_row a6.view _ (0 : Fin 8) _ b).trans ((read_row_cons _ _ 1 _ _ _ 0 b).trans ?_)
    rw [if_neg (by decide)]
    refine (read_row_cons _ _ 2 _ _ _ 0 b).trans ?_
    rw [if_neg (by decide)]
    exact hz ..
  rw [if_neg e0, cont, if_neg e0]
  refine (read_row_cons _ _ 1 _ _ _ k b).trans ?_
  by_cases e1 : k.val = 1
  · rw [if_pos e1, if_pos e1]
    refine (pay_row1 ..).trans ((congrArg (· + _) ?_).trans (zero_add _))
    refine (readAt_row a6.view _ (1 : Fin 8) _ b).trans ((read_row_cons _ _ 2 _ _ _ 1 b).trans ?_)
    rw [if_neg (by decide)]
    exact hz ..
  rw [if_neg e1, if_neg e1]
  refine (read_row_cons _ _ 2 _ _ _ k b).trans ?_
  by_cases e2 : k.val = 2
  · rw [if_pos e2, if_pos e2]
    refine (pay_row2 ..).trans ((congrArg (· + _) ?_).trans (zero_add _))
    exact (readAt_row a6.view _ (2 : Fin 8) _ b).trans (hz ..)
  rw [if_neg e2, if_neg e2]
  exact hz ..

theorem outB4 (c : Dev nD) (i : grid0.Coords) (a1 a2 a3 : Memref sig .tc .vmem S512x1024 .f32) (h1 : a1.IsWhole) (h2 : a2.IsWhole) (h3 : a3.IsWhole)
    (a4 : Memref sig .tc .vmem S1x8x1024 .f32) (h4 : a4.IsWhole) (a5 : Memref sig .tc .vmem S512x1024 .f32) (h5 : a5.IsWhole)
    (a6 : Memref sig .tc .vmem S8x1024 .f32) (h6 : a6.IsWhole) (hc0 : ¬ cond0_0 i)
    (x0 x1 x2 : Vec Ideal S512x1024 .f32) (x3 : Vec Ideal S1x8x1024 .f32) (xo : Vec Ideal S8x1024 .f32) :
    out0_B_4 c i a1 h1 a2 h2 a3 h3 a4 h4 a5 h5 a6 h6 hc0 x0 x1 x2 x3 xo = k0_pay3 x0 x1 (k0_pay5 x3) (k0_pay6 x3) (k0_pay7 x2) (k0_pay8 x2) := by
  unfold out0_B_4
  rw [View.read_writes_eq_canon _ _ _ (cover0_B_4 c i a1 h1 a2 h2 a3 h3 a4 h4 a5 h5 a6 h6 hc0 x0 x1 x2 x3 xo)]
  unfold kernelRun0_B
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outB5 (c : Dev nD) (i : grid0.Coords) (a1 a2 a3 : Memref sig .tc .vmem S512x1024 .f32) (h1 : a1.IsWhole) (h2 : a2.IsWhole) (h3 : a3.IsWhole)
    (a4 : Memref sig .tc .vmem S1x8x1024 .f32) (h4 : a4.IsWhole) (a5 : Memref sig .tc .vmem S512x1024 .f32) (h5 : a5.IsWhole)
    (a6 : Memref sig .tc .vmem S8x1024 .f32) (h6 : a6.IsWhole) (hc0 : ¬ cond0_0 i)
    (x0 x1 x2 : Vec Ideal S512x1024 .f32) (x3 : Vec Ideal S1x8x1024 .f32) (xo : Vec Ideal S8x1024 .f32) (k : Fin 8) (b : Fin 1024) :
    out0_B_5 c i a1 h1 a2 h2 a3 h3 a4 h4 a5 h5 a6 h6 hc0 x0 x1 x2 x3 xo (ix2 k b) = (xo (ix2 k b) + cont x1 x2 x3 k b : EReal) := by
  unfold out0_B_5
  unfold kernelRun0_B
  dsimp only
  sl_unfold_words
  simp only [View.readAt_eq_ld, h1.read_unread, h2.read_unread, h3.read_unread, h4.read_unread, h6.read_unread, View.ld_unit_zero (S := S512x1024) zero2, View.ld_unit_zero (S := S1x8x1024) zero3, shapeCast_self]
  refine (read_row_cons _ _ 0 _ _ _ k b).trans ?_
  by_cases e0 : k.val = 0
  · rw [if_pos e0, cont, if_pos e0]
    obtain rfl : k = 0 := Fin.ext e0
    exact (pay_row0 ..).trans (congrArg (· + _) (ld_row xo 0 _ b))
  rw [if_neg e0, cont, if_neg e0]
  refine (read_row_cons _ _ 1 _ _ _ k b).trans ?_
  by_cases e1 : k.val = 1
  · rw [if_pos e1, if_pos e1]
    obtain rfl : k = 1 := Fin.ext e1
    exact (pay_row1 ..).trans (congrArg (· + _) (ld_row xo 1 _ b))
  rw [if_neg e1, if_neg e1]
  refine (read_row_cons _ _ 2 _ _ _ k b).trans ?_
  by_cases e2 : k.val = 2
  · rw [if_pos e2, if_pos e2]
    obtain rfl : k = 2 := Fin.ext e2
    exact (pay_row2 ..).trans (congrArg (· + _) (ld_row xo 2 _ b))
  rw [if_neg e2, if_neg e2, View.writes_nil, h6.read_unread]
  exact (add_zero _).symm

theorem outs_fst (c : Dev nD) (t : Fin cfg0.N) :
    (outsAt0 m c t.val t.isLt).1 = k0_pay3 (iblk m c 0 t) (iblk m c 1 t) (k0_pay5 (iblk m c 3 t)) (k0_pay6 (iblk m c 3 t)) (k0_pay7 (iblk m c 2 t)) (k0_pay8 (iblk m c 2 t)) := by
  by_cases h : t.val % 4 = 0
  · rw [outsAt0_A m c t h]
    dsimp only
    rw [outA4]
  · rw [outsAt0_B m c t h]
    dsimp only
    rw [outB4]

/-- Block `t`'s contribution to the accumulated rows. -/
abbrev part (c : Dev nD) (t : Fin cfg0.N) (k : Fin 8) (b : Fin 1024) : EReal := cont (iblk m c 1 t) (iblk m c 2 t) (iblk m c 3 t) k b

theorem outs_zero (c : Dev nD) (h : 0 < cfg0.N) (k : Fin 8) (b : Fin 1024) : (outsAt0 m c 0 h).2 (ix2 k b) = part m c ⟨0, h⟩ k b := by
  rw [outsAt0_A m c ⟨0, h⟩ rfl]
  dsimp only
  rw [outA5]

theorem outs_succ (c : Dev nD) (n : ℕ) (h : n + 1 < cfg0.N) (k : Fin 8) (b : Fin 1024) :
    (outsAt0 m c (n + 1) h).2 (ix2 k b) = ((outsAt0 m c n (Nat.lt_of_succ_lt h)).2 (ix2 k b) + part m c ⟨n + 1, h⟩ k b : EReal) := by
  have hN : cfg0.N = 4 := N_0
  rw [outsAt0_B m c ⟨n + 1, h⟩ (by show ¬ (n + 1) % 4 = 0; omega)]
  dsimp only
  rw [outB5]
  rfl

theorem outs_sum (c : Dev nD) (k : Fin 8) (b : Fin 1024) (n : ℕ) (h : n < cfg0.N) :
    (outsAt0 m c n h).2 (ix2 k b)
      = ∑ t : Fin (n + 1), (part m c ⟨t.val, lt_of_le_of_lt (Nat.le_of_lt_succ t.isLt) h⟩ k b : EReal) :=
  acc_sum (M := EReal) (fun j hj => (outsAt0 m c j hj).2 (ix2 k b)) (fun j hj => part m c ⟨j, hj⟩ k b)
    (fun h => outs_zero m c h k b) (fun j hj => outs_succ m c j hj k b) n h

/-- The two results, as the reference computes them. -/
abbrev dxR (c : Dev nD) : FVec Ideal S2048x1024 .f32 :=
  Cert.PrenormBwdRefIdeal.Read.val_main_v60 (F := Ideal) (doA m c) (dhA m c) (xA m c) (preA m c) (modA m c)
abbrev dvR (c : Dev nD) : FVec Ideal S8x1024 .f32 :=
  Cert.PrenormBwdRefIdeal.Read.val_main_v70 (F := Ideal) (dhA m c) (xA m c) (preA m c) (modA m c)

/-- What the precondition says: the cotangent, the input, the gain and the scale are real numbers. -/
def Fin4 (c : Dev nD) : Prop :=
  (∀ r b, ∃ q : ℝ, dhA m c (ix2 r b) = q) ∧ (∀ r b, ∃ q : ℝ, xA m c (ix2 r b) = q)
    ∧ (∀ b, ∃ q : ℝ, preA m c (ix3 0 0 b) = q) ∧ (∀ b, ∃ q : ℝ, modA m c (ix3 0 1 b) = q)

theorem fin4 (c : Dev nD)
    (h : Cert.Pre_finite_prenorm_bwd.fn (F := Ideal) (doA m c) (dhA m c) (xA m c) (preA m c) (postA m c) (modA m c) = fun _ => 1#1) : Fin4 m c := by
  have hi (r : Fin 2048) (b : Fin 1024) := congrFun h (ix2 r b)
  have e (r : Fin 2048) (b : Fin 1024) : Cert.Pre_finite_prenorm_bwd.fn (F := Ideal) (doA m c) (dhA m c) (xA m c) (preA m c) (postA m c) (modA m c) (ix2 r b)
      = (below (dhA m c (ix2 r b)) &&& below (xA m c (ix2 r b))) &&& below (preA m c (ix3 0 0 b)) &&& below (modA m c (ix3 0 1 b)) := by
    pointwise [Cert.Pre_finite_prenorm_bwd.fn, Cert.Pre_finite_prenorm_bwd.fn_part1, below]
    rfl
  simp only [e, and_one_iff] at hi
  exact ⟨fun r b => real_of_lt (hi r b).1.1.1, fun r b => real_of_lt (hi r b).1.1.2, fun b => real_of_lt (hi 0 b).1.2, fun b => real_of_lt (hi 0 b).2⟩

theorem cot_real (c : Dev nD) (h : Fin4 m c) (r : Fin 2048) (b : Fin 1024) :
    ∃ q : ℝ, cot (dhA m c) (preA m c) (modA m c) r b = q := by
  obtain ⟨q1, h1⟩ := h.1 r b
  obtain ⟨q2, h2⟩ := h.2.2.1 b
  obtain ⟨q3, h3⟩ := h.2.2.2 b
  exact ⟨q1 * (1 + q3) * q2, by rw [cot, h1, h2, h3, EReal.coe_mul, EReal.coe_mul, EReal.coe_add, EReal.coe_one]⟩

/-- Block `t` of the first result is the reference's rows. -/
theorem dx_ref (c : Dev nD) (h : Fin4 m c) (t : Fin cfg0.N) (a : Fin 512) (b : Fin 1024) :
    (outsAt0 m c t.val t.isLt).1 (ix2 a b) = dxR m c (ix2 (row t a) b) := by
  rw [outs_fst, pay_dx]
  refine Eq.trans ?_ (ref_dx (doA m c) (dhA m c) (xA m c) (preA m c) (modA m c) (row t a) b).symm
  simp only [blk0, blk1, blk2, blk3_pre, blk3_scale]
  rw [norm_grad (h.2.1 (row t a)) (cot_real m c h (row t a)), ← add_assoc, ← add_assoc]

/-- After the last point the accumulator holds the reference's rows. -/
theorem last_dv (c : Dev nD) (h : 3 < cfg0.N) (k : Fin 8) (b : Fin 1024) : (outsAt0 m c 3 h).2 (ix2 k b) = dvR m c (ix2 k b) := by
  rw [outs_sum]
  simp only [part, cont]
  by_cases e0 : k.val = 0
  · obtain rfl : k = 0 := Fin.ext e0
    refine Eq.trans ?_ (ref_row0 (dhA m c) (xA m c) (preA m c) (modA m c) b).symm
    rw [Fin.sum_univ_tiles 4 512 rfl]
    refine Finset.sum_congr rfl fun t _ => ?_
    rw [if_pos e0, contPre]
    refine Finset.sum_congr rfl fun a _ => ?_
    simp only [blk1, blk2, blk3_scale]
    exact mul_comm (G := EReal) _ _
  by_cases e1 : k.val = 1
  · obtain rfl : k = 1 := Fin.ext e1
    refine Eq.trans ?_ (ref_row1 (dhA m c) (xA m c) (preA m c) (modA m c) b).symm
    rw [Fin.sum_univ_tiles 4 512 rfl]
    refine Finset.sum_congr rfl fun t _ => ?_
    rw [if_neg e0, if_pos e1, contScale]
    refine Finset.sum_congr rfl fun a _ => ?_
    simp only [blk1, blk2, blk3_pre]
    exact mul_comm (G := EReal) _ _
  by_cases e2 : k.val = 2
  · obtain rfl : k = 2 := Fin.ext e2
    refine Eq.trans ?_ (ref_row2 (dhA m c) (xA m c) (preA m c) (modA m c) b).symm
    rw [Fin.sum_univ_tiles 4 512 rfl]
    refine Finset.sum_congr rfl fun t _ => ?_
    rw [if_neg e0, if_neg e1, if_pos e2, contShift]
    refine Finset.sum_congr rfl fun a _ => ?_
    exact blk1 m c _ a b
  refine Eq.trans ?_ (ref_rows (dhA m c) (xA m c) (preA m c) (modA m c) k (by omega) b).symm
  simp only [if_neg e0, if_neg e1, if_neg e2]
  exact Finset.sum_const_zero

theorem flush4 : ∀ t : Fin cfg0.N, (cfg0.win 4).flush t = true := by decide +kernel

theorem mem_blk4 (t : Fin cfg0.N) (i : S2048x1024.Idx) : i ∈ ((cfg0.win 4).blk t).view.set ↔
    ∀ a : Fin 2, win0_4.index t a * win0_4.size a ≤ (i a).val ∧ (i a).val < win0_4.index t a * win0_4.size a + win0_4.size a := by
  show i ∈ ((View.whole main_v18_0).slice (win0_4.rect t)).set ↔ _
  rw [View.set_slice_whole, Rect.mem_set_unit]
  rfl

theorem mem_blk5 (t : Fin cfg0.N) (i : S8x1024.Idx) : i ∈ ((cfg0.win 5).blk t).view.set ↔
    ∀ a : Fin 2, win0_5.index t a * win0_5.size a ≤ (i a).val ∧ (i a).val < win0_5.index t a * win0_5.size a + win0_5.size a := by
  show i ∈ ((View.whole main_v18_1).slice (win0_5.rect t)).set ↔ _
  rw [View.set_slice_whole, Rect.mem_set_unit]
  rfl

/-- Every index of the first result lies in the block of some point. -/
theorem cover4 (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  refine ⟨⟨(i 0).val / 512, by show _ < 4; omega⟩, flush4 _, (mem_blk4 _ i).2 fun a => ?_⟩
  match a with
  | ⟨0, _⟩ =>
    show win0_4.index _ 0 * 512 ≤ (i 0).val ∧ (i 0).val < win0_4.index _ 0 * 512 + 512
    rw [(idx_facts _).2.2.2.2.1.1]
    show (i 0).val / 512 * 512 ≤ (i 0).val ∧ (i 0).val < (i 0).val / 512 * 512 + 512
    omega
  | ⟨1, _⟩ =>
    show win0_4.index _ 1 * 1024 ≤ (i 1).val ∧ (i 1).val < win0_4.index _ 1 * 1024 + 1024
    rw [(idx_facts _).2.2.2.2.1.2]
    omega

theorem final4 (c : Dev nD) (h : Fin4 m c) : (dats m 0 c).arrAt 4 cfg0.N = dxR m c := by
  refine Dat.arrAt_eq_of_cover (dats m 0 c) 4 _ ?_ cover4
  intro t _
  rw [flushed4]
  funext y
  show (outsAt0 m c t.val t.isLt).1 y = dxR m c ((win0_4.rect t).emb y)
  obtain ⟨a, b, rfl⟩ : ∃ a b, y = ix2 a b := ⟨y 0, y 1, eq_ix2 y⟩
  rw [show (win0_4.rect t).emb (ix2 a b) = ix2 (row t a) b from ?_]
  · exact dx_ref m c h t a b
  · apply idx2_ext
    · rw [win0_4.rect_emb_val, (idx_facts t).2.2.2.2.1.1]; rfl
    · rw [win0_4.rect_emb_val, (idx_facts t).2.2.2.2.1.2]; exact Nat.zero_add _

theorem final5 (c : Dev nD) : (dats m 0 c).arrAt 5 cfg0.N = dvR m c := by
  have hN : cfg0.N = 4 := N_0
  refine Dat.arrAt_eq_of_cover (dats m 0 c) 5 _ ?_ ?_
  · intro t hf
    have h3 : t.val = 3 := by have := (flush0_5 t).mp hf; have := t.isLt; omega
    obtain rfl : t = t0_3 := Fin.ext h3
    rw [flushed5]
    funext y
    show (outsAt0 m c 3 (lt_of_lt_of_eq (by decide) N_0.symm)).2 y = dvR m c ((win0_5.rect t0_3).emb y)
    obtain ⟨a, b, rfl⟩ : ∃ a b, y = ix2 a b := ⟨y 0, y 1, eq_ix2 y⟩
    rw [last_dv]
    congr 1
    apply idx2_ext
    · rw [win0_5.rect_emb_val, (idx_facts _).2.2.2.2.2.1]; exact (Nat.zero_add _).symm
    · rw [win0_5.rect_emb_val, (idx_facts _).2.2.2.2.2.2]; exact (Nat.zero_add _).symm
  · intro i
    have hi0 : (i 0).val < 8 := (i 0).isLt
    have hi1 : (i 1).val < 1024 := (i 1).isLt
    refine ⟨t0_3, (flush0_5 t0_3).mpr rfl, (mem_blk5 _ i).2 fun a => ?_⟩
    match a with
    | ⟨0, _⟩ =>
      show win0_5.index _ 0 * 8 ≤ (i 0).val ∧ (i 0).val < win0_5.index _ 0 * 8 + 8
      rw [(idx_facts _).2.2.2.2.2.1]
      omega
    | ⟨1, _⟩ =>
      show win0_5.index _ 1 * 1024 ≤ (i 1).val ∧ (i 1).val < win0_5.index _ 1 * 1024 + 1024
      rw [(idx_facts _).2.2.2.2.2.2]
      omega

end Cert.PrenormBwdIdeal.Value

end
-- ==== Proof.PrenormBwdClaims.lean ====
/- The gradient of a sublayer's pre-normalisation: its claims. -/
module

public import proofs.«01_k».proof.Proof.PrenormBwdValue
public import proofs.«01_k».proof.Proof.Gen.PrenormBwd
public import proofs.«01_k».proof.Proof.Gen.PrenormBwdRefIdeal
public import proofs.«01_k».proof.Proof.Gen.PrenormBwdRefIdeal.Run
public import proofs.«01_k».proof.Proof.Gen.Pre_finite_prenorm_bwd
public import Idealize.ShloMosaic.Lib.Tactic

@[expose] public section

set_option maxRecDepth 16384

noncomputable section

namespace Cert.Proof.PrenormBwd

open Idealize.ShloMosaic Idealize.SL.Sem Cert.Util

/-- The program and its idealization have one text: the same entry … -/
theorem main_same : (Cert.PrenormBwd.main (F := Bits)) = (Cert.PrenormBwdIdeal.main (F := Bits)) := by sl_kernel_rfl

/-- … and the same bodies. -/
theorem defs_same : (Cert.PrenormBwd.defs (F := Bits)) = (Cert.PrenormBwdIdeal.defs (F := Bits)) := by sl_kernel_rfl

/-- So one run gives both frames. -/
theorem frame_p : Cert.quiescent_PrenormBwd := fun m ρ _ => by
  have h := Cert.PrenormBwdIdeal.Gen.frame (F := Bits) m ρ
  rw [← main_same, ← defs_same] at h
  exact h

theorem frame_i : Cert.quiescent_PrenormBwdIdeal := fun m ρ _ => Cert.PrenormBwdIdeal.Gen.frame m ρ

theorem frame_r : Cert.quiescent_PrenormBwdRefIdeal := fun m ρ _ =>
  (θ_run Cert.PrenormBwdRefIdeal.defs _ _).mono (fun r h => ⟨fun c => (h c).2.2, sem_eq_zero_of_no_sems (by decide) r.2⟩)
    (Cert.PrenormBwdRefIdeal.Value.run (F := Ideal) m ρ)

theorem frame_i_pre : Cert.quiescent_PrenormBwdIdeal_pre_finite_prenorm_bwd := fun m ρ _ => Cert.PrenormBwdIdeal.Gen.frame m ρ

theorem frame_r_pre : Cert.quiescent_PrenormBwdRefIdeal_pre_finite_prenorm_bwd := fun m ρ _ => frame_r m ρ trivial

theorem algebraic : Cert.algebraic_PrenormBwdIdeal_PrenormBwdRefIdeal_pre_finite_prenorm_bwd := by
  intro m ρ m' ρ' hpre hag
  refine ⟨_, _, (θ_run Cert.PrenormBwdIdeal.defs _ _).mono (fun r h c => ⟨(h c).1.trans (Cert.PrenormBwdIdeal.Value.final4 m c (Cert.PrenormBwdIdeal.Value.fin4 m c (hpre c))), (h c).2.1.trans (Cert.PrenormBwdIdeal.Value.final5 m c), (h c).2.2⟩)
    (Cert.PrenormBwdIdeal.Value.run_blocks m ρ), ?_⟩
  refine (θ_run Cert.PrenormBwdRefIdeal.defs _ _).mono (fun r h c => ⟨(h c).1.trans ?_, (h c).2.1.trans ?_, (h c).2.2⟩)
    (Cert.PrenormBwdRefIdeal.Value.run (F := Ideal) m' ρ')
  · show Cert.PrenormBwdRefIdeal.Read.val_main_v60 (F := Ideal) (m' (c.tc.loc Cert.PrenormBwdRefIdeal.main_arg0)) (m' (c.tc.loc Cert.PrenormBwdRefIdeal.main_arg1)) (m' (c.tc.loc Cert.PrenormBwdRefIdeal.main_arg2)) (m' (c.tc.loc Cert.PrenormBwdRefIdeal.main_arg3)) (m' (c.tc.loc Cert.PrenormBwdRefIdeal.main_arg5)) = _
    rw [(hag c).1, (hag c).2.1, (hag c).2.2.1, (hag c).2.2.2.1, (hag c).2.2.2.2.2]
  · show Cert.PrenormBwdRefIdeal.Read.val_main_v70 (F := Ideal) (m' (c.tc.loc Cert.PrenormBwdRefIdeal.main_arg1)) (m' (c.tc.loc Cert.PrenormBwdRefIdeal.main_arg2)) (m' (c.tc.loc Cert.PrenormBwdRefIdeal.main_arg3)) (m' (c.tc.loc Cert.PrenormBwdRefIdeal.main_arg5)) = _
    rw [(hag c).2.1, (hag c).2.2.1, (hag c).2.2.2.1, (hag c).2.2.2.2.2]

end Cert.Proof.PrenormBwd

end
-- ==== Proof.LastShellValue.lean ====
/- The last residual and the loss head: what the arrays of the four results hold. Block `t` of the second and of the third holds
   rows `512·t` to `512·t + 511` of the loss's gradients to the residual and to the last sublayer's output; rows 3 and 4 of the fourth
   accumulate the gradients of the norm's gain and of the gate; the first is the loss, from the squared errors summed over the blocks. -/
module

public import proofs.«01_k».proof.Defs
public import proofs.«01_k».proof.Proof.Gen.LastShellIdeal.Value
public import proofs.«01_k».proof.Proof.Gen.LastShellRefIdeal.Read
public import proofs.«01_k».proof.Proof.Gen.Pre_finite_last_shell
public import proofs.«01_k».proof.Proof.Rows
public import proofs.«01_k».proof.Proof.NormGrad
public import Idealize.ShloMosaic.Lib.Pointwise.Sums

@[expose] public section

set_option maxRecDepth 16384

noncomputable section

namespace Cert.LastShellIdeal.Value

open Cert.LastShellIdeal Cert.LastShellIdeal.Gen Idealize.ShloMosaic Idealize.ShloMosaic.TcCoe Idealize.SL.Sem Cert.Util Pipeline

variable (m : (ℓ : Loc nD τ sig) → Buf (Elt Ideal) ℓ)

/-- Each window's block index at a grid point. -/
theorem idx_facts : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 5 ∧ win0_3.index t 1 = 0 ∧ win0_3.index t 2 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) := by
  decide +kernel

/-- Row `a` of block `t`. -/
abbrev row (t : Fin cfg0.N) (a : Fin 512) : Fin 2048 := rowOf (T := 4) 512 rfl t a

/-- The arguments' arrays. -/
abbrev xA (c : Dev nD) : FVec Ideal S2048x1024 .f32 := m ((c : Thread nD τ).loc main_arg0)
abbrev fA (c : Dev nD) : FVec Ideal S2048x1024 .f32 := m ((c : Thread nD τ).loc main_arg1)
abbrev tA (c : Dev nD) : FVec Ideal S2048x1024 .f32 := m ((c : Thread nD τ).loc main_arg2)
abbrev preA (c : Dev nD) : FVec Ideal S2x3x1024 .f32 := m ((c : Thread nD τ).loc main_arg3)
abbrev postA (c : Dev nD) : FVec Ideal S2x3x1024 .f32 := m ((c : Thread nD τ).loc main_arg4)
abbrev modA (c : Dev nD) : FVec Ideal S6x3x1024 .f32 := m ((c : Thread nD τ).loc main_arg5)

/-- The packed rows that the kernel reads: the gain and the gate of the last sublayer. -/
theorem vecs_post (c : Dev nD) (b : Fin 1024) : (V m c main_v17 : FVec Ideal S6x8x1024 .f32) (ix3 5 3 b) = postA m c (ix3 1 2 b) := by
  show StableHlo.after hostOps0 (fun b => m (c, b)) main_v17 _ = _
  after_results_simp
  dsimp only [Matrix.cons_val]
  pointwise []
  after_results_simp
  pointwise []
theorem vecs_gate (c : Dev nD) (b : Fin 1024) : (V m c main_v17 : FVec Ideal S6x8x1024 .f32) (ix3 5 4 b) = modA m c (ix3 5 2 b) := by
  show StableHlo.after hostOps0 (fun b => m (c, b)) main_v17 _ = _
  after_results_simp
  dsimp only [Matrix.cons_val]
  pointwise []
  after_results_simp
  pointwise []

theorem blk0 (c : Dev nD) (t : Fin cfg0.N) (a : Fin 512) (b : Fin 1024) : iblk m c 0 t (ix2 a b) = xA m c (ix2 (row t a) b) := by
  show m ((c : Thread nD τ).loc main_arg0) ((win0_0.rect t).emb (ix2 a b)) = _
  congr 1
  apply idx2_ext
  · rw [win0_0.rect_emb_val, (idx_facts t).1.1]; rfl
  · rw [win0_0.rect_emb_val, (idx_facts t).1.2]; exact Nat.zero_add _

theorem blk1 (c : Dev nD) (t : Fin cfg0.N) (a : Fin 512) (b : Fin 1024) : iblk m c 1 t (ix2 a b) = fA m c (ix2 (row t a) b) := by
  show m ((c : Thread nD τ).loc main_arg1) ((win0_1.rect t).emb (ix2 a b)) = _
  congr 1
  apply idx2_ext
  · rw [win0_1.rect_emb_val, (idx_facts t).2.1.1]; rfl
  · rw [win0_1.rect_emb_val, (idx_facts t).2.1.2]; exact Nat.zero_add _

theorem blk2 (c : Dev nD) (t : Fin cfg0.N) (a : Fin 512) (b : Fin 1024) : iblk m c 2 t (ix2 a b) = tA m c (ix2 (row t a) b) := by
  show m ((c : Thread nD τ).loc main_arg2) ((win0_2.rect t).emb (ix2 a b)) = _
  congr 1
  apply idx2_ext
  · rw [win0_2.rect_emb_val, (idx_facts t).2.2.1.1]; rfl
  · rw [win0_2.rect_emb_val, (idx_facts t).2.2.1.2]; exact Nat.zero_add _

theorem emb3 (t : Fin cfg0.N) (k : Fin 8) (b : Fin 1024) : (win0_3.rect t).emb (ix3 0 k b) = ix3 5 k b := by
  apply idx3_ext
  · rw [win0_3.rect_emb_val, (idx_facts t).2.2.2.1.1]; rfl
  · rw [win0_3.rect_emb_val, (idx_facts t).2.2.2.1.2.1]; exact Nat.zero_add _
  · rw [win0_3.rect_emb_val, (idx_facts t).2.2.2.1.2.2]; exact Nat.zero_add _

theorem blk3_post (c : Dev nD) (t : Fin cfg0.N) (b : Fin 1024) : iblk m c 3 t (ix3 0 3 b) = postA m c (ix3 1 2 b) :=
  (congrArg (V m c main_v17) (emb3 t 3 b)).trans (vecs_post m c b)

theorem blk3_gate (c : Dev nD) (t : Fin cfg0.N) (b : Fin 1024) : iblk m c 3 t (ix3 0 4 b) = modA m c (ix3 5 2 b) :=
  (congrArg (V m c main_v17) (emb3 t 4 b)).trans (vecs_gate m c b)

/-- The error of a row: residual plus the gated normalised row, less the target. -/
def err (x f t gp gate : Fin 1024 → EReal) (b : Fin 1024) : EReal := x b + half * gate b * (f b * rstd f * gp b) - t b

/-- The error's row `r`, and the loss's gradient there, in the reference's arrays. -/
abbrev errA (x f t : FVec Ideal S2048x1024 .f32) (post : FVec Ideal S2x3x1024 .f32) (md : FVec Ideal S6x3x1024 .f32) (r : Fin 2048) : Fin 1024 → EReal :=
  err (fun b => x (ix2 r b)) (fun b => f (ix2 r b)) (fun b => t (ix2 r b)) (fun b => post (ix3 1 2 b)) (fun b => md (ix3 5 2 b))
def dyA (x f t : FVec Ideal S2048x1024 .f32) (post : FVec Ideal S2x3x1024 .f32) (md : FVec Ideal S6x3x1024 .f32) (r : Fin 2048) (b : Fin 1024) : EReal :=
  Ideal.div (half * Ideal.ofBits .f32 0x3F800000#32) (Ideal.ofBits .f32 0x44800000#32) * (Ideal.ofBits .f32 0x40000000#32 * errA x f t post md r b)
/-- The cotangent of the normalised row. -/
abbrev cot (x f t : FVec Ideal S2048x1024 .f32) (post : FVec Ideal S2x3x1024 .f32) (md : FVec Ideal S6x3x1024 .f32) (r : Fin 2048) (b : Fin 1024) : EReal :=
  half * md (ix3 5 2 b) * dyA x f t post md r b * post (ix3 1 2 b)

section
open Cert.LastShellRefIdeal.Read
variable (x f t : FVec Ideal S2048x1024 .f32) (post : FVec Ideal S2x3x1024 .f32) (md : FVec Ideal S6x3x1024 .f32)

theorem ref_err (r : Fin 2048) (b : Fin 1024) : val_main_v26 (F := Ideal) x f t post md (ix2 r b) = errA x f t post md r b := by
  pointwise [val_main_v26, val_main_v25, val_main_v24, val_main_v23, val_main_v22, val_main_v5, val_main_v4, val_main_cst, val_main_v3, val_main_v2, val_main_v21, val_main_v18, val_main_v17, val_main_v13, val_main_v12, val_main_v10, val_main_v8, val_main_v7, val_main_v6, val_main_cst_0, val_main_v9, val_main_cst_1, val_main_v11, val_main_cst_2, val_main_v20, val_main_v19, val_main_v1, val_main_v0, err, rstd, msq]
theorem ref_dy (r : Fin 2048) (b : Fin 1024) : val_main_v40 (F := Ideal) x f t post md (ix2 r b) = dyA x f t post md r b := by
  pointwise [val_main_v40, val_main_v39, val_main_v38, val_main_v37, val_main_cst_11, val_main_v36, val_main_v35, val_main_cst_10, val_main_cst_9, val_main_v29, val_main_v28, val_main_cst_4, ref_err, dyA]
theorem ref_loss (j : Fin 128) : val_main_v70 (F := Ideal) x f t post md (ix2 0 j)
    = half * ∑ r : Fin 2048, Ideal.div (∑ b : Fin 1024, errA x f t post md r b * errA x f t post md r b) (Ideal.ofBits .f32 0x44800000#32) := by
  pointwise [val_main_v70, val_main_v34, val_main_cst_8, val_main_v33, val_main_cst_7, val_main_v32, val_main_v31, val_main_cst_6, val_main_v30, val_main_cst_5, val_main_v27, ref_err]
theorem ref_fn (r : Fin 2048) (b : Fin 1024) : val_main_v18 (F := Ideal) f (ix2 r b) = (f (ix2 r b) * rstd (fun b => f (ix2 r b)) : EReal) := by
  pointwise [val_main_v18, val_main_v17, val_main_v13, val_main_v12, val_main_v10, val_main_v8, val_main_v7, val_main_v6, val_main_cst_0, val_main_v9, val_main_cst_1, val_main_v11, val_main_cst_2, rstd, msq]
theorem ref_cot (r : Fin 2048) (b : Fin 1024) : val_main_v51 (F := Ideal) x f t post md (ix2 r b) = cot x f t post md r b := by
  pointwise [val_main_v51, val_main_v50, val_main_v42, val_main_v41, val_main_v22, val_main_v5, val_main_v4, val_main_cst, val_main_v3, val_main_v2, val_main_v19, val_main_v1, val_main_v0, ref_dy]
theorem ref_df (r : Fin 2048) (b : Fin 1024) : val_main_v71 (F := Ideal) x f t post md (ix2 r b)
    = cot x f t post md r b * rstd (fun b => f (ix2 r b)) + f (ix2 r b) * normVar (fun b => f (ix2 r b)) (cot x f t post md r)
      + normVar (fun b => f (ix2 r b)) (cot x f t post md r) * f (ix2 r b) := by
  pointwise [val_main_v71, val_main_v66, val_main_v65, val_main_v64, val_main_v63, val_main_v62, val_main_v61, val_main_cst_18, val_main_v60, val_main_v59, val_main_cst_17, val_main_v58, val_main_v57, val_main_v56, val_main_v55, val_main_v54, val_main_cst_16, val_main_v53, val_main_v16, val_main_v15, val_main_cst_3, val_main_v14, val_main_v13, val_main_v12, val_main_v11, val_main_cst_2, val_main_v10, val_main_v9, val_main_cst_1, val_main_v8, val_main_v7, val_main_cst_0, val_main_v6, ref_cot, normVar, rstd, msq, Fin.sum_univ_one]
theorem ref_row3 (b : Fin 1024) : val_main_v80 (F := Ideal) x f t post md (ix2 3 b)
    = ∑ r : Fin 2048, (f (ix2 r b) * rstd (fun b => f (ix2 r b)) * (half * md (ix3 5 2 b) * dyA x f t post md r b) : EReal) := by
  pointwise [val_main_v80, val_main_v75, val_main_v52, val_main_cst_15, val_main_v49, val_main_v48, val_main_cst_14, val_main_v47, val_main_v42, val_main_v41, val_main_v22, val_main_v5, val_main_v4, val_main_cst, val_main_v3, val_main_v2, ref_fn, ref_dy, Fin.sum_univ_one]
theorem ref_row4 (b : Fin 1024) : val_main_v80 (F := Ideal) x f t post md (ix2 4 b)
    = half * ∑ r : Fin 2048, (dyA x f t post md r b * (f (ix2 r b) * rstd (fun b => f (ix2 r b)) * post (ix3 1 2 b)) : EReal) := by
  pointwise [val_main_v80, val_main_v76, val_main_v68, val_main_v67, val_main_cst_19, val_main_v46, val_main_cst_13, val_main_v45, val_main_v44, val_main_cst_12, val_main_v43, val_main_v21, val_main_v20, val_main_v19, val_main_v1, val_main_v0, ref_fn, ref_dy, Fin.sum_univ_one]
/-- The other rows are zero. -/
theorem ref_rows (k : Fin 8) (h3 : k.val ≠ 3) (h4 : k.val ≠ 4) (b : Fin 1024) : val_main_v80 (F := Ideal) x f t post md (ix2 k b) = (0 : EReal) := by
  fin_cases k
  case «3» => exact absurd rfl h3
  case «4» => exact absurd rfl h4
  all_goals pointwise [val_main_v80, val_main_v79, val_main_v78, val_main_v77, val_main_v74, val_main_v73, val_main_v72, val_main_v69, val_main_cst_20]
end

/-- The error and its gradient in a block's own arrays. -/
abbrev errB (x f t : Vec Ideal S512x1024 .f32) (v : Vec Ideal S1x8x1024 .f32) (a : Fin 512) : Fin 1024 → EReal :=
  err (fun b => x (ix2 a b)) (fun b => f (ix2 a b)) (fun b => t (ix2 a b)) (fun b => v (ix3 0 3 b)) (fun b => v (ix3 0 4 b))
def dyB (x f t : Vec Ideal S512x1024 .f32) (v : Vec Ideal S1x8x1024 .f32) (a : Fin 512) (b : Fin 1024) : EReal :=
  errB x f t v a b * Ideal.ofBits .f32 0x3A800000#32

/-- A block's contributions: to the squared errors, to the gate's gradient, to the gain's. -/
def contSq (x f t : Vec Ideal S512x1024 .f32) (v : Vec Ideal S1x8x1024 .f32) (b : Fin 1024) : EReal :=
  ∑ a : Fin 512, errB x f t v a b * errB x f t v a b
def contGate (x f t : Vec Ideal S512x1024 .f32) (v : Vec Ideal S1x8x1024 .f32) (b : Fin 1024) : EReal :=
  half * ∑ a : Fin 512, dyB x f t v a b * (f (ix2 a b) * rstd (fun b => f (ix2 a b)) * v (ix3 0 3 b))
def contPost (x f t : Vec Ideal S512x1024 .f32) (v : Vec Ideal S1x8x1024 .f32) (b : Fin 1024) : EReal :=
  ∑ a : Fin 512, half * v (ix3 0 4 b) * dyB x f t v a b * (f (ix2 a b) * rstd (fun b => f (ix2 a b)))
def cont (x f t : Vec Ideal S512x1024 .f32) (v : Vec Ideal S1x8x1024 .f32) (k : Fin 8) (b : Fin 1024) : EReal :=
  if k.val = 3 then contPost x f t v b else if k.val = 4 then contGate x f t v b else 0

section
variable (x f t : Vec Ideal S512x1024 .f32) (v : Vec Ideal S1x8x1024 .f32)

theorem pay_err (a : Fin 512) (b : Fin 1024) : k0_pay6 f v x t (ix2 a b) = errB x f t v a b := by
  pointwise [k0_pay6, k0_pay5, err, rstd, msq]
theorem pay_dy (a : Fin 512) (b : Fin 1024) : k0_pay7 f v x t (ix2 a b) = dyB x f t v a b := by
  pointwise [k0_pay7, pay_err, dyB]
theorem pay_acc (w : Vec Ideal S1x1024 .f32) (b : Fin 1024) : k0_pay9 (k0_pay8 f v x t w) (ix2 0 b) = (w (ix2 0 b) + contSq x f t v b : EReal) := by
  pointwise [k0_pay9, k0_pay8, pay_err, contSq]
theorem pay_gate (w : Vec Ideal S1x1024 .f32) (b : Fin 1024) :
    k0_pay13 f (k0_pay5 v) (k0_pay7 f v x t) w (ix2 0 b) = (w (ix2 0 b) + contGate x f t v b : EReal) := by
  pointwise [k0_pay13, k0_pay12, k0_pay11, k0_pay10, k0_pay5, pay_dy, contGate, rstd, msq]
theorem pay_post (w : Vec Ideal S1x1024 .f32) (b : Fin 1024) :
    k0_pay15 f (k0_pay5 v) (k0_pay7 f v x t) w (ix2 0 b) = (w (ix2 0 b) + contPost x f t v b : EReal) := by
  pointwise [k0_pay15, k0_pay14, k0_pay12, k0_pay11, k0_pay5, pay_dy, contPost, rstd, msq]
theorem pay_df (a : Fin 512) (b : Fin 1024) :
    k0_pay1 (k0_pay11 f) (k0_pay12 f) (k0_pay16 (k0_pay5 v) (k0_pay7 f v x t)) (k0_pay17 f (k0_pay5 v) (k0_pay7 f v x t)) (ix2 a b)
      = normHand (fun b => f (ix2 a b)) (fun b => half * v (ix3 0 4 b) * dyB x f t v a b * v (ix3 0 3 b)) b := by
  pointwise [k0_pay1, k0_pay17, k0_pay16, k0_pay14, k0_pay12, k0_pay11, k0_pay10, k0_pay5, pay_dy, normHand, rstd, msq]
theorem pay_loss (w : Vec Ideal S1x1024 .f32) (j : Fin 128) :
    k0_pay2 w (ix2 0 j) = (Ideal.ofBits .f32 0x3A000000#32 * ∑ b : Fin 1024, w (ix2 0 b) : EReal) := by
  pointwise [k0_pay2, Fin.sum_univ_one]
theorem pay_zero (k : Fin 8) (b : Fin 1024) : k0_pay3 (F := Ideal) (ix2 k b) = (0 : EReal) := by
  pointwise [k0_pay3]
theorem pay_zero1 (b : Fin 1024) : k0_pay4 (F := Ideal) (ix2 0 b) = (0 : EReal) := by
  pointwise [k0_pay4]
end

section
variable (c : Dev nD) (i : grid0.Coords) (a1 a2 a3 : Memref sig .tc .vmem S512x1024 .f32) (h1 : a1.IsWhole) (h2 : a2.IsWhole) (h3 : a3.IsWhole)
  (a4 : Memref sig .tc .vmem S1x8x1024 .f32) (h4 : a4.IsWhole) (a5 : Memref sig .tc .vmem S1x128 .f32) (h5 : a5.IsWhole)
  (a6 : Memref sig .tc .vmem S512x1024 .f32) (h6 : a6.IsWhole) (a7 : Memref sig .tc .vmem S512x1024 .bf16) (h7 : a7.IsWhole)
  (a8 : Memref sig .tc .vmem S8x1024 .f32) (h8 : a8.IsWhole) (a9 : Memref sig .tc .vmem S1x1024 .f32) (h9 : a9.IsWhole)
  (x f t : Vec Ideal S512x1024 .f32) (v : Vec Ideal S1x8x1024 .f32) (xo : Vec Ideal S8x1024 .f32) (xs : Vec Ideal S1x1024 .f32)

theorem zero_read (w : View sig .tc .vmem S8x1024 .f32) (g : w.ty.Contents (Elt Ideal)) (k : Fin 8) (b : Fin 1024) (inb : ∀ a : Fin 2, ![0, 0] a + S8x1024.size a ≤ S8x1024.size a) :
    w.read (Elt Ideal) (w.writes (Elt Ideal) g [⟨Rect.unit ![0, 0] S8x1024.size inb, k0_pay3 (F := Ideal)⟩]) (ix2 k b) = (0 : EReal) := by
  rw [View.read_writes_full]
  exact pay_zero k b

theorem outA5 (hc0 : cond0_0 i) (hc1 : ¬ cond0_1 i) :
    out0_A_5 c i a1 h1 a2 h2 a3 h3 a4 h4 a5 h5 a6 h6 a7 h7 a8 h8 a9 h9 hc0 hc1 x f t v = k0_pay7 f v x t := by
  unfold out0_A_5
  rw [View.read_writes_eq_canon _ _ _ (fun y => cover0_A_5 (y := y) ..)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outA6 (hc0 : cond0_0 i) (hc1 : ¬ cond0_1 i) :
    out0_A_6 c i a1 h1 a2 h2 a3 h3 a4 h4 a5 h5 a6 h6 a7 h7 a8 h8 a9 h9 hc0 hc1 x f t v
      = k0_pay1 (k0_pay11 f) (k0_pay12 f) (k0_pay16 (k0_pay5 v) (k0_pay7 f v x t)) (k0_pay17 f (k0_pay5 v) (k0_pay7 f v x t)) := by
  unfold out0_A_6
  rw [View.read_writes_eq_canon _ _ _ (fun y => cover0_A_6 (y := y) ..)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outA7 (hc0 : cond0_0 i) (hc1 : ¬ cond0_1 i) (k : Fin 8) (b : Fin 1024) :
    out0_A_7 c i a1 h1 a2 h2 a3 h3 a4 h4 a5 h5 a6 h6 a7 h7 a8 h8 a9 h9 hc0 hc1 x f t v (ix2 k b) = cont x f t v k b := by
  unfold out0_A_7
  unfold kernelRun0_A
  dsimp only
  sl_unfold_words
  simp only [View.readAt_eq_ld, h1.read_unread, h2.read_unread, h3.read_unread, h4.read_unread, View.ld_unit_zero (S := S512x1024) zero2, View.ld_unit_zero (S := S1x8x1024) zero3, shapeCast_self]
  refine (read_row_cons _ _ 3 _ _ _ k b).trans ?_
  by_cases e3 : k.val = 3
  · rw [if_pos e3, cont, if_pos e3]
    refine (pay_post ..).trans ((congrArg (· + _) ?_).trans (zero_add _))
    refine (readAt_row a8.view _ (3 : Fin 8) _ b).trans ((read_row_cons _ _ 4 _ _ _ 3 b).trans ?_)
    rw [if_neg (by decide)]
    exact zero_read ..
  rw [if_neg e3, cont, if_neg e3]
  refine (read_row_cons _ _ 4 _ _ _ k b).trans ?_
  by_cases e4 : k.val = 4
  · rw [if_pos e4, if_pos e4]
    refine (pay_gate ..).trans ((congrArg (· + _) ?_).trans (zero_add _))
    exact (readAt_row a8.view _ (4 : Fin 8) _ b).trans (zero_read ..)
  rw [if_neg e4, if_neg e4]
  exact zero_read ..

theorem one_read (w : View sig .tc .vmem S1x1024 .f32) (g : w.ty.Contents (Elt Ideal)) (p : Vec Ideal S1x1024 .f32) (L : List (View.Piece (Elt Ideal) S1x1024 .f32))
    (inb : ∀ a : Fin 2, ![0, 0] a + ![1, 1024] a ≤ S1x1024.size a) :
    w.read (Elt Ideal) (w.writes (Elt Ideal) g (⟨Rect.unit ![0, 0] ![1, 1024] inb, p⟩ :: L)) = p :=
  View.read_writes_full w g inb p L

theorem one_cov (w : View sig .tc .vmem S1x1024 .f32) (p : Vec Ideal S1x1024 .f32) (L : List (View.Piece (Elt Ideal) S1x1024 .f32))
    (inb : ∀ a : Fin 2, ![0, 0] a + ![1, 1024] a ≤ S1x1024.size a) :
    w.readCov (⟨Rect.unit ![0, 0] ![1, 1024] inb, p⟩ :: L) (Rect.unit (s := S1x1024) ![0, 0] ![1, 1024] inb).toLoadRect = p :=
  View.readCov_full w inb inb p L

theorem outAs (hc0 : cond0_0 i) (hc1 : ¬ cond0_1 i) (b : Fin 1024) :
    sout0_A_0 c i a1 h1 a2 h2 a3 h3 a4 h4 a5 h5 a6 h6 a7 h7 a8 h8 a9 h9 hc0 hc1 x f t v (ix2 0 b) = contSq x f t v b := by
  unfold sout0_A_0
  unfold kernelRun0_A
  dsimp only
  sl_unfold_words
  simp only [View.readAt_eq_ld, h1.read_unread, h2.read_unread, h3.read_unread, h4.read_unread, View.ld_unit_zero (S := S512x1024) zero2, View.ld_unit_zero (S := S1x8x1024) zero3, View.ld_unit_zero (S := S1x1024) zero2, shapeCast_self]
  refine (congrFun (one_read _ _ _ _ _) _).trans ((pay_acc ..).trans ((congrArg (· + _) ((congrFun (one_cov ..) _).trans (pay_zero1 b))).trans (zero_add _)))

theorem outB5 (hc0 : ¬ cond0_0 i) (hc1 : ¬ cond0_1 i) : out0_B_5 c i a1 h1 a2 h2 a3 h3 a4 h4 a5 h5 a6 h6 a7 h7 a8 h8 a9 h9 hc0 hc1 x f t v xo xs = k0_pay7 f v x t := by
  unfold out0_B_5
  rw [View.read_writes_eq_canon _ _ _ (fun y => cover0_B_5 (y := y) ..)]
  unfold kernelRun0_B
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outB6 (hc0 : ¬ cond0_0 i) (hc1 : ¬ cond0_1 i) : out0_B_6 c i a1 h1 a2 h2 a3 h3 a4 h4 a5 h5 a6 h6 a7 h7 a8 h8 a9 h9 hc0 hc1 x f t v xo xs = k0_pay1 (k0_pay11 f) (k0_pay12 f) (k0_pay16 (k0_pay5 v) (k0_pay7 f v x t)) (k0_pay17 f (k0_pay5 v) (k0_pay7 f v x t)) := by
  unfold out0_B_6
  rw [View.read_writes_eq_canon _ _ _ (fun y => cover0_B_6 (y := y) ..)]
  unfold kernelRun0_B
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outB7 (hc0 : ¬ cond0_0 i) (hc1 : ¬ cond0_1 i) (k : Fin 8) (b : Fin 1024) :
    out0_B_7 c i a1 h1 a2 h2 a3 h3 a4 h4 a5 h5 a6 h6 a7 h7 a8 h8 a9 h9 hc0 hc1 x f t v xo xs (ix2 k b) = (xo (ix2 k b) + cont x f t v k b : EReal) := by
  unfold out0_B_7
  unfold kernelRun0_B
  dsimp only
  sl_unfold_words
  simp only [View.readAt_eq_ld, h1.read_unread, h2.read_unread, h3.read_unread, h4.read_unread, View.ld_unit_zero (S := S512x1024) zero2, View.ld_unit_zero (S := S1x8x1024) zero3, shapeCast_self]
  refine (read_row_cons _ _ 3 _ _ _ k b).trans ?_
  by_cases e3 : k.val = 3
  · rw [if_pos e3, cont, if_pos e3]
    obtain rfl : k = 3 := Fin.ext e3
    refine (pay_post ..).trans (congrArg (· + _) ((ld_row _ (3 : Fin 8) _ b).trans ?_))
    exact congrFun (h8.read_unread xo) _
  rw [if_neg e3, cont, if_neg e3]
  refine (read_row_cons _ _ 4 _ _ _ k b).trans ?_
  by_cases e4 : k.val = 4
  · rw [if_pos e4, if_pos e4]
    obtain rfl : k = 4 := Fin.ext e4
    refine (pay_gate ..).trans (congrArg (· + _) ((ld_row _ (4 : Fin 8) _ b).trans ?_))
    exact congrFun (h8.read_unread xo) _
  rw [if_neg e4, if_neg e4, View.writes_nil, h8.read_unread]
  exact (add_zero _).symm

theorem outBs (hc0 : ¬ cond0_0 i) (hc1 : ¬ cond0_1 i) (b : Fin 1024) :
    sout0_B_0 c i a1 h1 a2 h2 a3 h3 a4 h4 a5 h5 a6 h6 a7 h7 a8 h8 a9 h9 hc0 hc1 x f t v xo xs (ix2 0 b) = (xs (ix2 0 b) + contSq x f t v b : EReal) := by
  unfold sout0_B_0
  unfold kernelRun0_B
  dsimp only
  sl_unfold_words
  simp only [View.readAt_eq_ld, h1.read_unread, h2.read_unread, h3.read_unread, h4.read_unread, h9.read_unread, View.ld_unit_zero (S := S512x1024) zero2, View.ld_unit_zero (S := S1x8x1024) zero3, View.ld_unit_zero (S := S1x1024) zero2, shapeCast_self]
  exact (congrFun (one_read ..) _).trans (pay_acc ..)

theorem outC5 (hc0 : ¬ cond0_0 i) (hc1 : cond0_1 i) : out0_C_5 c i a1 h1 a2 h2 a3 h3 a4 h4 a5 h5 a6 h6 a7 h7 a8 h8 a9 h9 hc0 hc1 x f t v xo xs = k0_pay7 f v x t := by
  unfold out0_C_5
  rw [View.read_writes_eq_canon _ _ _ (fun y => cover0_C_5 (y := y) ..)]
  unfold kernelRun0_C
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outC6 (hc0 : ¬ cond0_0 i) (hc1 : cond0_1 i) : out0_C_6 c i a1 h1 a2 h2 a3 h3 a4 h4 a5 h5 a6 h6 a7 h7 a8 h8 a9 h9 hc0 hc1 x f t v xo xs = k0_pay1 (k0_pay11 f) (k0_pay12 f) (k0_pay16 (k0_pay5 v) (k0_pay7 f v x t)) (k0_pay17 f (k0_pay5 v) (k0_pay7 f v x t)) := by
  unfold out0_C_6
  rw [View.read_writes_eq_canon _ _ _ (fun y => cover0_C_6 (y := y) ..)]
  unfold kernelRun0_C
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outC7 (hc0 : ¬ cond0_0 i) (hc1 : cond0_1 i) (k : Fin 8) (b : Fin 1024) :
    out0_C_7 c i a1 h1 a2 h2 a3 h3 a4 h4 a5 h5 a6 h6 a7 h7 a8 h8 a9 h9 hc0 hc1 x f t v xo xs (ix2 k b) = (xo (ix2 k b) + cont x f t v k b : EReal) := by
  unfold out0_C_7
  unfold kernelRun0_C
  dsimp only
  sl_unfold_words
  simp only [View.readAt_eq_ld, h1.read_unread, h2.read_unread, h3.read_unread, h4.read_unread, View.ld_unit_zero (S := S512x1024) zero2, View.ld_unit_zero (S := S1x8x1024) zero3, shapeCast_self]
  refine (read_row_cons _ _ 3 _ _ _ k b).trans ?_
  by_cases e3 : k.val = 3
  · rw [if_pos e3, cont, if_pos e3]
    obtain rfl : k = 3 := Fin.ext e3
    refine (pay_post ..).trans (congrArg (· + _) ((ld_row _ (3 : Fin 8) _ b).trans ?_))
    exact congrFun (h8.read_unread xo) _
  rw [if_neg e3, cont, if_neg e3]
  refine (read_row_cons _ _ 4 _ _ _ k b).trans ?_
  by_cases e4 : k.val = 4
  · rw [if_pos e4, if_pos e4]
    obtain rfl : k = 4 := Fin.ext e4
    refine (pay_gate ..).trans (congrArg (· + _) ((ld_row _ (4 : Fin 8) _ b).trans ?_))
    exact congrFun (h8.read_unread xo) _
  rw [if_neg e4, if_neg e4, View.writes_nil, h8.read_unread]
  exact (add_zero _).symm

theorem outCs (hc0 : ¬ cond0_0 i) (hc1 : cond0_1 i) (b : Fin 1024) :
    sout0_C_0 c i a1 h1 a2 h2 a3 h3 a4 h4 a5 h5 a6 h6 a7 h7 a8 h8 a9 h9 hc0 hc1 x f t v xo xs (ix2 0 b) = (xs (ix2 0 b) + contSq x f t v b : EReal) := by
  unfold sout0_C_0
  unfold kernelRun0_C
  dsimp only
  sl_unfold_words
  simp only [View.readAt_eq_ld, h1.read_unread, h2.read_unread, h3.read_unread, h4.read_unread, h9.read_unread, View.ld_unit_zero (S := S512x1024) zero2, View.ld_unit_zero (S := S1x8x1024) zero3, View.ld_unit_zero (S := S1x1024) zero2, shapeCast_self]
  exact (congrFun (one_read ..) _).trans (pay_acc ..)

/-- The loss, from the accumulated squared errors. -/
theorem outC4 (hc0 : ¬ cond0_0 i) (hc1 : cond0_1 i) (j : Fin 128) :
    out0_C_4 c i a1 h1 a2 h2 a3 h3 a4 h4 a5 h5 a6 h6 a7 h7 a8 h8 a9 h9 hc0 hc1 x f t v xo xs (ix2 0 j)
      = (Ideal.ofBits .f32 0x3A000000#32 * ∑ b : Fin 1024, (xs (ix2 0 b) + contSq x f t v b) : EReal) := by
  unfold out0_C_4
  rw [View.read_writes_eq_canon _ _ _ (fun y => cover0_C_4 (y := y) ..)]
  unfold kernelRun0_C
  dsimp only
  sl_unfold_words
  rw [View.canon_unit_zero zero2]
  simp only [View.readAt_eq_ld, h1.read_unread, h2.read_unread, h3.read_unread, h4.read_unread, h9.read_unread, View.ld_unit_zero (S := S512x1024) zero2, View.ld_unit_zero (S := S1x8x1024) zero3, View.ld_unit_zero (S := S1x1024) zero2, shapeCast_self]
  exact (pay_loss ..).trans (congrArg (_ * ·) (Finset.sum_congr rfl fun b _ => (congrFun (one_cov ..) _).trans (pay_acc ..)))
end

theorem outs_dy (c : Dev nD) (t : Fin cfg0.N) :
    (outsAt0 m c t.val t.isLt).2.1 = k0_pay7 (iblk m c 1 t) (iblk m c 3 t) (iblk m c 0 t) (iblk m c 2 t) := by
  by_cases h : t.val % 4 = 0
  · rw [outsAt0_A m c t h (by omega)]
    dsimp only
    rw [outA5]
  by_cases h' : t.val % 4 = 3
  · rw [outsAt0_C m c t h h']
    dsimp only
    rw [outC5]
  rw [outsAt0_B m c t h h']
  dsimp only
  rw [outB5]

theorem outs_df (c : Dev nD) (t : Fin cfg0.N) :
    (outsAt0 m c t.val t.isLt).2.2.1 = k0_pay1 (k0_pay11 (iblk m c 1 t)) (k0_pay12 (iblk m c 1 t))
      (k0_pay16 (k0_pay5 (iblk m c 3 t)) (k0_pay7 (iblk m c 1 t) (iblk m c 3 t) (iblk m c 0 t) (iblk m c 2 t)))
      (k0_pay17 (iblk m c 1 t) (k0_pay5 (iblk m c 3 t)) (k0_pay7 (iblk m c 1 t) (iblk m c 3 t) (iblk m c 0 t) (iblk m c 2 t))) := by
  by_cases h : t.val % 4 = 0
  · rw [outsAt0_A m c t h (by omega)]
    dsimp only
    rw [outA6]
  by_cases h' : t.val % 4 = 3
  · rw [outsAt0_C m c t h h']
    dsimp only
    rw [outC6]
  rw [outsAt0_B m c t h h']
  dsimp only
  rw [outB6]

/-- Block `t`'s contributions to the accumulated rows and to the squared errors. -/
abbrev part (c : Dev nD) (t : Fin cfg0.N) (k : Fin 8) (b : Fin 1024) : EReal := cont (iblk m c 0 t) (iblk m c 1 t) (iblk m c 2 t) (iblk m c 3 t) k b
abbrev partSq (c : Dev nD) (t : Fin cfg0.N) (b : Fin 1024) : EReal := contSq (iblk m c 0 t) (iblk m c 1 t) (iblk m c 2 t) (iblk m c 3 t) b

theorem dv_zero (c : Dev nD) (h : 0 < cfg0.N) (k : Fin 8) (b : Fin 1024) : (outsAt0 m c 0 h).2.2.2.1 (ix2 k b) = part m c ⟨0, h⟩ k b := by
  rw [outsAt0_A m c ⟨0, h⟩ rfl (by show ¬ 0 % 4 = 3; decide)]
  dsimp only
  rw [outA7]

theorem dv_succ (c : Dev nD) (n : ℕ) (h : n + 1 < cfg0.N) (k : Fin 8) (b : Fin 1024) :
    (outsAt0 m c (n + 1) h).2.2.2.1 (ix2 k b) = ((outsAt0 m c n (Nat.lt_of_succ_lt h)).2.2.2.1 (ix2 k b) + part m c ⟨n + 1, h⟩ k b : EReal) := by
  have hN : cfg0.N = 4 := N_0
  by_cases h' : (n + 1) % 4 = 3
  · rw [outsAt0_C m c ⟨n + 1, h⟩ (by show ¬ (n + 1) % 4 = 0; omega) h']
    dsimp only
    rw [outC7]
    rfl
  rw [outsAt0_B m c ⟨n + 1, h⟩ (by show ¬ (n + 1) % 4 = 0; omega) h']
  dsimp only
  rw [outB7]
  rfl

theorem sq_zero (c : Dev nD) (h : 0 < cfg0.N) (b : Fin 1024) : (outsAt0 m c 0 h).2.2.2.2 (ix2 0 b) = partSq m c ⟨0, h⟩ b := by
  rw [outsAt0_A m c ⟨0, h⟩ rfl (by show ¬ 0 % 4 = 3; decide)]
  dsimp only
  rw [outAs]

theorem sq_succ (c : Dev nD) (n : ℕ) (h : n + 1 < cfg0.N) (b : Fin 1024) :
    (outsAt0 m c (n + 1) h).2.2.2.2 (ix2 0 b) = ((outsAt0 m c n (Nat.lt_of_succ_lt h)).2.2.2.2 (ix2 0 b) + partSq m c ⟨n + 1, h⟩ b : EReal) := by
  have hN : cfg0.N = 4 := N_0
  by_cases h' : (n + 1) % 4 = 3
  · rw [outsAt0_C m c ⟨n + 1, h⟩ (by show ¬ (n + 1) % 4 = 0; omega) h']
    dsimp only
    rw [outCs]
    rfl
  rw [outsAt0_B m c ⟨n + 1, h⟩ (by show ¬ (n + 1) % 4 = 0; omega) h']
  dsimp only
  rw [outBs]
  rfl

theorem dv_sum (c : Dev nD) (k : Fin 8) (b : Fin 1024) (n : ℕ) (h : n < cfg0.N) :
    (outsAt0 m c n h).2.2.2.1 (ix2 k b)
      = ∑ t : Fin (n + 1), (part m c ⟨t.val, lt_of_le_of_lt (Nat.le_of_lt_succ t.isLt) h⟩ k b : EReal) :=
  acc_sum (M := EReal) (fun j hj => (outsAt0 m c j hj).2.2.2.1 (ix2 k b)) (fun j hj => part m c ⟨j, hj⟩ k b)
    (fun h => dv_zero m c h k b) (fun j hj => dv_succ m c j hj k b) n h

theorem sq_sum (c : Dev nD) (b : Fin 1024) (n : ℕ) (h : n < cfg0.N) :
    (outsAt0 m c n h).2.2.2.2 (ix2 0 b)
      = ∑ t : Fin (n + 1), (partSq m c ⟨t.val, lt_of_le_of_lt (Nat.le_of_lt_succ t.isLt) h⟩ b : EReal) :=
  acc_sum (M := EReal) (fun j hj => (outsAt0 m c j hj).2.2.2.2 (ix2 0 b)) (fun j hj => partSq m c ⟨j, hj⟩ b)
    (fun h => sq_zero m c h b) (fun j hj => sq_succ m c j hj b) n h

/-- The loss from the squared errors of all blocks. -/
theorem loss_outs (c : Dev nD) (n : ℕ) (h : n < cfg0.N) (hn : n % 4 = 3) (j : Fin 128) :
    (outsAt0 m c n h).1 (ix2 0 j)
      = (Ideal.ofBits .f32 0x3A000000#32 * ∑ b : Fin 1024, ∑ t : Fin (n + 1), partSq m c ⟨t.val, lt_of_le_of_lt (Nat.le_of_lt_succ t.isLt) h⟩ b : EReal) := by
  obtain ⟨n, rfl⟩ : ∃ k, n = k + 1 := ⟨n - 1, by omega⟩
  have e := outsAt0_C m c ⟨n + 1, h⟩ (by show ¬ (n + 1) % 4 = 0; omega) hn
  refine (congrFun (congrArg Prod.fst e) _).trans ?_
  dsimp only
  rw [outC4]
  refine congrArg (_ * ·) (Finset.sum_congr rfl fun b _ => ?_)
  exact ((sq_succ m c n h b).symm.trans (sq_sum m c b (n + 1) h))

/-- The kernel's one factor of the error is the reference's three. -/
theorem dy_eq (e : EReal) : e * Ideal.ofBits .f32 0x3A800000#32
    = Ideal.div (half * Ideal.ofBits .f32 0x3F800000#32) (Ideal.ofBits .f32 0x44800000#32) * (Ideal.ofBits .f32 0x40000000#32 * e) := by
  rw [half_eq, one_eq, n1024_eq, two_eq, inv1024_eq, Ideal.div_coe (by norm_num), ← mul_assoc, mul_comm e]
  simp only [← EReal.coe_mul]
  norm_num

/-- The four results, as the reference computes them. -/
abbrev lossR (c : Dev nD) : FVec Ideal S1x128 .f32 := Cert.LastShellRefIdeal.Read.val_main_v70 (F := Ideal) (xA m c) (fA m c) (tA m c) (postA m c) (modA m c)
abbrev dyR (c : Dev nD) : FVec Ideal S2048x1024 .f32 := Cert.LastShellRefIdeal.Read.val_main_v40 (F := Ideal) (xA m c) (fA m c) (tA m c) (postA m c) (modA m c)
abbrev dfR (c : Dev nD) : FVec Ideal S2048x1024 .bf16 := Cert.LastShellRefIdeal.Read.val_main_v71 (F := Ideal) (xA m c) (fA m c) (tA m c) (postA m c) (modA m c)
abbrev dvR (c : Dev nD) : FVec Ideal S8x1024 .f32 := Cert.LastShellRefIdeal.Read.val_main_v80 (F := Ideal) (xA m c) (fA m c) (tA m c) (postA m c) (modA m c)

theorem err_blk (c : Dev nD) (t : Fin cfg0.N) (a : Fin 512) :
    errB (iblk m c 0 t) (iblk m c 1 t) (iblk m c 2 t) (iblk m c 3 t) a = errA (xA m c) (fA m c) (tA m c) (postA m c) (modA m c) (row t a) := by
  simp only [errB, errA, blk0, blk1, blk2, blk3_post, blk3_gate]

theorem dy_blk (c : Dev nD) (t : Fin cfg0.N) (a : Fin 512) (b : Fin 1024) :
    dyB (iblk m c 0 t) (iblk m c 1 t) (iblk m c 2 t) (iblk m c 3 t) a b = dyA (xA m c) (fA m c) (tA m c) (postA m c) (modA m c) (row t a) b := by
  rw [dyB, err_blk, dyA]
  exact dy_eq _

/-- What the precondition says: the arguments that reach the error are real numbers. -/
def Fin5 (c : Dev nD) : Prop :=
  (∀ r b, ∃ q : ℝ, xA m c (ix2 r b) = q) ∧ (∀ r b, ∃ q : ℝ, fA m c (ix2 r b) = q) ∧ (∀ r b, ∃ q : ℝ, tA m c (ix2 r b) = q)
    ∧ (∀ b, ∃ q : ℝ, postA m c (ix3 1 2 b) = q) ∧ (∀ b, ∃ q : ℝ, modA m c (ix3 5 2 b) = q)

theorem cot_real (c : Dev nD) (h : Fin5 m c) (r : Fin 2048) (b : Fin 1024) :
    ∃ q : ℝ, cot (xA m c) (fA m c) (tA m c) (postA m c) (modA m c) r b = q := by
  obtain ⟨q1, h1⟩ := h.1 r b
  obtain ⟨q3, h3⟩ := h.2.2.1 r b
  obtain ⟨q4, h4⟩ := h.2.2.2.1 b
  obtain ⟨q5, h5⟩ := h.2.2.2.2 b
  have hf := h.2.1 r
  choose F hF using hf
  have hr : rstd (fun b => fA m c (ix2 r b)) = (((√(msR F))⁻¹ : ℝ) : EReal) := by
    simp only [hF]
    exact rstd_coe F
  refine ⟨1 / 2 * q5 * ((q1 + 1 / 2 * q5 * (F b * (√(msR F))⁻¹ * q4) - q3) * (1 / 1024)) * q4, ?_⟩
  rw [cot, dyA, ← dy_eq, errA, err, hr, hF, h1, h3, h4, h5, half_eq, inv1024_eq]
  simp only [EReal.coe_mul, EReal.coe_add, EReal.coe_sub]

/-- Block `t` of the second and of the third result is the reference's rows. -/
theorem dy_ref (c : Dev nD) (t : Fin cfg0.N) (a : Fin 512) (b : Fin 1024) :
    (outsAt0 m c t.val t.isLt).2.1 (ix2 a b) = dyR m c (ix2 (row t a) b) := by
  rw [outs_dy, pay_dy]
  refine Eq.trans ?_ (ref_dy (xA m c) (fA m c) (tA m c) (postA m c) (modA m c) (row t a) b).symm
  exact dy_blk m c t a b

theorem df_ref (c : Dev nD) (h : Fin5 m c) (t : Fin cfg0.N) (a : Fin 512) (b : Fin 1024) :
    (outsAt0 m c t.val t.isLt).2.2.1 (ix2 a b) = dfR m c (ix2 (row t a) b) := by
  rw [outs_df, pay_df]
  refine Eq.trans ?_ (ref_df (xA m c) (fA m c) (tA m c) (postA m c) (modA m c) (row t a) b).symm
  simp only [dy_blk, blk1, blk3_post, blk3_gate]
  rw [norm_grad (h.2.1 (row t a)) (cot_real m c h (row t a)), ← add_assoc]

/-- After the last point the accumulator holds the reference's rows. -/
theorem last_dv (c : Dev nD) (h : 3 < cfg0.N) (k : Fin 8) (b : Fin 1024) : (outsAt0 m c 3 h).2.2.2.1 (ix2 k b) = dvR m c (ix2 k b) := by
  rw [dv_sum]
  simp only [part, cont]
  by_cases e3 : k.val = 3
  · obtain rfl : k = 3 := Fin.ext e3
    refine Eq.trans ?_ (ref_row3 (xA m c) (fA m c) (tA m c) (postA m c) (modA m c) b).symm
    rw [Fin.sum_univ_tiles 4 512 rfl]
    refine Finset.sum_congr rfl fun t _ => ?_
    rw [if_pos e3, contPost]
    refine Finset.sum_congr rfl fun a _ => ?_
    simp only [dy_blk, blk1, blk3_gate]
    exact mul_comm (G := EReal) _ _
  by_cases e4 : k.val = 4
  · obtain rfl : k = 4 := Fin.ext e4
    refine Eq.trans ?_ (ref_row4 (xA m c) (fA m c) (tA m c) (postA m c) (modA m c) b).symm
    rw [Fin.sum_univ_tiles 4 512 rfl]
    rw [half_eq, mul_sum_real _ _ (by norm_num)]
    refine Finset.sum_congr rfl fun t _ => ?_
    rw [if_neg e3, if_pos e4, contGate, half_eq]
    refine congrArg (_ * ·) (Finset.sum_congr rfl fun a _ => ?_)
    simp only [dy_blk, blk1, blk3_post]
    rfl
  refine Eq.trans ?_ (ref_rows (xA m c) (fA m c) (tA m c) (postA m c) (modA m c) k e3 e4 b).symm
  simp only [if_neg e3, if_neg e4]
  exact Finset.sum_const_zero

/-- The last point leaves the reference's loss. -/
theorem last_loss (c : Dev nD) (h : 3 < cfg0.N) (j : Fin 128) : (outsAt0 m c 3 h).1 (ix2 0 j) = lossR m c (ix2 0 j) := by
  rw [loss_outs m c 3 h rfl]
  refine Eq.trans ?_ (ref_loss (xA m c) (fA m c) (tA m c) (postA m c) (modA m c) j).symm
  simp only [n1024_eq, Ideal.div_coe (show (1024 : ℝ) ≠ 0 by norm_num)]
  simp only [mul_comm _ ((1 / 1024 : ℝ) : EReal)]
  rw [← mul_sum_real _ _ (by norm_num), ← mul_assoc, half_eq, ← EReal.coe_mul, inv2048_eq, Finset.sum_comm (s := (Finset.univ : Finset (Fin 2048)))]
  rw [show (1 / 2 * (1 / 1024) : ℝ) = 1 / 2048 by norm_num]
  refine congrArg (_ * ·) (Finset.sum_congr rfl fun b _ => ?_)
  rw [Fin.sum_univ_tiles 4 512 rfl]
  refine Finset.sum_congr rfl fun t _ => ?_
  refine Finset.sum_congr rfl fun a _ => ?_
  rw [err_blk]
  rfl

theorem fin5 (c : Dev nD)
    (h : Cert.Pre_finite_last_shell.fn (F := Ideal) (xA m c) (fA m c) (tA m c) (preA m c) (postA m c) (modA m c) = fun _ => 1#1) : Fin5 m c := by
  have hi (r : Fin 2048) (b : Fin 1024) := congrFun h (ix2 r b)
  have e (r : Fin 2048) (b : Fin 1024) : Cert.Pre_finite_last_shell.fn (F := Ideal) (xA m c) (fA m c) (tA m c) (preA m c) (postA m c) (modA m c) (ix2 r b)
      = (below (xA m c (ix2 r b)) &&& below (fA m c (ix2 r b))) &&& below (tA m c (ix2 r b)) &&& below (postA m c (ix3 1 2 b)) &&& below (modA m c (ix3 5 2 b)) := by
    pointwise [Cert.Pre_finite_last_shell.fn, Cert.Pre_finite_last_shell.fn_part1, below]
    rfl
  simp only [e, and_one_iff] at hi
  exact ⟨fun r b => real_of_lt (hi r b).1.1.1.1, fun r b => real_of_lt (hi r b).1.1.1.2, fun r b => real_of_lt (hi r b).1.1.2, fun b => real_of_lt (hi 0 b).1.2, fun b => real_of_lt (hi 0 b).2⟩

theorem mem_out4 (t : Fin cfg0.N) (i : S1x128.Idx) : i ∈ ((cfg0.win 4).blk t).view.set ↔
    ∀ a : Fin 2, win0_4.index t a * win0_4.size a ≤ (i a).val ∧ (i a).val < win0_4.index t a * win0_4.size a + win0_4.size a := by
  show i ∈ ((View.whole main_v18_0).slice (win0_4.rect t)).set ↔ _
  rw [View.set_slice_whole, Rect.mem_set_unit]
  rfl

theorem mem_out5 (t : Fin cfg0.N) (i : S2048x1024.Idx) : i ∈ ((cfg0.win 5).blk t).view.set ↔
    ∀ a : Fin 2, win0_5.index t a * win0_5.size a ≤ (i a).val ∧ (i a).val < win0_5.index t a * win0_5.size a + win0_5.size a := by
  show i ∈ ((View.whole main_v18_1).slice (win0_5.rect t)).set ↔ _
  rw [View.set_slice_whole, Rect.mem_set_unit]
  rfl

theorem mem_out6 (t : Fin cfg0.N) (i : S2048x1024.Idx) : i ∈ ((cfg0.win 6).blk t).view.set ↔
    ∀ a : Fin 2, win0_6.index t a * win0_6.size a ≤ (i a).val ∧ (i a).val < win0_6.index t a * win0_6.size a + win0_6.size a := by
  show i ∈ ((View.whole main_v18_2).slice (win0_6.rect t)).set ↔ _
  rw [View.set_slice_whole, Rect.mem_set_unit]
  rfl

theorem mem_out7 (t : Fin cfg0.N) (i : S8x1024.Idx) : i ∈ ((cfg0.win 7).blk t).view.set ↔
    ∀ a : Fin 2, win0_7.index t a * win0_7.size a ≤ (i a).val ∧ (i a).val < win0_7.index t a * win0_7.size a + win0_7.size a := by
  show i ∈ ((View.whole main_v18_3).slice (win0_7.rect t)).set ↔ _
  rw [View.set_slice_whole, Rect.mem_set_unit]
  rfl

theorem flush5 : ∀ t : Fin cfg0.N, (cfg0.win 5).flush t = true := by decide +kernel

/-- Every index of this result lies in the block of some point. -/
theorem cover5 (i : S2048x1024.Idx) :
    ∃ t : Fin cfg0.N, (cfg0.win 5).flush t = true ∧ i ∈ ((cfg0.win 5).blk t).view.set := by
  have hi0 : (i 0).val < 2048 := (i 0).isLt
  have hi1 : (i 1).val < 1024 := (i 1).isLt
  refine ⟨⟨(i 0).val / 512, by show _ < 4; omega⟩, flush5 _, (mem_out5 _ i).2 fun a => ?_⟩
  match a with
  | ⟨0, _⟩ =>
    show win0_5.index _ 0 * 512 ≤ (i 0).val ∧ (i 0).val < win0_5.index _ 0 * 512 + 512
    rw [(idx_facts _).2.2.2.2.2.1.1]
    show (i 0).val / 512 * 512 ≤ (i 0).val ∧ (i 0).val < (i 0).val / 512 * 512 + 512
    omega
  | ⟨1, _⟩ =>
    show win0_5.index _ 1 * 1024 ≤ (i 1).val ∧ (i 1).val < win0_5.index _ 1 * 1024 + 1024
    rw [(idx_facts _).2.2.2.2.2.1.2]
    omega

theorem res5 (c : Dev nD) : (dats m 0 c).arrAt 5 cfg0.N = dyR m c := by
  refine Dat.arrAt_eq_of_cover (dats m 0 c) 5 _ ?_ cover5
  intro t _
  rw [flushed5]
  funext y
  show (outsAt0 m c t.val t.isLt).2.1 y = dyR m c ((win0_5.rect t).emb y)
  obtain ⟨a, b, rfl⟩ : ∃ a b, y = ix2 a b := ⟨y 0, y 1, eq_ix2 y⟩
  rw [show (win0_5.rect t).emb (ix2 a b) = ix2 (row t a) b from ?_]
  · exact dy_ref m c t a b
  · apply idx2_ext
    · rw [win0_5.rect_emb_val, (idx_facts t).2.2.2.2.2.1.1]; rfl
    · rw [win0_5.rect_emb_val, (idx_facts t).2.2.2.2.2.1.2]; exact Nat.zero_add _

theorem flush6 : ∀ t : Fin cfg0.N, (cfg0.win 6).flush t = true := by decide +kernel

/-- Every index of this result lies in the block of some point. -/
theorem cover6 (i : S2048x1024.Idx) :
    ∃ t : Fin cfg0.N, (cfg0.win 6).flush t = true ∧ i ∈ ((cfg0.win 6).blk t).view.set := by
  have hi0 : (i 0).val < 2048 := (i 0).isLt
  have hi1 : (i 1).val < 1024 := (i 1).isLt
  refine ⟨⟨(i 0).val / 512, by show _ < 4; omega⟩, flush6 _, (mem_out6 _ i).2 fun a => ?_⟩
  match a with
  | ⟨0, _⟩ =>
    show win0_6.index _ 0 * 512 ≤ (i 0).val ∧ (i 0).val < win0_6.index _ 0 * 512 + 512
    rw [(idx_facts _).2.2.2.2.2.2.1.1]
    show (i 0).val / 512 * 512 ≤ (i 0).val ∧ (i 0).val < (i 0).val / 512 * 512 + 512
    omega
  | ⟨1, _⟩ =>
    show win0_6.index _ 1 * 1024 ≤ (i 1).val ∧ (i 1).val < win0_6.index _ 1 * 1024 + 1024
    rw [(idx_facts _).2.2.2.2.2.2.1.2]
    omega

theorem res6 (c : Dev nD) (h : Fin5 m c) : (dats m 0 c).arrAt 6 cfg0.N = dfR m c := by
  refine Dat.arrAt_eq_of_cover (dats m 0 c) 6 _ ?_ cover6
  intro t _
  rw [flushed6]
  funext y
  show (outsAt0 m c t.val t.isLt).2.2.1 y = dfR m c ((win0_6.rect t).emb y)
  obtain ⟨a, b, rfl⟩ : ∃ a b, y = ix2 a b := ⟨y 0, y 1, eq_ix2 y⟩
  rw [show (win0_6.rect t).emb (ix2 a b) = ix2 (row t a) b from ?_]
  · exact df_ref m c h t a b
  · apply idx2_ext
    · rw [win0_6.rect_emb_val, (idx_facts t).2.2.2.2.2.2.1.1]; rfl
    · rw [win0_6.rect_emb_val, (idx_facts t).2.2.2.2.2.2.1.2]; exact Nat.zero_add _

theorem res4 (c : Dev nD) : (dats m 0 c).arrAt 4 cfg0.N = lossR m c := by
  have hN : cfg0.N = 4 := N_0
  refine Dat.arrAt_eq_of_cover (dats m 0 c) 4 _ ?_ ?_
  · intro t hf
    have h3 : t.val = 3 := by have := (flush0_4 t).mp hf; have := t.isLt; omega
    obtain rfl : t = t0_3 := Fin.ext h3
    rw [flushed4]
    funext y
    show (outsAt0 m c 3 (lt_of_lt_of_eq (by decide) N_0.symm)).1 y = lossR m c ((win0_4.rect t0_3).emb y)
    obtain ⟨a, b, rfl⟩ : ∃ a b, y = ix2 a b := ⟨y 0, y 1, eq_ix2 y⟩
    obtain rfl : a = 0 := Subsingleton.elim _ _
    rw [last_loss]
    congr 1
    apply idx2_ext
    · rw [win0_4.rect_emb_val, (idx_facts _).2.2.2.2.1.1]; exact (Nat.zero_add _).symm
    · rw [win0_4.rect_emb_val, (idx_facts _).2.2.2.2.1.2]; exact (Nat.zero_add _).symm
  · intro i
    have hi0 : (i 0).val < 1 := (i 0).isLt
    have hi1 : (i 1).val < 128 := (i 1).isLt
    refine ⟨t0_3, (flush0_4 t0_3).mpr rfl, (mem_out4 _ i).2 fun a => ?_⟩
    match a with
    | ⟨0, _⟩ =>
      show win0_4.index _ 0 * 1 ≤ (i 0).val ∧ (i 0).val < win0_4.index _ 0 * 1 + 1
      rw [(idx_facts _).2.2.2.2.1.1]
      omega
    | ⟨1, _⟩ =>
      show win0_4.index _ 1 * 128 ≤ (i 1).val ∧ (i 1).val < win0_4.index _ 1 * 128 + 128
      rw [(idx_facts _).2.2.2.2.1.2]
      omega

theorem res7 (c : Dev nD) : (dats m 0 c).arrAt 7 cfg0.N = dvR m c := by
  have hN : cfg0.N = 4 := N_0
  refine Dat.arrAt_eq_of_cover (dats m 0 c) 7 _ ?_ ?_
  · intro t hf
    have h3 : t.val = 3 := by have := (flush0_7 t).mp hf; have := t.isLt; omega
    obtain rfl : t = t0_3 := Fin.ext h3
    rw [flushed7]
    funext y
    show (outsAt0 m c 3 (lt_of_lt_of_eq (by decide) N_0.symm)).2.2.2.1 y = dvR m c ((win0_7.rect t0_3).emb y)
    obtain ⟨a, b, rfl⟩ : ∃ a b, y = ix2 a b := ⟨y 0, y 1, eq_ix2 y⟩
    rw [last_dv]
    congr 1
    apply idx2_ext
    · rw [win0_7.rect_emb_val, (idx_facts _).2.2.2.2.2.2.2.1]; exact (Nat.zero_add _).symm
    · rw [win0_7.rect_emb_val, (idx_facts _).2.2.2.2.2.2.2.2]; exact (Nat.zero_add _).symm
  · intro i
    have hi0 : (i 0).val < 8 := (i 0).isLt
    have hi1 : (i 1).val < 1024 := (i 1).isLt
    refine ⟨t0_3, (flush0_7 t0_3).mpr rfl, (mem_out7 _ i).2 fun a => ?_⟩
    match a with
    | ⟨0, _⟩ =>
      show win0_7.index _ 0 * 8 ≤ (i 0).val ∧ (i 0).val < win0_7.index _ 0 * 8 + 8
      rw [(idx_facts _).2.2.2.2.2.2.2.1]
      omega
    | ⟨1, _⟩ =>
      show win0_7.index _ 1 * 1024 ≤ (i 1).val ∧ (i 1).val < win0_7.index _ 1 * 1024 + 1024
      rw [(idx_facts _).2.2.2.2.2.2.2.2]
      omega

end Cert.LastShellIdeal.Value

end
-- ==== Proof.LastShellClaims.lean ====
/- The last residual and the loss head: its claims. -/
module

public import proofs.«01_k».proof.Proof.LastShellValue
public import proofs.«01_k».proof.Proof.Gen.LastShell
public import proofs.«01_k».proof.Proof.Gen.LastShellRefIdeal
public import proofs.«01_k».proof.Proof.Gen.LastShellRefIdeal.Run
public import proofs.«01_k».proof.Proof.Gen.Pre_finite_last_shell
public import Idealize.ShloMosaic.Lib.Tactic

@[expose] public section

set_option maxRecDepth 16384

noncomputable section

namespace Cert.Proof.LastShell

open Idealize.ShloMosaic Idealize.SL.Sem Cert.Util

/-- The program and its idealization have one text: the same entry … -/
theorem main_same : (Cert.LastShell.main (F := Bits)) = (Cert.LastShellIdeal.main (F := Bits)) := by sl_kernel_rfl

/-- … and the same bodies. -/
theorem defs_same : (Cert.LastShell.defs (F := Bits)) = (Cert.LastShellIdeal.defs (F := Bits)) := by sl_kernel_rfl

/-- So one run gives both frames. -/
theorem frame_p : Cert.quiescent_LastShell := fun m ρ _ => by
  have h := Cert.LastShellIdeal.Gen.frame (F := Bits) m ρ
  rw [← main_same, ← defs_same] at h
  exact h

theorem frame_i : Cert.quiescent_LastShellIdeal := fun m ρ _ => Cert.LastShellIdeal.Gen.frame m ρ

theorem frame_r : Cert.quiescent_LastShellRefIdeal := fun m ρ _ =>
  (θ_run Cert.LastShellRefIdeal.defs _ _).mono (fun r h => ⟨fun c => (h c).2.2.2.2, sem_eq_zero_of_no_sems (by decide) r.2⟩)
    (Cert.LastShellRefIdeal.Value.run (F := Ideal) m ρ)

theorem frame_i_pre : Cert.quiescent_LastShellIdeal_pre_finite_last_shell := fun m ρ _ => Cert.LastShellIdeal.Gen.frame m ρ

theorem frame_r_pre : Cert.quiescent_LastShellRefIdeal_pre_finite_last_shell := fun m ρ _ => frame_r m ρ trivial

theorem algebraic : Cert.algebraic_LastShellIdeal_LastShellRefIdeal_pre_finite_last_shell := by
  intro m ρ m' ρ' hpre hag
  refine ⟨_, _, _, _, (θ_run Cert.LastShellIdeal.defs _ _).mono (fun r h c => ⟨(h c).1.trans (Cert.LastShellIdeal.Value.res4 m c), (h c).2.1.trans (Cert.LastShellIdeal.Value.res5 m c), (h c).2.2.1.trans (Cert.LastShellIdeal.Value.res6 m c (Cert.LastShellIdeal.Value.fin5 m c (hpre c))), (h c).2.2.2.1.trans (Cert.LastShellIdeal.Value.res7 m c), (h c).2.2.2.2⟩)
    (Cert.LastShellIdeal.Value.run_blocks m ρ), ?_⟩
  refine (θ_run Cert.LastShellRefIdeal.defs _ _).mono (fun r h c => ⟨(h c).1.trans ?_, (h c).2.1.trans ?_, (h c).2.2.1.trans ?_, (h c).2.2.2.1.trans ?_, (h c).2.2.2.2⟩)
    (Cert.LastShellRefIdeal.Value.run (F := Ideal) m' ρ')
  · show Cert.LastShellRefIdeal.Read.val_main_v70 (F := Ideal) (m' (c.tc.loc Cert.LastShellRefIdeal.main_arg0)) (m' (c.tc.loc Cert.LastShellRefIdeal.main_arg1)) (m' (c.tc.loc Cert.LastShellRefIdeal.main_arg2)) (m' (c.tc.loc Cert.LastShellRefIdeal.main_arg4)) (m' (c.tc.loc Cert.LastShellRefIdeal.main_arg5)) = _
    rw [(hag c).1, (hag c).2.1, (hag c).2.2.1, (hag c).2.2.2.2.1, (hag c).2.2.2.2.2]
  · show Cert.LastShellRefIdeal.Read.val_main_v40 (F := Ideal) (m' (c.tc.loc Cert.LastShellRefIdeal.main_arg0)) (m' (c.tc.loc Cert.LastShellRefIdeal.main_arg1)) (m' (c.tc.loc Cert.LastShellRefIdeal.main_arg2)) (m' (c.tc.loc Cert.LastShellRefIdeal.main_arg4)) (m' (c.tc.loc Cert.LastShellRefIdeal.main_arg5)) = _
    rw [(hag c).1, (hag c).2.1, (hag c).2.2.1, (hag c).2.2.2.2.1, (hag c).2.2.2.2.2]
  · show Cert.LastShellRefIdeal.Read.val_main_v71 (F := Ideal) (m' (c.tc.loc Cert.LastShellRefIdeal.main_arg0)) (m' (c.tc.loc Cert.LastShellRefIdeal.main_arg1)) (m' (c.tc.loc Cert.LastShellRefIdeal.main_arg2)) (m' (c.tc.loc Cert.LastShellRefIdeal.main_arg4)) (m' (c.tc.loc Cert.LastShellRefIdeal.main_arg5)) = _
    rw [(hag c).1, (hag c).2.1, (hag c).2.2.1, (hag c).2.2.2.2.1, (hag c).2.2.2.2.2]
  · show Cert.LastShellRefIdeal.Read.val_main_v80 (F := Ideal) (m' (c.tc.loc Cert.LastShellRefIdeal.main_arg0)) (m' (c.tc.loc Cert.LastShellRefIdeal.main_arg1)) (m' (c.tc.loc Cert.LastShellRefIdeal.main_arg2)) (m' (c.tc.loc Cert.LastShellRefIdeal.main_arg4)) (m' (c.tc.loc Cert.LastShellRefIdeal.main_arg5)) = _
    rw [(hag c).1, (hag c).2.1, (hag c).2.2.1, (hag c).2.2.2.2.1, (hag c).2.2.2.2.2]

end Cert.Proof.LastShell

end
-- ==== Proof.SsmDuValue.lean ====
/- The scan input's gradient with the skip path: what the array of the result holds. Block `t` holds rows `512·t` to
   `512·t + 511`; the body adds `d · dy` to the incoming gradient, `d` the skip's row of factors. -/
module

public import proofs.«01_k».proof.Defs
public import proofs.«01_k».proof.Proof.Gen.SsmDuIdeal.Value
public import proofs.«01_k».proof.Proof.Gen.SsmDuRefIdeal.Read
public import proofs.«01_k».proof.Proof.Util

@[expose] public section

set_option maxRecDepth 16384

noncomputable section

namespace Cert.SsmDuIdeal.Value

open Cert.SsmDuIdeal Cert.SsmDuIdeal.Gen Idealize.ShloMosaic Idealize.ShloMosaic.TcCoe Idealize.SL.Sem Cert.Util Pipeline

variable (m : (ℓ : Loc nD τ sig) → Buf (Elt Ideal) ℓ)

/-- Each window's block index at a grid point: the row block is the point; the skip's factors stay. -/
theorem idx_at : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 := by
  decide +kernel

/-- Row `a` of block `t`. -/
abbrev row (t : Fin cfg0.N) (a : Fin 512) : Fin 2048 := rowOf (T := 4) 512 rfl t a

theorem blk0 (c : Dev nD) (t : Fin cfg0.N) (a : Fin 512) (b : Fin 1024) :
    iblk m c 0 t (ix2 a b) = m ((c : Thread nD τ).loc main_arg0) (ix2 (row t a) b) := by
  show m ((c : Thread nD τ).loc main_arg0) ((win0_0.rect t).emb (ix2 a b)) = _
  congr 1
  apply idx2_ext
  · rw [win0_0.rect_emb_val, (idx_at t).1]; rfl
  · rw [win0_0.rect_emb_val, (idx_at t).2.1]; exact Nat.zero_add _

theorem blk1 (c : Dev nD) (t : Fin cfg0.N) (a : Fin 512) (b : Fin 1024) :
    iblk m c 1 t (ix2 a b) = m ((c : Thread nD τ).loc main_arg1) (ix2 (row t a) b) := by
  show m ((c : Thread nD τ).loc main_arg1) ((win0_1.rect t).emb (ix2 a b)) = _
  congr 1
  apply idx2_ext
  · rw [win0_1.rect_emb_val, (idx_at t).2.2.1]; rfl
  · rw [win0_1.rect_emb_val, (idx_at t).2.2.2.1]; exact Nat.zero_add _

theorem blk2 (c : Dev nD) (t : Fin cfg0.N) (b : Fin 1024) :
    iblk m c 2 t (ix2 0 b) = m ((c : Thread nD τ).loc main_arg2) (ix2 0 b) := by
  show m ((c : Thread nD τ).loc main_arg2) ((win0_2.rect t).emb (ix2 0 b)) = _
  congr 1
  apply idx2_ext
  · rw [win0_2.rect_emb_val, (idx_at t).2.2.2.2.1]; rfl
  · rw [win0_2.rect_emb_val, (idx_at t).2.2.2.2.2.1]; exact Nat.zero_add _

/-- The reference's result as a function of the three arguments. -/
abbrev ref (u : FVec Ideal S2048x1024 .f32) (y : FVec Ideal S2048x1024 .bf16) (d : FVec Ideal S1x1024 .f32) : FVec Ideal S2048x1024 .bf16 :=
  Cert.SsmDuRefIdeal.Read.val_main_v9 (F := Ideal) u y d

open Cert.SsmDuRefIdeal.Read in
theorem ref_at (u : FVec Ideal S2048x1024 .f32) (y : FVec Ideal S2048x1024 .bf16) (d : FVec Ideal S1x1024 .f32) (r : Fin 2048) (b : Fin 1024) :
    ref u y d (ix2 r b) = u (ix2 r b) + d (ix2 0 b) * y (ix2 r b) := by
  pointwise [ref, val_main_v9, val_main_v8, val_main_v7, val_main_v6, val_main_v2, val_main_v1, val_main_v5]

/-- What the body stores, at an index of its block. -/
theorem pay_at (x0 : Vec Ideal S512x1024 .f32) (x1 : Vec Ideal S512x1024 .bf16) (x2 : Vec Ideal S1x1024 .f32) (a : Fin 512) (b : Fin 1024) :
    k0_pay1 x0 x2 x1 (ix2 a b) = x0 (ix2 a b) + x2 (ix2 0 b) * x1 (ix2 a b) := by
  pointwise [k0_pay1]

/-- Block `t` of the result, from the blocks of the inputs. -/
theorem block_at (c : Dev nD) (t : Fin cfg0.N) (a : Fin 512) (b : Fin 1024) :
    out0_3 (iblk m c 0 t) (iblk m c 1 t) (iblk m c 2 t) (ix2 a b)
      = ref (m ((c : Thread nD τ).loc main_arg0)) (m ((c : Thread nD τ).loc main_arg1)) (m ((c : Thread nD τ).loc main_arg2)) (ix2 (row t a) b) := by
  unfold out0_3
  rw [View.canon_unit_zero zero2, View.ld_unit_zero zero2, View.ld_unit_zero zero2, View.ld_unit_zero zero2, pay_at, blk0, blk1, blk2, ref_at]

theorem flush3 : ∀ t : Fin cfg0.N, (cfg0.win 3).flush t = true := by decide +kernel

theorem mem_blk (t : Fin cfg0.N) (i : S2048x1024.Idx) : i ∈ ((cfg0.win 3).blk t).view.set ↔
    ∀ a : Fin 2, win0_3.index t a * win0_3.size a ≤ (i a).val ∧ (i a).val < win0_3.index t a * win0_3.size a + win0_3.size a := by
  show i ∈ ((View.whole main_v0).slice (win0_3.rect t)).set ↔ _
  rw [View.set_slice_whole, Rect.mem_set_unit]
  rfl

/-- Every index of the result lies in the block of some point. -/
theorem cover (i : S2048x1024.Idx) :
    ∃ t : Fin cfg0.N, (cfg0.win 3).flush t = true ∧ i ∈ ((cfg0.win 3).blk t).view.set := by
  have hi0 : (i 0).val < 2048 := (i 0).isLt
  have hi1 : (i 1).val < 1024 := (i 1).isLt
  refine ⟨⟨(i 0).val / 512, by show _ < 4; omega⟩, flush3 _, (mem_blk _ i).2 fun a => ?_⟩
  match a with
  | ⟨0, _⟩ =>
    show win0_3.index _ 0 * 512 ≤ (i 0).val ∧ (i 0).val < win0_3.index _ 0 * 512 + 512
    rw [(idx_at _).2.2.2.2.2.2.1]
    show (i 0).val / 512 * 512 ≤ (i 0).val ∧ (i 0).val < (i 0).val / 512 * 512 + 512
    omega
  | ⟨1, _⟩ =>
    show win0_3.index _ 1 * 1024 ≤ (i 1).val ∧ (i 1).val < win0_3.index _ 1 * 1024 + 1024
    rw [(idx_at _).2.2.2.2.2.2.2]
    omega

theorem res (c : Dev nD) : (dats m 0 c).arrAt 3 cfg0.N =
    ref (m ((c : Thread nD τ).loc main_arg0)) (m ((c : Thread nD τ).loc main_arg1)) (m ((c : Thread nD τ).loc main_arg2)) := by
  refine Dat.arrAt_eq_of_cover (dats m 0 c) 3 _ ?_ cover
  intro t _
  rw [flushed3]
  funext y
  obtain ⟨a, b, rfl⟩ : ∃ a b, y = ix2 a b := ⟨y 0, y 1, eq_ix2 y⟩
  show out0_3 (iblk m c 0 t) (iblk m c 1 t) (iblk m c 2 t) (ix2 a b) = ref _ _ _ ((win0_3.rect t).emb (ix2 a b))
  rw [block_at]
  congr 1
  apply idx2_ext
  · rw [win0_3.rect_emb_val, (idx_at t).2.2.2.2.2.2.1]; rfl
  · rw [win0_3.rect_emb_val, (idx_at t).2.2.2.2.2.2.2]; exact (Nat.zero_add _).symm

end Cert.SsmDuIdeal.Value

end
-- ==== Proof.SsmDuClaims.lean ====
/- The scan input's gradient with the skip path: its claims. -/
module

public import proofs.«01_k».proof.Proof.SsmDuValue
public import proofs.«01_k».proof.Proof.Gen.SsmDu
public import proofs.«01_k».proof.Proof.Gen.SsmDuRefIdeal
public import proofs.«01_k».proof.Proof.Gen.SsmDuRefIdeal.Run
public import Idealize.ShloMosaic.Lib.Tactic

@[expose] public section

set_option maxRecDepth 16384

noncomputable section

namespace Cert.Proof.SsmDu

open Idealize.ShloMosaic Idealize.SL.Sem Cert.Util

/-- The program and its idealization have one text: the same entry … -/
theorem main_same : (Cert.SsmDu.main (F := Bits)) = (Cert.SsmDuIdeal.main (F := Bits)) := by sl_kernel_rfl

/-- … and the same bodies. -/
theorem defs_same : (Cert.SsmDu.defs (F := Bits)) = (Cert.SsmDuIdeal.defs (F := Bits)) := by sl_kernel_rfl

/-- So one run gives both frames. -/
theorem frame_p : Cert.quiescent_SsmDu := fun m ρ _ => by
  have h := Cert.SsmDuIdeal.Gen.frame (F := Bits) m ρ
  rw [← main_same, ← defs_same] at h
  exact h

theorem frame_i : Cert.quiescent_SsmDuIdeal := fun m ρ _ => Cert.SsmDuIdeal.Gen.frame m ρ

theorem frame_r : Cert.quiescent_SsmDuRefIdeal := fun m ρ _ =>
  (θ_run Cert.SsmDuRefIdeal.defs _ _).mono (fun r h => ⟨fun c => (h c).2, sem_eq_zero_of_no_sems (by decide) r.2⟩)
    (Cert.SsmDuRefIdeal.Value.run (F := Ideal) m ρ)

theorem algebraic : Cert.algebraic_SsmDuIdeal_SsmDuRefIdeal := by
  intro m ρ m' ρ' _ hag
  refine ⟨_, (θ_run Cert.SsmDuIdeal.defs _ _).mono (fun r h c => ⟨(h c).1.trans (Cert.SsmDuIdeal.Value.res m c), (h c).2⟩)
    (Cert.SsmDuIdeal.Value.run_blocks m ρ), ?_⟩
  refine (θ_run Cert.SsmDuRefIdeal.defs _ _).mono (fun r h c => ⟨(h c).1.trans ?_, (h c).2⟩)
    (Cert.SsmDuRefIdeal.Value.run (F := Ideal) m' ρ')
  · rw [(hag c).1, (hag c).2.1, (hag c).2.2]
    rfl

end Cert.Proof.SsmDu

end
-- ==== Proof.AdaWGradValue.lean ====
/- The gradient of the modulation's weights: what the array of the result holds. Block `t` holds rows `128·t` to
   `128·t + 127`; the body adds the eight outer products of `silu(c)` and the cotangent, one for each row of the batch. -/
module

public import proofs.«01_k».proof.Defs
public import proofs.«01_k».proof.Proof.Gen.AdaWGradIdeal.Frame
public import proofs.«01_k».proof.Proof.Gen.AdaWGradRefIdeal.Read
public import proofs.«01_k».proof.Proof.Rows
public import Idealize.ShloMosaic.Lib.Pipeline.Value

@[expose] public section

set_option maxRecDepth 16384

noncomputable section

namespace Cert.AdaWGradIdeal.Value

open Cert.AdaWGradIdeal Cert.AdaWGradIdeal.Gen Idealize.ShloMosaic Idealize.ShloMosaic.TcCoe Idealize.SL.Sem Cert.Util Pipeline

variable (m : (ℓ : Loc nD τ sig) → Buf (Elt Ideal) ℓ)

/-- Each window's block index at a grid point: the row block is the point; the cotangent stays. -/
theorem idx_at : ∀ t : Fin cfg0.N, win0_0.index t 0 = t.val ∧ win0_0.index t 1 = 0 ∧ win0_1.index t 0 = 0 ∧ win0_1.index t 1 = 0
    ∧ win0_1.index t 2 = 0 ∧ win0_2.index t 0 = 0 ∧ win0_2.index t 1 = t.val ∧ win0_2.index t 2 = 0 := by
  decide +kernel

/-- Row `a` of block `t`. -/
abbrev row (t : Fin cfg0.N) (a : Fin 128) : Fin 1024 := rowOf (T := 8) 128 rfl t a

/-- The arguments' arrays. -/
abbrev cA (c : Dev nD) : FVec Ideal S8x1024 .f32 := m ((c : Thread nD τ).loc main_arg0)
abbrev gA (c : Dev nD) : FVec Ideal S8x1152 .f32 := m ((c : Thread nD τ).loc main_arg1)

/-- The region reads the first argument transposed, the second with an axis in front. -/
theorem turned (c : Dev nD) (r : Fin 1024) (k : Fin 8) : (V m c main_v0 : FVec Ideal S1024x8 .f32) (ix2 r k) = cA m c (ix2 k r) := by
  show StableHlo.after hostOps0 (fun b => m (c, b)) main_v0 _ = _
  after_results_simp
  pointwise []
theorem lifted (c : Dev nD) (k : Fin 8) (b : Fin 1152) : (V m c main_v1 : FVec Ideal S1x8x1152 .f32) (ix3 0 k b) = gA m c (ix2 k b) := by
  show StableHlo.after hostOps0 (fun b => m (c, b)) main_v1 _ = _
  after_results_simp
  pointwise []

theorem blk0 (c : Dev nD) (t : Fin cfg0.N) (a : Fin 128) (k : Fin 8) :
    iblk m c 0 t (ix2 a k) = cA m c (ix2 k (row t a)) := by
  refine Eq.trans ?_ (turned m c (row t a) k)
  show V m c main_v0 ((win0_0.rect t).emb (ix2 a k)) = _
  congr 1
  apply idx2_ext
  · rw [win0_0.rect_emb_val, (idx_at t).1]; rfl
  · rw [win0_0.rect_emb_val, (idx_at t).2.1]; exact Nat.zero_add _

theorem blk1 (c : Dev nD) (t : Fin cfg0.N) (k : Fin 8) (b : Fin 1152) :
    iblk m c 1 t (ix3 0 k b) = gA m c (ix2 k b) := by
  refine Eq.trans ?_ (lifted m c k b)
  show V m c main_v1 ((win0_1.rect t).emb (ix3 0 k b)) = _
  congr 1
  apply idx3_ext
  · rw [win0_1.rect_emb_val, (idx_at t).2.2.1]; rfl
  · rw [win0_1.rect_emb_val, (idx_at t).2.2.2.1]; exact Nat.zero_add _
  · rw [win0_1.rect_emb_val, (idx_at t).2.2.2.2.1]; exact Nat.zero_add _

/-- The reference's result as a function of the two arguments. -/
abbrev ref (x : FVec Ideal S8x1024 .f32) (g : FVec Ideal S8x1152 .f32) : FVec Ideal S1x1024x1152 .f32 :=
  Cert.AdaWGradRefIdeal.Read.val_main_v5 (F := Ideal) x g

/-- `silu` of one number. -/
abbrev silu (x : EReal) : EReal := x * Ideal.div 1 (1 + Ideal.exp (-x))

open Cert.AdaWGradRefIdeal.Read in
theorem ref_at (x : FVec Ideal S8x1024 .f32) (g : FVec Ideal S8x1152 .f32) (r : Fin 1024) (b : Fin 1152) :
    ref x g (ix3 0 r b) = ∑ k : Fin 8, silu (x (ix2 k r)) * g (ix2 k b) := by
  pointwise [ref, silu, val_main_v5, val_main_v4, val_main_v3, val_main_v1, val_main_call0_v5, val_main_call0_v4, val_main_call0_cst_0, val_main_call0_v3, val_main_call0_v2, val_main_call0_cst, val_main_call0_v1, val_main_call0_v0]
  exact Finset.sum_congr rfl fun k _ => mul_comm (G := EReal) _ _

/-- What the body stores, at an index of its block. -/
theorem pay_at (x0 : Vec Ideal S128x8 .f32) (x1 : Vec Ideal S1x8x1152 .f32) (a : Fin 128) (b : Fin 1152) :
    k0_pay1 (k0_pay2 x0) (k0_pay3 x1) (k0_pay4 x0 x1) (k0_pay5 x0 x1) (ix3 0 a b) = ∑ k : Fin 8, silu (x0 (ix2 a k)) * x1 (ix3 0 k b) := by
  rw [Fin.sum_univ_eight]
  pointwise [k0_pay1, k0_pay2, k0_pay3, k0_pay4, k0_pay5, silu]
  simp only [zero_sub]

/-- Block `t` of the result, from the blocks of the inputs. -/
theorem block_at (c : Dev nD) (t : Fin cfg0.N) (a : Fin 128) (b : Fin 1152) :
    out0_2 (iblk m c 0 t) (iblk m c 1 t) (ix3 0 a b) = ref (cA m c) (gA m c) (ix3 0 (row t a) b) := by
  unfold out0_2
  rw [View.canon_unit_zero zero3, View.ld_unit_zero zero2, View.ld_unit_zero zero3, pay_at, ref_at]
  exact Finset.sum_congr rfl fun k _ => by rw [blk0, blk1]

theorem flush2 : ∀ t : Fin cfg0.N, (cfg0.win 2).flush t = true := by decide +kernel

theorem mem_blk (t : Fin cfg0.N) (i : S1x1024x1152.Idx) : i ∈ ((cfg0.win 2).blk t).view.set ↔
    ∀ a : Fin 3, win0_2.index t a * win0_2.size a ≤ (i a).val ∧ (i a).val < win0_2.index t a * win0_2.size a + win0_2.size a := by
  show i ∈ ((View.whole main_v2).slice (win0_2.rect t)).set ↔ _
  rw [View.set_slice_whole, Rect.mem_set_unit]
  rfl

/-- Every index of the result lies in the block of some point. -/
theorem cover (i : S1x1024x1152.Idx) :
    ∃ t : Fin cfg0.N, (cfg0.win 2).flush t = true ∧ i ∈ ((cfg0.win 2).blk t).view.set := by
  have hi0 : (i 0).val < 1 := (i 0).isLt
  have hi1 : (i 1).val < 1024 := (i 1).isLt
  have hi2 : (i 2).val < 1152 := (i 2).isLt
  refine ⟨⟨(i 1).val / 128, by show _ < 8; omega⟩, flush2 _, (mem_blk _ i).2 fun a => ?_⟩
  match a with
  | ⟨0, _⟩ =>
    show win0_2.index _ 0 * 1 ≤ (i 0).val ∧ (i 0).val < win0_2.index _ 0 * 1 + 1
    rw [(idx_at _).2.2.2.2.2.1]
    omega
  | ⟨1, _⟩ =>
    show win0_2.index _ 1 * 128 ≤ (i 1).val ∧ (i 1).val < win0_2.index _ 1 * 128 + 128
    rw [(idx_at _).2.2.2.2.2.2.1]
    show (i 1).val / 128 * 128 ≤ (i 1).val ∧ (i 1).val < (i 1).val / 128 * 128 + 128
    omega
  | ⟨2, _⟩ =>
    show win0_2.index _ 2 * 1152 ≤ (i 2).val ∧ (i 2).val < win0_2.index _ 2 * 1152 + 1152
    rw [(idx_at _).2.2.2.2.2.2.2]
    omega

theorem res (c : Dev nD) : (dats m 0 c).arrAt 2 cfg0.N = ref (cA m c) (gA m c) := by
  refine Dat.arrAt_eq_of_cover (dats m 0 c) 2 _ ?_ cover
  intro t _
  show (cfg0.win 2).cut (grid0.coords t) ((dats m 0 c).after 2 t) = _
  rw [after0_2]
  funext y
  obtain ⟨z, a, b, rfl⟩ : ∃ z a b, y = ix3 z a b := ⟨y 0, y 1, y 2, eq_ix3 y⟩
  obtain rfl : z = 0 := Subsingleton.elim _ _
  show out0_2 (iblk m c 0 t) (iblk m c 1 t) (ix3 0 a b) = ref _ _ ((win0_2.rect t).emb (ix3 0 a b))
  rw [block_at]
  congr 1
  apply idx3_ext
  · rw [win0_2.rect_emb_val, (idx_at t).2.2.2.2.2.1]; rfl
  · rw [win0_2.rect_emb_val, (idx_at t).2.2.2.2.2.2.1]; rfl
  · rw [win0_2.rect_emb_val, (idx_at t).2.2.2.2.2.2.2]; exact (Nat.zero_add _).symm

/-- The run: the result's array, and the arguments as launched. -/
theorem run_res (ρ : Dev nD → PrngReg) : θ_run defs (onTc (τ := τ) (main (F := Ideal))) ⟨m, fun _ => 0, ρ⟩ fun r => ∀ c : Dev nD,
      r.2.mem ((c : Thread nD τ).loc main_v2) = ref (cA m c) (gA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (res m c),
      ((h c).2 main_arg0 (mem_restRefs_of main_arg0 (by decide) (by decide))).trans (V_main_arg0 m c),
      ((h c).2 main_arg1 (mem_restRefs_of main_arg1 (by decide) (by decide))).trans (V_main_arg1 m c)⟩)
    (run_main m ρ)

end Cert.AdaWGradIdeal.Value

end
-- ==== Proof.AdaWGradClaims.lean ====
/- The gradient of the modulation's weights: its claims. -/
module

public import proofs.«01_k».proof.Proof.AdaWGradValue
public import proofs.«01_k».proof.Proof.Gen.AdaWGrad
public import proofs.«01_k».proof.Proof.Gen.AdaWGradRefIdeal
public import proofs.«01_k».proof.Proof.Gen.AdaWGradRefIdeal.Run
public import Idealize.ShloMosaic.Lib.Tactic

@[expose] public section

set_option maxRecDepth 16384

noncomputable section

namespace Cert.Proof.AdaWGrad

open Idealize.ShloMosaic Idealize.SL.Sem Cert.Util

/-- The program and its idealization have one text: the same entry … -/
theorem main_same : (Cert.AdaWGrad.main (F := Bits)) = (Cert.AdaWGradIdeal.main (F := Bits)) := by sl_kernel_rfl

/-- … and the same bodies. -/
theorem defs_same : (Cert.AdaWGrad.defs (F := Bits)) = (Cert.AdaWGradIdeal.defs (F := Bits)) := by sl_kernel_rfl

/-- So one run gives both frames. -/
theorem frame_p : Cert.quiescent_AdaWGrad := fun m ρ _ => by
  have h := Cert.AdaWGradIdeal.Gen.frame (F := Bits) m ρ
  rw [← main_same, ← defs_same] at h
  exact h

theorem frame_i : Cert.quiescent_AdaWGradIdeal := fun m ρ _ => Cert.AdaWGradIdeal.Gen.frame m ρ

theorem frame_r : Cert.quiescent_AdaWGradRefIdeal := fun m ρ _ =>
  (θ_run Cert.AdaWGradRefIdeal.defs _ _).mono (fun r h => ⟨fun c => (h c).2, sem_eq_zero_of_no_sems (by decide) r.2⟩)
    (Cert.AdaWGradRefIdeal.Value.run (F := Ideal) m ρ)

theorem algebraic : Cert.algebraic_AdaWGradIdeal_AdaWGradRefIdeal := by
  intro m ρ m' ρ' _ hag
  refine ⟨_, Cert.AdaWGradIdeal.Value.run_res m ρ, ?_⟩
  refine (θ_run Cert.AdaWGradRefIdeal.defs _ _).mono (fun r h c => ⟨(h c).1.trans ?_, (h c).2⟩)
    (Cert.AdaWGradRefIdeal.Value.run (F := Ideal) m' ρ')
  · rw [(hag c).1, (hag c).2]
    rfl

end Cert.Proof.AdaWGrad

end
-- ==== Proof.Reals.lean ====
/- Extended reals that are real numbers: closed under the operations that the gradients use. -/
module

public import proofs.«01_k».proof.Proof.NormGrad

@[expose] public section

noncomputable section

namespace Cert.Util

open Idealize.ShloMosaic

/-- `x` is a real number. -/
abbrev IsR (x : EReal) : Prop := ∃ q : ℝ, x = q

theorem IsR.add {x y : EReal} (hx : IsR x) (hy : IsR y) : IsR (x + y) := by
  obtain ⟨p, rfl⟩ := hx; obtain ⟨q, rfl⟩ := hy; exact ⟨p + q, (EReal.coe_add p q).symm⟩
theorem IsR.sub {x y : EReal} (hx : IsR x) (hy : IsR y) : IsR (x - y) := by
  obtain ⟨p, rfl⟩ := hx; obtain ⟨q, rfl⟩ := hy; exact ⟨p - q, (EReal.coe_sub p q).symm⟩
theorem IsR.mul {x y : EReal} (hx : IsR x) (hy : IsR y) : IsR (x * y) := by
  obtain ⟨p, rfl⟩ := hx; obtain ⟨q, rfl⟩ := hy; exact ⟨p * q, (EReal.coe_mul p q).symm⟩
theorem IsR.neg {x : EReal} (hx : IsR x) : IsR (-x) := by
  obtain ⟨p, rfl⟩ := hx; exact ⟨-p, (EReal.coe_neg p).symm⟩
theorem IsR.one : IsR 1 := ⟨1, EReal.coe_one.symm⟩
theorem IsR.zero : IsR 0 := ⟨0, EReal.coe_zero.symm⟩
theorem IsR.coe (q : ℝ) : IsR (q : EReal) := ⟨q, rfl⟩
theorem IsR.half : IsR half := ⟨_, half_eq⟩
theorem IsR.sum {ι : Type*} {s : Finset ι} {f : ι → EReal} (h : ∀ i, IsR (f i)) : IsR (∑ i ∈ s, f i) := by
  choose g hg using h
  exact ⟨∑ i ∈ s, g i, by rw [coe_sum]; exact Finset.sum_congr rfl fun i _ => hg i⟩
theorem IsR.div {x : EReal} {q : ℝ} (hq : q ≠ 0) (hx : IsR x) : IsR (Ideal.div x q) := by
  rw [Ideal.div_coe hq]; exact hx.mul (.coe _)

theorem IsR.rstd {x : Fin 1024 → EReal} (hx : ∀ b, IsR (x b)) : IsR (rstd x) := by
  choose X hX using hx
  obtain rfl : x = fun b => (X b : EReal) := funext hX
  exact ⟨_, rstd_coe X⟩

theorem IsR.normHand {x a : Fin 1024 → EReal} (hx : ∀ b, IsR (x b)) (ha : ∀ b, IsR (a b)) (b : Fin 1024) : IsR (normHand x a b) := by
  have hr := IsR.rstd hx
  refine hr.mul ((ha b).sub (((hx b).mul hr).mul ?_))
  rw [n1024_eq]
  exact IsR.div (by norm_num) (.sum fun i => (ha i).mul ((hx i).mul hr))

end Cert.Util

end
-- ==== Proof.FfnSwigluValue.lean ====
/- SwiGLU and its gradient: what the arrays that the two kernels leave hold, and that they are the reference's. Point `t` of
   either grid works on the shard `t / 2` of the hidden width and on the row block `t % 2`. -/
module

public import proofs.«01_k».proof.Defs
public import proofs.«01_k».proof.Proof.Gen.FfnSwigluIdeal.Frame
public import proofs.«01_k».proof.Proof.Gen.FfnSwigluRefIdeal.Read
public import proofs.«01_k».proof.Proof.Gen.Pre_finite_ffn_swiglu
public import proofs.«01_k».proof.Proof.Reals
public import proofs.«01_k».proof.Proof.Rows
public import Idealize.ShloMosaic.Lib.Pointwise.Sums
public import Idealize.ShloMosaic.Lib.ReduceAll

@[expose] public section

set_option maxRecDepth 16384

noncomputable section

namespace Cert.FfnSwigluIdeal.Value

open Cert.FfnSwigluIdeal Cert.FfnSwigluIdeal.Gen Idealize.ShloMosaic Idealize.ShloMosaic.TcCoe Idealize.SL.Sem Cert.Util Pipeline

theorem zero4 : (![0, 0, 0, 0] : Fin 4 → ℕ) = fun _ => 0 := by
  funext a
  match a with
  | ⟨0, _⟩ => rfl
  | ⟨1, _⟩ => rfl
  | ⟨2, _⟩ => rfl
  | ⟨3, _⟩ => rfl

/-- Two indices of a rank-4 array with equal coordinates are equal. -/
theorem idx4_ext {n0 n1 n2 n3 : ℕ} {x y : (⟨4, ![n0, n1, n2, n3]⟩ : Shape).Idx} (h0 : (x 0).val = (y 0).val) (h1 : (x 1).val = (y 1).val)
    (h2 : (x 2).val = (y 2).val) (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

/-- The logistic function. -/
def sg (a : EReal) : EReal := Ideal.div 1 (1 + Ideal.exp (-a))

theorem sg_real {a : EReal} (h : IsR a) : IsR (sg a) := by
  obtain ⟨p, rfl⟩ := h
  refine ⟨1 / (1 + Real.exp (-p)), ?_⟩
  have h0 : (1 + Real.exp (-p)) ≠ 0 := by positivity
  rw [sg, ← EReal.coe_neg, Ideal.exp_coe, ← EReal.coe_one, ← EReal.coe_add, Ideal.div_coe h0, ← EReal.coe_mul]
  simp

/-- The slope of the gate: the saved factor times the cotangent is the gradient that the rules of differentiation give. -/
theorem slope {a b s d : EReal} (ha : IsR a) (hb : IsR b) (hs : IsR s) (hd : IsR d) :
    d * (b * (s * (1 + a * (1 - s)))) = d * b * s + a * (d * b) * (s * (1 - s)) := by
  obtain ⟨a, rfl⟩ := ha
  obtain ⟨b, rfl⟩ := hb
  obtain ⟨s, rfl⟩ := hs
  obtain ⟨d, rfl⟩ := hd
  rw [← EReal.coe_one]
  simp only [← EReal.coe_mul, ← EReal.coe_add, ← EReal.coe_sub]
  congr 1
  ring

section
variable (h df : FVec Ideal S2048x1024 .bf16) (wi : FVec Ideal S1024x5632 .f32) (wo : FVec Ideal S2816x1024 .f32)

/-- The two halves of the product and the cotangent of the gate's output, at a row and a column. -/
def aR (r : Fin 2048) (q : Fin 2816) : EReal := ∑ x : Fin 1024, h (ix2 r x) * wi (ix2 x ⟨q.val, by omega⟩)
def bR (r : Fin 2048) (q : Fin 2816) : EReal := ∑ x : Fin 1024, h (ix2 r x) * wi (ix2 x ⟨2816 + q.val, by omega⟩)
def dR (r : Fin 2048) (q : Fin 2816) : EReal := ∑ x : Fin 1024, df (ix2 r x) * wo (ix2 q x)

/-- Column `j` of shard `k`. -/
abbrev col (k : Fin 4) (j : Fin 704) : Fin 2816 := ⟨k.val * 704 + j.val, by omega⟩

/-- What the forward call saves: the slopes to the two halves. -/
def fac (g : Fin 2) (r : Fin 2048) (q : Fin 2816) : EReal :=
  if g.val = 1 then aR h wi r q * sg (aR h wi r q)
  else bR h wi r q * (sg (aR h wi r q) * (1 + aR h wi r q * (1 - sg (aR h wi r q))))
def facF : FVec Ideal S2x4x2048x704 .bf16 := fun i => fac h wi (i 0) (i 2) (col (i 1) (i 3))
def dzF : FVec Ideal S2x4x2048x704 .bf16 := fun i => dR df wo (i 2) (col (i 1) (i 3)) * fac h wi (i 0) (i 2) (col (i 1) (i 3))

open Cert.FfnSwigluRefIdeal.Read

theorem ref_5 (r : Fin 2048) (q : Fin 2816) : val_main_v5 (F := Ideal) h wi (ix2 r q) = (aR h wi r q * sg (aR h wi r q) * bR h wi r q : EReal) := by
  pointwise [val_main_v5, val_main_v4, val_main_v2, val_main_v1, val_main_v0, val_main_call0_v5, val_main_call0_v4, val_main_call0_cst_0, val_main_call0_v3, val_main_call0_v2, val_main_call0_cst, val_main_call0_v1, val_main_call0_v0, val_main_v3, aR, bR, sg]
theorem ref_13 (r : Fin 2048) (q : Fin 2816) : val_main_v13 (F := Ideal) h wi wo df (ix2 r q) = (aR h wi r q * sg (aR h wi r q) * dR df wo r q : EReal) := by
  pointwise [val_main_v13, val_main_v8_0, val_main_v6, val_main_v1, val_main_v0, val_main_v8_2, val_main_call1_v4, val_main_call1_cst_0, val_main_call1_v3, val_main_call1_v2, val_main_call1_cst, val_main_call1_v1, val_main_call1_v0, val_main_v12, val_main_v11, aR, dR, sg]
theorem ref_15 (r : Fin 2048) (q : Fin 2816) : val_main_v15 (F := Ideal) h wi wo df (ix2 r q)
    = (dR df wo r q * bR h wi r q * sg (aR h wi r q) + aR h wi r q * (dR df wo r q * bR h wi r q) * (sg (aR h wi r q) * (1 - sg (aR h wi r q))) : EReal) := by
  pointwise [val_main_v15, val_main_call2_v1, val_main_v14, val_main_v12, val_main_v11, val_main_v7, val_main_v1, val_main_v0, val_main_v8_2, val_main_call1_v4, val_main_call1_cst_0, val_main_call1_v3, val_main_call1_v2, val_main_call1_cst, val_main_call1_v1, val_main_call1_v0, val_main_v6, val_main_call2_v2, val_main_call2_v0, val_main_v8_1, val_main_call1_v7, val_main_call1_v6, val_main_call1_cst_1, aR, bR, dR, sg]
theorem ref_act (k : Fin 4) (r : Fin 2048) (j : Fin 704) : val_main_v19 (F := Ideal) h wi (ix3 k r j)
    = (aR h wi r (col k j) * sg (aR h wi r (col k j)) * bR h wi r (col k j) : EReal) := by
  refine Eq.trans ?_ (ref_5 h wi r (col k j))
  pointwise [val_main_v19, val_main_v18, val_main_v17]
theorem ref_dz (k : Fin 8) (r : Fin 2048) (j : Fin 704) : val_main_v22 (F := Ideal) h wi wo df (ix3 k r j)
    = if k.val < 4 then val_main_v15 (F := Ideal) h wi wo df (ix2 r (col ⟨k.val % 4, by omega⟩ j))
      else val_main_v13 (F := Ideal) h wi wo df (ix2 r (col ⟨k.val % 4, by omega⟩ j)) := by
  pointwise [val_main_v22, val_main_v21, val_main_v20, val_main_v16]
  by_cases hk : k.val < 4
  · rw [if_pos hk, dif_pos (by omega)]
    congr 2
    apply Fin.ext
    show k.val * 704 + j.val = k.val % 4 * 704 + j.val
    omega
  · rw [if_neg hk, dif_neg (by omega)]
    congr 2
    apply Fin.ext
    show k.val * 704 + j.val - 2816 = k.val % 4 * 704 + j.val
    omega
end

/-- A row of the block times a row of the shard of a transposed weight. -/
def dot (x : Vec Ideal S1024x1024 .bf16) (u : Vec Ideal S1x704x1024 .bf16) (a : Fin 1024) (j : Fin 704) : EReal := ∑ d : Fin 1024, x (ix2 a d) * u (ix3 0 j d)

/-- What the bodies' stores hold. -/
theorem pay_fac0 (x : Vec Ideal S1024x1024 .bf16) (u v : Vec Ideal S1x704x1024 .bf16) (a : Fin 1024) (j : Fin 704) : k0_pay6 x u v (ix4 0 0 a j)
    = (dot x v a j * (sg (dot x u a j)
      * (1 + (dot x u a j) * (1 - sg (dot x u a j)))) : EReal) := by
  pointwise [k0_pay6, k0_pay4, k0_pay3, k0_pay2, sg, dot]
  simp only [zero_sub]
theorem pay_fac1 (x : Vec Ideal S1024x1024 .bf16) (u : Vec Ideal S1x704x1024 .bf16) (a : Fin 1024) (j : Fin 704) : k0_pay7 x u (ix4 0 0 a j)
    = (dot x u a j * sg (dot x u a j) : EReal) := by
  pointwise [k0_pay7, k0_pay5, k0_pay4, k0_pay2, sg, dot]
  simp only [zero_sub]
theorem pay_act (x : Vec Ideal S1024x1024 .bf16) (u v : Vec Ideal S1x704x1024 .bf16) (a : Fin 1024) (j : Fin 704) : k0_pay1 (k0_pay8 x u v) (ix3 0 a j)
    = (dot x u a j * sg (dot x u a j) * (dot x v a j) : EReal) := by
  pointwise [k0_pay1, k0_pay8, k0_pay5, k0_pay4, k0_pay3, k0_pay2, sg, dot]
  simp only [zero_sub]
theorem pay_dz0 (x : Vec Ideal S1024x1024 .bf16) (u : Vec Ideal S1x704x1024 .bf16) (y : Vec Ideal S1x1x1024x704 .bf16) (a : Fin 1024) (j : Fin 704) :
    k1_pay2 x u y (ix4 0 0 a j) = (dot x u a j * y (ix4 0 0 a j) : EReal) := by
  pointwise [k1_pay2, k1_pay1, dot]
theorem pay_dz1 (x : Vec Ideal S1024x1024 .bf16) (u : Vec Ideal S1x704x1024 .bf16) (y : Vec Ideal S1x1x1024x704 .bf16) (a : Fin 1024) (j : Fin 704) :
    k1_pay3 x u y (ix4 0 0 a j) = (dot x u a j * y (ix4 0 0 a j) : EReal) := by
  pointwise [k1_pay3, k1_pay1, dot]

/-- Two stores of one slab each, read back: the first slab holds the first payload, the second the second. -/
theorem canon_slabs (inb1 : ∀ a : Fin 4, ![1, 0, 0, 0] a + S1x1x1024x704.size a ≤ S2x1x1024x704.size a)
    (inb0 : ∀ a : Fin 4, ![0, 0, 0, 0] a + S1x1x1024x704.size a ≤ S2x1x1024x704.size a)
    (p1 p0 : Vec Ideal S1x1x1024x704 .bf16) (g : Fin 2) (a : Fin 1024) (j : Fin 704) :
    View.canon (s := S2x1x1024x704) (e := .bf16) (Val := Elt Ideal) [⟨Rect.unit ![1, 0, 0, 0] S1x1x1024x704.size inb1, p1⟩, ⟨Rect.unit ![0, 0, 0, 0] S1x1x1024x704.size inb0, p0⟩] (ix4 g 0 a j)
      = if g.val = 1 then p1 (ix4 0 0 a j) else p0 (ix4 0 0 a j) := by
  by_cases hg : g.val = 1
  · rw [if_pos hg, show (ix4 g 0 a j : S2x1x1024x704.Idx) = (Rect.unit (s := S2x1x1024x704) ![1, 0, 0, 0] S1x1x1024x704.size inb1).emb (ix4 0 0 a j) from ?_]
    · exact View.canon_cons_emb _ _ _ _
    · apply idx4_ext
      · show g.val = 1 + 1 * 0; omega
      · rfl
      · show a.val = 0 + 1 * a.val; omega
      · show j.val = 0 + 1 * j.val; omega
  · rw [if_neg hg, View.canon_cons_of_not_mem]
    · rw [show (ix4 g 0 a j : S2x1x1024x704.Idx) = (Rect.unit (s := S2x1x1024x704) ![0, 0, 0, 0] S1x1x1024x704.size inb0).emb (ix4 0 0 a j) from ?_]
      · exact View.canon_cons_emb _ _ _ _
      · apply idx4_ext
        · show g.val = 0 + 1 * 0; omega
        · rfl
        · show a.val = 0 + 1 * a.val; omega
        · show j.val = 0 + 1 * j.val; omega
    · intro hm
      have : 1 ≤ g.val := ((Rect.mem_set_unit (s := S2x1x1024x704) (inb := inb1)).1 hm 0).1
      omega

theorem out_fac (x : Vec Ideal S1024x1024 .bf16) (u v : Vec Ideal S1x704x1024 .bf16) (g : Fin 2) (a : Fin 1024) (j : Fin 704) :
    out0_3 x u v (ix4 g 0 a j) = if g.val = 1 then k0_pay7 x u (ix4 0 0 a j) else k0_pay6 x u v (ix4 0 0 a j) := by
  unfold out0_3
  simp only [r0_0, r0_1, View.ld_unit_zero (S := S1024x1024) zero2, View.ld_unit_zero (S := S1x704x1024) zero3]
  exact canon_slabs _ _ _ _ g a j

theorem out_act (x : Vec Ideal S1024x1024 .bf16) (u v : Vec Ideal S1x704x1024 .bf16) : out0_4 x u v = k0_pay1 (k0_pay8 x u v) := by
  unfold out0_4
  simp only [r0_0, r0_1, r0_4, View.ld_unit_zero (S := S1024x1024) zero2, View.ld_unit_zero (S := S1x704x1024) zero3]
  exact View.canon_unit_zero (S := S1x1024x704) (off := ![0, 0, 0]) zero3 _ _

/-- A load of one slab of the saved factors. -/
theorem ld_slab (x : Vec Ideal S2x1x1024x704 .bf16) (g : Fin 2) (inb : ∀ a : Fin 4, ![g.val, 0, 0, 0] a + S1x1x1024x704.size a ≤ S2x1x1024x704.size a) (a : Fin 1024) (j : Fin 704) :
    View.ld x (Rect.unit (s := S2x1x1024x704) ![g.val, 0, 0, 0] S1x1x1024x704.size inb) (ix4 0 0 a j) = x (ix4 g 0 a j) := by
  show x _ = _
  congr 1
  apply idx4_ext
  · show g.val + 1 * 0 = g.val; omega
  · rfl
  · show 0 + 1 * a.val = a.val; omega
  · show 0 + 1 * j.val = j.val; omega

theorem out_dz (c : Dev nD) (i : grid1.Coords) (a1 : Memref sig .tc .vmem S1024x1024 .bf16) (h1 : a1.IsWhole) (a2 : Memref sig .tc .vmem S1x704x1024 .bf16) (h2 : a2.IsWhole)
    (a3 : Memref sig .tc .vmem S2x1x1024x704 .bf16) (h3 : a3.IsWhole) (a4 : Memref sig .tc .vmem S2x1x1024x704 .bf16) (h4 : a4.IsWhole)
    (x : Vec Ideal S1024x1024 .bf16) (u : Vec Ideal S1x704x1024 .bf16) (y : Vec Ideal S2x1x1024x704 .bf16) (g : Fin 2) (a : Fin 1024) (j : Fin 704) :
    out1_A_3 c i a1 h1 a2 h2 a3 h3 a4 h4 x u y (ix4 g 0 a j) = (dot x u a j * y (ix4 g 0 a j) : EReal) := by
  unfold out1_A_3
  rw [View.read_writes_eq_canon _ _ _ (fun y => cover1_A_3 (y := y) ..)]
  unfold kernelRun1_A
  dsimp only
  sl_unfold_words
  simp only [View.readAt_eq_ld, h1.read_unread, h2.read_unread, h3.read_unread, View.ld_unit_zero (S := S1024x1024) zero2, View.ld_unit_zero (S := S1x704x1024) zero3, shapeCast_self]
  refine (canon_slabs _ _ _ _ g a j).trans ?_
  by_cases hg : g.val = 1
  · obtain rfl : g = 1 := Fin.ext hg
    rw [if_pos hg]
    exact (pay_dz1 ..).trans (congrArg (_ * ·) (ld_slab y 1 _ a j))
  · obtain rfl : g = 0 := Fin.ext (by show g.val = 0; omega)
    rw [if_neg hg]
    exact (pay_dz0 ..).trans (congrArg (_ * ·) (ld_slab y 0 _ a j))

variable (m : (ℓ : Loc nD τ sig) → Buf (Elt Ideal) ℓ) (ρ : Dev nD → PrngReg)

/-- Each window's block index at a grid point, in the two calls. -/
theorem idx0 : ∀ t : Fin cfg0.N, (win0_0.index t 0 = t.val % 2 ∧ win0_0.index t 1 = 0)
    ∧ (win0_1.index t 0 = t.val / 2 ∧ win0_1.index t 1 = 0 ∧ win0_1.index t 2 = 0) ∧ (win0_2.index t 0 = t.val / 2 + 4 ∧ win0_2.index t 1 = 0 ∧ win0_2.index t 2 = 0)
    ∧ (win0_3.index t 0 = 0 ∧ win0_3.index t 1 = t.val / 2 ∧ win0_3.index t 2 = t.val % 2 ∧ win0_3.index t 3 = 0)
    ∧ (win0_4.index t 0 = t.val / 2 ∧ win0_4.index t 1 = t.val % 2 ∧ win0_4.index t 2 = 0) := by
  decide +kernel
theorem idx1 : ∀ t : Fin cfg1.N, (win1_0.index t 0 = t.val % 2 ∧ win1_0.index t 1 = 0)
    ∧ (win1_1.index t 0 = t.val / 2 ∧ win1_1.index t 1 = 0 ∧ win1_1.index t 2 = 0)
    ∧ (win1_2.index t 0 = 0 ∧ win1_2.index t 1 = t.val / 2 ∧ win1_2.index t 2 = t.val % 2 ∧ win1_2.index t 3 = 0)
    ∧ (win1_3.index t 0 = 0 ∧ win1_3.index t 1 = t.val / 2 ∧ win1_3.index t 2 = t.val % 2 ∧ win1_3.index t 3 = 0) := by
  decide +kernel

/-- The shard of a point, and the row that its block's row `a` is. -/
abbrev shard (t : Fin 8) : Fin 4 := ⟨t.val / 2, by omega⟩
abbrev row (t : Fin 8) (a : Fin 1024) : Fin 2048 := ⟨t.val % 2 * 1024 + a.val, by omega⟩

/-- The arguments' arrays. -/
abbrev hA (c : Dev nD) : FVec Ideal S2048x1024 .bf16 := m ((c : Thread nD τ).loc main_arg0)
abbrev wiA (c : Dev nD) : FVec Ideal S1024x5632 .f32 := m ((c : Thread nD τ).loc main_arg1)
abbrev woA (c : Dev nD) : FVec Ideal S2816x1024 .f32 := m ((c : Thread nD τ).loc main_arg2)
abbrev dfA (c : Dev nD) : FVec Ideal S2048x1024 .bf16 := m ((c : Thread nD τ).loc main_arg3)

section
variable (c : Dev nD)
/-- The version's layouts of the two weights. -/
theorem v1_win (k : Fin 8) (j : Fin 704) (d : Fin 1024) :
    (V1 m ρ c main_v2 : FVec Ideal S8x704x1024 .bf16) (ix3 k j d) = wiA m c (ix2 d ⟨k.val * 704 + j.val, by omega⟩) := by
  show StableHlo.after hostOps0 (fun b => m (c, b)) main_v2 _ = _
  after_results_simp
  pointwise []
theorem v3_wout (k : Fin 4) (j : Fin 704) (d : Fin 1024) :
    (V3 m ρ c main_v5 : FVec Ideal S4x704x1024 .bf16) (ix3 k j d) = woA m c (ix2 (col k j) d) := by
  refine Eq.trans ?_ (congrFun (W2_args m ρ c main_arg2 (by decide)) _)
  show StableHlo.after hostOps1 (W2 m ρ c) main_v5 _ = _
  after_results_simp
  pointwise []
theorem v5_dz (k : Fin 8) (r : Fin 2048) (j : Fin 704) : (W5 m ρ c main_v8 : FVec Ideal S8x2048x704 .bf16) (ix3 k r j)
    = (W4 m ρ c main_v7 : FVec Ideal S2x4x2048x704 .bf16) (ix4 ⟨k.val / 4, by omega⟩ ⟨k.val % 4, by omega⟩ r j) := by
  show StableHlo.after hostOps2 (W4 m ρ c) main_v8 _ = _
  after_results_simp
  pointwise []

theorem blk0_0 (t : Fin cfg0.N) (a d : Fin 1024) : iblk0 (V1 m ρ) c 0 t (ix2 a d) = hA m c (ix2 (row t a) d) := by
  show V1 m ρ c main_arg0 ((win0_0.rect t).emb (ix2 a d)) = _
  rw [show V1 m ρ c main_arg0 = _ from W1_args m ρ c main_arg0 (by decide)]
  congr 1
  apply idx2_ext
  · rw [win0_0.rect_emb_val, (idx0 t).1.1]; rfl
  · rw [win0_0.rect_emb_val, (idx0 t).1.2]; exact Nat.zero_add _
theorem blk0_1 (t : Fin cfg0.N) (j : Fin 704) (d : Fin 1024) : iblk0 (V1 m ρ) c 1 t (ix3 0 j d) = wiA m c (ix2 d ⟨(col (shard t) j).val, by omega⟩) := by
  refine (congrArg (V1 m ρ c main_v2) (?_ : (win0_1.rect t).emb (ix3 0 j d) = ix3 ⟨t.val / 2, by have : t.val < 8 := t.isLt; omega⟩ j d)).trans (v1_win m ρ c _ j d)
  apply idx3_ext
  · rw [win0_1.rect_emb_val, (idx0 t).2.1.1]; show t.val / 2 * 1 + 0 = _; exact Nat.mul_one _
  · rw [win0_1.rect_emb_val, (idx0 t).2.1.2.1]; exact Nat.zero_add _
  · rw [win0_1.rect_emb_val, (idx0 t).2.1.2.2]; exact Nat.zero_add _
theorem blk0_2 (t : Fin cfg0.N) (j : Fin 704) (d : Fin 1024) : iblk0 (V1 m ρ) c 2 t (ix3 0 j d) = wiA m c (ix2 d ⟨2816 + (col (shard t) j).val, by omega⟩) := by
  refine (congrArg (V1 m ρ c main_v2) (?_ : (win0_2.rect t).emb (ix3 0 j d) = ix3 ⟨t.val / 2 + 4, by have : t.val < 8 := t.isLt; omega⟩ j d)).trans ((v1_win m ρ c _ j d).trans ?_)
  · apply idx3_ext
    · rw [win0_2.rect_emb_val, (idx0 t).2.2.1.1]; exact Nat.mul_one _
    · rw [win0_2.rect_emb_val, (idx0 t).2.2.1.2.1]; exact Nat.zero_add _
    · rw [win0_2.rect_emb_val, (idx0 t).2.2.1.2.2]; exact Nat.zero_add _
  · congr 2
    apply Fin.ext
    show (t.val / 2 + 4) * 704 + j.val = 2816 + (t.val / 2 * 704 + j.val)
    omega

theorem a_blk (t : Fin cfg0.N) (a : Fin 1024) (j : Fin 704) :
    dot (iblk0 (V1 m ρ) c 0 t) (iblk0 (V1 m ρ) c 1 t) a j = aR (hA m c) (wiA m c) (row t a) (col (shard t) j) := by
  simp only [dot, blk0_0, blk0_1]
  rfl
theorem b_blk (t : Fin cfg0.N) (a : Fin 1024) (j : Fin 704) :
    dot (iblk0 (V1 m ρ) c 0 t) (iblk0 (V1 m ρ) c 2 t) a j = bR (hA m c) (wiA m c) (row t a) (col (shard t) j) := by
  simp only [dot, blk0_0, blk0_2]
  rfl

/-- The reference's two results. -/
abbrev actRes : FVec Ideal S4x2048x704 .bf16 := Cert.FfnSwigluRefIdeal.Read.val_main_v19 (F := Ideal) (hA m c) (wiA m c)
abbrev dzRes : FVec Ideal S8x2048x704 .bf16 := Cert.FfnSwigluRefIdeal.Read.val_main_v22 (F := Ideal) (hA m c) (wiA m c) (woA m c) (dfA m c)

theorem act_blk (t : Fin cfg0.N) (a : Fin 1024) (j : Fin 704) :
    out0_4 (iblk0 (V1 m ρ) c 0 t) (iblk0 (V1 m ρ) c 1 t) (iblk0 (V1 m ρ) c 2 t) (ix3 0 a j) = actRes m c (ix3 (shard t) (row t a) j) := by
  rw [out_act]
  refine (pay_act ..).trans (Eq.trans ?_ (ref_act (hA m c) (wiA m c) (shard t) (row t a) j).symm)
  rw [a_blk, b_blk]

theorem fac_blk (t : Fin cfg0.N) (g : Fin 2) (a : Fin 1024) (j : Fin 704) :
    out0_3 (iblk0 (V1 m ρ) c 0 t) (iblk0 (V1 m ρ) c 1 t) (iblk0 (V1 m ρ) c 2 t) (ix4 g 0 a j) = fac (hA m c) (wiA m c) g (row t a) (col (shard t) j) := by
  rw [out_fac, fac]
  by_cases hg : g.val = 1
  · rw [if_pos hg, if_pos hg]
    refine (pay_fac1 ..).trans ?_
    rw [a_blk]
  · rw [if_neg hg, if_neg hg]
    refine (pay_fac0 ..).trans ?_
    rw [a_blk, b_blk]

theorem mem_out0_4 (t : Fin cfg0.N) (i : S4x2048x704.Idx) : i ∈ ((cfg0.win 4).blk t).view.set ↔
    ∀ a : Fin 3, win0_4.index t a * win0_4.size a ≤ (i a).val ∧ (i a).val < win0_4.index t a * win0_4.size a + win0_4.size a := by
  show i ∈ ((View.whole main_v3_1).slice (win0_4.rect t)).set ↔ _
  rw [View.set_slice_whole, Rect.mem_set_unit]
  rfl

theorem res_act : (dat0 (V1 m ρ) c).arrAt 4 cfg0.N = actRes m c := by
  refine Dat.arrAt_eq_of_cover (dat0 (V1 m ρ) c) 4 _ ?_ fun i => ?_
  · intro t _
    show (cfg0.win 4).cut (grid0.coords t) ((dat0 (V1 m ρ) c).after 4 t) = _
    rw [after0_4]
    funext y
    obtain ⟨z, a, b, rfl⟩ : ∃ z a b, y = ix3 z a b := ⟨y 0, y 1, y 2, eq_ix3 y⟩
    obtain rfl : z = 0 := Subsingleton.elim _ _
    show out0_4 (iblk0 (V1 m ρ) c 0 t) (iblk0 (V1 m ρ) c 1 t) (iblk0 (V1 m ρ) c 2 t) (ix3 0 a b) = actRes m c ((win0_4.rect t).emb (ix3 0 a b))
    rw [show (win0_4.rect t).emb (ix3 0 a b) = ix3 (shard t) (row t a) b from ?_]
    · exact act_blk m ρ c t a b
    · apply idx3_ext
      · rw [win0_4.rect_emb_val, (idx0 t).2.2.2.2.1]; exact Nat.mul_one _
      · rw [win0_4.rect_emb_val, (idx0 t).2.2.2.2.2.1]; rfl
      · rw [win0_4.rect_emb_val, (idx0 t).2.2.2.2.2.2]; exact Nat.zero_add _
  · have hk : (i 0).val < 4 := (i 0).isLt
    have ht : (i 1).val < 2048 := (i 1).isLt
    have h2 : (i 2).val < 704 := (i 2).isLt
    refine ⟨⟨(i 0).val * 2 + (i 1).val / 1024, by show _ < 8; omega⟩, flush0_4 _, (mem_out0_4 _ i).2 fun a => ?_⟩
    match a with
    | ⟨0, _⟩ =>
      show win0_4.index _ 0 * 1 ≤ (i 0).val ∧ (i 0).val < win0_4.index _ 0 * 1 + 1
      rw [(idx0 _).2.2.2.2.1]
      show ((i 0).val * 2 + (i 1).val / 1024) / 2 * 1 ≤ (i 0).val ∧ (i 0).val < ((i 0).val * 2 + (i 1).val / 1024) / 2 * 1 + 1
      omega
    | ⟨1, _⟩ =>
      show win0_4.index _ 1 * 1024 ≤ (i 1).val ∧ (i 1).val < win0_4.index _ 1 * 1024 + 1024
      rw [(idx0 _).2.2.2.2.2.1]
      show ((i 0).val * 2 + (i 1).val / 1024) % 2 * 1024 ≤ (i 1).val ∧ (i 1).val < ((i 0).val * 2 + (i 1).val / 1024) % 2 * 1024 + 1024
      omega
    | ⟨2, _⟩ =>
      show win0_4.index _ 2 * 704 ≤ (i 2).val ∧ (i 2).val < win0_4.index _ 2 * 704 + 704
      rw [(idx0 _).2.2.2.2.2.2]
      omega

theorem mem_out0_3 (t : Fin cfg0.N) (i : S2x4x2048x704.Idx) : i ∈ ((cfg0.win 3).blk t).view.set ↔
    ∀ a : Fin 4, win0_3.index t a * win0_3.size a ≤ (i a).val ∧ (i a).val < win0_3.index t a * win0_3.size a + win0_3.size a := by
  show i ∈ ((View.whole main_v3_0).slice (win0_3.rect t)).set ↔ _
  rw [View.set_slice_whole, Rect.mem_set_unit]
  rfl

theorem res_fac : (dat0 (V1 m ρ) c).arrAt 3 cfg0.N = facF (hA m c) (wiA m c) := by
  refine Dat.arrAt_eq_of_cover (dat0 (V1 m ρ) c) 3 _ ?_ fun i => ?_
  · intro t _
    show (cfg0.win 3).cut (grid0.coords t) ((dat0 (V1 m ρ) c).after 3 t) = _
    rw [after0_3]
    funext y
    obtain ⟨g, z, a, b, rfl⟩ : ∃ g z a b, y = ix4 g z a b := ⟨y 0, y 1, y 2, y 3, eq_ix4 y⟩
    obtain rfl : z = 0 := Subsingleton.elim _ _
    show out0_3 (iblk0 (V1 m ρ) c 0 t) (iblk0 (V1 m ρ) c 1 t) (iblk0 (V1 m ρ) c 2 t) (ix4 g 0 a b) = facF (hA m c) (wiA m c) ((win0_3.rect t).emb (ix4 g 0 a b))
    rw [show (win0_3.rect t).emb (ix4 g 0 a b) = ix4 g (shard t) (row t a) b from ?_]
    · exact fac_blk m ρ c t g a b
    · apply idx4_ext
      · rw [win0_3.rect_emb_val, (idx0 t).2.2.2.1.1]; exact Nat.zero_add _
      · rw [win0_3.rect_emb_val, (idx0 t).2.2.2.1.2.1]; exact Nat.mul_one _
      · rw [win0_3.rect_emb_val, (idx0 t).2.2.2.1.2.2.1]; rfl
      · rw [win0_3.rect_emb_val, (idx0 t).2.2.2.1.2.2.2]; exact Nat.zero_add _
  · have hk : (i 1).val < 4 := (i 1).isLt
    have ht : (i 2).val < 2048 := (i 2).isLt
    have h0 : (i 0).val < 2 := (i 0).isLt
    have h3 : (i 3).val < 704 := (i 3).isLt
    refine ⟨⟨(i 1).val * 2 + (i 2).val / 1024, by show _ < 8; omega⟩, flush0_3 _, (mem_out0_3 _ i).2 fun a => ?_⟩
    match a with
    | ⟨0, _⟩ =>
      show win0_3.index _ 0 * 2 ≤ (i 0).val ∧ (i 0).val < win0_3.index _ 0 * 2 + 2
      rw [(idx0 _).2.2.2.1.1]
      omega
    | ⟨1, _⟩ =>
      show win0_3.index _ 1 * 1 ≤ (i 1).val ∧ (i 1).val < win0_3.index _ 1 * 1 + 1
      rw [(idx0 _).2.2.2.1.2.1]
      show ((i 1).val * 2 + (i 2).val / 1024) / 2 * 1 ≤ (i 1).val ∧ (i 1).val < ((i 1).val * 2 + (i 2).val / 1024) / 2 * 1 + 1
      omega
    | ⟨2, _⟩ =>
      show win0_3.index _ 2 * 1024 ≤ (i 2).val ∧ (i 2).val < win0_3.index _ 2 * 1024 + 1024
      rw [(idx0 _).2.2.2.1.2.2.1]
      show ((i 1).val * 2 + (i 2).val / 1024) % 2 * 1024 ≤ (i 2).val ∧ (i 2).val < ((i 1).val * 2 + (i 2).val / 1024) % 2 * 1024 + 1024
      omega
    | ⟨3, _⟩ =>
      show win0_3.index _ 3 * 704 ≤ (i 3).val ∧ (i 3).val < win0_3.index _ 3 * 704 + 704
      rw [(idx0 _).2.2.2.1.2.2.2]
      omega

/-- The backward call reads the factors that the forward call left. -/
theorem v3_fac : V3 m ρ c main_v3_0 = facF (hA m c) (wiA m c) :=
  (W3_of m ρ c main_v3_0 (by decide)).trans (((hF0 m ρ c 3).symm).trans (res_fac m ρ c))
theorem v3_arg (a : Ref sig .tc) (h : a ∈ argRefs) : V3 m ρ c a = m ((c : Thread nD τ).loc a) := W3_args m ρ c a h

theorem blk1_0 (t : Fin cfg1.N) (a d : Fin 1024) : iblk1 (V3 m ρ) c 0 t (ix2 a d) = dfA m c (ix2 (row t a) d) := by
  show V3 m ρ c main_arg3 ((win1_0.rect t).emb (ix2 a d)) = _
  rw [v3_arg m ρ c main_arg3 (by decide)]
  congr 1
  apply idx2_ext
  · rw [win1_0.rect_emb_val, (idx1 t).1.1]; rfl
  · rw [win1_0.rect_emb_val, (idx1 t).1.2]; exact Nat.zero_add _
theorem blk1_1 (t : Fin cfg1.N) (j : Fin 704) (d : Fin 1024) : iblk1 (V3 m ρ) c 1 t (ix3 0 j d) = woA m c (ix2 (col (shard t) j) d) := by
  refine (congrArg (V3 m ρ c main_v5) (?_ : (win1_1.rect t).emb (ix3 0 j d) = ix3 (shard t) j d)).trans (v3_wout m ρ c _ j d)
  apply idx3_ext
  · rw [win1_1.rect_emb_val, (idx1 t).2.1.1]; exact Nat.mul_one _
  · rw [win1_1.rect_emb_val, (idx1 t).2.1.2.1]; exact Nat.zero_add _
  · rw [win1_1.rect_emb_val, (idx1 t).2.1.2.2]; exact Nat.zero_add _
theorem blk1_2 (t : Fin cfg1.N) (g : Fin 2) (a : Fin 1024) (j : Fin 704) :
    iblk1 (V3 m ρ) c 2 t (ix4 g 0 a j) = fac (hA m c) (wiA m c) g (row t a) (col (shard t) j) := by
  show V3 m ρ c main_v3_0 ((win1_2.rect t).emb (ix4 g 0 a j)) = _
  rw [v3_fac, show (win1_2.rect t).emb (ix4 g 0 a j) = ix4 g (shard t) (row t a) j from ?_]
  · rfl
  · apply idx4_ext
    · rw [win1_2.rect_emb_val, (idx1 t).2.2.1.1]; exact Nat.zero_add _
    · rw [win1_2.rect_emb_val, (idx1 t).2.2.1.2.1]; exact Nat.mul_one _
    · rw [win1_2.rect_emb_val, (idx1 t).2.2.1.2.2.1]; rfl
    · rw [win1_2.rect_emb_val, (idx1 t).2.2.1.2.2.2]; exact Nat.zero_add _

theorem dz_blk (t : Fin cfg1.N) (g : Fin 2) (a : Fin 1024) (j : Fin 704) : outsAt1 (V3 m ρ) c t (ix4 g 0 a j)
    = (dR (dfA m c) (woA m c) (row t a) (col (shard t) j) * fac (hA m c) (wiA m c) g (row t a) (col (shard t) j) : EReal) := by
  unfold outsAt1
  refine (out_dz ..).trans ?_
  simp only [dot, blk1_0, blk1_1, blk1_2]
  rfl

theorem mem_out1_3 (t : Fin cfg1.N) (i : S2x4x2048x704.Idx) : i ∈ ((cfg1.win 3).blk t).view.set ↔
    ∀ a : Fin 4, win1_3.index t a * win1_3.size a ≤ (i a).val ∧ (i a).val < win1_3.index t a * win1_3.size a + win1_3.size a := by
  show i ∈ ((View.whole main_v7).slice (win1_3.rect t)).set ↔ _
  rw [View.set_slice_whole, Rect.mem_set_unit]
  rfl

theorem res_dz : (dat1 (V3 m ρ) c).arrAt 3 cfg1.N = dzF (hA m c) (dfA m c) (wiA m c) (woA m c) := by
  refine Dat.arrAt_eq_of_cover (dat1 (V3 m ρ) c) 3 _ ?_ fun i => ?_
  · intro t _
    show (cfg1.win 3).cut (grid1.coords t) ((dat1 (V3 m ρ) c).after 3 t) = _
    rw [after1_3]
    funext y
    obtain ⟨g, z, a, b, rfl⟩ : ∃ g z a b, y = ix4 g z a b := ⟨y 0, y 1, y 2, y 3, eq_ix4 y⟩
    obtain rfl : z = 0 := Subsingleton.elim _ _
    show outsAt1 (V3 m ρ) c t (ix4 g 0 a b) = dzF (hA m c) (dfA m c) (wiA m c) (woA m c) ((win1_3.rect t).emb (ix4 g 0 a b))
    rw [show (win1_3.rect t).emb (ix4 g 0 a b) = ix4 g (shard t) (row t a) b from ?_]
    · exact dz_blk m ρ c t g a b
    · apply idx4_ext
      · rw [win1_3.rect_emb_val, (idx1 t).2.2.2.1]; exact Nat.zero_add _
      · rw [win1_3.rect_emb_val, (idx1 t).2.2.2.2.1]; exact Nat.mul_one _
      · rw [win1_3.rect_emb_val, (idx1 t).2.2.2.2.2.1]; rfl
      · rw [win1_3.rect_emb_val, (idx1 t).2.2.2.2.2.2]; exact Nat.zero_add _
  · have hk : (i 1).val < 4 := (i 1).isLt
    have ht : (i 2).val < 2048 := (i 2).isLt
    have h0 : (i 0).val < 2 := (i 0).isLt
    have h3 : (i 3).val < 704 := (i 3).isLt
    refine ⟨⟨(i 1).val * 2 + (i 2).val / 1024, by show _ < 8; omega⟩, flush1_3 _, (mem_out1_3 _ i).2 fun a => ?_⟩
    match a with
    | ⟨0, _⟩ =>
      show win1_3.index _ 0 * 2 ≤ (i 0).val ∧ (i 0).val < win1_3.index _ 0 * 2 + 2
      rw [(idx1 _).2.2.2.1]
      omega
    | ⟨1, _⟩ =>
      show win1_3.index _ 1 * 1 ≤ (i 1).val ∧ (i 1).val < win1_3.index _ 1 * 1 + 1
      rw [(idx1 _).2.2.2.2.1]
      show ((i 1).val * 2 + (i 2).val / 1024) / 2 * 1 ≤ (i 1).val ∧ (i 1).val < ((i 1).val * 2 + (i 2).val / 1024) / 2 * 1 + 1
      omega
    | ⟨2, _⟩ =>
      show win1_3.index _ 2 * 1024 ≤ (i 2).val ∧ (i 2).val < win1_3.index _ 2 * 1024 + 1024
      rw [(idx1 _).2.2.2.2.2.1]
      show ((i 1).val * 2 + (i 2).val / 1024) % 2 * 1024 ≤ (i 2).val ∧ (i 2).val < ((i 1).val * 2 + (i 2).val / 1024) % 2 * 1024 + 1024
      omega
    | ⟨3, _⟩ =>
      show win1_3.index _ 3 * 704 ≤ (i 3).val ∧ (i 3).val < win1_3.index _ 3 * 704 + 704
      rw [(idx1 _).2.2.2.2.2.2]
      omega

/-- What the precondition says: every argument is an array of real numbers. -/
structure Fin4 : Prop where
  h : ∀ r b, IsR (hA m c (ix2 r b))
  wi : ∀ r b, IsR (wiA m c (ix2 r b))
  wo : ∀ r b, IsR (woA m c (ix2 r b))
  df : ∀ r b, IsR (dfA m c (ix2 r b))

theorem fin4 (h : Cert.Pre_finite_ffn_swiglu.fn (F := Ideal) (hA m c) (wiA m c) (woA m c) (dfA m c) = fun _ => 1#1) : Fin4 m c := by
  have h0 := congrFun h (fun a => a.elim0)
  dsimp only [Cert.Pre_finite_ffn_swiglu.fn, Cert.Pre_finite_ffn_swiglu.fn_part1] at h0
  obtain ⟨h123, h4⟩ := (and_one_iff _ _).1 h0
  obtain ⟨h12, h3⟩ := (and_one_iff _ _).1 h123
  obtain ⟨h1, h2⟩ := (and_one_iff _ _).1 h12
  exact ⟨fun r b => real_of_lt (Host.reduce_andi_all _ _ _ _ _ h1 (ix2 r b)), fun r b => real_of_lt (Host.reduce_andi_all _ _ _ _ _ h2 (ix2 r b)),
    fun r b => real_of_lt (Host.reduce_andi_all _ _ _ _ _ h3 (ix2 r b)), fun r b => real_of_lt (Host.reduce_andi_all _ _ _ _ _ h4 (ix2 r b))⟩

theorem dz_ref (h : Fin4 m c) : (W5 m ρ c main_v8 : FVec Ideal S8x2048x704 .bf16) = dzRes m c := by
  funext y
  obtain ⟨k, r, j, rfl⟩ : ∃ k r j, y = ix3 k r j := ⟨y 0, y 1, y 2, eq_ix3 y⟩
  rw [v5_dz, show (W4 m ρ c main_v7 : FVec Ideal S2x4x2048x704 .bf16) = _ from ((hF1 m ρ c 3).symm).trans (res_dz m ρ c)]
  refine Eq.trans ?_ (ref_dz (hA m c) (dfA m c) (wiA m c) (woA m c) k r j).symm
  show dR (dfA m c) (woA m c) r (col ⟨k.val % 4, _⟩ j) * fac (hA m c) (wiA m c) ⟨k.val / 4, _⟩ r (col ⟨k.val % 4, _⟩ j) = _
  have ha : IsR (aR (hA m c) (wiA m c) r (col ⟨k.val % 4, by omega⟩ j)) := .sum fun x => (h.h r x).mul (h.wi x _)
  have hb : IsR (bR (hA m c) (wiA m c) r (col ⟨k.val % 4, by omega⟩ j)) := .sum fun x => (h.h r x).mul (h.wi x _)
  have hd : IsR (dR (dfA m c) (woA m c) r (col ⟨k.val % 4, by omega⟩ j)) := .sum fun x => (h.df r x).mul (h.wo _ x)
  by_cases hk : k.val < 4
  · rw [if_pos hk, ref_15, fac, if_neg (by show ¬ k.val / 4 = 1; omega)]
    exact slope ha hb (sg_real ha) hd
  · rw [if_neg hk, ref_13, fac, if_pos (by show k.val / 4 = 1; omega)]
    exact mul_comm (G := EReal) _ _
end

section
open Idealize.SL Idealize.SL.RA Idealize.SL.BI
open scoped Idealize.SL.BI
open Idealize.SL.BI.BIBase Idealize.SL.BI.Laws Idealize.SL.ProofMode Idealize.ShloMosaic.Rounds Idealize.ShloMosaic.Tactic

/-- Every buffer of the program ends with what the two calls leave in it. -/
theorem run_all : θ_run defs (onTc (τ := τ) (main (F := Ideal))) ⟨m, fun _ => 0, ρ⟩ fun r =>
      ∀ c : Dev nD, ∀ b ∈ Pipeline.ucRefs τ sig, r.2.mem (((c : Thread nD τ)).1, b) = W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)
end

theorem run_res : θ_run defs (onTc (τ := τ) (main (F := Ideal))) ⟨m, fun _ => 0, ρ⟩ fun r => ∀ c : Dev nD, Fin4 m c →
      r.2.mem ((c : Thread nD τ).loc main_v3_1) = actRes m c ∧ r.2.mem ((c : Thread nD τ).loc main_v8) = dzRes m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c hf =>
    ⟨(h c _ (mem_uc main_v3_1 (by decide))).trans ((W5_of m ρ c main_v3_1 (by decide)).trans ((W4_of m ρ c main_v3_1 (by decide)).trans
       ((W3_of m ρ c main_v3_1 (by decide)).trans (((hF0 m ρ c 4).symm).trans (res_act m ρ c))))),
     (h c _ (mem_uc main_v8 (by decide))).trans (dz_ref m ρ c hf),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩)
    (run_all m ρ)

end Cert.FfnSwigluIdeal.Value

end
-- ==== Proof.FfnSwigluClaims.lean ====
/- SwiGLU and its gradient: its claims. -/
module

public import proofs.«01_k».proof.Proof.FfnSwigluValue
public import proofs.«01_k».proof.Proof.Gen.FfnSwiglu
public import proofs.«01_k».proof.Proof.Gen.FfnSwigluRefIdeal
public import proofs.«01_k».proof.Proof.Gen.FfnSwigluRefIdeal.Run
public import proofs.«01_k».proof.Proof.Gen.Pre_finite_ffn_swiglu
public import Idealize.ShloMosaic.Lib.Tactic

@[expose] public section

set_option maxRecDepth 16384

noncomputable section

namespace Cert.Proof.FfnSwiglu

open Idealize.ShloMosaic Idealize.SL.Sem Cert.Util

/-- The program and its idealization have one text: the same entry … -/
theorem main_same : (Cert.FfnSwiglu.main (F := Bits)) = (Cert.FfnSwigluIdeal.main (F := Bits)) := by sl_kernel_rfl

/-- … and the same bodies. -/
theorem defs_same : (Cert.FfnSwiglu.defs (F := Bits)) = (Cert.FfnSwigluIdeal.defs (F := Bits)) := by sl_kernel_rfl

/-- So one run gives both frames. -/
theorem frame_p : Cert.quiescent_FfnSwiglu := fun m ρ _ => by
  have h := Cert.FfnSwigluIdeal.Gen.frame (F := Bits) m ρ
  rw [← main_same, ← defs_same] at h
  exact h

theorem frame_i : Cert.quiescent_FfnSwigluIdeal := fun m ρ _ => Cert.FfnSwigluIdeal.Gen.frame m ρ

theorem frame_r : Cert.quiescent_FfnSwigluRefIdeal := fun m ρ _ =>
  (θ_run Cert.FfnSwigluRefIdeal.defs _ _).mono (fun r h => ⟨fun c => (h c).2.2, sem_eq_zero_of_no_sems (by decide) r.2⟩)
    (Cert.FfnSwigluRefIdeal.Value.run (F := Ideal) m ρ)

theorem frame_i_pre : Cert.quiescent_FfnSwigluIdeal_pre_finite_ffn_swiglu := fun m ρ _ => Cert.FfnSwigluIdeal.Gen.frame m ρ

theorem frame_r_pre : Cert.quiescent_FfnSwigluRefIdeal_pre_finite_ffn_swiglu := fun m ρ _ => frame_r m ρ trivial

theorem algebraic : Cert.algebraic_FfnSwigluIdeal_FfnSwigluRefIdeal_pre_finite_ffn_swiglu := by
  intro m ρ m' ρ' hpre hag
  refine ⟨_, _, (θ_run Cert.FfnSwigluIdeal.defs _ _).mono (fun r h c => h c (Cert.FfnSwigluIdeal.Value.fin4 m c (hpre c))) (Cert.FfnSwigluIdeal.Value.run_res m ρ), ?_⟩
  refine (θ_run Cert.FfnSwigluRefIdeal.defs _ _).mono (fun r h c => ⟨(h c).1.trans ?_, (h c).2.1.trans ?_, (h c).2.2⟩)
    (Cert.FfnSwigluRefIdeal.Value.run (F := Ideal) m' ρ')
  · show Cert.FfnSwigluRefIdeal.Read.val_main_v19 (F := Ideal) (m' (c.tc.loc Cert.FfnSwigluRefIdeal.main_arg0)) (m' (c.tc.loc Cert.FfnSwigluRefIdeal.main_arg1)) = _
    rw [(hag c).1, (hag c).2.1]
  · show Cert.FfnSwigluRefIdeal.Read.val_main_v22 (F := Ideal) (m' (c.tc.loc Cert.FfnSwigluRefIdeal.main_arg0)) (m' (c.tc.loc Cert.FfnSwigluRefIdeal.main_arg1)) (m' (c.tc.loc Cert.FfnSwigluRefIdeal.main_arg2)) (m' (c.tc.loc Cert.FfnSwigluRefIdeal.main_arg3)) = _
    rw [(hag c).1, (hag c).2.1, (hag c).2.2.1, (hag c).2.2.2]

end Cert.Proof.FfnSwiglu

end
-- ==== Proof.PrePostBody.lean ====
/- One residual and the norm before the next sublayer: what the two bodies leave in their output blocks. -/
module

public import proofs.«01_k».proof.Defs
public import proofs.«01_k».proof.Proof.Gen.PrePostIdeal.Frame
public import proofs.«01_k».proof.Proof.Rows
public import proofs.«01_k».proof.Proof.NormGrad

@[expose] public section

set_option maxRecDepth 16384

noncomputable section

namespace Cert.PrePostIdeal.Value

open Cert.PrePostIdeal Cert.PrePostIdeal.Gen Idealize.ShloMosaic Idealize.ShloMosaic.TcCoe Idealize.SL.Sem Cert.Util Pipeline

/-- The residual of a row. -/
def resid (x f post gate : Fin 1024 → EReal) (b : Fin 1024) : EReal := x b + half * gate b * (f b * rstd f * post b)
/-- The modulated norm of a row. -/
def modNorm (x pre scale shift : Fin 1024 → EReal) (b : Fin 1024) : EReal := x b * rstd x * pre b * (1 + scale b) + shift b

section
variable (x f : Vec Ideal S512x1024 .f32) (u v : Vec Ideal S1x8x1024 .f32)
/-- A block's residual. -/
abbrev xB (x f : Vec Ideal S512x1024 .f32) (u : Vec Ideal S1x8x1024 .f32) (a : Fin 512) : Fin 1024 → EReal :=
  resid (fun b => x (ix2 a b)) (fun b => f (ix2 a b)) (fun b => u (ix3 0 3 b)) (fun b => u (ix3 0 4 b))
theorem pay_x (a : Fin 512) (b : Fin 1024) : k0_pay2 x f u (ix2 a b) = xB x f u a b := by
  pointwise [k0_pay2, resid, rstd, msq]
theorem pay_h (a : Fin 512) (b : Fin 1024) : k0_pay1 (k0_pay3 v) (k0_pay4 x f u v) (ix2 a b)
    = modNorm (xB x f u a) (fun b => v (ix3 0 0 b)) (fun b => v (ix3 0 1 b)) (fun b => v (ix3 0 2 b)) b := by
  pointwise [k0_pay1, k0_pay3, k0_pay4, pay_x, modNorm, rstd, msq]
end

/-- A block's gradient to the residual, and its contributions to the five accumulated rows. -/
def dxB (d dh x : Vec Ideal S256x1024 .f32) (v : Vec Ideal S1x8x1024 .f32) (a : Fin 256) (b : Fin 1024) : EReal :=
  d (ix2 a b) + normHand (fun b => x (ix2 a b)) (fun b => dh (ix2 a b) * (1 + v (ix3 0 1 b)) * v (ix3 0 0 b)) b
def contPre (dh x : Vec Ideal S256x1024 .f32) (v : Vec Ideal S1x8x1024 .f32) (b : Fin 1024) : EReal :=
  ∑ a : Fin 256, dh (ix2 a b) * (1 + v (ix3 0 1 b)) * (x (ix2 a b) * rstd (fun b => x (ix2 a b)))
def contScale (dh x : Vec Ideal S256x1024 .f32) (v : Vec Ideal S1x8x1024 .f32) (b : Fin 1024) : EReal :=
  ∑ a : Fin 256, dh (ix2 a b) * (x (ix2 a b) * rstd (fun b => x (ix2 a b)) * v (ix3 0 0 b))
def contShift (dh : Vec Ideal S256x1024 .f32) (b : Fin 1024) : EReal := ∑ a : Fin 256, dh (ix2 a b)
def contGate (d dh x f : Vec Ideal S256x1024 .f32) (v u : Vec Ideal S1x8x1024 .f32) (b : Fin 1024) : EReal :=
  half * ∑ a : Fin 256, dxB d dh x v a b * (f (ix2 a b) * rstd (fun b => f (ix2 a b)) * u (ix3 0 3 b))
def contPost (d dh x f : Vec Ideal S256x1024 .f32) (v u : Vec Ideal S1x8x1024 .f32) (b : Fin 1024) : EReal :=
  ∑ a : Fin 256, half * u (ix3 0 4 b) * dxB d dh x v a b * (f (ix2 a b) * rstd (fun b => f (ix2 a b)))
def cont (d dh x f : Vec Ideal S256x1024 .f32) (v u : Vec Ideal S1x8x1024 .f32) (k : Fin 8) (b : Fin 1024) : EReal :=
  if k.val = 3 then contPost d dh x f v u b else if k.val = 4 then contGate d dh x f v u b else if k.val = 0 then contPre dh x v b
  else if k.val = 1 then contScale dh x v b else if k.val = 2 then contShift dh b else 0

section
variable (d dh x f : Vec Ideal S256x1024 .f32) (v u : Vec Ideal S1x8x1024 .f32)
/-- The gradient to the residual as the body computes it. -/
abbrev dxP : FVec Ideal S256x1024 .f32 := k1_pay11 d dh (k1_pay3 v) (k1_pay4 v) (k1_pay5 x) (k1_pay6 x)
theorem pay_dx (a : Fin 256) (b : Fin 1024) : dxP d dh x v (ix2 a b) = dxB d dh x v a b := by
  pointwise [dxP, k1_pay11, k1_pay9, k1_pay3, k1_pay4, k1_pay5, k1_pay6, k1_pay2, dxB, normHand, rstd, msq]
theorem pay_row0 (w : Vec Ideal S1x1024 .f32) (b : Fin 1024) :
    k1_pay10 dh (k1_pay3 v) (k1_pay6 x) w (ix2 0 b) = (w (ix2 0 b) + contPre dh x v b : EReal) := by
  pointwise [k1_pay10, k1_pay9, k1_pay3, k1_pay6, k1_pay5, k1_pay2, contPre, rstd, msq]
theorem pay_row1 (w : Vec Ideal S1x1024 .f32) (b : Fin 1024) :
    k1_pay8 dh x v w (ix2 0 b) = (w (ix2 0 b) + contScale dh x v b : EReal) := by
  pointwise [k1_pay8, k1_pay4, k1_pay3, k1_pay6, k1_pay5, k1_pay2, contScale, rstd, msq]
theorem pay_row2 (w : Vec Ideal S1x1024 .f32) (b : Fin 1024) : k1_pay7 dh w (ix2 0 b) = (w (ix2 0 b) + contShift dh b : EReal) := by
  pointwise [k1_pay7, contShift]
theorem pay_row4 (w : Vec Ideal S1x1024 .f32) (b : Fin 1024) :
    k1_pay17 (dxP d dh x v) f (k1_pay13 u) (k1_pay14 f) w (ix2 0 b) = (w (ix2 0 b) + contGate d dh x f v u b : EReal) := by
  pointwise [k1_pay17, k1_pay16, k1_pay15, k1_pay14, k1_pay13, k1_pay12, pay_dx, contGate, rstd, msq]
theorem pay_row3 (w : Vec Ideal S1x1024 .f32) (b : Fin 1024) :
    k1_pay19 (dxP d dh x v) f (k1_pay12 u) (k1_pay14 f) w (ix2 0 b) = (w (ix2 0 b) + contPost d dh x f v u b : EReal) := by
  pointwise [k1_pay19, k1_pay18, k1_pay16, k1_pay15, k1_pay14, k1_pay12, pay_dx, contPost, rstd, msq]
theorem pay_df (a : Fin 256) (b : Fin 1024) :
    k1_pay20 (dxP d dh x v) f (k1_pay12 u) (k1_pay13 u) (k1_pay14 f) (ix2 a b)
      = normHand (fun b => f (ix2 a b)) (fun b => half * u (ix3 0 4 b) * dxB d dh x v a b * u (ix3 0 3 b)) b := by
  pointwise [k1_pay20, k1_pay18, k1_pay16, k1_pay15, k1_pay14, k1_pay13, k1_pay12, pay_dx, normHand, rstd, msq]
theorem pay_zero (k : Fin 8) (b : Fin 1024) : k1_pay1 (F := Ideal) (ix2 k b) = (0 : EReal) := by
  pointwise [k1_pay1]
end

theorem zero_read (w : View sig .tc .vmem S8x1024 .f32) (g : w.ty.Contents (Elt Ideal)) (k : Fin 8) (b : Fin 1024) (inb : ∀ a : Fin 2, ![0, 0] a + S8x1024.size a ≤ S8x1024.size a) :
    w.read (Elt Ideal) (w.writes (Elt Ideal) g [⟨Rect.unit ![0, 0] S8x1024.size inb, k1_pay1 (F := Ideal)⟩]) (ix2 k b) = (0 : EReal) := by
  rw [View.read_writes_full]
  exact pay_zero k b

section
variable (c : Dev nD) (i : grid0.Coords) (a1 a2 : Memref sig .tc .vmem S512x1024 .f32) (h1 : a1.IsWhole) (h2 : a2.IsWhole)
  (a3 a4 : Memref sig .tc .vmem S1x8x1024 .f32) (h3 : a3.IsWhole) (h4 : a4.IsWhole)
  (a6 : Memref sig .tc .vmem S512x1024 .f32) (h6 : a6.IsWhole) (a7 : Memref sig .tc .vmem S512x1024 .bf16) (h7 : a7.IsWhole)
  (x f : Vec Ideal S512x1024 .f32) (u v : Vec Ideal S1x8x1024 .f32)

theorem outX : out0_A_4 c i a1 h1 a2 h2 a3 h3 a4 h4 a6 h6 a7 h7 x f u v = k0_pay2 x f u := by
  unfold out0_A_4
  rw [View.read_writes_eq_canon _ _ _ (fun y => cover0_A_4 (y := y) ..)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]

theorem outH : out0_A_5 c i a1 h1 a2 h2 a3 h3 a4 h4 a6 h6 a7 h7 x f u v = k0_pay1 (k0_pay3 v) (k0_pay4 x f u v) := by
  unfold out0_A_5
  rw [View.read_writes_eq_canon _ _ _ (fun y => cover0_A_5 (y := y) ..)]
  unfold kernelRun0_A
  dsimp only
  sl_unfold_words
  rw [View.canon_unit_zero zero2]
  simp only [View.readAt_eq_ld, h1.read_unread, h2.read_unread, h3.read_unread, h4.read_unread, View.ld_unit_zero (S := S512x1024) zero2, View.ld_unit_zero (S := S1x8x1024) zero3, shapeCast_self]
end

section
variable (c : Dev nD) (i : grid1.Coords) (a1 a2 a3 a4 : Memref sig .tc .vmem S256x1024 .f32) (h1 : a1.IsWhole) (h2 : a2.IsWhole) (h3 : a3.IsWhole) (h4 : a4.IsWhole)
  (a5 a6 : Memref sig .tc .vmem S1x8x1024 .f32) (h5 : a5.IsWhole) (h6 : a6.IsWhole) (a7 : Memref sig .tc .vmem S256x1024 .f32) (h7 : a7.IsWhole)
  (a8 : Memref sig .tc .vmem S256x1024 .bf16) (h8 : a8.IsWhole) (a9 : Memref sig .tc .vmem S8x1024 .f32) (h9 : a9.IsWhole)
  (d dh x f : Vec Ideal S256x1024 .f32) (v u : Vec Ideal S1x8x1024 .f32) (xo : Vec Ideal S8x1024 .f32)

theorem outA6 (hc : cond1_0 i) : out1_A_6 c i a1 h1 a2 h2 a3 h3 a4 h4 a5 h5 a6 h6 a7 h7 a8 h8 a9 h9 hc d dh x f v u = dxP d dh x v := by
  unfold out1_A_6
  rw [View.read_writes_eq_canon _ _ _ (fun y => cover1_A_6 (y := y) ..)]
  unfold kernelRun1_A
  dsimp only
  sl_unfold_words
  rw [View.canon_unit_zero zero2]
  simp only [View.readAt_eq_ld, h1.read_unread, h2.read_unread, h3.read_unread, h4.read_unread, h5.read_unread, h6.read_unread, View.ld_unit_zero (S := S256x1024) zero2, View.ld_unit_zero (S := S1x8x1024) zero3, shapeCast_self]

theorem outA7 (hc : cond1_0 i) : out1_A_7 c i a1 h1 a2 h2 a3 h3 a4 h4 a5 h5 a6 h6 a7 h7 a8 h8 a9 h9 hc d dh x f v u = k1_pay20 (dxP d dh x v) f (k1_pay12 u) (k1_pay13 u) (k1_pay14 f) := by
  unfold out1_A_7
  rw [View.read_writes_eq_canon _ _ _ (fun y => cover1_A_7 (y := y) ..)]
  unfold kernelRun1_A
  dsimp only
  sl_unfold_words
  rw [View.canon_unit_zero zero2]
  simp only [View.readAt_eq_ld, h1.read_unread, h2.read_unread, h3.read_unread, h4.read_unread, h5.read_unread, h6.read_unread, View.ld_unit_zero (S := S256x1024) zero2, View.ld_unit_zero (S := S1x8x1024) zero3, shapeCast_self]

theorem outB6 (hc : ¬ cond1_0 i) : out1_B_6 c i a1 h1 a2 h2 a3 h3 a4 h4 a5 h5 a6 h6 a7 h7 a8 h8 a9 h9 hc d dh x f v u xo = dxP d dh x v := by
  unfold out1_B_6
  rw [View.read_writes_eq_canon _ _ _ (fun y => cover1_B_6 (y := y) ..)]
  unfold kernelRun1_B
  dsimp only
  sl_unfold_words
  rw [View.canon_unit_zero zero2]
  simp only [View.readAt_eq_ld, h1.read_unread, h2.read_unread, h3.read_unread, h4.read_unread, h5.read_unread, h6.read_unread, View.ld_unit_zero (S := S256x1024) zero2, View.ld_unit_zero (S := S1x8x1024) zero3, shapeCast_self]

theorem outB7 (hc : ¬ cond1_0 i) : out1_B_7 c i a1 h1 a2 h2 a3 h3 a4 h4 a5 h5 a6 h6 a7 h7 a8 h8 a9 h9 hc d dh x f v u xo = k1_pay20 (dxP d dh x v) f (k1_pay12 u) (k1_pay13 u) (k1_pay14 f) := by
  unfold out1_B_7
  rw [View.read_writes_eq_canon _ _ _ (fun y => cover1_B_7 (y := y) ..)]
  unfold kernelRun1_B
  dsimp only
  sl_unfold_words
  rw [View.canon_unit_zero zero2]
  simp only [View.readAt_eq_ld, h1.read_unread, h2.read_unread, h3.read_unread, h4.read_unread, h5.read_unread, h6.read_unread, View.ld_unit_zero (S := S256x1024) zero2, View.ld_unit_zero (S := S1x8x1024) zero3, shapeCast_self]

theorem outA8 (hc : cond1_0 i) (k : Fin 8) (b : Fin 1024) : out1_A_8 c i a1 h1 a2 h2 a3 h3 a4 h4 a5 h5 a6 h6 a7 h7 a8 h8 a9 h9 hc d dh x f v u (ix2 k b) = cont d dh x f v u k b := by
  unfold out1_A_8
  unfold kernelRun1_A
  dsimp only
  sl_unfold_words
  simp only [View.readAt_eq_ld, h1.read_unread, h2.read_unread, h3.read_unread, h4.read_unread, h5.read_unread, h6.read_unread, View.ld_unit_zero (S := S256x1024) zero2, View.ld_unit_zero (S := S1x8x1024) zero3, shapeCast_self]
  refine (read_row_cons _ _ 3 _ _ _ k b).trans ?_
  by_cases e3 : k.val = 3
  · rw [if_pos e3, cont, if_pos e3]
    refine (pay_row3 ..).trans ((congrArg (· + _) ?_).trans (zero_add _))
    refine (readAt_row a9.view _ (3 : Fin 8) _ b).trans ((read_row_cons _ _ 4 _ _ _ 3 b).trans ?_)
    rw [if_neg (by decide)]
    refine (read_row_cons _ _ 0 _ _ _ 3 b).trans ?_
    rw [if_neg (by decide)]
    refine (read_row_cons _ _ 1 _ _ _ 3 b).trans ?_
    rw [if_neg (by decide)]
    refine (read_row_cons _ _ 2 _ _ _ 3 b).trans ?_
    rw [if_neg (by decide)]
    exact zero_read ..
  rw [if_neg e3, cont, if_neg e3]
  refine (read_row_cons _ _ 4 _ _ _ k b).trans ?_
  by_cases e4 : k.val = 4
  · rw [if_pos e4, if_pos e4]
    refine (pay_row4 ..).trans ((congrArg (· + _) ?_).trans (zero_add _))
    refine (readAt_row a9.view _ (4 : Fin 8) _ b).trans ((read_row_cons _ _ 0 _ _ _ 4 b).trans ?_)
    rw [if_neg (by decide)]
    refine (read_row_cons _ _ 1 _ _ _ 4 b).trans ?_
    rw [if_neg (by decide)]
    refine (read_row_cons _ _ 2 _ _ _ 4 b).trans ?_
    rw [if_neg (by decide)]
    exact zero_read ..
  rw [if_neg e4, if_neg e4]
  refine (read_row_cons _ _ 0 _ _ _ k b).trans ?_
  by_cases e0 : k.val = 0
  · rw [if_pos e0, if_pos e0]
    refine (pay_row0 ..).trans ((congrArg (· + _) ?_).trans (zero_add _))
    refine (readAt_row a9.view _ (0 : Fin 8) _ b).trans ((read_row_cons _ _ 1 _ _ _ 0 b).trans ?_)
    rw [if_neg (by decide)]
    refine (read_row_cons _ _ 2 _ _ _ 0 b).trans ?_
    rw [if_neg (by decide)]
    exact zero_read ..
  rw [if_neg e0, if_neg e0]
  refine (read_row_cons _ _ 1 _ _ _ k b).trans ?_
  by_cases e1 : k.val = 1
  · rw [if_pos e1, if_pos e1]
    refine (pay_row1 ..).trans ((congrArg (· + _) ?_).trans (zero_add _))
    refine (readAt_row a9.view _ (1 : Fin 8) _ b).trans ((read_row_cons _ _ 2 _ _ _ 1 b).trans ?_)
    rw [if_neg (by decide)]
    exact zero_read ..
  rw [if_neg e1, if_neg e1]
  refine (read_row_cons _ _ 2 _ _ _ k b).trans ?_
  by_cases e2 : k.val = 2
  · rw [if_pos e2, if_pos e2]
    refine (pay_row2 ..).trans ((congrArg (· + _) ?_).trans (zero_add _))
    exact (readAt_row a9.view _ (2 : Fin 8) _ b).trans (zero_read ..)
  rw [if_neg e2, if_neg e2]
  exact zero_read ..

theorem outB8 (hc : ¬ cond1_0 i) (k : Fin 8) (b : Fin 1024) : out1_B_8 c i a1 h1 a2 h2 a3 h3 a4 h4 a5 h5 a6 h6 a7 h7 a8 h8 a9 h9 hc d dh x f v u xo (ix2 k b) = (xo (ix2 k b) + cont d dh x f v u k b : EReal) := by
  unfold out1_B_8
  unfold kernelRun1_B
  dsimp only
  sl_unfold_words
  simp only [View.readAt_eq_ld, h1.read_unread, h2.read_unread, h3.read_unread, h4.read_unread, h5.read_unread, h6.read_unread, h9.read_unread, View.ld_unit_zero (S := S256x1024) zero2, View.ld_unit_zero (S := S1x8x1024) zero3, shapeCast_self]
  refine (read_row_cons _ _ 3 _ _ _ k b).trans ?_
  by_cases e3 : k.val = 3
  · rw [if_pos e3, cont, if_pos e3]
    obtain rfl : k = 3 := Fin.ext e3
    exact (pay_row3 ..).trans (congrArg (· + _) (ld_row _ (3 : Fin 8) _ b))
  rw [if_neg e3, cont, if_neg e3]
  refine (read_row_cons _ _ 4 _ _ _ k b).trans ?_
  by_cases e4 : k.val = 4
  · rw [if_pos e4, if_pos e4]
    obtain rfl : k = 4 := Fin.ext e4
    exact (pay_row4 ..).trans (congrArg (· + _) (ld_row _ (4 : Fin 8) _ b))
  rw [if_neg e4, if_neg e4]
  refine (read_row_cons _ _ 0 _ _ _ k b).trans ?_
  by_cases e0 : k.val = 0
  · rw [if_pos e0, if_pos e0]
    obtain rfl : k = 0 := Fin.ext e0
    exact (pay_row0 ..).trans (congrArg (· + _) (ld_row _ (0 : Fin 8) _ b))
  rw [if_neg e0, if_neg e0]
  refine (read_row_cons _ _ 1 _ _ _ k b).trans ?_
  by_cases e1 : k.val = 1
  · rw [if_pos e1, if_pos e1]
    obtain rfl : k = 1 := Fin.ext e1
    exact (pay_row1 ..).trans (congrArg (· + _) (ld_row _ (1 : Fin 8) _ b))
  rw [if_neg e1, if_neg e1]
  refine (read_row_cons _ _ 2 _ _ _ k b).trans ?_
  by_cases e2 : k.val = 2
  · rw [if_pos e2, if_pos e2]
    obtain rfl : k = 2 := Fin.ext e2
    exact (pay_row2 ..).trans (congrArg (· + _) (ld_row _ (2 : Fin 8) _ b))
  rw [if_neg e2, if_neg e2]
  rw [View.writes_nil, h9.read_unread]
  exact (add_zero _).symm
end

end Cert.PrePostIdeal.Value

end
-- ==== Proof.PrePostValue.lean ====
/- One residual, the norm before the next sublayer and their gradient: what the five arrays that the two kernels leave hold, and
   that they are the reference's: the residual and the modulated norm by row blocks of 512, the gradients of the residual and of
   the sublayer's output by row blocks of 256, and the five accumulated rows after the last block. -/
module

public import proofs.«01_k».proof.Proof.PrePostBody
public import proofs.«01_k».proof.Proof.Reals
public import proofs.«01_k».proof.Proof.Gen.PrePostRefIdeal.Read
public import proofs.«01_k».proof.Proof.Gen.Pre_finite_pre_post
public import Idealize.ShloMosaic.Lib.Pointwise.Sums

@[expose] public section

set_option maxRecDepth 16384

noncomputable section

namespace Cert.PrePostIdeal.Value

open Cert.PrePostIdeal Cert.PrePostIdeal.Gen Idealize.ShloMosaic Idealize.ShloMosaic.TcCoe Idealize.SL.Sem Cert.Util Pipeline

variable (m : (ℓ : Loc nD τ sig) → Buf (Elt Ideal) ℓ) (ρ : Dev nD → PrngReg)

/-- Each window's block index at a grid point, in the forward and in the backward call. -/
theorem idx0 : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0 ∧ win0_2.index t 2 = 0) ∧ (win0_3.index t 0 = 1 ∧ win0_3.index t 1 = 0 ∧ win0_3.index t 2 = 0)
    ∧ (win0_4.index t 0 = t.val ∧ win0_4.index t 1 = 0) ∧ (win0_5.index t 0 = t.val ∧ win0_5.index t 1 = 0) := by
  decide +kernel
theorem idx1 : ∀ t : Fin cfg1.N, (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = 1 ∧ win1_4.index t 1 = 0 ∧ win1_4.index t 2 = 0) ∧ (win1_5.index t 0 = 0 ∧ win1_5.index t 1 = 0 ∧ win1_5.index t 2 = 0)
    ∧ (win1_6.index t 0 = t.val ∧ win1_6.index t 1 = 0) ∧ (win1_7.index t 0 = t.val ∧ win1_7.index t 1 = 0)
    ∧ (win1_8.index t 0 = 0 ∧ win1_8.index t 1 = 0) := by
  decide +kernel

/-- Row `a` of block `t` in each call. -/
abbrev row0 (t : Fin cfg0.N) (a : Fin 512) : Fin 2048 := rowOf (T := 4) 512 rfl t a
abbrev row1 (t : Fin cfg1.N) (a : Fin 256) : Fin 2048 := rowOf (T := 8) 256 rfl t a

/-- The arguments' arrays. -/
abbrev xpA (c : Dev nD) : FVec Ideal S2048x1024 .f32 := m ((c : Thread nD τ).loc main_arg0)
abbrev fA (c : Dev nD) : FVec Ideal S2048x1024 .f32 := m ((c : Thread nD τ).loc main_arg1)
abbrev doA (c : Dev nD) : FVec Ideal S2048x1024 .f32 := m ((c : Thread nD τ).loc main_arg2)
abbrev dhA (c : Dev nD) : FVec Ideal S2048x1024 .f32 := m ((c : Thread nD τ).loc main_arg3)
abbrev preA (c : Dev nD) : FVec Ideal S2x3x1024 .f32 := m ((c : Thread nD τ).loc main_arg4)
abbrev postA (c : Dev nD) : FVec Ideal S2x3x1024 .f32 := m ((c : Thread nD τ).loc main_arg5)
abbrev modA (c : Dev nD) : FVec Ideal S6x3x1024 .f32 := m ((c : Thread nD τ).loc main_arg6)

theorem vecs_post (c : Dev nD) (b : Fin 1024) : (V1 m ρ c main_v17 : FVec Ideal S6x8x1024 .f32) (ix3 0 3 b) = postA m c (ix3 0 0 b) := by
  show StableHlo.after hostOps0 (fun b => m (c, b)) main_v17 _ = _
  after_results_simp
  dsimp only [Matrix.cons_val]
  pointwise []
  after_results_simp
  pointwise []
theorem vecs_gate (c : Dev nD) (b : Fin 1024) : (V1 m ρ c main_v17 : FVec Ideal S6x8x1024 .f32) (ix3 0 4 b) = modA m c (ix3 0 2 b) := by
  show StableHlo.after hostOps0 (fun b => m (c, b)) main_v17 _ = _
  after_results_simp
  dsimp only [Matrix.cons_val]
  pointwise []
  after_results_simp
  pointwise []
theorem vecs_pre (c : Dev nD) (b : Fin 1024) : (V1 m ρ c main_v17 : FVec Ideal S6x8x1024 .f32) (ix3 1 0 b) = preA m c (ix3 0 1 b) := by
  show StableHlo.after hostOps0 (fun b => m (c, b)) main_v17 _ = _
  after_results_simp
  dsimp only [Matrix.cons_val]
  pointwise []
  after_results_simp
  pointwise []
theorem vecs_scale (c : Dev nD) (b : Fin 1024) : (V1 m ρ c main_v17 : FVec Ideal S6x8x1024 .f32) (ix3 1 1 b) = modA m c (ix3 1 1 b) := by
  show StableHlo.after hostOps0 (fun b => m (c, b)) main_v17 _ = _
  after_results_simp
  dsimp only [Matrix.cons_val]
  pointwise []
  after_results_simp
  pointwise []
theorem vecs_shift (c : Dev nD) (b : Fin 1024) : (V1 m ρ c main_v17 : FVec Ideal S6x8x1024 .f32) (ix3 1 2 b) = modA m c (ix3 1 0 b) := by
  show StableHlo.after hostOps0 (fun b => m (c, b)) main_v17 _ = _
  after_results_simp
  dsimp only [Matrix.cons_val]
  pointwise []
  after_results_simp
  pointwise []

/-- Neither the arguments nor the packed rows are changed by the first call. -/
theorem v2_arg (c : Dev nD) (a : Ref sig .tc) (h : a ∈ argRefs) : V2 m ρ c a = m ((c : Thread nD τ).loc a) := W2_args m ρ c a h
theorem v1_arg (c : Dev nD) (a : Ref sig .tc) (h : a ∈ argRefs) : V1 m ρ c a = m ((c : Thread nD τ).loc a) := W1_args m ρ c a h
theorem v2_vecs (c : Dev nD) : V2 m ρ c main_v17 = V1 m ρ c main_v17 := W2_of m ρ c main_v17 (by decide)

theorem blk0_0 (c : Dev nD) (t : Fin cfg0.N) (a : Fin 512) (b : Fin 1024) : iblk0 (V1 m ρ) c 0 t (ix2 a b) = xpA m c (ix2 (row0 t a) b) := by
  show V1 m ρ c main_arg0 ((win0_0.rect t).emb (ix2 a b)) = _
  rw [v1_arg m ρ c main_arg0 (by decide)]
  congr 1
  apply idx2_ext
  · rw [win0_0.rect_emb_val, (idx0 t).1.1]; rfl
  · rw [win0_0.rect_emb_val, (idx0 t).1.2]; exact Nat.zero_add _
theorem blk0_1 (c : Dev nD) (t : Fin cfg0.N) (a : Fin 512) (b : Fin 1024) : iblk0 (V1 m ρ) c 1 t (ix2 a b) = fA m c (ix2 (row0 t a) b) := by
  show V1 m ρ c main_arg1 ((win0_1.rect t).emb (ix2 a b)) = _
  rw [v1_arg m ρ c main_arg1 (by decide)]
  congr 1
  apply idx2_ext
  · rw [win0_1.rect_emb_val, (idx0 t).2.1.1]; rfl
  · rw [win0_1.rect_emb_val, (idx0 t).2.1.2]; exact Nat.zero_add _
theorem blk1_0 (c : Dev nD) (t : Fin cfg1.N) (a : Fin 256) (b : Fin 1024) : iblk1 (V2 m ρ) c 0 t (ix2 a b) = doA m c (ix2 (row1 t a) b) := by
  show V2 m ρ c main_arg2 ((win1_0.rect t).emb (ix2 a b)) = _
  rw [v2_arg m ρ c main_arg2 (by decide)]
  congr 1
  apply idx2_ext
  · rw [win1_0.rect_emb_val, (idx1 t).1.1]; rfl
  · rw [win1_0.rect_emb_val, (idx1 t).1.2]; exact Nat.zero_add _
theorem blk1_1 (c : Dev nD) (t : Fin cfg1.N) (a : Fin 256) (b : Fin 1024) : iblk1 (V2 m ρ) c 1 t (ix2 a b) = dhA m c (ix2 (row1 t a) b) := by
  show V2 m ρ c main_arg3 ((win1_1.rect t).emb (ix2 a b)) = _
  rw [v2_arg m ρ c main_arg3 (by decide)]
  congr 1
  apply idx2_ext
  · rw [win1_1.rect_emb_val, (idx1 t).2.1.1]; rfl
  · rw [win1_1.rect_emb_val, (idx1 t).2.1.2]; exact Nat.zero_add _
theorem blk1_3 (c : Dev nD) (t : Fin cfg1.N) (a : Fin 256) (b : Fin 1024) : iblk1 (V2 m ρ) c 3 t (ix2 a b) = fA m c (ix2 (row1 t a) b) := by
  show V2 m ρ c main_arg1 ((win1_3.rect t).emb (ix2 a b)) = _
  rw [v2_arg m ρ c main_arg1 (by decide)]
  congr 1
  apply idx2_ext
  · rw [win1_3.rect_emb_val, (idx1 t).2.2.2.1.1]; rfl
  · rw [win1_3.rect_emb_val, (idx1 t).2.2.2.1.2]; exact Nat.zero_add _
theorem emb0_2 (t : Fin cfg0.N) (k : Fin 8) (b : Fin 1024) : (win0_2.rect t).emb (ix3 0 k b) = ix3 0 k b := by
  apply idx3_ext
  · rw [win0_2.rect_emb_val, (idx0 t).2.2.1.1]; rfl
  · rw [win0_2.rect_emb_val, (idx0 t).2.2.1.2.1]; exact Nat.zero_add _
  · rw [win0_2.rect_emb_val, (idx0 t).2.2.1.2.2]; exact Nat.zero_add _
theorem emb0_3 (t : Fin cfg0.N) (k : Fin 8) (b : Fin 1024) : (win0_3.rect t).emb (ix3 0 k b) = ix3 1 k b := by
  apply idx3_ext
  · rw [win0_3.rect_emb_val, (idx0 t).2.2.2.1.1]; rfl
  · rw [win0_3.rect_emb_val, (idx0 t).2.2.2.1.2.1]; exact Nat.zero_add _
  · rw [win0_3.rect_emb_val, (idx0 t).2.2.2.1.2.2]; exact Nat.zero_add _
theorem emb1_4 (t : Fin cfg1.N) (k : Fin 8) (b : Fin 1024) : (win1_4.rect t).emb (ix3 0 k b) = ix3 1 k b := by
  apply idx3_ext
  · rw [win1_4.rect_emb_val, (idx1 t).2.2.2.2.1.1]; rfl
  · rw [win1_4.rect_emb_val, (idx1 t).2.2.2.2.1.2.1]; exact Nat.zero_add _
  · rw [win1_4.rect_emb_val, (idx1 t).2.2.2.2.1.2.2]; exact Nat.zero_add _
theorem emb1_5 (t : Fin cfg1.N) (k : Fin 8) (b : Fin 1024) : (win1_5.rect t).emb (ix3 0 k b) = ix3 0 k b := by
  apply idx3_ext
  · rw [win1_5.rect_emb_val, (idx1 t).2.2.2.2.2.1.1]; rfl
  · rw [win1_5.rect_emb_val, (idx1 t).2.2.2.2.2.1.2.1]; exact Nat.zero_add _
  · rw [win1_5.rect_emb_val, (idx1 t).2.2.2.2.2.1.2.2]; exact Nat.zero_add _
theorem blk0_post (c : Dev nD) (t : Fin cfg0.N) (b : Fin 1024) : iblk0 (V1 m ρ) c 2 t (ix3 0 3 b) = postA m c (ix3 0 0 b) :=
  (congrArg (V1 m ρ c main_v17) (emb0_2 t 3 b)).trans (vecs_post m ρ c b)
theorem blk1_post (c : Dev nD) (t : Fin cfg1.N) (b : Fin 1024) : iblk1 (V2 m ρ) c 5 t (ix3 0 3 b) = postA m c (ix3 0 0 b) :=
  (congrArg (V2 m ρ c main_v17) (emb1_5 t 3 b)).trans ((congrFun (v2_vecs m ρ c) _).trans (vecs_post m ρ c b))
theorem blk0_gate (c : Dev nD) (t : Fin cfg0.N) (b : Fin 1024) : iblk0 (V1 m ρ) c 2 t (ix3 0 4 b) = modA m c (ix3 0 2 b) :=
  (congrArg (V1 m ρ c main_v17) (emb0_2 t 4 b)).trans (vecs_gate m ρ c b)
theorem blk1_gate (c : Dev nD) (t : Fin cfg1.N) (b : Fin 1024) : iblk1 (V2 m ρ) c 5 t (ix3 0 4 b) = modA m c (ix3 0 2 b) :=
  (congrArg (V2 m ρ c main_v17) (emb1_5 t 4 b)).trans ((congrFun (v2_vecs m ρ c) _).trans (vecs_gate m ρ c b))
theorem blk0_pre (c : Dev nD) (t : Fin cfg0.N) (b : Fin 1024) : iblk0 (V1 m ρ) c 3 t (ix3 0 0 b) = preA m c (ix3 0 1 b) :=
  (congrArg (V1 m ρ c main_v17) (emb0_3 t 0 b)).trans (vecs_pre m ρ c b)
theorem blk1_pre (c : Dev nD) (t : Fin cfg1.N) (b : Fin 1024) : iblk1 (V2 m ρ) c 4 t (ix3 0 0 b) = preA m c (ix3 0 1 b) :=
  (congrArg (V2 m ρ c main_v17) (emb1_4 t 0 b)).trans ((congrFun (v2_vecs m ρ c) _).trans (vecs_pre m ρ c b))
theorem blk0_scale (c : Dev nD) (t : Fin cfg0.N) (b : Fin 1024) : iblk0 (V1 m ρ) c 3 t (ix3 0 1 b) = modA m c (ix3 1 1 b) :=
  (congrArg (V1 m ρ c main_v17) (emb0_3 t 1 b)).trans (vecs_scale m ρ c b)
theorem blk1_scale (c : Dev nD) (t : Fin cfg1.N) (b : Fin 1024) : iblk1 (V2 m ρ) c 4 t (ix3 0 1 b) = modA m c (ix3 1 1 b) :=
  (congrArg (V2 m ρ c main_v17) (emb1_4 t 1 b)).trans ((congrFun (v2_vecs m ρ c) _).trans (vecs_scale m ρ c b))
theorem blk0_shift (c : Dev nD) (t : Fin cfg0.N) (b : Fin 1024) : iblk0 (V1 m ρ) c 3 t (ix3 0 2 b) = modA m c (ix3 1 0 b) :=
  (congrArg (V1 m ρ c main_v17) (emb0_3 t 2 b)).trans (vecs_shift m ρ c b)

section
variable (xp f d dh : FVec Ideal S2048x1024 .f32) (pre post : FVec Ideal S2x3x1024 .f32) (md : FVec Ideal S6x3x1024 .f32)

/-- The reference's residual, and the two cotangents of its norms, by rows. -/
abbrev xR (r : Fin 2048) : Fin 1024 → EReal :=
  resid (fun b => xp (ix2 r b)) (fun b => f (ix2 r b)) (fun b => post (ix3 0 0 b)) (fun b => md (ix3 0 2 b))
abbrev cotX (r : Fin 2048) (b : Fin 1024) : EReal := dh (ix2 r b) * (1 + md (ix3 1 1 b)) * pre (ix3 0 1 b)
/-- The gradient of the residual, as the kernel groups it. -/
abbrev dxH (r : Fin 2048) (b : Fin 1024) : EReal := d (ix2 r b) + normHand (xR xp f post md r) (cotX dh pre md r) b
/-- The gradient of the residual, as the reference groups it. -/
abbrev dxV (r : Fin 2048) (b : Fin 1024) : EReal :=
  d (ix2 r b) + cotX dh pre md r b * rstd (xR xp f post md r) + xR xp f post md r b * normVar (xR xp f post md r) (cotX dh pre md r)
    + normVar (xR xp f post md r) (cotX dh pre md r) * xR xp f post md r b

open Cert.PrePostRefIdeal.Read
theorem ref_fn (r : Fin 2048) (b : Fin 1024) : val_main_v24 (F := Ideal) f (ix2 r b) = (f (ix2 r b) * rstd (fun b => f (ix2 r b)) : EReal) := by
  pointwise [val_main_v24, val_main_v23, val_main_v19, val_main_v18, val_main_v16, val_main_v14, val_main_v13, val_main_v12, val_main_cst_0, val_main_v15, val_main_cst_1, val_main_v17, val_main_cst_2, rstd, msq]
theorem ref_x (r : Fin 2048) (b : Fin 1024) : val_main_v31 (F := Ideal) xp f post md (ix2 r b) = xR xp f post md r b := by
  pointwise [val_main_v31, val_main_v30, val_main_v29, val_main_v28, val_main_v11, val_main_v10, val_main_cst, val_main_v3, val_main_v2, val_main_v27, val_main_v26, val_main_v25, val_main_v1, val_main_v0, ref_fn, resid]
theorem ref_xn (r : Fin 2048) (b : Fin 1024) : val_main_v44 (F := Ideal) xp f post md (ix2 r b) = (xR xp f post md r b * rstd (xR xp f post md r) : EReal) := by
  pointwise [val_main_v44, val_main_v43, val_main_v39, val_main_v38, val_main_v36, val_main_v34, val_main_v33, val_main_v32, val_main_cst_4, val_main_v35, val_main_cst_5, val_main_v37, val_main_cst_6, ref_x, rstd, msq]
theorem ref_h (r : Fin 2048) (b : Fin 1024) : val_main_v117 (F := Ideal) xp f pre post md (ix2 r b)
    = modNorm (xR xp f post md r) (fun b => pre (ix3 0 1 b)) (fun b => md (ix3 1 1 b)) (fun b => md (ix3 1 0 b)) b := by
  pointwise [val_main_v117, val_main_v55, val_main_v52, val_main_v47, val_main_v46, val_main_v45, val_main_v5, val_main_v4, val_main_v51, val_main_v50, val_main_v49, val_main_v48, val_main_cst_8, val_main_v9, val_main_v8, val_main_v54, val_main_v53, val_main_v7, val_main_v6, ref_xn, modNorm]
theorem ref_dx (r : Fin 2048) (b : Fin 1024) : val_main_v86 (F := Ideal) xp f d dh pre post md (ix2 r b) = dxV xp f d dh pre post md r b := by
  pointwise [val_main_v86, val_main_v84, val_main_v77, val_main_v76, val_main_v70, val_main_v64, val_main_v56, val_main_v63, val_main_v50, val_main_v49, val_main_v48, val_main_cst_8, val_main_v9, val_main_v8, val_main_v69, val_main_v45, val_main_v5, val_main_v4, val_main_v75, val_main_v39, val_main_v38, val_main_v36, val_main_v34, val_main_v33, val_main_v32, val_main_cst_4, val_main_v35, val_main_cst_5, val_main_v37, val_main_cst_6, val_main_v83, val_main_v82, val_main_v81, val_main_v80, val_main_v78, val_main_v74, val_main_v73, val_main_v72, val_main_cst_15, val_main_v42, val_main_v41, val_main_cst_7, val_main_v40, val_main_v79, val_main_cst_16, val_main_cst_17, val_main_v85, ref_x, ref_xn, dxV, cotX, normVar, Fin.sum_univ_one, rstd, msq]
/-- The cotangent of the sublayer's normalised output. -/
abbrev cotF (dx : Fin 1024 → EReal) (r : Fin 2048) (b : Fin 1024) : EReal := half * md (ix3 0 2 b) * dx b * post (ix3 0 0 b)
theorem ref_cotF (r : Fin 2048) (b : Fin 1024) : val_main_v98 (F := Ideal) xp f d dh pre post md (ix2 r b) = cotF post md (dxV xp f d dh pre post md r) r b := by
  pointwise [val_main_v98, val_main_v89, val_main_v88, val_main_v28, val_main_v11, val_main_v10, val_main_cst, val_main_v3, val_main_v2, val_main_v87, val_main_v97, val_main_v25, val_main_v1, val_main_v0, ref_dx]
theorem ref_df (r : Fin 2048) (b : Fin 1024) : val_main_v118 (F := Ideal) xp f d dh pre post md (ix2 r b)
    = cotF post md (dxV xp f d dh pre post md r) r b * rstd (fun b => f (ix2 r b)) + f (ix2 r b) * normVar (fun b => f (ix2 r b)) (cotF post md (dxV xp f d dh pre post md r) r)
      + normVar (fun b => f (ix2 r b)) (cotF post md (dxV xp f d dh pre post md r) r) * f (ix2 r b) := by
  pointwise [val_main_v118, val_main_v113, val_main_v111, val_main_v104, val_main_v103, val_main_v19, val_main_v18, val_main_v16, val_main_v14, val_main_v13, val_main_v12, val_main_cst_0, val_main_v15, val_main_cst_1, val_main_v17, val_main_cst_2, val_main_v110, val_main_v109, val_main_v108, val_main_v107, val_main_v105, val_main_v102, val_main_v101, val_main_v100, val_main_cst_22, val_main_v22, val_main_v21, val_main_cst_3, val_main_v20, val_main_v106, val_main_cst_23, val_main_cst_24, val_main_v112, ref_cotF, ref_fn, normVar, Fin.sum_univ_one, rstd, msq]
attribute [local pointwise] val_main_v127 val_main_v119 val_main_v71 val_main_v68 val_main_v67 val_main_v66 val_main_v64 val_main_v56 val_main_v63 val_main_v50 val_main_v49 val_main_v48 val_main_cst_8 val_main_v9 val_main_v8 val_main_cst_13 val_main_cst_14 val_main_v120 val_main_v65 val_main_v62 val_main_v61 val_main_v60 val_main_v47 val_main_v46 val_main_v45 val_main_v5 val_main_v4 val_main_cst_11 val_main_cst_12 val_main_v121 val_main_v59 val_main_v58 val_main_v57 val_main_cst_9 val_main_cst_10 val_main_v122 val_main_v99 val_main_v96 val_main_v95 val_main_v94 val_main_v89 val_main_v88 val_main_v28 val_main_v11 val_main_v10 val_main_cst val_main_v3 val_main_v2 val_main_v87 val_main_cst_20 val_main_cst_21 val_main_v123 val_main_v115 val_main_v114 val_main_cst_25 val_main_v93 val_main_v92 val_main_v91 val_main_v90 val_main_v27 val_main_v26 val_main_v25 val_main_v1 val_main_v0 val_main_cst_18 val_main_cst_19 val_main_v124 val_main_v116 val_main_cst_26 val_main_v125 val_main_v126
theorem ref_row0 (b : Fin 1024) : val_main_v127 (F := Ideal) xp f d dh pre post md (ix2 0 b)
    = ∑ r : Fin 2048, (xR xp f post md r b * rstd (xR xp f post md r) * (dh (ix2 r b) * (1 + md (ix3 1 1 b))) : EReal) := by
  pointwise [ref_dx, ref_x, ref_xn, ref_fn, Fin.sum_univ_one, half]
theorem ref_row1 (b : Fin 1024) : val_main_v127 (F := Ideal) xp f d dh pre post md (ix2 1 b)
    = ∑ r : Fin 2048, (xR xp f post md r b * rstd (xR xp f post md r) * pre (ix3 0 1 b) * dh (ix2 r b) : EReal) := by
  pointwise [ref_dx, ref_x, ref_xn, ref_fn, Fin.sum_univ_one, half]
theorem ref_row2 (b : Fin 1024) : val_main_v127 (F := Ideal) xp f d dh pre post md (ix2 2 b)
    = ∑ r : Fin 2048, (dh (ix2 r b) : EReal) := by
  pointwise [ref_dx, ref_x, ref_xn, ref_fn, Fin.sum_univ_one, half]
theorem ref_row3 (b : Fin 1024) : val_main_v127 (F := Ideal) xp f d dh pre post md (ix2 3 b)
    = ∑ r : Fin 2048, (f (ix2 r b) * rstd (fun b => f (ix2 r b)) * (half * md (ix3 0 2 b) * dxV xp f d dh pre post md r b) : EReal) := by
  pointwise [ref_dx, ref_x, ref_xn, ref_fn, Fin.sum_univ_one, half]
theorem ref_row4 (b : Fin 1024) : val_main_v127 (F := Ideal) xp f d dh pre post md (ix2 4 b)
    = (half * ∑ r : Fin 2048, dxV xp f d dh pre post md r b * (f (ix2 r b) * rstd (fun b => f (ix2 r b)) * post (ix3 0 0 b)) : EReal) := by
  pointwise [ref_dx, ref_x, ref_xn, ref_fn, Fin.sum_univ_one, half]
theorem ref_rows (k : Fin 8) (hk : 5 ≤ k.val) (b : Fin 1024) : val_main_v127 (F := Ideal) xp f d dh pre post md (ix2 k b) = (0 : EReal) := by
  fin_cases k
  iterate 5 exact absurd hk (by decide)
  all_goals pointwise [ref_dx, ref_x, ref_xn, ref_fn, Fin.sum_univ_one]
end

section
variable (c : Dev nD)

theorem outs0 (t : Fin cfg0.N) : outsAt0 (V1 m ρ) c t
    = (k0_pay2 (iblk0 (V1 m ρ) c 0 t) (iblk0 (V1 m ρ) c 1 t) (iblk0 (V1 m ρ) c 2 t),
       k0_pay1 (k0_pay3 (iblk0 (V1 m ρ) c 3 t)) (k0_pay4 (iblk0 (V1 m ρ) c 0 t) (iblk0 (V1 m ρ) c 1 t) (iblk0 (V1 m ρ) c 2 t) (iblk0 (V1 m ρ) c 3 t))) := by
  unfold outsAt0
  rw [outX, outH]

theorem xB_row (t : Fin cfg0.N) (a : Fin 512) :
    xB (iblk0 (V1 m ρ) c 0 t) (iblk0 (V1 m ρ) c 1 t) (iblk0 (V1 m ρ) c 2 t) a = xR (xpA m c) (fA m c) (postA m c) (modA m c) (row0 t a) := by
  funext b
  simp only [xB, blk0_0, blk0_1, blk0_post, blk0_gate]

/-- The five results, as the reference computes them. -/
abbrev xRes : FVec Ideal S2048x1024 .f32 := Cert.PrePostRefIdeal.Read.val_main_v31 (F := Ideal) (xpA m c) (fA m c) (postA m c) (modA m c)
abbrev hRes : FVec Ideal S2048x1024 .bf16 := Cert.PrePostRefIdeal.Read.val_main_v117 (F := Ideal) (xpA m c) (fA m c) (preA m c) (postA m c) (modA m c)
abbrev dxRes : FVec Ideal S2048x1024 .f32 :=
  Cert.PrePostRefIdeal.Read.val_main_v86 (F := Ideal) (xpA m c) (fA m c) (doA m c) (dhA m c) (preA m c) (postA m c) (modA m c)
abbrev dfRes : FVec Ideal S2048x1024 .bf16 :=
  Cert.PrePostRefIdeal.Read.val_main_v118 (F := Ideal) (xpA m c) (fA m c) (doA m c) (dhA m c) (preA m c) (postA m c) (modA m c)
abbrev dvRes : FVec Ideal S8x1024 .f32 :=
  Cert.PrePostRefIdeal.Read.val_main_v127 (F := Ideal) (xpA m c) (fA m c) (doA m c) (dhA m c) (preA m c) (postA m c) (modA m c)

theorem x_blk (t : Fin cfg0.N) (a : Fin 512) (b : Fin 1024) : (outsAt0 (V1 m ρ) c t).1 (ix2 a b) = xRes m c (ix2 (row0 t a) b) := by
  rw [outs0]
  refine (pay_x ..).trans ((congrFun (xB_row m ρ c t a) b).trans ?_)
  exact (ref_x (xpA m c) (fA m c) (postA m c) (modA m c) (row0 t a) b).symm

theorem h_blk (t : Fin cfg0.N) (a : Fin 512) (b : Fin 1024) : (outsAt0 (V1 m ρ) c t).2 (ix2 a b) = hRes m c (ix2 (row0 t a) b) := by
  rw [outs0]
  refine (pay_h ..).trans (Eq.trans ?_ (ref_h (xpA m c) (fA m c) (preA m c) (postA m c) (modA m c) (row0 t a) b).symm)
  simp only [xB_row, blk0_pre, blk0_scale, blk0_shift]

theorem flushed0_4 (t : Fin cfg0.N) :
    (dat0 (V1 m ρ) c).flushed 4 t = (cfg0.win 4).cut (grid0.coords t) (outsAt0 (V1 m ρ) c t).1 := by
  show (cfg0.win 4).cut (grid0.coords t) ((dat0 (V1 m ρ) c).after 4 t) = _
  rw [after0_4]
theorem flushed0_5 (t : Fin cfg0.N) :
    (dat0 (V1 m ρ) c).flushed 5 t = (cfg0.win 5).cut (grid0.coords t) (outsAt0 (V1 m ρ) c t).2 := by
  show (cfg0.win 5).cut (grid0.coords t) ((dat0 (V1 m ρ) c).after 5 t) = _
  rw [after0_5]
theorem flushed1_6 (t : Fin cfg1.N) :
    (dat1 (V2 m ρ) c).flushed 6 t = (cfg1.win 6).cut (grid1.coords t) (outsAt1 (V2 m ρ) c t.val t.isLt).1 := by
  show (cfg1.win 6).cut (grid1.coords t) ((dat1 (V2 m ρ) c).after 6 t) = _
  rw [after1_6]
theorem flushed1_7 (t : Fin cfg1.N) :
    (dat1 (V2 m ρ) c).flushed 7 t = (cfg1.win 7).cut (grid1.coords t) (outsAt1 (V2 m ρ) c t.val t.isLt).2.1 := by
  show (cfg1.win 7).cut (grid1.coords t) ((dat1 (V2 m ρ) c).after 7 t) = _
  rw [after1_7]
theorem flushed1_8 (t : Fin cfg1.N) :
    (dat1 (V2 m ρ) c).flushed 8 t = (cfg1.win 8).cut (grid1.coords t) (outsAt1 (V2 m ρ) c t.val t.isLt).2.2 := by
  show (cfg1.win 8).cut (grid1.coords t) ((dat1 (V2 m ρ) c).after 8 t) = _
  rw [after1_8]
theorem mem_out0_4 (t : Fin cfg0.N) (i : S2048x1024.Idx) : i ∈ ((cfg0.win 4).blk t).view.set ↔
    ∀ a : Fin 2, win0_4.index t a * win0_4.size a ≤ (i a).val ∧ (i a).val < win0_4.index t a * win0_4.size a + win0_4.size a := by
  show i ∈ ((View.whole main_v19_0).slice (win0_4.rect t)).set ↔ _
  rw [View.set_slice_whole, Rect.mem_set_unit]
  rfl

theorem res0_4 : (dat0 (V1 m ρ) c).arrAt 4 cfg0.N = xRes m c := by
  refine Dat.arrAt_eq_of_cover (dat0 (V1 m ρ) c) 4 _ ?_ fun i => ?_
  · intro t _
    rw [flushed0_4]
    funext y
    show (outsAt0 (V1 m ρ) c t).1 y = xRes m c ((win0_4.rect t).emb y)
    obtain ⟨a, b, rfl⟩ : ∃ a b, y = ix2 a b := ⟨y 0, y 1, eq_ix2 y⟩
    rw [show (win0_4.rect t).emb (ix2 a b) = ix2 (row0 t a) b from ?_]
    · exact x_blk m ρ c t a b
    · apply idx2_ext
      · rw [win0_4.rect_emb_val, (idx0 t).2.2.2.2.1.1]; rfl
      · rw [win0_4.rect_emb_val, (idx0 t).2.2.2.2.1.2]; exact Nat.zero_add _
  · have hi0 : (i 0).val < 2048 := (i 0).isLt
    have hi1 : (i 1).val < 1024 := (i 1).isLt
    refine ⟨⟨(i 0).val / 512, by show _ < 4; omega⟩, flush0_4 _, (mem_out0_4 _ i).2 fun a => ?_⟩
    match a with
    | ⟨0, _⟩ =>
      show win0_4.index _ 0 * 512 ≤ (i 0).val ∧ (i 0).val < win0_4.index _ 0 * 512 + 512
      rw [(idx0 _).2.2.2.2.1.1]
      show (i 0).val / 512 * 512 ≤ (i 0).val ∧ (i 0).val < (i 0).val / 512 * 512 + 512
      omega
    | ⟨1, _⟩ =>
      show win0_4.index _ 1 * 1024 ≤ (i 1).val ∧ (i 1).val < win0_4.index _ 1 * 1024 + 1024
      rw [(idx0 _).2.2.2.2.1.2]
      omega

theorem mem_out0_5 (t : Fin cfg0.N) (i : S2048x1024.Idx) : i ∈ ((cfg0.win 5).blk t).view.set ↔
    ∀ a : Fin 2, win0_5.index t a * win0_5.size a ≤ (i a).val ∧ (i a).val < win0_5.index t a * win0_5.size a + win0_5.size a := by
  show i ∈ ((View.whole main_v19_1).slice (win0_5.rect t)).set ↔ _
  rw [View.set_slice_whole, Rect.mem_set_unit]
  rfl

theorem res0_5 : (dat0 (V1 m ρ) c).arrAt 5 cfg0.N = hRes m c := by
  refine Dat.arrAt_eq_of_cover (dat0 (V1 m ρ) c) 5 _ ?_ fun i => ?_
  · intro t _
    rw [flushed0_5]
    funext y
    show (outsAt0 (V1 m ρ) c t).2 y = hRes m c ((win0_5.rect t).emb y)
    obtain ⟨a, b, rfl⟩ : ∃ a b, y = ix2 a b := ⟨y 0, y 1, eq_ix2 y⟩
    rw [show (win0_5.rect t).emb (ix2 a b) = ix2 (row0 t a) b from ?_]
    · exact h_blk m ρ c t a b
    · apply idx2_ext
      · rw [win0_5.rect_emb_val, (idx0 t).2.2.2.2.2.1]; rfl
      · rw [win0_5.rect_emb_val, (idx0 t).2.2.2.2.2.2]; exact Nat.zero_add _
  · have hi0 : (i 0).val < 2048 := (i 0).isLt
    have hi1 : (i 1).val < 1024 := (i 1).isLt
    refine ⟨⟨(i 0).val / 512, by show _ < 4; omega⟩, flush0_5 _, (mem_out0_5 _ i).2 fun a => ?_⟩
    match a with
    | ⟨0, _⟩ =>
      show win0_5.index _ 0 * 512 ≤ (i 0).val ∧ (i 0).val < win0_5.index _ 0 * 512 + 512
      rw [(idx0 _).2.2.2.2.2.1]
      show (i 0).val / 512 * 512 ≤ (i 0).val ∧ (i 0).val < (i 0).val / 512 * 512 + 512
      omega
    | ⟨1, _⟩ =>
      show win0_5.index _ 1 * 1024 ≤ (i 1).val ∧ (i 1).val < win0_5.index _ 1 * 1024 + 1024
      rw [(idx0 _).2.2.2.2.2.2]
      omega

/-- The backward call reads the residual that the forward call left. -/
theorem v2_x : V2 m ρ c main_v19_0 = xRes m c := ((hF0 m ρ c 4).symm).trans (res0_4 m ρ c)
theorem blk1_2 (t : Fin cfg1.N) (a : Fin 256) (b : Fin 1024) :
    iblk1 (V2 m ρ) c 2 t (ix2 a b) = xR (xpA m c) (fA m c) (postA m c) (modA m c) (row1 t a) b := by
  show V2 m ρ c main_v19_0 ((win1_2.rect t).emb (ix2 a b)) = _
  rw [v2_x]
  refine (congrArg (xRes m c) ?_).trans (ref_x (xpA m c) (fA m c) (postA m c) (modA m c) (row1 t a) b)
  apply idx2_ext
  · rw [win1_2.rect_emb_val, (idx1 t).2.2.1.1]; rfl
  · rw [win1_2.rect_emb_val, (idx1 t).2.2.1.2]; exact Nat.zero_add _

/-- What the precondition says: the arguments that a norm multiplies are real numbers. -/
structure Fin8 : Prop where
  x : ∀ r b, IsR (xpA m c (ix2 r b))
  f : ∀ r b, IsR (fA m c (ix2 r b))
  d : ∀ r b, IsR (doA m c (ix2 r b))
  dh : ∀ r b, IsR (dhA m c (ix2 r b))
  post : ∀ b, IsR (postA m c (ix3 0 0 b))
  gate : ∀ b, IsR (modA m c (ix3 0 2 b))
  pre : ∀ b, IsR (preA m c (ix3 0 1 b))
  scale : ∀ b, IsR (modA m c (ix3 1 1 b))

theorem fin8 (h : Cert.Pre_finite_pre_post.fn (F := Ideal) (xpA m c) (fA m c) (doA m c) (dhA m c) (preA m c) (postA m c) (modA m c) = fun _ => 1#1) :
    Fin8 m c := by
  have hi (r : Fin 2048) (b : Fin 1024) := congrFun h (ix2 r b)
  have e (r : Fin 2048) (b : Fin 1024) :
      Cert.Pre_finite_pre_post.fn (F := Ideal) (xpA m c) (fA m c) (doA m c) (dhA m c) (preA m c) (postA m c) (modA m c) (ix2 r b)
      = ((((((below (xpA m c (ix2 r b)) &&& below (fA m c (ix2 r b))) &&& below (doA m c (ix2 r b))) &&& below (dhA m c (ix2 r b)))
        &&& below (postA m c (ix3 0 0 b))) &&& below (modA m c (ix3 0 2 b))) &&& below (preA m c (ix3 0 1 b))) &&& below (modA m c (ix3 1 1 b)) := by
    pointwise [Cert.Pre_finite_pre_post.fn, Cert.Pre_finite_pre_post.fn_part1, Cert.Pre_finite_pre_post.fn_part2, below]
    rfl
  simp only [e, and_one_iff] at hi
  exact ⟨fun r b => real_of_lt (hi r b).1.1.1.1.1.1.1, fun r b => real_of_lt (hi r b).1.1.1.1.1.1.2, fun r b => real_of_lt (hi r b).1.1.1.1.1.2,
    fun r b => real_of_lt (hi r b).1.1.1.1.2, fun b => real_of_lt (hi 0 b).1.1.1.2, fun b => real_of_lt (hi 0 b).1.1.2, fun b => real_of_lt (hi 0 b).1.2,
    fun b => real_of_lt (hi 0 b).2⟩

theorem x_real (h : Fin8 m c) (r : Fin 2048) (b : Fin 1024) : IsR (xR (xpA m c) (fA m c) (postA m c) (modA m c) r b) :=
  (h.x r b).add ((IsR.half.mul (h.gate b)).mul (((h.f r b).mul (IsR.rstd (h.f r))).mul (h.post b)))
theorem cotX_real (h : Fin8 m c) (r : Fin 2048) (b : Fin 1024) : IsR (cotX (dhA m c) (preA m c) (modA m c) r b) :=
  ((h.dh r b).mul (IsR.one.add (h.scale b))).mul (h.pre b)
/-- The two ways to write the gradient of the residual agree. -/
theorem dx_grad (h : Fin8 m c) (r : Fin 2048) (b : Fin 1024) :
    dxH (xpA m c) (fA m c) (doA m c) (dhA m c) (preA m c) (postA m c) (modA m c) r b = dxV (xpA m c) (fA m c) (doA m c) (dhA m c) (preA m c) (postA m c) (modA m c) r b := by
  rw [dxH, dxV, norm_grad (x_real m c h r) (cotX_real m c h r), ← add_assoc, ← add_assoc]
theorem dx_real (h : Fin8 m c) (r : Fin 2048) (b : Fin 1024) :
    IsR (dxV (xpA m c) (fA m c) (doA m c) (dhA m c) (preA m c) (postA m c) (modA m c) r b) := by
  rw [← dx_grad m c h r b]
  exact (h.d r b).add (IsR.normHand (x_real m c h r) (cotX_real m c h r) b)

/-- A block's gradient of the residual is the reference's rows. -/
theorem dxB_row (h : Fin8 m c) (t : Fin cfg1.N) (a : Fin 256) (b : Fin 1024) :
    dxB (iblk1 (V2 m ρ) c 0 t) (iblk1 (V2 m ρ) c 1 t) (iblk1 (V2 m ρ) c 2 t) (iblk1 (V2 m ρ) c 4 t) a b
      = dxV (xpA m c) (fA m c) (doA m c) (dhA m c) (preA m c) (postA m c) (modA m c) (row1 t a) b := by
  rw [← dx_grad m c h]
  simp only [dxB, blk1_0, blk1_1, blk1_2, blk1_scale, blk1_pre]

theorem outs1_1 (t : Fin cfg1.N) : (outsAt1 (V2 m ρ) c t.val t.isLt).1
    = dxP (iblk1 (V2 m ρ) c 0 t) (iblk1 (V2 m ρ) c 1 t) (iblk1 (V2 m ρ) c 2 t) (iblk1 (V2 m ρ) c 4 t) := by
  by_cases h : t.val % 8 = 0
  · rw [outsAt1_A (V2 m ρ) c t h]
    dsimp only
    rw [outA6]
  · rw [outsAt1_B (V2 m ρ) c t h]
    dsimp only
    rw [outB6]

theorem outs1_2 (t : Fin cfg1.N) : (outsAt1 (V2 m ρ) c t.val t.isLt).2.1
    = k1_pay20 (dxP (iblk1 (V2 m ρ) c 0 t) (iblk1 (V2 m ρ) c 1 t) (iblk1 (V2 m ρ) c 2 t) (iblk1 (V2 m ρ) c 4 t)) (iblk1 (V2 m ρ) c 3 t)
      (k1_pay12 (iblk1 (V2 m ρ) c 5 t)) (k1_pay13 (iblk1 (V2 m ρ) c 5 t)) (k1_pay14 (iblk1 (V2 m ρ) c 3 t)) := by
  by_cases h : t.val % 8 = 0
  · rw [outsAt1_A (V2 m ρ) c t h]
    dsimp only
    rw [outA7]
  · rw [outsAt1_B (V2 m ρ) c t h]
    dsimp only
    rw [outB7]

theorem dx_blk (h : Fin8 m c) (t : Fin cfg1.N) (a : Fin 256) (b : Fin 1024) :
    (outsAt1 (V2 m ρ) c t.val t.isLt).1 (ix2 a b) = dxRes m c (ix2 (row1 t a) b) := by
  rw [outs1_1]
  refine (pay_dx ..).trans ((dxB_row m ρ c h t a b).trans ?_)
  exact (ref_dx (xpA m c) (fA m c) (doA m c) (dhA m c) (preA m c) (postA m c) (modA m c) (row1 t a) b).symm

theorem df_blk (h : Fin8 m c) (t : Fin cfg1.N) (a : Fin 256) (b : Fin 1024) :
    (outsAt1 (V2 m ρ) c t.val t.isLt).2.1 (ix2 a b) = dfRes m c (ix2 (row1 t a) b) := by
  rw [outs1_2]
  refine (pay_df ..).trans (Eq.trans ?_ (ref_df (xpA m c) (fA m c) (doA m c) (dhA m c) (preA m c) (postA m c) (modA m c) (row1 t a) b).symm)
  simp only [dxB_row m ρ c h, blk1_3, blk1_post, blk1_gate]
  rw [norm_grad (h.f (row1 t a)) (fun b => ((IsR.half.mul (h.gate b)).mul (dx_real m c h (row1 t a) b)).mul (h.post b)), ← add_assoc]

/-- Block `t`'s contribution to the accumulated rows. -/
abbrev part (t : Fin cfg1.N) (k : Fin 8) (b : Fin 1024) : EReal :=
  cont (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) k b

theorem outs_zero (h : 0 < cfg1.N) (k : Fin 8) (b : Fin 1024) : (outsAt1 (V2 m ρ) c 0 h).2.2 (ix2 k b) = part m ρ c ⟨0, h⟩ k b := by
  rw [outsAt1_A (V2 m ρ) c ⟨0, h⟩ rfl]
  dsimp only
  rw [outA8]

theorem outs_succ (n : ℕ) (h : n + 1 < cfg1.N) (k : Fin 8) (b : Fin 1024) :
    (outsAt1 (V2 m ρ) c (n + 1) h).2.2 (ix2 k b) = ((outsAt1 (V2 m ρ) c n (Nat.lt_of_succ_lt h)).2.2 (ix2 k b) + part m ρ c ⟨n + 1, h⟩ k b : EReal) := by
  have hN : cfg1.N = 8 := N_1
  rw [outsAt1_B (V2 m ρ) c ⟨n + 1, h⟩ (by show ¬ (n + 1) % 8 = 0; omega)]
  dsimp only
  rw [outB8]
  rfl

theorem outs_sum (k : Fin 8) (b : Fin 1024) (n : ℕ) (h : n < cfg1.N) :
    (outsAt1 (V2 m ρ) c n h).2.2 (ix2 k b) = ∑ t : Fin (n + 1), (part m ρ c ⟨t.val, lt_of_le_of_lt (Nat.le_of_lt_succ t.isLt) h⟩ k b : EReal) :=
  acc_sum (M := EReal) (fun j hj => (outsAt1 (V2 m ρ) c j hj).2.2 (ix2 k b)) (fun j hj => part m ρ c ⟨j, hj⟩ k b)
    (fun h => outs_zero m ρ c h k b) (fun j hj => outs_succ m ρ c j hj k b) n h

/-- After the last point the accumulator holds the reference's rows. -/
theorem dv_last (hf : Fin8 m c) (h : 7 < cfg1.N) (k : Fin 8) (b : Fin 1024) : (outsAt1 (V2 m ρ) c 7 h).2.2 (ix2 k b) = dvRes m c (ix2 k b) := by
  rw [outs_sum]
  simp only [part, cont]
  by_cases e3 : k.val = 3
  · obtain rfl : k = 3 := Fin.ext e3
    refine Eq.trans ?_ (ref_row3 (xpA m c) (fA m c) (doA m c) (dhA m c) (preA m c) (postA m c) (modA m c) b).symm
    rw [Fin.sum_univ_tiles 8 256 rfl]
    refine Finset.sum_congr rfl fun t _ => ?_
    rw [if_pos e3, contPost]
    refine Finset.sum_congr rfl fun a _ => ?_
    simp only [dxB_row m ρ c hf, blk1_3, blk1_gate]
    exact mul_comm (G := EReal) _ _
  by_cases e4 : k.val = 4
  · obtain rfl : k = 4 := Fin.ext e4
    refine Eq.trans ?_ (ref_row4 (xpA m c) (fA m c) (doA m c) (dhA m c) (preA m c) (postA m c) (modA m c) b).symm
    rw [Fin.sum_univ_tiles 8 256 rfl, half_eq, mul_sum_real _ _ (by norm_num), ← half_eq]
    refine Finset.sum_congr rfl fun t _ => ?_
    rw [if_neg e3, if_pos e4, contGate]
    refine congrArg (half * ·) (Finset.sum_congr rfl fun a _ => ?_)
    simp only [dxB_row m ρ c hf, blk1_3, blk1_post]
    rfl
  by_cases e0 : k.val = 0
  · obtain rfl : k = 0 := Fin.ext e0
    refine Eq.trans ?_ (ref_row0 (xpA m c) (fA m c) (doA m c) (dhA m c) (preA m c) (postA m c) (modA m c) b).symm
    rw [Fin.sum_univ_tiles 8 256 rfl]
    refine Finset.sum_congr rfl fun t _ => ?_
    rw [if_neg e3, if_neg e4, if_pos e0, contPre]
    refine Finset.sum_congr rfl fun a _ => ?_
    simp only [blk1_1, blk1_2, blk1_scale]
    exact mul_comm (G := EReal) _ _
  by_cases e1 : k.val = 1
  · obtain rfl : k = 1 := Fin.ext e1
    refine Eq.trans ?_ (ref_row1 (xpA m c) (fA m c) (doA m c) (dhA m c) (preA m c) (postA m c) (modA m c) b).symm
    rw [Fin.sum_univ_tiles 8 256 rfl]
    refine Finset.sum_congr rfl fun t _ => ?_
    rw [if_neg e3, if_neg e4, if_neg e0, if_pos e1, contScale]
    refine Finset.sum_congr rfl fun a _ => ?_
    simp only [blk1_1, blk1_2, blk1_pre]
    exact mul_comm (G := EReal) _ _
  by_cases e2 : k.val = 2
  · obtain rfl : k = 2 := Fin.ext e2
    refine Eq.trans ?_ (ref_row2 (xpA m c) (fA m c) (doA m c) (dhA m c) (preA m c) (postA m c) (modA m c) b).symm
    rw [Fin.sum_univ_tiles 8 256 rfl]
    refine Finset.sum_congr rfl fun t _ => ?_
    rw [if_neg e3, if_neg e4, if_neg e0, if_neg e1, if_pos e2, contShift]
    refine Finset.sum_congr rfl fun a _ => ?_
    exact blk1_1 m ρ c _ a b
  refine Eq.trans ?_ (ref_rows (xpA m c) (fA m c) (doA m c) (dhA m c) (preA m c) (postA m c) (modA m c) k (by omega) b).symm
  simp only [if_neg e0, if_neg e1, if_neg e2, if_neg e3, if_neg e4]
  exact Finset.sum_const_zero

theorem mem_out1_6 (t : Fin cfg1.N) (i : S2048x1024.Idx) : i ∈ ((cfg1.win 6).blk t).view.set ↔
    ∀ a : Fin 2, win1_6.index t a * win1_6.size a ≤ (i a).val ∧ (i a).val < win1_6.index t a * win1_6.size a + win1_6.size a := by
  show i ∈ ((View.whole main_v20_0).slice (win1_6.rect t)).set ↔ _
  rw [View.set_slice_whole, Rect.mem_set_unit]
  rfl

theorem res1_6 (h : Fin8 m c) : (dat1 (V2 m ρ) c).arrAt 6 cfg1.N = dxRes m c := by
  refine Dat.arrAt_eq_of_cover (dat1 (V2 m ρ) c) 6 _ ?_ fun i => ?_
  · intro t _
    rw [flushed1_6]
    funext y
    show (outsAt1 (V2 m ρ) c t.val t.isLt).1 y = dxRes m c ((win1_6.rect t).emb y)
    obtain ⟨a, b, rfl⟩ : ∃ a b, y = ix2 a b := ⟨y 0, y 1, eq_ix2 y⟩
    rw [show (win1_6.rect t).emb (ix2 a b) = ix2 (row1 t a) b from ?_]
    · exact dx_blk m ρ c h t a b
    · apply idx2_ext
      · rw [win1_6.rect_emb_val, (idx1 t).2.2.2.2.2.2.1.1]; rfl
      · rw [win1_6.rect_emb_val, (idx1 t).2.2.2.2.2.2.1.2]; exact Nat.zero_add _
  · have hi0 : (i 0).val < 2048 := (i 0).isLt
    have hi1 : (i 1).val < 1024 := (i 1).isLt
    refine ⟨⟨(i 0).val / 256, by show _ < 8; omega⟩, flush1_6 _, (mem_out1_6 _ i).2 fun a => ?_⟩
    match a with
    | ⟨0, _⟩ =>
      show win1_6.index _ 0 * 256 ≤ (i 0).val ∧ (i 0).val < win1_6.index _ 0 * 256 + 256
      rw [(idx1 _).2.2.2.2.2.2.1.1]
      show (i 0).val / 256 * 256 ≤ (i 0).val ∧ (i 0).val < (i 0).val / 256 * 256 + 256
      omega
    | ⟨1, _⟩ =>
      show win1_6.index _ 1 * 1024 ≤ (i 1).val ∧ (i 1).val < win1_6.index _ 1 * 1024 + 1024
      rw [(idx1 _).2.2.2.2.2.2.1.2]
      omega

theorem mem_out1_7 (t : Fin cfg1.N) (i : S2048x1024.Idx) : i ∈ ((cfg1.win 7).blk t).view.set ↔
    ∀ a : Fin 2, win1_7.index t a * win1_7.size a ≤ (i a).val ∧ (i a).val < win1_7.index t a * win1_7.size a + win1_7.size a := by
  show i ∈ ((View.whole main_v20_1).slice (win1_7.rect t)).set ↔ _
  rw [View.set_slice_whole, Rect.mem_set_unit]
  rfl

theorem res1_7 (h : Fin8 m c) : (dat1 (V2 m ρ) c).arrAt 7 cfg1.N = dfRes m c := by
  refine Dat.arrAt_eq_of_cover (dat1 (V2 m ρ) c) 7 _ ?_ fun i => ?_
  · intro t _
    rw [flushed1_7]
    funext y
    show (outsAt1 (V2 m ρ) c t.val t.isLt).2.1 y = dfRes m c ((win1_7.rect t).emb y)
    obtain ⟨a, b, rfl⟩ : ∃ a b, y = ix2 a b := ⟨y 0, y 1, eq_ix2 y⟩
    rw [show (win1_7.rect t).emb (ix2 a b) = ix2 (row1 t a) b from ?_]
    · exact df_blk m ρ c h t a b
    · apply idx2_ext
      · rw [win1_7.rect_emb_val, (idx1 t).2.2.2.2.2.2.2.1.1]; rfl
      · rw [win1_7.rect_emb_val, (idx1 t).2.2.2.2.2.2.2.1.2]; exact Nat.zero_add _
  · have hi0 : (i 0).val < 2048 := (i 0).isLt
    have hi1 : (i 1).val < 1024 := (i 1).isLt
    refine ⟨⟨(i 0).val / 256, by show _ < 8; omega⟩, flush1_7 _, (mem_out1_7 _ i).2 fun a => ?_⟩
    match a with
    | ⟨0, _⟩ =>
      show win1_7.index _ 0 * 256 ≤ (i 0).val ∧ (i 0).val < win1_7.index _ 0 * 256 + 256
      rw [(idx1 _).2.2.2.2.2.2.2.1.1]
      show (i 0).val / 256 * 256 ≤ (i 0).val ∧ (i 0).val < (i 0).val / 256 * 256 + 256
      omega
    | ⟨1, _⟩ =>
      show win1_7.index _ 1 * 1024 ≤ (i 1).val ∧ (i 1).val < win1_7.index _ 1 * 1024 + 1024
      rw [(idx1 _).2.2.2.2.2.2.2.1.2]
      omega

theorem mem_out1_8 (t : Fin cfg1.N) (i : S8x1024.Idx) : i ∈ ((cfg1.win 8).blk t).view.set ↔
    ∀ a : Fin 2, win1_8.index t a * win1_8.size a ≤ (i a).val ∧ (i a).val < win1_8.index t a * win1_8.size a + win1_8.size a := by
  show i ∈ ((View.whole main_v20_2).slice (win1_8.rect t)).set ↔ _
  rw [View.set_slice_whole, Rect.mem_set_unit]
  rfl

theorem res1_8 (h : Fin8 m c) : (dat1 (V2 m ρ) c).arrAt 8 cfg1.N = dvRes m c := by
  have hN : cfg1.N = 8 := N_1
  refine Dat.arrAt_eq_of_cover (dat1 (V2 m ρ) c) 8 _ ?_ fun i => ?_
  · intro t hf
    have h7 : t.val = 7 := by have := (flush1_8 t).mp hf; have := t.isLt; omega
    obtain rfl : t = t1_7 := Fin.ext h7
    rw [flushed1_8]
    funext y
    show (outsAt1 (V2 m ρ) c 7 (lt_of_lt_of_eq (by decide) N_1.symm)).2.2 y = dvRes m c ((win1_8.rect t1_7).emb y)
    obtain ⟨a, b, rfl⟩ : ∃ a b, y = ix2 a b := ⟨y 0, y 1, eq_ix2 y⟩
    rw [dv_last m ρ c h]
    congr 1
    apply idx2_ext
    · rw [win1_8.rect_emb_val, (idx1 _).2.2.2.2.2.2.2.2.1]; exact (Nat.zero_add _).symm
    · rw [win1_8.rect_emb_val, (idx1 _).2.2.2.2.2.2.2.2.2]; exact (Nat.zero_add _).symm
  · have hi0 : (i 0).val < 8 := (i 0).isLt
    have hi1 : (i 1).val < 1024 := (i 1).isLt
    refine ⟨t1_7, (flush1_8 t1_7).mpr rfl, (mem_out1_8 _ i).2 fun a => ?_⟩
    match a with
    | ⟨0, _⟩ =>
      show win1_8.index _ 0 * 8 ≤ (i 0).val ∧ (i 0).val < win1_8.index _ 0 * 8 + 8
      rw [(idx1 _).2.2.2.2.2.2.2.2.1]
      omega
    | ⟨1, _⟩ =>
      show win1_8.index _ 1 * 1024 ≤ (i 1).val ∧ (i 1).val < win1_8.index _ 1 * 1024 + 1024
      rw [(idx1 _).2.2.2.2.2.2.2.2.2]
      omega
end

section
open Idealize.SL Idealize.SL.RA Idealize.SL.BI
open scoped Idealize.SL.BI
open Idealize.SL.BI.BIBase Idealize.SL.BI.Laws Idealize.SL.ProofMode Idealize.ShloMosaic.Rounds Idealize.ShloMosaic.Tactic

/-- Every buffer of the program ends with what the two calls leave in it. -/
theorem run_all : θ_run defs (onTc (τ := τ) (main (F := Ideal))) ⟨m, fun _ => 0, ρ⟩ fun r =>
      ∀ c : Dev nD, ∀ b ∈ Pipeline.ucRefs τ sig, r.2.mem (((c : Thread nD τ)).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)
end

theorem run_res : θ_run defs (onTc (τ := τ) (main (F := Ideal))) ⟨m, fun _ => 0, ρ⟩ fun r => ∀ c : Dev nD, Fin8 m c →
      r.2.mem ((c : Thread nD τ).loc main_v19_0) = xRes m c ∧ r.2.mem ((c : Thread nD τ).loc main_v19_1) = hRes m c ∧ r.2.mem ((c : Thread nD τ).loc main_v20_0) = dxRes m c ∧ r.2.mem ((c : Thread nD τ).loc main_v20_1) = dfRes m c ∧ r.2.mem ((c : Thread nD τ).loc main_v20_2) = dvRes m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) :=
  (θ_run defs _ _).mono (fun r h c hf =>
    ⟨(h c _ (mem_uc main_v19_0 (by decide))).trans ((W3_of m ρ c main_v19_0 (by decide)).trans (v2_x m ρ c)),
     (h c _ (mem_uc main_v19_1 (by decide))).trans ((W3_of m ρ c main_v19_1 (by decide)).trans (((hF0 m ρ c 5).symm).trans (res0_5 m ρ c))),
     (h c _ (mem_uc main_v20_0 (by decide))).trans (((hF1 m ρ c 6).symm).trans (res1_6 m ρ c hf)),
     (h c _ (mem_uc main_v20_1 (by decide))).trans (((hF1 m ρ c 7).symm).trans (res1_7 m ρ c hf)),
     (h c _ (mem_uc main_v20_2 (by decide))).trans (((hF1 m ρ c 8).symm).trans (res1_8 m ρ c hf)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩)
    (run_all m ρ)

end Cert.PrePostIdeal.Value

end
-- ==== Proof.PrePostClaims.lean ====
/- One residual, the norm before the next sublayer and their gradient: its claims. -/
module

public import proofs.«01_k».proof.Proof.PrePostValue
public import proofs.«01_k».proof.Proof.Gen.PrePost
public import proofs.«01_k».proof.Proof.Gen.PrePostRefIdeal
public import proofs.«01_k».proof.Proof.Gen.PrePostRefIdeal.Run
public import proofs.«01_k».proof.Proof.Gen.Pre_finite_pre_post
public import Idealize.ShloMosaic.Lib.Tactic

@[expose] public section

set_option maxRecDepth 16384

noncomputable section

namespace Cert.Proof.PrePost

open Idealize.ShloMosaic Idealize.SL.Sem Cert.Util

/-- The program and its idealization have one text: the same entry … -/
theorem main_same : (Cert.PrePost.main (F := Bits)) = (Cert.PrePostIdeal.main (F := Bits)) := by sl_kernel_rfl

/-- … and the same bodies. -/
theorem defs_same : (Cert.PrePost.defs (F := Bits)) = (Cert.PrePostIdeal.defs (F := Bits)) := by sl_kernel_rfl

/-- So one run gives both frames. -/
theorem frame_p : Cert.quiescent_PrePost := fun m ρ _ => by
  have h := Cert.PrePostIdeal.Gen.frame (F := Bits) m ρ
  rw [← main_same, ← defs_same] at h
  exact h

theorem frame_i : Cert.quiescent_PrePostIdeal := fun m ρ _ => Cert.PrePostIdeal.Gen.frame m ρ

theorem frame_r : Cert.quiescent_PrePostRefIdeal := fun m ρ _ =>
  (θ_run Cert.PrePostRefIdeal.defs _ _).mono (fun r h => ⟨fun c => (h c).2.2.2.2.2, sem_eq_zero_of_no_sems (by decide) r.2⟩)
    (Cert.PrePostRefIdeal.Value.run (F := Ideal) m ρ)

theorem frame_i_pre : Cert.quiescent_PrePostIdeal_pre_finite_pre_post := fun m ρ _ => Cert.PrePostIdeal.Gen.frame m ρ

theorem frame_r_pre : Cert.quiescent_PrePostRefIdeal_pre_finite_pre_post := fun m ρ _ => frame_r m ρ trivial

theorem algebraic : Cert.algebraic_PrePostIdeal_PrePostRefIdeal_pre_finite_pre_post := by
  intro m ρ m' ρ' hpre hag
  refine ⟨_, _, _, _, _, (θ_run Cert.PrePostIdeal.defs _ _).mono (fun r h c => h c (Cert.PrePostIdeal.Value.fin8 m c (hpre c))) (Cert.PrePostIdeal.Value.run_res m ρ), ?_⟩
  refine (θ_run Cert.PrePostRefIdeal.defs _ _).mono (fun r h c => ⟨(h c).1.trans ?_, (h c).2.1.trans ?_, (h c).2.2.1.trans ?_, (h c).2.2.2.1.trans ?_, (h c).2.2.2.2.1.trans ?_, (h c).2.2.2.2.2⟩)
    (Cert.PrePostRefIdeal.Value.run (F := Ideal) m' ρ')
  · show Cert.PrePostRefIdeal.Read.val_main_v31 (F := Ideal) (m' (c.tc.loc Cert.PrePostRefIdeal.main_arg0)) (m' (c.tc.loc Cert.PrePostRefIdeal.main_arg1)) (m' (c.tc.loc Cert.PrePostRefIdeal.main_arg5)) (m' (c.tc.loc Cert.PrePostRefIdeal.main_arg6)) = _
    rw [(hag c).1, (hag c).2.1, (hag c).2.2.2.2.2.1, (hag c).2.2.2.2.2.2]
  · show Cert.PrePostRefIdeal.Read.val_main_v117 (F := Ideal) (m' (c.tc.loc Cert.PrePostRefIdeal.main_arg0)) (m' (c.tc.loc Cert.PrePostRefIdeal.main_arg1)) (m' (c.tc.loc Cert.PrePostRefIdeal.main_arg4)) (m' (c.tc.loc Cert.PrePostRefIdeal.main_arg5)) (m' (c.tc.loc Cert.PrePostRefIdeal.main_arg6)) = _
    rw [(hag c).1, (hag c).2.1, (hag c).2.2.2.2.1, (hag c).2.2.2.2.2.1, (hag c).2.2.2.2.2.2]
  · show Cert.PrePostRefIdeal.Read.val_main_v86 (F := Ideal) (m' (c.tc.loc Cert.PrePostRefIdeal.main_arg0)) (m' (c.tc.loc Cert.PrePostRefIdeal.main_arg1)) (m' (c.tc.loc Cert.PrePostRefIdeal.main_arg2)) (m' (c.tc.loc Cert.PrePostRefIdeal.main_arg3)) (m' (c.tc.loc Cert.PrePostRefIdeal.main_arg4)) (m' (c.tc.loc Cert.PrePostRefIdeal.main_arg5)) (m' (c.tc.loc Cert.PrePostRefIdeal.main_arg6)) = _
    rw [(hag c).1, (hag c).2.1, (hag c).2.2.1, (hag c).2.2.2.1, (hag c).2.2.2.2.1, (hag c).2.2.2.2.2.1, (hag c).2.2.2.2.2.2]
  · show Cert.PrePostRefIdeal.Read.val_main_v118 (F := Ideal) (m' (c.tc.loc Cert.PrePostRefIdeal.main_arg0)) (m' (c.tc.loc Cert.PrePostRefIdeal.main_arg1)) (m' (c.tc.loc Cert.PrePostRefIdeal.main_arg2)) (m' (c.tc.loc Cert.PrePostRefIdeal.main_arg3)) (m' (c.tc.loc Cert.PrePostRefIdeal.main_arg4)) (m' (c.tc.loc Cert.PrePostRefIdeal.main_arg5)) (m' (c.tc.loc Cert.PrePostRefIdeal.main_arg6)) = _
    rw [(hag c).1, (hag c).2.1, (hag c).2.2.1, (hag c).2.2.2.1, (hag c).2.2.2.2.1, (hag c).2.2.2.2.2.1, (hag c).2.2.2.2.2.2]
  · show Cert.PrePostRefIdeal.Read.val_main_v127 (F := Ideal) (m' (c.tc.loc Cert.PrePostRefIdeal.main_arg0)) (m' (c.tc.loc Cert.PrePostRefIdeal.main_arg1)) (m' (c.tc.loc Cert.PrePostRefIdeal.main_arg2)) (m' (c.tc.loc Cert.PrePostRefIdeal.main_arg3)) (m' (c.tc.loc Cert.PrePostRefIdeal.main_arg4)) (m' (c.tc.loc Cert.PrePostRefIdeal.main_arg5)) (m' (c.tc.loc Cert.PrePostRefIdeal.main_arg6)) = _
    rw [(hag c).1, (hag c).2.1, (hag c).2.2.1, (hag c).2.2.2.1, (hag c).2.2.2.2.1, (hag c).2.2.2.2.2.1, (hag c).2.2.2.2.2.2]

end Cert.Proof.PrePost

end
-- ==== Proof.WindowSum.lean ====
/- Sums over a sliding window: by doubling shifts, as a kernel makes them, and as a difference of running sums. -/
module

public import proofs.«01_k».proof.Proof.Reals
public import Idealize.ShloMosaic.Lib.Pointwise

@[expose] public section

set_option maxRecDepth 16384

noncomputable section

namespace Cert.Util

open Idealize.ShloMosaic

/-- The sum of the last `w` entries up to `r`, and of the `w` entries from `r` on. -/
def win (f : ℕ → EReal) (w r : ℕ) : EReal := ∑ i ∈ Finset.range w, if i ≤ r then f (r - i) else 0
def fwin (f : ℕ → EReal) (w r : ℕ) : EReal := ∑ i ∈ Finset.range w, f (r + i)
/-- The sum of all entries up to `r`. -/
def cs (f : ℕ → EReal) (r : ℕ) : EReal := ∑ i ∈ Finset.range (r + 1), f i

theorem win_one (f : ℕ → EReal) (r : ℕ) : win f 1 r = f r := by simp [win]
theorem fwin_one (f : ℕ → EReal) (r : ℕ) : fwin f 1 r = f r := by simp [fwin]

/-- A window twice as long is the window and the one before it. -/
theorem win_double (f : ℕ → EReal) (n r : ℕ) : win f (n + n) r = win f n r + if n ≤ r then win f n (r - n) else 0 := by
  rw [win, Finset.sum_range_add]
  congr 1
  by_cases h : n ≤ r
  · rw [if_pos h]
    refine Finset.sum_congr rfl fun i _ => ?_
    by_cases hi : n + i ≤ r
    · rw [if_pos hi, if_pos (by omega), show r - (n + i) = r - n - i by omega]
    · rw [if_neg hi, if_neg (by omega)]
  · rw [if_neg h]
    exact Finset.sum_eq_zero fun i _ => if_neg (by omega)
theorem fwin_double (f : ℕ → EReal) (n r : ℕ) : fwin f (n + n) r = fwin f n r + fwin f n (r + n) := by
  rw [fwin, Finset.sum_range_add]
  congr 1
  exact Finset.sum_congr rfl fun i _ => by rw [Nat.add_assoc]

/-- A window from `N` on, of entries that are zero there, is zero. -/
theorem fwin_end (f : ℕ → EReal) (w r N : ℕ) (hr : N ≤ r) (hf : ∀ n, N ≤ n → f n = 0) : fwin f w r = 0 :=
  Finset.sum_eq_zero fun i _ => hf _ (by omega)

/-- The running sum is the window's sum and the running sum before the window. -/
theorem cs_eq (f : ℕ → EReal) (w r : ℕ) : cs f r = win f w r + if w ≤ r then cs f (r - w) else 0 := by
  have e : ∀ m, cs f m = ∑ i ∈ Finset.range (m + 1), f (m - i) := fun m => by
    rw [cs, ← Finset.sum_range_reflect]
    exact Finset.sum_congr rfl fun i _ => by rw [show m + 1 - 1 - i = m - i by omega]
  by_cases h : w ≤ r
  · rw [if_pos h, e, e, show r + 1 = w + (r - w + 1) by omega, Finset.sum_range_add, win]
    congr 1
    · exact Finset.sum_congr rfl fun i hi => by rw [if_pos (by have := Finset.mem_range.1 hi; omega)]
    · exact Finset.sum_congr rfl fun i _ => by rw [show r - (w + i) = r - w - i by omega]
  · obtain ⟨k, rfl⟩ : ∃ k, w = r + 1 + k := ⟨w - (r + 1), by omega⟩
    rw [if_neg h, add_zero, e, win, Finset.sum_range_add _ (r + 1) k, Finset.sum_eq_zero (s := Finset.range k) fun i _ => if_neg (by omega), add_zero]
    exact Finset.sum_congr rfl fun i hi => by rw [if_pos (by have := Finset.mem_range.1 hi; omega)]

theorem IsR.cs {f : ℕ → EReal} (h : ∀ n, IsR (f n)) (r : ℕ) : IsR (cs f r) := .sum h

/-- So a difference of running sums is the window's sum. -/
theorem cs_sub (f : ℕ → EReal) (h : ∀ n, IsR (f n)) (w r : ℕ) : cs f r - (if r < w then 0 else cs f (r - w)) = win f w r := by
  have e : (if r < w then (0 : EReal) else cs f (r - w)) = if w ≤ r then cs f (r - w) else 0 := by
    by_cases hr : r < w
    · rw [if_pos hr, if_neg (by omega)]
    · rw [if_neg hr, if_pos (by omega)]
  rw [e, cs_eq f w r]
  obtain ⟨q, hq⟩ : IsR (if w ≤ r then cs f (r - w) else 0) := by
    by_cases hr : w ≤ r
    · rw [if_pos hr]; exact .cs h _
    · rw [if_neg hr]; exact .zero
  rw [hq]
  exact EReal.add_sub_cancel_right

/-- The sum from `r` on of the differences of entries that are `w` apart is the sum of the window from `r` on. -/
theorem tail_sub (f : ℕ → EReal) (h : ∀ n, IsR (f n)) (w r N : ℕ) (hf : ∀ n, N ≤ n → f n = 0) :
    ∑ n ∈ Finset.range N, (f (r + n) + -f (r + n + w)) = fwin f w r := by
  choose g hg using h
  obtain rfl : f = fun n => (g n : EReal) := funext hg
  have key : ∀ M, ∑ n ∈ Finset.range M, (g (r + n) + -g (r + n + w)) = ∑ i ∈ Finset.range w, g (r + i) - ∑ i ∈ Finset.range w, g (r + M + i) := by
    intro M
    induction M with
    | zero => simp
    | succ M ih =>
      have a := Finset.sum_range_succ (fun i => g (r + M + i)) w
      have b := Finset.sum_range_succ' (fun i => g (r + M + i)) w
      have c : ∑ i ∈ Finset.range w, g (r + (M + 1) + i) = ∑ i ∈ Finset.range w, g (r + M + (i + 1)) :=
        Finset.sum_congr rfl fun i _ => by rw [show r + (M + 1) + i = r + M + (i + 1) by omega]
      rw [Finset.sum_range_succ, ih, c]
      simp only [Nat.add_zero] at b
      linarith
  have z : ∑ i ∈ Finset.range w, g (r + N + i) = 0 :=
    Finset.sum_eq_zero fun i _ => by
      have := hf (r + N + i) (by omega)
      exact EReal.coe_eq_zero.1 this
  rw [fwin, ← coe_sum, ← sub_zero (∑ i ∈ Finset.range w, g (r + i)), ← z, ← key N, coe_sum]
  exact Finset.sum_congr rfl fun n _ => by rw [EReal.coe_add, EReal.coe_neg]

/-- jnp's running sum over the middle axis, as it prints: a window of the whole length, padded `L` low. -/
theorem reduceWindow_mid {R C : ℕ} (L H : ℕ) (x : (⟨3, ![1, R, C]⟩ : Shape).Idx → EReal)
    (h : (⟨3, ![1, R, C]⟩ : Shape).ReduceWindows (![1, R, 1] : Fin 3 → ℕ) ![1, 1, 1] ![0, L, 0] ![0, H, 0] ⟨3, ![1, R, C]⟩) (hu : 0 < (⟨0, ![]⟩ : Shape).numel)
    (f : ℕ → EReal) (r : Fin R) (c : Fin C) (hf : ∀ n : Fin R, x (ix3 0 n c) = f n.val) :
    Host.reduceWindow (· + ·) ![1, R, 1] ![1, 1, 1] ![0, L, 0] ![0, H, 0] x (fun _ : (⟨0, ![]⟩ : Shape).Idx => (0 : EReal)) h hu (ix3 0 r c)
      = ∑ n : Fin R, if L ≤ r.val + n.val ∧ r.val + n.val - L < R then f (r.val + n.val - L) else 0 := by
  have fold : ∀ {α : Type} (g : α → EReal) (step : EReal → α → EReal) (_ : ∀ r n, step r n = r + g n) (l : List α) (v : EReal),
      l.foldl step v = v + (l.map g).sum := by
    intro α g step hs l
    induction l with
    | nil => intro v; simp
    | cons a l ih => intro v; rw [List.foldl_cons, ih, hs, List.map_cons, List.sum_cons, add_assoc]
  unfold Host.reduceWindow
  dsimp only
  let W : Shape := ⟨3, ![1, R, 1]⟩
  let g : W.Idx → EReal := fun q =>
    if hin : ∀ a : Fin 3, (![0, L, 0] : Fin 3 → ℕ) a ≤ ((ix3 0 r c : (⟨3, ![1, R, C]⟩ : Shape).Idx) (Fin.cast h.1.symm a)).val * (![1, 1, 1] : Fin 3 → ℕ) a + (q a).val
        ∧ ((ix3 0 r c : (⟨3, ![1, R, C]⟩ : Shape).Idx) (Fin.cast h.1.symm a)).val * (![1, 1, 1] : Fin 3 → ℕ) a + (q a).val - (![0, L, 0] : Fin 3 → ℕ) a < (⟨3, ![1, R, C]⟩ : Shape).size a
    then x (fun a => ⟨_, (hin a).2⟩) else 0
  refine (fold (fun n => g (W.rowMajor.symm n)) _ (fun r n => ?_) (List.finRange W.numel) 0).trans ?_
  · refine congrArg (_ + ·) ?_
    dsimp only [g]
    split <;> first | rfl | (split <;> first | rfl | contradiction)
  rw [zero_add, ← Fin.sum_univ_def, Equiv.sum_comp W.rowMajor.symm g]
  let e : Fin R ≃ W.Idx :=
    { toFun := fun n => ix3 0 n 0
      invFun := fun q => q 1
      left_inv := fun n => rfl
      right_inv := fun q => by
        obtain ⟨p, n, s, rfl⟩ : ∃ p n s, q = ix3 p n s := ⟨q 0, q 1, q 2, eq_ix3 q⟩
        obtain rfl : p = 0 := Subsingleton.elim _ _
        obtain rfl : s = 0 := Subsingleton.elim _ _
        rfl }
  rw [← Equiv.sum_comp e g]
  refine Finset.sum_congr rfl fun n _ => ?_
  by_cases hn : L ≤ r.val + n.val ∧ r.val + n.val - L < R
  · rw [if_pos hn]
    show dite _ _ _ = _
    rw [dif_pos]
    · rw [← hf ⟨r.val + n.val - L, hn.2⟩]
      congr 1
      funext a
      apply Fin.ext
      match a with
      | ⟨0, _⟩ => rfl
      | ⟨1, _⟩ => show r.val * 1 + n.val - L = r.val + n.val - L; omega
      | ⟨2, _⟩ => show c.val * 1 + 0 - 0 = c.val; omega
    · intro a
      match a with
      | ⟨0, _⟩ => exact ⟨Nat.zero_le _, Nat.one_pos⟩
      | ⟨1, _⟩ => show L ≤ r.val * 1 + n.val ∧ r.val * 1 + n.val - L < R; omega
      | ⟨2, _⟩ => exact ⟨Nat.zero_le _, by show c.val * 1 + 0 - 0 < C; omega⟩
  · rw [if_neg hn]
    show dite _ _ _ = _
    rw [dif_neg]
    intro hin
    have h1 := hin 1
    have : L ≤ r.val * 1 + n.val ∧ r.val * 1 + n.val - L < R := h1
    omega

theorem cumsum_mid {R C : ℕ} (L : ℕ) (hL : L + 1 = R) (x : (⟨3, ![1, R, C]⟩ : Shape).Idx → EReal)
    (h : (⟨3, ![1, R, C]⟩ : Shape).ReduceWindows (![1, R, 1] : Fin 3 → ℕ) ![1, 1, 1] ![0, L, 0] ![0, 0, 0] ⟨3, ![1, R, C]⟩) (hu : 0 < (⟨0, ![]⟩ : Shape).numel)
    (f : ℕ → EReal) (r : Fin R) (c : Fin C) (hf : ∀ n : Fin R, x (ix3 0 n c) = f n.val) :
    Host.reduceWindow (· + ·) ![1, R, 1] ![1, 1, 1] ![0, L, 0] ![0, 0, 0] x (fun _ : (⟨0, ![]⟩ : Shape).Idx => (0 : EReal)) h hu (ix3 0 r c) = cs f r.val := by
  rw [reduceWindow_mid L 0 x h hu f r c hf, Fin.sum_univ_eq_sum_range (fun n => if L ≤ r.val + n ∧ r.val + n - L < R then f (r.val + n - L) else 0) R,
    show Finset.range R = Finset.range ((L - r.val) + (r.val + 1)) from congrArg _ (by have := r.isLt; omega), Finset.sum_range_add,
    Finset.sum_eq_zero (s := Finset.range (L - r.val)), zero_add, cs]
  · refine Finset.sum_congr rfl fun i hi => ?_
    have := Finset.mem_range.1 hi
    have := r.isLt
    rw [if_pos (by omega), show r.val + (L - r.val + i) - L = i by omega]
  · intro i hi
    have := Finset.mem_range.1 hi
    exact if_neg (by omega)

theorem tailsum_mid {R C : ℕ} (H : ℕ) (x : (⟨3, ![1, R, C]⟩ : Shape).Idx → EReal)
    (h : (⟨3, ![1, R, C]⟩ : Shape).ReduceWindows (![1, R, 1] : Fin 3 → ℕ) ![1, 1, 1] ![0, 0, 0] ![0, H, 0] ⟨3, ![1, R, C]⟩) (hu : 0 < (⟨0, ![]⟩ : Shape).numel)
    (f : ℕ → EReal) (r : Fin R) (c : Fin C) (hf : ∀ n : Fin R, x (ix3 0 n c) = f n.val) (h0 : ∀ n, R ≤ n → f n = 0) :
    Host.reduceWindow (· + ·) ![1, R, 1] ![1, 1, 1] ![0, 0, 0] ![0, H, 0] x (fun _ : (⟨0, ![]⟩ : Shape).Idx => (0 : EReal)) h hu (ix3 0 r c)
      = ∑ n ∈ Finset.range R, f (r.val + n) := by
  rw [reduceWindow_mid 0 H x h hu f r c hf, ← Fin.sum_univ_eq_sum_range (fun n => f (r.val + n)) R]
  refine Finset.sum_congr rfl fun n _ => ?_
  by_cases hn : r.val + n.val < R
  · rw [if_pos (by omega)]; rfl
  · rw [if_neg (by omega), h0 _ (by omega)]

/-- The two sums as the host's operation writes them. -/
theorem cumsum_host {R C : ℕ} (L : ℕ) (hL : L + 1 = R) (x : FVec Ideal (⟨3, ![1, R, C]⟩ : Shape) .f32) (z : FVec Ideal (⟨0, ![]⟩ : Shape) .f32)
    (h : (⟨3, ![1, R, C]⟩ : Shape).ReduceWindows (![1, R, 1] : Fin 3 → ℕ) ![1, 1, 1] ![0, L, 0] ![0, 0, 0] ⟨3, ![1, R, C]⟩) (hu : 0 < (⟨0, ![]⟩ : Shape).numel)
    (f : ℕ → EReal) (r : Fin R) (c : Fin C) (hf : ∀ n : Fin R, x (ix3 0 n c) = f n.val) (hz : ∀ y, z y = (0 : EReal)) :
    Host.reduceWindowAdd ![1, R, 1] ![1, 1, 1] ![0, L, 0] ![0, 0, 0] x z h hu (ix3 0 r c) = cs f r.val := by
  unfold Host.reduceWindowAdd
  rw [hz, Ideal.hostReduceWindowAdd_def]
  exact cumsum_mid L hL x h (by decide) f r c hf
theorem tailsum_host {R C : ℕ} (H : ℕ) (x : FVec Ideal (⟨3, ![1, R, C]⟩ : Shape) .f32) (z : FVec Ideal (⟨0, ![]⟩ : Shape) .f32)
    (h : (⟨3, ![1, R, C]⟩ : Shape).ReduceWindows (![1, R, 1] : Fin 3 → ℕ) ![1, 1, 1] ![0, 0, 0] ![0, H, 0] ⟨3, ![1, R, C]⟩) (hu : 0 < (⟨0, ![]⟩ : Shape).numel)
    (f : ℕ → EReal) (r : Fin R) (c : Fin C) (hf : ∀ n : Fin R, x (ix3 0 n c) = f n.val) (h0 : ∀ n, R ≤ n → f n = 0) (hz : ∀ y, z y = (0 : EReal)) :
    Host.reduceWindowAdd ![1, R, 1] ![1, 1, 1] ![0, 0, 0] ![0, H, 0] x z h hu (ix3 0 r c) = ∑ n ∈ Finset.range R, f (r.val + n) := by
  unfold Host.reduceWindowAdd
  rw [hz, Ideal.hostReduceWindowAdd_def]
  exact tailsum_mid H x h (by decide) f r c hf h0
end Cert.Util

end
-- ==== Proof.Cols.lean ====
/- Arrays of four groups of 128 columns, or of four leading slabs, written and read a group at a time. -/
module

public import proofs.«01_k».proof.Proof.Rows
public import Idealize.ShloMosaic.Lib.WordCmp
public import Idealize.ShloMosaic.Lib.Pointwise.Sums

@[expose] public section

set_option maxRecDepth 16384

noncomputable section

namespace Cert.Util

open Idealize.ShloMosaic Idealize.ShloMosaic.TcCoe Idealize.SL.Sem

/-- Reading a canon of stores of 128 columns each, or of one leading slab each: past a store that does not hold the index, and at one that does. -/
theorem col_skip {R : ℕ} {e : EltTy} (o : ℕ) (inb : ∀ a : Fin 2, ![0, o] a + ![R, 128] a ≤ (⟨2, ![R, 512]⟩ : Shape).size a)
    (p : (Rect.unit (s := ⟨2, ![R, 512]⟩) ![0, o] ![R, 128] inb).shape.Idx → Elt Ideal e) (L : List (View.Piece (Elt Ideal) ⟨2, ![R, 512]⟩ e)) (r : Fin R) (C : Fin 512) (h : C.val < o) :
    View.canon (⟨Rect.unit (s := ⟨2, ![R, 512]⟩) ![0, o] ![R, 128] inb, p⟩ :: L) (ix2 r C) = View.canon L (ix2 r C) :=
  View.canon_cons_of_not_mem _ _ fun hm => by
    have : o ≤ C.val := ((Rect.mem_set_unit (inb := inb)).1 hm 1).1
    omega
theorem col_hit {R : ℕ} {e : EltTy} (o : ℕ) (inb : ∀ a : Fin 2, ![0, o] a + ![R, 128] a ≤ (⟨2, ![R, 512]⟩ : Shape).size a)
    (p : (Rect.unit (s := ⟨2, ![R, 512]⟩) ![0, o] ![R, 128] inb).shape.Idx → Elt Ideal e) (L : List (View.Piece (Elt Ideal) ⟨2, ![R, 512]⟩ e)) (r : Fin R) (j : Fin 128) (C : Fin 512) (h : C.val = o + j.val) :
    View.canon (⟨Rect.unit (s := ⟨2, ![R, 512]⟩) ![0, o] ![R, 128] inb, p⟩ :: L) (ix2 r C) = p (ix2 r j) := by
  refine Eq.trans (congrArg _ ?_) (View.canon_cons_emb _ _ _ _)
  apply idx2_ext
  · show r.val = 0 + 1 * r.val; omega
  · show C.val = o + 1 * j.val; omega
theorem slab_skip {e : EltTy} (o : ℕ) (inb : ∀ a : Fin 3, ![o, 0, 0] a + ![1, 128, 128] a ≤ (⟨3, ![4, 128, 128]⟩ : Shape).size a)
    (p : (Rect.unit (s := ⟨3, ![4, 128, 128]⟩) ![o, 0, 0] ![1, 128, 128] inb).shape.Idx → Elt Ideal e) (L : List (View.Piece (Elt Ideal) ⟨3, ![4, 128, 128]⟩ e)) (g : Fin 4) (i j : Fin 128) (h : g.val < o) :
    View.canon (⟨Rect.unit (s := ⟨3, ![4, 128, 128]⟩) ![o, 0, 0] ![1, 128, 128] inb, p⟩ :: L) (ix3 g i j) = View.canon L (ix3 g i j) :=
  View.canon_cons_of_not_mem _ _ fun hm => by
    have : o ≤ g.val := ((Rect.mem_set_unit (inb := inb)).1 hm 0).1
    omega
theorem slab_hit {e : EltTy} (o : ℕ) (inb : ∀ a : Fin 3, ![o, 0, 0] a + ![1, 128, 128] a ≤ (⟨3, ![4, 128, 128]⟩ : Shape).size a)
    (p : (Rect.unit (s := ⟨3, ![4, 128, 128]⟩) ![o, 0, 0] ![1, 128, 128] inb).shape.Idx → Elt Ideal e) (L : List (View.Piece (Elt Ideal) ⟨3, ![4, 128, 128]⟩ e)) (g : Fin 4) (i j : Fin 128) (h : g.val = o) :
    View.canon (⟨Rect.unit (s := ⟨3, ![4, 128, 128]⟩) ![o, 0, 0] ![1, 128, 128] inb, p⟩ :: L) (ix3 g i j) = p (ix3 (n0 := 1) 0 i j) := by
  refine Eq.trans (congrArg _ ?_) (View.canon_cons_emb _ _ _ _)
  apply idx3_ext
  · show g.val = o + 1 * 0; omega
  · show i.val = 0 + 1 * i.val; omega
  · show j.val = 0 + 1 * j.val; omega

/-- Column `j` of group `g`. -/
abbrev gc (g : Fin 4) (j : Fin 128) : Fin 512 := ⟨g.val * 128 + j.val, by omega⟩

/-- Four column stores, and four slab stores, read at a group's index. -/
theorem cols4 {R : ℕ} {e : EltTy} (i3 : ∀ a : Fin 2, ![0, 384] a + ![R, 128] a ≤ (⟨2, ![R, 512]⟩ : Shape).size a) (i2 : ∀ a : Fin 2, ![0, 256] a + ![R, 128] a ≤ (⟨2, ![R, 512]⟩ : Shape).size a)
    (i1 : ∀ a : Fin 2, ![0, 128] a + ![R, 128] a ≤ (⟨2, ![R, 512]⟩ : Shape).size a) (i0 : ∀ a : Fin 2, ![0, 0] a + ![R, 128] a ≤ (⟨2, ![R, 512]⟩ : Shape).size a)
    (p : Fin 4 → (⟨2, ![R, 128]⟩ : Shape).Idx → Elt Ideal e) (r : Fin R) (g : Fin 4) (j : Fin 128) (L : List (View.Piece (Elt Ideal) ⟨2, ![R, 512]⟩ e) := []) :
    View.canon (Val := Elt Ideal) (s := ⟨2, ![R, 512]⟩) (⟨Rect.unit ![0, 384] ![R, 128] i3, p 3⟩ :: ⟨Rect.unit ![0, 256] ![R, 128] i2, p 2⟩ :: ⟨Rect.unit ![0, 128] ![R, 128] i1, p 1⟩
      :: ⟨Rect.unit ![0, 0] ![R, 128] i0, p 0⟩ :: L) (ix2 r (gc g j)) = p g (ix2 r j) := by
  match g with
  | 3 => exact col_hit _ _ _ _ _ _ _ (by show 3 * 128 + _ = _; omega)
  | 2 => exact (col_skip _ _ _ _ _ _ (by show 2 * 128 + _ < _; omega)).trans (col_hit _ _ _ _ _ _ _ (by show 2 * 128 + _ = _; omega))
  | 1 => exact (col_skip _ _ _ _ _ _ (by show 1 * 128 + _ < _; omega)).trans ((col_skip _ _ _ _ _ _ (by show 1 * 128 + _ < _; omega)).trans (col_hit _ _ _ _ _ _ _ (by show 1 * 128 + _ = _; omega)))
  | 0 => exact (col_skip _ _ _ _ _ _ (by show 0 * 128 + _ < _; omega)).trans ((col_skip _ _ _ _ _ _ (by show 0 * 128 + _ < _; omega)).trans
      ((col_skip _ _ _ _ _ _ (by show 0 * 128 + _ < _; omega)).trans (col_hit _ _ _ _ _ _ _ (by show 0 * 128 + _ = _; omega))))
theorem slabs4 {e : EltTy} (i3 : ∀ a : Fin 3, ![3, 0, 0] a + ![1, 128, 128] a ≤ (⟨3, ![4, 128, 128]⟩ : Shape).size a) (i2 : ∀ a : Fin 3, ![2, 0, 0] a + ![1, 128, 128] a ≤ (⟨3, ![4, 128, 128]⟩ : Shape).size a)
    (i1 : ∀ a : Fin 3, ![1, 0, 0] a + ![1, 128, 128] a ≤ (⟨3, ![4, 128, 128]⟩ : Shape).size a) (i0 : ∀ a : Fin 3, ![0, 0, 0] a + ![1, 128, 128] a ≤ (⟨3, ![4, 128, 128]⟩ : Shape).size a)
    (p : Fin 4 → (⟨3, ![1, 128, 128]⟩ : Shape).Idx → Elt Ideal e) (g : Fin 4) (i j : Fin 128) (L : List (View.Piece (Elt Ideal) ⟨3, ![4, 128, 128]⟩ e) := []) :
    View.canon (Val := Elt Ideal) (s := ⟨3, ![4, 128, 128]⟩) (⟨Rect.unit ![3, 0, 0] ![1, 128, 128] i3, p 3⟩ :: ⟨Rect.unit ![2, 0, 0] ![1, 128, 128] i2, p 2⟩ :: ⟨Rect.unit ![1, 0, 0] ![1, 128, 128] i1, p 1⟩
      :: ⟨Rect.unit ![0, 0, 0] ![1, 128, 128] i0, p 0⟩ :: L) (ix3 g i j) = p g (ix3 (n0 := 1) 0 i j) := by
  match g with
  | 3 => exact slab_hit _ _ _ _ _ _ _ rfl
  | 2 => exact (slab_skip _ _ _ _ _ _ _ (by decide)).trans (slab_hit _ _ _ _ _ _ _ rfl)
  | 1 => exact (slab_skip _ _ _ _ _ _ _ (by decide)).trans ((slab_skip _ _ _ _ _ _ _ (by decide)).trans (slab_hit _ _ _ _ _ _ _ rfl))
  | 0 => exact (slab_skip _ _ _ _ _ _ _ (by decide)).trans ((slab_skip _ _ _ _ _ _ _ (by decide)).trans ((slab_skip _ _ _ _ _ _ _ (by decide)).trans (slab_hit _ _ _ _ _ _ _ rfl)))

theorem ld_col {R : ℕ} {e : EltTy} (o : ℕ) (inb : ∀ a : Fin 2, ![0, o] a + ![R, 128] a ≤ (⟨2, ![R, 512]⟩ : Shape).size a)
    (x : (⟨2, ![R, 512]⟩ : Shape).Idx → Elt Ideal e) (r : Fin R) (j : Fin 128) (C : Fin 512) (h : C.val = o + j.val) :
    View.ld (Val := Elt Ideal) (e' := e) x (Rect.unit (s := ⟨2, ![R, 512]⟩) ![0, o] ![R, 128] inb) (ix2 r j) = x (ix2 r C) := by
  refine congrArg x ?_
  apply idx2_ext
  · show 0 + 1 * r.val = r.val; omega
  · show o + 1 * j.val = C.val; omega
theorem ld_slab {e : EltTy} (o : ℕ) (inb : ∀ a : Fin 3, ![o, 0, 0] a + ![1, 128, 128] a ≤ (⟨3, ![4, 128, 128]⟩ : Shape).size a)
    (x : (⟨3, ![4, 128, 128]⟩ : Shape).Idx → Elt Ideal e) (g : Fin 4) (i j : Fin 128) (h : g.val = o) :
    View.ld (Val := Elt Ideal) (e' := e) x (Rect.unit (s := ⟨3, ![4, 128, 128]⟩) ![o, 0, 0] ![1, 128, 128] inb) (ix3 (n0 := 1) 0 i j) = x (ix3 g i j) := by
  refine congrArg x ?_
  apply idx3_ext
  · show o + 1 * 0 = g.val; omega
  · show 0 + 1 * i.val = i.val; omega
  · show 0 + 1 * j.val = j.val; omega

theorem gc_div (g : Fin 4) (j : Fin 128) : (⟨(gc g j).val / 128, by omega⟩ : Fin 4) = g := Fin.ext (by show (g.val * 128 + j.val) / 128 = g.val; omega)
theorem gc_mod (g : Fin 4) (j : Fin 128) : (⟨(gc g j).val % 128, by omega⟩ : Fin 128) = j := Fin.ext (by show (g.val * 128 + j.val) % 128 = j.val; omega)
theorem col_of (C : Fin 512) : ∃ g j, C = gc g j := ⟨⟨C.val / 128, by omega⟩, ⟨C.val % 128, by omega⟩, Fin.ext (by show C.val = C.val / 128 * 128 + C.val % 128; omega)⟩

end Cert.Util

end
-- ==== Proof.PoolBody.lean ====
/- The pool mixer's two bodies as operations on one window group's 128 columns: window sums by doubling shifts, the group's
   products, and what the four groups' stores leave. -/
module

public import proofs.«01_k».proof.Defs
public import proofs.«01_k».proof.Proof.Gen.PoolIdeal.Frame
public import Idealize.ShloMosaic.Lib.WordCmp
public import proofs.«01_k».proof.Proof.WindowSum
public import proofs.«01_k».proof.Proof.Cols
public import proofs.«01_k».proof.Proof.Rows
public import Idealize.ShloMosaic.Lib.Pointwise.Sums

@[expose] public section

set_option maxRecDepth 16384

noncomputable section

namespace Cert.PoolIdeal.Value

open Cert.PoolIdeal Cert.PoolIdeal.Gen Idealize.ShloMosaic Idealize.ShloMosaic.TcCoe Idealize.SL.Sem Cert.Util Pipeline

open Idealize.ShloMosaic.WordCmp

/-- The rows' numbers; a shift down (or up) by `n` rows added to the array, with zeros coming in; how many entries a window holds. -/
abbrev rows : IVec S2048x128 32 := iota .tc S2048x128 32 [0] iota_S2048x128_d0_w32
abbrev zeros : FVec Ideal S2048x128 .f32 := broadcast S2048x128 (Scalar.ofBits .f32 0x00000000#32)
def fstep (n : BitVec 32) (v : FVec Ideal S2048x128 .f32) : FVec Ideal S2048x128 .f32 :=
  addf v (select (cmpi .sge rows (broadcast S2048x128 n)) (dynamicRotate 0 n none v rotates_S2048x128_d0) zeros)
def bstep (n : BitVec 32) (v : FVec Ideal S2048x128 .f32) : FVec Ideal S2048x128 .f32 :=
  addf v (select (cmpi .slt rows (broadcast S2048x128 n)) (dynamicRotate 0 n none v rotates_S2048x128_d0) zeros)
def cnt (n : BitVec 32) : FVec Ideal S2048x128 .f32 := sitofp .f32 (minsi (addi rows (broadcast S2048x128 1#32)) (broadcast S2048x128 n))

/-- Column `j` of an array, by row number; zero past the end. -/
def colf (v : FVec Ideal S2048x128 .f32) (j : Fin 128) : ℕ → EReal := fun n => if h : n < 2048 then v (ix2 ⟨n, h⟩ j) else 0

theorem fstep_apply (n : ℕ) (hn : n = 1 ∨ n = 2 ∨ n = 4 ∨ n = 8) (v : FVec Ideal S2048x128 .f32) (r : Fin 2048) (j : Fin 128) :
    fstep (BitVec.ofNat 32 n) v (ix2 r j) = (v (ix2 r j) + if n ≤ r.val then colf v j (r.val - n) else 0 : EReal) := by
  have key : fstep (BitVec.ofNat 32 n) v (ix2 r j) = (v (ix2 r j) + Scalar.select (IntOp.cmpi .sge (BitVec.ofNat 32 r.val) (BitVec.ofNat 32 n))
      (v (ix2 ⟨(r.val + 2048 - n) % 2048, Nat.mod_lt _ (by omega)⟩ j)) 0 : EReal) := by
    rcases hn with rfl | rfl | rfl | rfl <;> pointwise [fstep]
  rw [key]
  congr 1
  by_cases h : n ≤ r.val
  · rw [if_pos h, (cmpi_sge_ofNat_eq_one_iff (by omega) (by omega)).2 h, colf, dif_pos (by omega)]
    show v _ = v _
    congr 2
    apply Fin.ext
    show (r.val + 2048 - n) % 2048 = r.val - n
    omega
  · rw [if_neg h, (cmpi_sge_ofNat_eq_zero_iff (by omega) (by omega)).2 (by omega)]
    rfl

theorem bstep_apply (n : ℕ) (hn : n = 1 ∨ n = 2 ∨ n = 4 ∨ n = 8) (v : FVec Ideal S2048x128 .f32) (r : Fin 2048) (j : Fin 128) :
    bstep (BitVec.ofNat 32 (2048 - n)) v (ix2 r j) = (v (ix2 r j) + colf v j (r.val + n) : EReal) := by
  have key : bstep (BitVec.ofNat 32 (2048 - n)) v (ix2 r j) = (v (ix2 r j) + Scalar.select (IntOp.cmpi .slt (BitVec.ofNat 32 r.val) (BitVec.ofNat 32 (2048 - n)))
      (v (ix2 ⟨(r.val + 2048 - (2048 - n)) % 2048, Nat.mod_lt _ (by omega)⟩ j)) 0 : EReal) := by
    rcases hn with rfl | rfl | rfl | rfl <;> pointwise [bstep]
  rw [key]
  congr 1
  by_cases h : r.val < 2048 - n
  · rw [(cmpi_slt_ofNat_eq_one_iff (by omega) (by omega)).2 h, colf, dif_pos (by omega)]
    show v _ = v _
    congr 2
    apply Fin.ext
    show (r.val + 2048 - (2048 - n)) % 2048 = r.val + n
    omega
  · rw [(cmpi_slt_ofNat_eq_zero_iff (by omega) (by omega)).2 (by omega), colf, dif_neg (by omega)]
    rfl

/-- A step doubles the window. -/
theorem fstep_win (f : ℕ → EReal) (n : ℕ) (hn : n = 1 ∨ n = 2 ∨ n = 4 ∨ n = 8) (v : FVec Ideal S2048x128 .f32) (j : Fin 128)
    (hv : ∀ r : Fin 2048, v (ix2 r j) = win f n r.val) (r : Fin 2048) : fstep (BitVec.ofNat 32 n) v (ix2 r j) = win f (n + n) r.val := by
  rw [fstep_apply n hn, win_double, hv r]
  congr 1
  by_cases h : n ≤ r.val
  · rw [if_pos h, if_pos h, colf, dif_pos (by omega)]; exact hv ⟨r.val - n, by omega⟩
  · rw [if_neg h, if_neg h]
theorem bstep_win (f : ℕ → EReal) (h0 : ∀ n, 2048 ≤ n → f n = 0) (n : ℕ) (hn : n = 1 ∨ n = 2 ∨ n = 4 ∨ n = 8) (v : FVec Ideal S2048x128 .f32) (j : Fin 128)
    (hv : ∀ r : Fin 2048, v (ix2 r j) = fwin f n r.val) (r : Fin 2048) : bstep (BitVec.ofNat 32 (2048 - n)) v (ix2 r j) = fwin f (n + n) r.val := by
  rw [bstep_apply n hn, fwin_double, hv r]
  congr 1
  by_cases h : r.val + n < 2048
  · rw [colf, dif_pos h]; exact hv ⟨r.val + n, h⟩
  · rw [colf, dif_neg h]; exact (fwin_end f n _ 2048 (by omega) h0).symm

theorem colf_end (v : FVec Ideal S2048x128 .f32) (j : Fin 128) (n : ℕ) (h : 2048 ≤ n) : colf v j n = 0 := dif_neg (by omega)
theorem colf_at (v : FVec Ideal S2048x128 .f32) (j : Fin 128) (r : Fin 2048) : v (ix2 r j) = colf v j r.val := by rw [colf, dif_pos r.isLt]

/-- The four windows' sums, by one to four doublings. -/
def fsum : Fin 4 → FVec Ideal S2048x128 .f32 → FVec Ideal S2048x128 .f32
  | 0, v => fstep 1#32 v
  | 1, v => fstep 2#32 (fstep 1#32 v)
  | 2, v => fstep 4#32 (fstep 2#32 (fstep 1#32 v))
  | 3, v => fstep 8#32 (fstep 4#32 (fstep 2#32 (fstep 1#32 v)))
def bsum : Fin 4 → FVec Ideal S2048x128 .f32 → FVec Ideal S2048x128 .f32
  | 0, v => bstep 2047#32 v
  | 1, v => bstep 2046#32 (bstep 2047#32 v)
  | 2, v => bstep 2044#32 (bstep 2046#32 (bstep 2047#32 v))
  | 3, v => bstep 2040#32 (bstep 2044#32 (bstep 2046#32 (bstep 2047#32 v)))
/-- The windows' lengths, as numbers and as words. -/
def len : Fin 4 → ℕ
  | 0 => 2
  | 1 => 4
  | 2 => 8
  | 3 => 16
def lenW : Fin 4 → BitVec 32
  | 0 => 2#32
  | 1 => 4#32
  | 2 => 8#32
  | 3 => 16#32

theorem fsum_eq (g : Fin 4) (v : FVec Ideal S2048x128 .f32) (r : Fin 2048) (j : Fin 128) : fsum g v (ix2 r j) = win (colf v j) (len g) r.val := by
  have h1 : ∀ r : Fin 2048, fstep 1#32 v (ix2 r j) = win (colf v j) 2 r.val :=
    fstep_win _ 1 (by simp) v j fun r => by rw [win_one]; exact colf_at v j r
  have h2 : ∀ r : Fin 2048, fstep 2#32 (fstep 1#32 v) (ix2 r j) = win (colf v j) 4 r.val := fstep_win _ 2 (by simp) _ j h1
  have h3 : ∀ r : Fin 2048, fstep 4#32 (fstep 2#32 (fstep 1#32 v)) (ix2 r j) = win (colf v j) 8 r.val := fstep_win _ 4 (by simp) _ j h2
  match g with
  | 0 => exact h1 r
  | 1 => exact h2 r
  | 2 => exact h3 r
  | 3 => exact fstep_win _ 8 (by simp) _ j h3 r
theorem bsum_eq (g : Fin 4) (v : FVec Ideal S2048x128 .f32) (r : Fin 2048) (j : Fin 128) : bsum g v (ix2 r j) = fwin (colf v j) (len g) r.val := by
  have h0 := colf_end v j
  have h1 : ∀ r : Fin 2048, bstep 2047#32 v (ix2 r j) = fwin (colf v j) 2 r.val :=
    bstep_win _ h0 1 (by simp) v j fun r => by rw [fwin_one]; exact colf_at v j r
  have h2 : ∀ r : Fin 2048, bstep 2046#32 (bstep 2047#32 v) (ix2 r j) = fwin (colf v j) 4 r.val := bstep_win _ h0 2 (by simp) _ j h1
  have h3 : ∀ r : Fin 2048, bstep 2044#32 (bstep 2046#32 (bstep 2047#32 v)) (ix2 r j) = fwin (colf v j) 8 r.val := bstep_win _ h0 4 (by simp) _ j h2
  match g with
  | 0 => exact h1 r
  | 1 => exact h2 r
  | 2 => exact h3 r
  | 3 => exact bstep_win _ h0 8 (by simp) _ j h3 r

/-- How many entries a window that ends at row `r` holds. -/
abbrev num (g : Fin 4) (r : ℕ) : ℝ := ((min (r + 1) (len g) : ℕ) : ℝ)
theorem num_ne (g : Fin 4) (r : ℕ) : num g r ≠ 0 := by
  have : 0 < min (r + 1) (len g) := by
    match g with
    | 0 => exact lt_min (by omega) (by decide)
    | 1 => exact lt_min (by omega) (by decide)
    | 2 => exact lt_min (by omega) (by decide)
    | 3 => exact lt_min (by omega) (by decide)
  exact Nat.cast_ne_zero.2 (by omega)

theorem cnt_eq (g : Fin 4) (r : Fin 2048) (j : Fin 128) : cnt (lenW g) (ix2 r j) = ((num g r.val : ℝ) : EReal) := by
  have key : ∀ n : ℕ, n < 2048 → (((IntOp.minsi (BitVec.ofNat 32 r.val + 1#32) (BitVec.ofNat 32 n)).toInt : ℝ) : EReal) = (((min (r.val + 1) n : ℕ) : ℝ) : EReal) := by
    intro n hn
    have e : BitVec.ofNat 32 r.val + 1#32 = BitVec.ofNat 32 (r.val + 1) := (BitVec.ofNat_add r.val 1).symm
    have ti : ∀ k : ℕ, k < 4096 → (BitVec.ofNat 32 k).toInt = (k : ℤ) := fun k hk => by
      rw [BitVec.toInt_eq_toNat_of_lt, BitVec.toNat_ofNat, Nat.mod_eq_of_lt (by omega)]
      rw [BitVec.toNat_ofNat]; omega
    rw [e, IntOp.minsi, BitVec.slt_eq_decide, ti _ (by omega), ti _ (by omega)]
    by_cases h : r.val + 1 < n
    · rw [if_pos (by simpa using (by exact_mod_cast h : ((r.val + 1 : ℕ) : ℤ) < n)), ti _ (by omega), Nat.min_eq_left (by omega)]
      norm_cast
    · rw [if_neg (by simpa using (by omega : (n : ℤ) ≤ (r.val : ℤ) + 1)), ti _ (by omega), Nat.min_eq_right (by omega)]
      norm_cast
  have at_ : ∀ w : BitVec 32, cnt w (ix2 r j) = FloatOps.sitofp (F := Ideal) .f32 (IntOp.minsi (IntOp.addi (BitVec.ofNat 32 r.val) 1#32) w) := fun w => by pointwise [cnt]
  rw [at_]
  match g with
  | 0 => exact key (len 0) (by decide)
  | 1 => exact key (len 1) (by decide)
  | 2 => exact key (len 2) (by decide)
  | 3 => exact key (len 3) (by decide)

/-- One group of the forward body: the mean less the input, and its scaled product. -/
def dG (g : Fin 4) (v : Vec Ideal S2048x128 .f32) : FVec Ideal S2048x128 .bf16 := truncf .bf16 (subf (divf (fsum g v) (cnt (lenW g))) v) bitsLt_bf16_f32
abbrev wG (u : Vec Ideal S1x128x128 .f32) : FVec Ideal S128x128 .bf16 := truncf .bf16 (shapeCast S128x128 u shapeCasts_S1x128x128_S128x128) bitsLt_bf16_f32
abbrev zacc : FVec Ideal S2048x128 .f32 := constant S2048x128 .f32 0x00000000#32
def yG (d : FVec Ideal S2048x128 .bf16) (u : Vec Ideal S1x128x128 .f32) (s : Vec Ideal S1x128 .f32) : FVec Ideal S2048x128 .bf16 :=
  truncf .bf16 (mulf (matmul dot_S2048x128_S128x128_S2048x128_1_0_0_1_n_n none d (wG u) zacc) (broadcastTo S2048x128 s broadcasts_S1x128_S2048x128)) bitsLt_bf16_f32
/-- One group of the backward body: the gradient to the mean less the input, and the window sums of it over the counts, less it. -/
abbrev dyG (x : Vec Ideal S2048x128 .f32) (s : Vec Ideal S1x128 .f32) : FVec Ideal S2048x128 .bf16 :=
  truncf .bf16 (mulf x (broadcastTo S2048x128 s broadcasts_S1x128_S2048x128)) bitsLt_bf16_f32
def ddG (x : Vec Ideal S2048x128 .f32) (u : Vec Ideal S1x128x128 .f32) (s : Vec Ideal S1x128 .f32) : FVec Ideal S2048x128 .f32 :=
  matmul dot_S2048x128_S128x128_S2048x128_1_1_0_0_n_n none (dyG x s) (wG u) zacc
def dzG (g : Fin 4) (dd : FVec Ideal S2048x128 .f32) : FVec Ideal S2048x128 .bf16 :=
  truncf .bf16 (subf (bsum g (divf dd (cnt (lenW g)))) dd) bitsLt_bf16_f32
/-- The gradients to a group's weight and scales. -/
def dwG (x : Vec Ideal S2048x128 .f32) (d : Vec Ideal S2048x128 .bf16) (s : Vec Ideal S1x128 .f32) : FVec Ideal S1x128x128 .f32 := k1_pay6 x d s
def dscG (x : Vec Ideal S2048x128 .f32) (d : Vec Ideal S2048x128 .bf16) (u : Vec Ideal S1x128x128 .f32) : FVec Ideal S1x128 .f32 := k1_pay4 x d u

/-- The bodies' stores are these, group by group. -/
theorem out_y (x0 : Vec Ideal S2048x512 .f32) (x1 : Vec Ideal S4x128x128 .f32) (x2 : Vec Ideal S1x512 .f32) :
    out0_3 x0 x1 x2 = View.canon [⟨r0_9, yG (dG 3 (View.ld x0 r0_9)) (View.ld x1 r0_10) (View.ld x2 r0_11)⟩, ⟨r0_6, yG (dG 2 (View.ld x0 r0_6)) (View.ld x1 r0_7) (View.ld x2 r0_8)⟩,
      ⟨r0_3, yG (dG 1 (View.ld x0 r0_3)) (View.ld x1 r0_4) (View.ld x2 r0_5)⟩, ⟨r0_0, yG (dG 0 (View.ld x0 r0_0)) (View.ld x1 r0_1) (View.ld x2 r0_2)⟩] := rfl
theorem out_d (x0 : Vec Ideal S2048x512 .f32) (x1 : Vec Ideal S4x128x128 .f32) (x2 : Vec Ideal S1x512 .f32) :
    out0_4 x0 x1 x2 = View.canon [⟨r0_9, dG 3 (View.ld x0 r0_9)⟩, ⟨r0_6, dG 2 (View.ld x0 r0_6)⟩, ⟨r0_3, dG 1 (View.ld x0 r0_3)⟩, ⟨r0_0, dG 0 (View.ld x0 r0_0)⟩] := rfl
section
variable (x0 : Vec Ideal S2048x512 .f32) (x1 : Vec Ideal S2048x512 .bf16) (x2 : Vec Ideal S4x128x128 .f32) (x3 : Vec Ideal S1x512 .f32)
theorem out_dz : out1_4 x0 x1 x2 x3 = View.canon [⟨r1_9, dzG 3 (ddG (View.ld x0 r1_9) (View.ld x2 r1_10) (View.ld x3 r1_11))⟩, ⟨r1_6, dzG 2 (ddG (View.ld x0 r1_6) (View.ld x2 r1_7) (View.ld x3 r1_8))⟩,
    ⟨r1_3, dzG 1 (ddG (View.ld x0 r1_3) (View.ld x2 r1_4) (View.ld x3 r1_5))⟩, ⟨r1_0, dzG 0 (ddG (View.ld x0 r1_0) (View.ld x2 r1_1) (View.ld x3 r1_2))⟩] := rfl
theorem out_dw : out1_5 x0 x1 x2 x3 = View.canon [⟨r1_10, dwG (View.ld x0 r1_9) (View.ld x1 r1_9) (View.ld x3 r1_11)⟩, ⟨r1_7, dwG (View.ld x0 r1_6) (View.ld x1 r1_6) (View.ld x3 r1_8)⟩,
    ⟨r1_4, dwG (View.ld x0 r1_3) (View.ld x1 r1_3) (View.ld x3 r1_5)⟩, ⟨r1_1, dwG (View.ld x0 r1_0) (View.ld x1 r1_0) (View.ld x3 r1_2)⟩] := rfl
theorem out_dsc : out1_6 x0 x1 x2 x3 = View.canon [⟨r1_11, dscG (View.ld x0 r1_9) (View.ld x1 r1_9) (View.ld x2 r1_10)⟩, ⟨r1_8, dscG (View.ld x0 r1_6) (View.ld x1 r1_6) (View.ld x2 r1_7)⟩,
    ⟨r1_5, dscG (View.ld x0 r1_3) (View.ld x1 r1_3) (View.ld x2 r1_4)⟩, ⟨r1_2, dscG (View.ld x0 r1_0) (View.ld x1 r1_0) (View.ld x2 r1_1)⟩] := rfl
end

/-- The pieces at an index. -/
theorem dG_at (g : Fin 4) (v : Vec Ideal S2048x128 .f32) (r : Fin 2048) (j : Fin 128) :
    dG g v (ix2 r j) = (Ideal.div (win (colf v j) (len g) r.val) (num g r.val : ℝ) - v (ix2 r j) : EReal) := by
  show Ideal.div (fsum g v (ix2 r j)) (cnt (lenW g) (ix2 r j)) - v (ix2 r j) = _
  rw [fsum_eq, cnt_eq]
theorem yG_at (d : FVec Ideal S2048x128 .bf16) (u : Vec Ideal S1x128x128 .f32) (s : Vec Ideal S1x128 .f32) (r : Fin 2048) (j : Fin 128) :
    yG d u s (ix2 r j) = ((∑ i : Fin 128, d (ix2 r i) * u (ix3 0 i j)) * s (ix2 0 j) : EReal) := by
  pointwise [yG]
theorem ddG_at (x : Vec Ideal S2048x128 .f32) (u : Vec Ideal S1x128x128 .f32) (s : Vec Ideal S1x128 .f32) (r : Fin 2048) (j : Fin 128) :
    ddG x u s (ix2 r j) = (∑ o : Fin 128, x (ix2 r o) * s (ix2 0 o) * u (ix3 0 j o) : EReal) := by
  pointwise [ddG]
theorem dwG_at (x : Vec Ideal S2048x128 .f32) (d : Vec Ideal S2048x128 .bf16) (s : Vec Ideal S1x128 .f32) (i j : Fin 128) :
    dwG x d s (ix3 0 i j) = (∑ r : Fin 2048, d (ix2 r i) * (x (ix2 r j) * s (ix2 0 j)) : EReal) := by
  pointwise [dwG, k1_pay6, k1_pay5, k1_pay2]
theorem dscG_at (x : Vec Ideal S2048x128 .f32) (d : Vec Ideal S2048x128 .bf16) (u : Vec Ideal S1x128x128 .f32) (j : Fin 128) :
    dscG x d u (ix2 0 j) = (∑ r : Fin 2048, x (ix2 r j) * ∑ i : Fin 128, d (ix2 r i) * u (ix3 0 i j) : EReal) := by
  pointwise [dscG, k1_pay4, k1_pay3, k1_pay2]
theorem dzG_at (g : Fin 4) (dd : FVec Ideal S2048x128 .f32) (r : Fin 2048) (j : Fin 128) :
    dzG g dd (ix2 r j) = (fwin (fun n => Ideal.div (colf dd j n) (num g n : ℝ)) (len g) r.val - dd (ix2 r j) : EReal) := by
  show bsum g (divf dd (cnt (lenW g))) (ix2 r j) - dd (ix2 r j) = _
  rw [bsum_eq]
  congr 2
  funext n
  by_cases h : n < 2048
  · rw [colf, colf, dif_pos h, dif_pos h]
    show Ideal.div (dd _) (cnt (lenW g) (ix2 ⟨n, h⟩ j)) = _
    rw [cnt_eq]
  · rw [colf, colf, dif_neg h, dif_neg h, Ideal.div_coe (num_ne g n), zero_mul]

/-- A group's columns, slab and scales of the whole arrays. -/
def xg {e : EltTy} (x : Vec Ideal S2048x512 e) : Fin 4 → Vec Ideal S2048x128 e
  | 0 => View.ld x r0_0
  | 1 => View.ld x r0_3
  | 2 => View.ld x r0_6
  | 3 => View.ld x r0_9
def ug (u : Vec Ideal S4x128x128 .f32) : Fin 4 → Vec Ideal S1x128x128 .f32
  | 0 => View.ld u r0_1
  | 1 => View.ld u r0_4
  | 2 => View.ld u r0_7
  | 3 => View.ld u r0_10
def sg (s : Vec Ideal S1x512 .f32) : Fin 4 → Vec Ideal S1x128 .f32
  | 0 => View.ld s r0_2
  | 1 => View.ld s r0_5
  | 2 => View.ld s r0_8
  | 3 => View.ld s r0_11

theorem xg_at {e : EltTy} (x : Vec Ideal S2048x512 e) (g : Fin 4) (r : Fin 2048) (j : Fin 128) : xg x g (ix2 r j) = x (ix2 r (gc g j)) := by
  match g with
  | 0 => exact ld_col 0 _ x r j (gc 0 j) (by show 0 * 128 + _ = _; omega)
  | 1 => exact ld_col 128 _ x r j (gc 1 j) (by show 1 * 128 + _ = _; omega)
  | 2 => exact ld_col 256 _ x r j (gc 2 j) (by show 2 * 128 + _ = _; omega)
  | 3 => exact ld_col 384 _ x r j (gc 3 j) (by show 3 * 128 + _ = _; omega)
theorem sg_at (x : Vec Ideal S1x512 .f32) (g : Fin 4) (j : Fin 128) : sg x g (ix2 0 j) = x (ix2 0 (gc g j)) := by
  match g with
  | 0 => exact ld_col 0 _ x 0 j (gc 0 j) (by show 0 * 128 + _ = _; omega)
  | 1 => exact ld_col 128 _ x 0 j (gc 1 j) (by show 1 * 128 + _ = _; omega)
  | 2 => exact ld_col 256 _ x 0 j (gc 2 j) (by show 2 * 128 + _ = _; omega)
  | 3 => exact ld_col 384 _ x 0 j (gc 3 j) (by show 3 * 128 + _ = _; omega)
theorem ug_at (x : Vec Ideal S4x128x128 .f32) (g : Fin 4) (i j : Fin 128) : ug x g (ix3 0 i j) = x (ix3 g i j) := by
  match g with
  | 0 => exact ld_slab 0 _ x 0 i j rfl
  | 1 => exact ld_slab 1 _ x 1 i j rfl
  | 2 => exact ld_slab 2 _ x 2 i j rfl
  | 3 => exact ld_slab 3 _ x 3 i j rfl

/-- What the two bodies leave, at row `r` and column `j` of group `g`. -/
theorem y_at (x0 : Vec Ideal S2048x512 .f32) (x1 : Vec Ideal S4x128x128 .f32) (x2 : Vec Ideal S1x512 .f32) (r : Fin 2048) (g : Fin 4) (j : Fin 128) :
    out0_3 x0 x1 x2 (ix2 r (gc g j)) = yG (dG g (xg x0 g)) (ug x1 g) (sg x2 g) (ix2 r j) := by
  rw [out_y]
  exact cols4 (R := 2048) (e := .bf16) _ _ _ _ (fun g => yG (dG g (xg x0 g)) (ug x1 g) (sg x2 g)) r g j
theorem d_at (x0 : Vec Ideal S2048x512 .f32) (x1 : Vec Ideal S4x128x128 .f32) (x2 : Vec Ideal S1x512 .f32) (r : Fin 2048) (g : Fin 4) (j : Fin 128) :
    out0_4 x0 x1 x2 (ix2 r (gc g j)) = dG g (xg x0 g) (ix2 r j) := by
  rw [out_d]
  exact cols4 (R := 2048) (e := .bf16) _ _ _ _ (fun g => dG g (xg x0 g)) r g j
section
variable (x0 : Vec Ideal S2048x512 .f32) (x1 : Vec Ideal S2048x512 .bf16) (x2 : Vec Ideal S4x128x128 .f32) (x3 : Vec Ideal S1x512 .f32) (g : Fin 4)
theorem dz_at (r : Fin 2048) (j : Fin 128) : out1_4 x0 x1 x2 x3 (ix2 r (gc g j)) = dzG g (ddG (xg x0 g) (ug x2 g) (sg x3 g)) (ix2 r j) := by
  rw [out_dz]
  exact cols4 (R := 2048) (e := .bf16) _ _ _ _ (fun g => dzG g (ddG (xg x0 g) (ug x2 g) (sg x3 g))) r g j
theorem dw_at (i j : Fin 128) : out1_5 x0 x1 x2 x3 (ix3 g i j) = dwG (xg x0 g) (xg x1 g) (sg x3 g) (ix3 0 i j) := by
  rw [out_dw]
  exact slabs4 (e := .f32) _ _ _ _ (fun g => dwG (xg x0 g) (xg x1 g) (sg x3 g)) g i j
theorem dsc_at (j : Fin 128) : out1_6 x0 x1 x2 x3 (ix2 0 (gc g j)) = dscG (xg x0 g) (xg x1 g) (ug x2 g) (ix2 0 j) := by
  rw [out_dsc]
  exact cols4 (R := 1) (e := .f32) _ _ _ _ (fun g => dscG (xg x0 g) (xg x1 g) (ug x2 g)) 0 g j
end
end Cert.PoolIdeal.Value

end
-- ==== Proof.PoolValue.lean ====
/- The pool mixer and its gradient: what the four arrays that the two kernels leave hold, and that they are the reference's. The
   reference takes a window's sum as a difference of running sums; the kernels build it by doubling. -/
module

public import proofs.«01_k».proof.Defs
public import proofs.«01_k».proof.Proof.Gen.PoolIdeal.Frame
public import proofs.«01_k».proof.Proof.Gen.PoolRefIdeal.Read
public import proofs.«01_k».proof.Proof.PoolBody
public import proofs.«01_k».proof.Proof.Rows
public import proofs.«01_k».proof.Proof.Gen.Pre_finite_pool
public import Idealize.ShloMosaic.Lib.ReduceAll
public import Idealize.ShloMosaic.Lib.Pointwise.Sums

@[expose] public section

set_option maxRecDepth 16384

noncomputable section

namespace Cert.PoolIdeal.Value

open Cert.PoolIdeal Cert.PoolIdeal.Gen Idealize.ShloMosaic Idealize.ShloMosaic.TcCoe Idealize.SL.Sem Cert.Util Pipeline

section
variable (z : FVec Ideal S2048x1536 .f32) (pw : FVec Ideal S4x128x128 .f32) (sc : FVec Ideal S1x512 .f32) (dy : FVec Ideal S2048x1024 .f32)

open Cert.PoolRefIdeal.Read

/-- Column `j` of group `g` in the wider arrays that hold the mixer's columns first. -/
abbrev zc (g : Fin 4) (j : Fin 128) : Fin 1536 := ⟨g.val * 128 + j.val, by omega⟩
abbrev yc (g : Fin 4) (j : Fin 128) : Fin 1024 := ⟨g.val * 128 + j.val, by omega⟩

/-- A column of the input, by row number; zero past the end. -/
def zf (C : Fin 1536) : ℕ → EReal := fun n => if h : n < 2048 then z (ix2 ⟨n, h⟩ C) else 0
/-- The mean less the input, the gradient to it, and that gradient over the counts, by row number. -/
def dV (g : Fin 4) (r : Fin 2048) (j : Fin 128) : EReal := Ideal.div (win (zf z (zc g j)) (len g) r.val) (num g r.val : ℝ) - z (ix2 r (zc g j))
def ddV (g : Fin 4) (r : Fin 2048) (j : Fin 128) : EReal := ∑ o : Fin 128, dy (ix2 r (yc g o)) * sc (ix2 0 (gc g o)) * pw (ix3 g j o)
def ddf (g : Fin 4) (j : Fin 128) : ℕ → EReal := fun n => Ideal.div (if h : n < 2048 then ddV pw sc dy g ⟨n, h⟩ j else 0) (num g n : ℝ)

theorem ddf_end (g : Fin 4) (j : Fin 128) (n : ℕ) (h : 2048 ≤ n) : ddf pw sc dy g j n = 0 := by
  rw [ddf, dif_neg (by omega), Ideal.div_coe (num_ne g n), zero_mul]

/-- The reference's counts. -/
theorem rcnt (g : Fin 4) (n : ℕ) (hn : n < 4096) (w : BitVec 32) (hw : Ideal.ofBits .f32 w = ((len g : ℝ) : EReal)) :
    min (1 + FloatOps.sitofp (F := Ideal) .f32 (BitVec.ofNat 32 n)) (Ideal.ofBits .f32 w) = ((num g n : ℝ) : EReal) := by
  have ti : (BitVec.ofNat 32 n).toInt = (n : ℤ) := by
    rw [BitVec.toInt_eq_toNat_of_lt, BitVec.toNat_ofNat, Nat.mod_eq_of_lt (by omega)]
    rw [BitVec.toNat_ofNat]; omega
  rw [hw]
  show min ((1 : EReal) + (((BitVec.ofNat 32 n).toInt : ℝ) : EReal)) ((len g : ℝ) : EReal) = _
  rw [ti, ← EReal.coe_one, ← EReal.coe_add, ← EReal.coe_strictMono.monotone.map_min]
  congr 1
  rw [num, Nat.cast_min, add_comm]
  push_cast
  rfl

theorem lenw0 : Ideal.ofBits .f32 1073741824#32 = ((len 0 : ℝ) : EReal) := by
  simp [Ideal.ofBits, Ideal.ieee, len, -EReal.coe_mul]
  norm_num
theorem lenw1 : Ideal.ofBits .f32 1082130432#32 = ((len 1 : ℝ) : EReal) := by
  simp [Ideal.ofBits, Ideal.ieee, len, -EReal.coe_mul]
  norm_num
theorem lenw2 : Ideal.ofBits .f32 1090519040#32 = ((len 2 : ℝ) : EReal) := by
  simp [Ideal.ofBits, Ideal.ieee, len, -EReal.coe_mul]
  norm_num
theorem lenw3 : Ideal.ofBits .f32 1098907648#32 = ((len 3 : ℝ) : EReal) := by
  simp [Ideal.ofBits, Ideal.ieee, len, -EReal.coe_mul]
  norm_num

/-- The running sum's entries. -/
theorem ref_cs (r : Fin 2048) (C : Fin 512) : val_main_v5 (F := Ideal) z (ix3 0 r C) = cs (zf z ⟨C.val, by omega⟩) r.val := by
  have hx : ∀ n : Fin 2048, val_main_v1 (F := Ideal) z (ix3 0 n C) = zf z ⟨C.val, by omega⟩ n.val := fun n => by
    rw [zf, dif_pos n.isLt]
    pointwise [val_main_v1, val_main_v0]
  have h0 : ∀ y, val_main_call0_call0_v0 (F := Ideal) y = (0 : EReal) := fun y => by
    pointwise [val_main_call0_call0_v0, val_main_call0_call0_cst]
  exact cumsum_host 2047 rfl (val_main_v1 (F := Ideal) z) _ _ _ _ r C hx h0

/-- A difference of running sums is the window's sum, for real inputs. -/
theorem d_of (hz : ∀ (r : Fin 2048) (C : Fin 512), IsR (z (ix2 r ⟨C.val, by omega⟩))) (g : Fin 4) (l : ℕ) (hl : len g = l) (r : Fin 2048) (j : Fin 128) (C : ℕ) (hC : C < 512) (e : C = g.val * 128 + j.val) :
    (Ideal.div (val_main_v5 (F := Ideal) z (ix3 0 r ⟨C, hC⟩) - if h : r.val < l then 0 else val_main_v5 (F := Ideal) z (ix3 0 ⟨r.val - l, by omega⟩ ⟨C, hC⟩)) (num g r.val : ℝ)
      - z (ix2 r ⟨C, by omega⟩) : EReal) = dV z g r j := by
  subst hl
  subst e
  have hr : ∀ n, IsR (zf z (zc g j) n) := fun n => by
    unfold zf
    split
    · exact hz _ ⟨g.val * 128 + j.val, hC⟩
    · exact .zero
  simp only [ref_cs]
  rw [dV, ← cs_sub _ hr]
  rfl

theorem ref_d0 (hz : ∀ (r : Fin 2048) (C : Fin 512), IsR (z (ix2 r ⟨C.val, by omega⟩))) (r : Fin 2048) (j : Fin 128) : val_main_v21 (F := Ideal) z (ix3 0 r j) = dV z 0 r j := by
  have e : val_main_v21 (F := Ideal) z (ix3 0 r j) = (Ideal.div (val_main_v5 (F := Ideal) z (ix3 0 r ⟨0 + j.val, by omega⟩)
        - if h : r.val < 2 then 0 else val_main_v5 (F := Ideal) z (ix3 0 ⟨r.val - 2, by omega⟩ ⟨0 + j.val, by omega⟩)) (num 0 r.val : ℝ) - z (ix2 r ⟨0 + j.val, by omega⟩) : EReal) := by
    rw [← rcnt 0 r.val (by omega) _ lenw0]
    pointwise [val_main_v21, val_main_v19, val_main_v15, val_main_v10, val_main_v13, val_main_v11, val_main_cst_0, val_main_v12, val_main_v18, val_main_v17, val_main_v9, val_main_v8, val_main_v7, val_main_cst, val_main_v6, val_main_v16, val_main_cst_2, val_main_v20, val_main_v1, val_main_v0]
  exact e.trans (d_of z hz 0 2 rfl r j (0 + j.val) (by omega) (by show _ = 0 * 128 + _; omega))
theorem ref_d1 (hz : ∀ (r : Fin 2048) (C : Fin 512), IsR (z (ix2 r ⟨C.val, by omega⟩))) (r : Fin 2048) (j : Fin 128) : val_main_v33 (F := Ideal) z (ix3 0 r j) = dV z 1 r j := by
  have e : val_main_v33 (F := Ideal) z (ix3 0 r j) = (Ideal.div (val_main_v5 (F := Ideal) z (ix3 0 r ⟨128 + j.val, by omega⟩)
        - if h : r.val < 4 then 0 else val_main_v5 (F := Ideal) z (ix3 0 ⟨r.val - 4, by omega⟩ ⟨128 + j.val, by omega⟩)) (num 1 r.val : ℝ) - z (ix2 r ⟨128 + j.val, by omega⟩) : EReal) := by
    rw [← rcnt 1 r.val (by omega) _ lenw1]
    pointwise [val_main_v33, val_main_v31, val_main_v27, val_main_v22, val_main_v25, val_main_v23, val_main_cst_3, val_main_v24, val_main_v30, val_main_v29, val_main_v9, val_main_v8, val_main_v7, val_main_cst, val_main_v6, val_main_v28, val_main_cst_5, val_main_v32, val_main_v1, val_main_v0]
  exact e.trans (d_of z hz 1 4 rfl r j (128 + j.val) (by omega) (by show _ = 1 * 128 + _; omega))
theorem ref_d2 (hz : ∀ (r : Fin 2048) (C : Fin 512), IsR (z (ix2 r ⟨C.val, by omega⟩))) (r : Fin 2048) (j : Fin 128) : val_main_v45 (F := Ideal) z (ix3 0 r j) = dV z 2 r j := by
  have e : val_main_v45 (F := Ideal) z (ix3 0 r j) = (Ideal.div (val_main_v5 (F := Ideal) z (ix3 0 r ⟨256 + j.val, by omega⟩)
        - if h : r.val < 8 then 0 else val_main_v5 (F := Ideal) z (ix3 0 ⟨r.val - 8, by omega⟩ ⟨256 + j.val, by omega⟩)) (num 2 r.val : ℝ) - z (ix2 r ⟨256 + j.val, by omega⟩) : EReal) := by
    rw [← rcnt 2 r.val (by omega) _ lenw2]
    pointwise [val_main_v45, val_main_v43, val_main_v39, val_main_v34, val_main_v37, val_main_v35, val_main_cst_6, val_main_v36, val_main_v42, val_main_v41, val_main_v9, val_main_v8, val_main_v7, val_main_cst, val_main_v6, val_main_v40, val_main_cst_8, val_main_v44, val_main_v1, val_main_v0]
  exact e.trans (d_of z hz 2 8 rfl r j (256 + j.val) (by omega) (by show _ = 2 * 128 + _; omega))
theorem ref_d3 (hz : ∀ (r : Fin 2048) (C : Fin 512), IsR (z (ix2 r ⟨C.val, by omega⟩))) (r : Fin 2048) (j : Fin 128) : val_main_v57 (F := Ideal) z (ix3 0 r j) = dV z 3 r j := by
  have e : val_main_v57 (F := Ideal) z (ix3 0 r j) = (Ideal.div (val_main_v5 (F := Ideal) z (ix3 0 r ⟨384 + j.val, by omega⟩)
        - if h : r.val < 16 then 0 else val_main_v5 (F := Ideal) z (ix3 0 ⟨r.val - 16, by omega⟩ ⟨384 + j.val, by omega⟩)) (num 3 r.val : ℝ) - z (ix2 r ⟨384 + j.val, by omega⟩) : EReal) := by
    rw [← rcnt 3 r.val (by omega) _ lenw3]
    pointwise [val_main_v57, val_main_v55, val_main_v51, val_main_v46, val_main_v49, val_main_v47, val_main_cst_9, val_main_v48, val_main_v54, val_main_v53, val_main_v9, val_main_v8, val_main_v7, val_main_cst, val_main_v6, val_main_v52, val_main_cst_11, val_main_v56, val_main_v1, val_main_v0]
  exact e.trans (d_of z hz 3 16 rfl r j (384 + j.val) (by omega) (by show _ = 3 * 128 + _; omega))
theorem ref_v62 (hz : ∀ (r : Fin 2048) (C : Fin 512), IsR (z (ix2 r ⟨C.val, by omega⟩))) (g : Fin 4) (r : Fin 2048) (j : Fin 128) :
    val_main_v62 (F := Ideal) z (ix4 0 r g j) = dV z g r j := by
  match g with
  | 0 =>
    have e : val_main_v62 (F := Ideal) z (ix4 0 r 0 j) = val_main_v21 (F := Ideal) z (ix3 0 r j) := by
      pointwise [val_main_v62, val_main_v58, val_main_v59, val_main_v60, val_main_v61]
    exact e.trans (ref_d0 z hz r j)
  | 1 =>
    have e : val_main_v62 (F := Ideal) z (ix4 0 r 1 j) = val_main_v33 (F := Ideal) z (ix3 0 r j) := by
      pointwise [val_main_v62, val_main_v58, val_main_v59, val_main_v60, val_main_v61]
    exact e.trans (ref_d1 z hz r j)
  | 2 =>
    have e : val_main_v62 (F := Ideal) z (ix4 0 r 2 j) = val_main_v45 (F := Ideal) z (ix3 0 r j) := by
      pointwise [val_main_v62, val_main_v58, val_main_v59, val_main_v60, val_main_v61]
    exact e.trans (ref_d2 z hz r j)
  | 3 =>
    have e : val_main_v62 (F := Ideal) z (ix4 0 r 3 j) = val_main_v57 (F := Ideal) z (ix3 0 r j) := by
      pointwise [val_main_v62, val_main_v58, val_main_v59, val_main_v60, val_main_v61]
    exact e.trans (ref_d3 z hz r j)

/-- The groups' products, before the scale. -/
abbrev pV (g : Fin 4) (r : Fin 2048) (j : Fin 128) : EReal := ∑ i : Fin 128, pw (ix3 g i j) * val_main_v62 (F := Ideal) z (ix4 0 r g i)
theorem ref_v65 (r : Fin 2048) (C : Fin 512) : val_main_v65 (F := Ideal) z pw (ix3 0 r C) = pV z pw ⟨C.val / 128, by omega⟩ r ⟨C.val % 128, by omega⟩ := by
  pointwise [val_main_v65, val_main_v64, val_main_v63]
theorem ref_y (r : Fin 2048) (g : Fin 4) (j : Fin 128) : val_main_v139 (F := Ideal) z pw sc (ix2 r (gc g j)) = (pV z pw g r j * sc (ix2 0 (gc g j)) : EReal) := by
  have e : val_main_v139 (F := Ideal) z pw sc (ix2 r (gc g j)) = (val_main_v65 (F := Ideal) z pw (ix3 0 r (gc g j)) * sc (ix2 0 (gc g j)) : EReal) := by
    pointwise [val_main_v139, val_main_v138, val_main_v68, val_main_v67, val_main_v66, val_main_v4]
  rw [e, ref_v65, gc_div, gc_mod]
theorem ref_dsc (g : Fin 4) (j : Fin 128) : val_main_v137 (F := Ideal) z pw dy (ix2 0 (gc g j)) = (∑ r : Fin 2048, pV z pw g r j * dy (ix2 r (yc g j)) : EReal) := by
  have e1 : val_main_v137 (F := Ideal) z pw dy (ix2 0 (gc g j)) = val_main_v74 (F := Ideal) z pw dy (ix1 (gc g j)) := by
    pointwise [val_main_v137]
  have e2 : val_main_v74 (F := Ideal) z pw dy (ix1 (gc g j)) = val_main_v71 (F := Ideal) z pw dy (ix3 0 0 (gc g j)) := by
    show Ideal.hostReduceAdd PoolRefIdeal.Gen.reducesTo_S1x1x512_S512_d0_1 (val_main_v71 (F := Ideal) z pw dy) (Ideal.ofBits .f32 0#32) (ix1 (gc g j)) = _
    unfold Ideal.hostReduceAdd
    rw [Finset.sum_eq_single_of_mem (ix3 0 0 (gc g j))]
    · simp [Ideal.ofBits, Ideal.ieee]
    · refine Finset.mem_filter.2 ⟨Finset.mem_univ _, ?_⟩
      funext a
      obtain rfl : a = 0 := Subsingleton.elim ..
      rfl
    · intro y hy hne
      refine absurd ?_ hne
      have := (Finset.mem_filter.1 hy).2
      obtain ⟨a, b, k, rfl⟩ : ∃ a b k, y = ix3 a b k := ⟨y 0, y 1, y 2, eq_ix3 y⟩
      obtain rfl : a = 0 := Subsingleton.elim ..
      obtain rfl : b = 0 := Subsingleton.elim ..
      have hk : k = gc g j := congrFun this 0
      rw [hk]
  have e3 : val_main_v71 (F := Ideal) z pw dy (ix3 0 0 (gc g j)) = (∑ r : Fin 2048, val_main_v65 (F := Ideal) z pw (ix3 0 r (gc g j)) * dy (ix2 r (yc g j)) : EReal) := by
    pointwise [val_main_v71, val_main_v70, val_main_v69, val_main_v3, val_main_v2, val_main_cst_12]
  rw [e1, e2, e3]
  refine Finset.sum_congr rfl fun r _ => ?_
  rw [ref_v65, gc_div, gc_mod]
theorem ref_dw (g : Fin 4) (i j : Fin 128) : val_main_v80 (F := Ideal) z sc dy (ix3 g i j)
    = (∑ r : Fin 2048, dy (ix2 r (yc g j)) * sc (ix2 0 (gc g j)) * val_main_v62 (F := Ideal) z (ix4 0 r g i) : EReal) := by
  pointwise [val_main_v80, val_main_v79, val_main_v76, val_main_v75, val_main_v73, val_main_v3, val_main_v2, val_main_v72, val_main_v66, val_main_v4, Fin.sum_univ_one]
theorem ref_v77 (g : Fin 4) (r : Fin 2048) (j : Fin 128) : val_main_v77 (F := Ideal) pw sc dy (ix4 g 0 r j) = ddV pw sc dy g r j := by
  pointwise [val_main_v77, val_main_v76, val_main_v75, val_main_v73, val_main_v3, val_main_v2, val_main_v72, val_main_v66, val_main_v4, ddV]

theorem ref_dd0 (r : Fin 2048) (j : Fin 128) : val_main_v82 (F := Ideal) pw sc dy (ix3 0 r j) = ddV pw sc dy 0 r j := by
  pointwise [val_main_v82, val_main_v81, val_main_v78, ref_v77]
theorem ref_t0 (r : Fin 2048) (j : Fin 128) : val_main_v132 (F := Ideal) pw sc dy (ix3 0 r j) = (ddf pw sc dy 0 j r.val + -ddf pw sc dy 0 j (r.val + len 0) : EReal) := by
  have e : val_main_v132 (F := Ideal) pw sc dy (ix3 0 r j) = (Ideal.div (ddV pw sc dy 0 r j) (num 0 r.val : ℝ)
      + if h : r.val < 2046 then -Ideal.div (ddV pw sc dy 0 ⟨2 + r.val, by omega⟩ j) (num 0 (2 + r.val) : ℝ) else 0 : EReal) := by
    rw [← rcnt 0 r.val (by omega) _ lenw0, ← rcnt 0 (2 + r.val) (by omega) _ lenw0]
    pointwise [val_main_v132, val_main_v127, val_main_v126, val_main_v17, val_main_v9, val_main_v8, val_main_v7, val_main_cst, val_main_v6, val_main_v16, val_main_cst_2, val_main_v131, val_main_v130, val_main_v128, val_main_cst_24, ref_dd0]
  rw [e, ddf, ddf, dif_pos r.isLt]
  congr 1
  by_cases h : r.val < 2046
  · rw [dif_pos h, dif_pos (by show r.val + 2 < 2048; omega)]
    simp only [show r.val + len 0 = 2 + r.val from Nat.add_comm _ _]
  · rw [dif_neg h, dif_neg (by show ¬ r.val + 2 < 2048; omega), Ideal.div_coe (num_ne _ _), zero_mul, neg_zero]
theorem ref_dd1 (r : Fin 2048) (j : Fin 128) : val_main_v84 (F := Ideal) pw sc dy (ix3 0 r j) = ddV pw sc dy 1 r j := by
  pointwise [val_main_v84, val_main_v83, val_main_v78, ref_v77]
theorem ref_t1 (r : Fin 2048) (j : Fin 128) : val_main_v120 (F := Ideal) pw sc dy (ix3 0 r j) = (ddf pw sc dy 1 j r.val + -ddf pw sc dy 1 j (r.val + len 1) : EReal) := by
  have e : val_main_v120 (F := Ideal) pw sc dy (ix3 0 r j) = (Ideal.div (ddV pw sc dy 1 r j) (num 1 r.val : ℝ)
      + if h : r.val < 2044 then -Ideal.div (ddV pw sc dy 1 ⟨4 + r.val, by omega⟩ j) (num 1 (4 + r.val) : ℝ) else 0 : EReal) := by
    rw [← rcnt 1 r.val (by omega) _ lenw1, ← rcnt 1 (4 + r.val) (by omega) _ lenw1]
    pointwise [val_main_v120, val_main_v115, val_main_v114, val_main_v29, val_main_v9, val_main_v8, val_main_v7, val_main_cst, val_main_v6, val_main_v28, val_main_cst_5, val_main_v119, val_main_v118, val_main_v116, val_main_cst_21, ref_dd1]
  rw [e, ddf, ddf, dif_pos r.isLt]
  congr 1
  by_cases h : r.val < 2044
  · rw [dif_pos h, dif_pos (by show r.val + 4 < 2048; omega)]
    simp only [show r.val + len 1 = 4 + r.val from Nat.add_comm _ _]
  · rw [dif_neg h, dif_neg (by show ¬ r.val + 4 < 2048; omega), Ideal.div_coe (num_ne _ _), zero_mul, neg_zero]
theorem ref_dd2 (r : Fin 2048) (j : Fin 128) : val_main_v86 (F := Ideal) pw sc dy (ix3 0 r j) = ddV pw sc dy 2 r j := by
  pointwise [val_main_v86, val_main_v85, val_main_v78, ref_v77]
theorem ref_t2 (r : Fin 2048) (j : Fin 128) : val_main_v108 (F := Ideal) pw sc dy (ix3 0 r j) = (ddf pw sc dy 2 j r.val + -ddf pw sc dy 2 j (r.val + len 2) : EReal) := by
  have e : val_main_v108 (F := Ideal) pw sc dy (ix3 0 r j) = (Ideal.div (ddV pw sc dy 2 r j) (num 2 r.val : ℝ)
      + if h : r.val < 2040 then -Ideal.div (ddV pw sc dy 2 ⟨8 + r.val, by omega⟩ j) (num 2 (8 + r.val) : ℝ) else 0 : EReal) := by
    rw [← rcnt 2 r.val (by omega) _ lenw2, ← rcnt 2 (8 + r.val) (by omega) _ lenw2]
    pointwise [val_main_v108, val_main_v103, val_main_v102, val_main_v41, val_main_v9, val_main_v8, val_main_v7, val_main_cst, val_main_v6, val_main_v40, val_main_cst_8, val_main_v107, val_main_v106, val_main_v104, val_main_cst_18, ref_dd2]
  rw [e, ddf, ddf, dif_pos r.isLt]
  congr 1
  by_cases h : r.val < 2040
  · rw [dif_pos h, dif_pos (by show r.val + 8 < 2048; omega)]
    simp only [show r.val + len 2 = 8 + r.val from Nat.add_comm _ _]
  · rw [dif_neg h, dif_neg (by show ¬ r.val + 8 < 2048; omega), Ideal.div_coe (num_ne _ _), zero_mul, neg_zero]
theorem ref_dd3 (r : Fin 2048) (j : Fin 128) : val_main_v88 (F := Ideal) pw sc dy (ix3 0 r j) = ddV pw sc dy 3 r j := by
  pointwise [val_main_v88, val_main_v87, val_main_v78, ref_v77]
theorem ref_t3 (r : Fin 2048) (j : Fin 128) : val_main_v97 (F := Ideal) pw sc dy (ix3 0 r j) = (ddf pw sc dy 3 j r.val + -ddf pw sc dy 3 j (r.val + len 3) : EReal) := by
  have e : val_main_v97 (F := Ideal) pw sc dy (ix3 0 r j) = (Ideal.div (ddV pw sc dy 3 r j) (num 3 r.val : ℝ)
      + if h : r.val < 2032 then -Ideal.div (ddV pw sc dy 3 ⟨16 + r.val, by omega⟩ j) (num 3 (16 + r.val) : ℝ) else 0 : EReal) := by
    rw [← rcnt 3 r.val (by omega) _ lenw3, ← rcnt 3 (16 + r.val) (by omega) _ lenw3]
    pointwise [val_main_v97, val_main_v92, val_main_v91, val_main_v53, val_main_v9, val_main_v8, val_main_v7, val_main_cst, val_main_v6, val_main_v52, val_main_cst_11, val_main_v96, val_main_v95, val_main_v93, val_main_cst_15, ref_dd3]
  rw [e, ddf, ddf, dif_pos r.isLt]
  congr 1
  by_cases h : r.val < 2032
  · rw [dif_pos h, dif_pos (by show r.val + 16 < 2048; omega)]
    simp only [show r.val + len 3 = 16 + r.val from Nat.add_comm _ _]
  · rw [dif_neg h, dif_neg (by show ¬ r.val + 16 < 2048; omega), Ideal.div_coe (num_ne _ _), zero_mul, neg_zero]
attribute [local pointwise] val_main_v125 val_main_v113 val_main_v101 val_main_v90 val_main_v89 val_main_cst_14 val_main_v100 val_main_v99 val_main_cst_17 val_main_v112 val_main_v111 val_main_cst_20 val_main_v124 val_main_v123 val_main_cst_23 ref_dd0 ref_dd1 ref_dd2 ref_dd3
theorem ref_v125 (g : Fin 4) (r : Fin 2048) (j : Fin 128) : val_main_v125 (F := Ideal) pw sc dy (ix3 0 r (gc g j)) = (-ddV pw sc dy g r j : EReal) := by
  match g with
  | 0 =>
    rw [show gc 0 j = (⟨0 + j.val, by omega⟩ : Fin 512) from Fin.ext (by show 0 * 128 + j.val = 0 + j.val; omega)]
    pointwise []
    repeat rw [dif_neg (by omega)]
    simp only [false_and, dite_false, zero_add, add_zero]
  | 1 =>
    rw [show gc 1 j = (⟨128 + j.val, by omega⟩ : Fin 512) from Fin.ext (by show 1 * 128 + j.val = 128 + j.val; omega)]
    pointwise []
    repeat rw [dif_neg (by omega)]
    simp only [false_and, dite_false, zero_add, add_zero]
  | 2 =>
    rw [show gc 2 j = (⟨256 + j.val, by omega⟩ : Fin 512) from Fin.ext (by show 2 * 128 + j.val = 256 + j.val; omega)]
    pointwise []
    repeat rw [dif_neg (by omega)]
    simp only [false_and, dite_false, zero_add, add_zero]
  | 3 =>
    rw [show gc 3 j = (⟨384 + j.val, by omega⟩ : Fin 512) from Fin.ext (by show 3 * 128 + j.val = 384 + j.val; omega)]
    pointwise []
    repeat rw [dif_neg (by omega)]
    simp only [false_and, dite_false, zero_add, add_zero]
attribute [local pointwise] val_main_v134 val_main_v122 val_main_v110 val_main_v98 val_main_cst_16 val_main_v109 val_main_cst_19 val_main_v121 val_main_cst_22 val_main_v133 val_main_cst_25 ref_t0 ref_t1 ref_t2 ref_t3
theorem ref_v134 (g : Fin 4) (r : Fin 2048) (j : Fin 128) : val_main_v134 (F := Ideal) pw sc dy (ix3 0 r (gc g j)) = (ddf pw sc dy g j r.val + -ddf pw sc dy g j (r.val + len g) : EReal) := by
  match g with
  | 0 =>
    rw [show gc 0 j = (⟨0 + j.val, by omega⟩ : Fin 512) from Fin.ext (by show 0 * 128 + j.val = 0 + j.val; omega)]
    pointwise []
    repeat rw [dif_neg (by omega)]
    simp only [false_and, dite_false, zero_add, add_zero]
  | 1 =>
    rw [show gc 1 j = (⟨128 + j.val, by omega⟩ : Fin 512) from Fin.ext (by show 1 * 128 + j.val = 128 + j.val; omega)]
    pointwise []
    repeat rw [dif_neg (by omega)]
    simp only [false_and, dite_false, zero_add, add_zero]
  | 2 =>
    rw [show gc 2 j = (⟨256 + j.val, by omega⟩ : Fin 512) from Fin.ext (by show 2 * 128 + j.val = 256 + j.val; omega)]
    pointwise []
    repeat rw [dif_neg (by omega)]
    simp only [false_and, dite_false, zero_add, add_zero]
  | 3 =>
    rw [show gc 3 j = (⟨384 + j.val, by omega⟩ : Fin 512) from Fin.ext (by show 3 * 128 + j.val = 384 + j.val; omega)]
    pointwise []
    repeat rw [dif_neg (by omega)]
    simp only [false_and, dite_false, zero_add, add_zero]

/-- The gradient of the input: the window sums of the gradient over the counts, less the gradient. -/
theorem ref_dz (hr : ∀ g r j, IsR (ddV pw sc dy g r j)) (g : Fin 4) (r : Fin 2048) (j : Fin 128) :
    val_main_v141 (F := Ideal) pw sc dy (ix2 r (gc g j)) = (-ddV pw sc dy g r j + fwin (ddf pw sc dy g j) (len g) r.val : EReal) := by
  have e : val_main_v141 (F := Ideal) pw sc dy (ix2 r (gc g j)) = (val_main_v125 (F := Ideal) pw sc dy (ix3 0 r (gc g j)) + val_main_v135 (F := Ideal) pw sc dy (ix3 0 r (gc g j)) : EReal) := by
    pointwise [val_main_v141, val_main_v140, val_main_v136]
  have hf : ∀ n, IsR (ddf pw sc dy g j n) := fun n => by
    refine .div (num_ne g n) ?_
    split
    · exact hr _ _ _
    · exact .zero
  have h0 : ∀ n, 2048 ≤ n → (ddf pw sc dy g j n + -ddf pw sc dy g j (n + len g) : EReal) = 0 := fun n hn => by
    rw [ddf_end _ _ _ _ _ _ hn, ddf_end _ _ _ _ _ _ (by omega), neg_zero, add_zero]
  have t : val_main_v135 (F := Ideal) pw sc dy (ix3 0 r (gc g j)) = fwin (ddf pw sc dy g j) (len g) r.val := by
    have hi : ∀ y, val_main_call1_call0_v0 (F := Ideal) y = (0 : EReal) := fun y => by
      pointwise [val_main_call1_call0_v0, val_main_call1_call0_cst]
    exact (tailsum_host 2047 (val_main_v134 (F := Ideal) pw sc dy) _ _ _ (fun n => ddf pw sc dy g j n + -ddf pw sc dy g j (n + len g)) r (gc g j) (fun n => ref_v134 pw sc dy g n j) h0 hi).trans (tail_sub _ hf _ _ _ (ddf_end pw sc dy g j))
  rw [e, t, ref_v125]
end

variable (m : (ℓ : Loc nD τ sig) → Buf (Elt Ideal) ℓ) (ρ : Dev nD → PrngReg) (c : Dev nD)

/-- The arguments' arrays. -/
abbrev zA : FVec Ideal S2048x1536 .f32 := m ((c : Thread nD τ).loc main_arg0)
abbrev pwA : FVec Ideal S4x128x128 .f32 := m ((c : Thread nD τ).loc main_arg1)
abbrev scA : FVec Ideal S1x512 .f32 := m ((c : Thread nD τ).loc main_arg2)
abbrev dyA : FVec Ideal S2048x1024 .f32 := m ((c : Thread nD τ).loc main_arg3)

/-- The four results, as the reference computes them, and the array that the forward call hands on. -/
abbrev yRes : FVec Ideal S2048x512 .bf16 := Cert.PoolRefIdeal.Read.val_main_v139 (F := Ideal) (zA m c) (pwA m c) (scA m c)
abbrev dzRes : FVec Ideal S2048x512 .bf16 := Cert.PoolRefIdeal.Read.val_main_v141 (F := Ideal) (pwA m c) (scA m c) (dyA m c)
abbrev dwRes : FVec Ideal S4x128x128 .f32 := Cert.PoolRefIdeal.Read.val_main_v80 (F := Ideal) (zA m c) (scA m c) (dyA m c)
abbrev dscRes : FVec Ideal S1x512 .f32 := Cert.PoolRefIdeal.Read.val_main_v137 (F := Ideal) (zA m c) (pwA m c) (dyA m c)
def dArr : FVec Ideal S2048x512 .bf16 := fun y =>
  dV (zA m c) ⟨(y 1).val / 128, by have : (y 1).val < 512 := (y 1).isLt; omega⟩ (y 0) ⟨(y 1).val % 128, by omega⟩
theorem dArr_at (g : Fin 4) (r : Fin 2048) (j : Fin 128) : dArr m c (ix2 r (gc g j)) = dV (zA m c) g r j := by
  show dV (zA m c) ⟨(gc g j).val / 128, _⟩ r ⟨(gc g j).val % 128, _⟩ = _
  rw [gc_div, gc_mod]

/-- What the precondition says: the arguments' entries that the mixer reads are real numbers. -/
structure Fin4 : Prop where
  z : ∀ (r : Fin 2048) (C : Fin 512), IsR (zA m c (ix2 r ⟨C.val, by omega⟩))
  w : ∀ g i j, IsR (pwA m c (ix3 g i j))
  s : ∀ C, IsR (scA m c (ix2 0 C))
  dy : ∀ (r : Fin 2048) (C : Fin 512), IsR (dyA m c (ix2 r ⟨C.val, by omega⟩))

theorem fin4 (h : Cert.Pre_finite_pool.fn (F := Ideal) (zA m c) (pwA m c) (scA m c) (dyA m c) = fun _ => 1#1) : Fin4 m c := by
  have h0 := congrFun h (fun a => a.elim0)
  dsimp only [Cert.Pre_finite_pool.fn, Cert.Pre_finite_pool.fn_part1] at h0
  obtain ⟨h123, h4⟩ := (and_one_iff _ _).1 h0
  obtain ⟨h12, h3⟩ := (and_one_iff _ _).1 h123
  obtain ⟨h1, h2⟩ := (and_one_iff _ _).1 h12
  refine ⟨fun r b => ?_, fun g i j => real_of_lt (Host.reduce_andi_all _ _ _ _ _ h2 (ix3 g i j)), fun b => real_of_lt (Host.reduce_andi_all _ _ _ _ _ h3 (ix2 0 b)), fun r b => ?_⟩
  · refine (congrArg IsR ?_).mp (real_of_lt (Host.reduce_andi_all _ _ _ _ _ h1 (ix2 r b)))
    pointwise []
  · refine (congrArg IsR ?_).mp (real_of_lt (Host.reduce_andi_all _ _ _ _ _ h4 (ix2 r b)))
    pointwise []

/-- Each window's block index at the one grid point of each call. -/
theorem idx0 : ∀ t : Fin cfg0.N, (win0_0.index t 0 = 0 ∧ win0_0.index t 1 = 0) ∧ (win0_1.index t 0 = 0 ∧ win0_1.index t 1 = 0 ∧ win0_1.index t 2 = 0)
    ∧ (win0_2.index t 0 = 0 ∧ win0_2.index t 1 = 0) ∧ (win0_3.index t 0 = 0 ∧ win0_3.index t 1 = 0) ∧ (win0_4.index t 0 = 0 ∧ win0_4.index t 1 = 0) := by
  decide +kernel
theorem idx1 : ∀ t : Fin cfg1.N, (win1_0.index t 0 = 0 ∧ win1_0.index t 1 = 0) ∧ (win1_1.index t 0 = 0 ∧ win1_1.index t 1 = 0)
    ∧ (win1_2.index t 0 = 0 ∧ win1_2.index t 1 = 0 ∧ win1_2.index t 2 = 0) ∧ (win1_3.index t 0 = 0 ∧ win1_3.index t 1 = 0)
    ∧ (win1_4.index t 0 = 0 ∧ win1_4.index t 1 = 0) ∧ (win1_5.index t 0 = 0 ∧ win1_5.index t 1 = 0 ∧ win1_5.index t 2 = 0)
    ∧ (win1_6.index t 0 = 0 ∧ win1_6.index t 1 = 0) := by
  decide +kernel

theorem v1_arg (a : Ref sig .tc) (h : a ∈ argRefs) : V1 m ρ c a = m ((c : Thread nD τ).loc a) := W1_args m ρ c a h
theorem v0_arg (a : Ref sig .tc) : V0 m ρ c a = m ((c : Thread nD τ).loc a) := rfl

theorem emb0_0 (t : Fin cfg0.N) (a : Fin 2048) (b : Fin 512) : (win0_0.rect t).emb (ix2 a b) = ix2 a ⟨b.val, by omega⟩ := by
  apply idx2_ext
  · rw [win0_0.rect_emb_val, (idx0 t).1.1]; exact Nat.zero_add _
  · rw [win0_0.rect_emb_val, (idx0 t).1.2]; exact Nat.zero_add _
theorem emb0_1 (t : Fin cfg0.N) (a : Fin 4) (b k : Fin 128) : (win0_1.rect t).emb (ix3 a b k) = ix3 a b k := by
  apply idx3_ext
  · rw [win0_1.rect_emb_val, (idx0 t).2.1.1]; exact Nat.zero_add _
  · rw [win0_1.rect_emb_val, (idx0 t).2.1.2.1]; exact Nat.zero_add _
  · rw [win0_1.rect_emb_val, (idx0 t).2.1.2.2]; exact Nat.zero_add _
theorem emb0_2 (t : Fin cfg0.N) (a : Fin 1) (b : Fin 512) : (win0_2.rect t).emb (ix2 a b) = ix2 a b := by
  apply idx2_ext
  · rw [win0_2.rect_emb_val, (idx0 t).2.2.1.1]; exact Nat.zero_add _
  · rw [win0_2.rect_emb_val, (idx0 t).2.2.1.2]; exact Nat.zero_add _
theorem emb0_3 (t : Fin cfg0.N) (a : Fin 2048) (b : Fin 512) : (win0_3.rect t).emb (ix2 a b) = ix2 a b := by
  apply idx2_ext
  · rw [win0_3.rect_emb_val, (idx0 t).2.2.2.1.1]; exact Nat.zero_add _
  · rw [win0_3.rect_emb_val, (idx0 t).2.2.2.1.2]; exact Nat.zero_add _
theorem emb0_4 (t : Fin cfg0.N) (a : Fin 2048) (b : Fin 512) : (win0_4.rect t).emb (ix2 a b) = ix2 a b := by
  apply idx2_ext
  · rw [win0_4.rect_emb_val, (idx0 t).2.2.2.2.1]; exact Nat.zero_add _
  · rw [win0_4.rect_emb_val, (idx0 t).2.2.2.2.2]; exact Nat.zero_add _
theorem emb1_0 (t : Fin cfg1.N) (a : Fin 2048) (b : Fin 512) : (win1_0.rect t).emb (ix2 a b) = ix2 a ⟨b.val, by omega⟩ := by
  apply idx2_ext
  · rw [win1_0.rect_emb_val, (idx1 t).1.1]; exact Nat.zero_add _
  · rw [win1_0.rect_emb_val, (idx1 t).1.2]; exact Nat.zero_add _
theorem emb1_1 (t : Fin cfg1.N) (a : Fin 2048) (b : Fin 512) : (win1_1.rect t).emb (ix2 a b) = ix2 a b := by
  apply idx2_ext
  · rw [win1_1.rect_emb_val, (idx1 t).2.1.1]; exact Nat.zero_add _
  · rw [win1_1.rect_emb_val, (idx1 t).2.1.2]; exact Nat.zero_add _
theorem emb1_2 (t : Fin cfg1.N) (a : Fin 4) (b k : Fin 128) : (win1_2.rect t).emb (ix3 a b k) = ix3 a b k := by
  apply idx3_ext
  · rw [win1_2.rect_emb_val, (idx1 t).2.2.1.1]; exact Nat.zero_add _
  · rw [win1_2.rect_emb_val, (idx1 t).2.2.1.2.1]; exact Nat.zero_add _
  · rw [win1_2.rect_emb_val, (idx1 t).2.2.1.2.2]; exact Nat.zero_add _
theorem emb1_3 (t : Fin cfg1.N) (a : Fin 1) (b : Fin 512) : (win1_3.rect t).emb (ix2 a b) = ix2 a b := by
  apply idx2_ext
  · rw [win1_3.rect_emb_val, (idx1 t).2.2.2.1.1]; exact Nat.zero_add _
  · rw [win1_3.rect_emb_val, (idx1 t).2.2.2.1.2]; exact Nat.zero_add _
theorem emb1_4 (t : Fin cfg1.N) (a : Fin 2048) (b : Fin 512) : (win1_4.rect t).emb (ix2 a b) = ix2 a b := by
  apply idx2_ext
  · rw [win1_4.rect_emb_val, (idx1 t).2.2.2.2.1.1]; exact Nat.zero_add _
  · rw [win1_4.rect_emb_val, (idx1 t).2.2.2.2.1.2]; exact Nat.zero_add _
theorem emb1_5 (t : Fin cfg1.N) (a : Fin 4) (b k : Fin 128) : (win1_5.rect t).emb (ix3 a b k) = ix3 a b k := by
  apply idx3_ext
  · rw [win1_5.rect_emb_val, (idx1 t).2.2.2.2.2.1.1]; exact Nat.zero_add _
  · rw [win1_5.rect_emb_val, (idx1 t).2.2.2.2.2.1.2.1]; exact Nat.zero_add _
  · rw [win1_5.rect_emb_val, (idx1 t).2.2.2.2.2.1.2.2]; exact Nat.zero_add _
theorem emb1_6 (t : Fin cfg1.N) (a : Fin 1) (b : Fin 512) : (win1_6.rect t).emb (ix2 a b) = ix2 a b := by
  apply idx2_ext
  · rw [win1_6.rect_emb_val, (idx1 t).2.2.2.2.2.2.1]; exact Nat.zero_add _
  · rw [win1_6.rect_emb_val, (idx1 t).2.2.2.2.2.2.2]; exact Nat.zero_add _
theorem blk0_0 (t : Fin cfg0.N) (a : Fin 2048) (b : Fin 512) : iblk0 (V0 m ρ) c 0 t (ix2 a b) = zA m c (ix2 a ⟨b.val, by omega⟩) :=
  (congrArg (V0 m ρ c main_arg0) (emb0_0 t a b)).trans (congrFun (v0_arg m ρ c main_arg0) _)
theorem blk0_1 (t : Fin cfg0.N) (a : Fin 4) (b k : Fin 128) : iblk0 (V0 m ρ) c 1 t (ix3 a b k) = pwA m c (ix3 a b k) :=
  (congrArg (V0 m ρ c main_arg1) (emb0_1 t a b k)).trans (congrFun (v0_arg m ρ c main_arg1) _)
theorem blk0_2 (t : Fin cfg0.N) (a : Fin 1) (b : Fin 512) : iblk0 (V0 m ρ) c 2 t (ix2 a b) = scA m c (ix2 a b) :=
  (congrArg (V0 m ρ c main_arg2) (emb0_2 t a b)).trans (congrFun (v0_arg m ρ c main_arg2) _)
theorem blk1_0 (t : Fin cfg1.N) (a : Fin 2048) (b : Fin 512) : iblk1 (V1 m ρ) c 0 t (ix2 a b) = dyA m c (ix2 a ⟨b.val, by omega⟩) :=
  (congrArg (V1 m ρ c main_arg3) (emb1_0 t a b)).trans (congrFun (v1_arg m ρ c main_arg3 (by decide)) _)
theorem blk1_2 (t : Fin cfg1.N) (a : Fin 4) (b k : Fin 128) : iblk1 (V1 m ρ) c 2 t (ix3 a b k) = pwA m c (ix3 a b k) :=
  (congrArg (V1 m ρ c main_arg1) (emb1_2 t a b k)).trans (congrFun (v1_arg m ρ c main_arg1 (by decide)) _)
theorem blk1_3 (t : Fin cfg1.N) (a : Fin 1) (b : Fin 512) : iblk1 (V1 m ρ) c 3 t (ix2 a b) = scA m c (ix2 a b) :=
  (congrArg (V1 m ρ c main_arg2) (emb1_3 t a b)).trans (congrFun (v1_arg m ρ c main_arg2 (by decide)) _)

/-- A group of the forward block is the mean less the input. -/
theorem dG_blk (t : Fin cfg0.N) (g : Fin 4) (r : Fin 2048) (j : Fin 128) : dG g (xg (iblk0 (V0 m ρ) c 0 t) g) (ix2 r j) = dV (zA m c) g r j := by
  have e : colf (xg (iblk0 (V0 m ρ) c 0 t) g) j = zf (zA m c) (zc g j) := by
    funext n
    unfold colf zf
    by_cases h : n < 2048
    · rw [dif_pos h, dif_pos h, xg_at, blk0_0]
    · rw [dif_neg h, dif_neg h]
  rw [dG_at, e, xg_at, blk0_0]
  rfl
theorem d_blk (t : Fin cfg0.N) (r : Fin 2048) (C : Fin 512) :
    out0_4 (iblk0 (V0 m ρ) c 0 t) (iblk0 (V0 m ρ) c 1 t) (iblk0 (V0 m ρ) c 2 t) (ix2 r C) = dArr m c (ix2 r C) := by
  obtain ⟨g, j, rfl⟩ := col_of C
  rw [d_at, dG_blk, dArr_at]
theorem y_blk (h : Fin4 m c) (t : Fin cfg0.N) (r : Fin 2048) (C : Fin 512) :
    out0_3 (iblk0 (V0 m ρ) c 0 t) (iblk0 (V0 m ρ) c 1 t) (iblk0 (V0 m ρ) c 2 t) (ix2 r C) = yRes m c (ix2 r C) := by
  obtain ⟨g, j, rfl⟩ := col_of C
  rw [y_at, yG_at]
  refine Eq.trans ?_ (ref_y (zA m c) (pwA m c) (scA m c) r g j).symm
  rw [sg_at, blk0_2]
  refine congrArg (· * scA m c (ix2 0 (gc g j))) (Finset.sum_congr rfl fun i _ => ?_)
  rw [dG_blk, ug_at, blk0_1, ref_v62 _ h.z]
  exact mul_comm (G := EReal) _ _

theorem mem_out0_3 (t : Fin cfg0.N) (i : S2048x512.Idx) : i ∈ ((cfg0.win 3).blk t).view.set ↔
    ∀ a : Fin 2, win0_3.index t a * win0_3.size a ≤ (i a).val ∧ (i a).val < win0_3.index t a * win0_3.size a + win0_3.size a := by
  show i ∈ ((View.whole main_v0_0).slice (win0_3.rect t)).set ↔ _
  rw [View.set_slice_whole, Rect.mem_set_unit]
  rfl
theorem res0_3 (h : Fin4 m c) : (dat0 (V0 m ρ) c).arrAt 3 cfg0.N = yRes m c := by
  refine Dat.arrAt_eq_of_cover (dat0 (V0 m ρ) c) 3 _ ?_ fun i => ?_
  · intro t _
    show (cfg0.win 3).cut (grid0.coords t) ((dat0 (V0 m ρ) c).after 3 t) = _
    rw [after0_3]
    funext y
    show out0_3 (iblk0 (V0 m ρ) c 0 t) (iblk0 (V0 m ρ) c 1 t) (iblk0 (V0 m ρ) c 2 t) y = yRes m c ((win0_3.rect t).emb y)
    obtain ⟨a, b, rfl⟩ : ∃ a b, y = ix2 a b := ⟨y 0, y 1, eq_ix2 y⟩
    rw [emb0_3]
    exact y_blk m ρ c h t a b
  · refine ⟨⟨0, (by show 0 < grid0.N; rw [N_0]; decide)⟩, flush0_3 _, (mem_out0_3 _ i).2 fun a => ?_⟩
    match a with
    | ⟨0, _⟩ =>
      have hi : (i 0).val < 2048 := (i 0).isLt
      show win0_3.index _ 0 * 2048 ≤ (i 0).val ∧ (i 0).val < win0_3.index _ 0 * 2048 + 2048
      rw [(idx0 _).2.2.2.1.1]
      omega
    | ⟨1, _⟩ =>
      have hi : (i 1).val < 512 := (i 1).isLt
      show win0_3.index _ 1 * 512 ≤ (i 1).val ∧ (i 1).val < win0_3.index _ 1 * 512 + 512
      rw [(idx0 _).2.2.2.1.2]
      omega
theorem mem_out0_4 (t : Fin cfg0.N) (i : S2048x512.Idx) : i ∈ ((cfg0.win 4).blk t).view.set ↔
    ∀ a : Fin 2, win0_4.index t a * win0_4.size a ≤ (i a).val ∧ (i a).val < win0_4.index t a * win0_4.size a + win0_4.size a := by
  show i ∈ ((View.whole main_v0_1).slice (win0_4.rect t)).set ↔ _
  rw [View.set_slice_whole, Rect.mem_set_unit]
  rfl
theorem res0_4 : (dat0 (V0 m ρ) c).arrAt 4 cfg0.N = dArr m c := by
  refine Dat.arrAt_eq_of_cover (dat0 (V0 m ρ) c) 4 _ ?_ fun i => ?_
  · intro t _
    show (cfg0.win 4).cut (grid0.coords t) ((dat0 (V0 m ρ) c).after 4 t) = _
    rw [after0_4]
    funext y
    show out0_4 (iblk0 (V0 m ρ) c 0 t) (iblk0 (V0 m ρ) c 1 t) (iblk0 (V0 m ρ) c 2 t) y = dArr m c ((win0_4.rect t).emb y)
    obtain ⟨a, b, rfl⟩ : ∃ a b, y = ix2 a b := ⟨y 0, y 1, eq_ix2 y⟩
    rw [emb0_4]
    exact d_blk m ρ c t a b
  · refine ⟨⟨0, (by show 0 < grid0.N; rw [N_0]; decide)⟩, flush0_4 _, (mem_out0_4 _ i).2 fun a => ?_⟩
    match a with
    | ⟨0, _⟩ =>
      have hi : (i 0).val < 2048 := (i 0).isLt
      show win0_4.index _ 0 * 2048 ≤ (i 0).val ∧ (i 0).val < win0_4.index _ 0 * 2048 + 2048
      rw [(idx0 _).2.2.2.2.1]
      omega
    | ⟨1, _⟩ =>
      have hi : (i 1).val < 512 := (i 1).isLt
      show win0_4.index _ 1 * 512 ≤ (i 1).val ∧ (i 1).val < win0_4.index _ 1 * 512 + 512
      rw [(idx0 _).2.2.2.2.2]
      omega

/-- The backward call reads what the forward call left. -/
theorem blk1_1 (t : Fin cfg1.N) (a : Fin 2048) (b : Fin 512) : iblk1 (V1 m ρ) c 1 t (ix2 a b) = dArr m c (ix2 a b) :=
  (congrArg (V1 m ρ c main_v0_1) (emb1_1 t a b)).trans (congrFun (((hF0 m ρ c 4).symm).trans (res0_4 m ρ c)) _)

theorem ddV_real (h : Fin4 m c) (g : Fin 4) (r : Fin 2048) (j : Fin 128) : IsR (ddV (pwA m c) (scA m c) (dyA m c) g r j) :=
  .sum fun o => ((h.dy r (gc g o)).mul (h.s _)).mul (h.w _ _ _)
theorem ddG_blk (t : Fin cfg1.N) (g : Fin 4) (r : Fin 2048) (j : Fin 128) :
    ddG (xg (iblk1 (V1 m ρ) c 0 t) g) (ug (iblk1 (V1 m ρ) c 2 t) g) (sg (iblk1 (V1 m ρ) c 3 t) g) (ix2 r j) = ddV (pwA m c) (scA m c) (dyA m c) g r j := by
  rw [ddG_at]
  simp only [xg_at, ug_at, sg_at, blk1_0, blk1_2, blk1_3]
  rfl
section
variable (h : Fin4 m c) (t : Fin cfg1.N)
include h
theorem dz_blk (r : Fin 2048) (C : Fin 512) :
    out1_4 (iblk1 (V1 m ρ) c 0 t) (iblk1 (V1 m ρ) c 1 t) (iblk1 (V1 m ρ) c 2 t) (iblk1 (V1 m ρ) c 3 t) (ix2 r C) = dzRes m c (ix2 r C) := by
  obtain ⟨g, j, rfl⟩ := col_of C
  rw [dz_at, dzG_at, ddG_blk]
  refine Eq.trans ?_ (ref_dz (pwA m c) (scA m c) (dyA m c) (ddV_real m c h) g r j).symm
  have e : (fun n => Ideal.div (colf (ddG (xg (iblk1 (V1 m ρ) c 0 t) g) (ug (iblk1 (V1 m ρ) c 2 t) g) (sg (iblk1 (V1 m ρ) c 3 t) g)) j n) (num g n : ℝ))
      = ddf (pwA m c) (scA m c) (dyA m c) g j := by
    funext n
    unfold colf ddf
    by_cases h : n < 2048
    · rw [dif_pos h, dif_pos h, ddG_blk]
    · rw [dif_neg h, dif_neg h]
  rw [e, sub_eq_add_neg, add_comm]
theorem dw_blk (g : Fin 4) (i j : Fin 128) :
    out1_5 (iblk1 (V1 m ρ) c 0 t) (iblk1 (V1 m ρ) c 1 t) (iblk1 (V1 m ρ) c 2 t) (iblk1 (V1 m ρ) c 3 t) (ix3 g i j) = dwRes m c (ix3 g i j) := by
  rw [dw_at, dwG_at]
  refine Eq.trans ?_ (ref_dw (zA m c) (scA m c) (dyA m c) g i j).symm
  refine Finset.sum_congr rfl fun r _ => ?_
  rw [xg_at, xg_at, sg_at, blk1_0, blk1_1, blk1_3, dArr_at, ref_v62 _ h.z]
  exact mul_comm (G := EReal) _ _
theorem dsc_blk (a : Fin 1) (C : Fin 512) :
    out1_6 (iblk1 (V1 m ρ) c 0 t) (iblk1 (V1 m ρ) c 1 t) (iblk1 (V1 m ρ) c 2 t) (iblk1 (V1 m ρ) c 3 t) (ix2 a C) = dscRes m c (ix2 a C) := by
  obtain ⟨g, j, rfl⟩ := col_of C
  obtain rfl : a = 0 := Subsingleton.elim ..
  rw [dsc_at, dscG_at]
  refine Eq.trans ?_ (ref_dsc (zA m c) (pwA m c) (dyA m c) g j).symm
  refine Finset.sum_congr rfl fun r _ => ?_
  rw [xg_at, blk1_0]
  refine (mul_comm (G := EReal) _ _).trans (congrArg (· * dyA m c (ix2 r (yc g j))) (Finset.sum_congr rfl fun i _ => ?_))
  rw [xg_at, ug_at, blk1_1, blk1_2, dArr_at, ref_v62 _ h.z]
  exact mul_comm (G := EReal) _ _
end

theorem mem_out1_4 (t : Fin cfg1.N) (i : S2048x512.Idx) : i ∈ ((cfg1.win 4).blk t).view.set ↔
    ∀ a : Fin 2, win1_4.index t a * win1_4.size a ≤ (i a).val ∧ (i a).val < win1_4.index t a * win1_4.size a + win1_4.size a := by
  show i ∈ ((View.whole main_v1_0).slice (win1_4.rect t)).set ↔ _
  rw [View.set_slice_whole, Rect.mem_set_unit]
  rfl
theorem res1_4 (h : Fin4 m c) : (dat1 (V1 m ρ) c).arrAt 4 cfg1.N = dzRes m c := by
  refine Dat.arrAt_eq_of_cover (dat1 (V1 m ρ) c) 4 _ ?_ fun i => ?_
  · intro t _
    show (cfg1.win 4).cut (grid1.coords t) ((dat1 (V1 m ρ) c).after 4 t) = _
    rw [after1_4]
    funext y
    show out1_4 (iblk1 (V1 m ρ) c 0 t) (iblk1 (V1 m ρ) c 1 t) (iblk1 (V1 m ρ) c 2 t) (iblk1 (V1 m ρ) c 3 t) y = dzRes m c ((win1_4.rect t).emb y)
    obtain ⟨a, b, rfl⟩ : ∃ a b, y = ix2 a b := ⟨y 0, y 1, eq_ix2 y⟩
    rw [emb1_4]
    exact dz_blk m ρ c h t a b
  · refine ⟨⟨0, (by show 0 < grid1.N; rw [N_1]; decide)⟩, flush1_4 _, (mem_out1_4 _ i).2 fun a => ?_⟩
    match a with
    | ⟨0, _⟩ =>
      have hi : (i 0).val < 2048 := (i 0).isLt
      show win1_4.index _ 0 * 2048 ≤ (i 0).val ∧ (i 0).val < win1_4.index _ 0 * 2048 + 2048
      rw [(idx1 _).2.2.2.2.1.1]
      omega
    | ⟨1, _⟩ =>
      have hi : (i 1).val < 512 := (i 1).isLt
      show win1_4.index _ 1 * 512 ≤ (i 1).val ∧ (i 1).val < win1_4.index _ 1 * 512 + 512
      rw [(idx1 _).2.2.2.2.1.2]
      omega
theorem mem_out1_5 (t : Fin cfg1.N) (i : S4x128x128.Idx) : i ∈ ((cfg1.win 5).blk t).view.set ↔
    ∀ a : Fin 3, win1_5.index t a * win1_5.size a ≤ (i a).val ∧ (i a).val < win1_5.index t a * win1_5.size a + win1_5.size a := by
  show i ∈ ((View.whole main_v1_1).slice (win1_5.rect t)).set ↔ _
  rw [View.set_slice_whole, Rect.mem_set_unit]
  rfl
theorem res1_5 (h : Fin4 m c) : (dat1 (V1 m ρ) c).arrAt 5 cfg1.N = dwRes m c := by
  refine Dat.arrAt_eq_of_cover (dat1 (V1 m ρ) c) 5 _ ?_ fun i => ?_
  · intro t _
    show (cfg1.win 5).cut (grid1.coords t) ((dat1 (V1 m ρ) c).after 5 t) = _
    rw [after1_5]
    funext y
    show out1_5 (iblk1 (V1 m ρ) c 0 t) (iblk1 (V1 m ρ) c 1 t) (iblk1 (V1 m ρ) c 2 t) (iblk1 (V1 m ρ) c 3 t) y = dwRes m c ((win1_5.rect t).emb y)
    obtain ⟨a, b, k, rfl⟩ : ∃ a b k, y = ix3 a b k := ⟨y 0, y 1, y 2, eq_ix3 y⟩
    rw [emb1_5]
    exact dw_blk m ρ c h t a b k
  · refine ⟨⟨0, (by show 0 < grid1.N; rw [N_1]; decide)⟩, flush1_5 _, (mem_out1_5 _ i).2 fun a => ?_⟩
    match a with
    | ⟨0, _⟩ =>
      have hi : (i 0).val < 4 := (i 0).isLt
      show win1_5.index _ 0 * 4 ≤ (i 0).val ∧ (i 0).val < win1_5.index _ 0 * 4 + 4
      rw [(idx1 _).2.2.2.2.2.1.1]
      omega
    | ⟨1, _⟩ =>
      have hi : (i 1).val < 128 := (i 1).isLt
      show win1_5.index _ 1 * 128 ≤ (i 1).val ∧ (i 1).val < win1_5.index _ 1 * 128 + 128
      rw [(idx1 _).2.2.2.2.2.1.2.1]
      omega
    | ⟨2, _⟩ =>
      have hi : (i 2).val < 128 := (i 2).isLt
      show win1_5.index _ 2 * 128 ≤ (i 2).val ∧ (i 2).val < win1_5.index _ 2 * 128 + 128
      rw [(idx1 _).2.2.2.2.2.1.2.2]
      omega
theorem mem_out1_6 (t : Fin cfg1.N) (i : S1x512.Idx) : i ∈ ((cfg1.win 6).blk t).view.set ↔
    ∀ a : Fin 2, win1_6.index t a * win1_6.size a ≤ (i a).val ∧ (i a).val < win1_6.index t a * win1_6.size a + win1_6.size a := by
  show i ∈ ((View.whole main_v1_2).slice (win1_6.rect t)).set ↔ _
  rw [View.set_slice_whole, Rect.mem_set_unit]
  rfl
theorem res1_6 (h : Fin4 m c) : (dat1 (V1 m ρ) c).arrAt 6 cfg1.N = dscRes m c := by
  refine Dat.arrAt_eq_of_cover (dat1 (V1 m ρ) c) 6 _ ?_ fun i => ?_
  · intro t _
    show (cfg1.win 6).cut (grid1.coords t) ((dat1 (V1 m ρ) c).after 6 t) = _
    rw [after1_6]
    funext y
    show out1_6 (iblk1 (V1 m ρ) c 0 t) (iblk1 (V1 m ρ) c 1 t) (iblk1 (V1 m ρ) c 2 t) (iblk1 (V1 m ρ) c 3 t) y = dscRes m c ((win1_6.rect t).emb y)
    obtain ⟨a, b, rfl⟩ : ∃ a b, y = ix2 a b := ⟨y 0, y 1, eq_ix2 y⟩
    rw [emb1_6]
    exact dsc_blk m ρ c h t a b
  · refine ⟨⟨0, (by show 0 < grid1.N; rw [N_1]; decide)⟩, flush1_6 _, (mem_out1_6 _ i).2 fun a => ?_⟩
    match a with
    | ⟨0, _⟩ =>
      have hi : (i 0).val < 1 := (i 0).isLt
      show win1_6.index _ 0 * 1 ≤ (i 0).val ∧ (i 0).val < win1_6.index _ 0 * 1 + 1
      rw [(idx1 _).2.2.2.2.2.2.1]
      omega
    | ⟨1, _⟩ =>
      have hi : (i 1).val < 512 := (i 1).isLt
      show win1_6.index _ 1 * 512 ≤ (i 1).val ∧ (i 1).val < win1_6.index _ 1 * 512 + 512
      rw [(idx1 _).2.2.2.2.2.2.2]
      omega
section
open Idealize.SL Idealize.SL.RA Idealize.SL.BI
open scoped Idealize.SL.BI
open Idealize.SL.BI.BIBase Idealize.SL.BI.Laws Idealize.SL.ProofMode Idealize.ShloMosaic.Rounds Idealize.ShloMosaic.Tactic

/-- Every buffer of the program ends with what the two calls leave in it. -/
theorem run_all : θ_run defs (onTc (τ := τ) (main (F := Ideal))) ⟨m, fun _ => 0, ρ⟩ fun r =>
      ∀ c : Dev nD, ∀ b ∈ Pipeline.ucRefs τ sig, r.2.mem (((c : Thread nD τ)).1, b) = W2 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      isplitl [Hp]
      · iexists _
        iexact Hp
      iexists ∅
      iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)
end

/-- Every fair execution ends with the four results that the reference computes, and the arguments as they were. -/
theorem run_res : θ_run defs (onTc (τ := τ) (main (F := Ideal))) ⟨m, fun _ => 0, ρ⟩ fun r => ∀ c : Dev nD, Fin4 m c →
      r.2.mem ((c : Thread nD τ).loc main_v0_0) = yRes m c ∧ r.2.mem ((c : Thread nD τ).loc main_v1_0) = dzRes m c
      ∧ r.2.mem ((c : Thread nD τ).loc main_v1_1) = dwRes m c ∧ r.2.mem ((c : Thread nD τ).loc main_v1_2) = dscRes m c
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c hf =>
    ⟨(h c _ (mem_uc main_v0_0 (by decide))).trans ((W2_of m ρ c main_v0_0 (by decide)).trans (((hF0 m ρ c 3).symm).trans (res0_3 m ρ c hf))),
     (h c _ (mem_uc main_v1_0 (by decide))).trans (((hF1 m ρ c 4).symm).trans (res1_4 m ρ c hf)),
     (h c _ (mem_uc main_v1_1 (by decide))).trans (((hF1 m ρ c 5).symm).trans (res1_5 m ρ c hf)),
     (h c _ (mem_uc main_v1_2 (by decide))).trans (((hF1 m ρ c 6).symm).trans (res1_6 m ρ c hf)),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩)
    (run_all m ρ)

end Cert.PoolIdeal.Value

end
-- ==== Proof.PoolClaims.lean ====
/- The pool mixer and its gradient: its claims. -/
module

public import proofs.«01_k».proof.Proof.PoolValue
public import proofs.«01_k».proof.Proof.Gen.Pool
public import proofs.«01_k».proof.Proof.Gen.PoolRefIdeal
public import proofs.«01_k».proof.Proof.Gen.PoolRefIdeal.Run
public import proofs.«01_k».proof.Proof.Gen.Pre_finite_pool
public import Idealize.ShloMosaic.Lib.Tactic

@[expose] public section

set_option maxRecDepth 16384

noncomputable section

namespace Cert.Proof.Pool

open Idealize.ShloMosaic Idealize.SL.Sem Cert.Util

/-- The program and its idealization have one text: the same entry … -/
theorem main_same : (Cert.Pool.main (F := Bits)) = (Cert.PoolIdeal.main (F := Bits)) := by sl_kernel_rfl

/-- … and the same bodies. -/
theorem defs_same : (Cert.Pool.defs (F := Bits)) = (Cert.PoolIdeal.defs (F := Bits)) := by sl_kernel_rfl

/-- So one run gives both frames. -/
theorem frame_p : Cert.quiescent_Pool := fun m ρ _ => by
  have h := Cert.PoolIdeal.Gen.frame (F := Bits) m ρ
  rw [← main_same, ← defs_same] at h
  exact h

theorem frame_i : Cert.quiescent_PoolIdeal := fun m ρ _ => Cert.PoolIdeal.Gen.frame m ρ

theorem frame_r : Cert.quiescent_PoolRefIdeal := fun m ρ _ =>
  (θ_run Cert.PoolRefIdeal.defs _ _).mono (fun r h => ⟨fun c => (h c).2.2.2.2, sem_eq_zero_of_no_sems (by decide) r.2⟩)
    (Cert.PoolRefIdeal.Value.run (F := Ideal) m ρ)

theorem frame_i_pre : Cert.quiescent_PoolIdeal_pre_finite_pool := fun m ρ _ => Cert.PoolIdeal.Gen.frame m ρ

theorem frame_r_pre : Cert.quiescent_PoolRefIdeal_pre_finite_pool := fun m ρ _ => frame_r m ρ trivial

theorem algebraic : Cert.algebraic_PoolIdeal_PoolRefIdeal_pre_finite_pool := by
  intro m ρ m' ρ' hpre hag
  refine ⟨_, _, _, _, (θ_run Cert.PoolIdeal.defs _ _).mono (fun r h c => h c (Cert.PoolIdeal.Value.fin4 m c (hpre c))) (Cert.PoolIdeal.Value.run_res m ρ), ?_⟩
  refine (θ_run Cert.PoolRefIdeal.defs _ _).mono (fun r h c => ⟨(h c).1.trans ?_, (h c).2.1.trans ?_, (h c).2.2.1.trans ?_, (h c).2.2.2.1.trans ?_, (h c).2.2.2.2⟩)
    (Cert.PoolRefIdeal.Value.run (F := Ideal) m' ρ')
  · show Cert.PoolRefIdeal.Read.val_main_v139 (F := Ideal) (m' (c.tc.loc Cert.PoolRefIdeal.main_arg0)) (m' (c.tc.loc Cert.PoolRefIdeal.main_arg1)) (m' (c.tc.loc Cert.PoolRefIdeal.main_arg2)) = _
    rw [(hag c).1, (hag c).2.1, (hag c).2.2.1]
  · show Cert.PoolRefIdeal.Read.val_main_v141 (F := Ideal) (m' (c.tc.loc Cert.PoolRefIdeal.main_arg1)) (m' (c.tc.loc Cert.PoolRefIdeal.main_arg2)) (m' (c.tc.loc Cert.PoolRefIdeal.main_arg3)) = _
    rw [(hag c).2.1, (hag c).2.2.1, (hag c).2.2.2]
  · show Cert.PoolRefIdeal.Read.val_main_v80 (F := Ideal) (m' (c.tc.loc Cert.PoolRefIdeal.main_arg0)) (m' (c.tc.loc Cert.PoolRefIdeal.main_arg2)) (m' (c.tc.loc Cert.PoolRefIdeal.main_arg3)) = _
    rw [(hag c).1, (hag c).2.2.1, (hag c).2.2.2]
  · show Cert.PoolRefIdeal.Read.val_main_v137 (F := Ideal) (m' (c.tc.loc Cert.PoolRefIdeal.main_arg0)) (m' (c.tc.loc Cert.PoolRefIdeal.main_arg1)) (m' (c.tc.loc Cert.PoolRefIdeal.main_arg3)) = _
    rw [(hag c).1, (hag c).2.1, (hag c).2.2.2]

end Cert.Proof.Pool

end
-- ==== Proof.SguBwdBody.lean ====
/- The SGU mixer's gradient as operations on one head's 128 columns of a chunk, and what the four heads' stores of a chunk
   leave in the output blocks and in the accumulators. -/
module

public import proofs.«01_k».proof.Defs
public import proofs.«01_k».proof.Proof.Gen.SguBwdIdeal.Frame
public import proofs.«01_k».proof.Proof.Cols
public import proofs.«01_k».proof.Proof.Reals
public import Idealize.ShloMosaic.Lib.Pipeline.ReadBack
public import Idealize.ShloMosaic.Lib.Pointwise.Sums

@[expose] public section

set_option maxRecDepth 16384

noncomputable section

namespace Cert.SguBwdIdeal.Value

open Cert.SguBwdIdeal Cert.SguBwdIdeal.Gen Idealize.ShloMosaic Idealize.ShloMosaic.TcCoe Idealize.SL.Sem Cert.Util Pipeline

/-- A head's columns of a chunk, of a row, its weights and its bias. -/
abbrev Hd := FVec Ideal S128x128 .f32
def cut : Fin 4 → FVec Ideal S128x512 .f32 → Hd
  | 0, x => extractStridedSlice S128x128 ![0, 0] x slices_S128x512_o0_0_S128x128
  | 1, x => extractStridedSlice S128x128 ![0, 128] x slices_S128x512_o0_128_S128x128
  | 2, x => extractStridedSlice S128x128 ![0, 256] x slices_S128x512_o0_256_S128x128
  | 3, x => extractStridedSlice S128x128 ![0, 384] x slices_S128x512_o0_384_S128x128
def rowG : Fin 4 → Vec Ideal S1x512 .f32 → Vec Ideal S1x128 .f32
  | 0, x => View.ld x (Rect.unit ![0, 0] ![1, 128] inb_S1x512_S1x128_0_0)
  | 1, x => View.ld x (Rect.unit ![0, 128] ![1, 128] inb_S1x512_S1x128_0_128)
  | 2, x => View.ld x (Rect.unit ![0, 256] ![1, 128] inb_S1x512_S1x128_0_256)
  | 3, x => View.ld x (Rect.unit ![0, 384] ![1, 128] inb_S1x512_S1x128_0_384)
def wG : Fin 4 → Vec Ideal S4x128x128 .f32 → Vec Ideal S1x128x128 .f32
  | 0, x => View.ld x (Rect.unit ![0, 0, 0] ![1, 128, 128] inb_S4x128x128_S1x128x128_0_0_0)
  | 1, x => View.ld x (Rect.unit ![1, 0, 0] ![1, 128, 128] inb_S4x128x128_S1x128x128_1_0_0)
  | 2, x => View.ld x (Rect.unit ![2, 0, 0] ![1, 128, 128] inb_S4x128x128_S1x128x128_2_0_0)
  | 3, x => View.ld x (Rect.unit ![3, 0, 0] ![1, 128, 128] inb_S4x128x128_S1x128x128_3_0_0)
def btG : Fin 4 → Vec Ideal S128x128 .f32 → Vec Ideal S128x1 .f32
  | 0, x => View.ld x (Rect.unit ![0, 0] ![128, 1] inb_S128x128_S128x1_0_0)
  | 1, x => View.ld x (Rect.unit ![0, 1] ![128, 1] inb_S128x128_S128x1_0_1)
  | 2, x => View.ld x (Rect.unit ![0, 2] ![128, 1] inb_S128x128_S128x1_0_2)
  | 3, x => View.ld x (Rect.unit ![0, 3] ![128, 1] inb_S128x128_S128x1_0_3)

/-- The rows' means; the gradient that the head's product sends back; and the head's five stores. -/
def mC (x : Hd) : FVec Ideal S128x1 .f32 :=
  divf (shapeCast S128x1 (multiReduction .add [1] S128 x 0x00000000#32 reduces_S128x128_S128 (.inl rfl) rfl) shapeCasts_S128_S128x1) (broadcast S128x1 (Scalar.ofBits .f32 0x43000000#32))
def lowC (ds : Hd) : FVec Ideal S128x128 .bf16 := truncf .bf16 ds bitsLt_bf16_f32
def dzuC (zg dy x : Hd) (lg lb : Vec Ideal S1x128 .f32) (w : Vec Ideal S1x128x128 .f32) (bt : Vec Ideal S128x1 .f32) : FVec Ideal S128x128 .bf16 :=
  truncf .bf16 (mulf (mulf dy (addf (matmul dot_S128x128_S128x128_S128x128_1_0_0_1_n_n none (k0_pay23 w) (k0_pay22 x (mC x) lg lb) (constant S128x128 .f32 0x00000000#32))
    (broadcastTo S128x128 (shapeCast S128x1 bt shapeCasts_S128x1_S128x1) broadcasts_S128x1_S128x128))) zg) bitsLt_bf16_f32
def dvhC (ds : Hd) (w : Vec Ideal S1x128x128 .f32) (lg : Vec Ideal S1x128 .f32) : Hd := k0_pay31 (k0_pay23 w) (lowC ds) lg
def dzvC (gv x ds : Hd) (w : Vec Ideal S1x128x128 .f32) (lg : Vec Ideal S1x128 .f32) : FVec Ideal S128x128 .bf16 :=
  truncf .bf16 (mulf (mulf (broadcastTo S128x128 (k0_pay20 x (mC x)) broadcasts_S128x1_S128x128)
    (subf (subf (dvhC ds w lg) (broadcastTo S128x128 (mC (dvhC ds w lg)) broadcasts_S128x1_S128x128))
      (mulf (k0_pay21 x (mC x)) (broadcastTo S128x128 (mC (mulf (dvhC ds w lg) (k0_pay21 x (mC x)))) broadcasts_S128x1_S128x128)))) gv) bitsLt_bf16_f32
def lgC (x ds : Hd) (w : Vec Ideal S1x128x128 .f32) (o : Vec Ideal S1x128 .f32) : FVec Ideal S1x128 .f32 := k0_pay29 (k0_pay21 x (mC x)) (k0_pay23 w) (lowC ds) o
def lbC (ds : Hd) (w : Vec Ideal S1x128x128 .f32) (o : Vec Ideal S1x128 .f32) : FVec Ideal S1x128 .f32 := k0_pay30 (k0_pay23 w) (lowC ds) o
def dwC (ds x : Hd) (lg lb : Vec Ideal S1x128 .f32) (o : Vec Ideal S1x128x128 .f32) : FVec Ideal S1x128x128 .f32 :=
  k0_pay27 (matmul dot_S128x128_S128x128_S128x128_1_1_0_0_n_n none (lowC ds) (k0_pay22 x (mC x) lg lb) (constant S128x128 .f32 0x00000000#32)) o

/-- A chunk's GELU of the second half, its derivative, and the gradient to the gate. -/
abbrev vV (z1 : Vec Ideal S128x512 .f32) : FVec Ideal S128x512 .f32 := k0_pay13 z1 (k0_pay10 z1) k0_pay11
abbrev gV (z1 : Vec Ideal S128x512 .f32) : FVec Ideal S128x512 .f32 := k0_pay14 z1 (k0_pay10 z1) k0_pay11
abbrev dsV (z0 dy : Vec Ideal S128x512 .f32) : FVec Ideal S128x512 .f32 := k0_pay15 (k0_pay8 z0) dy

section
variable (c : Dev nD) (i : grid0.Coords)
  (a1 : Memref sig .tc .vmem S128x512 .f32) (h1 : a1.IsWhole)
  (a2 : Memref sig .tc .vmem S128x512 .f32) (h2 : a2.IsWhole)
  (a3 : Memref sig .tc .vmem S1x512 .f32) (h3 : a3.IsWhole)
  (a4 : Memref sig .tc .vmem S1x512 .f32) (h4 : a4.IsWhole)
  (a5 : Memref sig .tc .vmem S4x128x128 .f32) (h5 : a5.IsWhole)
  (a6 : Memref sig .tc .vmem S128x128 .f32) (h6 : a6.IsWhole)
  (a7 : Memref sig .tc .vmem S128x512 .f32) (h7 : a7.IsWhole)
  (a8 : Memref sig .tc .vmem S512x128 .f32) (h8 : a8.IsWhole)
  (a9 : Memref sig .tc .vmem S128x512 .bf16) (h9 : a9.IsWhole)
  (a10 : Memref sig .tc .vmem S128x512 .bf16) (h10 : a10.IsWhole)
  (a11 : Memref sig .tc .vmem S1x512 .f32) (h11 : a11.IsWhole)
  (a12 : Memref sig .tc .vmem S1x512 .f32) (h12 : a12.IsWhole)
  (a13 : Memref sig .tc .vmem S4x128x128 .f32) (h13 : a13.IsWhole)
  (a14 : Memref sig .tc .vmem S128x128 .f32) (h14 : a14.IsWhole)
  (a15 : Memref sig .tc .vmem S128x512 .f32) (h15 : a15.IsWhole)
  (z0 z1 : Vec Ideal S128x512 .f32) (lg lb : Vec Ideal S1x512 .f32) (w : Vec Ideal S4x128x128 .f32) (bt : Vec Ideal S128x128 .f32) (dy : Vec Ideal S128x512 .f32) (hs : Vec Ideal S512x128 .f32)
  (og ob : Vec Ideal S1x512 .f32) (ow : Vec Ideal S4x128x128 .f32) (oa : Vec Ideal S128x512 .f32)

set_option maxHeartbeats 1000000 in
theorem outA8 (hc0 : cond0_0 i) (hc1 : ¬ cond0_1 i) (r : Fin 128) (g : Fin 4) (j : Fin 128) : out0_A_8 c i a1 h1 a2 h2 a3 h3 a4 h4 a5 h5 a6 h6 a7 h7 a8 h8 a9 h9 a10 h10 a11 h11 a12 h12 a13 h13 a14 h14 a15 h15 hc0 hc1 z0 z1 lg lb w bt dy hs (ix2 r (gc g j)) = dzuC (cut g (k0_pay9 z0)) (cut g dy) (cut g (vV z1)) (rowG g lg) (rowG g lb) (wG g w) (btG g bt) (ix2 r j) := by
  unfold out0_A_8
  rw [View.read_writes_eq_canon _ _ _ (fun y => cover0_A_8 (y := y) ..)]
  unfold kernelRun0_A
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 128) (e := .bf16) _ _ _ _ (fun g => dzuC (cut g (k0_pay9 z0)) (cut g dy) (cut g (vV z1)) (rowG g lg) (rowG g lb) (wG g w) (btG g bt)) r g j []

set_option maxHeartbeats 1000000 in
theorem outA9 (hc0 : cond0_0 i) (hc1 : ¬ cond0_1 i) (r : Fin 128) (g : Fin 4) (j : Fin 128) : out0_A_9 c i a1 h1 a2 h2 a3 h3 a4 h4 a5 h5 a6 h6 a7 h7 a8 h8 a9 h9 a10 h10 a11 h11 a12 h12 a13 h13 a14 h14 a15 h15 hc0 hc1 z0 z1 lg lb w bt dy hs (ix2 r (gc g j)) = dzvC (cut g (gV z1)) (cut g (vV z1)) (cut g (dsV z0 dy)) (wG g w) (rowG g lg) (ix2 r j) := by
  unfold out0_A_9
  rw [View.read_writes_eq_canon _ _ _ (fun y => cover0_A_9 (y := y) ..)]
  unfold kernelRun0_A
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 128) (e := .bf16) _ _ _ _ (fun g => dzvC (cut g (gV z1)) (cut g (vV z1)) (cut g (dsV z0 dy)) (wG g w) (rowG g lg)) r g j []

set_option maxHeartbeats 1000000 in
theorem outA10 (hc0 : cond0_0 i) (hc1 : ¬ cond0_1 i) (g : Fin 4) (j : Fin 128) : out0_A_10 c i a1 h1 a2 h2 a3 h3 a4 h4 a5 h5 a6 h6 a7 h7 a8 h8 a9 h9 a10 h10 a11 h11 a12 h12 a13 h13 a14 h14 a15 h15 hc0 hc1 z0 z1 lg lb w bt dy hs (ix2 0 (gc g j)) = lgC (cut g (vV z1)) (cut g (dsV z0 dy)) (wG g w) (rowG g (k0_pay5 (F := Ideal))) (ix2 0 j) := by
  unfold out0_A_10
  rw [View.read_writes_eq_canon _ _ _ (fun y => cover0_A_10 (y := y) ..)]
  unfold kernelRun0_A
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  simp (disch := decide) only [↓View.readCov_skip, ↓View.readCov_fill]
  exact cols4 (R := 1) (e := .f32) _ _ _ _ (fun g => lgC (cut g (vV z1)) (cut g (dsV z0 dy)) (wG g w) (rowG g (k0_pay5 (F := Ideal)))) 0 g j _

set_option maxHeartbeats 1000000 in
theorem outA11 (hc0 : cond0_0 i) (hc1 : ¬ cond0_1 i) (g : Fin 4) (j : Fin 128) : out0_A_11 c i a1 h1 a2 h2 a3 h3 a4 h4 a5 h5 a6 h6 a7 h7 a8 h8 a9 h9 a10 h10 a11 h11 a12 h12 a13 h13 a14 h14 a15 h15 hc0 hc1 z0 z1 lg lb w bt dy hs (ix2 0 (gc g j)) = lbC (cut g (dsV z0 dy)) (wG g w) (rowG g (k0_pay6 (F := Ideal))) (ix2 0 j) := by
  unfold out0_A_11
  rw [View.read_writes_eq_canon _ _ _ (fun y => cover0_A_11 (y := y) ..)]
  unfold kernelRun0_A
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  simp (disch := decide) only [↓View.readCov_skip, ↓View.readCov_fill]
  exact cols4 (R := 1) (e := .f32) _ _ _ _ (fun g => lbC (cut g (dsV z0 dy)) (wG g w) (rowG g (k0_pay6 (F := Ideal)))) 0 g j _

set_option maxHeartbeats 1000000 in
theorem outA12 (hc0 : cond0_0 i) (hc1 : ¬ cond0_1 i) (g : Fin 4) (r j : Fin 128) : out0_A_12 c i a1 h1 a2 h2 a3 h3 a4 h4 a5 h5 a6 h6 a7 h7 a8 h8 a9 h9 a10 h10 a11 h11 a12 h12 a13 h13 a14 h14 a15 h15 hc0 hc1 z0 z1 lg lb w bt dy hs (ix3 g r j) = dwC (cut g (dsV z0 dy)) (cut g (vV z1)) (rowG g lg) (rowG g lb) (wG g (k0_pay4 (F := Ideal))) (ix3 0 r j) := by
  unfold out0_A_12
  rw [View.read_writes_eq_canon _ _ _ (fun y => cover0_A_12 (y := y) ..)]
  unfold kernelRun0_A
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  simp (disch := decide) only [↓View.readCov_skip, ↓View.readCov_fill]
  exact slabs4 (e := .f32) _ _ _ _ (fun g => dwC (cut g (dsV z0 dy)) (cut g (vV z1)) (rowG g lg) (rowG g lb) (wG g (k0_pay4 (F := Ideal)))) g r j _

set_option maxHeartbeats 1000000 in
theorem outB8 (hc0 : ¬ cond0_0 i) (hc1 : ¬ cond0_1 i) (r : Fin 128) (g : Fin 4) (j : Fin 128) : out0_B_8 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 r (gc g j)) = dzuC (cut g (k0_pay9 z0)) (cut g dy) (cut g (vV z1)) (rowG g lg) (rowG g lb) (wG g w) (btG g bt) (ix2 r j) := by
  unfold out0_B_8
  rw [View.read_writes_eq_canon _ _ _ (fun y => cover0_B_8 (y := y) ..)]
  unfold kernelRun0_B
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 128) (e := .bf16) _ _ _ _ (fun g => dzuC (cut g (k0_pay9 z0)) (cut g dy) (cut g (vV z1)) (rowG g lg) (rowG g lb) (wG g w) (btG g bt)) r g j []

set_option maxHeartbeats 1000000 in
theorem outB9 (hc0 : ¬ cond0_0 i) (hc1 : ¬ cond0_1 i) (r : Fin 128) (g : Fin 4) (j : Fin 128) : out0_B_9 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 r (gc g j)) = dzvC (cut g (gV z1)) (cut g (vV z1)) (cut g (dsV z0 dy)) (wG g w) (rowG g lg) (ix2 r j) := by
  unfold out0_B_9
  rw [View.read_writes_eq_canon _ _ _ (fun y => cover0_B_9 (y := y) ..)]
  unfold kernelRun0_B
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 128) (e := .bf16) _ _ _ _ (fun g => dzvC (cut g (gV z1)) (cut g (vV z1)) (cut g (dsV z0 dy)) (wG g w) (rowG g lg)) r g j []

set_option maxHeartbeats 1000000 in
theorem outB10 (hc0 : ¬ cond0_0 i) (hc1 : ¬ cond0_1 i) (g : Fin 4) (j : Fin 128) : out0_B_10 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 0 (gc g j)) = lgC (cut g (vV z1)) (cut g (dsV z0 dy)) (wG g w) (rowG g og) (ix2 0 j) := by
  unfold out0_B_10
  rw [View.read_writes_eq_canon _ _ _ (fun y => cover0_B_10 (y := y) ..)]
  unfold kernelRun0_B
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 1) (e := .f32) _ _ _ _ (fun g => lgC (cut g (vV z1)) (cut g (dsV z0 dy)) (wG g w) (rowG g og)) 0 g j []

set_option maxHeartbeats 1000000 in
theorem outB11 (hc0 : ¬ cond0_0 i) (hc1 : ¬ cond0_1 i) (g : Fin 4) (j : Fin 128) : out0_B_11 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 0 (gc g j)) = lbC (cut g (dsV z0 dy)) (wG g w) (rowG g ob) (ix2 0 j) := by
  unfold out0_B_11
  rw [View.read_writes_eq_canon _ _ _ (fun y => cover0_B_11 (y := y) ..)]
  unfold kernelRun0_B
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 1) (e := .f32) _ _ _ _ (fun g => lbC (cut g (dsV z0 dy)) (wG g w) (rowG g ob)) 0 g j []

set_option maxHeartbeats 1000000 in
theorem outB12 (hc0 : ¬ cond0_0 i) (hc1 : ¬ cond0_1 i) (g : Fin 4) (r j : Fin 128) : out0_B_12 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix3 g r j) = dwC (cut g (dsV z0 dy)) (cut g (vV z1)) (rowG g lg) (rowG g lb) (wG g ow) (ix3 0 r j) := by
  unfold out0_B_12
  rw [View.read_writes_eq_canon _ _ _ (fun y => cover0_B_12 (y := y) ..)]
  unfold kernelRun0_B
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact slabs4 (e := .f32) _ _ _ _ (fun g => dwC (cut g (dsV z0 dy)) (cut g (vV z1)) (rowG g lg) (rowG g lb) (wG g ow)) g r j []

set_option maxHeartbeats 1000000 in
theorem outC8 (hc0 : ¬ cond0_0 i) (hc1 : cond0_1 i) (r : Fin 128) (g : Fin 4) (j : Fin 128) : out0_C_8 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 r (gc g j)) = dzuC (cut g (k0_pay9 z0)) (cut g dy) (cut g (vV z1)) (rowG g lg) (rowG g lb) (wG g w) (btG g bt) (ix2 r j) := by
  unfold out0_C_8
  rw [View.read_writes_eq_canon _ _ _ (fun y => cover0_C_8 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 128) (e := .bf16) _ _ _ _ (fun g => dzuC (cut g (k0_pay9 z0)) (cut g dy) (cut g (vV z1)) (rowG g lg) (rowG g lb) (wG g w) (btG g bt)) r g j []

set_option maxHeartbeats 1000000 in
theorem outC9 (hc0 : ¬ cond0_0 i) (hc1 : cond0_1 i) (r : Fin 128) (g : Fin 4) (j : Fin 128) : out0_C_9 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 r (gc g j)) = dzvC (cut g (gV z1)) (cut g (vV z1)) (cut g (dsV z0 dy)) (wG g w) (rowG g lg) (ix2 r j) := by
  unfold out0_C_9
  rw [View.read_writes_eq_canon _ _ _ (fun y => cover0_C_9 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 128) (e := .bf16) _ _ _ _ (fun g => dzvC (cut g (gV z1)) (cut g (vV z1)) (cut g (dsV z0 dy)) (wG g w) (rowG g lg)) r g j []

set_option maxHeartbeats 1000000 in
theorem outC10 (hc0 : ¬ cond0_0 i) (hc1 : cond0_1 i) (g : Fin 4) (j : Fin 128) : out0_C_10 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 0 (gc g j)) = lgC (cut g (vV z1)) (cut g (dsV z0 dy)) (wG g w) (rowG g og) (ix2 0 j) := by
  unfold out0_C_10
  rw [View.read_writes_eq_canon _ _ _ (fun y => cover0_C_10 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 1) (e := .f32) _ _ _ _ (fun g => lgC (cut g (vV z1)) (cut g (dsV z0 dy)) (wG g w) (rowG g og)) 0 g j []

set_option maxHeartbeats 1000000 in
theorem outC11 (hc0 : ¬ cond0_0 i) (hc1 : cond0_1 i) (g : Fin 4) (j : Fin 128) : out0_C_11 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix2 0 (gc g j)) = lbC (cut g (dsV z0 dy)) (wG g w) (rowG g ob) (ix2 0 j) := by
  unfold out0_C_11
  rw [View.read_writes_eq_canon _ _ _ (fun y => cover0_C_11 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact cols4 (R := 1) (e := .f32) _ _ _ _ (fun g => lbC (cut g (dsV z0 dy)) (wG g w) (rowG g ob)) 0 g j []

set_option maxHeartbeats 1000000 in
theorem outC12 (hc0 : ¬ cond0_0 i) (hc1 : cond0_1 i) (g : Fin 4) (r j : Fin 128) : out0_C_12 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa (ix3 g r j) = dwC (cut g (dsV z0 dy)) (cut g (vV z1)) (rowG g lg) (rowG g lb) (wG g ow) (ix3 0 r j) := by
  unfold out0_C_12
  rw [View.read_writes_eq_canon _ _ _ (fun y => cover0_C_12 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact slabs4 (e := .f32) _ _ _ _ (fun g => dwC (cut g (dsV z0 dy)) (cut g (vV z1)) (rowG g lg) (rowG g lb) (wG g ow)) g r j []

theorem accA (hc0 : cond0_0 i) (hc1 : ¬ cond0_1 i) : sout0_A_0 c i a1 h1 a2 h2 a3 h3 a4 h4 a5 h5 a6 h6 a7 h7 a8 h8 a9 h9 a10 h10 a11 h11 a12 h12 a13 h13 a14 h14 a15 h15 hc0 hc1 z0 z1 lg lb w bt dy hs = k0_pay16 (k0_pay8 z0) dy (k0_pay3 (F := Ideal)) := by
  unfold sout0_A_0
  rw [View.read_writes_eq_canon _ _ _ (fun y => scover0_A_0 (y := y) ..)]
  unfold kernelRun0_A
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  simp (disch := decide) only [↓View.readCov_fill, View.ld_unit_zero (S := S128x512) zero2]
  exact View.canon_cons_unit_lit _ _ _ (by decide)

theorem accB (hc0 : ¬ cond0_0 i) (hc1 : ¬ cond0_1 i) : sout0_B_0 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa = k0_pay16 (k0_pay8 z0) dy oa := by
  unfold sout0_B_0
  rw [View.read_writes_eq_canon _ _ _ (fun y => scover0_B_0 (y := y) ..)]
  unfold kernelRun0_B
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact View.canon_cons_unit_lit _ _ _ (by decide)

theorem accC (hc0 : ¬ cond0_0 i) (hc1 : cond0_1 i) : sout0_C_0 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa = k0_pay16 (k0_pay8 z0) dy oa := by
  unfold sout0_C_0
  rw [View.read_writes_eq_canon _ _ _ (fun y => scover0_C_0 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2]
  exact View.canon_cons_unit_lit _ _ _ (by decide)

theorem out13 (hc0 : ¬ cond0_0 i) (hc1 : cond0_1 i) : out0_C_13 c i a1 h1 a2 h2 a3 h3 a4 h4 a5 h5 a6 h6 a7 h7 a8 h8 a9 h9 a10 h10 a11 h11 a12 h12 a13 h13 a14 h14 a15 h15 hc0 hc1 z0 z1 lg lb w bt dy hs og ob ow oa = k0_pay2 (k0_pay16 (k0_pay8 z0) dy oa) hs := by
  unfold out0_C_13
  rw [View.read_writes_eq_canon _ _ _ (fun y => cover0_C_13 (y := y) ..)]
  unfold kernelRun0_C
  dsimp only
  sl_unfold_words
  simp only [View.readAt_eq_ld, h1.read_unread, h2.read_unread, h3.read_unread, h4.read_unread, h5.read_unread, h6.read_unread, h7.read_unread, h8.read_unread, h11.read_unread, h12.read_unread, h13.read_unread, h15.read_unread, View.ld_unit_zero (S := S128x512) zero2, View.ld_unit_zero (S := S512x128) zero2]
  simp (disch := decide) only [↓View.readCov_fill, View.ld_unit_zero (S := S128x512) zero2]
  exact View.canon_cons_unit_lit _ _ _ (by decide)
end

end Cert.SguBwdIdeal.Value

end
-- ==== Proof.HeadNorm.lean ====
/- The normalisation of a head's row of 128 channels to mean zero and variance one, and its gradient. The hand-written form
   `r·(a − mean a − h·mean(a·h))`, with `h` the normalised row, is what differentiating the mean and the variance line by line
   gives, when the row and its cotangent are real numbers. -/
module

public import proofs.«01_k».proof.Proof.Reals

@[expose] public section

noncomputable section

namespace Cert.Util

open Idealize.ShloMosaic

/-- A row's mean, the row less its mean, the variance plus ε, the normalising factor and the normalised row. -/
def hmean (x : Fin 128 → EReal) : EReal := Ideal.div (∑ k, x k) (Ideal.ofBits .f32 0x43000000#32)
def hcen (x : Fin 128 → EReal) (j : Fin 128) : EReal := x j - hmean x
def hvar (x : Fin 128 → EReal) : EReal := hmean (fun k => hcen x k * hcen x k) + Ideal.ofBits .f32 0x358637BD#32
def hrs (x : Fin 128 → EReal) : EReal := Ideal.rsqrt (hvar x)
def hat (x : Fin 128 → EReal) (j : Fin 128) : EReal := hcen x j * hrs x

/-- A row's cotangent by hand. -/
def hnHand (x a : Fin 128 → EReal) (j : Fin 128) : EReal :=
  hrs x * (a j - hmean a - hat x j * hmean (fun k => a k * hat x k))

/-- The factor of `2·(x − mean)` that reaches the row through the variance, and the cotangent as differentiating line by line gives it. -/
def hnVar (x a : Fin 128 → EReal) : EReal :=
  Ideal.div ((∑ k, hcen x k * a k) * (Ideal.ofBits .f32 0xBF000000#32 * Ideal.div (hrs x) (hvar x))) (Ideal.ofBits .f32 0x43000000#32)
def hnChain (x a : Fin 128 → EReal) (j : Fin 128) : EReal :=
  a j * hrs x + hnVar x a * (Ideal.ofBits .f32 0x40000000#32 * hcen x j)
    + Ideal.div ((∑ k, -(a k * hrs x)) + ∑ k, -(hnVar x a * (Ideal.ofBits .f32 0x40000000#32 * hcen x k))) (Ideal.ofBits .f32 0x43000000#32)

theorem n128_eq : Ideal.ofBits .f32 0x43000000#32 = ((128 : ℝ) : EReal) := by
  simp [Ideal.ofBits, Ideal.ieee, -EReal.coe_mul]; norm_num

/-- The same over the reals. -/
def hmR (X : Fin 128 → ℝ) : ℝ := (∑ k, X k) * (1 / 128)
def hvR (X : Fin 128 → ℝ) : ℝ := hmR (fun k => (X k - hmR X) * (X k - hmR X)) + epsR

theorem hvR_pos (X : Fin 128 → ℝ) : 0 < hvR X := by
  have h : 0 ≤ ∑ k, (X k - hmR X) * (X k - hmR X) := Finset.sum_nonneg fun b _ => mul_self_nonneg _
  have : 0 < epsR := by norm_num [epsR]
  unfold hvR
  rw [hmR]
  positivity

theorem hmean_coe (X : Fin 128 → ℝ) : hmean (fun k => (X k : EReal)) = (hmR X : EReal) := by
  unfold hmean hmR
  rw [n128_eq, Ideal.div_coe (by norm_num), ← coe_sum, ← EReal.coe_mul]
theorem hcen_coe (X : Fin 128 → ℝ) (j : Fin 128) : hcen (fun k => (X k : EReal)) j = ((X j - hmR X : ℝ) : EReal) := by
  rw [hcen, hmean_coe, ← EReal.coe_sub]
theorem hvar_coe (X : Fin 128 → ℝ) : hvar (fun k => (X k : EReal)) = (hvR X : EReal) := by
  unfold hvar hvR
  simp only [hcen_coe, ← EReal.coe_mul, hmean_coe, eps_eq, ← EReal.coe_add]
theorem hrs_coe (X : Fin 128 → ℝ) : hrs (fun k => (X k : EReal)) = (((√(hvR X))⁻¹ : ℝ) : EReal) := by
  have h := hvR_pos X
  rw [hrs, hvar_coe, Ideal.rsqrt_coe, if_neg h.not_gt, if_neg h.ne']

theorem cen_sum (X : Fin 128 → ℝ) : ∑ k, (X k - hmR X) = 0 := by
  rw [Finset.sum_sub_distrib, Finset.sum_const, Finset.card_univ, Fintype.card_fin, hmR]
  simp only [nsmul_eq_mul]
  push_cast
  ring

theorem hn_grad {x a : Fin 128 → EReal} (hx : ∀ k, IsR (x k)) (ha : ∀ k, IsR (a k)) (j : Fin 128) : hnHand x a j = hnChain x a j := by
  choose X hX using hx
  choose A hA using ha
  obtain rfl : x = fun k => (X k : EReal) := funext hX
  obtain rfl : a = fun k => (A k : EReal) := funext hA
  have h := hvR_pos X
  have hs : √(hvR X) * √(hvR X) = hvR X := Real.mul_self_sqrt h.le
  have e2 : 1 / hvR X = (√(hvR X))⁻¹ * (√(hvR X))⁻¹ := by rw [← mul_inv, hs, one_div]
  have hv : hnVar (fun k => (X k : EReal)) (fun k => (A k : EReal))
      = (((∑ k, (X k - hmR X) * A k) * (-(1 / 2) * ((√(hvR X))⁻¹ * (1 / hvR X))) * (1 / 128) : ℝ) : EReal) := by
    simp only [hnVar, hcen_coe, hrs_coe, hvar_coe, n128_eq, mhalf_eq]
    rw [Ideal.div_coe h.ne', Ideal.div_coe (by norm_num)]
    simp only [← EReal.coe_mul, ← coe_sum]
  simp only [hnHand, hnChain, hat, hv]
  simp only [hcen_coe, hrs_coe, two_eq, n128_eq, ← EReal.coe_mul, hmean_coe, ← EReal.coe_neg, ← coe_sum, ← EReal.coe_add, ← EReal.coe_sub]
  rw [Ideal.div_coe (by norm_num)]
  simp only [← EReal.coe_mul, ← EReal.coe_add]
  congr 1
  have e3 : ∀ q : ℝ, ∑ k, -(q * (2 * (X k - hmR X))) = 0 := fun q => by
    have : ∀ k, -(q * (2 * (X k - hmR X))) = (-2 * q) * (X k - hmR X) := fun k => by ring
    simp only [this]
    rw [← Finset.mul_sum, cen_sum, mul_zero]
  have e4 : ∑ k, -(A k * (√(hvR X))⁻¹) = -((∑ k, A k) * (√(hvR X))⁻¹) := by
    rw [Finset.sum_neg_distrib, ← Finset.sum_mul]
  have e1 : ∑ k, A k * ((X k - hmR X) * (√(hvR X))⁻¹) = (∑ k, (X k - hmR X) * A k) * (√(hvR X))⁻¹ := by
    rw [Finset.sum_mul]
    exact Finset.sum_congr rfl fun i _ => by ring
  rw [e3, e4, e2]
  simp only [hmR] at *
  rw [e1]
  ring

theorem IsR.hmean {x : Fin 128 → EReal} (hx : ∀ k, IsR (x k)) : IsR (hmean x) := by
  unfold Cert.Util.hmean
  rw [n128_eq]
  exact IsR.div (by norm_num) (.sum hx)
theorem IsR.hrs {x : Fin 128 → EReal} (hx : ∀ k, IsR (x k)) : IsR (hrs x) := by
  choose X hX using hx
  obtain rfl : x = fun k => (X k : EReal) := funext hX
  exact ⟨_, hrs_coe X⟩
theorem IsR.hat {x : Fin 128 → EReal} (hx : ∀ k, IsR (x k)) (j : Fin 128) : IsR (hat x j) :=
  ((hx j).sub (IsR.hmean hx)).mul (IsR.hrs hx)
theorem IsR.hnHand {x a : Fin 128 → EReal} (hx : ∀ k, IsR (x k)) (ha : ∀ k, IsR (a k)) (j : Fin 128) : IsR (hnHand x a j) :=
  (IsR.hrs hx).mul (((ha j).sub (IsR.hmean ha)).sub ((IsR.hat hx j).mul (IsR.hmean fun k => (ha k).mul (IsR.hat hx k))))

end Cert.Util

end
-- ==== Proof.SguBwdHead.lean ====
/- What the SGU gradient's operations on one head of a chunk compute, entry by entry: the normalised rows, the masked weights, the mixed
   rows, and the five stores. -/
module

public import proofs.«01_k».proof.Defs
public import proofs.«01_k».proof.Proof.SguBwdBody
public import proofs.«01_k».proof.Proof.HeadNorm
public import proofs.«01_k».proof.Proof.Gelu
public import Idealize.ShloMosaic.Lib.Pointwise.Sums
public import Idealize.ShloMosaic.Lib.WordCmp

@[expose] public section

set_option maxRecDepth 16384

noncomputable section

namespace Cert.SguBwdIdeal.Value

open Idealize.ShloMosaic.WordCmp Cert.SguBwdIdeal Cert.SguBwdIdeal.Gen Idealize.ShloMosaic Idealize.ShloMosaic.TcCoe Idealize.SL.Sem Cert.Util Pipeline

/-- One head's rows of a chunk: normalised with gain and offset, the weights with the later positions masked, the mixed rows, the gradient
    sent back to the normalised rows and the gradient of the weights. -/
abbrev Mat := Fin 128 → Fin 128 → EReal
def vnM (x : Mat) (lg lb : Fin 128 → EReal) : Mat := fun k j => hat (x k) j * lg j + lb j
def tri (w : Mat) : Mat := fun r k => if k.val ≤ r.val then w r k else 0
def spM (x : Mat) (lg lb : Fin 128 → EReal) (w : Mat) (b : Fin 128 → EReal) : Mat := fun r j => (∑ k, tri w r k * vnM x lg lb k j) + b r
def dvnM (ds w : Mat) : Mat := fun k j => ∑ i, tri w i k * ds i j
def dhM (ds w : Mat) (lg : Fin 128 → EReal) : Mat := fun k j => dvnM ds w k j * lg j
def dwM (ds x : Mat) (lg lb : Fin 128 → EReal) : Mat := tri fun r k => ∑ j, ds r j * vnM x lg lb k j

theorem mask_if (r k : Fin 128) (a : EReal) :
    Scalar.select (IntOp.cmpi CmpIPredicate.sge (BitVec.ofNat 32 r.val) (BitVec.ofNat 32 k.val)) a (0 : EReal) = if k.val ≤ r.val then a else 0 := by
  by_cases h : k.val ≤ r.val
  · rw [if_pos h, (cmpi_sge_ofNat_eq_one_iff (w := 32) (by omega) (by omega)).2 h]; rfl
  · rw [if_neg h, (cmpi_sge_ofNat_eq_zero_iff (w := 32) (by omega) (by omega)).2 (by omega)]; rfl

abbrev matF (x : Hd) : Mat := fun r k => x (ix2 r k)
abbrev rowF (x : Vec Ideal S1x128 .f32) (k : Fin 128) : EReal := x (ix2 0 k)
abbrev wF (w : Vec Ideal S1x128x128 .f32) : Mat := fun r k => w (ix3 0 r k)

theorem mC_at (x : Hd) (r : Fin 128) : mC x (ix2 r 0) = hmean (matF x r) := by
  unfold hmean
  pointwise [mC]
theorem cen_at (x : Hd) (r j : Fin 128) : k0_pay19 (F := Ideal) x (mC x) (ix2 r j) = hcen (matF x r) j := by
  unfold hcen
  rw [← mC_at]
  pointwise [k0_pay19]
theorem rs_at (x : Hd) (r : Fin 128) : k0_pay20 (F := Ideal) x (mC x) (ix2 r 0) = hrs (matF x r) := by
  unfold hrs hvar hmean
  simp only [← cen_at]
  pointwise [k0_pay20]
theorem hat_at (x : Hd) (r j : Fin 128) : k0_pay21 (F := Ideal) x (mC x) (ix2 r j) = hat (matF x r) j := by
  unfold hat
  rw [← cen_at, ← rs_at]
  pointwise [k0_pay21]
theorem vn_at (x : Hd) (lg lb : Vec Ideal S1x128 .f32) (r j : Fin 128) : k0_pay22 x (mC x) lg lb (ix2 r j) = vnM (matF x) (rowF lg) (rowF lb) r j := by
  unfold vnM
  rw [← hat_at]
  unfold k0_pay22
  generalize k0_pay21 x (mC x) = q
  pointwise []
theorem tri_at (w : Vec Ideal S1x128x128 .f32) (r j : Fin 128) : k0_pay23 (F := Ideal) w (ix2 r j) = tri (wF w) r j := by
  unfold tri
  rw [← mask_if]
  pointwise [k0_pay23]
theorem dzuC_at (zg dy x : Hd) (lg lb : Vec Ideal S1x128 .f32) (w : Vec Ideal S1x128x128 .f32) (bt : Vec Ideal S128x1 .f32) (r j : Fin 128) :
    dzuC zg dy x lg lb w bt (ix2 r j) = dy (ix2 r j) * spM (matF x) (rowF lg) (rowF lb) (wF w) (fun i => bt (ix2 i 0)) r j * zg (ix2 r j) := by
  unfold spM
  simp only [← vn_at, ← tri_at]
  unfold dzuC
  generalize k0_pay22 x (mC x) lg lb = p
  generalize k0_pay23 w = q
  pointwise []
theorem dh_at (ds : Hd) (w : Vec Ideal S1x128x128 .f32) (lg : Vec Ideal S1x128 .f32) (r j : Fin 128) : dvhC ds w lg (ix2 r j) = dhM (matF ds) (wF w) (rowF lg) r j := by
  unfold dhM dvnM
  simp only [← tri_at]
  unfold dvhC lowC
  generalize k0_pay23 w = q
  pointwise [k0_pay31, k0_pay28]
theorem dzvC_at (gv x ds : Hd) (w : Vec Ideal S1x128x128 .f32) (lg : Vec Ideal S1x128 .f32) (r j : Fin 128) :
    dzvC gv x ds w lg (ix2 r j) = hnHand (matF x r) (dhM (matF ds) (wF w) (rowF lg) r) j * gv (ix2 r j) := by
  have e : (fun k => dhM (matF ds) (wF w) (rowF lg) r k) = fun k => dvhC ds w lg (ix2 r k) := funext fun k => (dh_at ..).symm
  unfold hnHand
  rw [show dhM (matF ds) (wF w) (rowF lg) r = matF (dvhC ds w lg) r from e]
  have e2 : (fun k => matF (dvhC ds w lg) r k * hat (matF x r) k) = matF (mulf (dvhC ds w lg) (k0_pay21 x (mC x))) r := funext fun k => by
    rw [← hat_at]; rfl
  rw [e2, ← hat_at, ← rs_at, ← mC_at, ← mC_at]
  unfold dzvC
  generalize mC (mulf (dvhC ds w lg) (k0_pay21 x (mC x))) = m2
  generalize k0_pay21 x (mC x) = h
  generalize k0_pay20 x (mC x) = s
  generalize mC (dvhC ds w lg) = m1
  generalize dvhC ds w lg = d
  pointwise []
theorem lgC_at (x ds : Hd) (w : Vec Ideal S1x128x128 .f32) (o : Vec Ideal S1x128 .f32) (j : Fin 128) :
    lgC x ds w o (ix2 0 j) = o (ix2 0 j) + ∑ r, dvnM (matF ds) (wF w) r j * hat (matF x r) j := by
  unfold dvnM
  simp only [← hat_at, ← tri_at]
  unfold lgC lowC
  generalize k0_pay21 x (mC x) = h
  generalize k0_pay23 w = q
  pointwise [k0_pay29, k0_pay28]
theorem lbC_at (ds : Hd) (w : Vec Ideal S1x128x128 .f32) (o : Vec Ideal S1x128 .f32) (j : Fin 128) :
    lbC ds w o (ix2 0 j) = o (ix2 0 j) + ∑ r, dvnM (matF ds) (wF w) r j := by
  unfold dvnM
  simp only [← tri_at]
  unfold lbC lowC
  generalize k0_pay23 w = q
  pointwise [k0_pay30, k0_pay28]
theorem dwC_at (ds x : Hd) (lg lb : Vec Ideal S1x128 .f32) (o : Vec Ideal S1x128x128 .f32) (r j : Fin 128) :
    dwC ds x lg lb o (ix3 0 r j) = o (ix3 0 r j) + dwM (matF ds) (matF x) (rowF lg) (rowF lb) r j := by
  unfold dwM tri
  simp only [← vn_at]
  rw [← mask_if]
  unfold dwC lowC
  generalize k0_pay22 x (mC x) lg lb = p
  pointwise [k0_pay27]

/-- A head's columns read out of the blocks. -/
theorem cut_at (g : Fin 4) (x : FVec Ideal S128x512 .f32) (r j : Fin 128) : cut g x (ix2 r j) = x (ix2 r (gc g j)) := by
  match g with
  | 0 => refine congrArg x ?_; apply idx2_ext <;> · simp [Fin.ext_iff]
  | 1 => refine congrArg x ?_; apply idx2_ext <;> · simp [Fin.ext_iff]
  | 2 => refine congrArg x ?_; apply idx2_ext <;> · simp [Fin.ext_iff]
  | 3 => refine congrArg x ?_; apply idx2_ext <;> · simp [Fin.ext_iff]
theorem rowG_at (g : Fin 4) (x : Vec Ideal S1x512 .f32) (j : Fin 128) : rowG g x (ix2 0 j) = x (ix2 0 (gc g j)) := by
  match g with
  | 0 => exact ld_col _ _ x _ _ _ (by show 0 * 128 + j.val = _; omega)
  | 1 => exact ld_col _ _ x _ _ _ (by show 1 * 128 + j.val = _; omega)
  | 2 => exact ld_col _ _ x _ _ _ (by show 2 * 128 + j.val = _; omega)
  | 3 => exact ld_col _ _ x _ _ _ (by show 3 * 128 + j.val = _; omega)
theorem wG_at (g : Fin 4) (x : Vec Ideal S4x128x128 .f32) (r j : Fin 128) : wG g x (ix3 0 r j) = x (ix3 g r j) := by
  match g with
  | 0 => exact ld_slab _ _ x _ _ _ rfl
  | 1 => exact ld_slab _ _ x _ _ _ rfl
  | 2 => exact ld_slab _ _ x _ _ _ rfl
  | 3 => exact ld_slab _ _ x _ _ _ rfl
theorem btG_at (g : Fin 4) (x : Vec Ideal S128x128 .f32) (r : Fin 128) : btG g x (ix2 r 0) = x (ix2 r ⟨g.val, by omega⟩) := by
  match g with
  | 0 => exact congrArg x (idx2_ext (by show 0 + 1 * r.val = r.val; omega) (by show 0 + 1 * 0 = 0; omega))
  | 1 => exact congrArg x (idx2_ext (by show 0 + 1 * r.val = r.val; omega) (by show 1 + 1 * 0 = 1; omega))
  | 2 => exact congrArg x (idx2_ext (by show 0 + 1 * r.val = r.val; omega) (by show 2 + 1 * 0 = 2; omega))
  | 3 => exact congrArg x (idx2_ext (by show 0 + 1 * r.val = r.val; omega) (by show 3 + 1 * 0 = 3; omega))

/-- GELU by the tanh formula and its derivative, entry by entry, and the gate's gradient. -/
def hR : ℝ := 1 / 2
def cR : ℝ := 13386282 / 16777216
def gR : ℝ := 44715 / 1000000
theorem half_eq : Ideal.ofBits .f32 0x3F000000#32 = (hR : EReal) := by
  simp [Ideal.ofBits, Ideal.ieee, hR, -EReal.coe_mul]; norm_num
theorem scale_eq : Ideal.ofBits .f32 0x3F4C422A#32 = (cR : EReal) := by
  simp [Ideal.ofBits, Ideal.ieee, cR, -EReal.coe_mul]; norm_num
theorem named_eq : (Named.named κ "gelu_cubic" 0x3D372713#32 : Ideal .f32) = (gR : EReal) := by
  show ((8943 / 200000 : ℝ) : EReal) = _
  rw [gR]; norm_num
theorem named3_eq : (Named.named κ "gelu_cubic_3" 0x3E095D4F#32 : Ideal .f32) = ((gR * 3 : ℝ) : EReal) := by
  show ((26829 / 200000 : ℝ) : EReal) = _
  rw [gR]; norm_num
def geF (v : EReal) : EReal := hR * v * (1 + geluT cR gR v)
def geD (v : EReal) : EReal := hR * (1 + geluT cR gR v) + hR * v * (1 - geluT cR gR v * geluT cR gR v) * (cR * (1 + (gR * 3 : ℝ) * (v * v)))
theorem geHand (dg v : EReal) : dg * geD v = geluHand hR cR gR (gR * 3) dg v := rfl
theorem IsR.geF {v : EReal} (h : IsR v) : IsR (geF v) := by
  obtain ⟨x, rfl⟩ := h
  refine .mul (.mul (.coe _) (.coe _)) (.add .one ?_)
  exact ⟨_, geluT_coe _ _ _⟩
theorem uV_at (z : Vec Ideal S128x512 .f32) (I) : k0_pay8 (F := Ideal) z I = geF (z I) := by
  unfold geF geluT
  rw [← half_eq, ← scale_eq, ← named_eq]
  pointwise [k0_pay8, k0_pay7]
theorem dU_at (z : Vec Ideal S128x512 .f32) (I) : k0_pay9 (F := Ideal) z I = geD (z I) := by
  unfold geD geluT
  rw [← half_eq, ← scale_eq, ← named_eq, ← named3_eq]
  pointwise [k0_pay9, k0_pay7]
theorem vV_at (z : Vec Ideal S128x512 .f32) (I) : vV z I = geF (z I) := by
  unfold geF geluT
  rw [← half_eq, ← scale_eq, ← named_eq]
  pointwise [k0_pay13, k0_pay10, k0_pay11, k0_pay12]
theorem gV_at (z : Vec Ideal S128x512 .f32) (I) : gV z I = geD (z I) := by
  unfold geD geluT
  rw [← half_eq, ← scale_eq, ← named_eq, ← named3_eq]
  pointwise [k0_pay14, k0_pay10, k0_pay11, k0_pay12]
theorem dsV_at (z dy : Vec Ideal S128x512 .f32) (I) : dsV z dy I = dy I * geF (z I) := by
  rw [← uV_at]
  unfold dsV
  generalize k0_pay8 z = q
  pointwise [k0_pay15]
theorem acc_at (z : Vec Ideal S128x512 .f32) (dy o : Vec Ideal S128x512 .f32) (I) : k0_pay16 (k0_pay8 z) dy o I = o I + dy I * geF (z I) := by
  rw [← dsV_at]
  pointwise [k0_pay16]

end Cert.SguBwdIdeal.Value

end
-- ==== Proof.SguBwdRef.lean ====
/- The SGU reference entry by entry, in the same terms as the kernel: the mixer forward, and its gradient as jax differentiates it. -/
module

public import proofs.«01_k».proof.Defs
public import proofs.«01_k».proof.Proof.SguBwdHead
public import proofs.«01_k».proof.Proof.Gen.SguBwdRefIdeal.Read
public import Idealize.ShloMosaic.Lib.Pointwise.Sums

@[expose] public section

set_option maxRecDepth 16384

noncomputable section

namespace Cert.SguBwdIdeal.Value

open Cert.SguBwdIdeal Cert.SguBwdIdeal.Gen Idealize.ShloMosaic Idealize.ShloMosaic.TcCoe Idealize.SL.Sem Cert.Util Pipeline

/-- Row `t` of chunk `n`; the gate's and the value's columns of head `g`; and the arrays' parts of one chunk and head. -/
abbrev row (n : Fin 16) (t : Fin 128) : Fin 2048 := ⟨n.val * 128 + t.val, by omega⟩
abbrev uc (g : Fin 4) (j : Fin 128) : Fin 1024 := ⟨g.val * 128 + j.val, by omega⟩
abbrev vc (g : Fin 4) (j : Fin 128) : Fin 1024 := ⟨512 + (g.val * 128 + j.val), by omega⟩
def zU (x0 : FVec Ideal S2048x1536 .f32) (n : Fin 16) (g : Fin 4) : Mat := fun t j => x0 (ix2 (row n t) ⟨512 + (g.val * 128 + j.val), by omega⟩)
def zV (x0 : FVec Ideal S2048x1536 .f32) (n : Fin 16) (g : Fin 4) : Mat := fun t j => x0 (ix2 (row n t) ⟨512 + (512 + (g.val * 128 + j.val)), by omega⟩)
def dyM (x1 : FVec Ideal S2048x1024 .f32) (n : Fin 16) (g : Fin 4) : Mat := fun t j => x1 (ix2 (row n t) (vc g j))
def VM (x0 : FVec Ideal S2048x1536 .f32) (n : Fin 16) (g : Fin 4) : Mat := fun t j => geF (zV x0 n g t j)
def dsM (x0 : FVec Ideal S2048x1536 .f32) (x1 : FVec Ideal S2048x1024 .f32) (n : Fin 16) (g : Fin 4) : Mat := fun t j => dyM x1 n g t j * geF (zU x0 n g t j)
def rowM (x : FVec Ideal S1x512 .f32) (g : Fin 4) (j : Fin 128) : EReal := x (ix2 0 (gc g j))
def wM (x : FVec Ideal S4x128x128 .f32) (g : Fin 4) : Mat := fun r k => x (ix3 g r k)
def bM (x : FVec Ideal S4x128 .f32) (g : Fin 4) (r : Fin 128) : EReal := x (ix2 g r)

theorem row_div (n : Fin 16) (t : Fin 128) : (⟨(row n t).val / 128, by omega⟩ : Fin 16) = n := Fin.ext (by show (n.val * 128 + t.val) / 128 = n.val; omega)
theorem row_mod (n : Fin 16) (t : Fin 128) : (⟨(row n t).val % 128, by omega⟩ : Fin 128) = t := Fin.ext (by show (n.val * 128 + t.val) % 128 = t.val; omega)
theorem three_eq : Ideal.ofBits .f32 0x40400000#32 = ((3 : ℝ) : EReal) := by
  simp [Ideal.ofBits, Ideal.ieee, -EReal.coe_mul]; norm_num
theorem cubic_eq : Ideal.div (Ideal.ofBits .f32 0x472EAB00#32) (Ideal.ofBits .f32 0x49742400#32) = (gR : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Ideal.div_coe (by norm_num), ← EReal.coe_mul, gR]
  norm_num

theorem mask_if2 (r k : Fin 128) (a : EReal) :
    Scalar.select (Scalar.select (IntOp.cmpi CmpIPredicate.sge (IntOp.addi (BitVec.ofNat 32 r.val) 0#32) (BitVec.ofNat 32 k.val)) 1#1 0#1) a (0 : EReal) = if k.val ≤ r.val then a else 0 := by
  rw [← mask_if, show IntOp.addi (BitVec.ofNat 32 r.val) 0#32 = BitVec.ofNat 32 r.val from BitVec.add_zero _]
  congr 1
  generalize IntOp.cmpi CmpIPredicate.sge (BitVec.ofNat 32 r.val) (BitVec.ofNat 32 k.val) = b
  revert b; decide

section
variable (x0 : FVec Ideal S2048x1536 .f32) (x1 : FVec Ideal S2048x1024 .f32) (x2 x3 : FVec Ideal S1x512 .f32) (x4 : FVec Ideal S4x128x128 .f32) (x5 : FVec Ideal S4x128 .f32)
open Cert.SguBwdRefIdeal.Read

theorem ref_ge (r : Fin 2048) (C : Fin 1024) : val_main_v22 (F := Ideal) x0 (ix2 r C) = geF (x0 (ix2 r ⟨512 + C.val, by omega⟩)) := by
  rw [geF, geluT, mul_assoc, mul_left_comm]
  simp only [← half_eq, ← scale_eq, ← cubic_eq]
  pointwise [val_main_v22, val_main_v0, val_main_v21, val_main_v20, val_main_cst_6, val_main_v19, val_main_v18, val_main_cst_5, val_main_v12, val_main_v11, val_main_v10, val_main_cst_2, val_main_v9, val_main_v8, val_main_v7, val_main_v1, val_main_cst, val_main_cst_0, val_main_v3, val_main_v2]
theorem ref_V (n : Fin 16) (t : Fin 128) (g : Fin 4) (j : Fin 128) : val_main_v27 (F := Ideal) x0 (ix3 (row n t) g j) = VM x0 n g t j := by
  refine Eq.trans (b := val_main_v22 (F := Ideal) x0 (ix2 (row n t) (vc g j))) ?_ (ref_ge ..)
  pointwise [val_main_v27, val_main_v26]
theorem ref_mean (n : Fin 16) (t : Fin 128) (g : Fin 4) : val_main_v31 (F := Ideal) x0 (ix3 (row n t) g 0) = hmean (VM x0 n g t) := by
  unfold hmean
  simp only [← ref_V]
  pointwise [val_main_v31, val_main_v29, val_main_v28, val_main_cst_7, val_main_v30, val_main_cst_8]
theorem ref_cen (n : Fin 16) (t : Fin 128) (g : Fin 4) (j : Fin 128) : val_main_v33 (F := Ideal) x0 (ix3 (row n t) g j) = hcen (VM x0 n g t) j := by
  unfold hcen
  rw [← ref_mean, ← ref_V]
  pointwise [val_main_v33, val_main_v32]
theorem ref_cen2 (n : Fin 16) (t : Fin 128) (g : Fin 4) (j : Fin 128) : val_main_v42 (F := Ideal) x0 (ix3 (row n t) g j) = hcen (VM x0 n g t) j := by
  unfold hcen
  rw [← ref_mean, ← ref_V]
  pointwise [val_main_v42, val_main_v41]
theorem ref_var (n : Fin 16) (t : Fin 128) (g : Fin 4) : val_main_v44 (F := Ideal) x0 (ix3 (row n t) g 0) = hvar (VM x0 n g t) := by
  unfold hvar hmean
  simp only [← ref_cen]
  pointwise [val_main_v44, val_main_v40, val_main_v38, val_main_v37, val_main_v34, val_main_cst_10, val_main_v39, val_main_cst_11, val_main_v43, val_main_cst_12]
theorem ref_rs (n : Fin 16) (t : Fin 128) (g : Fin 4) : val_main_v45 (F := Ideal) x0 (ix3 (row n t) g 0) = hrs (VM x0 n g t) := by
  unfold hrs
  rw [← ref_var]
  pointwise [val_main_v45]
theorem ref_hat (n : Fin 16) (t : Fin 128) (g : Fin 4) (j : Fin 128) : val_main_v50 (F := Ideal) x0 (ix3 (row n t) g j) = hat (VM x0 n g t) j := by
  unfold hat
  rw [← ref_cen2, ← ref_rs]
  pointwise [val_main_v50, val_main_v49]
theorem ref_hat2 (n : Fin 16) (t : Fin 128) (g : Fin 4) (j : Fin 128) : val_main_v51 (F := Ideal) x0 (ix2 (row n t) (gc g j)) = hat (VM x0 n g t) j := by
  refine Eq.trans ?_ (ref_hat ..)
  refine Eq.trans (b := val_main_v50 (F := Ideal) x0 (ix3 (row n t) ⟨(gc g j).val / 128, by omega⟩ ⟨(gc g j).val % 128, by omega⟩)) ?_ ?_
  · pointwise [val_main_v51]
  · rw [gc_div, gc_mod]
theorem ref_vn (n : Fin 16) (t : Fin 128) (g : Fin 4) (j : Fin 128) : val_main_v58 (F := Ideal) x0 x2 x3 (ix4 n t g j) = vnM (VM x0 n g) (rowM x2 g) (rowM x3 g) t j := by
  unfold vnM
  rw [← ref_hat]
  pointwise [val_main_v58, val_main_v57, val_main_v54, val_main_v51, val_main_v53, val_main_v52, val_main_v23, val_main_v56, val_main_v55, val_main_v24]
  rfl
theorem ref_tri (g : Fin 4) (r k : Fin 128) : val_main_v62_0 (F := Ideal) x4 (ix3 g r k) = tri (wM x4 g) r k := by
  unfold tri
  rw [← mask_if2]
  pointwise [val_main_v62_0, val_main_v62_1, val_main_v61, val_main_v60, val_main_call0_v4, val_main_call0_v2, val_main_call0_v0, val_main_call0_v1, val_main_call0_c, val_main_call0_v3, val_main_v59, val_main_c, val_main_call0_v5, val_main_call0_c_0, val_main_call1_v2, val_main_call1_v0, val_main_cst_14]
  simp [constant, Ideal.ofBits, Ideal.ieee, wM]
theorem ref_sp (n : Fin 16) (t : Fin 128) (g : Fin 4) (j : Fin 128) : val_main_v68 (F := Ideal) x0 x2 x3 x4 x5 (ix4 n t g j) = spM (VM x0 n g) (rowM x2 g) (rowM x3 g) (wM x4 g) (bM x5 g) t j := by
  unfold spM
  simp only [← ref_vn, ← ref_tri]
  pointwise [val_main_v68, val_main_v64, val_main_v63, val_main_v67, val_main_v66, val_main_v65]
  exact congrArg₂ _ (Finset.sum_congr rfl fun k _ => mul_comm (G := EReal) _ _) rfl
theorem ref_sp2 (n : Fin 16) (t : Fin 128) (g : Fin 4) (j : Fin 128) : val_main_v69 (F := Ideal) x0 x2 x3 x4 x5 (ix2 (row n t) (gc g j)) = spM (VM x0 n g) (rowM x2 g) (rowM x3 g) (wM x4 g) (bM x5 g) t j := by
  refine Eq.trans ?_ (ref_sp ..)
  refine Eq.trans (b := val_main_v68 (F := Ideal) x0 x2 x3 x4 x5 (ix4 ⟨(row n t).val / 128, by omega⟩ ⟨(row n t).val % 128, by omega⟩ ⟨(gc g j).val / 128, by omega⟩ ⟨(gc g j).val % 128, by omega⟩)) ?_ ?_
  · pointwise [val_main_v69]
  · rw [gc_div, gc_mod, row_div, row_mod]
theorem ref_ds (n : Fin 16) (t : Fin 128) (g : Fin 4) (j : Fin 128) : val_main_v74 (F := Ideal) x0 x1 (ix4 n t g j) = dsM x0 x1 n g t j := by
  refine Eq.trans (b := (val_main_v22 (F := Ideal) x0 (ix2 (row n t) (uc g j)) * x1 (ix2 (row n t) (vc g j)) : EReal)) ?_ ?_
  · pointwise [val_main_v74, val_main_v72, val_main_v25, val_main_v71]
  · rw [ref_ge]
    exact mul_comm (G := EReal) _ _
theorem ref_dvn (n : Fin 16) (t : Fin 128) (g : Fin 4) (j : Fin 128) : val_main_v82 (F := Ideal) x0 x1 x4 (ix4 n t g j) = dvnM (dsM x0 x1 n g) (wM x4 g) t j := by
  unfold dvnM
  simp only [← ref_ds, ← ref_tri]
  pointwise [val_main_v82, val_main_v81, val_main_v79]
  exact Finset.sum_congr rfl fun k _ => mul_comm (G := EReal) _ _
theorem ref_dvn2 (n : Fin 16) (t : Fin 128) (g : Fin 4) (j : Fin 128) : val_main_v84 (F := Ideal) x0 x1 x4 (ix2 (row n t) (gc g j)) = dvnM (dsM x0 x1 n g) (wM x4 g) t j := by
  refine Eq.trans ?_ (ref_dvn ..)
  refine Eq.trans (b := val_main_v82 (F := Ideal) x0 x1 x4 (ix4 ⟨(row n t).val / 128, by omega⟩ ⟨(row n t).val % 128, by omega⟩ ⟨(gc g j).val / 128, by omega⟩ ⟨(gc g j).val % 128, by omega⟩)) ?_ ?_
  · pointwise [val_main_v84]
  · rw [gc_div, gc_mod, row_div, row_mod]
theorem ref_dw (g : Fin 4) (r k : Fin 128) : val_main_v83 (F := Ideal) x0 x1 x2 x3 (ix3 g r k)
    = if k.val ≤ r.val then (∑ n : Fin 16, ∑ j, dsM x0 x1 n g r j * vnM (VM x0 n g) (rowM x2 g) (rowM x3 g) k j : EReal) else 0 := by
  rw [← mask_if2]
  simp only [← ref_ds, ← ref_vn]
  pointwise [val_main_v83, val_main_v62_1, val_main_v61, val_main_v60, val_main_call0_v4, val_main_call0_v2, val_main_call0_v0, val_main_call0_v1, val_main_call0_c, val_main_call0_v3, val_main_v59, val_main_c, val_main_call0_v5, val_main_call0_c_0, val_main_v80, val_main_v79, val_main_call2_v0, val_main_call2_cst]
theorem ref_dlg (g : Fin 4) (j : Fin 128) : val_main_v122 (F := Ideal) x0 x1 x4 (ix2 0 (gc g j))
    = (∑ r : Fin 2048, val_main_v51 (F := Ideal) x0 (ix2 r (gc g j)) * val_main_v84 (F := Ideal) x0 x1 x4 (ix2 r (gc g j)) : EReal) := by
  pointwise [val_main_v122, val_main_v93, val_main_v90, val_main_v89, val_main_v88, val_main_cst_19, val_main_cst_20, Fin.sum_univ_one]
theorem ref_dlb (g : Fin 4) (j : Fin 128) : val_main_v121 (F := Ideal) x0 x1 x4 (ix2 0 (gc g j))
    = (∑ r : Fin 2048, val_main_v84 (F := Ideal) x0 x1 x4 (ix2 r (gc g j)) : EReal) := by
  pointwise [val_main_v121, val_main_v87, val_main_v86, val_main_v85, val_main_cst_17, val_main_cst_18, Fin.sum_univ_one]
theorem ref_dh (n : Fin 16) (t : Fin 128) (g : Fin 4) (j : Fin 128) : val_main_v94 (F := Ideal) x0 x1 x2 x4 (ix3 (row n t) g j) = dhM (dsM x0 x1 n g) (wM x4 g) (rowM x2 g) t j := by
  unfold dhM
  rw [← ref_dvn2]
  pointwise [val_main_v94, val_main_v92, val_main_v91, val_main_v52, val_main_v23]
  rfl
theorem ref_dx (n : Fin 16) (t : Fin 128) (g : Fin 4) (j : Fin 128) : val_main_v118 (F := Ideal) x0 x1 x2 x4 (ix3 (row n t) g j) = hnChain (VM x0 n g t) (dhM (dsM x0 x1 n g) (wM x4 g) (rowM x2 g) t) j := by
  have h : ∀ r : Fin 2048, val_main_v118 (F := Ideal) x0 x1 x2 x4 (ix3 r g j)
      = (let v := Ideal.div ((∑ k : Fin 128, val_main_v42 (F := Ideal) x0 (ix3 r g k) * val_main_v94 (F := Ideal) x0 x1 x2 x4 (ix3 r g k))
            * (Ideal.ofBits .f32 0xBF000000#32 * Ideal.div (val_main_v45 (F := Ideal) x0 (ix3 r g 0)) (val_main_v44 (F := Ideal) x0 (ix3 r g 0)))) (Ideal.ofBits .f32 0x43000000#32)
        (val_main_v94 (F := Ideal) x0 x1 x2 x4 (ix3 r g j) * val_main_v45 (F := Ideal) x0 (ix3 r g 0) + v * (Ideal.ofBits .f32 0x40000000#32 * val_main_v33 (F := Ideal) x0 (ix3 r g j))
          + Ideal.div ((∑ k : Fin 128, -(val_main_v94 (F := Ideal) x0 x1 x2 x4 (ix3 r g k) * val_main_v45 (F := Ideal) x0 (ix3 r g 0)))
            + ∑ k : Fin 128, -(v * (Ideal.ofBits .f32 0x40000000#32 * val_main_v33 (F := Ideal) x0 (ix3 r g k)))) (Ideal.ofBits .f32 0x43000000#32) : EReal)) := by
    intro r
    dsimp only
    pointwise [val_main_v118, val_main_v112, val_main_v99, val_main_v98, val_main_v108, val_main_v107, val_main_v106, val_main_v105, val_main_v100, val_main_v97, val_main_v96, val_main_v95, val_main_cst_21, val_main_v48, val_main_v47, val_main_cst_13, val_main_v46, val_main_v104, val_main_cst_23, val_main_cst_24, val_main_v36, val_main_v35, val_main_cst_9, val_main_v117, val_main_v116, val_main_v115, val_main_v113, val_main_v103, val_main_v102, val_main_v101, val_main_cst_22, val_main_v111, val_main_v110, val_main_v109, val_main_cst_25, val_main_v114, val_main_cst_26, val_main_cst_27, Fin.sum_univ_one]
  rw [h]
  simp only [ref_cen, ref_cen2, ref_rs, ref_var, ref_dh]
  rfl
theorem ref_dz (r : Fin 2048) (C : Fin 1024) : val_main_v134 (F := Ideal) x0 x1 x2 x3 x4 x5 (ix2 r C)
    = geluChain hR cR gR 3 (val_main_v120 (F := Ideal) x0 x1 x2 x3 x4 x5 (ix2 r C)) (x0 (ix2 r ⟨512 + C.val, by omega⟩)) := by
  unfold geluChain geluT
  simp only [← half_eq, ← scale_eq, ← cubic_eq, ← three_eq]
  pointwise [val_main_v134, val_main_v130, val_main_v124, val_main_v21, val_main_v20, val_main_cst_6, val_main_v19, val_main_v18, val_main_cst_5, val_main_v12, val_main_v11, val_main_v10, val_main_cst_2, val_main_v9, val_main_v0, val_main_v8, val_main_v7, val_main_v1, val_main_cst, val_main_cst_0, val_main_v3, val_main_v2, val_main_v129, val_main_v128, val_main_cst_29, val_main_v127, val_main_v126, val_main_v125, val_main_cst_28, val_main_v123, val_main_v17, val_main_v14, val_main_v13, val_main_cst_3, val_main_v16, val_main_v15, val_main_cst_4, val_main_v133, val_main_v132, val_main_v131, val_main_v6, val_main_v5, val_main_cst_1, val_main_v4]
theorem ref_dzu (n : Fin 16) (t : Fin 128) (g : Fin 4) (j : Fin 128) : val_main_v136 (F := Ideal) x0 x1 x2 x3 x4 x5 (ix2 (row n t) (gc g j))
    = geluChain hR cR gR 3 (dyM x1 n g t j * spM (VM x0 n g) (rowM x2 g) (rowM x3 g) (wM x4 g) (bM x5 g) t j) (zU x0 n g t j) := by
  refine Eq.trans (b := val_main_v134 (F := Ideal) x0 x1 x2 x3 x4 x5 (ix2 (row n t) (uc g j))) ?_ ?_
  · pointwise [val_main_v136, val_main_v135]
  rw [ref_dz]
  refine congrArg (fun a => geluChain hR cR gR 3 a _) ?_
  rw [← ref_sp2]
  pointwise [val_main_v120, val_main_v73, val_main_v71, val_main_v119]
  rw [dif_pos (by omega)]
  rfl
theorem ref_dzv (n : Fin 16) (t : Fin 128) (g : Fin 4) (j : Fin 128) : val_main_v138 (F := Ideal) x0 x1 x2 x3 x4 x5 (ix2 (row n t) (gc g j))
    = geluChain hR cR gR 3 (hnChain (VM x0 n g t) (dhM (dsM x0 x1 n g) (wM x4 g) (rowM x2 g) t) j) (zV x0 n g t j) := by
  refine Eq.trans (b := val_main_v134 (F := Ideal) x0 x1 x2 x3 x4 x5 (ix2 (row n t) (vc g j))) ?_ ?_
  · pointwise [val_main_v138, val_main_v137]
  rw [ref_dz]
  refine congrArg (fun a => geluChain hR cR gR 3 a _) ?_
  rw [← ref_dx]
  pointwise [val_main_v120, val_main_v73, val_main_v71, val_main_v119]
theorem ref_dbt (r : Fin 128) (g : Fin 4) : val_main_v75 (F := Ideal) x0 x1 (ix2 r g) = (∑ n : Fin 16, ∑ j : Fin 128, dsM x0 x1 n g r j : EReal) := by
  show Ideal.hostReduceAdd SguBwdRefIdeal.Gen.reducesTo_S16x128x4x128_S128x4_d0_3 (val_main_v74 (F := Ideal) x0 x1) (Ideal.ofBits .f32 0#32) (ix2 r g) = _
  unfold Ideal.hostReduceAdd
  rw [show Ideal.ofBits .f32 0#32 = 0 by simp [Ideal.ofBits, Ideal.ieee], zero_add, ← Fintype.sum_prod_type']
  refine Finset.sum_nbij' (fun y => (y 0, y 3)) (fun p => ix4 p.1 r g p.2) (fun _ _ => Finset.mem_univ _) ?_ ?_ (fun _ _ => rfl) ?_
  · intro p _
    refine Finset.mem_filter.2 ⟨Finset.mem_univ _, ?_⟩
    funext a
    match a with
    | 0 => rfl
    | 1 => rfl
  · intro y hy
    have := (Finset.mem_filter.1 hy).2
    obtain ⟨a, b, k, d, rfl⟩ : ∃ a b k d, y = ix4 a b k d := ⟨y 0, y 1, y 2, y 3, eq_ix4 y⟩
    have h1 : b = r := congrFun this 0
    have h2 : k = g := congrFun this 1
    rw [h1, h2]
    rfl
  · intro y hy
    have := (Finset.mem_filter.1 hy).2
    obtain ⟨a, b, k, d, rfl⟩ : ∃ a b k d, y = ix4 a b k d := ⟨y 0, y 1, y 2, y 3, eq_ix4 y⟩
    have h1 : b = r := congrFun this 0
    have h2 : k = g := congrFun this 1
    rw [h1, h2]
    exact ref_ds ..
theorem ref_dbt2 (r : Fin 128) (g : Fin 4) : val_main_v77 (F := Ideal) x0 x1 (ix2 r g) = (∑ n : Fin 16, ∑ j : Fin 128, dsM x0 x1 n g r j : EReal) := by
  rw [← ref_dbt]
  refine Eq.trans (b := val_main_v76 (F := Ideal) x0 x1 (ix4 0 r g 0)) ?_ (by pointwise [val_main_v76])
  show Ideal.hostReduceAdd SguBwdRefIdeal.Gen.reducesTo_S1x128x4x1_S128x4_d0_3 (val_main_v76 (F := Ideal) x0 x1) (Ideal.ofBits .f32 0#32) (ix2 r g) = _
  unfold Ideal.hostReduceAdd
  rw [Finset.sum_eq_single_of_mem (ix4 0 r g 0)]
  · simp [Ideal.ofBits, Ideal.ieee]
  · refine Finset.mem_filter.2 ⟨Finset.mem_univ _, ?_⟩
    funext a
    match a with
    | 0 => rfl
    | 1 => rfl
  · intro y hy hne
    refine absurd ?_ hne
    have := (Finset.mem_filter.1 hy).2
    obtain ⟨a, b, k, d, rfl⟩ : ∃ a b k d, y = ix4 a b k d := ⟨y 0, y 1, y 2, y 3, eq_ix4 y⟩
    obtain rfl : a = 0 := Subsingleton.elim ..
    obtain rfl : d = 0 := Subsingleton.elim ..
    have h1 : b = r := congrFun this 0
    have h2 : k = g := congrFun this 1
    rw [h1, h2]
theorem ref_db (r c : Fin 128) : val_main_v140 (F := Ideal) x0 x1 (ix2 r c)
    = if h : c.val < 4 then (∑ n : Fin 16, ∑ j : Fin 128, dsM x0 x1 n ⟨c.val, h⟩ r j : EReal) else 0 := by
  simp only [← ref_dbt2]
  pointwise [val_main_v140, val_main_v139, val_main_v78, val_main_call3_v0, val_main_c_30]
  by_cases h : c.val < 4
  · rw [dif_pos h, dif_pos h]
  · rw [dif_neg h, dif_neg h]
    simp [FloatOps.sitofp]
end
end Cert.SguBwdIdeal.Value

end
-- ==== Proof.SguBwdSums.lean ====
/- The SGU mixer's gradient over the sixteen chunks: what each chunk leaves, the sums of the four accumulators, and the six
   results, equal to the reference's where the arguments are finite. -/
module

public import proofs.«01_k».proof.Defs
public import proofs.«01_k».proof.Proof.SguBwdHead
public import proofs.«01_k».proof.Proof.SguBwdRef
public import proofs.«01_k».proof.Proof.Rows
public import proofs.«01_k».proof.Proof.Gen.SguBwdIdeal.Value
public import proofs.«01_k».proof.Proof.Gen.SguBwdRefIdeal.Read
public import proofs.«01_k».proof.Proof.Gen.Pre_finite_sgu_bwd
public import Idealize.ShloMosaic.Lib.Pointwise.Sums
public import Idealize.ShloMosaic.Lib.ReduceAll
public import Idealize.ShloMosaic.Lib.WordCmp
public import Idealize.ShloMosaic.Lib.Tactic

@[expose] public section

set_option maxRecDepth 16384

noncomputable section

namespace Cert.SguBwdIdeal.Value

open Idealize.ShloMosaic.WordCmp Cert.SguBwdIdeal Cert.SguBwdIdeal.Gen Idealize.ShloMosaic Idealize.ShloMosaic.TcCoe Idealize.SL.Sem Cert.Util Pipeline

variable (m : (ℓ : Loc nD τ sig) → Buf (Elt Ideal) ℓ)

theorem idx_in : ∀ t : Fin cfg0.N, (win0_0.index t 0 = t.val ∧ win0_0.index t 1 = 1) ∧ (win0_1.index t 0 = t.val ∧ win0_1.index t 1 = 2)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 1) ∧ (win0_7.index t 0 = 0 ∧ win0_7.index t 1 = 0) := by
  decide +kernel
theorem idx_out : ∀ t : Fin cfg0.N, (win0_8.index t 0 = t.val ∧ win0_8.index t 1 = 0) ∧ (win0_9.index t 0 = t.val ∧ win0_9.index t 1 = 0)
    ∧ (win0_10.index t 0 = 0 ∧ win0_10.index t 1 = 0) ∧ (win0_11.index t 0 = 0 ∧ win0_11.index t 1 = 0)
    ∧ (win0_12.index t 0 = 0 ∧ win0_12.index t 1 = 0 ∧ win0_12.index t 2 = 0) ∧ (win0_13.index t 0 = 0 ∧ win0_13.index t 1 = 0) := by
  decide +kernel

/-- The arguments' arrays, and a point's chunk. -/
abbrev zA (c : Dev nD) : FVec Ideal S2048x1536 .f32 := m ((c : Thread nD τ).loc main_arg0)
abbrev dyA (c : Dev nD) : FVec Ideal S2048x1024 .f32 := m ((c : Thread nD τ).loc main_arg1)
abbrev lgA (c : Dev nD) : FVec Ideal S1x512 .f32 := m ((c : Thread nD τ).loc main_arg2)
abbrev lbA (c : Dev nD) : FVec Ideal S1x512 .f32 := m ((c : Thread nD τ).loc main_arg3)
abbrev wA (c : Dev nD) : FVec Ideal S4x128x128 .f32 := m ((c : Thread nD τ).loc main_arg4)
abbrev sbA (c : Dev nD) : FVec Ideal S4x128 .f32 := m ((c : Thread nD τ).loc main_arg5)
abbrev ch (t : Fin cfg0.N) : Fin 16 := ⟨t.val, lt_of_lt_of_eq t.isLt N_0⟩

section
variable (c : Dev nD)

/-- The host's two arrays: the bias with its heads as columns, and the matrix that adds up a head's columns. -/
theorem host_bt (r : Fin 128) (g : Fin 4) : (V m c main_v1 : FVec Ideal S128x128 .f32) (ix2 r ⟨g.val, by omega⟩) = sbA m c (ix2 g r) := by
  show StableHlo.after (List.flatten [hostOps0, hostOps0_1, hostOps0_2]) (fun b => m (c, b)) main_v1 _ = _
  simp only [hostOps0, hostOps0_1, hostOps0_2, List.flatten_cons, List.flatten_nil, List.append_nil, List.cons_append, List.nil_append]
  after_results_simp
  show pad S128x128 ![0, 0] ![0, 124] ![0, 0] (transpose S128x4 [1, 0] (sbA m c) transposes_S4x128_S128x4_1_0) (sitofp (F := Ideal) .f32 (constantI S_ 32 0#32)) pads_S128x4_S128x128_000_01240 h_S_ (ix2 r ⟨g.val, by omega⟩) = _
  pointwise []
theorem host_hs (g : Fin 4) (j d : Fin 128) : (V m c main_v9 : FVec Ideal S512x128 .f32) (ix2 (gc g j) d) = if g.val = d.val then (1 : EReal) else 0 := by
  show StableHlo.after (List.flatten [hostOps0, hostOps0_1, hostOps0_2]) (fun b => m (c, b)) main_v9 _ = _
  simp only [hostOps0, hostOps0_1, hostOps0_2, List.flatten_cons, List.flatten_nil, List.append_nil, List.cons_append, List.nil_append]
  after_results_simp
  pointwise []
  rw [show (g.val * 128 + j.val) / 128 = g.val by omega, show IntOp.addi (BitVec.ofNat 32 g.val) 0#32 = BitVec.ofNat 32 g.val from BitVec.add_zero _]
  by_cases h : g.val = d.val
  · rw [if_pos h, h, (cmpi_eq_ofNat_eq_one_iff (w := 32) (by omega) (by omega)).2 rfl]
    simp [FloatOps.uitofp]
  · rw [if_neg h, (cmpi_eq_ofNat_eq_zero_iff (w := 32) (by omega) (by omega)).2 h]
    simp [FloatOps.uitofp]

theorem blk0 (t : Fin cfg0.N) (a : Fin 128) (b : Fin 512) : iblk m c 0 t (ix2 a b) = zA m c (ix2 (row (ch t) a) ⟨512 + b.val, by omega⟩) := by
  show m ((c : Thread nD τ).loc main_arg0) ((win0_0.rect t).emb (ix2 a b)) = _
  congr 1
  apply idx2_ext
  · rw [win0_0.rect_emb_val, (idx_in t).1.1]; rfl
  · rw [win0_0.rect_emb_val, (idx_in t).1.2]; rfl
theorem blk1 (t : Fin cfg0.N) (a : Fin 128) (b : Fin 512) : iblk m c 1 t (ix2 a b) = zA m c (ix2 (row (ch t) a) ⟨512 + (512 + b.val), by omega⟩) := by
  show m ((c : Thread nD τ).loc main_arg0) ((win0_1.rect t).emb (ix2 a b)) = _
  congr 1
  apply idx2_ext
  · rw [win0_1.rect_emb_val, (idx_in t).2.1.1]; rfl
  · rw [win0_1.rect_emb_val, (idx_in t).2.1.2]; show 2 * 512 + b.val = 512 + (512 + b.val); omega
theorem blk2 (t : Fin cfg0.N) (b : Fin 512) : iblk m c 2 t (ix2 0 b) = lgA m c (ix2 0 b) := by
  show m ((c : Thread nD τ).loc main_arg2) ((win0_2.rect t).emb (ix2 0 b)) = _
  congr 1
  apply idx2_ext
  · rw [win0_2.rect_emb_val, (idx_in t).2.2.1.1]; rfl
  · rw [win0_2.rect_emb_val, (idx_in t).2.2.1.2]; exact Nat.zero_add _
theorem blk3 (t : Fin cfg0.N) (b : Fin 512) : iblk m c 3 t (ix2 0 b) = lbA m c (ix2 0 b) := by
  show m ((c : Thread nD τ).loc main_arg3) ((win0_3.rect t).emb (ix2 0 b)) = _
  congr 1
  apply idx2_ext
  · rw [win0_3.rect_emb_val, (idx_in t).2.2.2.1.1]; rfl
  · rw [win0_3.rect_emb_val, (idx_in t).2.2.2.1.2]; exact Nat.zero_add _
theorem blk4 (t : Fin cfg0.N) (g : Fin 4) (r k : Fin 128) : iblk m c 4 t (ix3 g r k) = wA m c (ix3 g r k) := by
  show m ((c : Thread nD τ).loc main_arg4) ((win0_4.rect t).emb (ix3 g r k)) = _
  congr 1
  apply idx3_ext
  · rw [win0_4.rect_emb_val, (idx_in t).2.2.2.2.1.1]; exact Nat.zero_add _
  · rw [win0_4.rect_emb_val, (idx_in t).2.2.2.2.1.2.1]; exact Nat.zero_add _
  · rw [win0_4.rect_emb_val, (idx_in t).2.2.2.2.1.2.2]; exact Nat.zero_add _
theorem blk5 (t : Fin cfg0.N) (r : Fin 128) (g : Fin 4) : iblk m c 5 t (ix2 r ⟨g.val, by omega⟩) = sbA m c (ix2 g r) := by
  rw [← host_bt]
  show V m c main_v1 ((win0_5.rect t).emb (ix2 r ⟨g.val, by omega⟩)) = _
  congr 1
  apply idx2_ext
  · rw [win0_5.rect_emb_val, (idx_in t).2.2.2.2.2.1.1]; exact Nat.zero_add _
  · rw [win0_5.rect_emb_val, (idx_in t).2.2.2.2.2.1.2]; exact Nat.zero_add _
theorem blk6 (t : Fin cfg0.N) (a : Fin 128) (b : Fin 512) : iblk m c 6 t (ix2 a b) = dyA m c (ix2 (row (ch t) a) ⟨512 + b.val, by omega⟩) := by
  show m ((c : Thread nD τ).loc main_arg1) ((win0_6.rect t).emb (ix2 a b)) = _
  congr 1
  apply idx2_ext
  · rw [win0_6.rect_emb_val, (idx_in t).2.2.2.2.2.2.1.1]; rfl
  · rw [win0_6.rect_emb_val, (idx_in t).2.2.2.2.2.2.1.2]; rfl
theorem blk7 (t : Fin cfg0.N) (g : Fin 4) (j d : Fin 128) : iblk m c 7 t (ix2 (gc g j) d) = if g.val = d.val then (1 : EReal) else 0 := by
  rw [← host_hs m c g j d]
  show V m c main_v9 ((win0_7.rect t).emb (ix2 (gc g j) d)) = _
  congr 1
  apply idx2_ext
  · rw [win0_7.rect_emb_val, (idx_in t).2.2.2.2.2.2.2.1]; exact Nat.zero_add _
  · rw [win0_7.rect_emb_val, (idx_in t).2.2.2.2.2.2.2.2]; exact Nat.zero_add _

variable (t : Fin cfg0.N) (g : Fin 4)
/-- What a chunk's operations on a head read, in the arguments' terms. -/
theorem mat_v : matF (cut g (vV (iblk m c 1 t))) = VM (zA m c) (ch t) g := funext fun a => funext fun j => by
  show cut g (vV (iblk m c 1 t)) (ix2 a j) = _
  rw [cut_at, vV_at, blk1]
  rfl
theorem mat_ds : matF (cut g (dsV (iblk m c 0 t) (iblk m c 6 t))) = dsM (zA m c) (dyA m c) (ch t) g := funext fun a => funext fun j => by
  show cut g (dsV (iblk m c 0 t) (iblk m c 6 t)) (ix2 a j) = _
  rw [cut_at, dsV_at, blk0, blk6]
  rfl
theorem row_g : rowF (rowG g (iblk m c 2 t)) = rowM (lgA m c) g := funext fun j => by
  show rowG g (iblk m c 2 t) (ix2 0 j) = _
  rw [rowG_at, blk2]
  rfl
theorem row_b : rowF (rowG g (iblk m c 3 t)) = rowM (lbA m c) g := funext fun j => by
  show rowG g (iblk m c 3 t) (ix2 0 j) = _
  rw [rowG_at, blk3]
  rfl
theorem mat_w : wF (wG g (iblk m c 4 t)) = wM (wA m c) g := funext fun r => funext fun k => by
  show wG g (iblk m c 4 t) (ix3 0 r k) = _
  rw [wG_at, blk4]
  rfl
theorem col_b : (fun i : Fin 128 => btG g (iblk m c 5 t) (ix2 i 0)) = bM (sbA m c) g := funext fun i => by
  show btG g (iblk m c 5 t) (ix2 i 0) = _
  rw [btG_at, blk5]
  rfl

theorem outs8 (r j : Fin 128) : (outsAt0 m c t.val t.isLt).1 (ix2 r (gc g j))
    = (dyM (dyA m c) (ch t) g r j * spM (VM (zA m c) (ch t) g) (rowM (lgA m c) g) (rowM (lbA m c) g) (wM (wA m c) g) (bM (sbA m c) g) r j * geD (zU (zA m c) (ch t) g r j) : EReal) := by
  refine Eq.trans (b := dzuC (cut g (k0_pay9 (iblk m c 0 t))) (cut g (iblk m c 6 t)) (cut g (vV (iblk m c 1 t))) (rowG g (iblk m c 2 t)) (rowG g (iblk m c 3 t)) (wG g (iblk m c 4 t)) (btG g (iblk m c 5 t)) (ix2 r j)) ?_ ?_
  · by_cases h0 : t.val % 16 = 0
    · rw [outsAt0_A m c t h0 (by omega)]
      dsimp only
      exact outA8 ..
    · by_cases h1 : t.val % 16 = 15
      · rw [outsAt0_C m c t h0 h1]
        dsimp only
        exact outC8 ..
      · rw [outsAt0_B m c t h0 h1]
        dsimp only
        exact outB8 ..
  · rw [dzuC_at, mat_v, row_g, row_b, mat_w, col_b, cut_at, cut_at, dU_at, blk0, blk6]
    rfl
theorem outs9 (r j : Fin 128) : (outsAt0 m c t.val t.isLt).2.1 (ix2 r (gc g j))
    = (hnHand (VM (zA m c) (ch t) g r) (dhM (dsM (zA m c) (dyA m c) (ch t) g) (wM (wA m c) g) (rowM (lgA m c) g) r) j * geD (zV (zA m c) (ch t) g r j) : EReal) := by
  refine Eq.trans (b := dzvC (cut g (gV (iblk m c 1 t))) (cut g (vV (iblk m c 1 t))) (cut g (dsV (iblk m c 0 t) (iblk m c 6 t))) (wG g (iblk m c 4 t)) (rowG g (iblk m c 2 t)) (ix2 r j)) ?_ ?_
  · by_cases h0 : t.val % 16 = 0
    · rw [outsAt0_A m c t h0 (by omega)]
      dsimp only
      exact outA9 ..
    · by_cases h1 : t.val % 16 = 15
      · rw [outsAt0_C m c t h0 h1]
        dsimp only
        exact outC9 ..
      · rw [outsAt0_B m c t h0 h1]
        dsimp only
        exact outB9 ..
  · rw [dzvC_at, mat_v, mat_ds, row_g, mat_w, cut_at, gV_at, blk1]
    rfl
end

section
variable (c : Dev nD)
/-- Chunk `n`'s part of each accumulator. -/
def pLg (n : Fin 16) (g : Fin 4) (j : Fin 128) : EReal := ∑ r, dvnM (dsM (zA m c) (dyA m c) n g) (wM (wA m c) g) r j * hat (VM (zA m c) n g r) j
def pLb (n : Fin 16) (g : Fin 4) (j : Fin 128) : EReal := ∑ r, dvnM (dsM (zA m c) (dyA m c) n g) (wM (wA m c) g) r j
def pW (n : Fin 16) (g : Fin 4) (r j : Fin 128) : EReal := dwM (dsM (zA m c) (dyA m c) n g) (VM (zA m c) n g) (rowM (lgA m c) g) (rowM (lbA m c) g) r j
abbrev pt (n : ℕ) (h : n < cfg0.N) : Fin 16 := ch ⟨n, h⟩

theorem zeroLg (h : 0 < cfg0.N) (g : Fin 4) (j : Fin 128) : (outsAt0 m c 0 h).2.2.1 (ix2 0 (gc g j)) = pLg m c (pt 0 h) g j := by
  refine Eq.trans (b := lgC (cut g (vV (iblk m c 1 ⟨0, h⟩))) (cut g (dsV (iblk m c 0 ⟨0, h⟩) (iblk m c 6 ⟨0, h⟩))) (wG g (iblk m c 4 ⟨0, h⟩)) (rowG g (k0_pay5 (F := Ideal))) (ix2 0 j)) ?_ ?_
  · rw [outsAt0_A m c ⟨0, h⟩ rfl (by show ¬ 0 % 16 = 15; omega)]
    dsimp only
    exact outA10 ..
  · rw [lgC_at, mat_v, mat_ds, mat_w, rowG_at, show k0_pay5 (F := Ideal) (ix2 0 (gc g j)) = 0 by pointwise [k0_pay5]]
    exact zero_add _
theorem succLg (n : ℕ) (h : n + 1 < cfg0.N) (g : Fin 4) (j : Fin 128) :
    (outsAt0 m c (n + 1) h).2.2.1 (ix2 0 (gc g j)) = ((outsAt0 m c n (Nat.lt_of_succ_lt h)).2.2.1 (ix2 0 (gc g j)) + pLg m c (pt (n + 1) h) g j : EReal) := by
  have hN : cfg0.N = 16 := N_0
  refine Eq.trans (b := lgC (cut g (vV (iblk m c 1 ⟨n + 1, h⟩))) (cut g (dsV (iblk m c 0 ⟨n + 1, h⟩) (iblk m c 6 ⟨n + 1, h⟩))) (wG g (iblk m c 4 ⟨n + 1, h⟩)) (rowG g (outsAt0 m c n (Nat.lt_of_succ_lt h)).2.2.1) (ix2 0 j)) ?_ ?_
  · by_cases h1 : (n + 1) % 16 = 15
    · rw [outsAt0_C m c ⟨n + 1, h⟩ (by show ¬ (n + 1) % 16 = 0; omega) h1]
      dsimp only
      exact outC10 ..
    · rw [outsAt0_B m c ⟨n + 1, h⟩ (by show ¬ (n + 1) % 16 = 0; omega) h1]
      dsimp only
      exact outB10 ..
  · rw [lgC_at, mat_v, mat_ds, mat_w, rowG_at]
    rfl
theorem sumLg (g : Fin 4) (j : Fin 128) (n : ℕ) (h : n < cfg0.N) :
    (outsAt0 m c n h).2.2.1 (ix2 0 (gc g j)) = ∑ i : Fin (n + 1), pLg m c (pt i.val (lt_of_le_of_lt (Nat.le_of_lt_succ i.isLt) h)) g j :=
  acc_sum (M := EReal) (fun k hk => (outsAt0 m c k hk).2.2.1 (ix2 0 (gc g j))) (fun k hk => pLg m c (pt k hk) g j)
    (fun h => zeroLg m c h g j) (fun k hk => succLg m c k hk g j) n h

theorem zeroLb (h : 0 < cfg0.N) (g : Fin 4) (j : Fin 128) : (outsAt0 m c 0 h).2.2.2.1 (ix2 0 (gc g j)) = pLb m c (pt 0 h) g j := by
  refine Eq.trans (b := lbC (cut g (dsV (iblk m c 0 ⟨0, h⟩) (iblk m c 6 ⟨0, h⟩))) (wG g (iblk m c 4 ⟨0, h⟩)) (rowG g (k0_pay6 (F := Ideal))) (ix2 0 j)) ?_ ?_
  · rw [outsAt0_A m c ⟨0, h⟩ rfl (by show ¬ 0 % 16 = 15; omega)]
    dsimp only
    exact outA11 ..
  · rw [lbC_at, mat_ds, mat_w, rowG_at, show k0_pay6 (F := Ideal) (ix2 0 (gc g j)) = 0 by pointwise [k0_pay6]]
    exact zero_add _
theorem succLb (n : ℕ) (h : n + 1 < cfg0.N) (g : Fin 4) (j : Fin 128) :
    (outsAt0 m c (n + 1) h).2.2.2.1 (ix2 0 (gc g j)) = ((outsAt0 m c n (Nat.lt_of_succ_lt h)).2.2.2.1 (ix2 0 (gc g j)) + pLb m c (pt (n + 1) h) g j : EReal) := by
  have hN : cfg0.N = 16 := N_0
  refine Eq.trans (b := lbC (cut g (dsV (iblk m c 0 ⟨n + 1, h⟩) (iblk m c 6 ⟨n + 1, h⟩))) (wG g (iblk m c 4 ⟨n + 1, h⟩)) (rowG g (outsAt0 m c n (Nat.lt_of_succ_lt h)).2.2.2.1) (ix2 0 j)) ?_ ?_
  · by_cases h1 : (n + 1) % 16 = 15
    · rw [outsAt0_C m c ⟨n + 1, h⟩ (by show ¬ (n + 1) % 16 = 0; omega) h1]
      dsimp only
      exact outC11 ..
    · rw [outsAt0_B m c ⟨n + 1, h⟩ (by show ¬ (n + 1) % 16 = 0; omega) h1]
      dsimp only
      exact outB11 ..
  · rw [lbC_at, mat_ds, mat_w, rowG_at]
    rfl
theorem sumLb (g : Fin 4) (j : Fin 128) (n : ℕ) (h : n < cfg0.N) :
    (outsAt0 m c n h).2.2.2.1 (ix2 0 (gc g j)) = ∑ i : Fin (n + 1), pLb m c (pt i.val (lt_of_le_of_lt (Nat.le_of_lt_succ i.isLt) h)) g j :=
  acc_sum (M := EReal) (fun k hk => (outsAt0 m c k hk).2.2.2.1 (ix2 0 (gc g j))) (fun k hk => pLb m c (pt k hk) g j)
    (fun h => zeroLb m c h g j) (fun k hk => succLb m c k hk g j) n h

theorem zeroW (h : 0 < cfg0.N) (g : Fin 4) (r j : Fin 128) : (outsAt0 m c 0 h).2.2.2.2.1 (ix3 g r j) = pW m c (pt 0 h) g r j := by
  refine Eq.trans (b := dwC (cut g (dsV (iblk m c 0 ⟨0, h⟩) (iblk m c 6 ⟨0, h⟩))) (cut g (vV (iblk m c 1 ⟨0, h⟩))) (rowG g (iblk m c 2 ⟨0, h⟩)) (rowG g (iblk m c 3 ⟨0, h⟩)) (wG g (k0_pay4 (F := Ideal))) (ix3 0 r j)) ?_ ?_
  · rw [outsAt0_A m c ⟨0, h⟩ rfl (by show ¬ 0 % 16 = 15; omega)]
    dsimp only
    exact outA12 ..
  · rw [dwC_at, mat_ds, mat_v, row_g, row_b, wG_at, show k0_pay4 (F := Ideal) (ix3 g r j) = 0 by pointwise [k0_pay4]]
    exact zero_add _
theorem succW (n : ℕ) (h : n + 1 < cfg0.N) (g : Fin 4) (r j : Fin 128) :
    (outsAt0 m c (n + 1) h).2.2.2.2.1 (ix3 g r j) = ((outsAt0 m c n (Nat.lt_of_succ_lt h)).2.2.2.2.1 (ix3 g r j) + pW m c (pt (n + 1) h) g r j : EReal) := by
  have hN : cfg0.N = 16 := N_0
  refine Eq.trans (b := dwC (cut g (dsV (iblk m c 0 ⟨n + 1, h⟩) (iblk m c 6 ⟨n + 1, h⟩))) (cut g (vV (iblk m c 1 ⟨n + 1, h⟩))) (rowG g (iblk m c 2 ⟨n + 1, h⟩)) (rowG g (iblk m c 3 ⟨n + 1, h⟩)) (wG g (outsAt0 m c n (Nat.lt_of_succ_lt h)).2.2.2.2.1) (ix3 0 r j)) ?_ ?_
  · by_cases h1 : (n + 1) % 16 = 15
    · rw [outsAt0_C m c ⟨n + 1, h⟩ (by show ¬ (n + 1) % 16 = 0; omega) h1]
      dsimp only
      exact outC12 ..
    · rw [outsAt0_B m c ⟨n + 1, h⟩ (by show ¬ (n + 1) % 16 = 0; omega) h1]
      dsimp only
      exact outB12 ..
  · rw [dwC_at, mat_ds, mat_v, row_g, row_b, wG_at]
    rfl
theorem sumW (g : Fin 4) (r j : Fin 128) (n : ℕ) (h : n < cfg0.N) :
    (outsAt0 m c n h).2.2.2.2.1 (ix3 g r j) = ∑ i : Fin (n + 1), pW m c (pt i.val (lt_of_le_of_lt (Nat.le_of_lt_succ i.isLt) h)) g r j :=
  acc_sum (M := EReal) (fun k hk => (outsAt0 m c k hk).2.2.2.2.1 (ix3 g r j)) (fun k hk => pW m c (pt k hk) g r j)
    (fun h => zeroW m c h g r j) (fun k hk => succW m c k hk g r j) n h

/-- The gate's gradient summed chunk by chunk, and the last chunk's sums over a head's columns. -/
theorem zeroA (h : 0 < cfg0.N) (g : Fin 4) (r j : Fin 128) : (outsAt0 m c 0 h).2.2.2.2.2.2 (ix2 r (gc g j)) = dsM (zA m c) (dyA m c) (pt 0 h) g r j := by
  refine Eq.trans (b := k0_pay16 (k0_pay8 (iblk m c 0 ⟨0, h⟩)) (iblk m c 6 ⟨0, h⟩) (k0_pay3 (F := Ideal)) (ix2 r (gc g j))) ?_ ?_
  · rw [outsAt0_A m c ⟨0, h⟩ rfl (by show ¬ 0 % 16 = 15; omega)]
    dsimp only
    exact congrFun (accA ..) _
  · rw [acc_at, blk0, blk6, show k0_pay3 (F := Ideal) (ix2 r (gc g j)) = 0 by pointwise [k0_pay3]]
    exact zero_add _
theorem stepA (n : ℕ) (h : n + 1 < cfg0.N) (g : Fin 4) (r j : Fin 128) :
    k0_pay16 (k0_pay8 (iblk m c 0 ⟨n + 1, h⟩)) (iblk m c 6 ⟨n + 1, h⟩) (outsAt0 m c n (Nat.lt_of_succ_lt h)).2.2.2.2.2.2 (ix2 r (gc g j))
      = ((outsAt0 m c n (Nat.lt_of_succ_lt h)).2.2.2.2.2.2 (ix2 r (gc g j)) + dsM (zA m c) (dyA m c) (pt (n + 1) h) g r j : EReal) := by
  rw [acc_at, blk0, blk6]
  rfl
theorem succA (n : ℕ) (h : n + 1 < cfg0.N) (g : Fin 4) (r j : Fin 128) :
    (outsAt0 m c (n + 1) h).2.2.2.2.2.2 (ix2 r (gc g j))
      = ((outsAt0 m c n (Nat.lt_of_succ_lt h)).2.2.2.2.2.2 (ix2 r (gc g j)) + dsM (zA m c) (dyA m c) (pt (n + 1) h) g r j : EReal) := by
  have hN : cfg0.N = 16 := N_0
  rw [← stepA]
  by_cases h1 : (n + 1) % 16 = 15
  · rw [outsAt0_C m c ⟨n + 1, h⟩ (by show ¬ (n + 1) % 16 = 0; omega) h1]
    dsimp only
    exact congrFun (accC ..) _
  · rw [outsAt0_B m c ⟨n + 1, h⟩ (by show ¬ (n + 1) % 16 = 0; omega) h1]
    dsimp only
    exact congrFun (accB ..) _
theorem sumA (g : Fin 4) (r j : Fin 128) (n : ℕ) (h : n < cfg0.N) :
    (outsAt0 m c n h).2.2.2.2.2.2 (ix2 r (gc g j)) = ∑ i : Fin (n + 1), dsM (zA m c) (dyA m c) (pt i.val (lt_of_le_of_lt (Nat.le_of_lt_succ i.isLt) h)) g r j :=
  acc_sum (M := EReal) (fun k hk => (outsAt0 m c k hk).2.2.2.2.2.2 (ix2 r (gc g j))) (fun k hk => dsM (zA m c) (dyA m c) (pt k hk) g r j)
    (fun h => zeroA m c h g r j) (fun k hk => succA m c k hk g r j) n h

theorem pay2_at (a : Vec Ideal S128x512 .f32) (b : Vec Ideal S512x128 .f32) (r d : Fin 128) :
    k0_pay2 a b (ix2 r d) = (∑ g : Fin 4, ∑ j : Fin 128, a (ix2 r (gc g j)) * b (ix2 (gc g j) d) : EReal) := by
  refine Eq.trans (b := (∑ C : Fin 512, a (ix2 r C) * b (ix2 C d) : EReal)) (by pointwise [k0_pay2]) ?_
  rw [Fin.sum_univ_tiles 4 128 rfl]
theorem outs13 (n : ℕ) (h : n + 1 < cfg0.N) (h1 : (n + 1) % 16 = 15) (r d : Fin 128) : (outsAt0 m c (n + 1) h).2.2.2.2.2.1 (ix2 r d)
    = (∑ g : Fin 4, ∑ j : Fin 128, (∑ i : Fin (n + 1 + 1), dsM (zA m c) (dyA m c) (pt i.val (lt_of_le_of_lt (Nat.le_of_lt_succ i.isLt) h)) g r j) * (if g.val = d.val then (1 : EReal) else 0) : EReal) := by
  refine Eq.trans (b := k0_pay2 (k0_pay16 (k0_pay8 (iblk m c 0 ⟨n + 1, h⟩)) (iblk m c 6 ⟨n + 1, h⟩) (outsAt0 m c n (Nat.lt_of_succ_lt h)).2.2.2.2.2.2) (iblk m c 7 ⟨n + 1, h⟩) (ix2 r d)) ?_ ?_
  · rw [outsAt0_C m c ⟨n + 1, h⟩ (by show ¬ (n + 1) % 16 = 0; omega) h1]
    dsimp only
    exact congrFun (out13 ..) _
  · rw [pay2_at]
    refine Finset.sum_congr rfl fun g _ => Finset.sum_congr rfl fun j _ => ?_
    rw [stepA, ← succA, sumA, blk7]
end

end Cert.SguBwdIdeal.Value

end
-- ==== Proof.SguBwdValue.lean ====
/- The six results of the SGU mixer's gradient equal the reference's where the arguments are finite. -/
module

public import proofs.«01_k».proof.Defs
public import proofs.«01_k».proof.Proof.SguBwdSums
public import Idealize.ShloMosaic.Lib.ReduceAll

@[expose] public section

set_option maxRecDepth 16384

noncomputable section

namespace Cert.SguBwdIdeal.Value

open Cert.SguBwdIdeal Cert.SguBwdIdeal.Gen Idealize.ShloMosaic Idealize.ShloMosaic.TcCoe Idealize.SL.Sem Cert.Util Pipeline

variable (m : (ℓ : Loc nD τ sig) → Buf (Elt Ideal) ℓ) (c : Dev nD)

/-- The arguments' entries that the mixer reads are real numbers. -/
structure Fin6 : Prop where
  z : ∀ (r : Fin 2048) (C : Fin 1024), IsR (zA m c (ix2 r ⟨512 + C.val, by omega⟩))
  dy : ∀ (r : Fin 2048) (C : Fin 512), IsR (dyA m c (ix2 r ⟨512 + C.val, by omega⟩))
  lg : ∀ C : Fin 512, IsR (lgA m c (ix2 0 C))
  lb : ∀ C : Fin 512, IsR (lbA m c (ix2 0 C))
  w : ∀ (g : Fin 4) (r k : Fin 128), IsR (wA m c (ix3 g r k))
  b : ∀ (g : Fin 4) (r : Fin 128), IsR (sbA m c (ix2 g r))

theorem fin6 (h : Cert.Pre_finite_sgu_bwd.fn (F := Ideal) (zA m c) (dyA m c) (lgA m c) (lbA m c) (wA m c) (sbA m c) = fun _ => 1#1) : Fin6 m c := by
  have h0 := congrFun h (fun a => a.elim0)
  dsimp only [Cert.Pre_finite_sgu_bwd.fn, Cert.Pre_finite_sgu_bwd.fn_part1] at h0
  obtain ⟨h5', h6⟩ := (and_one_iff _ _).1 h0
  obtain ⟨h4', h5⟩ := (and_one_iff _ _).1 h5'
  obtain ⟨h3', h4⟩ := (and_one_iff _ _).1 h4'
  obtain ⟨h2', h3⟩ := (and_one_iff _ _).1 h3'
  obtain ⟨h1, h2⟩ := (and_one_iff _ _).1 h2'
  refine ⟨fun r C => ?_, fun r C => ?_, fun C => real_of_lt (Host.reduce_andi_all _ _ _ _ _ h3 (ix2 0 C)), fun C => real_of_lt (Host.reduce_andi_all _ _ _ _ _ h4 (ix2 0 C)),
    fun g r k => real_of_lt (Host.reduce_andi_all _ _ _ _ _ h5 (ix3 g r k)), fun g r => real_of_lt (Host.reduce_andi_all _ _ _ _ _ h6 (ix2 g r))⟩
  · refine (congrArg IsR ?_).mp (real_of_lt (Host.reduce_andi_all _ _ _ _ _ h1 (ix2 r C)))
    pointwise []
  · refine (congrArg IsR ?_).mp (real_of_lt (Host.reduce_andi_all _ _ _ _ _ h2 (ix2 r C)))
    pointwise []

theorem IsR.tri {w : Mat} (h : ∀ r k, IsR (w r k)) (r k : Fin 128) : IsR (tri w r k) := by
  unfold Value.tri
  split
  · exact h r k
  · exact .zero

section
variable {m c}
variable (H : Fin6 m c) (n : Fin 16) (g : Fin 4)
include H
theorem fin_v (t j : Fin 128) : IsR (VM (zA m c) n g t j) := IsR.geF (H.z (row n t) (vc g j))
theorem fin_ds (t j : Fin 128) : IsR (dsM (zA m c) (dyA m c) n g t j) := .mul (H.dy (row n t) (gc g j)) (IsR.geF (H.z (row n t) (uc g j)))
theorem fin_dh (t j : Fin 128) : IsR (dhM (dsM (zA m c) (dyA m c) n g) (wM (wA m c) g) (rowM (lgA m c) g) t j) :=
  .mul (.sum fun i => .mul (IsR.tri (fun r k => H.w g r k) i t) (fin_ds H n g i j)) (H.lg _)
theorem fin_sp (t j : Fin 128) : IsR (spM (VM (zA m c) n g) (rowM (lgA m c) g) (rowM (lbA m c) g) (wM (wA m c) g) (bM (sbA m c) g) t j) :=
  .add (.sum fun k => .mul (IsR.tri (fun r k => H.w g r k) t k) (.add (.mul (.hat (fin_v H n g k) j) (H.lg _)) (H.lb _))) (H.b g t)
end

open Cert.SguBwdRefIdeal.Read in
/-- The reference's six results. -/
abbrev R8 : FVec Ideal S2048x512 .bf16 := val_main_v136 (F := Ideal) (zA m c) (dyA m c) (lgA m c) (lbA m c) (wA m c) (sbA m c)
open Cert.SguBwdRefIdeal.Read in
abbrev R9 : FVec Ideal S2048x512 .bf16 := val_main_v138 (F := Ideal) (zA m c) (dyA m c) (lgA m c) (lbA m c) (wA m c) (sbA m c)
open Cert.SguBwdRefIdeal.Read in
abbrev R10 : FVec Ideal S1x512 .f32 := val_main_v122 (F := Ideal) (zA m c) (dyA m c) (wA m c)
open Cert.SguBwdRefIdeal.Read in
abbrev R11 : FVec Ideal S1x512 .f32 := val_main_v121 (F := Ideal) (zA m c) (dyA m c) (wA m c)
open Cert.SguBwdRefIdeal.Read in
abbrev R12 : FVec Ideal S4x128x128 .f32 := val_main_v83 (F := Ideal) (zA m c) (dyA m c) (lgA m c) (lbA m c)
open Cert.SguBwdRefIdeal.Read in
abbrev R13 : FVec Ideal S128x128 .f32 := val_main_v140 (F := Ideal) (zA m c) (dyA m c)

theorem res8 (H : Fin6 m c) : (dats m 0 c).arrAt 8 cfg0.N = R8 m c := by
  refine Dat.arrAt_eq_of_cover (dats m 0 c) 8 _ ?_ (fun i => (covered_iff8 i).2 (by
    have h0 : (i 0).val < 2048 := (i 0).isLt; have h1 : (i 1).val < 512 := (i 1).isLt; omega))
  intro t _
  rw [flushed8]
  funext y
  show (outsAt0 m c t.val t.isLt).1 y = R8 m c ((win0_8.rect t).emb y)
  obtain ⟨r, C, rfl⟩ : ∃ a b, y = ix2 a b := ⟨y 0, y 1, eq_ix2 y⟩
  obtain ⟨g, j, rfl⟩ := col_of C
  rw [show (win0_8.rect t).emb (ix2 r (gc g j)) = ix2 (row (ch t) r) (gc g j) from ?_]
  · rw [outs8]
    refine Eq.trans ?_ (ref_dzu ..).symm
    obtain ⟨q, hq⟩ := IsR.mul (H.dy (row (ch t) r) (gc g j)) (fin_sp H (ch t) g r j)
    rw [geHand, show dyM (dyA m c) (ch t) g r j * spM (VM (zA m c) (ch t) g) (rowM (lgA m c) g) (rowM (lbA m c) g) (wM (wA m c) g) (bM (sbA m c) g) r j = (q : EReal) from hq]
    exact gelu_grad (by norm_num [cR]) (by norm_num [gR]) rfl _ _
  · apply idx2_ext
    · rw [win0_8.rect_emb_val, (idx_out t).1.1]; rfl
    · rw [win0_8.rect_emb_val, (idx_out t).1.2]; exact Nat.zero_add _
theorem res9 (H : Fin6 m c) : (dats m 0 c).arrAt 9 cfg0.N = R9 m c := by
  refine Dat.arrAt_eq_of_cover (dats m 0 c) 9 _ ?_ (fun i => (covered_iff9 i).2 (by
    have h0 : (i 0).val < 2048 := (i 0).isLt; have h1 : (i 1).val < 512 := (i 1).isLt; omega))
  intro t _
  rw [flushed9]
  funext y
  show (outsAt0 m c t.val t.isLt).2.1 y = R9 m c ((win0_9.rect t).emb y)
  obtain ⟨r, C, rfl⟩ : ∃ a b, y = ix2 a b := ⟨y 0, y 1, eq_ix2 y⟩
  obtain ⟨g, j, rfl⟩ := col_of C
  rw [show (win0_9.rect t).emb (ix2 r (gc g j)) = ix2 (row (ch t) r) (gc g j) from ?_]
  · rw [outs9]
    refine Eq.trans ?_ (ref_dzv ..).symm
    rw [← hn_grad (fin_v H (ch t) g r) (fin_dh H (ch t) g r)]
    obtain ⟨q, hq⟩ := IsR.hnHand (fin_v H (ch t) g r) (fin_dh H (ch t) g r) j
    rw [geHand, hq]
    exact gelu_grad (by norm_num [cR]) (by norm_num [gR]) rfl _ _
  · apply idx2_ext
    · rw [win0_9.rect_emb_val, (idx_out t).2.1.1]; rfl
    · rw [win0_9.rect_emb_val, (idx_out t).2.1.2]; exact Nat.zero_add _

theorem last10 (h : 15 < cfg0.N) (g : Fin 4) (j : Fin 128) : (outsAt0 m c 15 h).2.2.1 (ix2 0 (gc g j)) = R10 m c (ix2 0 (gc g j)) := by
  rw [sumLg]
  refine Eq.trans ?_ (ref_dlg ..).symm
  rw [Fin.sum_univ_tiles 16 128 rfl]
  refine Finset.sum_congr rfl fun n _ => Finset.sum_congr rfl fun r _ => ?_
  refine Eq.trans ?_ (congrArg₂ (· * · : EReal → EReal → EReal) (ref_hat2 ..) (ref_dvn2 ..)).symm
  exact mul_comm (G := EReal) _ _
theorem last11 (h : 15 < cfg0.N) (g : Fin 4) (j : Fin 128) : (outsAt0 m c 15 h).2.2.2.1 (ix2 0 (gc g j)) = R11 m c (ix2 0 (gc g j)) := by
  rw [sumLb]
  refine Eq.trans ?_ (ref_dlb ..).symm
  rw [Fin.sum_univ_tiles 16 128 rfl]
  exact Finset.sum_congr rfl fun n _ => Finset.sum_congr rfl fun r _ => (ref_dvn2 ..).symm
theorem last12 (h : 15 < cfg0.N) (g : Fin 4) (r k : Fin 128) : (outsAt0 m c 15 h).2.2.2.2.1 (ix3 g r k) = R12 m c (ix3 g r k) := by
  rw [sumW]
  refine Eq.trans ?_ (ref_dw ..).symm
  by_cases hk : k.val ≤ r.val
  · rw [if_pos hk]
    exact Finset.sum_congr rfl fun n _ => if_pos hk
  · rw [if_neg hk]
    exact Finset.sum_eq_zero fun n _ => if_neg hk
theorem last13 (h : 14 + 1 < cfg0.N) (r d : Fin 128) : (outsAt0 m c (14 + 1) h).2.2.2.2.2.1 (ix2 r d) = R13 m c (ix2 r d) := by
  rw [outs13 m c 14 h rfl]
  refine Eq.trans ?_ (ref_db ..).symm
  by_cases hd : d.val < 4
  · rw [dif_pos hd, Finset.sum_eq_single (⟨d.val, hd⟩ : Fin 4), Finset.sum_comm]
    · refine Finset.sum_congr rfl fun j _ => ?_
      rw [if_pos rfl, mul_one]
    · intro g _ hg
      refine Finset.sum_eq_zero fun j _ => ?_
      rw [if_neg fun e => hg (Fin.ext e), mul_zero]
    · exact fun hn => absurd (Finset.mem_univ _) hn
  · rw [dif_neg hd]
    refine Finset.sum_eq_zero fun g _ => Finset.sum_eq_zero fun j _ => ?_
    rw [if_neg fun e => hd (by rw [← e]; exact g.isLt), mul_zero]

/-- The point that writes an accumulator back is the last. -/
abbrev lastPt : Fin cfg0.N := ⟨15, lt_of_lt_of_eq (by decide) N_0.symm⟩
theorem res10 : (dats m 0 c).arrAt 10 cfg0.N = R10 m c := by
  have hN : cfg0.N = 16 := N_0
  refine Dat.arrAt_eq_of_cover (dats m 0 c) 10 _ ?_ (fun i => (covered_iff10 i).2 (by
    have h0 : (i 0).val < 1 := (i 0).isLt; have h1 : (i 1).val < 512 := (i 1).isLt; omega))
  intro t hf
  obtain rfl : t = lastPt := Fin.ext (by have := (flush0_10 t).mp hf; have := t.isLt; show t.val = 15; omega)
  rw [flushed10]
  funext y
  show (outsAt0 m c 15 lastPt.isLt).2.2.1 y = R10 m c ((win0_10.rect lastPt).emb y)
  obtain ⟨a, C, rfl⟩ : ∃ a b, y = ix2 a b := ⟨y 0, y 1, eq_ix2 y⟩
  obtain rfl : a = 0 := Subsingleton.elim _ _
  obtain ⟨g, j, rfl⟩ := col_of C
  rw [last10]
  congr 1
  apply idx2_ext
  · rw [win0_10.rect_emb_val, (idx_out _).2.2.1.1]; rfl
  · rw [win0_10.rect_emb_val, (idx_out _).2.2.1.2]; exact (Nat.zero_add _).symm
theorem res11 : (dats m 0 c).arrAt 11 cfg0.N = R11 m c := by
  have hN : cfg0.N = 16 := N_0
  refine Dat.arrAt_eq_of_cover (dats m 0 c) 11 _ ?_ (fun i => (covered_iff11 i).2 (by
    have h0 : (i 0).val < 1 := (i 0).isLt; have h1 : (i 1).val < 512 := (i 1).isLt; omega))
  intro t hf
  obtain rfl : t = lastPt := Fin.ext (by have := (flush0_11 t).mp hf; have := t.isLt; show t.val = 15; omega)
  rw [flushed11]
  funext y
  show (outsAt0 m c 15 lastPt.isLt).2.2.2.1 y = R11 m c ((win0_11.rect lastPt).emb y)
  obtain ⟨a, C, rfl⟩ : ∃ a b, y = ix2 a b := ⟨y 0, y 1, eq_ix2 y⟩
  obtain rfl : a = 0 := Subsingleton.elim _ _
  obtain ⟨g, j, rfl⟩ := col_of C
  rw [last11]
  congr 1
  apply idx2_ext
  · rw [win0_11.rect_emb_val, (idx_out _).2.2.2.1.1]; rfl
  · rw [win0_11.rect_emb_val, (idx_out _).2.2.2.1.2]; exact (Nat.zero_add _).symm
theorem res12 : (dats m 0 c).arrAt 12 cfg0.N = R12 m c := by
  have hN : cfg0.N = 16 := N_0
  refine Dat.arrAt_eq_of_cover (dats m 0 c) 12 _ ?_ (fun i => (covered_iff12 i).2 (by
    have h0 : (i 0).val < 4 := (i 0).isLt; have h1 : (i 1).val < 128 := (i 1).isLt; have h2 : (i 2).val < 128 := (i 2).isLt; omega))
  intro t hf
  obtain rfl : t = lastPt := Fin.ext (by have := (flush0_12 t).mp hf; have := t.isLt; show t.val = 15; omega)
  rw [flushed12]
  funext y
  show (outsAt0 m c 15 lastPt.isLt).2.2.2.2.1 y = R12 m c ((win0_12.rect lastPt).emb y)
  obtain ⟨g, r, j, rfl⟩ : ∃ a b d, y = ix3 a b d := ⟨y 0, y 1, y 2, eq_ix3 y⟩
  rw [last12]
  congr 1
  apply idx3_ext
  · rw [win0_12.rect_emb_val, (idx_out _).2.2.2.2.1.1]; exact (Nat.zero_add _).symm
  · rw [win0_12.rect_emb_val, (idx_out _).2.2.2.2.1.2.1]; exact (Nat.zero_add _).symm
  · rw [win0_12.rect_emb_val, (idx_out _).2.2.2.2.1.2.2]; exact (Nat.zero_add _).symm
theorem res13 : (dats m 0 c).arrAt 13 cfg0.N = R13 m c := by
  have hN : cfg0.N = 16 := N_0
  refine Dat.arrAt_eq_of_cover (dats m 0 c) 13 _ ?_ (fun i => (covered_iff13 i).2 (by
    have h0 : (i 0).val < 128 := (i 0).isLt; have h1 : (i 1).val < 128 := (i 1).isLt; omega))
  intro t hf
  obtain rfl : t = lastPt := Fin.ext (by have := (flush0_13 t).mp hf; have := t.isLt; show t.val = 15; omega)
  rw [flushed13]
  funext y
  show (outsAt0 m c 15 lastPt.isLt).2.2.2.2.2.1 y = R13 m c ((win0_13.rect lastPt).emb y)
  obtain ⟨r, d, rfl⟩ : ∃ a b, y = ix2 a b := ⟨y 0, y 1, eq_ix2 y⟩
  refine (last13 m c lastPt.isLt r d).trans ?_
  congr 1
  apply idx2_ext
  · rw [win0_13.rect_emb_val, (idx_out _).2.2.2.2.2.1]; exact (Nat.zero_add _).symm
  · rw [win0_13.rect_emb_val, (idx_out _).2.2.2.2.2.2]; exact (Nat.zero_add _).symm

end Cert.SguBwdIdeal.Value

end
-- ==== Proof.SguBwdClaims.lean ====
/- The SGU mixer's gradient: its claims. -/
module

public import proofs.«01_k».proof.Proof.SguBwdValue
public import proofs.«01_k».proof.Proof.Gen.SguBwd.Frame
public import proofs.«01_k».proof.Proof.Gen.SguBwdRefIdeal
public import proofs.«01_k».proof.Proof.Gen.SguBwdRefIdeal.Run
public import proofs.«01_k».proof.Proof.Gen.Pre_finite_sgu_bwd
public import Idealize.ShloMosaic.Lib.Tactic

@[expose] public section

set_option maxRecDepth 16384

noncomputable section

namespace Cert.Proof.SguBwd

open Idealize.ShloMosaic Idealize.SL.Sem Cert.Util

theorem frame_p : Cert.quiescent_SguBwd := fun m ρ _ => Cert.SguBwd.Gen.frame m ρ

theorem frame_i : Cert.quiescent_SguBwdIdeal := fun m ρ _ => Cert.SguBwdIdeal.Gen.frame m ρ

theorem frame_r : Cert.quiescent_SguBwdRefIdeal := fun m ρ _ =>
  (θ_run Cert.SguBwdRefIdeal.defs _ _).mono (fun r h => ⟨fun c => (h c).2.2.2.2.2.2, sem_eq_zero_of_no_sems (by decide) r.2⟩)
    (Cert.SguBwdRefIdeal.Value.run (F := Ideal) m ρ)

/-- The named constants are the numbers that the certificate's table gives. -/
theorem preserves : Cert.preserves_SguBwd_SguBwdIdeal :=
  ⟨IdealRules.named_const.statement Cert.SguBwdIdeal.κ "gelu_cubic" .f32 0x3D372713#32 ((8943 / 200000 : ℝ) : EReal) rfl,
    IdealRules.named_const.statement Cert.SguBwdIdeal.κ "gelu_cubic_3" .f32 0x3E095D4F#32 ((26829 / 200000 : ℝ) : EReal) rfl⟩

theorem frame_i_pre : Cert.quiescent_SguBwdIdeal_pre_finite_sgu_bwd := fun m ρ _ => Cert.SguBwdIdeal.Gen.frame m ρ

theorem frame_r_pre : Cert.quiescent_SguBwdRefIdeal_pre_finite_sgu_bwd := fun m ρ _ => frame_r m ρ trivial

theorem algebraic : Cert.algebraic_SguBwdIdeal_SguBwdRefIdeal_pre_finite_sgu_bwd := by
  intro m ρ m' ρ' hpre hag
  refine ⟨_, _, _, _, _, _, (θ_run Cert.SguBwdIdeal.defs _ _).mono (fun r h c => ⟨(h c).1.trans (Cert.SguBwdIdeal.Value.res8 m c (Cert.SguBwdIdeal.Value.fin6 m c (hpre c))), (h c).2.1.trans (Cert.SguBwdIdeal.Value.res9 m c (Cert.SguBwdIdeal.Value.fin6 m c (hpre c))), (h c).2.2.1.trans (Cert.SguBwdIdeal.Value.res10 m c), (h c).2.2.2.1.trans (Cert.SguBwdIdeal.Value.res11 m c), (h c).2.2.2.2.1.trans (Cert.SguBwdIdeal.Value.res12 m c), (h c).2.2.2.2.2.1.trans (Cert.SguBwdIdeal.Value.res13 m c), (h c).2.2.2.2.2.2⟩)
    (Cert.SguBwdIdeal.Value.run_blocks m ρ), ?_⟩
  refine (θ_run Cert.SguBwdRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.SguBwdRefIdeal.Value.run (F := Ideal) m' ρ')
  · show Cert.SguBwdRefIdeal.Read.val_main_v136 (F := Ideal) (m' (c.tc.loc Cert.SguBwdRefIdeal.main_arg0)) (m' (c.tc.loc Cert.SguBwdRefIdeal.main_arg1)) (m' (c.tc.loc Cert.SguBwdRefIdeal.main_arg2)) (m' (c.tc.loc Cert.SguBwdRefIdeal.main_arg3)) (m' (c.tc.loc Cert.SguBwdRefIdeal.main_arg4)) (m' (c.tc.loc Cert.SguBwdRefIdeal.main_arg5)) = _
    rw [(hag c).1, (hag c).2.1, (hag c).2.2.1, (hag c).2.2.2.1, (hag c).2.2.2.2.1, (hag c).2.2.2.2.2]
  · show Cert.SguBwdRefIdeal.Read.val_main_v138 (F := Ideal) (m' (c.tc.loc Cert.SguBwdRefIdeal.main_arg0)) (m' (c.tc.loc Cert.SguBwdRefIdeal.main_arg1)) (m' (c.tc.loc Cert.SguBwdRefIdeal.main_arg2)) (m' (c.tc.loc Cert.SguBwdRefIdeal.main_arg3)) (m' (c.tc.loc Cert.SguBwdRefIdeal.main_arg4)) (m' (c.tc.loc Cert.SguBwdRefIdeal.main_arg5)) = _
    rw [(hag c).1, (hag c).2.1, (hag c).2.2.1, (hag c).2.2.2.1, (hag c).2.2.2.2.1, (hag c).2.2.2.2.2]
  · show Cert.SguBwdRefIdeal.Read.val_main_v122 (F := Ideal) (m' (c.tc.loc Cert.SguBwdRefIdeal.main_arg0)) (m' (c.tc.loc Cert.SguBwdRefIdeal.main_arg1)) (m' (c.tc.loc Cert.SguBwdRefIdeal.main_arg4)) = _
    rw [(hag c).1, (hag c).2.1, (hag c).2.2.2.2.1]
  · show Cert.SguBwdRefIdeal.Read.val_main_v121 (F := Ideal) (m' (c.tc.loc Cert.SguBwdRefIdeal.main_arg0)) (m' (c.tc.loc Cert.SguBwdRefIdeal.main_arg1)) (m' (c.tc.loc Cert.SguBwdRefIdeal.main_arg4)) = _
    rw [(hag c).1, (hag c).2.1, (hag c).2.2.2.2.1]
  · show Cert.SguBwdRefIdeal.Read.val_main_v83 (F := Ideal) (m' (c.tc.loc Cert.SguBwdRefIdeal.main_arg0)) (m' (c.tc.loc Cert.SguBwdRefIdeal.main_arg1)) (m' (c.tc.loc Cert.SguBwdRefIdeal.main_arg2)) (m' (c.tc.loc Cert.SguBwdRefIdeal.main_arg3)) = _
    rw [(hag c).1, (hag c).2.1, (hag c).2.2.1, (hag c).2.2.2.1]
  · show Cert.SguBwdRefIdeal.Read.val_main_v140 (F := Ideal) (m' (c.tc.loc Cert.SguBwdRefIdeal.main_arg0)) (m' (c.tc.loc Cert.SguBwdRefIdeal.main_arg1)) = _
    rw [(hag c).1, (hag c).2.1]

end Cert.Proof.SguBwd

end
-- ==== Proof.SsmParamBody.lean ====
/- The gradient of S5's discretisation in real numbers: one group's pole, and what the kernel's body computes from real blocks. -/
module

public import proofs.«01_k».proof.Proof.Gen.SsmParamIdeal.Frame
public import proofs.«01_k».proof.Proof.Reals
public import proofs.«01_k».proof.Proof.Rows
public import Idealize.ShloMosaic.Lib.Pointwise.Sums

@[expose] public section

set_option maxRecDepth 16384

noncomputable section

namespace Cert.SsmParamIdeal.Value

open Cert.SsmParamIdeal Cert.SsmParamIdeal.Gen Idealize.ShloMosaic Idealize.ShloMosaic.TcCoe Idealize.SL.Sem Cert.Util Pipeline

/-- The real numbers that the gradient is a function of: the poles, the steps' logarithms, the input matrices, and the cotangents. -/
structure Rd where
  (lr li gl gi : Fin 64 → Fin 64 → ℝ)
  (ld : Fin 64 → ℝ)
  (br bi gbr gbi : Fin 64 → Fin 64 → Fin 16 → ℝ)
  ne : ∀ g p, lr g p * lr g p + li g p * li g p ≠ 0

namespace Rd

variable (d : Rd) (g p : Fin 64)

/-- The step, the pole's square, and the discretised pole. -/
def dt : ℝ := Real.exp (d.ld g)
def dn : ℝ := d.lr g p * d.lr g p + d.li g p * d.li g p
def mag : ℝ := Real.exp (d.lr g p * d.dt g)
def er : ℝ := d.mag g p * Real.cos (d.li g p * d.dt g)
def ei : ℝ := d.mag g p * Real.sin (d.li g p * d.dt g)
/-- The numerators of (lam_bar - 1) / lam. -/
def nr : ℝ := (d.er g p - 1) * d.lr g p + d.ei g p * d.li g p
def ni : ℝ := d.ei g p * d.lr g p - (d.er g p - 1) * d.li g p
/-- Its cotangent. -/
def sr : ℝ := ∑ n : Fin 16, (d.br g p n * d.gbr g p n + d.bi g p n * d.gbi g p n)
def si : ℝ := ∑ n : Fin 16, (d.br g p n * d.gbi g p n - d.bi g p n * d.gbr g p n)
/-- The discretised pole's cotangent. -/
def cr : ℝ := d.gl g p + (d.lr g p * d.sr g p - d.li g p * d.si g p) / d.dn g p
def ci : ℝ := d.gi g p + (d.lr g p * d.si g p + d.li g p * d.sr g p) / d.dn g p
/-- The gradients to the pole and, at one pole, to the step. -/
def kr : ℝ := d.nr g p / d.dn g p
def ki : ℝ := d.ni g p / d.dn g p
def ir : ℝ := d.lr g p / d.dn g p
def ii : ℝ := -(d.li g p / d.dn g p)
def qr : ℝ := d.kr g p * d.ir g p - d.ki g p * d.ii g p
def qi : ℝ := d.kr g p * d.ii g p + d.ki g p * d.ir g p
def tlr : ℝ := -(d.qr g p * d.sr g p + d.qi g p * d.si g p) + d.dt g * (d.er g p * d.cr g p + d.ei g p * d.ci g p)
def tli : ℝ := d.qi g p * d.sr g p - d.qr g p * d.si g p + d.dt g * (d.er g p * d.ci g p - d.ei g p * d.cr g p)
def td : ℝ := (d.lr g p * d.er g p - d.li g p * d.ei g p) * d.cr g p + (d.lr g p * d.ei g p + d.li g p * d.er g p) * d.ci g p

end Rd

/-- A quotient of real numbers. -/
theorem div_real {x y : ℝ} (h : y ≠ 0) : Ideal.div (x : EReal) (y : EReal) = ((x / y : ℝ) : EReal) := by
  rw [Ideal.div_coe h, ← EReal.coe_mul, mul_one_div]
/-- A sum of real numbers. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]
theorem zero_real : (0 : EReal) = ((0 : ℝ) : EReal) := rfl
theorem one_real : (1 : EReal) = ((1 : ℝ) : EReal) := rfl

/-- Input `n` of state `p` in a group's row. -/
abbrev wcol (n : Fin 16) (p : Fin 64) : Fin 1024 := ⟨n.val * 64 + p.val, by omega⟩

section
variable (d : Rd) (g p : Fin 64)
variable {x0 x1 x4 x5 : Vec Ideal S64x64 .f32} {x2 x3 x6 x7 x9 x10 : Vec Ideal S64x1024 .f32} {x8 : Vec Ideal S64x1 .f32} {x11 : Vec Ideal S1024x64 .f32}

theorem pay8_at (x : Vec Ideal S64x1024 .f32) (i : S64x1024.Idx) : k0_pay8 x i = x i := by
  obtain ⟨a, b, rfl⟩ : ∃ a b, i = ix2 a b := ⟨i 0, i 1, eq_ix2 i⟩
  pointwise [k0_pay8]
theorem pay9_at (x : Vec Ideal S64x1024 .f32) (i : S64x1024.Idx) : k0_pay9 x i = x i := pay8_at x i
theorem dt_at (h8 : x8 (ix2 g 0) = (d.ld g : EReal)) : k0_pay2 x8 (ix2 g 0) = (d.dt g : EReal) := by
  have e : k0_pay2 x8 (ix2 g 0) = Ideal.exp (x8 (ix2 g 0)) := by pointwise [k0_pay2]
  rw [e, h8]
  rfl
theorem er_at {v2 : FVec Ideal S64x1 .f32} (h2 : v2 (ix2 g 0) = (d.dt g : EReal)) (h4 : x4 (ix2 g p) = (d.lr g p : EReal)) (h5 : x5 (ix2 g p) = (d.li g p : EReal)) :
    k0_pay18 v2 x4 x5 (ix2 g p) = (d.er g p : EReal) := by
  have e : k0_pay18 v2 x4 x5 (ix2 g p) = (Ideal.exp (x4 (ix2 g p) * v2 (ix2 g 0)) * Ideal.cos (x5 (ix2 g p) * v2 (ix2 g 0)) : EReal) := by pointwise [k0_pay18, k0_pay17]
  rw [e, h2, h4, h5]
  simp only [← EReal.coe_mul, Ideal.exp_coe, Ideal.cos_coe]
  rfl
theorem ei_at {v2 : FVec Ideal S64x1 .f32} (h2 : v2 (ix2 g 0) = (d.dt g : EReal)) (h4 : x4 (ix2 g p) = (d.lr g p : EReal)) (h5 : x5 (ix2 g p) = (d.li g p : EReal)) :
    k0_pay19 v2 x4 x5 (ix2 g p) = (d.ei g p : EReal) := by
  have e : k0_pay19 v2 x4 x5 (ix2 g p) = (Ideal.exp (x4 (ix2 g p) * v2 (ix2 g 0)) * Ideal.sin (x5 (ix2 g p) * v2 (ix2 g 0)) : EReal) := by pointwise [k0_pay19, k0_pay17]
  rw [e, h2, h4, h5]
  simp only [← EReal.coe_mul, Ideal.exp_coe, Ideal.sin_coe]
  rfl
theorem ir_at (h4 : x4 (ix2 g p) = (d.lr g p : EReal)) (h5 : x5 (ix2 g p) = (d.li g p : EReal)) : k0_pay21 x4 x5 (ix2 g p) = (d.ir g p : EReal) := by
  have e : k0_pay21 x4 x5 (ix2 g p) = (Ideal.div (x4 (ix2 g p)) (x4 (ix2 g p) * x4 (ix2 g p) + x5 (ix2 g p) * x5 (ix2 g p)) : EReal) := by pointwise [k0_pay21, k0_pay20]
  rw [e, h4, h5, ← EReal.coe_mul, ← EReal.coe_mul, ← EReal.coe_add, div_real (d.ne g p)]
  rfl
theorem ii_at (h4 : x4 (ix2 g p) = (d.lr g p : EReal)) (h5 : x5 (ix2 g p) = (d.li g p : EReal)) : k0_pay22 x4 x5 (ix2 g p) = (d.ii g p : EReal) := by
  have e : k0_pay22 x4 x5 (ix2 g p) = (Ideal.div (0 - x5 (ix2 g p)) (x4 (ix2 g p) * x4 (ix2 g p) + x5 (ix2 g p) * x5 (ix2 g p)) : EReal) := by pointwise [k0_pay22, k0_pay20]
  rw [e, h4, h5, ← EReal.coe_mul, ← EReal.coe_mul, ← EReal.coe_add, zero_sub, ← EReal.coe_neg, div_real (d.ne g p), neg_div]
  rfl

variable {v2 : FVec Ideal S64x1 .f32} {v59 v62 v71 v75 v79 v82 : FVec Ideal S64x64 .f32}

theorem cr_at (h59 : v59 (ix2 g p) = (d.sr g p : EReal)) (h62 : v62 (ix2 g p) = (d.si g p : EReal)) (h79 : v79 (ix2 g p) = (d.ir g p : EReal)) (h82 : v82 (ix2 g p) = (d.ii g p : EReal))
    (h0 : x0 (ix2 g p) = (d.gl g p : EReal)) : k0_pay27 v59 v62 v79 v82 x0 (ix2 g p) = (d.cr g p : EReal) := by
  have e : k0_pay27 v59 v62 v79 v82 x0 (ix2 g p) = (x0 (ix2 g p) + (v79 (ix2 g p) * v59 (ix2 g p) - (0 - v82 (ix2 g p)) * v62 (ix2 g p)) : EReal) := by pointwise [k0_pay27, k0_pay26]
  rw [e, h59, h62, h79, h82, h0, zero_sub]
  simp only [← EReal.coe_mul, ← EReal.coe_add, ← EReal.coe_sub, ← EReal.coe_neg]
  congr 1
  rw [Rd.cr, Rd.ir, Rd.ii]
  ring
theorem ci_at (h59 : v59 (ix2 g p) = (d.sr g p : EReal)) (h62 : v62 (ix2 g p) = (d.si g p : EReal)) (h79 : v79 (ix2 g p) = (d.ir g p : EReal)) (h82 : v82 (ix2 g p) = (d.ii g p : EReal))
    (h1 : x1 (ix2 g p) = (d.gi g p : EReal)) : k0_pay28 v59 v62 v79 v82 x1 (ix2 g p) = (d.ci g p : EReal) := by
  have e : k0_pay28 v59 v62 v79 v82 x1 (ix2 g p) = (x1 (ix2 g p) + (v79 (ix2 g p) * v62 (ix2 g p) + (0 - v82 (ix2 g p)) * v59 (ix2 g p)) : EReal) := by pointwise [k0_pay28, k0_pay26]
  rw [e, h59, h62, h79, h82, h1, zero_sub]
  simp only [← EReal.coe_mul, ← EReal.coe_add, ← EReal.coe_sub, ← EReal.coe_neg]
  congr 1
  rw [Rd.ci, Rd.ir, Rd.ii]
  ring
/-- The gradient to the pole's real part, as the body adds it up. -/
theorem tlr_at (h2 : v2 (ix2 g 0) = (d.dt g : EReal)) (h59 : v59 (ix2 g p) = (d.sr g p : EReal)) (h62 : v62 (ix2 g p) = (d.si g p : EReal)) (h71 : v71 (ix2 g p) = (d.er g p : EReal))
    (h75 : v75 (ix2 g p) = (d.ei g p : EReal)) (h79 : v79 (ix2 g p) = (d.ir g p : EReal)) (h82 : v82 (ix2 g p) = (d.ii g p : EReal)) (h0 : x0 (ix2 g p) = (d.gl g p : EReal)) (h1 : x1 (ix2 g p) = (d.gi g p : EReal)) :
    k0_pay33 v2 v59 v62 v71 v75 v79 v82 (FloatOps.ofBits (F := Ideal) .f32 1065353216#32) x0 x1 (ix2 g p) = (d.tlr g p : EReal) := by
  have hr := cr_at d g p h59 h62 h79 h82 h0
  have hi := ci_at d g p h59 h62 h79 h82 h1
  unfold k0_pay33
  generalize k0_pay27 v59 v62 v79 v82 x0 = y0 at hr ⊢
  generalize k0_pay28 v59 v62 v79 v82 x1 = y1 at hi ⊢
  pointwise [k0_pay30, k0_pay29, k0_pay24, k0_pay25, k0_pay23, k0_pay31, k0_pay32]
  rw [h2, h59, h62, h71, h75, h79, h82, hr, hi]
  simp only [zero_sub, one_real, ← EReal.coe_mul, ← EReal.coe_add, ← EReal.coe_sub, ← EReal.coe_neg]
  congr 1
  rw [Rd.tlr, Rd.qr, Rd.qi, Rd.kr, Rd.ki, Rd.nr, Rd.ni, Rd.ir, Rd.ii]
  ring
theorem tli_at (h2 : v2 (ix2 g 0) = (d.dt g : EReal)) (h59 : v59 (ix2 g p) = (d.sr g p : EReal)) (h62 : v62 (ix2 g p) = (d.si g p : EReal)) (h71 : v71 (ix2 g p) = (d.er g p : EReal))
    (h75 : v75 (ix2 g p) = (d.ei g p : EReal)) (h79 : v79 (ix2 g p) = (d.ir g p : EReal)) (h82 : v82 (ix2 g p) = (d.ii g p : EReal)) (h0 : x0 (ix2 g p) = (d.gl g p : EReal)) (h1 : x1 (ix2 g p) = (d.gi g p : EReal)) :
    k0_pay34 v2 v59 v62 v71 v75 v79 v82 (FloatOps.ofBits (F := Ideal) .f32 1065353216#32) x0 x1 (ix2 g p) = (d.tli g p : EReal) := by
  have hr := cr_at d g p h59 h62 h79 h82 h0
  have hi := ci_at d g p h59 h62 h79 h82 h1
  unfold k0_pay34
  generalize k0_pay27 v59 v62 v79 v82 x0 = y0 at hr ⊢
  generalize k0_pay28 v59 v62 v79 v82 x1 = y1 at hi ⊢
  pointwise [k0_pay30, k0_pay29, k0_pay24, k0_pay25, k0_pay23, k0_pay31, k0_pay32]
  rw [h2, h59, h62, h71, h75, h79, h82, hr, hi]
  simp only [zero_sub, one_real, ← EReal.coe_mul, ← EReal.coe_add, ← EReal.coe_sub, ← EReal.coe_neg]
  congr 1
  rw [Rd.tli, Rd.qr, Rd.qi, Rd.kr, Rd.ki, Rd.nr, Rd.ni, Rd.ir, Rd.ii]
  ring
/-- The gradient to the step's logarithm, the same in every lane. -/
theorem tdt_at (l : Fin 128) {v100 v102 : FVec Ideal S64x64 .f32} (h2 : v2 (ix2 g 0) = (d.dt g : EReal)) (h4 : ∀ p, x4 (ix2 g p) = (d.lr g p : EReal)) (h5 : ∀ p, x5 (ix2 g p) = (d.li g p : EReal))
    (h71 : ∀ p, v71 (ix2 g p) = (d.er g p : EReal)) (h75 : ∀ p, v75 (ix2 g p) = (d.ei g p : EReal)) (h100 : ∀ p, v100 (ix2 g p) = (d.cr g p : EReal)) (h102 : ∀ p, v102 (ix2 g p) = (d.ci g p : EReal)) :
    k0_pay1 v2 x4 x5 v71 v75 v100 v102 (ix2 g l) = (((∑ p : Fin 64, d.td g p) * d.dt g : ℝ) : EReal) := by
  have e : k0_pay1 v2 x4 x5 v71 v75 v100 v102 (ix2 g l) = ((∑ p : Fin 64, ((x4 (ix2 g p) * v71 (ix2 g p) - x5 (ix2 g p) * v75 (ix2 g p)) * v100 (ix2 g p)
      + (x4 (ix2 g p) * v75 (ix2 g p) + x5 (ix2 g p) * v71 (ix2 g p)) * v102 (ix2 g p))) * v2 (ix2 g 0) : EReal) := by
    rw [mul_comm]; pointwise [k0_pay1]
  rw [e, h2, EReal.coe_mul, coe_sum]
  congr 1
  refine Finset.sum_congr rfl fun p _ => ?_
  rw [h4, h5, h71, h75, h100, h102]
  simp only [← EReal.coe_mul, ← EReal.coe_add, ← EReal.coe_sub]
  rfl
/-- The gradients to the input matrices: the cotangent times the conjugate of (lam_bar - 1) / lam. -/
theorem tbr_at (n : Fin 16) (h8 : x8 (ix2 g 0) = (d.ld g : EReal)) (h6 : x6 (ix2 g (wcol n p)) = (d.lr g p : EReal)) (h7 : x7 (ix2 g (wcol n p)) = (d.li g p : EReal))
    (h2 : x2 (ix2 g (wcol n p)) = (d.gbr g p n : EReal)) (h3 : x3 (ix2 g (wcol n p)) = (d.gbi g p n : EReal)) :
    k0_pay11 x8 x6 x7 x2 x3 (ix2 g (wcol n p)) = ((d.kr g p * d.gbr g p n + d.ki g p * d.gbi g p n : ℝ) : EReal) := by
  have hd := dt_at d g h8
  unfold k0_pay11 k0_pay7 k0_pay10 k0_pay4 k0_pay5 k0_pay3
  generalize k0_pay2 x8 = y at hd ⊢
  dsimp only
  pointwise [k0_pay8, k0_pay9, k0_pay6]
  rw [hd, h6, h7, h2, h3]
  simp only [zero_sub, one_real, ← EReal.coe_mul, ← EReal.coe_add, ← EReal.coe_sub, ← EReal.coe_neg, Ideal.exp_coe, Ideal.cos_coe, Ideal.sin_coe, div_real (d.ne g p)]
  congr 1
  rw [Rd.kr, Rd.ki, Rd.nr, Rd.ni, Rd.er, Rd.ei, Rd.mag, Rd.dn]
  ring
theorem tbi_at (n : Fin 16) (h8 : x8 (ix2 g 0) = (d.ld g : EReal)) (h6 : x6 (ix2 g (wcol n p)) = (d.lr g p : EReal)) (h7 : x7 (ix2 g (wcol n p)) = (d.li g p : EReal))
    (h2 : x2 (ix2 g (wcol n p)) = (d.gbr g p n : EReal)) (h3 : x3 (ix2 g (wcol n p)) = (d.gbi g p n : EReal)) :
    k0_pay12 x8 x6 x7 x2 x3 (ix2 g (wcol n p)) = ((d.kr g p * d.gbi g p n - d.ki g p * d.gbr g p n : ℝ) : EReal) := by
  have hd := dt_at d g h8
  unfold k0_pay12 k0_pay7 k0_pay10 k0_pay4 k0_pay5 k0_pay3
  generalize k0_pay2 x8 = y at hd ⊢
  dsimp only
  pointwise [k0_pay8, k0_pay9, k0_pay6]
  rw [hd, h6, h7, h2, h3]
  simp only [zero_sub, one_real, ← EReal.coe_mul, ← EReal.coe_add, ← EReal.coe_sub, ← EReal.coe_neg, Ideal.exp_coe, Ideal.cos_coe, Ideal.sin_coe, div_real (d.ne g p)]
  congr 1
  rw [Rd.kr, Rd.ki, Rd.nr, Rd.ni, Rd.er, Rd.ei, Rd.mag, Rd.dn]
  ring

/-- A row's columns, state by state within an input. -/
theorem sum_wcol {M : Type} [AddCommMonoid M] (f : Fin 1024 → M) : ∑ k, f k = ∑ n : Fin 16, ∑ p : Fin 64, f (wcol n p) := by
  rw [← Fintype.sum_prod_type' (fun n p => f (wcol n p))]
  refine (Fintype.sum_equiv (finProdFinEquiv (m := 16) (n := 64)) _ _ fun x => ?_).symm
  congr 1
  apply Fin.ext
  show x.1.val * 64 + x.2.val = x.2.val + 64 * x.1.val
  omega

/-- The product with the repeated unit matrix adds up a state's inputs. -/
theorem seg_sum (w : Fin 1024 → EReal) (s : Fin 1024 → Fin 64 → EReal) (hs : ∀ n p q, s (wcol n p) q = if p = q then 1 else 0) (q : Fin 64) :
    ∑ k, w k * s k q = ∑ n : Fin 16, w (wcol n q) := by
  rw [sum_wcol]
  refine Finset.sum_congr rfl fun n _ => ?_
  rw [Finset.sum_eq_single_of_mem q (Finset.mem_univ q), hs, if_pos rfl, mul_one]
  intro p _ hp
  rw [hs, if_neg hp, mul_zero]

theorem sr_at {v32 v34 : FVec Ideal S64x1024 .f32} (h32 : ∀ n, v32 (ix2 g (wcol n p)) = (d.gbr g p n : EReal)) (h34 : ∀ n, v34 (ix2 g (wcol n p)) = (d.gbi g p n : EReal))
    (h9 : ∀ n, x9 (ix2 g (wcol n p)) = (d.br g p n : EReal)) (h10 : ∀ n, x10 (ix2 g (wcol n p)) = (d.bi g p n : EReal))
    (h11 : ∀ n p q, x11 (ix2 (wcol n p) q) = if p = q then (1 : EReal) else 0) : k0_pay15 v32 v34 x9 x10 x11 (ix2 g p) = (d.sr g p : EReal) := by
  have e : k0_pay15 v32 v34 x9 x10 x11 (ix2 g p) = (∑ k : Fin 1024, (x9 (ix2 g k) * v32 (ix2 g k) - (0 - x10 (ix2 g k)) * v34 (ix2 g k)) * x11 (ix2 k p) : EReal) := by
    pointwise [k0_pay15, k0_pay13, k0_pay14]
  rw [e, seg_sum (fun k => x9 (ix2 g k) * v32 (ix2 g k) - (0 - x10 (ix2 g k)) * v34 (ix2 g k)) (fun k q => x11 (ix2 k q)) h11, Rd.sr, coe_sum]
  refine Finset.sum_congr rfl fun n _ => ?_
  rw [h9, h10, h32, h34]
  simp only [zero_sub, ← EReal.coe_mul, ← EReal.coe_sub, ← EReal.coe_neg]
  congr 1
  ring
theorem si_at {v32 v34 : FVec Ideal S64x1024 .f32} (h32 : ∀ n, v32 (ix2 g (wcol n p)) = (d.gbr g p n : EReal)) (h34 : ∀ n, v34 (ix2 g (wcol n p)) = (d.gbi g p n : EReal))
    (h9 : ∀ n, x9 (ix2 g (wcol n p)) = (d.br g p n : EReal)) (h10 : ∀ n, x10 (ix2 g (wcol n p)) = (d.bi g p n : EReal))
    (h11 : ∀ n p q, x11 (ix2 (wcol n p) q) = if p = q then (1 : EReal) else 0) : k0_pay16 v32 v34 x9 x10 x11 (ix2 g p) = (d.si g p : EReal) := by
  have e : k0_pay16 v32 v34 x9 x10 x11 (ix2 g p) = (∑ k : Fin 1024, (x9 (ix2 g k) * v34 (ix2 g k) + (0 - x10 (ix2 g k)) * v32 (ix2 g k)) * x11 (ix2 k p) : EReal) := by
    pointwise [k0_pay16, k0_pay13, k0_pay14]
  rw [e, seg_sum (fun k => x9 (ix2 g k) * v34 (ix2 g k) + (0 - x10 (ix2 g k)) * v32 (ix2 g k)) (fun k q => x11 (ix2 k q)) h11, Rd.si, coe_sum]
  refine Finset.sum_congr rfl fun n _ => ?_
  rw [h9, h10, h32, h34]
  simp only [zero_sub, ← EReal.coe_mul, ← EReal.coe_add, ← EReal.coe_neg]
  congr 1
  ring
end

end Cert.SsmParamIdeal.Value

end
-- ==== Proof.SsmParamRef.lean ====
/- The gradient of S5's discretisation in real numbers: what the reference computes from real arrays. -/
module

public import proofs.«01_k».proof.Proof.SsmParamBody
public import proofs.«01_k».proof.Proof.Gen.SsmParamRefIdeal.Read

@[expose] public section

set_option maxRecDepth 16384

noncomputable section

namespace Cert.SsmParamIdeal.Value

open Cert.SsmParamIdeal Cert.SsmParamIdeal.Gen Idealize.ShloMosaic Idealize.ShloMosaic.TcCoe Idealize.SL.Sem Cert.Util Pipeline
open Cert.SsmParamRefIdeal.Read

variable {x0 x1 x5 x6 : FVec Ideal S64x64 .f32} {x2 : FVec Ideal S64 .f32} {x3 x4 x7 x8 : FVec Ideal S64x64x16 .f32}

/-- The nine arguments hold the real numbers `d`. -/
structure Holds (d : Rd) (x0 x1 : FVec Ideal S64x64 .f32) (x2 : FVec Ideal S64 .f32) (x3 x4 : FVec Ideal S64x64x16 .f32) (x5 x6 : FVec Ideal S64x64 .f32)
    (x7 x8 : FVec Ideal S64x64x16 .f32) : Prop where
  h0 : ∀ g p, x0 (ix2 g p) = (d.lr g p : EReal)
  h1 : ∀ g p, x1 (ix2 g p) = (d.li g p : EReal)
  h2 : ∀ g, x2 (ix1 g) = (d.ld g : EReal)
  h3 : ∀ g p n, x3 (ix3 g p n) = (d.br g p n : EReal)
  h4 : ∀ g p n, x4 (ix3 g p n) = (d.bi g p n : EReal)
  h5 : ∀ g p, x5 (ix2 g p) = (d.gl g p : EReal)
  h6 : ∀ g p, x6 (ix2 g p) = (d.gi g p : EReal)
  h7 : ∀ g p n, x7 (ix3 g p n) = (d.gbr g p n : EReal)
  h8 : ∀ g p n, x8 (ix3 g p n) = (d.gbi g p n : EReal)

/-- A group's matrix laid out as one row, the inputs outermost. -/
theorem wide_at (v : FVec Ideal S64x16x64 .f32) (g p : Fin 64) (n : Fin 16) : shapeCast S64x1024 v Cert.SsmParamRefIdeal.Gen.shapeCasts_S64x16x64_S64x1024 (ix2 g (wcol n p)) = v (ix3 g n p) := by
  have e : shapeCast S64x1024 v Cert.SsmParamRefIdeal.Gen.shapeCasts_S64x16x64_S64x1024 (ix2 g (wcol n p))
      = v (ix3 g ⟨(n.val * 64 + p.val) / 64, by omega⟩ ⟨(n.val * 64 + p.val) % 64, by omega⟩) := by pointwise []
  rw [e]
  congr 2 <;> apply Fin.ext
  · show (n.val * 64 + p.val) / 64 = n.val; omega
  · show (n.val * 64 + p.val) % 64 = p.val; omega
theorem dn_ne (d : Rd) (g p : Fin 64) : d.dn g p ≠ 0 := d.ne g p
theorem two_f32 : Ideal.ofBits .f32 1073741824#32 = ((2 : ℝ) : EReal) := by
  simp [Ideal.ofBits, Ideal.ieee]
  rw [← EReal.coe_mul]
  norm_num

variable {d : Rd} (h : Holds d x0 x1 x2 x3 x4 x5 x6 x7 x8) (g p : Fin 64)
include h

theorem r1 : val_main_v1 (F := Ideal) x2 (ix2 g 0) = (d.dt g : EReal) := by
  have e : val_main_v1 (F := Ideal) x2 (ix2 g 0) = Ideal.exp (x2 (ix1 g)) := by pointwise [val_main_v1, val_main_v0]
  rw [e, h.h2]; rfl
theorem r4 : val_main_v4 (F := Ideal) x0 x2 (ix2 g p) = (d.mag g p : EReal) := by
  have e : val_main_v4 (F := Ideal) x0 x2 (ix2 g p) = Ideal.exp (x0 (ix2 g p) * val_main_v1 (F := Ideal) x2 (ix2 g 0)) := by pointwise [val_main_v4, val_main_v3, val_main_v2]
  rw [e, h.h0, r1 h, ← EReal.coe_mul]; rfl
theorem r6 : val_main_v6 (F := Ideal) x1 x2 (ix2 g p) = ((d.li g p * d.dt g : ℝ) : EReal) := by
  have e : val_main_v6 (F := Ideal) x1 x2 (ix2 g p) = (x1 (ix2 g p) * val_main_v1 (F := Ideal) x2 (ix2 g 0) : EReal) := by pointwise [val_main_v6, val_main_v5]
  rw [e, h.h1, r1 h, ← EReal.coe_mul]
theorem r7 : val_main_v7 (F := Ideal) x1 x2 (ix2 g p) = (Real.cos (d.li g p * d.dt g) : EReal) := by
  have e : val_main_v7 (F := Ideal) x1 x2 (ix2 g p) = Ideal.cos (val_main_v6 (F := Ideal) x1 x2 (ix2 g p)) := by pointwise [val_main_v7]
  rw [e, r6 h]; rfl
theorem r8 : val_main_v8 (F := Ideal) x1 x2 (ix2 g p) = (Real.sin (d.li g p * d.dt g) : EReal) := by
  have e : val_main_v8 (F := Ideal) x1 x2 (ix2 g p) = Ideal.sin (val_main_v6 (F := Ideal) x1 x2 (ix2 g p)) := by pointwise [val_main_v8]
  rw [e, r6 h]; rfl
theorem r12 : val_main_v12 (F := Ideal) x1 x2 (ix2 g p) = (Real.sin (d.li g p * d.dt g) : EReal) := r8 h g p
theorem r13 : val_main_v13 (F := Ideal) x1 x2 (ix2 g p) = (Real.cos (d.li g p * d.dt g) : EReal) := r7 h g p
theorem r9 : val_main_v9 (F := Ideal) x0 x1 x2 (ix2 g p) = (d.er g p : EReal) := by
  have e : val_main_v9 (F := Ideal) x0 x1 x2 (ix2 g p) = (val_main_v4 (F := Ideal) x0 x2 (ix2 g p) * val_main_v7 (F := Ideal) x1 x2 (ix2 g p) : EReal) := by pointwise [val_main_v9]
  rw [e, r4 h, r7 h, ← EReal.coe_mul]; rfl
theorem r14 : val_main_v14 (F := Ideal) x0 x1 x2 (ix2 g p) = (d.ei g p : EReal) := by
  have e : val_main_v14 (F := Ideal) x0 x1 x2 (ix2 g p) = (val_main_v4 (F := Ideal) x0 x2 (ix2 g p) * val_main_v12 (F := Ideal) x1 x2 (ix2 g p) : EReal) := by pointwise [val_main_v14]
  rw [e, r4 h, r12 h, ← EReal.coe_mul]; rfl
theorem r17 : val_main_v17 (F := Ideal) x0 (ix2 g p) = ((2 * d.lr g p : ℝ) : EReal) := by
  have e : val_main_v17 (F := Ideal) x0 (ix2 g p) = (((2 : ℝ) : EReal) * x0 (ix2 g p) : EReal) := by pointwise [val_main_v17, val_main_v16, val_main_cst]; rw [two_f32]
  rw [e, h.h0, ← EReal.coe_mul]
theorem r20 : val_main_v20 (F := Ideal) x1 (ix2 g p) = ((2 * d.li g p : ℝ) : EReal) := by
  have e : val_main_v20 (F := Ideal) x1 (ix2 g p) = (((2 : ℝ) : EReal) * x1 (ix2 g p) : EReal) := by pointwise [val_main_v20, val_main_v19, val_main_cst_0]; rw [two_f32]
  rw [e, h.h1, ← EReal.coe_mul]
theorem r21 : val_main_v21 (F := Ideal) x0 x1 (ix2 g p) = (d.dn g p : EReal) := by
  have e : val_main_v21 (F := Ideal) x0 x1 (ix2 g p) = (x0 (ix2 g p) * x0 (ix2 g p) + x1 (ix2 g p) * x1 (ix2 g p) : EReal) := by pointwise [val_main_v21, val_main_v15, val_main_v18]
  rw [e, h.h0, h.h1, ← EReal.coe_mul, ← EReal.coe_mul, ← EReal.coe_add]; rfl
theorem r23 : val_main_v23 (F := Ideal) x0 x1 x2 (ix2 g p) = ((d.er g p - 1 : ℝ) : EReal) := by
  have e : val_main_v23 (F := Ideal) x0 x1 x2 (ix2 g p) = (val_main_v9 (F := Ideal) x0 x1 x2 (ix2 g p) - ((1 : ℝ) : EReal) : EReal) := by pointwise [val_main_v23, val_main_v22, val_main_cst_1]; rfl
  rw [e, r9 h, ← EReal.coe_sub]
theorem r34 : val_main_v34 (F := Ideal) x0 x1 x2 (ix2 g p) = ((d.er g p - 1 : ℝ) : EReal) := r23 h g p
theorem r26 : val_main_v26 (F := Ideal) x0 x1 x2 (ix2 g p) = (d.nr g p : EReal) := by
  have e : val_main_v26 (F := Ideal) x0 x1 x2 (ix2 g p) = (val_main_v23 (F := Ideal) x0 x1 x2 (ix2 g p) * x0 (ix2 g p) + val_main_v14 (F := Ideal) x0 x1 x2 (ix2 g p) * x1 (ix2 g p) : EReal) := by
    pointwise [val_main_v26, val_main_v24, val_main_v25]
  rw [e, r23 h, r14 h, h.h0, h.h1, ← EReal.coe_mul, ← EReal.coe_mul, ← EReal.coe_add]; rfl
theorem r36 : val_main_v36 (F := Ideal) x0 x1 x2 (ix2 g p) = (d.ni g p : EReal) := by
  have e : val_main_v36 (F := Ideal) x0 x1 x2 (ix2 g p) = (val_main_v14 (F := Ideal) x0 x1 x2 (ix2 g p) * x0 (ix2 g p) - val_main_v34 (F := Ideal) x0 x1 x2 (ix2 g p) * x1 (ix2 g p) : EReal) := by
    pointwise [val_main_v36, val_main_v32, val_main_v35]
  rw [e, r34 h, r14 h, h.h0, h.h1, ← EReal.coe_mul, ← EReal.coe_mul, ← EReal.coe_sub]; rfl
theorem r30 : val_main_v30 (F := Ideal) x0 x1 (ix2 g p) = ((1 / (d.dn g p * d.dn g p) : ℝ) : EReal) := by
  have e : val_main_v30 (F := Ideal) x0 x1 (ix2 g p) = Ideal.div ((1 : ℝ) : EReal) (val_main_v21 (F := Ideal) x0 x1 (ix2 g p) * val_main_v21 (F := Ideal) x0 x1 (ix2 g p)) := by
    pointwise [val_main_v30, val_main_v28, val_main_v29, val_main_cst_2]; rfl
  rw [e, r21 h, ← EReal.coe_mul, div_real (mul_ne_zero (dn_ne d g p) (dn_ne d g p))]
theorem r40 : val_main_v40 (F := Ideal) x0 x1 (ix2 g p) = ((1 / (d.dn g p * d.dn g p) : ℝ) : EReal) := r30 h g p
theorem r27 : val_main_v27 (F := Ideal) x0 x1 x2 (ix2 g p) = (d.kr g p : EReal) := by
  have e : val_main_v27 (F := Ideal) x0 x1 x2 (ix2 g p) = Ideal.div (val_main_v26 (F := Ideal) x0 x1 x2 (ix2 g p)) (val_main_v21 (F := Ideal) x0 x1 (ix2 g p)) := by pointwise [val_main_v27]
  rw [e, r26 h, r21 h, div_real (dn_ne d g p)]; rfl
theorem r37 : val_main_v37 (F := Ideal) x0 x1 x2 (ix2 g p) = (d.ki g p : EReal) := by
  have e : val_main_v37 (F := Ideal) x0 x1 x2 (ix2 g p) = Ideal.div (val_main_v36 (F := Ideal) x0 x1 x2 (ix2 g p)) (val_main_v21 (F := Ideal) x0 x1 (ix2 g p)) := by pointwise [val_main_v37]
  rw [e, r36 h, r21 h, div_real (dn_ne d g p)]; rfl

/-- The cotangent of (lam_bar - 1) / lam, summed over a state's inputs. -/
theorem r80 : val_main_v80 (F := Ideal) x3 x4 x7 x8 (ix2 g p) = (d.si g p : EReal) := by
  have e : val_main_v80 (F := Ideal) x3 x4 x7 x8 (ix2 g p) = ((∑ n : Fin 16, x8 (ix3 g p n) * x3 (ix3 g p n)) + (∑ n : Fin 16, -x7 (ix3 g p n) * x4 (ix3 g p n)) : EReal) := by
    pointwise [val_main_v80, val_main_v72, val_main_v58, val_main_v57, val_main_v56, val_main_v53, val_main_v71, val_main_v70, val_main_v69, val_main_v65, val_main_cst_5, val_main_cst_7, val_main_cst_9, Fin.sum_univ_one]
  rw [e]
  simp only [h.h3, h.h4, h.h7, h.h8, ← EReal.coe_neg, ← EReal.coe_mul, ← coe_sum, ← EReal.coe_add]
  rw [← Finset.sum_add_distrib, Rd.si]
  congr 1
  exact Finset.sum_congr rfl fun n _ => by ring
theorem r92 : val_main_v92 (F := Ideal) x3 x4 x7 x8 (ix2 g p) = (d.sr g p : EReal) := by
  have e : val_main_v92 (F := Ideal) x3 x4 x7 x8 (ix2 g p) = ((∑ n : Fin 16, x8 (ix3 g p n) * x4 (ix3 g p n)) + (∑ n : Fin 16, x7 (ix3 g p n) * x3 (ix3 g p n)) : EReal) := by
    pointwise [val_main_v92, val_main_v79, val_main_v63, val_main_v62, val_main_v61, val_main_v52, val_main_v78, val_main_v77, val_main_v76, val_main_v64, val_main_cst_6, val_main_cst_8, val_main_cst_10, Fin.sum_univ_one]
  rw [e]
  simp only [h.h3, h.h4, h.h7, h.h8, ← EReal.coe_mul, ← coe_sum, ← EReal.coe_add]
  rw [← Finset.sum_add_distrib, Rd.sr]
  congr 1
  exact Finset.sum_congr rfl fun n _ => by ring
/-- What the quotient's denominator passes back. -/
theorem r96 : val_main_v96 (F := Ideal) x0 x1 x2 x3 x4 x7 x8 (ix2 g p)
    = ((-(d.si g p * (1 / (d.dn g p * d.dn g p)) * d.ni g p) + -(d.sr g p * (1 / (d.dn g p * d.dn g p)) * d.nr g p) : ℝ) : EReal) := by
  have e : val_main_v96 (F := Ideal) x0 x1 x2 x3 x4 x7 x8 (ix2 g p)
      = (-(val_main_v80 (F := Ideal) x3 x4 x7 x8 (ix2 g p) * val_main_v40 (F := Ideal) x0 x1 (ix2 g p) * val_main_v36 (F := Ideal) x0 x1 x2 (ix2 g p))
        + -(val_main_v92 (F := Ideal) x3 x4 x7 x8 (ix2 g p) * val_main_v30 (F := Ideal) x0 x1 (ix2 g p) * val_main_v26 (F := Ideal) x0 x1 x2 (ix2 g p)) : EReal) := by
    pointwise [val_main_v96, val_main_v83, val_main_v82, val_main_v81, val_main_v95, val_main_v94, val_main_v93]
  rw [e, r80 h, r92 h, r40 h, r30 h, r36 h, r26 h]
  simp only [← EReal.coe_neg, ← EReal.coe_mul, ← EReal.coe_add]
theorem r84 : val_main_v84 (F := Ideal) x0 x1 x3 x4 x7 x8 (ix2 g p) = ((d.si g p / d.dn g p : ℝ) : EReal) := by
  have e : val_main_v84 (F := Ideal) x0 x1 x3 x4 x7 x8 (ix2 g p) = Ideal.div (val_main_v80 (F := Ideal) x3 x4 x7 x8 (ix2 g p)) (val_main_v21 (F := Ideal) x0 x1 (ix2 g p)) := by pointwise [val_main_v84]
  rw [e, r80 h, r21 h, div_real (dn_ne d g p)]
theorem r97 : val_main_v97 (F := Ideal) x0 x1 x3 x4 x7 x8 (ix2 g p) = ((d.sr g p / d.dn g p : ℝ) : EReal) := by
  have e : val_main_v97 (F := Ideal) x0 x1 x3 x4 x7 x8 (ix2 g p) = Ideal.div (val_main_v92 (F := Ideal) x3 x4 x7 x8 (ix2 g p)) (val_main_v21 (F := Ideal) x0 x1 (ix2 g p)) := by pointwise [val_main_v97]
  rw [e, r92 h, r21 h, div_real (dn_ne d g p)]
/-- The discretised pole's cotangent. -/
theorem r101 : val_main_v101 (F := Ideal) x0 x1 x3 x4 x6 x7 x8 (ix2 g p) = (d.ci g p : EReal) := by
  have e : val_main_v101 (F := Ideal) x0 x1 x3 x4 x6 x7 x8 (ix2 g p) = ((x6 (ix2 g p) + val_main_v84 (F := Ideal) x0 x1 x3 x4 x7 x8 (ix2 g p) * x0 (ix2 g p)) + val_main_v97 (F := Ideal) x0 x1 x3 x4 x7 x8 (ix2 g p) * x1 (ix2 g p) : EReal) := by
    pointwise [val_main_v101, val_main_v91, val_main_v90, val_main_v100]
  rw [e, r84 h, r97 h, h.h0, h.h1, h.h6]
  simp only [← EReal.coe_mul, ← EReal.coe_add]
  congr 1
  rw [Rd.ci]
  ring
theorem r105 : val_main_v105 (F := Ideal) x0 x1 x3 x4 x5 x7 x8 (ix2 g p) = (d.cr g p : EReal) := by
  have e : val_main_v105 (F := Ideal) x0 x1 x3 x4 x5 x7 x8 (ix2 g p) = ((x5 (ix2 g p) + -val_main_v84 (F := Ideal) x0 x1 x3 x4 x7 x8 (ix2 g p) * x1 (ix2 g p)) + val_main_v97 (F := Ideal) x0 x1 x3 x4 x7 x8 (ix2 g p) * x0 (ix2 g p) : EReal) := by
    pointwise [val_main_v105, val_main_v88, val_main_v87, val_main_v85, val_main_v104]
  rw [e, r84 h, r97 h, h.h0, h.h1, h.h5]
  simp only [← EReal.coe_neg, ← EReal.coe_mul, ← EReal.coe_add]
  congr 1
  rw [Rd.cr]
  ring
theorem r112 : val_main_v112 (F := Ideal) x0 x1 x2 x3 x4 x6 x7 x8 (ix2 g p) = ((d.er g p * d.ci g p : ℝ) : EReal) := by
  have e : val_main_v112 (F := Ideal) x0 x1 x2 x3 x4 x6 x7 x8 (ix2 g p) = (val_main_v4 (F := Ideal) x0 x2 (ix2 g p) * val_main_v101 (F := Ideal) x0 x1 x3 x4 x6 x7 x8 (ix2 g p) * val_main_v13 (F := Ideal) x1 x2 (ix2 g p) : EReal) := by
    pointwise [val_main_v112, val_main_v110]
  rw [e, r4 h, r101 h, r13 h]
  simp only [← EReal.coe_mul]
  congr 1
  rw [Rd.er]
  ring
theorem r123 : val_main_v123 (F := Ideal) x0 x1 x2 x3 x4 x5 x7 x8 (ix2 g p) = ((-(d.ei g p * d.cr g p) : ℝ) : EReal) := by
  have e : val_main_v123 (F := Ideal) x0 x1 x2 x3 x4 x5 x7 x8 (ix2 g p) = (-(val_main_v4 (F := Ideal) x0 x2 (ix2 g p) * val_main_v105 (F := Ideal) x0 x1 x3 x4 x5 x7 x8 (ix2 g p)) * val_main_v8 (F := Ideal) x1 x2 (ix2 g p) : EReal) := by
    pointwise [val_main_v123, val_main_v122, val_main_v119]
  rw [e, r4 h, r105 h, r8 h]
  simp only [← EReal.coe_mul, ← EReal.coe_neg]
  congr 1
  rw [Rd.ei]
  ring
theorem r131 : val_main_v131 (F := Ideal) x0 x1 x2 x3 x4 x5 x6 x7 x8 (ix2 g p) = ((d.ei g p * d.ci g p + d.er g p * d.cr g p : ℝ) : EReal) := by
  have e : val_main_v131 (F := Ideal) x0 x1 x2 x3 x4 x5 x6 x7 x8 (ix2 g p) = ((val_main_v101 (F := Ideal) x0 x1 x3 x4 x6 x7 x8 (ix2 g p) * val_main_v12 (F := Ideal) x1 x2 (ix2 g p)
      + val_main_v105 (F := Ideal) x0 x1 x3 x4 x5 x7 x8 (ix2 g p) * val_main_v7 (F := Ideal) x1 x2 (ix2 g p)) * val_main_v4 (F := Ideal) x0 x2 (ix2 g p) : EReal) := by
    pointwise [val_main_v131, val_main_v121, val_main_v111, val_main_v120]
  rw [e, r4 h, r101 h, r105 h, r7 h, r12 h]
  simp only [← EReal.coe_mul, ← EReal.coe_add]
  congr 1
  rw [Rd.ei, Rd.er]
  ring
/-- The gradient to the pole's real part. -/
theorem ref_lr : val_main_v138 (F := Ideal) x0 x1 x2 x3 x4 x5 x6 x7 x8 (ix2 g p) = (d.tlr g p : EReal) := by
  have e : val_main_v138 (F := Ideal) x0 x1 x2 x3 x4 x5 x6 x7 x8 (ix2 g p)
      = (((val_main_v14 (F := Ideal) x0 x1 x2 (ix2 g p) * val_main_v84 (F := Ideal) x0 x1 x3 x4 x7 x8 (ix2 g p) + val_main_v23 (F := Ideal) x0 x1 x2 (ix2 g p) * val_main_v97 (F := Ideal) x0 x1 x3 x4 x7 x8 (ix2 g p))
        + val_main_v96 (F := Ideal) x0 x1 x2 x3 x4 x7 x8 (ix2 g p) * val_main_v17 (F := Ideal) x0 (ix2 g p)) + val_main_v131 (F := Ideal) x0 x1 x2 x3 x4 x5 x6 x7 x8 (ix2 g p) * val_main_v1 (F := Ideal) x2 (ix2 g 0) : EReal) := by
    pointwise [val_main_v138, val_main_v109, val_main_v103, val_main_v89, val_main_v102, val_main_v108, val_main_v137, val_main_v136]
  rw [e, r14 h, r84 h, r23 h, r97 h, r96 h, r17 h, r131 h, r1 h]
  simp only [← EReal.coe_mul, ← EReal.coe_add]
  congr 1
  rw [Rd.tlr, Rd.qr, Rd.qi, Rd.kr, Rd.ki, Rd.ir, Rd.ii, Rd.nr, Rd.ni]
  have hd := dn_ne d g p
  rw [Rd.dn] at hd ⊢
  field_simp
  ring
theorem ref_li : val_main_v130 (F := Ideal) x0 x1 x2 x3 x4 x5 x6 x7 x8 (ix2 g p) = (d.tli g p : EReal) := by
  have e : val_main_v130 (F := Ideal) x0 x1 x2 x3 x4 x5 x6 x7 x8 (ix2 g p)
      = (((val_main_v34 (F := Ideal) x0 x1 x2 (ix2 g p) * -val_main_v84 (F := Ideal) x0 x1 x3 x4 x7 x8 (ix2 g p) + val_main_v14 (F := Ideal) x0 x1 x2 (ix2 g p) * val_main_v97 (F := Ideal) x0 x1 x3 x4 x7 x8 (ix2 g p))
        + val_main_v96 (F := Ideal) x0 x1 x2 x3 x4 x7 x8 (ix2 g p) * val_main_v20 (F := Ideal) x1 (ix2 g p)) + val_main_v112 (F := Ideal) x0 x1 x2 x3 x4 x6 x7 x8 (ix2 g p) * val_main_v1 (F := Ideal) x2 (ix2 g 0)
        + val_main_v123 (F := Ideal) x0 x1 x2 x3 x4 x5 x7 x8 (ix2 g p) * val_main_v1 (F := Ideal) x2 (ix2 g 0) : EReal) := by
    pointwise [val_main_v130, val_main_v118, val_main_v107, val_main_v99, val_main_v86, val_main_v85, val_main_v98, val_main_v106, val_main_v117, val_main_v116, val_main_v129, val_main_v128]
  rw [e, r14 h, r84 h, r34 h, r97 h, r96 h, r20 h, r112 h, r123 h, r1 h]
  simp only [← EReal.coe_mul, ← EReal.coe_add, ← EReal.coe_neg]
  congr 1
  rw [Rd.tli, Rd.qr, Rd.qi, Rd.kr, Rd.ki, Rd.ir, Rd.ii, Rd.nr, Rd.ni]
  have hd := dn_ne d g p
  rw [Rd.dn] at hd ⊢
  field_simp
  ring
/-- The gradient to the step's logarithm. -/
theorem ref_dt (l : Fin 128) : val_main_v142 (F := Ideal) x0 x1 x2 x3 x4 x5 x6 x7 x8 (ix2 g l) = (((∑ p : Fin 64, d.td g p) * d.dt g : ℝ) : EReal) := by
  have e : val_main_v142 (F := Ideal) x0 x1 x2 x3 x4 x5 x6 x7 x8 (ix2 g l)
      = (((∑ p : Fin 64, x1 (ix2 g p) * val_main_v112 (F := Ideal) x0 x1 x2 x3 x4 x6 x7 x8 (ix2 g p)) + (∑ p : Fin 64, x1 (ix2 g p) * val_main_v123 (F := Ideal) x0 x1 x2 x3 x4 x5 x7 x8 (ix2 g p))
        + (∑ p : Fin 64, x0 (ix2 g p) * val_main_v131 (F := Ideal) x0 x1 x2 x3 x4 x5 x6 x7 x8 (ix2 g p))) * val_main_v1 (F := Ideal) x2 (ix2 g 0) : EReal) := by
    pointwise [val_main_v142, val_main_v141, val_main_v140, val_main_v139, val_main_v135, val_main_v127, val_main_v115, val_main_v114, val_main_v113, val_main_v126, val_main_v125, val_main_v124, val_main_v134, val_main_v133,
      val_main_v132, val_main_cst_11, val_main_cst_12, val_main_cst_13, val_main_cst_14, val_main_v1, Fin.sum_univ_one]
  rw [e, r1 h]
  simp only [r112 h, r123 h, r131 h, h.h0, h.h1, ← EReal.coe_mul, ← EReal.coe_add, ← coe_sum]
  rw [← Finset.sum_add_distrib, ← Finset.sum_add_distrib]
  congr 2
  exact Finset.sum_congr rfl fun p _ => by rw [Rd.td]; ring
/-- The gradients to the input matrices, a group's matrix as one row. -/
theorem ref_br (n : Fin 16) : val_main_v144 (F := Ideal) x0 x1 x2 x7 x8 (ix2 g (wcol n p)) = ((d.kr g p * d.gbr g p n + d.ki g p * d.gbi g p n : ℝ) : EReal) := by
  have e : val_main_v144 (F := Ideal) x0 x1 x2 x7 x8 (ix2 g (wcol n p)) = (val_main_v37 (F := Ideal) x0 x1 x2 (ix2 g p) * x8 (ix3 g p n) + val_main_v27 (F := Ideal) x0 x1 x2 (ix2 g p) * x7 (ix3 g p n) : EReal) := by
    have e1 : val_main_v144 (F := Ideal) x0 x1 x2 x7 x8 (ix2 g (wcol n p)) = val_main_v143 (F := Ideal) x0 x1 x2 x7 x8 (ix3 g n p) := wide_at _ g p n
    rw [e1]
    pointwise [val_main_v143, val_main_v75, val_main_v55, val_main_v54, val_main_v53, val_main_v41, val_main_v74, val_main_v73, val_main_v31, val_main_v64]
  rw [e, r37 h, r27 h, h.h7, h.h8]
  simp only [← EReal.coe_mul, ← EReal.coe_add]
  congr 1
  ring
theorem ref_bi (n : Fin 16) : val_main_v146 (F := Ideal) x0 x1 x2 x7 x8 (ix2 g (wcol n p)) = ((d.kr g p * d.gbi g p n - d.ki g p * d.gbr g p n : ℝ) : EReal) := by
  have e : val_main_v146 (F := Ideal) x0 x1 x2 x7 x8 (ix2 g (wcol n p)) = (val_main_v27 (F := Ideal) x0 x1 x2 (ix2 g p) * x8 (ix3 g p n) + val_main_v37 (F := Ideal) x0 x1 x2 (ix2 g p) * -x7 (ix3 g p n) : EReal) := by
    have e1 : val_main_v146 (F := Ideal) x0 x1 x2 x7 x8 (ix2 g (wcol n p)) = val_main_v145 (F := Ideal) x0 x1 x2 x7 x8 (ix3 g n p) := wide_at _ g p n
    rw [e1]
    pointwise [val_main_v145, val_main_v68, val_main_v60, val_main_v59, val_main_v52, val_main_v31, val_main_v67, val_main_v66, val_main_v41, val_main_v65]
  rw [e, r37 h, r27 h, h.h7, h.h8]
  simp only [← EReal.coe_mul, ← EReal.coe_add, ← EReal.coe_neg]
  congr 1
  ring

end Cert.SsmParamIdeal.Value

end
-- ==== Proof.SsmParamValue.lean ====
/- The gradient of S5's discretisation: what the arrays of the five results hold. The call has one grid point and every
   block is a whole array, so a result is what the body computes from the arrays; with finite arguments and no pole at zero
   both programs compute in real numbers. -/
module

public import proofs.«01_k».proof.Defs
public import proofs.«01_k».proof.Proof.Gen.SsmParamIdeal.Value
public import proofs.«01_k».proof.Proof.SsmParamRef
public import Idealize.ShloMosaic.Lib.WordCmp
public import Idealize.ShloMosaic.Lib.ReduceAll
public import proofs.«01_k».proof.Proof.Gen.Pre_finite_ssm_param
public import Idealize.ShloMosaic.Lib.Tactic

@[expose] public section

set_option maxRecDepth 16384

noncomputable section

namespace Cert.SsmParamIdeal.Value

open Idealize.ShloMosaic.WordCmp Cert.SsmParamIdeal Cert.SsmParamIdeal.Gen Idealize.ShloMosaic Idealize.ShloMosaic.TcCoe Idealize.SL.Sem Cert.Util Pipeline

variable (m : (ℓ : Loc nD τ sig) → Buf (Elt Ideal) ℓ) (c : Dev nD)

/-- The arguments' arrays. -/
abbrev lrA : FVec Ideal S64x64 .f32 := m ((c : Thread nD τ).loc main_arg0)
abbrev liA : FVec Ideal S64x64 .f32 := m ((c : Thread nD τ).loc main_arg1)
abbrev ldA : FVec Ideal S64 .f32 := m ((c : Thread nD τ).loc main_arg2)
abbrev brA : FVec Ideal S64x64x16 .f32 := m ((c : Thread nD τ).loc main_arg3)
abbrev biA : FVec Ideal S64x64x16 .f32 := m ((c : Thread nD τ).loc main_arg4)
abbrev glA : FVec Ideal S64x64 .f32 := m ((c : Thread nD τ).loc main_arg5)
abbrev giA : FVec Ideal S64x64 .f32 := m ((c : Thread nD τ).loc main_arg6)
abbrev gbrA : FVec Ideal S64x64x16 .f32 := m ((c : Thread nD τ).loc main_arg7)
abbrev gbiA : FVec Ideal S64x64x16 .f32 := m ((c : Thread nD τ).loc main_arg8)

theorem tc_loc (r : Ref sig .tc) : (fun b => m (c, b)) r = m ((c : Thread nD τ).loc r) := rfl

/-- What the host prepares: the poles repeated along a group's row, the steps as a column, matrices as rows, the repeated unit matrix. -/
theorem host_lr (g p : Fin 64) (n : Fin 16) : (V m c main_v2 : FVec Ideal S64x1024 .f32) (ix2 g (wcol n p)) = lrA m c (ix2 g p) := by
  show StableHlo.after hostOps0 (fun b => m (c, b)) main_v2 _ = _
  after_results_simp
  pointwise []
  congr 2
  apply Fin.ext
  show (n.val * 64 + p.val) % 64 = p.val
  omega
theorem host_li (g p : Fin 64) (n : Fin 16) : (V m c main_v5 : FVec Ideal S64x1024 .f32) (ix2 g (wcol n p)) = liA m c (ix2 g p) := by
  show StableHlo.after hostOps0 (fun b => m (c, b)) main_v5 _ = _
  after_results_simp
  pointwise []
  congr 2
  apply Fin.ext
  show (n.val * 64 + p.val) % 64 = p.val
  omega
theorem host_ld (g : Fin 64) : (V m c main_v6 : FVec Ideal S64x1 .f32) (ix2 g 0) = ldA m c (ix1 g) := by
  show StableHlo.after hostOps0 (fun b => m (c, b)) main_v6 _ = _
  after_results_simp
  pointwise []
theorem host_br (g p : Fin 64) (n : Fin 16) : (V m c main_v8 : FVec Ideal S64x1024 .f32) (ix2 g (wcol n p)) = brA m c (ix3 g p n) := by
  show StableHlo.after hostOps0 (fun b => m (c, b)) main_v8 _ = _
  after_results_simp
  exact (wide_at _ g p n).trans (by pointwise [])
theorem host_bi (g p : Fin 64) (n : Fin 16) : (V m c main_v10 : FVec Ideal S64x1024 .f32) (ix2 g (wcol n p)) = biA m c (ix3 g p n) := by
  show StableHlo.after hostOps0 (fun b => m (c, b)) main_v10 _ = _
  after_results_simp
  exact (wide_at _ g p n).trans (by pointwise [])
theorem host_gbr (g p : Fin 64) (n : Fin 16) : (V m c main_v21 : FVec Ideal S64x1024 .f32) (ix2 g (wcol n p)) = gbrA m c (ix3 g p n) := by
  show StableHlo.after hostOps0 (fun b => m (c, b)) main_v21 _ = _
  after_results_simp
  exact (wide_at _ g p n).trans (by pointwise [])
theorem host_gbi (g p : Fin 64) (n : Fin 16) : (V m c main_v23 : FVec Ideal S64x1024 .f32) (ix2 g (wcol n p)) = gbiA m c (ix3 g p n) := by
  show StableHlo.after hostOps0 (fun b => m (c, b)) main_v23 _ = _
  after_results_simp
  exact (wide_at _ g p n).trans (by pointwise [])
theorem host_seg (n : Fin 16) (p q : Fin 64) : (V m c main_v19 : FVec Ideal S1024x64 .f32) (ix2 (wcol n p) q) = if p = q then (1 : EReal) else 0 := by
  show StableHlo.after hostOps0 (fun b => m (c, b)) main_v19 _ = _
  after_results_simp
  pointwise []
  rw [show (n.val * 64 + p.val) % 64 = p.val by omega, show IntOp.addi (BitVec.ofNat 32 p.val) 0#32 = BitVec.ofNat 32 p.val from BitVec.add_zero _]
  by_cases h : p = q
  · rw [if_pos h, h, (cmpi_eq_ofNat_eq_one_iff (w := 32) (by omega) (by omega)).2 rfl]
    simp [FloatOps.uitofp]
  · rw [if_neg h, (cmpi_eq_ofNat_eq_zero_iff (w := 32) (by omega) (by omega)).2 fun e => h (Fin.ext e)]
    simp [FloatOps.uitofp]

/-- The one grid point reads and writes whole arrays. -/
theorem idx_at : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0) ∧ (win0_14.index t 0 = 0 ∧ win0_14.index t 1 = 0) ∧ (win0_15.index t 0 = 0 ∧ win0_15.index t 1 = 0) ∧ (win0_16.index t 0 = 0 ∧ win0_16.index t 1 = 0) := by
  decide +kernel
theorem blk0 (t : Fin cfg0.N) : (iblk m c 0 t : Vec Ideal S64x64 .f32) = V m c main_arg5 := by
  funext y
  show V m c main_arg5 ((win0_0.rect t).emb y) = _
  congr 1
  apply idx2_ext
  · rw [win0_0.rect_emb_val, (idx_at t).1.1]; exact Nat.zero_add _
  · rw [win0_0.rect_emb_val, (idx_at t).1.2]; exact Nat.zero_add _
theorem blk1 (t : Fin cfg0.N) : (iblk m c 1 t : Vec Ideal S64x64 .f32) = V m c main_arg6 := by
  funext y
  show V m c main_arg6 ((win0_1.rect t).emb y) = _
  congr 1
  apply idx2_ext
  · rw [win0_1.rect_emb_val, (idx_at t).2.1.1]; exact Nat.zero_add _
  · rw [win0_1.rect_emb_val, (idx_at t).2.1.2]; exact Nat.zero_add _
theorem blk2 (t : Fin cfg0.N) : (iblk m c 2 t : Vec Ideal S64x1024 .f32) = V m c main_v21 := by
  funext y
  show V m c main_v21 ((win0_2.rect t).emb y) = _
  congr 1
  apply idx2_ext
  · rw [win0_2.rect_emb_val, (idx_at t).2.2.1.1]; exact Nat.zero_add _
  · rw [win0_2.rect_emb_val, (idx_at t).2.2.1.2]; exact Nat.zero_add _
theorem blk3 (t : Fin cfg0.N) : (iblk m c 3 t : Vec Ideal S64x1024 .f32) = V m c main_v23 := by
  funext y
  show V m c main_v23 ((win0_3.rect t).emb y) = _
  congr 1
  apply idx2_ext
  · rw [win0_3.rect_emb_val, (idx_at t).2.2.2.1.1]; exact Nat.zero_add _
  · rw [win0_3.rect_emb_val, (idx_at t).2.2.2.1.2]; exact Nat.zero_add _
theorem blk4 (t : Fin cfg0.N) : (iblk m c 4 t : Vec Ideal S64x64 .f32) = V m c main_arg0 := by
  funext y
  show V m c main_arg0 ((win0_4.rect t).emb y) = _
  congr 1
  apply idx2_ext
  · rw [win0_4.rect_emb_val, (idx_at t).2.2.2.2.1.1]; exact Nat.zero_add _
  · rw [win0_4.rect_emb_val, (idx_at t).2.2.2.2.1.2]; exact Nat.zero_add _
theorem blk5 (t : Fin cfg0.N) : (iblk m c 5 t : Vec Ideal S64x64 .f32) = V m c main_arg1 := by
  funext y
  show V m c main_arg1 ((win0_5.rect t).emb y) = _
  congr 1
  apply idx2_ext
  · rw [win0_5.rect_emb_val, (idx_at t).2.2.2.2.2.1.1]; exact Nat.zero_add _
  · rw [win0_5.rect_emb_val, (idx_at t).2.2.2.2.2.1.2]; exact Nat.zero_add _
theorem blk6 (t : Fin cfg0.N) : (iblk m c 6 t : Vec Ideal S64x1024 .f32) = V m c main_v2 := by
  funext y
  show V m c main_v2 ((win0_6.rect t).emb y) = _
  congr 1
  apply idx2_ext
  · rw [win0_6.rect_emb_val, (idx_at t).2.2.2.2.2.2.1.1]; exact Nat.zero_add _
  · rw [win0_6.rect_emb_val, (idx_at t).2.2.2.2.2.2.1.2]; exact Nat.zero_add _
theorem blk7 (t : Fin cfg0.N) : (iblk m c 7 t : Vec Ideal S64x1024 .f32) = V m c main_v5 := by
  funext y
  show V m c main_v5 ((win0_7.rect t).emb y) = _
  congr 1
  apply idx2_ext
  · rw [win0_7.rect_emb_val, (idx_at t).2.2.2.2.2.2.2.1.1]; exact Nat.zero_add _
  · rw [win0_7.rect_emb_val, (idx_at t).2.2.2.2.2.2.2.1.2]; exact Nat.zero_add _
theorem blk8 (t : Fin cfg0.N) : (iblk m c 8 t : Vec Ideal S64x1 .f32) = V m c main_v6 := by
  funext y
  show V m c main_v6 ((win0_8.rect t).emb y) = _
  congr 1
  apply idx2_ext
  · rw [win0_8.rect_emb_val, (idx_at t).2.2.2.2.2.2.2.2.1.1]; exact Nat.zero_add _
  · rw [win0_8.rect_emb_val, (idx_at t).2.2.2.2.2.2.2.2.1.2]; exact Nat.zero_add _
theorem blk9 (t : Fin cfg0.N) : (iblk m c 9 t : Vec Ideal S64x1024 .f32) = V m c main_v8 := by
  funext y
  show V m c main_v8 ((win0_9.rect t).emb y) = _
  congr 1
  apply idx2_ext
  · rw [win0_9.rect_emb_val, (idx_at t).2.2.2.2.2.2.2.2.2.1.1]; exact Nat.zero_add _
  · rw [win0_9.rect_emb_val, (idx_at t).2.2.2.2.2.2.2.2.2.1.2]; exact Nat.zero_add _
theorem blk10 (t : Fin cfg0.N) : (iblk m c 10 t : Vec Ideal S64x1024 .f32) = V m c main_v10 := by
  funext y
  show V m c main_v10 ((win0_10.rect t).emb y) = _
  congr 1
  apply idx2_ext
  · rw [win0_10.rect_emb_val, (idx_at t).2.2.2.2.2.2.2.2.2.2.1.1]; exact Nat.zero_add _
  · rw [win0_10.rect_emb_val, (idx_at t).2.2.2.2.2.2.2.2.2.2.1.2]; exact Nat.zero_add _
theorem blk11 (t : Fin cfg0.N) : (iblk m c 11 t : Vec Ideal S1024x64 .f32) = V m c main_v19 := by
  funext y
  show V m c main_v19 ((win0_11.rect t).emb y) = _
  congr 1
  apply idx2_ext
  · rw [win0_11.rect_emb_val, (idx_at t).2.2.2.2.2.2.2.2.2.2.2.1.1]; exact Nat.zero_add _
  · rw [win0_11.rect_emb_val, (idx_at t).2.2.2.2.2.2.2.2.2.2.2.1.2]; exact Nat.zero_add _

theorem ld0 (x : Vec Ideal S64x1 .f32) : View.ld x r0_0 = x := View.ld_unit_zero zero2 _ x
theorem ld1 (x : Vec Ideal S64x1024 .f32) : View.ld x r0_1 = x := View.ld_unit_zero zero2 _ x
theorem ld2 (x : Vec Ideal S1024x64 .f32) : View.ld x r0_2 = x := View.ld_unit_zero zero2 _ x
theorem ld3 (x : Vec Ideal S64x64 .f32) : View.ld x r0_3 = x := View.ld_unit_zero zero2 _ x

/-- The arguments are finite and no pole is zero: they hold real numbers. -/
abbrev Fin9 : Prop := ∃ d : Rd, Holds d (lrA m c) (liA m c) (ldA m c) (brA m c) (biA m c) (glA m c) (giA m c) (gbrA m c) (gbiA m c)

section
variable {m c} {d : Rd} (h : Holds d (lrA m c) (liA m c) (ldA m c) (brA m c) (biA m c) (glA m c) (giA m c) (gbrA m c) (gbiA m c)) (t : Fin cfg0.N) (g p : Fin 64)
include h
theorem step_at : k0_pay2 (V m c main_v6 : Vec Ideal S64x1 .f32) (ix2 g 0) = (d.dt g : EReal) := dt_at d g ((host_ld m c g).trans (h.h2 g))
theorem a4 : (V m c main_arg0 : FVec Ideal S64x64 .f32) (ix2 g p) = (d.lr g p : EReal) := (congrFun (V_main_arg0 m c) _).trans (h.h0 g p)
theorem a5 : (V m c main_arg1 : FVec Ideal S64x64 .f32) (ix2 g p) = (d.li g p : EReal) := (congrFun (V_main_arg1 m c) _).trans (h.h1 g p)
theorem a0 : (V m c main_arg5 : FVec Ideal S64x64 .f32) (ix2 g p) = (d.gl g p : EReal) := (congrFun (V_main_arg5 m c) _).trans (h.h5 g p)
theorem a1 : (V m c main_arg6 : FVec Ideal S64x64 .f32) (ix2 g p) = (d.gi g p : EReal) := (congrFun (V_main_arg6 m c) _).trans (h.h6 g p)
theorem sum_re : k0_pay15 (k0_pay8 (V m c main_v21 : Vec Ideal S64x1024 .f32)) (k0_pay9 (V m c main_v23 : Vec Ideal S64x1024 .f32)) (V m c main_v8) (V m c main_v10) (V m c main_v19) (ix2 g p) = (d.sr g p : EReal) :=
  sr_at d g p (fun n => (pay8_at _ _).trans ((host_gbr m c g p n).trans (h.h7 g p n))) (fun n => (pay9_at _ _).trans ((host_gbi m c g p n).trans (h.h8 g p n)))
    (fun n => (host_br m c g p n).trans (h.h3 g p n)) (fun n => (host_bi m c g p n).trans (h.h4 g p n)) (host_seg m c)
theorem sum_im : k0_pay16 (k0_pay8 (V m c main_v21 : Vec Ideal S64x1024 .f32)) (k0_pay9 (V m c main_v23 : Vec Ideal S64x1024 .f32)) (V m c main_v8) (V m c main_v10) (V m c main_v19) (ix2 g p) = (d.si g p : EReal) :=
  si_at d g p (fun n => (pay8_at _ _).trans ((host_gbr m c g p n).trans (h.h7 g p n))) (fun n => (pay9_at _ _).trans ((host_gbi m c g p n).trans (h.h8 g p n)))
    (fun n => (host_br m c g p n).trans (h.h3 g p n)) (fun n => (host_bi m c g p n).trans (h.h4 g p n)) (host_seg m c)
theorem out_12 : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 g p) = (d.tlr g p : EReal) := by
  unfold out0_12 k0_pay43 k0_pay42 k0_pay41 k0_pay40 k0_pay39 k0_pay38 k0_pay37 k0_pay36 k0_pay35
  rw [View.canon_unit_zero zero2]
  simp only [ld0, ld1, ld2, ld3, blk0 m c t, blk1 m c t, blk2 m c t, blk3 m c t, blk4 m c t, blk5 m c t, blk6 m c t, blk7 m c t, blk8 m c t, blk9 m c t, blk10 m c t, blk11 m c t]
  exact tlr_at d g p (step_at h g) (sum_re h g p) (sum_im h g p) (er_at d g p (step_at h g) (a4 h g p) (a5 h g p)) (ei_at d g p (step_at h g) (a4 h g p) (a5 h g p)) (ir_at d g p (a4 h g p) (a5 h g p)) (ii_at d g p (a4 h g p) (a5 h g p)) (a0 h g p) (a1 h g p)
theorem out_13 : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 g p) = (d.tli g p : EReal) := by
  unfold out0_13 k0_pay43 k0_pay42 k0_pay41 k0_pay40 k0_pay39 k0_pay38 k0_pay37 k0_pay36 k0_pay35
  rw [View.canon_unit_zero zero2]
  simp only [ld0, ld1, ld2, ld3, blk0 m c t, blk1 m c t, blk2 m c t, blk3 m c t, blk4 m c t, blk5 m c t, blk6 m c t, blk7 m c t, blk8 m c t, blk9 m c t, blk10 m c t, blk11 m c t]
  exact tli_at d g p (step_at h g) (sum_re h g p) (sum_im h g p) (er_at d g p (step_at h g) (a4 h g p) (a5 h g p)) (ei_at d g p (step_at h g) (a4 h g p) (a5 h g p)) (ir_at d g p (a4 h g p) (a5 h g p)) (ii_at d g p (a4 h g p) (a5 h g p)) (a0 h g p) (a1 h g p)
theorem out_14 (l : Fin 128) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 g l) = (((∑ p : Fin 64, d.td g p) * d.dt g : ℝ) : EReal) := by
  unfold out0_14 k0_pay43 k0_pay42 k0_pay41 k0_pay40 k0_pay39 k0_pay38 k0_pay37 k0_pay36 k0_pay35
  rw [View.canon_unit_zero zero2]
  simp only [ld0, ld1, ld2, ld3, blk0 m c t, blk1 m c t, blk2 m c t, blk3 m c t, blk4 m c t, blk5 m c t, blk6 m c t, blk7 m c t, blk8 m c t, blk9 m c t, blk10 m c t, blk11 m c t]
  exact tdt_at d g l (step_at h g) (a4 h g) (a5 h g) (fun p => er_at d g p (step_at h g) (a4 h g p) (a5 h g p)) (fun p => ei_at d g p (step_at h g) (a4 h g p) (a5 h g p))
    (fun p => cr_at d g p (sum_re h g p) (sum_im h g p) (ir_at d g p (a4 h g p) (a5 h g p)) (ii_at d g p (a4 h g p) (a5 h g p)) (a0 h g p))
    (fun p => ci_at d g p (sum_re h g p) (sum_im h g p) (ir_at d g p (a4 h g p) (a5 h g p)) (ii_at d g p (a4 h g p) (a5 h g p)) (a1 h g p))
theorem out_15 (n : Fin 16) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 g (wcol n p)) = ((d.kr g p * d.gbr g p n + d.ki g p * d.gbi g p n : ℝ) : EReal) := by
  unfold out0_15
  rw [View.canon_unit_zero zero2]
  simp only [ld0, ld1, ld2, ld3, blk0 m c t, blk1 m c t, blk2 m c t, blk3 m c t, blk4 m c t, blk5 m c t, blk6 m c t, blk7 m c t, blk8 m c t, blk9 m c t, blk10 m c t, blk11 m c t]
  exact tbr_at d g p n ((host_ld m c g).trans (h.h2 g)) ((host_lr m c g p n).trans (h.h0 g p)) ((host_li m c g p n).trans (h.h1 g p)) ((host_gbr m c g p n).trans (h.h7 g p n)) ((host_gbi m c g p n).trans (h.h8 g p n))
theorem out_16 (n : Fin 16) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 g (wcol n p)) = ((d.kr g p * d.gbi g p n - d.ki g p * d.gbr g p n : ℝ) : EReal) := by
  unfold out0_16
  rw [View.canon_unit_zero zero2]
  simp only [ld0, ld1, ld2, ld3, blk0 m c t, blk1 m c t, blk2 m c t, blk3 m c t, blk4 m c t, blk5 m c t, blk6 m c t, blk7 m c t, blk8 m c t, blk9 m c t, blk10 m c t, blk11 m c t]
  exact tbi_at d g p n ((host_ld m c g).trans (h.h2 g)) ((host_lr m c g p n).trans (h.h0 g p)) ((host_li m c g p n).trans (h.h1 g p)) ((host_gbr m c g p n).trans (h.h7 g p n)) ((host_gbi m c g p n).trans (h.h8 g p n))
end

theorem mem_out12 (t : Fin cfg0.N) (i : S64x64.Idx) : i ∈ ((cfg0.win 12).blk t).view.set ↔
    ∀ a : Fin 2, win0_12.index t a * win0_12.size a ≤ (i a).val ∧ (i a).val < win0_12.index t a * win0_12.size a + win0_12.size a := by
  show i ∈ ((View.whole main_v24_0).slice (win0_12.rect t)).set ↔ _
  rw [View.set_slice_whole, Rect.mem_set_unit]
  rfl
theorem res12 (hf : Fin9 m c) : (dats m 0 c).arrAt 12 cfg0.N = Cert.SsmParamRefIdeal.Read.val_main_v138 (F := Ideal) (lrA m c) (liA m c) (ldA m c) (brA m c) (biA m c) (glA m c) (giA m c) (gbrA m c) (gbiA m c) := by
  obtain ⟨d, h⟩ := hf
  refine Dat.arrAt_eq_of_cover (dats m 0 c) 12 _ ?_ fun i => ?_
  · intro t _
    rw [flushed12]
    funext y
    obtain ⟨a, b, rfl⟩ : ∃ a b, y = ix2 a b := ⟨y 0, y 1, eq_ix2 y⟩
    show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b) = Cert.SsmParamRefIdeal.Read.val_main_v138 (F := Ideal) (lrA m c) (liA m c) (ldA m c) (brA m c) (biA m c) (glA m c) (giA m c) (gbrA m c) (gbiA m c) ((win0_12.rect t).emb (ix2 a b))
    rw [show (win0_12.rect t).emb (ix2 a b) = (ix2 a b : S64x64.Idx) from idx2_ext (by rw [win0_12.rect_emb_val, (idx_at _).2.2.2.2.2.2.2.2.2.2.2.2.1.1]; exact Nat.zero_add _) (by rw [win0_12.rect_emb_val, (idx_at _).2.2.2.2.2.2.2.2.2.2.2.2.1.2]; exact Nat.zero_add _)]
    exact (out_12 h t a b).trans (ref_lr h a b).symm
  · refine ⟨⟨0, by decide⟩, by decide +kernel, (mem_out12 _ i).2 fun a => ?_⟩
    have h0 : (i 0).val < 64 := (i 0).isLt
    have h1 : (i 1).val < 64 := (i 1).isLt
    match a with
    | ⟨0, _⟩ =>
      show win0_12.index _ 0 * 64 ≤ (i 0).val ∧ (i 0).val < win0_12.index _ 0 * 64 + 64
      rw [(idx_at _).2.2.2.2.2.2.2.2.2.2.2.2.1.1]; omega
    | ⟨1, _⟩ =>
      show win0_12.index _ 1 * 64 ≤ (i 1).val ∧ (i 1).val < win0_12.index _ 1 * 64 + 64
      rw [(idx_at _).2.2.2.2.2.2.2.2.2.2.2.2.1.2]; omega
theorem mem_out13 (t : Fin cfg0.N) (i : S64x64.Idx) : i ∈ ((cfg0.win 13).blk t).view.set ↔
    ∀ a : Fin 2, win0_13.index t a * win0_13.size a ≤ (i a).val ∧ (i a).val < win0_13.index t a * win0_13.size a + win0_13.size a := by
  show i ∈ ((View.whole main_v24_1).slice (win0_13.rect t)).set ↔ _
  rw [View.set_slice_whole, Rect.mem_set_unit]
  rfl
theorem res13 (hf : Fin9 m c) : (dats m 0 c).arrAt 13 cfg0.N = Cert.SsmParamRefIdeal.Read.val_main_v130 (F := Ideal) (lrA m c) (liA m c) (ldA m c) (brA m c) (biA m c) (glA m c) (giA m c) (gbrA m c) (gbiA m c) := by
  obtain ⟨d, h⟩ := hf
  refine Dat.arrAt_eq_of_cover (dats m 0 c) 13 _ ?_ fun i => ?_
  · intro t _
    rw [flushed13]
    funext y
    obtain ⟨a, b, rfl⟩ : ∃ a b, y = ix2 a b := ⟨y 0, y 1, eq_ix2 y⟩
    show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b) = Cert.SsmParamRefIdeal.Read.val_main_v130 (F := Ideal) (lrA m c) (liA m c) (ldA m c) (brA m c) (biA m c) (glA m c) (giA m c) (gbrA m c) (gbiA m c) ((win0_13.rect t).emb (ix2 a b))
    rw [show (win0_13.rect t).emb (ix2 a b) = (ix2 a b : S64x64.Idx) from idx2_ext (by rw [win0_13.rect_emb_val, (idx_at _).2.2.2.2.2.2.2.2.2.2.2.2.2.1.1]; exact Nat.zero_add _) (by rw [win0_13.rect_emb_val, (idx_at _).2.2.2.2.2.2.2.2.2.2.2.2.2.1.2]; exact Nat.zero_add _)]
    exact (out_13 h t a b).trans (ref_li h a b).symm
  · refine ⟨⟨0, by decide⟩, by decide +kernel, (mem_out13 _ i).2 fun a => ?_⟩
    have h0 : (i 0).val < 64 := (i 0).isLt
    have h1 : (i 1).val < 64 := (i 1).isLt
    match a with
    | ⟨0, _⟩ =>
      show win0_13.index _ 0 * 64 ≤ (i 0).val ∧ (i 0).val < win0_13.index _ 0 * 64 + 64
      rw [(idx_at _).2.2.2.2.2.2.2.2.2.2.2.2.2.1.1]; omega
    | ⟨1, _⟩ =>
      show win0_13.index _ 1 * 64 ≤ (i 1).val ∧ (i 1).val < win0_13.index _ 1 * 64 + 64
      rw [(idx_at _).2.2.2.2.2.2.2.2.2.2.2.2.2.1.2]; omega
theorem mem_out14 (t : Fin cfg0.N) (i : S64x128.Idx) : i ∈ ((cfg0.win 14).blk t).view.set ↔
    ∀ a : Fin 2, win0_14.index t a * win0_14.size a ≤ (i a).val ∧ (i a).val < win0_14.index t a * win0_14.size a + win0_14.size a := by
  show i ∈ ((View.whole main_v24_2).slice (win0_14.rect t)).set ↔ _
  rw [View.set_slice_whole, Rect.mem_set_unit]
  rfl
theorem res14 (hf : Fin9 m c) : (dats m 0 c).arrAt 14 cfg0.N = Cert.SsmParamRefIdeal.Read.val_main_v142 (F := Ideal) (lrA m c) (liA m c) (ldA m c) (brA m c) (biA m c) (glA m c) (giA m c) (gbrA m c) (gbiA m c) := by
  obtain ⟨d, h⟩ := hf
  refine Dat.arrAt_eq_of_cover (dats m 0 c) 14 _ ?_ fun i => ?_
  · intro t _
    rw [flushed14]
    funext y
    obtain ⟨a, b, rfl⟩ : ∃ a b, y = ix2 a b := ⟨y 0, y 1, eq_ix2 y⟩
    show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b) = Cert.SsmParamRefIdeal.Read.val_main_v142 (F := Ideal) (lrA m c) (liA m c) (ldA m c) (brA m c) (biA m c) (glA m c) (giA m c) (gbrA m c) (gbiA m c) ((win0_14.rect t).emb (ix2 a b))
    rw [show (win0_14.rect t).emb (ix2 a b) = (ix2 a b : S64x128.Idx) from idx2_ext (by rw [win0_14.rect_emb_val, (idx_at _).2.2.2.2.2.2.2.2.2.2.2.2.2.2.1.1]; exact Nat.zero_add _) (by rw [win0_14.rect_emb_val, (idx_at _).2.2.2.2.2.2.2.2.2.2.2.2.2.2.1.2]; exact Nat.zero_add _)]
    exact (out_14 h t a b).trans (ref_dt h a b).symm
  · refine ⟨⟨0, by decide⟩, by decide +kernel, (mem_out14 _ i).2 fun a => ?_⟩
    have h0 : (i 0).val < 64 := (i 0).isLt
    have h1 : (i 1).val < 128 := (i 1).isLt
    match a with
    | ⟨0, _⟩ =>
      show win0_14.index _ 0 * 64 ≤ (i 0).val ∧ (i 0).val < win0_14.index _ 0 * 64 + 64
      rw [(idx_at _).2.2.2.2.2.2.2.2.2.2.2.2.2.2.1.1]; omega
    | ⟨1, _⟩ =>
      show win0_14.index _ 1 * 128 ≤ (i 1).val ∧ (i 1).val < win0_14.index _ 1 * 128 + 128
      rw [(idx_at _).2.2.2.2.2.2.2.2.2.2.2.2.2.2.1.2]; omega
theorem mem_out15 (t : Fin cfg0.N) (i : S64x1024.Idx) : i ∈ ((cfg0.win 15).blk t).view.set ↔
    ∀ a : Fin 2, win0_15.index t a * win0_15.size a ≤ (i a).val ∧ (i a).val < win0_15.index t a * win0_15.size a + win0_15.size a := by
  show i ∈ ((View.whole main_v24_3).slice (win0_15.rect t)).set ↔ _
  rw [View.set_slice_whole, Rect.mem_set_unit]
  rfl
theorem res15 (hf : Fin9 m c) : (dats m 0 c).arrAt 15 cfg0.N = Cert.SsmParamRefIdeal.Read.val_main_v144 (F := Ideal) (lrA m c) (liA m c) (ldA m c) (gbrA m c) (gbiA m c) := by
  obtain ⟨d, h⟩ := hf
  refine Dat.arrAt_eq_of_cover (dats m 0 c) 15 _ ?_ fun i => ?_
  · intro t _
    rw [flushed15]
    funext y
    obtain ⟨a, b, rfl⟩ : ∃ a b, y = ix2 a b := ⟨y 0, y 1, eq_ix2 y⟩
    show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b) = Cert.SsmParamRefIdeal.Read.val_main_v144 (F := Ideal) (lrA m c) (liA m c) (ldA m c) (gbrA m c) (gbiA m c) ((win0_15.rect t).emb (ix2 a b))
    rw [show (win0_15.rect t).emb (ix2 a b) = (ix2 a b : S64x1024.Idx) from idx2_ext (by rw [win0_15.rect_emb_val, (idx_at _).2.2.2.2.2.2.2.2.2.2.2.2.2.2.2.1.1]; exact Nat.zero_add _) (by rw [win0_15.rect_emb_val, (idx_at _).2.2.2.2.2.2.2.2.2.2.2.2.2.2.2.1.2]; exact Nat.zero_add _)]
    obtain ⟨n, p, rfl⟩ : ∃ n p, b = wcol n p := ⟨⟨b.val / 64, by omega⟩, ⟨b.val % 64, by omega⟩, Fin.ext (by show b.val = b.val / 64 * 64 + b.val % 64; omega)⟩
    exact (out_15 h t a p n).trans (ref_br h a p n).symm
  · refine ⟨⟨0, by decide⟩, by decide +kernel, (mem_out15 _ i).2 fun a => ?_⟩
    have h0 : (i 0).val < 64 := (i 0).isLt
    have h1 : (i 1).val < 1024 := (i 1).isLt
    match a with
    | ⟨0, _⟩ =>
      show win0_15.index _ 0 * 64 ≤ (i 0).val ∧ (i 0).val < win0_15.index _ 0 * 64 + 64
      rw [(idx_at _).2.2.2.2.2.2.2.2.2.2.2.2.2.2.2.1.1]; omega
    | ⟨1, _⟩ =>
      show win0_15.index _ 1 * 1024 ≤ (i 1).val ∧ (i 1).val < win0_15.index _ 1 * 1024 + 1024
      rw [(idx_at _).2.2.2.2.2.2.2.2.2.2.2.2.2.2.2.1.2]; omega
theorem mem_out16 (t : Fin cfg0.N) (i : S64x1024.Idx) : i ∈ ((cfg0.win 16).blk t).view.set ↔
    ∀ a : Fin 2, win0_16.index t a * win0_16.size a ≤ (i a).val ∧ (i a).val < win0_16.index t a * win0_16.size a + win0_16.size a := by
  show i ∈ ((View.whole main_v24_4).slice (win0_16.rect t)).set ↔ _
  rw [View.set_slice_whole, Rect.mem_set_unit]
  rfl
theorem res16 (hf : Fin9 m c) : (dats m 0 c).arrAt 16 cfg0.N = Cert.SsmParamRefIdeal.Read.val_main_v146 (F := Ideal) (lrA m c) (liA m c) (ldA m c) (gbrA m c) (gbiA m c) := by
  obtain ⟨d, h⟩ := hf
  refine Dat.arrAt_eq_of_cover (dats m 0 c) 16 _ ?_ fun i => ?_
  · intro t _
    rw [flushed16]
    funext y
    obtain ⟨a, b, rfl⟩ : ∃ a b, y = ix2 a b := ⟨y 0, y 1, eq_ix2 y⟩
    show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 a b) = Cert.SsmParamRefIdeal.Read.val_main_v146 (F := Ideal) (lrA m c) (liA m c) (ldA m c) (gbrA m c) (gbiA m c) ((win0_16.rect t).emb (ix2 a b))
    rw [show (win0_16.rect t).emb (ix2 a b) = (ix2 a b : S64x1024.Idx) from idx2_ext (by rw [win0_16.rect_emb_val, (idx_at _).2.2.2.2.2.2.2.2.2.2.2.2.2.2.2.2.1]; exact Nat.zero_add _) (by rw [win0_16.rect_emb_val, (idx_at _).2.2.2.2.2.2.2.2.2.2.2.2.2.2.2.2.2]; exact Nat.zero_add _)]
    obtain ⟨n, p, rfl⟩ : ∃ n p, b = wcol n p := ⟨⟨b.val / 64, by omega⟩, ⟨b.val % 64, by omega⟩, Fin.ext (by show b.val = b.val / 64 * 64 + b.val % 64; omega)⟩
    exact (out_16 h t a p n).trans (ref_bi h a p n).symm
  · refine ⟨⟨0, by decide⟩, by decide +kernel, (mem_out16 _ i).2 fun a => ?_⟩
    have h0 : (i 0).val < 64 := (i 0).isLt
    have h1 : (i 1).val < 1024 := (i 1).isLt
    match a with
    | ⟨0, _⟩ =>
      show win0_16.index _ 0 * 64 ≤ (i 0).val ∧ (i 0).val < win0_16.index _ 0 * 64 + 64
      rw [(idx_at _).2.2.2.2.2.2.2.2.2.2.2.2.2.2.2.2.1]; omega
    | ⟨1, _⟩ =>
      show win0_16.index _ 1 * 1024 ≤ (i 1).val ∧ (i 1).val < win0_16.index _ 1 * 1024 + 1024
      rw [(idx_at _).2.2.2.2.2.2.2.2.2.2.2.2.2.2.2.2.2]; omega

/-- What the precondition gives. -/
theorem fin9 (h : Cert.Pre_finite_ssm_param.fn (F := Ideal) (lrA m c) (liA m c) (ldA m c) (brA m c) (biA m c) (glA m c) (giA m c) (gbrA m c) (gbiA m c) = fun _ => 1#1) : Fin9 m c := by
  have h0 := congrFun h (fun a => a.elim0)
  dsimp only [Cert.Pre_finite_ssm_param.fn, Cert.Pre_finite_ssm_param.fn_part1, Cert.Pre_finite_ssm_param.fn_part2] at h0
  obtain ⟨h0, q9⟩ := (and_one_iff _ _).1 h0
  obtain ⟨h0, q8⟩ := (and_one_iff _ _).1 h0
  obtain ⟨h0, q7⟩ := (and_one_iff _ _).1 h0
  obtain ⟨h0, q6⟩ := (and_one_iff _ _).1 h0
  obtain ⟨h0, q5⟩ := (and_one_iff _ _).1 h0
  obtain ⟨h0, q4⟩ := (and_one_iff _ _).1 h0
  obtain ⟨h0, q3⟩ := (and_one_iff _ _).1 h0
  obtain ⟨h0, q2⟩ := (and_one_iff _ _).1 h0
  obtain ⟨h0, q1⟩ := (and_one_iff _ _).1 h0
  have e0 : ∀ g p, IsR (lrA m c (ix2 g p)) := fun g p => (congrArg IsR (by pointwise [])).mp (real_of_lt (Host.reduce_andi_all _ _ _ _ _ h0 (ix2 g p)))
  have e1 : ∀ g p, IsR (liA m c (ix2 g p)) := fun g p => (congrArg IsR (by pointwise [])).mp (real_of_lt (Host.reduce_andi_all _ _ _ _ _ q1 (ix2 g p)))
  have e2 : ∀ g, IsR (ldA m c (ix1 g)) := fun g => (congrArg IsR (by pointwise [])).mp (real_of_lt (Host.reduce_andi_all _ _ _ _ _ q2 (ix1 g)))
  have e3 : ∀ g p n, IsR (brA m c (ix3 g p n)) := fun g p n => (congrArg IsR (by pointwise [])).mp (real_of_lt (Host.reduce_andi_all _ _ _ _ _ q3 (ix3 g p n)))
  have e4 : ∀ g p n, IsR (biA m c (ix3 g p n)) := fun g p n => (congrArg IsR (by pointwise [])).mp (real_of_lt (Host.reduce_andi_all _ _ _ _ _ q4 (ix3 g p n)))
  have e5 : ∀ g p, IsR (glA m c (ix2 g p)) := fun g p => (congrArg IsR (by pointwise [])).mp (real_of_lt (Host.reduce_andi_all _ _ _ _ _ q5 (ix2 g p)))
  have e6 : ∀ g p, IsR (giA m c (ix2 g p)) := fun g p => (congrArg IsR (by pointwise [])).mp (real_of_lt (Host.reduce_andi_all _ _ _ _ _ q6 (ix2 g p)))
  have e7 : ∀ g p n, IsR (gbrA m c (ix3 g p n)) := fun g p n => (congrArg IsR (by pointwise [])).mp (real_of_lt (Host.reduce_andi_all _ _ _ _ _ q7 (ix3 g p n)))
  have e8 : ∀ g p n, IsR (gbiA m c (ix3 g p n)) := fun g p n => (congrArg IsR (by pointwise [])).mp (real_of_lt (Host.reduce_andi_all _ _ _ _ _ q8 (ix3 g p n)))
  choose d0 f0 using e0
  choose d1 f1 using e1
  choose d2 f2 using e2
  choose d3 f3 using e3
  choose d4 f4 using e4
  choose d5 f5 using e5
  choose d6 f6 using e6
  choose d7 f7 using e7
  choose d8 f8 using e8
  have ne : ∀ g p, d0 g p * d0 g p + d1 g p * d1 g p ≠ 0 := fun g p hz => by
    have hp : Ideal.cmp .ogt (lrA m c (ix2 g p) * lrA m c (ix2 g p) + liA m c (ix2 g p) * liA m c (ix2 g p)) (Ideal.ofBits .f32 0#32) = 1#1 := Host.reduce_andi_all _ _ _ _ _ q9 (ix2 g p)
    rw [f0, f1, ← EReal.coe_mul, ← EReal.coe_mul, ← EReal.coe_add, hz] at hp
    simp [Ideal.cmp, Ideal.ofBits, Ideal.ieee] at hp
  exact ⟨⟨d0, d1, d5, d6, d2, d3, d4, d7, d8, ne⟩, ⟨f0, f1, f2, f3, f4, f5, f6, f7, f8⟩⟩

end Cert.SsmParamIdeal.Value

end
-- ==== Proof.SsmParamClaims.lean ====
/- The gradient of S5's discretisation: its claims. -/
module

public import proofs.«01_k».proof.Proof.SsmParamValue
public import proofs.«01_k».proof.Proof.Gen.SsmParam
public import proofs.«01_k».proof.Proof.Gen.SsmParamRefIdeal
public import proofs.«01_k».proof.Proof.Gen.SsmParamRefIdeal.Run
public import proofs.«01_k».proof.Proof.Gen.Pre_finite_ssm_param
public import Idealize.ShloMosaic.Lib.Tactic

@[expose] public section

set_option maxRecDepth 16384

noncomputable section

namespace Cert.Proof.SsmParam

open Idealize.ShloMosaic Idealize.SL.Sem Cert.Util

/-- The program and its idealization have one text: the same entry … -/
theorem main_same : (Cert.SsmParam.main (F := Bits)) = (Cert.SsmParamIdeal.main (F := Bits)) := by sl_kernel_rfl

/-- … and the same bodies. -/
theorem defs_same : (Cert.SsmParam.defs (F := Bits)) = (Cert.SsmParamIdeal.defs (F := Bits)) := by sl_kernel_rfl

/-- So one run gives both frames. -/
theorem frame_p : Cert.quiescent_SsmParam := fun m ρ _ => by
  have h := Cert.SsmParamIdeal.Gen.frame (F := Bits) m ρ
  rw [← main_same, ← defs_same] at h
  exact h

theorem frame_i : Cert.quiescent_SsmParamIdeal := fun m ρ _ => Cert.SsmParamIdeal.Gen.frame m ρ

theorem frame_r : Cert.quiescent_SsmParamRefIdeal := fun m ρ _ =>
  (θ_run Cert.SsmParamRefIdeal.defs _ _).mono (fun r h => ⟨fun c => (h c).2.2.2.2.2, sem_eq_zero_of_no_sems (by decide) r.2⟩)
    (Cert.SsmParamRefIdeal.Value.run (F := Ideal) m ρ)

theorem frame_i_pre : Cert.quiescent_SsmParamIdeal_pre_finite_ssm_param := fun m ρ _ => Cert.SsmParamIdeal.Gen.frame m ρ

theorem frame_r_pre : Cert.quiescent_SsmParamRefIdeal_pre_finite_ssm_param := fun m ρ _ => frame_r m ρ trivial

theorem algebraic : Cert.algebraic_SsmParamIdeal_SsmParamRefIdeal_pre_finite_ssm_param := by
  intro m ρ m' ρ' hpre hag
  refine ⟨_, _, _, _, _, (θ_run Cert.SsmParamIdeal.defs _ _).mono (fun r h c => ⟨(h c).1.trans (Cert.SsmParamIdeal.Value.res12 m c (Cert.SsmParamIdeal.Value.fin9 m c (hpre c))), (h c).2.1.trans (Cert.SsmParamIdeal.Value.res13 m c (Cert.SsmParamIdeal.Value.fin9 m c (hpre c))), (h c).2.2.1.trans (Cert.SsmParamIdeal.Value.res14 m c (Cert.SsmParamIdeal.Value.fin9 m c (hpre c))), (h c).2.2.2.1.trans (Cert.SsmParamIdeal.Value.res15 m c (Cert.SsmParamIdeal.Value.fin9 m c (hpre c))), (h c).2.2.2.2.1.trans (Cert.SsmParamIdeal.Value.res16 m c (Cert.SsmParamIdeal.Value.fin9 m c (hpre c))), (h c).2.2.2.2.2⟩)
    (Cert.SsmParamIdeal.Value.run_blocks m ρ), ?_⟩
  refine (θ_run Cert.SsmParamRefIdeal.defs _ _).mono (fun r h c => ⟨(h c).1.trans ?_, (h c).2.1.trans ?_, (h c).2.2.1.trans ?_, (h c).2.2.2.1.trans ?_, (h c).2.2.2.2.1.trans ?_, (h c).2.2.2.2.2⟩)
    (Cert.SsmParamRefIdeal.Value.run (F := Ideal) m' ρ')
  · show Cert.SsmParamRefIdeal.Read.val_main_v138 (F := Ideal) (m' (c.tc.loc Cert.SsmParamRefIdeal.main_arg0)) (m' (c.tc.loc Cert.SsmParamRefIdeal.main_arg1)) (m' (c.tc.loc Cert.SsmParamRefIdeal.main_arg2)) (m' (c.tc.loc Cert.SsmParamRefIdeal.main_arg3)) (m' (c.tc.loc Cert.SsmParamRefIdeal.main_arg4)) (m' (c.tc.loc Cert.SsmParamRefIdeal.main_arg5)) (m' (c.tc.loc Cert.SsmParamRefIdeal.main_arg6)) (m' (c.tc.loc Cert.SsmParamRefIdeal.main_arg7)) (m' (c.tc.loc Cert.SsmParamRefIdeal.main_arg8)) = _
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
  · show Cert.SsmParamRefIdeal.Read.val_main_v130 (F := Ideal) (m' (c.tc.loc Cert.SsmParamRefIdeal.main_arg0)) (m' (c.tc.loc Cert.SsmParamRefIdeal.main_arg1)) (m' (c.tc.loc Cert.SsmParamRefIdeal.main_arg2)) (m' (c.tc.loc Cert.SsmParamRefIdeal.main_arg3)) (m' (c.tc.loc Cert.SsmParamRefIdeal.main_arg4)) (m' (c.tc.loc Cert.SsmParamRefIdeal.main_arg5)) (m' (c.tc.loc Cert.SsmParamRefIdeal.main_arg6)) (m' (c.tc.loc Cert.SsmParamRefIdeal.main_arg7)) (m' (c.tc.loc Cert.SsmParamRefIdeal.main_arg8)) = _
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
  · show Cert.SsmParamRefIdeal.Read.val_main_v142 (F := Ideal) (m' (c.tc.loc Cert.SsmParamRefIdeal.main_arg0)) (m' (c.tc.loc Cert.SsmParamRefIdeal.main_arg1)) (m' (c.tc.loc Cert.SsmParamRefIdeal.main_arg2)) (m' (c.tc.loc Cert.SsmParamRefIdeal.main_arg3)) (m' (c.tc.loc Cert.SsmParamRefIdeal.main_arg4)) (m' (c.tc.loc Cert.SsmParamRefIdeal.main_arg5)) (m' (c.tc.loc Cert.SsmParamRefIdeal.main_arg6)) (m' (c.tc.loc Cert.SsmParamRefIdeal.main_arg7)) (m' (c.tc.loc Cert.SsmParamRefIdeal.main_arg8)) = _
    rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2]
  · show Cert.SsmParamRefIdeal.Read.val_main_v144 (F := Ideal) (m' (c.tc.loc Cert.SsmParamRefIdeal.main_arg0)) (m' (c.tc.loc Cert.SsmParamRefIdeal.main_arg1)) (m' (c.tc.loc Cert.SsmParamRefIdeal.main_arg2)) (m' (c.tc.loc Cert.SsmParamRefIdeal.main_arg7)) (m' (c.tc.loc Cert.SsmParamRefIdeal.main_arg8)) = _
    rw [(hag c).1, (hag c).2.1, (hag c).2.2.1, (hag c).2.2.2.2.2.2.2.1, (hag c).2.2.2.2.2.2.2.2]
  · show Cert.SsmParamRefIdeal.Read.val_main_v146 (F := Ideal) (m' (c.tc.loc Cert.SsmParamRefIdeal.main_arg0)) (m' (c.tc.loc Cert.SsmParamRefIdeal.main_arg1)) (m' (c.tc.loc Cert.SsmParamRefIdeal.main_arg2)) (m' (c.tc.loc Cert.SsmParamRefIdeal.main_arg7)) (m' (c.tc.loc Cert.SsmParamRefIdeal.main_arg8)) = _
    rw [(hag c).1, (hag c).2.1, (hag c).2.2.1, (hag c).2.2.2.2.2.2.2.1, (hag c).2.2.2.2.2.2.2.2]

end Cert.Proof.SsmParam

end
-- ==== Proof.SsmPrepValue.lean ====
/- S5's discretisation, the forward call: what the arrays of the four results hold. One grid point, whole blocks; the body
   and the reference compute the same formula, the body with a group's matrix as one row. -/
module

public import proofs.«01_k».proof.Defs
public import proofs.«01_k».proof.Proof.Gen.SsmPrepIdeal.Value
public import proofs.«01_k».proof.Proof.Gen.SsmPrepRefIdeal.Read
public import proofs.«01_k».proof.Proof.Util
public import Idealize.ShloMosaic.Lib.Tactic

@[expose] public section

set_option maxRecDepth 16384

noncomputable section

namespace Cert.SsmPrepIdeal.Value

open Cert.SsmPrepIdeal Cert.SsmPrepIdeal.Gen Idealize.ShloMosaic Idealize.ShloMosaic.TcCoe Idealize.SL.Sem Cert.Util Pipeline

variable (m : (ℓ : Loc nD τ sig) → Buf (Elt Ideal) ℓ) (c : Dev nD)

/-- The arguments' arrays. -/
abbrev lrA : FVec Ideal S64x64 .f32 := m ((c : Thread nD τ).loc main_arg0)
abbrev liA : FVec Ideal S64x64 .f32 := m ((c : Thread nD τ).loc main_arg1)
abbrev ldA : FVec Ideal S64 .f32 := m ((c : Thread nD τ).loc main_arg2)
abbrev brA : FVec Ideal S64x64x16 .f32 := m ((c : Thread nD τ).loc main_arg3)
abbrev biA : FVec Ideal S64x64x16 .f32 := m ((c : Thread nD τ).loc main_arg4)

/-- Input `n` of state `p` in a group's row. -/
abbrev wcol (n : Fin 16) (p : Fin 64) : Fin 1024 := ⟨n.val * 64 + p.val, by omega⟩

/-- A group's matrix laid out as one row, the inputs outermost. -/
theorem wide_at (v : FVec Ideal S64x16x64 .f32) (g p : Fin 64) (n : Fin 16) : shapeCast S64x1024 v shapeCasts_S64x16x64_S64x1024 (ix2 g (wcol n p)) = v (ix3 g n p) := by
  have e : shapeCast S64x1024 v shapeCasts_S64x16x64_S64x1024 (ix2 g (wcol n p))
      = v (ix3 g ⟨(n.val * 64 + p.val) / 64, by omega⟩ ⟨(n.val * 64 + p.val) % 64, by omega⟩) := by pointwise []
  rw [e]
  congr 2 <;> apply Fin.ext
  · show (n.val * 64 + p.val) / 64 = n.val; omega
  · show (n.val * 64 + p.val) % 64 = p.val; omega

/-- What the host prepares: the poles repeated along a group's row, the steps as a column, matrices as rows. -/
theorem host_lr (g p : Fin 64) (n : Fin 16) : (V m c main_v2 : FVec Ideal S64x1024 .f32) (ix2 g (wcol n p)) = lrA m c (ix2 g p) := by
  show StableHlo.after hostOps0 (fun b => m (c, b)) main_v2 _ = _
  after_results_simp
  pointwise []
  congr 2
  apply Fin.ext
  show (n.val * 64 + p.val) % 64 = p.val
  omega
theorem host_li (g p : Fin 64) (n : Fin 16) : (V m c main_v5 : FVec Ideal S64x1024 .f32) (ix2 g (wcol n p)) = liA m c (ix2 g p) := by
  show StableHlo.after hostOps0 (fun b => m (c, b)) main_v5 _ = _
  after_results_simp
  pointwise []
  congr 2
  apply Fin.ext
  show (n.val * 64 + p.val) % 64 = p.val
  omega
theorem host_ld (g : Fin 64) : (V m c main_v6 : FVec Ideal S64x1 .f32) (ix2 g 0) = ldA m c (ix1 g) := by
  show StableHlo.after hostOps0 (fun b => m (c, b)) main_v6 _ = _
  after_results_simp
  pointwise []
theorem host_br (g p : Fin 64) (n : Fin 16) : (V m c main_v8 : FVec Ideal S64x1024 .f32) (ix2 g (wcol n p)) = brA m c (ix3 g p n) := by
  show StableHlo.after hostOps0 (fun b => m (c, b)) main_v8 _ = _
  after_results_simp
  exact (wide_at _ g p n).trans (by pointwise [])
theorem host_bi (g p : Fin 64) (n : Fin 16) : (V m c main_v10 : FVec Ideal S64x1024 .f32) (ix2 g (wcol n p)) = biA m c (ix3 g p n) := by
  show StableHlo.after hostOps0 (fun b => m (c, b)) main_v10 _ = _
  after_results_simp
  exact (wide_at _ g p n).trans (by pointwise [])

/-- The one grid point reads and writes whole arrays. -/
theorem idx_at : ∀ t : Fin cfg0.N, (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) := by
  decide +kernel
theorem blk0 (t : Fin cfg0.N) : (iblk m c 0 t : Vec Ideal S64x64 .f32) = V m c main_arg0 := by
  funext y
  show V m c main_arg0 ((win0_0.rect t).emb y) = _
  congr 1
  apply idx2_ext
  · rw [win0_0.rect_emb_val, (idx_at t).1.1]; exact Nat.zero_add _
  · rw [win0_0.rect_emb_val, (idx_at t).1.2]; exact Nat.zero_add _
theorem blk1 (t : Fin cfg0.N) : (iblk m c 1 t : Vec Ideal S64x64 .f32) = V m c main_arg1 := by
  funext y
  show V m c main_arg1 ((win0_1.rect t).emb y) = _
  congr 1
  apply idx2_ext
  · rw [win0_1.rect_emb_val, (idx_at t).2.1.1]; exact Nat.zero_add _
  · rw [win0_1.rect_emb_val, (idx_at t).2.1.2]; exact Nat.zero_add _
theorem blk2 (t : Fin cfg0.N) : (iblk m c 2 t : Vec Ideal S64x1024 .f32) = V m c main_v2 := by
  funext y
  show V m c main_v2 ((win0_2.rect t).emb y) = _
  congr 1
  apply idx2_ext
  · rw [win0_2.rect_emb_val, (idx_at t).2.2.1.1]; exact Nat.zero_add _
  · rw [win0_2.rect_emb_val, (idx_at t).2.2.1.2]; exact Nat.zero_add _
theorem blk3 (t : Fin cfg0.N) : (iblk m c 3 t : Vec Ideal S64x1024 .f32) = V m c main_v5 := by
  funext y
  show V m c main_v5 ((win0_3.rect t).emb y) = _
  congr 1
  apply idx2_ext
  · rw [win0_3.rect_emb_val, (idx_at t).2.2.2.1.1]; exact Nat.zero_add _
  · rw [win0_3.rect_emb_val, (idx_at t).2.2.2.1.2]; exact Nat.zero_add _
theorem blk4 (t : Fin cfg0.N) : (iblk m c 4 t : Vec Ideal S64x1 .f32) = V m c main_v6 := by
  funext y
  show V m c main_v6 ((win0_4.rect t).emb y) = _
  congr 1
  apply idx2_ext
  · rw [win0_4.rect_emb_val, (idx_at t).2.2.2.2.1.1]; exact Nat.zero_add _
  · rw [win0_4.rect_emb_val, (idx_at t).2.2.2.2.1.2]; exact Nat.zero_add _
theorem blk5 (t : Fin cfg0.N) : (iblk m c 5 t : Vec Ideal S64x1024 .f32) = V m c main_v8 := by
  funext y
  show V m c main_v8 ((win0_5.rect t).emb y) = _
  congr 1
  apply idx2_ext
  · rw [win0_5.rect_emb_val, (idx_at t).2.2.2.2.2.1.1]; exact Nat.zero_add _
  · rw [win0_5.rect_emb_val, (idx_at t).2.2.2.2.2.1.2]; exact Nat.zero_add _
theorem blk6 (t : Fin cfg0.N) : (iblk m c 6 t : Vec Ideal S64x1024 .f32) = V m c main_v10 := by
  funext y
  show V m c main_v10 ((win0_6.rect t).emb y) = _
  congr 1
  apply idx2_ext
  · rw [win0_6.rect_emb_val, (idx_at t).2.2.2.2.2.2.1.1]; exact Nat.zero_add _
  · rw [win0_6.rect_emb_val, (idx_at t).2.2.2.2.2.2.1.2]; exact Nat.zero_add _

theorem ld0 (x : Vec Ideal S64x1 .f32) : View.ld x r0_0 = x := View.ld_unit_zero zero2 _ x
theorem ld1 (x : Vec Ideal S64x64 .f32) : View.ld x r0_1 = x := View.ld_unit_zero zero2 _ x
theorem ld2 (x : Vec Ideal S64x1024 .f32) : View.ld x r0_2 = x := View.ld_unit_zero zero2 _ x

/-- One pole: the discretised pole, and (lam_bar - 1) / lam. -/
abbrev er (lr li ld : EReal) : EReal := Ideal.exp (lr * Ideal.exp ld) * Ideal.cos (li * Ideal.exp ld)
abbrev ei (lr li ld : EReal) : EReal := Ideal.exp (lr * Ideal.exp ld) * Ideal.sin (li * Ideal.exp ld)
abbrev kr (lr li ld : EReal) : EReal := Ideal.div ((er lr li ld - 1) * lr + ei lr li ld * li) (lr * lr + li * li)
abbrev ki (lr li ld : EReal) : EReal := Ideal.div (ei lr li ld * lr - (er lr li ld - 1) * li) (lr * lr + li * li)

section
variable (x0 x1 : Vec Ideal S64x64 .f32) (x2 x3 x5 x6 : Vec Ideal S64x1024 .f32) (x4 : Vec Ideal S64x1 .f32) (g p : Fin 64) (k : Fin 1024)
theorem pay8_at : k0_pay8 x4 x0 x1 (ix2 g p) = er (x0 (ix2 g p)) (x1 (ix2 g p)) (x4 (ix2 g 0)) := by pointwise [k0_pay8, k0_pay7, k0_pay6]
theorem pay9_at : k0_pay9 x4 x0 x1 (ix2 g p) = ei (x0 (ix2 g p)) (x1 (ix2 g p)) (x4 (ix2 g 0)) := by pointwise [k0_pay9, k0_pay7, k0_pay6]
theorem pay11_at : k0_pay11 x4 x2 x3 (ix2 g k) = er (x2 (ix2 g k)) (x3 (ix2 g k)) (x4 (ix2 g 0)) := by pointwise [k0_pay11, k0_pay10, k0_pay6]
theorem pay12_at : k0_pay12 x4 x2 x3 (ix2 g k) = ei (x2 (ix2 g k)) (x3 (ix2 g k)) (x4 (ix2 g 0)) := by pointwise [k0_pay12, k0_pay10, k0_pay6]
theorem pay14_at : k0_pay14 x4 x2 x3 (ix2 g k) = kr (x2 (ix2 g k)) (x3 (ix2 g k)) (x4 (ix2 g 0)) := by
  have h1 := pay11_at x2 x3 x4 g k
  have h2 := pay12_at x2 x3 x4 g k
  unfold k0_pay14
  generalize k0_pay11 x4 x2 x3 = y1 at h1 ⊢
  generalize k0_pay12 x4 x2 x3 = y2 at h2 ⊢
  pointwise [k0_pay13]
  rw [h1, h2]
theorem pay15_at : k0_pay15 x4 x2 x3 (ix2 g k) = (ei (x2 (ix2 g k)) (x3 (ix2 g k)) (x4 (ix2 g 0)) * x2 (ix2 g k) : EReal) := by
  have h2 := pay12_at x2 x3 x4 g k
  unfold k0_pay15
  generalize k0_pay12 x4 x2 x3 = y2 at h2 ⊢
  pointwise []
  rw [h2]
theorem pay1_at : k0_pay1 x3 (k0_pay11 x4 x2 x3) (k0_pay13 x2 x3) (k0_pay15 x4 x2 x3) (FloatOps.ofBits (F := Ideal) .f32 1065353216#32) (ix2 g k) = ki (x2 (ix2 g k)) (x3 (ix2 g k)) (x4 (ix2 g 0)) := by
  have h1 := pay11_at x2 x3 x4 g k
  have h2 := pay15_at x2 x3 x4 g k
  generalize k0_pay11 x4 x2 x3 = y1 at h1 ⊢
  generalize k0_pay15 x4 x2 x3 = y2 at h2 ⊢
  pointwise [k0_pay1, k0_pay13]
  rw [h1, h2]
theorem pay4_at : k0_pay4 x3 (k0_pay11 x4 x2 x3) (k0_pay13 x2 x3) (k0_pay14 x4 x2 x3) (k0_pay15 x4 x2 x3) (FloatOps.ofBits (F := Ideal) .f32 1065353216#32) x5 x6 (ix2 g k)
    = (kr (x2 (ix2 g k)) (x3 (ix2 g k)) (x4 (ix2 g 0)) * x5 (ix2 g k) - ki (x2 (ix2 g k)) (x3 (ix2 g k)) (x4 (ix2 g 0)) * x6 (ix2 g k) : EReal) := by
  have h1 := pay1_at x2 x3 x4 g k
  have h2 := pay14_at x2 x3 x4 g k
  unfold k0_pay4
  generalize k0_pay1 x3 (k0_pay11 x4 x2 x3) (k0_pay13 x2 x3) (k0_pay15 x4 x2 x3) (FloatOps.ofBits (F := Ideal) .f32 1065353216#32) = y1 at h1 ⊢
  generalize k0_pay14 x4 x2 x3 = y2 at h2 ⊢
  pointwise [k0_pay2, k0_pay3]
  rw [h1, h2]
theorem pay5_at : k0_pay5 x3 (k0_pay11 x4 x2 x3) (k0_pay13 x2 x3) (k0_pay14 x4 x2 x3) (k0_pay15 x4 x2 x3) (FloatOps.ofBits (F := Ideal) .f32 1065353216#32) x5 x6 (ix2 g k)
    = (kr (x2 (ix2 g k)) (x3 (ix2 g k)) (x4 (ix2 g 0)) * x6 (ix2 g k) + ki (x2 (ix2 g k)) (x3 (ix2 g k)) (x4 (ix2 g 0)) * x5 (ix2 g k) : EReal) := by
  have h1 := pay1_at x2 x3 x4 g k
  have h2 := pay14_at x2 x3 x4 g k
  unfold k0_pay5
  generalize k0_pay1 x3 (k0_pay11 x4 x2 x3) (k0_pay13 x2 x3) (k0_pay15 x4 x2 x3) (FloatOps.ofBits (F := Ideal) .f32 1065353216#32) = y1 at h1 ⊢
  generalize k0_pay14 x4 x2 x3 = y2 at h2 ⊢
  pointwise [k0_pay2, k0_pay3]
  rw [h1, h2]
end

section
open Cert.SsmPrepRefIdeal.Read
variable (y0 y1 : FVec Ideal S64x64 .f32) (y2 : FVec Ideal S64 .f32) (y3 y4 : FVec Ideal S64x64x16 .f32) (g p : Fin 64) (n : Fin 16)
theorem ref_er : val_main_v8 (F := Ideal) y0 y1 y2 (ix2 g p) = er (y0 (ix2 g p)) (y1 (ix2 g p)) (y2 (ix1 g)) := by
  pointwise [val_main_v8, val_main_v7, val_main_v6, val_main_v5, val_main_v4, val_main_v3, val_main_v2, val_main_v1, val_main_v0]
theorem ref_ei : val_main_v12 (F := Ideal) y0 y1 y2 (ix2 g p) = ei (y0 (ix2 g p)) (y1 (ix2 g p)) (y2 (ix1 g)) := by
  pointwise [val_main_v12, val_main_v11, val_main_v10, val_main_v9, val_main_v4, val_main_v3, val_main_v2, val_main_v1, val_main_v0]
theorem ref_kr : val_main_v21 (F := Ideal) y0 y1 y2 (ix2 g p) = kr (y0 (ix2 g p)) (y1 (ix2 g p)) (y2 (ix1 g)) := by
  have e : val_main_v21 (F := Ideal) y0 y1 y2 (ix2 g p) = Ideal.div ((val_main_v8 (F := Ideal) y0 y1 y2 (ix2 g p) - 1) * y0 (ix2 g p) + val_main_v12 (F := Ideal) y0 y1 y2 (ix2 g p) * y1 (ix2 g p)) (y0 (ix2 g p) * y0 (ix2 g p) + y1 (ix2 g p) * y1 (ix2 g p)) := by
    pointwise [val_main_v21, val_main_v20, val_main_v18, val_main_v17, val_main_v16, val_main_cst, val_main_v19, val_main_v15, val_main_v13, val_main_v14]
  rw [e, ref_er, ref_ei]
theorem ref_ki : val_main_v28 (F := Ideal) y0 y1 y2 (ix2 g p) = ki (y0 (ix2 g p)) (y1 (ix2 g p)) (y2 (ix1 g)) := by
  have e : val_main_v28 (F := Ideal) y0 y1 y2 (ix2 g p) = Ideal.div (val_main_v12 (F := Ideal) y0 y1 y2 (ix2 g p) * y0 (ix2 g p) - (val_main_v8 (F := Ideal) y0 y1 y2 (ix2 g p) - 1) * y1 (ix2 g p)) (y0 (ix2 g p) * y0 (ix2 g p) + y1 (ix2 g p) * y1 (ix2 g p)) := by
    pointwise [val_main_v28, val_main_v27, val_main_v23, val_main_v25, val_main_v24, val_main_cst_0, val_main_v26, val_main_v15, val_main_v13, val_main_v14]
  rw [e, ref_er, ref_ei]
theorem ref_br : val_main_v41 (F := Ideal) y0 y1 y2 y3 y4 (ix2 g (wcol n p)) = (kr (y0 (ix2 g p)) (y1 (ix2 g p)) (y2 (ix1 g)) * y3 (ix3 g p n) - ki (y0 (ix2 g p)) (y1 (ix2 g p)) (y2 (ix1 g)) * y4 (ix3 g p n) : EReal) := by
  have e : val_main_v41 (F := Ideal) y0 y1 y2 y3 y4 (ix2 g (wcol n p)) = val_main_v40 (F := Ideal) y0 y1 y2 y3 y4 (ix3 g n p) := wide_at _ g p n
  have e2 : val_main_v40 (F := Ideal) y0 y1 y2 y3 y4 (ix3 g n p) = (val_main_v21 (F := Ideal) y0 y1 y2 (ix2 g p) * y3 (ix3 g p n) - val_main_v28 (F := Ideal) y0 y1 y2 (ix2 g p) * y4 (ix3 g p n) : EReal) := by
    pointwise [val_main_v40, val_main_v34, val_main_v31, val_main_v30, val_main_v22, val_main_v33, val_main_v32, val_main_v29]
  rw [e, e2, ref_kr, ref_ki]
theorem ref_bi : val_main_v43 (F := Ideal) y0 y1 y2 y3 y4 (ix2 g (wcol n p)) = (kr (y0 (ix2 g p)) (y1 (ix2 g p)) (y2 (ix1 g)) * y4 (ix3 g p n) + ki (y0 (ix2 g p)) (y1 (ix2 g p)) (y2 (ix1 g)) * y3 (ix3 g p n) : EReal) := by
  have e : val_main_v43 (F := Ideal) y0 y1 y2 y3 y4 (ix2 g (wcol n p)) = val_main_v42 (F := Ideal) y0 y1 y2 y3 y4 (ix3 g n p) := wide_at _ g p n
  have e2 : val_main_v42 (F := Ideal) y0 y1 y2 y3 y4 (ix3 g n p) = (val_main_v21 (F := Ideal) y0 y1 y2 (ix2 g p) * y4 (ix3 g p n) + val_main_v28 (F := Ideal) y0 y1 y2 (ix2 g p) * y3 (ix3 g p n) : EReal) := by
    pointwise [val_main_v42, val_main_v39, val_main_v36, val_main_v35, val_main_v22, val_main_v38, val_main_v37, val_main_v29]
  rw [e, e2, ref_kr, ref_ki]
end

section
variable (t : Fin cfg0.N) (g p : Fin 64) (n : Fin 16)
theorem out_7 : out0_7 (iblk m c 0 t) (iblk m c 1 t) (iblk m c 2 t) (iblk m c 3 t) (iblk m c 4 t) (iblk m c 5 t) (iblk m c 6 t) (ix2 g p) = Cert.SsmPrepRefIdeal.Read.val_main_v8 (F := Ideal) (lrA m c) (liA m c) (ldA m c) (ix2 g p) := by
  unfold out0_7
  rw [View.canon_unit_zero zero2]
  simp only [ld0, ld1, ld2, blk0 m c t, blk1 m c t, blk2 m c t, blk3 m c t, blk4 m c t, blk5 m c t, blk6 m c t]
  refine (pay8_at _ _ _ g p).trans ?_
  rw [V_main_arg0, V_main_arg1, host_ld, ref_er]
theorem out_8 : out0_8 (iblk m c 0 t) (iblk m c 1 t) (iblk m c 2 t) (iblk m c 3 t) (iblk m c 4 t) (iblk m c 5 t) (iblk m c 6 t) (ix2 g p) = Cert.SsmPrepRefIdeal.Read.val_main_v12 (F := Ideal) (lrA m c) (liA m c) (ldA m c) (ix2 g p) := by
  unfold out0_8
  rw [View.canon_unit_zero zero2]
  simp only [ld0, ld1, ld2, blk0 m c t, blk1 m c t, blk2 m c t, blk3 m c t, blk4 m c t, blk5 m c t, blk6 m c t]
  refine (pay9_at _ _ _ g p).trans ?_
  rw [V_main_arg0, V_main_arg1, host_ld, ref_ei]
theorem out_9 : out0_9 (iblk m c 0 t) (iblk m c 1 t) (iblk m c 2 t) (iblk m c 3 t) (iblk m c 4 t) (iblk m c 5 t) (iblk m c 6 t) (ix2 g (wcol n p)) = Cert.SsmPrepRefIdeal.Read.val_main_v41 (F := Ideal) (lrA m c) (liA m c) (ldA m c) (brA m c) (biA m c) (ix2 g (wcol n p)) := by
  unfold out0_9 k0_pay19 k0_pay18 k0_pay17 k0_pay16
  rw [View.canon_unit_zero zero2]
  simp only [ld0, ld1, ld2, blk0 m c t, blk1 m c t, blk2 m c t, blk3 m c t, blk4 m c t, blk5 m c t, blk6 m c t]
  refine (pay4_at _ _ _ _ _ g (wcol n p)).trans ?_
  rw [host_ld, host_lr, host_li, host_br, host_bi, ref_br]
theorem out_10 : out0_10 (iblk m c 0 t) (iblk m c 1 t) (iblk m c 2 t) (iblk m c 3 t) (iblk m c 4 t) (iblk m c 5 t) (iblk m c 6 t) (ix2 g (wcol n p)) = Cert.SsmPrepRefIdeal.Read.val_main_v43 (F := Ideal) (lrA m c) (liA m c) (ldA m c) (brA m c) (biA m c) (ix2 g (wcol n p)) := by
  unfold out0_10 k0_pay19 k0_pay18 k0_pay17 k0_pay16
  rw [View.canon_unit_zero zero2]
  simp only [ld0, ld1, ld2, blk0 m c t, blk1 m c t, blk2 m c t, blk3 m c t, blk4 m c t, blk5 m c t, blk6 m c t]
  refine (pay5_at _ _ _ _ _ g (wcol n p)).trans ?_
  rw [host_ld, host_lr, host_li, host_br, host_bi, ref_bi]
end

theorem mem_out7 (t : Fin cfg0.N) (i : S64x64.Idx) : i ∈ ((cfg0.win 7).blk t).view.set ↔
    ∀ a : Fin 2, win0_7.index t a * win0_7.size a ≤ (i a).val ∧ (i a).val < win0_7.index t a * win0_7.size a + win0_7.size a := by
  show i ∈ ((View.whole main_v11_0).slice (win0_7.rect t)).set ↔ _
  rw [View.set_slice_whole, Rect.mem_set_unit]
  rfl
theorem res7 : (dats m 0 c).arrAt 7 cfg0.N = Cert.SsmPrepRefIdeal.Read.val_main_v8 (F := Ideal) (lrA m c) (liA m c) (ldA m c) := by
  refine Dat.arrAt_eq_of_cover (dats m 0 c) 7 _ ?_ fun i => ?_
  · intro t _
    rw [flushed7]
    funext y
    obtain ⟨a, b, rfl⟩ : ∃ a b, y = ix2 a b := ⟨y 0, y 1, eq_ix2 y⟩
    show out0_7 (iblk m c 0 t) (iblk m c 1 t) (iblk m c 2 t) (iblk m c 3 t) (iblk m c 4 t) (iblk m c 5 t) (iblk m c 6 t) (ix2 a b) = Cert.SsmPrepRefIdeal.Read.val_main_v8 (F := Ideal) (lrA m c) (liA m c) (ldA m c) ((win0_7.rect t).emb (ix2 a b))
    rw [show (win0_7.rect t).emb (ix2 a b) = (ix2 a b : S64x64.Idx) from idx2_ext (by rw [win0_7.rect_emb_val, (idx_at _).2.2.2.2.2.2.2.1.1]; exact Nat.zero_add _) (by rw [win0_7.rect_emb_val, (idx_at _).2.2.2.2.2.2.2.1.2]; exact Nat.zero_add _)]
    exact out_7 m c t a b
  · refine ⟨⟨0, by decide⟩, by decide +kernel, (mem_out7 _ i).2 fun a => ?_⟩
    have h0 : (i 0).val < 64 := (i 0).isLt
    have h1 : (i 1).val < 64 := (i 1).isLt
    match a with
    | ⟨0, _⟩ =>
      show win0_7.index _ 0 * 64 ≤ (i 0).val ∧ (i 0).val < win0_7.index _ 0 * 64 + 64
      rw [(idx_at _).2.2.2.2.2.2.2.1.1]; omega
    | ⟨1, _⟩ =>
      show win0_7.index _ 1 * 64 ≤ (i 1).val ∧ (i 1).val < win0_7.index _ 1 * 64 + 64
      rw [(idx_at _).2.2.2.2.2.2.2.1.2]; omega
theorem mem_out8 (t : Fin cfg0.N) (i : S64x64.Idx) : i ∈ ((cfg0.win 8).blk t).view.set ↔
    ∀ a : Fin 2, win0_8.index t a * win0_8.size a ≤ (i a).val ∧ (i a).val < win0_8.index t a * win0_8.size a + win0_8.size a := by
  show i ∈ ((View.whole main_v11_1).slice (win0_8.rect t)).set ↔ _
  rw [View.set_slice_whole, Rect.mem_set_unit]
  rfl
theorem res8 : (dats m 0 c).arrAt 8 cfg0.N = Cert.SsmPrepRefIdeal.Read.val_main_v12 (F := Ideal) (lrA m c) (liA m c) (ldA m c) := by
  refine Dat.arrAt_eq_of_cover (dats m 0 c) 8 _ ?_ fun i => ?_
  · intro t _
    rw [flushed8]
    funext y
    obtain ⟨a, b, rfl⟩ : ∃ a b, y = ix2 a b := ⟨y 0, y 1, eq_ix2 y⟩
    show out0_8 (iblk m c 0 t) (iblk m c 1 t) (iblk m c 2 t) (iblk m c 3 t) (iblk m c 4 t) (iblk m c 5 t) (iblk m c 6 t) (ix2 a b) = Cert.SsmPrepRefIdeal.Read.val_main_v12 (F := Ideal) (lrA m c) (liA m c) (ldA m c) ((win0_8.rect t).emb (ix2 a b))
    rw [show (win0_8.rect t).emb (ix2 a b) = (ix2 a b : S64x64.Idx) from idx2_ext (by rw [win0_8.rect_emb_val, (idx_at _).2.2.2.2.2.2.2.2.1.1]; exact Nat.zero_add _) (by rw [win0_8.rect_emb_val, (idx_at _).2.2.2.2.2.2.2.2.1.2]; exact Nat.zero_add _)]
    exact out_8 m c t a b
  · refine ⟨⟨0, by decide⟩, by decide +kernel, (mem_out8 _ i).2 fun a => ?_⟩
    have h0 : (i 0).val < 64 := (i 0).isLt
    have h1 : (i 1).val < 64 := (i 1).isLt
    match a with
    | ⟨0, _⟩ =>
      show win0_8.index _ 0 * 64 ≤ (i 0).val ∧ (i 0).val < win0_8.index _ 0 * 64 + 64
      rw [(idx_at _).2.2.2.2.2.2.2.2.1.1]; omega
    | ⟨1, _⟩ =>
      show win0_8.index _ 1 * 64 ≤ (i 1).val ∧ (i 1).val < win0_8.index _ 1 * 64 + 64
      rw [(idx_at _).2.2.2.2.2.2.2.2.1.2]; omega
theorem mem_out9 (t : Fin cfg0.N) (i : S64x1024.Idx) : i ∈ ((cfg0.win 9).blk t).view.set ↔
    ∀ a : Fin 2, win0_9.index t a * win0_9.size a ≤ (i a).val ∧ (i a).val < win0_9.index t a * win0_9.size a + win0_9.size a := by
  show i ∈ ((View.whole main_v11_2).slice (win0_9.rect t)).set ↔ _
  rw [View.set_slice_whole, Rect.mem_set_unit]
  rfl
theorem res9 : (dats m 0 c).arrAt 9 cfg0.N = Cert.SsmPrepRefIdeal.Read.val_main_v41 (F := Ideal) (lrA m c) (liA m c) (ldA m c) (brA m c) (biA m c) := by
  refine Dat.arrAt_eq_of_cover (dats m 0 c) 9 _ ?_ fun i => ?_
  · intro t _
    rw [flushed9]
    funext y
    obtain ⟨a, b, rfl⟩ : ∃ a b, y = ix2 a b := ⟨y 0, y 1, eq_ix2 y⟩
    show out0_9 (iblk m c 0 t) (iblk m c 1 t) (iblk m c 2 t) (iblk m c 3 t) (iblk m c 4 t) (iblk m c 5 t) (iblk m c 6 t) (ix2 a b) = Cert.SsmPrepRefIdeal.Read.val_main_v41 (F := Ideal) (lrA m c) (liA m c) (ldA m c) (brA m c) (biA m c) ((win0_9.rect t).emb (ix2 a b))
    rw [show (win0_9.rect t).emb (ix2 a b) = (ix2 a b : S64x1024.Idx) from idx2_ext (by rw [win0_9.rect_emb_val, (idx_at _).2.2.2.2.2.2.2.2.2.1.1]; exact Nat.zero_add _) (by rw [win0_9.rect_emb_val, (idx_at _).2.2.2.2.2.2.2.2.2.1.2]; exact Nat.zero_add _)]
    obtain ⟨n, p, rfl⟩ : ∃ n p, b = wcol n p := ⟨⟨b.val / 64, by omega⟩, ⟨b.val % 64, by omega⟩, Fin.ext (by show b.val = b.val / 64 * 64 + b.val % 64; omega)⟩
    exact out_9 m c t a p n
  · refine ⟨⟨0, by decide⟩, by decide +kernel, (mem_out9 _ i).2 fun a => ?_⟩
    have h0 : (i 0).val < 64 := (i 0).isLt
    have h1 : (i 1).val < 1024 := (i 1).isLt
    match a with
    | ⟨0, _⟩ =>
      show win0_9.index _ 0 * 64 ≤ (i 0).val ∧ (i 0).val < win0_9.index _ 0 * 64 + 64
      rw [(idx_at _).2.2.2.2.2.2.2.2.2.1.1]; omega
    | ⟨1, _⟩ =>
      show win0_9.index _ 1 * 1024 ≤ (i 1).val ∧ (i 1).val < win0_9.index _ 1 * 1024 + 1024
      rw [(idx_at _).2.2.2.2.2.2.2.2.2.1.2]; omega
theorem mem_out10 (t : Fin cfg0.N) (i : S64x1024.Idx) : i ∈ ((cfg0.win 10).blk t).view.set ↔
    ∀ a : Fin 2, win0_10.index t a * win0_10.size a ≤ (i a).val ∧ (i a).val < win0_10.index t a * win0_10.size a + win0_10.size a := by
  show i ∈ ((View.whole main_v11_3).slice (win0_10.rect t)).set ↔ _
  rw [View.set_slice_whole, Rect.mem_set_unit]
  rfl
theorem res10 : (dats m 0 c).arrAt 10 cfg0.N = Cert.SsmPrepRefIdeal.Read.val_main_v43 (F := Ideal) (lrA m c) (liA m c) (ldA m c) (brA m c) (biA m c) := by
  refine Dat.arrAt_eq_of_cover (dats m 0 c) 10 _ ?_ fun i => ?_
  · intro t _
    rw [flushed10]
    funext y
    obtain ⟨a, b, rfl⟩ : ∃ a b, y = ix2 a b := ⟨y 0, y 1, eq_ix2 y⟩
    show out0_10 (iblk m c 0 t) (iblk m c 1 t) (iblk m c 2 t) (iblk m c 3 t) (iblk m c 4 t) (iblk m c 5 t) (iblk m c 6 t) (ix2 a b) = Cert.SsmPrepRefIdeal.Read.val_main_v43 (F := Ideal) (lrA m c) (liA m c) (ldA m c) (brA m c) (biA m c) ((win0_10.rect t).emb (ix2 a b))
    rw [show (win0_10.rect t).emb (ix2 a b) = (ix2 a b : S64x1024.Idx) from idx2_ext (by rw [win0_10.rect_emb_val, (idx_at _).2.2.2.2.2.2.2.2.2.2.1]; exact Nat.zero_add _) (by rw [win0_10.rect_emb_val, (idx_at _).2.2.2.2.2.2.2.2.2.2.2]; exact Nat.zero_add _)]
    obtain ⟨n, p, rfl⟩ : ∃ n p, b = wcol n p := ⟨⟨b.val / 64, by omega⟩, ⟨b.val % 64, by omega⟩, Fin.ext (by show b.val = b.val / 64 * 64 + b.val % 64; omega)⟩
    exact out_10 m c t a p n
  · refine ⟨⟨0, by decide⟩, by decide +kernel, (mem_out10 _ i).2 fun a => ?_⟩
    have h0 : (i 0).val < 64 := (i 0).isLt
    have h1 : (i 1).val < 1024 := (i 1).isLt
    match a with
    | ⟨0, _⟩ =>
      show win0_10.index _ 0 * 64 ≤ (i 0).val ∧ (i 0).val < win0_10.index _ 0 * 64 + 64
      rw [(idx_at _).2.2.2.2.2.2.2.2.2.2.1]; omega
    | ⟨1, _⟩ =>
      show win0_10.index _ 1 * 1024 ≤ (i 1).val ∧ (i 1).val < win0_10.index _ 1 * 1024 + 1024
      rw [(idx_at _).2.2.2.2.2.2.2.2.2.2.2]; omega

end Cert.SsmPrepIdeal.Value

end
-- ==== Proof.SsmPrepClaims.lean ====
/- S5's discretisation: its claims. -/
module

public import proofs.«01_k».proof.Proof.SsmPrepValue
public import proofs.«01_k».proof.Proof.Gen.SsmPrep
public import proofs.«01_k».proof.Proof.Gen.SsmPrepRefIdeal
public import proofs.«01_k».proof.Proof.Gen.SsmPrepRefIdeal.Run
public import Idealize.ShloMosaic.Lib.Tactic

@[expose] public section

set_option maxRecDepth 16384

noncomputable section

namespace Cert.Proof.SsmPrep

open Idealize.ShloMosaic Idealize.SL.Sem Cert.Util

/-- The program and its idealization have one text: the same entry … -/
theorem main_same : (Cert.SsmPrep.main (F := Bits)) = (Cert.SsmPrepIdeal.main (F := Bits)) := by sl_kernel_rfl

/-- … and the same bodies. -/
theorem defs_same : (Cert.SsmPrep.defs (F := Bits)) = (Cert.SsmPrepIdeal.defs (F := Bits)) := by sl_kernel_rfl

/-- So one run gives both frames. -/
theorem frame_p : Cert.quiescent_SsmPrep := fun m ρ _ => by
  have h := Cert.SsmPrepIdeal.Gen.frame (F := Bits) m ρ
  rw [← main_same, ← defs_same] at h
  exact h

theorem frame_i : Cert.quiescent_SsmPrepIdeal := fun m ρ _ => Cert.SsmPrepIdeal.Gen.frame m ρ

theorem frame_r : Cert.quiescent_SsmPrepRefIdeal := fun m ρ _ =>
  (θ_run Cert.SsmPrepRefIdeal.defs _ _).mono (fun r h => ⟨fun c => (h c).2.2.2.2, sem_eq_zero_of_no_sems (by decide) r.2⟩)
    (Cert.SsmPrepRefIdeal.Value.run (F := Ideal) m ρ)

theorem algebraic : Cert.algebraic_SsmPrepIdeal_SsmPrepRefIdeal := by
  intro m ρ m' ρ' _ hag
  refine ⟨_, _, _, _, (θ_run Cert.SsmPrepIdeal.defs _ _).mono (fun r h c => ⟨(h c).1.trans (Cert.SsmPrepIdeal.Value.res7 m c), (h c).2.1.trans (Cert.SsmPrepIdeal.Value.res8 m c), (h c).2.2.1.trans (Cert.SsmPrepIdeal.Value.res9 m c), (h c).2.2.2.1.trans (Cert.SsmPrepIdeal.Value.res10 m c), (h c).2.2.2.2⟩)
    (Cert.SsmPrepIdeal.Value.run_blocks m ρ), ?_⟩
  refine (θ_run Cert.SsmPrepRefIdeal.defs _ _).mono (fun r h c => ⟨(h c).1.trans ?_, (h c).2.1.trans ?_, (h c).2.2.1.trans ?_, (h c).2.2.2.1.trans ?_, (h c).2.2.2.2⟩)
    (Cert.SsmPrepRefIdeal.Value.run (F := Ideal) m' ρ')
  · show Cert.SsmPrepRefIdeal.Read.val_main_v8 (F := Ideal) (m' (c.tc.loc Cert.SsmPrepRefIdeal.main_arg0)) (m' (c.tc.loc Cert.SsmPrepRefIdeal.main_arg1)) (m' (c.tc.loc Cert.SsmPrepRefIdeal.main_arg2)) = _
    rw [(hag c).1, (hag c).2.1, (hag c).2.2.1]
  · show Cert.SsmPrepRefIdeal.Read.val_main_v12 (F := Ideal) (m' (c.tc.loc Cert.SsmPrepRefIdeal.main_arg0)) (m' (c.tc.loc Cert.SsmPrepRefIdeal.main_arg1)) (m' (c.tc.loc Cert.SsmPrepRefIdeal.main_arg2)) = _
    rw [(hag c).1, (hag c).2.1, (hag c).2.2.1]
  · show Cert.SsmPrepRefIdeal.Read.val_main_v41 (F := Ideal) (m' (c.tc.loc Cert.SsmPrepRefIdeal.main_arg0)) (m' (c.tc.loc Cert.SsmPrepRefIdeal.main_arg1)) (m' (c.tc.loc Cert.SsmPrepRefIdeal.main_arg2)) (m' (c.tc.loc Cert.SsmPrepRefIdeal.main_arg3)) (m' (c.tc.loc Cert.SsmPrepRefIdeal.main_arg4)) = _
    rw [(hag c).1, (hag c).2.1, (hag c).2.2.1, (hag c).2.2.2.1, (hag c).2.2.2.2]
  · show Cert.SsmPrepRefIdeal.Read.val_main_v43 (F := Ideal) (m' (c.tc.loc Cert.SsmPrepRefIdeal.main_arg0)) (m' (c.tc.loc Cert.SsmPrepRefIdeal.main_arg1)) (m' (c.tc.loc Cert.SsmPrepRefIdeal.main_arg2)) (m' (c.tc.loc Cert.SsmPrepRefIdeal.main_arg3)) (m' (c.tc.loc Cert.SsmPrepRefIdeal.main_arg4)) = _
    rw [(hag c).1, (hag c).2.1, (hag c).2.2.1, (hag c).2.2.2.1, (hag c).2.2.2.2]

end Cert.Proof.SsmPrep

end
-- ==== Proof.SsmScanTiles.lean ====
/- S5's scan, the forward call: the kernel's loops as recursions over its tiles, and the loops' invariants. -/
module

public import proofs.«01_k».proof.Proof.Gen.SsmScanIdeal.Frame
public import proofs.«01_k».proof.Proof.Gen.SsmScanIdeal.Loops
public import proofs.«01_k».proof.Proof.Util
public import Idealize.ShloMosaic.Lib.WritesUnit

@[expose] public section

set_option maxRecDepth 16384

noncomputable section

namespace Cert.Proof.SsmScan

open Cert.SsmScanIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

open Cert.SsmScanIdeal.Gen Cert.Util

/-- What the loops read beside the arrays: the poles' powers on a tile's rows (`cr`, `ci` for the carried state, then the
    three doubling steps' masked factors). -/
structure Cst (F : FTy → Type) [FloatOps F] where
  pr : FVec F S8x512 .f32
  pi : FVec F S8x512 .f32
  r1 : FVec F S8x512 .f32
  i1 : FVec F S8x512 .f32
  r2 : FVec F S8x512 .f32
  i2 : FVec F S8x512 .f32
  r4 : FVec F S8x512 .f32
  i4 : FVec F S8x512 .f32

abbrev Pair (F : FTy → Type) [FloatOps F] := FVec F S1x512 .f32 × FVec F S1x512 .f32

/-- A tile's states, from the carried state and the tile's inputs. -/
def tRe (K : Cst F) (a : Pair F) (br bi : Vec F S8x512 .f32) : FVec F S8x512 .f32 :=
  k0_pay16 K.pr K.pi K.r1 K.i1 K.r2 K.i2 K.r4 K.i4 a.1 a.2 br bi
def tIm (K : Cst F) (a : Pair F) (br bi : Vec F S8x512 .f32) : FVec F S8x512 .f32 :=
  k0_pay17 K.pr K.pi K.r1 K.i1 K.r2 K.i2 K.r4 K.i4 a.1 a.2 br bi

/-- Trip `i` of a chunk's tiles, and trip `c` of the chunks (for every number: modulo the trips). -/
abbrev tl (i : ℕ) : Fin k0_t2_loop.trips := ⟨i % 128, Nat.mod_lt i (by decide)⟩
abbrev ck (c : ℕ) : Fin k0_t1_loop.trips := ⟨c % 2, Nat.mod_lt c (by decide)⟩

theorem trips2 : k0_t2_loop.trips = 128 := rfl
theorem trips1 : k0_t1_loop.trips = 2 := rfl

def rows8 (b : Vec F S1024x512 .f32) (i : ℕ) : Vec F S8x512 .f32 :=
  View.ld b (Rect.unit (k0_off2 (tl i)) S8x512.size (k0_off2_inb (tl i)))

theorem rows8_at (b : Vec F S1024x512 .f32) (j : Fin k0_t2_loop.trips) :
    rows8 b j.val = View.ld b (Rect.unit (k0_off2 j) S8x512.size (k0_off2_inb j)) := by
  have t : tl j.val = j := Fin.ext (Nat.mod_eq_of_lt j.isLt)
  have h : ∀ t, t = j → View.ld b (Rect.unit (k0_off2 t) S8x512.size (k0_off2_inb t))
      = View.ld b (Rect.unit (k0_off2 j) S8x512.size (k0_off2_inb j)) := by
    rintro _ rfl; rfl
  exact h _ t

theorem tile_of {k : ℕ} (h : k + 1 ≤ 128) : ∃ j : Fin k0_t2_loop.trips, j.val = k := ⟨⟨k, h⟩, rfl⟩

/-- The carried state before tile `i` of a chunk. -/
def carry (K : Cst F) (b9 b10 : Vec F S1024x512 .f32) (a : Pair F) : ℕ → Pair F
  | 0 => a
  | i + 1 => (k0_pay21 (tRe K (carry K b9 b10 a i) (rows8 b9 i) (rows8 b10 i)),
      k0_pay22 (tIm K (carry K b9 b10 a i) (rows8 b9 i) (rows8 b10 i)))

/-- A chunk's input rows and the inputs of its states. -/
def vRows (x0 : Vec F S2048x128 .f32) (c : ℕ) : Vec F S1024x128 .f32 :=
  View.ld x0 (Rect.unit (k0_off1 (ck c)) S1024x128.size (k0_off1_inb (ck c)))
def bRe (x0 : Vec F S2048x128 .f32) (x1 : Vec F S1x128x1024 .bf16) (c : ℕ) : Vec F S1024x512 .f32 := k0_pay19 (vRows x0 c) x1
def bIm (x0 : Vec F S2048x128 .f32) (x1 : Vec F S1x128x1024 .bf16) (c : ℕ) : Vec F S1024x512 .f32 := k0_pay20 (vRows x0 c) x1

/-- The carried state before chunk `c`. -/
def chunkCarry (K : Cst F) (x0 : Vec F S2048x128 .f32) (x1 : Vec F S1x128x1024 .bf16) (a : Pair F) : ℕ → Pair F
  | 0 => a
  | c + 1 => carry K (bRe x0 x1 c) (bIm x0 x1 c) (chunkCarry K x0 x1 a c) 128

/-- The states. -/
def stRe (K : Cst F) (x0 : Vec F S2048x128 .f32) (x1 : Vec F S1x128x1024 .bf16) (a : Pair F) : Vec F S2048x512 .f32 := fun y =>
  let c := (y 0).val / 1024
  let i := (y 0).val % 1024 / 8
  tRe K (carry K (bRe x0 x1 c) (bIm x0 x1 c) (chunkCarry K x0 x1 a c) i) (rows8 (bRe x0 x1 c) i) (rows8 (bIm x0 x1 c) i)
    (ix2 ⟨(y 0).val % 8, Nat.mod_lt _ (by decide)⟩ (y 1))
def stIm (K : Cst F) (x0 : Vec F S2048x128 .f32) (x1 : Vec F S1x128x1024 .bf16) (a : Pair F) : Vec F S2048x512 .f32 := fun y =>
  let c := (y 0).val / 1024
  let i := (y 0).val % 1024 / 8
  tIm K (carry K (bRe x0 x1 c) (bIm x0 x1 c) (chunkCarry K x0 x1 a c) i) (rows8 (bRe x0 x1 c) i) (rows8 (bIm x0 x1 c) i)
    (ix2 ⟨(y 0).val % 8, Nat.mod_lt _ (by decide)⟩ (y 1))

/-- A chunk's rows of the states, and the results' rows. -/
def sRows (x : Vec F S2048x512 .f32) (c : ℕ) : Vec F S1024x512 .f32 :=
  View.ld x (Rect.unit (k0_off4 (ck c)) S1024x512.size (k0_off4_inb (ck c)))
def yOut (K : Cst F) (x0 : Vec F S2048x128 .f32) (x1 x4 : Vec F S1x128x1024 .bf16) (a : Pair F) : Vec F S2048x128 .f32 := fun y =>
  let c := (y 0).val / 1024
  k0_pay23 x4 (sRows (stRe K x0 x1 a) c) (sRows (stIm K x0 x1 a) c) (ix2 ⟨(y 0).val % 1024, Nat.mod_lt _ (by decide)⟩ (y 1))

section Tiles

variable (𝒱 : Variants) (c : Dev nD) (bd : Option 𝒱.V) (i : grid0.Coords) (arg1 : Memref sig .tc .vmem S2048x128 .f32) (harg1 : arg1.IsWhole) (arg2 : Memref sig .tc .vmem S1x128x1024 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x128x1024 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x128 .f32) (harg8 : arg8.IsWhole) (arg9 : Memref sig .tc .vmem S1024x512 .f32) (harg9 : arg9.IsWhole) (arg10 : Memref sig .tc .vmem S1024x512 .f32) (harg10 : arg10.IsWhole) (v125 : FVec F S8x512 .f32) (v130 : FVec F S8x512 .f32) (v136 : FVec F S8x512 .f32) (v140 : FVec F S8x512 .f32) (v146 : FVec F S8x512 .f32) (v150 : FVec F S8x512 .f32) (v156 : FVec F S8x512 .f32) (v160 : FVec F S8x512 .f32) (c0_i32 : BitVec 32) (c1_i32_24 : BitVec 32) (k0_t1 : Fin k0_t1_loop.trips) (arg12 : FVec F S1x512 .f32) (arg13 : FVec F S1x512 .f32) (v165 : BitVec 32) (X_arg9 : BufTy.Contents (Elt F) arg9.view.ty) (X_arg10 : BufTy.Contents (Elt F) arg10.view.ty)

local notation "KK" => Cst.mk v125 v130 v136 v140 v146 v150 v156 v160
local notation "ST" => st_k0_t2 (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10

/-- The carried state the loop's recursion holds is the recursion over the tiles. -/
theorem st_carry (init : Pair F) (k : ℕ) (hk : k ≤ 128) :
    (ST init k).1 = carry KK (arg9.view.read (Elt F) X_arg9) (arg10.view.read (Elt F) X_arg10) init k := by
  induction k with
  | zero => rfl
  | succ k ih =>
    obtain ⟨j, rfl⟩ := tile_of hk
    rw [st_k0_t2_succ (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 init j]
    show tripR_k0_t2 (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 j (ST init j.val).1 = _
    rw [ih (by omega), carry]
    unfold tripR_k0_t2 trip_k0_t2
    dsimp only
    unfold trip_k0_t2.sl.r trip_k0_t2.sl.r_1
    rw [rows8_at, rows8_at]
    rfl

/-- What the loop leaves of the states: the tiles before `k`, over what was there. -/
theorem st_re (G : BufTy.Contents (Elt F) arg6.view.ty) (init : Pair F) (k : ℕ) (hk : k ≤ 128) (y : S2048x512.Idx) :
    arg6.view.read (Elt F) (arg6.view.writes (Elt F) G (ST init k).2.1) y
      = if 1024 * k0_t1.val ≤ (y 0).val ∧ (y 0).val < 1024 * k0_t1.val + 8 * k then
          tRe KK (carry KK (arg9.view.read (Elt F) X_arg9) (arg10.view.read (Elt F) X_arg10) init ((y 0).val % 1024 / 8))
            (rows8 (arg9.view.read (Elt F) X_arg9) ((y 0).val % 1024 / 8)) (rows8 (arg10.view.read (Elt F) X_arg10) ((y 0).val % 1024 / 8))
            (ix2 ⟨(y 0).val % 8, Nat.mod_lt _ (by decide)⟩ (y 1))
        else arg6.view.read (Elt F) G y := by
  induction k with
  | zero => rw [if_neg (by omega)]; rfl
  | succ k ih =>
    obtain ⟨j, rfl⟩ := tile_of hk
    rw [st_k0_t2_succ (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 init j]
    show arg6.view.read (Elt F) (arg6.view.writes (Elt F) G ((tripL_k0_t2 (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 j (ST init j.val).1).1 ++ (ST init j.val).2.1)) y = _
    rw [st_carry 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 init j.val (by omega)]
    unfold tripL_k0_t2 trip_k0_t2
    dsimp only
    unfold trip_k0_t2.sl.r
    by_cases h : 1024 * k0_t1.val + 8 * j.val ≤ (y 0).val ∧ (y 0).val < 1024 * k0_t1.val + 8 * (j.val + 1)
    · have hy : (y 0).val % 1024 / 8 = j.val := by omega
      rw [if_pos (by omega), hy]
      refine (View.read_writes_cons_rows_of_mem (o := 1024 * k0_t1.val + 8 * j.val) _ _ _ _ _ y
        (ix2 ⟨(y 0).val % 8, Nat.mod_lt _ (by decide)⟩ (y 1)) (k0_off3_eq _ _) ?_ rfl).trans ?_
      · show (y 0).val = _ + (y 0).val % 8; omega
      · rw [rows8_at, rows8_at]; rfl
    · refine (View.read_writes_cons_rows_of_not_mem (o := 1024 * k0_t1.val + 8 * j.val) (W := 8) _ _ _ _ _ y (k0_off3_eq _ _) rfl
        (by omega)).trans ?_
      refine (ih (by omega)).trans ?_
      by_cases h' : 1024 * k0_t1.val ≤ (y 0).val ∧ (y 0).val < 1024 * k0_t1.val + 8 * j.val
      · rw [if_pos h', if_pos (by omega)]
      · rw [if_neg h', if_neg (by omega)]

theorem st_im (G : BufTy.Contents (Elt F) arg7.view.ty) (init : Pair F) (k : ℕ) (hk : k ≤ 128) (y : S2048x512.Idx) :
    arg7.view.read (Elt F) (arg7.view.writes (Elt F) G (ST init k).2.2) y
      = if 1024 * k0_t1.val ≤ (y 0).val ∧ (y 0).val < 1024 * k0_t1.val + 8 * k then
          tIm KK (carry KK (arg9.view.read (Elt F) X_arg9) (arg10.view.read (Elt F) X_arg10) init ((y 0).val % 1024 / 8))
            (rows8 (arg9.view.read (Elt F) X_arg9) ((y 0).val % 1024 / 8)) (rows8 (arg10.view.read (Elt F) X_arg10) ((y 0).val % 1024 / 8))
            (ix2 ⟨(y 0).val % 8, Nat.mod_lt _ (by decide)⟩ (y 1))
        else arg7.view.read (Elt F) G y := by
  induction k with
  | zero => rw [if_neg (by omega)]; rfl
  | succ k ih =>
    obtain ⟨j, rfl⟩ := tile_of hk
    rw [st_k0_t2_succ (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 init j]
    show arg7.view.read (Elt F) (arg7.view.writes (Elt F) G ((tripL_k0_t2 (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 j (ST init j.val).1).2 ++ (ST init j.val).2.2)) y = _
    rw [st_carry 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 init j.val (by omega)]
    unfold tripL_k0_t2 trip_k0_t2
    dsimp only
    unfold trip_k0_t2.sl.r_1
    by_cases h : 1024 * k0_t1.val + 8 * j.val ≤ (y 0).val ∧ (y 0).val < 1024 * k0_t1.val + 8 * (j.val + 1)
    · have hy : (y 0).val % 1024 / 8 = j.val := by omega
      rw [if_pos (by omega), hy]
      refine (View.read_writes_cons_rows_of_mem (o := 1024 * k0_t1.val + 8 * j.val) _ _ _ _ _ y
        (ix2 ⟨(y 0).val % 8, Nat.mod_lt _ (by decide)⟩ (y 1)) (k0_off3_eq _ _) ?_ rfl).trans ?_
      · show (y 0).val = _ + (y 0).val % 8; omega
      · rw [rows8_at, rows8_at]; rfl
    · refine (View.read_writes_cons_rows_of_not_mem (o := 1024 * k0_t1.val + 8 * j.val) (W := 8) _ _ _ _ _ y (k0_off3_eq _ _) rfl
        (by omega)).trans ?_
      refine (ih (by omega)).trans ?_
      by_cases h' : 1024 * k0_t1.val ≤ (y 0).val ∧ (y 0).val < 1024 * k0_t1.val + 8 * j.val
      · rw [if_pos h', if_pos (by omega)]
      · rw [if_neg h', if_neg (by omega)]

end Tiles

end Cert.Proof.SsmScan
end
-- ==== Proof.SsmScanFrame.lean ====
module

public import proofs.«01_k».proof.Proof.Gen.SsmScanIdeal.Frame
public import proofs.«01_k».proof.Proof.Gen.SsmScanIdeal.Loops
public import proofs.«01_k».proof.Proof.SsmScanTiles
public import proofs.«01_k».proof.Proof.SsmScanTiles

@[expose] public section

set_option maxRecDepth 16384

noncomputable section

namespace Cert.Proof.SsmScan

open Cert.SsmScanIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

open Cert.SsmScanIdeal.Gen Cert.Util

/-- An array's rows before row `n`, nothing below. -/
def upTo {d : Fin 2 → ℕ} {α : Type} : ℕ → ((⟨2, d⟩ : Shape).Idx → α) → (⟨2, d⟩ : Shape).Idx → Option α
  | 0, _ => fun _ => none
  | n + 1, x => fun y => if (y (0 : Fin 2)).val < n + 1 then some (x y) else none

theorem upTo_eq {d : Fin 2 → ℕ} {α : Type} (n : ℕ) (x z : (⟨2, d⟩ : Shape).Idx → α) :
    upTo n x = upTo n z ↔ ∀ y : (⟨2, d⟩ : Shape).Idx, (y (0 : Fin 2)).val < n → x y = z y := by
  cases n with
  | zero => exact ⟨fun _ y h => absurd h (by omega), fun _ => rfl⟩
  | succ n =>
    constructor
    · intro h y hy
      have e := congrFun h y
      simp only [upTo, if_pos hy] at e
      exact Option.some.inj e
    · intro h
      funext y
      by_cases hy : (y (0 : Fin 2)).val < n + 1
      · simp only [upTo, if_pos hy, h y hy]
      · simp only [upTo, if_neg hy]

/-- A buffer's rows before row `n` hold an array's. -/
abbrev before {d : Fin 2 → ℕ} {e : EltTy} (M : Memref sig .tc .vmem (⟨2, d⟩ : Shape) e) (x : Vec F (⟨2, d⟩ : Shape) e) (n : ℕ) (f : BufTy.Contents (Elt F) M.view.ty) : Prop :=
  upTo n (M.view.read (Elt F) f) = upTo n x

theorem ck_val (k : Fin k0_t1_loop.trips) : ck k.val = k := Fin.ext (Nat.mod_eq_of_lt k.isLt)

/-- A chunk's rows as the body loads them. -/
theorem load_v (M : Memref sig .tc .vmem S2048x128 .f32) (X : BufTy.Contents (Elt F) M.view.ty) (k : Fin k0_t1_loop.trips) :
    View.readAt (Elt F) M.view (Rect.unit (s := S2048x128) (k0_off1 k) S1024x128.size (k0_off1_inb k)).toLoadRect X = vRows (M.view.read (Elt F) X) k.val := by
  have h : ∀ t, t = k → View.ld (M.view.read (Elt F) X) (Rect.unit (s := S2048x128) (k0_off1 k) S1024x128.size (k0_off1_inb k))
      = View.ld (M.view.read (Elt F) X) (Rect.unit (s := S2048x128) (k0_off1 t) S1024x128.size (k0_off1_inb t)) := by
    rintro _ rfl; rfl
  exact h _ (ck_val k)

theorem zero3 : (![0, 0, 0] : Fin 3 → ℕ) = fun _ => 0 := by decide

theorem load_w (M : Memref sig .tc .vmem S1x128x1024 .bf16) (X : BufTy.Contents (Elt F) M.view.ty) :
    View.readAt (Elt F) M.view (Rect.unit (s := S1x128x1024) ![0, 0, 0] S1x128x1024.size inb_S1x128x1024_S1x128x1024_0_0_0).toLoadRect X
      = M.view.read (Elt F) X := View.ld_unit_zero zero3 _ _

theorem load_s (M : Memref sig .tc .vmem S2048x512 .f32) (G : BufTy.Contents (Elt F) M.view.ty) (x : Vec F S2048x512 .f32) (k : Fin k0_t1_loop.trips)
    (h : before M x (1024 * (k.val + 1)) G) :
    View.readAt (Elt F) M.view (Rect.unit (s := S2048x512) (k0_off4 k) S1024x512.size (k0_off4_inb k)).toLoadRect G = sRows x k.val := by
  have h' : ∀ t, t = k → View.ld (M.view.read (Elt F) G) (Rect.unit (s := S2048x512) (k0_off4 k) S1024x512.size (k0_off4_inb k))
      = View.ld x (Rect.unit (s := S2048x512) (k0_off4 t) S1024x512.size (k0_off4_inb t)) := by
    rintro t rfl
    funext y
    refine (upTo_eq _ _ _).mp h _ ?_
    have e : k0_off4 t 0 = 1024 * t.val := by rw [k0_off4_eq]; rfl
    show (k0_off4 t 0 + 1 * (y 0).val) < _
    have : (y 0).val < 1024 := (y 0).isLt
    omega
  exact h' _ (ck_val k)

theorem chunk_re (arg1 : Memref sig .tc .vmem S2048x128 .f32) (arg2 : Memref sig .tc .vmem S1x128x1024 .bf16) (arg9 : Memref sig .tc .vmem S1024x512 .f32)
    (X1 : BufTy.Contents (Elt F) arg1.view.ty) (X2 : BufTy.Contents (Elt F) arg2.view.ty) (k : Fin k0_t1_loop.trips) :
    arg9.view.read (Elt F) (arg9.view.writes (Elt F) arg9.view.junk [⟨Rect.unit (s := S1024x512) ![0, 0] S1024x512.size inb_S1024x512_S1024x512_0_0,
      k0_pay19 (View.readAt (Elt F) arg1.view (Rect.unit (s := S2048x128) (k0_off1 k) S1024x128.size (k0_off1_inb k)).toLoadRect X1)
        (View.readAt (Elt F) arg2.view (Rect.unit (s := S1x128x1024) ![0, 0, 0] S1x128x1024.size inb_S1x128x1024_S1x128x1024_0_0_0).toLoadRect X2)⟩])
      = bRe (arg1.view.read (Elt F) X1) (arg2.view.read (Elt F) X2) k.val := by
  rw [load_v, load_w]
  funext y
  exact View.read_writes_cons_rows_of_mem (o := 0) _ _ _ _ _ y y rfl (Nat.zero_add _).symm rfl

theorem chunk_im (arg1 : Memref sig .tc .vmem S2048x128 .f32) (arg2 : Memref sig .tc .vmem S1x128x1024 .bf16) (arg10 : Memref sig .tc .vmem S1024x512 .f32)
    (X1 : BufTy.Contents (Elt F) arg1.view.ty) (X2 : BufTy.Contents (Elt F) arg2.view.ty) (k : Fin k0_t1_loop.trips) :
    arg10.view.read (Elt F) (arg10.view.writes (Elt F) arg10.view.junk [⟨Rect.unit (s := S1024x512) ![0, 0] S1024x512.size inb_S1024x512_S1024x512_0_0,
      k0_pay20 (View.readAt (Elt F) arg1.view (Rect.unit (s := S2048x128) (k0_off1 k) S1024x128.size (k0_off1_inb k)).toLoadRect X1)
        (View.readAt (Elt F) arg2.view (Rect.unit (s := S1x128x1024) ![0, 0, 0] S1x128x1024.size inb_S1x128x1024_S1x128x1024_0_0_0).toLoadRect X2)⟩])
      = bIm (arg1.view.read (Elt F) X1) (arg2.view.read (Elt F) X2) k.val := by
  rw [load_v, load_w]
  funext y
  exact View.read_writes_cons_rows_of_mem (o := 0) _ _ _ _ _ y y rfl (Nat.zero_add _).symm rfl

/-- The results' rows of a chunk. -/
theorem out_step {M5 : Memref sig .tc .vmem S1x128x1024 .bf16} {M6 M7 : Memref sig .tc .vmem S2048x512 .f32} {M8 : Memref sig .tc .vmem S2048x128 .f32}
    {X5 : BufTy.Contents (Elt F) M5.view.ty} {G6 : BufTy.Contents (Elt F) M6.view.ty} {G7 : BufTy.Contents (Elt F) M7.view.ty} {f8 : BufTy.Contents (Elt F) M8.view.ty}
    {K : Cst F} {x0 : Vec F S2048x128 .f32} {x1 : Vec F S1x128x1024 .bf16} {a : Pair F} {k : Fin k0_t1_loop.trips}
    (h8 : before M8 (yOut K x0 x1 (M5.view.read (Elt F) X5) a) (1024 * k.val) f8)
    (h6 : before M6 (stRe K x0 x1 a) (1024 * (k.val + 1)) G6) (h7 : before M7 (stIm K x0 x1 a) (1024 * (k.val + 1)) G7) :
    before M8 (yOut K x0 x1 (M5.view.read (Elt F) X5) a) (1024 * (k.val + 1)) (M8.view.writes (Elt F) f8
      [⟨Rect.unit (s := S2048x128) (k0_off1 k) S1024x128.size (k0_off1_inb k), k0_pay23
        (View.readAt (Elt F) M5.view (Rect.unit (s := S1x128x1024) ![0, 0, 0] S1x128x1024.size inb_S1x128x1024_S1x128x1024_0_0_0).toLoadRect X5)
        (View.readAt (Elt F) M6.view (Rect.unit (s := S2048x512) (k0_off4 k) S1024x512.size (k0_off4_inb k)).toLoadRect G6)
        (View.readAt (Elt F) M7.view (Rect.unit (s := S2048x512) (k0_off4 k) S1024x512.size (k0_off4_inb k)).toLoadRect G7)⟩]) := by
  rw [load_w, load_s _ _ _ _ h6, load_s _ _ _ _ h7]
  refine (upTo_eq _ _ _).mpr fun y hy => ?_
  by_cases hl : 1024 * k.val ≤ (y 0).val
  · have hc : (y 0).val / 1024 = k.val := by omega
    refine (View.read_writes_cons_rows_of_mem (o := 1024 * k.val) _ _ _ _ _ y
      (ix2 ⟨(y 0).val % 1024, Nat.mod_lt _ (by decide)⟩ (y 1)) (k0_off1_eq _) ?_ rfl).trans ?_
    · show (y 0).val = _ + (y 0).val % 1024; omega
    · unfold yOut
      dsimp only
      rw [hc]
      rfl
  · refine (View.read_writes_cons_rows_of_not_mem (o := 1024 * k.val) (W := 1024) _ _ _ _ _ y (k0_off1_eq _) rfl
        (by omega)).trans ?_
    exact (upTo_eq _ _ _).mp h8 y (by omega)

section Steps

variable {𝒱 : Variants} {c : Dev nD} {bd : Option 𝒱.V} {i : grid0.Coords} {arg1 : Memref sig .tc .vmem S2048x128 .f32} {harg1 : arg1.IsWhole} {arg2 : Memref sig .tc .vmem S1x128x1024 .bf16} {harg2 : arg2.IsWhole} {arg3 : Memref sig .tc .vmem S1x512 .f32} {harg3 : arg3.IsWhole} {arg4 : Memref sig .tc .vmem S1x512 .f32} {harg4 : arg4.IsWhole} {arg5 : Memref sig .tc .vmem S1x128x1024 .bf16} {harg5 : arg5.IsWhole} {arg6 : Memref sig .tc .vmem S2048x512 .f32} {harg6 : arg6.IsWhole} {arg7 : Memref sig .tc .vmem S2048x512 .f32} {harg7 : arg7.IsWhole} {arg8 : Memref sig .tc .vmem S2048x128 .f32} {harg8 : arg8.IsWhole} {arg9 : Memref sig .tc .vmem S1024x512 .f32} {harg9 : arg9.IsWhole} {arg10 : Memref sig .tc .vmem S1024x512 .f32} {harg10 : arg10.IsWhole} {v125 : FVec F S8x512 .f32} {v130 : FVec F S8x512 .f32} {v136 : FVec F S8x512 .f32} {v140 : FVec F S8x512 .f32} {v146 : FVec F S8x512 .f32} {v150 : FVec F S8x512 .f32} {v156 : FVec F S8x512 .f32} {v160 : FVec F S8x512 .f32} {c0_i32 : BitVec 32} {c1_i32_24 : BitVec 32} {k0_t1 : Fin k0_t1_loop.trips} {arg12 : FVec F S1x512 .f32} {arg13 : FVec F S1x512 .f32} {v165 : BitVec 32} {X_arg9 : BufTy.Contents (Elt F) arg9.view.ty} {X_arg10 : BufTy.Contents (Elt F) arg10.view.ty}
variable {K : Cst F} {x0 : Vec F S2048x128 .f32} {x1 : Vec F S1x128x1024 .bf16} {a : Pair F}

local notation "KK" => Cst.mk v125 v130 v136 v140 v146 v150 v156 v160
local notation "ST" => st_k0_t2 (F := F) 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 (arg12, arg13) 128

theorem carry_step (hacc : (arg12, arg13) = chunkCarry KK x0 x1 a k0_t1.val)
    (e9 : arg9.view.read (Elt F) X_arg9 = bRe x0 x1 k0_t1.val) (e10 : arg10.view.read (Elt F) X_arg10 = bIm x0 x1 k0_t1.val) :
    ((ST).1.1, (ST).1.2) = chunkCarry KK x0 x1 a (k0_t1.val + 1) := by
  show (ST).1 = _
  rw [st_carry 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 _ 128 (le_refl _), e9, e10, hacc]
  rfl

theorem re_step {f6 : BufTy.Contents (Elt F) arg6.view.ty} (hacc : (arg12, arg13) = chunkCarry KK x0 x1 a k0_t1.val)
    (h6 : before arg6 (stRe KK x0 x1 a) (1024 * k0_t1.val) f6)
    (e9 : arg9.view.read (Elt F) X_arg9 = bRe x0 x1 k0_t1.val) (e10 : arg10.view.read (Elt F) X_arg10 = bIm x0 x1 k0_t1.val) :
    before arg6 (stRe KK x0 x1 a) (1024 * (k0_t1.val + 1)) (arg6.view.writes (Elt F) f6 (ST).2.1) := by
  refine (upTo_eq _ _ _).mpr fun y hy => ?_
  refine (st_re 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 f6 _ 128 (le_refl _) y).trans ?_
  by_cases hl : 1024 * k0_t1.val ≤ (y 0).val
  · have hc : (y 0).val / 1024 = k0_t1.val := by omega
    rw [if_pos (by omega), e9, e10, hacc]
    unfold stRe
    dsimp only
    rw [hc]
  · rw [if_neg (by omega)]
    exact (upTo_eq _ _ _).mp h6 y (by omega)

theorem im_step {f7 : BufTy.Contents (Elt F) arg7.view.ty} (hacc : (arg12, arg13) = chunkCarry KK x0 x1 a k0_t1.val)
    (h7 : before arg7 (stIm KK x0 x1 a) (1024 * k0_t1.val) f7)
    (e9 : arg9.view.read (Elt F) X_arg9 = bRe x0 x1 k0_t1.val) (e10 : arg10.view.read (Elt F) X_arg10 = bIm x0 x1 k0_t1.val) :
    before arg7 (stIm KK x0 x1 a) (1024 * (k0_t1.val + 1)) (arg7.view.writes (Elt F) f7 (ST).2.2) := by
  refine (upTo_eq _ _ _).mpr fun y hy => ?_
  refine (st_im 𝒱 c bd i arg1 harg1 arg2 harg2 arg3 harg3 arg4 harg4 arg5 harg5 arg6 harg6 arg7 harg7 arg8 harg8 arg9 harg9 arg10 harg10 v125 v130 v136 v140 v146 v150 v156 v160 c0_i32 c1_i32_24 k0_t1 arg12 arg13 v165 X_arg9 X_arg10 f7 _ 128 (le_refl _) y).trans ?_
  by_cases hl : 1024 * k0_t1.val ≤ (y 0).val
  · have hc : (y 0).val / 1024 = k0_t1.val := by omega
    rw [if_pos (by omega), e9, e10, hacc]
    unfold stIm
    dsimp only
    rw [hc]
  · rw [if_neg (by omega)]
    exact (upTo_eq _ _ _).mp h7 y (by omega)

end Steps

set_option warn.classDefReducibility false in
set_option maxHeartbeats 4000000 in
@[sl_loop] def chunkLoop (𝒱 : Variants) (c : Dev nD) (bd : Option 𝒱.V) (E : Set ℕ) (i : grid0.Coords) (arg1 : Memref sig .tc .vmem S2048x128 .f32) (harg1 : arg1.IsWhole) (arg2 : Memref sig .tc .vmem S1x128x1024 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x128x1024 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x128 .f32) (harg8 : arg8.IsWhole) (arg9 : Memref sig .tc .vmem S1024x512 .f32) (harg9 : arg9.IsWhole) (arg10 : Memref sig .tc .vmem S1024x512 .f32) (harg10 : arg10.IsWhole) (v18 : FVec F S1x512 .f32) (v21 : FVec F S1x512 .f32) (v46 : IVec S8x512 32) (v125 : FVec F S8x512 .f32) (v130 : FVec F S8x512 .f32) (v136 : FVec F S8x512 .f32) (v140 : FVec F S8x512 .f32) (v142 : IVec S8x512 1) (v146 : FVec F S8x512 .f32) (v148 : FVec F S8x512 .f32) (v149 : FVec F S8x512 .f32) (init : FVec F S1x512 .f32 × FVec F S1x512 .f32) (X1 : BufTy.Contents (Elt F) arg1.view.ty) (X2 : BufTy.Contents (Elt F) arg2.view.ty) (X5 : BufTy.Contents (Elt F) arg5.view.ty) :
    Cert.SsmScanIdeal.Gen.LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 v18 v21 v46 v125 v130 v136 v140 v142 v146 v148 v149 init where
  inv := fun k acc => iprop(⌜acc = chunkCarry (Cst.mk v125 v130 v136 v140 v146 (Gen.k0_pay1 v142 v148 v149) (Gen.k0_pay3 v18 v46) (Gen.k0_pay4 v21 v46)) (arg1.view.read (Elt F) X1) (arg2.view.read (Elt F) X2) init k⌝
    ∗ (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} X5)
    ∗ (∃ f, ⌜before arg6 (stRe (Cst.mk v125 v130 v136 v140 v146 (Gen.k0_pay1 v142 v148 v149) (Gen.k0_pay3 v18 v46) (Gen.k0_pay4 v21 v46)) (arg1.view.read (Elt F) X1) (arg2.view.read (Elt F) X2) init) (1024 * k) f⌝ ∗ (arg6.view.loc (c : Thread nD τ) ↦[arg6.view.set]{fullShare} f))
    ∗ (∃ f, ⌜before arg7 (stIm (Cst.mk v125 v130 v136 v140 v146 (Gen.k0_pay1 v142 v148 v149) (Gen.k0_pay3 v18 v46) (Gen.k0_pay4 v21 v46)) (arg1.view.read (Elt F) X1) (arg2.view.read (Elt F) X2) init) (1024 * k) f⌝ ∗ (arg7.view.loc (c : Thread nD τ) ↦[arg7.view.set]{fullShare} f))
    ∗ (∃ f, ⌜before arg8 (yOut (Cst.mk v125 v130 v136 v140 v146 (Gen.k0_pay1 v142 v148 v149) (Gen.k0_pay3 v18 v46) (Gen.k0_pay4 v21 v46)) (arg1.view.read (Elt F) X1) (arg2.view.read (Elt F) X2) (arg5.view.read (Elt F) X5) init) (1024 * k) f⌝ ∗ (arg8.view.loc (c : Thread nD τ) ↦[arg8.view.set]{fullShare} f))
    ∗ (∃ f, (arg9.view.loc (c : Thread nD τ) ↦[arg9.view.set]{fullShare} f)) ∗ (∃ f, (arg10.view.loc (c : Thread nD τ) ↦[arg10.view.set]{fullShare} f)))
  step := fun k acc => by
    obtain ⟨a12, a13⟩ := acc
    unfold Gen.k0_t1_body
    iintro ⟨%hacc, H1, H2, H5, ⟨%f6, %h6, H6⟩, ⟨%f7, %h7, H7⟩, ⟨%f8, %h8, H8⟩, ⟨%f9, H9⟩, %f10, H10⟩
    sl_exec
    sl_step
    isplitr
    · ipureintro
      exact carry_step (k0_t1 := k) hacc (chunk_re arg1 arg2 arg9 X1 X2 k) (chunk_im arg1 arg2 arg10 X1 X2 k)
    isplitl [H1]; · iexact H1
    isplitl [H2]; · iexact H2
    isplitl [H5]; · iexact H5
    isplitl [H6]
    · iexists _; isplitr
      swap; · iexact H6
      ipureintro; exact re_step (k0_t1 := k) hacc h6 (chunk_re arg1 arg2 arg9 X1 X2 k) (chunk_im arg1 arg2 arg10 X1 X2 k)
    isplitl [H7]
    · iexists _; isplitr
      swap; · iexact H7
      ipureintro; exact im_step (k0_t1 := k) hacc h7 (chunk_re arg1 arg2 arg9 X1 X2 k) (chunk_im arg1 arg2 arg10 X1 X2 k)
    isplitl [H8]
    · iexists _; isplitr
      swap; · iexact H8
      ipureintro
      exact out_step h8 (re_step (k0_t1 := k) hacc h6 (chunk_re arg1 arg2 arg9 X1 X2 k) (chunk_im arg1 arg2 arg10 X1 X2 k))
        (im_step (k0_t1 := k) hacc h7 (chunk_re arg1 arg2 arg9 X1 X2 k) (chunk_im arg1 arg2 arg10 X1 X2 k))
    isplitl [H9]
    · iexists _; iexact H9
    iexists _; iexact H10

end Cert.Proof.SsmScan
end
-- ==== Proof.SsmScanRun.lean ====
module

public import proofs.«01_k».proof.Proof.Gen.SsmScanIdeal.Frame
public import proofs.«01_k».proof.Proof.SsmScanFrame
public import Idealize.ShloMosaic.Lib.Claim

@[expose] public section

set_option maxRecDepth 16384

noncomputable section

namespace Cert.Proof.SsmScan

open Cert.SsmScanIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

open Cert.SsmScanIdeal.Gen Cert.Util

/-- The masked powers of the poles the body forms from their two rows. -/
def cst (v0 v2 : Vec F S1x512 .f32) : Cst F :=
  let v46 : IVec S8x512 32 := iota .tc S8x512 32 [0] iota_S8x512_d0_w32
  let v95 := k0_pay43 (k0_pay24 v0) (k0_pay26 v0 v2) (k0_pay28 v0 v2) (k0_pay30 v0 v2) (k0_pay32 v0 v2) k0_pay40 (k0_pay41 (F := F)) 1#32
  let v100 := k0_pay44 (k0_pay25 v2) (k0_pay27 v0 v2) (k0_pay29 v0 v2) (k0_pay31 v0 v2) (k0_pay33 v0 v2) k0_pay40 (k0_pay42 (F := F))
  { pr := k0_pay45 (k0_pay34 v0 v2) (k0_pay36 v0 v2) (k0_pay38 v0 v2) k0_pay40 v95 6#32
    pi := k0_pay46 (k0_pay35 v0 v2) (k0_pay37 v0 v2) (k0_pay39 v0 v2) k0_pay40 v100
    r1 := k0_pay48 (k0_pay24 v0) v46
    i1 := k0_pay49 (k0_pay25 v2) v46
    r2 := k0_pay51 (k0_pay26 v0 v2) v46
    i2 := k0_pay1 (k0_pay50 v46) (k0_pay52 (k0_pay27 v0 v2)) (k0_pay53 (F := F))
    r4 := k0_pay3 (k0_pay30 v0 v2) v46
    i4 := k0_pay4 (k0_pay31 v0 v2) v46 }

/-- The carried state the scan starts from. -/
def start : Pair F := (k0_pay5, k0_pay5)

theorem zero2' : (![0, 0] : Fin 2 → ℕ) = fun _ => 0 := by decide

theorem load_row (M : Memref sig .tc .vmem S1x512 .f32) (h : M.IsWhole) (x : Vec F S1x512 .f32) :
    @Eq (Vec F S1x512 .f32) (View.readAt (Elt F) M.view (Rect.unit (s := S1x512) ![0, 0] S1x512.size inb_S1x512_S1x512_0_0).toLoadRect (h.unread x)) x := by
  exact (View.ld_unit_zero zero2' _ _).trans (h.read_unread _)

theorem whole_of {n : ℕ} {d : Fin 2 → ℕ} {e : EltTy} {M : Memref sig .tc .vmem (⟨2, d⟩ : Shape) e} {x z : Vec F (⟨2, d⟩ : Shape) e}
    {f : BufTy.Contents (Elt F) M.view.ty} (h : before M x n f) (hn : d 0 ≤ n) (hx : x = z) : M.view.read (Elt F) f = z := by
  funext y
  rw [← hx]
  exact (upTo_eq _ _ _).mp h y (lt_of_lt_of_le (y 0).isLt hn)

/-- The powers from the rows as the body loads them. -/
theorem cst_load (M3 M4 : Memref sig .tc .vmem S1x512 .f32) (h3 : M3.IsWhole) (h4 : M4.IsWhole) (x2 x3 : Vec F S1x512 .f32) :
    cst (View.readAt (Elt F) M3.view (Rect.unit (s := S1x512) ![0, 0] S1x512.size inb_S1x512_S1x512_0_0).toLoadRect (h3.unread x2))
      (View.readAt (Elt F) M4.view (Rect.unit (s := S1x512) ![0, 0] S1x512.size inb_S1x512_S1x512_0_0).toLoadRect (h4.unread x3)) = cst x2 x3 := by
  rw [load_row, load_row]

set_option maxHeartbeats 4000000 in
/-- One group's run: the inputs as they were, the states and the results the recursions'. -/
theorem group_run (c : Dev nD) (i : grid0.Coords) (arg1 : Memref sig .tc .vmem S2048x128 .f32) (harg1 : arg1.IsWhole) (arg2 : Memref sig .tc .vmem S1x128x1024 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x128x1024 .bf16) (harg5 : arg5.IsWhole) (arg6 : Memref sig .tc .vmem S2048x512 .f32) (harg6 : arg6.IsWhole) (arg7 : Memref sig .tc .vmem S2048x512 .f32) (harg7 : arg7.IsWhole) (arg8 : Memref sig .tc .vmem S2048x128 .f32) (harg8 : arg8.IsWhole) (arg9 : Memref sig .tc .vmem S1024x512 .f32) (harg9 : arg9.IsWhole) (arg10 : Memref sig .tc .vmem S1024x512 .f32) (harg10 : arg10.IsWhole) (x0 : Vec F S2048x128 .f32) (x1 : Vec F S1x128x1024 .bf16) (x2 x3 : Vec F S1x512 .f32) (x4 : Vec F S1x128x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (stRe (cst x2 x3) x0 x1 start) ∗ owns (c : Thread nD τ) arg7 fullShare (stIm (cst x2 x3) x0 x1 start) ∗ owns (c : Thread nD τ) arg8 fullShare (yOut (cst x2 x3) x0 x1 x4 start) ∗ (∃ d, owns (c : Thread nD τ) arg9 fullShare d) ∗ (∃ d, owns (c : Thread nD τ) arg10 fullShare d)) -∗ K ⟨⟩))
      ⊢ wp frame (wpE (defs₀ (F := F)) Variants.none c none) E (cc0_ssm_scan_fwd i arg1 harg1 arg2 harg2 arg3 harg3 arg4 harg4 arg5 harg5 arg6 harg6 arg7 harg7 arg8 harg8 arg9 harg9 arg10 harg10) K := by
  simp only [cc0_ssm_scan_fwd_eq_skeleton]; unfold cc0_ssm_scan_fwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine whole_of hL4 (by decide) ?_
    rw [harg1.read_unread, harg2.read_unread]
    exact congrArg (fun k => stRe k x0 x1 start) (cst_load arg3 arg4 harg3 harg4 x2 x3)
  isplitl [H6]
  · iexists _; isplitr
    swap; · iexact H6
    ipureintro
    refine whole_of hL6 (by decide) ?_
    rw [harg1.read_unread, harg2.read_unread]
    exact congrArg (fun k => stIm k x0 x1 start) (cst_load arg3 arg4 harg3 harg4 x2 x3)
  isplitl [H7]
  · iexists _; isplitr
    swap; · iexact H7
    ipureintro
    refine whole_of hL8 (by decide) ?_
    rw [harg1.read_unread, harg2.read_unread, harg5.read_unread]
    exact congrArg (fun k => yOut k x0 x1 x4 start) (cst_load arg3 arg4 harg3 harg4 x2 x3)
  isplitl [HS0]
  · iexists _; iexists _; isplitr
    swap; · iexact HS0
    ipureintro; rfl
  iexists _; iexists _; isplitr
  swap; · iexact HS1
  ipureintro; rfl

variable (m : (ℓ : Loc nD τ sig) → Buf (Elt F) ℓ) (ρ : Dev nD → PrngReg)

/-! ## The pipeline over the eight groups -/

/-- The recursions at point `t`'s blocks. -/
abbrev ptRe (c : Dev nD) (t : Fin cfg0.N) : Vec F S2048x512 .f32 :=
  stRe (cst (iblk m c 2 t) (iblk m c 3 t)) (iblk m c 0 t) (iblk m c 1 t) start
abbrev ptIm (c : Dev nD) (t : Fin cfg0.N) : Vec F S2048x512 .f32 :=
  stIm (cst (iblk m c 2 t) (iblk m c 3 t)) (iblk m c 0 t) (iblk m c 1 t) start
abbrev ptY (c : Dev nD) (t : Fin cfg0.N) : Vec F S2048x128 .f32 :=
  yOut (cst (iblk m c 2 t) (iblk m c 3 t)) (iblk m c 0 t) (iblk m c 1 t) (iblk m c 4 t) start

def dat (_ : Fin 1) (c : Dev nD) : Dat τ (Elt F) Unit ℕ (UR sig nD τ) ℕ cfg0 c where
  A w := V m c (Pipeline.arrRef spec0 w)
  after w t := match w with
    | ⟨5, _⟩ => ptRe m c t
    | ⟨6, _⟩ => ptIm m c t
    | ⟨7, _⟩ => ptY m c t
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q _ := fullShare
  owed _ := 0

theorem dat_A (c : Dev nD) (w : Fin cfg0.W) : (dat m 0 c).A w = V m c (Pipeline.arrRef spec0 w) := by dsimp only [dat]

theorem found (c : Dev nD) (t : Fin cfg0.N) :
    (∀ d, (dat m 0 c).before 0 t d = iblk m c 0 t) ∧ (∀ d, (dat m 0 c).before 1 t d = iblk m c 1 t) ∧ (∀ d, (dat m 0 c).before 2 t d = iblk m c 2 t)
      ∧ (∀ d, (dat m 0 c).before 3 t d = iblk m c 3 t) ∧ (∀ d, (dat m 0 c).before 4 t d = iblk m c 4 t) :=
  ⟨before0_0_of m _ (dat_A m c 0) (fun _ => by dsimp only [dat]) t, before0_1_of m _ (dat_A m c 1) (fun _ => by dsimp only [dat]) t,
    before0_2_of m _ (dat_A m c 2) (fun _ => by dsimp only [dat]) t, before0_3_of m _ (dat_A m c 3) (fun _ => by dsimp only [dat]) t,
    before0_4_of m _ (dat_A m c 4) (fun _ => by dsimp only [dat]) t⟩

abbrev stg {sp : Shape} {e : EltTy} (c : Dev nD) (M : Memref sig .tc .vmem sp e) (x : Vec F sp e) : sProp 𝕄 := owns (c : Thread nD τ) M fullShare x

/-- The invariant, with the two scratch buffers as memrefs. -/
theorem inv_eq (c : Dev nD) : (Pipeline.ΦA spec0 c : sProp 𝕄)
    = iprop(iprop((∃ d, stg c (Memref.whole cc0_scratch0 : Memref sig .tc .vmem S1024x512 .f32) d)
        ∗ (∃ d, stg c (Memref.whole cc0_scratch1 : Memref sig .tc .vmem S1024x512 .f32) d)) ∗ (∃ r, prngReg c r)) := by
  unfold Pipeline.ΦA; rw [scopedRest0_eq]; simp only [stg, owns_whole]; try rfl

def entry (c : Dev nD) (t : Fin cfg0.N) : sProp 𝕄 :=
  iprop((dat m 0 c).Φ t.castSucc ∗ (dat m 0 c).owesAt () t.castSucc
    ∗ (∃ d, stg c (win0_0.stage (cfg0.slots t 0)) ((dat m 0 c).before 0 t d)) ∗ (∃ d, stg c (win0_1.stage (cfg0.slots t 1)) ((dat m 0 c).before 1 t d))
    ∗ (∃ d, stg c (win0_2.stage (cfg0.slots t 2)) ((dat m 0 c).before 2 t d)) ∗ (∃ d, stg c (win0_3.stage (cfg0.slots t 3)) ((dat m 0 c).before 3 t d))
    ∗ (∃ d, stg c (win0_4.stage (cfg0.slots t 4)) ((dat m 0 c).before 4 t d)) ∗ (∃ d, stg c (win0_5.stage (cfg0.slots t 5)) ((dat m 0 c).before 5 t d))
    ∗ (∃ d, stg c (win0_6.stage (cfg0.slots t 6)) ((dat m 0 c).before 6 t d)) ∗ (∃ d, stg c (win0_7.stage (cfg0.slots t 7)) ((dat m 0 c).before 7 t d)))

def leave (c : Dev nD) (t : Fin cfg0.N) : sProp 𝕄 :=
  iprop((dat m 0 c).Φ t.succ ∗ (dat m 0 c).owesAt () t.succ
    ∗ stg c (win0_0.stage (cfg0.slots t 0)) ((dat m 0 c).after 0 t) ∗ stg c (win0_1.stage (cfg0.slots t 1)) ((dat m 0 c).after 1 t)
    ∗ stg c (win0_2.stage (cfg0.slots t 2)) ((dat m 0 c).after 2 t) ∗ stg c (win0_3.stage (cfg0.slots t 3)) ((dat m 0 c).after 3 t)
    ∗ stg c (win0_4.stage (cfg0.slots t 4)) ((dat m 0 c).after 4 t) ∗ stg c (win0_5.stage (cfg0.slots t 5)) ((dat m 0 c).after 5 t)
    ∗ stg c (win0_6.stage (cfg0.slots t 6)) ((dat m 0 c).after 6 t) ∗ stg c (win0_7.stage (cfg0.slots t 7)) ((dat m 0 c).after 7 t))

set_option maxHeartbeats 1000000 in
theorem point_run (c : Dev nD) (t : Fin cfg0.N) :
    entry m c t ⊢ wp frame (wpE (defs₀ (F := F)) Variants.none c none) Set.univ (bodyAt0 t) (fun _ => leave m c t) := by
  unfold entry leave bodyAt0
  obtain ⟨b0, b1, b2, b3, b4⟩ := found m c t
  simp only [b0, b1, b2, b3, b4]
  rw [show (dat m 0 c).Φ t.succ = Pipeline.ΦA spec0 c from rfl, show (dat m 0 c).owesAt () t.succ = (dat m 0 c).owesAt () t.castSucc from rfl,
    show (dat m 0 c).Φ t.castSucc = Pipeline.ΦA spec0 c from rfl, inv_eq]
  rw [show (dat m 0 c).after 0 t = iblk m c 0 t from rfl, show (dat m 0 c).after 1 t = iblk m c 1 t from rfl, show (dat m 0 c).after 2 t = iblk m c 2 t from rfl,
    show (dat m 0 c).after 3 t = iblk m c 3 t from rfl, show (dat m 0 c).after 4 t = iblk m c 4 t from rfl, show (dat m 0 c).after 5 t = ptRe m c t from rfl,
    show (dat m 0 c).after 6 t = ptIm m c t from rfl, show (dat m 0 c).after 7 t = ptY m c t from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (group_run c (grid0.coords t) _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_row (t : Fin cfg0.N) : defs₀ (F := F) .tc cfg0.body (cfg0.bodyArgs t (cfg0.slots t)) = bodyAt0 t := by
  unfold defs₀; rw [Defs.onTc_tc]

theorem every_point (c : Dev nD) : BodyObligation (dat (F := F) m 0 c) (defs₀ (F := F)) Variants.none () Set.univ := fun t => by
  rw [bigSep_W0, bigSep_W0, body_row]
  exact triple_restated (point_run m c t) rfl .rfl fun _ => .rfl

set_option backward.isDefEq.respectTransparency.types false in
theorem launch_quiet : θ_run defs (onTc (τ := τ) (main (F := F))) (s₀ m ρ) (fun r => (Pipeline.FramePost cfgs (dat m) 0 (V m)) r ∧ r.2.sem = fun _ => 0) :=
  Pipeline.θ_run_frame (Q' := _) cfgs (dat m) (0 : Fin 1) launch0 defs₀ Variants.none m ρ main
    (hbody := fun c => (every_point m c).loose) (hshare := fun c => (dat m 0 c).share_full fun _ => rfl)
    (howed := fun _ _ => rfl) (V := V m) (hmain := hmain m Variants.none) (hA := dat_A m) (hΦ := fun _ _ => rfl)

theorem launch_post : θ_run defs (onTc (τ := τ) (main (F := F))) (s₀ m ρ) (Pipeline.FramePost cfgs (dat m) 0 (V m)) :=
  (θ_run defs _ _).mono (fun _ h => h.1) (launch_quiet m ρ)

/-- The frame: the arguments as they were, no counter left raised. -/
theorem scan_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dat m) (dat_A m) (launch_post m ρ)) ((θ_run defs _ _).mono (fun _ h => h.2) (launch_quiet m ρ))

end Cert.Proof.SsmScan
end
-- ==== Proof.SsmScanReal.lean ====
/- S5's scan: a pair of extended reals that is a complex number, and a tile of eight steps of the recurrence. -/
module

public import Idealize.ShloMosaic.Init
public import Idealize.ShloMosaic.PureOps.Ideal
public import Mathlib.Data.Complex.BigOperators

@[expose] public section

noncomputable section

namespace Cert.Proof.SsmScan

/-- The two parts of a complex number, as extended reals. -/
def Cx (x y : EReal) (z : ℂ) : Prop := x = (z.re : EReal) ∧ y = (z.im : EReal)

theorem Cx.mul {a b c d : EReal} {z w : ℂ} (h : Cx a b z) (k : Cx c d w) : Cx (a * c - b * d) (a * d + b * c) (z * w) := by
  obtain ⟨rfl, rfl⟩ := h
  obtain ⟨rfl, rfl⟩ := k
  exact ⟨by rw [← EReal.coe_mul, ← EReal.coe_mul, ← EReal.coe_sub, Complex.mul_re],
    by rw [← EReal.coe_mul, ← EReal.coe_mul, ← EReal.coe_add, Complex.mul_im]⟩

theorem Cx.add {a b c d : EReal} {z w : ℂ} (h : Cx a b z) (k : Cx c d w) : Cx (a + c) (b + d) (z + w) := by
  obtain ⟨rfl, rfl⟩ := h
  obtain ⟨rfl, rfl⟩ := k
  exact ⟨by rw [← EReal.coe_add, Complex.add_re], by rw [← EReal.coe_add, Complex.add_im]⟩

theorem Cx.zero : Cx 0 0 0 := ⟨rfl, rfl⟩

/-- The recurrence: its states before each step. -/
def states (l : ℂ) (b : ℕ → ℂ) : ℕ → ℂ
  | 0 => 0
  | n + 1 => l * states l b n + b n

/-- A doubling step's factor at a row: the pole's power where the row has one `k` before it. -/
def fac (l : ℂ) (k r : ℕ) : ℂ := if k ≤ r then l ^ k else 0

/-- A doubling step over a tile's rows. -/
def dbl (l : ℂ) (k : ℕ) (x : ℕ → ℂ) (r : ℕ) : ℂ := x r + fac l k r * x ((r + (8 - k)) % 8)

/-- A tile's states from the carried one. -/
def tile (l : ℂ) (b : ℕ → ℂ) (a : ℂ) (r : ℕ) : ℂ := dbl l 4 (dbl l 2 (dbl l 1 b)) r + l ^ (r + 1) * a

theorem tile_eq (l : ℂ) (b : ℕ → ℂ) (n : ℕ) : ∀ r < 8, tile l (fun i => b (n + i)) (states l b n) r = states l b (n + r + 1) := by
  intro r hr
  interval_cases r <;> simp [tile, dbl, fac, states] <;> ring

end Cert.Proof.SsmScan

end
-- ==== Proof.SsmScanCst.lean ====
/- S5's scan, the forward call: the poles' powers and a tile of eight rows, in complex numbers. -/
module

public import proofs.«01_k».proof.Proof.SsmScanRun
public import proofs.«01_k».proof.Proof.SsmScanReal
public import Idealize.ShloMosaic.Lib.Pointwise.Sums

@[expose] public section

set_option maxRecDepth 16384

noncomputable section

namespace Cert.Proof.SsmScan

open Cert.SsmScanIdeal Cert.SsmScanIdeal.Gen Idealize.ShloMosaic Idealize.ShloMosaic.TcCoe Cert.Util

section Powers

variable (v0 v2 : Vec Ideal S1x512 .f32) (s : Fin 512) (l : ℂ)

theorem pw1 (h : Cx (v0 (ix2 0 s)) (v2 (ix2 0 s)) l) : Cx (k0_pay24 v0 (ix2 0 s)) (k0_pay25 v2 (ix2 0 s)) (l ^ 1) := by
  have e : k0_pay24 v0 (ix2 0 s) = v0 (ix2 0 s) := by pointwise [k0_pay24]
  have e' : k0_pay25 v2 (ix2 0 s) = v2 (ix2 0 s) := by pointwise [k0_pay25]
  rw [e, e', pow_one]
  exact h
theorem pw2 (h : Cx (v0 (ix2 0 s)) (v2 (ix2 0 s)) l) : Cx (k0_pay26 v0 v2 (ix2 0 s)) (k0_pay27 v0 v2 (ix2 0 s)) (l ^ 2) := by
  rw [pow_succ]
  exact (pw1 v0 v2 s l h).mul (by simpa using pw1 v0 v2 s l h)
theorem pw3 (h : Cx (v0 (ix2 0 s)) (v2 (ix2 0 s)) l) : Cx (k0_pay28 v0 v2 (ix2 0 s)) (k0_pay29 v0 v2 (ix2 0 s)) (l ^ 3) := by
  rw [pow_succ]
  exact (pw2 v0 v2 s l h).mul (by simpa using pw1 v0 v2 s l h)
theorem pw4 (h : Cx (v0 (ix2 0 s)) (v2 (ix2 0 s)) l) : Cx (k0_pay30 v0 v2 (ix2 0 s)) (k0_pay31 v0 v2 (ix2 0 s)) (l ^ 4) := by
  rw [pow_succ]
  exact (pw3 v0 v2 s l h).mul (by simpa using pw1 v0 v2 s l h)
theorem pw5 (h : Cx (v0 (ix2 0 s)) (v2 (ix2 0 s)) l) : Cx (k0_pay32 v0 v2 (ix2 0 s)) (k0_pay33 v0 v2 (ix2 0 s)) (l ^ 5) := by
  rw [pow_succ]
  exact (pw4 v0 v2 s l h).mul (by simpa using pw1 v0 v2 s l h)
theorem pw6 (h : Cx (v0 (ix2 0 s)) (v2 (ix2 0 s)) l) : Cx (k0_pay34 v0 v2 (ix2 0 s)) (k0_pay35 v0 v2 (ix2 0 s)) (l ^ 6) := by
  rw [pow_succ]
  exact (pw5 v0 v2 s l h).mul (by simpa using pw1 v0 v2 s l h)
theorem pw7 (h : Cx (v0 (ix2 0 s)) (v2 (ix2 0 s)) l) : Cx (k0_pay36 v0 v2 (ix2 0 s)) (k0_pay37 v0 v2 (ix2 0 s)) (l ^ 7) := by
  rw [pow_succ]
  exact (pw6 v0 v2 s l h).mul (by simpa using pw1 v0 v2 s l h)
theorem pw8 (h : Cx (v0 (ix2 0 s)) (v2 (ix2 0 s)) l) : Cx (k0_pay38 v0 v2 (ix2 0 s)) (k0_pay39 v0 v2 (ix2 0 s)) (l ^ 8) := by
  rw [pow_succ]
  exact (pw7 v0 v2 s l h).mul (by simpa using pw1 v0 v2 s l h)

/-- The row of an index. -/
theorem row_num (r : Fin 8) : (iota .tc S8x512 32 [0] iota_S8x512_d0_w32 : IVec S8x512 32) (ix2 r s) = BitVec.ofNat 32 r.val := by
  pointwise []

theorem ge_row (k : ℕ) (hk : k < 8) (r : Fin 8) : IntOp.cmpi .sge (BitVec.ofNat 32 r.val) (BitVec.ofNat 32 k) = if k ≤ r.val then 1#1 else 0#1 := by
  revert k r
  decide

/-- A masked factor. -/
theorem fac_of {x y : EReal} (k : ℕ) (r : Fin 8) (h : Cx x y (l ^ k)) (b : BitVec 1) (hb : b = if k ≤ r.val then 1#1 else 0#1) :
    Cx (Scalar.select b x 0) (Scalar.select b y 0) (fac l k r) := by
  subst hb
  unfold fac
  by_cases hk : k ≤ r.val
  · rw [if_pos hk, if_pos hk]; exact h
  · rw [if_neg hk, if_neg hk]; exact Cx.zero

theorem cst_1 (h : Cx (v0 (ix2 0 s)) (v2 (ix2 0 s)) l) (r : Fin 8) : Cx ((cst v0 v2).r1 (ix2 r s)) ((cst v0 v2).i1 (ix2 r s)) (fac l 1 r) := by
  have e : (cst v0 v2).r1 (ix2 r s) = Scalar.select (IntOp.cmpi .sge (BitVec.ofNat 32 r.val) (BitVec.ofNat 32 1)) (k0_pay24 v0 (ix2 0 s)) 0 := by pointwise [cst, k0_pay48, k0_pay47]
  have e' : (cst v0 v2).i1 (ix2 r s) = Scalar.select (IntOp.cmpi .sge (BitVec.ofNat 32 r.val) (BitVec.ofNat 32 1)) (k0_pay25 v2 (ix2 0 s)) 0 := by pointwise [cst, k0_pay49, k0_pay47]
  rw [e, e']
  exact fac_of l 1 r (pw1 v0 v2 s l h) _ (ge_row 1 (by decide) r)
theorem cst_2 (h : Cx (v0 (ix2 0 s)) (v2 (ix2 0 s)) l) (r : Fin 8) : Cx ((cst v0 v2).r2 (ix2 r s)) ((cst v0 v2).i2 (ix2 r s)) (fac l 2 r) := by
  have e : (cst v0 v2).r2 (ix2 r s) = Scalar.select (IntOp.cmpi .sge (BitVec.ofNat 32 r.val) (BitVec.ofNat 32 2)) (k0_pay26 v0 v2 (ix2 0 s)) 0 := by pointwise [cst, k0_pay51, k0_pay50]
  have e' : (cst v0 v2).i2 (ix2 r s) = Scalar.select (IntOp.cmpi .sge (BitVec.ofNat 32 r.val) (BitVec.ofNat 32 2)) (k0_pay27 v0 v2 (ix2 0 s)) 0 := by pointwise [cst, k0_pay1, k0_pay52, k0_pay53, k0_pay50]
  rw [e, e']
  exact fac_of l 2 r (pw2 v0 v2 s l h) _ (ge_row 2 (by decide) r)
theorem cst_4 (h : Cx (v0 (ix2 0 s)) (v2 (ix2 0 s)) l) (r : Fin 8) : Cx ((cst v0 v2).r4 (ix2 r s)) ((cst v0 v2).i4 (ix2 r s)) (fac l 4 r) := by
  have e : (cst v0 v2).r4 (ix2 r s) = Scalar.select (IntOp.cmpi .sge (BitVec.ofNat 32 r.val) (BitVec.ofNat 32 4)) (k0_pay30 v0 v2 (ix2 0 s)) 0 := by pointwise [cst, k0_pay3, k0_pay2]
  have e' : (cst v0 v2).i4 (ix2 r s) = Scalar.select (IntOp.cmpi .sge (BitVec.ofNat 32 r.val) (BitVec.ofNat 32 4)) (k0_pay31 v0 v2 (ix2 0 s)) 0 := by pointwise [cst, k0_pay4, k0_pay2]
  rw [e, e']
  exact fac_of l 4 r (pw4 v0 v2 s l h) _ (ge_row 4 (by decide) r)

/-- A row's choice among eight. -/
def pick (w : BitVec 32) (x1 x2 x3 x4 x5 x6 x7 x8 : EReal) : EReal :=
  Scalar.select (IntOp.cmpi .eq w 8#32) x8 (Scalar.select (IntOp.cmpi .eq w 7#32) x7 (Scalar.select (IntOp.cmpi .eq w 6#32) x6
    (Scalar.select (IntOp.cmpi .eq w 5#32) x5 (Scalar.select (IntOp.cmpi .eq w 4#32) x4 (Scalar.select (IntOp.cmpi .eq w 3#32) x3
      (Scalar.select (IntOp.cmpi .eq w 2#32) x2 (Scalar.select (IntOp.cmpi .eq w 1#32) x1 0)))))))

theorem cst_p (h : Cx (v0 (ix2 0 s)) (v2 (ix2 0 s)) l) (r : Fin 8) : Cx ((cst v0 v2).pr (ix2 r s)) ((cst v0 v2).pi (ix2 r s)) (l ^ (r.val + 1)) := by
  have e : (cst v0 v2).pr (ix2 r s) = pick (IntOp.addi (BitVec.ofNat 32 r.val) 1#32) (k0_pay24 v0 (ix2 0 s)) (k0_pay26 v0 v2 (ix2 0 s)) (k0_pay28 v0 v2 (ix2 0 s)) (k0_pay30 v0 v2 (ix2 0 s))
      (k0_pay32 v0 v2 (ix2 0 s)) (k0_pay34 v0 v2 (ix2 0 s)) (k0_pay36 v0 v2 (ix2 0 s)) (k0_pay38 v0 v2 (ix2 0 s)) := by
    unfold pick
    pointwise [cst, k0_pay45, k0_pay43, k0_pay40, k0_pay41]
  have e' : (cst v0 v2).pi (ix2 r s) = pick (IntOp.addi (BitVec.ofNat 32 r.val) 1#32) (k0_pay25 v2 (ix2 0 s)) (k0_pay27 v0 v2 (ix2 0 s)) (k0_pay29 v0 v2 (ix2 0 s)) (k0_pay31 v0 v2 (ix2 0 s))
      (k0_pay33 v0 v2 (ix2 0 s)) (k0_pay35 v0 v2 (ix2 0 s)) (k0_pay37 v0 v2 (ix2 0 s)) (k0_pay39 v0 v2 (ix2 0 s)) := by
    unfold pick
    pointwise [cst, k0_pay46, k0_pay44, k0_pay40, k0_pay42]
  rw [e, e']
  fin_cases r
  · exact pw1 v0 v2 s l h
  · exact pw2 v0 v2 s l h
  · exact pw3 v0 v2 s l h
  · exact pw4 v0 v2 s l h
  · exact pw5 v0 v2 s l h
  · exact pw6 v0 v2 s l h
  · exact pw7 v0 v2 s l h
  · exact pw8 v0 v2 s l h

end Powers

/-! ## A tile -/

section Tile

variable (v0 v2 : Vec Ideal S1x512 .f32) (s : Fin 512) (l : ℂ)

/-- A doubling step's rotation of a tile. -/
theorem rot_at (k : ℕ) (hk : k < 8) (x : FVec Ideal S8x512 .f32) (r : Fin 8) :
    dynamicRotate 0 (BitVec.ofNat 32 k) none x rotates_S8x512_d0 (ix2 r s) = x (ix2 ⟨(r.val + (8 - k)) % 8, Nat.mod_lt _ (by decide)⟩ s) := by
  interval_cases k <;> fin_cases r <;> pointwise []

variable {b : ℕ → ℂ} {br bi : Vec Ideal S8x512 .f32}

theorem dbl_1 (h : Cx (v0 (ix2 0 s)) (v2 (ix2 0 s)) l) (hb : ∀ r : Fin 8, Cx (br (ix2 r s)) (bi (ix2 r s)) (b r.val)) (r : Fin 8) :
    Cx (k0_pay8 (cst v0 v2).r1 (cst v0 v2).i1 br bi (ix2 r s)) (k0_pay9 (cst v0 v2).r1 (cst v0 v2).i1 br bi (ix2 r s)) (dbl l 1 b r.val) := by
  have q := (hb r).add ((cst_1 v0 v2 s l h r).mul (hb ⟨(r.val + (8 - 1)) % 8, Nat.mod_lt _ (by decide)⟩))
  rw [← rot_at s 1 (by decide) br, ← rot_at s 1 (by decide) bi] at q
  exact q
theorem dbl_2 (h : Cx (v0 (ix2 0 s)) (v2 (ix2 0 s)) l) (hb : ∀ r : Fin 8, Cx (br (ix2 r s)) (bi (ix2 r s)) (b r.val)) (r : Fin 8) :
    Cx (k0_pay12 (cst v0 v2).r1 (cst v0 v2).i1 (cst v0 v2).r2 (cst v0 v2).i2 br bi (ix2 r s)) (k0_pay13 (cst v0 v2).r1 (cst v0 v2).i1 (cst v0 v2).r2 (cst v0 v2).i2 br bi (ix2 r s)) (dbl l 2 (dbl l 1 b) r.val) := by
  have q := (dbl_1 v0 v2 s l h hb r).add ((cst_2 v0 v2 s l h r).mul (dbl_1 v0 v2 s l h hb ⟨(r.val + (8 - 2)) % 8, Nat.mod_lt _ (by decide)⟩))
  rw [← rot_at s 2 (by decide) (k0_pay8 _ _ br bi), ← rot_at s 2 (by decide) (k0_pay9 _ _ br bi)] at q
  exact q
theorem tile_at (h : Cx (v0 (ix2 0 s)) (v2 (ix2 0 s)) l) (hb : ∀ r : Fin 8, Cx (br (ix2 r s)) (bi (ix2 r s)) (b r.val))
    {a : Pair Ideal} {z : ℂ} (ha : Cx (a.1 (ix2 0 s)) (a.2 (ix2 0 s)) z) (r : Fin 8) :
    Cx (tRe (cst v0 v2) a br bi (ix2 r s)) (tIm (cst v0 v2) a br bi (ix2 r s)) (tile l b z r.val) := by
  have q := ((dbl_2 v0 v2 s l h hb r).add ((cst_4 v0 v2 s l h r).mul (dbl_2 v0 v2 s l h hb ⟨(r.val + (8 - 4)) % 8, Nat.mod_lt _ (by decide)⟩))).add ((cst_p v0 v2 s l h r).mul ha)
  rw [← rot_at s 4 (by decide) (k0_pay12 _ _ _ _ br bi), ← rot_at s 4 (by decide) (k0_pay13 _ _ _ _ br bi)] at q
  have e1 : broadcastTo S8x512 a.1 broadcasts_S1x512_S8x512 (ix2 r s) = a.1 (ix2 0 s) := by pointwise []
  have e2 : broadcastTo S8x512 a.2 broadcasts_S1x512_S8x512 (ix2 r s) = a.2 (ix2 0 s) := by pointwise []
  rw [← e1, ← e2] at q
  exact q

end Tile

end Cert.Proof.SsmScan

end
-- ==== Proof.SsmScanPoint.lean ====
/- S5's scan, the forward call: what one of the eight blocks of poles computes from real blocks, in complex numbers. -/
module

public import proofs.«01_k».proof.Proof.SsmScanCst

@[expose] public section

set_option maxRecDepth 16384

noncomputable section

namespace Cert.Proof.SsmScan

open Cert.SsmScanIdeal Cert.SsmScanIdeal.Gen Idealize.ShloMosaic Idealize.ShloMosaic.TcCoe Cert.Util

theorem Cx.sum {ι : Type} (s : Finset ι) {f g : ι → EReal} {z : ι → ℂ} (h : ∀ i, Cx (f i) (g i) (z i)) :
    Cx (∑ i ∈ s, f i) (∑ i ∈ s, g i) (∑ i ∈ s, z i) := by
  classical
  induction s using Finset.induction_on with
  | empty => exact Cx.zero
  | insert a s ha ih => rw [Finset.sum_insert ha, Finset.sum_insert ha, Finset.sum_insert ha]; exact (h a).add ih

theorem Cx.real_mul {x y : EReal} {z : ℂ} (a : ℝ) (h : Cx x y z) : Cx ((a : EReal) * x) ((a : EReal) * y) ((a : ℂ) * z) := by
  obtain ⟨rfl, rfl⟩ := h
  exact ⟨by rw [← EReal.coe_mul, Complex.re_ofReal_mul], by rw [← EReal.coe_mul, Complex.im_ofReal_mul]⟩

/-- A sum over `A` groups of `N` terms of which one group's is not zero. -/
theorem own_sum {R : Type} [AddCommMonoid R] {A N M : ℕ} (hM : A * N = M) (hN : 0 < N) (h : ℕ) (hh : h < A) (f : ℕ → R) :
    ∑ j : Fin M, (if j.val / N = h then f j.val else 0) = ∑ n : Fin N, f (N * h + n.val) := by
  subst hM
  rw [← finProdFinEquiv.sum_comp, Fintype.sum_prod_type, Finset.sum_eq_single (⟨h, hh⟩ : Fin A)]
  · refine Finset.sum_congr rfl fun n _ => ?_
    have e : (finProdFinEquiv ((⟨h, hh⟩ : Fin A), n)).val = N * h + n.val := (finProdFinEquiv_apply_val (⟨h, hh⟩, n)).trans (Nat.add_comm _ _)
    rw [e, if_pos]
    rw [Nat.mul_add_div hN, Nat.div_eq_of_lt n.isLt, Nat.add_zero]
  · intro a _ ha
    refine Finset.sum_eq_zero fun n _ => if_neg ?_
    rw [finProdFinEquiv_apply_val, Nat.add_mul_div_left _ _ hN, Nat.div_eq_of_lt n.isLt, Nat.zero_add]
    exact fun e => ha (Fin.ext e)
  · intro h'; exact absurd (Finset.mem_univ _) h'

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Point

variable (l : ℕ → ℂ) (U : ℕ → ℕ → ℝ) (B C : ℕ → ℕ → ℂ)

/-- A state's input at a time, its states, and a result. -/
def inp (s t : ℕ) : ℂ := ∑ n : Fin 16, (U t (16 * (s / 64) + n.val) : ℂ) * B s n.val
def st (s t : ℕ) : ℂ := states (l s) (inp U B s) t
def res (j t : ℕ) : ℝ := (∑ p : Fin 64, st l U B (64 * (j / 16) + p.val) (t + 1) * C j p.val).re

variable {x0 : Vec Ideal S2048x128 .f32} {x1 x4 : Vec Ideal S1x128x1024 .bf16} {x2 x3 : Vec Ideal S1x512 .f32}

theorem rows_at (c : ℕ) (hc : c < 2) (r : Fin 1024) (j : Fin 128) : vRows x0 c (ix2 r j) = x0 (ix2 ⟨1024 * c + r.val, by omega⟩ j) := by
  show x0 _ = _
  congr 1
  have e : k0_off1 (ck c) 0 = 1024 * (c % 2) := by rw [k0_off1_eq]; rfl
  have e' : k0_off1 (ck c) 1 = 0 := by rw [k0_off1_eq]; rfl
  apply idx2_ext
  · show k0_off1 (ck c) 0 + 1 * r.val = _
    rw [e, Nat.mod_eq_of_lt hc, Nat.one_mul]; rfl
  · show k0_off1 (ck c) 1 + 1 * j.val = _
    rw [e', Nat.zero_add, Nat.one_mul]; rfl

theorem b_at (h0 : ∀ t j, x0 (ix2 t j) = (U t.val j.val : EReal))
    (h1 : ∀ (j : Fin 128) (s : Fin 512), Cx (x1 (ix3 0 j ⟨s.val, by omega⟩)) (x1 (ix3 0 j ⟨512 + s.val, by omega⟩)) (if j.val / 16 = s.val / 64 then B s.val (j.val % 16) else 0))
    (c : ℕ) (hc : c < 2) (r : Fin 1024) (s : Fin 512) : Cx (bRe x0 x1 c (ix2 r s)) (bIm x0 x1 c (ix2 r s)) (inp U B s.val (1024 * c + r.val)) := by
  have e : bRe x0 x1 c (ix2 r s) = ∑ j : Fin 128, vRows x0 c (ix2 r j) * x1 (ix3 0 j ⟨s.val, by omega⟩) := by
    unfold bRe
    pointwise [k0_pay19, k0_pay18]
  have e' : bIm x0 x1 c (ix2 r s) = ∑ j : Fin 128, vRows x0 c (ix2 r j) * x1 (ix3 0 j ⟨512 + s.val, by omega⟩) := by
    unfold bIm
    pointwise [k0_pay20, k0_pay18]
  rw [e, e']
  have q := Cx.sum Finset.univ (fun j : Fin 128 => (h1 j s).real_mul (U (1024 * c + r.val) j.val))
  have z : ∀ j : Fin 128, vRows x0 c (ix2 r j) = (U (1024 * c + r.val) j.val : EReal) := fun j => (rows_at c hc r j).trans (h0 _ _)
  simp only [z]
  convert q using 1
  unfold inp
  have w := own_sum (R := ℂ) (A := 8) (N := 16) (M := 128) rfl (by decide) (s.val / 64) (by omega) (fun j => (U (1024 * c + r.val) j : ℂ) * B s.val (j % 16))
  simp only [mul_ite, mul_zero]
  rw [w]
  refine Finset.sum_congr rfl fun n _ => ?_
  rw [Nat.mul_add_mod, Nat.mod_eq_of_lt n.isLt]

theorem rows8_row (b : Vec Ideal S1024x512 .f32) (i : ℕ) (hi : i < 128) (r : Fin 8) (s : Fin 512) :
    rows8 b i (ix2 r s) = b (ix2 ⟨8 * i + r.val, by omega⟩ s) := by
  show b _ = _
  congr 1
  have e : k0_off2 (tl i) 0 = 8 * (i % 128) := by rw [k0_off2_eq]; rfl
  have e' : k0_off2 (tl i) 1 = 0 := by rw [k0_off2_eq]; rfl
  apply idx2_ext
  · show k0_off2 (tl i) 0 + 1 * r.val = _
    rw [e, Nat.mod_eq_of_lt hi, Nat.one_mul]; rfl
  · show k0_off2 (tl i) 1 + 1 * s.val = _
    rw [e', Nat.zero_add, Nat.one_mul]; rfl

theorem sRows_at (x : Vec Ideal S2048x512 .f32) (c : ℕ) (hc : c < 2) (r : Fin 1024) (s : Fin 512) :
    sRows x c (ix2 r s) = x (ix2 ⟨1024 * c + r.val, by omega⟩ s) := by
  show x _ = _
  congr 1
  have e : k0_off4 (ck c) 0 = 1024 * (c % 2) := by rw [k0_off4_eq]; rfl
  have e' : k0_off4 (ck c) 1 = 0 := by rw [k0_off4_eq]; rfl
  apply idx2_ext
  · show k0_off4 (ck c) 0 + 1 * r.val = _
    rw [e, Nat.mod_eq_of_lt hc, Nat.one_mul]; rfl
  · show k0_off4 (ck c) 1 + 1 * s.val = _
    rw [e', Nat.zero_add, Nat.one_mul]; rfl

/-- The state a tile hands to the next one is that of its last row. -/
theorem last_re (x : FVec Ideal S8x512 .f32) (s : Fin 512) : k0_pay21 x (ix2 0 s) = x (ix2 7 s) := by
  pointwise [k0_pay21]
theorem last_im (x : FVec Ideal S8x512 .f32) (s : Fin 512) : k0_pay22 x (ix2 0 s) = x (ix2 7 s) := by
  pointwise [k0_pay22]

/-- One tile, from rows that hold the inputs of eight times. -/
theorem tile_states (s : Fin 512) {z : ℂ} (h : Cx (x2 (ix2 0 s)) (x3 (ix2 0 s)) z) (b : ℕ → ℂ) (n i : ℕ) (hi : i < 128) {b9 b10 : Vec Ideal S1024x512 .f32}
    (hb : ∀ r : Fin 1024, Cx (b9 (ix2 r s)) (b10 (ix2 r s)) (b (n + r.val))) {a : Pair Ideal} (ha : Cx (a.1 (ix2 0 s)) (a.2 (ix2 0 s)) (states z b (n + 8 * i))) (r : Fin 8) :
    Cx (tRe (cst x2 x3) a (rows8 b9 i) (rows8 b10 i) (ix2 r s)) (tIm (cst x2 x3) a (rows8 b9 i) (rows8 b10 i) (ix2 r s)) (states z b (n + 8 * i + r.val + 1)) := by
  rw [← tile_eq z b (n + 8 * i) r.val r.isLt]
  refine tile_at (b := fun j => b (n + 8 * i + j)) x2 x3 s z h (fun q => ?_) ha r
  rw [rows8_row _ _ hi, rows8_row _ _ hi, Nat.add_assoc]
  exact hb _

theorem carry_states (s : Fin 512) {z : ℂ} (h : Cx (x2 (ix2 0 s)) (x3 (ix2 0 s)) z) (b : ℕ → ℂ) (n : ℕ) {b9 b10 : Vec Ideal S1024x512 .f32}
    (hb : ∀ r : Fin 1024, Cx (b9 (ix2 r s)) (b10 (ix2 r s)) (b (n + r.val))) {a : Pair Ideal} (ha : Cx (a.1 (ix2 0 s)) (a.2 (ix2 0 s)) (states z b n)) :
    ∀ i ≤ 128, Cx ((carry (cst x2 x3) b9 b10 a i).1 (ix2 0 s)) ((carry (cst x2 x3) b9 b10 a i).2 (ix2 0 s)) (states z b (n + 8 * i))
  | 0, _ => ha
  | i + 1, hi => by
    have q := tile_states s h b n i (by omega) hb (carry_states s h b n hb ha i (by omega)) 7
    rw [carry]
    dsimp only
    rw [last_re, last_im]
    exact q

theorem chunk_states (h0 : ∀ t j, x0 (ix2 t j) = (U t.val j.val : EReal))
    (h1 : ∀ (j : Fin 128) (s : Fin 512), Cx (x1 (ix3 0 j ⟨s.val, by omega⟩)) (x1 (ix3 0 j ⟨512 + s.val, by omega⟩)) (if j.val / 16 = s.val / 64 then B s.val (j.val % 16) else 0))
    (h2 : ∀ s : Fin 512, Cx (x2 (ix2 0 s)) (x3 (ix2 0 s)) (l s.val)) (s : Fin 512) :
    ∀ c ≤ 2, Cx ((chunkCarry (cst x2 x3) x0 x1 start c).1 (ix2 0 s)) ((chunkCarry (cst x2 x3) x0 x1 start c).2 (ix2 0 s)) (st l U B s.val (1024 * c))
  | 0, _ => by
    have e : k0_pay5 (F := Ideal) (ix2 0 s) = 0 := by pointwise [k0_pay5]
    show Cx (k0_pay5 (F := Ideal) (ix2 0 s)) (k0_pay5 (F := Ideal) (ix2 0 s)) 0
    rw [e]; exact Cx.zero
  | c + 1, hc =>
    carry_states s (h2 s) (inp U B s.val) (1024 * c) (fun r => b_at U B h0 h1 c (by omega) r s) (chunk_states h0 h1 h2 s c (by omega)) 128 (le_refl _)

/-- A block's states are the recurrence's. -/
theorem st_at (h0 : ∀ t j, x0 (ix2 t j) = (U t.val j.val : EReal))
    (h1 : ∀ (j : Fin 128) (s : Fin 512), Cx (x1 (ix3 0 j ⟨s.val, by omega⟩)) (x1 (ix3 0 j ⟨512 + s.val, by omega⟩)) (if j.val / 16 = s.val / 64 then B s.val (j.val % 16) else 0))
    (h2 : ∀ s : Fin 512, Cx (x2 (ix2 0 s)) (x3 (ix2 0 s)) (l s.val)) (t : Fin 2048) (s : Fin 512) :
    Cx (stRe (cst x2 x3) x0 x1 start (ix2 t s)) (stIm (cst x2 x3) x0 x1 start (ix2 t s)) (st l U B s.val (t.val + 1)) := by
  have hc : t.val / 1024 < 2 := by omega
  have q := tile_states s (h2 s) (inp U B s.val) (1024 * (t.val / 1024)) (t.val % 1024 / 8) (by omega)
    (fun r => b_at U B h0 h1 (t.val / 1024) hc r s)
    (carry_states s (h2 s) (inp U B s.val) (1024 * (t.val / 1024)) (fun r => b_at U B h0 h1 _ hc r s) (chunk_states l U B h0 h1 h2 s _ (by omega)) (t.val % 1024 / 8) (by omega))
    ⟨t.val % 8, Nat.mod_lt _ (by decide)⟩
  have e : 1024 * (t.val / 1024) + 8 * (t.val % 1024 / 8) + t.val % 8 + 1 = t.val + 1 := by omega
  rw [show st l U B s.val (t.val + 1) = states (l s.val) (inp U B s.val) (1024 * (t.val / 1024) + 8 * (t.val % 1024 / 8) + t.val % 8 + 1) by rw [e]; rfl]
  exact q

/-- A block's results: each column adds up its head's states. -/
theorem y_at (h0 : ∀ t j, x0 (ix2 t j) = (U t.val j.val : EReal))
    (h1 : ∀ (j : Fin 128) (s : Fin 512), Cx (x1 (ix3 0 j ⟨s.val, by omega⟩)) (x1 (ix3 0 j ⟨512 + s.val, by omega⟩)) (if j.val / 16 = s.val / 64 then B s.val (j.val % 16) else 0))
    (h2 : ∀ s : Fin 512, Cx (x2 (ix2 0 s)) (x3 (ix2 0 s)) (l s.val))
    (h4 : ∀ (j : Fin 128) (s : Fin 512), x4 (ix3 0 j ⟨s.val, by omega⟩) = ((if s.val / 64 = j.val / 16 then (C j.val (s.val % 64)).re else 0 : ℝ) : EReal))
    (h4' : ∀ (j : Fin 128) (s : Fin 512), x4 (ix3 0 j ⟨512 + s.val, by omega⟩) = ((if s.val / 64 = j.val / 16 then -(C j.val (s.val % 64)).im else 0 : ℝ) : EReal))
    (t : Fin 2048) (j : Fin 128) : yOut (cst x2 x3) x0 x1 x4 start (ix2 t j) = (res l U B C j.val t.val : EReal) := by
  have hc : t.val / 1024 < 2 := by omega
  show k0_pay23 x4 (sRows (stRe (cst x2 x3) x0 x1 start) (t.val / 1024)) (sRows (stIm (cst x2 x3) x0 x1 start) (t.val / 1024)) (ix2 ⟨t.val % 1024, _⟩ j) = _
  have e : ∀ (a b : Vec Ideal S1024x512 .f32) (r : Fin 1024), k0_pay23 x4 a b (ix2 r j)
      = (∑ s : Fin 512, a (ix2 r s) * x4 (ix3 0 j ⟨s.val, by omega⟩) : EReal) + ∑ s : Fin 512, b (ix2 r s) * x4 (ix3 0 j ⟨512 + s.val, by omega⟩) := by
    intro a b r
    pointwise [k0_pay23]
  have ht : (⟨1024 * (t.val / 1024) + t.val % 1024, by omega⟩ : Fin 2048) = t := Fin.ext (Nat.div_add_mod _ _)
  have q : ∀ s : Fin 512, _ := fun s => st_at l U B h0 h1 h2 t s
  rw [e]
  simp only [sRows_at _ _ hc, ht, (q _).1, (q _).2, h4, h4', ← EReal.coe_mul]
  rw [← coe_sum, ← coe_sum, ← EReal.coe_add]
  congr 1
  simp only [mul_ite, mul_zero]
  have w := own_sum (R := ℝ) (A := 8) (N := 64) (M := 512) rfl (by decide) (j.val / 16) (by omega) (fun s => (st l U B s (t.val + 1)).re * (C j.val (s % 64)).re)
  have w' := own_sum (R := ℝ) (A := 8) (N := 64) (M := 512) rfl (by decide) (j.val / 16) (by omega) (fun s => (st l U B s (t.val + 1)).im * -(C j.val (s % 64)).im)
  rw [w, w', ← Finset.sum_add_distrib, res, Complex.re_sum]
  refine Finset.sum_congr rfl fun n _ => ?_
  rw [Nat.mul_add_mod, Nat.mod_eq_of_lt n.isLt, Complex.mul_re]
  ring

end Point

end Cert.Proof.SsmScan

end
-- ==== Proof.SsmScanHost.lean ====
/- S5's scan, the forward call: the matrices the host packs for the kernel, entry by entry. -/
module

public import proofs.«01_k».proof.Proof.SsmScanCst

@[expose] public section

set_option maxRecDepth 16384

noncomputable section

namespace Cert.Proof.SsmScan

open Cert.SsmScanIdeal Cert.SsmScanIdeal.Gen Idealize.ShloMosaic Idealize.ShloMosaic.TcCoe Cert.Util Idealize.ShloMosaic.WordCmp
open Idealize.SL.Sem

variable (m : (ℓ : Loc nD τ sig) → Buf (Elt Ideal) ℓ) (c : Dev nD)

/-- The arguments. -/
abbrev aU : FVec Ideal S2048x1024 .f32 := m ((c.tc : Thread nD τ).loc main_arg0)
abbrev aLr : FVec Ideal S64x64 .f32 := m ((c.tc : Thread nD τ).loc main_arg1)
abbrev aLi : FVec Ideal S64x64 .f32 := m ((c.tc : Thread nD τ).loc main_arg2)
abbrev aBr : FVec Ideal S64x64x16 .f32 := m ((c.tc : Thread nD τ).loc main_arg3)
abbrev aBi : FVec Ideal S64x64x16 .f32 := m ((c.tc : Thread nD τ).loc main_arg4)
abbrev aCr : FVec Ideal S64x16x64 .f32 := m ((c.tc : Thread nD τ).loc main_arg5)
abbrev aCi : FVec Ideal S64x16x64 .f32 := m ((c.tc : Thread nD τ).loc main_arg6)

/-- The unit matrix's entries. -/
theorem eye_at (a b : ℕ) (ha : a < 8) (hb : b < 8) (x : EReal) :
    x * FloatOps.uitofp (F := Ideal) .f32 (IntOp.cmpi .eq (IntOp.addi (BitVec.ofNat 32 a) 0#32) (BitVec.ofNat 32 b)) = if a = b then x else 0 := by
  rw [show IntOp.addi (BitVec.ofNat 32 a) 0#32 = BitVec.ofNat 32 a from BitVec.add_zero _]
  by_cases h : a = b
  · rw [if_pos h, h, (cmpi_eq_ofNat_eq_one_iff (w := 32) (by omega) (by omega)).2 rfl]
    simp [FloatOps.uitofp]
  · rw [if_neg h, (cmpi_eq_ofNat_eq_zero_iff (w := 32) (by omega) (by omega)).2 h]
    simp [FloatOps.uitofp]

theorem host_lr (k : Fin 4096) : (V m c main_v45 : FVec Ideal S1x4096 .f32) (ix2 0 k) = aLr m c (ix2 ⟨k.val / 64, by omega⟩ ⟨k.val % 64, by omega⟩) := by
  show StableHlo.after hostOps0 (fun b => m (c, b)) main_v45 _ = _
  after_results_simp
  pointwise []
theorem host_li (k : Fin 4096) : (V m c main_v46 : FVec Ideal S1x4096 .f32) (ix2 0 k) = aLi m c (ix2 ⟨k.val / 64, by omega⟩ ⟨k.val % 64, by omega⟩) := by
  show StableHlo.after hostOps0 (fun b => m (c, b)) main_v46 _ = _
  after_results_simp
  pointwise []

set_option maxHeartbeats 1000000 in
theorem host_wb_re (T : Fin 8) (j : Fin 128) (s : Fin 512) : (V m c main_v22 : FVec Ideal S8x128x1024 .bf16) (ix3 T j ⟨s.val, by omega⟩)
    = if j.val / 16 = s.val / 64 then aBr m c (ix3 ⟨T.val * 8 + j.val / 16, by omega⟩ ⟨s.val % 64, by omega⟩ ⟨j.val % 16, by omega⟩) else 0 := by
  show StableHlo.after hostOps0 (fun b => m (c, b)) main_v22 _ = _
  after_results_simp
  rw [← eye_at _ _ (by omega) (by omega)]
  pointwise []
  after_results_simp
  pointwise []

set_option maxHeartbeats 1000000 in
theorem host_wb_im (T : Fin 8) (j : Fin 128) (s : Fin 512) : (V m c main_v22 : FVec Ideal S8x128x1024 .bf16) (ix3 T j ⟨512 + s.val, by omega⟩)
    = if j.val / 16 = s.val / 64 then aBi m c (ix3 ⟨T.val * 8 + j.val / 16, by omega⟩ ⟨s.val % 64, by omega⟩ ⟨j.val % 16, by omega⟩) else 0 := by
  show StableHlo.after hostOps0 (fun b => m (c, b)) main_v22 _ = _
  after_results_simp
  rw [← eye_at _ _ (by omega) (by omega)]
  pointwise []
  after_results_simp
  pointwise []

set_option maxHeartbeats 1000000 in
theorem host_wc_re (T : Fin 8) (j : Fin 128) (s : Fin 512) : (V m c main_v44 : FVec Ideal S8x128x1024 .bf16) (ix3 T j ⟨s.val, by omega⟩)
    = if j.val / 16 = s.val / 64 then aCr m c (ix3 ⟨T.val * 8 + j.val / 16, by omega⟩ ⟨j.val % 16, by omega⟩ ⟨s.val % 64, by omega⟩) else 0 := by
  show StableHlo.after hostOps0 (fun b => m (c, b)) main_v44 _ = _
  after_results_simp
  rw [← eye_at _ _ (by omega) (by omega)]
  pointwise []
  after_results_simp
  pointwise []

set_option maxHeartbeats 1000000 in
theorem host_wc_im (T : Fin 8) (j : Fin 128) (s : Fin 512) : (V m c main_v44 : FVec Ideal S8x128x1024 .bf16) (ix3 T j ⟨512 + s.val, by omega⟩)
    = if j.val / 16 = s.val / 64 then -(aCi m c (ix3 ⟨T.val * 8 + j.val / 16, by omega⟩ ⟨j.val % 16, by omega⟩ ⟨s.val % 64, by omega⟩)) else 0 := by
  show StableHlo.after hostOps0 (fun b => m (c, b)) main_v44 _ = _
  after_results_simp
  rw [← eye_at _ _ (by omega) (by omega)]
  pointwise []
  after_results_simp
  pointwise []

end Cert.Proof.SsmScan

end
-- ==== Proof.SsmScanOut.lean ====
/- S5's scan, the forward call: the three result arrays, entry by entry, from real arguments. -/
module

public import proofs.«01_k».proof.Proof.SsmScanPoint
public import proofs.«01_k».proof.Proof.SsmScanHost
public import proofs.«01_k».proof.Proof.Rows

@[expose] public section

set_option maxRecDepth 16384

noncomputable section

namespace Cert.Proof.SsmScan

open Cert.SsmScanIdeal Cert.SsmScanIdeal.Gen Idealize.ShloMosaic Idealize.ShloMosaic.TcCoe Cert.Util
open Idealize.SL.Sem

/-- The arguments as real and complex numbers: inputs, poles, input and output matrices. -/
structure Rd where
  u : ℕ → ℕ → ℝ
  l : ℕ → ℕ → ℂ
  B : ℕ → ℕ → ℕ → ℂ
  C : ℕ → ℕ → ℕ → ℂ

namespace Rd
variable (d : Rd)
/-- A state's input, the states before each time, and the results. -/
def inp (g p t : ℕ) : ℂ := ∑ n : Fin 16, (d.u t (16 * g + n.val) : ℂ) * d.B g p n.val
def x (g p t : ℕ) : ℂ := states (d.l g p) (d.inp g p) t
def y (g n t : ℕ) : ℝ := (∑ p : Fin 64, d.x g p.val (t + 1) * d.C g n p.val).re
end Rd

/-- Arrays that hold them. -/
structure Holds (d : Rd) (x0 : FVec Ideal S2048x1024 .f32) (x1 x2 : FVec Ideal S64x64 .f32) (x3 x4 : FVec Ideal S64x64x16 .f32) (x5 x6 : FVec Ideal S64x16x64 .f32) : Prop where
  u : ∀ t j, x0 (ix2 t j) = (d.u t.val j.val : EReal)
  l : ∀ g p, Cx (x1 (ix2 g p)) (x2 (ix2 g p)) (d.l g.val p.val)
  B : ∀ g p n, Cx (x3 (ix3 g p n)) (x4 (ix3 g p n)) (d.B g.val p.val n.val)
  C : ∀ g n p, Cx (x5 (ix3 g n p)) (x6 (ix3 g n p)) (d.C g.val n.val p.val)

/-! ## One block's numbers -/

section Part
variable (d : Rd) (T : ℕ)
def pl (s : ℕ) : ℂ := d.l (T * 8 + s / 64) (s % 64)
def pU (t j : ℕ) : ℝ := d.u t (T * 128 + j)
def pB (s n : ℕ) : ℂ := d.B (T * 8 + s / 64) (s % 64) n
def pC (j p : ℕ) : ℂ := d.C (T * 8 + j / 16) (j % 16) p

theorem st_part (s t : ℕ) : st (pl d T) (pU d T) (pB d T) s t = d.x (T * 8 + s / 64) (s % 64) t := by
  have e : inp (pU d T) (pB d T) s = d.inp (T * 8 + s / 64) (s % 64) := by
    funext t
    refine Finset.sum_congr rfl fun n _ => ?_
    rw [pU, show T * 128 + (16 * (s / 64) + n.val) = 16 * (T * 8 + s / 64) + n.val by omega]; rfl
  rw [st, e]; rfl

theorem res_part (j t : ℕ) : res (pl d T) (pU d T) (pB d T) (pC d T) j t = d.y (T * 8 + j / 16) (j % 16) t := by
  rw [res, Rd.y]
  congr 1
  refine Finset.sum_congr rfl fun p _ => ?_
  rw [st_part, Nat.mul_add_mod, Nat.mod_eq_of_lt p.isLt, Nat.mul_add_div (by decide), Nat.div_eq_of_lt p.isLt, Nat.add_zero]; rfl
end Part

variable (m : (ℓ : Loc nD τ sig) → Buf (Elt Ideal) ℓ) (c : Dev nD)

theorem tlt (t : Fin cfg0.N) : t.val < 8 := t.isLt

theorem idx_at : ∀ t : Fin cfg0.N, (win0_0.index t 0 = 0 ∧ win0_0.index t 1 = t.val) ∧ (win0_1.index t 0 = t.val ∧ win0_1.index t 1 = 0 ∧ win0_1.index t 2 = 0)
    ∧ (win0_2.index t 0 = 0 ∧ win0_2.index t 1 = t.val) ∧ (win0_3.index t 0 = 0 ∧ win0_3.index t 1 = t.val)
    ∧ (win0_4.index t 0 = t.val ∧ win0_4.index t 1 = 0 ∧ win0_4.index t 2 = 0)
    ∧ (win0_5.index t 0 = 0 ∧ win0_5.index t 1 = t.val) ∧ (win0_6.index t 0 = 0 ∧ win0_6.index t 1 = t.val) ∧ (win0_7.index t 0 = 0 ∧ win0_7.index t 1 = t.val) :=
  (by decide +kernel : ∀ t : Fin grid0.N, (win0_0.index t 0 = 0 ∧ win0_0.index t 1 = t.val) ∧ (win0_1.index t 0 = t.val ∧ win0_1.index t 1 = 0 ∧ win0_1.index t 2 = 0)
    ∧ (win0_2.index t 0 = 0 ∧ win0_2.index t 1 = t.val) ∧ (win0_3.index t 0 = 0 ∧ win0_3.index t 1 = t.val)
    ∧ (win0_4.index t 0 = t.val ∧ win0_4.index t 1 = 0 ∧ win0_4.index t 2 = 0)
    ∧ (win0_5.index t 0 = 0 ∧ win0_5.index t 1 = t.val) ∧ (win0_6.index t 0 = 0 ∧ win0_6.index t 1 = t.val) ∧ (win0_7.index t 0 = 0 ∧ win0_7.index t 1 = t.val))

theorem blk0 (t : Fin cfg0.N) (r : Fin 2048) (j : Fin 128) : iblk m c 0 t (ix2 r j) = aU m c (ix2 r ⟨t.val * 128 + j.val, by have := tlt t; omega⟩) := by
  show V m c main_arg0 ((win0_0.rect t).emb (ix2 r j)) = _
  rw [V_main_arg0]
  congr 1
  apply idx2_ext
  · rw [win0_0.rect_emb_val, (idx_at t).1.1]; exact Nat.zero_add _
  · rw [win0_0.rect_emb_val, (idx_at t).1.2]; rfl
theorem blk1 (t : Fin cfg0.N) (j : Fin 128) (k : Fin 1024) : iblk m c 1 t (ix3 0 j k) = (V m c main_v22 : FVec Ideal S8x128x1024 .bf16) (ix3 ⟨t.val, tlt t⟩ j k) := by
  show V m c main_v22 ((win0_1.rect t).emb (ix3 0 j k)) = _
  congr 1
  apply idx3_ext
  · rw [win0_1.rect_emb_val, (idx_at t).2.1.1]; exact Nat.mul_one _
  · rw [win0_1.rect_emb_val, (idx_at t).2.1.2.1]; exact Nat.zero_add _
  · rw [win0_1.rect_emb_val, (idx_at t).2.1.2.2]; exact Nat.zero_add _
theorem blk2 (t : Fin cfg0.N) (s : Fin 512) : iblk m c 2 t (ix2 0 s) = (V m c main_v45 : FVec Ideal S1x4096 .f32) (ix2 0 ⟨t.val * 512 + s.val, by have := tlt t; omega⟩) := by
  show V m c main_v45 ((win0_2.rect t).emb (ix2 0 s)) = _
  congr 1
  apply idx2_ext
  · rw [win0_2.rect_emb_val, (idx_at t).2.2.1.1]; exact Nat.zero_add _
  · rw [win0_2.rect_emb_val, (idx_at t).2.2.1.2]; rfl
theorem blk3 (t : Fin cfg0.N) (s : Fin 512) : iblk m c 3 t (ix2 0 s) = (V m c main_v46 : FVec Ideal S1x4096 .f32) (ix2 0 ⟨t.val * 512 + s.val, by have := tlt t; omega⟩) := by
  show V m c main_v46 ((win0_3.rect t).emb (ix2 0 s)) = _
  congr 1
  apply idx2_ext
  · rw [win0_3.rect_emb_val, (idx_at t).2.2.2.1.1]; exact Nat.zero_add _
  · rw [win0_3.rect_emb_val, (idx_at t).2.2.2.1.2]; rfl
theorem blk4 (t : Fin cfg0.N) (j : Fin 128) (k : Fin 1024) : iblk m c 4 t (ix3 0 j k) = (V m c main_v44 : FVec Ideal S8x128x1024 .bf16) (ix3 ⟨t.val, tlt t⟩ j k) := by
  show V m c main_v44 ((win0_4.rect t).emb (ix3 0 j k)) = _
  congr 1
  apply idx3_ext
  · rw [win0_4.rect_emb_val, (idx_at t).2.2.2.2.1.1]; exact Nat.mul_one _
  · rw [win0_4.rect_emb_val, (idx_at t).2.2.2.2.1.2.1]; exact Nat.zero_add _
  · rw [win0_4.rect_emb_val, (idx_at t).2.2.2.2.1.2.2]; exact Nat.zero_add _

section Values
variable {d : Rd} (h : Holds d (aU m c) (aLr m c) (aLi m c) (aBr m c) (aBi m c) (aCr m c) (aCi m c))
include h

theorem in0 (t : Fin cfg0.N) (r : Fin 2048) (j : Fin 128) : iblk m c 0 t (ix2 r j) = (pU d t.val r.val j.val : EReal) := (blk0 m c t r j).trans (h.u _ _)

theorem in1 (t : Fin cfg0.N) (j : Fin 128) (s : Fin 512) : Cx (iblk m c 1 t (ix3 0 j ⟨s.val, by omega⟩)) (iblk m c 1 t (ix3 0 j ⟨512 + s.val, by omega⟩))
    (if j.val / 16 = s.val / 64 then pB d t.val s.val (j.val % 16) else 0) := by
  rw [blk1, blk1, host_wb_re, host_wb_im]
  by_cases e : j.val / 16 = s.val / 64
  · rw [if_pos e, if_pos e, if_pos e, pB, ← e]; exact h.B _ _ _
  · rw [if_neg e, if_neg e, if_neg e]; exact Cx.zero

theorem in2 (t : Fin cfg0.N) (s : Fin 512) : Cx (iblk m c 2 t (ix2 0 s)) (iblk m c 3 t (ix2 0 s)) (pl d t.val s.val) := by
  rw [blk2, blk3, host_lr, host_li, pl, show t.val * 8 + s.val / 64 = (t.val * 512 + s.val) / 64 by omega, show s.val % 64 = (t.val * 512 + s.val) % 64 by omega]
  exact h.l _ _

theorem in4 (t : Fin cfg0.N) (j : Fin 128) (s : Fin 512) : iblk m c 4 t (ix3 0 j ⟨s.val, by omega⟩) = ((if s.val / 64 = j.val / 16 then (pC d t.val j.val (s.val % 64)).re else 0 : ℝ) : EReal) := by
  rw [blk4, host_wc_re]
  by_cases e : j.val / 16 = s.val / 64
  · rw [if_pos e, if_pos e.symm]; exact (h.C _ _ _).1
  · rw [if_neg e, if_neg (Ne.symm e)]; rfl
theorem in4' (t : Fin cfg0.N) (j : Fin 128) (s : Fin 512) : iblk m c 4 t (ix3 0 j ⟨512 + s.val, by omega⟩) = ((if s.val / 64 = j.val / 16 then -(pC d t.val j.val (s.val % 64)).im else 0 : ℝ) : EReal) := by
  rw [blk4, host_wc_im]
  by_cases e : j.val / 16 = s.val / 64
  · rw [if_pos e, if_pos e.symm, EReal.coe_neg]; exact congrArg (fun x : EReal => -x) (h.C _ _ _).2
  · rw [if_neg e, if_neg (Ne.symm e)]; rfl

theorem pt_st (t : Fin cfg0.N) (r : Fin 2048) (s : Fin 512) : Cx (ptRe m c t (ix2 r s)) (ptIm m c t (ix2 r s)) (d.x (t.val * 8 + s.val / 64) (s.val % 64) (r.val + 1)) := by
  rw [← st_part]
  exact st_at _ _ _ (in0 m c h t) (in1 m c h t) (in2 m c h t) r s
theorem pt_y (t : Fin cfg0.N) (r : Fin 2048) (j : Fin 128) : ptY m c t (ix2 r j) = (d.y (t.val * 8 + j.val / 16) (j.val % 16) r.val : EReal) := by
  rw [← res_part]
  exact y_at _ _ _ _ (in0 m c h t) (in1 m c h t) (in2 m c h t) (in4 m c h t) (in4' m c h t) r j
end Values

/-! ## The result arrays -/

theorem inj5 : ∀ t t' : Fin cfg0.N, win0_5.index t = win0_5.index t' → t = t' :=
  (by decide +kernel : ∀ t t' : Fin grid0.N, win0_5.index t = win0_5.index t' → t = t')
theorem inj6 : ∀ t t' : Fin cfg0.N, win0_6.index t = win0_6.index t' → t = t' :=
  (by decide +kernel : ∀ t t' : Fin grid0.N, win0_6.index t = win0_6.index t' → t = t')
theorem inj7 : ∀ t t' : Fin cfg0.N, win0_7.index t = win0_7.index t' → t = t' :=
  (by decide +kernel : ∀ t t' : Fin grid0.N, win0_7.index t = win0_7.index t' → t = t')
theorem fl : ∀ t : Fin cfg0.N, win0_5.flush t = true ∧ win0_6.flush t = true ∧ win0_7.flush t = true :=
  (by decide +kernel : ∀ t : Fin grid0.N, win0_5.flush t = true ∧ win0_6.flush t = true ∧ win0_7.flush t = true)

theorem arr5 (t : Fin cfg0.N) (r : Fin 2048) (s : Fin 512) : (dat m 0 c).arrAt 5 cfg0.N (ix2 r ⟨t.val * 512 + s.val, by have := tlt t; omega⟩) = ptRe m c t (ix2 r s) := by
  have q := congrFun ((dat m 0 c).read_blk_arrAt_eq_flushed 5 (fun t t' _ _ hne => (cfg0.win 5).disjoint_blk fun h => hne (inj5 t t' h)) cfg0.N t t.isLt (fl t).1) (ix2 r s)
  refine Eq.trans ?_ q
  show _ = (dat m 0 c).arrAt 5 cfg0.N ((win0_5.rect t).emb (ix2 r s))
  congr 1
  apply idx2_ext
  · rw [win0_5.rect_emb_val, (idx_at t).2.2.2.2.2.1.1]; exact (Nat.zero_add _).symm
  · rw [win0_5.rect_emb_val, (idx_at t).2.2.2.2.2.1.2]; rfl
theorem arr6 (t : Fin cfg0.N) (r : Fin 2048) (s : Fin 512) : (dat m 0 c).arrAt 6 cfg0.N (ix2 r ⟨t.val * 512 + s.val, by have := tlt t; omega⟩) = ptIm m c t (ix2 r s) := by
  have q := congrFun ((dat m 0 c).read_blk_arrAt_eq_flushed 6 (fun t t' _ _ hne => (cfg0.win 6).disjoint_blk fun h => hne (inj6 t t' h)) cfg0.N t t.isLt (fl t).2.1) (ix2 r s)
  refine Eq.trans ?_ q
  show _ = (dat m 0 c).arrAt 6 cfg0.N ((win0_6.rect t).emb (ix2 r s))
  congr 1
  apply idx2_ext
  · rw [win0_6.rect_emb_val, (idx_at t).2.2.2.2.2.2.1.1]; exact (Nat.zero_add _).symm
  · rw [win0_6.rect_emb_val, (idx_at t).2.2.2.2.2.2.1.2]; rfl
theorem arr7 (t : Fin cfg0.N) (r : Fin 2048) (j : Fin 128) : (dat m 0 c).arrAt 7 cfg0.N (ix2 r ⟨t.val * 128 + j.val, by have := tlt t; omega⟩) = ptY m c t (ix2 r j) := by
  have q := congrFun ((dat m 0 c).read_blk_arrAt_eq_flushed 7 (fun t t' _ _ hne => (cfg0.win 7).disjoint_blk fun h => hne (inj7 t t' h)) cfg0.N t t.isLt (fl t).2.2) (ix2 r j)
  refine Eq.trans ?_ q
  show _ = (dat m 0 c).arrAt 7 cfg0.N ((win0_7.rect t).emb (ix2 r j))
  congr 1
  apply idx2_ext
  · rw [win0_7.rect_emb_val, (idx_at t).2.2.2.2.2.2.2.1]; exact (Nat.zero_add _).symm
  · rw [win0_7.rect_emb_val, (idx_at t).2.2.2.2.2.2.2.2]; rfl

section Values
variable {d : Rd} (h : Holds d (aU m c) (aLr m c) (aLi m c) (aBr m c) (aBi m c) (aCr m c) (aCi m c))
include h

theorem out_x (r : Fin 2048) (k : Fin 4096) : Cx ((dat m 0 c).arrAt 5 cfg0.N (ix2 r k)) ((dat m 0 c).arrAt 6 cfg0.N (ix2 r k)) (d.x (k.val / 64) (k.val % 64) (r.val + 1)) := by
  have q := pt_st m c h ⟨k.val / 512, by show _ < 8; omega⟩ r ⟨k.val % 512, Nat.mod_lt _ (by decide)⟩
  rw [← arr5, ← arr6] at q
  have e : (⟨k.val / 512 * 512 + k.val % 512, by omega⟩ : Fin 4096) = k := Fin.ext (Nat.div_add_mod' _ _)
  simp only [e] at q
  rw [show k.val / 512 * 8 + k.val % 512 / 64 = k.val / 64 by omega, show k.val % 512 % 64 = k.val % 64 by omega] at q
  exact q
theorem out_y (r : Fin 2048) (k : Fin 1024) : (dat m 0 c).arrAt 7 cfg0.N (ix2 r k) = (d.y (k.val / 16) (k.val % 16) r.val : EReal) := by
  have q := pt_y m c h ⟨k.val / 128, by show _ < 8; omega⟩ r ⟨k.val % 128, Nat.mod_lt _ (by decide)⟩
  rw [← arr7] at q
  have e : (⟨k.val / 128 * 128 + k.val % 128, by omega⟩ : Fin 1024) = k := Fin.ext (Nat.div_add_mod' _ _)
  simp only [e] at q
  rw [show k.val / 128 * 8 + k.val % 128 / 16 = k.val / 16 by omega, show k.val % 128 % 16 = k.val % 16 by omega] at q
  exact q
end Values

end Cert.Proof.SsmScan

end
-- ==== Proof.SsmScanRef.lean ====
/- S5's scan, the reference: what its loop over the times leaves, from real arguments. -/
module

public import proofs.«01_k».proof.Proof.SsmScanOut
public import proofs.«01_k».proof.Proof.Gen.SsmScanRefIdeal.Run
public import Idealize.ShloMosaic.Lib.WordCmp
public import Idealize.ShloMosaic.Lib.DynamicIndex

@[expose] public section

set_option maxRecDepth 16384

noncomputable section

namespace Cert.Proof.SsmScan

open Cert.SsmScanRefIdeal Cert.SsmScanRefIdeal.Gen Cert.SsmScanRefIdeal.Value Idealize.ShloMosaic Idealize.ShloMosaic.TcCoe Cert.Util
open Idealize.ShloMosaic.StableHlo
open Idealize.SL.Sem

/-- The loop's starts: the counter, then zeros. -/
abbrev starts (w : (⟨S_, .i32⟩ : BufTy).Contents (Elt Ideal)) : Fin 3 → Int :=
  fun k => (((![w, constantI S_ 32 0#32, constantI S_ 32 0#32] : Fin 3 → (⟨S_, .i32⟩ : BufTy).Contents (Elt Ideal))) k (Shape.Idx.first h_S_)).toInt

theorem starts_at (k : ℕ) (hk : k < 2048) (w : (⟨S_, .i32⟩ : BufTy).Contents (Elt Ideal)) (hw : w = fun _ => BitVec.ofNat 32 k) :
    ∀ a, starts w a = ((![k, 0, 0] : Fin 3 → ℕ) a : Int) := by
  subst hw
  intro a
  match a with
  | ⟨0, _⟩ =>
    show (BitVec.ofNat 32 k).toInt = (k : Int)
    rw [BitVec.toInt_eq_toNat_of_lt (by rw [BitVec.toNat_ofNat]; omega), BitVec.toNat_ofNat, Nat.mod_eq_of_lt (by omega)]
  | ⟨1, _⟩ => rfl
  | ⟨2, _⟩ => rfl

theorem fits (k : ℕ) (hk : k < 2048) : S2048x64x64.Slices ![k, 0, 0] S1x64x64 := by
  refine ⟨rfl, fun a => ?_⟩
  match a with
  | ⟨0, _⟩ => show k + 1 ≤ 2048; omega
  | ⟨1, _⟩ => show 0 + 64 ≤ 64; omega
  | ⟨2, _⟩ => show 0 + 64 ≤ 64; omega

theorem slice_at (k : ℕ) (hk : k < 2048) (w : (⟨S_, .i32⟩ : BufTy).Contents (Elt Ideal)) (hw : w = fun _ => BitVec.ofNat 32 k) (x : FVec Ideal S2048x64x64 .f32) (g p : Fin 64) :
    shapeCast S64x64 (Host.dynamicSlice S1x64x64 x (starts w) sliceFits_S2048x64x64_S1x64x64) shapeCasts_S1x64x64_S64x64 (ix2 g p) = x (ix3 ⟨k, hk⟩ g p) := by
  rw [Host.dynamicSlice_eq_extractStridedSlice S1x64x64 x _ ![k, 0, 0] _ (fits k hk) (starts_at k hk w hw)]
  pointwise []

theorem update_at (k : ℕ) (hk : k < 2048) (w : (⟨S_, .i32⟩ : BufTy).Contents (Elt Ideal)) (hw : w = fun _ => BitVec.ofNat 32 k) (x : FVec Ideal S2048x64x64 .f32) (v : FVec Ideal S64x64 .f32)
    (t : Fin 2048) (g p : Fin 64) :
    Host.dynamicUpdateSlice x (broadcastInDim S1x64x64 ![1, 2] bcast_S64x64_S1x64x64_1_2 v) (starts w) updateFits_S2048x64x64_S1x64x64 (ix3 t g p)
      = if t.val = k then v (ix2 g p) else x (ix3 t g p) := by
  rw [Idealize.ShloMosaic.WordCmp.dynamicUpdateSlice_eq_update x _ _ _ ![k, 0, 0] (fits k hk) (starts_at k hk w hw)]
  by_cases h : t.val = k
  · rw [if_pos h]
    subst h
    pointwise []
    rw [dif_pos (by omega)]
  · rw [if_neg h]
    pointwise []
    rw [dif_neg (by omega)]

variable (m : (ℓ : Loc nD τ sig) → Buf (Elt Ideal) ℓ) (c : Dev nD)

abbrev rU : FVec Ideal S2048x1024 .f32 := m ((c.tc : Thread nD τ).loc main_arg0)
abbrev rLr : FVec Ideal S64x64 .f32 := m ((c.tc : Thread nD τ).loc main_arg1)
abbrev rLi : FVec Ideal S64x64 .f32 := m ((c.tc : Thread nD τ).loc main_arg2)
abbrev rBr : FVec Ideal S64x64x16 .f32 := m ((c.tc : Thread nD τ).loc main_arg3)
abbrev rBi : FVec Ideal S64x64x16 .f32 := m ((c.tc : Thread nD τ).loc main_arg4)
abbrev rCr : FVec Ideal S64x16x64 .f32 := m ((c.tc : Thread nD τ).loc main_arg5)
abbrev rCi : FVec Ideal S64x16x64 .f32 := m ((c.tc : Thread nD τ).loc main_arg6)

/-- What the loop starts from. -/
abbrev E0 : Valuation τ sig (Elt Ideal) := entryContents preI m c
/-- The carried buffers before trip `k`. -/
abbrev Vk (k : ℕ) : Valuation τ sig (Elt Ideal) := STEP^[k] (E0 m c)

abbrev f5 (V : Valuation τ sig (Elt Ideal)) : FVec Ideal S64x64 .f32 := V (Proc.devRef .tc main_v8_5)
abbrev f6 (V : Valuation τ sig (Elt Ideal)) : FVec Ideal S64x64 .f32 := V (Proc.devRef .tc main_v8_6)
abbrev f7 (V : Valuation τ sig (Elt Ideal)) : FVec Ideal S2048x64x64 .f32 := V (Proc.devRef .tc main_v8_7)
abbrev f8 (V : Valuation τ sig (Elt Ideal)) : FVec Ideal S2048x64x64 .f32 := V (Proc.devRef .tc main_v8_8)
abbrev f0 (V : Valuation τ sig (Elt Ideal)) : FVec Ideal S2048x64x64 .f32 := V (Proc.devRef .tc main_v8_0)
abbrev f1 (V : Valuation τ sig (Elt Ideal)) : FVec Ideal S2048x64x64 .f32 := V (Proc.devRef .tc main_v8_1)
abbrev f2 (V : Valuation τ sig (Elt Ideal)) : FVec Ideal S64x64 .f32 := V (Proc.devRef .tc main_v8_2)
abbrev f3 (V : Valuation τ sig (Elt Ideal)) : FVec Ideal S64x64 .f32 := V (Proc.devRef .tc main_v8_3)

/-- The invariant: the counter, the inputs, the carried states, the states stored so far. -/
structure Inv (d : Rd) (k : ℕ) (V : Valuation τ sig (Elt Ideal)) : Prop where
  ctr : V (Proc.devRef .tc main_v8_4) = fun _ => BitVec.ofNat 32 k
  bu : ∀ t g p, Cx (f0 V (ix3 t g p)) (f1 V (ix3 t g p)) (d.inp g.val p.val t.val)
  l : ∀ g p, Cx (f2 V (ix2 g p)) (f3 V (ix2 g p)) (d.l g.val p.val)
  x : ∀ g p, Cx (f5 V (ix2 g p)) (f6 V (ix2 g p)) (d.x g.val p.val k)
  xs : ∀ t g p, t.val < k → Cx (f7 V (ix3 t g p)) (f8 V (ix3 t g p)) (d.x g.val p.val (t.val + 1))

theorem new_at {d : Rd} {k : ℕ} (hk : k < 2048) {V : Valuation τ sig (Elt Ideal)} (h : Inv d k V) (g p : Fin 64) :
    Cx ((res_main_while0b_v22 V : FVec Ideal S64x64 .f32) (ix2 g p)) ((res_main_while0b_v26 V : FVec Ideal S64x64 .f32) (ix2 g p)) (d.x g.val p.val (k + 1)) := by
  have e : (res_main_while0b_v22 V : FVec Ideal S64x64 .f32) (ix2 g p)
      = f2 V (ix2 g p) * f5 V (ix2 g p) - f3 V (ix2 g p) * f6 V (ix2 g p) + f0 V (ix3 ⟨k, hk⟩ g p) := by
    rw [← slice_at k hk _ h.ctr (f0 V) g p]; rfl
  have e' : (res_main_while0b_v26 V : FVec Ideal S64x64 .f32) (ix2 g p)
      = f2 V (ix2 g p) * f6 V (ix2 g p) + f3 V (ix2 g p) * f5 V (ix2 g p) + f1 V (ix3 ⟨k, hk⟩ g p) := by
    rw [← slice_at k hk _ h.ctr (f1 V) g p]; rfl
  rw [e, e']
  exact ((h.l g p).mul (h.x g p)).add (h.bu ⟨k, hk⟩ g p)

section Step
variable (V : Valuation τ sig (Elt Ideal))
theorem s0 : f0 (STEP V) = f0 V := STEP_main_v8_0 V
theorem s1 : f1 (STEP V) = f1 V := STEP_main_v8_1 V
theorem s2 : f2 (STEP V) = f2 V := STEP_main_v8_2 V
theorem s3 : f3 (STEP V) = f3 V := STEP_main_v8_3 V
theorem s5 : f5 (STEP V) = (res_main_while0b_v22 V : FVec Ideal S64x64 .f32) := STEP_main_v8_5 V
theorem s6 : f6 (STEP V) = (res_main_while0b_v26 V : FVec Ideal S64x64 .f32) := STEP_main_v8_6 V
theorem s7 : f7 (STEP V) = Host.dynamicUpdateSlice (f7 V) (broadcastInDim S1x64x64 ![1, 2] bcast_S64x64_S1x64x64_1_2 (res_main_while0b_v22 V)) (starts (V (Proc.devRef .tc main_v8_4))) updateFits_S2048x64x64_S1x64x64 :=
  STEP_main_v8_7 V
theorem s8 : f8 (STEP V) = Host.dynamicUpdateSlice (f8 V) (broadcastInDim S1x64x64 ![1, 2] bcast_S64x64_S1x64x64_1_2 (res_main_while0b_v26 V)) (starts (V (Proc.devRef .tc main_v8_4))) updateFits_S2048x64x64_S1x64x64 :=
  STEP_main_v8_8 V
theorem s4 (k : ℕ) (h : V (Proc.devRef .tc main_v8_4) = fun _ => BitVec.ofNat 32 k) : STEP V (Proc.devRef .tc main_v8_4) = fun _ => BitVec.ofNat 32 (k + 1) := by
  rw [STEP_main_v8_4, step_main_v8_4, h, BitVec.ofNat_add]
  rfl
end Step

theorem step_inv {d : Rd} {k : ℕ} (hk : k < 2048) {V : Valuation τ sig (Elt Ideal)} (h : Inv d k V) : Inv d (k + 1) (STEP V) := by
  refine ⟨s4 V k h.ctr, ?_, ?_, ?_, ?_⟩
  · rw [s0, s1]; exact h.bu
  · rw [s2, s3]; exact h.l
  · rw [s5, s6]; exact new_at hk h
  · intro t g p ht
    rw [s7, s8, update_at k hk _ h.ctr, update_at k hk _ h.ctr]
    by_cases e : t.val = k
    · rw [if_pos e, if_pos e, e]; exact new_at hk h g p
    · rw [if_neg e, if_neg e]; exact h.xs t g p (by omega)

section Values
variable {d : Rd} (h : Holds d (rU m c) (rLr m c) (rLi m c) (rBr m c) (rBi m c) (rCr m c) (rCi m c))
include h

/-- Before the loop: the inputs are the products, the states are zero. -/
theorem entry_inv : Inv d 0 (E0 m c) where
  ctr := ctr_entry m c
  bu := by
    intro t g p
    have e : f0 (E0 m c) (ix3 t g p) = ∑ n : Fin 16, rU m c (ix2 t ⟨g.val * 16 + n.val, by omega⟩) * rBr m c (ix3 g p n) := by
      show (entryContents preI m c (Proc.devRef .tc main_v8_0) : FVec Ideal S2048x64x64 .f32) _ = _
      simp only [entryContents, afterL_cons, afterL_nil]
      after_reads_simp
      simp only [id_eq]
      pointwise []
    have e' : f1 (E0 m c) (ix3 t g p) = ∑ n : Fin 16, rU m c (ix2 t ⟨g.val * 16 + n.val, by omega⟩) * rBi m c (ix3 g p n) := by
      show (entryContents preI m c (Proc.devRef .tc main_v8_1) : FVec Ideal S2048x64x64 .f32) _ = _
      simp only [entryContents, afterL_cons, afterL_nil]
      after_reads_simp
      simp only [id_eq]
      pointwise []
    rw [e, e']
    simp only [h.u]
    have q := Cx.sum Finset.univ (fun n : Fin 16 => (h.B g p n).real_mul (d.u t.val (g.val * 16 + n.val)))
    convert q using 1
    refine Finset.sum_congr rfl fun n _ => ?_
    rw [Nat.mul_comm g.val 16]
  l := by
    intro g p
    have e : f2 (E0 m c) = rLr m c := by
      show (entryContents preI m c (Proc.devRef .tc main_v8_2) : FVec Ideal S64x64 .f32) = _
      simp only [entryContents, afterL_cons, afterL_nil]
      after_reads_simp
      rfl
    have e' : f3 (E0 m c) = rLi m c := by
      show (entryContents preI m c (Proc.devRef .tc main_v8_3) : FVec Ideal S64x64 .f32) = _
      simp only [entryContents, afterL_cons, afterL_nil]
      after_reads_simp
      rfl
    rw [e, e']; exact h.l g p
  x := by
    intro g p
    have e : f5 (E0 m c) (ix2 g p) = 0 := by
      show (entryContents preI m c (Proc.devRef .tc main_v8_5) : FVec Ideal S64x64 .f32) _ = _
      simp only [entryContents, afterL_cons, afterL_nil]
      after_reads_simp
      simp only [id_eq]
      pointwise []
    have e' : f6 (E0 m c) (ix2 g p) = 0 := by
      show (entryContents preI m c (Proc.devRef .tc main_v8_6) : FVec Ideal S64x64 .f32) _ = _
      simp only [entryContents, afterL_cons, afterL_nil]
      after_reads_simp
      simp only [id_eq]
      pointwise []
    rw [e, e']; exact Cx.zero
  xs := fun t g p ht => absurd ht (Nat.not_lt_zero _)

theorem inv_at : ∀ k ≤ 2048, Inv d k (Vk m c k)
  | 0, _ => entry_inv m c h
  | k + 1, hk => by
    show Inv d (k + 1) (STEP^[k + 1] (E0 m c))
    rw [Function.iterate_succ_apply']
    exact step_inv (by omega) (inv_at k (by omega))

end Values

section Read
variable {d : Rd} {V : Valuation τ sig (Elt Ideal)} (h : Inv d 2048 V)
include h

theorem ref_x (r : Fin 2048) (k : Fin 4096) : Cx ((out_main_v15 V : FVec Ideal S2048x4096 .f32) (ix2 r k)) ((out_main_v16 V : FVec Ideal S2048x4096 .f32) (ix2 r k))
    (d.x (k.val / 64) (k.val % 64) (r.val + 1)) := by
  have e : (out_main_v15 V : FVec Ideal S2048x4096 .f32) (ix2 r k) = f7 V (ix3 r ⟨k.val / 64, by omega⟩ ⟨k.val % 64, by omega⟩) := by
    unfold out_main_v15
    pointwise []
  have e' : (out_main_v16 V : FVec Ideal S2048x4096 .f32) (ix2 r k) = f8 V (ix3 r ⟨k.val / 64, by omega⟩ ⟨k.val % 64, by omega⟩) := by
    unfold out_main_v16
    pointwise []
  rw [e, e']
  exact h.xs r _ _ r.isLt

theorem ref_y {x5 x6 : FVec Ideal S64x16x64 .f32} (h5 : V (Proc.devRef .tc main_arg5) = x5) (h6 : V (Proc.devRef .tc main_arg6) = x6)
    (hC : ∀ g n p, Cx (x5 (ix3 g n p)) (x6 (ix3 g n p)) (d.C g.val n.val p.val)) (r : Fin 2048) (k : Fin 1024) :
    (out_main_v14 V : FVec Ideal S2048x1024 .f32) (ix2 r k) = (d.y (k.val / 16) (k.val % 16) r.val : EReal) := by
  have e : (out_main_v14 V : FVec Ideal S2048x1024 .f32) (ix2 r k)
      = (∑ p : Fin 64, f7 V (ix3 r ⟨k.val / 16, by omega⟩ p) * x5 (ix3 ⟨k.val / 16, by omega⟩ ⟨k.val % 16, by omega⟩ p) : EReal)
        - ∑ p : Fin 64, f8 V (ix3 r ⟨k.val / 16, by omega⟩ p) * x6 (ix3 ⟨k.val / 16, by omega⟩ ⟨k.val % 16, by omega⟩ p) := by
    unfold out_main_v14
    rw [h5, h6]
    pointwise []
  have q : ∀ p : Fin 64, _ := fun p => h.xs r ⟨k.val / 16, by omega⟩ p r.isLt
  have w : ∀ p : Fin 64, _ := fun p => hC ⟨k.val / 16, by omega⟩ ⟨k.val % 16, by omega⟩ p
  rw [e]
  simp only [(q _).1, (q _).2, (w _).1, (w _).2, ← EReal.coe_mul]
  rw [← coe_sum, ← coe_sum, ← EReal.coe_sub, ← Finset.sum_sub_distrib, Rd.y, Complex.re_sum]
  congr 1
  exact Finset.sum_congr rfl fun p _ => (Complex.mul_re _ _).symm
end Read

end Cert.Proof.SsmScan

end
-- ==== Proof.SsmScanClaims0.lean ====
/- S5's scan, the forward call: the frames, both from the one run over any float values. -/
module

public import proofs.«01_k».proof.Defs
public import proofs.«01_k».proof.Proof.SsmScanRun
public import proofs.«01_k».proof.Proof.Gen.SsmScan

@[expose] public section

set_option maxRecDepth 16384

noncomputable section

namespace Cert.Proof.SsmScan

open Idealize.ShloMosaic Idealize.ShloMosaic.Tactic Idealize.SL.Sem

theorem frame_kernel : Cert.quiescent_SsmScan := fun m ρ _ => Eq.mp (by sl_kernel_rfl) (scan_frame (F := Bits) m ρ)

theorem frame_ideal : Cert.quiescent_SsmScanIdeal := fun m ρ _ => scan_frame (F := Ideal) m ρ

end Cert.Proof.SsmScan

end
-- ==== Proof.SsmScanClaims.lean ====
/- S5's scan, the forward call: its claims. -/
module

public import Idealize.ShloMosaic.Lib.WordCmp
public import Idealize.ShloMosaic.Lib.ReduceAll
public import proofs.«01_k».proof.Proof.SsmScanRef
public import proofs.«01_k».proof.Proof.SsmScanClaims0
public import proofs.«01_k».proof.Proof.Gen.SsmScanRefIdeal
public import proofs.«01_k».proof.Proof.Gen.Pre_finite_ssm_scan
public import Idealize.ShloMosaic.Lib.Tactic

@[expose] public section

set_option maxRecDepth 16384

noncomputable section

namespace Cert.Proof.SsmScan

open Idealize.ShloMosaic.WordCmp Idealize.ShloMosaic Idealize.ShloMosaic.TcCoe Idealize.SL.Sem Cert.Util

theorem frame_p : Cert.quiescent_SsmScan := frame_kernel
theorem frame_i : Cert.quiescent_SsmScanIdeal := frame_ideal
theorem frame_i_pre : Cert.quiescent_SsmScanIdeal_pre_finite_ssm_scan := fun m ρ _ => frame_ideal m ρ trivial
theorem frame_r : Cert.quiescent_SsmScanRefIdeal := fun m ρ _ =>
  (θ_run Cert.SsmScanRefIdeal.defs _ _).mono (fun r h => ⟨fun c => (h c).2.2.2, sem_eq_zero_of_no_sems (by decide) r.2⟩)
    (Cert.SsmScanRefIdeal.Value.run (F := Ideal) m ρ)
theorem frame_r_pre : Cert.quiescent_SsmScanRefIdeal_pre_finite_ssm_scan := fun m ρ _ => frame_r m ρ trivial

abbrev Real1 (x : EReal) : Prop := ∃ r : ℝ, x = r

section Finite
open Cert.SsmScanIdeal

/-- Each element of a finite array is a real. -/
theorem reals {x0 : FVec Ideal S2048x1024 .f32} {x1 x2 : FVec Ideal S64x64 .f32} {x3 x4 : FVec Ideal S64x64x16 .f32} {x5 x6 : FVec Ideal S64x16x64 .f32}
    (h : Cert.Pre_finite_ssm_scan.fn (F := Ideal) x0 x1 x2 x3 x4 x5 x6 = fun _ => 1#1) :
      (∀ t j, Real1 (x0 (ix2 t j))) ∧
      (∀ g p, Real1 (x1 (ix2 g p))) ∧
      (∀ g p, Real1 (x2 (ix2 g p))) ∧
      (∀ g p n, Real1 (x3 (ix3 g p n))) ∧
      (∀ g p n, Real1 (x4 (ix3 g p n))) ∧
      (∀ g p n, Real1 (x5 (ix3 g p n))) ∧
      (∀ g p n, Real1 (x6 (ix3 g p n))) := by
  have h0 := congrFun h (fun a => a.elim0)
  dsimp only [Cert.Pre_finite_ssm_scan.fn, Cert.Pre_finite_ssm_scan.fn_part1] at h0
  obtain ⟨h0, q6⟩ := (and_one_iff _ _).1 h0
  obtain ⟨h0, q5⟩ := (and_one_iff _ _).1 h0
  obtain ⟨h0, q4⟩ := (and_one_iff _ _).1 h0
  obtain ⟨h0, q3⟩ := (and_one_iff _ _).1 h0
  obtain ⟨h0, q2⟩ := (and_one_iff _ _).1 h0
  obtain ⟨h0, q1⟩ := (and_one_iff _ _).1 h0
  exact ⟨fun g p => (congrArg Real1 (by pointwise [])).mp (real_of_lt (Host.reduce_andi_all _ _ _ _ _ h0 (ix2 g p))),
    fun g p => (congrArg Real1 (by pointwise [])).mp (real_of_lt (Host.reduce_andi_all _ _ _ _ _ q1 (ix2 g p))),
    fun g p => (congrArg Real1 (by pointwise [])).mp (real_of_lt (Host.reduce_andi_all _ _ _ _ _ q2 (ix2 g p))),
    fun g p n => (congrArg Real1 (by pointwise [])).mp (real_of_lt (Host.reduce_andi_all _ _ _ _ _ q3 (ix3 g p n))),
    fun g p n => (congrArg Real1 (by pointwise [])).mp (real_of_lt (Host.reduce_andi_all _ _ _ _ _ q4 (ix3 g p n))),
    fun g p n => (congrArg Real1 (by pointwise [])).mp (real_of_lt (Host.reduce_andi_all _ _ _ _ _ q5 (ix3 g p n))),
    fun g p n => (congrArg Real1 (by pointwise [])).mp (real_of_lt (Host.reduce_andi_all _ _ _ _ _ q6 (ix3 g p n)))⟩

/-- Finite arrays hold numbers. -/
theorem holds {x0 : FVec Ideal S2048x1024 .f32} {x1 x2 : FVec Ideal S64x64 .f32} {x3 x4 : FVec Ideal S64x64x16 .f32} {x5 x6 : FVec Ideal S64x16x64 .f32}
    (h : Cert.Pre_finite_ssm_scan.fn (F := Ideal) x0 x1 x2 x3 x4 x5 x6 = fun _ => 1#1) : ∃ d : Rd, Holds d x0 x1 x2 x3 x4 x5 x6 := by
  obtain ⟨e0, e1, e2, e3, e4, e5, e6⟩ := reals h
  clear h
  choose d0 f0 using e0
  choose d1 f1 using e1
  choose d2 f2 using e2
  choose d3 f3 using e3
  choose d4 f4 using e4
  choose d5 f5 using e5
  choose d6 f6 using e6
  let w (N a : ℕ) (h : 0 < N) : Fin N := ⟨a % N, Nat.mod_lt a h⟩
  have hw : ∀ (N : ℕ) (h : 0 < N) (a : Fin N), w N a.val h = a := fun N h a => Fin.ext (Nat.mod_eq_of_lt a.isLt)
  refine ⟨⟨fun t j => d0 (w 2048 t (by decide)) (w 1024 j (by decide)), fun g p => ⟨d1 (w 64 g (by decide)) (w 64 p (by decide)), d2 (w 64 g (by decide)) (w 64 p (by decide))⟩,
    fun g p n => ⟨d3 (w 64 g (by decide)) (w 64 p (by decide)) (w 16 n (by decide)), d4 (w 64 g (by decide)) (w 64 p (by decide)) (w 16 n (by decide))⟩,
    fun g n p => ⟨d5 (w 64 g (by decide)) (w 16 n (by decide)) (w 64 p (by decide)), d6 (w 64 g (by decide)) (w 16 n (by decide)) (w 64 p (by decide))⟩⟩, ?_, ?_, ?_, ?_⟩
  · intro t j; dsimp only; rw [hw, hw]; exacts [f0 t j, by decide, by decide]
  · intro g p; dsimp only; rw [hw, hw]; exacts [⟨f1 g p, f2 g p⟩, by decide, by decide]
  · intro g p n; dsimp only; rw [hw, hw, hw]; exacts [⟨f3 g p n, f4 g p n⟩, by decide, by decide, by decide]
  · intro g n p; dsimp only; rw [hw, hw, hw]; exacts [⟨f5 g n p, f6 g n p⟩, by decide, by decide, by decide]

end Finite

theorem algebraic : Cert.algebraic_SsmScanIdeal_SsmScanRefIdeal_pre_finite_ssm_scan := by
  intro m ρ m' ρ' hpre hag
  choose d hd using fun c => holds (hpre c)
  have hr : ∀ c, Holds (d c) (rU m' c) (rLr m' c) (rLi m' c) (rBr m' c) (rBi m' c) (rCr m' c) (rCi m' c) := fun c => by
    obtain ⟨a0, a1, a2, a3, a4, a5, a6⟩ := hag c
    have q := hd c
    rw [← a0, ← a1, ← a2, ← a3, ← a4, ← a5, ← a6] at q
    exact q
  refine ⟨fun c => (dat m 0 c).arrAt 5 Cert.SsmScanIdeal.cfg0.N, fun c => (dat m 0 c).arrAt 6 Cert.SsmScanIdeal.cfg0.N, fun c => (dat m 0 c).arrAt 7 Cert.SsmScanIdeal.cfg0.N,
    (θ_run Cert.SsmScanIdeal.defs _ _).mono (fun r h c => ⟨(h.1 c).1 5, (h.1 c).1 6, (h.1 c).1 7, h.2.1 c⟩) (θ_run_and (launch_post m ρ) (scan_frame m ρ)), ?_⟩
  refine (θ_run Cert.SsmScanRefIdeal.defs _ _).mono (fun r h c => ⟨(h c).1.trans ?_, (h c).2.1.trans ?_, (h c).2.2.1.trans ?_, (h c).2.2.2⟩)
    (Cert.SsmScanRefIdeal.Value.run (F := Ideal) m' ρ')
  · funext y
    obtain ⟨a, b, rfl⟩ : ∃ a b, y = ix2 a b := ⟨y 0, y 1, eq_ix2 y⟩
    exact (ref_x (inv_at m' c (hr c) 2048 (le_refl _)) a b).1.trans (out_x m c (hd c) a b).1.symm
  · funext y
    obtain ⟨a, b, rfl⟩ : ∃ a b, y = ix2 a b := ⟨y 0, y 1, eq_ix2 y⟩
    exact (ref_x (inv_at m' c (hr c) 2048 (le_refl _)) a b).2.trans (out_x m c (hd c) a b).2.symm
  · funext y
    obtain ⟨a, b, rfl⟩ : ∃ a b, y = ix2 a b := ⟨y 0, y 1, eq_ix2 y⟩
    exact (ref_y (inv_at m' c (hr c) 2048 (le_refl _)) (Cert.SsmScanRefIdeal.Value.iter_main_arg5 m' c 2048) (Cert.SsmScanRefIdeal.Value.iter_main_arg6 m' c 2048) (hr c).C a b).trans
      (out_y m c (hd c) a b).symm

end Cert.Proof.SsmScan

end
-- ==== Proof.SguFwdValue.lean ====
/- The SGU mixer forward: what the array of the result holds. A block is one chunk of 128 rows, written a head's 128 columns at a time. -/
module

public import proofs.«01_k».proof.Defs
public import proofs.«01_k».proof.Proof.SguBwdRef
public import proofs.«01_k».proof.Proof.Gen.SguFwdIdeal.Value
public import proofs.«01_k».proof.Proof.Gen.SguFwdRefIdeal.Read

@[expose] public section

set_option maxRecDepth 16384

noncomputable section

namespace Cert.SguFwdIdeal.Value

open Cert.SguFwdIdeal Cert.SguFwdIdeal.Gen Idealize.ShloMosaic Idealize.ShloMosaic.TcCoe Idealize.SL.Sem Cert.Util Pipeline
open Cert.SguBwdIdeal.Value

/-- GELU, entry by entry. -/
theorem named_eq : (Named.named κ "gelu_cubic" 0x3D372713#32 : Ideal .f32) = (gR : EReal) := by
  show ((8943 / 200000 : ℝ) : EReal) = _
  rw [gR]; norm_num
theorem uV_at (z : Vec Ideal S128x512 .f32) (I) : k0_pay2 (F := Ideal) z I = geF (z I) := by
  unfold geF geluT
  rw [← Cert.SguBwdIdeal.Value.half_eq, ← scale_eq, ← named_eq]
  pointwise [k0_pay2]
theorem vV_at (z : Vec Ideal S128x512 .f32) (I) : k0_pay3 (F := Ideal) z I = geF (z I) := uV_at z I

/-- One head's columns of a chunk: the gate times the mixed rows. -/
def outC (u x : Cert.SguBwdIdeal.Value.Hd) (lg lb : Vec Ideal S1x128 .f32) (w : Vec Ideal S1x128x128 .f32) (bt : Vec Ideal S128x1 .f32) : FVec Ideal S128x128 .bf16 :=
  truncf .bf16 (mulf u (addf (matmul dot_S128x128_S128x128_S128x128_1_0_0_1_n_n none (Cert.SguBwdIdeal.Gen.k0_pay23 w) (Cert.SguBwdIdeal.Gen.k0_pay22 x (mC x) lg lb) (constant S128x128 .f32 0x00000000#32))
    (broadcastTo S128x128 (shapeCast S128x1 bt shapeCasts_S128x1_S128x1) broadcasts_S128x1_S128x128))) bitsLt_bf16_f32
theorem outC_at (u x : Cert.SguBwdIdeal.Value.Hd) (lg lb : Vec Ideal S1x128 .f32) (w : Vec Ideal S1x128x128 .f32) (bt : Vec Ideal S128x1 .f32) (r j : Fin 128) :
    outC u x lg lb w bt (ix2 r j) = u (ix2 r j) * spM (matF x) (rowF lg) (rowF lb) (wF w) (fun i => bt (ix2 i 0)) r j := by
  unfold spM
  simp only [← vn_at, ← tri_at]
  unfold outC
  generalize Cert.SguBwdIdeal.Gen.k0_pay22 x (mC x) lg lb = p
  generalize Cert.SguBwdIdeal.Gen.k0_pay23 w = q
  pointwise []

theorem out_at (x0 x1 : Vec Ideal S128x512 .f32) (x2 x3 : Vec Ideal S1x512 .f32) (x4 : Vec Ideal S4x128x128 .f32) (x5 : Vec Ideal S128x128 .f32) (r : Fin 128) (g : Fin 4) (j : Fin 128) :
    out0_6 x0 x1 x2 x3 x4 x5 (ix2 r (gc g j)) = outC (cut g (k0_pay2 x0)) (cut g (k0_pay3 x1)) (rowG g x2) (rowG g x3) (wG g x4) (btG g x5) (ix2 r j) := by
  have e0 : View.ld (Val := Elt Ideal) x0 r0_0 = x0 := View.ld_unit_zero (funext fun a => by fin_cases a <;> rfl) _ _
  have e1 : View.ld (Val := Elt Ideal) x1 r0_0 = x1 := View.ld_unit_zero (funext fun a => by fin_cases a <;> rfl) _ _
  unfold out0_6 k0_pay15 k0_pay16
  rw [e0, e1]
  exact cols4 (e := .bf16) _ _ _ _ (fun g => outC (cut g (k0_pay2 x0)) (cut g (k0_pay3 x1)) (rowG g x2) (rowG g x3) (wG g x4) (btG g x5)) r g j

section
variable (x0 : FVec Ideal S2048x1536 .f32) (x2 x3 : FVec Ideal S1x512 .f32) (x4 : FVec Ideal S4x128x128 .f32) (x5 : FVec Ideal S4x128 .f32)
open Cert.SguFwdRefIdeal.Read

theorem ge_same : val_main_v14 (F := Ideal) x0 = Cert.SguBwdRefIdeal.Read.val_main_v22 (F := Ideal) x0 := rfl
theorem sp_same : val_main_v56 (F := Ideal) x0 x2 x3 x4 x5 = Cert.SguBwdRefIdeal.Read.val_main_v69 (F := Ideal) x0 x2 x3 x4 x5 := rfl
theorem ref_out (n : Fin 16) (t : Fin 128) (g : Fin 4) (j : Fin 128) : val_main_v58 (F := Ideal) x0 x2 x3 x4 x5 (ix2 (row n t) (gc g j))
    = geF (zU x0 n g t j) * spM (VM x0 n g) (rowM x2 g) (rowM x3 g) (wM x4 g) (bM x5 g) t j := by
  refine Eq.trans ?_ (congrArg₂ (· * · : EReal → EReal → EReal) (ref_ge x0 (row n t) (uc g j)) (ref_sp2 x0 x2 x3 x4 x5 n t g j))
  rw [← sp_same, ← ge_same]
  pointwise [val_main_v58, val_main_v57, val_main_v17]
end

variable (m : (ℓ : Loc nD τ sig) → Buf (Elt Ideal) ℓ) (c : Dev nD)

theorem idx_in : ∀ t : Fin cfg0.N, (win0_0.index t 0 = t.val ∧ win0_0.index t 1 = 1) ∧ (win0_1.index t 0 = t.val ∧ win0_1.index t 1 = 2)
    ∧ (win0_2.index t = fun _ => 0) ∧ (win0_3.index t = fun _ => 0) ∧ (win0_4.index t = fun _ => 0) ∧ (win0_5.index t = fun _ => 0)
    ∧ (win0_6.index t 0 = t.val ∧ win0_6.index t 1 = 0) := by
  decide +kernel

/-- The arguments' arrays, and a point's chunk. -/
abbrev zA : FVec Ideal S2048x1536 .f32 := m ((c : Thread nD τ).loc main_arg0)
abbrev lgA : FVec Ideal S1x512 .f32 := m ((c : Thread nD τ).loc main_arg1)
abbrev lbA : FVec Ideal S1x512 .f32 := m ((c : Thread nD τ).loc main_arg2)
abbrev wA : FVec Ideal S4x128x128 .f32 := m ((c : Thread nD τ).loc main_arg3)
abbrev sbA : FVec Ideal S4x128 .f32 := m ((c : Thread nD τ).loc main_arg4)
abbrev ch (t : Fin cfg0.N) : Fin 16 := ⟨t.val, lt_of_lt_of_eq t.isLt N_0⟩

theorem host_bt (r : Fin 128) (g : Fin 4) : (V m c main_v1 : FVec Ideal S128x128 .f32) (ix2 r ⟨g.val, by omega⟩) = sbA m c (ix2 g r) := by
  show StableHlo.after (List.flatten [hostOps0, hostOps0_1]) (fun b => m (c, b)) main_v1 _ = _
  simp only [hostOps0, hostOps0_1, List.flatten_cons, List.flatten_nil, List.append_nil, List.cons_append, List.nil_append]
  after_results_simp
  show pad S128x128 ![0, 0] ![0, 124] ![0, 0] (transpose S128x4 [1, 0] (sbA m c) transposes_S4x128_S128x4_1_0) (sitofp (F := Ideal) .f32 (constantI S_ 32 0#32)) pads_S128x4_S128x128_000_01240 h_S_ (ix2 r ⟨g.val, by omega⟩) = _
  pointwise []
theorem blk0 (t : Fin cfg0.N) (a : Fin 128) (b : Fin 512) : iblk m c 0 t (ix2 a b) = zA m c (ix2 (row (ch t) a) ⟨512 + b.val, by omega⟩) := by
  refine congrArg (zA m c) (idx2_ext ?_ ?_)
  · refine (win0_0.rect_emb_val ..).trans ?_; rw [(idx_in t).1.1]; rfl
  · refine (win0_0.rect_emb_val ..).trans ?_; rw [(idx_in t).1.2]; rfl
theorem blk1 (t : Fin cfg0.N) (a : Fin 128) (b : Fin 512) : iblk m c 1 t (ix2 a b) = zA m c (ix2 (row (ch t) a) ⟨512 + (512 + b.val), by omega⟩) := by
  refine congrArg (zA m c) (idx2_ext ?_ ?_)
  · refine (win0_1.rect_emb_val ..).trans ?_; rw [(idx_in t).2.1.1]; rfl
  · refine (win0_1.rect_emb_val ..).trans ?_; rw [(idx_in t).2.1.2]; show 2 * 512 + b.val = 512 + (512 + b.val); omega
theorem blk2 (t : Fin cfg0.N) (j) : iblk m c 2 t j = lgA m c j := congrArg (lgA m c) (funext fun a => Fin.ext ((win0_2.rect_emb_val ..).trans (by rw [(idx_in t).2.2.1, zero_mul, zero_add])))
theorem blk3 (t : Fin cfg0.N) (j) : iblk m c 3 t j = lbA m c j := congrArg (lbA m c) (funext fun a => Fin.ext ((win0_3.rect_emb_val ..).trans (by rw [(idx_in t).2.2.2.1, zero_mul, zero_add])))
theorem blk4 (t : Fin cfg0.N) (j) : iblk m c 4 t j = wA m c j := congrArg (wA m c) (funext fun a => Fin.ext ((win0_4.rect_emb_val ..).trans (by rw [(idx_in t).2.2.2.2.1, zero_mul, zero_add])))
theorem blk5 (t : Fin cfg0.N) (j) : iblk m c 5 t j = (V m c main_v1 : FVec Ideal S128x128 .f32) j :=
  congrArg (V m c main_v1 : FVec Ideal S128x128 .f32) (funext fun a => Fin.ext ((win0_5.rect_emb_val ..).trans (by rw [(idx_in t).2.2.2.2.2.1, zero_mul, zero_add])))

/-- The reference's result. -/
abbrev R6 : FVec Ideal S2048x512 .bf16 := Cert.SguFwdRefIdeal.Read.val_main_v58 (F := Ideal) (zA m c) (lgA m c) (lbA m c) (wA m c) (sbA m c)

theorem block_at (t : Fin cfg0.N) (g : Fin 4) (r j : Fin 128) :
    out0_6 (iblk m c 0 t) (iblk m c 1 t) (iblk m c 2 t) (iblk m c 3 t) (iblk m c 4 t) (iblk m c 5 t) (ix2 r (gc g j)) = R6 m c (ix2 (row (ch t) r) (gc g j)) := by
  have hv : matF (cut g (k0_pay3 (iblk m c 1 t))) = VM (zA m c) (ch t) g := funext fun a => funext fun j =>
    ((cut_at ..).trans (vV_at ..)).trans (congrArg geF (blk1 m c t a (gc g j)))
  have hg : rowF (rowG g (iblk m c 2 t)) = rowM (lgA m c) g := funext fun j => (rowG_at ..).trans (blk2 ..)
  have hb : rowF (rowG g (iblk m c 3 t)) = rowM (lbA m c) g := funext fun j => (rowG_at ..).trans (blk3 ..)
  have hw : wF (wG g (iblk m c 4 t)) = wM (wA m c) g := funext fun r => funext fun k => (wG_at ..).trans (blk4 ..)
  have hs : (fun i : Fin 128 => btG g (iblk m c 5 t) (ix2 i 0)) = bM (sbA m c) g := funext fun i => ((btG_at ..).trans (blk5 ..)).trans (host_bt ..)
  rw [out_at, outC_at, hv, hg, hb, hw, hs, cut_at, uV_at, blk0]
  exact (ref_out ..).symm

theorem emb6 (t : Fin cfg0.N) (r : Fin 128) (C : Fin 512) : (win0_6.rect t).emb (ix2 r C) = ix2 (row (ch t) r) C :=
  idx2_ext (by rw [win0_6.rect_emb_val, (idx_in t).2.2.2.2.2.2.1]; rfl) (by rw [win0_6.rect_emb_val, (idx_in t).2.2.2.2.2.2.2]; exact Nat.zero_add _)
theorem final : (dats m 0 c).arrAt 6 cfg0.N = R6 m c := by
  refine Dat.arrAt_eq_of_cover (dats m 0 c) 6 _ (fun t _ => ?_) fun i => ?_
  · rw [flushed6]
    funext y
    show (out0_6 (F := Ideal) _ _ _ _ _ _ y : Ideal .bf16) = R6 m c ((win0_6.rect t).emb y)
    obtain ⟨r, C, rfl⟩ : ∃ a b, y = ix2 a b := ⟨y 0, y 1, eq_ix2 y⟩
    obtain ⟨g, j, rfl⟩ := col_of C
    rw [emb6]
    exact block_at ..
  · obtain ⟨r, C, rfl⟩ : ∃ a b, i = ix2 a b := ⟨i 0, i 1, eq_ix2 i⟩
    refine ⟨⟨r.val / 128, by show _ < 16; omega⟩, flush0_6 _, ?_⟩
    have e := emb6 ⟨r.val / 128, by show _ < 16; omega⟩ ⟨r.val % 128, by omega⟩ C
    rw [show row (ch ⟨r.val / 128, by show _ < 16; omega⟩) ⟨r.val % 128, by omega⟩ = r from Fin.ext (by show r.val / 128 * 128 + r.val % 128 = r.val; omega)] at e
    exact e ▸ View.emb_mem_set _ _

end Cert.SguFwdIdeal.Value

end
-- ==== Proof.SguFwdClaims.lean ====
/- The SGU mixer forward: its claims. -/
module

public import proofs.«01_k».proof.Proof.SguFwdValue
public import proofs.«01_k».proof.Proof.Gen.SguFwd.Frame
public import proofs.«01_k».proof.Proof.Gen.SguFwdRefIdeal
public import proofs.«01_k».proof.Proof.Gen.SguFwdRefIdeal.Run
public import Idealize.ShloMosaic.Lib.Tactic

@[expose] public section

set_option maxRecDepth 16384

noncomputable section

namespace Cert.Proof.SguFwd

open Idealize.ShloMosaic Idealize.SL.Sem

theorem frame_p : Cert.quiescent_SguFwd := fun m ρ _ => Cert.SguFwd.Gen.frame m ρ

theorem frame_i : Cert.quiescent_SguFwdIdeal := fun m ρ _ => Cert.SguFwdIdeal.Gen.frame m ρ

theorem frame_r : Cert.quiescent_SguFwdRefIdeal := fun m ρ _ =>
  (θ_run Cert.SguFwdRefIdeal.defs _ _).mono (fun r h => ⟨fun c => (h c).2, sem_eq_zero_of_no_sems (by decide) r.2⟩)
    (Cert.SguFwdRefIdeal.Value.run (F := Ideal) m ρ)

/-- The named constant is the number that the certificate's table gives. -/
theorem preserves : Cert.preserves_SguFwd_SguFwdIdeal :=
  IdealRules.named_const.statement Cert.SguFwdIdeal.κ "gelu_cubic" .f32 0x3D372713#32 ((8943 / 200000 : ℝ) : EReal) rfl

theorem algebraic : Cert.algebraic_SguFwdIdeal_SguFwdRefIdeal := by
  intro m ρ m' ρ' _ hag
  refine ⟨_, (θ_run Cert.SguFwdIdeal.defs _ _).mono (fun r h c => ⟨(h c).1.trans (Cert.SguFwdIdeal.Value.final m c), (h c).2⟩)
    (Cert.SguFwdIdeal.Value.run_blocks m ρ), ?_⟩
  refine (θ_run Cert.SguFwdRefIdeal.defs _ _).mono (fun r h c => ⟨(h c).1.trans ?_, (h c).2⟩)
    (Cert.SguFwdRefIdeal.Value.run (F := Ideal) m' ρ')
  obtain ⟨h0, h1, h2, h3, h4⟩ := hag c
  show Cert.SguFwdRefIdeal.Read.val_main_v58 (F := Ideal) (m' (c.tc.loc Cert.SguFwdRefIdeal.main_arg0)) (m' (c.tc.loc Cert.SguFwdRefIdeal.main_arg1)) (m' (c.tc.loc Cert.SguFwdRefIdeal.main_arg2)) (m' (c.tc.loc Cert.SguFwdRefIdeal.main_arg3)) (m' (c.tc.loc Cert.SguFwdRefIdeal.main_arg4)) = _
  rw [h0, h1, h2, h3, h4]

end Cert.Proof.SguFwd

end
-- ==== Proof.SsmActFwdValue.lean ====
/- The skip and the GELU after the S5 scan: what the array of the result holds. Block `t` holds rows `512·t` to `512·t + 511`. -/
module

public import proofs.«01_k».proof.Defs
public import proofs.«01_k».proof.Proof.SguBwdRef
public import proofs.«01_k».proof.Proof.Gen.SsmActFwdIdeal.Value
public import proofs.«01_k».proof.Proof.Gen.SsmActFwdRefIdeal.Read
public import proofs.«01_k».proof.Proof.Util

@[expose] public section

set_option maxRecDepth 16384

noncomputable section

namespace Cert.SsmActFwdIdeal.Value

open Cert.SsmActFwdIdeal Cert.SsmActFwdIdeal.Gen Idealize.ShloMosaic Idealize.ShloMosaic.TcCoe Idealize.SL.Sem Cert.Util Pipeline
open Cert.SguBwdIdeal.Value (geF hR cR gR cubic_eq scale_eq)

variable (m : (ℓ : Loc nD τ sig) → Buf (Elt Ideal) ℓ) (c : Dev nD)

theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 := by
  decide +kernel

abbrev row (t : Fin cfg0.N) (a : Fin 512) : Fin 2048 := rowOf (T := 4) 512 rfl t a
abbrev yA : FVec Ideal S2048x1024 .f32 := m ((c : Thread nD τ).loc main_arg0)
abbrev uA : FVec Ideal S2048x1024 .f32 := m ((c : Thread nD τ).loc main_arg1)
abbrev dA : FVec Ideal S1x1024 .f32 := m ((c : Thread nD τ).loc main_arg2)

theorem blk0 (t : Fin cfg0.N) (a : Fin 512) (b : Fin 1024) : iblk m c 0 t (ix2 a b) = yA m c (ix2 (row t a) b) :=
  congrArg (yA m c) (idx2_ext ((win0_0.rect_emb_val ..).trans (by rw [(idx_facts t).1]; rfl)) ((win0_0.rect_emb_val ..).trans (by rw [(idx_facts t).2.1]; exact Nat.zero_add _)))
theorem blk1 (t : Fin cfg0.N) (a : Fin 512) (b : Fin 1024) : iblk m c 1 t (ix2 a b) = uA m c (ix2 (row t a) b) :=
  congrArg (uA m c) (idx2_ext ((win0_1.rect_emb_val ..).trans (by rw [(idx_facts t).2.2.1]; rfl)) ((win0_1.rect_emb_val ..).trans (by rw [(idx_facts t).2.2.2.1]; exact Nat.zero_add _)))
theorem blk2 (t : Fin cfg0.N) (b : Fin 1024) : iblk m c 2 t (ix2 0 b) = dA m c (ix2 0 b) :=
  congrArg (dA m c) (idx2_ext ((win0_2.rect_emb_val ..).trans (by rw [(idx_facts t).2.2.2.2.1]; rfl)) ((win0_2.rect_emb_val ..).trans (by rw [(idx_facts t).2.2.2.2.2.1]; exact Nat.zero_add _)))
theorem emb3 (t : Fin cfg0.N) (a : Fin 512) (b : Fin 1024) : (win0_3.rect t).emb (ix2 a b) = ix2 (row t a) b :=
  idx2_ext (by rw [win0_3.rect_emb_val, (idx_facts t).2.2.2.2.2.2.1]; rfl) (by rw [win0_3.rect_emb_val, (idx_facts t).2.2.2.2.2.2.2]; exact Nat.zero_add _)

/-- The reference's result. -/
abbrev R3 : FVec Ideal S2048x1024 .bf16 := Cert.SsmActFwdRefIdeal.Read.val_main_v19 (F := Ideal) (yA m c) (uA m c) (dA m c)

theorem named_eq : (Named.named κ "gelu_cubic" 0x3D372713#32 : Ideal .f32) = (gR : EReal) := by
  show ((8943 / 200000 : ℝ) : EReal) = _
  rw [gR]; norm_num

theorem out_at (y : Vec Ideal S512x1024 .f32) (d : Vec Ideal S1x1024 .f32) (u : Vec Ideal S512x1024 .f32) (a : Fin 512) (b : Fin 1024) :
    k0_pay1 (F := Ideal) y d u (ix2 a b) = geF (y (ix2 a b) + d (ix2 0 b) * u (ix2 a b)) := by
  unfold geF geluT
  rw [← Cert.SguBwdIdeal.Value.half_eq, ← scale_eq, ← named_eq]
  pointwise [k0_pay1]
open Cert.SsmActFwdRefIdeal.Read in
theorem ref_at (y u : FVec Ideal S2048x1024 .f32) (d : FVec Ideal S1x1024 .f32) (r : Fin 2048) (b : Fin 1024) :
    val_main_v19 (F := Ideal) y u d (ix2 r b) = geF (y (ix2 r b) + d (ix2 0 b) * u (ix2 r b)) := by
  have e : val_main_v4 (F := Ideal) y u d (ix2 r b) = y (ix2 r b) + d (ix2 0 b) * u (ix2 r b) := by
    pointwise [val_main_v4, val_main_v3, val_main_v2, val_main_v1, val_main_v0]
  rw [geF, geluT, mul_assoc, mul_left_comm, ← e]
  simp only [← Cert.SguBwdIdeal.Value.half_eq, ← scale_eq, ← cubic_eq]
  pointwise [val_main_v19, val_main_v18, val_main_v17, val_main_v16, val_main_cst_3, val_main_v15, val_main_v14, val_main_cst_2, val_main_v13, val_main_v12, val_main_v11, val_main_cst_1, val_main_v10, val_main_v9, val_main_v8, val_main_v5, val_main_cst, val_main_cst_0, val_main_v7, val_main_v6]

theorem block_at (t : Fin cfg0.N) (a : Fin 512) (b : Fin 1024) : out0_3 (iblk m c 0 t) (iblk m c 1 t) (iblk m c 2 t) (ix2 a b) = R3 m c (ix2 (row t a) b) := by
  have e : out0_3 (F := Ideal) (iblk m c 0 t) (iblk m c 1 t) (iblk m c 2 t) = k0_pay1 (iblk m c 0 t) (iblk m c 2 t) (iblk m c 1 t) := by
    unfold out0_3
    rw [View.ld_unit_zero zero2, View.ld_unit_zero zero2, View.ld_unit_zero zero2]
    exact View.canon_unit_zero zero2 ..
  rw [e, out_at, blk0, blk1, blk2]
  exact (ref_at ..).symm

theorem final : (dats m 0 c).arrAt 3 cfg0.N = R3 m c := by
  refine Dat.arrAt_eq_of_cover (dats m 0 c) 3 _ (fun t _ => ?_) fun i => ?_
  · rw [flushed3]
    funext y
    show (out0_3 (F := Ideal) _ _ _ y : Ideal .bf16) = R3 m c ((win0_3.rect t).emb y)
    obtain ⟨a, b, rfl⟩ : ∃ a b, y = ix2 a b := ⟨y 0, y 1, eq_ix2 y⟩
    rw [emb3]
    exact block_at ..
  · obtain ⟨r, b, rfl⟩ : ∃ a b, i = ix2 a b := ⟨i 0, i 1, eq_ix2 i⟩
    refine ⟨⟨r.val / 512, by show _ < 4; omega⟩, flush0_3 _, ?_⟩
    have e := emb3 ⟨r.val / 512, by show _ < 4; omega⟩ ⟨r.val % 512, by omega⟩ b
    rw [show row ⟨r.val / 512, by show _ < 4; omega⟩ ⟨r.val % 512, by omega⟩ = r from Fin.ext (by show r.val / 512 * 512 + r.val % 512 = r.val; omega)] at e
    exact e ▸ View.emb_mem_set _ _

end Cert.SsmActFwdIdeal.Value

end
-- ==== Proof.SsmActFwdClaims.lean ====
/- The skip and the GELU after the S5 scan: its claims. -/
module

public import proofs.«01_k».proof.Proof.SsmActFwdValue
public import proofs.«01_k».proof.Proof.Gen.SsmActFwd.Frame
public import proofs.«01_k».proof.Proof.Gen.SsmActFwdRefIdeal
public import proofs.«01_k».proof.Proof.Gen.SsmActFwdRefIdeal.Run
public import Idealize.ShloMosaic.Lib.Tactic

@[expose] public section

set_option maxRecDepth 16384

noncomputable section

namespace Cert.Proof.SsmActFwd

open Idealize.ShloMosaic Idealize.SL.Sem

theorem frame_p : Cert.quiescent_SsmActFwd := fun m ρ _ => Cert.SsmActFwd.Gen.frame m ρ

theorem frame_i : Cert.quiescent_SsmActFwdIdeal := fun m ρ _ => Cert.SsmActFwdIdeal.Gen.frame m ρ

theorem frame_r : Cert.quiescent_SsmActFwdRefIdeal := fun m ρ _ =>
  (θ_run Cert.SsmActFwdRefIdeal.defs _ _).mono (fun r h => ⟨fun c => (h c).2, sem_eq_zero_of_no_sems (by decide) r.2⟩)
    (Cert.SsmActFwdRefIdeal.Value.run (F := Ideal) m ρ)

/-- The named constant is the number that the certificate's table gives. -/
theorem preserves : Cert.preserves_SsmActFwd_SsmActFwdIdeal :=
  IdealRules.named_const.statement Cert.SsmActFwdIdeal.κ "gelu_cubic" .f32 0x3D372713#32 ((8943 / 200000 : ℝ) : EReal) rfl

theorem algebraic : Cert.algebraic_SsmActFwdIdeal_SsmActFwdRefIdeal := by
  intro m ρ m' ρ' _ hag
  refine ⟨_, (θ_run Cert.SsmActFwdIdeal.defs _ _).mono (fun r h c => ⟨(h c).1.trans (Cert.SsmActFwdIdeal.Value.final m c), (h c).2⟩)
    (Cert.SsmActFwdIdeal.Value.run_blocks m ρ), ?_⟩
  refine (θ_run Cert.SsmActFwdRefIdeal.defs _ _).mono (fun r h c => ⟨(h c).1.trans ?_, (h c).2⟩)
    (Cert.SsmActFwdRefIdeal.Value.run (F := Ideal) m' ρ')
  obtain ⟨h0, h1, h2⟩ := hag c
  show Cert.SsmActFwdRefIdeal.Read.val_main_v19 (F := Ideal) (m' (c.tc.loc Cert.SsmActFwdRefIdeal.main_arg0)) (m' (c.tc.loc Cert.SsmActFwdRefIdeal.main_arg1)) (m' (c.tc.loc Cert.SsmActFwdRefIdeal.main_arg2)) = _
  rw [h0, h1, h2]

end Cert.Proof.SsmActFwd

end
-- ==== Proof.GluFwdValue.lean ====
/- The gate: what the array of the result holds. Block `t` holds rows `512·t` to `512·t + 511` of `a · σ(b)`. -/
module

public import proofs.«01_k».proof.Defs
public import proofs.«01_k».proof.Proof.Gen.GluFwdIdeal.Value
public import proofs.«01_k».proof.Proof.Gen.GluFwdRefIdeal.Read
public import proofs.«01_k».proof.Proof.Util

@[expose] public section

set_option maxRecDepth 16384

noncomputable section

namespace Cert.GluFwdIdeal.Value

open Cert.GluFwdIdeal Cert.GluFwdIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, win0_0.index t 0 = t.val ∧ win0_0.index t 1 = 0 ∧ win0_1.index t 0 = t.val ∧ win0_1.index t 1 = 1
    ∧ win0_2.index t 0 = t.val ∧ win0_2.index t 1 = 0 := by
  decide +kernel

abbrev row (t : Fin cfg0.N) (a : Fin 512) : Fin 2048 := rowOf (T := 4) 512 rfl t a
abbrev xA : FVec Ideal S2048x2048 .f32 := m ((c : Thread nD τ).loc main_arg0)

theorem blk0 (t : Fin cfg0.N) (a : Fin 512) (b : Fin 1024) : iblk m c 0 t (ix2 a b) = xA m c (ix2 (row t a) ⟨b.val, by omega⟩) :=
  congrArg (xA m c) (idx2_ext ((win0_0.rect_emb_val ..).trans (by rw [(idx_facts t).1]; rfl)) ((win0_0.rect_emb_val ..).trans (by rw [(idx_facts t).2.1]; exact Nat.zero_add _)))
theorem blk1 (t : Fin cfg0.N) (a : Fin 512) (b : Fin 1024) : iblk m c 1 t (ix2 a b) = xA m c (ix2 (row t a) ⟨1024 + b.val, by omega⟩) :=
  congrArg (xA m c) (idx2_ext ((win0_1.rect_emb_val ..).trans (by rw [(idx_facts t).2.2.1]; rfl)) ((win0_1.rect_emb_val ..).trans (by rw [(idx_facts t).2.2.2.1]; rfl)))
theorem emb2 (t : Fin cfg0.N) (a : Fin 512) (b : Fin 1024) : (win0_2.rect t).emb (ix2 a b) = ix2 (row t a) b :=
  idx2_ext (by rw [win0_2.rect_emb_val, (idx_facts t).2.2.2.2.1]; rfl) (by rw [win0_2.rect_emb_val, (idx_facts t).2.2.2.2.2]; exact Nat.zero_add _)

/-- The reference's result. -/
abbrev R2 : FVec Ideal S2048x1024 .f32 := Cert.GluFwdRefIdeal.Read.val_main_v8 (F := Ideal) (xA m c)

open Cert.GluFwdRefIdeal.Read in
theorem block_at (t : Fin cfg0.N) (a : Fin 512) (b : Fin 1024) : out0_2 (iblk m c 0 t) (iblk m c 1 t) (ix2 a b) = R2 m c (ix2 (row t a) b) := by
  have e : out0_2 (F := Ideal) (iblk m c 0 t) (iblk m c 1 t) = k0_pay1 (iblk m c 0 t) (iblk m c 1 t) := by
    unfold out0_2
    rw [View.ld_unit_zero zero2, View.ld_unit_zero zero2]
    exact View.canon_unit_zero zero2 ..
  rw [e]
  refine Eq.trans (b := (xA m c (ix2 (row t a) ⟨b.val, by omega⟩) * Ideal.div 1 (1 + Ideal.exp (-(xA m c (ix2 (row t a) ⟨1024 + b.val, by omega⟩)))) : EReal)) ?_ ?_
  · rw [← blk0, ← blk1, ← zero_sub]
    pointwise [k0_pay1]
  · pointwise [val_main_v8, val_main_v0, val_main_v7, val_main_v6, val_main_v5, val_main_v4, val_main_v3, val_main_v2, val_main_v1, val_main_cst, val_main_cst_0]

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .f32) = R2 m c ((win0_2.rect t).emb y)
    obtain ⟨a, b, rfl⟩ : ∃ a b, y = ix2 a b := ⟨y 0, y 1, eq_ix2 y⟩
    rw [emb2]
    exact block_at ..
  · obtain ⟨r, b, rfl⟩ : ∃ a b, i = ix2 a b := ⟨i 0, i 1, eq_ix2 i⟩
    refine ⟨⟨r.val / 512, by show _ < 4; omega⟩, flush0_2 _, ?_⟩
    have e := emb2 ⟨r.val / 512, by show _ < 4; omega⟩ ⟨r.val % 512, by omega⟩ b
    rw [show row ⟨r.val / 512, by show _ < 4; omega⟩ ⟨r.val % 512, by omega⟩ = r from Fin.ext (by show r.val / 512 * 512 + r.val % 512 = r.val; omega)] at e
    exact e ▸ View.emb_mem_set _ _

end Cert.GluFwdIdeal.Value

end
-- ==== Proof.GluFwdClaims.lean ====
/- The gate: its claims. -/
module

public import proofs.«01_k».proof.Proof.GluFwdValue
public import proofs.«01_k».proof.Proof.Gen.GluFwd
public import proofs.«01_k».proof.Proof.Gen.GluFwdRefIdeal
public import proofs.«01_k».proof.Proof.Gen.GluFwdRefIdeal.Run
public import Idealize.ShloMosaic.Lib.Tactic

@[expose] public section

set_option maxRecDepth 16384

noncomputable section

namespace Cert.Proof.GluFwd

open Idealize.ShloMosaic Idealize.SL.Sem

/-- The program and its idealization have one text, so one run gives both frames. -/
theorem frame_p : Cert.quiescent_GluFwd := fun m ρ _ => by
  have h := Cert.GluFwdIdeal.Gen.frame (F := Bits) m ρ
  rw [← show (Cert.GluFwd.main (F := Bits)) = (Cert.GluFwdIdeal.main (F := Bits)) by sl_kernel_rfl,
    ← show (Cert.GluFwd.defs (F := Bits)) = (Cert.GluFwdIdeal.defs (F := Bits)) by sl_kernel_rfl] at h
  exact h

theorem frame_i : Cert.quiescent_GluFwdIdeal := fun m ρ _ => Cert.GluFwdIdeal.Gen.frame m ρ

theorem frame_r : Cert.quiescent_GluFwdRefIdeal := fun m ρ _ =>
  (θ_run Cert.GluFwdRefIdeal.defs _ _).mono (fun r h => ⟨fun c => (h c).2, sem_eq_zero_of_no_sems (by decide) r.2⟩)
    (Cert.GluFwdRefIdeal.Value.run (F := Ideal) m ρ)

theorem algebraic : Cert.algebraic_GluFwdIdeal_GluFwdRefIdeal := by
  intro m ρ m' ρ' _ hag
  refine ⟨_, (θ_run Cert.GluFwdIdeal.defs _ _).mono (fun r h c => ⟨(h c).1.trans (Cert.GluFwdIdeal.Value.final m c), (h c).2⟩)
    (Cert.GluFwdIdeal.Value.run_blocks m ρ), ?_⟩
  refine (θ_run Cert.GluFwdRefIdeal.defs _ _).mono (fun r h c => ⟨(h c).1.trans ?_, (h c).2⟩)
    (Cert.GluFwdRefIdeal.Value.run (F := Ideal) m' ρ')
  have h0 := hag c
  show Cert.GluFwdRefIdeal.Read.val_main_v8 (F := Ideal) (m' (c.tc.loc Cert.GluFwdRefIdeal.main_arg0)) = _
  rw [h0]

end Cert.Proof.GluFwd

end
-- ==== Proof.PrenormFwdValue.lean ====
/- The modulated RMSNorm before the first sublayer: what the array of the result holds. Block `t` holds rows `512·t` to `512·t + 511`. -/
module

public import proofs.«01_k».proof.Defs
public import proofs.«01_k».proof.Proof.Gen.PrenormFwdIdeal.Value
public import proofs.«01_k».proof.Proof.Gen.PrenormFwdRefIdeal.Read
public import proofs.«01_k».proof.Proof.Rows
public import proofs.«01_k».proof.Proof.NormGrad
public import Idealize.ShloMosaic.Lib.Pointwise.Sums

@[expose] public section

set_option maxRecDepth 16384

noncomputable section

namespace Cert.PrenormFwdIdeal.Value

open Cert.PrenormFwdIdeal Cert.PrenormFwdIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, win0_0.index t 0 = t.val ∧ win0_0.index t 1 = 0 ∧ (win0_1.index t 0 = 0 ∧ win0_1.index t 1 = 0 ∧ win0_1.index t 2 = 0)
    ∧ win0_2.index t 0 = t.val ∧ win0_2.index t 1 = 0 := by
  decide +kernel

abbrev row (t : Fin cfg0.N) (a : Fin 512) : Fin 2048 := rowOf (T := 4) 512 rfl t a
abbrev xA : FVec Ideal S2048x1024 .f32 := m ((c : Thread nD τ).loc main_arg0)
abbrev preA : FVec Ideal S2x3x1024 .f32 := m ((c : Thread nD τ).loc main_arg1)
abbrev modA : FVec Ideal S6x3x1024 .f32 := m ((c : Thread nD τ).loc main_arg3)

/-- The packed rows that the kernel reads: the gain, the scale and the shift of the first sublayer. -/
theorem vecs (b : Fin 1024) : (V m c main_v17 : FVec Ideal S6x8x1024 .f32) (ix3 0 0 b) = preA m c (ix3 0 0 b)
    ∧ (V m c main_v17 : FVec Ideal S6x8x1024 .f32) (ix3 0 1 b) = modA m c (ix3 0 1 b)
    ∧ (V m c main_v17 : FVec Ideal S6x8x1024 .f32) (ix3 0 2 b) = modA m c (ix3 0 0 b) := by
  refine ⟨?_, ?_, ?_⟩ <;>
  · show StableHlo.after hostOps0 (fun b => m (c, b)) main_v17 _ = _
    after_results_simp
    dsimp only [Matrix.cons_val]
    pointwise []
    after_results_simp
    pointwise []

theorem blk0 (t : Fin cfg0.N) (a : Fin 512) (b : Fin 1024) : iblk m c 0 t (ix2 a b) = xA m c (ix2 (row t a) b) :=
  (congrFun (V_main_arg0 m c) _).trans (congrArg (xA m c) (idx2_ext ((win0_0.rect_emb_val ..).trans (by rw [(idx_facts t).1]; rfl)) ((win0_0.rect_emb_val ..).trans (by rw [(idx_facts t).2.1]; exact Nat.zero_add _))))
theorem blk1 (t : Fin cfg0.N) (k : Fin 8) (b : Fin 1024) : iblk m c 1 t (ix3 0 k b) = (V m c main_v17 : FVec Ideal S6x8x1024 .f32) (ix3 0 k b) :=
  congrArg (V m c main_v17) (idx3_ext ((win0_1.rect_emb_val ..).trans (by rw [(idx_facts t).2.2.1.1]; rfl))
    ((win0_1.rect_emb_val ..).trans (by rw [(idx_facts t).2.2.1.2.1]; exact Nat.zero_add _)) ((win0_1.rect_emb_val ..).trans (by rw [(idx_facts t).2.2.1.2.2]; exact Nat.zero_add _)))
theorem emb2 (t : Fin cfg0.N) (a : Fin 512) (b : Fin 1024) : (win0_2.rect t).emb (ix2 a b) = ix2 (row t a) b :=
  idx2_ext ((win0_2.rect_emb_val ..).trans (by rw [(idx_facts t).2.2.2.1]; rfl)) ((win0_2.rect_emb_val ..).trans (by rw [(idx_facts t).2.2.2.2]; exact Nat.zero_add _))

/-- The reference's result. -/
abbrev R2 : FVec Ideal S2048x1024 .bf16 := Cert.PrenormFwdRefIdeal.Read.val_main_v27 (F := Ideal) (xA m c) (preA m c) (modA m c)

theorem out_eq (i : grid0.Coords) (a1 : Memref sig .tc .vmem S512x1024 .f32) (h1 : a1.IsWhole) (a2 : Memref sig .tc .vmem S1x8x1024 .f32) (h2 : a2.IsWhole)
    (a4 : Memref sig .tc .vmem S512x1024 .bf16) (h4 : a4.IsWhole) (x : Vec Ideal S512x1024 .f32) (v : Vec Ideal S1x8x1024 .f32) :
    out0_A_2 c i a1 h1 a2 h2 a4 h4 x v = k0_pay1 x v := by
  unfold out0_A_2
  rw [View.read_writes_eq_canon _ _ _ (fun y => cover0_A_2 (y := y) ..)]
  unfold kernelRun0_A
  dsimp only
  sl_unfold_words
  rw [View.canon_unit_zero zero2]
  simp only [View.readAt_eq_ld, h1.read_unread, h2.read_unread, View.ld_unit_zero (S := S512x1024) zero2, View.ld_unit_zero (S := S1x8x1024) zero3, shapeCast_self]

/-- A row's modulated norm. -/
def hd (x : Fin 1024 → EReal) (g s h : EReal) (b : Fin 1024) : EReal := x b * rstd x * g * (1 + s) + h

theorem pay_at (x : Vec Ideal S512x1024 .f32) (v : Vec Ideal S1x8x1024 .f32) (a : Fin 512) (b : Fin 1024) :
    k0_pay1 (F := Ideal) x v (ix2 a b) = hd (fun b => x (ix2 a b)) (v (ix3 0 0 b)) (v (ix3 0 1 b)) (v (ix3 0 2 b)) b := by
  pointwise [k0_pay1, hd, rstd, msq]
open Cert.PrenormFwdRefIdeal.Read in
theorem ref_at (x : FVec Ideal S2048x1024 .f32) (p : FVec Ideal S2x3x1024 .f32) (d : FVec Ideal S6x3x1024 .f32) (r : Fin 2048) (b : Fin 1024) :
    val_main_v27 (F := Ideal) x p d (ix2 r b) = hd (fun b => x (ix2 r b)) (p (ix3 0 0 b)) (d (ix3 0 1 b)) (d (ix3 0 0 b)) b := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, hd, rstd, msq]

theorem final : (dats m 0 c).arrAt 2 cfg0.N = R2 m c := by
  refine Dat.arrAt_eq_of_cover (dats m 0 c) 2 _ (fun t _ => ?_) fun i => ?_
  · rw [flushed2_A, out_eq]
    funext y
    show (k0_pay1 (F := Ideal) _ _ y : Ideal .bf16) = R2 m c ((win0_2.rect t).emb y)
    obtain ⟨a, b, rfl⟩ : ∃ a b, y = ix2 a b := ⟨y 0, y 1, eq_ix2 y⟩
    rw [emb2, pay_at, R2, ref_at, blk1, blk1, blk1, (vecs m c b).1, (vecs m c b).2.1, (vecs m c b).2.2]
    congr 1
    exact funext fun b => blk0 ..
  · obtain ⟨r, b, rfl⟩ : ∃ a b, i = ix2 a b := ⟨i 0, i 1, eq_ix2 i⟩
    refine ⟨⟨r.val / 512, by show _ < 4; omega⟩, flush0_2 _, ?_⟩
    have e := emb2 ⟨r.val / 512, by show _ < 4; omega⟩ ⟨r.val % 512, by omega⟩ b
    rw [show row ⟨r.val / 512, by show _ < 4; omega⟩ ⟨r.val % 512, by omega⟩ = r from Fin.ext (by show r.val / 512 * 512 + r.val % 512 = r.val; omega)] at e
    exact e ▸ View.emb_mem_set _ _

end Cert.PrenormFwdIdeal.Value

end
-- ==== Proof.PrenormFwdClaims.lean ====
/- The modulated RMSNorm before the first sublayer: its claims. -/
module

public import proofs.«01_k».proof.Proof.PrenormFwdValue
public import proofs.«01_k».proof.Proof.Gen.PrenormFwd
public import proofs.«01_k».proof.Proof.Gen.PrenormFwdRefIdeal
public import proofs.«01_k».proof.Proof.Gen.PrenormFwdRefIdeal.Run
public import Idealize.ShloMosaic.Lib.Tactic

@[expose] public section

set_option maxRecDepth 16384

noncomputable section

namespace Cert.Proof.PrenormFwd

open Idealize.ShloMosaic Idealize.SL.Sem

/-- The program and its idealization have one text, so one run gives both frames. -/
theorem frame_p : Cert.quiescent_PrenormFwd := fun m ρ _ => by
  have h := Cert.PrenormFwdIdeal.Gen.frame (F := Bits) m ρ
  rw [← show (Cert.PrenormFwd.main (F := Bits)) = (Cert.PrenormFwdIdeal.main (F := Bits)) by sl_kernel_rfl,
    ← show (Cert.PrenormFwd.defs (F := Bits)) = (Cert.PrenormFwdIdeal.defs (F := Bits)) by sl_kernel_rfl] at h
  exact h

theorem frame_i : Cert.quiescent_PrenormFwdIdeal := fun m ρ _ => Cert.PrenormFwdIdeal.Gen.frame m ρ

theorem frame_r : Cert.quiescent_PrenormFwdRefIdeal := fun m ρ _ =>
  (θ_run Cert.PrenormFwdRefIdeal.defs _ _).mono (fun r h => ⟨fun c => (h c).2, sem_eq_zero_of_no_sems (by decide) r.2⟩)
    (Cert.PrenormFwdRefIdeal.Value.run (F := Ideal) m ρ)

theorem algebraic : Cert.algebraic_PrenormFwdIdeal_PrenormFwdRefIdeal := by
  intro m ρ m' ρ' _ hag
  refine ⟨_, (θ_run Cert.PrenormFwdIdeal.defs _ _).mono (fun r h c => ⟨(h c).1.trans (Cert.PrenormFwdIdeal.Value.final m c), (h c).2⟩)
    (Cert.PrenormFwdIdeal.Value.run_blocks m ρ), ?_⟩
  refine (θ_run Cert.PrenormFwdRefIdeal.defs _ _).mono (fun r h c => ⟨(h c).1.trans ?_, (h c).2⟩)
    (Cert.PrenormFwdRefIdeal.Value.run (F := Ideal) m' ρ')
  obtain ⟨h0, h1, _, h3⟩ := hag c
  show Cert.PrenormFwdRefIdeal.Read.val_main_v27 (F := Ideal) (m' (c.tc.loc Cert.PrenormFwdRefIdeal.main_arg0)) (m' (c.tc.loc Cert.PrenormFwdRefIdeal.main_arg1)) (m' (c.tc.loc Cert.PrenormFwdRefIdeal.main_arg3)) = _
  rw [h0, h1, h3]

end Cert.Proof.PrenormFwd

end
-- ==== Proof.ModPartValue.lean ====
/- The modulation: what the array of the result holds. Block `l` holds the rows of layer `l`. -/
module

public import proofs.«01_k».proof.Defs
public import proofs.«01_k».proof.Proof.Gen.ModPartIdeal.Value
public import proofs.«01_k».proof.Proof.Gen.ModPartRefIdeal.Read
public import proofs.«01_k».proof.Proof.Rows

@[expose] public section

set_option maxRecDepth 16384

noncomputable section

namespace Cert.ModPartIdeal.Value

open Cert.ModPartIdeal Cert.ModPartIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, win0_0.index t 0 = 0 ∧ win0_0.index t 1 = 0 ∧ (win0_1.index t 0 = t.val ∧ win0_1.index t 1 = 0 ∧ win0_1.index t 2 = 0)
    ∧ win0_2.index t 0 = t.val ∧ win0_2.index t 1 = 0 ∧ win0_2.index t 2 = 0 := by
  decide +kernel

abbrev lay (t : Fin cfg0.N) : Fin 2 := ⟨t.val, t.isLt⟩
abbrev cA : FVec Ideal S8x1024 .f32 := m ((c : Thread nD τ).loc main_arg0)
abbrev wA : FVec Ideal S2x1024x1152 .f32 := m ((c : Thread nD τ).loc main_arg1)

theorem blk0 (t : Fin cfg0.N) (a : Fin 8) (k : Fin 1024) : iblk m c 0 t (ix2 a k) = cA m c (ix2 a k) :=
  congrArg (cA m c) (idx2_ext ((win0_0.rect_emb_val ..).trans (by rw [(idx_facts t).1]; exact Nat.zero_add _)) ((win0_0.rect_emb_val ..).trans (by rw [(idx_facts t).2.1]; exact Nat.zero_add _)))
theorem blk1 (t : Fin cfg0.N) (k : Fin 1024) (b : Fin 1152) : iblk m c 1 t (ix3 0 k b) = wA m c (ix3 (lay t) k b) :=
  congrArg (wA m c) (idx3_ext ((win0_1.rect_emb_val ..).trans (by rw [(idx_facts t).2.2.1.1]; exact (Nat.add_zero _).trans (Nat.mul_one _)))
    ((win0_1.rect_emb_val ..).trans (by rw [(idx_facts t).2.2.1.2.1]; exact Nat.zero_add _)) ((win0_1.rect_emb_val ..).trans (by rw [(idx_facts t).2.2.1.2.2]; exact Nat.zero_add _)))
theorem emb2 (t : Fin cfg0.N) (a : Fin 8) (b : Fin 1152) : (win0_2.rect t).emb (ix3 0 a b) = ix3 (lay t) a b :=
  idx3_ext ((win0_2.rect_emb_val ..).trans (by rw [(idx_facts t).2.2.2.1]; exact (Nat.add_zero _).trans (Nat.mul_one _)))
    ((win0_2.rect_emb_val ..).trans (by rw [(idx_facts t).2.2.2.2.1]; exact Nat.zero_add _)) ((win0_2.rect_emb_val ..).trans (by rw [(idx_facts t).2.2.2.2.2]; exact Nat.zero_add _))

/-- The reference's result. -/
abbrev R2 : FVec Ideal S2x8x1152 .f32 := Cert.ModPartRefIdeal.Read.val_main_v9 (F := Ideal) (cA m c) (wA m c)

/-- `silu` of one number. -/
abbrev silu (x : EReal) : EReal := x * Ideal.div 1 (1 + Ideal.exp (-x))

theorem pay_at (x : Vec Ideal S8x1024 .f32) (w : Vec Ideal S1x1024x1152 .f32) (a : Fin 8) (b : Fin 1152) :
    k0_pay1 (F := Ideal) x w (ix3 0 a b) = ∑ k : Fin 1024, silu (x (ix2 a k)) * w (ix3 0 k b) := by
  pointwise [k0_pay1, silu]
  simp only [zero_sub]
open Cert.ModPartRefIdeal.Read in
theorem ref_at (x : FVec Ideal S8x1024 .f32) (w : FVec Ideal S2x1024x1152 .f32) (l : Fin 2) (a : Fin 8) (b : Fin 1152) :
    val_main_v9 (F := Ideal) x w (ix3 l a b) = ∑ k : Fin 1024, silu (x (ix2 a k)) * w (ix3 l k b) := by
  fin_cases l <;>
    pointwise [val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, silu]

theorem block_at (t : Fin cfg0.N) (a : Fin 8) (b : Fin 1152) : out0_2 (iblk m c 0 t) (iblk m c 1 t) (ix3 0 a b) = R2 m c (ix3 (lay t) a b) := by
  unfold out0_2
  rw [View.canon_unit_zero zero3, View.ld_unit_zero zero2, View.ld_unit_zero zero3, pay_at, R2, ref_at]
  exact Finset.sum_congr rfl fun k _ => by rw [blk0, blk1]

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .f32) = R2 m c ((win0_2.rect t).emb y)
    obtain ⟨z, a, b, rfl⟩ : ∃ z a b, y = ix3 z a b := ⟨y 0, y 1, y 2, eq_ix3 y⟩
    obtain rfl : z = 0 := Subsingleton.elim _ _
    rw [emb2]
    exact block_at ..
  · obtain ⟨l, a, b, rfl⟩ : ∃ l a b, i = ix3 l a b := ⟨i 0, i 1, i 2, eq_ix3 i⟩
    exact ⟨⟨l.val, l.isLt⟩, flush0_2 _, (emb2 ⟨l.val, l.isLt⟩ a b) ▸ View.emb_mem_set _ _⟩

end Cert.ModPartIdeal.Value

end
-- ==== Proof.ModPartClaims.lean ====
/- The modulation: its claims. -/
module

public import proofs.«01_k».proof.Proof.ModPartValue
public import proofs.«01_k».proof.Proof.Gen.ModPart
public import proofs.«01_k».proof.Proof.Gen.ModPartRefIdeal
public import proofs.«01_k».proof.Proof.Gen.ModPartRefIdeal.Run
public import Idealize.ShloMosaic.Lib.Tactic

@[expose] public section

set_option maxRecDepth 16384

noncomputable section

namespace Cert.Proof.ModPart

open Idealize.ShloMosaic Idealize.SL.Sem

/-- The program and its idealization have one text, so one run gives both frames. -/
theorem frame_p : Cert.quiescent_ModPart := fun m ρ _ => by
  have h := Cert.ModPartIdeal.Gen.frame (F := Bits) m ρ
  rw [← show (Cert.ModPart.main (F := Bits)) = (Cert.ModPartIdeal.main (F := Bits)) by sl_kernel_rfl,
    ← show (Cert.ModPart.defs (F := Bits)) = (Cert.ModPartIdeal.defs (F := Bits)) by sl_kernel_rfl] at h
  exact h

theorem frame_i : Cert.quiescent_ModPartIdeal := fun m ρ _ => Cert.ModPartIdeal.Gen.frame m ρ

theorem frame_r : Cert.quiescent_ModPartRefIdeal := fun m ρ _ =>
  (θ_run Cert.ModPartRefIdeal.defs _ _).mono (fun r h => ⟨fun c => (h c).2, sem_eq_zero_of_no_sems (by decide) r.2⟩)
    (Cert.ModPartRefIdeal.Value.run (F := Ideal) m ρ)

theorem algebraic : Cert.algebraic_ModPartIdeal_ModPartRefIdeal := by
  intro m ρ m' ρ' _ hag
  refine ⟨_, (θ_run Cert.ModPartIdeal.defs _ _).mono (fun r h c => ⟨(h c).1.trans (Cert.ModPartIdeal.Value.final m c), (h c).2⟩)
    (Cert.ModPartIdeal.Value.run_blocks m ρ), ?_⟩
  refine (θ_run Cert.ModPartRefIdeal.defs _ _).mono (fun r h c => ⟨(h c).1.trans ?_, (h c).2⟩)
    (Cert.ModPartRefIdeal.Value.run (F := Ideal) m' ρ')
  obtain ⟨h0, h1⟩ := hag c
  show Cert.ModPartRefIdeal.Read.val_main_v9 (F := Ideal) (m' (c.tc.loc Cert.ModPartRefIdeal.main_arg0)) (m' (c.tc.loc Cert.ModPartRefIdeal.main_arg1)) = _
  rw [h0, h1]

end Cert.Proof.ModPart

end
-- ==== Proof.MmNnValue.lean ====
/- The product g @ w_glu: what the array of the result holds. Block `t` holds 1024 rows and 1024 columns. -/
module

public import proofs.«01_k».proof.Defs
public import proofs.«01_k».proof.Proof.Gen.MmNnIdeal.Value
public import proofs.«01_k».proof.Proof.Gen.MmNnRefIdeal.Read
public import proofs.«01_k».proof.Proof.Rows

@[expose] public section

set_option maxRecDepth 16384

noncomputable section

namespace Cert.MmNnIdeal.Value

open Cert.MmNnIdeal Cert.MmNnIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, win0_0.index t 0 = t.val % 2 ∧ win0_0.index t 1 = 0 ∧ win0_1.index t 0 = 0 ∧ win0_1.index t 1 = t.val / 2
    ∧ win0_2.index t 0 = t.val % 2 ∧ win0_2.index t 1 = t.val / 2 := by
  decide +kernel

abbrev row (t : Fin cfg0.N) (a : Fin 1024) : Fin 2048 := ⟨t.val % 2 * 1024 + a.val, by omega⟩
abbrev col (t : Fin cfg0.N) (b : Fin 1024) : Fin 2048 := ⟨t.val / 2 * 1024 + b.val, by have : t.val < 4 := t.isLt; omega⟩
abbrev aA : FVec Ideal S2048x1024 .bf16 := m ((c : Thread nD τ).loc main_arg0)
abbrev bA : FVec Ideal S1024x2048 .f32 := m ((c : Thread nD τ).loc main_arg1)

theorem host (k : Fin 1024) (b : Fin 2048) : (V m c main_v0 : FVec Ideal S1024x2048 .bf16) (ix2 k b) = bA m c (ix2 k b) := by
  show StableHlo.after hostOps0 (fun b => m (c, b)) main_v0 _ = _
  after_results_simp
  pointwise []

theorem blk0 (t : Fin cfg0.N) (a k : Fin 1024) : iblk m c 0 t (ix2 a k) = aA m c (ix2 (row t a) k) :=
  (congrFun (V_main_arg0 m c) _).trans (congrArg (aA m c) (idx2_ext ((win0_0.rect_emb_val ..).trans (by rw [(idx_facts t).1]; rfl)) ((win0_0.rect_emb_val ..).trans (by rw [(idx_facts t).2.1]; exact Nat.zero_add _))))
theorem blk1 (t : Fin cfg0.N) (k b : Fin 1024) : iblk m c 1 t (ix2 k b) = bA m c (ix2 k (col t b)) :=
  (congrArg (V m c main_v0) (idx2_ext ((win0_1.rect_emb_val ..).trans (by rw [(idx_facts t).2.2.1]; exact Nat.zero_add _)) ((win0_1.rect_emb_val ..).trans (by rw [(idx_facts t).2.2.2.1]; rfl)))).trans (host ..)
theorem emb2 (t : Fin cfg0.N) (a : Fin 1024) (b : Fin 1024) : (win0_2.rect t).emb (ix2 a b) = ix2 (row t a) (col t b) :=
  idx2_ext ((win0_2.rect_emb_val ..).trans (by rw [(idx_facts t).2.2.2.2.1]; rfl)) ((win0_2.rect_emb_val ..).trans (by rw [(idx_facts t).2.2.2.2.2]; rfl))

/-- The reference's result. -/
abbrev R2 : FVec Ideal S2048x2048 .f32 := Cert.MmNnRefIdeal.Read.val_main_v1 (F := Ideal) (aA m c) (bA m c)

open Cert.MmNnRefIdeal.Read in
theorem block_at (t : Fin cfg0.N) (a : Fin 1024) (b : Fin 1024) : out0_2 (iblk m c 0 t) (iblk m c 1 t) (ix2 a b) = R2 m c (ix2 (row t a) (col t b)) := by
  have e : out0_2 (F := Ideal) (iblk m c 0 t) (iblk m c 1 t) = k0_pay1 (iblk m c 0 t) (iblk m c 1 t) := by
    unfold out0_2
    rw [View.ld_unit_zero zero2, View.ld_unit_zero zero2]
    exact View.canon_unit_zero zero2 ..
  rw [e]
  refine Eq.trans (b := (∑ k : Fin 1024, aA m c (ix2 (row t a) k) * bA m c (ix2 k (col t b)) : EReal)) ?_ ?_
  · pointwise [k0_pay1]
    exact Finset.sum_congr rfl fun k _ => congrArg₂ (· * ·) (blk0 ..) (blk1 ..)
  · pointwise [val_main_v1, val_main_v0]

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .f32) = R2 m c ((win0_2.rect t).emb y)
    obtain ⟨a, b, rfl⟩ : ∃ a b, y = ix2 a b := ⟨y 0, y 1, eq_ix2 y⟩
    rw [emb2]
    exact block_at ..
  · obtain ⟨r, b, rfl⟩ : ∃ a b, i = ix2 a b := ⟨i 0, i 1, eq_ix2 i⟩
    have hr := r.isLt
    have hb := b.isLt
    refine ⟨⟨b.val / 1024 * 2 + r.val / 1024, by show _ < 4; omega⟩, flush0_2 _, ?_⟩
    have e := emb2 ⟨b.val / 1024 * 2 + r.val / 1024, by show _ < 4; omega⟩ ⟨r.val % 1024, by omega⟩ ⟨b.val % 1024, by omega⟩
    rw [show row ⟨b.val / 1024 * 2 + r.val / 1024, by show _ < 4; omega⟩ ⟨r.val % 1024, by omega⟩ = r from Fin.ext (by show (b.val / 1024 * 2 + r.val / 1024) % 2 * 1024 + r.val % 1024 = r.val; omega),
      show col ⟨b.val / 1024 * 2 + r.val / 1024, by show _ < 4; omega⟩ ⟨b.val % 1024, by omega⟩ = b from Fin.ext (by show (b.val / 1024 * 2 + r.val / 1024) / 2 * 1024 + b.val % 1024 = b.val; omega)] at e
    exact e ▸ View.emb_mem_set _ _

end Cert.MmNnIdeal.Value

end
-- ==== Proof.MmNnClaims.lean ====
/- The product g @ w_glu: its claims. -/
module

public import proofs.«01_k».proof.Proof.MmNnValue
public import proofs.«01_k».proof.Proof.Gen.MmNn
public import proofs.«01_k».proof.Proof.Gen.MmNnRefIdeal
public import proofs.«01_k».proof.Proof.Gen.MmNnRefIdeal.Run
public import Idealize.ShloMosaic.Lib.Tactic

@[expose] public section

set_option maxRecDepth 16384

noncomputable section

namespace Cert.Proof.MmNn

open Idealize.ShloMosaic Idealize.SL.Sem

/-- The program and its idealization have one text, so one run gives both frames. -/
theorem frame_p : Cert.quiescent_MmNn := fun m ρ _ => by
  have h := Cert.MmNnIdeal.Gen.frame (F := Bits) m ρ
  rw [← show (Cert.MmNn.main (F := Bits)) = (Cert.MmNnIdeal.main (F := Bits)) by sl_kernel_rfl,
    ← show (Cert.MmNn.defs (F := Bits)) = (Cert.MmNnIdeal.defs (F := Bits)) by sl_kernel_rfl] at h
  exact h

theorem frame_i : Cert.quiescent_MmNnIdeal := fun m ρ _ => Cert.MmNnIdeal.Gen.frame m ρ

theorem frame_r : Cert.quiescent_MmNnRefIdeal := fun m ρ _ =>
  (θ_run Cert.MmNnRefIdeal.defs _ _).mono (fun r h => ⟨fun c => (h c).2, sem_eq_zero_of_no_sems (by decide) r.2⟩)
    (Cert.MmNnRefIdeal.Value.run (F := Ideal) m ρ)

theorem algebraic : Cert.algebraic_MmNnIdeal_MmNnRefIdeal := by
  intro m ρ m' ρ' _ hag
  refine ⟨_, (θ_run Cert.MmNnIdeal.defs _ _).mono (fun r h c => ⟨(h c).1.trans (Cert.MmNnIdeal.Value.final m c), (h c).2⟩)
    (Cert.MmNnIdeal.Value.run_blocks m ρ), ?_⟩
  refine (θ_run Cert.MmNnRefIdeal.defs _ _).mono (fun r h c => ⟨(h c).1.trans ?_, (h c).2⟩)
    (Cert.MmNnRefIdeal.Value.run (F := Ideal) m' ρ')
  obtain ⟨h0, h1⟩ := hag c
  show Cert.MmNnRefIdeal.Read.val_main_v1 (F := Ideal) (m' (c.tc.loc Cert.MmNnRefIdeal.main_arg0)) (m' (c.tc.loc Cert.MmNnRefIdeal.main_arg1)) = _
  rw [h0, h1]

end Cert.Proof.MmNn

end
-- ==== Proof.MmNtValue.lean ====
/- The product dzz @ w_gluᵀ: what the array of the result holds. Block `t` holds 1024 rows. -/
module

public import proofs.«01_k».proof.Defs
public import proofs.«01_k».proof.Proof.Gen.MmNtIdeal.Value
public import proofs.«01_k».proof.Proof.Gen.MmNtRefIdeal.Read
public import proofs.«01_k».proof.Proof.Rows

@[expose] public section

set_option maxRecDepth 16384

noncomputable section

namespace Cert.MmNtIdeal.Value

open Cert.MmNtIdeal Cert.MmNtIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, win0_0.index t 0 = t.val ∧ win0_0.index t 1 = 0 ∧ win0_1.index t 0 = 0 ∧ win0_1.index t 1 = 0
    ∧ win0_2.index t 0 = t.val ∧ win0_2.index t 1 = 0 := by
  decide +kernel

abbrev row (t : Fin cfg0.N) (a : Fin 1024) : Fin 2048 := rowOf (T := 2) 1024 rfl t a
abbrev col (_ : Fin cfg0.N) (b : Fin 1024) : Fin 1024 := b
abbrev aA : FVec Ideal S2048x2048 .bf16 := m ((c : Thread nD τ).loc main_arg0)
abbrev bA : FVec Ideal S1024x2048 .f32 := m ((c : Thread nD τ).loc main_arg1)

theorem host (k : Fin 1024) (b : Fin 2048) : (V m c main_v0 : FVec Ideal S1024x2048 .bf16) (ix2 k b) = bA m c (ix2 k b) := by
  show StableHlo.after hostOps0 (fun b => m (c, b)) main_v0 _ = _
  after_results_simp
  pointwise []

theorem blk0 (t : Fin cfg0.N) (a : Fin 1024) (k : Fin 2048) : iblk m c 0 t (ix2 a k) = aA m c (ix2 (row t a) k) :=
  (congrFun (V_main_arg0 m c) _).trans (congrArg (aA m c) (idx2_ext ((win0_0.rect_emb_val ..).trans (by rw [(idx_facts t).1]; rfl)) ((win0_0.rect_emb_val ..).trans (by rw [(idx_facts t).2.1]; exact Nat.zero_add _))))
theorem blk1 (t : Fin cfg0.N) (b : Fin 1024) (k : Fin 2048) : iblk m c 1 t (ix2 b k) = bA m c (ix2 (col t b) k) :=
  (congrArg (V m c main_v0) (idx2_ext ((win0_1.rect_emb_val ..).trans (by rw [(idx_facts t).2.2.1]; exact Nat.zero_add _)) ((win0_1.rect_emb_val ..).trans (by rw [(idx_facts t).2.2.2.1]; exact Nat.zero_add _)))).trans (host ..)
theorem emb2 (t : Fin cfg0.N) (a : Fin 1024) (b : Fin 1024) : (win0_2.rect t).emb (ix2 a b) = ix2 (row t a) (col t b) :=
  idx2_ext ((win0_2.rect_emb_val ..).trans (by rw [(idx_facts t).2.2.2.2.1]; rfl)) ((win0_2.rect_emb_val ..).trans (by rw [(idx_facts t).2.2.2.2.2]; exact Nat.zero_add _))

/-- The reference's result. -/
abbrev R2 : FVec Ideal S2048x1024 .f32 := Cert.MmNtRefIdeal.Read.val_main_v2 (F := Ideal) (aA m c) (bA m c)

open Cert.MmNtRefIdeal.Read in
theorem block_at (t : Fin cfg0.N) (a : Fin 1024) (b : Fin 1024) : out0_2 (iblk m c 0 t) (iblk m c 1 t) (ix2 a b) = R2 m c (ix2 (row t a) (col t b)) := by
  have e : out0_2 (F := Ideal) (iblk m c 0 t) (iblk m c 1 t) = k0_pay1 (iblk m c 0 t) (iblk m c 1 t) := by
    unfold out0_2
    rw [View.ld_unit_zero zero2, View.ld_unit_zero zero2]
    exact View.canon_unit_zero zero2 ..
  rw [e]
  refine Eq.trans (b := (∑ k : Fin 2048, aA m c (ix2 (row t a) k) * bA m c (ix2 (col t b) k) : EReal)) ?_ ?_
  · pointwise [k0_pay1]
    exact Finset.sum_congr rfl fun k _ => congrArg₂ (· * ·) (blk0 ..) (blk1 ..)
  · pointwise [val_main_v2, val_main_v1, val_main_v0]

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .f32) = R2 m c ((win0_2.rect t).emb y)
    obtain ⟨a, b, rfl⟩ : ∃ a b, y = ix2 a b := ⟨y 0, y 1, eq_ix2 y⟩
    rw [emb2]
    exact block_at ..
  · obtain ⟨r, b, rfl⟩ : ∃ a b, i = ix2 a b := ⟨i 0, i 1, eq_ix2 i⟩
    have hr := r.isLt
    have hb := b.isLt
    refine ⟨⟨r.val / 1024, by show _ < 2; omega⟩, flush0_2 _, ?_⟩
    have e := emb2 ⟨r.val / 1024, by show _ < 2; omega⟩ ⟨r.val % 1024, by omega⟩ ⟨b.val % 1024, by omega⟩
    rw [show row ⟨r.val / 1024, by show _ < 2; omega⟩ ⟨r.val % 1024, by omega⟩ = r from Fin.ext (by show r.val / 1024 * 1024 + r.val % 1024 = r.val; omega),
      show col ⟨r.val / 1024, by show _ < 2; omega⟩ ⟨b.val % 1024, by omega⟩ = b from Fin.ext (by show b.val % 1024 = b.val; omega)] at e
    exact e ▸ View.emb_mem_set _ _

end Cert.MmNtIdeal.Value

end
-- ==== Proof.MmNtClaims.lean ====
/- The product dzz @ w_gluᵀ: its claims. -/
module

public import proofs.«01_k».proof.Proof.MmNtValue
public import proofs.«01_k».proof.Proof.Gen.MmNt
public import proofs.«01_k».proof.Proof.Gen.MmNtRefIdeal
public import proofs.«01_k».proof.Proof.Gen.MmNtRefIdeal.Run
public import Idealize.ShloMosaic.Lib.Tactic

@[expose] public section

set_option maxRecDepth 16384

noncomputable section

namespace Cert.Proof.MmNt

open Idealize.ShloMosaic Idealize.SL.Sem

/-- The program and its idealization have one text, so one run gives both frames. -/
theorem frame_p : Cert.quiescent_MmNt := fun m ρ _ => by
  have h := Cert.MmNtIdeal.Gen.frame (F := Bits) m ρ
  rw [← show (Cert.MmNt.main (F := Bits)) = (Cert.MmNtIdeal.main (F := Bits)) by sl_kernel_rfl,
    ← show (Cert.MmNt.defs (F := Bits)) = (Cert.MmNtIdeal.defs (F := Bits)) by sl_kernel_rfl] at h
  exact h

theorem frame_i : Cert.quiescent_MmNtIdeal := fun m ρ _ => Cert.MmNtIdeal.Gen.frame m ρ

theorem frame_r : Cert.quiescent_MmNtRefIdeal := fun m ρ _ =>
  (θ_run Cert.MmNtRefIdeal.defs _ _).mono (fun r h => ⟨fun c => (h c).2, sem_eq_zero_of_no_sems (by decide) r.2⟩)
    (Cert.MmNtRefIdeal.Value.run (F := Ideal) m ρ)

theorem algebraic : Cert.algebraic_MmNtIdeal_MmNtRefIdeal := by
  intro m ρ m' ρ' _ hag
  refine ⟨_, (θ_run Cert.MmNtIdeal.defs _ _).mono (fun r h c => ⟨(h c).1.trans (Cert.MmNtIdeal.Value.final m c), (h c).2⟩)
    (Cert.MmNtIdeal.Value.run_blocks m ρ), ?_⟩
  refine (θ_run Cert.MmNtRefIdeal.defs _ _).mono (fun r h c => ⟨(h c).1.trans ?_, (h c).2⟩)
    (Cert.MmNtRefIdeal.Value.run (F := Ideal) m' ρ')
  obtain ⟨h0, h1⟩ := hag c
  show Cert.MmNtRefIdeal.Read.val_main_v2 (F := Ideal) (m' (c.tc.loc Cert.MmNtRefIdeal.main_arg0)) (m' (c.tc.loc Cert.MmNtRefIdeal.main_arg1)) = _
  rw [h0, h1]

end Cert.Proof.MmNt

end
-- ==== Proof.MmTnValue.lean ====
/- The product gᵀ @ dzz: what the array of the result holds. Block `t` holds 512 rows and 512 columns. -/
module

public import proofs.«01_k».proof.Defs
public import proofs.«01_k».proof.Proof.Gen.MmTnIdeal.Value
public import proofs.«01_k».proof.Proof.Gen.MmTnRefIdeal.Read
public import proofs.«01_k».proof.Proof.Rows

@[expose] public section

set_option maxRecDepth 16384

noncomputable section

namespace Cert.MmTnIdeal.Value

open Cert.MmTnIdeal Cert.MmTnIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, win0_0.index t 0 = 0 ∧ win0_0.index t 1 = t.val / 4 ∧ win0_1.index t 0 = 0 ∧ win0_1.index t 1 = t.val % 4
    ∧ win0_2.index t 0 = t.val / 4 ∧ win0_2.index t 1 = t.val % 4 := by
  decide +kernel

abbrev row (t : Fin cfg0.N) (a : Fin 512) : Fin 1024 := ⟨t.val / 4 * 512 + a.val, by have : t.val < 8 := t.isLt; omega⟩
abbrev col (t : Fin cfg0.N) (b : Fin 512) : Fin 2048 := ⟨t.val % 4 * 512 + b.val, by omega⟩
abbrev aA : FVec Ideal S2048x1024 .bf16 := m ((c : Thread nD τ).loc main_arg0)
abbrev bA : FVec Ideal S2048x2048 .bf16 := m ((c : Thread nD τ).loc main_arg1)

theorem blk0 (t : Fin cfg0.N) (k : Fin 2048) (a : Fin 512) : iblk m c 0 t (ix2 k a) = aA m c (ix2 k (row t a)) :=
  congrArg (aA m c) (idx2_ext ((win0_0.rect_emb_val ..).trans (by rw [(idx_facts t).1]; exact Nat.zero_add _)) ((win0_0.rect_emb_val ..).trans (by rw [(idx_facts t).2.1]; rfl)))
theorem blk1 (t : Fin cfg0.N) (k : Fin 2048) (b : Fin 512) : iblk m c 1 t (ix2 k b) = bA m c (ix2 k (col t b)) :=
  congrArg (bA m c) (idx2_ext ((win0_1.rect_emb_val ..).trans (by rw [(idx_facts t).2.2.1]; exact Nat.zero_add _)) ((win0_1.rect_emb_val ..).trans (by rw [(idx_facts t).2.2.2.1]; rfl)))
theorem emb2 (t : Fin cfg0.N) (a : Fin 512) (b : Fin 512) : (win0_2.rect t).emb (ix2 a b) = ix2 (row t a) (col t b) :=
  idx2_ext ((win0_2.rect_emb_val ..).trans (by rw [(idx_facts t).2.2.2.2.1]; rfl)) ((win0_2.rect_emb_val ..).trans (by rw [(idx_facts t).2.2.2.2.2]; rfl))

/-- The reference's result. -/
abbrev R2 : FVec Ideal S1024x2048 .bf16 := Cert.MmTnRefIdeal.Read.val_main_v4 (F := Ideal) (aA m c) (bA m c)

open Cert.MmTnRefIdeal.Read in
theorem block_at (t : Fin cfg0.N) (a : Fin 512) (b : Fin 512) : out0_2 (iblk m c 0 t) (iblk m c 1 t) (ix2 a b) = R2 m c (ix2 (row t a) (col t b)) := by
  have e : out0_2 (F := Ideal) (iblk m c 0 t) (iblk m c 1 t) = k0_pay1 (iblk m c 0 t) (iblk m c 1 t) := by
    unfold out0_2
    rw [View.ld_unit_zero zero2, View.ld_unit_zero zero2]
    exact View.canon_unit_zero zero2 ..
  rw [e]
  refine Eq.trans (b := (∑ k : Fin 2048, aA m c (ix2 k (row t a)) * bA m c (ix2 k (col t b)) : EReal)) ?_ ?_
  · pointwise [k0_pay1]
    exact Finset.sum_congr rfl fun k _ => congrArg₂ (· * ·) (blk0 ..) (blk1 ..)
  · pointwise [val_main_v4, val_main_v3, val_main_v2, val_main_v1, val_main_v0]

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .bf16) = R2 m c ((win0_2.rect t).emb y)
    obtain ⟨a, b, rfl⟩ : ∃ a b, y = ix2 a b := ⟨y 0, y 1, eq_ix2 y⟩
    rw [emb2]
    exact block_at ..
  · obtain ⟨r, b, rfl⟩ : ∃ a b, i = ix2 a b := ⟨i 0, i 1, eq_ix2 i⟩
    have hr := r.isLt
    have hb := b.isLt
    refine ⟨⟨r.val / 512 * 4 + b.val / 512, by show _ < 8; omega⟩, flush0_2 _, ?_⟩
    have e := emb2 ⟨r.val / 512 * 4 + b.val / 512, by show _ < 8; omega⟩ ⟨r.val % 512, by omega⟩ ⟨b.val % 512, by omega⟩
    rw [show row ⟨r.val / 512 * 4 + b.val / 512, by show _ < 8; omega⟩ ⟨r.val % 512, by omega⟩ = r from Fin.ext (by show (r.val / 512 * 4 + b.val / 512) / 4 * 512 + r.val % 512 = r.val; omega),
      show col ⟨r.val / 512 * 4 + b.val / 512, by show _ < 8; omega⟩ ⟨b.val % 512, by omega⟩ = b from Fin.ext (by show (r.val / 512 * 4 + b.val / 512) % 4 * 512 + b.val % 512 = b.val; omega)] at e
    exact e ▸ View.emb_mem_set _ _

end Cert.MmTnIdeal.Value

end
-- ==== Proof.MmTnClaims.lean ====
/- The product gᵀ @ dzz: its claims. -/
module

public import proofs.«01_k».proof.Proof.MmTnValue
public import proofs.«01_k».proof.Proof.Gen.MmTn
public import proofs.«01_k».proof.Proof.Gen.MmTnRefIdeal
public import proofs.«01_k».proof.Proof.Gen.MmTnRefIdeal.Run
public import Idealize.ShloMosaic.Lib.Tactic

@[expose] public section

set_option maxRecDepth 16384

noncomputable section

namespace Cert.Proof.MmTn

open Idealize.ShloMosaic Idealize.SL.Sem

/-- The program and its idealization have one text, so one run gives both frames. -/
theorem frame_p : Cert.quiescent_MmTn := fun m ρ _ => by
  have h := Cert.MmTnIdeal.Gen.frame (F := Bits) m ρ
  rw [← show (Cert.MmTn.main (F := Bits)) = (Cert.MmTnIdeal.main (F := Bits)) by sl_kernel_rfl,
    ← show (Cert.MmTn.defs (F := Bits)) = (Cert.MmTnIdeal.defs (F := Bits)) by sl_kernel_rfl] at h
  exact h

theorem frame_i : Cert.quiescent_MmTnIdeal := fun m ρ _ => Cert.MmTnIdeal.Gen.frame m ρ

theorem frame_r : Cert.quiescent_MmTnRefIdeal := fun m ρ _ =>
  (θ_run Cert.MmTnRefIdeal.defs _ _).mono (fun r h => ⟨fun c => (h c).2, sem_eq_zero_of_no_sems (by decide) r.2⟩)
    (Cert.MmTnRefIdeal.Value.run (F := Ideal) m ρ)

theorem algebraic : Cert.algebraic_MmTnIdeal_MmTnRefIdeal := by
  intro m ρ m' ρ' _ hag
  refine ⟨_, (θ_run Cert.MmTnIdeal.defs _ _).mono (fun r h c => ⟨(h c).1.trans (Cert.MmTnIdeal.Value.final m c), (h c).2⟩)
    (Cert.MmTnIdeal.Value.run_blocks m ρ), ?_⟩
  refine (θ_run Cert.MmTnRefIdeal.defs _ _).mono (fun r h c => ⟨(h c).1.trans ?_, (h c).2⟩)
    (Cert.MmTnRefIdeal.Value.run (F := Ideal) m' ρ')
  obtain ⟨h0, h1⟩ := hag c
  show Cert.MmTnRefIdeal.Read.val_main_v4 (F := Ideal) (m' (c.tc.loc Cert.MmTnRefIdeal.main_arg0)) (m' (c.tc.loc Cert.MmTnRefIdeal.main_arg1)) = _
  rw [h0, h1]

end Cert.Proof.MmTn

end
-- ==== Proof.MmSumValue.lean ====
/- The product dz @ w_inᵀ with the hidden width in shards: what the array of the result holds. Block `t` holds rows `512·t` to `512·t + 511`. -/
module

public import proofs.«01_k».proof.Defs
public import proofs.«01_k».proof.Proof.Gen.MmSumIdeal.Value
public import proofs.«01_k».proof.Proof.Gen.MmSumRefIdeal.Read
public import proofs.«01_k».proof.Proof.Rows

@[expose] public section

set_option maxRecDepth 16384

noncomputable section

namespace Cert.MmSumIdeal.Value

open Cert.MmSumIdeal Cert.MmSumIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, (win0_0.index t 0 = 0 ∧ win0_0.index t 1 = t.val ∧ win0_0.index t 2 = 0) ∧ (win0_1.index t 0 = 0 ∧ win0_1.index t 1 = 0 ∧ win0_1.index t 2 = 0)
    ∧ win0_2.index t 0 = t.val ∧ win0_2.index t 1 = 0 := by
  decide +kernel

abbrev row (t : Fin cfg0.N) (a : Fin 512) : Fin 2048 := rowOf (T := 4) 512 rfl t a
abbrev zA : FVec Ideal S8x2048x704 .bf16 := m ((c : Thread nD τ).loc main_arg0)
abbrev wA : FVec Ideal S1024x5632 .f32 := m ((c : Thread nD τ).loc main_arg1)

/-- The weight, transposed and in shards. -/
theorem host (s : Fin 8) (l : Fin 704) (b : Fin 1024) : (V m c main_v2 : FVec Ideal S8x704x1024 .bf16) (ix3 s l b) = wA m c (ix2 b ⟨s.val * 704 + l.val, by omega⟩) := by
  show StableHlo.after hostOps0 (fun b => m (c, b)) main_v2 _ = _
  after_results_simp
  pointwise []

theorem blk0 (t : Fin cfg0.N) (s : Fin 8) (a : Fin 512) (l : Fin 704) : iblk m c 0 t (ix3 s a l) = zA m c (ix3 s (row t a) l) :=
  (congrFun (V_main_arg0 m c) _).trans (congrArg (zA m c) (idx3_ext ((win0_0.rect_emb_val ..).trans (by rw [(idx_facts t).1.1]; exact Nat.zero_add _))
    ((win0_0.rect_emb_val ..).trans (by rw [(idx_facts t).1.2.1]; rfl)) ((win0_0.rect_emb_val ..).trans (by rw [(idx_facts t).1.2.2]; exact Nat.zero_add _))))
theorem blk1 (t : Fin cfg0.N) (s : Fin 8) (l : Fin 704) (b : Fin 1024) : iblk m c 1 t (ix3 s l b) = wA m c (ix2 b ⟨s.val * 704 + l.val, by omega⟩) :=
  (congrArg (V m c main_v2) (idx3_ext ((win0_1.rect_emb_val ..).trans (by rw [(idx_facts t).2.1.1]; exact Nat.zero_add _))
    ((win0_1.rect_emb_val ..).trans (by rw [(idx_facts t).2.1.2.1]; exact Nat.zero_add _)) ((win0_1.rect_emb_val ..).trans (by rw [(idx_facts t).2.1.2.2]; exact Nat.zero_add _)))).trans (host ..)
theorem emb2 (t : Fin cfg0.N) (a : Fin 512) (b : Fin 1024) : (win0_2.rect t).emb (ix2 a b) = ix2 (row t a) b :=
  idx2_ext ((win0_2.rect_emb_val ..).trans (by rw [(idx_facts t).2.2.1]; rfl)) ((win0_2.rect_emb_val ..).trans (by rw [(idx_facts t).2.2.2]; exact Nat.zero_add _))

/-- The reference's result. -/
abbrev R2 : FVec Ideal S2048x1024 .f32 := Cert.MmSumRefIdeal.Read.val_main_v4 (F := Ideal) (zA m c) (wA m c)

/-- A block of the result: the shards' products, added up. -/
theorem out_at (x : Vec Ideal S8x512x704 .bf16) (w : Vec Ideal S8x704x1024 .bf16) (a : Fin 512) (b : Fin 1024) :
    out0_2 x w (ix2 a b) = ∑ s : Fin 8, ∑ l : Fin 704, x (ix3 s a l) * w (ix3 s l b) := by
  unfold out0_2
  rw [View.canon_unit_zero zero2, Fin.sum_univ_eight]
  pointwise [k0_pay1, k0_pay2, k0_pay3]

/-- A sum over 5632 columns, shard by shard. -/
theorem sum_shards {M : Type} [AddCommMonoid M] (f : Fin 5632 → M) : ∑ k, f k = ∑ s : Fin 8, ∑ l : Fin 704, f ⟨s.val * 704 + l.val, by omega⟩ := by
  rw [← Fintype.sum_prod_type' (fun (s : Fin 8) (l : Fin 704) => f ⟨s.val * 704 + l.val, by omega⟩)]
  refine (Fintype.sum_equiv (finProdFinEquiv (m := 8) (n := 704)) _ _ fun x => ?_).symm
  congr 1
  apply Fin.ext
  show x.1.val * 704 + x.2.val = x.2.val + 704 * x.1.val
  omega

open Cert.MmSumRefIdeal.Read in
theorem ref_at (z : FVec Ideal S8x2048x704 .bf16) (w : FVec Ideal S1024x5632 .f32) (r : Fin 2048) (b : Fin 1024) :
    val_main_v4 (F := Ideal) z w (ix2 r b) = ∑ s : Fin 8, ∑ l : Fin 704, z (ix3 s r l) * w (ix2 b ⟨s.val * 704 + l.val, by omega⟩) := by
  refine Eq.trans (b := (∑ k : Fin 5632, z (ix3 ⟨k.val / 704, by omega⟩ r ⟨k.val % 704, by omega⟩) * w (ix2 b k) : EReal)) ?_ ?_
  · pointwise [val_main_v4, val_main_v3, val_main_v2, val_main_v1, val_main_v0]
  · rw [sum_shards]
    refine Finset.sum_congr rfl fun s _ => Finset.sum_congr rfl fun l _ => ?_
    congr 3
    · exact Fin.ext (by show (s.val * 704 + l.val) / 704 = s.val; omega)
    · exact Fin.ext (by show (s.val * 704 + l.val) % 704 = l.val; omega)

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .f32) = R2 m c ((win0_2.rect t).emb y)
    obtain ⟨a, b, rfl⟩ : ∃ a b, y = ix2 a b := ⟨y 0, y 1, eq_ix2 y⟩
    rw [emb2, out_at, R2, ref_at]
    exact Finset.sum_congr rfl fun s _ => Finset.sum_congr rfl fun l _ => by rw [blk0, blk1]
  · obtain ⟨r, b, rfl⟩ : ∃ a b, i = ix2 a b := ⟨i 0, i 1, eq_ix2 i⟩
    refine ⟨⟨r.val / 512, by show _ < 4; omega⟩, flush0_2 _, ?_⟩
    have e := emb2 ⟨r.val / 512, by show _ < 4; omega⟩ ⟨r.val % 512, by omega⟩ b
    rw [show row ⟨r.val / 512, by show _ < 4; omega⟩ ⟨r.val % 512, by omega⟩ = r from Fin.ext (by show r.val / 512 * 512 + r.val % 512 = r.val; omega)] at e
    exact e ▸ View.emb_mem_set _ _

end Cert.MmSumIdeal.Value

end
-- ==== Proof.MmSumClaims.lean ====
/- The product dz @ w_inᵀ in shards: its claims. -/
module

public import proofs.«01_k».proof.Proof.MmSumValue
public import proofs.«01_k».proof.Proof.Gen.MmSum
public import proofs.«01_k».proof.Proof.Gen.MmSumRefIdeal
public import proofs.«01_k».proof.Proof.Gen.MmSumRefIdeal.Run
public import Idealize.ShloMosaic.Lib.Tactic

@[expose] public section

set_option maxRecDepth 16384

noncomputable section

namespace Cert.Proof.MmSum

open Idealize.ShloMosaic Idealize.SL.Sem

/-- The program and its idealization have one text, so one run gives both frames. -/
theorem frame_p : Cert.quiescent_MmSum := fun m ρ _ => by
  have h := Cert.MmSumIdeal.Gen.frame (F := Bits) m ρ
  rw [← show (Cert.MmSum.main (F := Bits)) = (Cert.MmSumIdeal.main (F := Bits)) by sl_kernel_rfl,
    ← show (Cert.MmSum.defs (F := Bits)) = (Cert.MmSumIdeal.defs (F := Bits)) by sl_kernel_rfl] at h
  exact h

theorem frame_i : Cert.quiescent_MmSumIdeal := fun m ρ _ => Cert.MmSumIdeal.Gen.frame m ρ

theorem frame_r : Cert.quiescent_MmSumRefIdeal := fun m ρ _ =>
  (θ_run Cert.MmSumRefIdeal.defs _ _).mono (fun r h => ⟨fun c => (h c).2, sem_eq_zero_of_no_sems (by decide) r.2⟩)
    (Cert.MmSumRefIdeal.Value.run (F := Ideal) m ρ)

theorem algebraic : Cert.algebraic_MmSumIdeal_MmSumRefIdeal := by
  intro m ρ m' ρ' _ hag
  refine ⟨_, (θ_run Cert.MmSumIdeal.defs _ _).mono (fun r h c => ⟨(h c).1.trans (Cert.MmSumIdeal.Value.final m c), (h c).2⟩)
    (Cert.MmSumIdeal.Value.run_blocks m ρ), ?_⟩
  refine (θ_run Cert.MmSumRefIdeal.defs _ _).mono (fun r h c => ⟨(h c).1.trans ?_, (h c).2⟩)
    (Cert.MmSumRefIdeal.Value.run (F := Ideal) m' ρ')
  obtain ⟨h0, h1⟩ := hag c
  show Cert.MmSumRefIdeal.Read.val_main_v4 (F := Ideal) (m' (c.tc.loc Cert.MmSumRefIdeal.main_arg0)) (m' (c.tc.loc Cert.MmSumRefIdeal.main_arg1)) = _
  rw [h0, h1]

end Cert.Proof.MmSum

end
-- ==== Proof.AdamwValue.lean ====
/- The optimiser's step: what the arrays of the results hold, as functions of the arguments. -/
module

public import proofs.«01_k».proof.Defs
public import proofs.«01_k».proof.Proof.Gen.AdamwIdeal.Value
public import proofs.«01_k».proof.Proof.Gen.AdamwRefIdeal.Read
public import proofs.«01_k».proof.Proof.Rows

@[expose] public section

set_option maxRecDepth 16384

noncomputable section

namespace Cert.AdamwIdeal.Value

open Cert.AdamwIdeal Cert.AdamwIdeal.Gen Idealize.ShloMosaic Idealize.ShloMosaic.TcCoe Idealize.SL.Sem Cert.Util Pipeline

variable (p : FVec Ideal S8x192x1024 .bf16) (w u v : FVec Ideal S192x1024 .f32)

/-- The gradient: the sum of the parts. -/
theorem grad_at (a : Fin 192) (b : Fin 1024) : G4 (F := Ideal) p w u v (ix2 a b) = (∑ s : Fin 8, p (ix3 s a b) : EReal) := by
  rw [Fin.sum_univ_eight]
  pointwise [k0_pay4]

open Cert.AdamwRefIdeal.Read in
theorem g_eq : G4 (F := Ideal) p w u v = val_main_v1 (F := Ideal) p := by
  funext y
  obtain ⟨a, b, rfl⟩ : ∃ a b, y = ix2 a b := ⟨y 0, y 1, eq_ix2 y⟩
  rw [grad_at]
  pointwise [val_main_v1, val_main_v0, val_main_cst]

theorem pay5_eq : k0_pay5 (F := Ideal) p w u v = Cert.AdamwRefIdeal.Read.val_main_v1 (F := Ideal) p := g_eq p w u v

open Cert.AdamwRefIdeal.Read in
theorem m_eq : G6 (F := Ideal) p w u v = val_main_v6 (F := Ideal) p u := by
  show k0_pay1 (k0_pay5 (F := Ideal) p w u v) u = _
  rw [pay5_eq]
  unfold val_main_v6 val_main_v5
  generalize val_main_v1 (F := Ideal) p = g
  funext y
  obtain ⟨a, b, rfl⟩ : ∃ a b, y = ix2 a b := ⟨y 0, y 1, eq_ix2 y⟩
  pointwise [k0_pay1, val_main_v4, val_main_v3, val_main_v2, val_main_cst_0, val_main_cst_1]

open Cert.AdamwRefIdeal.Read in
theorem v_eq : G7 (F := Ideal) p w u v = val_main_v12 (F := Ideal) p v := by
  show k0_pay2 (k0_pay5 (F := Ideal) p w u v) v = _
  rw [pay5_eq]
  unfold val_main_v12 val_main_v11 val_main_v9
  generalize val_main_v1 (F := Ideal) p = g
  funext y
  obtain ⟨a, b, rfl⟩ : ∃ a b, y = ix2 a b := ⟨y 0, y 1, eq_ix2 y⟩
  pointwise [k0_pay2, val_main_v10, val_main_v8, val_main_v7, val_main_cst_2, val_main_cst_3]

open Cert.AdamwRefIdeal.Read in
theorem d_eq : G5 (F := Ideal) p w u v = val_main_v25 (F := Ideal) p w u v := by
  have hm : k0_pay1 (F := Ideal) (k0_pay5 (F := Ideal) p w u v) u = val_main_v6 (F := Ideal) p u := m_eq p w u v
  have hv : k0_pay2 (F := Ideal) (k0_pay5 (F := Ideal) p w u v) v = val_main_v12 (F := Ideal) p v := v_eq p w u v
  show k0_pay3 (k0_pay5 (F := Ideal) p w u v) w u v = _
  unfold k0_pay3
  rw [hm, hv]
  unfold val_main_v25 val_main_v23 val_main_v20 val_main_v19 val_main_v17 val_main_v16 val_main_v14
  generalize val_main_v6 (F := Ideal) p u = u'
  generalize val_main_v12 (F := Ideal) p v = v'
  funext y
  obtain ⟨a, b, rfl⟩ : ∃ a b, y = ix2 a b := ⟨y 0, y 1, eq_ix2 y⟩
  pointwise [val_main_v24, val_main_v22, val_main_v21, val_main_v18, val_main_v15, val_main_v13, val_main_cst_4, val_main_cst_5, val_main_cst_6, val_main_cst_7, val_main_cst_8]

end Cert.AdamwIdeal.Value

end
-- ==== Proof.AdamwClaims.lean ====
/- The optimiser's step: its claims. -/
module

public import proofs.«01_k».proof.Proof.AdamwValue
public import proofs.«01_k».proof.Proof.Gen.Adamw
public import proofs.«01_k».proof.Proof.Gen.AdamwRefIdeal
public import proofs.«01_k».proof.Proof.Gen.AdamwRefIdeal.Run
public import Idealize.ShloMosaic.Lib.Tactic

@[expose] public section

set_option maxRecDepth 16384

noncomputable section

namespace Cert.Proof.Adamw

open Idealize.ShloMosaic Idealize.SL.Sem Cert.Util

/-- The program and its idealization have one text: the same entry … -/
theorem main_same : (Cert.Adamw.main (F := Bits)) = (Cert.AdamwIdeal.main (F := Bits)) := by sl_kernel_rfl

/-- … and the same bodies. -/
theorem defs_same : (Cert.Adamw.defs (F := Bits)) = (Cert.AdamwIdeal.defs (F := Bits)) := by sl_kernel_rfl

/-- So one run gives both frames. -/
theorem frame_p : Cert.quiescent_Adamw := fun m ρ _ => by
  have h := Cert.AdamwIdeal.Gen.frame (F := Bits) m ρ
  rw [← main_same, ← defs_same] at h
  exact h

theorem frame_i : Cert.quiescent_AdamwIdeal := fun m ρ _ => Cert.AdamwIdeal.Gen.frame m ρ

theorem frame_r : Cert.quiescent_AdamwRefIdeal := fun m ρ _ =>
  (θ_run Cert.AdamwRefIdeal.defs _ _).mono (fun r h => ⟨fun c => (h c).2.2.2.2, sem_eq_zero_of_no_sems (by decide) r.2⟩)
    (Cert.AdamwRefIdeal.Value.run (F := Ideal) m ρ)

theorem algebraic : Cert.algebraic_AdamwIdeal_AdamwRefIdeal := by
  intro m ρ m' ρ' _ hag
  refine ⟨_, _, _, _, Cert.AdamwIdeal.Value.run m ρ, ?_⟩
  refine (θ_run Cert.AdamwRefIdeal.defs _ _).mono (fun r h c => ⟨(h c).1.trans ?_, (h c).2.1.trans ?_, (h c).2.2.1.trans ?_, (h c).2.2.2.1.trans ?_, (h c).2.2.2.2⟩)
    (Cert.AdamwRefIdeal.Value.run (F := Ideal) m' ρ')
  · show Cert.AdamwRefIdeal.Read.val_main_v1 (F := Ideal) (m' (c.tc.loc Cert.AdamwRefIdeal.main_arg0)) = _
    rw [(hag c).1]
    exact (Cert.AdamwIdeal.Value.g_eq ..).symm
  · show Cert.AdamwRefIdeal.Read.val_main_v25 (F := Ideal) (m' (c.tc.loc Cert.AdamwRefIdeal.main_arg0)) (m' (c.tc.loc Cert.AdamwRefIdeal.main_arg1)) (m' (c.tc.loc Cert.AdamwRefIdeal.main_arg2)) (m' (c.tc.loc Cert.AdamwRefIdeal.main_arg3)) = _
    rw [(hag c).1, (hag c).2.1, (hag c).2.2.1, (hag c).2.2.2]
    exact (Cert.AdamwIdeal.Value.d_eq ..).symm
  · show Cert.AdamwRefIdeal.Read.val_main_v6 (F := Ideal) (m' (c.tc.loc Cert.AdamwRefIdeal.main_arg0)) (m' (c.tc.loc Cert.AdamwRefIdeal.main_arg2)) = _
    rw [(hag c).1, (hag c).2.2.1]
    exact (Cert.AdamwIdeal.Value.m_eq ..).symm
  · show Cert.AdamwRefIdeal.Read.val_main_v12 (F := Ideal) (m' (c.tc.loc Cert.AdamwRefIdeal.main_arg0)) (m' (c.tc.loc Cert.AdamwRefIdeal.main_arg3)) = _
    rw [(hag c).1, (hag c).2.2.2]
    exact (Cert.AdamwIdeal.Value.v_eq ..).symm

end Cert.Proof.Adamw

end
-- ==== Proof.MmDwValue.lean ====
/- The gradient dzᵀ @ h with the hidden width in shards: what the array of the result holds. Block `t` holds shard `t / 2` and columns `512·(t % 2)` to `512·(t % 2) + 511`. -/
module

public import proofs.«01_k».proof.Defs
public import proofs.«01_k».proof.Proof.Gen.MmDwIdeal.Value
public import proofs.«01_k».proof.Proof.Gen.MmDwRefIdeal.Read
public import proofs.«01_k».proof.Proof.Rows

@[expose] public section

set_option maxRecDepth 16384

noncomputable section

namespace Cert.MmDwIdeal.Value

open Cert.MmDwIdeal Cert.MmDwIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, (win0_0.index t 0 = t.val / 2 ∧ win0_0.index t 1 = 0 ∧ win0_0.index t 2 = 0) ∧ (win0_1.index t 0 = 0 ∧ win0_1.index t 1 = t.val % 2)
    ∧ win0_2.index t 0 = t.val / 2 ∧ win0_2.index t 1 = 0 ∧ win0_2.index t 2 = t.val % 2 := by
  decide +kernel

abbrev sh (t : Fin cfg0.N) : Fin 8 := ⟨t.val / 2, by have : t.val < 16 := t.isLt; omega⟩
abbrev col (t : Fin cfg0.N) (b : Fin 512) : Fin 1024 := ⟨t.val % 2 * 512 + b.val, by omega⟩
abbrev zA : FVec Ideal S8x2048x704 .bf16 := m ((c : Thread nD τ).loc main_arg0)
abbrev hA : FVec Ideal S2048x1024 .bf16 := m ((c : Thread nD τ).loc main_arg1)

theorem blk0 (t : Fin cfg0.N) (k : Fin 2048) (l : Fin 704) : iblk m c 0 t (ix3 0 k l) = zA m c (ix3 (sh t) k l) :=
  congrArg (zA m c) (idx3_ext ((win0_0.rect_emb_val ..).trans (by rw [(idx_facts t).1.1]; exact (Nat.add_zero _).trans (Nat.mul_one _)))
    ((win0_0.rect_emb_val ..).trans (by rw [(idx_facts t).1.2.1]; exact Nat.zero_add _)) ((win0_0.rect_emb_val ..).trans (by rw [(idx_facts t).1.2.2]; exact Nat.zero_add _)))
theorem blk1 (t : Fin cfg0.N) (k : Fin 2048) (b : Fin 512) : iblk m c 1 t (ix2 k b) = hA m c (ix2 k (col t b)) :=
  congrArg (hA m c) (idx2_ext ((win0_1.rect_emb_val ..).trans (by rw [(idx_facts t).2.1.1]; exact Nat.zero_add _)) ((win0_1.rect_emb_val ..).trans (by rw [(idx_facts t).2.1.2]; rfl)))
theorem emb2 (t : Fin cfg0.N) (l : Fin 704) (b : Fin 512) : (win0_2.rect t).emb (ix3 0 l b) = ix3 (sh t) l (col t b) :=
  idx3_ext ((win0_2.rect_emb_val ..).trans (by rw [(idx_facts t).2.2.1]; exact (Nat.add_zero _).trans (Nat.mul_one _)))
    ((win0_2.rect_emb_val ..).trans (by rw [(idx_facts t).2.2.2.1]; exact Nat.zero_add _)) ((win0_2.rect_emb_val ..).trans (by rw [(idx_facts t).2.2.2.2]; rfl))

/-- The reference's result. -/
abbrev R2 : FVec Ideal S8x704x1024 .bf16 := Cert.MmDwRefIdeal.Read.val_main_v8 (F := Ideal) (zA m c) (hA m c)

theorem out_at (x : Vec Ideal S1x2048x704 .bf16) (h : Vec Ideal S2048x512 .bf16) (l : Fin 704) (b : Fin 512) :
    out0_2 x h (ix3 0 l b) = (∑ k : Fin 2048, x (ix3 0 k l) * h (ix2 k b) : EReal) := by
  unfold out0_2
  rw [View.canon_unit_zero zero3]
  pointwise [k0_pay1]
open Cert.MmDwRefIdeal.Read in
theorem ref_at (z : FVec Ideal S8x2048x704 .bf16) (h : FVec Ideal S2048x1024 .bf16) (s : Fin 8) (l : Fin 704) (b : Fin 1024) :
    val_main_v8 (F := Ideal) z h (ix3 s l b) = (∑ k : Fin 2048, z (ix3 s k l) * h (ix2 k b) : EReal) := by
  refine Eq.trans (b := (∑ k : Fin 2048, h (ix2 k b) * z (ix3 s k l) : EReal)) ?_ (Finset.sum_congr rfl fun k _ => mul_comm _ _)
  pointwise [val_main_v8, val_main_v7, val_main_v6, val_main_v5, val_main_v4, val_main_v3, val_main_v2, val_main_v1, val_main_v0]

theorem final : (dats m 0 c).arrAt 2 cfg0.N = R2 m c := by
  refine Dat.arrAt_eq_of_cover (dats m 0 c) 2 _ (fun t _ => ?_) fun i => ?_
  · rw [flushed2]
    funext y
    show (out0_2 (F := Ideal) _ _ y : Ideal .bf16) = R2 m c ((win0_2.rect t).emb y)
    obtain ⟨z, l, b, rfl⟩ : ∃ z a b, y = ix3 z a b := ⟨y 0, y 1, y 2, eq_ix3 y⟩
    obtain rfl : z = 0 := Subsingleton.elim _ _
    rw [emb2, out_at, R2, ref_at]
    exact Finset.sum_congr rfl fun k _ => by rw [blk0, blk1]
  · obtain ⟨s, l, b, rfl⟩ : ∃ l a b, i = ix3 l a b := ⟨i 0, i 1, i 2, eq_ix3 i⟩
    refine ⟨⟨s.val * 2 + b.val / 512, by show _ < 16; omega⟩, flush0_2 _, ?_⟩
    have e := emb2 ⟨s.val * 2 + b.val / 512, by show _ < 16; omega⟩ l ⟨b.val % 512, by omega⟩
    rw [show sh ⟨s.val * 2 + b.val / 512, by show _ < 16; omega⟩ = s from Fin.ext (by show (s.val * 2 + b.val / 512) / 2 = s.val; omega),
      show col ⟨s.val * 2 + b.val / 512, by show _ < 16; omega⟩ ⟨b.val % 512, by omega⟩ = b from
        Fin.ext (by show (s.val * 2 + b.val / 512) % 2 * 512 + b.val % 512 = b.val; omega)] at e
    exact e ▸ View.emb_mem_set _ _

end Cert.MmDwIdeal.Value

end
-- ==== Proof.MmDwClaims.lean ====
/- The gradient dzᵀ @ h in shards: its claims. -/
module

public import proofs.«01_k».proof.Proof.MmDwValue
public import proofs.«01_k».proof.Proof.Gen.MmDw
public import proofs.«01_k».proof.Proof.Gen.MmDwRefIdeal
public import proofs.«01_k».proof.Proof.Gen.MmDwRefIdeal.Run
public import Idealize.ShloMosaic.Lib.Tactic

@[expose] public section

set_option maxRecDepth 16384

noncomputable section

namespace Cert.Proof.MmDw

open Idealize.ShloMosaic Idealize.SL.Sem

/-- The program and its idealization have one text, so one run gives both frames. -/
theorem frame_p : Cert.quiescent_MmDw := fun m ρ _ => by
  have h := Cert.MmDwIdeal.Gen.frame (F := Bits) m ρ
  rw [← show (Cert.MmDw.main (F := Bits)) = (Cert.MmDwIdeal.main (F := Bits)) by sl_kernel_rfl,
    ← show (Cert.MmDw.defs (F := Bits)) = (Cert.MmDwIdeal.defs (F := Bits)) by sl_kernel_rfl] at h
  exact h

theorem frame_i : Cert.quiescent_MmDwIdeal := fun m ρ _ => Cert.MmDwIdeal.Gen.frame m ρ

theorem frame_r : Cert.quiescent_MmDwRefIdeal := fun m ρ _ =>
  (θ_run Cert.MmDwRefIdeal.defs _ _).mono (fun r h => ⟨fun c => (h c).2, sem_eq_zero_of_no_sems (by decide) r.2⟩)
    (Cert.MmDwRefIdeal.Value.run (F := Ideal) m ρ)

theorem algebraic : Cert.algebraic_MmDwIdeal_MmDwRefIdeal := by
  intro m ρ m' ρ' _ hag
  refine ⟨_, (θ_run Cert.MmDwIdeal.defs _ _).mono (fun r h c => ⟨(h c).1.trans (Cert.MmDwIdeal.Value.final m c), (h c).2⟩)
    (Cert.MmDwIdeal.Value.run_blocks m ρ), ?_⟩
  refine (θ_run Cert.MmDwRefIdeal.defs _ _).mono (fun r h c => ⟨(h c).1.trans ?_, (h c).2⟩)
    (Cert.MmDwRefIdeal.Value.run (F := Ideal) m' ρ')
  obtain ⟨h0, h1⟩ := hag c
  show Cert.MmDwRefIdeal.Read.val_main_v8 (F := Ideal) (m' (c.tc.loc Cert.MmDwRefIdeal.main_arg0)) (m' (c.tc.loc Cert.MmDwRefIdeal.main_arg1)) = _
  rw [h0, h1]

end Cert.Proof.MmDw

end
-- ==== Proof.SumPartsValue.lean ====
/- The sum of the devices' parts: what the array of the result holds. Block `t` holds rows `888·t` to `888·t + 887`. -/
module

public import proofs.«01_k».proof.Defs
public import proofs.«01_k».proof.Proof.Gen.SumPartsIdeal.Value
public import proofs.«01_k».proof.Proof.Gen.SumPartsRefIdeal.Read
public import proofs.«01_k».proof.Proof.Rows

@[expose] public section

set_option maxRecDepth 16384

noncomputable section

namespace Cert.SumPartsIdeal.Value

open Cert.SumPartsIdeal Cert.SumPartsIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, (win0_0.index t 0 = 0 ∧ win0_0.index t 1 = t.val ∧ win0_0.index t 2 = 0) ∧ win0_1.index t 0 = t.val ∧ win0_1.index t 1 = 0 := by
  decide +kernel

abbrev row (t : Fin cfg0.N) (a : Fin 888) : Fin 3552 := rowOf (T := 4) 888 rfl t a
abbrev pA : FVec Ideal S8x3552x128 .f32 := m ((c : Thread nD τ).loc main_arg0)

theorem blk0 (t : Fin cfg0.N) (s : Fin 8) (a : Fin 888) (b : Fin 128) : iblk m c 0 t (ix3 s a b) = pA m c (ix3 s (row t a) b) :=
  congrArg (pA m c) (idx3_ext ((win0_0.rect_emb_val ..).trans (by rw [(idx_facts t).1.1]; exact Nat.zero_add _))
    ((win0_0.rect_emb_val ..).trans (by rw [(idx_facts t).1.2.1]; rfl)) ((win0_0.rect_emb_val ..).trans (by rw [(idx_facts t).1.2.2]; exact Nat.zero_add _)))
theorem emb1 (t : Fin cfg0.N) (a : Fin 888) (b : Fin 128) : (win0_1.rect t).emb (ix2 a b) = ix2 (row t a) b :=
  idx2_ext ((win0_1.rect_emb_val ..).trans (by rw [(idx_facts t).2.1]; rfl)) ((win0_1.rect_emb_val ..).trans (by rw [(idx_facts t).2.2]; exact Nat.zero_add _))

/-- The reference's result. -/
abbrev R1 : FVec Ideal S3552x128 .f32 := Cert.SumPartsRefIdeal.Read.val_main_v0 (F := Ideal) (pA m c)

theorem out_at (x : Vec Ideal S8x888x128 .f32) (a : Fin 888) (b : Fin 128) : out0_1 x (ix2 a b) = (∑ s : Fin 8, x (ix3 s a b) : EReal) := by
  unfold out0_1
  rw [View.canon_unit_zero zero2, Fin.sum_univ_eight]
  pointwise [k0_pay1]
open Cert.SumPartsRefIdeal.Read in
theorem ref_at (p : FVec Ideal S8x3552x128 .f32) (r : Fin 3552) (b : Fin 128) : val_main_v0 (F := Ideal) p (ix2 r b) = (∑ s : Fin 8, p (ix3 s r b) : EReal) := by
  pointwise [val_main_v0, val_main_cst]

theorem final : (dats m 0 c).arrAt 1 cfg0.N = R1 m c := by
  refine Dat.arrAt_eq_of_cover (dats m 0 c) 1 _ (fun t _ => ?_) fun i => ?_
  · rw [flushed1]
    funext y
    show (out0_1 (F := Ideal) _ y : Ideal .f32) = R1 m c ((win0_1.rect t).emb y)
    obtain ⟨a, b, rfl⟩ : ∃ a b, y = ix2 a b := ⟨y 0, y 1, eq_ix2 y⟩
    rw [emb1, out_at, R1, ref_at]
    exact Finset.sum_congr rfl fun s _ => blk0 ..
  · obtain ⟨r, b, rfl⟩ : ∃ a b, i = ix2 a b := ⟨i 0, i 1, eq_ix2 i⟩
    refine ⟨⟨r.val / 888, by show _ < 4; omega⟩, flush0_1 _, ?_⟩
    have e := emb1 ⟨r.val / 888, by show _ < 4; omega⟩ ⟨r.val % 888, by omega⟩ b
    rw [show row ⟨r.val / 888, by show _ < 4; omega⟩ ⟨r.val % 888, by omega⟩ = r from Fin.ext (by show r.val / 888 * 888 + r.val % 888 = r.val; omega)] at e
    exact e ▸ View.emb_mem_set _ _

end Cert.SumPartsIdeal.Value

end
-- ==== Proof.SumPartsClaims.lean ====
/- The sum of the devices' parts: its claims. -/
module

public import proofs.«01_k».proof.Proof.SumPartsValue
public import proofs.«01_k».proof.Proof.Gen.SumParts
public import proofs.«01_k».proof.Proof.Gen.SumPartsRefIdeal
public import proofs.«01_k».proof.Proof.Gen.SumPartsRefIdeal.Run
public import Idealize.ShloMosaic.Lib.Tactic

@[expose] public section

set_option maxRecDepth 16384

noncomputable section

namespace Cert.Proof.SumParts

open Idealize.ShloMosaic Idealize.SL.Sem

/-- The program and its idealization have one text, so one run gives both frames. -/
theorem frame_p : Cert.quiescent_SumParts := fun m ρ _ => by
  have h := Cert.SumPartsIdeal.Gen.frame (F := Bits) m ρ
  rw [← show (Cert.SumParts.main (F := Bits)) = (Cert.SumPartsIdeal.main (F := Bits)) by sl_kernel_rfl,
    ← show (Cert.SumParts.defs (F := Bits)) = (Cert.SumPartsIdeal.defs (F := Bits)) by sl_kernel_rfl] at h
  exact h

theorem frame_i : Cert.quiescent_SumPartsIdeal := fun m ρ _ => Cert.SumPartsIdeal.Gen.frame m ρ

theorem frame_r : Cert.quiescent_SumPartsRefIdeal := fun m ρ _ =>
  (θ_run Cert.SumPartsRefIdeal.defs _ _).mono (fun r h => ⟨fun c => (h c).2, sem_eq_zero_of_no_sems (by decide) r.2⟩)
    (Cert.SumPartsRefIdeal.Value.run (F := Ideal) m ρ)

theorem algebraic : Cert.algebraic_SumPartsIdeal_SumPartsRefIdeal := by
  intro m ρ m' ρ' _ hag
  refine ⟨_, (θ_run Cert.SumPartsIdeal.defs _ _).mono (fun r h c => ⟨(h c).1.trans (Cert.SumPartsIdeal.Value.final m c), (h c).2⟩)
    (Cert.SumPartsIdeal.Value.run_blocks m ρ), ?_⟩
  refine (θ_run Cert.SumPartsRefIdeal.defs _ _).mono (fun r h c => ⟨(h c).1.trans ?_, (h c).2⟩)
    (Cert.SumPartsRefIdeal.Value.run (F := Ideal) m' ρ')
  have h0 := hag c
  show Cert.SumPartsRefIdeal.Read.val_main_v0 (F := Ideal) (m' (c.tc.loc Cert.SumPartsRefIdeal.main_arg0)) = _
  rw [h0]

end Cert.Proof.SumParts

end
-- ==== Proof.BlockDiagValue.lean ====
/- S5's matrices as block matrices: what the array of the result holds. Block `t` holds the 128 channels of groups `8·t` to `8·t + 7`; an entry survives where its row's group is its column's. -/
module

public import proofs.«01_k».proof.Defs
public import proofs.«01_k».proof.Proof.Gen.BlockDiagIdeal.Value
public import proofs.«01_k».proof.Proof.Gen.BlockDiagRefIdeal.Read
public import proofs.«01_k».proof.Proof.Rows
public import proofs.«01_k».proof.Proof.NormGrad

@[expose] public section

set_option maxRecDepth 16384

noncomputable section

namespace Cert.BlockDiagIdeal.Value

open Idealize.ShloMosaic.WordCmp Cert.BlockDiagIdeal Cert.BlockDiagIdeal.Gen Idealize.ShloMosaic Idealize.ShloMosaic.TcCoe Idealize.SL.Sem Cert.Util Pipeline

variable (m : (ℓ : Loc nD τ sig) → Buf (Elt Ideal) ℓ) (c : Dev nD)

theorem idx_facts : ∀ t : Fin cfg0.N, (win0_0.index t 0 = t.val ∧ win0_0.index t 1 = 0) ∧ (win0_1.index t 0 = t.val ∧ win0_1.index t 1 = 0) ∧ (win0_2.index t 0 = 0 ∧ win0_2.index t 1 = 0)
    ∧ win0_3.index t 0 = t.val ∧ win0_3.index t 1 = 0 ∧ win0_3.index t 2 = 0 := by
  decide +kernel

abbrev slab (t : Fin cfg0.N) : Fin 8 := t
abbrev mR : FVec Ideal S64x16x64 .f32 := m ((c : Thread nD τ).loc main_arg0)
abbrev mI : FVec Ideal S64x16x64 .f32 := m ((c : Thread nD τ).loc main_arg1)
/-- An argument at a row of block `T` and a state. -/
abbrev src (a : FVec Ideal S64x16x64 .f32) (T : Fin 8) (r : Fin 128) (q : Fin 64) : EReal := a (ix3 ⟨T.val * 8 + r.val / 16, by omega⟩ ⟨r.val % 16, by omega⟩ q)

/-- The unit matrix, repeated. -/
theorem host_e (p : Fin 64) (l : Fin 512) : (V m c main_v10 : FVec Ideal S64x512 .bf16) (ix2 p l) = if p.val = l.val % 64 then (1 : EReal) else 0 := by
  show StableHlo.after hostOps0 (fun b => m (c, b)) main_v10 _ = _
  after_results_simp
  pointwise []
  rw [show IntOp.addi (BitVec.ofNat 32 p.val) 0#32 = BitVec.ofNat 32 p.val from BitVec.add_zero _]
  by_cases h : p.val = l.val % 64
  · rw [if_pos h, h, (cmpi_eq_ofNat_eq_one_iff (w := 32) (by omega) (by omega)).2 rfl]
    simp [FloatOps.uitofp]
  · rw [if_neg h, (cmpi_eq_ofNat_eq_zero_iff (w := 32) (by omega) (by omega)).2 h]
    simp [FloatOps.uitofp]
theorem host_r (k : Fin 1024) (q : Fin 64) : (V m c main_v0 : FVec Ideal S1024x64 .f32) (ix2 k q) = mR m c (ix3 ⟨k.val / 16, by omega⟩ ⟨k.val % 16, by omega⟩ q) := by
  show StableHlo.after hostOps0 (fun b => m (c, b)) main_v0 _ = _
  after_results_simp
  pointwise []
theorem blk0 (t : Fin cfg0.N) (r : Fin 128) (q : Fin 64) : iblk m c 0 t (ix2 r q) = src (mR m c) (slab t) r q :=
  (congrArg (V m c main_v0 : FVec Ideal S1024x64 .f32) (idx2_ext (y := ix2 (rowOf (T := 8) 128 rfl t r) q) ((win0_0.rect_emb_val ..).trans (by rw [(idx_facts t).1.1]; rfl))
    ((win0_0.rect_emb_val ..).trans (by rw [(idx_facts t).1.2]; exact Nat.zero_add _)))).trans <| (host_r m c _ q).trans <|
  congrArg (mR m c) (idx3_ext (by show (t.val * 128 + r.val) / 16 = t.val * 8 + r.val / 16; omega) (by show (t.val * 128 + r.val) % 16 = r.val % 16; omega) rfl)
theorem host_i (k : Fin 1024) (q : Fin 64) : (V m c main_v1 : FVec Ideal S1024x64 .f32) (ix2 k q) = mI m c (ix3 ⟨k.val / 16, by omega⟩ ⟨k.val % 16, by omega⟩ q) := by
  show StableHlo.after hostOps0 (fun b => m (c, b)) main_v1 _ = _
  after_results_simp
  pointwise []
theorem blk1 (t : Fin cfg0.N) (r : Fin 128) (q : Fin 64) : iblk m c 1 t (ix2 r q) = src (mI m c) (slab t) r q :=
  (congrArg (V m c main_v1 : FVec Ideal S1024x64 .f32) (idx2_ext (y := ix2 (rowOf (T := 8) 128 rfl t r) q) ((win0_1.rect_emb_val ..).trans (by rw [(idx_facts t).2.1.1]; rfl))
    ((win0_1.rect_emb_val ..).trans (by rw [(idx_facts t).2.1.2]; exact Nat.zero_add _)))).trans <| (host_i m c _ q).trans <|
  congrArg (mI m c) (idx3_ext (by show (t.val * 128 + r.val) / 16 = t.val * 8 + r.val / 16; omega) (by show (t.val * 128 + r.val) % 16 = r.val % 16; omega) rfl)
theorem blk2 (t : Fin cfg0.N) (p : Fin 64) (l : Fin 512) : iblk m c 2 t (ix2 p l) = if p.val = l.val % 64 then (1 : EReal) else 0 :=
  (congrArg (V m c main_v10 : FVec Ideal S64x512 .bf16) (idx2_ext ((win0_2.rect_emb_val ..).trans (by rw [(idx_facts t).2.2.1.1]; exact Nat.zero_add _))
    ((win0_2.rect_emb_val ..).trans (by rw [(idx_facts t).2.2.1.2]; exact Nat.zero_add _)))).trans (host_e m c p l)
theorem emb3 (t : Fin cfg0.N) (r : Fin 128) (l : Fin 1024) : (win0_3.rect t).emb (ix3 0 r l) = ix3 (slab t) r l :=
  idx3_ext ((win0_3.rect_emb_val ..).trans (by rw [(idx_facts t).2.2.2.1]; exact (Nat.add_zero _).trans (Nat.mul_one _)))
    ((win0_3.rect_emb_val ..).trans (by rw [(idx_facts t).2.2.2.2.1]; exact Nat.zero_add _)) ((win0_3.rect_emb_val ..).trans (by rw [(idx_facts t).2.2.2.2.2]; exact Nat.zero_add _))

/-- The reference's result. -/
abbrev R3 : FVec Ideal S8x128x1024 .bf16 := Cert.BlockDiagRefIdeal.Read.val_main_v17 (F := Ideal) (mR m c) (mI m c)

/-- A product with the repeated unit matrix picks the column's state. -/
theorem pick (f e : Fin 64 → EReal) (l : Fin 512) (he : ∀ p, e p = if p.val = l.val % 64 then 1 else 0) : ∑ p : Fin 64, f p * e p = f ⟨l.val % 64, by omega⟩ := by
  rw [Finset.sum_eq_single ⟨l.val % 64, by omega⟩ (fun p _ h => by rw [he, if_neg fun e => h (Fin.ext e), mul_zero]) (fun h => absurd (Finset.mem_univ _) h), he, if_pos rfl, mul_one]

/-- Rounding towards zero, corrected to rounding down, as the words say it. -/
abbrev fdiv (n : ℕ) (d : BitVec 32) : BitVec 32 :=
  Scalar.select
    (IntOp.andi (IntOp.cmpi .ne (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt d 0#32)) (Scalar.extui (Scalar.cmpi .slt d 0#32))))
      (IntOp.cmpi .ne (IntOp.remsi .vector (BitVec.ofNat 32 n) d) 0#32))
    (IntOp.subi (IntOp.divsi .vector (BitVec.ofNat 32 n) d) 1#32) (IntOp.divsi .vector (BitVec.ofNat 32 n) d)
theorem fdiv_row : ∀ r : Fin 128, fdiv r.val 16#32 = BitVec.ofNat 32 (r.val / 16) := by decide +kernel
theorem fdiv_col : ∀ l : Fin 512, fdiv l.val 64#32 = BitVec.ofNat 32 (l.val / 64) := by decide +kernel
theorem mask_at (r : Fin 128) (l : Fin 512) : k0_pay1 k0_pay4 k0_pay5 k0_pay6 k0_pay7 (ix2 r l) = if r.val / 16 = l.val / 64 then 1#1 else 0#1 := by
  refine Eq.trans (b := IntOp.cmpi .eq (fdiv r.val 16#32) (fdiv l.val 64#32)) ?_ ?_
  · pointwise [k0_pay1, k0_pay4, k0_pay5, k0_pay6, k0_pay7]
  rw [fdiv_row, fdiv_col]
  by_cases h : r.val / 16 = l.val / 64
  · rw [if_pos h, h, (cmpi_eq_ofNat_eq_one_iff (w := 32) (by omega) (by omega)).2 rfl]
  · rw [if_neg h, (cmpi_eq_ofNat_eq_zero_iff (w := 32) (by omega) (by omega)).2 h]

variable (x : Vec Ideal S128x64 .f32) (e : Vec Ideal S64x512 .bf16) (he : ∀ p l, e (ix2 p l) = if p.val = l.val % 64 then (1 : EReal) else 0) (r : Fin 128) (l : Fin 512)
include he
theorem part_at : k0_pay2 k0_pay4 k0_pay5 k0_pay6 k0_pay7 x e (ix3 0 r l) = if r.val / 16 = l.val / 64 then (x (ix2 r ⟨l.val % 64, by omega⟩) : EReal) else 0 := by
  generalize hk : k0_pay1 k0_pay4 k0_pay5 k0_pay6 k0_pay7 = M
  have hm := mask_at r l
  rw [hk] at hm
  unfold k0_pay2
  rw [hk]
  pointwise []
  rw [hm, pick (fun p => x (ix2 r p)) (fun p => e (ix2 p l)) l fun p => he p l]
  by_cases h : r.val / 16 = l.val / 64
  · rw [if_pos h, if_pos h]; rfl
  · rw [if_neg h, if_neg h]; rfl
omit he
variable (y : Vec Ideal S128x64 .f32)
include he
theorem out_re : out0_3 x y e (ix3 0 r ⟨l.val, by omega⟩) = if r.val / 16 = l.val / 64 then (x (ix2 r ⟨l.val % 64, by omega⟩) : EReal) else 0 := by
  refine Eq.trans ?_ (part_at x e he r l)
  unfold_out out0_3
  rw [View.canon_cons_of_not_mem, show (ix3 0 r ⟨l.val, by omega⟩ : S1x128x1024.Idx) = r0_2.emb (ix3 0 r l) from ?_, View.canon_cons_emb, View.ld_unit_zero zero2, View.ld_unit_zero zero2]
  · exact idx3_ext rfl (by show r.val = 0 + 1 * r.val; omega) (by show l.val = 0 + 1 * l.val; omega)
  · intro hm
    have h2 : 512 ≤ l.val := ((Rect.mem_set_unit (inb := inb_S1x128x1024_S1x128x512_0_0_512)).1 hm 2).1
    omega
theorem out_im : out0_3 x y e (ix3 0 r ⟨512 + l.val, by omega⟩) = if r.val / 16 = l.val / 64 then (y (ix2 r ⟨l.val % 64, by omega⟩) : EReal) else 0 := by
  refine Eq.trans ?_ (part_at y e he r l)
  unfold_out out0_3
  rw [show (ix3 0 r ⟨512 + l.val, by omega⟩ : S1x128x1024.Idx) = r0_3.emb (ix3 0 r l) from ?_, View.canon_cons_emb, View.ld_unit_zero zero2, View.ld_unit_zero zero2]
  · rfl
  · exact idx3_ext rfl (by show r.val = 0 + 1 * r.val; omega) (by show 512 + l.val = 512 + 1 * l.val; omega)
omit he

/-- The reference's choice at an entry of its unit matrix. -/
theorem choose (a b : ℕ) (ha : a < 8) (hb : b < 8) (x : EReal) (z : Ideal .f32) (hz : z = (0 : EReal)) :
    (if Ideal.ofBits .f32 1056964608#32 < FloatOps.uitofp (F := Ideal) .f32 (IntOp.cmpi .eq (IntOp.addi (BitVec.ofNat 32 a) 0#32) (BitVec.ofNat 32 b)) then x else z) = if a = b then x else 0 := by
  rw [hz, show IntOp.addi (BitVec.ofNat 32 a) 0#32 = BitVec.ofNat 32 a from BitVec.add_zero _]
  by_cases h : a = b
  · rw [if_pos h, h, (cmpi_eq_ofNat_eq_one_iff (w := 32) (by omega) (by omega)).2 rfl, if_pos]
    simp only [FloatOps.uitofp]
    refine lt_of_eq_of_lt half_eq ?_
    simpa using EReal.coe_lt_coe_iff.2 (by norm_num : (1 / 2 : ℝ) < 1)
  · rw [if_neg h, (cmpi_eq_ofNat_eq_zero_iff (w := 32) (by omega) (by omega)).2 h, if_neg]
    simp only [FloatOps.uitofp]
    refine not_lt.2 (le_of_le_of_eq ?_ half_eq.symm)
    simpa using EReal.coe_le_coe_iff.2 (by norm_num : (0 : ℝ) ≤ 1 / 2)

open Cert.BlockDiagRefIdeal.Read
variable (u v : FVec Ideal S64x16x64 .f32) (T : Fin 8)
theorem ref_re : val_main_v17 (F := Ideal) u v (ix3 T r ⟨l.val, by omega⟩) = if r.val / 16 = l.val / 64 then src u T r ⟨l.val % 64, by omega⟩ else 0 := by
  refine Eq.trans ?_ (choose (r.val / 16) (l.val / 64) (by omega) (by omega) (src u T r ⟨l.val % 64, by omega⟩) (constant (F := Ideal) Cert.BlockDiagRefIdeal.S_ .f32 0#32 ix0) (by pointwise []))
  pointwise [val_main_v0, val_main_v1, val_main_c, val_main_v2, val_main_v3, val_main_v4, val_main_v5, val_main_cst, val_main_v6, val_main_v7, val_main_v8, val_main_v9, val_main_cst_0, val_main_call0_v0, val_main_call0_v1, val_main_call0_v2, val_main_call0_v3, val_main_v10, val_main_v11, val_main_v16, val_main_v17]
  exact if_congr Iff.rfl rfl (by show constant (F := Ideal) Cert.BlockDiagRefIdeal.S_ .f32 0#32 ix0 = _; pointwise [])
theorem ref_im : val_main_v17 (F := Ideal) u v (ix3 T r ⟨512 + l.val, by omega⟩) = if r.val / 16 = l.val / 64 then src v T r ⟨l.val % 64, by omega⟩ else 0 := by
  refine Eq.trans ?_ (choose (r.val / 16) (l.val / 64) (by omega) (by omega) (src v T r ⟨l.val % 64, by omega⟩) (constant (F := Ideal) Cert.BlockDiagRefIdeal.S_ .f32 0#32 ix0) (by pointwise []))
  pointwise [val_main_v0, val_main_v1, val_main_c, val_main_v2, val_main_v3, val_main_v4, val_main_v5, val_main_cst, val_main_v6, val_main_v7, val_main_v12, val_main_v13, val_main_cst_1, val_main_call1_v0, val_main_call1_v1, val_main_call1_v2, val_main_call1_v3, val_main_v14, val_main_v15, val_main_v16, val_main_v17]
  exact if_congr Iff.rfl rfl (by show constant (F := Ideal) Cert.BlockDiagRefIdeal.S_ .f32 0#32 ix0 = _; pointwise [])

theorem final : (dats m 0 c).arrAt 3 cfg0.N = R3 m c := by
  refine Dat.arrAt_eq_of_cover (dats m 0 c) 3 _ (fun t _ => ?_) fun i => ?_
  · rw [flushed3]
    funext y
    show (out0_3 (F := Ideal) (iblk m c 0 t) (iblk m c 1 t) (iblk m c 2 t) y : Ideal .bf16) = R3 m c ((win0_3.rect t).emb y)
    obtain ⟨z, r, l, rfl⟩ : ∃ z a b, y = ix3 z a b := ⟨y 0, y 1, y 2, eq_ix3 y⟩
    obtain rfl : z = 0 := Subsingleton.elim _ _
    rw [emb3]
    by_cases h : l.val < 512
    · exact (out_re _ _ (blk2 m c t) r ⟨l.val, h⟩ _).trans (.trans (by rw [blk0]) (ref_re r ⟨l.val, h⟩ (mR m c) (mI m c) (slab t)).symm)
    · have e : l = ⟨512 + (⟨l.val - 512, by omega⟩ : Fin 512).val, by omega⟩ := Fin.ext (by show l.val = 512 + (l.val - 512); omega)
      rw [e]
      exact (out_im _ _ (blk2 m c t) r _ _).trans (.trans (by rw [blk1]) (ref_im r _ (mR m c) (mI m c) (slab t)).symm)
  · obtain ⟨T, r, l, rfl⟩ : ∃ l a b, i = ix3 l a b := ⟨i 0, i 1, i 2, eq_ix3 i⟩
    exact ⟨T, flush0_3 _, emb3 T r l ▸ View.emb_mem_set _ _⟩

end Cert.BlockDiagIdeal.Value

end
-- ==== Proof.BlockDiagClaims.lean ====
/- S5's matrices as block matrices: its claims. -/
module

public import proofs.«01_k».proof.Proof.BlockDiagValue
public import proofs.«01_k».proof.Proof.Gen.BlockDiag
public import proofs.«01_k».proof.Proof.Gen.BlockDiagRefIdeal
public import proofs.«01_k».proof.Proof.Gen.BlockDiagRefIdeal.Run
public import Idealize.ShloMosaic.Lib.Tactic

@[expose] public section

set_option maxRecDepth 16384

noncomputable section

namespace Cert.Proof.BlockDiag

open Idealize.ShloMosaic Idealize.SL.Sem

/-- The program and its idealization have one text, so one run gives both frames. -/
theorem frame_p : Cert.quiescent_BlockDiag := fun m ρ _ => by
  have h := Cert.BlockDiagIdeal.Gen.frame (F := Bits) m ρ
  rw [← show (Cert.BlockDiag.main (F := Bits)) = (Cert.BlockDiagIdeal.main (F := Bits)) by sl_kernel_rfl,
    ← show (Cert.BlockDiag.defs (F := Bits)) = (Cert.BlockDiagIdeal.defs (F := Bits)) by sl_kernel_rfl] at h
  exact h

theorem frame_i : Cert.quiescent_BlockDiagIdeal := fun m ρ _ => Cert.BlockDiagIdeal.Gen.frame m ρ

theorem frame_r : Cert.quiescent_BlockDiagRefIdeal := fun m ρ _ =>
  (θ_run Cert.BlockDiagRefIdeal.defs _ _).mono (fun r h => ⟨fun c => (h c).2, sem_eq_zero_of_no_sems (by decide) r.2⟩)
    (Cert.BlockDiagRefIdeal.Value.run (F := Ideal) m ρ)

theorem algebraic : Cert.algebraic_BlockDiagIdeal_BlockDiagRefIdeal := by
  intro m ρ m' ρ' _ hag
  refine ⟨_, (θ_run Cert.BlockDiagIdeal.defs _ _).mono (fun r h c => ⟨(h c).1.trans (Cert.BlockDiagIdeal.Value.final m c), (h c).2⟩)
    (Cert.BlockDiagIdeal.Value.run_blocks m ρ), ?_⟩
  refine (θ_run Cert.BlockDiagRefIdeal.defs _ _).mono (fun r h c => ⟨(h c).1.trans ?_, (h c).2⟩)
    (Cert.BlockDiagRefIdeal.Value.run (F := Ideal) m' ρ')
  obtain ⟨h0, h1⟩ := hag c
  show Cert.BlockDiagRefIdeal.Read.val_main_v17 (F := Ideal) (m' (c.tc.loc Cert.BlockDiagRefIdeal.main_arg0)) (m' (c.tc.loc Cert.BlockDiagRefIdeal.main_arg1)) = _
  rw [h0, h1]

end Cert.Proof.BlockDiag

end
-- ==== Proof.AdamwRowsValue.lean ====
/- The optimiser's step in the shapes of ab_w_out's rows: what the arrays of the results hold, as functions of the arguments. -/
module

public import proofs.«01_k».proof.Defs
public import proofs.«01_k».proof.Proof.Gen.AdamwRowsIdeal.Value
public import proofs.«01_k».proof.Proof.Gen.AdamwRowsRefIdeal.Read
public import proofs.«01_k».proof.Proof.Rows

@[expose] public section

set_option maxRecDepth 16384

noncomputable section

namespace Cert.AdamwRowsIdeal.Value

open Cert.AdamwRowsIdeal Cert.AdamwRowsIdeal.Gen Idealize.ShloMosaic Idealize.ShloMosaic.TcCoe Idealize.SL.Sem Cert.Util Pipeline

variable (p : FVec Ideal S8x128x1024 .bf16) (w u v : FVec Ideal S128x1024 .f32)

/-- The gradient: the sum of the parts. -/
theorem grad_at (a : Fin 128) (b : Fin 1024) : G4 (F := Ideal) p w u v (ix2 a b) = (∑ s : Fin 8, p (ix3 s a b) : EReal) := by
  rw [Fin.sum_univ_eight]
  pointwise [k0_pay4]

open Cert.AdamwRowsRefIdeal.Read in
theorem g_eq : G4 (F := Ideal) p w u v = val_main_v1 (F := Ideal) p := by
  funext y
  obtain ⟨a, b, rfl⟩ : ∃ a b, y = ix2 a b := ⟨y 0, y 1, eq_ix2 y⟩
  rw [grad_at]
  pointwise [val_main_v1, val_main_v0, val_main_cst]

theorem pay5_eq : k0_pay5 (F := Ideal) p w u v = Cert.AdamwRowsRefIdeal.Read.val_main_v1 (F := Ideal) p := g_eq p w u v

open Cert.AdamwRowsRefIdeal.Read in
theorem m_eq : G6 (F := Ideal) p w u v = val_main_v6 (F := Ideal) p u := by
  show k0_pay1 (k0_pay5 (F := Ideal) p w u v) u = _
  rw [pay5_eq]
  unfold val_main_v6 val_main_v5
  generalize val_main_v1 (F := Ideal) p = g
  funext y
  obtain ⟨a, b, rfl⟩ : ∃ a b, y = ix2 a b := ⟨y 0, y 1, eq_ix2 y⟩
  pointwise [k0_pay1, val_main_v4, val_main_v3, val_main_v2, val_main_cst_0, val_main_cst_1]

open Cert.AdamwRowsRefIdeal.Read in
theorem v_eq : G7 (F := Ideal) p w u v = val_main_v12 (F := Ideal) p v := by
  show k0_pay2 (k0_pay5 (F := Ideal) p w u v) v = _
  rw [pay5_eq]
  unfold val_main_v12 val_main_v11 val_main_v9
  generalize val_main_v1 (F := Ideal) p = g
  funext y
  obtain ⟨a, b, rfl⟩ : ∃ a b, y = ix2 a b := ⟨y 0, y 1, eq_ix2 y⟩
  pointwise [k0_pay2, val_main_v10, val_main_v8, val_main_v7, val_main_cst_2, val_main_cst_3]

open Cert.AdamwRowsRefIdeal.Read in
theorem d_eq : G5 (F := Ideal) p w u v = val_main_v25 (F := Ideal) p w u v := by
  have hm : k0_pay1 (F := Ideal) (k0_pay5 (F := Ideal) p w u v) u = val_main_v6 (F := Ideal) p u := m_eq p w u v
  have hv : k0_pay2 (F := Ideal) (k0_pay5 (F := Ideal) p w u v) v = val_main_v12 (F := Ideal) p v := v_eq p w u v
  show k0_pay3 (k0_pay5 (F := Ideal) p w u v) w u v = _
  unfold k0_pay3
  rw [hm, hv]
  unfold val_main_v25 val_main_v23 val_main_v20 val_main_v19 val_main_v17 val_main_v16 val_main_v14
  generalize val_main_v6 (F := Ideal) p u = u'
  generalize val_main_v12 (F := Ideal) p v = v'
  funext y
  obtain ⟨a, b, rfl⟩ : ∃ a b, y = ix2 a b := ⟨y 0, y 1, eq_ix2 y⟩
  pointwise [val_main_v24, val_main_v22, val_main_v21, val_main_v18, val_main_v15, val_main_v13, val_main_cst_4, val_main_cst_5, val_main_cst_6, val_main_cst_7, val_main_cst_8]

end Cert.AdamwRowsIdeal.Value

end
-- ==== Proof.AdamwRowsClaims.lean ====
/- The optimiser's step in the shapes of ab_w_out's rows: its claims. -/
module

public import proofs.«01_k».proof.Proof.AdamwRowsValue
public import proofs.«01_k».proof.Proof.Gen.AdamwRows
public import proofs.«01_k».proof.Proof.Gen.AdamwRowsRefIdeal
public import proofs.«01_k».proof.Proof.Gen.AdamwRowsRefIdeal.Run
public import Idealize.ShloMosaic.Lib.Tactic

@[expose] public section

set_option maxRecDepth 16384

noncomputable section

namespace Cert.Proof.AdamwRows

open Idealize.ShloMosaic Idealize.SL.Sem Cert.Util

/-- The program and its idealization have one text: the same entry … -/
theorem main_same : (Cert.AdamwRows.main (F := Bits)) = (Cert.AdamwRowsIdeal.main (F := Bits)) := by sl_kernel_rfl

/-- … and the same bodies. -/
theorem defs_same : (Cert.AdamwRows.defs (F := Bits)) = (Cert.AdamwRowsIdeal.defs (F := Bits)) := by sl_kernel_rfl

/-- So one run gives both frames. -/
theorem frame_p : Cert.quiescent_AdamwRows := fun m ρ _ => by
  have h := Cert.AdamwRowsIdeal.Gen.frame (F := Bits) m ρ
  rw [← main_same, ← defs_same] at h
  exact h

theorem frame_i : Cert.quiescent_AdamwRowsIdeal := fun m ρ _ => Cert.AdamwRowsIdeal.Gen.frame m ρ

theorem frame_r : Cert.quiescent_AdamwRowsRefIdeal := fun m ρ _ =>
  (θ_run Cert.AdamwRowsRefIdeal.defs _ _).mono (fun r h => ⟨fun c => (h c).2.2.2.2, sem_eq_zero_of_no_sems (by decide) r.2⟩)
    (Cert.AdamwRowsRefIdeal.Value.run (F := Ideal) m ρ)

theorem algebraic : Cert.algebraic_AdamwRowsIdeal_AdamwRowsRefIdeal := by
  intro m ρ m' ρ' _ hag
  refine ⟨_, _, _, _, Cert.AdamwRowsIdeal.Value.run m ρ, ?_⟩
  refine (θ_run Cert.AdamwRowsRefIdeal.defs _ _).mono (fun r h c => ⟨(h c).1.trans ?_, (h c).2.1.trans ?_, (h c).2.2.1.trans ?_, (h c).2.2.2.1.trans ?_, (h c).2.2.2.2⟩)
    (Cert.AdamwRowsRefIdeal.Value.run (F := Ideal) m' ρ')
  · show Cert.AdamwRowsRefIdeal.Read.val_main_v1 (F := Ideal) (m' (c.tc.loc Cert.AdamwRowsRefIdeal.main_arg0)) = _
    rw [(hag c).1]
    exact (Cert.AdamwRowsIdeal.Value.g_eq ..).symm
  · show Cert.AdamwRowsRefIdeal.Read.val_main_v25 (F := Ideal) (m' (c.tc.loc Cert.AdamwRowsRefIdeal.main_arg0)) (m' (c.tc.loc Cert.AdamwRowsRefIdeal.main_arg1)) (m' (c.tc.loc Cert.AdamwRowsRefIdeal.main_arg2)) (m' (c.tc.loc Cert.AdamwRowsRefIdeal.main_arg3)) = _
    rw [(hag c).1, (hag c).2.1, (hag c).2.2.1, (hag c).2.2.2]
    exact (Cert.AdamwRowsIdeal.Value.d_eq ..).symm
  · show Cert.AdamwRowsRefIdeal.Read.val_main_v6 (F := Ideal) (m' (c.tc.loc Cert.AdamwRowsRefIdeal.main_arg0)) (m' (c.tc.loc Cert.AdamwRowsRefIdeal.main_arg2)) = _
    rw [(hag c).1, (hag c).2.2.1]
    exact (Cert.AdamwRowsIdeal.Value.m_eq ..).symm
  · show Cert.AdamwRowsRefIdeal.Read.val_main_v12 (F := Ideal) (m' (c.tc.loc Cert.AdamwRowsRefIdeal.main_arg0)) (m' (c.tc.loc Cert.AdamwRowsRefIdeal.main_arg3)) = _
    rw [(hag c).1, (hag c).2.2.2]
    exact (Cert.AdamwRowsIdeal.Value.v_eq ..).symm

end Cert.Proof.AdamwRows

end
-- ==== Proof.AdamwColsValue.lean ====
/- The optimiser's step in the shapes of ssm_w_glu's columns: what the arrays of the results hold, as functions of the arguments. -/
module

public import proofs.«01_k».proof.Defs
public import proofs.«01_k».proof.Proof.Gen.AdamwColsIdeal.Value
public import proofs.«01_k».proof.Proof.Gen.AdamwColsRefIdeal.Read
public import proofs.«01_k».proof.Proof.Rows

@[expose] public section

set_option maxRecDepth 16384

noncomputable section

namespace Cert.AdamwColsIdeal.Value

open Cert.AdamwColsIdeal Cert.AdamwColsIdeal.Gen Idealize.ShloMosaic Idealize.ShloMosaic.TcCoe Idealize.SL.Sem Cert.Util Pipeline

variable (p : FVec Ideal S8x1024x256 .bf16) (w u v : FVec Ideal S1024x256 .f32)

/-- The gradient: the sum of the parts. -/
theorem grad_at (a : Fin 1024) (b : Fin 256) : G4 (F := Ideal) p w u v (ix2 a b) = (∑ s : Fin 8, p (ix3 s a b) : EReal) := by
  rw [Fin.sum_univ_eight]
  pointwise [k0_pay4]

open Cert.AdamwColsRefIdeal.Read in
theorem g_eq : G4 (F := Ideal) p w u v = val_main_v1 (F := Ideal) p := by
  funext y
  obtain ⟨a, b, rfl⟩ : ∃ a b, y = ix2 a b := ⟨y 0, y 1, eq_ix2 y⟩
  rw [grad_at]
  pointwise [val_main_v1, val_main_v0, val_main_cst]

theorem pay5_eq : k0_pay5 (F := Ideal) p w u v = Cert.AdamwColsRefIdeal.Read.val_main_v1 (F := Ideal) p := g_eq p w u v

open Cert.AdamwColsRefIdeal.Read in
theorem m_eq : G6 (F := Ideal) p w u v = val_main_v6 (F := Ideal) p u := by
  show k0_pay1 (k0_pay5 (F := Ideal) p w u v) u = _
  rw [pay5_eq]
  unfold val_main_v6 val_main_v5
  generalize val_main_v1 (F := Ideal) p = g
  funext y
  obtain ⟨a, b, rfl⟩ : ∃ a b, y = ix2 a b := ⟨y 0, y 1, eq_ix2 y⟩
  pointwise [k0_pay1, val_main_v4, val_main_v3, val_main_v2, val_main_cst_0, val_main_cst_1]

open Cert.AdamwColsRefIdeal.Read in
theorem v_eq : G7 (F := Ideal) p w u v = val_main_v12 (F := Ideal) p v := by
  show k0_pay2 (k0_pay5 (F := Ideal) p w u v) v = _
  rw [pay5_eq]
  unfold val_main_v12 val_main_v11 val_main_v9
  generalize val_main_v1 (F := Ideal) p = g
  funext y
  obtain ⟨a, b, rfl⟩ : ∃ a b, y = ix2 a b := ⟨y 0, y 1, eq_ix2 y⟩
  pointwise [k0_pay2, val_main_v10, val_main_v8, val_main_v7, val_main_cst_2, val_main_cst_3]

open Cert.AdamwColsRefIdeal.Read in
theorem d_eq : G5 (F := Ideal) p w u v = val_main_v25 (F := Ideal) p w u v := by
  have hm : k0_pay1 (F := Ideal) (k0_pay5 (F := Ideal) p w u v) u = val_main_v6 (F := Ideal) p u := m_eq p w u v
  have hv : k0_pay2 (F := Ideal) (k0_pay5 (F := Ideal) p w u v) v = val_main_v12 (F := Ideal) p v := v_eq p w u v
  show k0_pay3 (k0_pay5 (F := Ideal) p w u v) w u v = _
  unfold k0_pay3
  rw [hm, hv]
  unfold val_main_v25 val_main_v23 val_main_v20 val_main_v19 val_main_v17 val_main_v16 val_main_v14
  generalize val_main_v6 (F := Ideal) p u = u'
  generalize val_main_v12 (F := Ideal) p v = v'
  funext y
  obtain ⟨a, b, rfl⟩ : ∃ a b, y = ix2 a b := ⟨y 0, y 1, eq_ix2 y⟩
  pointwise [val_main_v24, val_main_v22, val_main_v21, val_main_v18, val_main_v15, val_main_v13, val_main_cst_4, val_main_cst_5, val_main_cst_6, val_main_cst_7, val_main_cst_8]

end Cert.AdamwColsIdeal.Value

end
-- ==== Proof.AdamwColsClaims.lean ====
/- The optimiser's step in the shapes of ssm_w_glu's columns: its claims. -/
module

public import proofs.«01_k».proof.Proof.AdamwColsValue
public import proofs.«01_k».proof.Proof.Gen.AdamwCols
public import proofs.«01_k».proof.Proof.Gen.AdamwColsRefIdeal
public import proofs.«01_k».proof.Proof.Gen.AdamwColsRefIdeal.Run
public import Idealize.ShloMosaic.Lib.Tactic

@[expose] public section

set_option maxRecDepth 16384

noncomputable section

namespace Cert.Proof.AdamwCols

open Idealize.ShloMosaic Idealize.SL.Sem Cert.Util

/-- The program and its idealization have one text: the same entry … -/
theorem main_same : (Cert.AdamwCols.main (F := Bits)) = (Cert.AdamwColsIdeal.main (F := Bits)) := by sl_kernel_rfl

/-- … and the same bodies. -/
theorem defs_same : (Cert.AdamwCols.defs (F := Bits)) = (Cert.AdamwColsIdeal.defs (F := Bits)) := by sl_kernel_rfl

/-- So one run gives both frames. -/
theorem frame_p : Cert.quiescent_AdamwCols := fun m ρ _ => by
  have h := Cert.AdamwColsIdeal.Gen.frame (F := Bits) m ρ
  rw [← main_same, ← defs_same] at h
  exact h

theorem frame_i : Cert.quiescent_AdamwColsIdeal := fun m ρ _ => Cert.AdamwColsIdeal.Gen.frame m ρ

theorem frame_r : Cert.quiescent_AdamwColsRefIdeal := fun m ρ _ =>
  (θ_run Cert.AdamwColsRefIdeal.defs _ _).mono (fun r h => ⟨fun c => (h c).2.2.2.2, sem_eq_zero_of_no_sems (by decide) r.2⟩)
    (Cert.AdamwColsRefIdeal.Value.run (F := Ideal) m ρ)

theorem algebraic : Cert.algebraic_AdamwColsIdeal_AdamwColsRefIdeal := by
  intro m ρ m' ρ' _ hag
  refine ⟨_, _, _, _, Cert.AdamwColsIdeal.Value.run m ρ, ?_⟩
  refine (θ_run Cert.AdamwColsRefIdeal.defs _ _).mono (fun r h c => ⟨(h c).1.trans ?_, (h c).2.1.trans ?_, (h c).2.2.1.trans ?_, (h c).2.2.2.1.trans ?_, (h c).2.2.2.2⟩)
    (Cert.AdamwColsRefIdeal.Value.run (F := Ideal) m' ρ')
  · show Cert.AdamwColsRefIdeal.Read.val_main_v1 (F := Ideal) (m' (c.tc.loc Cert.AdamwColsRefIdeal.main_arg0)) = _
    rw [(hag c).1]
    exact (Cert.AdamwColsIdeal.Value.g_eq ..).symm
  · show Cert.AdamwColsRefIdeal.Read.val_main_v25 (F := Ideal) (m' (c.tc.loc Cert.AdamwColsRefIdeal.main_arg0)) (m' (c.tc.loc Cert.AdamwColsRefIdeal.main_arg1)) (m' (c.tc.loc Cert.AdamwColsRefIdeal.main_arg2)) (m' (c.tc.loc Cert.AdamwColsRefIdeal.main_arg3)) = _
    rw [(hag c).1, (hag c).2.1, (hag c).2.2.1, (hag c).2.2.2]
    exact (Cert.AdamwColsIdeal.Value.d_eq ..).symm
  · show Cert.AdamwColsRefIdeal.Read.val_main_v6 (F := Ideal) (m' (c.tc.loc Cert.AdamwColsRefIdeal.main_arg0)) (m' (c.tc.loc Cert.AdamwColsRefIdeal.main_arg2)) = _
    rw [(hag c).1, (hag c).2.2.1]
    exact (Cert.AdamwColsIdeal.Value.m_eq ..).symm
  · show Cert.AdamwColsRefIdeal.Read.val_main_v12 (F := Ideal) (m' (c.tc.loc Cert.AdamwColsRefIdeal.main_arg0)) (m' (c.tc.loc Cert.AdamwColsRefIdeal.main_arg3)) = _
    rw [(hag c).1, (hag c).2.2.2]
    exact (Cert.AdamwColsIdeal.Value.v_eq ..).symm

end Cert.Proof.AdamwCols

end
-- ==== Proof.AdamwHeadsValue.lean ====
/- The optimiser's step in the shapes of pool_w: what the arrays of the results hold, as functions of the arguments. -/
module

public import proofs.«01_k».proof.Defs
public import proofs.«01_k».proof.Proof.Gen.AdamwHeadsIdeal.Value
public import proofs.«01_k».proof.Proof.Gen.AdamwHeadsRefIdeal.Read
public import proofs.«01_k».proof.Proof.Rows

@[expose] public section

set_option maxRecDepth 16384

noncomputable section

namespace Cert.AdamwHeadsIdeal.Value

open Cert.AdamwHeadsIdeal Cert.AdamwHeadsIdeal.Gen Idealize.ShloMosaic Idealize.ShloMosaic.TcCoe Idealize.SL.Sem Cert.Util Pipeline

variable (p : FVec Ideal S1x512x128 .f32) (w u v : FVec Ideal S512x128 .f32)

/-- The gradient: the one part. -/
theorem g_eq : k0_pay1 (F := Ideal) p = Cert.AdamwHeadsRefIdeal.Read.val_main_v0 (F := Ideal) p := by
  funext y
  obtain ⟨a, b, rfl⟩ : ∃ a b, y = ix2 a b := ⟨y 0, y 1, eq_ix2 y⟩
  have e : k0_pay1 (F := Ideal) p (ix2 a b) = (∑ s : Fin 1, p (ix3 s a b) : EReal) := by
    rw [Fin.sum_univ_one]
    pointwise [k0_pay1]
  rw [e]
  pointwise [Cert.AdamwHeadsRefIdeal.Read.val_main_v0, Cert.AdamwHeadsRefIdeal.Read.val_main_cst]

open Cert.AdamwHeadsRefIdeal.Read in
theorem m_eq : k0_pay2 (F := Ideal) p u = val_main_v5 (F := Ideal) p u := by
  unfold k0_pay2 val_main_v5 val_main_v4
  rw [g_eq]
  generalize val_main_v0 (F := Ideal) p = g
  funext y
  obtain ⟨a, b, rfl⟩ : ∃ a b, y = ix2 a b := ⟨y 0, y 1, eq_ix2 y⟩
  pointwise [val_main_v3, val_main_v2, val_main_v1, val_main_cst_0, val_main_cst_1]

open Cert.AdamwHeadsRefIdeal.Read in
theorem v_eq : k0_pay3 (F := Ideal) p v = val_main_v11 (F := Ideal) p v := by
  unfold k0_pay3 val_main_v11 val_main_v10 val_main_v8
  rw [g_eq]
  generalize val_main_v0 (F := Ideal) p = g
  funext y
  obtain ⟨a, b, rfl⟩ : ∃ a b, y = ix2 a b := ⟨y 0, y 1, eq_ix2 y⟩
  pointwise [val_main_v9, val_main_v7, val_main_v6, val_main_cst_2, val_main_cst_3]

open Cert.AdamwHeadsRefIdeal.Read in
theorem d_eq : k0_pay4 (F := Ideal) p w u v = val_main_v24 (F := Ideal) p w u v := by
  unfold k0_pay4
  rw [m_eq, v_eq]
  unfold val_main_v24 val_main_v22 val_main_v19 val_main_v18 val_main_v16 val_main_v15 val_main_v13
  generalize val_main_v5 (F := Ideal) p u = u'
  generalize val_main_v11 (F := Ideal) p v = v'
  funext y
  obtain ⟨a, b, rfl⟩ : ∃ a b, y = ix2 a b := ⟨y 0, y 1, eq_ix2 y⟩
  pointwise [val_main_v23, val_main_v21, val_main_v20, val_main_v17, val_main_v14, val_main_v12, val_main_cst_4, val_main_cst_5, val_main_cst_6, val_main_cst_7, val_main_cst_8]

end Cert.AdamwHeadsIdeal.Value

end
-- ==== Proof.AdamwHeadsClaims.lean ====
/- The optimiser's step in the shapes of pool_w: its claims. -/
module

public import proofs.«01_k».proof.Proof.AdamwHeadsValue
public import proofs.«01_k».proof.Proof.Gen.AdamwHeads
public import proofs.«01_k».proof.Proof.Gen.AdamwHeadsRefIdeal
public import proofs.«01_k».proof.Proof.Gen.AdamwHeadsRefIdeal.Run
public import Idealize.ShloMosaic.Lib.Tactic

@[expose] public section

set_option maxRecDepth 16384

noncomputable section

namespace Cert.Proof.AdamwHeads

open Idealize.ShloMosaic Idealize.SL.Sem Cert.Util

/-- The program and its idealization have one text: the same entry … -/
theorem main_same : (Cert.AdamwHeads.main (F := Bits)) = (Cert.AdamwHeadsIdeal.main (F := Bits)) := by sl_kernel_rfl

/-- … and the same bodies. -/
theorem defs_same : (Cert.AdamwHeads.defs (F := Bits)) = (Cert.AdamwHeadsIdeal.defs (F := Bits)) := by sl_kernel_rfl

/-- So one run gives both frames. -/
theorem frame_p : Cert.quiescent_AdamwHeads := fun m ρ _ => by
  have h := Cert.AdamwHeadsIdeal.Gen.frame (F := Bits) m ρ
  rw [← main_same, ← defs_same] at h
  exact h

theorem frame_i : Cert.quiescent_AdamwHeadsIdeal := fun m ρ _ => Cert.AdamwHeadsIdeal.Gen.frame m ρ

theorem frame_r : Cert.quiescent_AdamwHeadsRefIdeal := fun m ρ _ =>
  (θ_run Cert.AdamwHeadsRefIdeal.defs _ _).mono (fun r h => ⟨fun c => (h c).2.2.2.2, sem_eq_zero_of_no_sems (by decide) r.2⟩)
    (Cert.AdamwHeadsRefIdeal.Value.run (F := Ideal) m ρ)

theorem algebraic : Cert.algebraic_AdamwHeadsIdeal_AdamwHeadsRefIdeal := by
  intro m ρ m' ρ' _ hag
  refine ⟨_, _, _, _, Cert.AdamwHeadsIdeal.Value.run m ρ, ?_⟩
  refine (θ_run Cert.AdamwHeadsRefIdeal.defs _ _).mono (fun r h c => ⟨(h c).1.trans ?_, (h c).2.1.trans ?_, (h c).2.2.1.trans ?_, (h c).2.2.2.1.trans ?_, (h c).2.2.2.2⟩)
    (Cert.AdamwHeadsRefIdeal.Value.run (F := Ideal) m' ρ')
  · show Cert.AdamwHeadsRefIdeal.Read.val_main_v0 (F := Ideal) (m' (c.tc.loc Cert.AdamwHeadsRefIdeal.main_arg0)) = _
    rw [(hag c).1]
    exact (Cert.AdamwHeadsIdeal.Value.g_eq _).symm
  · show Cert.AdamwHeadsRefIdeal.Read.val_main_v24 (F := Ideal) (m' (c.tc.loc Cert.AdamwHeadsRefIdeal.main_arg0)) (m' (c.tc.loc Cert.AdamwHeadsRefIdeal.main_arg1)) (m' (c.tc.loc Cert.AdamwHeadsRefIdeal.main_arg2)) (m' (c.tc.loc Cert.AdamwHeadsRefIdeal.main_arg3)) = _
    rw [(hag c).1, (hag c).2.1, (hag c).2.2.1, (hag c).2.2.2]
    exact (Cert.AdamwHeadsIdeal.Value.d_eq ..).symm
  · show Cert.AdamwHeadsRefIdeal.Read.val_main_v5 (F := Ideal) (m' (c.tc.loc Cert.AdamwHeadsRefIdeal.main_arg0)) (m' (c.tc.loc Cert.AdamwHeadsRefIdeal.main_arg2)) = _
    rw [(hag c).1, (hag c).2.2.1]
    exact (Cert.AdamwHeadsIdeal.Value.m_eq ..).symm
  · show Cert.AdamwHeadsRefIdeal.Read.val_main_v11 (F := Ideal) (m' (c.tc.loc Cert.AdamwHeadsRefIdeal.main_arg0)) (m' (c.tc.loc Cert.AdamwHeadsRefIdeal.main_arg3)) = _
    rw [(hag c).1, (hag c).2.2.2]
    exact (Cert.AdamwHeadsIdeal.Value.v_eq ..).symm

end Cert.Proof.AdamwHeads

end
-- ==== Proof.AdamwSsmValue.lean ====
/- The optimiser's step in the shapes of ssm_c_re: what the arrays of the results hold, as functions of the arguments. -/
module

public import proofs.«01_k».proof.Defs
public import proofs.«01_k».proof.Proof.Gen.AdamwSsmIdeal.Value
public import proofs.«01_k».proof.Proof.Gen.AdamwSsmRefIdeal.Read
public import proofs.«01_k».proof.Proof.Rows

@[expose] public section

set_option maxRecDepth 16384

noncomputable section

namespace Cert.AdamwSsmIdeal.Value

open Cert.AdamwSsmIdeal Cert.AdamwSsmIdeal.Gen Idealize.ShloMosaic Idealize.ShloMosaic.TcCoe Idealize.SL.Sem Cert.Util Pipeline

variable (p : FVec Ideal S1x1024x64 .f32) (w u v : FVec Ideal S1024x64 .f32)

/-- The gradient: the one part. -/
theorem g_eq : k0_pay1 (F := Ideal) p = Cert.AdamwSsmRefIdeal.Read.val_main_v0 (F := Ideal) p := by
  funext y
  obtain ⟨a, b, rfl⟩ : ∃ a b, y = ix2 a b := ⟨y 0, y 1, eq_ix2 y⟩
  have e : k0_pay1 (F := Ideal) p (ix2 a b) = (∑ s : Fin 1, p (ix3 s a b) : EReal) := by
    rw [Fin.sum_univ_one]
    pointwise [k0_pay1]
  rw [e]
  pointwise [Cert.AdamwSsmRefIdeal.Read.val_main_v0, Cert.AdamwSsmRefIdeal.Read.val_main_cst]

open Cert.AdamwSsmRefIdeal.Read in
theorem m_eq : k0_pay2 (F := Ideal) p u = val_main_v5 (F := Ideal) p u := by
  unfold k0_pay2 val_main_v5 val_main_v4
  rw [g_eq]
  generalize val_main_v0 (F := Ideal) p = g
  funext y
  obtain ⟨a, b, rfl⟩ : ∃ a b, y = ix2 a b := ⟨y 0, y 1, eq_ix2 y⟩
  pointwise [val_main_v3, val_main_v2, val_main_v1, val_main_cst_0, val_main_cst_1]

open Cert.AdamwSsmRefIdeal.Read in
theorem v_eq : k0_pay3 (F := Ideal) p v = val_main_v11 (F := Ideal) p v := by
  unfold k0_pay3 val_main_v11 val_main_v10 val_main_v8
  rw [g_eq]
  generalize val_main_v0 (F := Ideal) p = g
  funext y
  obtain ⟨a, b, rfl⟩ : ∃ a b, y = ix2 a b := ⟨y 0, y 1, eq_ix2 y⟩
  pointwise [val_main_v9, val_main_v7, val_main_v6, val_main_cst_2, val_main_cst_3]

open Cert.AdamwSsmRefIdeal.Read in
theorem d_eq : k0_pay4 (F := Ideal) p w u v = val_main_v24 (F := Ideal) p w u v := by
  unfold k0_pay4
  rw [m_eq, v_eq]
  unfold val_main_v24 val_main_v22 val_main_v19 val_main_v18 val_main_v16 val_main_v15 val_main_v13
  generalize val_main_v5 (F := Ideal) p u = u'
  generalize val_main_v11 (F := Ideal) p v = v'
  funext y
  obtain ⟨a, b, rfl⟩ : ∃ a b, y = ix2 a b := ⟨y 0, y 1, eq_ix2 y⟩
  pointwise [val_main_v23, val_main_v21, val_main_v20, val_main_v17, val_main_v14, val_main_v12, val_main_cst_4, val_main_cst_5, val_main_cst_6, val_main_cst_7, val_main_cst_8]

end Cert.AdamwSsmIdeal.Value

end
-- ==== Proof.AdamwSsmClaims.lean ====
/- The optimiser's step in the shapes of ssm_c_re: its claims. -/
module

public import proofs.«01_k».proof.Proof.AdamwSsmValue
public import proofs.«01_k».proof.Proof.Gen.AdamwSsm
public import proofs.«01_k».proof.Proof.Gen.AdamwSsmRefIdeal
public import proofs.«01_k».proof.Proof.Gen.AdamwSsmRefIdeal.Run
public import Idealize.ShloMosaic.Lib.Tactic

@[expose] public section

set_option maxRecDepth 16384

noncomputable section

namespace Cert.Proof.AdamwSsm

open Idealize.ShloMosaic Idealize.SL.Sem Cert.Util

/-- The program and its idealization have one text: the same entry … -/
theorem main_same : (Cert.AdamwSsm.main (F := Bits)) = (Cert.AdamwSsmIdeal.main (F := Bits)) := by sl_kernel_rfl

/-- … and the same bodies. -/
theorem defs_same : (Cert.AdamwSsm.defs (F := Bits)) = (Cert.AdamwSsmIdeal.defs (F := Bits)) := by sl_kernel_rfl

/-- So one run gives both frames. -/
theorem frame_p : Cert.quiescent_AdamwSsm := fun m ρ _ => by
  have h := Cert.AdamwSsmIdeal.Gen.frame (F := Bits) m ρ
  rw [← main_same, ← defs_same] at h
  exact h

theorem frame_i : Cert.quiescent_AdamwSsmIdeal := fun m ρ _ => Cert.AdamwSsmIdeal.Gen.frame m ρ

theorem frame_r : Cert.quiescent_AdamwSsmRefIdeal := fun m ρ _ =>
  (θ_run Cert.AdamwSsmRefIdeal.defs _ _).mono (fun r h => ⟨fun c => (h c).2.2.2.2, sem_eq_zero_of_no_sems (by decide) r.2⟩)
    (Cert.AdamwSsmRefIdeal.Value.run (F := Ideal) m ρ)

theorem algebraic : Cert.algebraic_AdamwSsmIdeal_AdamwSsmRefIdeal := by
  intro m ρ m' ρ' _ hag
  refine ⟨_, _, _, _, Cert.AdamwSsmIdeal.Value.run m ρ, ?_⟩
  refine (θ_run Cert.AdamwSsmRefIdeal.defs _ _).mono (fun r h c => ⟨(h c).1.trans ?_, (h c).2.1.trans ?_, (h c).2.2.1.trans ?_, (h c).2.2.2.1.trans ?_, (h c).2.2.2.2⟩)
    (Cert.AdamwSsmRefIdeal.Value.run (F := Ideal) m' ρ')
  · show Cert.AdamwSsmRefIdeal.Read.val_main_v0 (F := Ideal) (m' (c.tc.loc Cert.AdamwSsmRefIdeal.main_arg0)) = _
    rw [(hag c).1]
    exact (Cert.AdamwSsmIdeal.Value.g_eq _).symm
  · show Cert.AdamwSsmRefIdeal.Read.val_main_v24 (F := Ideal) (m' (c.tc.loc Cert.AdamwSsmRefIdeal.main_arg0)) (m' (c.tc.loc Cert.AdamwSsmRefIdeal.main_arg1)) (m' (c.tc.loc Cert.AdamwSsmRefIdeal.main_arg2)) (m' (c.tc.loc Cert.AdamwSsmRefIdeal.main_arg3)) = _
    rw [(hag c).1, (hag c).2.1, (hag c).2.2.1, (hag c).2.2.2]
    exact (Cert.AdamwSsmIdeal.Value.d_eq ..).symm
  · show Cert.AdamwSsmRefIdeal.Read.val_main_v5 (F := Ideal) (m' (c.tc.loc Cert.AdamwSsmRefIdeal.main_arg0)) (m' (c.tc.loc Cert.AdamwSsmRefIdeal.main_arg2)) = _
    rw [(hag c).1, (hag c).2.2.1]
    exact (Cert.AdamwSsmIdeal.Value.m_eq ..).symm
  · show Cert.AdamwSsmRefIdeal.Read.val_main_v11 (F := Ideal) (m' (c.tc.loc Cert.AdamwSsmRefIdeal.main_arg0)) (m' (c.tc.loc Cert.AdamwSsmRefIdeal.main_arg3)) = _
    rw [(hag c).1, (hag c).2.2.2]
    exact (Cert.AdamwSsmIdeal.Value.v_eq ..).symm

end Cert.Proof.AdamwSsm

end
-- ==== Proof.AdamwShellValue.lean ====
/- The optimiser's step of the shell's three small weights in one call: one grid point, whole blocks. -/
module

public import proofs.«01_k».proof.Defs
public import proofs.«01_k».proof.Proof.Gen.AdamwShellIdeal.Value
public import proofs.«01_k».proof.Proof.Gen.AdamwShellRefIdeal.Read
public import proofs.«01_k».proof.Proof.Rows
public import Idealize.ShloMosaic.Lib.Tactic

@[expose] public section

set_option maxRecDepth 16384

noncomputable section

namespace Cert.AdamwShellIdeal.Value

open Cert.AdamwShellIdeal Cert.AdamwShellIdeal.Gen Idealize.ShloMosaic Idealize.ShloMosaic.TcCoe Idealize.SL.Sem Cert.Util Pipeline
open Cert.AdamwShellRefIdeal.Read

variable (m : (ℓ : Loc nD τ sig) → Buf (Elt Ideal) ℓ) (c : Dev nD)

/-- Weight 0: the new moments and the delta. -/
theorem m0_eq (g u : FVec Ideal S2x9216 .f32) : k0_pay4 (F := Ideal) g u = val_main_v4 (F := Ideal) g u := by
  funext y
  obtain ⟨a, b, rfl⟩ : ∃ a b, y = ix2 a b := ⟨y 0, y 1, eq_ix2 y⟩
  pointwise [k0_pay4, val_main_v4, val_main_v3, val_main_v2, val_main_v1, val_main_v0, val_main_cst, val_main_cst_0]
theorem v0_eq (g v : FVec Ideal S2x9216 .f32) : k0_pay5 (F := Ideal) g v = val_main_v10 (F := Ideal) g v := by
  funext y
  obtain ⟨a, b, rfl⟩ : ∃ a b, y = ix2 a b := ⟨y 0, y 1, eq_ix2 y⟩
  pointwise [k0_pay5, val_main_v10, val_main_v9, val_main_v8, val_main_v7, val_main_v6, val_main_v5, val_main_cst_1, val_main_cst_2]
theorem d0_eq (g w u v : FVec Ideal S2x9216 .f32) : k0_pay6 (F := Ideal) g w u v = val_main_v23 (F := Ideal) g w u v := by
  unfold k0_pay6 val_main_v23 val_main_v21 val_main_v18 val_main_v17 val_main_v15 val_main_v14 val_main_v12
  rw [m0_eq, v0_eq]
  generalize val_main_v4 (F := Ideal) g u = u'
  generalize val_main_v10 (F := Ideal) g v = v'
  funext y
  obtain ⟨a, b, rfl⟩ : ∃ a b, y = ix2 a b := ⟨y 0, y 1, eq_ix2 y⟩
  pointwise [val_main_v22, val_main_v20, val_main_v19, val_main_v16, val_main_v13, val_main_v11, val_main_cst_3, val_main_cst_4, val_main_cst_5, val_main_cst_6, val_main_cst_7]

/-- Weight 1: the new moments and the delta. -/
theorem m1_eq (g u : FVec Ideal S6x128 .f32) : k0_pay7 (F := Ideal) g u = val_main_v28 (F := Ideal) g u := by
  funext y
  obtain ⟨a, b, rfl⟩ : ∃ a b, y = ix2 a b := ⟨y 0, y 1, eq_ix2 y⟩
  pointwise [k0_pay7, val_main_v28, val_main_v27, val_main_v26, val_main_v25, val_main_v24, val_main_cst_8, val_main_cst_9]
theorem v1_eq (g v : FVec Ideal S6x128 .f32) : k0_pay8 (F := Ideal) g v = val_main_v34 (F := Ideal) g v := by
  funext y
  obtain ⟨a, b, rfl⟩ : ∃ a b, y = ix2 a b := ⟨y 0, y 1, eq_ix2 y⟩
  pointwise [k0_pay8, val_main_v34, val_main_v33, val_main_v32, val_main_v31, val_main_v30, val_main_v29, val_main_cst_10, val_main_cst_11]
theorem d1_eq (g w u v : FVec Ideal S6x128 .f32) : k0_pay9 (F := Ideal) g w u v = val_main_v47 (F := Ideal) g w u v := by
  unfold k0_pay9 val_main_v47 val_main_v45 val_main_v42 val_main_v41 val_main_v39 val_main_v38 val_main_v36
  rw [m1_eq, v1_eq]
  generalize val_main_v28 (F := Ideal) g u = u'
  generalize val_main_v34 (F := Ideal) g v = v'
  funext y
  obtain ⟨a, b, rfl⟩ : ∃ a b, y = ix2 a b := ⟨y 0, y 1, eq_ix2 y⟩
  pointwise [val_main_v46, val_main_v44, val_main_v43, val_main_v40, val_main_v37, val_main_v35, val_main_cst_12, val_main_cst_13, val_main_cst_14, val_main_cst_15, val_main_cst_16]

/-- Weight 2: the new moments and the delta. -/
theorem m2_eq (g u : FVec Ideal S6x128 .f32) : k0_pay1 (F := Ideal) g u = val_main_v52 (F := Ideal) g u := by
  funext y
  obtain ⟨a, b, rfl⟩ : ∃ a b, y = ix2 a b := ⟨y 0, y 1, eq_ix2 y⟩
  pointwise [k0_pay1, val_main_v52, val_main_v51, val_main_v50, val_main_v49, val_main_v48, val_main_cst_17, val_main_cst_18]
theorem v2_eq (g v : FVec Ideal S6x128 .f32) : k0_pay2 (F := Ideal) g v = val_main_v58 (F := Ideal) g v := by
  funext y
  obtain ⟨a, b, rfl⟩ : ∃ a b, y = ix2 a b := ⟨y 0, y 1, eq_ix2 y⟩
  pointwise [k0_pay2, val_main_v58, val_main_v57, val_main_v56, val_main_v55, val_main_v54, val_main_v53, val_main_cst_19, val_main_cst_20]
theorem d2_eq (g w u v : FVec Ideal S6x128 .f32) : k0_pay3 (F := Ideal) g w u v = val_main_v71 (F := Ideal) g w u v := by
  unfold k0_pay3 val_main_v71 val_main_v69 val_main_v66 val_main_v65 val_main_v63 val_main_v62 val_main_v60
  rw [m2_eq, v2_eq]
  generalize val_main_v52 (F := Ideal) g u = u'
  generalize val_main_v58 (F := Ideal) g v = v'
  funext y
  obtain ⟨a, b, rfl⟩ : ∃ a b, y = ix2 a b := ⟨y 0, y 1, eq_ix2 y⟩
  pointwise [val_main_v70, val_main_v68, val_main_v67, val_main_v64, val_main_v61, val_main_v59, val_main_cst_21, val_main_cst_22, val_main_cst_23, val_main_cst_24, val_main_cst_25]

/-- Every window's block is its whole array. -/
theorem emb0 (t : Fin cfg0.N) (y : S2x9216.Idx) : (win0_0.rect t).emb y = y :=
  have h := (by decide +kernel : ∀ t : Fin cfg0.N, win0_0.index t 0 = 0 ∧ win0_0.index t 1 = 0) t
  idx2_ext ((win0_0.rect_emb_val ..).trans (by rw [h.1]; exact Nat.zero_add _)) ((win0_0.rect_emb_val ..).trans (by rw [h.2]; exact Nat.zero_add _))
theorem emb1 (t : Fin cfg0.N) (y : S2x9216.Idx) : (win0_1.rect t).emb y = y :=
  have h := (by decide +kernel : ∀ t : Fin cfg0.N, win0_1.index t 0 = 0 ∧ win0_1.index t 1 = 0) t
  idx2_ext ((win0_1.rect_emb_val ..).trans (by rw [h.1]; exact Nat.zero_add _)) ((win0_1.rect_emb_val ..).trans (by rw [h.2]; exact Nat.zero_add _))
theorem emb2 (t : Fin cfg0.N) (y : S2x9216.Idx) : (win0_2.rect t).emb y = y :=
  have h := (by decide +kernel : ∀ t : Fin cfg0.N, win0_2.index t 0 = 0 ∧ win0_2.index t 1 = 0) t
  idx2_ext ((win0_2.rect_emb_val ..).trans (by rw [h.1]; exact Nat.zero_add _)) ((win0_2.rect_emb_val ..).trans (by rw [h.2]; exact Nat.zero_add _))
theorem emb3 (t : Fin cfg0.N) (y : S2x9216.Idx) : (win0_3.rect t).emb y = y :=
  have h := (by decide +kernel : ∀ t : Fin cfg0.N, win0_3.index t 0 = 0 ∧ win0_3.index t 1 = 0) t
  idx2_ext ((win0_3.rect_emb_val ..).trans (by rw [h.1]; exact Nat.zero_add _)) ((win0_3.rect_emb_val ..).trans (by rw [h.2]; exact Nat.zero_add _))
theorem emb4 (t : Fin cfg0.N) (y : S6x128.Idx) : (win0_4.rect t).emb y = y :=
  have h := (by decide +kernel : ∀ t : Fin cfg0.N, win0_4.index t 0 = 0 ∧ win0_4.index t 1 = 0) t
  idx2_ext ((win0_4.rect_emb_val ..).trans (by rw [h.1]; exact Nat.zero_add _)) ((win0_4.rect_emb_val ..).trans (by rw [h.2]; exact Nat.zero_add _))
theorem emb5 (t : Fin cfg0.N) (y : S6x128.Idx) : (win0_5.rect t).emb y = y :=
  have h := (by decide +kernel : ∀ t : Fin cfg0.N, win0_5.index t 0 = 0 ∧ win0_5.index t 1 = 0) t
  idx2_ext ((win0_5.rect_emb_val ..).trans (by rw [h.1]; exact Nat.zero_add _)) ((win0_5.rect_emb_val ..).trans (by rw [h.2]; exact Nat.zero_add _))
theorem emb6 (t : Fin cfg0.N) (y : S6x128.Idx) : (win0_6.rect t).emb y = y :=
  have h := (by decide +kernel : ∀ t : Fin cfg0.N, win0_6.index t 0 = 0 ∧ win0_6.index t 1 = 0) t
  idx2_ext ((win0_6.rect_emb_val ..).trans (by rw [h.1]; exact Nat.zero_add _)) ((win0_6.rect_emb_val ..).trans (by rw [h.2]; exact Nat.zero_add _))
theorem emb7 (t : Fin cfg0.N) (y : S6x128.Idx) : (win0_7.rect t).emb y = y :=
  have h := (by decide +kernel : ∀ t : Fin cfg0.N, win0_7.index t 0 = 0 ∧ win0_7.index t 1 = 0) t
  idx2_ext ((win0_7.rect_emb_val ..).trans (by rw [h.1]; exact Nat.zero_add _)) ((win0_7.rect_emb_val ..).trans (by rw [h.2]; exact Nat.zero_add _))
theorem emb8 (t : Fin cfg0.N) (y : S6x128.Idx) : (win0_8.rect t).emb y = y :=
  have h := (by decide +kernel : ∀ t : Fin cfg0.N, win0_8.index t 0 = 0 ∧ win0_8.index t 1 = 0) t
  idx2_ext ((win0_8.rect_emb_val ..).trans (by rw [h.1]; exact Nat.zero_add _)) ((win0_8.rect_emb_val ..).trans (by rw [h.2]; exact Nat.zero_add _))
theorem emb9 (t : Fin cfg0.N) (y : S6x128.Idx) : (win0_9.rect t).emb y = y :=
  have h := (by decide +kernel : ∀ t : Fin cfg0.N, win0_9.index t 0 = 0 ∧ win0_9.index t 1 = 0) t
  idx2_ext ((win0_9.rect_emb_val ..).trans (by rw [h.1]; exact Nat.zero_add _)) ((win0_9.rect_emb_val ..).trans (by rw [h.2]; exact Nat.zero_add _))
theorem emb10 (t : Fin cfg0.N) (y : S6x128.Idx) : (win0_10.rect t).emb y = y :=
  have h := (by decide +kernel : ∀ t : Fin cfg0.N, win0_10.index t 0 = 0 ∧ win0_10.index t 1 = 0) t
  idx2_ext ((win0_10.rect_emb_val ..).trans (by rw [h.1]; exact Nat.zero_add _)) ((win0_10.rect_emb_val ..).trans (by rw [h.2]; exact Nat.zero_add _))
theorem emb11 (t : Fin cfg0.N) (y : S6x128.Idx) : (win0_11.rect t).emb y = y :=
  have h := (by decide +kernel : ∀ t : Fin cfg0.N, win0_11.index t 0 = 0 ∧ win0_11.index t 1 = 0) t
  idx2_ext ((win0_11.rect_emb_val ..).trans (by rw [h.1]; exact Nat.zero_add _)) ((win0_11.rect_emb_val ..).trans (by rw [h.2]; exact Nat.zero_add _))
theorem emb12 (t : Fin cfg0.N) (y : S2x9216.Idx) : (win0_12.rect t).emb y = y :=
  have h := (by decide +kernel : ∀ t : Fin cfg0.N, win0_12.index t 0 = 0 ∧ win0_12.index t 1 = 0) t
  idx2_ext ((win0_12.rect_emb_val ..).trans (by rw [h.1]; exact Nat.zero_add _)) ((win0_12.rect_emb_val ..).trans (by rw [h.2]; exact Nat.zero_add _))
theorem emb13 (t : Fin cfg0.N) (y : S2x9216.Idx) : (win0_13.rect t).emb y = y :=
  have h := (by decide +kernel : ∀ t : Fin cfg0.N, win0_13.index t 0 = 0 ∧ win0_13.index t 1 = 0) t
  idx2_ext ((win0_13.rect_emb_val ..).trans (by rw [h.1]; exact Nat.zero_add _)) ((win0_13.rect_emb_val ..).trans (by rw [h.2]; exact Nat.zero_add _))
theorem emb14 (t : Fin cfg0.N) (y : S2x9216.Idx) : (win0_14.rect t).emb y = y :=
  have h := (by decide +kernel : ∀ t : Fin cfg0.N, win0_14.index t 0 = 0 ∧ win0_14.index t 1 = 0) t
  idx2_ext ((win0_14.rect_emb_val ..).trans (by rw [h.1]; exact Nat.zero_add _)) ((win0_14.rect_emb_val ..).trans (by rw [h.2]; exact Nat.zero_add _))
theorem emb15 (t : Fin cfg0.N) (y : S6x128.Idx) : (win0_15.rect t).emb y = y :=
  have h := (by decide +kernel : ∀ t : Fin cfg0.N, win0_15.index t 0 = 0 ∧ win0_15.index t 1 = 0) t
  idx2_ext ((win0_15.rect_emb_val ..).trans (by rw [h.1]; exact Nat.zero_add _)) ((win0_15.rect_emb_val ..).trans (by rw [h.2]; exact Nat.zero_add _))
theorem emb16 (t : Fin cfg0.N) (y : S6x128.Idx) : (win0_16.rect t).emb y = y :=
  have h := (by decide +kernel : ∀ t : Fin cfg0.N, win0_16.index t 0 = 0 ∧ win0_16.index t 1 = 0) t
  idx2_ext ((win0_16.rect_emb_val ..).trans (by rw [h.1]; exact Nat.zero_add _)) ((win0_16.rect_emb_val ..).trans (by rw [h.2]; exact Nat.zero_add _))
theorem emb17 (t : Fin cfg0.N) (y : S6x128.Idx) : (win0_17.rect t).emb y = y :=
  have h := (by decide +kernel : ∀ t : Fin cfg0.N, win0_17.index t 0 = 0 ∧ win0_17.index t 1 = 0) t
  idx2_ext ((win0_17.rect_emb_val ..).trans (by rw [h.1]; exact Nat.zero_add _)) ((win0_17.rect_emb_val ..).trans (by rw [h.2]; exact Nat.zero_add _))
theorem emb18 (t : Fin cfg0.N) (y : S6x128.Idx) : (win0_18.rect t).emb y = y :=
  have h := (by decide +kernel : ∀ t : Fin cfg0.N, win0_18.index t 0 = 0 ∧ win0_18.index t 1 = 0) t
  idx2_ext ((win0_18.rect_emb_val ..).trans (by rw [h.1]; exact Nat.zero_add _)) ((win0_18.rect_emb_val ..).trans (by rw [h.2]; exact Nat.zero_add _))
theorem emb19 (t : Fin cfg0.N) (y : S6x128.Idx) : (win0_19.rect t).emb y = y :=
  have h := (by decide +kernel : ∀ t : Fin cfg0.N, win0_19.index t 0 = 0 ∧ win0_19.index t 1 = 0) t
  idx2_ext ((win0_19.rect_emb_val ..).trans (by rw [h.1]; exact Nat.zero_add _)) ((win0_19.rect_emb_val ..).trans (by rw [h.2]; exact Nat.zero_add _))
theorem emb20 (t : Fin cfg0.N) (y : S6x128.Idx) : (win0_20.rect t).emb y = y :=
  have h := (by decide +kernel : ∀ t : Fin cfg0.N, win0_20.index t 0 = 0 ∧ win0_20.index t 1 = 0) t
  idx2_ext ((win0_20.rect_emb_val ..).trans (by rw [h.1]; exact Nat.zero_add _)) ((win0_20.rect_emb_val ..).trans (by rw [h.2]; exact Nat.zero_add _))

/-- What the body reads. -/
theorem blk0 (t : Fin cfg0.N) : iblk m c 0 t = m ((c : Thread nD τ).loc main_arg0) :=
  funext fun y => (congrFun (V_main_arg0 m c) _).trans (congrArg (m ((c : Thread nD τ).loc main_arg0)) (emb0 t y))
theorem blk1 (t : Fin cfg0.N) : iblk m c 1 t = m ((c : Thread nD τ).loc main_arg1) :=
  funext fun y => (congrFun (V_main_arg1 m c) _).trans (congrArg (m ((c : Thread nD τ).loc main_arg1)) (emb1 t y))
theorem blk2 (t : Fin cfg0.N) : iblk m c 2 t = m ((c : Thread nD τ).loc main_arg2) :=
  funext fun y => (congrFun (V_main_arg2 m c) _).trans (congrArg (m ((c : Thread nD τ).loc main_arg2)) (emb2 t y))
theorem blk3 (t : Fin cfg0.N) : iblk m c 3 t = m ((c : Thread nD τ).loc main_arg3) :=
  funext fun y => (congrFun (V_main_arg3 m c) _).trans (congrArg (m ((c : Thread nD τ).loc main_arg3)) (emb3 t y))
theorem blk4 (t : Fin cfg0.N) : iblk m c 4 t = m ((c : Thread nD τ).loc main_arg4) :=
  funext fun y => (congrFun (V_main_arg4 m c) _).trans (congrArg (m ((c : Thread nD τ).loc main_arg4)) (emb4 t y))
theorem blk5 (t : Fin cfg0.N) : iblk m c 5 t = m ((c : Thread nD τ).loc main_arg5) :=
  funext fun y => (congrFun (V_main_arg5 m c) _).trans (congrArg (m ((c : Thread nD τ).loc main_arg5)) (emb5 t y))
theorem blk6 (t : Fin cfg0.N) : iblk m c 6 t = m ((c : Thread nD τ).loc main_arg6) :=
  funext fun y => (congrFun (V_main_arg6 m c) _).trans (congrArg (m ((c : Thread nD τ).loc main_arg6)) (emb6 t y))
theorem blk7 (t : Fin cfg0.N) : iblk m c 7 t = m ((c : Thread nD τ).loc main_arg7) :=
  funext fun y => (congrFun (V_main_arg7 m c) _).trans (congrArg (m ((c : Thread nD τ).loc main_arg7)) (emb7 t y))
theorem blk8 (t : Fin cfg0.N) : iblk m c 8 t = m ((c : Thread nD τ).loc main_arg8) :=
  funext fun y => (congrFun (V_main_arg8 m c) _).trans (congrArg (m ((c : Thread nD τ).loc main_arg8)) (emb8 t y))
theorem blk9 (t : Fin cfg0.N) : iblk m c 9 t = m ((c : Thread nD τ).loc main_arg9) :=
  funext fun y => (congrFun (V_main_arg9 m c) _).trans (congrArg (m ((c : Thread nD τ).loc main_arg9)) (emb9 t y))
theorem blk10 (t : Fin cfg0.N) : iblk m c 10 t = m ((c : Thread nD τ).loc main_arg10) :=
  funext fun y => (congrFun (V_main_arg10 m c) _).trans (congrArg (m ((c : Thread nD τ).loc main_arg10)) (emb10 t y))
theorem blk11 (t : Fin cfg0.N) : iblk m c 11 t = m ((c : Thread nD τ).loc main_arg11) :=
  funext fun y => (congrFun (V_main_arg11 m c) _).trans (congrArg (m ((c : Thread nD τ).loc main_arg11)) (emb11 t y))

/-- What the results' arrays hold. -/
theorem final12 : (dats m 0 c).arrAt 12 cfg0.N = val_main_v23 (F := Ideal) (m ((c : Thread nD τ).loc main_arg0)) (m ((c : Thread nD τ).loc main_arg1)) (m ((c : Thread nD τ).loc main_arg2)) (m ((c : Thread nD τ).loc main_arg3)) := by
  refine Dat.arrAt_eq_of_cover (dats m 0 c) 12 _ (fun t _ => ?_) fun i => ⟨⟨0, by decide⟩, flush0_12 _, ?_⟩
  swap
  · have e := emb12 ⟨0, by decide⟩ i
    exact e ▸ View.emb_mem_set _ _
  rw [flushed12_A]
  unfold out0_A_12
  rw [View.read_writes_eq_canon _ _ _ (fun y => cover0_A_12 (y := y) ..)]
  unfold kernelRun0_A
  dsimp only
  sl_unfold_words
  rw [View.canon_unit_zero zero2]
  simp only [View.readAt_eq_ld, (hs0_0 t).read_unread, (hs0_1 t).read_unread, (hs0_2 t).read_unread, (hs0_3 t).read_unread, View.ld_unit_zero (S := S2x9216) zero2, shapeCast_self]
  rw [blk0, blk1, blk2, blk3, d0_eq]
  generalize val_main_v23 (F := Ideal) (m ((c : Thread nD τ).loc main_arg0)) (m ((c : Thread nD τ).loc main_arg1)) (m ((c : Thread nD τ).loc main_arg2)) (m ((c : Thread nD τ).loc main_arg3)) = X
  funext y
  show (X y : Ideal .f32) = X ((win0_12.rect t).emb y)
  rw [emb12]
theorem final13 : (dats m 0 c).arrAt 13 cfg0.N = val_main_v4 (F := Ideal) (m ((c : Thread nD τ).loc main_arg0)) (m ((c : Thread nD τ).loc main_arg2)) := by
  refine Dat.arrAt_eq_of_cover (dats m 0 c) 13 _ (fun t _ => ?_) fun i => ⟨⟨0, by decide⟩, flush0_13 _, ?_⟩
  swap
  · have e := emb13 ⟨0, by decide⟩ i
    exact e ▸ View.emb_mem_set _ _
  rw [flushed13_A]
  unfold out0_A_13
  rw [View.read_writes_eq_canon _ _ _ (fun y => cover0_A_13 (y := y) ..)]
  unfold kernelRun0_A
  dsimp only
  sl_unfold_words
  rw [View.canon_unit_zero zero2]
  simp only [View.readAt_eq_ld, (hs0_0 t).read_unread, (hs0_2 t).read_unread, View.ld_unit_zero (S := S2x9216) zero2, shapeCast_self]
  rw [blk0, blk2, m0_eq]
  generalize val_main_v4 (F := Ideal) (m ((c : Thread nD τ).loc main_arg0)) (m ((c : Thread nD τ).loc main_arg2)) = X
  funext y
  show (X y : Ideal .f32) = X ((win0_13.rect t).emb y)
  rw [emb13]
theorem final14 : (dats m 0 c).arrAt 14 cfg0.N = val_main_v10 (F := Ideal) (m ((c : Thread nD τ).loc main_arg0)) (m ((c : Thread nD τ).loc main_arg3)) := by
  refine Dat.arrAt_eq_of_cover (dats m 0 c) 14 _ (fun t _ => ?_) fun i => ⟨⟨0, by decide⟩, flush0_14 _, ?_⟩
  swap
  · have e := emb14 ⟨0, by decide⟩ i
    exact e ▸ View.emb_mem_set _ _
  rw [flushed14_A]
  unfold out0_A_14
  rw [View.read_writes_eq_canon _ _ _ (fun y => cover0_A_14 (y := y) ..)]
  unfold kernelRun0_A
  dsimp only
  sl_unfold_words
  rw [View.canon_unit_zero zero2]
  simp only [View.readAt_eq_ld, (hs0_0 t).read_unread, (hs0_3 t).read_unread, View.ld_unit_zero (S := S2x9216) zero2, shapeCast_self]
  rw [blk0, blk3, v0_eq]
  generalize val_main_v10 (F := Ideal) (m ((c : Thread nD τ).loc main_arg0)) (m ((c : Thread nD τ).loc main_arg3)) = X
  funext y
  show (X y : Ideal .f32) = X ((win0_14.rect t).emb y)
  rw [emb14]
theorem final15 : (dats m 0 c).arrAt 15 cfg0.N = val_main_v47 (F := Ideal) (m ((c : Thread nD τ).loc main_arg4)) (m ((c : Thread nD τ).loc main_arg5)) (m ((c : Thread nD τ).loc main_arg6)) (m ((c : Thread nD τ).loc main_arg7)) := by
  refine Dat.arrAt_eq_of_cover (dats m 0 c) 15 _ (fun t _ => ?_) fun i => ⟨⟨0, by decide⟩, flush0_15 _, ?_⟩
  swap
  · have e := emb15 ⟨0, by decide⟩ i
    exact e ▸ View.emb_mem_set _ _
  rw [flushed15_A]
  unfold out0_A_15
  rw [View.read_writes_eq_canon _ _ _ (fun y => cover0_A_15 (y := y) ..)]
  unfold kernelRun0_A
  dsimp only
  sl_unfold_words
  rw [View.canon_unit_zero zero2]
  simp only [View.readAt_eq_ld, (hs0_4 t).read_unread, (hs0_5 t).read_unread, (hs0_6 t).read_unread, (hs0_7 t).read_unread, View.ld_unit_zero (S := S6x128) zero2, shapeCast_self]
  rw [blk4, blk5, blk6, blk7, d1_eq]
  generalize val_main_v47 (F := Ideal) (m ((c : Thread nD τ).loc main_arg4)) (m ((c : Thread nD τ).loc main_arg5)) (m ((c : Thread nD τ).loc main_arg6)) (m ((c : Thread nD τ).loc main_arg7)) = X
  funext y
  show (X y : Ideal .f32) = X ((win0_15.rect t).emb y)
  rw [emb15]
theorem final16 : (dats m 0 c).arrAt 16 cfg0.N = val_main_v28 (F := Ideal) (m ((c : Thread nD τ).loc main_arg4)) (m ((c : Thread nD τ).loc main_arg6)) := by
  refine Dat.arrAt_eq_of_cover (dats m 0 c) 16 _ (fun t _ => ?_) fun i => ⟨⟨0, by decide⟩, flush0_16 _, ?_⟩
  swap
  · have e := emb16 ⟨0, by decide⟩ i
    exact e ▸ View.emb_mem_set _ _
  rw [flushed16_A]
  unfold out0_A_16
  rw [View.read_writes_eq_canon _ _ _ (fun y => cover0_A_16 (y := y) ..)]
  unfold kernelRun0_A
  dsimp only
  sl_unfold_words
  rw [View.canon_unit_zero zero2]
  simp only [View.readAt_eq_ld, (hs0_4 t).read_unread, (hs0_6 t).read_unread, View.ld_unit_zero (S := S6x128) zero2, shapeCast_self]
  rw [blk4, blk6, m1_eq]
  generalize val_main_v28 (F := Ideal) (m ((c : Thread nD τ).loc main_arg4)) (m ((c : Thread nD τ).loc main_arg6)) = X
  funext y
  show (X y : Ideal .f32) = X ((win0_16.rect t).emb y)
  rw [emb16]
theorem final17 : (dats m 0 c).arrAt 17 cfg0.N = val_main_v34 (F := Ideal) (m ((c : Thread nD τ).loc main_arg4)) (m ((c : Thread nD τ).loc main_arg7)) := by
  refine Dat.arrAt_eq_of_cover (dats m 0 c) 17 _ (fun t _ => ?_) fun i => ⟨⟨0, by decide⟩, flush0_17 _, ?_⟩
  swap
  · have e := emb17 ⟨0, by decide⟩ i
    exact e ▸ View.emb_mem_set _ _
  rw [flushed17_A]
  unfold out0_A_17
  rw [View.read_writes_eq_canon _ _ _ (fun y => cover0_A_17 (y := y) ..)]
  unfold kernelRun0_A
  dsimp only
  sl_unfold_words
  rw [View.canon_unit_zero zero2]
  simp only [View.readAt_eq_ld, (hs0_4 t).read_unread, (hs0_7 t).read_unread, View.ld_unit_zero (S := S6x128) zero2, shapeCast_self]
  rw [blk4, blk7, v1_eq]
  generalize val_main_v34 (F := Ideal) (m ((c : Thread nD τ).loc main_arg4)) (m ((c : Thread nD τ).loc main_arg7)) = X
  funext y
  show (X y : Ideal .f32) = X ((win0_17.rect t).emb y)
  rw [emb17]
theorem final18 : (dats m 0 c).arrAt 18 cfg0.N = val_main_v71 (F := Ideal) (m ((c : Thread nD τ).loc main_arg8)) (m ((c : Thread nD τ).loc main_arg9)) (m ((c : Thread nD τ).loc main_arg10)) (m ((c : Thread nD τ).loc main_arg11)) := by
  refine Dat.arrAt_eq_of_cover (dats m 0 c) 18 _ (fun t _ => ?_) fun i => ⟨⟨0, by decide⟩, flush0_18 _, ?_⟩
  swap
  · have e := emb18 ⟨0, by decide⟩ i
    exact e ▸ View.emb_mem_set _ _
  rw [flushed18_A]
  unfold out0_A_18
  rw [View.read_writes_eq_canon _ _ _ (fun y => cover0_A_18 (y := y) ..)]
  unfold kernelRun0_A
  dsimp only
  sl_unfold_words
  rw [View.canon_unit_zero zero2]
  simp only [View.readAt_eq_ld, (hs0_8 t).read_unread, (hs0_9 t).read_unread, (hs0_10 t).read_unread, (hs0_11 t).read_unread, View.ld_unit_zero (S := S6x128) zero2, shapeCast_self]
  rw [blk8, blk9, blk10, blk11, d2_eq]
  generalize val_main_v71 (F := Ideal) (m ((c : Thread nD τ).loc main_arg8)) (m ((c : Thread nD τ).loc main_arg9)) (m ((c : Thread nD τ).loc main_arg10)) (m ((c : Thread nD τ).loc main_arg11)) = X
  funext y
  show (X y : Ideal .f32) = X ((win0_18.rect t).emb y)
  rw [emb18]
theorem final19 : (dats m 0 c).arrAt 19 cfg0.N = val_main_v52 (F := Ideal) (m ((c : Thread nD τ).loc main_arg8)) (m ((c : Thread nD τ).loc main_arg10)) := by
  refine Dat.arrAt_eq_of_cover (dats m 0 c) 19 _ (fun t _ => ?_) fun i => ⟨⟨0, by decide⟩, flush0_19 _, ?_⟩
  swap
  · have e := emb19 ⟨0, by decide⟩ i
    exact e ▸ View.emb_mem_set _ _
  rw [flushed19_A]
  unfold out0_A_19
  rw [View.read_writes_eq_canon _ _ _ (fun y => cover0_A_19 (y := y) ..)]
  unfold kernelRun0_A
  dsimp only
  sl_unfold_words
  rw [View.canon_unit_zero zero2]
  simp only [View.readAt_eq_ld, (hs0_8 t).read_unread, (hs0_10 t).read_unread, View.ld_unit_zero (S := S6x128) zero2, shapeCast_self]
  rw [blk8, blk10, m2_eq]
  generalize val_main_v52 (F := Ideal) (m ((c : Thread nD τ).loc main_arg8)) (m ((c : Thread nD τ).loc main_arg10)) = X
  funext y
  show (X y : Ideal .f32) = X ((win0_19.rect t).emb y)
  rw [emb19]
theorem final20 : (dats m 0 c).arrAt 20 cfg0.N = val_main_v58 (F := Ideal) (m ((c : Thread nD τ).loc main_arg8)) (m ((c : Thread nD τ).loc main_arg11)) := by
  refine Dat.arrAt_eq_of_cover (dats m 0 c) 20 _ (fun t _ => ?_) fun i => ⟨⟨0, by decide⟩, flush0_20 _, ?_⟩
  swap
  · have e := emb20 ⟨0, by decide⟩ i
    exact e ▸ View.emb_mem_set _ _
  rw [flushed20_A]
  unfold out0_A_20
  rw [View.read_writes_eq_canon _ _ _ (fun y => cover0_A_20 (y := y) ..)]
  unfold kernelRun0_A
  dsimp only
  sl_unfold_words
  rw [View.canon_unit_zero zero2]
  simp only [View.readAt_eq_ld, (hs0_8 t).read_unread, (hs0_11 t).read_unread, View.ld_unit_zero (S := S6x128) zero2, shapeCast_self]
  rw [blk8, blk11, v2_eq]
  generalize val_main_v58 (F := Ideal) (m ((c : Thread nD τ).loc main_arg8)) (m ((c : Thread nD τ).loc main_arg11)) = X
  funext y
  show (X y : Ideal .f32) = X ((win0_20.rect t).emb y)
  rw [emb20]

end Cert.AdamwShellIdeal.Value

end
-- ==== Proof.AdamwShellClaims.lean ====
/- The optimiser's step in the shapes of the shell's three small weights: its claims. -/
module

public import proofs.«01_k».proof.Proof.AdamwShellValue
public import proofs.«01_k».proof.Proof.Gen.AdamwShell
public import proofs.«01_k».proof.Proof.Gen.AdamwShellRefIdeal
public import proofs.«01_k».proof.Proof.Gen.AdamwShellRefIdeal.Run
public import Idealize.ShloMosaic.Lib.Tactic

@[expose] public section

set_option maxRecDepth 16384

noncomputable section

namespace Cert.Proof.AdamwShell

open Idealize.ShloMosaic Idealize.SL.Sem Cert.Util

/-- The program and its idealization have one text: the same entry … -/
theorem main_same : (Cert.AdamwShell.main (F := Bits)) = (Cert.AdamwShellIdeal.main (F := Bits)) := by sl_kernel_rfl

/-- … and the same bodies. -/
theorem defs_same : (Cert.AdamwShell.defs (F := Bits)) = (Cert.AdamwShellIdeal.defs (F := Bits)) := by sl_kernel_rfl

/-- So one run gives both frames. -/
theorem frame_p : Cert.quiescent_AdamwShell := fun m ρ _ => by
  have h := Cert.AdamwShellIdeal.Gen.frame (F := Bits) m ρ
  rw [← main_same, ← defs_same] at h
  exact h

theorem frame_i : Cert.quiescent_AdamwShellIdeal := fun m ρ _ => Cert.AdamwShellIdeal.Gen.frame m ρ

theorem frame_r : Cert.quiescent_AdamwShellRefIdeal := fun m ρ _ =>
  (θ_run Cert.AdamwShellRefIdeal.defs _ _).mono (fun r h => ⟨fun c => (h c).2.2.2.2.2.2.2.2.2, sem_eq_zero_of_no_sems (by decide) r.2⟩)
    (Cert.AdamwShellRefIdeal.Value.run (F := Ideal) m ρ)

theorem algebraic : Cert.algebraic_AdamwShellIdeal_AdamwShellRefIdeal := by
  intro m ρ m' ρ' _ hag
  refine ⟨_, _, _, _, _, _, _, _, _, (θ_run Cert.AdamwShellIdeal.defs _ _).mono (fun r h c => ⟨((h c).1).trans (Cert.AdamwShellIdeal.Value.final12 m c), ((h c).2.1).trans (Cert.AdamwShellIdeal.Value.final13 m c), ((h c).2.2.1).trans (Cert.AdamwShellIdeal.Value.final14 m c), ((h c).2.2.2.1).trans (Cert.AdamwShellIdeal.Value.final15 m c), ((h c).2.2.2.2.1).trans (Cert.AdamwShellIdeal.Value.final16 m c), ((h c).2.2.2.2.2.1).trans (Cert.AdamwShellIdeal.Value.final17 m c), ((h c).2.2.2.2.2.2.1).trans (Cert.AdamwShellIdeal.Value.final18 m c), ((h c).2.2.2.2.2.2.2.1).trans (Cert.AdamwShellIdeal.Value.final19 m c), ((h c).2.2.2.2.2.2.2.2.1).trans (Cert.AdamwShellIdeal.Value.final20 m c), (h c).2.2.2.2.2.2.2.2.2⟩)
    (Cert.AdamwShellIdeal.Value.run_blocks m ρ), ?_⟩
  refine (θ_run Cert.AdamwShellRefIdeal.defs _ _).mono (fun r h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩)
    (Cert.AdamwShellRefIdeal.Value.run (F := Ideal) m' ρ')
  · show Cert.AdamwShellRefIdeal.Read.val_main_v23 (F := Ideal) (m' (c.tc.loc Cert.AdamwShellRefIdeal.main_arg0)) (m' (c.tc.loc Cert.AdamwShellRefIdeal.main_arg1)) (m' (c.tc.loc Cert.AdamwShellRefIdeal.main_arg2)) (m' (c.tc.loc Cert.AdamwShellRefIdeal.main_arg3)) = _
    rw [(hag c).1, (hag c).2.1, (hag c).2.2.1, (hag c).2.2.2.1]
  · show Cert.AdamwShellRefIdeal.Read.val_main_v4 (F := Ideal) (m' (c.tc.loc Cert.AdamwShellRefIdeal.main_arg0)) (m' (c.tc.loc Cert.AdamwShellRefIdeal.main_arg2)) = _
    rw [(hag c).1, (hag c).2.2.1]
  · show Cert.AdamwShellRefIdeal.Read.val_main_v10 (F := Ideal) (m' (c.tc.loc Cert.AdamwShellRefIdeal.main_arg0)) (m' (c.tc.loc Cert.AdamwShellRefIdeal.main_arg3)) = _
    rw [(hag c).1, (hag c).2.2.2.1]
  · show Cert.AdamwShellRefIdeal.Read.val_main_v47 (F := Ideal) (m' (c.tc.loc Cert.AdamwShellRefIdeal.main_arg4)) (m' (c.tc.loc Cert.AdamwShellRefIdeal.main_arg5)) (m' (c.tc.loc Cert.AdamwShellRefIdeal.main_arg6)) (m' (c.tc.loc Cert.AdamwShellRefIdeal.main_arg7)) = _
    rw [(hag c).2.2.2.2.1, (hag c).2.2.2.2.2.1, (hag c).2.2.2.2.2.2.1, (hag c).2.2.2.2.2.2.2.1]
  · show Cert.AdamwShellRefIdeal.Read.val_main_v28 (F := Ideal) (m' (c.tc.loc Cert.AdamwShellRefIdeal.main_arg4)) (m' (c.tc.loc Cert.AdamwShellRefIdeal.main_arg6)) = _
    rw [(hag c).2.2.2.2.1, (hag c).2.2.2.2.2.2.1]
  · show Cert.AdamwShellRefIdeal.Read.val_main_v34 (F := Ideal) (m' (c.tc.loc Cert.AdamwShellRefIdeal.main_arg4)) (m' (c.tc.loc Cert.AdamwShellRefIdeal.main_arg7)) = _
    rw [(hag c).2.2.2.2.1, (hag c).2.2.2.2.2.2.2.1]
  · show Cert.AdamwShellRefIdeal.Read.val_main_v71 (F := Ideal) (m' (c.tc.loc Cert.AdamwShellRefIdeal.main_arg8)) (m' (c.tc.loc Cert.AdamwShellRefIdeal.main_arg9)) (m' (c.tc.loc Cert.AdamwShellRefIdeal.main_arg10)) (m' (c.tc.loc Cert.AdamwShellRefIdeal.main_arg11)) = _
    rw [(hag c).2.2.2.2.2.2.2.2.1, (hag c).2.2.2.2.2.2.2.2.2.1, (hag c).2.2.2.2.2.2.2.2.2.2.1, (hag c).2.2.2.2.2.2.2.2.2.2.2]
  · show Cert.AdamwShellRefIdeal.Read.val_main_v52 (F := Ideal) (m' (c.tc.loc Cert.AdamwShellRefIdeal.main_arg8)) (m' (c.tc.loc Cert.AdamwShellRefIdeal.main_arg10)) = _
    rw [(hag c).2.2.2.2.2.2.2.2.1, (hag c).2.2.2.2.2.2.2.2.2.2.1]
  · show Cert.AdamwShellRefIdeal.Read.val_main_v58 (F := Ideal) (m' (c.tc.loc Cert.AdamwShellRefIdeal.main_arg8)) (m' (c.tc.loc Cert.AdamwShellRefIdeal.main_arg11)) = _
    rw [(hag c).2.2.2.2.2.2.2.2.1, (hag c).2.2.2.2.2.2.2.2.2.2.2]

end Cert.Proof.AdamwShell

end
-- ==== Proof.lean ====
/- The claims of every call, put together: each call's frames, its idealization and its equation with the derivative of
   the reference's lines are in the call's own module (Proof/<Call>Claims.lean). -/
module

public import proofs.«01_k».proof.Defs
public import proofs.«01_k».proof.Proof.GluBwdClaims
public import proofs.«01_k».proof.Proof.Gen.GluBwd
public import proofs.«01_k».proof.Proof.Gen.GluBwdIdeal
public import proofs.«01_k».proof.Proof.Gen.GluBwdRefIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.GluBwdIdeal.Value
public import proofs.«01_k».proof.Proof.Gen.GluBwdRefIdeal.Run
public import proofs.«01_k».proof.Proof.Gen.GluBwdRefIdeal.Read
public import proofs.«01_k».proof.Proof.SsmActBwdClaims
public import proofs.«01_k».proof.Proof.Gen.SsmActBwd
public import proofs.«01_k».proof.Proof.Gen.SsmActBwdIdeal
public import proofs.«01_k».proof.Proof.Gen.SsmActBwdRefIdeal
public import proofs.«01_k».proof.Proof.Gen.SsmActBwdIdeal.Skeleton
public import proofs.«01_k».proof.Proof.Gen.SsmActBwdIdeal.Launch
public import proofs.«01_k».proof.Proof.Gen.SsmActBwdIdeal.Points
public import proofs.«01_k».proof.Proof.Gen.SsmActBwdIdeal.Frame
public import proofs.«01_k».proof.Proof.Gen.SsmActBwdIdeal.Value
public import proofs.«01_k».proof.Proof.Gen.Pre_finite_ssm_act_bwd
public import proofs.«01_k».proof.Proof.Gen.SsmActBwdRefIdeal.Run
public import proofs.«01_k».proof.Proof.Gen.SsmActBwdRefIdeal.Read
public import proofs.«01_k».proof.Proof.PrenormBwdClaims
public import proofs.«01_k».proof.Proof.Gen.PrenormBwd
public import proofs.«01_k».proof.Proof.Gen.PrenormBwdIdeal
public import proofs.«01_k».proof.Proof.Gen.PrenormBwdRefIdeal
public import proofs.«01_k».proof.Proof.Gen.PrenormBwdIdeal.Skeleton
public import proofs.«01_k».proof.Proof.Gen.PrenormBwdIdeal.Launch
public import proofs.«01_k».proof.Proof.Gen.PrenormBwdIdeal.Points
public import proofs.«01_k».proof.Proof.Gen.PrenormBwdIdeal.Frame
public import proofs.«01_k».proof.Proof.Gen.PrenormBwdIdeal.Value
public import proofs.«01_k».proof.Proof.Gen.Pre_finite_prenorm_bwd
public import proofs.«01_k».proof.Proof.Gen.PrenormBwdRefIdeal.Run
public import proofs.«01_k».proof.Proof.Gen.PrenormBwdRefIdeal.Read
public import proofs.«01_k».proof.Proof.LastShellClaims
public import proofs.«01_k».proof.Proof.Gen.LastShell
public import proofs.«01_k».proof.Proof.Gen.LastShellIdeal
public import proofs.«01_k».proof.Proof.Gen.LastShellRefIdeal
public import proofs.«01_k».proof.Proof.Gen.LastShellIdeal.Skeleton
public import proofs.«01_k».proof.Proof.Gen.LastShellIdeal.Launch
public import proofs.«01_k».proof.Proof.Gen.LastShellIdeal.Points
public import proofs.«01_k».proof.Proof.Gen.LastShellIdeal.Frame
public import proofs.«01_k».proof.Proof.Gen.LastShellIdeal.Value
public import proofs.«01_k».proof.Proof.Gen.Pre_finite_last_shell
public import proofs.«01_k».proof.Proof.Gen.LastShellRefIdeal.Run
public import proofs.«01_k».proof.Proof.Gen.LastShellRefIdeal.Read
public import proofs.«01_k».proof.Proof.SsmDuClaims
public import proofs.«01_k».proof.Proof.Gen.SsmDu
public import proofs.«01_k».proof.Proof.Gen.SsmDuIdeal
public import proofs.«01_k».proof.Proof.Gen.SsmDuRefIdeal
public import proofs.«01_k».proof.Proof.Gen.SsmDuIdeal.Skeleton
public import proofs.«01_k».proof.Proof.Gen.SsmDuIdeal.Launch
public import proofs.«01_k».proof.Proof.Gen.SsmDuIdeal.Points
public import proofs.«01_k».proof.Proof.Gen.SsmDuIdeal.Frame
public import proofs.«01_k».proof.Proof.Gen.SsmDuIdeal.Value
public import proofs.«01_k».proof.Proof.Gen.SsmDuRefIdeal.Run
public import proofs.«01_k».proof.Proof.Gen.SsmDuRefIdeal.Read
public import proofs.«01_k».proof.Proof.AdaWGradClaims
public import proofs.«01_k».proof.Proof.Gen.AdaWGrad
public import proofs.«01_k».proof.Proof.Gen.AdaWGradIdeal
public import proofs.«01_k».proof.Proof.Gen.AdaWGradRefIdeal
public import proofs.«01_k».proof.Proof.Gen.AdaWGradIdeal.Skeleton
public import proofs.«01_k».proof.Proof.Gen.AdaWGradIdeal.Launch
public import proofs.«01_k».proof.Proof.Gen.AdaWGradIdeal.Points
public import proofs.«01_k».proof.Proof.Gen.AdaWGradIdeal.Frame
public import proofs.«01_k».proof.Proof.Gen.AdaWGradRefIdeal.Run
public import proofs.«01_k».proof.Proof.Gen.AdaWGradRefIdeal.Read
public import proofs.«01_k».proof.Proof.FfnSwigluClaims
public import proofs.«01_k».proof.Proof.Gen.FfnSwiglu
public import proofs.«01_k».proof.Proof.Gen.FfnSwigluIdeal
public import proofs.«01_k».proof.Proof.Gen.FfnSwigluRefIdeal
public import proofs.«01_k».proof.Proof.Gen.FfnSwigluIdeal.Skeleton
public import proofs.«01_k».proof.Proof.Gen.FfnSwigluIdeal.Launch
public import proofs.«01_k».proof.Proof.Gen.FfnSwigluIdeal.Points
public import proofs.«01_k».proof.Proof.Gen.FfnSwigluIdeal.Frame
public import proofs.«01_k».proof.Proof.Gen.Pre_finite_ffn_swiglu
public import proofs.«01_k».proof.Proof.Gen.FfnSwigluRefIdeal.Run
public import proofs.«01_k».proof.Proof.Gen.FfnSwigluRefIdeal.Read
public import proofs.«01_k».proof.Proof.PrePostClaims
public import proofs.«01_k».proof.Proof.Gen.PrePost
public import proofs.«01_k».proof.Proof.Gen.PrePostIdeal
public import proofs.«01_k».proof.Proof.Gen.PrePostRefIdeal
public import proofs.«01_k».proof.Proof.Gen.PrePostIdeal.Skeleton
public import proofs.«01_k».proof.Proof.Gen.PrePostIdeal.Launch
public import proofs.«01_k».proof.Proof.Gen.PrePostIdeal.Points
public import proofs.«01_k».proof.Proof.Gen.PrePostIdeal.Frame
public import proofs.«01_k».proof.Proof.Gen.Pre_finite_pre_post
public import proofs.«01_k».proof.Proof.Gen.PrePostRefIdeal.Run
public import proofs.«01_k».proof.Proof.Gen.PrePostRefIdeal.Read
public import proofs.«01_k».proof.Proof.PoolClaims
public import proofs.«01_k».proof.Proof.Gen.Pool
public import proofs.«01_k».proof.Proof.Gen.PoolIdeal
public import proofs.«01_k».proof.Proof.Gen.PoolRefIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.Pre_finite_pool
public import proofs.«01_k».proof.Proof.Gen.PoolRefIdeal.Run
public import proofs.«01_k».proof.Proof.Gen.PoolRefIdeal.Read
public import proofs.«01_k».proof.Proof.SguBwdClaims
public import proofs.«01_k».proof.Proof.Gen.SguBwd
public import proofs.«01_k».proof.Proof.Gen.SguBwdIdeal
public import proofs.«01_k».proof.Proof.Gen.SguBwdRefIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguBwdIdeal.Value
public import proofs.«01_k».proof.Proof.Gen.Pre_finite_sgu_bwd
public import proofs.«01_k».proof.Proof.Gen.SguBwdRefIdeal.Run
public import proofs.«01_k».proof.Proof.Gen.SguBwdRefIdeal.Read
public import proofs.«01_k».proof.Proof.SsmParamClaims
public import proofs.«01_k».proof.Proof.Gen.SsmParam
public import proofs.«01_k».proof.Proof.Gen.SsmParamIdeal
public import proofs.«01_k».proof.Proof.Gen.SsmParamRefIdeal
public import proofs.«01_k».proof.Proof.Gen.SsmParamIdeal.Skeleton
public import proofs.«01_k».proof.Proof.Gen.SsmParamIdeal.Launch
public import proofs.«01_k».proof.Proof.Gen.SsmParamIdeal.Points
public import proofs.«01_k».proof.Proof.Gen.SsmParamIdeal.Frame
public import proofs.«01_k».proof.Proof.Gen.SsmParamIdeal.Value
public import proofs.«01_k».proof.Proof.Gen.Pre_finite_ssm_param
public import proofs.«01_k».proof.Proof.Gen.SsmParamRefIdeal.Run
public import proofs.«01_k».proof.Proof.Gen.SsmParamRefIdeal.Read
public import proofs.«01_k».proof.Proof.SsmPrepClaims
public import proofs.«01_k».proof.Proof.Gen.SsmPrep
public import proofs.«01_k».proof.Proof.Gen.SsmPrepIdeal
public import proofs.«01_k».proof.Proof.Gen.SsmPrepRefIdeal
public import proofs.«01_k».proof.Proof.Gen.SsmPrepIdeal.Skeleton
public import proofs.«01_k».proof.Proof.Gen.SsmPrepIdeal.Launch
public import proofs.«01_k».proof.Proof.Gen.SsmPrepIdeal.Points
public import proofs.«01_k».proof.Proof.Gen.SsmPrepIdeal.Frame
public import proofs.«01_k».proof.Proof.Gen.SsmPrepIdeal.Value
public import proofs.«01_k».proof.Proof.Gen.SsmPrepRefIdeal.Run
public import proofs.«01_k».proof.Proof.Gen.SsmPrepRefIdeal.Read
public import proofs.«01_k».proof.Proof.SsmScanClaims
public import proofs.«01_k».proof.Proof.Gen.SsmScan
public import proofs.«01_k».proof.Proof.Gen.SsmScanIdeal
public import proofs.«01_k».proof.Proof.Gen.SsmScanRefIdeal
public import proofs.«01_k».proof.Proof.Gen.SsmScanIdeal.Skeleton
public import proofs.«01_k».proof.Proof.Gen.SsmScanIdeal.Launch
public import proofs.«01_k».proof.Proof.Gen.SsmScanIdeal.Points
public import proofs.«01_k».proof.Proof.Gen.SsmScanIdeal.Frame
public import proofs.«01_k».proof.Proof.Gen.SsmScanIdeal.Loops
public import proofs.«01_k».proof.Proof.Gen.Pre_finite_ssm_scan
public import proofs.«01_k».proof.Proof.Gen.SsmScanRefIdeal.Run
public import proofs.«01_k».proof.Proof.SguFwdClaims
public import proofs.«01_k».proof.Proof.Gen.SguFwd
public import proofs.«01_k».proof.Proof.Gen.SguFwdIdeal
public import proofs.«01_k».proof.Proof.Gen.SguFwdRefIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.SsmActFwdClaims
public import proofs.«01_k».proof.Proof.Gen.SsmActFwd
public import proofs.«01_k».proof.Proof.Gen.SsmActFwdIdeal
public import proofs.«01_k».proof.Proof.Gen.SsmActFwdRefIdeal
public import proofs.«01_k».proof.Proof.Gen.SsmActFwdIdeal.Skeleton
public import proofs.«01_k».proof.Proof.Gen.SsmActFwdIdeal.Launch
public import proofs.«01_k».proof.Proof.Gen.SsmActFwdIdeal.Points
public import proofs.«01_k».proof.Proof.Gen.SsmActFwdIdeal.Frame
public import proofs.«01_k».proof.Proof.Gen.SsmActFwdIdeal.Value
public import proofs.«01_k».proof.Proof.Gen.SsmActFwdRefIdeal.Run
public import proofs.«01_k».proof.Proof.Gen.SsmActFwdRefIdeal.Read
public import proofs.«01_k».proof.Proof.GluFwdClaims
public import proofs.«01_k».proof.Proof.Gen.GluFwd
public import proofs.«01_k».proof.Proof.Gen.GluFwdIdeal
public import proofs.«01_k».proof.Proof.Gen.GluFwdRefIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdIdeal.Value
public import proofs.«01_k».proof.Proof.Gen.GluFwdRefIdeal.Run
public import proofs.«01_k».proof.Proof.Gen.GluFwdRefIdeal.Read
public import proofs.«01_k».proof.Proof.PrenormFwdClaims
public import proofs.«01_k».proof.Proof.Gen.PrenormFwd
public import proofs.«01_k».proof.Proof.Gen.PrenormFwdIdeal
public import proofs.«01_k».proof.Proof.Gen.PrenormFwdRefIdeal
public import proofs.«01_k».proof.Proof.Gen.PrenormFwdIdeal.Skeleton
public import proofs.«01_k».proof.Proof.Gen.PrenormFwdIdeal.Launch
public import proofs.«01_k».proof.Proof.Gen.PrenormFwdIdeal.Points
public import proofs.«01_k».proof.Proof.Gen.PrenormFwdIdeal.Frame
public import proofs.«01_k».proof.Proof.Gen.PrenormFwdIdeal.Value
public import proofs.«01_k».proof.Proof.Gen.PrenormFwdRefIdeal.Run
public import proofs.«01_k».proof.Proof.Gen.PrenormFwdRefIdeal.Read
public import proofs.«01_k».proof.Proof.ModPartClaims
public import proofs.«01_k».proof.Proof.Gen.ModPart
public import proofs.«01_k».proof.Proof.Gen.ModPartIdeal
public import proofs.«01_k».proof.Proof.Gen.ModPartRefIdeal
public import proofs.«01_k».proof.Proof.Gen.ModPartIdeal.Skeleton
public import proofs.«01_k».proof.Proof.Gen.ModPartIdeal.Launch
public import proofs.«01_k».proof.Proof.Gen.ModPartIdeal.Points
public import proofs.«01_k».proof.Proof.Gen.ModPartIdeal.Frame
public import proofs.«01_k».proof.Proof.Gen.ModPartIdeal.Value
public import proofs.«01_k».proof.Proof.Gen.ModPartRefIdeal.Run
public import proofs.«01_k».proof.Proof.Gen.ModPartRefIdeal.Read
public import proofs.«01_k».proof.Proof.MmNnClaims
public import proofs.«01_k».proof.Proof.Gen.MmNn
public import proofs.«01_k».proof.Proof.Gen.MmNnIdeal
public import proofs.«01_k».proof.Proof.Gen.MmNnRefIdeal
public import proofs.«01_k».proof.Proof.Gen.MmNnIdeal.Skeleton
public import proofs.«01_k».proof.Proof.Gen.MmNnIdeal.Launch
public import proofs.«01_k».proof.Proof.Gen.MmNnIdeal.Points
public import proofs.«01_k».proof.Proof.Gen.MmNnIdeal.Frame
public import proofs.«01_k».proof.Proof.Gen.MmNnIdeal.Value
public import proofs.«01_k».proof.Proof.Gen.MmNnRefIdeal.Run
public import proofs.«01_k».proof.Proof.Gen.MmNnRefIdeal.Read
public import proofs.«01_k».proof.Proof.MmNtClaims
public import proofs.«01_k».proof.Proof.Gen.MmNt
public import proofs.«01_k».proof.Proof.Gen.MmNtIdeal
public import proofs.«01_k».proof.Proof.Gen.MmNtRefIdeal
public import proofs.«01_k».proof.Proof.Gen.MmNtIdeal.Skeleton
public import proofs.«01_k».proof.Proof.Gen.MmNtIdeal.Launch
public import proofs.«01_k».proof.Proof.Gen.MmNtIdeal.Points
public import proofs.«01_k».proof.Proof.Gen.MmNtIdeal.Frame
public import proofs.«01_k».proof.Proof.Gen.MmNtIdeal.Value
public import proofs.«01_k».proof.Proof.Gen.MmNtRefIdeal.Run
public import proofs.«01_k».proof.Proof.Gen.MmNtRefIdeal.Read
public import proofs.«01_k».proof.Proof.MmTnClaims
public import proofs.«01_k».proof.Proof.Gen.MmTn
public import proofs.«01_k».proof.Proof.Gen.MmTnIdeal
public import proofs.«01_k».proof.Proof.Gen.MmTnRefIdeal
public import proofs.«01_k».proof.Proof.Gen.MmTnIdeal.Skeleton
public import proofs.«01_k».proof.Proof.Gen.MmTnIdeal.Launch
public import proofs.«01_k».proof.Proof.Gen.MmTnIdeal.Points
public import proofs.«01_k».proof.Proof.Gen.MmTnIdeal.Frame
public import proofs.«01_k».proof.Proof.Gen.MmTnIdeal.Value
public import proofs.«01_k».proof.Proof.Gen.MmTnRefIdeal.Run
public import proofs.«01_k».proof.Proof.Gen.MmTnRefIdeal.Read
public import proofs.«01_k».proof.Proof.MmSumClaims
public import proofs.«01_k».proof.Proof.Gen.MmSum
public import proofs.«01_k».proof.Proof.Gen.MmSumIdeal
public import proofs.«01_k».proof.Proof.Gen.MmSumRefIdeal
public import proofs.«01_k».proof.Proof.Gen.MmSumIdeal.Skeleton
public import proofs.«01_k».proof.Proof.Gen.MmSumIdeal.Launch
public import proofs.«01_k».proof.Proof.Gen.MmSumIdeal.Points
public import proofs.«01_k».proof.Proof.Gen.MmSumIdeal.Frame
public import proofs.«01_k».proof.Proof.Gen.MmSumIdeal.Value
public import proofs.«01_k».proof.Proof.Gen.MmSumRefIdeal.Run
public import proofs.«01_k».proof.Proof.Gen.MmSumRefIdeal.Read
public import proofs.«01_k».proof.Proof.AdamwClaims
public import proofs.«01_k».proof.Proof.Gen.Adamw
public import proofs.«01_k».proof.Proof.Gen.AdamwIdeal
public import proofs.«01_k».proof.Proof.Gen.AdamwRefIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.MmDwClaims
public import proofs.«01_k».proof.Proof.Gen.MmDw
public import proofs.«01_k».proof.Proof.Gen.MmDwIdeal
public import proofs.«01_k».proof.Proof.Gen.MmDwRefIdeal
public import proofs.«01_k».proof.Proof.Gen.MmDwIdeal.Skeleton
public import proofs.«01_k».proof.Proof.Gen.MmDwIdeal.Launch
public import proofs.«01_k».proof.Proof.Gen.MmDwIdeal.Points
public import proofs.«01_k».proof.Proof.Gen.MmDwIdeal.Frame
public import proofs.«01_k».proof.Proof.Gen.MmDwIdeal.Value
public import proofs.«01_k».proof.Proof.Gen.MmDwRefIdeal.Run
public import proofs.«01_k».proof.Proof.Gen.MmDwRefIdeal.Read
public import proofs.«01_k».proof.Proof.SumPartsClaims
public import proofs.«01_k».proof.Proof.Gen.SumParts
public import proofs.«01_k».proof.Proof.Gen.SumPartsIdeal
public import proofs.«01_k».proof.Proof.Gen.SumPartsRefIdeal
public import proofs.«01_k».proof.Proof.Gen.SumPartsIdeal.Skeleton
public import proofs.«01_k».proof.Proof.Gen.SumPartsIdeal.Launch
public import proofs.«01_k».proof.Proof.Gen.SumPartsIdeal.Points
public import proofs.«01_k».proof.Proof.Gen.SumPartsIdeal.Frame
public import proofs.«01_k».proof.Proof.Gen.SumPartsIdeal.Value
public import proofs.«01_k».proof.Proof.Gen.SumPartsRefIdeal.Run
public import proofs.«01_k».proof.Proof.Gen.SumPartsRefIdeal.Read
public import proofs.«01_k».proof.Proof.BlockDiagClaims
public import proofs.«01_k».proof.Proof.Gen.BlockDiag
public import proofs.«01_k».proof.Proof.Gen.BlockDiagIdeal
public import proofs.«01_k».proof.Proof.Gen.BlockDiagRefIdeal
public import proofs.«01_k».proof.Proof.Gen.BlockDiagIdeal.Skeleton
public import proofs.«01_k».proof.Proof.Gen.BlockDiagIdeal.Launch
public import proofs.«01_k».proof.Proof.Gen.BlockDiagIdeal.Points
public import proofs.«01_k».proof.Proof.Gen.BlockDiagIdeal.Frame
public import proofs.«01_k».proof.Proof.Gen.BlockDiagIdeal.Value
public import proofs.«01_k».proof.Proof.Gen.BlockDiagRefIdeal.Run
public import proofs.«01_k».proof.Proof.Gen.BlockDiagRefIdeal.Read
public import proofs.«01_k».proof.Proof.AdamwRowsClaims
public import proofs.«01_k».proof.Proof.Gen.AdamwRows
public import proofs.«01_k».proof.Proof.Gen.AdamwRowsIdeal
public import proofs.«01_k».proof.Proof.Gen.AdamwRowsRefIdeal
public import proofs.«01_k».proof.Proof.Gen.AdamwRowsIdeal.Skeleton
public import proofs.«01_k».proof.Proof.Gen.AdamwRowsIdeal.Launch
public import proofs.«01_k».proof.Proof.Gen.AdamwRowsIdeal.Points
public import proofs.«01_k».proof.Proof.Gen.AdamwRowsIdeal.Frame
public import proofs.«01_k».proof.Proof.Gen.AdamwRowsIdeal.Value
public import proofs.«01_k».proof.Proof.Gen.AdamwRowsRefIdeal.Run
public import proofs.«01_k».proof.Proof.Gen.AdamwRowsRefIdeal.Read
public import proofs.«01_k».proof.Proof.AdamwColsClaims
public import proofs.«01_k».proof.Proof.Gen.AdamwCols
public import proofs.«01_k».proof.Proof.Gen.AdamwColsIdeal
public import proofs.«01_k».proof.Proof.Gen.AdamwColsRefIdeal
public import proofs.«01_k».proof.Proof.Gen.AdamwColsIdeal.Skeleton
public import proofs.«01_k».proof.Proof.Gen.AdamwColsIdeal.Launch
public import proofs.«01_k».proof.Proof.Gen.AdamwColsIdeal.Points
public import proofs.«01_k».proof.Proof.Gen.AdamwColsIdeal.Frame
public import proofs.«01_k».proof.Proof.Gen.AdamwColsIdeal.Value
public import proofs.«01_k».proof.Proof.Gen.AdamwColsRefIdeal.Run
public import proofs.«01_k».proof.Proof.Gen.AdamwColsRefIdeal.Read
public import proofs.«01_k».proof.Proof.AdamwHeadsClaims
public import proofs.«01_k».proof.Proof.Gen.AdamwHeads
public import proofs.«01_k».proof.Proof.Gen.AdamwHeadsIdeal
public import proofs.«01_k».proof.Proof.Gen.AdamwHeadsRefIdeal
public import proofs.«01_k».proof.Proof.Gen.AdamwHeadsIdeal.Skeleton
public import proofs.«01_k».proof.Proof.Gen.AdamwHeadsIdeal.Launch
public import proofs.«01_k».proof.Proof.Gen.AdamwHeadsIdeal.Points
public import proofs.«01_k».proof.Proof.Gen.AdamwHeadsIdeal.Frame
public import proofs.«01_k».proof.Proof.Gen.AdamwHeadsIdeal.Value
public import proofs.«01_k».proof.Proof.Gen.AdamwHeadsRefIdeal.Run
public import proofs.«01_k».proof.Proof.Gen.AdamwHeadsRefIdeal.Read
public import proofs.«01_k».proof.Proof.AdamwSsmClaims
public import proofs.«01_k».proof.Proof.Gen.AdamwSsm
public import proofs.«01_k».proof.Proof.Gen.AdamwSsmIdeal
public import proofs.«01_k».proof.Proof.Gen.AdamwSsmRefIdeal
public import proofs.«01_k».proof.Proof.Gen.AdamwSsmIdeal.Skeleton
public import proofs.«01_k».proof.Proof.Gen.AdamwSsmIdeal.Launch
public import proofs.«01_k».proof.Proof.Gen.AdamwSsmIdeal.Points
public import proofs.«01_k».proof.Proof.Gen.AdamwSsmIdeal.Frame
public import proofs.«01_k».proof.Proof.Gen.AdamwSsmIdeal.Value
public import proofs.«01_k».proof.Proof.Gen.AdamwSsmRefIdeal.Run
public import proofs.«01_k».proof.Proof.Gen.AdamwSsmRefIdeal.Read
public import proofs.«01_k».proof.Proof.AdamwShellClaims
public import proofs.«01_k».proof.Proof.Gen.AdamwShell
public import proofs.«01_k».proof.Proof.Gen.AdamwShellIdeal
public import proofs.«01_k».proof.Proof.Gen.AdamwShellRefIdeal
public import proofs.«01_k».proof.Proof.Gen.AdamwShellIdeal.Skeleton
public import proofs.«01_k».proof.Proof.Gen.AdamwShellIdeal.Launch
public import proofs.«01_k».proof.Proof.Gen.AdamwShellIdeal.Points
public import proofs.«01_k».proof.Proof.Gen.AdamwShellIdeal.Frame
public import proofs.«01_k».proof.Proof.Gen.AdamwShellIdeal.Value
public import proofs.«01_k».proof.Proof.Gen.AdamwShellRefIdeal.Run
public import proofs.«01_k».proof.Proof.Gen.AdamwShellRefIdeal.Read
public import Idealize.ShloMosaic.Adequacy
public import Idealize.ShloMosaic.Init

@[expose] public section

noncomputable section

namespace Cert.Proof

theorem claim : Cert.Claim :=
  ⟨Cert.GluBwd.Gen.facts, Cert.GluBwdIdeal.Gen.facts, Cert.GluBwdRefIdeal.Gen.facts,
    Cert.SsmActBwd.Gen.facts, Cert.SsmActBwdIdeal.Gen.facts, Cert.SsmActBwdRefIdeal.Gen.facts,
    Cert.PrenormBwd.Gen.facts, Cert.PrenormBwdIdeal.Gen.facts, Cert.PrenormBwdRefIdeal.Gen.facts,
    Cert.LastShell.Gen.facts, Cert.LastShellIdeal.Gen.facts, Cert.LastShellRefIdeal.Gen.facts,
    Cert.SsmDu.Gen.facts, Cert.SsmDuIdeal.Gen.facts, Cert.SsmDuRefIdeal.Gen.facts,
    Cert.AdaWGrad.Gen.facts, Cert.AdaWGradIdeal.Gen.facts, Cert.AdaWGradRefIdeal.Gen.facts,
    Cert.FfnSwiglu.Gen.facts, Cert.FfnSwigluIdeal.Gen.facts, Cert.FfnSwigluRefIdeal.Gen.facts,
    Cert.PrePost.Gen.facts, Cert.PrePostIdeal.Gen.facts, Cert.PrePostRefIdeal.Gen.facts,
    Cert.Pool.Gen.facts, Cert.PoolIdeal.Gen.facts, Cert.PoolRefIdeal.Gen.facts,
    Cert.SguBwd.Gen.facts, Cert.SguBwdIdeal.Gen.facts, Cert.SguBwdRefIdeal.Gen.facts,
    Cert.SsmParam.Gen.facts, Cert.SsmParamIdeal.Gen.facts, Cert.SsmParamRefIdeal.Gen.facts,
    Cert.SsmPrep.Gen.facts, Cert.SsmPrepIdeal.Gen.facts, Cert.SsmPrepRefIdeal.Gen.facts,
    Cert.SsmScan.Gen.facts, Cert.SsmScanIdeal.Gen.facts, Cert.SsmScanRefIdeal.Gen.facts,
    Cert.SguFwd.Gen.facts, Cert.SguFwdIdeal.Gen.facts, Cert.SguFwdRefIdeal.Gen.facts,
    Cert.SsmActFwd.Gen.facts, Cert.SsmActFwdIdeal.Gen.facts, Cert.SsmActFwdRefIdeal.Gen.facts,
    Cert.GluFwd.Gen.facts, Cert.GluFwdIdeal.Gen.facts, Cert.GluFwdRefIdeal.Gen.facts,
    Cert.PrenormFwd.Gen.facts, Cert.PrenormFwdIdeal.Gen.facts, Cert.PrenormFwdRefIdeal.Gen.facts,
    Cert.ModPart.Gen.facts, Cert.ModPartIdeal.Gen.facts, Cert.ModPartRefIdeal.Gen.facts,
    Cert.MmNn.Gen.facts, Cert.MmNnIdeal.Gen.facts, Cert.MmNnRefIdeal.Gen.facts,
    Cert.MmNt.Gen.facts, Cert.MmNtIdeal.Gen.facts, Cert.MmNtRefIdeal.Gen.facts,
    Cert.MmTn.Gen.facts, Cert.MmTnIdeal.Gen.facts, Cert.MmTnRefIdeal.Gen.facts,
    Cert.MmSum.Gen.facts, Cert.MmSumIdeal.Gen.facts, Cert.MmSumRefIdeal.Gen.facts,
    Cert.Adamw.Gen.facts, Cert.AdamwIdeal.Gen.facts, Cert.AdamwRefIdeal.Gen.facts,
    Cert.MmDw.Gen.facts, Cert.MmDwIdeal.Gen.facts, Cert.MmDwRefIdeal.Gen.facts,
    Cert.SumParts.Gen.facts, Cert.SumPartsIdeal.Gen.facts, Cert.SumPartsRefIdeal.Gen.facts,
    Cert.BlockDiag.Gen.facts, Cert.BlockDiagIdeal.Gen.facts, Cert.BlockDiagRefIdeal.Gen.facts,
    Cert.AdamwRows.Gen.facts, Cert.AdamwRowsIdeal.Gen.facts, Cert.AdamwRowsRefIdeal.Gen.facts,
    Cert.AdamwCols.Gen.facts, Cert.AdamwColsIdeal.Gen.facts, Cert.AdamwColsRefIdeal.Gen.facts,
    Cert.AdamwHeads.Gen.facts, Cert.AdamwHeadsIdeal.Gen.facts, Cert.AdamwHeadsRefIdeal.Gen.facts,
    Cert.AdamwSsm.Gen.facts, Cert.AdamwSsmIdeal.Gen.facts, Cert.AdamwSsmRefIdeal.Gen.facts,
    Cert.AdamwShell.Gen.facts, Cert.AdamwShellIdeal.Gen.facts, Cert.AdamwShellRefIdeal.Gen.facts,
    Cert.Pre_finite_ssm_act_bwd.Gen.facts, Cert.Pre_finite_prenorm_bwd.Gen.facts, Cert.Pre_finite_last_shell.Gen.facts, Cert.Pre_finite_ffn_swiglu.Gen.facts, Cert.Pre_finite_pre_post.Gen.facts, Cert.Pre_finite_pool.Gen.facts, Cert.Pre_finite_sgu_bwd.Gen.facts, Cert.Pre_finite_ssm_param.Gen.facts, Cert.Pre_finite_ssm_scan.Gen.facts,
    GluBwd.frame_p, GluBwd.frame_i, GluBwd.frame_r, SsmActBwd.frame_p, SsmActBwd.frame_i,
    SsmActBwd.frame_i_pre, SsmActBwd.frame_r, SsmActBwd.frame_r_pre, PrenormBwd.frame_p, PrenormBwd.frame_i,
    PrenormBwd.frame_i_pre, PrenormBwd.frame_r, PrenormBwd.frame_r_pre, LastShell.frame_p, LastShell.frame_i,
    LastShell.frame_i_pre, LastShell.frame_r, LastShell.frame_r_pre, SsmDu.frame_p, SsmDu.frame_i,
    SsmDu.frame_r, AdaWGrad.frame_p, AdaWGrad.frame_i, AdaWGrad.frame_r, FfnSwiglu.frame_p,
    FfnSwiglu.frame_i, FfnSwiglu.frame_i_pre, FfnSwiglu.frame_r, FfnSwiglu.frame_r_pre, PrePost.frame_p,
    PrePost.frame_i, PrePost.frame_i_pre, PrePost.frame_r, PrePost.frame_r_pre, Pool.frame_p,
    Pool.frame_i, Pool.frame_i_pre, Pool.frame_r, Pool.frame_r_pre, SguBwd.frame_p,
    SguBwd.frame_i, SguBwd.frame_i_pre, SguBwd.frame_r, SguBwd.frame_r_pre, SsmParam.frame_p,
    SsmParam.frame_i, SsmParam.frame_i_pre, SsmParam.frame_r, SsmParam.frame_r_pre, SsmPrep.frame_p,
    SsmPrep.frame_i, SsmPrep.frame_r, SsmScan.frame_p, SsmScan.frame_i, SsmScan.frame_i_pre,
    SsmScan.frame_r, SsmScan.frame_r_pre, SguFwd.frame_p, SguFwd.frame_i, SguFwd.frame_r,
    SsmActFwd.frame_p, SsmActFwd.frame_i, SsmActFwd.frame_r, GluFwd.frame_p, GluFwd.frame_i,
    GluFwd.frame_r, PrenormFwd.frame_p, PrenormFwd.frame_i, PrenormFwd.frame_r, ModPart.frame_p,
    ModPart.frame_i, ModPart.frame_r, MmNn.frame_p, MmNn.frame_i, MmNn.frame_r,
    MmNt.frame_p, MmNt.frame_i, MmNt.frame_r, MmTn.frame_p, MmTn.frame_i,
    MmTn.frame_r, MmSum.frame_p, MmSum.frame_i, MmSum.frame_r, Adamw.frame_p,
    Adamw.frame_i, Adamw.frame_r, MmDw.frame_p, MmDw.frame_i, MmDw.frame_r,
    SumParts.frame_p, SumParts.frame_i, SumParts.frame_r, BlockDiag.frame_p, BlockDiag.frame_i,
    BlockDiag.frame_r, AdamwRows.frame_p, AdamwRows.frame_i, AdamwRows.frame_r, AdamwCols.frame_p,
    AdamwCols.frame_i, AdamwCols.frame_r, AdamwHeads.frame_p, AdamwHeads.frame_i, AdamwHeads.frame_r,
    AdamwSsm.frame_p, AdamwSsm.frame_i, AdamwSsm.frame_r, AdamwShell.frame_p, AdamwShell.frame_i,
    AdamwShell.frame_r, trivial, GluBwd.algebraic, SsmActBwd.preserves, SsmActBwd.algebraic,
    trivial, PrenormBwd.algebraic, trivial, LastShell.algebraic, trivial,
    SsmDu.algebraic, trivial, AdaWGrad.algebraic, trivial, FfnSwiglu.algebraic,
    trivial, PrePost.algebraic, trivial, Pool.algebraic, SguBwd.preserves,
    SguBwd.algebraic, trivial, SsmParam.algebraic, trivial, SsmPrep.algebraic,
    trivial, SsmScan.algebraic, SguFwd.preserves, SguFwd.algebraic, SsmActFwd.preserves,
    SsmActFwd.algebraic, trivial, GluFwd.algebraic, trivial, PrenormFwd.algebraic,
    trivial, ModPart.algebraic, trivial, MmNn.algebraic, trivial,
    MmNt.algebraic, trivial, MmTn.algebraic, trivial, MmSum.algebraic,
    trivial, Adamw.algebraic, trivial, MmDw.algebraic, trivial,
    SumParts.algebraic, trivial, BlockDiag.algebraic, trivial, AdamwRows.algebraic,
    trivial, AdamwCols.algebraic, trivial, AdamwHeads.algebraic, trivial,
    AdamwSsm.algebraic, trivial, AdamwShell.algebraic⟩

end Cert.Proof

end
